-- ==== Defs.lean ====
def Pre_Kernel [hPre_valid : Cert.Pre_valid.Facts] (m : (ℓ : Loc Cert.Kernel.nD Cert.Kernel.τ Cert.Kernel.sig) → Buf (Elt Bits) ℓ) : Prop :=
  ∀ c : Dev Cert.Kernel.nD,
    (Cert.Pre_valid.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_valid : Cert.Pre_valid.Facts] (m : (ℓ : Loc Cert.KernelIdeal.nD Cert.KernelIdeal.τ Cert.KernelIdeal.sig) → Buf (Elt Ideal) ℓ) : Prop :=
  ∀ c : Dev Cert.KernelIdeal.nD,
    (Cert.Pre_valid.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_valid : Cert.Pre_valid.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_valid.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_Kernel [hKernel : Cert.Kernel.Facts] [hPre_valid : Cert.Pre_valid.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] [hPre_valid : Cert.Pre_valid.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] [hPre_valid : Cert.Pre_valid.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_valid : Cert.Pre_valid.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_valid : Cert.Pre_valid.Facts),
    quiescent_Kernel (hKernel := hKernel) (hPre_valid := hPre_valid)
    ∧ quiescent_KernelIdeal (hKernelIdeal := hKernelIdeal) (hPre_valid := hPre_valid)
    ∧ quiescent_ReferenceIdeal (hReferenceIdeal := hReferenceIdeal) (hPre_valid := hPre_valid)
    ∧ preserves_Kernel_KernelIdeal
    ∧ algebraic_KernelIdeal_ReferenceIdeal (hKernelIdeal := hKernelIdeal) (hReferenceIdeal := hReferenceIdeal) (hPre_valid := hPre_valid)
-- ==== Pre_valid.lean ====
abbrev S12288x3072 : Shape := ⟨2, ![12288, 3072]⟩
abbrev S8 : Shape := ⟨1, ![8]⟩
abbrev S8x3072x1536 : Shape := ⟨3, ![8, 3072, 1536]⟩
abbrev S8x96x1536 : Shape := ⟨3, ![8, 96, 1536]⟩
abbrev S_ : Shape := ⟨0, ![]⟩

class Facts : Prop where
  bcast_S_S8 : S_.BroadcastsInDim S8 (![] : Fin 0 → Fin S8.rank)
  reducesTo_S8_S_d0 : S8.ReducesTo [0] S_
  h_S_ : 0 < S_.numel
  bcast_S_S8x96x1536 : S_.BroadcastsInDim S8x96x1536 (![] : Fin 0 → Fin S8x96x1536.rank)
  reducesTo_S8x96x1536_S_d0_1_2 : S8x96x1536.ReducesTo [0, 1, 2] S_

variable [Facts]

def fn {F : FTy → Type} [FloatOps F] (main_arg0 : FVec F S12288x3072 .bf16) (main_arg1 : IVec S8 32) (main_arg2 : FVec F S8x3072x1536 .fp8e4m3) (main_arg3 : IVec S8x96x1536 8) : IVec S_ 1 :=
  let main_c : IVec S_ 32 := constantI S_ 32 0#32
  let main_v0 : IVec S8 32 := broadcastInDim S8 ![] bcast_S_S8 main_c
  let main_v1 : IVec S8 1 := cmpi .sge main_arg1 main_v0
  let main_c_0 : IVec S_ 32 := constantI S_ 32 12288#32
  let main_v2 : IVec S8 32 := broadcastInDim S8 ![] bcast_S_S8 main_c_0
  let main_v3 : IVec S8 1 := cmpi .sle main_arg1 main_v2
  let main_v4 : IVec S8 1 := andi main_v1 main_v3
  let main_c_1 : IVec S_ 1 := constantI S_ 1 1#1
  let main_v5 : IVec S_ 1 := (fun x v => Host.reduce IntOp.andi x v reducesTo_S8_S_d0 h_S_) main_v4 main_c_1
  let main_c_2 : IVec S_ 32 := constantI S_ 32 0#32
  let main_v6 : IVec S_ 32 := (fun x v => Host.reduce IntOp.addi x v reducesTo_S8_S_d0 h_S_) main_arg1 main_c_2
  let main_c_3 : IVec S_ 32 := constantI S_ 32 12288#32
  let main_v7 : IVec S_ 1 := cmpi .eq main_v6 main_c_3
  let main_v8 : IVec S_ 1 := andi main_v5 main_v7
  let main_c_4 : IVec S_ 8 := constantI S_ 8 1#8
  let main_v9 : IVec S8x96x1536 8 := broadcastInDim S8x96x1536 ![] bcast_S_S8x96x1536 main_c_4
  let main_v10 : IVec S8x96x1536 1 := cmpi .uge main_arg3 main_v9
  let main_c_5 : IVec S_ 8 := constantI S_ 8 254#8
  let main_v11 : IVec S8x96x1536 8 := broadcastInDim S8x96x1536 ![] bcast_S_S8x96x1536 main_c_5
  let main_v12 : IVec S8x96x1536 1 := cmpi .ule main_arg3 main_v11
  let main_v13 : IVec S8x96x1536 1 := andi main_v10 main_v12
  let main_c_6 : IVec S_ 1 := constantI S_ 1 1#1
  let main_v14 : IVec S_ 1 := (fun x v => Host.reduce IntOp.andi x v reducesTo_S8x96x1536_S_d0_1_2 h_S_) main_v13 main_c_6
  let main_v15 : IVec S_ 1 := andi main_v8 main_v14
  main_v15
-- ==== Kernel.lean ====
abbrev S12288x3072 : Shape := ⟨2, ![12288, 3072]⟩
abbrev S8 : Shape := ⟨1, ![8]⟩
abbrev S8x3072x1536 : Shape := ⟨3, ![8, 3072, 1536]⟩
abbrev S8x96x1536 : Shape := ⟨3, ![8, 96, 1536]⟩
abbrev S12288x1536 : Shape := ⟨2, ![12288, 1536]⟩
abbrev S2x256x3072 : Shape := ⟨3, ![2, 256, 3072]⟩
abbrev S3072x1536 : Shape := ⟨2, ![3072, 1536]⟩
abbrev S96x1536 : Shape := ⟨2, ![96, 1536]⟩
abbrev S256x3072 : Shape := ⟨2, ![256, 3072]⟩
abbrev S2x256x1536 : Shape := ⟨3, ![2, 256, 1536]⟩
abbrev S16x1536 : Shape := ⟨2, ![16, 1536]⟩
abbrev S64 : Shape := ⟨1, ![64]⟩
abbrev S2 : Shape := ⟨1, ![2]⟩
abbrev S_ : Shape := ⟨0, ![]⟩
abbrev S1 : Shape := ⟨1, ![1]⟩
abbrev S1x256x3072 : Shape := ⟨3, ![1, 256, 3072]⟩
abbrev S1x3072x1536 : Shape := ⟨3, ![1, 3072, 1536]⟩
abbrev S1x96x1536 : Shape := ⟨3, ![1, 96, 1536]⟩
abbrev S1x1536 : Shape := ⟨2, ![1, 1536]⟩
abbrev S32x1536 : Shape := ⟨2, ![32, 1536]⟩
abbrev S1x16x128 : Shape := ⟨3, ![1, 16, 128]⟩
abbrev S16x128 : Shape := ⟨2, ![16, 128]⟩
abbrev S16x256 : Shape := ⟨2, ![16, 256]⟩
abbrev S256x1536 : Shape := ⟨2, ![256, 1536]⟩
abbrev S1x256x1536 : Shape := ⟨3, ![1, 256, 1536]⟩
abbrev S1x16x1536 : Shape := ⟨3, ![1, 16, 1536]⟩
abbrev S128x1536 : Shape := ⟨2, ![128, 1536]⟩
abbrev S1x128x1536 : Shape := ⟨3, ![1, 128, 1536]⟩
abbrev S64x1536 : Shape := ⟨2, ![64, 1536]⟩
abbrev S1x64x1536 : Shape := ⟨3, ![1, 64, 1536]⟩
abbrev S1x32x1536 : Shape := ⟨3, ![1, 32, 1536]⟩

abbrev nBuf : Space → Nat
  | .hbm => 5
  | .vmem => 8
  | .smem => 6
  | _ => 0

abbrev bufTy : (tb : Table) → Fin (tcTables nBuf tb) → BufTy
  | .hbm, ⟨0, _⟩ => ⟨S12288x3072, .bf16⟩
  | .hbm, ⟨1, _⟩ => ⟨S8, .i32⟩
  | .hbm, ⟨2, _⟩ => ⟨S8x3072x1536, .fp8e4m3⟩
  | .hbm, ⟨3, _⟩ => ⟨S8x96x1536, .i8⟩
  | .hbm, ⟨4, _⟩ => ⟨S12288x1536, .bf16⟩
  | .local _ .vmem, ⟨0, _⟩ => ⟨S2x256x3072, .bf16⟩
  | .local _ .vmem, ⟨1, _⟩ => ⟨S3072x1536, .fp8e4m3⟩
  | .local _ .vmem, ⟨2, _⟩ => ⟨S96x1536, .i8⟩
  | .local _ .vmem, ⟨3, _⟩ => ⟨S3072x1536, .bf16⟩
  | .local _ .vmem, ⟨4, _⟩ => ⟨S96x1536, .i32⟩
  | .local _ .vmem, ⟨5, _⟩ => ⟨S256x3072, .bf16⟩
  | .local _ .vmem, ⟨6, _⟩ => ⟨S2x256x1536, .bf16⟩
  | .local _ .vmem, ⟨7, _⟩ => ⟨S16x1536, .bf16⟩
  | .local _ .smem, ⟨0, _⟩ => ⟨S8, .i32⟩
  | .local _ .smem, ⟨1, _⟩ => ⟨S64, .i32⟩
  | .local _ .smem, ⟨2, _⟩ => ⟨S64, .i32⟩
  | .local _ .smem, ⟨3, _⟩ => ⟨S64, .i32⟩
  | .local _ .smem, ⟨4, _⟩ => ⟨S64, .i32⟩
  | .local _ .smem, ⟨5, _⟩ => ⟨S64, .i32⟩
  | _, _ => ⟨S12288x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .smem, ⟨0, _⟩ => true
  | .smem, ⟨1, _⟩ => true
  | .smem, ⟨2, _⟩ => true
  | .smem, ⟨3, _⟩ => true
  | .smem, ⟨4, _⟩ => true
  | .smem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_scratch0 : Ref sig .tc := ⟨.vmem, 0, rfl⟩
abbrev cc0_scratch1 : Ref sig .tc := ⟨.vmem, 1, rfl⟩
abbrev cc0_scratch2 : Ref sig .tc := ⟨.vmem, 2, rfl⟩
abbrev cc0_scratch3 : Ref sig .tc := ⟨.vmem, 3, rfl⟩
abbrev cc0_scratch4 : Ref sig .tc := ⟨.vmem, 4, rfl⟩
abbrev cc0_scratch5 : Ref sig .tc := ⟨.vmem, 5, rfl⟩
abbrev cc0_scratch6 : Ref sig .tc := ⟨.vmem, 6, rfl⟩
abbrev cc0_scratch7 : Ref sig .tc := ⟨.vmem, 7, rfl⟩
abbrev cc0_stg0_0 : Ref sig .tc := ⟨.smem, 0, rfl⟩
abbrev cc0_scratch8 : Ref sig .tc := ⟨.smem, 1, rfl⟩
abbrev cc0_scratch9 : Ref sig .tc := ⟨.smem, 2, rfl⟩
abbrev cc0_scratch10 : Ref sig .tc := ⟨.smem, 3, rfl⟩
abbrev cc0_scratch11 : Ref sig .tc := ⟨.smem, 4, rfl⟩
abbrev cc0_scratch12 : Ref sig .tc := ⟨.smem, 5, rfl⟩
abbrev cc0_sem0_0 : DmaSem sig := 0

abbrev nD : Nat := 1
abbrev τ : Topo := Topo.v7x

variable {F : FTy → Type} [FloatOps F]

abbrev grid0 : Pipeline.Grid := .none

@[reducible] def k0_t1_loop : Scf.Loop 32 :=
  let c0_i32_1 : BitVec 32 := 0#32
  let c8_i32 : BitVec 32 := 8#32
  let v0 : BitVec 32 := Scalar.addi c0_i32_1 c8_i32
  let c1_i32 : BitVec 32 := 1#32
  ⟨c0_i32_1, v0, c1_i32⟩
def k0_off1 (k0_t1 : Fin k0_t1_loop.trips) : Fin 1 → Nat :=
  let c0_i32_1 : BitVec 32 := 0#32
  let c1_i32 : BitVec 32 := 1#32
  let arg22 : BitVec 32 := Scf.iv c0_i32_1 c1_i32 k0_t1
  let v72 : Index := Scalar.indexCast arg22
  ![v72.toNat]
@[reducible] def k0_t2_loop (arg24 : BitVec 32) (v73 : BitVec 32) : Scf.Loop 32 :=
  let c0_i32_37 : BitVec 32 := 0#32
  let v74 : BitVec 32 := Scalar.addi arg24 v73
  let v76 : BitVec 1 := Scalar.cmpi .sgt v74 arg24
  let c_m16_i32_32 : BitVec 32 := 4294967280#32
  let v75 : BitVec 32 := Scalar.andi arg24 c_m16_i32_32
  let v77 : BitVec 32 := Scalar.subi v74 v75
  let c256_i32_33 : BitVec 32 := 256#32
  let v78 : BitVec 32 := Scalar.addi v77 c256_i32_33
  let c1_i32_34 : BitVec 32 := 1#32
  let v79 : BitVec 32 := Scalar.subi v78 c1_i32_34
  let c256_i32_35 : BitVec 32 := 256#32
  let v80 : BitVec 32 := Scalar.divsi v79 c256_i32_35
  let c0_i32_36 : BitVec 32 := 0#32
  let v81 : BitVec 32 := Scalar.select v76 v80 c0_i32_36
  let v82 : BitVec 32 := Scalar.subi v81 c0_i32_37
  let c1_i32_38 : BitVec 32 := 1#32
  let v84 : BitVec 32 := Scalar.divsi v82 c1_i32_38
  let v85 : BitVec 32 := Scalar.muli v84 c1_i32_38
  let v86 : BitVec 32 := Scalar.addi c0_i32_37 v85
  let c1_i32_39 : BitVec 32 := 1#32
  ⟨c0_i32_37, v86, c1_i32_39⟩

def k0_off2 (arg26 : BitVec 32) : Fin 1 → Nat :=
  let v91 : Index := Scalar.indexCast arg26
  ![v91.toNat]

def k0_chk2 (arg26 : BitVec 32) : Prop :=
  (∀ a, (k0_off2 arg26) a + S1.size a ≤ S64.size a)
theorem k0_off2_inb : ∀ (arg26 : BitVec 32) (k0_hw2 : k0_chk2 arg26), ∀ a, (k0_off2 arg26) a + S1.size a ≤ S64.size a := fun arg26 k0_hw2 => k0_hw2

@[reducible] def k0_t3_loop (arg24 : BitVec 32) (v73 : BitVec 32) : Scf.Loop 32 :=
  let c0_i32_37 : BitVec 32 := 0#32
  let v74 : BitVec 32 := Scalar.addi arg24 v73
  let v76 : BitVec 1 := Scalar.cmpi .sgt v74 arg24
  let c_m16_i32_32 : BitVec 32 := 4294967280#32
  let v75 : BitVec 32 := Scalar.andi arg24 c_m16_i32_32
  let v77 : BitVec 32 := Scalar.subi v74 v75
  let c256_i32_33 : BitVec 32 := 256#32
  let v78 : BitVec 32 := Scalar.addi v77 c256_i32_33
  let c1_i32_34 : BitVec 32 := 1#32
  let v79 : BitVec 32 := Scalar.subi v78 c1_i32_34
  let c256_i32_35 : BitVec 32 := 256#32
  let v80 : BitVec 32 := Scalar.divsi v79 c256_i32_35
  let c0_i32_36 : BitVec 32 := 0#32
  let v81 : BitVec 32 := Scalar.select v76 v80 c0_i32_36
  let v82 : BitVec 32 := Scalar.subi v81 c0_i32_37
  let c1_i32_38 : BitVec 32 := 1#32
  let v84 : BitVec 32 := Scalar.divsi v82 c1_i32_38
  let v85 : BitVec 32 := Scalar.muli v84 c1_i32_38
  let v86 : BitVec 32 := Scalar.addi c0_i32_37 v85
  let v83 : BitVec 32 := Scalar.addi c0_i32_37 v82
  let c1_i32_40 : BitVec 32 := 1#32
  ⟨v86, v83, c1_i32_40⟩

def k0_chk1 (arg24 : BitVec 32) (v73 : BitVec 32) : Prop :=
  ((k0_t2_loop arg24 v73).OK) ∧
  ((k0_t3_loop arg24 v73).OK)
theorem k0_t2_ok : ∀ (arg24 : BitVec 32) (v73 : BitVec 32) (k0_hw1 : k0_chk1 arg24 v73), (k0_t2_loop arg24 v73).OK := fun arg24 v73 k0_hw1 => k0_hw1.1
theorem k0_t3_ok : ∀ (arg24 : BitVec 32) (v73 : BitVec 32) (k0_hw1 : k0_chk1 arg24 v73), (k0_t3_loop arg24 v73).OK := fun arg24 v73 k0_hw1 => k0_hw1.2

def k0_off3 (arg26 : BitVec 32) : Fin 1 → Nat :=
  let v91 : Index := Scalar.indexCast arg26
  ![v91.toNat]

def k0_chk3 (arg26 : BitVec 32) : Prop :=
  (∀ a, (k0_off3 arg26) a + S1.size a ≤ S64.size a)
theorem k0_off3_inb : ∀ (arg26 : BitVec 32) (k0_hw3 : k0_chk3 arg26), ∀ a, (k0_off3 arg26) a + S1.size a ≤ S64.size a := fun arg26 k0_hw3 => k0_hw3

def k0_mult1 (v2 : BitVec 32) : BitVec 32 :=
  let c12032_i32 : BitVec 32 := 12032#32
  let v3 : BitVec 32 := Scalar.minsi v2 c12032_i32
  v3

def k0_off4 (v2 : BitVec 32) : Fin 2 → Nat :=
  let c12032_i32 : BitVec 32 := 12032#32
  let v3 : BitVec 32 := Scalar.minsi v2 c12032_i32
  let v4 : BitVec 32 := v3
  let c0_i32_7 : BitVec 32 := 0#32
  ![v4.toNat, 0]

def k0_chk4 (v2 : BitVec 32) : Prop :=
  (16 ∣ (k0_mult1 v2).toNat) ∧
  (∀ a, (k0_off4 v2) a + S256x3072.size a ≤ S12288x3072.size a) ∧
  (∀ (hinb : ∀ a, (k0_off4 v2) a + S256x3072.size a ≤ S12288x3072.size a), (Rect.unit (s := S12288x3072) (k0_off4 v2) S256x3072.size hinb).WholeWords (EltTy.packing .bf16))
theorem k0_mult1_dvd : ∀ (v2 : BitVec 32) (k0_hw4 : k0_chk4 v2), 16 ∣ (k0_mult1 v2).toNat := fun v2 k0_hw4 => k0_hw4.1
theorem k0_off4_inb : ∀ (v2 : BitVec 32) (k0_hw4 : k0_chk4 v2), ∀ a, (k0_off4 v2) a + S256x3072.size a ≤ S12288x3072.size a := fun v2 k0_hw4 => k0_hw4.2.1
theorem k0_off4_wordsbf16 : ∀ (v2 : BitVec 32) (k0_hw4 : k0_chk4 v2), (Rect.unit (s := S12288x3072) (k0_off4 v2) S256x3072.size (k0_off4_inb v2 k0_hw4)).WholeWords (EltTy.packing .bf16) := fun v2 k0_hw4 => k0_hw4.2.2 (k0_off4_inb v2 k0_hw4)

def k0_off5 (v10 : BitVec 32) : Fin 3 → Nat :=
  let c0_i32_9 : BitVec 32 := 0#32
  let c0_i32_10 : BitVec 32 := 0#32
  ![v10.toNat, 0, 0]

def k0_off6 (v10 : BitVec 32) : Fin 3 → Nat :=
  let c0_i32_11 : BitVec 32 := 0#32
  let c0_i32_12 : BitVec 32 := 0#32
  ![v10.toNat, 0, 0]

def k0_chk5 (v10 : BitVec 32) : Prop :=
  (∀ a, (k0_off5 v10) a + S1x3072x1536.size a ≤ S8x3072x1536.size a) ∧
  (∀ (hinb : ∀ a, (k0_off5 v10) a + S1x3072x1536.size a ≤ S8x3072x1536.size a), (Rect.unit (s := S8x3072x1536) (k0_off5 v10) S1x3072x1536.size hinb).WholeWords (EltTy.packing .fp8e4m3)) ∧
  (∀ a, (k0_off6 v10) a + S1x96x1536.size a ≤ S8x96x1536.size a) ∧
  (∀ (hinb : ∀ a, (k0_off6 v10) a + S1x96x1536.size a ≤ S8x96x1536.size a), (Rect.unit (s := S8x96x1536) (k0_off6 v10) S1x96x1536.size hinb).WholeWords (EltTy.packing .i8))
theorem k0_off5_inb : ∀ (v10 : BitVec 32) (k0_hw5 : k0_chk5 v10), ∀ a, (k0_off5 v10) a + S1x3072x1536.size a ≤ S8x3072x1536.size a := fun v10 k0_hw5 => k0_hw5.1
theorem k0_off5_wordsfp8e4m3 : ∀ (v10 : BitVec 32) (k0_hw5 : k0_chk5 v10), (Rect.unit (s := S8x3072x1536) (k0_off5 v10) S1x3072x1536.size (k0_off5_inb v10 k0_hw5)).WholeWords (EltTy.packing .fp8e4m3) := fun v10 k0_hw5 => k0_hw5.2.1 (k0_off5_inb v10 k0_hw5)
theorem k0_off6_inb : ∀ (v10 : BitVec 32) (k0_hw5 : k0_chk5 v10), ∀ a, (k0_off6 v10) a + S1x96x1536.size a ≤ S8x96x1536.size a := fun v10 k0_hw5 => k0_hw5.2.2.1
theorem k0_off6_wordsi8 : ∀ (v10 : BitVec 32) (k0_hw5 : k0_chk5 v10), (Rect.unit (s := S8x96x1536) (k0_off6 v10) S1x96x1536.size (k0_off6_inb v10 k0_hw5)).WholeWords (EltTy.packing .i8) := fun v10 k0_hw5 => k0_hw5.2.2.2 (k0_off6_inb v10 k0_hw5)

@[reducible] def k0_t4_loop (v1_0 : BitVec 32) : Scf.Loop 32 :=
  let c0_i32_13 : BitVec 32 := 0#32
  let v15 : BitVec 32 := Scalar.subi v1_0 c0_i32_13
  let c1_i32_15 : BitVec 32 := 1#32
  let v17 : BitVec 32 := Scalar.divsi v15 c1_i32_15
  let v18 : BitVec 32 := Scalar.muli v17 c1_i32_15
  let v19 : BitVec 32 := Scalar.addi c0_i32_13 v18
  let c1_i32_16 : BitVec 32 := 1#32
  ⟨c0_i32_13, v19, c1_i32_16⟩

def k0_off7 (v1_0 : BitVec 32) (k0_t4 : Fin (k0_t4_loop v1_0).trips) : Fin 1 → Nat :=
  let c0_i32_13 : BitVec 32 := 0#32
  let c1_i32_16 : BitVec 32 := 1#32
  let arg22 : BitVec 32 := Scf.iv c0_i32_13 c1_i32_16 k0_t4
  let c1_i32_1574 : BitVec 32 := 1#32
  let v3643 : BitVec 32 := Scalar.addi arg22 c1_i32_1574
  let v3644 : Index := Scalar.indexCast v3643
  ![v3644.toNat]
def k0_cond1 (v1_0 : BitVec 32) (k0_t4 : Fin (k0_t4_loop v1_0).trips) : BitVec 1 :=
  let c0_i32_13 : BitVec 32 := 0#32
  let c1_i32_16 : BitVec 32 := 1#32
  let arg22 : BitVec 32 := Scf.iv c0_i32_13 c1_i32_16 k0_t4
  let c1_i32_33 : BitVec 32 := 1#32
  let v73 : BitVec 32 := Scalar.addi arg22 c1_i32_33
  let v74 : BitVec 1 := Scalar.cmpi .slt v73 v1_0
  let v75 : BitVec 32 := Scalar.extui v74
  let c0_i32_34 : BitVec 32 := 0#32
  let v76 : BitVec 1 := Scalar.cmpi .ne v75 c0_i32_34
  v76

def k0_mult2 (v3645 : BitVec 32) : BitVec 32 :=
  let c12032_i32_1575 : BitVec 32 := 12032#32
  let v3646 : BitVec 32 := Scalar.minsi v3645 c12032_i32_1575
  v3646

def k0_off8 (v1_0 : BitVec 32) (k0_t4 : Fin (k0_t4_loop v1_0).trips) : Fin 1 → Nat :=
  let c0_i32_13 : BitVec 32 := 0#32
  let c1_i32_16 : BitVec 32 := 1#32
  let arg22 : BitVec 32 := Scf.iv c0_i32_13 c1_i32_16 k0_t4
  let c1_i32_1574 : BitVec 32 := 1#32
  let v3643 : BitVec 32 := Scalar.addi arg22 c1_i32_1574
  let c1_i32_1576 : BitVec 32 := 1#32
  let v3648 : BitVec 32 := Scalar.andi v3643 c1_i32_1576
  ![v3648.toNat]
def k0_off9 (v1_0 : BitVec 32) (k0_t4 : Fin (k0_t4_loop v1_0).trips) : Fin 3 → Nat :=
  let c0_i32_13 : BitVec 32 := 0#32
  let c1_i32_16 : BitVec 32 := 1#32
  let arg22 : BitVec 32 := Scf.iv c0_i32_13 c1_i32_16 k0_t4
  let c1_i32_1574 : BitVec 32 := 1#32
  let v3643 : BitVec 32 := Scalar.addi arg22 c1_i32_1574
  let c1_i32_1576 : BitVec 32 := 1#32
  let v3648 : BitVec 32 := Scalar.andi v3643 c1_i32_1576
  let c0_i32_1577 : BitVec 32 := 0#32
  let c0_i32_1578 : BitVec 32 := 0#32
  ![v3648.toNat, 0, 0]
def k0_off10 (v3645 : BitVec 32) : Fin 2 → Nat :=
  let c12032_i32_1575 : BitVec 32 := 12032#32
  let v3646 : BitVec 32 := Scalar.minsi v3645 c12032_i32_1575
  let v3647 : BitVec 32 := v3646
  let c0_i32_1579 : BitVec 32 := 0#32
  ![v3647.toNat, 0]

def k0_chk7 (v1_0 : BitVec 32) (k0_t4 : Fin (k0_t4_loop v1_0).trips) (v3645 : BitVec 32) : Prop :=
  (∀ (k0_h1 : k0_cond1 v1_0 k0_t4 = 1#1), 16 ∣ (k0_mult2 v3645).toNat) ∧
  (∀ (k0_h1 : k0_cond1 v1_0 k0_t4 = 1#1), ∀ a, (k0_off10 v3645) a + S256x3072.size a ≤ S12288x3072.size a) ∧
  (∀ (k0_h1 : k0_cond1 v1_0 k0_t4 = 1#1), ∀ (hinb : ∀ a, (k0_off10 v3645) a + S256x3072.size a ≤ S12288x3072.size a), (Rect.unit (s := S12288x3072) (k0_off10 v3645) S256x3072.size hinb).WholeWords (EltTy.packing .bf16))
theorem k0_mult2_dvd : ∀ (v1_0 : BitVec 32) (k0_t4 : Fin (k0_t4_loop v1_0).trips) (v3645 : BitVec 32) (k0_hw7 : k0_chk7 v1_0 k0_t4 v3645), ∀ (k0_h1 : k0_cond1 v1_0 k0_t4 = 1#1), 16 ∣ (k0_mult2 v3645).toNat := fun v1_0 k0_t4 v3645 k0_hw7 k0_h1 => k0_hw7.1 k0_h1
theorem k0_off10_inb : ∀ (v1_0 : BitVec 32) (k0_t4 : Fin (k0_t4_loop v1_0).trips) (v3645 : BitVec 32) (k0_hw7 : k0_chk7 v1_0 k0_t4 v3645), ∀ (k0_h1 : k0_cond1 v1_0 k0_t4 = 1#1), ∀ a, (k0_off10 v3645) a + S256x3072.size a ≤ S12288x3072.size a := fun v1_0 k0_t4 v3645 k0_hw7 k0_h1 => k0_hw7.2.1 k0_h1
theorem k0_off10_wordsbf16 : ∀ (v1_0 : BitVec 32) (k0_t4 : Fin (k0_t4_loop v1_0).trips) (v3645 : BitVec 32) (k0_hw7 : k0_chk7 v1_0 k0_t4 v3645), ∀ (k0_h1 : k0_cond1 v1_0 k0_t4 = 1#1), (Rect.unit (s := S12288x3072) (k0_off10 v3645) S256x3072.size (k0_off10_inb v1_0 k0_t4 v3645 k0_hw7 k0_h1)).WholeWords (EltTy.packing .bf16) := fun v1_0 k0_t4 v3645 k0_hw7 k0_h1 => k0_hw7.2.2 k0_h1 (k0_off10_inb v1_0 k0_t4 v3645 k0_hw7 k0_h1)

def k0_off11 (v1_0 : BitVec 32) (k0_t4 : Fin (k0_t4_loop v1_0).trips) : Fin 1 → Nat :=
  let c0_i32_13 : BitVec 32 := 0#32
  let c1_i32_16 : BitVec 32 := 1#32
  let arg22 : BitVec 32 := Scf.iv c0_i32_13 c1_i32_16 k0_t4
  let v77 : Index := Scalar.indexCast arg22
  ![v77.toNat]
def k0_off12 (v1_0 : BitVec 32) (k0_t4 : Fin (k0_t4_loop v1_0).trips) : Fin 1 → Nat :=
  let c0_i32_13 : BitVec 32 := 0#32
  let c1_i32_16 : BitVec 32 := 1#32
  let arg22 : BitVec 32 := Scf.iv c0_i32_13 c1_i32_16 k0_t4
  let v3643 : Index := Scalar.indexCast arg22
  ![v3643.toNat]
def k0_cond2 (v78 : BitVec 32) : BitVec 1 :=
  let c1_i32_35 : BitVec 32 := 1#32
  let v79 : BitVec 1 := Scalar.cmpi .eq v78 c1_i32_35
  let v80 : BitVec 32 := Scalar.extui v79
  let c0_i32_36 : BitVec 32 := 0#32
  let v81 : BitVec 1 := Scalar.cmpi .ne v80 c0_i32_36
  v81

def k0_chk8 (v1_0 : BitVec 32) (k0_t4 : Fin (k0_t4_loop v1_0).trips) (v78 : BitVec 32) : Prop :=
  (∀ (k0_h2 : k0_cond2 v78 = 1#1), ∀ a, (k0_off12 v1_0 k0_t4) a + S1.size a ≤ S64.size a)
theorem k0_off12_inb : ∀ (v1_0 : BitVec 32) (k0_t4 : Fin (k0_t4_loop v1_0).trips) (v78 : BitVec 32) (k0_hw8 : k0_chk8 v1_0 k0_t4 v78), ∀ (k0_h2 : k0_cond2 v78 = 1#1), ∀ a, (k0_off12 v1_0 k0_t4) a + S1.size a ≤ S64.size a := fun v1_0 k0_t4 v78 k0_hw8 k0_h2 => k0_hw8 k0_h2

def k0_off13 (v3644 : BitVec 32) : Fin 3 → Nat :=
  let c0_i32_1574 : BitVec 32 := 0#32
  let c0_i32_1575 : BitVec 32 := 0#32
  ![v3644.toNat, 0, 0]

def k0_off14 (v3644 : BitVec 32) : Fin 3 → Nat :=
  let c0_i32_1576 : BitVec 32 := 0#32
  let c0_i32_1577 : BitVec 32 := 0#32
  ![v3644.toNat, 0, 0]

def k0_chk9 (v78 : BitVec 32) (v3644 : BitVec 32) : Prop :=
  (∀ (k0_h2 : k0_cond2 v78 = 1#1), ∀ a, (k0_off13 v3644) a + S1x3072x1536.size a ≤ S8x3072x1536.size a) ∧
  (∀ (k0_h2 : k0_cond2 v78 = 1#1), ∀ (hinb : ∀ a, (k0_off13 v3644) a + S1x3072x1536.size a ≤ S8x3072x1536.size a), (Rect.unit (s := S8x3072x1536) (k0_off13 v3644) S1x3072x1536.size hinb).WholeWords (EltTy.packing .fp8e4m3)) ∧
  (∀ (k0_h2 : k0_cond2 v78 = 1#1), ∀ a, (k0_off14 v3644) a + S1x96x1536.size a ≤ S8x96x1536.size a) ∧
  (∀ (k0_h2 : k0_cond2 v78 = 1#1), ∀ (hinb : ∀ a, (k0_off14 v3644) a + S1x96x1536.size a ≤ S8x96x1536.size a), (Rect.unit (s := S8x96x1536) (k0_off14 v3644) S1x96x1536.size hinb).WholeWords (EltTy.packing .i8))
theorem k0_off13_inb : ∀ (v78 : BitVec 32) (v3644 : BitVec 32) (k0_hw9 : k0_chk9 v78 v3644), ∀ (k0_h2 : k0_cond2 v78 = 1#1), ∀ a, (k0_off13 v3644) a + S1x3072x1536.size a ≤ S8x3072x1536.size a := fun v78 v3644 k0_hw9 k0_h2 => k0_hw9.1 k0_h2
theorem k0_off13_wordsfp8e4m3 : ∀ (v78 : BitVec 32) (v3644 : BitVec 32) (k0_hw9 : k0_chk9 v78 v3644), ∀ (k0_h2 : k0_cond2 v78 = 1#1), (Rect.unit (s := S8x3072x1536) (k0_off13 v3644) S1x3072x1536.size (k0_off13_inb v78 v3644 k0_hw9 k0_h2)).WholeWords (EltTy.packing .fp8e4m3) := fun v78 v3644 k0_hw9 k0_h2 => k0_hw9.2.1 k0_h2 (k0_off13_inb v78 v3644 k0_hw9 k0_h2)
theorem k0_off14_inb : ∀ (v78 : BitVec 32) (v3644 : BitVec 32) (k0_hw9 : k0_chk9 v78 v3644), ∀ (k0_h2 : k0_cond2 v78 = 1#1), ∀ a, (k0_off14 v3644) a + S1x96x1536.size a ≤ S8x96x1536.size a := fun v78 v3644 k0_hw9 k0_h2 => k0_hw9.2.2.1 k0_h2
theorem k0_off14_wordsi8 : ∀ (v78 : BitVec 32) (v3644 : BitVec 32) (k0_hw9 : k0_chk9 v78 v3644), ∀ (k0_h2 : k0_cond2 v78 = 1#1), (Rect.unit (s := S8x96x1536) (k0_off14 v3644) S1x96x1536.size (k0_off14_inb v78 v3644 k0_hw9 k0_h2)).WholeWords (EltTy.packing .i8) := fun v78 v3644 k0_hw9 k0_h2 => k0_hw9.2.2.2 k0_h2 (k0_off14_inb v78 v3644 k0_hw9 k0_h2)

@[reducible] def k0_t5_loop : Scf.Loop 32 :=
  let c0_i32_1583 : BitVec 32 := 0#32
  let c96_i32_1584 : BitVec 32 := 96#32
  let v3659 : BitVec 32 := Scalar.addi c0_i32_1583 c96_i32_1584
  let c1_i32_1585 : BitVec 32 := 1#32
  ⟨c0_i32_1583, v3659, c1_i32_1585⟩
def k0_mult3 (k0_t5 : Fin k0_t5_loop.trips) : BitVec 32 :=
  let c0_i32_1583 : BitVec 32 := 0#32
  let c1_i32_1585 : BitVec 32 := 1#32
  let arg24 : BitVec 32 := Scf.iv c0_i32_1583 c1_i32_1585 k0_t5
  let c32_i32_1589 : BitVec 32 := 32#32
  let v3666 : BitVec 32 := Scalar.muli arg24 c32_i32_1589
  v3666
def k0_off15 (k0_t5 : Fin k0_t5_loop.trips) : Fin 2 → Nat :=
  let c0_i32_1583 : BitVec 32 := 0#32
  let c1_i32_1585 : BitVec 32 := 1#32
  let arg24 : BitVec 32 := Scf.iv c0_i32_1583 c1_i32_1585 k0_t5
  let v3668 : Index := Scalar.indexCast arg24
  let c0_1590 : Index := 0#32
  ![v3668.toNat, 0]
def k0_off16 (k0_t5 : Fin k0_t5_loop.trips) : Fin 2 → Nat :=
  let c0_i32_1583 : BitVec 32 := 0#32
  let c1_i32_1585 : BitVec 32 := 1#32
  let arg24 : BitVec 32 := Scf.iv c0_i32_1583 c1_i32_1585 k0_t5
  let c32_i32_1589 : BitVec 32 := 32#32
  let v3666 : BitVec 32 := Scalar.muli arg24 c32_i32_1589
  let v3667 : BitVec 32 := v3666
  let v3673 : Index := Scalar.indexCast v3667
  let c0_1591 : Index := 0#32
  ![v3673.toNat, 0]
def k0_off17 (v1_0 : BitVec 32) (arg24 : BitVec 32) : Fin 1 → Nat :=
  let c1_i32_1589 : BitVec 32 := 1#32
  let v3667 : BitVec 32 := Scalar.subi v1_0 c1_i32_1589
  let v3668 : BitVec 32 := Scalar.minsi arg24 v3667
  let v3669 : Index := Scalar.indexCast v3668
  ![v3669.toNat]

def k0_chk10 (v1_0 : BitVec 32) (v78 : BitVec 32) (arg24 : BitVec 32) : Prop :=
  (∀ (k0_h2 : k0_cond2 v78 = 1#1), ∀ a, (k0_off17 v1_0 arg24) a + S1.size a ≤ S64.size a)
theorem k0_off17_inb : ∀ (v1_0 : BitVec 32) (v78 : BitVec 32) (arg24 : BitVec 32) (k0_hw10 : k0_chk10 v1_0 v78 arg24), ∀ (k0_h2 : k0_cond2 v78 = 1#1), ∀ a, (k0_off17 v1_0 arg24) a + S1.size a ≤ S64.size a := fun v1_0 v78 arg24 k0_hw10 k0_h2 => k0_hw10 k0_h2

def k0_off18 (v3662 : BitVec 32) : Fin 1 → Nat :=
  let v3666 : Index := Scalar.indexCast v3662
  ![v3666.toNat]
def k0_cond3 (v1_0 : BitVec 32) (v3662 : BitVec 32) : BitVec 1 :=
  let v3663 : BitVec 1 := Scalar.cmpi .slt v3662 v1_0
  let v3664 : BitVec 32 := Scalar.extui v3663
  let c0_i32_1588 : BitVec 32 := 0#32
  let v3665 : BitVec 1 := Scalar.cmpi .ne v3664 c0_i32_1588
  v3665

def k0_chk11 (v1_0 : BitVec 32) (v78 : BitVec 32) (v3662 : BitVec 32) : Prop :=
  (∀ (k0_h2 : k0_cond2 v78 = 1#1), ∀ (k0_h3 : k0_cond3 v1_0 v3662 = 1#1), ∀ a, (k0_off18 v3662) a + S1.size a ≤ S64.size a)
theorem k0_off18_inb : ∀ (v1_0 : BitVec 32) (v78 : BitVec 32) (v3662 : BitVec 32) (k0_hw11 : k0_chk11 v1_0 v78 v3662), ∀ (k0_h2 : k0_cond2 v78 = 1#1), ∀ (k0_h3 : k0_cond3 v1_0 v3662 = 1#1), ∀ a, (k0_off18 v3662) a + S1.size a ≤ S64.size a := fun v1_0 v78 v3662 k0_hw11 k0_h2 k0_h3 => k0_hw11 k0_h2 k0_h3

def k0_off19 (v3667 : BitVec 32) : Fin 3 → Nat :=
  let c0_i32_1589 : BitVec 32 := 0#32
  let c0_i32_1590 : BitVec 32 := 0#32
  ![v3667.toNat, 0, 0]

def k0_off20 (v3667 : BitVec 32) : Fin 3 → Nat :=
  let c0_i32_1591 : BitVec 32 := 0#32
  let c0_i32_1592 : BitVec 32 := 0#32
  ![v3667.toNat, 0, 0]

def k0_chk12 (v1_0 : BitVec 32) (v78 : BitVec 32) (v3662 : BitVec 32) (v3667 : BitVec 32) : Prop :=
  (∀ (k0_h2 : k0_cond2 v78 = 1#1), ∀ (k0_h3 : k0_cond3 v1_0 v3662 = 1#1), ∀ a, (k0_off19 v3667) a + S1x3072x1536.size a ≤ S8x3072x1536.size a) ∧
  (∀ (k0_h2 : k0_cond2 v78 = 1#1), ∀ (k0_h3 : k0_cond3 v1_0 v3662 = 1#1), ∀ (hinb : ∀ a, (k0_off19 v3667) a + S1x3072x1536.size a ≤ S8x3072x1536.size a), (Rect.unit (s := S8x3072x1536) (k0_off19 v3667) S1x3072x1536.size hinb).WholeWords (EltTy.packing .fp8e4m3)) ∧
  (∀ (k0_h2 : k0_cond2 v78 = 1#1), ∀ (k0_h3 : k0_cond3 v1_0 v3662 = 1#1), ∀ a, (k0_off20 v3667) a + S1x96x1536.size a ≤ S8x96x1536.size a) ∧
  (∀ (k0_h2 : k0_cond2 v78 = 1#1), ∀ (k0_h3 : k0_cond3 v1_0 v3662 = 1#1), ∀ (hinb : ∀ a, (k0_off20 v3667) a + S1x96x1536.size a ≤ S8x96x1536.size a), (Rect.unit (s := S8x96x1536) (k0_off20 v3667) S1x96x1536.size hinb).WholeWords (EltTy.packing .i8))
theorem k0_off19_inb : ∀ (v1_0 : BitVec 32) (v78 : BitVec 32) (v3662 : BitVec 32) (v3667 : BitVec 32) (k0_hw12 : k0_chk12 v1_0 v78 v3662 v3667), ∀ (k0_h2 : k0_cond2 v78 = 1#1), ∀ (k0_h3 : k0_cond3 v1_0 v3662 = 1#1), ∀ a, (k0_off19 v3667) a + S1x3072x1536.size a ≤ S8x3072x1536.size a := fun v1_0 v78 v3662 v3667 k0_hw12 k0_h2 k0_h3 => k0_hw12.1 k0_h2 k0_h3
theorem k0_off19_wordsfp8e4m3 : ∀ (v1_0 : BitVec 32) (v78 : BitVec 32) (v3662 : BitVec 32) (v3667 : BitVec 32) (k0_hw12 : k0_chk12 v1_0 v78 v3662 v3667), ∀ (k0_h2 : k0_cond2 v78 = 1#1), ∀ (k0_h3 : k0_cond3 v1_0 v3662 = 1#1), (Rect.unit (s := S8x3072x1536) (k0_off19 v3667) S1x3072x1536.size (k0_off19_inb v1_0 v78 v3662 v3667 k0_hw12 k0_h2 k0_h3)).WholeWords (EltTy.packing .fp8e4m3) := fun v1_0 v78 v3662 v3667 k0_hw12 k0_h2 k0_h3 => k0_hw12.2.1 k0_h2 k0_h3 (k0_off19_inb v1_0 v78 v3662 v3667 k0_hw12 k0_h2 k0_h3)
theorem k0_off20_inb : ∀ (v1_0 : BitVec 32) (v78 : BitVec 32) (v3662 : BitVec 32) (v3667 : BitVec 32) (k0_hw12 : k0_chk12 v1_0 v78 v3662 v3667), ∀ (k0_h2 : k0_cond2 v78 = 1#1), ∀ (k0_h3 : k0_cond3 v1_0 v3662 = 1#1), ∀ a, (k0_off20 v3667) a + S1x96x1536.size a ≤ S8x96x1536.size a := fun v1_0 v78 v3662 v3667 k0_hw12 k0_h2 k0_h3 => k0_hw12.2.2.1 k0_h2 k0_h3
theorem k0_off20_wordsi8 : ∀ (v1_0 : BitVec 32) (v78 : BitVec 32) (v3662 : BitVec 32) (v3667 : BitVec 32) (k0_hw12 : k0_chk12 v1_0 v78 v3662 v3667), ∀ (k0_h2 : k0_cond2 v78 = 1#1), ∀ (k0_h3 : k0_cond3 v1_0 v3662 = 1#1), (Rect.unit (s := S8x96x1536) (k0_off20 v3667) S1x96x1536.size (k0_off20_inb v1_0 v78 v3662 v3667 k0_hw12 k0_h2 k0_h3)).WholeWords (EltTy.packing .i8) := fun v1_0 v78 v3662 v3667 k0_hw12 k0_h2 k0_h3 => k0_hw12.2.2.2 k0_h2 k0_h3 (k0_off20_inb v1_0 v78 v3662 v3667 k0_hw12 k0_h2 k0_h3)

def k0_off21 (v1_0 : BitVec 32) (k0_t4 : Fin (k0_t4_loop v1_0).trips) : Fin 1 → Nat :=
  let c0_i32_13 : BitVec 32 := 0#32
  let c1_i32_16 : BitVec 32 := 1#32
  let arg22 : BitVec 32 := Scf.iv c0_i32_13 c1_i32_16 k0_t4
  let v82 : Index := Scalar.indexCast arg22
  ![v82.toNat]
def k0_mult4 (v83 : BitVec 32) : BitVec 32 :=
  let c12032_i32_37 : BitVec 32 := 12032#32
  let v84 : BitVec 32 := Scalar.minsi v83 c12032_i32_37
  v84

def k0_off22 (v1_0 : BitVec 32) (k0_t4 : Fin (k0_t4_loop v1_0).trips) : Fin 1 → Nat :=
  let c0_i32_13 : BitVec 32 := 0#32
  let c1_i32_16 : BitVec 32 := 1#32
  let arg22 : BitVec 32 := Scf.iv c0_i32_13 c1_i32_16 k0_t4
  let c1_i32_38 : BitVec 32 := 1#32
  let v86 : BitVec 32 := Scalar.andi arg22 c1_i32_38
  ![v86.toNat]
def k0_off23 (v1_0 : BitVec 32) (k0_t4 : Fin (k0_t4_loop v1_0).trips) : Fin 3 → Nat :=
  let c0_i32_13 : BitVec 32 := 0#32
  let c1_i32_16 : BitVec 32 := 1#32
  let arg22 : BitVec 32 := Scf.iv c0_i32_13 c1_i32_16 k0_t4
  let c1_i32_38 : BitVec 32 := 1#32
  let v86 : BitVec 32 := Scalar.andi arg22 c1_i32_38
  let c0_i32_39 : BitVec 32 := 0#32
  let c0_i32_40 : BitVec 32 := 0#32
  ![v86.toNat, 0, 0]
def k0_off24 (v83 : BitVec 32) : Fin 2 → Nat :=
  let c12032_i32_37 : BitVec 32 := 12032#32
  let v84 : BitVec 32 := Scalar.minsi v83 c12032_i32_37
  let v85 : BitVec 32 := v84
  let c0_i32_41 : BitVec 32 := 0#32
  ![v85.toNat, 0]

def k0_chk13 (v83 : BitVec 32) : Prop :=
  (16 ∣ (k0_mult4 v83).toNat) ∧
  (∀ a, (k0_off24 v83) a + S256x3072.size a ≤ S12288x3072.size a) ∧
  (∀ (hinb : ∀ a, (k0_off24 v83) a + S256x3072.size a ≤ S12288x3072.size a), (Rect.unit (s := S12288x3072) (k0_off24 v83) S256x3072.size hinb).WholeWords (EltTy.packing .bf16))
theorem k0_mult4_dvd : ∀ (v83 : BitVec 32) (k0_hw13 : k0_chk13 v83), 16 ∣ (k0_mult4 v83).toNat := fun v83 k0_hw13 => k0_hw13.1
theorem k0_off24_inb : ∀ (v83 : BitVec 32) (k0_hw13 : k0_chk13 v83), ∀ a, (k0_off24 v83) a + S256x3072.size a ≤ S12288x3072.size a := fun v83 k0_hw13 => k0_hw13.2.1
theorem k0_off24_wordsbf16 : ∀ (v83 : BitVec 32) (k0_hw13 : k0_chk13 v83), (Rect.unit (s := S12288x3072) (k0_off24 v83) S256x3072.size (k0_off24_inb v83 k0_hw13)).WholeWords (EltTy.packing .bf16) := fun v83 k0_hw13 => k0_hw13.2.2 (k0_off24_inb v83 k0_hw13)

def k0_off25 (v1_0 : BitVec 32) (k0_t4 : Fin (k0_t4_loop v1_0).trips) : Fin 1 → Nat :=
  let c0_i32_13 : BitVec 32 := 0#32
  let c1_i32_16 : BitVec 32 := 1#32
  let arg22 : BitVec 32 := Scf.iv c0_i32_13 c1_i32_16 k0_t4
  let v92 : Index := Scalar.indexCast arg22
  ![v92.toNat]
def k0_mult5 (v93 : BitVec 32) : BitVec 32 :=
  let c12032_i32_42 : BitVec 32 := 12032#32
  let v94 : BitVec 32 := Scalar.minsi v93 c12032_i32_42
  let v95 : BitVec 32 := Scalar.subi v93 v94
  v95

def k0_mult6 (v93 : BitVec 32) : BitVec 32 :=
  let c12032_i32_42 : BitVec 32 := 12032#32
  let v94 : BitVec 32 := Scalar.minsi v93 c12032_i32_42
  let v95 : BitVec 32 := Scalar.subi v93 v94
  let v96 : BitVec 32 := v95
  let c0_i32_43 : BitVec 32 := 0#32
  let v97 : BitVec 32 := Scalar.addi v96 c0_i32_43
  let c255_i32 : BitVec 32 := 255#32
  let v98 : BitVec 32 := Scalar.andi v97 c255_i32
  v98
def k0_off26 (v1_0 : BitVec 32) (k0_t4 : Fin (k0_t4_loop v1_0).trips) (v93 : BitVec 32) (c0_i32_43 : BitVec 32) : Fin 3 → Nat :=
  let c0_i32_13 : BitVec 32 := 0#32
  let c1_i32_16 : BitVec 32 := 1#32
  let arg22 : BitVec 32 := Scf.iv c0_i32_13 c1_i32_16 k0_t4
  let c1_i32_32 : BitVec 32 := 1#32
  let v72 : BitVec 32 := Scalar.andi arg22 c1_i32_32
  let v100 : Index := Scalar.indexCast v72
  let c12032_i32_42 : BitVec 32 := 12032#32
  let v94 : BitVec 32 := Scalar.minsi v93 c12032_i32_42
  let v95 : BitVec 32 := Scalar.subi v93 v94
  let v96 : BitVec 32 := v95
  let v97 : BitVec 32 := Scalar.addi v96 c0_i32_43
  let c255_i32 : BitVec 32 := 255#32
  let v98 : BitVec 32 := Scalar.andi v97 c255_i32
  let v99 : BitVec 32 := v98
  let v101 : Index := Scalar.indexCast v99
  let c0_44 : Index := 0#32
  ![v100.toNat, v101.toNat, 0]
def k0_mult7 (v93 : BitVec 32) : BitVec 32 :=
  let c12032_i32_42 : BitVec 32 := 12032#32
  let v94 : BitVec 32 := Scalar.minsi v93 c12032_i32_42
  let v95 : BitVec 32 := Scalar.subi v93 v94
  let v96 : BitVec 32 := v95
  let c0_i32_45 : BitVec 32 := 0#32
  let v104 : BitVec 32 := Scalar.addi v96 c0_i32_45
  let c255_i32_46 : BitVec 32 := 255#32
  let v105 : BitVec 32 := Scalar.andi v104 c255_i32_46
  v105
def k0_off27 (v1_0 : BitVec 32) (k0_t4 : Fin (k0_t4_loop v1_0).trips) (v93 : BitVec 32) (c0_i32_45 : BitVec 32) : Fin 3 → Nat :=
  let c0_i32_13 : BitVec 32 := 0#32
  let c1_i32_16 : BitVec 32 := 1#32
  let arg22 : BitVec 32 := Scf.iv c0_i32_13 c1_i32_16 k0_t4
  let c1_i32_32 : BitVec 32 := 1#32
  let v72 : BitVec 32 := Scalar.andi arg22 c1_i32_32
  let v107 : Index := Scalar.indexCast v72
  let c12032_i32_42 : BitVec 32 := 12032#32
  let v94 : BitVec 32 := Scalar.minsi v93 c12032_i32_42
  let v95 : BitVec 32 := Scalar.subi v93 v94
  let v96 : BitVec 32 := v95
  let v104 : BitVec 32 := Scalar.addi v96 c0_i32_45
  let c255_i32_46 : BitVec 32 := 255#32
  let v105 : BitVec 32 := Scalar.andi v104 c255_i32_46
  let v106 : BitVec 32 := v105
  let v108 : Index := Scalar.indexCast v106
  let c128 : Index := 128#32
  ![v107.toNat, v108.toNat, 128]
def k0_mult8 (v93 : BitVec 32) : BitVec 32 :=
  let c12032_i32_42 : BitVec 32 := 12032#32
  let v94 : BitVec 32 := Scalar.minsi v93 c12032_i32_42
  let v95 : BitVec 32 := Scalar.subi v93 v94
  let v96 : BitVec 32 := v95
  let c16_i32_47 : BitVec 32 := 16#32
  let v111 : BitVec 32 := Scalar.addi v96 c16_i32_47
  let c255_i32_48 : BitVec 32 := 255#32
  let v112 : BitVec 32 := Scalar.andi v111 c255_i32_48
  v112
def k0_mult9 (v93 : BitVec 32) : BitVec 32 :=
  let c12032_i32_42 : BitVec 32 := 12032#32
  let v94 : BitVec 32 := Scalar.minsi v93 c12032_i32_42
  let v95 : BitVec 32 := Scalar.subi v93 v94
  let v96 : BitVec 32 := v95
  let c16_i32_50 : BitVec 32 := 16#32
  let v118 : BitVec 32 := Scalar.addi v96 c16_i32_50
  let c255_i32_51 : BitVec 32 := 255#32
  let v119 : BitVec 32 := Scalar.andi v118 c255_i32_51
  v119
def k0_mult10 (v93 : BitVec 32) : BitVec 32 :=
  let c12032_i32_42 : BitVec 32 := 12032#32
  let v94 : BitVec 32 := Scalar.minsi v93 c12032_i32_42
  let v95 : BitVec 32 := Scalar.subi v93 v94
  let v96 : BitVec 32 := v95
  let c32_i32_53 : BitVec 32 := 32#32
  let v125 : BitVec 32 := Scalar.addi v96 c32_i32_53
  let c255_i32_54 : BitVec 32 := 255#32
  let v126 : BitVec 32 := Scalar.andi v125 c255_i32_54
  v126
def k0_mult11 (v93 : BitVec 32) : BitVec 32 :=
  let c12032_i32_42 : BitVec 32 := 12032#32
  let v94 : BitVec 32 := Scalar.minsi v93 c12032_i32_42
  let v95 : BitVec 32 := Scalar.subi v93 v94
  let v96 : BitVec 32 := v95
  let c32_i32_56 : BitVec 32 := 32#32
  let v132 : BitVec 32 := Scalar.addi v96 c32_i32_56
  let c255_i32_57 : BitVec 32 := 255#32
  let v133 : BitVec 32 := Scalar.andi v132 c255_i32_57
  v133
def k0_mult12 (v93 : BitVec 32) : BitVec 32 :=
  let c12032_i32_42 : BitVec 32 := 12032#32
  let v94 : BitVec 32 := Scalar.minsi v93 c12032_i32_42
  let v95 : BitVec 32 := Scalar.subi v93 v94
  let v96 : BitVec 32 := v95
  let c48_i32 : BitVec 32 := 48#32
  let v139 : BitVec 32 := Scalar.addi v96 c48_i32
  let c255_i32_59 : BitVec 32 := 255#32
  let v140 : BitVec 32 := Scalar.andi v139 c255_i32_59
  v140
def k0_mult13 (v93 : BitVec 32) : BitVec 32 :=
  let c12032_i32_42 : BitVec 32 := 12032#32
  let v94 : BitVec 32 := Scalar.minsi v93 c12032_i32_42
  let v95 : BitVec 32 := Scalar.subi v93 v94
  let v96 : BitVec 32 := v95
  let c48_i32_61 : BitVec 32 := 48#32
  let v146 : BitVec 32 := Scalar.addi v96 c48_i32_61
  let c255_i32_62 : BitVec 32 := 255#32
  let v147 : BitVec 32 := Scalar.andi v146 c255_i32_62
  v147
def k0_mult14 (v93 : BitVec 32) : BitVec 32 :=
  let c12032_i32_42 : BitVec 32 := 12032#32
  let v94 : BitVec 32 := Scalar.minsi v93 c12032_i32_42
  let v95 : BitVec 32 := Scalar.subi v93 v94
  let v96 : BitVec 32 := v95
  let c64_i32_64 : BitVec 32 := 64#32
  let v153 : BitVec 32 := Scalar.addi v96 c64_i32_64
  let c255_i32_65 : BitVec 32 := 255#32
  let v154 : BitVec 32 := Scalar.andi v153 c255_i32_65
  v154
def k0_mult15 (v93 : BitVec 32) : BitVec 32 :=
  let c12032_i32_42 : BitVec 32 := 12032#32
  let v94 : BitVec 32 := Scalar.minsi v93 c12032_i32_42
  let v95 : BitVec 32 := Scalar.subi v93 v94
  let v96 : BitVec 32 := v95
  let c64_i32_67 : BitVec 32 := 64#32
  let v160 : BitVec 32 := Scalar.addi v96 c64_i32_67
  let c255_i32_68 : BitVec 32 := 255#32
  let v161 : BitVec 32 := Scalar.andi v160 c255_i32_68
  v161
def k0_mult16 (v93 : BitVec 32) : BitVec 32 :=
  let c12032_i32_42 : BitVec 32 := 12032#32
  let v94 : BitVec 32 := Scalar.minsi v93 c12032_i32_42
  let v95 : BitVec 32 := Scalar.subi v93 v94
  let v96 : BitVec 32 := v95
  let c80_i32 : BitVec 32 := 80#32
  let v167 : BitVec 32 := Scalar.addi v96 c80_i32
  let c255_i32_70 : BitVec 32 := 255#32
  let v168 : BitVec 32 := Scalar.andi v167 c255_i32_70
  v168
def k0_mult17 (v93 : BitVec 32) : BitVec 32 :=
  let c12032_i32_42 : BitVec 32 := 12032#32
  let v94 : BitVec 32 := Scalar.minsi v93 c12032_i32_42
  let v95 : BitVec 32 := Scalar.subi v93 v94
  let v96 : BitVec 32 := v95
  let c80_i32_72 : BitVec 32 := 80#32
  let v174 : BitVec 32 := Scalar.addi v96 c80_i32_72
  let c255_i32_73 : BitVec 32 := 255#32
  let v175 : BitVec 32 := Scalar.andi v174 c255_i32_73
  v175
def k0_mult18 (v93 : BitVec 32) : BitVec 32 :=
  let c12032_i32_42 : BitVec 32 := 12032#32
  let v94 : BitVec 32 := Scalar.minsi v93 c12032_i32_42
  let v95 : BitVec 32 := Scalar.subi v93 v94
  let v96 : BitVec 32 := v95
  let c96_i32 : BitVec 32 := 96#32
  let v181 : BitVec 32 := Scalar.addi v96 c96_i32
  let c255_i32_75 : BitVec 32 := 255#32
  let v182 : BitVec 32 := Scalar.andi v181 c255_i32_75
  v182
def k0_mult19 (v93 : BitVec 32) : BitVec 32 :=
  let c12032_i32_42 : BitVec 32 := 12032#32
  let v94 : BitVec 32 := Scalar.minsi v93 c12032_i32_42
  let v95 : BitVec 32 := Scalar.subi v93 v94
  let v96 : BitVec 32 := v95
  let c96_i32_77 : BitVec 32 := 96#32
  let v188 : BitVec 32 := Scalar.addi v96 c96_i32_77
  let c255_i32_78 : BitVec 32 := 255#32
  let v189 : BitVec 32 := Scalar.andi v188 c255_i32_78
  v189
def k0_mult20 (v93 : BitVec 32) : BitVec 32 :=
  let c12032_i32_42 : BitVec 32 := 12032#32
  let v94 : BitVec 32 := Scalar.minsi v93 c12032_i32_42
  let v95 : BitVec 32 := Scalar.subi v93 v94
  let v96 : BitVec 32 := v95
  let c112_i32 : BitVec 32 := 112#32
  let v195 : BitVec 32 := Scalar.addi v96 c112_i32
  let c255_i32_80 : BitVec 32 := 255#32
  let v196 : BitVec 32 := Scalar.andi v195 c255_i32_80
  v196
def k0_mult21 (v93 : BitVec 32) : BitVec 32 :=
  let c12032_i32_42 : BitVec 32 := 12032#32
  let v94 : BitVec 32 := Scalar.minsi v93 c12032_i32_42
  let v95 : BitVec 32 := Scalar.subi v93 v94
  let v96 : BitVec 32 := v95
  let c112_i32_82 : BitVec 32 := 112#32
  let v202 : BitVec 32 := Scalar.addi v96 c112_i32_82
  let c255_i32_83 : BitVec 32 := 255#32
  let v203 : BitVec 32 := Scalar.andi v202 c255_i32_83
  v203
def k0_mult22 (v93 : BitVec 32) : BitVec 32 :=
  let c12032_i32_42 : BitVec 32 := 12032#32
  let v94 : BitVec 32 := Scalar.minsi v93 c12032_i32_42
  let v95 : BitVec 32 := Scalar.subi v93 v94
  let v96 : BitVec 32 := v95
  let c128_i32_85 : BitVec 32 := 128#32
  let v209 : BitVec 32 := Scalar.addi v96 c128_i32_85
  let c255_i32_86 : BitVec 32 := 255#32
  let v210 : BitVec 32 := Scalar.andi v209 c255_i32_86
  v210
def k0_mult23 (v93 : BitVec 32) : BitVec 32 :=
  let c12032_i32_42 : BitVec 32 := 12032#32
  let v94 : BitVec 32 := Scalar.minsi v93 c12032_i32_42
  let v95 : BitVec 32 := Scalar.subi v93 v94
  let v96 : BitVec 32 := v95
  let c128_i32_88 : BitVec 32 := 128#32
  let v216 : BitVec 32 := Scalar.addi v96 c128_i32_88
  let c255_i32_89 : BitVec 32 := 255#32
  let v217 : BitVec 32 := Scalar.andi v216 c255_i32_89
  v217
def k0_mult24 (v93 : BitVec 32) : BitVec 32 :=
  let c12032_i32_42 : BitVec 32 := 12032#32
  let v94 : BitVec 32 := Scalar.minsi v93 c12032_i32_42
  let v95 : BitVec 32 := Scalar.subi v93 v94
  let v96 : BitVec 32 := v95
  let c144_i32 : BitVec 32 := 144#32
  let v223 : BitVec 32 := Scalar.addi v96 c144_i32
  let c255_i32_91 : BitVec 32 := 255#32
  let v224 : BitVec 32 := Scalar.andi v223 c255_i32_91
  v224
def k0_mult25 (v93 : BitVec 32) : BitVec 32 :=
  let c12032_i32_42 : BitVec 32 := 12032#32
  let v94 : BitVec 32 := Scalar.minsi v93 c12032_i32_42
  let v95 : BitVec 32 := Scalar.subi v93 v94
  let v96 : BitVec 32 := v95
  let c144_i32_93 : BitVec 32 := 144#32
  let v230 : BitVec 32 := Scalar.addi v96 c144_i32_93
  let c255_i32_94 : BitVec 32 := 255#32
  let v231 : BitVec 32 := Scalar.andi v230 c255_i32_94
  v231
def k0_mult26 (v93 : BitVec 32) : BitVec 32 :=
  let c12032_i32_42 : BitVec 32 := 12032#32
  let v94 : BitVec 32 := Scalar.minsi v93 c12032_i32_42
  let v95 : BitVec 32 := Scalar.subi v93 v94
  let v96 : BitVec 32 := v95
  let c160_i32 : BitVec 32 := 160#32
  let v237 : BitVec 32 := Scalar.addi v96 c160_i32
  let c255_i32_96 : BitVec 32 := 255#32
  let v238 : BitVec 32 := Scalar.andi v237 c255_i32_96
  v238
def k0_mult27 (v93 : BitVec 32) : BitVec 32 :=
  let c12032_i32_42 : BitVec 32 := 12032#32
  let v94 : BitVec 32 := Scalar.minsi v93 c12032_i32_42
  let v95 : BitVec 32 := Scalar.subi v93 v94
  let v96 : BitVec 32 := v95
  let c160_i32_98 : BitVec 32 := 160#32
  let v244 : BitVec 32 := Scalar.addi v96 c160_i32_98
  let c255_i32_99 : BitVec 32 := 255#32
  let v245 : BitVec 32 := Scalar.andi v244 c255_i32_99
  v245
def k0_mult28 (v93 : BitVec 32) : BitVec 32 :=
  let c12032_i32_42 : BitVec 32 := 12032#32
  let v94 : BitVec 32 := Scalar.minsi v93 c12032_i32_42
  let v95 : BitVec 32 := Scalar.subi v93 v94
  let v96 : BitVec 32 := v95
  let c176_i32 : BitVec 32 := 176#32
  let v251 : BitVec 32 := Scalar.addi v96 c176_i32
  let c255_i32_101 : BitVec 32 := 255#32
  let v252 : BitVec 32 := Scalar.andi v251 c255_i32_101
  v252
def k0_mult29 (v93 : BitVec 32) : BitVec 32 :=
  let c12032_i32_42 : BitVec 32 := 12032#32
  let v94 : BitVec 32 := Scalar.minsi v93 c12032_i32_42
  let v95 : BitVec 32 := Scalar.subi v93 v94
  let v96 : BitVec 32 := v95
  let c176_i32_103 : BitVec 32 := 176#32
  let v258 : BitVec 32 := Scalar.addi v96 c176_i32_103
  let c255_i32_104 : BitVec 32 := 255#32
  let v259 : BitVec 32 := Scalar.andi v258 c255_i32_104
  v259
def k0_mult30 (v93 : BitVec 32) : BitVec 32 :=
  let c12032_i32_42 : BitVec 32 := 12032#32
  let v94 : BitVec 32 := Scalar.minsi v93 c12032_i32_42
  let v95 : BitVec 32 := Scalar.subi v93 v94
  let v96 : BitVec 32 := v95
  let c192_i32 : BitVec 32 := 192#32
  let v265 : BitVec 32 := Scalar.addi v96 c192_i32
  let c255_i32_106 : BitVec 32 := 255#32
  let v266 : BitVec 32 := Scalar.andi v265 c255_i32_106
  v266
def k0_mult31 (v93 : BitVec 32) : BitVec 32 :=
  let c12032_i32_42 : BitVec 32 := 12032#32
  let v94 : BitVec 32 := Scalar.minsi v93 c12032_i32_42
  let v95 : BitVec 32 := Scalar.subi v93 v94
  let v96 : BitVec 32 := v95
  let c192_i32_108 : BitVec 32 := 192#32
  let v272 : BitVec 32 := Scalar.addi v96 c192_i32_108
  let c255_i32_109 : BitVec 32 := 255#32
  let v273 : BitVec 32 := Scalar.andi v272 c255_i32_109
  v273
def k0_mult32 (v93 : BitVec 32) : BitVec 32 :=
  let c12032_i32_42 : BitVec 32 := 12032#32
  let v94 : BitVec 32 := Scalar.minsi v93 c12032_i32_42
  let v95 : BitVec 32 := Scalar.subi v93 v94
  let v96 : BitVec 32 := v95
  let c208_i32 : BitVec 32 := 208#32
  let v279 : BitVec 32 := Scalar.addi v96 c208_i32
  let c255_i32_111 : BitVec 32 := 255#32
  let v280 : BitVec 32 := Scalar.andi v279 c255_i32_111
  v280
def k0_mult33 (v93 : BitVec 32) : BitVec 32 :=
  let c12032_i32_42 : BitVec 32 := 12032#32
  let v94 : BitVec 32 := Scalar.minsi v93 c12032_i32_42
  let v95 : BitVec 32 := Scalar.subi v93 v94
  let v96 : BitVec 32 := v95
  let c208_i32_113 : BitVec 32 := 208#32
  let v286 : BitVec 32 := Scalar.addi v96 c208_i32_113
  let c255_i32_114 : BitVec 32 := 255#32
  let v287 : BitVec 32 := Scalar.andi v286 c255_i32_114
  v287
def k0_mult34 (v93 : BitVec 32) : BitVec 32 :=
  let c12032_i32_42 : BitVec 32 := 12032#32
  let v94 : BitVec 32 := Scalar.minsi v93 c12032_i32_42
  let v95 : BitVec 32 := Scalar.subi v93 v94
  let v96 : BitVec 32 := v95
  let c224_i32 : BitVec 32 := 224#32
  let v293 : BitVec 32 := Scalar.addi v96 c224_i32
  let c255_i32_116 : BitVec 32 := 255#32
  let v294 : BitVec 32 := Scalar.andi v293 c255_i32_116
  v294
def k0_mult35 (v93 : BitVec 32) : BitVec 32 :=
  let c12032_i32_42 : BitVec 32 := 12032#32
  let v94 : BitVec 32 := Scalar.minsi v93 c12032_i32_42
  let v95 : BitVec 32 := Scalar.subi v93 v94
  let v96 : BitVec 32 := v95
  let c224_i32_118 : BitVec 32 := 224#32
  let v300 : BitVec 32 := Scalar.addi v96 c224_i32_118
  let c255_i32_119 : BitVec 32 := 255#32
  let v301 : BitVec 32 := Scalar.andi v300 c255_i32_119
  v301
def k0_mult36 (v93 : BitVec 32) : BitVec 32 :=
  let c12032_i32_42 : BitVec 32 := 12032#32
  let v94 : BitVec 32 := Scalar.minsi v93 c12032_i32_42
  let v95 : BitVec 32 := Scalar.subi v93 v94
  let v96 : BitVec 32 := v95
  let c240_i32 : BitVec 32 := 240#32
  let v307 : BitVec 32 := Scalar.addi v96 c240_i32
  let c255_i32_121 : BitVec 32 := 255#32
  let v308 : BitVec 32 := Scalar.andi v307 c255_i32_121
  v308
def k0_mult37 (v93 : BitVec 32) : BitVec 32 :=
  let c12032_i32_42 : BitVec 32 := 12032#32
  let v94 : BitVec 32 := Scalar.minsi v93 c12032_i32_42
  let v95 : BitVec 32 := Scalar.subi v93 v94
  let v96 : BitVec 32 := v95
  let c240_i32_123 : BitVec 32 := 240#32
  let v314 : BitVec 32 := Scalar.addi v96 c240_i32_123
  let c255_i32_124 : BitVec 32 := 255#32
  let v315 : BitVec 32 := Scalar.andi v314 c255_i32_124
  v315
def k0_mult38 (v93 : BitVec 32) : BitVec 32 :=
  let c12032_i32_42 : BitVec 32 := 12032#32
  let v94 : BitVec 32 := Scalar.minsi v93 c12032_i32_42
  let v95 : BitVec 32 := Scalar.subi v93 v94
  let v96 : BitVec 32 := v95
  let c0_i32_144 : BitVec 32 := 0#32
  let v385 : BitVec 32 := Scalar.addi v96 c0_i32_144
  let c255_i32_145 : BitVec 32 := 255#32
  let v386 : BitVec 32 := Scalar.andi v385 c255_i32_145
  v386
def k0_off28 (v1_0 : BitVec 32) (k0_t4 : Fin (k0_t4_loop v1_0).trips) (v93 : BitVec 32) (c0_i32_144 : BitVec 32) : Fin 3 → Nat :=
  let c0_i32_13 : BitVec 32 := 0#32
  let c1_i32_16 : BitVec 32 := 1#32
  let arg22 : BitVec 32 := Scf.iv c0_i32_13 c1_i32_16 k0_t4
  let c1_i32_32 : BitVec 32 := 1#32
  let v72 : BitVec 32 := Scalar.andi arg22 c1_i32_32
  let v388 : Index := Scalar.indexCast v72
  let c12032_i32_42 : BitVec 32 := 12032#32
  let v94 : BitVec 32 := Scalar.minsi v93 c12032_i32_42
  let v95 : BitVec 32 := Scalar.subi v93 v94
  let v96 : BitVec 32 := v95
  let v385 : BitVec 32 := Scalar.addi v96 c0_i32_144
  let c255_i32_145 : BitVec 32 := 255#32
  let v386 : BitVec 32 := Scalar.andi v385 c255_i32_145
  let v387 : BitVec 32 := v386
  let v389 : Index := Scalar.indexCast v387
  let c256 : Index := 256#32
  ![v388.toNat, v389.toNat, 256]
def k0_mult39 (v93 : BitVec 32) : BitVec 32 :=
  let c12032_i32_42 : BitVec 32 := 12032#32
  let v94 : BitVec 32 := Scalar.minsi v93 c12032_i32_42
  let v95 : BitVec 32 := Scalar.subi v93 v94
  let v96 : BitVec 32 := v95
  let c0_i32_146 : BitVec 32 := 0#32
  let v392 : BitVec 32 := Scalar.addi v96 c0_i32_146
  let c255_i32_147 : BitVec 32 := 255#32
  let v393 : BitVec 32 := Scalar.andi v392 c255_i32_147
  v393
def k0_off29 (v1_0 : BitVec 32) (k0_t4 : Fin (k0_t4_loop v1_0).trips) (v93 : BitVec 32) (c0_i32_146 : BitVec 32) : Fin 3 → Nat :=
  let c0_i32_13 : BitVec 32 := 0#32
  let c1_i32_16 : BitVec 32 := 1#32
  let arg22 : BitVec 32 := Scf.iv c0_i32_13 c1_i32_16 k0_t4
  let c1_i32_32 : BitVec 32 := 1#32
  let v72 : BitVec 32 := Scalar.andi arg22 c1_i32_32
  let v395 : Index := Scalar.indexCast v72
  let c12032_i32_42 : BitVec 32 := 12032#32
  let v94 : BitVec 32 := Scalar.minsi v93 c12032_i32_42
  let v95 : BitVec 32 := Scalar.subi v93 v94
  let v96 : BitVec 32 := v95
  let v392 : BitVec 32 := Scalar.addi v96 c0_i32_146
  let c255_i32_147 : BitVec 32 := 255#32
  let v393 : BitVec 32 := Scalar.andi v392 c255_i32_147
  let v394 : BitVec 32 := v393
  let v396 : Index := Scalar.indexCast v394
  let c384 : Index := 384#32
  ![v395.toNat, v396.toNat, 384]
def k0_mult40 (v93 : BitVec 32) : BitVec 32 :=
  let c12032_i32_42 : BitVec 32 := 12032#32
  let v94 : BitVec 32 := Scalar.minsi v93 c12032_i32_42
  let v95 : BitVec 32 := Scalar.subi v93 v94
  let v96 : BitVec 32 := v95
  let c16_i32_148 : BitVec 32 := 16#32
  let v399 : BitVec 32 := Scalar.addi v96 c16_i32_148
  let c255_i32_149 : BitVec 32 := 255#32
  let v400 : BitVec 32 := Scalar.andi v399 c255_i32_149
  v400
def k0_mult41 (v93 : BitVec 32) : BitVec 32 :=
  let c12032_i32_42 : BitVec 32 := 12032#32
  let v94 : BitVec 32 := Scalar.minsi v93 c12032_i32_42
  let v95 : BitVec 32 := Scalar.subi v93 v94
  let v96 : BitVec 32 := v95
  let c16_i32_151 : BitVec 32 := 16#32
  let v406 : BitVec 32 := Scalar.addi v96 c16_i32_151
  let c255_i32_152 : BitVec 32 := 255#32
  let v407 : BitVec 32 := Scalar.andi v406 c255_i32_152
  v407
def k0_mult42 (v93 : BitVec 32) : BitVec 32 :=
  let c12032_i32_42 : BitVec 32 := 12032#32
  let v94 : BitVec 32 := Scalar.minsi v93 c12032_i32_42
  let v95 : BitVec 32 := Scalar.subi v93 v94
  let v96 : BitVec 32 := v95
  let c32_i32_154 : BitVec 32 := 32#32
  let v413 : BitVec 32 := Scalar.addi v96 c32_i32_154
  let c255_i32_155 : BitVec 32 := 255#32
  let v414 : BitVec 32 := Scalar.andi v413 c255_i32_155
  v414
def k0_mult43 (v93 : BitVec 32) : BitVec 32 :=
  let c12032_i32_42 : BitVec 32 := 12032#32
  let v94 : BitVec 32 := Scalar.minsi v93 c12032_i32_42
  let v95 : BitVec 32 := Scalar.subi v93 v94
  let v96 : BitVec 32 := v95
  let c32_i32_157 : BitVec 32 := 32#32
  let v420 : BitVec 32 := Scalar.addi v96 c32_i32_157
  let c255_i32_158 : BitVec 32 := 255#32
  let v421 : BitVec 32 := Scalar.andi v420 c255_i32_158
  v421
def k0_mult44 (v93 : BitVec 32) : BitVec 32 :=
  let c12032_i32_42 : BitVec 32 := 12032#32
  let v94 : BitVec 32 := Scalar.minsi v93 c12032_i32_42
  let v95 : BitVec 32 := Scalar.subi v93 v94
  let v96 : BitVec 32 := v95
  let c48_i32_160 : BitVec 32 := 48#32
  let v427 : BitVec 32 := Scalar.addi v96 c48_i32_160
  let c255_i32_161 : BitVec 32 := 255#32
  let v428 : BitVec 32 := Scalar.andi v427 c255_i32_161
  v428
def k0_mult45 (v93 : BitVec 32) : BitVec 32 :=
  let c12032_i32_42 : BitVec 32 := 12032#32
  let v94 : BitVec 32 := Scalar.minsi v93 c12032_i32_42
  let v95 : BitVec 32 := Scalar.subi v93 v94
  let v96 : BitVec 32 := v95
  let c48_i32_163 : BitVec 32 := 48#32
  let v434 : BitVec 32 := Scalar.addi v96 c48_i32_163
  let c255_i32_164 : BitVec 32 := 255#32
  let v435 : BitVec 32 := Scalar.andi v434 c255_i32_164
  v435
def k0_mult46 (v93 : BitVec 32) : BitVec 32 :=
  let c12032_i32_42 : BitVec 32 := 12032#32
  let v94 : BitVec 32 := Scalar.minsi v93 c12032_i32_42
  let v95 : BitVec 32 := Scalar.subi v93 v94
  let v96 : BitVec 32 := v95
  let c64_i32_166 : BitVec 32 := 64#32
  let v441 : BitVec 32 := Scalar.addi v96 c64_i32_166
  let c255_i32_167 : BitVec 32 := 255#32
  let v442 : BitVec 32 := Scalar.andi v441 c255_i32_167
  v442
def k0_mult47 (v93 : BitVec 32) : BitVec 32 :=
  let c12032_i32_42 : BitVec 32 := 12032#32
  let v94 : BitVec 32 := Scalar.minsi v93 c12032_i32_42
  let v95 : BitVec 32 := Scalar.subi v93 v94
  let v96 : BitVec 32 := v95
  let c64_i32_169 : BitVec 32 := 64#32
  let v448 : BitVec 32 := Scalar.addi v96 c64_i32_169
  let c255_i32_170 : BitVec 32 := 255#32
  let v449 : BitVec 32 := Scalar.andi v448 c255_i32_170
  v449
def k0_mult48 (v93 : BitVec 32) : BitVec 32 :=
  let c12032_i32_42 : BitVec 32 := 12032#32
  let v94 : BitVec 32 := Scalar.minsi v93 c12032_i32_42
  let v95 : BitVec 32 := Scalar.subi v93 v94
  let v96 : BitVec 32 := v95
  let c80_i32_172 : BitVec 32 := 80#32
  let v455 : BitVec 32 := Scalar.addi v96 c80_i32_172
  let c255_i32_173 : BitVec 32 := 255#32
  let v456 : BitVec 32 := Scalar.andi v455 c255_i32_173
  v456
def k0_mult49 (v93 : BitVec 32) : BitVec 32 :=
  let c12032_i32_42 : BitVec 32 := 12032#32
  let v94 : BitVec 32 := Scalar.minsi v93 c12032_i32_42
  let v95 : BitVec 32 := Scalar.subi v93 v94
  let v96 : BitVec 32 := v95
  let c80_i32_175 : BitVec 32 := 80#32
  let v462 : BitVec 32 := Scalar.addi v96 c80_i32_175
  let c255_i32_176 : BitVec 32 := 255#32
  let v463 : BitVec 32 := Scalar.andi v462 c255_i32_176
  v463
def k0_mult50 (v93 : BitVec 32) : BitVec 32 :=
  let c12032_i32_42 : BitVec 32 := 12032#32
  let v94 : BitVec 32 := Scalar.minsi v93 c12032_i32_42
  let v95 : BitVec 32 := Scalar.subi v93 v94
  let v96 : BitVec 32 := v95
  let c96_i32_178 : BitVec 32 := 96#32
  let v469 : BitVec 32 := Scalar.addi v96 c96_i32_178
  let c255_i32_179 : BitVec 32 := 255#32
  let v470 : BitVec 32 := Scalar.andi v469 c255_i32_179
  v470
def k0_mult51 (v93 : BitVec 32) : BitVec 32 :=
  let c12032_i32_42 : BitVec 32 := 12032#32
  let v94 : BitVec 32 := Scalar.minsi v93 c12032_i32_42
  let v95 : BitVec 32 := Scalar.subi v93 v94
  let v96 : BitVec 32 := v95
  let c96_i32_181 : BitVec 32 := 96#32
  let v476 : BitVec 32 := Scalar.addi v96 c96_i32_181
  let c255_i32_182 : BitVec 32 := 255#32
  let v477 : BitVec 32 := Scalar.andi v476 c255_i32_182
  v477
def k0_mult52 (v93 : BitVec 32) : BitVec 32 :=
  let c12032_i32_42 : BitVec 32 := 12032#32
  let v94 : BitVec 32 := Scalar.minsi v93 c12032_i32_42
  let v95 : BitVec 32 := Scalar.subi v93 v94
  let v96 : BitVec 32 := v95
  let c112_i32_184 : BitVec 32 := 112#32
  let v483 : BitVec 32 := Scalar.addi v96 c112_i32_184
  let c255_i32_185 : BitVec 32 := 255#32
  let v484 : BitVec 32 := Scalar.andi v483 c255_i32_185
  v484
def k0_mult53 (v93 : BitVec 32) : BitVec 32 :=
  let c12032_i32_42 : BitVec 32 := 12032#32
  let v94 : BitVec 32 := Scalar.minsi v93 c12032_i32_42
  let v95 : BitVec 32 := Scalar.subi v93 v94
  let v96 : BitVec 32 := v95
  let c112_i32_187 : BitVec 32 := 112#32
  let v490 : BitVec 32 := Scalar.addi v96 c112_i32_187
  let c255_i32_188 : BitVec 32 := 255#32
  let v491 : BitVec 32 := Scalar.andi v490 c255_i32_188
  v491
def k0_mult54 (v93 : BitVec 32) : BitVec 32 :=
  let c12032_i32_42 : BitVec 32 := 12032#32
  let v94 : BitVec 32 := Scalar.minsi v93 c12032_i32_42
  let v95 : BitVec 32 := Scalar.subi v93 v94
  let v96 : BitVec 32 := v95
  let c128_i32_190 : BitVec 32 := 128#32
  let v497 : BitVec 32 := Scalar.addi v96 c128_i32_190
  let c255_i32_191 : BitVec 32 := 255#32
  let v498 : BitVec 32 := Scalar.andi v497 c255_i32_191
  v498
def k0_mult55 (v93 : BitVec 32) : BitVec 32 :=
  let c12032_i32_42 : BitVec 32 := 12032#32
  let v94 : BitVec 32 := Scalar.minsi v93 c12032_i32_42
  let v95 : BitVec 32 := Scalar.subi v93 v94
  let v96 : BitVec 32 := v95
  let c128_i32_193 : BitVec 32 := 128#32
  let v504 : BitVec 32 := Scalar.addi v96 c128_i32_193
  let c255_i32_194 : BitVec 32 := 255#32
  let v505 : BitVec 32 := Scalar.andi v504 c255_i32_194
  v505
def k0_mult56 (v93 : BitVec 32) : BitVec 32 :=
  let c12032_i32_42 : BitVec 32 := 12032#32
  let v94 : BitVec 32 := Scalar.minsi v93 c12032_i32_42
  let v95 : BitVec 32 := Scalar.subi v93 v94
  let v96 : BitVec 32 := v95
  let c144_i32_196 : BitVec 32 := 144#32
  let v511 : BitVec 32 := Scalar.addi v96 c144_i32_196
  let c255_i32_197 : BitVec 32 := 255#32
  let v512 : BitVec 32 := Scalar.andi v511 c255_i32_197
  v512
def k0_mult57 (v93 : BitVec 32) : BitVec 32 :=
  let c12032_i32_42 : BitVec 32 := 12032#32
  let v94 : BitVec 32 := Scalar.minsi v93 c12032_i32_42
  let v95 : BitVec 32 := Scalar.subi v93 v94
  let v96 : BitVec 32 := v95
  let c144_i32_199 : BitVec 32 := 144#32
  let v518 : BitVec 32 := Scalar.addi v96 c144_i32_199
  let c255_i32_200 : BitVec 32 := 255#32
  let v519 : BitVec 32 := Scalar.andi v518 c255_i32_200
  v519
def k0_mult58 (v93 : BitVec 32) : BitVec 32 :=
  let c12032_i32_42 : BitVec 32 := 12032#32
  let v94 : BitVec 32 := Scalar.minsi v93 c12032_i32_42
  let v95 : BitVec 32 := Scalar.subi v93 v94
  let v96 : BitVec 32 := v95
  let c160_i32_202 : BitVec 32 := 160#32
  let v525 : BitVec 32 := Scalar.addi v96 c160_i32_202
  let c255_i32_203 : BitVec 32 := 255#32
  let v526 : BitVec 32 := Scalar.andi v525 c255_i32_203
  v526
def k0_mult59 (v93 : BitVec 32) : BitVec 32 :=
  let c12032_i32_42 : BitVec 32 := 12032#32
  let v94 : BitVec 32 := Scalar.minsi v93 c12032_i32_42
  let v95 : BitVec 32 := Scalar.subi v93 v94
  let v96 : BitVec 32 := v95
  let c160_i32_205 : BitVec 32 := 160#32
  let v532 : BitVec 32 := Scalar.addi v96 c160_i32_205
  let c255_i32_206 : BitVec 32 := 255#32
  let v533 : BitVec 32 := Scalar.andi v532 c255_i32_206
  v533
def k0_mult60 (v93 : BitVec 32) : BitVec 32 :=
  let c12032_i32_42 : BitVec 32 := 12032#32
  let v94 : BitVec 32 := Scalar.minsi v93 c12032_i32_42
  let v95 : BitVec 32 := Scalar.subi v93 v94
  let v96 : BitVec 32 := v95
  let c176_i32_208 : BitVec 32 := 176#32
  let v539 : BitVec 32 := Scalar.addi v96 c176_i32_208
  let c255_i32_209 : BitVec 32 := 255#32
  let v540 : BitVec 32 := Scalar.andi v539 c255_i32_209
  v540
def k0_mult61 (v93 : BitVec 32) : BitVec 32 :=
  let c12032_i32_42 : BitVec 32 := 12032#32
  let v94 : BitVec 32 := Scalar.minsi v93 c12032_i32_42
  let v95 : BitVec 32 := Scalar.subi v93 v94
  let v96 : BitVec 32 := v95
  let c176_i32_211 : BitVec 32 := 176#32
  let v546 : BitVec 32 := Scalar.addi v96 c176_i32_211
  let c255_i32_212 : BitVec 32 := 255#32
  let v547 : BitVec 32 := Scalar.andi v546 c255_i32_212
  v547
def k0_mult62 (v93 : BitVec 32) : BitVec 32 :=
  let c12032_i32_42 : BitVec 32 := 12032#32
  let v94 : BitVec 32 := Scalar.minsi v93 c12032_i32_42
  let v95 : BitVec 32 := Scalar.subi v93 v94
  let v96 : BitVec 32 := v95
  let c192_i32_214 : BitVec 32 := 192#32
  let v553 : BitVec 32 := Scalar.addi v96 c192_i32_214
  let c255_i32_215 : BitVec 32 := 255#32
  let v554 : BitVec 32 := Scalar.andi v553 c255_i32_215
  v554
def k0_mult63 (v93 : BitVec 32) : BitVec 32 :=
  let c12032_i32_42 : BitVec 32 := 12032#32
  let v94 : BitVec 32 := Scalar.minsi v93 c12032_i32_42
  let v95 : BitVec 32 := Scalar.subi v93 v94
  let v96 : BitVec 32 := v95
  let c192_i32_217 : BitVec 32 := 192#32
  let v560 : BitVec 32 := Scalar.addi v96 c192_i32_217
  let c255_i32_218 : BitVec 32 := 255#32
  let v561 : BitVec 32 := Scalar.andi v560 c255_i32_218
  v561
def k0_mult64 (v93 : BitVec 32) : BitVec 32 :=
  let c12032_i32_42 : BitVec 32 := 12032#32
  let v94 : BitVec 32 := Scalar.minsi v93 c12032_i32_42
  let v95 : BitVec 32 := Scalar.subi v93 v94
  let v96 : BitVec 32 := v95
  let c208_i32_220 : BitVec 32 := 208#32
  let v567 : BitVec 32 := Scalar.addi v96 c208_i32_220
  let c255_i32_221 : BitVec 32 := 255#32
  let v568 : BitVec 32 := Scalar.andi v567 c255_i32_221
  v568
def k0_mult65 (v93 : BitVec 32) : BitVec 32 :=
  let c12032_i32_42 : BitVec 32 := 12032#32
  let v94 : BitVec 32 := Scalar.minsi v93 c12032_i32_42
  let v95 : BitVec 32 := Scalar.subi v93 v94
  let v96 : BitVec 32 := v95
  let c208_i32_223 : BitVec 32 := 208#32
  let v574 : BitVec 32 := Scalar.addi v96 c208_i32_223
  let c255_i32_224 : BitVec 32 := 255#32
  let v575 : BitVec 32 := Scalar.andi v574 c255_i32_224
  v575
def k0_mult66 (v93 : BitVec 32) : BitVec 32 :=
  let c12032_i32_42 : BitVec 32 := 12032#32
  let v94 : BitVec 32 := Scalar.minsi v93 c12032_i32_42
  let v95 : BitVec 32 := Scalar.subi v93 v94
  let v96 : BitVec 32 := v95
  let c224_i32_226 : BitVec 32 := 224#32
  let v581 : BitVec 32 := Scalar.addi v96 c224_i32_226
  let c255_i32_227 : BitVec 32 := 255#32
  let v582 : BitVec 32 := Scalar.andi v581 c255_i32_227
  v582
def k0_mult67 (v93 : BitVec 32) : BitVec 32 :=
  let c12032_i32_42 : BitVec 32 := 12032#32
  let v94 : BitVec 32 := Scalar.minsi v93 c12032_i32_42
  let v95 : BitVec 32 := Scalar.subi v93 v94
  let v96 : BitVec 32 := v95
  let c224_i32_229 : BitVec 32 := 224#32
  let v588 : BitVec 32 := Scalar.addi v96 c224_i32_229
  let c255_i32_230 : BitVec 32 := 255#32
  let v589 : BitVec 32 := Scalar.andi v588 c255_i32_230
  v589
def k0_mult68 (v93 : BitVec 32) : BitVec 32 :=
  let c12032_i32_42 : BitVec 32 := 12032#32
  let v94 : BitVec 32 := Scalar.minsi v93 c12032_i32_42
  let v95 : BitVec 32 := Scalar.subi v93 v94
  let v96 : BitVec 32 := v95
  let c240_i32_232 : BitVec 32 := 240#32
  let v595 : BitVec 32 := Scalar.addi v96 c240_i32_232
  let c255_i32_233 : BitVec 32 := 255#32
  let v596 : BitVec 32 := Scalar.andi v595 c255_i32_233
  v596
def k0_mult69 (v93 : BitVec 32) : BitVec 32 :=
  let c12032_i32_42 : BitVec 32 := 12032#32
  let v94 : BitVec 32 := Scalar.minsi v93 c12032_i32_42
  let v95 : BitVec 32 := Scalar.subi v93 v94
  let v96 : BitVec 32 := v95
  let c240_i32_235 : BitVec 32 := 240#32
  let v602 : BitVec 32 := Scalar.addi v96 c240_i32_235
  let c255_i32_236 : BitVec 32 := 255#32
  let v603 : BitVec 32 := Scalar.andi v602 c255_i32_236
  v603
def k0_mult70 (v93 : BitVec 32) : BitVec 32 :=
  let c12032_i32_42 : BitVec 32 := 12032#32
  let v94 : BitVec 32 := Scalar.minsi v93 c12032_i32_42
  let v95 : BitVec 32 := Scalar.subi v93 v94
  let v96 : BitVec 32 := v95
  let c0_i32_270 : BitVec 32 := 0#32
  let v673 : BitVec 32 := Scalar.addi v96 c0_i32_270
  let c255_i32_271 : BitVec 32 := 255#32
  let v674 : BitVec 32 := Scalar.andi v673 c255_i32_271
  v674
def k0_off30 (v1_0 : BitVec 32) (k0_t4 : Fin (k0_t4_loop v1_0).trips) (v93 : BitVec 32) (c0_i32_270 : BitVec 32) : Fin 3 → Nat :=
  let c0_i32_13 : BitVec 32 := 0#32
  let c1_i32_16 : BitVec 32 := 1#32
  let arg22 : BitVec 32 := Scf.iv c0_i32_13 c1_i32_16 k0_t4
  let c1_i32_32 : BitVec 32 := 1#32
  let v72 : BitVec 32 := Scalar.andi arg22 c1_i32_32
  let v676 : Index := Scalar.indexCast v72
  let c12032_i32_42 : BitVec 32 := 12032#32
  let v94 : BitVec 32 := Scalar.minsi v93 c12032_i32_42
  let v95 : BitVec 32 := Scalar.subi v93 v94
  let v96 : BitVec 32 := v95
  let v673 : BitVec 32 := Scalar.addi v96 c0_i32_270
  let c255_i32_271 : BitVec 32 := 255#32
  let v674 : BitVec 32 := Scalar.andi v673 c255_i32_271
  let v675 : BitVec 32 := v674
  let v677 : Index := Scalar.indexCast v675
  let c512 : Index := 512#32
  ![v676.toNat, v677.toNat, 512]
def k0_mult71 (v93 : BitVec 32) : BitVec 32 :=
  let c12032_i32_42 : BitVec 32 := 12032#32
  let v94 : BitVec 32 := Scalar.minsi v93 c12032_i32_42
  let v95 : BitVec 32 := Scalar.subi v93 v94
  let v96 : BitVec 32 := v95
  let c0_i32_272 : BitVec 32 := 0#32
  let v680 : BitVec 32 := Scalar.addi v96 c0_i32_272
  let c255_i32_273 : BitVec 32 := 255#32
  let v681 : BitVec 32 := Scalar.andi v680 c255_i32_273
  v681
def k0_off31 (v1_0 : BitVec 32) (k0_t4 : Fin (k0_t4_loop v1_0).trips) (v93 : BitVec 32) (c0_i32_272 : BitVec 32) : Fin 3 → Nat :=
  let c0_i32_13 : BitVec 32 := 0#32
  let c1_i32_16 : BitVec 32 := 1#32
  let arg22 : BitVec 32 := Scf.iv c0_i32_13 c1_i32_16 k0_t4
  let c1_i32_32 : BitVec 32 := 1#32
  let v72 : BitVec 32 := Scalar.andi arg22 c1_i32_32
  let v683 : Index := Scalar.indexCast v72
  let c12032_i32_42 : BitVec 32 := 12032#32
  let v94 : BitVec 32 := Scalar.minsi v93 c12032_i32_42
  let v95 : BitVec 32 := Scalar.subi v93 v94
  let v96 : BitVec 32 := v95
  let v680 : BitVec 32 := Scalar.addi v96 c0_i32_272
  let c255_i32_273 : BitVec 32 := 255#32
  let v681 : BitVec 32 := Scalar.andi v680 c255_i32_273
  let v682 : BitVec 32 := v681
  let v684 : Index := Scalar.indexCast v682
  let c640 : Index := 640#32
  ![v683.toNat, v684.toNat, 640]
def k0_mult72 (v93 : BitVec 32) : BitVec 32 :=
  let c12032_i32_42 : BitVec 32 := 12032#32
  let v94 : BitVec 32 := Scalar.minsi v93 c12032_i32_42
  let v95 : BitVec 32 := Scalar.subi v93 v94
  let v96 : BitVec 32 := v95
  let c16_i32_274 : BitVec 32 := 16#32
  let v687 : BitVec 32 := Scalar.addi v96 c16_i32_274
  let c255_i32_275 : BitVec 32 := 255#32
  let v688 : BitVec 32 := Scalar.andi v687 c255_i32_275
  v688
def k0_mult73 (v93 : BitVec 32) : BitVec 32 :=
  let c12032_i32_42 : BitVec 32 := 12032#32
  let v94 : BitVec 32 := Scalar.minsi v93 c12032_i32_42
  let v95 : BitVec 32 := Scalar.subi v93 v94
  let v96 : BitVec 32 := v95
  let c16_i32_277 : BitVec 32 := 16#32
  let v694 : BitVec 32 := Scalar.addi v96 c16_i32_277
  let c255_i32_278 : BitVec 32 := 255#32
  let v695 : BitVec 32 := Scalar.andi v694 c255_i32_278
  v695
def k0_mult74 (v93 : BitVec 32) : BitVec 32 :=
  let c12032_i32_42 : BitVec 32 := 12032#32
  let v94 : BitVec 32 := Scalar.minsi v93 c12032_i32_42
  let v95 : BitVec 32 := Scalar.subi v93 v94
  let v96 : BitVec 32 := v95
  let c32_i32_280 : BitVec 32 := 32#32
  let v701 : BitVec 32 := Scalar.addi v96 c32_i32_280
  let c255_i32_281 : BitVec 32 := 255#32
  let v702 : BitVec 32 := Scalar.andi v701 c255_i32_281
  v702
def k0_mult75 (v93 : BitVec 32) : BitVec 32 :=
  let c12032_i32_42 : BitVec 32 := 12032#32
  let v94 : BitVec 32 := Scalar.minsi v93 c12032_i32_42
  let v95 : BitVec 32 := Scalar.subi v93 v94
  let v96 : BitVec 32 := v95
  let c32_i32_283 : BitVec 32 := 32#32
  let v708 : BitVec 32 := Scalar.addi v96 c32_i32_283
  let c255_i32_284 : BitVec 32 := 255#32
  let v709 : BitVec 32 := Scalar.andi v708 c255_i32_284
  v709
def k0_mult76 (v93 : BitVec 32) : BitVec 32 :=
  let c12032_i32_42 : BitVec 32 := 12032#32
  let v94 : BitVec 32 := Scalar.minsi v93 c12032_i32_42
  let v95 : BitVec 32 := Scalar.subi v93 v94
  let v96 : BitVec 32 := v95
  let c48_i32_286 : BitVec 32 := 48#32
  let v715 : BitVec 32 := Scalar.addi v96 c48_i32_286
  let c255_i32_287 : BitVec 32 := 255#32
  let v716 : BitVec 32 := Scalar.andi v715 c255_i32_287
  v716
def k0_mult77 (v93 : BitVec 32) : BitVec 32 :=
  let c12032_i32_42 : BitVec 32 := 12032#32
  let v94 : BitVec 32 := Scalar.minsi v93 c12032_i32_42
  let v95 : BitVec 32 := Scalar.subi v93 v94
  let v96 : BitVec 32 := v95
  let c48_i32_289 : BitVec 32 := 48#32
  let v722 : BitVec 32 := Scalar.addi v96 c48_i32_289
  let c255_i32_290 : BitVec 32 := 255#32
  let v723 : BitVec 32 := Scalar.andi v722 c255_i32_290
  v723
def k0_mult78 (v93 : BitVec 32) : BitVec 32 :=
  let c12032_i32_42 : BitVec 32 := 12032#32
  let v94 : BitVec 32 := Scalar.minsi v93 c12032_i32_42
  let v95 : BitVec 32 := Scalar.subi v93 v94
  let v96 : BitVec 32 := v95
  let c64_i32_292 : BitVec 32 := 64#32
  let v729 : BitVec 32 := Scalar.addi v96 c64_i32_292
  let c255_i32_293 : BitVec 32 := 255#32
  let v730 : BitVec 32 := Scalar.andi v729 c255_i32_293
  v730
def k0_mult79 (v93 : BitVec 32) : BitVec 32 :=
  let c12032_i32_42 : BitVec 32 := 12032#32
  let v94 : BitVec 32 := Scalar.minsi v93 c12032_i32_42
  let v95 : BitVec 32 := Scalar.subi v93 v94
  let v96 : BitVec 32 := v95
  let c64_i32_295 : BitVec 32 := 64#32
  let v736 : BitVec 32 := Scalar.addi v96 c64_i32_295
  let c255_i32_296 : BitVec 32 := 255#32
  let v737 : BitVec 32 := Scalar.andi v736 c255_i32_296
  v737
def k0_mult80 (v93 : BitVec 32) : BitVec 32 :=
  let c12032_i32_42 : BitVec 32 := 12032#32
  let v94 : BitVec 32 := Scalar.minsi v93 c12032_i32_42
  let v95 : BitVec 32 := Scalar.subi v93 v94
  let v96 : BitVec 32 := v95
  let c80_i32_298 : BitVec 32 := 80#32
  let v743 : BitVec 32 := Scalar.addi v96 c80_i32_298
  let c255_i32_299 : BitVec 32 := 255#32
  let v744 : BitVec 32 := Scalar.andi v743 c255_i32_299
  v744
def k0_mult81 (v93 : BitVec 32) : BitVec 32 :=
  let c12032_i32_42 : BitVec 32 := 12032#32
  let v94 : BitVec 32 := Scalar.minsi v93 c12032_i32_42
  let v95 : BitVec 32 := Scalar.subi v93 v94
  let v96 : BitVec 32 := v95
  let c80_i32_301 : BitVec 32 := 80#32
  let v750 : BitVec 32 := Scalar.addi v96 c80_i32_301
  let c255_i32_302 : BitVec 32 := 255#32
  let v751 : BitVec 32 := Scalar.andi v750 c255_i32_302
  v751
def k0_mult82 (v93 : BitVec 32) : BitVec 32 :=
  let c12032_i32_42 : BitVec 32 := 12032#32
  let v94 : BitVec 32 := Scalar.minsi v93 c12032_i32_42
  let v95 : BitVec 32 := Scalar.subi v93 v94
  let v96 : BitVec 32 := v95
  let c96_i32_304 : BitVec 32 := 96#32
  let v757 : BitVec 32 := Scalar.addi v96 c96_i32_304
  let c255_i32_305 : BitVec 32 := 255#32
  let v758 : BitVec 32 := Scalar.andi v757 c255_i32_305
  v758
def k0_mult83 (v93 : BitVec 32) : BitVec 32 :=
  let c12032_i32_42 : BitVec 32 := 12032#32
  let v94 : BitVec 32 := Scalar.minsi v93 c12032_i32_42
  let v95 : BitVec 32 := Scalar.subi v93 v94
  let v96 : BitVec 32 := v95
  let c96_i32_307 : BitVec 32 := 96#32
  let v764 : BitVec 32 := Scalar.addi v96 c96_i32_307
  let c255_i32_308 : BitVec 32 := 255#32
  let v765 : BitVec 32 := Scalar.andi v764 c255_i32_308
  v765
def k0_mult84 (v93 : BitVec 32) : BitVec 32 :=
  let c12032_i32_42 : BitVec 32 := 12032#32
  let v94 : BitVec 32 := Scalar.minsi v93 c12032_i32_42
  let v95 : BitVec 32 := Scalar.subi v93 v94
  let v96 : BitVec 32 := v95
  let c112_i32_310 : BitVec 32 := 112#32
  let v771 : BitVec 32 := Scalar.addi v96 c112_i32_310
  let c255_i32_311 : BitVec 32 := 255#32
  let v772 : BitVec 32 := Scalar.andi v771 c255_i32_311
  v772
def k0_mult85 (v93 : BitVec 32) : BitVec 32 :=
  let c12032_i32_42 : BitVec 32 := 12032#32
  let v94 : BitVec 32 := Scalar.minsi v93 c12032_i32_42
  let v95 : BitVec 32 := Scalar.subi v93 v94
  let v96 : BitVec 32 := v95
  let c112_i32_313 : BitVec 32 := 112#32
  let v778 : BitVec 32 := Scalar.addi v96 c112_i32_313
  let c255_i32_314 : BitVec 32 := 255#32
  let v779 : BitVec 32 := Scalar.andi v778 c255_i32_314
  v779
def k0_mult86 (v93 : BitVec 32) : BitVec 32 :=
  let c12032_i32_42 : BitVec 32 := 12032#32
  let v94 : BitVec 32 := Scalar.minsi v93 c12032_i32_42
  let v95 : BitVec 32 := Scalar.subi v93 v94
  let v96 : BitVec 32 := v95
  let c128_i32_316 : BitVec 32 := 128#32
  let v785 : BitVec 32 := Scalar.addi v96 c128_i32_316
  let c255_i32_317 : BitVec 32 := 255#32
  let v786 : BitVec 32 := Scalar.andi v785 c255_i32_317
  v786
def k0_mult87 (v93 : BitVec 32) : BitVec 32 :=
  let c12032_i32_42 : BitVec 32 := 12032#32
  let v94 : BitVec 32 := Scalar.minsi v93 c12032_i32_42
  let v95 : BitVec 32 := Scalar.subi v93 v94
  let v96 : BitVec 32 := v95
  let c128_i32_319 : BitVec 32 := 128#32
  let v792 : BitVec 32 := Scalar.addi v96 c128_i32_319
  let c255_i32_320 : BitVec 32 := 255#32
  let v793 : BitVec 32 := Scalar.andi v792 c255_i32_320
  v793
def k0_mult88 (v93 : BitVec 32) : BitVec 32 :=
  let c12032_i32_42 : BitVec 32 := 12032#32
  let v94 : BitVec 32 := Scalar.minsi v93 c12032_i32_42
  let v95 : BitVec 32 := Scalar.subi v93 v94
  let v96 : BitVec 32 := v95
  let c144_i32_322 : BitVec 32 := 144#32
  let v799 : BitVec 32 := Scalar.addi v96 c144_i32_322
  let c255_i32_323 : BitVec 32 := 255#32
  let v800 : BitVec 32 := Scalar.andi v799 c255_i32_323
  v800
def k0_mult89 (v93 : BitVec 32) : BitVec 32 :=
  let c12032_i32_42 : BitVec 32 := 12032#32
  let v94 : BitVec 32 := Scalar.minsi v93 c12032_i32_42
  let v95 : BitVec 32 := Scalar.subi v93 v94
  let v96 : BitVec 32 := v95
  let c144_i32_325 : BitVec 32 := 144#32
  let v806 : BitVec 32 := Scalar.addi v96 c144_i32_325
  let c255_i32_326 : BitVec 32 := 255#32
  let v807 : BitVec 32 := Scalar.andi v806 c255_i32_326
  v807
def k0_mult90 (v93 : BitVec 32) : BitVec 32 :=
  let c12032_i32_42 : BitVec 32 := 12032#32
  let v94 : BitVec 32 := Scalar.minsi v93 c12032_i32_42
  let v95 : BitVec 32 := Scalar.subi v93 v94
  let v96 : BitVec 32 := v95
  let c160_i32_328 : BitVec 32 := 160#32
  let v813 : BitVec 32 := Scalar.addi v96 c160_i32_328
  let c255_i32_329 : BitVec 32 := 255#32
  let v814 : BitVec 32 := Scalar.andi v813 c255_i32_329
  v814
def k0_mult91 (v93 : BitVec 32) : BitVec 32 :=
  let c12032_i32_42 : BitVec 32 := 12032#32
  let v94 : BitVec 32 := Scalar.minsi v93 c12032_i32_42
  let v95 : BitVec 32 := Scalar.subi v93 v94
  let v96 : BitVec 32 := v95
  let c160_i32_331 : BitVec 32 := 160#32
  let v820 : BitVec 32 := Scalar.addi v96 c160_i32_331
  let c255_i32_332 : BitVec 32 := 255#32
  let v821 : BitVec 32 := Scalar.andi v820 c255_i32_332
  v821
def k0_mult92 (v93 : BitVec 32) : BitVec 32 :=
  let c12032_i32_42 : BitVec 32 := 12032#32
  let v94 : BitVec 32 := Scalar.minsi v93 c12032_i32_42
  let v95 : BitVec 32 := Scalar.subi v93 v94
  let v96 : BitVec 32 := v95
  let c176_i32_334 : BitVec 32 := 176#32
  let v827 : BitVec 32 := Scalar.addi v96 c176_i32_334
  let c255_i32_335 : BitVec 32 := 255#32
  let v828 : BitVec 32 := Scalar.andi v827 c255_i32_335
  v828
def k0_mult93 (v93 : BitVec 32) : BitVec 32 :=
  let c12032_i32_42 : BitVec 32 := 12032#32
  let v94 : BitVec 32 := Scalar.minsi v93 c12032_i32_42
  let v95 : BitVec 32 := Scalar.subi v93 v94
  let v96 : BitVec 32 := v95
  let c176_i32_337 : BitVec 32 := 176#32
  let v834 : BitVec 32 := Scalar.addi v96 c176_i32_337
  let c255_i32_338 : BitVec 32 := 255#32
  let v835 : BitVec 32 := Scalar.andi v834 c255_i32_338
  v835
def k0_mult94 (v93 : BitVec 32) : BitVec 32 :=
  let c12032_i32_42 : BitVec 32 := 12032#32
  let v94 : BitVec 32 := Scalar.minsi v93 c12032_i32_42
  let v95 : BitVec 32 := Scalar.subi v93 v94
  let v96 : BitVec 32 := v95
  let c192_i32_340 : BitVec 32 := 192#32
  let v841 : BitVec 32 := Scalar.addi v96 c192_i32_340
  let c255_i32_341 : BitVec 32 := 255#32
  let v842 : BitVec 32 := Scalar.andi v841 c255_i32_341
  v842
def k0_mult95 (v93 : BitVec 32) : BitVec 32 :=
  let c12032_i32_42 : BitVec 32 := 12032#32
  let v94 : BitVec 32 := Scalar.minsi v93 c12032_i32_42
  let v95 : BitVec 32 := Scalar.subi v93 v94
  let v96 : BitVec 32 := v95
  let c192_i32_343 : BitVec 32 := 192#32
  let v848 : BitVec 32 := Scalar.addi v96 c192_i32_343
  let c255_i32_344 : BitVec 32 := 255#32
  let v849 : BitVec 32 := Scalar.andi v848 c255_i32_344
  v849
def k0_mult96 (v93 : BitVec 32) : BitVec 32 :=
  let c12032_i32_42 : BitVec 32 := 12032#32
  let v94 : BitVec 32 := Scalar.minsi v93 c12032_i32_42
  let v95 : BitVec 32 := Scalar.subi v93 v94
  let v96 : BitVec 32 := v95
  let c208_i32_346 : BitVec 32 := 208#32
  let v855 : BitVec 32 := Scalar.addi v96 c208_i32_346
  let c255_i32_347 : BitVec 32 := 255#32
  let v856 : BitVec 32 := Scalar.andi v855 c255_i32_347
  v856
def k0_mult97 (v93 : BitVec 32) : BitVec 32 :=
  let c12032_i32_42 : BitVec 32 := 12032#32
  let v94 : BitVec 32 := Scalar.minsi v93 c12032_i32_42
  let v95 : BitVec 32 := Scalar.subi v93 v94
  let v96 : BitVec 32 := v95
  let c208_i32_349 : BitVec 32 := 208#32
  let v862 : BitVec 32 := Scalar.addi v96 c208_i32_349
  let c255_i32_350 : BitVec 32 := 255#32
  let v863 : BitVec 32 := Scalar.andi v862 c255_i32_350
  v863
def k0_mult98 (v93 : BitVec 32) : BitVec 32 :=
  let c12032_i32_42 : BitVec 32 := 12032#32
  let v94 : BitVec 32 := Scalar.minsi v93 c12032_i32_42
  let v95 : BitVec 32 := Scalar.subi v93 v94
  let v96 : BitVec 32 := v95
  let c224_i32_352 : BitVec 32 := 224#32
  let v869 : BitVec 32 := Scalar.addi v96 c224_i32_352
  let c255_i32_353 : BitVec 32 := 255#32
  let v870 : BitVec 32 := Scalar.andi v869 c255_i32_353
  v870
def k0_mult99 (v93 : BitVec 32) : BitVec 32 :=
  let c12032_i32_42 : BitVec 32 := 12032#32
  let v94 : BitVec 32 := Scalar.minsi v93 c12032_i32_42
  let v95 : BitVec 32 := Scalar.subi v93 v94
  let v96 : BitVec 32 := v95
  let c224_i32_355 : BitVec 32 := 224#32
  let v876 : BitVec 32 := Scalar.addi v96 c224_i32_355
  let c255_i32_356 : BitVec 32 := 255#32
  let v877 : BitVec 32 := Scalar.andi v876 c255_i32_356
  v877
def k0_mult100 (v93 : BitVec 32) : BitVec 32 :=
  let c12032_i32_42 : BitVec 32 := 12032#32
  let v94 : BitVec 32 := Scalar.minsi v93 c12032_i32_42
  let v95 : BitVec 32 := Scalar.subi v93 v94
  let v96 : BitVec 32 := v95
  let c240_i32_358 : BitVec 32 := 240#32
  let v883 : BitVec 32 := Scalar.addi v96 c240_i32_358
  let c255_i32_359 : BitVec 32 := 255#32
  let v884 : BitVec 32 := Scalar.andi v883 c255_i32_359
  v884
def k0_mult101 (v93 : BitVec 32) : BitVec 32 :=
  let c12032_i32_42 : BitVec 32 := 12032#32
  let v94 : BitVec 32 := Scalar.minsi v93 c12032_i32_42
  let v95 : BitVec 32 := Scalar.subi v93 v94
  let v96 : BitVec 32 := v95
  let c240_i32_361 : BitVec 32 := 240#32
  let v890 : BitVec 32 := Scalar.addi v96 c240_i32_361
  let c255_i32_362 : BitVec 32 := 255#32
  let v891 : BitVec 32 := Scalar.andi v890 c255_i32_362
  v891
def k0_mult102 (v93 : BitVec 32) : BitVec 32 :=
  let c12032_i32_42 : BitVec 32 := 12032#32
  let v94 : BitVec 32 := Scalar.minsi v93 c12032_i32_42
  let v95 : BitVec 32 := Scalar.subi v93 v94
  let v96 : BitVec 32 := v95
  let c0_i32_396 : BitVec 32 := 0#32
  let v961 : BitVec 32 := Scalar.addi v96 c0_i32_396
  let c255_i32_397 : BitVec 32 := 255#32
  let v962 : BitVec 32 := Scalar.andi v961 c255_i32_397
  v962
def k0_off32 (v1_0 : BitVec 32) (k0_t4 : Fin (k0_t4_loop v1_0).trips) (v93 : BitVec 32) (c0_i32_396 : BitVec 32) : Fin 3 → Nat :=
  let c0_i32_13 : BitVec 32 := 0#32
  let c1_i32_16 : BitVec 32 := 1#32
  let arg22 : BitVec 32 := Scf.iv c0_i32_13 c1_i32_16 k0_t4
  let c1_i32_32 : BitVec 32 := 1#32
  let v72 : BitVec 32 := Scalar.andi arg22 c1_i32_32
  let v964 : Index := Scalar.indexCast v72
  let c12032_i32_42 : BitVec 32 := 12032#32
  let v94 : BitVec 32 := Scalar.minsi v93 c12032_i32_42
  let v95 : BitVec 32 := Scalar.subi v93 v94
  let v96 : BitVec 32 := v95
  let v961 : BitVec 32 := Scalar.addi v96 c0_i32_396
  let c255_i32_397 : BitVec 32 := 255#32
  let v962 : BitVec 32 := Scalar.andi v961 c255_i32_397
  let v963 : BitVec 32 := v962
  let v965 : Index := Scalar.indexCast v963
  let c768 : Index := 768#32
  ![v964.toNat, v965.toNat, 768]
def k0_mult103 (v93 : BitVec 32) : BitVec 32 :=
  let c12032_i32_42 : BitVec 32 := 12032#32
  let v94 : BitVec 32 := Scalar.minsi v93 c12032_i32_42
  let v95 : BitVec 32 := Scalar.subi v93 v94
  let v96 : BitVec 32 := v95
  let c0_i32_398 : BitVec 32 := 0#32
  let v968 : BitVec 32 := Scalar.addi v96 c0_i32_398
  let c255_i32_399 : BitVec 32 := 255#32
  let v969 : BitVec 32 := Scalar.andi v968 c255_i32_399
  v969
def k0_off33 (v1_0 : BitVec 32) (k0_t4 : Fin (k0_t4_loop v1_0).trips) (v93 : BitVec 32) (c0_i32_398 : BitVec 32) : Fin 3 → Nat :=
  let c0_i32_13 : BitVec 32 := 0#32
  let c1_i32_16 : BitVec 32 := 1#32
  let arg22 : BitVec 32 := Scf.iv c0_i32_13 c1_i32_16 k0_t4
  let c1_i32_32 : BitVec 32 := 1#32
  let v72 : BitVec 32 := Scalar.andi arg22 c1_i32_32
  let v971 : Index := Scalar.indexCast v72
  let c12032_i32_42 : BitVec 32 := 12032#32
  let v94 : BitVec 32 := Scalar.minsi v93 c12032_i32_42
  let v95 : BitVec 32 := Scalar.subi v93 v94
  let v96 : BitVec 32 := v95
  let v968 : BitVec 32 := Scalar.addi v96 c0_i32_398
  let c255_i32_399 : BitVec 32 := 255#32
  let v969 : BitVec 32 := Scalar.andi v968 c255_i32_399
  let v970 : BitVec 32 := v969
  let v972 : Index := Scalar.indexCast v970
  let c896 : Index := 896#32
  ![v971.toNat, v972.toNat, 896]
def k0_mult104 (v93 : BitVec 32) : BitVec 32 :=
  let c12032_i32_42 : BitVec 32 := 12032#32
  let v94 : BitVec 32 := Scalar.minsi v93 c12032_i32_42
  let v95 : BitVec 32 := Scalar.subi v93 v94
  let v96 : BitVec 32 := v95
  let c16_i32_400 : BitVec 32 := 16#32
  let v975 : BitVec 32 := Scalar.addi v96 c16_i32_400
  let c255_i32_401 : BitVec 32 := 255#32
  let v976 : BitVec 32 := Scalar.andi v975 c255_i32_401
  v976
def k0_mult105 (v93 : BitVec 32) : BitVec 32 :=
  let c12032_i32_42 : BitVec 32 := 12032#32
  let v94 : BitVec 32 := Scalar.minsi v93 c12032_i32_42
  let v95 : BitVec 32 := Scalar.subi v93 v94
  let v96 : BitVec 32 := v95
  let c16_i32_403 : BitVec 32 := 16#32
  let v982 : BitVec 32 := Scalar.addi v96 c16_i32_403
  let c255_i32_404 : BitVec 32 := 255#32
  let v983 : BitVec 32 := Scalar.andi v982 c255_i32_404
  v983
def k0_mult106 (v93 : BitVec 32) : BitVec 32 :=
  let c12032_i32_42 : BitVec 32 := 12032#32
  let v94 : BitVec 32 := Scalar.minsi v93 c12032_i32_42
  let v95 : BitVec 32 := Scalar.subi v93 v94
  let v96 : BitVec 32 := v95
  let c32_i32_406 : BitVec 32 := 32#32
  let v989 : BitVec 32 := Scalar.addi v96 c32_i32_406
  let c255_i32_407 : BitVec 32 := 255#32
  let v990 : BitVec 32 := Scalar.andi v989 c255_i32_407
  v990
def k0_mult107 (v93 : BitVec 32) : BitVec 32 :=
  let c12032_i32_42 : BitVec 32 := 12032#32
  let v94 : BitVec 32 := Scalar.minsi v93 c12032_i32_42
  let v95 : BitVec 32 := Scalar.subi v93 v94
  let v96 : BitVec 32 := v95
  let c32_i32_409 : BitVec 32 := 32#32
  let v996 : BitVec 32 := Scalar.addi v96 c32_i32_409
  let c255_i32_410 : BitVec 32 := 255#32
  let v997 : BitVec 32 := Scalar.andi v996 c255_i32_410
  v997
def k0_mult108 (v93 : BitVec 32) : BitVec 32 :=
  let c12032_i32_42 : BitVec 32 := 12032#32
  let v94 : BitVec 32 := Scalar.minsi v93 c12032_i32_42
  let v95 : BitVec 32 := Scalar.subi v93 v94
  let v96 : BitVec 32 := v95
  let c48_i32_412 : BitVec 32 := 48#32
  let v1003 : BitVec 32 := Scalar.addi v96 c48_i32_412
  let c255_i32_413 : BitVec 32 := 255#32
  let v1004 : BitVec 32 := Scalar.andi v1003 c255_i32_413
  v1004
def k0_mult109 (v93 : BitVec 32) : BitVec 32 :=
  let c12032_i32_42 : BitVec 32 := 12032#32
  let v94 : BitVec 32 := Scalar.minsi v93 c12032_i32_42
  let v95 : BitVec 32 := Scalar.subi v93 v94
  let v96 : BitVec 32 := v95
  let c48_i32_415 : BitVec 32 := 48#32
  let v1010 : BitVec 32 := Scalar.addi v96 c48_i32_415
  let c255_i32_416 : BitVec 32 := 255#32
  let v1011 : BitVec 32 := Scalar.andi v1010 c255_i32_416
  v1011
def k0_mult110 (v93 : BitVec 32) : BitVec 32 :=
  let c12032_i32_42 : BitVec 32 := 12032#32
  let v94 : BitVec 32 := Scalar.minsi v93 c12032_i32_42
  let v95 : BitVec 32 := Scalar.subi v93 v94
  let v96 : BitVec 32 := v95
  let c64_i32_418 : BitVec 32 := 64#32
  let v1017 : BitVec 32 := Scalar.addi v96 c64_i32_418
  let c255_i32_419 : BitVec 32 := 255#32
  let v1018 : BitVec 32 := Scalar.andi v1017 c255_i32_419
  v1018
def k0_mult111 (v93 : BitVec 32) : BitVec 32 :=
  let c12032_i32_42 : BitVec 32 := 12032#32
  let v94 : BitVec 32 := Scalar.minsi v93 c12032_i32_42
  let v95 : BitVec 32 := Scalar.subi v93 v94
  let v96 : BitVec 32 := v95
  let c64_i32_421 : BitVec 32 := 64#32
  let v1024 : BitVec 32 := Scalar.addi v96 c64_i32_421
  let c255_i32_422 : BitVec 32 := 255#32
  let v1025 : BitVec 32 := Scalar.andi v1024 c255_i32_422
  v1025
def k0_mult112 (v93 : BitVec 32) : BitVec 32 :=
  let c12032_i32_42 : BitVec 32 := 12032#32
  let v94 : BitVec 32 := Scalar.minsi v93 c12032_i32_42
  let v95 : BitVec 32 := Scalar.subi v93 v94
  let v96 : BitVec 32 := v95
  let c80_i32_424 : BitVec 32 := 80#32
  let v1031 : BitVec 32 := Scalar.addi v96 c80_i32_424
  let c255_i32_425 : BitVec 32 := 255#32
  let v1032 : BitVec 32 := Scalar.andi v1031 c255_i32_425
  v1032
def k0_mult113 (v93 : BitVec 32) : BitVec 32 :=
  let c12032_i32_42 : BitVec 32 := 12032#32
  let v94 : BitVec 32 := Scalar.minsi v93 c12032_i32_42
  let v95 : BitVec 32 := Scalar.subi v93 v94
  let v96 : BitVec 32 := v95
  let c80_i32_427 : BitVec 32 := 80#32
  let v1038 : BitVec 32 := Scalar.addi v96 c80_i32_427
  let c255_i32_428 : BitVec 32 := 255#32
  let v1039 : BitVec 32 := Scalar.andi v1038 c255_i32_428
  v1039
def k0_mult114 (v93 : BitVec 32) : BitVec 32 :=
  let c12032_i32_42 : BitVec 32 := 12032#32
  let v94 : BitVec 32 := Scalar.minsi v93 c12032_i32_42
  let v95 : BitVec 32 := Scalar.subi v93 v94
  let v96 : BitVec 32 := v95
  let c96_i32_430 : BitVec 32 := 96#32
  let v1045 : BitVec 32 := Scalar.addi v96 c96_i32_430
  let c255_i32_431 : BitVec 32 := 255#32
  let v1046 : BitVec 32 := Scalar.andi v1045 c255_i32_431
  v1046
def k0_mult115 (v93 : BitVec 32) : BitVec 32 :=
  let c12032_i32_42 : BitVec 32 := 12032#32
  let v94 : BitVec 32 := Scalar.minsi v93 c12032_i32_42
  let v95 : BitVec 32 := Scalar.subi v93 v94
  let v96 : BitVec 32 := v95
  let c96_i32_433 : BitVec 32 := 96#32
  let v1052 : BitVec 32 := Scalar.addi v96 c96_i32_433
  let c255_i32_434 : BitVec 32 := 255#32
  let v1053 : BitVec 32 := Scalar.andi v1052 c255_i32_434
  v1053
def k0_mult116 (v93 : BitVec 32) : BitVec 32 :=
  let c12032_i32_42 : BitVec 32 := 12032#32
  let v94 : BitVec 32 := Scalar.minsi v93 c12032_i32_42
  let v95 : BitVec 32 := Scalar.subi v93 v94
  let v96 : BitVec 32 := v95
  let c112_i32_436 : BitVec 32 := 112#32
  let v1059 : BitVec 32 := Scalar.addi v96 c112_i32_436
  let c255_i32_437 : BitVec 32 := 255#32
  let v1060 : BitVec 32 := Scalar.andi v1059 c255_i32_437
  v1060
def k0_mult117 (v93 : BitVec 32) : BitVec 32 :=
  let c12032_i32_42 : BitVec 32 := 12032#32
  let v94 : BitVec 32 := Scalar.minsi v93 c12032_i32_42
  let v95 : BitVec 32 := Scalar.subi v93 v94
  let v96 : BitVec 32 := v95
  let c112_i32_439 : BitVec 32 := 112#32
  let v1066 : BitVec 32 := Scalar.addi v96 c112_i32_439
  let c255_i32_440 : BitVec 32 := 255#32
  let v1067 : BitVec 32 := Scalar.andi v1066 c255_i32_440
  v1067
def k0_mult118 (v93 : BitVec 32) : BitVec 32 :=
  let c12032_i32_42 : BitVec 32 := 12032#32
  let v94 : BitVec 32 := Scalar.minsi v93 c12032_i32_42
  let v95 : BitVec 32 := Scalar.subi v93 v94
  let v96 : BitVec 32 := v95
  let c128_i32_442 : BitVec 32 := 128#32
  let v1073 : BitVec 32 := Scalar.addi v96 c128_i32_442
  let c255_i32_443 : BitVec 32 := 255#32
  let v1074 : BitVec 32 := Scalar.andi v1073 c255_i32_443
  v1074
def k0_mult119 (v93 : BitVec 32) : BitVec 32 :=
  let c12032_i32_42 : BitVec 32 := 12032#32
  let v94 : BitVec 32 := Scalar.minsi v93 c12032_i32_42
  let v95 : BitVec 32 := Scalar.subi v93 v94
  let v96 : BitVec 32 := v95
  let c128_i32_445 : BitVec 32 := 128#32
  let v1080 : BitVec 32 := Scalar.addi v96 c128_i32_445
  let c255_i32_446 : BitVec 32 := 255#32
  let v1081 : BitVec 32 := Scalar.andi v1080 c255_i32_446
  v1081
def k0_mult120 (v93 : BitVec 32) : BitVec 32 :=
  let c12032_i32_42 : BitVec 32 := 12032#32
  let v94 : BitVec 32 := Scalar.minsi v93 c12032_i32_42
  let v95 : BitVec 32 := Scalar.subi v93 v94
  let v96 : BitVec 32 := v95
  let c144_i32_448 : BitVec 32 := 144#32
  let v1087 : BitVec 32 := Scalar.addi v96 c144_i32_448
  let c255_i32_449 : BitVec 32 := 255#32
  let v1088 : BitVec 32 := Scalar.andi v1087 c255_i32_449
  v1088
def k0_mult121 (v93 : BitVec 32) : BitVec 32 :=
  let c12032_i32_42 : BitVec 32 := 12032#32
  let v94 : BitVec 32 := Scalar.minsi v93 c12032_i32_42
  let v95 : BitVec 32 := Scalar.subi v93 v94
  let v96 : BitVec 32 := v95
  let c144_i32_451 : BitVec 32 := 144#32
  let v1094 : BitVec 32 := Scalar.addi v96 c144_i32_451
  let c255_i32_452 : BitVec 32 := 255#32
  let v1095 : BitVec 32 := Scalar.andi v1094 c255_i32_452
  v1095
def k0_mult122 (v93 : BitVec 32) : BitVec 32 :=
  let c12032_i32_42 : BitVec 32 := 12032#32
  let v94 : BitVec 32 := Scalar.minsi v93 c12032_i32_42
  let v95 : BitVec 32 := Scalar.subi v93 v94
  let v96 : BitVec 32 := v95
  let c160_i32_454 : BitVec 32 := 160#32
  let v1101 : BitVec 32 := Scalar.addi v96 c160_i32_454
  let c255_i32_455 : BitVec 32 := 255#32
  let v1102 : BitVec 32 := Scalar.andi v1101 c255_i32_455
  v1102
def k0_mult123 (v93 : BitVec 32) : BitVec 32 :=
  let c12032_i32_42 : BitVec 32 := 12032#32
  let v94 : BitVec 32 := Scalar.minsi v93 c12032_i32_42
  let v95 : BitVec 32 := Scalar.subi v93 v94
  let v96 : BitVec 32 := v95
  let c160_i32_457 : BitVec 32 := 160#32
  let v1108 : BitVec 32 := Scalar.addi v96 c160_i32_457
  let c255_i32_458 : BitVec 32 := 255#32
  let v1109 : BitVec 32 := Scalar.andi v1108 c255_i32_458
  v1109
def k0_mult124 (v93 : BitVec 32) : BitVec 32 :=
  let c12032_i32_42 : BitVec 32 := 12032#32
  let v94 : BitVec 32 := Scalar.minsi v93 c12032_i32_42
  let v95 : BitVec 32 := Scalar.subi v93 v94
  let v96 : BitVec 32 := v95
  let c176_i32_460 : BitVec 32 := 176#32
  let v1115 : BitVec 32 := Scalar.addi v96 c176_i32_460
  let c255_i32_461 : BitVec 32 := 255#32
  let v1116 : BitVec 32 := Scalar.andi v1115 c255_i32_461
  v1116
def k0_mult125 (v93 : BitVec 32) : BitVec 32 :=
  let c12032_i32_42 : BitVec 32 := 12032#32
  let v94 : BitVec 32 := Scalar.minsi v93 c12032_i32_42
  let v95 : BitVec 32 := Scalar.subi v93 v94
  let v96 : BitVec 32 := v95
  let c176_i32_463 : BitVec 32 := 176#32
  let v1122 : BitVec 32 := Scalar.addi v96 c176_i32_463
  let c255_i32_464 : BitVec 32 := 255#32
  let v1123 : BitVec 32 := Scalar.andi v1122 c255_i32_464
  v1123
def k0_mult126 (v93 : BitVec 32) : BitVec 32 :=
  let c12032_i32_42 : BitVec 32 := 12032#32
  let v94 : BitVec 32 := Scalar.minsi v93 c12032_i32_42
  let v95 : BitVec 32 := Scalar.subi v93 v94
  let v96 : BitVec 32 := v95
  let c192_i32_466 : BitVec 32 := 192#32
  let v1129 : BitVec 32 := Scalar.addi v96 c192_i32_466
  let c255_i32_467 : BitVec 32 := 255#32
  let v1130 : BitVec 32 := Scalar.andi v1129 c255_i32_467
  v1130
def k0_mult127 (v93 : BitVec 32) : BitVec 32 :=
  let c12032_i32_42 : BitVec 32 := 12032#32
  let v94 : BitVec 32 := Scalar.minsi v93 c12032_i32_42
  let v95 : BitVec 32 := Scalar.subi v93 v94
  let v96 : BitVec 32 := v95
  let c192_i32_469 : BitVec 32 := 192#32
  let v1136 : BitVec 32 := Scalar.addi v96 c192_i32_469
  let c255_i32_470 : BitVec 32 := 255#32
  let v1137 : BitVec 32 := Scalar.andi v1136 c255_i32_470
  v1137
def k0_mult128 (v93 : BitVec 32) : BitVec 32 :=
  let c12032_i32_42 : BitVec 32 := 12032#32
  let v94 : BitVec 32 := Scalar.minsi v93 c12032_i32_42
  let v95 : BitVec 32 := Scalar.subi v93 v94
  let v96 : BitVec 32 := v95
  let c208_i32_472 : BitVec 32 := 208#32
  let v1143 : BitVec 32 := Scalar.addi v96 c208_i32_472
  let c255_i32_473 : BitVec 32 := 255#32
  let v1144 : BitVec 32 := Scalar.andi v1143 c255_i32_473
  v1144
def k0_mult129 (v93 : BitVec 32) : BitVec 32 :=
  let c12032_i32_42 : BitVec 32 := 12032#32
  let v94 : BitVec 32 := Scalar.minsi v93 c12032_i32_42
  let v95 : BitVec 32 := Scalar.subi v93 v94
  let v96 : BitVec 32 := v95
  let c208_i32_475 : BitVec 32 := 208#32
  let v1150 : BitVec 32 := Scalar.addi v96 c208_i32_475
  let c255_i32_476 : BitVec 32 := 255#32
  let v1151 : BitVec 32 := Scalar.andi v1150 c255_i32_476
  v1151
def k0_mult130 (v93 : BitVec 32) : BitVec 32 :=
  let c12032_i32_42 : BitVec 32 := 12032#32
  let v94 : BitVec 32 := Scalar.minsi v93 c12032_i32_42
  let v95 : BitVec 32 := Scalar.subi v93 v94
  let v96 : BitVec 32 := v95
  let c224_i32_478 : BitVec 32 := 224#32
  let v1157 : BitVec 32 := Scalar.addi v96 c224_i32_478
  let c255_i32_479 : BitVec 32 := 255#32
  let v1158 : BitVec 32 := Scalar.andi v1157 c255_i32_479
  v1158
def k0_mult131 (v93 : BitVec 32) : BitVec 32 :=
  let c12032_i32_42 : BitVec 32 := 12032#32
  let v94 : BitVec 32 := Scalar.minsi v93 c12032_i32_42
  let v95 : BitVec 32 := Scalar.subi v93 v94
  let v96 : BitVec 32 := v95
  let c224_i32_481 : BitVec 32 := 224#32
  let v1164 : BitVec 32 := Scalar.addi v96 c224_i32_481
  let c255_i32_482 : BitVec 32 := 255#32
  let v1165 : BitVec 32 := Scalar.andi v1164 c255_i32_482
  v1165
def k0_mult132 (v93 : BitVec 32) : BitVec 32 :=
  let c12032_i32_42 : BitVec 32 := 12032#32
  let v94 : BitVec 32 := Scalar.minsi v93 c12032_i32_42
  let v95 : BitVec 32 := Scalar.subi v93 v94
  let v96 : BitVec 32 := v95
  let c240_i32_484 : BitVec 32 := 240#32
  let v1171 : BitVec 32 := Scalar.addi v96 c240_i32_484
  let c255_i32_485 : BitVec 32 := 255#32
  let v1172 : BitVec 32 := Scalar.andi v1171 c255_i32_485
  v1172
def k0_mult133 (v93 : BitVec 32) : BitVec 32 :=
  let c12032_i32_42 : BitVec 32 := 12032#32
  let v94 : BitVec 32 := Scalar.minsi v93 c12032_i32_42
  let v95 : BitVec 32 := Scalar.subi v93 v94
  let v96 : BitVec 32 := v95
  let c240_i32_487 : BitVec 32 := 240#32
  let v1178 : BitVec 32 := Scalar.addi v96 c240_i32_487
  let c255_i32_488 : BitVec 32 := 255#32
  let v1179 : BitVec 32 := Scalar.andi v1178 c255_i32_488
  v1179
def k0_mult134 (v93 : BitVec 32) : BitVec 32 :=
  let c12032_i32_42 : BitVec 32 := 12032#32
  let v94 : BitVec 32 := Scalar.minsi v93 c12032_i32_42
  let v95 : BitVec 32 := Scalar.subi v93 v94
  let v96 : BitVec 32 := v95
  let c0_i32_522 : BitVec 32 := 0#32
  let v1249 : BitVec 32 := Scalar.addi v96 c0_i32_522
  let c255_i32_523 : BitVec 32 := 255#32
  let v1250 : BitVec 32 := Scalar.andi v1249 c255_i32_523
  v1250
def k0_off34 (v1_0 : BitVec 32) (k0_t4 : Fin (k0_t4_loop v1_0).trips) (v93 : BitVec 32) (c0_i32_522 : BitVec 32) : Fin 3 → Nat :=
  let c0_i32_13 : BitVec 32 := 0#32
  let c1_i32_16 : BitVec 32 := 1#32
  let arg22 : BitVec 32 := Scf.iv c0_i32_13 c1_i32_16 k0_t4
  let c1_i32_32 : BitVec 32 := 1#32
  let v72 : BitVec 32 := Scalar.andi arg22 c1_i32_32
  let v1252 : Index := Scalar.indexCast v72
  let c12032_i32_42 : BitVec 32 := 12032#32
  let v94 : BitVec 32 := Scalar.minsi v93 c12032_i32_42
  let v95 : BitVec 32 := Scalar.subi v93 v94
  let v96 : BitVec 32 := v95
  let v1249 : BitVec 32 := Scalar.addi v96 c0_i32_522
  let c255_i32_523 : BitVec 32 := 255#32
  let v1250 : BitVec 32 := Scalar.andi v1249 c255_i32_523
  let v1251 : BitVec 32 := v1250
  let v1253 : Index := Scalar.indexCast v1251
  let c1024 : Index := 1024#32
  ![v1252.toNat, v1253.toNat, 1024]
def k0_mult135 (v93 : BitVec 32) : BitVec 32 :=
  let c12032_i32_42 : BitVec 32 := 12032#32
  let v94 : BitVec 32 := Scalar.minsi v93 c12032_i32_42
  let v95 : BitVec 32 := Scalar.subi v93 v94
  let v96 : BitVec 32 := v95
  let c0_i32_524 : BitVec 32 := 0#32
  let v1256 : BitVec 32 := Scalar.addi v96 c0_i32_524
  let c255_i32_525 : BitVec 32 := 255#32
  let v1257 : BitVec 32 := Scalar.andi v1256 c255_i32_525
  v1257
def k0_off35 (v1_0 : BitVec 32) (k0_t4 : Fin (k0_t4_loop v1_0).trips) (v93 : BitVec 32) (c0_i32_524 : BitVec 32) : Fin 3 → Nat :=
  let c0_i32_13 : BitVec 32 := 0#32
  let c1_i32_16 : BitVec 32 := 1#32
  let arg22 : BitVec 32 := Scf.iv c0_i32_13 c1_i32_16 k0_t4
  let c1_i32_32 : BitVec 32 := 1#32
  let v72 : BitVec 32 := Scalar.andi arg22 c1_i32_32
  let v1259 : Index := Scalar.indexCast v72
  let c12032_i32_42 : BitVec 32 := 12032#32
  let v94 : BitVec 32 := Scalar.minsi v93 c12032_i32_42
  let v95 : BitVec 32 := Scalar.subi v93 v94
  let v96 : BitVec 32 := v95
  let v1256 : BitVec 32 := Scalar.addi v96 c0_i32_524
  let c255_i32_525 : BitVec 32 := 255#32
  let v1257 : BitVec 32 := Scalar.andi v1256 c255_i32_525
  let v1258 : BitVec 32 := v1257
  let v1260 : Index := Scalar.indexCast v1258
  let c1152 : Index := 1152#32
  ![v1259.toNat, v1260.toNat, 1152]
def k0_mult136 (v93 : BitVec 32) : BitVec 32 :=
  let c12032_i32_42 : BitVec 32 := 12032#32
  let v94 : BitVec 32 := Scalar.minsi v93 c12032_i32_42
  let v95 : BitVec 32 := Scalar.subi v93 v94
  let v96 : BitVec 32 := v95
  let c16_i32_526 : BitVec 32 := 16#32
  let v1263 : BitVec 32 := Scalar.addi v96 c16_i32_526
  let c255_i32_527 : BitVec 32 := 255#32
  let v1264 : BitVec 32 := Scalar.andi v1263 c255_i32_527
  v1264
def k0_mult137 (v93 : BitVec 32) : BitVec 32 :=
  let c12032_i32_42 : BitVec 32 := 12032#32
  let v94 : BitVec 32 := Scalar.minsi v93 c12032_i32_42
  let v95 : BitVec 32 := Scalar.subi v93 v94
  let v96 : BitVec 32 := v95
  let c16_i32_529 : BitVec 32 := 16#32
  let v1270 : BitVec 32 := Scalar.addi v96 c16_i32_529
  let c255_i32_530 : BitVec 32 := 255#32
  let v1271 : BitVec 32 := Scalar.andi v1270 c255_i32_530
  v1271
def k0_mult138 (v93 : BitVec 32) : BitVec 32 :=
  let c12032_i32_42 : BitVec 32 := 12032#32
  let v94 : BitVec 32 := Scalar.minsi v93 c12032_i32_42
  let v95 : BitVec 32 := Scalar.subi v93 v94
  let v96 : BitVec 32 := v95
  let c32_i32_532 : BitVec 32 := 32#32
  let v1277 : BitVec 32 := Scalar.addi v96 c32_i32_532
  let c255_i32_533 : BitVec 32 := 255#32
  let v1278 : BitVec 32 := Scalar.andi v1277 c255_i32_533
  v1278
def k0_mult139 (v93 : BitVec 32) : BitVec 32 :=
  let c12032_i32_42 : BitVec 32 := 12032#32
  let v94 : BitVec 32 := Scalar.minsi v93 c12032_i32_42
  let v95 : BitVec 32 := Scalar.subi v93 v94
  let v96 : BitVec 32 := v95
  let c32_i32_535 : BitVec 32 := 32#32
  let v1284 : BitVec 32 := Scalar.addi v96 c32_i32_535
  let c255_i32_536 : BitVec 32 := 255#32
  let v1285 : BitVec 32 := Scalar.andi v1284 c255_i32_536
  v1285
def k0_mult140 (v93 : BitVec 32) : BitVec 32 :=
  let c12032_i32_42 : BitVec 32 := 12032#32
  let v94 : BitVec 32 := Scalar.minsi v93 c12032_i32_42
  let v95 : BitVec 32 := Scalar.subi v93 v94
  let v96 : BitVec 32 := v95
  let c48_i32_538 : BitVec 32 := 48#32
  let v1291 : BitVec 32 := Scalar.addi v96 c48_i32_538
  let c255_i32_539 : BitVec 32 := 255#32
  let v1292 : BitVec 32 := Scalar.andi v1291 c255_i32_539
  v1292
def k0_mult141 (v93 : BitVec 32) : BitVec 32 :=
  let c12032_i32_42 : BitVec 32 := 12032#32
  let v94 : BitVec 32 := Scalar.minsi v93 c12032_i32_42
  let v95 : BitVec 32 := Scalar.subi v93 v94
  let v96 : BitVec 32 := v95
  let c48_i32_541 : BitVec 32 := 48#32
  let v1298 : BitVec 32 := Scalar.addi v96 c48_i32_541
  let c255_i32_542 : BitVec 32 := 255#32
  let v1299 : BitVec 32 := Scalar.andi v1298 c255_i32_542
  v1299
def k0_mult142 (v93 : BitVec 32) : BitVec 32 :=
  let c12032_i32_42 : BitVec 32 := 12032#32
  let v94 : BitVec 32 := Scalar.minsi v93 c12032_i32_42
  let v95 : BitVec 32 := Scalar.subi v93 v94
  let v96 : BitVec 32 := v95
  let c64_i32_544 : BitVec 32 := 64#32
  let v1305 : BitVec 32 := Scalar.addi v96 c64_i32_544
  let c255_i32_545 : BitVec 32 := 255#32
  let v1306 : BitVec 32 := Scalar.andi v1305 c255_i32_545
  v1306
def k0_mult143 (v93 : BitVec 32) : BitVec 32 :=
  let c12032_i32_42 : BitVec 32 := 12032#32
  let v94 : BitVec 32 := Scalar.minsi v93 c12032_i32_42
  let v95 : BitVec 32 := Scalar.subi v93 v94
  let v96 : BitVec 32 := v95
  let c64_i32_547 : BitVec 32 := 64#32
  let v1312 : BitVec 32 := Scalar.addi v96 c64_i32_547
  let c255_i32_548 : BitVec 32 := 255#32
  let v1313 : BitVec 32 := Scalar.andi v1312 c255_i32_548
  v1313
def k0_mult144 (v93 : BitVec 32) : BitVec 32 :=
  let c12032_i32_42 : BitVec 32 := 12032#32
  let v94 : BitVec 32 := Scalar.minsi v93 c12032_i32_42
  let v95 : BitVec 32 := Scalar.subi v93 v94
  let v96 : BitVec 32 := v95
  let c80_i32_550 : BitVec 32 := 80#32
  let v1319 : BitVec 32 := Scalar.addi v96 c80_i32_550
  let c255_i32_551 : BitVec 32 := 255#32
  let v1320 : BitVec 32 := Scalar.andi v1319 c255_i32_551
  v1320
def k0_mult145 (v93 : BitVec 32) : BitVec 32 :=
  let c12032_i32_42 : BitVec 32 := 12032#32
  let v94 : BitVec 32 := Scalar.minsi v93 c12032_i32_42
  let v95 : BitVec 32 := Scalar.subi v93 v94
  let v96 : BitVec 32 := v95
  let c80_i32_553 : BitVec 32 := 80#32
  let v1326 : BitVec 32 := Scalar.addi v96 c80_i32_553
  let c255_i32_554 : BitVec 32 := 255#32
  let v1327 : BitVec 32 := Scalar.andi v1326 c255_i32_554
  v1327
def k0_mult146 (v93 : BitVec 32) : BitVec 32 :=
  let c12032_i32_42 : BitVec 32 := 12032#32
  let v94 : BitVec 32 := Scalar.minsi v93 c12032_i32_42
  let v95 : BitVec 32 := Scalar.subi v93 v94
  let v96 : BitVec 32 := v95
  let c96_i32_556 : BitVec 32 := 96#32
  let v1333 : BitVec 32 := Scalar.addi v96 c96_i32_556
  let c255_i32_557 : BitVec 32 := 255#32
  let v1334 : BitVec 32 := Scalar.andi v1333 c255_i32_557
  v1334
def k0_mult147 (v93 : BitVec 32) : BitVec 32 :=
  let c12032_i32_42 : BitVec 32 := 12032#32
  let v94 : BitVec 32 := Scalar.minsi v93 c12032_i32_42
  let v95 : BitVec 32 := Scalar.subi v93 v94
  let v96 : BitVec 32 := v95
  let c96_i32_559 : BitVec 32 := 96#32
  let v1340 : BitVec 32 := Scalar.addi v96 c96_i32_559
  let c255_i32_560 : BitVec 32 := 255#32
  let v1341 : BitVec 32 := Scalar.andi v1340 c255_i32_560
  v1341
def k0_mult148 (v93 : BitVec 32) : BitVec 32 :=
  let c12032_i32_42 : BitVec 32 := 12032#32
  let v94 : BitVec 32 := Scalar.minsi v93 c12032_i32_42
  let v95 : BitVec 32 := Scalar.subi v93 v94
  let v96 : BitVec 32 := v95
  let c112_i32_562 : BitVec 32 := 112#32
  let v1347 : BitVec 32 := Scalar.addi v96 c112_i32_562
  let c255_i32_563 : BitVec 32 := 255#32
  let v1348 : BitVec 32 := Scalar.andi v1347 c255_i32_563
  v1348
def k0_mult149 (v93 : BitVec 32) : BitVec 32 :=
  let c12032_i32_42 : BitVec 32 := 12032#32
  let v94 : BitVec 32 := Scalar.minsi v93 c12032_i32_42
  let v95 : BitVec 32 := Scalar.subi v93 v94
  let v96 : BitVec 32 := v95
  let c112_i32_565 : BitVec 32 := 112#32
  let v1354 : BitVec 32 := Scalar.addi v96 c112_i32_565
  let c255_i32_566 : BitVec 32 := 255#32
  let v1355 : BitVec 32 := Scalar.andi v1354 c255_i32_566
  v1355
def k0_mult150 (v93 : BitVec 32) : BitVec 32 :=
  let c12032_i32_42 : BitVec 32 := 12032#32
  let v94 : BitVec 32 := Scalar.minsi v93 c12032_i32_42
  let v95 : BitVec 32 := Scalar.subi v93 v94
  let v96 : BitVec 32 := v95
  let c128_i32_568 : BitVec 32 := 128#32
  let v1361 : BitVec 32 := Scalar.addi v96 c128_i32_568
  let c255_i32_569 : BitVec 32 := 255#32
  let v1362 : BitVec 32 := Scalar.andi v1361 c255_i32_569
  v1362
def k0_mult151 (v93 : BitVec 32) : BitVec 32 :=
  let c12032_i32_42 : BitVec 32 := 12032#32
  let v94 : BitVec 32 := Scalar.minsi v93 c12032_i32_42
  let v95 : BitVec 32 := Scalar.subi v93 v94
  let v96 : BitVec 32 := v95
  let c128_i32_571 : BitVec 32 := 128#32
  let v1368 : BitVec 32 := Scalar.addi v96 c128_i32_571
  let c255_i32_572 : BitVec 32 := 255#32
  let v1369 : BitVec 32 := Scalar.andi v1368 c255_i32_572
  v1369
def k0_mult152 (v93 : BitVec 32) : BitVec 32 :=
  let c12032_i32_42 : BitVec 32 := 12032#32
  let v94 : BitVec 32 := Scalar.minsi v93 c12032_i32_42
  let v95 : BitVec 32 := Scalar.subi v93 v94
  let v96 : BitVec 32 := v95
  let c144_i32_574 : BitVec 32 := 144#32
  let v1375 : BitVec 32 := Scalar.addi v96 c144_i32_574
  let c255_i32_575 : BitVec 32 := 255#32
  let v1376 : BitVec 32 := Scalar.andi v1375 c255_i32_575
  v1376
def k0_mult153 (v93 : BitVec 32) : BitVec 32 :=
  let c12032_i32_42 : BitVec 32 := 12032#32
  let v94 : BitVec 32 := Scalar.minsi v93 c12032_i32_42
  let v95 : BitVec 32 := Scalar.subi v93 v94
  let v96 : BitVec 32 := v95
  let c144_i32_577 : BitVec 32 := 144#32
  let v1382 : BitVec 32 := Scalar.addi v96 c144_i32_577
  let c255_i32_578 : BitVec 32 := 255#32
  let v1383 : BitVec 32 := Scalar.andi v1382 c255_i32_578
  v1383
def k0_mult154 (v93 : BitVec 32) : BitVec 32 :=
  let c12032_i32_42 : BitVec 32 := 12032#32
  let v94 : BitVec 32 := Scalar.minsi v93 c12032_i32_42
  let v95 : BitVec 32 := Scalar.subi v93 v94
  let v96 : BitVec 32 := v95
  let c160_i32_580 : BitVec 32 := 160#32
  let v1389 : BitVec 32 := Scalar.addi v96 c160_i32_580
  let c255_i32_581 : BitVec 32 := 255#32
  let v1390 : BitVec 32 := Scalar.andi v1389 c255_i32_581
  v1390
def k0_mult155 (v93 : BitVec 32) : BitVec 32 :=
  let c12032_i32_42 : BitVec 32 := 12032#32
  let v94 : BitVec 32 := Scalar.minsi v93 c12032_i32_42
  let v95 : BitVec 32 := Scalar.subi v93 v94
  let v96 : BitVec 32 := v95
  let c160_i32_583 : BitVec 32 := 160#32
  let v1396 : BitVec 32 := Scalar.addi v96 c160_i32_583
  let c255_i32_584 : BitVec 32 := 255#32
  let v1397 : BitVec 32 := Scalar.andi v1396 c255_i32_584
  v1397
def k0_mult156 (v93 : BitVec 32) : BitVec 32 :=
  let c12032_i32_42 : BitVec 32 := 12032#32
  let v94 : BitVec 32 := Scalar.minsi v93 c12032_i32_42
  let v95 : BitVec 32 := Scalar.subi v93 v94
  let v96 : BitVec 32 := v95
  let c176_i32_586 : BitVec 32 := 176#32
  let v1403 : BitVec 32 := Scalar.addi v96 c176_i32_586
  let c255_i32_587 : BitVec 32 := 255#32
  let v1404 : BitVec 32 := Scalar.andi v1403 c255_i32_587
  v1404
def k0_mult157 (v93 : BitVec 32) : BitVec 32 :=
  let c12032_i32_42 : BitVec 32 := 12032#32
  let v94 : BitVec 32 := Scalar.minsi v93 c12032_i32_42
  let v95 : BitVec 32 := Scalar.subi v93 v94
  let v96 : BitVec 32 := v95
  let c176_i32_589 : BitVec 32 := 176#32
  let v1410 : BitVec 32 := Scalar.addi v96 c176_i32_589
  let c255_i32_590 : BitVec 32 := 255#32
  let v1411 : BitVec 32 := Scalar.andi v1410 c255_i32_590
  v1411
def k0_mult158 (v93 : BitVec 32) : BitVec 32 :=
  let c12032_i32_42 : BitVec 32 := 12032#32
  let v94 : BitVec 32 := Scalar.minsi v93 c12032_i32_42
  let v95 : BitVec 32 := Scalar.subi v93 v94
  let v96 : BitVec 32 := v95
  let c192_i32_592 : BitVec 32 := 192#32
  let v1417 : BitVec 32 := Scalar.addi v96 c192_i32_592
  let c255_i32_593 : BitVec 32 := 255#32
  let v1418 : BitVec 32 := Scalar.andi v1417 c255_i32_593
  v1418
def k0_mult159 (v93 : BitVec 32) : BitVec 32 :=
  let c12032_i32_42 : BitVec 32 := 12032#32
  let v94 : BitVec 32 := Scalar.minsi v93 c12032_i32_42
  let v95 : BitVec 32 := Scalar.subi v93 v94
  let v96 : BitVec 32 := v95
  let c192_i32_595 : BitVec 32 := 192#32
  let v1424 : BitVec 32 := Scalar.addi v96 c192_i32_595
  let c255_i32_596 : BitVec 32 := 255#32
  let v1425 : BitVec 32 := Scalar.andi v1424 c255_i32_596
  v1425
def k0_mult160 (v93 : BitVec 32) : BitVec 32 :=
  let c12032_i32_42 : BitVec 32 := 12032#32
  let v94 : BitVec 32 := Scalar.minsi v93 c12032_i32_42
  let v95 : BitVec 32 := Scalar.subi v93 v94
  let v96 : BitVec 32 := v95
  let c208_i32_598 : BitVec 32 := 208#32
  let v1431 : BitVec 32 := Scalar.addi v96 c208_i32_598
  let c255_i32_599 : BitVec 32 := 255#32
  let v1432 : BitVec 32 := Scalar.andi v1431 c255_i32_599
  v1432
def k0_mult161 (v93 : BitVec 32) : BitVec 32 :=
  let c12032_i32_42 : BitVec 32 := 12032#32
  let v94 : BitVec 32 := Scalar.minsi v93 c12032_i32_42
  let v95 : BitVec 32 := Scalar.subi v93 v94
  let v96 : BitVec 32 := v95
  let c208_i32_601 : BitVec 32 := 208#32
  let v1438 : BitVec 32 := Scalar.addi v96 c208_i32_601
  let c255_i32_602 : BitVec 32 := 255#32
  let v1439 : BitVec 32 := Scalar.andi v1438 c255_i32_602
  v1439
def k0_mult162 (v93 : BitVec 32) : BitVec 32 :=
  let c12032_i32_42 : BitVec 32 := 12032#32
  let v94 : BitVec 32 := Scalar.minsi v93 c12032_i32_42
  let v95 : BitVec 32 := Scalar.subi v93 v94
  let v96 : BitVec 32 := v95
  let c224_i32_604 : BitVec 32 := 224#32
  let v1445 : BitVec 32 := Scalar.addi v96 c224_i32_604
  let c255_i32_605 : BitVec 32 := 255#32
  let v1446 : BitVec 32 := Scalar.andi v1445 c255_i32_605
  v1446
def k0_mult163 (v93 : BitVec 32) : BitVec 32 :=
  let c12032_i32_42 : BitVec 32 := 12032#32
  let v94 : BitVec 32 := Scalar.minsi v93 c12032_i32_42
  let v95 : BitVec 32 := Scalar.subi v93 v94
  let v96 : BitVec 32 := v95
  let c224_i32_607 : BitVec 32 := 224#32
  let v1452 : BitVec 32 := Scalar.addi v96 c224_i32_607
  let c255_i32_608 : BitVec 32 := 255#32
  let v1453 : BitVec 32 := Scalar.andi v1452 c255_i32_608
  v1453
def k0_mult164 (v93 : BitVec 32) : BitVec 32 :=
  let c12032_i32_42 : BitVec 32 := 12032#32
  let v94 : BitVec 32 := Scalar.minsi v93 c12032_i32_42
  let v95 : BitVec 32 := Scalar.subi v93 v94
  let v96 : BitVec 32 := v95
  let c240_i32_610 : BitVec 32 := 240#32
  let v1459 : BitVec 32 := Scalar.addi v96 c240_i32_610
  let c255_i32_611 : BitVec 32 := 255#32
  let v1460 : BitVec 32 := Scalar.andi v1459 c255_i32_611
  v1460
def k0_mult165 (v93 : BitVec 32) : BitVec 32 :=
  let c12032_i32_42 : BitVec 32 := 12032#32
  let v94 : BitVec 32 := Scalar.minsi v93 c12032_i32_42
  let v95 : BitVec 32 := Scalar.subi v93 v94
  let v96 : BitVec 32 := v95
  let c240_i32_613 : BitVec 32 := 240#32
  let v1466 : BitVec 32 := Scalar.addi v96 c240_i32_613
  let c255_i32_614 : BitVec 32 := 255#32
  let v1467 : BitVec 32 := Scalar.andi v1466 c255_i32_614
  v1467
def k0_mult166 (v93 : BitVec 32) : BitVec 32 :=
  let c12032_i32_42 : BitVec 32 := 12032#32
  let v94 : BitVec 32 := Scalar.minsi v93 c12032_i32_42
  let v95 : BitVec 32 := Scalar.subi v93 v94
  let v96 : BitVec 32 := v95
  let c0_i32_648 : BitVec 32 := 0#32
  let v1537 : BitVec 32 := Scalar.addi v96 c0_i32_648
  let c255_i32_649 : BitVec 32 := 255#32
  let v1538 : BitVec 32 := Scalar.andi v1537 c255_i32_649
  v1538
def k0_off36 (v1_0 : BitVec 32) (k0_t4 : Fin (k0_t4_loop v1_0).trips) (v93 : BitVec 32) (c0_i32_648 : BitVec 32) : Fin 3 → Nat :=
  let c0_i32_13 : BitVec 32 := 0#32
  let c1_i32_16 : BitVec 32 := 1#32
  let arg22 : BitVec 32 := Scf.iv c0_i32_13 c1_i32_16 k0_t4
  let c1_i32_32 : BitVec 32 := 1#32
  let v72 : BitVec 32 := Scalar.andi arg22 c1_i32_32
  let v1540 : Index := Scalar.indexCast v72
  let c12032_i32_42 : BitVec 32 := 12032#32
  let v94 : BitVec 32 := Scalar.minsi v93 c12032_i32_42
  let v95 : BitVec 32 := Scalar.subi v93 v94
  let v96 : BitVec 32 := v95
  let v1537 : BitVec 32 := Scalar.addi v96 c0_i32_648
  let c255_i32_649 : BitVec 32 := 255#32
  let v1538 : BitVec 32 := Scalar.andi v1537 c255_i32_649
  let v1539 : BitVec 32 := v1538
  let v1541 : Index := Scalar.indexCast v1539
  let c1280 : Index := 1280#32
  ![v1540.toNat, v1541.toNat, 1280]
def k0_mult167 (v93 : BitVec 32) : BitVec 32 :=
  let c12032_i32_42 : BitVec 32 := 12032#32
  let v94 : BitVec 32 := Scalar.minsi v93 c12032_i32_42
  let v95 : BitVec 32 := Scalar.subi v93 v94
  let v96 : BitVec 32 := v95
  let c0_i32_650 : BitVec 32 := 0#32
  let v1544 : BitVec 32 := Scalar.addi v96 c0_i32_650
  let c255_i32_651 : BitVec 32 := 255#32
  let v1545 : BitVec 32 := Scalar.andi v1544 c255_i32_651
  v1545
def k0_off37 (v1_0 : BitVec 32) (k0_t4 : Fin (k0_t4_loop v1_0).trips) (v93 : BitVec 32) (c0_i32_650 : BitVec 32) : Fin 3 → Nat :=
  let c0_i32_13 : BitVec 32 := 0#32
  let c1_i32_16 : BitVec 32 := 1#32
  let arg22 : BitVec 32 := Scf.iv c0_i32_13 c1_i32_16 k0_t4
  let c1_i32_32 : BitVec 32 := 1#32
  let v72 : BitVec 32 := Scalar.andi arg22 c1_i32_32
  let v1547 : Index := Scalar.indexCast v72
  let c12032_i32_42 : BitVec 32 := 12032#32
  let v94 : BitVec 32 := Scalar.minsi v93 c12032_i32_42
  let v95 : BitVec 32 := Scalar.subi v93 v94
  let v96 : BitVec 32 := v95
  let v1544 : BitVec 32 := Scalar.addi v96 c0_i32_650
  let c255_i32_651 : BitVec 32 := 255#32
  let v1545 : BitVec 32 := Scalar.andi v1544 c255_i32_651
  let v1546 : BitVec 32 := v1545
  let v1548 : Index := Scalar.indexCast v1546
  let c1408 : Index := 1408#32
  ![v1547.toNat, v1548.toNat, 1408]
def k0_mult168 (v93 : BitVec 32) : BitVec 32 :=
  let c12032_i32_42 : BitVec 32 := 12032#32
  let v94 : BitVec 32 := Scalar.minsi v93 c12032_i32_42
  let v95 : BitVec 32 := Scalar.subi v93 v94
  let v96 : BitVec 32 := v95
  let c16_i32_652 : BitVec 32 := 16#32
  let v1551 : BitVec 32 := Scalar.addi v96 c16_i32_652
  let c255_i32_653 : BitVec 32 := 255#32
  let v1552 : BitVec 32 := Scalar.andi v1551 c255_i32_653
  v1552
def k0_mult169 (v93 : BitVec 32) : BitVec 32 :=
  let c12032_i32_42 : BitVec 32 := 12032#32
  let v94 : BitVec 32 := Scalar.minsi v93 c12032_i32_42
  let v95 : BitVec 32 := Scalar.subi v93 v94
  let v96 : BitVec 32 := v95
  let c16_i32_655 : BitVec 32 := 16#32
  let v1558 : BitVec 32 := Scalar.addi v96 c16_i32_655
  let c255_i32_656 : BitVec 32 := 255#32
  let v1559 : BitVec 32 := Scalar.andi v1558 c255_i32_656
  v1559
def k0_mult170 (v93 : BitVec 32) : BitVec 32 :=
  let c12032_i32_42 : BitVec 32 := 12032#32
  let v94 : BitVec 32 := Scalar.minsi v93 c12032_i32_42
  let v95 : BitVec 32 := Scalar.subi v93 v94
  let v96 : BitVec 32 := v95
  let c32_i32_658 : BitVec 32 := 32#32
  let v1565 : BitVec 32 := Scalar.addi v96 c32_i32_658
  let c255_i32_659 : BitVec 32 := 255#32
  let v1566 : BitVec 32 := Scalar.andi v1565 c255_i32_659
  v1566
def k0_mult171 (v93 : BitVec 32) : BitVec 32 :=
  let c12032_i32_42 : BitVec 32 := 12032#32
  let v94 : BitVec 32 := Scalar.minsi v93 c12032_i32_42
  let v95 : BitVec 32 := Scalar.subi v93 v94
  let v96 : BitVec 32 := v95
  let c32_i32_661 : BitVec 32 := 32#32
  let v1572 : BitVec 32 := Scalar.addi v96 c32_i32_661
  let c255_i32_662 : BitVec 32 := 255#32
  let v1573 : BitVec 32 := Scalar.andi v1572 c255_i32_662
  v1573
def k0_mult172 (v93 : BitVec 32) : BitVec 32 :=
  let c12032_i32_42 : BitVec 32 := 12032#32
  let v94 : BitVec 32 := Scalar.minsi v93 c12032_i32_42
  let v95 : BitVec 32 := Scalar.subi v93 v94
  let v96 : BitVec 32 := v95
  let c48_i32_664 : BitVec 32 := 48#32
  let v1579 : BitVec 32 := Scalar.addi v96 c48_i32_664
  let c255_i32_665 : BitVec 32 := 255#32
  let v1580 : BitVec 32 := Scalar.andi v1579 c255_i32_665
  v1580
def k0_mult173 (v93 : BitVec 32) : BitVec 32 :=
  let c12032_i32_42 : BitVec 32 := 12032#32
  let v94 : BitVec 32 := Scalar.minsi v93 c12032_i32_42
  let v95 : BitVec 32 := Scalar.subi v93 v94
  let v96 : BitVec 32 := v95
  let c48_i32_667 : BitVec 32 := 48#32
  let v1586 : BitVec 32 := Scalar.addi v96 c48_i32_667
  let c255_i32_668 : BitVec 32 := 255#32
  let v1587 : BitVec 32 := Scalar.andi v1586 c255_i32_668
  v1587
def k0_mult174 (v93 : BitVec 32) : BitVec 32 :=
  let c12032_i32_42 : BitVec 32 := 12032#32
  let v94 : BitVec 32 := Scalar.minsi v93 c12032_i32_42
  let v95 : BitVec 32 := Scalar.subi v93 v94
  let v96 : BitVec 32 := v95
  let c64_i32_670 : BitVec 32 := 64#32
  let v1593 : BitVec 32 := Scalar.addi v96 c64_i32_670
  let c255_i32_671 : BitVec 32 := 255#32
  let v1594 : BitVec 32 := Scalar.andi v1593 c255_i32_671
  v1594
def k0_mult175 (v93 : BitVec 32) : BitVec 32 :=
  let c12032_i32_42 : BitVec 32 := 12032#32
  let v94 : BitVec 32 := Scalar.minsi v93 c12032_i32_42
  let v95 : BitVec 32 := Scalar.subi v93 v94
  let v96 : BitVec 32 := v95
  let c64_i32_673 : BitVec 32 := 64#32
  let v1600 : BitVec 32 := Scalar.addi v96 c64_i32_673
  let c255_i32_674 : BitVec 32 := 255#32
  let v1601 : BitVec 32 := Scalar.andi v1600 c255_i32_674
  v1601
def k0_mult176 (v93 : BitVec 32) : BitVec 32 :=
  let c12032_i32_42 : BitVec 32 := 12032#32
  let v94 : BitVec 32 := Scalar.minsi v93 c12032_i32_42
  let v95 : BitVec 32 := Scalar.subi v93 v94
  let v96 : BitVec 32 := v95
  let c80_i32_676 : BitVec 32 := 80#32
  let v1607 : BitVec 32 := Scalar.addi v96 c80_i32_676
  let c255_i32_677 : BitVec 32 := 255#32
  let v1608 : BitVec 32 := Scalar.andi v1607 c255_i32_677
  v1608
def k0_mult177 (v93 : BitVec 32) : BitVec 32 :=
  let c12032_i32_42 : BitVec 32 := 12032#32
  let v94 : BitVec 32 := Scalar.minsi v93 c12032_i32_42
  let v95 : BitVec 32 := Scalar.subi v93 v94
  let v96 : BitVec 32 := v95
  let c80_i32_679 : BitVec 32 := 80#32
  let v1614 : BitVec 32 := Scalar.addi v96 c80_i32_679
  let c255_i32_680 : BitVec 32 := 255#32
  let v1615 : BitVec 32 := Scalar.andi v1614 c255_i32_680
  v1615
def k0_mult178 (v93 : BitVec 32) : BitVec 32 :=
  let c12032_i32_42 : BitVec 32 := 12032#32
  let v94 : BitVec 32 := Scalar.minsi v93 c12032_i32_42
  let v95 : BitVec 32 := Scalar.subi v93 v94
  let v96 : BitVec 32 := v95
  let c96_i32_682 : BitVec 32 := 96#32
  let v1621 : BitVec 32 := Scalar.addi v96 c96_i32_682
  let c255_i32_683 : BitVec 32 := 255#32
  let v1622 : BitVec 32 := Scalar.andi v1621 c255_i32_683
  v1622
def k0_mult179 (v93 : BitVec 32) : BitVec 32 :=
  let c12032_i32_42 : BitVec 32 := 12032#32
  let v94 : BitVec 32 := Scalar.minsi v93 c12032_i32_42
  let v95 : BitVec 32 := Scalar.subi v93 v94
  let v96 : BitVec 32 := v95
  let c96_i32_685 : BitVec 32 := 96#32
  let v1628 : BitVec 32 := Scalar.addi v96 c96_i32_685
  let c255_i32_686 : BitVec 32 := 255#32
  let v1629 : BitVec 32 := Scalar.andi v1628 c255_i32_686
  v1629
def k0_mult180 (v93 : BitVec 32) : BitVec 32 :=
  let c12032_i32_42 : BitVec 32 := 12032#32
  let v94 : BitVec 32 := Scalar.minsi v93 c12032_i32_42
  let v95 : BitVec 32 := Scalar.subi v93 v94
  let v96 : BitVec 32 := v95
  let c112_i32_688 : BitVec 32 := 112#32
  let v1635 : BitVec 32 := Scalar.addi v96 c112_i32_688
  let c255_i32_689 : BitVec 32 := 255#32
  let v1636 : BitVec 32 := Scalar.andi v1635 c255_i32_689
  v1636
def k0_mult181 (v93 : BitVec 32) : BitVec 32 :=
  let c12032_i32_42 : BitVec 32 := 12032#32
  let v94 : BitVec 32 := Scalar.minsi v93 c12032_i32_42
  let v95 : BitVec 32 := Scalar.subi v93 v94
  let v96 : BitVec 32 := v95
  let c112_i32_691 : BitVec 32 := 112#32
  let v1642 : BitVec 32 := Scalar.addi v96 c112_i32_691
  let c255_i32_692 : BitVec 32 := 255#32
  let v1643 : BitVec 32 := Scalar.andi v1642 c255_i32_692
  v1643
def k0_mult182 (v93 : BitVec 32) : BitVec 32 :=
  let c12032_i32_42 : BitVec 32 := 12032#32
  let v94 : BitVec 32 := Scalar.minsi v93 c12032_i32_42
  let v95 : BitVec 32 := Scalar.subi v93 v94
  let v96 : BitVec 32 := v95
  let c128_i32_694 : BitVec 32 := 128#32
  let v1649 : BitVec 32 := Scalar.addi v96 c128_i32_694
  let c255_i32_695 : BitVec 32 := 255#32
  let v1650 : BitVec 32 := Scalar.andi v1649 c255_i32_695
  v1650
def k0_mult183 (v93 : BitVec 32) : BitVec 32 :=
  let c12032_i32_42 : BitVec 32 := 12032#32
  let v94 : BitVec 32 := Scalar.minsi v93 c12032_i32_42
  let v95 : BitVec 32 := Scalar.subi v93 v94
  let v96 : BitVec 32 := v95
  let c128_i32_697 : BitVec 32 := 128#32
  let v1656 : BitVec 32 := Scalar.addi v96 c128_i32_697
  let c255_i32_698 : BitVec 32 := 255#32
  let v1657 : BitVec 32 := Scalar.andi v1656 c255_i32_698
  v1657
def k0_mult184 (v93 : BitVec 32) : BitVec 32 :=
  let c12032_i32_42 : BitVec 32 := 12032#32
  let v94 : BitVec 32 := Scalar.minsi v93 c12032_i32_42
  let v95 : BitVec 32 := Scalar.subi v93 v94
  let v96 : BitVec 32 := v95
  let c144_i32_700 : BitVec 32 := 144#32
  let v1663 : BitVec 32 := Scalar.addi v96 c144_i32_700
  let c255_i32_701 : BitVec 32 := 255#32
  let v1664 : BitVec 32 := Scalar.andi v1663 c255_i32_701
  v1664
def k0_mult185 (v93 : BitVec 32) : BitVec 32 :=
  let c12032_i32_42 : BitVec 32 := 12032#32
  let v94 : BitVec 32 := Scalar.minsi v93 c12032_i32_42
  let v95 : BitVec 32 := Scalar.subi v93 v94
  let v96 : BitVec 32 := v95
  let c144_i32_703 : BitVec 32 := 144#32
  let v1670 : BitVec 32 := Scalar.addi v96 c144_i32_703
  let c255_i32_704 : BitVec 32 := 255#32
  let v1671 : BitVec 32 := Scalar.andi v1670 c255_i32_704
  v1671
def k0_mult186 (v93 : BitVec 32) : BitVec 32 :=
  let c12032_i32_42 : BitVec 32 := 12032#32
  let v94 : BitVec 32 := Scalar.minsi v93 c12032_i32_42
  let v95 : BitVec 32 := Scalar.subi v93 v94
  let v96 : BitVec 32 := v95
  let c160_i32_706 : BitVec 32 := 160#32
  let v1677 : BitVec 32 := Scalar.addi v96 c160_i32_706
  let c255_i32_707 : BitVec 32 := 255#32
  let v1678 : BitVec 32 := Scalar.andi v1677 c255_i32_707
  v1678
def k0_mult187 (v93 : BitVec 32) : BitVec 32 :=
  let c12032_i32_42 : BitVec 32 := 12032#32
  let v94 : BitVec 32 := Scalar.minsi v93 c12032_i32_42
  let v95 : BitVec 32 := Scalar.subi v93 v94
  let v96 : BitVec 32 := v95
  let c160_i32_709 : BitVec 32 := 160#32
  let v1684 : BitVec 32 := Scalar.addi v96 c160_i32_709
  let c255_i32_710 : BitVec 32 := 255#32
  let v1685 : BitVec 32 := Scalar.andi v1684 c255_i32_710
  v1685
def k0_mult188 (v93 : BitVec 32) : BitVec 32 :=
  let c12032_i32_42 : BitVec 32 := 12032#32
  let v94 : BitVec 32 := Scalar.minsi v93 c12032_i32_42
  let v95 : BitVec 32 := Scalar.subi v93 v94
  let v96 : BitVec 32 := v95
  let c176_i32_712 : BitVec 32 := 176#32
  let v1691 : BitVec 32 := Scalar.addi v96 c176_i32_712
  let c255_i32_713 : BitVec 32 := 255#32
  let v1692 : BitVec 32 := Scalar.andi v1691 c255_i32_713
  v1692
def k0_mult189 (v93 : BitVec 32) : BitVec 32 :=
  let c12032_i32_42 : BitVec 32 := 12032#32
  let v94 : BitVec 32 := Scalar.minsi v93 c12032_i32_42
  let v95 : BitVec 32 := Scalar.subi v93 v94
  let v96 : BitVec 32 := v95
  let c176_i32_715 : BitVec 32 := 176#32
  let v1698 : BitVec 32 := Scalar.addi v96 c176_i32_715
  let c255_i32_716 : BitVec 32 := 255#32
  let v1699 : BitVec 32 := Scalar.andi v1698 c255_i32_716
  v1699
def k0_mult190 (v93 : BitVec 32) : BitVec 32 :=
  let c12032_i32_42 : BitVec 32 := 12032#32
  let v94 : BitVec 32 := Scalar.minsi v93 c12032_i32_42
  let v95 : BitVec 32 := Scalar.subi v93 v94
  let v96 : BitVec 32 := v95
  let c192_i32_718 : BitVec 32 := 192#32
  let v1705 : BitVec 32 := Scalar.addi v96 c192_i32_718
  let c255_i32_719 : BitVec 32 := 255#32
  let v1706 : BitVec 32 := Scalar.andi v1705 c255_i32_719
  v1706
def k0_mult191 (v93 : BitVec 32) : BitVec 32 :=
  let c12032_i32_42 : BitVec 32 := 12032#32
  let v94 : BitVec 32 := Scalar.minsi v93 c12032_i32_42
  let v95 : BitVec 32 := Scalar.subi v93 v94
  let v96 : BitVec 32 := v95
  let c192_i32_721 : BitVec 32 := 192#32
  let v1712 : BitVec 32 := Scalar.addi v96 c192_i32_721
  let c255_i32_722 : BitVec 32 := 255#32
  let v1713 : BitVec 32 := Scalar.andi v1712 c255_i32_722
  v1713
def k0_mult192 (v93 : BitVec 32) : BitVec 32 :=
  let c12032_i32_42 : BitVec 32 := 12032#32
  let v94 : BitVec 32 := Scalar.minsi v93 c12032_i32_42
  let v95 : BitVec 32 := Scalar.subi v93 v94
  let v96 : BitVec 32 := v95
  let c208_i32_724 : BitVec 32 := 208#32
  let v1719 : BitVec 32 := Scalar.addi v96 c208_i32_724
  let c255_i32_725 : BitVec 32 := 255#32
  let v1720 : BitVec 32 := Scalar.andi v1719 c255_i32_725
  v1720
def k0_mult193 (v93 : BitVec 32) : BitVec 32 :=
  let c12032_i32_42 : BitVec 32 := 12032#32
  let v94 : BitVec 32 := Scalar.minsi v93 c12032_i32_42
  let v95 : BitVec 32 := Scalar.subi v93 v94
  let v96 : BitVec 32 := v95
  let c208_i32_727 : BitVec 32 := 208#32
  let v1726 : BitVec 32 := Scalar.addi v96 c208_i32_727
  let c255_i32_728 : BitVec 32 := 255#32
  let v1727 : BitVec 32 := Scalar.andi v1726 c255_i32_728
  v1727
def k0_mult194 (v93 : BitVec 32) : BitVec 32 :=
  let c12032_i32_42 : BitVec 32 := 12032#32
  let v94 : BitVec 32 := Scalar.minsi v93 c12032_i32_42
  let v95 : BitVec 32 := Scalar.subi v93 v94
  let v96 : BitVec 32 := v95
  let c224_i32_730 : BitVec 32 := 224#32
  let v1733 : BitVec 32 := Scalar.addi v96 c224_i32_730
  let c255_i32_731 : BitVec 32 := 255#32
  let v1734 : BitVec 32 := Scalar.andi v1733 c255_i32_731
  v1734
def k0_mult195 (v93 : BitVec 32) : BitVec 32 :=
  let c12032_i32_42 : BitVec 32 := 12032#32
  let v94 : BitVec 32 := Scalar.minsi v93 c12032_i32_42
  let v95 : BitVec 32 := Scalar.subi v93 v94
  let v96 : BitVec 32 := v95
  let c224_i32_733 : BitVec 32 := 224#32
  let v1740 : BitVec 32 := Scalar.addi v96 c224_i32_733
  let c255_i32_734 : BitVec 32 := 255#32
  let v1741 : BitVec 32 := Scalar.andi v1740 c255_i32_734
  v1741
def k0_mult196 (v93 : BitVec 32) : BitVec 32 :=
  let c12032_i32_42 : BitVec 32 := 12032#32
  let v94 : BitVec 32 := Scalar.minsi v93 c12032_i32_42
  let v95 : BitVec 32 := Scalar.subi v93 v94
  let v96 : BitVec 32 := v95
  let c240_i32_736 : BitVec 32 := 240#32
  let v1747 : BitVec 32 := Scalar.addi v96 c240_i32_736
  let c255_i32_737 : BitVec 32 := 255#32
  let v1748 : BitVec 32 := Scalar.andi v1747 c255_i32_737
  v1748
def k0_mult197 (v93 : BitVec 32) : BitVec 32 :=
  let c12032_i32_42 : BitVec 32 := 12032#32
  let v94 : BitVec 32 := Scalar.minsi v93 c12032_i32_42
  let v95 : BitVec 32 := Scalar.subi v93 v94
  let v96 : BitVec 32 := v95
  let c240_i32_739 : BitVec 32 := 240#32
  let v1754 : BitVec 32 := Scalar.addi v96 c240_i32_739
  let c255_i32_740 : BitVec 32 := 255#32
  let v1755 : BitVec 32 := Scalar.andi v1754 c255_i32_740
  v1755
def k0_mult198 (v93 : BitVec 32) : BitVec 32 :=
  let c12032_i32_42 : BitVec 32 := 12032#32
  let v94 : BitVec 32 := Scalar.minsi v93 c12032_i32_42
  let v95 : BitVec 32 := Scalar.subi v93 v94
  let v96 : BitVec 32 := v95
  let c0_i32_774 : BitVec 32 := 0#32
  let v1825 : BitVec 32 := Scalar.addi v96 c0_i32_774
  let c255_i32_775 : BitVec 32 := 255#32
  let v1826 : BitVec 32 := Scalar.andi v1825 c255_i32_775
  v1826
def k0_off38 (v1_0 : BitVec 32) (k0_t4 : Fin (k0_t4_loop v1_0).trips) (v93 : BitVec 32) (c0_i32_774 : BitVec 32) : Fin 3 → Nat :=
  let c0_i32_13 : BitVec 32 := 0#32
  let c1_i32_16 : BitVec 32 := 1#32
  let arg22 : BitVec 32 := Scf.iv c0_i32_13 c1_i32_16 k0_t4
  let c1_i32_32 : BitVec 32 := 1#32
  let v72 : BitVec 32 := Scalar.andi arg22 c1_i32_32
  let v1828 : Index := Scalar.indexCast v72
  let c12032_i32_42 : BitVec 32 := 12032#32
  let v94 : BitVec 32 := Scalar.minsi v93 c12032_i32_42
  let v95 : BitVec 32 := Scalar.subi v93 v94
  let v96 : BitVec 32 := v95
  let v1825 : BitVec 32 := Scalar.addi v96 c0_i32_774
  let c255_i32_775 : BitVec 32 := 255#32
  let v1826 : BitVec 32 := Scalar.andi v1825 c255_i32_775
  let v1827 : BitVec 32 := v1826
  let v1829 : Index := Scalar.indexCast v1827
  let c1536 : Index := 1536#32
  ![v1828.toNat, v1829.toNat, 1536]
def k0_mult199 (v93 : BitVec 32) : BitVec 32 :=
  let c12032_i32_42 : BitVec 32 := 12032#32
  let v94 : BitVec 32 := Scalar.minsi v93 c12032_i32_42
  let v95 : BitVec 32 := Scalar.subi v93 v94
  let v96 : BitVec 32 := v95
  let c0_i32_776 : BitVec 32 := 0#32
  let v1832 : BitVec 32 := Scalar.addi v96 c0_i32_776
  let c255_i32_777 : BitVec 32 := 255#32
  let v1833 : BitVec 32 := Scalar.andi v1832 c255_i32_777
  v1833
def k0_off39 (v1_0 : BitVec 32) (k0_t4 : Fin (k0_t4_loop v1_0).trips) (v93 : BitVec 32) (c0_i32_776 : BitVec 32) : Fin 3 → Nat :=
  let c0_i32_13 : BitVec 32 := 0#32
  let c1_i32_16 : BitVec 32 := 1#32
  let arg22 : BitVec 32 := Scf.iv c0_i32_13 c1_i32_16 k0_t4
  let c1_i32_32 : BitVec 32 := 1#32
  let v72 : BitVec 32 := Scalar.andi arg22 c1_i32_32
  let v1835 : Index := Scalar.indexCast v72
  let c12032_i32_42 : BitVec 32 := 12032#32
  let v94 : BitVec 32 := Scalar.minsi v93 c12032_i32_42
  let v95 : BitVec 32 := Scalar.subi v93 v94
  let v96 : BitVec 32 := v95
  let v1832 : BitVec 32 := Scalar.addi v96 c0_i32_776
  let c255_i32_777 : BitVec 32 := 255#32
  let v1833 : BitVec 32 := Scalar.andi v1832 c255_i32_777
  let v1834 : BitVec 32 := v1833
  let v1836 : Index := Scalar.indexCast v1834
  let c1664 : Index := 1664#32
  ![v1835.toNat, v1836.toNat, 1664]
def k0_mult200 (v93 : BitVec 32) : BitVec 32 :=
  let c12032_i32_42 : BitVec 32 := 12032#32
  let v94 : BitVec 32 := Scalar.minsi v93 c12032_i32_42
  let v95 : BitVec 32 := Scalar.subi v93 v94
  let v96 : BitVec 32 := v95
  let c16_i32_778 : BitVec 32 := 16#32
  let v1839 : BitVec 32 := Scalar.addi v96 c16_i32_778
  let c255_i32_779 : BitVec 32 := 255#32
  let v1840 : BitVec 32 := Scalar.andi v1839 c255_i32_779
  v1840
def k0_mult201 (v93 : BitVec 32) : BitVec 32 :=
  let c12032_i32_42 : BitVec 32 := 12032#32
  let v94 : BitVec 32 := Scalar.minsi v93 c12032_i32_42
  let v95 : BitVec 32 := Scalar.subi v93 v94
  let v96 : BitVec 32 := v95
  let c16_i32_781 : BitVec 32 := 16#32
  let v1846 : BitVec 32 := Scalar.addi v96 c16_i32_781
  let c255_i32_782 : BitVec 32 := 255#32
  let v1847 : BitVec 32 := Scalar.andi v1846 c255_i32_782
  v1847
def k0_mult202 (v93 : BitVec 32) : BitVec 32 :=
  let c12032_i32_42 : BitVec 32 := 12032#32
  let v94 : BitVec 32 := Scalar.minsi v93 c12032_i32_42
  let v95 : BitVec 32 := Scalar.subi v93 v94
  let v96 : BitVec 32 := v95
  let c32_i32_784 : BitVec 32 := 32#32
  let v1853 : BitVec 32 := Scalar.addi v96 c32_i32_784
  let c255_i32_785 : BitVec 32 := 255#32
  let v1854 : BitVec 32 := Scalar.andi v1853 c255_i32_785
  v1854
def k0_mult203 (v93 : BitVec 32) : BitVec 32 :=
  let c12032_i32_42 : BitVec 32 := 12032#32
  let v94 : BitVec 32 := Scalar.minsi v93 c12032_i32_42
  let v95 : BitVec 32 := Scalar.subi v93 v94
  let v96 : BitVec 32 := v95
  let c32_i32_787 : BitVec 32 := 32#32
  let v1860 : BitVec 32 := Scalar.addi v96 c32_i32_787
  let c255_i32_788 : BitVec 32 := 255#32
  let v1861 : BitVec 32 := Scalar.andi v1860 c255_i32_788
  v1861
def k0_mult204 (v93 : BitVec 32) : BitVec 32 :=
  let c12032_i32_42 : BitVec 32 := 12032#32
  let v94 : BitVec 32 := Scalar.minsi v93 c12032_i32_42
  let v95 : BitVec 32 := Scalar.subi v93 v94
  let v96 : BitVec 32 := v95
  let c48_i32_790 : BitVec 32 := 48#32
  let v1867 : BitVec 32 := Scalar.addi v96 c48_i32_790
  let c255_i32_791 : BitVec 32 := 255#32
  let v1868 : BitVec 32 := Scalar.andi v1867 c255_i32_791
  v1868
def k0_mult205 (v93 : BitVec 32) : BitVec 32 :=
  let c12032_i32_42 : BitVec 32 := 12032#32
  let v94 : BitVec 32 := Scalar.minsi v93 c12032_i32_42
  let v95 : BitVec 32 := Scalar.subi v93 v94
  let v96 : BitVec 32 := v95
  let c48_i32_793 : BitVec 32 := 48#32
  let v1874 : BitVec 32 := Scalar.addi v96 c48_i32_793
  let c255_i32_794 : BitVec 32 := 255#32
  let v1875 : BitVec 32 := Scalar.andi v1874 c255_i32_794
  v1875
def k0_mult206 (v93 : BitVec 32) : BitVec 32 :=
  let c12032_i32_42 : BitVec 32 := 12032#32
  let v94 : BitVec 32 := Scalar.minsi v93 c12032_i32_42
  let v95 : BitVec 32 := Scalar.subi v93 v94
  let v96 : BitVec 32 := v95
  let c64_i32_796 : BitVec 32 := 64#32
  let v1881 : BitVec 32 := Scalar.addi v96 c64_i32_796
  let c255_i32_797 : BitVec 32 := 255#32
  let v1882 : BitVec 32 := Scalar.andi v1881 c255_i32_797
  v1882
def k0_mult207 (v93 : BitVec 32) : BitVec 32 :=
  let c12032_i32_42 : BitVec 32 := 12032#32
  let v94 : BitVec 32 := Scalar.minsi v93 c12032_i32_42
  let v95 : BitVec 32 := Scalar.subi v93 v94
  let v96 : BitVec 32 := v95
  let c64_i32_799 : BitVec 32 := 64#32
  let v1888 : BitVec 32 := Scalar.addi v96 c64_i32_799
  let c255_i32_800 : BitVec 32 := 255#32
  let v1889 : BitVec 32 := Scalar.andi v1888 c255_i32_800
  v1889
def k0_mult208 (v93 : BitVec 32) : BitVec 32 :=
  let c12032_i32_42 : BitVec 32 := 12032#32
  let v94 : BitVec 32 := Scalar.minsi v93 c12032_i32_42
  let v95 : BitVec 32 := Scalar.subi v93 v94
  let v96 : BitVec 32 := v95
  let c80_i32_802 : BitVec 32 := 80#32
  let v1895 : BitVec 32 := Scalar.addi v96 c80_i32_802
  let c255_i32_803 : BitVec 32 := 255#32
  let v1896 : BitVec 32 := Scalar.andi v1895 c255_i32_803
  v1896
def k0_mult209 (v93 : BitVec 32) : BitVec 32 :=
  let c12032_i32_42 : BitVec 32 := 12032#32
  let v94 : BitVec 32 := Scalar.minsi v93 c12032_i32_42
  let v95 : BitVec 32 := Scalar.subi v93 v94
  let v96 : BitVec 32 := v95
  let c80_i32_805 : BitVec 32 := 80#32
  let v1902 : BitVec 32 := Scalar.addi v96 c80_i32_805
  let c255_i32_806 : BitVec 32 := 255#32
  let v1903 : BitVec 32 := Scalar.andi v1902 c255_i32_806
  v1903
def k0_mult210 (v93 : BitVec 32) : BitVec 32 :=
  let c12032_i32_42 : BitVec 32 := 12032#32
  let v94 : BitVec 32 := Scalar.minsi v93 c12032_i32_42
  let v95 : BitVec 32 := Scalar.subi v93 v94
  let v96 : BitVec 32 := v95
  let c96_i32_808 : BitVec 32 := 96#32
  let v1909 : BitVec 32 := Scalar.addi v96 c96_i32_808
  let c255_i32_809 : BitVec 32 := 255#32
  let v1910 : BitVec 32 := Scalar.andi v1909 c255_i32_809
  v1910
def k0_mult211 (v93 : BitVec 32) : BitVec 32 :=
  let c12032_i32_42 : BitVec 32 := 12032#32
  let v94 : BitVec 32 := Scalar.minsi v93 c12032_i32_42
  let v95 : BitVec 32 := Scalar.subi v93 v94
  let v96 : BitVec 32 := v95
  let c96_i32_811 : BitVec 32 := 96#32
  let v1916 : BitVec 32 := Scalar.addi v96 c96_i32_811
  let c255_i32_812 : BitVec 32 := 255#32
  let v1917 : BitVec 32 := Scalar.andi v1916 c255_i32_812
  v1917
def k0_mult212 (v93 : BitVec 32) : BitVec 32 :=
  let c12032_i32_42 : BitVec 32 := 12032#32
  let v94 : BitVec 32 := Scalar.minsi v93 c12032_i32_42
  let v95 : BitVec 32 := Scalar.subi v93 v94
  let v96 : BitVec 32 := v95
  let c112_i32_814 : BitVec 32 := 112#32
  let v1923 : BitVec 32 := Scalar.addi v96 c112_i32_814
  let c255_i32_815 : BitVec 32 := 255#32
  let v1924 : BitVec 32 := Scalar.andi v1923 c255_i32_815
  v1924
def k0_mult213 (v93 : BitVec 32) : BitVec 32 :=
  let c12032_i32_42 : BitVec 32 := 12032#32
  let v94 : BitVec 32 := Scalar.minsi v93 c12032_i32_42
  let v95 : BitVec 32 := Scalar.subi v93 v94
  let v96 : BitVec 32 := v95
  let c112_i32_817 : BitVec 32 := 112#32
  let v1930 : BitVec 32 := Scalar.addi v96 c112_i32_817
  let c255_i32_818 : BitVec 32 := 255#32
  let v1931 : BitVec 32 := Scalar.andi v1930 c255_i32_818
  v1931
def k0_mult214 (v93 : BitVec 32) : BitVec 32 :=
  let c12032_i32_42 : BitVec 32 := 12032#32
  let v94 : BitVec 32 := Scalar.minsi v93 c12032_i32_42
  let v95 : BitVec 32 := Scalar.subi v93 v94
  let v96 : BitVec 32 := v95
  let c128_i32_820 : BitVec 32 := 128#32
  let v1937 : BitVec 32 := Scalar.addi v96 c128_i32_820
  let c255_i32_821 : BitVec 32 := 255#32
  let v1938 : BitVec 32 := Scalar.andi v1937 c255_i32_821
  v1938
def k0_mult215 (v93 : BitVec 32) : BitVec 32 :=
  let c12032_i32_42 : BitVec 32 := 12032#32
  let v94 : BitVec 32 := Scalar.minsi v93 c12032_i32_42
  let v95 : BitVec 32 := Scalar.subi v93 v94
  let v96 : BitVec 32 := v95
  let c128_i32_823 : BitVec 32 := 128#32
  let v1944 : BitVec 32 := Scalar.addi v96 c128_i32_823
  let c255_i32_824 : BitVec 32 := 255#32
  let v1945 : BitVec 32 := Scalar.andi v1944 c255_i32_824
  v1945
def k0_mult216 (v93 : BitVec 32) : BitVec 32 :=
  let c12032_i32_42 : BitVec 32 := 12032#32
  let v94 : BitVec 32 := Scalar.minsi v93 c12032_i32_42
  let v95 : BitVec 32 := Scalar.subi v93 v94
  let v96 : BitVec 32 := v95
  let c144_i32_826 : BitVec 32 := 144#32
  let v1951 : BitVec 32 := Scalar.addi v96 c144_i32_826
  let c255_i32_827 : BitVec 32 := 255#32
  let v1952 : BitVec 32 := Scalar.andi v1951 c255_i32_827
  v1952
def k0_mult217 (v93 : BitVec 32) : BitVec 32 :=
  let c12032_i32_42 : BitVec 32 := 12032#32
  let v94 : BitVec 32 := Scalar.minsi v93 c12032_i32_42
  let v95 : BitVec 32 := Scalar.subi v93 v94
  let v96 : BitVec 32 := v95
  let c144_i32_829 : BitVec 32 := 144#32
  let v1958 : BitVec 32 := Scalar.addi v96 c144_i32_829
  let c255_i32_830 : BitVec 32 := 255#32
  let v1959 : BitVec 32 := Scalar.andi v1958 c255_i32_830
  v1959
def k0_mult218 (v93 : BitVec 32) : BitVec 32 :=
  let c12032_i32_42 : BitVec 32 := 12032#32
  let v94 : BitVec 32 := Scalar.minsi v93 c12032_i32_42
  let v95 : BitVec 32 := Scalar.subi v93 v94
  let v96 : BitVec 32 := v95
  let c160_i32_832 : BitVec 32 := 160#32
  let v1965 : BitVec 32 := Scalar.addi v96 c160_i32_832
  let c255_i32_833 : BitVec 32 := 255#32
  let v1966 : BitVec 32 := Scalar.andi v1965 c255_i32_833
  v1966
def k0_mult219 (v93 : BitVec 32) : BitVec 32 :=
  let c12032_i32_42 : BitVec 32 := 12032#32
  let v94 : BitVec 32 := Scalar.minsi v93 c12032_i32_42
  let v95 : BitVec 32 := Scalar.subi v93 v94
  let v96 : BitVec 32 := v95
  let c160_i32_835 : BitVec 32 := 160#32
  let v1972 : BitVec 32 := Scalar.addi v96 c160_i32_835
  let c255_i32_836 : BitVec 32 := 255#32
  let v1973 : BitVec 32 := Scalar.andi v1972 c255_i32_836
  v1973
def k0_mult220 (v93 : BitVec 32) : BitVec 32 :=
  let c12032_i32_42 : BitVec 32 := 12032#32
  let v94 : BitVec 32 := Scalar.minsi v93 c12032_i32_42
  let v95 : BitVec 32 := Scalar.subi v93 v94
  let v96 : BitVec 32 := v95
  let c176_i32_838 : BitVec 32 := 176#32
  let v1979 : BitVec 32 := Scalar.addi v96 c176_i32_838
  let c255_i32_839 : BitVec 32 := 255#32
  let v1980 : BitVec 32 := Scalar.andi v1979 c255_i32_839
  v1980
def k0_mult221 (v93 : BitVec 32) : BitVec 32 :=
  let c12032_i32_42 : BitVec 32 := 12032#32
  let v94 : BitVec 32 := Scalar.minsi v93 c12032_i32_42
  let v95 : BitVec 32 := Scalar.subi v93 v94
  let v96 : BitVec 32 := v95
  let c176_i32_841 : BitVec 32 := 176#32
  let v1986 : BitVec 32 := Scalar.addi v96 c176_i32_841
  let c255_i32_842 : BitVec 32 := 255#32
  let v1987 : BitVec 32 := Scalar.andi v1986 c255_i32_842
  v1987
def k0_mult222 (v93 : BitVec 32) : BitVec 32 :=
  let c12032_i32_42 : BitVec 32 := 12032#32
  let v94 : BitVec 32 := Scalar.minsi v93 c12032_i32_42
  let v95 : BitVec 32 := Scalar.subi v93 v94
  let v96 : BitVec 32 := v95
  let c192_i32_844 : BitVec 32 := 192#32
  let v1993 : BitVec 32 := Scalar.addi v96 c192_i32_844
  let c255_i32_845 : BitVec 32 := 255#32
  let v1994 : BitVec 32 := Scalar.andi v1993 c255_i32_845
  v1994
def k0_mult223 (v93 : BitVec 32) : BitVec 32 :=
  let c12032_i32_42 : BitVec 32 := 12032#32
  let v94 : BitVec 32 := Scalar.minsi v93 c12032_i32_42
  let v95 : BitVec 32 := Scalar.subi v93 v94
  let v96 : BitVec 32 := v95
  let c192_i32_847 : BitVec 32 := 192#32
  let v2000 : BitVec 32 := Scalar.addi v96 c192_i32_847
  let c255_i32_848 : BitVec 32 := 255#32
  let v2001 : BitVec 32 := Scalar.andi v2000 c255_i32_848
  v2001
def k0_mult224 (v93 : BitVec 32) : BitVec 32 :=
  let c12032_i32_42 : BitVec 32 := 12032#32
  let v94 : BitVec 32 := Scalar.minsi v93 c12032_i32_42
  let v95 : BitVec 32 := Scalar.subi v93 v94
  let v96 : BitVec 32 := v95
  let c208_i32_850 : BitVec 32 := 208#32
  let v2007 : BitVec 32 := Scalar.addi v96 c208_i32_850
  let c255_i32_851 : BitVec 32 := 255#32
  let v2008 : BitVec 32 := Scalar.andi v2007 c255_i32_851
  v2008
def k0_mult225 (v93 : BitVec 32) : BitVec 32 :=
  let c12032_i32_42 : BitVec 32 := 12032#32
  let v94 : BitVec 32 := Scalar.minsi v93 c12032_i32_42
  let v95 : BitVec 32 := Scalar.subi v93 v94
  let v96 : BitVec 32 := v95
  let c208_i32_853 : BitVec 32 := 208#32
  let v2014 : BitVec 32 := Scalar.addi v96 c208_i32_853
  let c255_i32_854 : BitVec 32 := 255#32
  let v2015 : BitVec 32 := Scalar.andi v2014 c255_i32_854
  v2015
def k0_mult226 (v93 : BitVec 32) : BitVec 32 :=
  let c12032_i32_42 : BitVec 32 := 12032#32
  let v94 : BitVec 32 := Scalar.minsi v93 c12032_i32_42
  let v95 : BitVec 32 := Scalar.subi v93 v94
  let v96 : BitVec 32 := v95
  let c224_i32_856 : BitVec 32 := 224#32
  let v2021 : BitVec 32 := Scalar.addi v96 c224_i32_856
  let c255_i32_857 : BitVec 32 := 255#32
  let v2022 : BitVec 32 := Scalar.andi v2021 c255_i32_857
  v2022
def k0_mult227 (v93 : BitVec 32) : BitVec 32 :=
  let c12032_i32_42 : BitVec 32 := 12032#32
  let v94 : BitVec 32 := Scalar.minsi v93 c12032_i32_42
  let v95 : BitVec 32 := Scalar.subi v93 v94
  let v96 : BitVec 32 := v95
  let c224_i32_859 : BitVec 32 := 224#32
  let v2028 : BitVec 32 := Scalar.addi v96 c224_i32_859
  let c255_i32_860 : BitVec 32 := 255#32
  let v2029 : BitVec 32 := Scalar.andi v2028 c255_i32_860
  v2029
def k0_mult228 (v93 : BitVec 32) : BitVec 32 :=
  let c12032_i32_42 : BitVec 32 := 12032#32
  let v94 : BitVec 32 := Scalar.minsi v93 c12032_i32_42
  let v95 : BitVec 32 := Scalar.subi v93 v94
  let v96 : BitVec 32 := v95
  let c240_i32_862 : BitVec 32 := 240#32
  let v2035 : BitVec 32 := Scalar.addi v96 c240_i32_862
  let c255_i32_863 : BitVec 32 := 255#32
  let v2036 : BitVec 32 := Scalar.andi v2035 c255_i32_863
  v2036
def k0_mult229 (v93 : BitVec 32) : BitVec 32 :=
  let c12032_i32_42 : BitVec 32 := 12032#32
  let v94 : BitVec 32 := Scalar.minsi v93 c12032_i32_42
  let v95 : BitVec 32 := Scalar.subi v93 v94
  let v96 : BitVec 32 := v95
  let c240_i32_865 : BitVec 32 := 240#32
  let v2042 : BitVec 32 := Scalar.addi v96 c240_i32_865
  let c255_i32_866 : BitVec 32 := 255#32
  let v2043 : BitVec 32 := Scalar.andi v2042 c255_i32_866
  v2043
def k0_mult230 (v93 : BitVec 32) : BitVec 32 :=
  let c12032_i32_42 : BitVec 32 := 12032#32
  let v94 : BitVec 32 := Scalar.minsi v93 c12032_i32_42
  let v95 : BitVec 32 := Scalar.subi v93 v94
  let v96 : BitVec 32 := v95
  let c0_i32_900 : BitVec 32 := 0#32
  let v2113 : BitVec 32 := Scalar.addi v96 c0_i32_900
  let c255_i32_901 : BitVec 32 := 255#32
  let v2114 : BitVec 32 := Scalar.andi v2113 c255_i32_901
  v2114
def k0_off40 (v1_0 : BitVec 32) (k0_t4 : Fin (k0_t4_loop v1_0).trips) (v93 : BitVec 32) (c0_i32_900 : BitVec 32) : Fin 3 → Nat :=
  let c0_i32_13 : BitVec 32 := 0#32
  let c1_i32_16 : BitVec 32 := 1#32
  let arg22 : BitVec 32 := Scf.iv c0_i32_13 c1_i32_16 k0_t4
  let c1_i32_32 : BitVec 32 := 1#32
  let v72 : BitVec 32 := Scalar.andi arg22 c1_i32_32
  let v2116 : Index := Scalar.indexCast v72
  let c12032_i32_42 : BitVec 32 := 12032#32
  let v94 : BitVec 32 := Scalar.minsi v93 c12032_i32_42
  let v95 : BitVec 32 := Scalar.subi v93 v94
  let v96 : BitVec 32 := v95
  let v2113 : BitVec 32 := Scalar.addi v96 c0_i32_900
  let c255_i32_901 : BitVec 32 := 255#32
  let v2114 : BitVec 32 := Scalar.andi v2113 c255_i32_901
  let v2115 : BitVec 32 := v2114
  let v2117 : Index := Scalar.indexCast v2115
  let c1792 : Index := 1792#32
  ![v2116.toNat, v2117.toNat, 1792]
def k0_mult231 (v93 : BitVec 32) : BitVec 32 :=
  let c12032_i32_42 : BitVec 32 := 12032#32
  let v94 : BitVec 32 := Scalar.minsi v93 c12032_i32_42
  let v95 : BitVec 32 := Scalar.subi v93 v94
  let v96 : BitVec 32 := v95
  let c0_i32_902 : BitVec 32 := 0#32
  let v2120 : BitVec 32 := Scalar.addi v96 c0_i32_902
  let c255_i32_903 : BitVec 32 := 255#32
  let v2121 : BitVec 32 := Scalar.andi v2120 c255_i32_903
  v2121
def k0_off41 (v1_0 : BitVec 32) (k0_t4 : Fin (k0_t4_loop v1_0).trips) (v93 : BitVec 32) (c0_i32_902 : BitVec 32) : Fin 3 → Nat :=
  let c0_i32_13 : BitVec 32 := 0#32
  let c1_i32_16 : BitVec 32 := 1#32
  let arg22 : BitVec 32 := Scf.iv c0_i32_13 c1_i32_16 k0_t4
  let c1_i32_32 : BitVec 32 := 1#32
  let v72 : BitVec 32 := Scalar.andi arg22 c1_i32_32
  let v2123 : Index := Scalar.indexCast v72
  let c12032_i32_42 : BitVec 32 := 12032#32
  let v94 : BitVec 32 := Scalar.minsi v93 c12032_i32_42
  let v95 : BitVec 32 := Scalar.subi v93 v94
  let v96 : BitVec 32 := v95
  let v2120 : BitVec 32 := Scalar.addi v96 c0_i32_902
  let c255_i32_903 : BitVec 32 := 255#32
  let v2121 : BitVec 32 := Scalar.andi v2120 c255_i32_903
  let v2122 : BitVec 32 := v2121
  let v2124 : Index := Scalar.indexCast v2122
  let c1920 : Index := 1920#32
  ![v2123.toNat, v2124.toNat, 1920]
def k0_mult232 (v93 : BitVec 32) : BitVec 32 :=
  let c12032_i32_42 : BitVec 32 := 12032#32
  let v94 : BitVec 32 := Scalar.minsi v93 c12032_i32_42
  let v95 : BitVec 32 := Scalar.subi v93 v94
  let v96 : BitVec 32 := v95
  let c16_i32_904 : BitVec 32 := 16#32
  let v2127 : BitVec 32 := Scalar.addi v96 c16_i32_904
  let c255_i32_905 : BitVec 32 := 255#32
  let v2128 : BitVec 32 := Scalar.andi v2127 c255_i32_905
  v2128
def k0_mult233 (v93 : BitVec 32) : BitVec 32 :=
  let c12032_i32_42 : BitVec 32 := 12032#32
  let v94 : BitVec 32 := Scalar.minsi v93 c12032_i32_42
  let v95 : BitVec 32 := Scalar.subi v93 v94
  let v96 : BitVec 32 := v95
  let c16_i32_907 : BitVec 32 := 16#32
  let v2134 : BitVec 32 := Scalar.addi v96 c16_i32_907
  let c255_i32_908 : BitVec 32 := 255#32
  let v2135 : BitVec 32 := Scalar.andi v2134 c255_i32_908
  v2135
def k0_mult234 (v93 : BitVec 32) : BitVec 32 :=
  let c12032_i32_42 : BitVec 32 := 12032#32
  let v94 : BitVec 32 := Scalar.minsi v93 c12032_i32_42
  let v95 : BitVec 32 := Scalar.subi v93 v94
  let v96 : BitVec 32 := v95
  let c32_i32_910 : BitVec 32 := 32#32
  let v2141 : BitVec 32 := Scalar.addi v96 c32_i32_910
  let c255_i32_911 : BitVec 32 := 255#32
  let v2142 : BitVec 32 := Scalar.andi v2141 c255_i32_911
  v2142
def k0_mult235 (v93 : BitVec 32) : BitVec 32 :=
  let c12032_i32_42 : BitVec 32 := 12032#32
  let v94 : BitVec 32 := Scalar.minsi v93 c12032_i32_42
  let v95 : BitVec 32 := Scalar.subi v93 v94
  let v96 : BitVec 32 := v95
  let c32_i32_913 : BitVec 32 := 32#32
  let v2148 : BitVec 32 := Scalar.addi v96 c32_i32_913
  let c255_i32_914 : BitVec 32 := 255#32
  let v2149 : BitVec 32 := Scalar.andi v2148 c255_i32_914
  v2149
def k0_mult236 (v93 : BitVec 32) : BitVec 32 :=
  let c12032_i32_42 : BitVec 32 := 12032#32
  let v94 : BitVec 32 := Scalar.minsi v93 c12032_i32_42
  let v95 : BitVec 32 := Scalar.subi v93 v94
  let v96 : BitVec 32 := v95
  let c48_i32_916 : BitVec 32 := 48#32
  let v2155 : BitVec 32 := Scalar.addi v96 c48_i32_916
  let c255_i32_917 : BitVec 32 := 255#32
  let v2156 : BitVec 32 := Scalar.andi v2155 c255_i32_917
  v2156
def k0_mult237 (v93 : BitVec 32) : BitVec 32 :=
  let c12032_i32_42 : BitVec 32 := 12032#32
  let v94 : BitVec 32 := Scalar.minsi v93 c12032_i32_42
  let v95 : BitVec 32 := Scalar.subi v93 v94
  let v96 : BitVec 32 := v95
  let c48_i32_919 : BitVec 32 := 48#32
  let v2162 : BitVec 32 := Scalar.addi v96 c48_i32_919
  let c255_i32_920 : BitVec 32 := 255#32
  let v2163 : BitVec 32 := Scalar.andi v2162 c255_i32_920
  v2163
def k0_mult238 (v93 : BitVec 32) : BitVec 32 :=
  let c12032_i32_42 : BitVec 32 := 12032#32
  let v94 : BitVec 32 := Scalar.minsi v93 c12032_i32_42
  let v95 : BitVec 32 := Scalar.subi v93 v94
  let v96 : BitVec 32 := v95
  let c64_i32_922 : BitVec 32 := 64#32
  let v2169 : BitVec 32 := Scalar.addi v96 c64_i32_922
  let c255_i32_923 : BitVec 32 := 255#32
  let v2170 : BitVec 32 := Scalar.andi v2169 c255_i32_923
  v2170
def k0_mult239 (v93 : BitVec 32) : BitVec 32 :=
  let c12032_i32_42 : BitVec 32 := 12032#32
  let v94 : BitVec 32 := Scalar.minsi v93 c12032_i32_42
  let v95 : BitVec 32 := Scalar.subi v93 v94
  let v96 : BitVec 32 := v95
  let c64_i32_925 : BitVec 32 := 64#32
  let v2176 : BitVec 32 := Scalar.addi v96 c64_i32_925
  let c255_i32_926 : BitVec 32 := 255#32
  let v2177 : BitVec 32 := Scalar.andi v2176 c255_i32_926
  v2177
def k0_mult240 (v93 : BitVec 32) : BitVec 32 :=
  let c12032_i32_42 : BitVec 32 := 12032#32
  let v94 : BitVec 32 := Scalar.minsi v93 c12032_i32_42
  let v95 : BitVec 32 := Scalar.subi v93 v94
  let v96 : BitVec 32 := v95
  let c80_i32_928 : BitVec 32 := 80#32
  let v2183 : BitVec 32 := Scalar.addi v96 c80_i32_928
  let c255_i32_929 : BitVec 32 := 255#32
  let v2184 : BitVec 32 := Scalar.andi v2183 c255_i32_929
  v2184
def k0_mult241 (v93 : BitVec 32) : BitVec 32 :=
  let c12032_i32_42 : BitVec 32 := 12032#32
  let v94 : BitVec 32 := Scalar.minsi v93 c12032_i32_42
  let v95 : BitVec 32 := Scalar.subi v93 v94
  let v96 : BitVec 32 := v95
  let c80_i32_931 : BitVec 32 := 80#32
  let v2190 : BitVec 32 := Scalar.addi v96 c80_i32_931
  let c255_i32_932 : BitVec 32 := 255#32
  let v2191 : BitVec 32 := Scalar.andi v2190 c255_i32_932
  v2191
def k0_mult242 (v93 : BitVec 32) : BitVec 32 :=
  let c12032_i32_42 : BitVec 32 := 12032#32
  let v94 : BitVec 32 := Scalar.minsi v93 c12032_i32_42
  let v95 : BitVec 32 := Scalar.subi v93 v94
  let v96 : BitVec 32 := v95
  let c96_i32_934 : BitVec 32 := 96#32
  let v2197 : BitVec 32 := Scalar.addi v96 c96_i32_934
  let c255_i32_935 : BitVec 32 := 255#32
  let v2198 : BitVec 32 := Scalar.andi v2197 c255_i32_935
  v2198
def k0_mult243 (v93 : BitVec 32) : BitVec 32 :=
  let c12032_i32_42 : BitVec 32 := 12032#32
  let v94 : BitVec 32 := Scalar.minsi v93 c12032_i32_42
  let v95 : BitVec 32 := Scalar.subi v93 v94
  let v96 : BitVec 32 := v95
  let c96_i32_937 : BitVec 32 := 96#32
  let v2204 : BitVec 32 := Scalar.addi v96 c96_i32_937
  let c255_i32_938 : BitVec 32 := 255#32
  let v2205 : BitVec 32 := Scalar.andi v2204 c255_i32_938
  v2205
def k0_mult244 (v93 : BitVec 32) : BitVec 32 :=
  let c12032_i32_42 : BitVec 32 := 12032#32
  let v94 : BitVec 32 := Scalar.minsi v93 c12032_i32_42
  let v95 : BitVec 32 := Scalar.subi v93 v94
  let v96 : BitVec 32 := v95
  let c112_i32_940 : BitVec 32 := 112#32
  let v2211 : BitVec 32 := Scalar.addi v96 c112_i32_940
  let c255_i32_941 : BitVec 32 := 255#32
  let v2212 : BitVec 32 := Scalar.andi v2211 c255_i32_941
  v2212
def k0_mult245 (v93 : BitVec 32) : BitVec 32 :=
  let c12032_i32_42 : BitVec 32 := 12032#32
  let v94 : BitVec 32 := Scalar.minsi v93 c12032_i32_42
  let v95 : BitVec 32 := Scalar.subi v93 v94
  let v96 : BitVec 32 := v95
  let c112_i32_943 : BitVec 32 := 112#32
  let v2218 : BitVec 32 := Scalar.addi v96 c112_i32_943
  let c255_i32_944 : BitVec 32 := 255#32
  let v2219 : BitVec 32 := Scalar.andi v2218 c255_i32_944
  v2219
def k0_mult246 (v93 : BitVec 32) : BitVec 32 :=
  let c12032_i32_42 : BitVec 32 := 12032#32
  let v94 : BitVec 32 := Scalar.minsi v93 c12032_i32_42
  let v95 : BitVec 32 := Scalar.subi v93 v94
  let v96 : BitVec 32 := v95
  let c128_i32_946 : BitVec 32 := 128#32
  let v2225 : BitVec 32 := Scalar.addi v96 c128_i32_946
  let c255_i32_947 : BitVec 32 := 255#32
  let v2226 : BitVec 32 := Scalar.andi v2225 c255_i32_947
  v2226
def k0_mult247 (v93 : BitVec 32) : BitVec 32 :=
  let c12032_i32_42 : BitVec 32 := 12032#32
  let v94 : BitVec 32 := Scalar.minsi v93 c12032_i32_42
  let v95 : BitVec 32 := Scalar.subi v93 v94
  let v96 : BitVec 32 := v95
  let c128_i32_949 : BitVec 32 := 128#32
  let v2232 : BitVec 32 := Scalar.addi v96 c128_i32_949
  let c255_i32_950 : BitVec 32 := 255#32
  let v2233 : BitVec 32 := Scalar.andi v2232 c255_i32_950
  v2233
def k0_mult248 (v93 : BitVec 32) : BitVec 32 :=
  let c12032_i32_42 : BitVec 32 := 12032#32
  let v94 : BitVec 32 := Scalar.minsi v93 c12032_i32_42
  let v95 : BitVec 32 := Scalar.subi v93 v94
  let v96 : BitVec 32 := v95
  let c144_i32_952 : BitVec 32 := 144#32
  let v2239 : BitVec 32 := Scalar.addi v96 c144_i32_952
  let c255_i32_953 : BitVec 32 := 255#32
  let v2240 : BitVec 32 := Scalar.andi v2239 c255_i32_953
  v2240
def k0_mult249 (v93 : BitVec 32) : BitVec 32 :=
  let c12032_i32_42 : BitVec 32 := 12032#32
  let v94 : BitVec 32 := Scalar.minsi v93 c12032_i32_42
  let v95 : BitVec 32 := Scalar.subi v93 v94
  let v96 : BitVec 32 := v95
  let c144_i32_955 : BitVec 32 := 144#32
  let v2246 : BitVec 32 := Scalar.addi v96 c144_i32_955
  let c255_i32_956 : BitVec 32 := 255#32
  let v2247 : BitVec 32 := Scalar.andi v2246 c255_i32_956
  v2247
def k0_mult250 (v93 : BitVec 32) : BitVec 32 :=
  let c12032_i32_42 : BitVec 32 := 12032#32
  let v94 : BitVec 32 := Scalar.minsi v93 c12032_i32_42
  let v95 : BitVec 32 := Scalar.subi v93 v94
  let v96 : BitVec 32 := v95
  let c160_i32_958 : BitVec 32 := 160#32
  let v2253 : BitVec 32 := Scalar.addi v96 c160_i32_958
  let c255_i32_959 : BitVec 32 := 255#32
  let v2254 : BitVec 32 := Scalar.andi v2253 c255_i32_959
  v2254
def k0_mult251 (v93 : BitVec 32) : BitVec 32 :=
  let c12032_i32_42 : BitVec 32 := 12032#32
  let v94 : BitVec 32 := Scalar.minsi v93 c12032_i32_42
  let v95 : BitVec 32 := Scalar.subi v93 v94
  let v96 : BitVec 32 := v95
  let c160_i32_961 : BitVec 32 := 160#32
  let v2260 : BitVec 32 := Scalar.addi v96 c160_i32_961
  let c255_i32_962 : BitVec 32 := 255#32
  let v2261 : BitVec 32 := Scalar.andi v2260 c255_i32_962
  v2261
def k0_mult252 (v93 : BitVec 32) : BitVec 32 :=
  let c12032_i32_42 : BitVec 32 := 12032#32
  let v94 : BitVec 32 := Scalar.minsi v93 c12032_i32_42
  let v95 : BitVec 32 := Scalar.subi v93 v94
  let v96 : BitVec 32 := v95
  let c176_i32_964 : BitVec 32 := 176#32
  let v2267 : BitVec 32 := Scalar.addi v96 c176_i32_964
  let c255_i32_965 : BitVec 32 := 255#32
  let v2268 : BitVec 32 := Scalar.andi v2267 c255_i32_965
  v2268
def k0_mult253 (v93 : BitVec 32) : BitVec 32 :=
  let c12032_i32_42 : BitVec 32 := 12032#32
  let v94 : BitVec 32 := Scalar.minsi v93 c12032_i32_42
  let v95 : BitVec 32 := Scalar.subi v93 v94
  let v96 : BitVec 32 := v95
  let c176_i32_967 : BitVec 32 := 176#32
  let v2274 : BitVec 32 := Scalar.addi v96 c176_i32_967
  let c255_i32_968 : BitVec 32 := 255#32
  let v2275 : BitVec 32 := Scalar.andi v2274 c255_i32_968
  v2275
def k0_mult254 (v93 : BitVec 32) : BitVec 32 :=
  let c12032_i32_42 : BitVec 32 := 12032#32
  let v94 : BitVec 32 := Scalar.minsi v93 c12032_i32_42
  let v95 : BitVec 32 := Scalar.subi v93 v94
  let v96 : BitVec 32 := v95
  let c192_i32_970 : BitVec 32 := 192#32
  let v2281 : BitVec 32 := Scalar.addi v96 c192_i32_970
  let c255_i32_971 : BitVec 32 := 255#32
  let v2282 : BitVec 32 := Scalar.andi v2281 c255_i32_971
  v2282
def k0_mult255 (v93 : BitVec 32) : BitVec 32 :=
  let c12032_i32_42 : BitVec 32 := 12032#32
  let v94 : BitVec 32 := Scalar.minsi v93 c12032_i32_42
  let v95 : BitVec 32 := Scalar.subi v93 v94
  let v96 : BitVec 32 := v95
  let c192_i32_973 : BitVec 32 := 192#32
  let v2288 : BitVec 32 := Scalar.addi v96 c192_i32_973
  let c255_i32_974 : BitVec 32 := 255#32
  let v2289 : BitVec 32 := Scalar.andi v2288 c255_i32_974
  v2289
def k0_mult256 (v93 : BitVec 32) : BitVec 32 :=
  let c12032_i32_42 : BitVec 32 := 12032#32
  let v94 : BitVec 32 := Scalar.minsi v93 c12032_i32_42
  let v95 : BitVec 32 := Scalar.subi v93 v94
  let v96 : BitVec 32 := v95
  let c208_i32_976 : BitVec 32 := 208#32
  let v2295 : BitVec 32 := Scalar.addi v96 c208_i32_976
  let c255_i32_977 : BitVec 32 := 255#32
  let v2296 : BitVec 32 := Scalar.andi v2295 c255_i32_977
  v2296
def k0_mult257 (v93 : BitVec 32) : BitVec 32 :=
  let c12032_i32_42 : BitVec 32 := 12032#32
  let v94 : BitVec 32 := Scalar.minsi v93 c12032_i32_42
  let v95 : BitVec 32 := Scalar.subi v93 v94
  let v96 : BitVec 32 := v95
  let c208_i32_979 : BitVec 32 := 208#32
  let v2302 : BitVec 32 := Scalar.addi v96 c208_i32_979
  let c255_i32_980 : BitVec 32 := 255#32
  let v2303 : BitVec 32 := Scalar.andi v2302 c255_i32_980
  v2303
def k0_mult258 (v93 : BitVec 32) : BitVec 32 :=
  let c12032_i32_42 : BitVec 32 := 12032#32
  let v94 : BitVec 32 := Scalar.minsi v93 c12032_i32_42
  let v95 : BitVec 32 := Scalar.subi v93 v94
  let v96 : BitVec 32 := v95
  let c224_i32_982 : BitVec 32 := 224#32
  let v2309 : BitVec 32 := Scalar.addi v96 c224_i32_982
  let c255_i32_983 : BitVec 32 := 255#32
  let v2310 : BitVec 32 := Scalar.andi v2309 c255_i32_983
  v2310
def k0_mult259 (v93 : BitVec 32) : BitVec 32 :=
  let c12032_i32_42 : BitVec 32 := 12032#32
  let v94 : BitVec 32 := Scalar.minsi v93 c12032_i32_42
  let v95 : BitVec 32 := Scalar.subi v93 v94
  let v96 : BitVec 32 := v95
  let c224_i32_985 : BitVec 32 := 224#32
  let v2316 : BitVec 32 := Scalar.addi v96 c224_i32_985
  let c255_i32_986 : BitVec 32 := 255#32
  let v2317 : BitVec 32 := Scalar.andi v2316 c255_i32_986
  v2317
def k0_mult260 (v93 : BitVec 32) : BitVec 32 :=
  let c12032_i32_42 : BitVec 32 := 12032#32
  let v94 : BitVec 32 := Scalar.minsi v93 c12032_i32_42
  let v95 : BitVec 32 := Scalar.subi v93 v94
  let v96 : BitVec 32 := v95
  let c240_i32_988 : BitVec 32 := 240#32
  let v2323 : BitVec 32 := Scalar.addi v96 c240_i32_988
  let c255_i32_989 : BitVec 32 := 255#32
  let v2324 : BitVec 32 := Scalar.andi v2323 c255_i32_989
  v2324
def k0_mult261 (v93 : BitVec 32) : BitVec 32 :=
  let c12032_i32_42 : BitVec 32 := 12032#32
  let v94 : BitVec 32 := Scalar.minsi v93 c12032_i32_42
  let v95 : BitVec 32 := Scalar.subi v93 v94
  let v96 : BitVec 32 := v95
  let c240_i32_991 : BitVec 32 := 240#32
  let v2330 : BitVec 32 := Scalar.addi v96 c240_i32_991
  let c255_i32_992 : BitVec 32 := 255#32
  let v2331 : BitVec 32 := Scalar.andi v2330 c255_i32_992
  v2331
def k0_mult262 (v93 : BitVec 32) : BitVec 32 :=
  let c12032_i32_42 : BitVec 32 := 12032#32
  let v94 : BitVec 32 := Scalar.minsi v93 c12032_i32_42
  let v95 : BitVec 32 := Scalar.subi v93 v94
  let v96 : BitVec 32 := v95
  let c0_i32_1026 : BitVec 32 := 0#32
  let v2401 : BitVec 32 := Scalar.addi v96 c0_i32_1026
  let c255_i32_1027 : BitVec 32 := 255#32
  let v2402 : BitVec 32 := Scalar.andi v2401 c255_i32_1027
  v2402
def k0_off42 (v1_0 : BitVec 32) (k0_t4 : Fin (k0_t4_loop v1_0).trips) (v93 : BitVec 32) (c0_i32_1026 : BitVec 32) : Fin 3 → Nat :=
  let c0_i32_13 : BitVec 32 := 0#32
  let c1_i32_16 : BitVec 32 := 1#32
  let arg22 : BitVec 32 := Scf.iv c0_i32_13 c1_i32_16 k0_t4
  let c1_i32_32 : BitVec 32 := 1#32
  let v72 : BitVec 32 := Scalar.andi arg22 c1_i32_32
  let v2404 : Index := Scalar.indexCast v72
  let c12032_i32_42 : BitVec 32 := 12032#32
  let v94 : BitVec 32 := Scalar.minsi v93 c12032_i32_42
  let v95 : BitVec 32 := Scalar.subi v93 v94
  let v96 : BitVec 32 := v95
  let v2401 : BitVec 32 := Scalar.addi v96 c0_i32_1026
  let c255_i32_1027 : BitVec 32 := 255#32
  let v2402 : BitVec 32 := Scalar.andi v2401 c255_i32_1027
  let v2403 : BitVec 32 := v2402
  let v2405 : Index := Scalar.indexCast v2403
  let c2048 : Index := 2048#32
  ![v2404.toNat, v2405.toNat, 2048]
def k0_mult263 (v93 : BitVec 32) : BitVec 32 :=
  let c12032_i32_42 : BitVec 32 := 12032#32
  let v94 : BitVec 32 := Scalar.minsi v93 c12032_i32_42
  let v95 : BitVec 32 := Scalar.subi v93 v94
  let v96 : BitVec 32 := v95
  let c0_i32_1028 : BitVec 32 := 0#32
  let v2408 : BitVec 32 := Scalar.addi v96 c0_i32_1028
  let c255_i32_1029 : BitVec 32 := 255#32
  let v2409 : BitVec 32 := Scalar.andi v2408 c255_i32_1029
  v2409
def k0_off43 (v1_0 : BitVec 32) (k0_t4 : Fin (k0_t4_loop v1_0).trips) (v93 : BitVec 32) (c0_i32_1028 : BitVec 32) : Fin 3 → Nat :=
  let c0_i32_13 : BitVec 32 := 0#32
  let c1_i32_16 : BitVec 32 := 1#32
  let arg22 : BitVec 32 := Scf.iv c0_i32_13 c1_i32_16 k0_t4
  let c1_i32_32 : BitVec 32 := 1#32
  let v72 : BitVec 32 := Scalar.andi arg22 c1_i32_32
  let v2411 : Index := Scalar.indexCast v72
  let c12032_i32_42 : BitVec 32 := 12032#32
  let v94 : BitVec 32 := Scalar.minsi v93 c12032_i32_42
  let v95 : BitVec 32 := Scalar.subi v93 v94
  let v96 : BitVec 32 := v95
  let v2408 : BitVec 32 := Scalar.addi v96 c0_i32_1028
  let c255_i32_1029 : BitVec 32 := 255#32
  let v2409 : BitVec 32 := Scalar.andi v2408 c255_i32_1029
  let v2410 : BitVec 32 := v2409
  let v2412 : Index := Scalar.indexCast v2410
  let c2176 : Index := 2176#32
  ![v2411.toNat, v2412.toNat, 2176]
def k0_mult264 (v93 : BitVec 32) : BitVec 32 :=
  let c12032_i32_42 : BitVec 32 := 12032#32
  let v94 : BitVec 32 := Scalar.minsi v93 c12032_i32_42
  let v95 : BitVec 32 := Scalar.subi v93 v94
  let v96 : BitVec 32 := v95
  let c16_i32_1030 : BitVec 32 := 16#32
  let v2415 : BitVec 32 := Scalar.addi v96 c16_i32_1030
  let c255_i32_1031 : BitVec 32 := 255#32
  let v2416 : BitVec 32 := Scalar.andi v2415 c255_i32_1031
  v2416
def k0_mult265 (v93 : BitVec 32) : BitVec 32 :=
  let c12032_i32_42 : BitVec 32 := 12032#32
  let v94 : BitVec 32 := Scalar.minsi v93 c12032_i32_42
  let v95 : BitVec 32 := Scalar.subi v93 v94
  let v96 : BitVec 32 := v95
  let c16_i32_1033 : BitVec 32 := 16#32
  let v2422 : BitVec 32 := Scalar.addi v96 c16_i32_1033
  let c255_i32_1034 : BitVec 32 := 255#32
  let v2423 : BitVec 32 := Scalar.andi v2422 c255_i32_1034
  v2423
def k0_mult266 (v93 : BitVec 32) : BitVec 32 :=
  let c12032_i32_42 : BitVec 32 := 12032#32
  let v94 : BitVec 32 := Scalar.minsi v93 c12032_i32_42
  let v95 : BitVec 32 := Scalar.subi v93 v94
  let v96 : BitVec 32 := v95
  let c32_i32_1036 : BitVec 32 := 32#32
  let v2429 : BitVec 32 := Scalar.addi v96 c32_i32_1036
  let c255_i32_1037 : BitVec 32 := 255#32
  let v2430 : BitVec 32 := Scalar.andi v2429 c255_i32_1037
  v2430
def k0_mult267 (v93 : BitVec 32) : BitVec 32 :=
  let c12032_i32_42 : BitVec 32 := 12032#32
  let v94 : BitVec 32 := Scalar.minsi v93 c12032_i32_42
  let v95 : BitVec 32 := Scalar.subi v93 v94
  let v96 : BitVec 32 := v95
  let c32_i32_1039 : BitVec 32 := 32#32
  let v2436 : BitVec 32 := Scalar.addi v96 c32_i32_1039
  let c255_i32_1040 : BitVec 32 := 255#32
  let v2437 : BitVec 32 := Scalar.andi v2436 c255_i32_1040
  v2437
def k0_mult268 (v93 : BitVec 32) : BitVec 32 :=
  let c12032_i32_42 : BitVec 32 := 12032#32
  let v94 : BitVec 32 := Scalar.minsi v93 c12032_i32_42
  let v95 : BitVec 32 := Scalar.subi v93 v94
  let v96 : BitVec 32 := v95
  let c48_i32_1042 : BitVec 32 := 48#32
  let v2443 : BitVec 32 := Scalar.addi v96 c48_i32_1042
  let c255_i32_1043 : BitVec 32 := 255#32
  let v2444 : BitVec 32 := Scalar.andi v2443 c255_i32_1043
  v2444
def k0_mult269 (v93 : BitVec 32) : BitVec 32 :=
  let c12032_i32_42 : BitVec 32 := 12032#32
  let v94 : BitVec 32 := Scalar.minsi v93 c12032_i32_42
  let v95 : BitVec 32 := Scalar.subi v93 v94
  let v96 : BitVec 32 := v95
  let c48_i32_1045 : BitVec 32 := 48#32
  let v2450 : BitVec 32 := Scalar.addi v96 c48_i32_1045
  let c255_i32_1046 : BitVec 32 := 255#32
  let v2451 : BitVec 32 := Scalar.andi v2450 c255_i32_1046
  v2451
def k0_mult270 (v93 : BitVec 32) : BitVec 32 :=
  let c12032_i32_42 : BitVec 32 := 12032#32
  let v94 : BitVec 32 := Scalar.minsi v93 c12032_i32_42
  let v95 : BitVec 32 := Scalar.subi v93 v94
  let v96 : BitVec 32 := v95
  let c64_i32_1048 : BitVec 32 := 64#32
  let v2457 : BitVec 32 := Scalar.addi v96 c64_i32_1048
  let c255_i32_1049 : BitVec 32 := 255#32
  let v2458 : BitVec 32 := Scalar.andi v2457 c255_i32_1049
  v2458
def k0_mult271 (v93 : BitVec 32) : BitVec 32 :=
  let c12032_i32_42 : BitVec 32 := 12032#32
  let v94 : BitVec 32 := Scalar.minsi v93 c12032_i32_42
  let v95 : BitVec 32 := Scalar.subi v93 v94
  let v96 : BitVec 32 := v95
  let c64_i32_1051 : BitVec 32 := 64#32
  let v2464 : BitVec 32 := Scalar.addi v96 c64_i32_1051
  let c255_i32_1052 : BitVec 32 := 255#32
  let v2465 : BitVec 32 := Scalar.andi v2464 c255_i32_1052
  v2465
def k0_mult272 (v93 : BitVec 32) : BitVec 32 :=
  let c12032_i32_42 : BitVec 32 := 12032#32
  let v94 : BitVec 32 := Scalar.minsi v93 c12032_i32_42
  let v95 : BitVec 32 := Scalar.subi v93 v94
  let v96 : BitVec 32 := v95
  let c80_i32_1054 : BitVec 32 := 80#32
  let v2471 : BitVec 32 := Scalar.addi v96 c80_i32_1054
  let c255_i32_1055 : BitVec 32 := 255#32
  let v2472 : BitVec 32 := Scalar.andi v2471 c255_i32_1055
  v2472
def k0_mult273 (v93 : BitVec 32) : BitVec 32 :=
  let c12032_i32_42 : BitVec 32 := 12032#32
  let v94 : BitVec 32 := Scalar.minsi v93 c12032_i32_42
  let v95 : BitVec 32 := Scalar.subi v93 v94
  let v96 : BitVec 32 := v95
  let c80_i32_1057 : BitVec 32 := 80#32
  let v2478 : BitVec 32 := Scalar.addi v96 c80_i32_1057
  let c255_i32_1058 : BitVec 32 := 255#32
  let v2479 : BitVec 32 := Scalar.andi v2478 c255_i32_1058
  v2479
def k0_mult274 (v93 : BitVec 32) : BitVec 32 :=
  let c12032_i32_42 : BitVec 32 := 12032#32
  let v94 : BitVec 32 := Scalar.minsi v93 c12032_i32_42
  let v95 : BitVec 32 := Scalar.subi v93 v94
  let v96 : BitVec 32 := v95
  let c96_i32_1060 : BitVec 32 := 96#32
  let v2485 : BitVec 32 := Scalar.addi v96 c96_i32_1060
  let c255_i32_1061 : BitVec 32 := 255#32
  let v2486 : BitVec 32 := Scalar.andi v2485 c255_i32_1061
  v2486
def k0_mult275 (v93 : BitVec 32) : BitVec 32 :=
  let c12032_i32_42 : BitVec 32 := 12032#32
  let v94 : BitVec 32 := Scalar.minsi v93 c12032_i32_42
  let v95 : BitVec 32 := Scalar.subi v93 v94
  let v96 : BitVec 32 := v95
  let c96_i32_1063 : BitVec 32 := 96#32
  let v2492 : BitVec 32 := Scalar.addi v96 c96_i32_1063
  let c255_i32_1064 : BitVec 32 := 255#32
  let v2493 : BitVec 32 := Scalar.andi v2492 c255_i32_1064
  v2493
def k0_mult276 (v93 : BitVec 32) : BitVec 32 :=
  let c12032_i32_42 : BitVec 32 := 12032#32
  let v94 : BitVec 32 := Scalar.minsi v93 c12032_i32_42
  let v95 : BitVec 32 := Scalar.subi v93 v94
  let v96 : BitVec 32 := v95
  let c112_i32_1066 : BitVec 32 := 112#32
  let v2499 : BitVec 32 := Scalar.addi v96 c112_i32_1066
  let c255_i32_1067 : BitVec 32 := 255#32
  let v2500 : BitVec 32 := Scalar.andi v2499 c255_i32_1067
  v2500
def k0_mult277 (v93 : BitVec 32) : BitVec 32 :=
  let c12032_i32_42 : BitVec 32 := 12032#32
  let v94 : BitVec 32 := Scalar.minsi v93 c12032_i32_42
  let v95 : BitVec 32 := Scalar.subi v93 v94
  let v96 : BitVec 32 := v95
  let c112_i32_1069 : BitVec 32 := 112#32
  let v2506 : BitVec 32 := Scalar.addi v96 c112_i32_1069
  let c255_i32_1070 : BitVec 32 := 255#32
  let v2507 : BitVec 32 := Scalar.andi v2506 c255_i32_1070
  v2507
def k0_mult278 (v93 : BitVec 32) : BitVec 32 :=
  let c12032_i32_42 : BitVec 32 := 12032#32
  let v94 : BitVec 32 := Scalar.minsi v93 c12032_i32_42
  let v95 : BitVec 32 := Scalar.subi v93 v94
  let v96 : BitVec 32 := v95
  let c128_i32_1072 : BitVec 32 := 128#32
  let v2513 : BitVec 32 := Scalar.addi v96 c128_i32_1072
  let c255_i32_1073 : BitVec 32 := 255#32
  let v2514 : BitVec 32 := Scalar.andi v2513 c255_i32_1073
  v2514
def k0_mult279 (v93 : BitVec 32) : BitVec 32 :=
  let c12032_i32_42 : BitVec 32 := 12032#32
  let v94 : BitVec 32 := Scalar.minsi v93 c12032_i32_42
  let v95 : BitVec 32 := Scalar.subi v93 v94
  let v96 : BitVec 32 := v95
  let c128_i32_1075 : BitVec 32 := 128#32
  let v2520 : BitVec 32 := Scalar.addi v96 c128_i32_1075
  let c255_i32_1076 : BitVec 32 := 255#32
  let v2521 : BitVec 32 := Scalar.andi v2520 c255_i32_1076
  v2521
def k0_mult280 (v93 : BitVec 32) : BitVec 32 :=
  let c12032_i32_42 : BitVec 32 := 12032#32
  let v94 : BitVec 32 := Scalar.minsi v93 c12032_i32_42
  let v95 : BitVec 32 := Scalar.subi v93 v94
  let v96 : BitVec 32 := v95
  let c144_i32_1078 : BitVec 32 := 144#32
  let v2527 : BitVec 32 := Scalar.addi v96 c144_i32_1078
  let c255_i32_1079 : BitVec 32 := 255#32
  let v2528 : BitVec 32 := Scalar.andi v2527 c255_i32_1079
  v2528
def k0_mult281 (v93 : BitVec 32) : BitVec 32 :=
  let c12032_i32_42 : BitVec 32 := 12032#32
  let v94 : BitVec 32 := Scalar.minsi v93 c12032_i32_42
  let v95 : BitVec 32 := Scalar.subi v93 v94
  let v96 : BitVec 32 := v95
  let c144_i32_1081 : BitVec 32 := 144#32
  let v2534 : BitVec 32 := Scalar.addi v96 c144_i32_1081
  let c255_i32_1082 : BitVec 32 := 255#32
  let v2535 : BitVec 32 := Scalar.andi v2534 c255_i32_1082
  v2535
def k0_mult282 (v93 : BitVec 32) : BitVec 32 :=
  let c12032_i32_42 : BitVec 32 := 12032#32
  let v94 : BitVec 32 := Scalar.minsi v93 c12032_i32_42
  let v95 : BitVec 32 := Scalar.subi v93 v94
  let v96 : BitVec 32 := v95
  let c160_i32_1084 : BitVec 32 := 160#32
  let v2541 : BitVec 32 := Scalar.addi v96 c160_i32_1084
  let c255_i32_1085 : BitVec 32 := 255#32
  let v2542 : BitVec 32 := Scalar.andi v2541 c255_i32_1085
  v2542
def k0_mult283 (v93 : BitVec 32) : BitVec 32 :=
  let c12032_i32_42 : BitVec 32 := 12032#32
  let v94 : BitVec 32 := Scalar.minsi v93 c12032_i32_42
  let v95 : BitVec 32 := Scalar.subi v93 v94
  let v96 : BitVec 32 := v95
  let c160_i32_1087 : BitVec 32 := 160#32
  let v2548 : BitVec 32 := Scalar.addi v96 c160_i32_1087
  let c255_i32_1088 : BitVec 32 := 255#32
  let v2549 : BitVec 32 := Scalar.andi v2548 c255_i32_1088
  v2549
def k0_mult284 (v93 : BitVec 32) : BitVec 32 :=
  let c12032_i32_42 : BitVec 32 := 12032#32
  let v94 : BitVec 32 := Scalar.minsi v93 c12032_i32_42
  let v95 : BitVec 32 := Scalar.subi v93 v94
  let v96 : BitVec 32 := v95
  let c176_i32_1090 : BitVec 32 := 176#32
  let v2555 : BitVec 32 := Scalar.addi v96 c176_i32_1090
  let c255_i32_1091 : BitVec 32 := 255#32
  let v2556 : BitVec 32 := Scalar.andi v2555 c255_i32_1091
  v2556
def k0_mult285 (v93 : BitVec 32) : BitVec 32 :=
  let c12032_i32_42 : BitVec 32 := 12032#32
  let v94 : BitVec 32 := Scalar.minsi v93 c12032_i32_42
  let v95 : BitVec 32 := Scalar.subi v93 v94
  let v96 : BitVec 32 := v95
  let c176_i32_1093 : BitVec 32 := 176#32
  let v2562 : BitVec 32 := Scalar.addi v96 c176_i32_1093
  let c255_i32_1094 : BitVec 32 := 255#32
  let v2563 : BitVec 32 := Scalar.andi v2562 c255_i32_1094
  v2563
def k0_mult286 (v93 : BitVec 32) : BitVec 32 :=
  let c12032_i32_42 : BitVec 32 := 12032#32
  let v94 : BitVec 32 := Scalar.minsi v93 c12032_i32_42
  let v95 : BitVec 32 := Scalar.subi v93 v94
  let v96 : BitVec 32 := v95
  let c192_i32_1096 : BitVec 32 := 192#32
  let v2569 : BitVec 32 := Scalar.addi v96 c192_i32_1096
  let c255_i32_1097 : BitVec 32 := 255#32
  let v2570 : BitVec 32 := Scalar.andi v2569 c255_i32_1097
  v2570
def k0_mult287 (v93 : BitVec 32) : BitVec 32 :=
  let c12032_i32_42 : BitVec 32 := 12032#32
  let v94 : BitVec 32 := Scalar.minsi v93 c12032_i32_42
  let v95 : BitVec 32 := Scalar.subi v93 v94
  let v96 : BitVec 32 := v95
  let c192_i32_1099 : BitVec 32 := 192#32
  let v2576 : BitVec 32 := Scalar.addi v96 c192_i32_1099
  let c255_i32_1100 : BitVec 32 := 255#32
  let v2577 : BitVec 32 := Scalar.andi v2576 c255_i32_1100
  v2577
def k0_mult288 (v93 : BitVec 32) : BitVec 32 :=
  let c12032_i32_42 : BitVec 32 := 12032#32
  let v94 : BitVec 32 := Scalar.minsi v93 c12032_i32_42
  let v95 : BitVec 32 := Scalar.subi v93 v94
  let v96 : BitVec 32 := v95
  let c208_i32_1102 : BitVec 32 := 208#32
  let v2583 : BitVec 32 := Scalar.addi v96 c208_i32_1102
  let c255_i32_1103 : BitVec 32 := 255#32
  let v2584 : BitVec 32 := Scalar.andi v2583 c255_i32_1103
  v2584
def k0_mult289 (v93 : BitVec 32) : BitVec 32 :=
  let c12032_i32_42 : BitVec 32 := 12032#32
  let v94 : BitVec 32 := Scalar.minsi v93 c12032_i32_42
  let v95 : BitVec 32 := Scalar.subi v93 v94
  let v96 : BitVec 32 := v95
  let c208_i32_1105 : BitVec 32 := 208#32
  let v2590 : BitVec 32 := Scalar.addi v96 c208_i32_1105
  let c255_i32_1106 : BitVec 32 := 255#32
  let v2591 : BitVec 32 := Scalar.andi v2590 c255_i32_1106
  v2591
def k0_mult290 (v93 : BitVec 32) : BitVec 32 :=
  let c12032_i32_42 : BitVec 32 := 12032#32
  let v94 : BitVec 32 := Scalar.minsi v93 c12032_i32_42
  let v95 : BitVec 32 := Scalar.subi v93 v94
  let v96 : BitVec 32 := v95
  let c224_i32_1108 : BitVec 32 := 224#32
  let v2597 : BitVec 32 := Scalar.addi v96 c224_i32_1108
  let c255_i32_1109 : BitVec 32 := 255#32
  let v2598 : BitVec 32 := Scalar.andi v2597 c255_i32_1109
  v2598
def k0_mult291 (v93 : BitVec 32) : BitVec 32 :=
  let c12032_i32_42 : BitVec 32 := 12032#32
  let v94 : BitVec 32 := Scalar.minsi v93 c12032_i32_42
  let v95 : BitVec 32 := Scalar.subi v93 v94
  let v96 : BitVec 32 := v95
  let c224_i32_1111 : BitVec 32 := 224#32
  let v2604 : BitVec 32 := Scalar.addi v96 c224_i32_1111
  let c255_i32_1112 : BitVec 32 := 255#32
  let v2605 : BitVec 32 := Scalar.andi v2604 c255_i32_1112
  v2605
def k0_mult292 (v93 : BitVec 32) : BitVec 32 :=
  let c12032_i32_42 : BitVec 32 := 12032#32
  let v94 : BitVec 32 := Scalar.minsi v93 c12032_i32_42
  let v95 : BitVec 32 := Scalar.subi v93 v94
  let v96 : BitVec 32 := v95
  let c240_i32_1114 : BitVec 32 := 240#32
  let v2611 : BitVec 32 := Scalar.addi v96 c240_i32_1114
  let c255_i32_1115 : BitVec 32 := 255#32
  let v2612 : BitVec 32 := Scalar.andi v2611 c255_i32_1115
  v2612
def k0_mult293 (v93 : BitVec 32) : BitVec 32 :=
  let c12032_i32_42 : BitVec 32 := 12032#32
  let v94 : BitVec 32 := Scalar.minsi v93 c12032_i32_42
  let v95 : BitVec 32 := Scalar.subi v93 v94
  let v96 : BitVec 32 := v95
  let c240_i32_1117 : BitVec 32 := 240#32
  let v2618 : BitVec 32 := Scalar.addi v96 c240_i32_1117
  let c255_i32_1118 : BitVec 32 := 255#32
  let v2619 : BitVec 32 := Scalar.andi v2618 c255_i32_1118
  v2619
def k0_mult294 (v93 : BitVec 32) : BitVec 32 :=
  let c12032_i32_42 : BitVec 32 := 12032#32
  let v94 : BitVec 32 := Scalar.minsi v93 c12032_i32_42
  let v95 : BitVec 32 := Scalar.subi v93 v94
  let v96 : BitVec 32 := v95
  let c0_i32_1152 : BitVec 32 := 0#32
  let v2689 : BitVec 32 := Scalar.addi v96 c0_i32_1152
  let c255_i32_1153 : BitVec 32 := 255#32
  let v2690 : BitVec 32 := Scalar.andi v2689 c255_i32_1153
  v2690
def k0_off44 (v1_0 : BitVec 32) (k0_t4 : Fin (k0_t4_loop v1_0).trips) (v93 : BitVec 32) (c0_i32_1152 : BitVec 32) : Fin 3 → Nat :=
  let c0_i32_13 : BitVec 32 := 0#32
  let c1_i32_16 : BitVec 32 := 1#32
  let arg22 : BitVec 32 := Scf.iv c0_i32_13 c1_i32_16 k0_t4
  let c1_i32_32 : BitVec 32 := 1#32
  let v72 : BitVec 32 := Scalar.andi arg22 c1_i32_32
  let v2692 : Index := Scalar.indexCast v72
  let c12032_i32_42 : BitVec 32 := 12032#32
  let v94 : BitVec 32 := Scalar.minsi v93 c12032_i32_42
  let v95 : BitVec 32 := Scalar.subi v93 v94
  let v96 : BitVec 32 := v95
  let v2689 : BitVec 32 := Scalar.addi v96 c0_i32_1152
  let c255_i32_1153 : BitVec 32 := 255#32
  let v2690 : BitVec 32 := Scalar.andi v2689 c255_i32_1153
  let v2691 : BitVec 32 := v2690
  let v2693 : Index := Scalar.indexCast v2691
  let c2304 : Index := 2304#32
  ![v2692.toNat, v2693.toNat, 2304]
def k0_mult295 (v93 : BitVec 32) : BitVec 32 :=
  let c12032_i32_42 : BitVec 32 := 12032#32
  let v94 : BitVec 32 := Scalar.minsi v93 c12032_i32_42
  let v95 : BitVec 32 := Scalar.subi v93 v94
  let v96 : BitVec 32 := v95
  let c0_i32_1154 : BitVec 32 := 0#32
  let v2696 : BitVec 32 := Scalar.addi v96 c0_i32_1154
  let c255_i32_1155 : BitVec 32 := 255#32
  let v2697 : BitVec 32 := Scalar.andi v2696 c255_i32_1155
  v2697
def k0_off45 (v1_0 : BitVec 32) (k0_t4 : Fin (k0_t4_loop v1_0).trips) (v93 : BitVec 32) (c0_i32_1154 : BitVec 32) : Fin 3 → Nat :=
  let c0_i32_13 : BitVec 32 := 0#32
  let c1_i32_16 : BitVec 32 := 1#32
  let arg22 : BitVec 32 := Scf.iv c0_i32_13 c1_i32_16 k0_t4
  let c1_i32_32 : BitVec 32 := 1#32
  let v72 : BitVec 32 := Scalar.andi arg22 c1_i32_32
  let v2699 : Index := Scalar.indexCast v72
  let c12032_i32_42 : BitVec 32 := 12032#32
  let v94 : BitVec 32 := Scalar.minsi v93 c12032_i32_42
  let v95 : BitVec 32 := Scalar.subi v93 v94
  let v96 : BitVec 32 := v95
  let v2696 : BitVec 32 := Scalar.addi v96 c0_i32_1154
  let c255_i32_1155 : BitVec 32 := 255#32
  let v2697 : BitVec 32 := Scalar.andi v2696 c255_i32_1155
  let v2698 : BitVec 32 := v2697
  let v2700 : Index := Scalar.indexCast v2698
  let c2432 : Index := 2432#32
  ![v2699.toNat, v2700.toNat, 2432]
def k0_mult296 (v93 : BitVec 32) : BitVec 32 :=
  let c12032_i32_42 : BitVec 32 := 12032#32
  let v94 : BitVec 32 := Scalar.minsi v93 c12032_i32_42
  let v95 : BitVec 32 := Scalar.subi v93 v94
  let v96 : BitVec 32 := v95
  let c16_i32_1156 : BitVec 32 := 16#32
  let v2703 : BitVec 32 := Scalar.addi v96 c16_i32_1156
  let c255_i32_1157 : BitVec 32 := 255#32
  let v2704 : BitVec 32 := Scalar.andi v2703 c255_i32_1157
  v2704
def k0_mult297 (v93 : BitVec 32) : BitVec 32 :=
  let c12032_i32_42 : BitVec 32 := 12032#32
  let v94 : BitVec 32 := Scalar.minsi v93 c12032_i32_42
  let v95 : BitVec 32 := Scalar.subi v93 v94
  let v96 : BitVec 32 := v95
  let c16_i32_1159 : BitVec 32 := 16#32
  let v2710 : BitVec 32 := Scalar.addi v96 c16_i32_1159
  let c255_i32_1160 : BitVec 32 := 255#32
  let v2711 : BitVec 32 := Scalar.andi v2710 c255_i32_1160
  v2711
def k0_mult298 (v93 : BitVec 32) : BitVec 32 :=
  let c12032_i32_42 : BitVec 32 := 12032#32
  let v94 : BitVec 32 := Scalar.minsi v93 c12032_i32_42
  let v95 : BitVec 32 := Scalar.subi v93 v94
  let v96 : BitVec 32 := v95
  let c32_i32_1162 : BitVec 32 := 32#32
  let v2717 : BitVec 32 := Scalar.addi v96 c32_i32_1162
  let c255_i32_1163 : BitVec 32 := 255#32
  let v2718 : BitVec 32 := Scalar.andi v2717 c255_i32_1163
  v2718
def k0_mult299 (v93 : BitVec 32) : BitVec 32 :=
  let c12032_i32_42 : BitVec 32 := 12032#32
  let v94 : BitVec 32 := Scalar.minsi v93 c12032_i32_42
  let v95 : BitVec 32 := Scalar.subi v93 v94
  let v96 : BitVec 32 := v95
  let c32_i32_1165 : BitVec 32 := 32#32
  let v2724 : BitVec 32 := Scalar.addi v96 c32_i32_1165
  let c255_i32_1166 : BitVec 32 := 255#32
  let v2725 : BitVec 32 := Scalar.andi v2724 c255_i32_1166
  v2725
def k0_mult300 (v93 : BitVec 32) : BitVec 32 :=
  let c12032_i32_42 : BitVec 32 := 12032#32
  let v94 : BitVec 32 := Scalar.minsi v93 c12032_i32_42
  let v95 : BitVec 32 := Scalar.subi v93 v94
  let v96 : BitVec 32 := v95
  let c48_i32_1168 : BitVec 32 := 48#32
  let v2731 : BitVec 32 := Scalar.addi v96 c48_i32_1168
  let c255_i32_1169 : BitVec 32 := 255#32
  let v2732 : BitVec 32 := Scalar.andi v2731 c255_i32_1169
  v2732
def k0_mult301 (v93 : BitVec 32) : BitVec 32 :=
  let c12032_i32_42 : BitVec 32 := 12032#32
  let v94 : BitVec 32 := Scalar.minsi v93 c12032_i32_42
  let v95 : BitVec 32 := Scalar.subi v93 v94
  let v96 : BitVec 32 := v95
  let c48_i32_1171 : BitVec 32 := 48#32
  let v2738 : BitVec 32 := Scalar.addi v96 c48_i32_1171
  let c255_i32_1172 : BitVec 32 := 255#32
  let v2739 : BitVec 32 := Scalar.andi v2738 c255_i32_1172
  v2739
def k0_mult302 (v93 : BitVec 32) : BitVec 32 :=
  let c12032_i32_42 : BitVec 32 := 12032#32
  let v94 : BitVec 32 := Scalar.minsi v93 c12032_i32_42
  let v95 : BitVec 32 := Scalar.subi v93 v94
  let v96 : BitVec 32 := v95
  let c64_i32_1174 : BitVec 32 := 64#32
  let v2745 : BitVec 32 := Scalar.addi v96 c64_i32_1174
  let c255_i32_1175 : BitVec 32 := 255#32
  let v2746 : BitVec 32 := Scalar.andi v2745 c255_i32_1175
  v2746
def k0_mult303 (v93 : BitVec 32) : BitVec 32 :=
  let c12032_i32_42 : BitVec 32 := 12032#32
  let v94 : BitVec 32 := Scalar.minsi v93 c12032_i32_42
  let v95 : BitVec 32 := Scalar.subi v93 v94
  let v96 : BitVec 32 := v95
  let c64_i32_1177 : BitVec 32 := 64#32
  let v2752 : BitVec 32 := Scalar.addi v96 c64_i32_1177
  let c255_i32_1178 : BitVec 32 := 255#32
  let v2753 : BitVec 32 := Scalar.andi v2752 c255_i32_1178
  v2753
def k0_mult304 (v93 : BitVec 32) : BitVec 32 :=
  let c12032_i32_42 : BitVec 32 := 12032#32
  let v94 : BitVec 32 := Scalar.minsi v93 c12032_i32_42
  let v95 : BitVec 32 := Scalar.subi v93 v94
  let v96 : BitVec 32 := v95
  let c80_i32_1180 : BitVec 32 := 80#32
  let v2759 : BitVec 32 := Scalar.addi v96 c80_i32_1180
  let c255_i32_1181 : BitVec 32 := 255#32
  let v2760 : BitVec 32 := Scalar.andi v2759 c255_i32_1181
  v2760
def k0_mult305 (v93 : BitVec 32) : BitVec 32 :=
  let c12032_i32_42 : BitVec 32 := 12032#32
  let v94 : BitVec 32 := Scalar.minsi v93 c12032_i32_42
  let v95 : BitVec 32 := Scalar.subi v93 v94
  let v96 : BitVec 32 := v95
  let c80_i32_1183 : BitVec 32 := 80#32
  let v2766 : BitVec 32 := Scalar.addi v96 c80_i32_1183
  let c255_i32_1184 : BitVec 32 := 255#32
  let v2767 : BitVec 32 := Scalar.andi v2766 c255_i32_1184
  v2767
def k0_mult306 (v93 : BitVec 32) : BitVec 32 :=
  let c12032_i32_42 : BitVec 32 := 12032#32
  let v94 : BitVec 32 := Scalar.minsi v93 c12032_i32_42
  let v95 : BitVec 32 := Scalar.subi v93 v94
  let v96 : BitVec 32 := v95
  let c96_i32_1186 : BitVec 32 := 96#32
  let v2773 : BitVec 32 := Scalar.addi v96 c96_i32_1186
  let c255_i32_1187 : BitVec 32 := 255#32
  let v2774 : BitVec 32 := Scalar.andi v2773 c255_i32_1187
  v2774
def k0_mult307 (v93 : BitVec 32) : BitVec 32 :=
  let c12032_i32_42 : BitVec 32 := 12032#32
  let v94 : BitVec 32 := Scalar.minsi v93 c12032_i32_42
  let v95 : BitVec 32 := Scalar.subi v93 v94
  let v96 : BitVec 32 := v95
  let c96_i32_1189 : BitVec 32 := 96#32
  let v2780 : BitVec 32 := Scalar.addi v96 c96_i32_1189
  let c255_i32_1190 : BitVec 32 := 255#32
  let v2781 : BitVec 32 := Scalar.andi v2780 c255_i32_1190
  v2781
def k0_mult308 (v93 : BitVec 32) : BitVec 32 :=
  let c12032_i32_42 : BitVec 32 := 12032#32
  let v94 : BitVec 32 := Scalar.minsi v93 c12032_i32_42
  let v95 : BitVec 32 := Scalar.subi v93 v94
  let v96 : BitVec 32 := v95
  let c112_i32_1192 : BitVec 32 := 112#32
  let v2787 : BitVec 32 := Scalar.addi v96 c112_i32_1192
  let c255_i32_1193 : BitVec 32 := 255#32
  let v2788 : BitVec 32 := Scalar.andi v2787 c255_i32_1193
  v2788
def k0_mult309 (v93 : BitVec 32) : BitVec 32 :=
  let c12032_i32_42 : BitVec 32 := 12032#32
  let v94 : BitVec 32 := Scalar.minsi v93 c12032_i32_42
  let v95 : BitVec 32 := Scalar.subi v93 v94
  let v96 : BitVec 32 := v95
  let c112_i32_1195 : BitVec 32 := 112#32
  let v2794 : BitVec 32 := Scalar.addi v96 c112_i32_1195
  let c255_i32_1196 : BitVec 32 := 255#32
  let v2795 : BitVec 32 := Scalar.andi v2794 c255_i32_1196
  v2795
def k0_mult310 (v93 : BitVec 32) : BitVec 32 :=
  let c12032_i32_42 : BitVec 32 := 12032#32
  let v94 : BitVec 32 := Scalar.minsi v93 c12032_i32_42
  let v95 : BitVec 32 := Scalar.subi v93 v94
  let v96 : BitVec 32 := v95
  let c128_i32_1198 : BitVec 32 := 128#32
  let v2801 : BitVec 32 := Scalar.addi v96 c128_i32_1198
  let c255_i32_1199 : BitVec 32 := 255#32
  let v2802 : BitVec 32 := Scalar.andi v2801 c255_i32_1199
  v2802
def k0_mult311 (v93 : BitVec 32) : BitVec 32 :=
  let c12032_i32_42 : BitVec 32 := 12032#32
  let v94 : BitVec 32 := Scalar.minsi v93 c12032_i32_42
  let v95 : BitVec 32 := Scalar.subi v93 v94
  let v96 : BitVec 32 := v95
  let c128_i32_1201 : BitVec 32 := 128#32
  let v2808 : BitVec 32 := Scalar.addi v96 c128_i32_1201
  let c255_i32_1202 : BitVec 32 := 255#32
  let v2809 : BitVec 32 := Scalar.andi v2808 c255_i32_1202
  v2809
def k0_mult312 (v93 : BitVec 32) : BitVec 32 :=
  let c12032_i32_42 : BitVec 32 := 12032#32
  let v94 : BitVec 32 := Scalar.minsi v93 c12032_i32_42
  let v95 : BitVec 32 := Scalar.subi v93 v94
  let v96 : BitVec 32 := v95
  let c144_i32_1204 : BitVec 32 := 144#32
  let v2815 : BitVec 32 := Scalar.addi v96 c144_i32_1204
  let c255_i32_1205 : BitVec 32 := 255#32
  let v2816 : BitVec 32 := Scalar.andi v2815 c255_i32_1205
  v2816
def k0_mult313 (v93 : BitVec 32) : BitVec 32 :=
  let c12032_i32_42 : BitVec 32 := 12032#32
  let v94 : BitVec 32 := Scalar.minsi v93 c12032_i32_42
  let v95 : BitVec 32 := Scalar.subi v93 v94
  let v96 : BitVec 32 := v95
  let c144_i32_1207 : BitVec 32 := 144#32
  let v2822 : BitVec 32 := Scalar.addi v96 c144_i32_1207
  let c255_i32_1208 : BitVec 32 := 255#32
  let v2823 : BitVec 32 := Scalar.andi v2822 c255_i32_1208
  v2823
def k0_mult314 (v93 : BitVec 32) : BitVec 32 :=
  let c12032_i32_42 : BitVec 32 := 12032#32
  let v94 : BitVec 32 := Scalar.minsi v93 c12032_i32_42
  let v95 : BitVec 32 := Scalar.subi v93 v94
  let v96 : BitVec 32 := v95
  let c160_i32_1210 : BitVec 32 := 160#32
  let v2829 : BitVec 32 := Scalar.addi v96 c160_i32_1210
  let c255_i32_1211 : BitVec 32 := 255#32
  let v2830 : BitVec 32 := Scalar.andi v2829 c255_i32_1211
  v2830
def k0_mult315 (v93 : BitVec 32) : BitVec 32 :=
  let c12032_i32_42 : BitVec 32 := 12032#32
  let v94 : BitVec 32 := Scalar.minsi v93 c12032_i32_42
  let v95 : BitVec 32 := Scalar.subi v93 v94
  let v96 : BitVec 32 := v95
  let c160_i32_1213 : BitVec 32 := 160#32
  let v2836 : BitVec 32 := Scalar.addi v96 c160_i32_1213
  let c255_i32_1214 : BitVec 32 := 255#32
  let v2837 : BitVec 32 := Scalar.andi v2836 c255_i32_1214
  v2837
def k0_mult316 (v93 : BitVec 32) : BitVec 32 :=
  let c12032_i32_42 : BitVec 32 := 12032#32
  let v94 : BitVec 32 := Scalar.minsi v93 c12032_i32_42
  let v95 : BitVec 32 := Scalar.subi v93 v94
  let v96 : BitVec 32 := v95
  let c176_i32_1216 : BitVec 32 := 176#32
  let v2843 : BitVec 32 := Scalar.addi v96 c176_i32_1216
  let c255_i32_1217 : BitVec 32 := 255#32
  let v2844 : BitVec 32 := Scalar.andi v2843 c255_i32_1217
  v2844
def k0_mult317 (v93 : BitVec 32) : BitVec 32 :=
  let c12032_i32_42 : BitVec 32 := 12032#32
  let v94 : BitVec 32 := Scalar.minsi v93 c12032_i32_42
  let v95 : BitVec 32 := Scalar.subi v93 v94
  let v96 : BitVec 32 := v95
  let c176_i32_1219 : BitVec 32 := 176#32
  let v2850 : BitVec 32 := Scalar.addi v96 c176_i32_1219
  let c255_i32_1220 : BitVec 32 := 255#32
  let v2851 : BitVec 32 := Scalar.andi v2850 c255_i32_1220
  v2851
def k0_mult318 (v93 : BitVec 32) : BitVec 32 :=
  let c12032_i32_42 : BitVec 32 := 12032#32
  let v94 : BitVec 32 := Scalar.minsi v93 c12032_i32_42
  let v95 : BitVec 32 := Scalar.subi v93 v94
  let v96 : BitVec 32 := v95
  let c192_i32_1222 : BitVec 32 := 192#32
  let v2857 : BitVec 32 := Scalar.addi v96 c192_i32_1222
  let c255_i32_1223 : BitVec 32 := 255#32
  let v2858 : BitVec 32 := Scalar.andi v2857 c255_i32_1223
  v2858
def k0_mult319 (v93 : BitVec 32) : BitVec 32 :=
  let c12032_i32_42 : BitVec 32 := 12032#32
  let v94 : BitVec 32 := Scalar.minsi v93 c12032_i32_42
  let v95 : BitVec 32 := Scalar.subi v93 v94
  let v96 : BitVec 32 := v95
  let c192_i32_1225 : BitVec 32 := 192#32
  let v2864 : BitVec 32 := Scalar.addi v96 c192_i32_1225
  let c255_i32_1226 : BitVec 32 := 255#32
  let v2865 : BitVec 32 := Scalar.andi v2864 c255_i32_1226
  v2865
def k0_mult320 (v93 : BitVec 32) : BitVec 32 :=
  let c12032_i32_42 : BitVec 32 := 12032#32
  let v94 : BitVec 32 := Scalar.minsi v93 c12032_i32_42
  let v95 : BitVec 32 := Scalar.subi v93 v94
  let v96 : BitVec 32 := v95
  let c208_i32_1228 : BitVec 32 := 208#32
  let v2871 : BitVec 32 := Scalar.addi v96 c208_i32_1228
  let c255_i32_1229 : BitVec 32 := 255#32
  let v2872 : BitVec 32 := Scalar.andi v2871 c255_i32_1229
  v2872
def k0_mult321 (v93 : BitVec 32) : BitVec 32 :=
  let c12032_i32_42 : BitVec 32 := 12032#32
  let v94 : BitVec 32 := Scalar.minsi v93 c12032_i32_42
  let v95 : BitVec 32 := Scalar.subi v93 v94
  let v96 : BitVec 32 := v95
  let c208_i32_1231 : BitVec 32 := 208#32
  let v2878 : BitVec 32 := Scalar.addi v96 c208_i32_1231
  let c255_i32_1232 : BitVec 32 := 255#32
  let v2879 : BitVec 32 := Scalar.andi v2878 c255_i32_1232
  v2879
def k0_mult322 (v93 : BitVec 32) : BitVec 32 :=
  let c12032_i32_42 : BitVec 32 := 12032#32
  let v94 : BitVec 32 := Scalar.minsi v93 c12032_i32_42
  let v95 : BitVec 32 := Scalar.subi v93 v94
  let v96 : BitVec 32 := v95
  let c224_i32_1234 : BitVec 32 := 224#32
  let v2885 : BitVec 32 := Scalar.addi v96 c224_i32_1234
  let c255_i32_1235 : BitVec 32 := 255#32
  let v2886 : BitVec 32 := Scalar.andi v2885 c255_i32_1235
  v2886
def k0_mult323 (v93 : BitVec 32) : BitVec 32 :=
  let c12032_i32_42 : BitVec 32 := 12032#32
  let v94 : BitVec 32 := Scalar.minsi v93 c12032_i32_42
  let v95 : BitVec 32 := Scalar.subi v93 v94
  let v96 : BitVec 32 := v95
  let c224_i32_1237 : BitVec 32 := 224#32
  let v2892 : BitVec 32 := Scalar.addi v96 c224_i32_1237
  let c255_i32_1238 : BitVec 32 := 255#32
  let v2893 : BitVec 32 := Scalar.andi v2892 c255_i32_1238
  v2893
def k0_mult324 (v93 : BitVec 32) : BitVec 32 :=
  let c12032_i32_42 : BitVec 32 := 12032#32
  let v94 : BitVec 32 := Scalar.minsi v93 c12032_i32_42
  let v95 : BitVec 32 := Scalar.subi v93 v94
  let v96 : BitVec 32 := v95
  let c240_i32_1240 : BitVec 32 := 240#32
  let v2899 : BitVec 32 := Scalar.addi v96 c240_i32_1240
  let c255_i32_1241 : BitVec 32 := 255#32
  let v2900 : BitVec 32 := Scalar.andi v2899 c255_i32_1241
  v2900
def k0_mult325 (v93 : BitVec 32) : BitVec 32 :=
  let c12032_i32_42 : BitVec 32 := 12032#32
  let v94 : BitVec 32 := Scalar.minsi v93 c12032_i32_42
  let v95 : BitVec 32 := Scalar.subi v93 v94
  let v96 : BitVec 32 := v95
  let c240_i32_1243 : BitVec 32 := 240#32
  let v2906 : BitVec 32 := Scalar.addi v96 c240_i32_1243
  let c255_i32_1244 : BitVec 32 := 255#32
  let v2907 : BitVec 32 := Scalar.andi v2906 c255_i32_1244
  v2907
def k0_mult326 (v93 : BitVec 32) : BitVec 32 :=
  let c12032_i32_42 : BitVec 32 := 12032#32
  let v94 : BitVec 32 := Scalar.minsi v93 c12032_i32_42
  let v95 : BitVec 32 := Scalar.subi v93 v94
  let v96 : BitVec 32 := v95
  let c0_i32_1278 : BitVec 32 := 0#32
  let v2977 : BitVec 32 := Scalar.addi v96 c0_i32_1278
  let c255_i32_1279 : BitVec 32 := 255#32
  let v2978 : BitVec 32 := Scalar.andi v2977 c255_i32_1279
  v2978
def k0_off46 (v1_0 : BitVec 32) (k0_t4 : Fin (k0_t4_loop v1_0).trips) (v93 : BitVec 32) (c0_i32_1278 : BitVec 32) : Fin 3 → Nat :=
  let c0_i32_13 : BitVec 32 := 0#32
  let c1_i32_16 : BitVec 32 := 1#32
  let arg22 : BitVec 32 := Scf.iv c0_i32_13 c1_i32_16 k0_t4
  let c1_i32_32 : BitVec 32 := 1#32
  let v72 : BitVec 32 := Scalar.andi arg22 c1_i32_32
  let v2980 : Index := Scalar.indexCast v72
  let c12032_i32_42 : BitVec 32 := 12032#32
  let v94 : BitVec 32 := Scalar.minsi v93 c12032_i32_42
  let v95 : BitVec 32 := Scalar.subi v93 v94
  let v96 : BitVec 32 := v95
  let v2977 : BitVec 32 := Scalar.addi v96 c0_i32_1278
  let c255_i32_1279 : BitVec 32 := 255#32
  let v2978 : BitVec 32 := Scalar.andi v2977 c255_i32_1279
  let v2979 : BitVec 32 := v2978
  let v2981 : Index := Scalar.indexCast v2979
  let c2560 : Index := 2560#32
  ![v2980.toNat, v2981.toNat, 2560]
def k0_mult327 (v93 : BitVec 32) : BitVec 32 :=
  let c12032_i32_42 : BitVec 32 := 12032#32
  let v94 : BitVec 32 := Scalar.minsi v93 c12032_i32_42
  let v95 : BitVec 32 := Scalar.subi v93 v94
  let v96 : BitVec 32 := v95
  let c0_i32_1280 : BitVec 32 := 0#32
  let v2984 : BitVec 32 := Scalar.addi v96 c0_i32_1280
  let c255_i32_1281 : BitVec 32 := 255#32
  let v2985 : BitVec 32 := Scalar.andi v2984 c255_i32_1281
  v2985
def k0_off47 (v1_0 : BitVec 32) (k0_t4 : Fin (k0_t4_loop v1_0).trips) (v93 : BitVec 32) (c0_i32_1280 : BitVec 32) : Fin 3 → Nat :=
  let c0_i32_13 : BitVec 32 := 0#32
  let c1_i32_16 : BitVec 32 := 1#32
  let arg22 : BitVec 32 := Scf.iv c0_i32_13 c1_i32_16 k0_t4
  let c1_i32_32 : BitVec 32 := 1#32
  let v72 : BitVec 32 := Scalar.andi arg22 c1_i32_32
  let v2987 : Index := Scalar.indexCast v72
  let c12032_i32_42 : BitVec 32 := 12032#32
  let v94 : BitVec 32 := Scalar.minsi v93 c12032_i32_42
  let v95 : BitVec 32 := Scalar.subi v93 v94
  let v96 : BitVec 32 := v95
  let v2984 : BitVec 32 := Scalar.addi v96 c0_i32_1280
  let c255_i32_1281 : BitVec 32 := 255#32
  let v2985 : BitVec 32 := Scalar.andi v2984 c255_i32_1281
  let v2986 : BitVec 32 := v2985
  let v2988 : Index := Scalar.indexCast v2986
  let c2688 : Index := 2688#32
  ![v2987.toNat, v2988.toNat, 2688]
def k0_mult328 (v93 : BitVec 32) : BitVec 32 :=
  let c12032_i32_42 : BitVec 32 := 12032#32
  let v94 : BitVec 32 := Scalar.minsi v93 c12032_i32_42
  let v95 : BitVec 32 := Scalar.subi v93 v94
  let v96 : BitVec 32 := v95
  let c16_i32_1282 : BitVec 32 := 16#32
  let v2991 : BitVec 32 := Scalar.addi v96 c16_i32_1282
  let c255_i32_1283 : BitVec 32 := 255#32
  let v2992 : BitVec 32 := Scalar.andi v2991 c255_i32_1283
  v2992
def k0_mult329 (v93 : BitVec 32) : BitVec 32 :=
  let c12032_i32_42 : BitVec 32 := 12032#32
  let v94 : BitVec 32 := Scalar.minsi v93 c12032_i32_42
  let v95 : BitVec 32 := Scalar.subi v93 v94
  let v96 : BitVec 32 := v95
  let c16_i32_1285 : BitVec 32 := 16#32
  let v2998 : BitVec 32 := Scalar.addi v96 c16_i32_1285
  let c255_i32_1286 : BitVec 32 := 255#32
  let v2999 : BitVec 32 := Scalar.andi v2998 c255_i32_1286
  v2999
def k0_mult330 (v93 : BitVec 32) : BitVec 32 :=
  let c12032_i32_42 : BitVec 32 := 12032#32
  let v94 : BitVec 32 := Scalar.minsi v93 c12032_i32_42
  let v95 : BitVec 32 := Scalar.subi v93 v94
  let v96 : BitVec 32 := v95
  let c32_i32_1288 : BitVec 32 := 32#32
  let v3005 : BitVec 32 := Scalar.addi v96 c32_i32_1288
  let c255_i32_1289 : BitVec 32 := 255#32
  let v3006 : BitVec 32 := Scalar.andi v3005 c255_i32_1289
  v3006
def k0_mult331 (v93 : BitVec 32) : BitVec 32 :=
  let c12032_i32_42 : BitVec 32 := 12032#32
  let v94 : BitVec 32 := Scalar.minsi v93 c12032_i32_42
  let v95 : BitVec 32 := Scalar.subi v93 v94
  let v96 : BitVec 32 := v95
  let c32_i32_1291 : BitVec 32 := 32#32
  let v3012 : BitVec 32 := Scalar.addi v96 c32_i32_1291
  let c255_i32_1292 : BitVec 32 := 255#32
  let v3013 : BitVec 32 := Scalar.andi v3012 c255_i32_1292
  v3013
def k0_mult332 (v93 : BitVec 32) : BitVec 32 :=
  let c12032_i32_42 : BitVec 32 := 12032#32
  let v94 : BitVec 32 := Scalar.minsi v93 c12032_i32_42
  let v95 : BitVec 32 := Scalar.subi v93 v94
  let v96 : BitVec 32 := v95
  let c48_i32_1294 : BitVec 32 := 48#32
  let v3019 : BitVec 32 := Scalar.addi v96 c48_i32_1294
  let c255_i32_1295 : BitVec 32 := 255#32
  let v3020 : BitVec 32 := Scalar.andi v3019 c255_i32_1295
  v3020
def k0_mult333 (v93 : BitVec 32) : BitVec 32 :=
  let c12032_i32_42 : BitVec 32 := 12032#32
  let v94 : BitVec 32 := Scalar.minsi v93 c12032_i32_42
  let v95 : BitVec 32 := Scalar.subi v93 v94
  let v96 : BitVec 32 := v95
  let c48_i32_1297 : BitVec 32 := 48#32
  let v3026 : BitVec 32 := Scalar.addi v96 c48_i32_1297
  let c255_i32_1298 : BitVec 32 := 255#32
  let v3027 : BitVec 32 := Scalar.andi v3026 c255_i32_1298
  v3027
def k0_mult334 (v93 : BitVec 32) : BitVec 32 :=
  let c12032_i32_42 : BitVec 32 := 12032#32
  let v94 : BitVec 32 := Scalar.minsi v93 c12032_i32_42
  let v95 : BitVec 32 := Scalar.subi v93 v94
  let v96 : BitVec 32 := v95
  let c64_i32_1300 : BitVec 32 := 64#32
  let v3033 : BitVec 32 := Scalar.addi v96 c64_i32_1300
  let c255_i32_1301 : BitVec 32 := 255#32
  let v3034 : BitVec 32 := Scalar.andi v3033 c255_i32_1301
  v3034
def k0_mult335 (v93 : BitVec 32) : BitVec 32 :=
  let c12032_i32_42 : BitVec 32 := 12032#32
  let v94 : BitVec 32 := Scalar.minsi v93 c12032_i32_42
  let v95 : BitVec 32 := Scalar.subi v93 v94
  let v96 : BitVec 32 := v95
  let c64_i32_1303 : BitVec 32 := 64#32
  let v3040 : BitVec 32 := Scalar.addi v96 c64_i32_1303
  let c255_i32_1304 : BitVec 32 := 255#32
  let v3041 : BitVec 32 := Scalar.andi v3040 c255_i32_1304
  v3041
def k0_mult336 (v93 : BitVec 32) : BitVec 32 :=
  let c12032_i32_42 : BitVec 32 := 12032#32
  let v94 : BitVec 32 := Scalar.minsi v93 c12032_i32_42
  let v95 : BitVec 32 := Scalar.subi v93 v94
  let v96 : BitVec 32 := v95
  let c80_i32_1306 : BitVec 32 := 80#32
  let v3047 : BitVec 32 := Scalar.addi v96 c80_i32_1306
  let c255_i32_1307 : BitVec 32 := 255#32
  let v3048 : BitVec 32 := Scalar.andi v3047 c255_i32_1307
  v3048
def k0_mult337 (v93 : BitVec 32) : BitVec 32 :=
  let c12032_i32_42 : BitVec 32 := 12032#32
  let v94 : BitVec 32 := Scalar.minsi v93 c12032_i32_42
  let v95 : BitVec 32 := Scalar.subi v93 v94
  let v96 : BitVec 32 := v95
  let c80_i32_1309 : BitVec 32 := 80#32
  let v3054 : BitVec 32 := Scalar.addi v96 c80_i32_1309
  let c255_i32_1310 : BitVec 32 := 255#32
  let v3055 : BitVec 32 := Scalar.andi v3054 c255_i32_1310
  v3055
def k0_mult338 (v93 : BitVec 32) : BitVec 32 :=
  let c12032_i32_42 : BitVec 32 := 12032#32
  let v94 : BitVec 32 := Scalar.minsi v93 c12032_i32_42
  let v95 : BitVec 32 := Scalar.subi v93 v94
  let v96 : BitVec 32 := v95
  let c96_i32_1312 : BitVec 32 := 96#32
  let v3061 : BitVec 32 := Scalar.addi v96 c96_i32_1312
  let c255_i32_1313 : BitVec 32 := 255#32
  let v3062 : BitVec 32 := Scalar.andi v3061 c255_i32_1313
  v3062
def k0_mult339 (v93 : BitVec 32) : BitVec 32 :=
  let c12032_i32_42 : BitVec 32 := 12032#32
  let v94 : BitVec 32 := Scalar.minsi v93 c12032_i32_42
  let v95 : BitVec 32 := Scalar.subi v93 v94
  let v96 : BitVec 32 := v95
  let c96_i32_1315 : BitVec 32 := 96#32
  let v3068 : BitVec 32 := Scalar.addi v96 c96_i32_1315
  let c255_i32_1316 : BitVec 32 := 255#32
  let v3069 : BitVec 32 := Scalar.andi v3068 c255_i32_1316
  v3069
def k0_mult340 (v93 : BitVec 32) : BitVec 32 :=
  let c12032_i32_42 : BitVec 32 := 12032#32
  let v94 : BitVec 32 := Scalar.minsi v93 c12032_i32_42
  let v95 : BitVec 32 := Scalar.subi v93 v94
  let v96 : BitVec 32 := v95
  let c112_i32_1318 : BitVec 32 := 112#32
  let v3075 : BitVec 32 := Scalar.addi v96 c112_i32_1318
  let c255_i32_1319 : BitVec 32 := 255#32
  let v3076 : BitVec 32 := Scalar.andi v3075 c255_i32_1319
  v3076
def k0_mult341 (v93 : BitVec 32) : BitVec 32 :=
  let c12032_i32_42 : BitVec 32 := 12032#32
  let v94 : BitVec 32 := Scalar.minsi v93 c12032_i32_42
  let v95 : BitVec 32 := Scalar.subi v93 v94
  let v96 : BitVec 32 := v95
  let c112_i32_1321 : BitVec 32 := 112#32
  let v3082 : BitVec 32 := Scalar.addi v96 c112_i32_1321
  let c255_i32_1322 : BitVec 32 := 255#32
  let v3083 : BitVec 32 := Scalar.andi v3082 c255_i32_1322
  v3083
def k0_mult342 (v93 : BitVec 32) : BitVec 32 :=
  let c12032_i32_42 : BitVec 32 := 12032#32
  let v94 : BitVec 32 := Scalar.minsi v93 c12032_i32_42
  let v95 : BitVec 32 := Scalar.subi v93 v94
  let v96 : BitVec 32 := v95
  let c128_i32_1324 : BitVec 32 := 128#32
  let v3089 : BitVec 32 := Scalar.addi v96 c128_i32_1324
  let c255_i32_1325 : BitVec 32 := 255#32
  let v3090 : BitVec 32 := Scalar.andi v3089 c255_i32_1325
  v3090
def k0_mult343 (v93 : BitVec 32) : BitVec 32 :=
  let c12032_i32_42 : BitVec 32 := 12032#32
  let v94 : BitVec 32 := Scalar.minsi v93 c12032_i32_42
  let v95 : BitVec 32 := Scalar.subi v93 v94
  let v96 : BitVec 32 := v95
  let c128_i32_1327 : BitVec 32 := 128#32
  let v3096 : BitVec 32 := Scalar.addi v96 c128_i32_1327
  let c255_i32_1328 : BitVec 32 := 255#32
  let v3097 : BitVec 32 := Scalar.andi v3096 c255_i32_1328
  v3097
def k0_mult344 (v93 : BitVec 32) : BitVec 32 :=
  let c12032_i32_42 : BitVec 32 := 12032#32
  let v94 : BitVec 32 := Scalar.minsi v93 c12032_i32_42
  let v95 : BitVec 32 := Scalar.subi v93 v94
  let v96 : BitVec 32 := v95
  let c144_i32_1330 : BitVec 32 := 144#32
  let v3103 : BitVec 32 := Scalar.addi v96 c144_i32_1330
  let c255_i32_1331 : BitVec 32 := 255#32
  let v3104 : BitVec 32 := Scalar.andi v3103 c255_i32_1331
  v3104
def k0_mult345 (v93 : BitVec 32) : BitVec 32 :=
  let c12032_i32_42 : BitVec 32 := 12032#32
  let v94 : BitVec 32 := Scalar.minsi v93 c12032_i32_42
  let v95 : BitVec 32 := Scalar.subi v93 v94
  let v96 : BitVec 32 := v95
  let c144_i32_1333 : BitVec 32 := 144#32
  let v3110 : BitVec 32 := Scalar.addi v96 c144_i32_1333
  let c255_i32_1334 : BitVec 32 := 255#32
  let v3111 : BitVec 32 := Scalar.andi v3110 c255_i32_1334
  v3111
def k0_mult346 (v93 : BitVec 32) : BitVec 32 :=
  let c12032_i32_42 : BitVec 32 := 12032#32
  let v94 : BitVec 32 := Scalar.minsi v93 c12032_i32_42
  let v95 : BitVec 32 := Scalar.subi v93 v94
  let v96 : BitVec 32 := v95
  let c160_i32_1336 : BitVec 32 := 160#32
  let v3117 : BitVec 32 := Scalar.addi v96 c160_i32_1336
  let c255_i32_1337 : BitVec 32 := 255#32
  let v3118 : BitVec 32 := Scalar.andi v3117 c255_i32_1337
  v3118
def k0_mult347 (v93 : BitVec 32) : BitVec 32 :=
  let c12032_i32_42 : BitVec 32 := 12032#32
  let v94 : BitVec 32 := Scalar.minsi v93 c12032_i32_42
  let v95 : BitVec 32 := Scalar.subi v93 v94
  let v96 : BitVec 32 := v95
  let c160_i32_1339 : BitVec 32 := 160#32
  let v3124 : BitVec 32 := Scalar.addi v96 c160_i32_1339
  let c255_i32_1340 : BitVec 32 := 255#32
  let v3125 : BitVec 32 := Scalar.andi v3124 c255_i32_1340
  v3125
def k0_mult348 (v93 : BitVec 32) : BitVec 32 :=
  let c12032_i32_42 : BitVec 32 := 12032#32
  let v94 : BitVec 32 := Scalar.minsi v93 c12032_i32_42
  let v95 : BitVec 32 := Scalar.subi v93 v94
  let v96 : BitVec 32 := v95
  let c176_i32_1342 : BitVec 32 := 176#32
  let v3131 : BitVec 32 := Scalar.addi v96 c176_i32_1342
  let c255_i32_1343 : BitVec 32 := 255#32
  let v3132 : BitVec 32 := Scalar.andi v3131 c255_i32_1343
  v3132
def k0_mult349 (v93 : BitVec 32) : BitVec 32 :=
  let c12032_i32_42 : BitVec 32 := 12032#32
  let v94 : BitVec 32 := Scalar.minsi v93 c12032_i32_42
  let v95 : BitVec 32 := Scalar.subi v93 v94
  let v96 : BitVec 32 := v95
  let c176_i32_1345 : BitVec 32 := 176#32
  let v3138 : BitVec 32 := Scalar.addi v96 c176_i32_1345
  let c255_i32_1346 : BitVec 32 := 255#32
  let v3139 : BitVec 32 := Scalar.andi v3138 c255_i32_1346
  v3139
def k0_mult350 (v93 : BitVec 32) : BitVec 32 :=
  let c12032_i32_42 : BitVec 32 := 12032#32
  let v94 : BitVec 32 := Scalar.minsi v93 c12032_i32_42
  let v95 : BitVec 32 := Scalar.subi v93 v94
  let v96 : BitVec 32 := v95
  let c192_i32_1348 : BitVec 32 := 192#32
  let v3145 : BitVec 32 := Scalar.addi v96 c192_i32_1348
  let c255_i32_1349 : BitVec 32 := 255#32
  let v3146 : BitVec 32 := Scalar.andi v3145 c255_i32_1349
  v3146
def k0_mult351 (v93 : BitVec 32) : BitVec 32 :=
  let c12032_i32_42 : BitVec 32 := 12032#32
  let v94 : BitVec 32 := Scalar.minsi v93 c12032_i32_42
  let v95 : BitVec 32 := Scalar.subi v93 v94
  let v96 : BitVec 32 := v95
  let c192_i32_1351 : BitVec 32 := 192#32
  let v3152 : BitVec 32 := Scalar.addi v96 c192_i32_1351
  let c255_i32_1352 : BitVec 32 := 255#32
  let v3153 : BitVec 32 := Scalar.andi v3152 c255_i32_1352
  v3153
def k0_mult352 (v93 : BitVec 32) : BitVec 32 :=
  let c12032_i32_42 : BitVec 32 := 12032#32
  let v94 : BitVec 32 := Scalar.minsi v93 c12032_i32_42
  let v95 : BitVec 32 := Scalar.subi v93 v94
  let v96 : BitVec 32 := v95
  let c208_i32_1354 : BitVec 32 := 208#32
  let v3159 : BitVec 32 := Scalar.addi v96 c208_i32_1354
  let c255_i32_1355 : BitVec 32 := 255#32
  let v3160 : BitVec 32 := Scalar.andi v3159 c255_i32_1355
  v3160
def k0_mult353 (v93 : BitVec 32) : BitVec 32 :=
  let c12032_i32_42 : BitVec 32 := 12032#32
  let v94 : BitVec 32 := Scalar.minsi v93 c12032_i32_42
  let v95 : BitVec 32 := Scalar.subi v93 v94
  let v96 : BitVec 32 := v95
  let c208_i32_1357 : BitVec 32 := 208#32
  let v3166 : BitVec 32 := Scalar.addi v96 c208_i32_1357
  let c255_i32_1358 : BitVec 32 := 255#32
  let v3167 : BitVec 32 := Scalar.andi v3166 c255_i32_1358
  v3167
def k0_mult354 (v93 : BitVec 32) : BitVec 32 :=
  let c12032_i32_42 : BitVec 32 := 12032#32
  let v94 : BitVec 32 := Scalar.minsi v93 c12032_i32_42
  let v95 : BitVec 32 := Scalar.subi v93 v94
  let v96 : BitVec 32 := v95
  let c224_i32_1360 : BitVec 32 := 224#32
  let v3173 : BitVec 32 := Scalar.addi v96 c224_i32_1360
  let c255_i32_1361 : BitVec 32 := 255#32
  let v3174 : BitVec 32 := Scalar.andi v3173 c255_i32_1361
  v3174
def k0_mult355 (v93 : BitVec 32) : BitVec 32 :=
  let c12032_i32_42 : BitVec 32 := 12032#32
  let v94 : BitVec 32 := Scalar.minsi v93 c12032_i32_42
  let v95 : BitVec 32 := Scalar.subi v93 v94
  let v96 : BitVec 32 := v95
  let c224_i32_1363 : BitVec 32 := 224#32
  let v3180 : BitVec 32 := Scalar.addi v96 c224_i32_1363
  let c255_i32_1364 : BitVec 32 := 255#32
  let v3181 : BitVec 32 := Scalar.andi v3180 c255_i32_1364
  v3181
def k0_mult356 (v93 : BitVec 32) : BitVec 32 :=
  let c12032_i32_42 : BitVec 32 := 12032#32
  let v94 : BitVec 32 := Scalar.minsi v93 c12032_i32_42
  let v95 : BitVec 32 := Scalar.subi v93 v94
  let v96 : BitVec 32 := v95
  let c240_i32_1366 : BitVec 32 := 240#32
  let v3187 : BitVec 32 := Scalar.addi v96 c240_i32_1366
  let c255_i32_1367 : BitVec 32 := 255#32
  let v3188 : BitVec 32 := Scalar.andi v3187 c255_i32_1367
  v3188
def k0_mult357 (v93 : BitVec 32) : BitVec 32 :=
  let c12032_i32_42 : BitVec 32 := 12032#32
  let v94 : BitVec 32 := Scalar.minsi v93 c12032_i32_42
  let v95 : BitVec 32 := Scalar.subi v93 v94
  let v96 : BitVec 32 := v95
  let c240_i32_1369 : BitVec 32 := 240#32
  let v3194 : BitVec 32 := Scalar.addi v96 c240_i32_1369
  let c255_i32_1370 : BitVec 32 := 255#32
  let v3195 : BitVec 32 := Scalar.andi v3194 c255_i32_1370
  v3195
def k0_mult358 (v93 : BitVec 32) : BitVec 32 :=
  let c12032_i32_42 : BitVec 32 := 12032#32
  let v94 : BitVec 32 := Scalar.minsi v93 c12032_i32_42
  let v95 : BitVec 32 := Scalar.subi v93 v94
  let v96 : BitVec 32 := v95
  let c0_i32_1404 : BitVec 32 := 0#32
  let v3265 : BitVec 32 := Scalar.addi v96 c0_i32_1404
  let c255_i32_1405 : BitVec 32 := 255#32
  let v3266 : BitVec 32 := Scalar.andi v3265 c255_i32_1405
  v3266
def k0_off48 (v1_0 : BitVec 32) (k0_t4 : Fin (k0_t4_loop v1_0).trips) (v93 : BitVec 32) (c0_i32_1404 : BitVec 32) : Fin 3 → Nat :=
  let c0_i32_13 : BitVec 32 := 0#32
  let c1_i32_16 : BitVec 32 := 1#32
  let arg22 : BitVec 32 := Scf.iv c0_i32_13 c1_i32_16 k0_t4
  let c1_i32_32 : BitVec 32 := 1#32
  let v72 : BitVec 32 := Scalar.andi arg22 c1_i32_32
  let v3268 : Index := Scalar.indexCast v72
  let c12032_i32_42 : BitVec 32 := 12032#32
  let v94 : BitVec 32 := Scalar.minsi v93 c12032_i32_42
  let v95 : BitVec 32 := Scalar.subi v93 v94
  let v96 : BitVec 32 := v95
  let v3265 : BitVec 32 := Scalar.addi v96 c0_i32_1404
  let c255_i32_1405 : BitVec 32 := 255#32
  let v3266 : BitVec 32 := Scalar.andi v3265 c255_i32_1405
  let v3267 : BitVec 32 := v3266
  let v3269 : Index := Scalar.indexCast v3267
  let c2816 : Index := 2816#32
  ![v3268.toNat, v3269.toNat, 2816]
def k0_mult359 (v93 : BitVec 32) : BitVec 32 :=
  let c12032_i32_42 : BitVec 32 := 12032#32
  let v94 : BitVec 32 := Scalar.minsi v93 c12032_i32_42
  let v95 : BitVec 32 := Scalar.subi v93 v94
  let v96 : BitVec 32 := v95
  let c0_i32_1406 : BitVec 32 := 0#32
  let v3272 : BitVec 32 := Scalar.addi v96 c0_i32_1406
  let c255_i32_1407 : BitVec 32 := 255#32
  let v3273 : BitVec 32 := Scalar.andi v3272 c255_i32_1407
  v3273
def k0_off49 (v1_0 : BitVec 32) (k0_t4 : Fin (k0_t4_loop v1_0).trips) (v93 : BitVec 32) (c0_i32_1406 : BitVec 32) : Fin 3 → Nat :=
  let c0_i32_13 : BitVec 32 := 0#32
  let c1_i32_16 : BitVec 32 := 1#32
  let arg22 : BitVec 32 := Scf.iv c0_i32_13 c1_i32_16 k0_t4
  let c1_i32_32 : BitVec 32 := 1#32
  let v72 : BitVec 32 := Scalar.andi arg22 c1_i32_32
  let v3275 : Index := Scalar.indexCast v72
  let c12032_i32_42 : BitVec 32 := 12032#32
  let v94 : BitVec 32 := Scalar.minsi v93 c12032_i32_42
  let v95 : BitVec 32 := Scalar.subi v93 v94
  let v96 : BitVec 32 := v95
  let v3272 : BitVec 32 := Scalar.addi v96 c0_i32_1406
  let c255_i32_1407 : BitVec 32 := 255#32
  let v3273 : BitVec 32 := Scalar.andi v3272 c255_i32_1407
  let v3274 : BitVec 32 := v3273
  let v3276 : Index := Scalar.indexCast v3274
  let c2944 : Index := 2944#32
  ![v3275.toNat, v3276.toNat, 2944]
def k0_mult360 (v93 : BitVec 32) : BitVec 32 :=
  let c12032_i32_42 : BitVec 32 := 12032#32
  let v94 : BitVec 32 := Scalar.minsi v93 c12032_i32_42
  let v95 : BitVec 32 := Scalar.subi v93 v94
  let v96 : BitVec 32 := v95
  let c16_i32_1408 : BitVec 32 := 16#32
  let v3279 : BitVec 32 := Scalar.addi v96 c16_i32_1408
  let c255_i32_1409 : BitVec 32 := 255#32
  let v3280 : BitVec 32 := Scalar.andi v3279 c255_i32_1409
  v3280
def k0_mult361 (v93 : BitVec 32) : BitVec 32 :=
  let c12032_i32_42 : BitVec 32 := 12032#32
  let v94 : BitVec 32 := Scalar.minsi v93 c12032_i32_42
  let v95 : BitVec 32 := Scalar.subi v93 v94
  let v96 : BitVec 32 := v95
  let c16_i32_1411 : BitVec 32 := 16#32
  let v3286 : BitVec 32 := Scalar.addi v96 c16_i32_1411
  let c255_i32_1412 : BitVec 32 := 255#32
  let v3287 : BitVec 32 := Scalar.andi v3286 c255_i32_1412
  v3287
def k0_mult362 (v93 : BitVec 32) : BitVec 32 :=
  let c12032_i32_42 : BitVec 32 := 12032#32
  let v94 : BitVec 32 := Scalar.minsi v93 c12032_i32_42
  let v95 : BitVec 32 := Scalar.subi v93 v94
  let v96 : BitVec 32 := v95
  let c32_i32_1414 : BitVec 32 := 32#32
  let v3293 : BitVec 32 := Scalar.addi v96 c32_i32_1414
  let c255_i32_1415 : BitVec 32 := 255#32
  let v3294 : BitVec 32 := Scalar.andi v3293 c255_i32_1415
  v3294
def k0_mult363 (v93 : BitVec 32) : BitVec 32 :=
  let c12032_i32_42 : BitVec 32 := 12032#32
  let v94 : BitVec 32 := Scalar.minsi v93 c12032_i32_42
  let v95 : BitVec 32 := Scalar.subi v93 v94
  let v96 : BitVec 32 := v95
  let c32_i32_1417 : BitVec 32 := 32#32
  let v3300 : BitVec 32 := Scalar.addi v96 c32_i32_1417
  let c255_i32_1418 : BitVec 32 := 255#32
  let v3301 : BitVec 32 := Scalar.andi v3300 c255_i32_1418
  v3301
def k0_mult364 (v93 : BitVec 32) : BitVec 32 :=
  let c12032_i32_42 : BitVec 32 := 12032#32
  let v94 : BitVec 32 := Scalar.minsi v93 c12032_i32_42
  let v95 : BitVec 32 := Scalar.subi v93 v94
  let v96 : BitVec 32 := v95
  let c48_i32_1420 : BitVec 32 := 48#32
  let v3307 : BitVec 32 := Scalar.addi v96 c48_i32_1420
  let c255_i32_1421 : BitVec 32 := 255#32
  let v3308 : BitVec 32 := Scalar.andi v3307 c255_i32_1421
  v3308
def k0_mult365 (v93 : BitVec 32) : BitVec 32 :=
  let c12032_i32_42 : BitVec 32 := 12032#32
  let v94 : BitVec 32 := Scalar.minsi v93 c12032_i32_42
  let v95 : BitVec 32 := Scalar.subi v93 v94
  let v96 : BitVec 32 := v95
  let c48_i32_1423 : BitVec 32 := 48#32
  let v3314 : BitVec 32 := Scalar.addi v96 c48_i32_1423
  let c255_i32_1424 : BitVec 32 := 255#32
  let v3315 : BitVec 32 := Scalar.andi v3314 c255_i32_1424
  v3315
def k0_mult366 (v93 : BitVec 32) : BitVec 32 :=
  let c12032_i32_42 : BitVec 32 := 12032#32
  let v94 : BitVec 32 := Scalar.minsi v93 c12032_i32_42
  let v95 : BitVec 32 := Scalar.subi v93 v94
  let v96 : BitVec 32 := v95
  let c64_i32_1426 : BitVec 32 := 64#32
  let v3321 : BitVec 32 := Scalar.addi v96 c64_i32_1426
  let c255_i32_1427 : BitVec 32 := 255#32
  let v3322 : BitVec 32 := Scalar.andi v3321 c255_i32_1427
  v3322
def k0_mult367 (v93 : BitVec 32) : BitVec 32 :=
  let c12032_i32_42 : BitVec 32 := 12032#32
  let v94 : BitVec 32 := Scalar.minsi v93 c12032_i32_42
  let v95 : BitVec 32 := Scalar.subi v93 v94
  let v96 : BitVec 32 := v95
  let c64_i32_1429 : BitVec 32 := 64#32
  let v3328 : BitVec 32 := Scalar.addi v96 c64_i32_1429
  let c255_i32_1430 : BitVec 32 := 255#32
  let v3329 : BitVec 32 := Scalar.andi v3328 c255_i32_1430
  v3329
def k0_mult368 (v93 : BitVec 32) : BitVec 32 :=
  let c12032_i32_42 : BitVec 32 := 12032#32
  let v94 : BitVec 32 := Scalar.minsi v93 c12032_i32_42
  let v95 : BitVec 32 := Scalar.subi v93 v94
  let v96 : BitVec 32 := v95
  let c80_i32_1432 : BitVec 32 := 80#32
  let v3335 : BitVec 32 := Scalar.addi v96 c80_i32_1432
  let c255_i32_1433 : BitVec 32 := 255#32
  let v3336 : BitVec 32 := Scalar.andi v3335 c255_i32_1433
  v3336
def k0_mult369 (v93 : BitVec 32) : BitVec 32 :=
  let c12032_i32_42 : BitVec 32 := 12032#32
  let v94 : BitVec 32 := Scalar.minsi v93 c12032_i32_42
  let v95 : BitVec 32 := Scalar.subi v93 v94
  let v96 : BitVec 32 := v95
  let c80_i32_1435 : BitVec 32 := 80#32
  let v3342 : BitVec 32 := Scalar.addi v96 c80_i32_1435
  let c255_i32_1436 : BitVec 32 := 255#32
  let v3343 : BitVec 32 := Scalar.andi v3342 c255_i32_1436
  v3343
def k0_mult370 (v93 : BitVec 32) : BitVec 32 :=
  let c12032_i32_42 : BitVec 32 := 12032#32
  let v94 : BitVec 32 := Scalar.minsi v93 c12032_i32_42
  let v95 : BitVec 32 := Scalar.subi v93 v94
  let v96 : BitVec 32 := v95
  let c96_i32_1438 : BitVec 32 := 96#32
  let v3349 : BitVec 32 := Scalar.addi v96 c96_i32_1438
  let c255_i32_1439 : BitVec 32 := 255#32
  let v3350 : BitVec 32 := Scalar.andi v3349 c255_i32_1439
  v3350
def k0_mult371 (v93 : BitVec 32) : BitVec 32 :=
  let c12032_i32_42 : BitVec 32 := 12032#32
  let v94 : BitVec 32 := Scalar.minsi v93 c12032_i32_42
  let v95 : BitVec 32 := Scalar.subi v93 v94
  let v96 : BitVec 32 := v95
  let c96_i32_1441 : BitVec 32 := 96#32
  let v3356 : BitVec 32 := Scalar.addi v96 c96_i32_1441
  let c255_i32_1442 : BitVec 32 := 255#32
  let v3357 : BitVec 32 := Scalar.andi v3356 c255_i32_1442
  v3357
def k0_mult372 (v93 : BitVec 32) : BitVec 32 :=
  let c12032_i32_42 : BitVec 32 := 12032#32
  let v94 : BitVec 32 := Scalar.minsi v93 c12032_i32_42
  let v95 : BitVec 32 := Scalar.subi v93 v94
  let v96 : BitVec 32 := v95
  let c112_i32_1444 : BitVec 32 := 112#32
  let v3363 : BitVec 32 := Scalar.addi v96 c112_i32_1444
  let c255_i32_1445 : BitVec 32 := 255#32
  let v3364 : BitVec 32 := Scalar.andi v3363 c255_i32_1445
  v3364
def k0_mult373 (v93 : BitVec 32) : BitVec 32 :=
  let c12032_i32_42 : BitVec 32 := 12032#32
  let v94 : BitVec 32 := Scalar.minsi v93 c12032_i32_42
  let v95 : BitVec 32 := Scalar.subi v93 v94
  let v96 : BitVec 32 := v95
  let c112_i32_1447 : BitVec 32 := 112#32
  let v3370 : BitVec 32 := Scalar.addi v96 c112_i32_1447
  let c255_i32_1448 : BitVec 32 := 255#32
  let v3371 : BitVec 32 := Scalar.andi v3370 c255_i32_1448
  v3371
def k0_mult374 (v93 : BitVec 32) : BitVec 32 :=
  let c12032_i32_42 : BitVec 32 := 12032#32
  let v94 : BitVec 32 := Scalar.minsi v93 c12032_i32_42
  let v95 : BitVec 32 := Scalar.subi v93 v94
  let v96 : BitVec 32 := v95
  let c128_i32_1450 : BitVec 32 := 128#32
  let v3377 : BitVec 32 := Scalar.addi v96 c128_i32_1450
  let c255_i32_1451 : BitVec 32 := 255#32
  let v3378 : BitVec 32 := Scalar.andi v3377 c255_i32_1451
  v3378
def k0_mult375 (v93 : BitVec 32) : BitVec 32 :=
  let c12032_i32_42 : BitVec 32 := 12032#32
  let v94 : BitVec 32 := Scalar.minsi v93 c12032_i32_42
  let v95 : BitVec 32 := Scalar.subi v93 v94
  let v96 : BitVec 32 := v95
  let c128_i32_1453 : BitVec 32 := 128#32
  let v3384 : BitVec 32 := Scalar.addi v96 c128_i32_1453
  let c255_i32_1454 : BitVec 32 := 255#32
  let v3385 : BitVec 32 := Scalar.andi v3384 c255_i32_1454
  v3385
def k0_mult376 (v93 : BitVec 32) : BitVec 32 :=
  let c12032_i32_42 : BitVec 32 := 12032#32
  let v94 : BitVec 32 := Scalar.minsi v93 c12032_i32_42
  let v95 : BitVec 32 := Scalar.subi v93 v94
  let v96 : BitVec 32 := v95
  let c144_i32_1456 : BitVec 32 := 144#32
  let v3391 : BitVec 32 := Scalar.addi v96 c144_i32_1456
  let c255_i32_1457 : BitVec 32 := 255#32
  let v3392 : BitVec 32 := Scalar.andi v3391 c255_i32_1457
  v3392
def k0_mult377 (v93 : BitVec 32) : BitVec 32 :=
  let c12032_i32_42 : BitVec 32 := 12032#32
  let v94 : BitVec 32 := Scalar.minsi v93 c12032_i32_42
  let v95 : BitVec 32 := Scalar.subi v93 v94
  let v96 : BitVec 32 := v95
  let c144_i32_1459 : BitVec 32 := 144#32
  let v3398 : BitVec 32 := Scalar.addi v96 c144_i32_1459
  let c255_i32_1460 : BitVec 32 := 255#32
  let v3399 : BitVec 32 := Scalar.andi v3398 c255_i32_1460
  v3399
def k0_mult378 (v93 : BitVec 32) : BitVec 32 :=
  let c12032_i32_42 : BitVec 32 := 12032#32
  let v94 : BitVec 32 := Scalar.minsi v93 c12032_i32_42
  let v95 : BitVec 32 := Scalar.subi v93 v94
  let v96 : BitVec 32 := v95
  let c160_i32_1462 : BitVec 32 := 160#32
  let v3405 : BitVec 32 := Scalar.addi v96 c160_i32_1462
  let c255_i32_1463 : BitVec 32 := 255#32
  let v3406 : BitVec 32 := Scalar.andi v3405 c255_i32_1463
  v3406
def k0_mult379 (v93 : BitVec 32) : BitVec 32 :=
  let c12032_i32_42 : BitVec 32 := 12032#32
  let v94 : BitVec 32 := Scalar.minsi v93 c12032_i32_42
  let v95 : BitVec 32 := Scalar.subi v93 v94
  let v96 : BitVec 32 := v95
  let c160_i32_1465 : BitVec 32 := 160#32
  let v3412 : BitVec 32 := Scalar.addi v96 c160_i32_1465
  let c255_i32_1466 : BitVec 32 := 255#32
  let v3413 : BitVec 32 := Scalar.andi v3412 c255_i32_1466
  v3413
def k0_mult380 (v93 : BitVec 32) : BitVec 32 :=
  let c12032_i32_42 : BitVec 32 := 12032#32
  let v94 : BitVec 32 := Scalar.minsi v93 c12032_i32_42
  let v95 : BitVec 32 := Scalar.subi v93 v94
  let v96 : BitVec 32 := v95
  let c176_i32_1468 : BitVec 32 := 176#32
  let v3419 : BitVec 32 := Scalar.addi v96 c176_i32_1468
  let c255_i32_1469 : BitVec 32 := 255#32
  let v3420 : BitVec 32 := Scalar.andi v3419 c255_i32_1469
  v3420
def k0_mult381 (v93 : BitVec 32) : BitVec 32 :=
  let c12032_i32_42 : BitVec 32 := 12032#32
  let v94 : BitVec 32 := Scalar.minsi v93 c12032_i32_42
  let v95 : BitVec 32 := Scalar.subi v93 v94
  let v96 : BitVec 32 := v95
  let c176_i32_1471 : BitVec 32 := 176#32
  let v3426 : BitVec 32 := Scalar.addi v96 c176_i32_1471
  let c255_i32_1472 : BitVec 32 := 255#32
  let v3427 : BitVec 32 := Scalar.andi v3426 c255_i32_1472
  v3427
def k0_mult382 (v93 : BitVec 32) : BitVec 32 :=
  let c12032_i32_42 : BitVec 32 := 12032#32
  let v94 : BitVec 32 := Scalar.minsi v93 c12032_i32_42
  let v95 : BitVec 32 := Scalar.subi v93 v94
  let v96 : BitVec 32 := v95
  let c192_i32_1474 : BitVec 32 := 192#32
  let v3433 : BitVec 32 := Scalar.addi v96 c192_i32_1474
  let c255_i32_1475 : BitVec 32 := 255#32
  let v3434 : BitVec 32 := Scalar.andi v3433 c255_i32_1475
  v3434
def k0_mult383 (v93 : BitVec 32) : BitVec 32 :=
  let c12032_i32_42 : BitVec 32 := 12032#32
  let v94 : BitVec 32 := Scalar.minsi v93 c12032_i32_42
  let v95 : BitVec 32 := Scalar.subi v93 v94
  let v96 : BitVec 32 := v95
  let c192_i32_1477 : BitVec 32 := 192#32
  let v3440 : BitVec 32 := Scalar.addi v96 c192_i32_1477
  let c255_i32_1478 : BitVec 32 := 255#32
  let v3441 : BitVec 32 := Scalar.andi v3440 c255_i32_1478
  v3441
def k0_mult384 (v93 : BitVec 32) : BitVec 32 :=
  let c12032_i32_42 : BitVec 32 := 12032#32
  let v94 : BitVec 32 := Scalar.minsi v93 c12032_i32_42
  let v95 : BitVec 32 := Scalar.subi v93 v94
  let v96 : BitVec 32 := v95
  let c208_i32_1480 : BitVec 32 := 208#32
  let v3447 : BitVec 32 := Scalar.addi v96 c208_i32_1480
  let c255_i32_1481 : BitVec 32 := 255#32
  let v3448 : BitVec 32 := Scalar.andi v3447 c255_i32_1481
  v3448
def k0_mult385 (v93 : BitVec 32) : BitVec 32 :=
  let c12032_i32_42 : BitVec 32 := 12032#32
  let v94 : BitVec 32 := Scalar.minsi v93 c12032_i32_42
  let v95 : BitVec 32 := Scalar.subi v93 v94
  let v96 : BitVec 32 := v95
  let c208_i32_1483 : BitVec 32 := 208#32
  let v3454 : BitVec 32 := Scalar.addi v96 c208_i32_1483
  let c255_i32_1484 : BitVec 32 := 255#32
  let v3455 : BitVec 32 := Scalar.andi v3454 c255_i32_1484
  v3455
def k0_mult386 (v93 : BitVec 32) : BitVec 32 :=
  let c12032_i32_42 : BitVec 32 := 12032#32
  let v94 : BitVec 32 := Scalar.minsi v93 c12032_i32_42
  let v95 : BitVec 32 := Scalar.subi v93 v94
  let v96 : BitVec 32 := v95
  let c224_i32_1486 : BitVec 32 := 224#32
  let v3461 : BitVec 32 := Scalar.addi v96 c224_i32_1486
  let c255_i32_1487 : BitVec 32 := 255#32
  let v3462 : BitVec 32 := Scalar.andi v3461 c255_i32_1487
  v3462
def k0_mult387 (v93 : BitVec 32) : BitVec 32 :=
  let c12032_i32_42 : BitVec 32 := 12032#32
  let v94 : BitVec 32 := Scalar.minsi v93 c12032_i32_42
  let v95 : BitVec 32 := Scalar.subi v93 v94
  let v96 : BitVec 32 := v95
  let c224_i32_1489 : BitVec 32 := 224#32
  let v3468 : BitVec 32 := Scalar.addi v96 c224_i32_1489
  let c255_i32_1490 : BitVec 32 := 255#32
  let v3469 : BitVec 32 := Scalar.andi v3468 c255_i32_1490
  v3469
def k0_mult388 (v93 : BitVec 32) : BitVec 32 :=
  let c12032_i32_42 : BitVec 32 := 12032#32
  let v94 : BitVec 32 := Scalar.minsi v93 c12032_i32_42
  let v95 : BitVec 32 := Scalar.subi v93 v94
  let v96 : BitVec 32 := v95
  let c240_i32_1492 : BitVec 32 := 240#32
  let v3475 : BitVec 32 := Scalar.addi v96 c240_i32_1492
  let c255_i32_1493 : BitVec 32 := 255#32
  let v3476 : BitVec 32 := Scalar.andi v3475 c255_i32_1493
  v3476
def k0_mult389 (v93 : BitVec 32) : BitVec 32 :=
  let c12032_i32_42 : BitVec 32 := 12032#32
  let v94 : BitVec 32 := Scalar.minsi v93 c12032_i32_42
  let v95 : BitVec 32 := Scalar.subi v93 v94
  let v96 : BitVec 32 := v95
  let c240_i32_1495 : BitVec 32 := 240#32
  let v3482 : BitVec 32 := Scalar.addi v96 c240_i32_1495
  let c255_i32_1496 : BitVec 32 := 255#32
  let v3483 : BitVec 32 := Scalar.andi v3482 c255_i32_1496
  v3483

def k0_chk14_0 (v1_0 : BitVec 32) (k0_t4 : Fin (k0_t4_loop v1_0).trips) (v93 : BitVec 32) : Prop :=
  (16 ∣ (k0_mult5 v93).toNat) ∧
  (16 ∣ (k0_mult6 v93).toNat) ∧
  (∀ (r : Fin 16), ∀ a, (k0_off26 v1_0 k0_t4 v93 (BitVec.ofNat 32 (16 * r.val))) a + S1x16x128.size a ≤ S2x256x3072.size a) ∧
  (16 ∣ (k0_mult7 v93).toNat) ∧
  (∀ (r : Fin 16), ∀ a, (k0_off27 v1_0 k0_t4 v93 (BitVec.ofNat 32 (16 * r.val))) a + S1x16x128.size a ≤ S2x256x3072.size a) ∧
  (16 ∣ (k0_mult8 v93).toNat) ∧
  (16 ∣ (k0_mult9 v93).toNat) ∧
  (16 ∣ (k0_mult10 v93).toNat) ∧
  (16 ∣ (k0_mult11 v93).toNat) ∧
  (16 ∣ (k0_mult12 v93).toNat) ∧
  (16 ∣ (k0_mult13 v93).toNat) ∧
  (16 ∣ (k0_mult14 v93).toNat) ∧
  (16 ∣ (k0_mult15 v93).toNat) ∧
  (16 ∣ (k0_mult16 v93).toNat) ∧
  (16 ∣ (k0_mult17 v93).toNat) ∧
  (16 ∣ (k0_mult18 v93).toNat) ∧
  (16 ∣ (k0_mult19 v93).toNat) ∧
  (16 ∣ (k0_mult20 v93).toNat) ∧
  (16 ∣ (k0_mult21 v93).toNat) ∧
  (16 ∣ (k0_mult22 v93).toNat) ∧
  (16 ∣ (k0_mult23 v93).toNat) ∧
  (16 ∣ (k0_mult24 v93).toNat) ∧
  (16 ∣ (k0_mult25 v93).toNat) ∧
  (16 ∣ (k0_mult26 v93).toNat) ∧
  (16 ∣ (k0_mult27 v93).toNat) ∧
  (16 ∣ (k0_mult28 v93).toNat) ∧
  (16 ∣ (k0_mult29 v93).toNat) ∧
  (16 ∣ (k0_mult30 v93).toNat) ∧
  (16 ∣ (k0_mult31 v93).toNat) ∧
  (16 ∣ (k0_mult32 v93).toNat) ∧
  (16 ∣ (k0_mult33 v93).toNat) ∧
  (16 ∣ (k0_mult34 v93).toNat)
def k0_chk14_1 (v1_0 : BitVec 32) (k0_t4 : Fin (k0_t4_loop v1_0).trips) (v93 : BitVec 32) : Prop :=
  (16 ∣ (k0_mult35 v93).toNat) ∧
  (16 ∣ (k0_mult36 v93).toNat) ∧
  (16 ∣ (k0_mult37 v93).toNat) ∧
  (16 ∣ (k0_mult38 v93).toNat) ∧
  (∀ (r : Fin 16), ∀ a, (k0_off28 v1_0 k0_t4 v93 (BitVec.ofNat 32 (16 * r.val))) a + S1x16x128.size a ≤ S2x256x3072.size a) ∧
  (16 ∣ (k0_mult39 v93).toNat) ∧
  (∀ (r : Fin 16), ∀ a, (k0_off29 v1_0 k0_t4 v93 (BitVec.ofNat 32 (16 * r.val))) a + S1x16x128.size a ≤ S2x256x3072.size a) ∧
  (16 ∣ (k0_mult40 v93).toNat) ∧
  (16 ∣ (k0_mult41 v93).toNat) ∧
  (16 ∣ (k0_mult42 v93).toNat) ∧
  (16 ∣ (k0_mult43 v93).toNat) ∧
  (16 ∣ (k0_mult44 v93).toNat) ∧
  (16 ∣ (k0_mult45 v93).toNat) ∧
  (16 ∣ (k0_mult46 v93).toNat) ∧
  (16 ∣ (k0_mult47 v93).toNat) ∧
  (16 ∣ (k0_mult48 v93).toNat) ∧
  (16 ∣ (k0_mult49 v93).toNat) ∧
  (16 ∣ (k0_mult50 v93).toNat) ∧
  (16 ∣ (k0_mult51 v93).toNat) ∧
  (16 ∣ (k0_mult52 v93).toNat) ∧
  (16 ∣ (k0_mult53 v93).toNat) ∧
  (16 ∣ (k0_mult54 v93).toNat) ∧
  (16 ∣ (k0_mult55 v93).toNat) ∧
  (16 ∣ (k0_mult56 v93).toNat) ∧
  (16 ∣ (k0_mult57 v93).toNat) ∧
  (16 ∣ (k0_mult58 v93).toNat) ∧
  (16 ∣ (k0_mult59 v93).toNat) ∧
  (16 ∣ (k0_mult60 v93).toNat) ∧
  (16 ∣ (k0_mult61 v93).toNat) ∧
  (16 ∣ (k0_mult62 v93).toNat) ∧
  (16 ∣ (k0_mult63 v93).toNat) ∧
  (16 ∣ (k0_mult64 v93).toNat)
def k0_chk14_2 (v1_0 : BitVec 32) (k0_t4 : Fin (k0_t4_loop v1_0).trips) (v93 : BitVec 32) : Prop :=
  (16 ∣ (k0_mult65 v93).toNat) ∧
  (16 ∣ (k0_mult66 v93).toNat) ∧
  (16 ∣ (k0_mult67 v93).toNat) ∧
  (16 ∣ (k0_mult68 v93).toNat) ∧
  (16 ∣ (k0_mult69 v93).toNat) ∧
  (16 ∣ (k0_mult70 v93).toNat) ∧
  (∀ (r : Fin 16), ∀ a, (k0_off30 v1_0 k0_t4 v93 (BitVec.ofNat 32 (16 * r.val))) a + S1x16x128.size a ≤ S2x256x3072.size a) ∧
  (16 ∣ (k0_mult71 v93).toNat) ∧
  (∀ (r : Fin 16), ∀ a, (k0_off31 v1_0 k0_t4 v93 (BitVec.ofNat 32 (16 * r.val))) a + S1x16x128.size a ≤ S2x256x3072.size a) ∧
  (16 ∣ (k0_mult72 v93).toNat) ∧
  (16 ∣ (k0_mult73 v93).toNat) ∧
  (16 ∣ (k0_mult74 v93).toNat) ∧
  (16 ∣ (k0_mult75 v93).toNat) ∧
  (16 ∣ (k0_mult76 v93).toNat) ∧
  (16 ∣ (k0_mult77 v93).toNat) ∧
  (16 ∣ (k0_mult78 v93).toNat) ∧
  (16 ∣ (k0_mult79 v93).toNat) ∧
  (16 ∣ (k0_mult80 v93).toNat) ∧
  (16 ∣ (k0_mult81 v93).toNat) ∧
  (16 ∣ (k0_mult82 v93).toNat) ∧
  (16 ∣ (k0_mult83 v93).toNat) ∧
  (16 ∣ (k0_mult84 v93).toNat) ∧
  (16 ∣ (k0_mult85 v93).toNat) ∧
  (16 ∣ (k0_mult86 v93).toNat) ∧
  (16 ∣ (k0_mult87 v93).toNat) ∧
  (16 ∣ (k0_mult88 v93).toNat) ∧
  (16 ∣ (k0_mult89 v93).toNat) ∧
  (16 ∣ (k0_mult90 v93).toNat) ∧
  (16 ∣ (k0_mult91 v93).toNat) ∧
  (16 ∣ (k0_mult92 v93).toNat) ∧
  (16 ∣ (k0_mult93 v93).toNat) ∧
  (16 ∣ (k0_mult94 v93).toNat)
def k0_chk14_3 (v1_0 : BitVec 32) (k0_t4 : Fin (k0_t4_loop v1_0).trips) (v93 : BitVec 32) : Prop :=
  (16 ∣ (k0_mult95 v93).toNat) ∧
  (16 ∣ (k0_mult96 v93).toNat) ∧
  (16 ∣ (k0_mult97 v93).toNat) ∧
  (16 ∣ (k0_mult98 v93).toNat) ∧
  (16 ∣ (k0_mult99 v93).toNat) ∧
  (16 ∣ (k0_mult100 v93).toNat) ∧
  (16 ∣ (k0_mult101 v93).toNat) ∧
  (16 ∣ (k0_mult102 v93).toNat) ∧
  (∀ (r : Fin 16), ∀ a, (k0_off32 v1_0 k0_t4 v93 (BitVec.ofNat 32 (16 * r.val))) a + S1x16x128.size a ≤ S2x256x3072.size a) ∧
  (16 ∣ (k0_mult103 v93).toNat) ∧
  (∀ (r : Fin 16), ∀ a, (k0_off33 v1_0 k0_t4 v93 (BitVec.ofNat 32 (16 * r.val))) a + S1x16x128.size a ≤ S2x256x3072.size a) ∧
  (16 ∣ (k0_mult104 v93).toNat) ∧
  (16 ∣ (k0_mult105 v93).toNat) ∧
  (16 ∣ (k0_mult106 v93).toNat) ∧
  (16 ∣ (k0_mult107 v93).toNat) ∧
  (16 ∣ (k0_mult108 v93).toNat) ∧
  (16 ∣ (k0_mult109 v93).toNat) ∧
  (16 ∣ (k0_mult110 v93).toNat) ∧
  (16 ∣ (k0_mult111 v93).toNat) ∧
  (16 ∣ (k0_mult112 v93).toNat) ∧
  (16 ∣ (k0_mult113 v93).toNat) ∧
  (16 ∣ (k0_mult114 v93).toNat) ∧
  (16 ∣ (k0_mult115 v93).toNat) ∧
  (16 ∣ (k0_mult116 v93).toNat) ∧
  (16 ∣ (k0_mult117 v93).toNat) ∧
  (16 ∣ (k0_mult118 v93).toNat) ∧
  (16 ∣ (k0_mult119 v93).toNat) ∧
  (16 ∣ (k0_mult120 v93).toNat) ∧
  (16 ∣ (k0_mult121 v93).toNat) ∧
  (16 ∣ (k0_mult122 v93).toNat) ∧
  (16 ∣ (k0_mult123 v93).toNat) ∧
  (16 ∣ (k0_mult124 v93).toNat)
def k0_chk14_4 (v1_0 : BitVec 32) (k0_t4 : Fin (k0_t4_loop v1_0).trips) (v93 : BitVec 32) : Prop :=
  (16 ∣ (k0_mult125 v93).toNat) ∧
  (16 ∣ (k0_mult126 v93).toNat) ∧
  (16 ∣ (k0_mult127 v93).toNat) ∧
  (16 ∣ (k0_mult128 v93).toNat) ∧
  (16 ∣ (k0_mult129 v93).toNat) ∧
  (16 ∣ (k0_mult130 v93).toNat) ∧
  (16 ∣ (k0_mult131 v93).toNat) ∧
  (16 ∣ (k0_mult132 v93).toNat) ∧
  (16 ∣ (k0_mult133 v93).toNat) ∧
  (16 ∣ (k0_mult134 v93).toNat) ∧
  (∀ (r : Fin 16), ∀ a, (k0_off34 v1_0 k0_t4 v93 (BitVec.ofNat 32 (16 * r.val))) a + S1x16x128.size a ≤ S2x256x3072.size a) ∧
  (16 ∣ (k0_mult135 v93).toNat) ∧
  (∀ (r : Fin 16), ∀ a, (k0_off35 v1_0 k0_t4 v93 (BitVec.ofNat 32 (16 * r.val))) a + S1x16x128.size a ≤ S2x256x3072.size a) ∧
  (16 ∣ (k0_mult136 v93).toNat) ∧
  (16 ∣ (k0_mult137 v93).toNat) ∧
  (16 ∣ (k0_mult138 v93).toNat) ∧
  (16 ∣ (k0_mult139 v93).toNat) ∧
  (16 ∣ (k0_mult140 v93).toNat) ∧
  (16 ∣ (k0_mult141 v93).toNat) ∧
  (16 ∣ (k0_mult142 v93).toNat) ∧
  (16 ∣ (k0_mult143 v93).toNat) ∧
  (16 ∣ (k0_mult144 v93).toNat) ∧
  (16 ∣ (k0_mult145 v93).toNat) ∧
  (16 ∣ (k0_mult146 v93).toNat) ∧
  (16 ∣ (k0_mult147 v93).toNat) ∧
  (16 ∣ (k0_mult148 v93).toNat) ∧
  (16 ∣ (k0_mult149 v93).toNat) ∧
  (16 ∣ (k0_mult150 v93).toNat) ∧
  (16 ∣ (k0_mult151 v93).toNat) ∧
  (16 ∣ (k0_mult152 v93).toNat) ∧
  (16 ∣ (k0_mult153 v93).toNat) ∧
  (16 ∣ (k0_mult154 v93).toNat)
def k0_chk14_5 (v1_0 : BitVec 32) (k0_t4 : Fin (k0_t4_loop v1_0).trips) (v93 : BitVec 32) : Prop :=
  (16 ∣ (k0_mult155 v93).toNat) ∧
  (16 ∣ (k0_mult156 v93).toNat) ∧
  (16 ∣ (k0_mult157 v93).toNat) ∧
  (16 ∣ (k0_mult158 v93).toNat) ∧
  (16 ∣ (k0_mult159 v93).toNat) ∧
  (16 ∣ (k0_mult160 v93).toNat) ∧
  (16 ∣ (k0_mult161 v93).toNat) ∧
  (16 ∣ (k0_mult162 v93).toNat) ∧
  (16 ∣ (k0_mult163 v93).toNat) ∧
  (16 ∣ (k0_mult164 v93).toNat) ∧
  (16 ∣ (k0_mult165 v93).toNat) ∧
  (16 ∣ (k0_mult166 v93).toNat) ∧
  (∀ (r : Fin 16), ∀ a, (k0_off36 v1_0 k0_t4 v93 (BitVec.ofNat 32 (16 * r.val))) a + S1x16x128.size a ≤ S2x256x3072.size a) ∧
  (16 ∣ (k0_mult167 v93).toNat) ∧
  (∀ (r : Fin 16), ∀ a, (k0_off37 v1_0 k0_t4 v93 (BitVec.ofNat 32 (16 * r.val))) a + S1x16x128.size a ≤ S2x256x3072.size a) ∧
  (16 ∣ (k0_mult168 v93).toNat) ∧
  (16 ∣ (k0_mult169 v93).toNat) ∧
  (16 ∣ (k0_mult170 v93).toNat) ∧
  (16 ∣ (k0_mult171 v93).toNat) ∧
  (16 ∣ (k0_mult172 v93).toNat) ∧
  (16 ∣ (k0_mult173 v93).toNat) ∧
  (16 ∣ (k0_mult174 v93).toNat) ∧
  (16 ∣ (k0_mult175 v93).toNat) ∧
  (16 ∣ (k0_mult176 v93).toNat) ∧
  (16 ∣ (k0_mult177 v93).toNat) ∧
  (16 ∣ (k0_mult178 v93).toNat) ∧
  (16 ∣ (k0_mult179 v93).toNat) ∧
  (16 ∣ (k0_mult180 v93).toNat) ∧
  (16 ∣ (k0_mult181 v93).toNat) ∧
  (16 ∣ (k0_mult182 v93).toNat) ∧
  (16 ∣ (k0_mult183 v93).toNat) ∧
  (16 ∣ (k0_mult184 v93).toNat)
def k0_chk14_6 (v1_0 : BitVec 32) (k0_t4 : Fin (k0_t4_loop v1_0).trips) (v93 : BitVec 32) : Prop :=
  (16 ∣ (k0_mult185 v93).toNat) ∧
  (16 ∣ (k0_mult186 v93).toNat) ∧
  (16 ∣ (k0_mult187 v93).toNat) ∧
  (16 ∣ (k0_mult188 v93).toNat) ∧
  (16 ∣ (k0_mult189 v93).toNat) ∧
  (16 ∣ (k0_mult190 v93).toNat) ∧
  (16 ∣ (k0_mult191 v93).toNat) ∧
  (16 ∣ (k0_mult192 v93).toNat) ∧
  (16 ∣ (k0_mult193 v93).toNat) ∧
  (16 ∣ (k0_mult194 v93).toNat) ∧
  (16 ∣ (k0_mult195 v93).toNat) ∧
  (16 ∣ (k0_mult196 v93).toNat) ∧
  (16 ∣ (k0_mult197 v93).toNat) ∧
  (16 ∣ (k0_mult198 v93).toNat) ∧
  (∀ (r : Fin 16), ∀ a, (k0_off38 v1_0 k0_t4 v93 (BitVec.ofNat 32 (16 * r.val))) a + S1x16x128.size a ≤ S2x256x3072.size a) ∧
  (16 ∣ (k0_mult199 v93).toNat) ∧
  (∀ (r : Fin 16), ∀ a, (k0_off39 v1_0 k0_t4 v93 (BitVec.ofNat 32 (16 * r.val))) a + S1x16x128.size a ≤ S2x256x3072.size a) ∧
  (16 ∣ (k0_mult200 v93).toNat) ∧
  (16 ∣ (k0_mult201 v93).toNat) ∧
  (16 ∣ (k0_mult202 v93).toNat) ∧
  (16 ∣ (k0_mult203 v93).toNat) ∧
  (16 ∣ (k0_mult204 v93).toNat) ∧
  (16 ∣ (k0_mult205 v93).toNat) ∧
  (16 ∣ (k0_mult206 v93).toNat) ∧
  (16 ∣ (k0_mult207 v93).toNat) ∧
  (16 ∣ (k0_mult208 v93).toNat) ∧
  (16 ∣ (k0_mult209 v93).toNat) ∧
  (16 ∣ (k0_mult210 v93).toNat) ∧
  (16 ∣ (k0_mult211 v93).toNat) ∧
  (16 ∣ (k0_mult212 v93).toNat) ∧
  (16 ∣ (k0_mult213 v93).toNat) ∧
  (16 ∣ (k0_mult214 v93).toNat)
def k0_chk14_7 (v1_0 : BitVec 32) (k0_t4 : Fin (k0_t4_loop v1_0).trips) (v93 : BitVec 32) : Prop :=
  (16 ∣ (k0_mult215 v93).toNat) ∧
  (16 ∣ (k0_mult216 v93).toNat) ∧
  (16 ∣ (k0_mult217 v93).toNat) ∧
  (16 ∣ (k0_mult218 v93).toNat) ∧
  (16 ∣ (k0_mult219 v93).toNat) ∧
  (16 ∣ (k0_mult220 v93).toNat) ∧
  (16 ∣ (k0_mult221 v93).toNat) ∧
  (16 ∣ (k0_mult222 v93).toNat) ∧
  (16 ∣ (k0_mult223 v93).toNat) ∧
  (16 ∣ (k0_mult224 v93).toNat) ∧
  (16 ∣ (k0_mult225 v93).toNat) ∧
  (16 ∣ (k0_mult226 v93).toNat) ∧
  (16 ∣ (k0_mult227 v93).toNat) ∧
  (16 ∣ (k0_mult228 v93).toNat) ∧
  (16 ∣ (k0_mult229 v93).toNat) ∧
  (16 ∣ (k0_mult230 v93).toNat) ∧
  (∀ (r : Fin 16), ∀ a, (k0_off40 v1_0 k0_t4 v93 (BitVec.ofNat 32 (16 * r.val))) a + S1x16x128.size a ≤ S2x256x3072.size a) ∧
  (16 ∣ (k0_mult231 v93).toNat) ∧
  (∀ (r : Fin 16), ∀ a, (k0_off41 v1_0 k0_t4 v93 (BitVec.ofNat 32 (16 * r.val))) a + S1x16x128.size a ≤ S2x256x3072.size a) ∧
  (16 ∣ (k0_mult232 v93).toNat) ∧
  (16 ∣ (k0_mult233 v93).toNat) ∧
  (16 ∣ (k0_mult234 v93).toNat) ∧
  (16 ∣ (k0_mult235 v93).toNat) ∧
  (16 ∣ (k0_mult236 v93).toNat) ∧
  (16 ∣ (k0_mult237 v93).toNat) ∧
  (16 ∣ (k0_mult238 v93).toNat) ∧
  (16 ∣ (k0_mult239 v93).toNat) ∧
  (16 ∣ (k0_mult240 v93).toNat) ∧
  (16 ∣ (k0_mult241 v93).toNat) ∧
  (16 ∣ (k0_mult242 v93).toNat) ∧
  (16 ∣ (k0_mult243 v93).toNat) ∧
  (16 ∣ (k0_mult244 v93).toNat)
def k0_chk14_8 (v1_0 : BitVec 32) (k0_t4 : Fin (k0_t4_loop v1_0).trips) (v93 : BitVec 32) : Prop :=
  (16 ∣ (k0_mult245 v93).toNat) ∧
  (16 ∣ (k0_mult246 v93).toNat) ∧
  (16 ∣ (k0_mult247 v93).toNat) ∧
  (16 ∣ (k0_mult248 v93).toNat) ∧
  (16 ∣ (k0_mult249 v93).toNat) ∧
  (16 ∣ (k0_mult250 v93).toNat) ∧
  (16 ∣ (k0_mult251 v93).toNat) ∧
  (16 ∣ (k0_mult252 v93).toNat) ∧
  (16 ∣ (k0_mult253 v93).toNat) ∧
  (16 ∣ (k0_mult254 v93).toNat) ∧
  (16 ∣ (k0_mult255 v93).toNat) ∧
  (16 ∣ (k0_mult256 v93).toNat) ∧
  (16 ∣ (k0_mult257 v93).toNat) ∧
  (16 ∣ (k0_mult258 v93).toNat) ∧
  (16 ∣ (k0_mult259 v93).toNat) ∧
  (16 ∣ (k0_mult260 v93).toNat) ∧
  (16 ∣ (k0_mult261 v93).toNat) ∧
  (16 ∣ (k0_mult262 v93).toNat) ∧
  (∀ (r : Fin 16), ∀ a, (k0_off42 v1_0 k0_t4 v93 (BitVec.ofNat 32 (16 * r.val))) a + S1x16x128.size a ≤ S2x256x3072.size a) ∧
  (16 ∣ (k0_mult263 v93).toNat) ∧
  (∀ (r : Fin 16), ∀ a, (k0_off43 v1_0 k0_t4 v93 (BitVec.ofNat 32 (16 * r.val))) a + S1x16x128.size a ≤ S2x256x3072.size a) ∧
  (16 ∣ (k0_mult264 v93).toNat) ∧
  (16 ∣ (k0_mult265 v93).toNat) ∧
  (16 ∣ (k0_mult266 v93).toNat) ∧
  (16 ∣ (k0_mult267 v93).toNat) ∧
  (16 ∣ (k0_mult268 v93).toNat) ∧
  (16 ∣ (k0_mult269 v93).toNat) ∧
  (16 ∣ (k0_mult270 v93).toNat) ∧
  (16 ∣ (k0_mult271 v93).toNat) ∧
  (16 ∣ (k0_mult272 v93).toNat) ∧
  (16 ∣ (k0_mult273 v93).toNat) ∧
  (16 ∣ (k0_mult274 v93).toNat)
def k0_chk14_9 (v1_0 : BitVec 32) (k0_t4 : Fin (k0_t4_loop v1_0).trips) (v93 : BitVec 32) : Prop :=
  (16 ∣ (k0_mult275 v93).toNat) ∧
  (16 ∣ (k0_mult276 v93).toNat) ∧
  (16 ∣ (k0_mult277 v93).toNat) ∧
  (16 ∣ (k0_mult278 v93).toNat) ∧
  (16 ∣ (k0_mult279 v93).toNat) ∧
  (16 ∣ (k0_mult280 v93).toNat) ∧
  (16 ∣ (k0_mult281 v93).toNat) ∧
  (16 ∣ (k0_mult282 v93).toNat) ∧
  (16 ∣ (k0_mult283 v93).toNat) ∧
  (16 ∣ (k0_mult284 v93).toNat) ∧
  (16 ∣ (k0_mult285 v93).toNat) ∧
  (16 ∣ (k0_mult286 v93).toNat) ∧
  (16 ∣ (k0_mult287 v93).toNat) ∧
  (16 ∣ (k0_mult288 v93).toNat) ∧
  (16 ∣ (k0_mult289 v93).toNat) ∧
  (16 ∣ (k0_mult290 v93).toNat) ∧
  (16 ∣ (k0_mult291 v93).toNat) ∧
  (16 ∣ (k0_mult292 v93).toNat) ∧
  (16 ∣ (k0_mult293 v93).toNat) ∧
  (16 ∣ (k0_mult294 v93).toNat) ∧
  (∀ (r : Fin 16), ∀ a, (k0_off44 v1_0 k0_t4 v93 (BitVec.ofNat 32 (16 * r.val))) a + S1x16x128.size a ≤ S2x256x3072.size a) ∧
  (16 ∣ (k0_mult295 v93).toNat) ∧
  (∀ (r : Fin 16), ∀ a, (k0_off45 v1_0 k0_t4 v93 (BitVec.ofNat 32 (16 * r.val))) a + S1x16x128.size a ≤ S2x256x3072.size a) ∧
  (16 ∣ (k0_mult296 v93).toNat) ∧
  (16 ∣ (k0_mult297 v93).toNat) ∧
  (16 ∣ (k0_mult298 v93).toNat) ∧
  (16 ∣ (k0_mult299 v93).toNat) ∧
  (16 ∣ (k0_mult300 v93).toNat) ∧
  (16 ∣ (k0_mult301 v93).toNat) ∧
  (16 ∣ (k0_mult302 v93).toNat) ∧
  (16 ∣ (k0_mult303 v93).toNat) ∧
  (16 ∣ (k0_mult304 v93).toNat)
def k0_chk14_10 (v1_0 : BitVec 32) (k0_t4 : Fin (k0_t4_loop v1_0).trips) (v93 : BitVec 32) : Prop :=
  (16 ∣ (k0_mult305 v93).toNat) ∧
  (16 ∣ (k0_mult306 v93).toNat) ∧
  (16 ∣ (k0_mult307 v93).toNat) ∧
  (16 ∣ (k0_mult308 v93).toNat) ∧
  (16 ∣ (k0_mult309 v93).toNat) ∧
  (16 ∣ (k0_mult310 v93).toNat) ∧
  (16 ∣ (k0_mult311 v93).toNat) ∧
  (16 ∣ (k0_mult312 v93).toNat) ∧
  (16 ∣ (k0_mult313 v93).toNat) ∧
  (16 ∣ (k0_mult314 v93).toNat) ∧
  (16 ∣ (k0_mult315 v93).toNat) ∧
  (16 ∣ (k0_mult316 v93).toNat) ∧
  (16 ∣ (k0_mult317 v93).toNat) ∧
  (16 ∣ (k0_mult318 v93).toNat) ∧
  (16 ∣ (k0_mult319 v93).toNat) ∧
  (16 ∣ (k0_mult320 v93).toNat) ∧
  (16 ∣ (k0_mult321 v93).toNat) ∧
  (16 ∣ (k0_mult322 v93).toNat) ∧
  (16 ∣ (k0_mult323 v93).toNat) ∧
  (16 ∣ (k0_mult324 v93).toNat) ∧
  (16 ∣ (k0_mult325 v93).toNat) ∧
  (16 ∣ (k0_mult326 v93).toNat) ∧
  (∀ (r : Fin 16), ∀ a, (k0_off46 v1_0 k0_t4 v93 (BitVec.ofNat 32 (16 * r.val))) a + S1x16x128.size a ≤ S2x256x3072.size a) ∧
  (16 ∣ (k0_mult327 v93).toNat) ∧
  (∀ (r : Fin 16), ∀ a, (k0_off47 v1_0 k0_t4 v93 (BitVec.ofNat 32 (16 * r.val))) a + S1x16x128.size a ≤ S2x256x3072.size a) ∧
  (16 ∣ (k0_mult328 v93).toNat) ∧
  (16 ∣ (k0_mult329 v93).toNat) ∧
  (16 ∣ (k0_mult330 v93).toNat) ∧
  (16 ∣ (k0_mult331 v93).toNat) ∧
  (16 ∣ (k0_mult332 v93).toNat) ∧
  (16 ∣ (k0_mult333 v93).toNat) ∧
  (16 ∣ (k0_mult334 v93).toNat)
def k0_chk14_11 (v1_0 : BitVec 32) (k0_t4 : Fin (k0_t4_loop v1_0).trips) (v93 : BitVec 32) : Prop :=
  (16 ∣ (k0_mult335 v93).toNat) ∧
  (16 ∣ (k0_mult336 v93).toNat) ∧
  (16 ∣ (k0_mult337 v93).toNat) ∧
  (16 ∣ (k0_mult338 v93).toNat) ∧
  (16 ∣ (k0_mult339 v93).toNat) ∧
  (16 ∣ (k0_mult340 v93).toNat) ∧
  (16 ∣ (k0_mult341 v93).toNat) ∧
  (16 ∣ (k0_mult342 v93).toNat) ∧
  (16 ∣ (k0_mult343 v93).toNat) ∧
  (16 ∣ (k0_mult344 v93).toNat) ∧
  (16 ∣ (k0_mult345 v93).toNat) ∧
  (16 ∣ (k0_mult346 v93).toNat) ∧
  (16 ∣ (k0_mult347 v93).toNat) ∧
  (16 ∣ (k0_mult348 v93).toNat) ∧
  (16 ∣ (k0_mult349 v93).toNat) ∧
  (16 ∣ (k0_mult350 v93).toNat) ∧
  (16 ∣ (k0_mult351 v93).toNat) ∧
  (16 ∣ (k0_mult352 v93).toNat) ∧
  (16 ∣ (k0_mult353 v93).toNat) ∧
  (16 ∣ (k0_mult354 v93).toNat) ∧
  (16 ∣ (k0_mult355 v93).toNat) ∧
  (16 ∣ (k0_mult356 v93).toNat) ∧
  (16 ∣ (k0_mult357 v93).toNat) ∧
  (16 ∣ (k0_mult358 v93).toNat) ∧
  (∀ (r : Fin 16), ∀ a, (k0_off48 v1_0 k0_t4 v93 (BitVec.ofNat 32 (16 * r.val))) a + S1x16x128.size a ≤ S2x256x3072.size a) ∧
  (16 ∣ (k0_mult359 v93).toNat) ∧
  (∀ (r : Fin 16), ∀ a, (k0_off49 v1_0 k0_t4 v93 (BitVec.ofNat 32 (16 * r.val))) a + S1x16x128.size a ≤ S2x256x3072.size a) ∧
  (16 ∣ (k0_mult360 v93).toNat) ∧
  (16 ∣ (k0_mult361 v93).toNat) ∧
  (16 ∣ (k0_mult362 v93).toNat) ∧
  (16 ∣ (k0_mult363 v93).toNat) ∧
  (16 ∣ (k0_mult364 v93).toNat)
def k0_chk14_12 (v1_0 : BitVec 32) (k0_t4 : Fin (k0_t4_loop v1_0).trips) (v93 : BitVec 32) : Prop :=
  (16 ∣ (k0_mult365 v93).toNat) ∧
  (16 ∣ (k0_mult366 v93).toNat) ∧
  (16 ∣ (k0_mult367 v93).toNat) ∧
  (16 ∣ (k0_mult368 v93).toNat) ∧
  (16 ∣ (k0_mult369 v93).toNat) ∧
  (16 ∣ (k0_mult370 v93).toNat) ∧
  (16 ∣ (k0_mult371 v93).toNat) ∧
  (16 ∣ (k0_mult372 v93).toNat) ∧
  (16 ∣ (k0_mult373 v93).toNat) ∧
  (16 ∣ (k0_mult374 v93).toNat) ∧
  (16 ∣ (k0_mult375 v93).toNat) ∧
  (16 ∣ (k0_mult376 v93).toNat) ∧
  (16 ∣ (k0_mult377 v93).toNat) ∧
  (16 ∣ (k0_mult378 v93).toNat) ∧
  (16 ∣ (k0_mult379 v93).toNat) ∧
  (16 ∣ (k0_mult380 v93).toNat) ∧
  (16 ∣ (k0_mult381 v93).toNat) ∧
  (16 ∣ (k0_mult382 v93).toNat) ∧
  (16 ∣ (k0_mult383 v93).toNat) ∧
  (16 ∣ (k0_mult384 v93).toNat) ∧
  (16 ∣ (k0_mult385 v93).toNat) ∧
  (16 ∣ (k0_mult386 v93).toNat) ∧
  (16 ∣ (k0_mult387 v93).toNat) ∧
  (16 ∣ (k0_mult388 v93).toNat) ∧
  (16 ∣ (k0_mult389 v93).toNat)
def k0_chk14 (v1_0 : BitVec 32) (k0_t4 : Fin (k0_t4_loop v1_0).trips) (v93 : BitVec 32) : Prop :=
  k0_chk14_0 v1_0 k0_t4 v93 ∧
  k0_chk14_1 v1_0 k0_t4 v93 ∧
  k0_chk14_2 v1_0 k0_t4 v93 ∧
  k0_chk14_3 v1_0 k0_t4 v93 ∧
  k0_chk14_4 v1_0 k0_t4 v93 ∧
  k0_chk14_5 v1_0 k0_t4 v93 ∧
  k0_chk14_6 v1_0 k0_t4 v93 ∧
  k0_chk14_7 v1_0 k0_t4 v93 ∧
  k0_chk14_8 v1_0 k0_t4 v93 ∧
  k0_chk14_9 v1_0 k0_t4 v93 ∧
  k0_chk14_10 v1_0 k0_t4 v93 ∧
  k0_chk14_11 v1_0 k0_t4 v93 ∧
  k0_chk14_12 v1_0 k0_t4 v93
theorem k0_mult5_dvd : ∀ (v1_0 : BitVec 32) (k0_t4 : Fin (k0_t4_loop v1_0).trips) (v93 : BitVec 32) (k0_hw14 : k0_chk14 v1_0 k0_t4 v93), 16 ∣ (k0_mult5 v93).toNat := fun v1_0 k0_t4 v93 k0_hw14 => k0_hw14.1.1
theorem k0_mult6_dvd : ∀ (v1_0 : BitVec 32) (k0_t4 : Fin (k0_t4_loop v1_0).trips) (v93 : BitVec 32) (k0_hw14 : k0_chk14 v1_0 k0_t4 v93), 16 ∣ (k0_mult6 v93).toNat := fun v1_0 k0_t4 v93 k0_hw14 => k0_hw14.1.2.1
theorem k0_off26_inb : ∀ (v1_0 : BitVec 32) (k0_t4 : Fin (k0_t4_loop v1_0).trips) (v93 : BitVec 32) (k0_hw14 : k0_chk14 v1_0 k0_t4 v93), ∀ (r : Fin 16), ∀ a, (k0_off26 v1_0 k0_t4 v93 (BitVec.ofNat 32 (16 * r.val))) a + S1x16x128.size a ≤ S2x256x3072.size a := fun v1_0 k0_t4 v93 k0_hw14 r => k0_hw14.1.2.2.1 r
theorem k0_mult7_dvd : ∀ (v1_0 : BitVec 32) (k0_t4 : Fin (k0_t4_loop v1_0).trips) (v93 : BitVec 32) (k0_hw14 : k0_chk14 v1_0 k0_t4 v93), 16 ∣ (k0_mult7 v93).toNat := fun v1_0 k0_t4 v93 k0_hw14 => k0_hw14.1.2.2.2.1
theorem k0_off27_inb : ∀ (v1_0 : BitVec 32) (k0_t4 : Fin (k0_t4_loop v1_0).trips) (v93 : BitVec 32) (k0_hw14 : k0_chk14 v1_0 k0_t4 v93), ∀ (r : Fin 16), ∀ a, (k0_off27 v1_0 k0_t4 v93 (BitVec.ofNat 32 (16 * r.val))) a + S1x16x128.size a ≤ S2x256x3072.size a := fun v1_0 k0_t4 v93 k0_hw14 r => k0_hw14.1.2.2.2.2.1 r
theorem k0_mult8_dvd : ∀ (v1_0 : BitVec 32) (k0_t4 : Fin (k0_t4_loop v1_0).trips) (v93 : BitVec 32) (k0_hw14 : k0_chk14 v1_0 k0_t4 v93), 16 ∣ (k0_mult8 v93).toNat := fun v1_0 k0_t4 v93 k0_hw14 => k0_hw14.1.2.2.2.2.2.1
theorem k0_mult9_dvd : ∀ (v1_0 : BitVec 32) (k0_t4 : Fin (k0_t4_loop v1_0).trips) (v93 : BitVec 32) (k0_hw14 : k0_chk14 v1_0 k0_t4 v93), 16 ∣ (k0_mult9 v93).toNat := fun v1_0 k0_t4 v93 k0_hw14 => k0_hw14.1.2.2.2.2.2.2.1
theorem k0_mult10_dvd : ∀ (v1_0 : BitVec 32) (k0_t4 : Fin (k0_t4_loop v1_0).trips) (v93 : BitVec 32) (k0_hw14 : k0_chk14 v1_0 k0_t4 v93), 16 ∣ (k0_mult10 v93).toNat := fun v1_0 k0_t4 v93 k0_hw14 => k0_hw14.1.2.2.2.2.2.2.2.1
theorem k0_mult11_dvd : ∀ (v1_0 : BitVec 32) (k0_t4 : Fin (k0_t4_loop v1_0).trips) (v93 : BitVec 32) (k0_hw14 : k0_chk14 v1_0 k0_t4 v93), 16 ∣ (k0_mult11 v93).toNat := fun v1_0 k0_t4 v93 k0_hw14 => k0_hw14.1.2.2.2.2.2.2.2.2.1
theorem k0_mult12_dvd : ∀ (v1_0 : BitVec 32) (k0_t4 : Fin (k0_t4_loop v1_0).trips) (v93 : BitVec 32) (k0_hw14 : k0_chk14 v1_0 k0_t4 v93), 16 ∣ (k0_mult12 v93).toNat := fun v1_0 k0_t4 v93 k0_hw14 => k0_hw14.1.2.2.2.2.2.2.2.2.2.1
theorem k0_mult13_dvd : ∀ (v1_0 : BitVec 32) (k0_t4 : Fin (k0_t4_loop v1_0).trips) (v93 : BitVec 32) (k0_hw14 : k0_chk14 v1_0 k0_t4 v93), 16 ∣ (k0_mult13 v93).toNat := fun v1_0 k0_t4 v93 k0_hw14 => k0_hw14.1.2.2.2.2.2.2.2.2.2.2.1
theorem k0_mult14_dvd : ∀ (v1_0 : BitVec 32) (k0_t4 : Fin (k0_t4_loop v1_0).trips) (v93 : BitVec 32) (k0_hw14 : k0_chk14 v1_0 k0_t4 v93), 16 ∣ (k0_mult14 v93).toNat := fun v1_0 k0_t4 v93 k0_hw14 => k0_hw14.1.2.2.2.2.2.2.2.2.2.2.2.1
theorem k0_mult15_dvd : ∀ (v1_0 : BitVec 32) (k0_t4 : Fin (k0_t4_loop v1_0).trips) (v93 : BitVec 32) (k0_hw14 : k0_chk14 v1_0 k0_t4 v93), 16 ∣ (k0_mult15 v93).toNat := fun v1_0 k0_t4 v93 k0_hw14 => k0_hw14.1.2.2.2.2.2.2.2.2.2.2.2.2.1
theorem k0_mult16_dvd : ∀ (v1_0 : BitVec 32) (k0_t4 : Fin (k0_t4_loop v1_0).trips) (v93 : BitVec 32) (k0_hw14 : k0_chk14 v1_0 k0_t4 v93), 16 ∣ (k0_mult16 v93).toNat := fun v1_0 k0_t4 v93 k0_hw14 => k0_hw14.1.2.2.2.2.2.2.2.2.2.2.2.2.2.1
theorem k0_mult17_dvd : ∀ (v1_0 : BitVec 32) (k0_t4 : Fin (k0_t4_loop v1_0).trips) (v93 : BitVec 32) (k0_hw14 : k0_chk14 v1_0 k0_t4 v93), 16 ∣ (k0_mult17 v93).toNat := fun v1_0 k0_t4 v93 k0_hw14 => k0_hw14.1.2.2.2.2.2.2.2.2.2.2.2.2.2.2.1
theorem k0_mult18_dvd : ∀ (v1_0 : BitVec 32) (k0_t4 : Fin (k0_t4_loop v1_0).trips) (v93 : BitVec 32) (k0_hw14 : k0_chk14 v1_0 k0_t4 v93), 16 ∣ (k0_mult18 v93).toNat := fun v1_0 k0_t4 v93 k0_hw14 => k0_hw14.1.2.2.2.2.2.2.2.2.2.2.2.2.2.2.2.1
theorem k0_mult19_dvd : ∀ (v1_0 : BitVec 32) (k0_t4 : Fin (k0_t4_loop v1_0).trips) (v93 : BitVec 32) (k0_hw14 : k0_chk14 v1_0 k0_t4 v93), 16 ∣ (k0_mult19 v93).toNat := fun v1_0 k0_t4 v93 k0_hw14 => k0_hw14.1.2.2.2.2.2.2.2.2.2.2.2.2.2.2.2.2.1
theorem k0_mult20_dvd : ∀ (v1_0 : BitVec 32) (k0_t4 : Fin (k0_t4_loop v1_0).trips) (v93 : BitVec 32) (k0_hw14 : k0_chk14 v1_0 k0_t4 v93), 16 ∣ (k0_mult20 v93).toNat := fun v1_0 k0_t4 v93 k0_hw14 => k0_hw14.1.2.2.2.2.2.2.2.2.2.2.2.2.2.2.2.2.2.1
theorem k0_mult21_dvd : ∀ (v1_0 : BitVec 32) (k0_t4 : Fin (k0_t4_loop v1_0).trips) (v93 : BitVec 32) (k0_hw14 : k0_chk14 v1_0 k0_t4 v93), 16 ∣ (k0_mult21 v93).toNat := fun v1_0 k0_t4 v93 k0_hw14 => k0_hw14.1.2.2.2.2.2.2.2.2.2.2.2.2.2.2.2.2.2.2.1
theorem k0_mult22_dvd : ∀ (v1_0 : BitVec 32) (k0_t4 : Fin (k0_t4_loop v1_0).trips) (v93 : BitVec 32) (k0_hw14 : k0_chk14 v1_0 k0_t4 v93), 16 ∣ (k0_mult22 v93).toNat := fun v1_0 k0_t4 v93 k0_hw14 => k0_hw14.1.2.2.2.2.2.2.2.2.2.2.2.2.2.2.2.2.2.2.2.1
theorem k0_mult23_dvd : ∀ (v1_0 : BitVec 32) (k0_t4 : Fin (k0_t4_loop v1_0).trips) (v93 : BitVec 32) (k0_hw14 : k0_chk14 v1_0 k0_t4 v93), 16 ∣ (k0_mult23 v93).toNat := fun v1_0 k0_t4 v93 k0_hw14 => k0_hw14.1.2.2.2.2.2.2.2.2.2.2.2.2.2.2.2.2.2.2.2.2.1
theorem k0_mult24_dvd : ∀ (v1_0 : BitVec 32) (k0_t4 : Fin (k0_t4_loop v1_0).trips) (v93 : BitVec 32) (k0_hw14 : k0_chk14 v1_0 k0_t4 v93), 16 ∣ (k0_mult24 v93).toNat := fun v1_0 k0_t4 v93 k0_hw14 => k0_hw14.1.2.2.2.2.2.2.2.2.2.2.2.2.2.2.2.2.2.2.2.2.2.1
theorem k0_mult25_dvd : ∀ (v1_0 : BitVec 32) (k0_t4 : Fin (k0_t4_loop v1_0).trips) (v93 : BitVec 32) (k0_hw14 : k0_chk14 v1_0 k0_t4 v93), 16 ∣ (k0_mult25 v93).toNat := fun v1_0 k0_t4 v93 k0_hw14 => k0_hw14.1.2.2.2.2.2.2.2.2.2.2.2.2.2.2.2.2.2.2.2.2.2.2.1
theorem k0_mult26_dvd : ∀ (v1_0 : BitVec 32) (k0_t4 : Fin (k0_t4_loop v1_0).trips) (v93 : BitVec 32) (k0_hw14 : k0_chk14 v1_0 k0_t4 v93), 16 ∣ (k0_mult26 v93).toNat := fun v1_0 k0_t4 v93 k0_hw14 => k0_hw14.1.2.2.2.2.2.2.2.2.2.2.2.2.2.2.2.2.2.2.2.2.2.2.2.1
theorem k0_mult27_dvd : ∀ (v1_0 : BitVec 32) (k0_t4 : Fin (k0_t4_loop v1_0).trips) (v93 : BitVec 32) (k0_hw14 : k0_chk14 v1_0 k0_t4 v93), 16 ∣ (k0_mult27 v93).toNat := fun v1_0 k0_t4 v93 k0_hw14 => k0_hw14.1.2.2.2.2.2.2.2.2.2.2.2.2.2.2.2.2.2.2.2.2.2.2.2.2.1
theorem k0_mult28_dvd : ∀ (v1_0 : BitVec 32) (k0_t4 : Fin (k0_t4_loop v1_0).trips) (v93 : BitVec 32) (k0_hw14 : k0_chk14 v1_0 k0_t4 v93), 16 ∣ (k0_mult28 v93).toNat := fun v1_0 k0_t4 v93 k0_hw14 => k0_hw14.1.2.2.2.2.2.2.2.2.2.2.2.2.2.2.2.2.2.2.2.2.2.2.2.2.2.1
theorem k0_mult29_dvd : ∀ (v1_0 : BitVec 32) (k0_t4 : Fin (k0_t4_loop v1_0).trips) (v93 : BitVec 32) (k0_hw14 : k0_chk14 v1_0 k0_t4 v93), 16 ∣ (k0_mult29 v93).toNat := fun v1_0 k0_t4 v93 k0_hw14 => k0_hw14.1.2.2.2.2.2.2.2.2.2.2.2.2.2.2.2.2.2.2.2.2.2.2.2.2.2.2.1
theorem k0_mult30_dvd : ∀ (v1_0 : BitVec 32) (k0_t4 : Fin (k0_t4_loop v1_0).trips) (v93 : BitVec 32) (k0_hw14 : k0_chk14 v1_0 k0_t4 v93), 16 ∣ (k0_mult30 v93).toNat := fun v1_0 k0_t4 v93 k0_hw14 => k0_hw14.1.2.2.2.2.2.2.2.2.2.2.2.2.2.2.2.2.2.2.2.2.2.2.2.2.2.2.2.1
theorem k0_mult31_dvd : ∀ (v1_0 : BitVec 32) (k0_t4 : Fin (k0_t4_loop v1_0).trips) (v93 : BitVec 32) (k0_hw14 : k0_chk14 v1_0 k0_t4 v93), 16 ∣ (k0_mult31 v93).toNat := fun v1_0 k0_t4 v93 k0_hw14 => k0_hw14.1.2.2.2.2.2.2.2.2.2.2.2.2.2.2.2.2.2.2.2.2.2.2.2.2.2.2.2.2.1
theorem k0_mult32_dvd : ∀ (v1_0 : BitVec 32) (k0_t4 : Fin (k0_t4_loop v1_0).trips) (v93 : BitVec 32) (k0_hw14 : k0_chk14 v1_0 k0_t4 v93), 16 ∣ (k0_mult32 v93).toNat := fun v1_0 k0_t4 v93 k0_hw14 => k0_hw14.1.2.2.2.2.2.2.2.2.2.2.2.2.2.2.2.2.2.2.2.2.2.2.2.2.2.2.2.2.2.1
theorem k0_mult33_dvd : ∀ (v1_0 : BitVec 32) (k0_t4 : Fin (k0_t4_loop v1_0).trips) (v93 : BitVec 32) (k0_hw14 : k0_chk14 v1_0 k0_t4 v93), 16 ∣ (k0_mult33 v93).toNat := fun v1_0 k0_t4 v93 k0_hw14 => k0_hw14.1.2.2.2.2.2.2.2.2.2.2.2.2.2.2.2.2.2.2.2.2.2.2.2.2.2.2.2.2.2.2.1
theorem k0_mult34_dvd : ∀ (v1_0 : BitVec 32) (k0_t4 : Fin (k0_t4_loop v1_0).trips) (v93 : BitVec 32) (k0_hw14 : k0_chk14 v1_0 k0_t4 v93), 16 ∣ (k0_mult34 v93).toNat := fun v1_0 k0_t4 v93 k0_hw14 => k0_hw14.1.2.2.2.2.2.2.2.2.2.2.2.2.2.2.2.2.2.2.2.2.2.2.2.2.2.2.2.2.2.2.2
theorem k0_mult35_dvd : ∀ (v1_0 : BitVec 32) (k0_t4 : Fin (k0_t4_loop v1_0).trips) (v93 : BitVec 32) (k0_hw14 : k0_chk14 v1_0 k0_t4 v93), 16 ∣ (k0_mult35 v93).toNat := fun v1_0 k0_t4 v93 k0_hw14 => k0_hw14.2.1.1
theorem k0_mult36_dvd : ∀ (v1_0 : BitVec 32) (k0_t4 : Fin (k0_t4_loop v1_0).trips) (v93 : BitVec 32) (k0_hw14 : k0_chk14 v1_0 k0_t4 v93), 16 ∣ (k0_mult36 v93).toNat := fun v1_0 k0_t4 v93 k0_hw14 => k0_hw14.2.1.2.1
theorem k0_mult37_dvd : ∀ (v1_0 : BitVec 32) (k0_t4 : Fin (k0_t4_loop v1_0).trips) (v93 : BitVec 32) (k0_hw14 : k0_chk14 v1_0 k0_t4 v93), 16 ∣ (k0_mult37 v93).toNat := fun v1_0 k0_t4 v93 k0_hw14 => k0_hw14.2.1.2.2.1
theorem k0_mult38_dvd : ∀ (v1_0 : BitVec 32) (k0_t4 : Fin (k0_t4_loop v1_0).trips) (v93 : BitVec 32) (k0_hw14 : k0_chk14 v1_0 k0_t4 v93), 16 ∣ (k0_mult38 v93).toNat := fun v1_0 k0_t4 v93 k0_hw14 => k0_hw14.2.1.2.2.2.1
theorem k0_off28_inb : ∀ (v1_0 : BitVec 32) (k0_t4 : Fin (k0_t4_loop v1_0).trips) (v93 : BitVec 32) (k0_hw14 : k0_chk14 v1_0 k0_t4 v93), ∀ (r : Fin 16), ∀ a, (k0_off28 v1_0 k0_t4 v93 (BitVec.ofNat 32 (16 * r.val))) a + S1x16x128.size a ≤ S2x256x3072.size a := fun v1_0 k0_t4 v93 k0_hw14 r => k0_hw14.2.1.2.2.2.2.1 r
theorem k0_mult39_dvd : ∀ (v1_0 : BitVec 32) (k0_t4 : Fin (k0_t4_loop v1_0).trips) (v93 : BitVec 32) (k0_hw14 : k0_chk14 v1_0 k0_t4 v93), 16 ∣ (k0_mult39 v93).toNat := fun v1_0 k0_t4 v93 k0_hw14 => k0_hw14.2.1.2.2.2.2.2.1
theorem k0_off29_inb : ∀ (v1_0 : BitVec 32) (k0_t4 : Fin (k0_t4_loop v1_0).trips) (v93 : BitVec 32) (k0_hw14 : k0_chk14 v1_0 k0_t4 v93), ∀ (r : Fin 16), ∀ a, (k0_off29 v1_0 k0_t4 v93 (BitVec.ofNat 32 (16 * r.val))) a + S1x16x128.size a ≤ S2x256x3072.size a := fun v1_0 k0_t4 v93 k0_hw14 r => k0_hw14.2.1.2.2.2.2.2.2.1 r
theorem k0_mult40_dvd : ∀ (v1_0 : BitVec 32) (k0_t4 : Fin (k0_t4_loop v1_0).trips) (v93 : BitVec 32) (k0_hw14 : k0_chk14 v1_0 k0_t4 v93), 16 ∣ (k0_mult40 v93).toNat := fun v1_0 k0_t4 v93 k0_hw14 => k0_hw14.2.1.2.2.2.2.2.2.2.1
theorem k0_mult41_dvd : ∀ (v1_0 : BitVec 32) (k0_t4 : Fin (k0_t4_loop v1_0).trips) (v93 : BitVec 32) (k0_hw14 : k0_chk14 v1_0 k0_t4 v93), 16 ∣ (k0_mult41 v93).toNat := fun v1_0 k0_t4 v93 k0_hw14 => k0_hw14.2.1.2.2.2.2.2.2.2.2.1
theorem k0_mult42_dvd : ∀ (v1_0 : BitVec 32) (k0_t4 : Fin (k0_t4_loop v1_0).trips) (v93 : BitVec 32) (k0_hw14 : k0_chk14 v1_0 k0_t4 v93), 16 ∣ (k0_mult42 v93).toNat := fun v1_0 k0_t4 v93 k0_hw14 => k0_hw14.2.1.2.2.2.2.2.2.2.2.2.1
theorem k0_mult43_dvd : ∀ (v1_0 : BitVec 32) (k0_t4 : Fin (k0_t4_loop v1_0).trips) (v93 : BitVec 32) (k0_hw14 : k0_chk14 v1_0 k0_t4 v93), 16 ∣ (k0_mult43 v93).toNat := fun v1_0 k0_t4 v93 k0_hw14 => k0_hw14.2.1.2.2.2.2.2.2.2.2.2.2.1
theorem k0_mult44_dvd : ∀ (v1_0 : BitVec 32) (k0_t4 : Fin (k0_t4_loop v1_0).trips) (v93 : BitVec 32) (k0_hw14 : k0_chk14 v1_0 k0_t4 v93), 16 ∣ (k0_mult44 v93).toNat := fun v1_0 k0_t4 v93 k0_hw14 => k0_hw14.2.1.2.2.2.2.2.2.2.2.2.2.2.1
theorem k0_mult45_dvd : ∀ (v1_0 : BitVec 32) (k0_t4 : Fin (k0_t4_loop v1_0).trips) (v93 : BitVec 32) (k0_hw14 : k0_chk14 v1_0 k0_t4 v93), 16 ∣ (k0_mult45 v93).toNat := fun v1_0 k0_t4 v93 k0_hw14 => k0_hw14.2.1.2.2.2.2.2.2.2.2.2.2.2.2.1
theorem k0_mult46_dvd : ∀ (v1_0 : BitVec 32) (k0_t4 : Fin (k0_t4_loop v1_0).trips) (v93 : BitVec 32) (k0_hw14 : k0_chk14 v1_0 k0_t4 v93), 16 ∣ (k0_mult46 v93).toNat := fun v1_0 k0_t4 v93 k0_hw14 => k0_hw14.2.1.2.2.2.2.2.2.2.2.2.2.2.2.2.1
theorem k0_mult47_dvd : ∀ (v1_0 : BitVec 32) (k0_t4 : Fin (k0_t4_loop v1_0).trips) (v93 : BitVec 32) (k0_hw14 : k0_chk14 v1_0 k0_t4 v93), 16 ∣ (k0_mult47 v93).toNat := fun v1_0 k0_t4 v93 k0_hw14 => k0_hw14.2.1.2.2.2.2.2.2.2.2.2.2.2.2.2.2.1
theorem k0_mult48_dvd : ∀ (v1_0 : BitVec 32) (k0_t4 : Fin (k0_t4_loop v1_0).trips) (v93 : BitVec 32) (k0_hw14 : k0_chk14 v1_0 k0_t4 v93), 16 ∣ (k0_mult48 v93).toNat := fun v1_0 k0_t4 v93 k0_hw14 => k0_hw14.2.1.2.2.2.2.2.2.2.2.2.2.2.2.2.2.2.1
theorem k0_mult49_dvd : ∀ (v1_0 : BitVec 32) (k0_t4 : Fin (k0_t4_loop v1_0).trips) (v93 : BitVec 32) (k0_hw14 : k0_chk14 v1_0 k0_t4 v93), 16 ∣ (k0_mult49 v93).toNat := fun v1_0 k0_t4 v93 k0_hw14 => k0_hw14.2.1.2.2.2.2.2.2.2.2.2.2.2.2.2.2.2.2.1
theorem k0_mult50_dvd : ∀ (v1_0 : BitVec 32) (k0_t4 : Fin (k0_t4_loop v1_0).trips) (v93 : BitVec 32) (k0_hw14 : k0_chk14 v1_0 k0_t4 v93), 16 ∣ (k0_mult50 v93).toNat := fun v1_0 k0_t4 v93 k0_hw14 => k0_hw14.2.1.2.2.2.2.2.2.2.2.2.2.2.2.2.2.2.2.2.1
theorem k0_mult51_dvd : ∀ (v1_0 : BitVec 32) (k0_t4 : Fin (k0_t4_loop v1_0).trips) (v93 : BitVec 32) (k0_hw14 : k0_chk14 v1_0 k0_t4 v93), 16 ∣ (k0_mult51 v93).toNat := fun v1_0 k0_t4 v93 k0_hw14 => k0_hw14.2.1.2.2.2.2.2.2.2.2.2.2.2.2.2.2.2.2.2.2.1
theorem k0_mult52_dvd : ∀ (v1_0 : BitVec 32) (k0_t4 : Fin (k0_t4_loop v1_0).trips) (v93 : BitVec 32) (k0_hw14 : k0_chk14 v1_0 k0_t4 v93), 16 ∣ (k0_mult52 v93).toNat := fun v1_0 k0_t4 v93 k0_hw14 => k0_hw14.2.1.2.2.2.2.2.2.2.2.2.2.2.2.2.2.2.2.2.2.2.1
theorem k0_mult53_dvd : ∀ (v1_0 : BitVec 32) (k0_t4 : Fin (k0_t4_loop v1_0).trips) (v93 : BitVec 32) (k0_hw14 : k0_chk14 v1_0 k0_t4 v93), 16 ∣ (k0_mult53 v93).toNat := fun v1_0 k0_t4 v93 k0_hw14 => k0_hw14.2.1.2.2.2.2.2.2.2.2.2.2.2.2.2.2.2.2.2.2.2.2.1
theorem k0_mult54_dvd : ∀ (v1_0 : BitVec 32) (k0_t4 : Fin (k0_t4_loop v1_0).trips) (v93 : BitVec 32) (k0_hw14 : k0_chk14 v1_0 k0_t4 v93), 16 ∣ (k0_mult54 v93).toNat := fun v1_0 k0_t4 v93 k0_hw14 => k0_hw14.2.1.2.2.2.2.2.2.2.2.2.2.2.2.2.2.2.2.2.2.2.2.2.1
theorem k0_mult55_dvd : ∀ (v1_0 : BitVec 32) (k0_t4 : Fin (k0_t4_loop v1_0).trips) (v93 : BitVec 32) (k0_hw14 : k0_chk14 v1_0 k0_t4 v93), 16 ∣ (k0_mult55 v93).toNat := fun v1_0 k0_t4 v93 k0_hw14 => k0_hw14.2.1.2.2.2.2.2.2.2.2.2.2.2.2.2.2.2.2.2.2.2.2.2.2.1
theorem k0_mult56_dvd : ∀ (v1_0 : BitVec 32) (k0_t4 : Fin (k0_t4_loop v1_0).trips) (v93 : BitVec 32) (k0_hw14 : k0_chk14 v1_0 k0_t4 v93), 16 ∣ (k0_mult56 v93).toNat := fun v1_0 k0_t4 v93 k0_hw14 => k0_hw14.2.1.2.2.2.2.2.2.2.2.2.2.2.2.2.2.2.2.2.2.2.2.2.2.2.1
theorem k0_mult57_dvd : ∀ (v1_0 : BitVec 32) (k0_t4 : Fin (k0_t4_loop v1_0).trips) (v93 : BitVec 32) (k0_hw14 : k0_chk14 v1_0 k0_t4 v93), 16 ∣ (k0_mult57 v93).toNat := fun v1_0 k0_t4 v93 k0_hw14 => k0_hw14.2.1.2.2.2.2.2.2.2.2.2.2.2.2.2.2.2.2.2.2.2.2.2.2.2.2.1
theorem k0_mult58_dvd : ∀ (v1_0 : BitVec 32) (k0_t4 : Fin (k0_t4_loop v1_0).trips) (v93 : BitVec 32) (k0_hw14 : k0_chk14 v1_0 k0_t4 v93), 16 ∣ (k0_mult58 v93).toNat := fun v1_0 k0_t4 v93 k0_hw14 => k0_hw14.2.1.2.2.2.2.2.2.2.2.2.2.2.2.2.2.2.2.2.2.2.2.2.2.2.2.2.1
theorem k0_mult59_dvd : ∀ (v1_0 : BitVec 32) (k0_t4 : Fin (k0_t4_loop v1_0).trips) (v93 : BitVec 32) (k0_hw14 : k0_chk14 v1_0 k0_t4 v93), 16 ∣ (k0_mult59 v93).toNat := fun v1_0 k0_t4 v93 k0_hw14 => k0_hw14.2.1.2.2.2.2.2.2.2.2.2.2.2.2.2.2.2.2.2.2.2.2.2.2.2.2.2.2.1
theorem k0_mult60_dvd : ∀ (v1_0 : BitVec 32) (k0_t4 : Fin (k0_t4_loop v1_0).trips) (v93 : BitVec 32) (k0_hw14 : k0_chk14 v1_0 k0_t4 v93), 16 ∣ (k0_mult60 v93).toNat := fun v1_0 k0_t4 v93 k0_hw14 => k0_hw14.2.1.2.2.2.2.2.2.2.2.2.2.2.2.2.2.2.2.2.2.2.2.2.2.2.2.2.2.2.1
theorem k0_mult61_dvd : ∀ (v1_0 : BitVec 32) (k0_t4 : Fin (k0_t4_loop v1_0).trips) (v93 : BitVec 32) (k0_hw14 : k0_chk14 v1_0 k0_t4 v93), 16 ∣ (k0_mult61 v93).toNat := fun v1_0 k0_t4 v93 k0_hw14 => k0_hw14.2.1.2.2.2.2.2.2.2.2.2.2.2.2.2.2.2.2.2.2.2.2.2.2.2.2.2.2.2.2.1
theorem k0_mult62_dvd : ∀ (v1_0 : BitVec 32) (k0_t4 : Fin (k0_t4_loop v1_0).trips) (v93 : BitVec 32) (k0_hw14 : k0_chk14 v1_0 k0_t4 v93), 16 ∣ (k0_mult62 v93).toNat := fun v1_0 k0_t4 v93 k0_hw14 => k0_hw14.2.1.2.2.2.2.2.2.2.2.2.2.2.2.2.2.2.2.2.2.2.2.2.2.2.2.2.2.2.2.2.1
theorem k0_mult63_dvd : ∀ (v1_0 : BitVec 32) (k0_t4 : Fin (k0_t4_loop v1_0).trips) (v93 : BitVec 32) (k0_hw14 : k0_chk14 v1_0 k0_t4 v93), 16 ∣ (k0_mult63 v93).toNat := fun v1_0 k0_t4 v93 k0_hw14 => k0_hw14.2.1.2.2.2.2.2.2.2.2.2.2.2.2.2.2.2.2.2.2.2.2.2.2.2.2.2.2.2.2.2.2.1
theorem k0_mult64_dvd : ∀ (v1_0 : BitVec 32) (k0_t4 : Fin (k0_t4_loop v1_0).trips) (v93 : BitVec 32) (k0_hw14 : k0_chk14 v1_0 k0_t4 v93), 16 ∣ (k0_mult64 v93).toNat := fun v1_0 k0_t4 v93 k0_hw14 => k0_hw14.2.1.2.2.2.2.2.2.2.2.2.2.2.2.2.2.2.2.2.2.2.2.2.2.2.2.2.2.2.2.2.2.2
theorem k0_mult65_dvd : ∀ (v1_0 : BitVec 32) (k0_t4 : Fin (k0_t4_loop v1_0).trips) (v93 : BitVec 32) (k0_hw14 : k0_chk14 v1_0 k0_t4 v93), 16 ∣ (k0_mult65 v93).toNat := fun v1_0 k0_t4 v93 k0_hw14 => k0_hw14.2.2.1.1
theorem k0_mult66_dvd : ∀ (v1_0 : BitVec 32) (k0_t4 : Fin (k0_t4_loop v1_0).trips) (v93 : BitVec 32) (k0_hw14 : k0_chk14 v1_0 k0_t4 v93), 16 ∣ (k0_mult66 v93).toNat := fun v1_0 k0_t4 v93 k0_hw14 => k0_hw14.2.2.1.2.1
theorem k0_mult67_dvd : ∀ (v1_0 : BitVec 32) (k0_t4 : Fin (k0_t4_loop v1_0).trips) (v93 : BitVec 32) (k0_hw14 : k0_chk14 v1_0 k0_t4 v93), 16 ∣ (k0_mult67 v93).toNat := fun v1_0 k0_t4 v93 k0_hw14 => k0_hw14.2.2.1.2.2.1
theorem k0_mult68_dvd : ∀ (v1_0 : BitVec 32) (k0_t4 : Fin (k0_t4_loop v1_0).trips) (v93 : BitVec 32) (k0_hw14 : k0_chk14 v1_0 k0_t4 v93), 16 ∣ (k0_mult68 v93).toNat := fun v1_0 k0_t4 v93 k0_hw14 => k0_hw14.2.2.1.2.2.2.1
theorem k0_mult69_dvd : ∀ (v1_0 : BitVec 32) (k0_t4 : Fin (k0_t4_loop v1_0).trips) (v93 : BitVec 32) (k0_hw14 : k0_chk14 v1_0 k0_t4 v93), 16 ∣ (k0_mult69 v93).toNat := fun v1_0 k0_t4 v93 k0_hw14 => k0_hw14.2.2.1.2.2.2.2.1
theorem k0_mult70_dvd : ∀ (v1_0 : BitVec 32) (k0_t4 : Fin (k0_t4_loop v1_0).trips) (v93 : BitVec 32) (k0_hw14 : k0_chk14 v1_0 k0_t4 v93), 16 ∣ (k0_mult70 v93).toNat := fun v1_0 k0_t4 v93 k0_hw14 => k0_hw14.2.2.1.2.2.2.2.2.1
theorem k0_off30_inb : ∀ (v1_0 : BitVec 32) (k0_t4 : Fin (k0_t4_loop v1_0).trips) (v93 : BitVec 32) (k0_hw14 : k0_chk14 v1_0 k0_t4 v93), ∀ (r : Fin 16), ∀ a, (k0_off30 v1_0 k0_t4 v93 (BitVec.ofNat 32 (16 * r.val))) a + S1x16x128.size a ≤ S2x256x3072.size a := fun v1_0 k0_t4 v93 k0_hw14 r => k0_hw14.2.2.1.2.2.2.2.2.2.1 r
theorem k0_mult71_dvd : ∀ (v1_0 : BitVec 32) (k0_t4 : Fin (k0_t4_loop v1_0).trips) (v93 : BitVec 32) (k0_hw14 : k0_chk14 v1_0 k0_t4 v93), 16 ∣ (k0_mult71 v93).toNat := fun v1_0 k0_t4 v93 k0_hw14 => k0_hw14.2.2.1.2.2.2.2.2.2.2.1
theorem k0_off31_inb : ∀ (v1_0 : BitVec 32) (k0_t4 : Fin (k0_t4_loop v1_0).trips) (v93 : BitVec 32) (k0_hw14 : k0_chk14 v1_0 k0_t4 v93), ∀ (r : Fin 16), ∀ a, (k0_off31 v1_0 k0_t4 v93 (BitVec.ofNat 32 (16 * r.val))) a + S1x16x128.size a ≤ S2x256x3072.size a := fun v1_0 k0_t4 v93 k0_hw14 r => k0_hw14.2.2.1.2.2.2.2.2.2.2.2.1 r
theorem k0_mult72_dvd : ∀ (v1_0 : BitVec 32) (k0_t4 : Fin (k0_t4_loop v1_0).trips) (v93 : BitVec 32) (k0_hw14 : k0_chk14 v1_0 k0_t4 v93), 16 ∣ (k0_mult72 v93).toNat := fun v1_0 k0_t4 v93 k0_hw14 => k0_hw14.2.2.1.2.2.2.2.2.2.2.2.2.1
theorem k0_mult73_dvd : ∀ (v1_0 : BitVec 32) (k0_t4 : Fin (k0_t4_loop v1_0).trips) (v93 : BitVec 32) (k0_hw14 : k0_chk14 v1_0 k0_t4 v93), 16 ∣ (k0_mult73 v93).toNat := fun v1_0 k0_t4 v93 k0_hw14 => k0_hw14.2.2.1.2.2.2.2.2.2.2.2.2.2.1
theorem k0_mult74_dvd : ∀ (v1_0 : BitVec 32) (k0_t4 : Fin (k0_t4_loop v1_0).trips) (v93 : BitVec 32) (k0_hw14 : k0_chk14 v1_0 k0_t4 v93), 16 ∣ (k0_mult74 v93).toNat := fun v1_0 k0_t4 v93 k0_hw14 => k0_hw14.2.2.1.2.2.2.2.2.2.2.2.2.2.2.1
theorem k0_mult75_dvd : ∀ (v1_0 : BitVec 32) (k0_t4 : Fin (k0_t4_loop v1_0).trips) (v93 : BitVec 32) (k0_hw14 : k0_chk14 v1_0 k0_t4 v93), 16 ∣ (k0_mult75 v93).toNat := fun v1_0 k0_t4 v93 k0_hw14 => k0_hw14.2.2.1.2.2.2.2.2.2.2.2.2.2.2.2.1
theorem k0_mult76_dvd : ∀ (v1_0 : BitVec 32) (k0_t4 : Fin (k0_t4_loop v1_0).trips) (v93 : BitVec 32) (k0_hw14 : k0_chk14 v1_0 k0_t4 v93), 16 ∣ (k0_mult76 v93).toNat := fun v1_0 k0_t4 v93 k0_hw14 => k0_hw14.2.2.1.2.2.2.2.2.2.2.2.2.2.2.2.2.1
theorem k0_mult77_dvd : ∀ (v1_0 : BitVec 32) (k0_t4 : Fin (k0_t4_loop v1_0).trips) (v93 : BitVec 32) (k0_hw14 : k0_chk14 v1_0 k0_t4 v93), 16 ∣ (k0_mult77 v93).toNat := fun v1_0 k0_t4 v93 k0_hw14 => k0_hw14.2.2.1.2.2.2.2.2.2.2.2.2.2.2.2.2.2.1
theorem k0_mult78_dvd : ∀ (v1_0 : BitVec 32) (k0_t4 : Fin (k0_t4_loop v1_0).trips) (v93 : BitVec 32) (k0_hw14 : k0_chk14 v1_0 k0_t4 v93), 16 ∣ (k0_mult78 v93).toNat := fun v1_0 k0_t4 v93 k0_hw14 => k0_hw14.2.2.1.2.2.2.2.2.2.2.2.2.2.2.2.2.2.2.1
theorem k0_mult79_dvd : ∀ (v1_0 : BitVec 32) (k0_t4 : Fin (k0_t4_loop v1_0).trips) (v93 : BitVec 32) (k0_hw14 : k0_chk14 v1_0 k0_t4 v93), 16 ∣ (k0_mult79 v93).toNat := fun v1_0 k0_t4 v93 k0_hw14 => k0_hw14.2.2.1.2.2.2.2.2.2.2.2.2.2.2.2.2.2.2.2.1
theorem k0_mult80_dvd : ∀ (v1_0 : BitVec 32) (k0_t4 : Fin (k0_t4_loop v1_0).trips) (v93 : BitVec 32) (k0_hw14 : k0_chk14 v1_0 k0_t4 v93), 16 ∣ (k0_mult80 v93).toNat := fun v1_0 k0_t4 v93 k0_hw14 => k0_hw14.2.2.1.2.2.2.2.2.2.2.2.2.2.2.2.2.2.2.2.2.1
theorem k0_mult81_dvd : ∀ (v1_0 : BitVec 32) (k0_t4 : Fin (k0_t4_loop v1_0).trips) (v93 : BitVec 32) (k0_hw14 : k0_chk14 v1_0 k0_t4 v93), 16 ∣ (k0_mult81 v93).toNat := fun v1_0 k0_t4 v93 k0_hw14 => k0_hw14.2.2.1.2.2.2.2.2.2.2.2.2.2.2.2.2.2.2.2.2.2.1
theorem k0_mult82_dvd : ∀ (v1_0 : BitVec 32) (k0_t4 : Fin (k0_t4_loop v1_0).trips) (v93 : BitVec 32) (k0_hw14 : k0_chk14 v1_0 k0_t4 v93), 16 ∣ (k0_mult82 v93).toNat := fun v1_0 k0_t4 v93 k0_hw14 => k0_hw14.2.2.1.2.2.2.2.2.2.2.2.2.2.2.2.2.2.2.2.2.2.2.1
theorem k0_mult83_dvd : ∀ (v1_0 : BitVec 32) (k0_t4 : Fin (k0_t4_loop v1_0).trips) (v93 : BitVec 32) (k0_hw14 : k0_chk14 v1_0 k0_t4 v93), 16 ∣ (k0_mult83 v93).toNat := fun v1_0 k0_t4 v93 k0_hw14 => k0_hw14.2.2.1.2.2.2.2.2.2.2.2.2.2.2.2.2.2.2.2.2.2.2.2.1
theorem k0_mult84_dvd : ∀ (v1_0 : BitVec 32) (k0_t4 : Fin (k0_t4_loop v1_0).trips) (v93 : BitVec 32) (k0_hw14 : k0_chk14 v1_0 k0_t4 v93), 16 ∣ (k0_mult84 v93).toNat := fun v1_0 k0_t4 v93 k0_hw14 => k0_hw14.2.2.1.2.2.2.2.2.2.2.2.2.2.2.2.2.2.2.2.2.2.2.2.2.1
theorem k0_mult85_dvd : ∀ (v1_0 : BitVec 32) (k0_t4 : Fin (k0_t4_loop v1_0).trips) (v93 : BitVec 32) (k0_hw14 : k0_chk14 v1_0 k0_t4 v93), 16 ∣ (k0_mult85 v93).toNat := fun v1_0 k0_t4 v93 k0_hw14 => k0_hw14.2.2.1.2.2.2.2.2.2.2.2.2.2.2.2.2.2.2.2.2.2.2.2.2.2.1
theorem k0_mult86_dvd : ∀ (v1_0 : BitVec 32) (k0_t4 : Fin (k0_t4_loop v1_0).trips) (v93 : BitVec 32) (k0_hw14 : k0_chk14 v1_0 k0_t4 v93), 16 ∣ (k0_mult86 v93).toNat := fun v1_0 k0_t4 v93 k0_hw14 => k0_hw14.2.2.1.2.2.2.2.2.2.2.2.2.2.2.2.2.2.2.2.2.2.2.2.2.2.2.1
theorem k0_mult87_dvd : ∀ (v1_0 : BitVec 32) (k0_t4 : Fin (k0_t4_loop v1_0).trips) (v93 : BitVec 32) (k0_hw14 : k0_chk14 v1_0 k0_t4 v93), 16 ∣ (k0_mult87 v93).toNat := fun v1_0 k0_t4 v93 k0_hw14 => k0_hw14.2.2.1.2.2.2.2.2.2.2.2.2.2.2.2.2.2.2.2.2.2.2.2.2.2.2.2.1
theorem k0_mult88_dvd : ∀ (v1_0 : BitVec 32) (k0_t4 : Fin (k0_t4_loop v1_0).trips) (v93 : BitVec 32) (k0_hw14 : k0_chk14 v1_0 k0_t4 v93), 16 ∣ (k0_mult88 v93).toNat := fun v1_0 k0_t4 v93 k0_hw14 => k0_hw14.2.2.1.2.2.2.2.2.2.2.2.2.2.2.2.2.2.2.2.2.2.2.2.2.2.2.2.2.1
theorem k0_mult89_dvd : ∀ (v1_0 : BitVec 32) (k0_t4 : Fin (k0_t4_loop v1_0).trips) (v93 : BitVec 32) (k0_hw14 : k0_chk14 v1_0 k0_t4 v93), 16 ∣ (k0_mult89 v93).toNat := fun v1_0 k0_t4 v93 k0_hw14 => k0_hw14.2.2.1.2.2.2.2.2.2.2.2.2.2.2.2.2.2.2.2.2.2.2.2.2.2.2.2.2.2.1
theorem k0_mult90_dvd : ∀ (v1_0 : BitVec 32) (k0_t4 : Fin (k0_t4_loop v1_0).trips) (v93 : BitVec 32) (k0_hw14 : k0_chk14 v1_0 k0_t4 v93), 16 ∣ (k0_mult90 v93).toNat := fun v1_0 k0_t4 v93 k0_hw14 => k0_hw14.2.2.1.2.2.2.2.2.2.2.2.2.2.2.2.2.2.2.2.2.2.2.2.2.2.2.2.2.2.2.1
theorem k0_mult91_dvd : ∀ (v1_0 : BitVec 32) (k0_t4 : Fin (k0_t4_loop v1_0).trips) (v93 : BitVec 32) (k0_hw14 : k0_chk14 v1_0 k0_t4 v93), 16 ∣ (k0_mult91 v93).toNat := fun v1_0 k0_t4 v93 k0_hw14 => k0_hw14.2.2.1.2.2.2.2.2.2.2.2.2.2.2.2.2.2.2.2.2.2.2.2.2.2.2.2.2.2.2.2.1
theorem k0_mult92_dvd : ∀ (v1_0 : BitVec 32) (k0_t4 : Fin (k0_t4_loop v1_0).trips) (v93 : BitVec 32) (k0_hw14 : k0_chk14 v1_0 k0_t4 v93), 16 ∣ (k0_mult92 v93).toNat := fun v1_0 k0_t4 v93 k0_hw14 => k0_hw14.2.2.1.2.2.2.2.2.2.2.2.2.2.2.2.2.2.2.2.2.2.2.2.2.2.2.2.2.2.2.2.2.1
theorem k0_mult93_dvd : ∀ (v1_0 : BitVec 32) (k0_t4 : Fin (k0_t4_loop v1_0).trips) (v93 : BitVec 32) (k0_hw14 : k0_chk14 v1_0 k0_t4 v93), 16 ∣ (k0_mult93 v93).toNat := fun v1_0 k0_t4 v93 k0_hw14 => k0_hw14.2.2.1.2.2.2.2.2.2.2.2.2.2.2.2.2.2.2.2.2.2.2.2.2.2.2.2.2.2.2.2.2.2.1
theorem k0_mult94_dvd : ∀ (v1_0 : BitVec 32) (k0_t4 : Fin (k0_t4_loop v1_0).trips) (v93 : BitVec 32) (k0_hw14 : k0_chk14 v1_0 k0_t4 v93), 16 ∣ (k0_mult94 v93).toNat := fun v1_0 k0_t4 v93 k0_hw14 => k0_hw14.2.2.1.2.2.2.2.2.2.2.2.2.2.2.2.2.2.2.2.2.2.2.2.2.2.2.2.2.2.2.2.2.2.2
theorem k0_mult95_dvd : ∀ (v1_0 : BitVec 32) (k0_t4 : Fin (k0_t4_loop v1_0).trips) (v93 : BitVec 32) (k0_hw14 : k0_chk14 v1_0 k0_t4 v93), 16 ∣ (k0_mult95 v93).toNat := fun v1_0 k0_t4 v93 k0_hw14 => k0_hw14.2.2.2.1.1
theorem k0_mult96_dvd : ∀ (v1_0 : BitVec 32) (k0_t4 : Fin (k0_t4_loop v1_0).trips) (v93 : BitVec 32) (k0_hw14 : k0_chk14 v1_0 k0_t4 v93), 16 ∣ (k0_mult96 v93).toNat := fun v1_0 k0_t4 v93 k0_hw14 => k0_hw14.2.2.2.1.2.1
theorem k0_mult97_dvd : ∀ (v1_0 : BitVec 32) (k0_t4 : Fin (k0_t4_loop v1_0).trips) (v93 : BitVec 32) (k0_hw14 : k0_chk14 v1_0 k0_t4 v93), 16 ∣ (k0_mult97 v93).toNat := fun v1_0 k0_t4 v93 k0_hw14 => k0_hw14.2.2.2.1.2.2.1
theorem k0_mult98_dvd : ∀ (v1_0 : BitVec 32) (k0_t4 : Fin (k0_t4_loop v1_0).trips) (v93 : BitVec 32) (k0_hw14 : k0_chk14 v1_0 k0_t4 v93), 16 ∣ (k0_mult98 v93).toNat := fun v1_0 k0_t4 v93 k0_hw14 => k0_hw14.2.2.2.1.2.2.2.1
theorem k0_mult99_dvd : ∀ (v1_0 : BitVec 32) (k0_t4 : Fin (k0_t4_loop v1_0).trips) (v93 : BitVec 32) (k0_hw14 : k0_chk14 v1_0 k0_t4 v93), 16 ∣ (k0_mult99 v93).toNat := fun v1_0 k0_t4 v93 k0_hw14 => k0_hw14.2.2.2.1.2.2.2.2.1
theorem k0_mult100_dvd : ∀ (v1_0 : BitVec 32) (k0_t4 : Fin (k0_t4_loop v1_0).trips) (v93 : BitVec 32) (k0_hw14 : k0_chk14 v1_0 k0_t4 v93), 16 ∣ (k0_mult100 v93).toNat := fun v1_0 k0_t4 v93 k0_hw14 => k0_hw14.2.2.2.1.2.2.2.2.2.1
theorem k0_mult101_dvd : ∀ (v1_0 : BitVec 32) (k0_t4 : Fin (k0_t4_loop v1_0).trips) (v93 : BitVec 32) (k0_hw14 : k0_chk14 v1_0 k0_t4 v93), 16 ∣ (k0_mult101 v93).toNat := fun v1_0 k0_t4 v93 k0_hw14 => k0_hw14.2.2.2.1.2.2.2.2.2.2.1
theorem k0_mult102_dvd : ∀ (v1_0 : BitVec 32) (k0_t4 : Fin (k0_t4_loop v1_0).trips) (v93 : BitVec 32) (k0_hw14 : k0_chk14 v1_0 k0_t4 v93), 16 ∣ (k0_mult102 v93).toNat := fun v1_0 k0_t4 v93 k0_hw14 => k0_hw14.2.2.2.1.2.2.2.2.2.2.2.1
theorem k0_off32_inb : ∀ (v1_0 : BitVec 32) (k0_t4 : Fin (k0_t4_loop v1_0).trips) (v93 : BitVec 32) (k0_hw14 : k0_chk14 v1_0 k0_t4 v93), ∀ (r : Fin 16), ∀ a, (k0_off32 v1_0 k0_t4 v93 (BitVec.ofNat 32 (16 * r.val))) a + S1x16x128.size a ≤ S2x256x3072.size a := fun v1_0 k0_t4 v93 k0_hw14 r => k0_hw14.2.2.2.1.2.2.2.2.2.2.2.2.1 r
theorem k0_mult103_dvd : ∀ (v1_0 : BitVec 32) (k0_t4 : Fin (k0_t4_loop v1_0).trips) (v93 : BitVec 32) (k0_hw14 : k0_chk14 v1_0 k0_t4 v93), 16 ∣ (k0_mult103 v93).toNat := fun v1_0 k0_t4 v93 k0_hw14 => k0_hw14.2.2.2.1.2.2.2.2.2.2.2.2.2.1
theorem k0_off33_inb : ∀ (v1_0 : BitVec 32) (k0_t4 : Fin (k0_t4_loop v1_0).trips) (v93 : BitVec 32) (k0_hw14 : k0_chk14 v1_0 k0_t4 v93), ∀ (r : Fin 16), ∀ a, (k0_off33 v1_0 k0_t4 v93 (BitVec.ofNat 32 (16 * r.val))) a + S1x16x128.size a ≤ S2x256x3072.size a := fun v1_0 k0_t4 v93 k0_hw14 r => k0_hw14.2.2.2.1.2.2.2.2.2.2.2.2.2.2.1 r
theorem k0_mult104_dvd : ∀ (v1_0 : BitVec 32) (k0_t4 : Fin (k0_t4_loop v1_0).trips) (v93 : BitVec 32) (k0_hw14 : k0_chk14 v1_0 k0_t4 v93), 16 ∣ (k0_mult104 v93).toNat := fun v1_0 k0_t4 v93 k0_hw14 => k0_hw14.2.2.2.1.2.2.2.2.2.2.2.2.2.2.2.1
theorem k0_mult105_dvd : ∀ (v1_0 : BitVec 32) (k0_t4 : Fin (k0_t4_loop v1_0).trips) (v93 : BitVec 32) (k0_hw14 : k0_chk14 v1_0 k0_t4 v93), 16 ∣ (k0_mult105 v93).toNat := fun v1_0 k0_t4 v93 k0_hw14 => k0_hw14.2.2.2.1.2.2.2.2.2.2.2.2.2.2.2.2.1
theorem k0_mult106_dvd : ∀ (v1_0 : BitVec 32) (k0_t4 : Fin (k0_t4_loop v1_0).trips) (v93 : BitVec 32) (k0_hw14 : k0_chk14 v1_0 k0_t4 v93), 16 ∣ (k0_mult106 v93).toNat := fun v1_0 k0_t4 v93 k0_hw14 => k0_hw14.2.2.2.1.2.2.2.2.2.2.2.2.2.2.2.2.2.1
theorem k0_mult107_dvd : ∀ (v1_0 : BitVec 32) (k0_t4 : Fin (k0_t4_loop v1_0).trips) (v93 : BitVec 32) (k0_hw14 : k0_chk14 v1_0 k0_t4 v93), 16 ∣ (k0_mult107 v93).toNat := fun v1_0 k0_t4 v93 k0_hw14 => k0_hw14.2.2.2.1.2.2.2.2.2.2.2.2.2.2.2.2.2.2.1
theorem k0_mult108_dvd : ∀ (v1_0 : BitVec 32) (k0_t4 : Fin (k0_t4_loop v1_0).trips) (v93 : BitVec 32) (k0_hw14 : k0_chk14 v1_0 k0_t4 v93), 16 ∣ (k0_mult108 v93).toNat := fun v1_0 k0_t4 v93 k0_hw14 => k0_hw14.2.2.2.1.2.2.2.2.2.2.2.2.2.2.2.2.2.2.2.1
theorem k0_mult109_dvd : ∀ (v1_0 : BitVec 32) (k0_t4 : Fin (k0_t4_loop v1_0).trips) (v93 : BitVec 32) (k0_hw14 : k0_chk14 v1_0 k0_t4 v93), 16 ∣ (k0_mult109 v93).toNat := fun v1_0 k0_t4 v93 k0_hw14 => k0_hw14.2.2.2.1.2.2.2.2.2.2.2.2.2.2.2.2.2.2.2.2.1
theorem k0_mult110_dvd : ∀ (v1_0 : BitVec 32) (k0_t4 : Fin (k0_t4_loop v1_0).trips) (v93 : BitVec 32) (k0_hw14 : k0_chk14 v1_0 k0_t4 v93), 16 ∣ (k0_mult110 v93).toNat := fun v1_0 k0_t4 v93 k0_hw14 => k0_hw14.2.2.2.1.2.2.2.2.2.2.2.2.2.2.2.2.2.2.2.2.2.1
theorem k0_mult111_dvd : ∀ (v1_0 : BitVec 32) (k0_t4 : Fin (k0_t4_loop v1_0).trips) (v93 : BitVec 32) (k0_hw14 : k0_chk14 v1_0 k0_t4 v93), 16 ∣ (k0_mult111 v93).toNat := fun v1_0 k0_t4 v93 k0_hw14 => k0_hw14.2.2.2.1.2.2.2.2.2.2.2.2.2.2.2.2.2.2.2.2.2.2.1
theorem k0_mult112_dvd : ∀ (v1_0 : BitVec 32) (k0_t4 : Fin (k0_t4_loop v1_0).trips) (v93 : BitVec 32) (k0_hw14 : k0_chk14 v1_0 k0_t4 v93), 16 ∣ (k0_mult112 v93).toNat := fun v1_0 k0_t4 v93 k0_hw14 => k0_hw14.2.2.2.1.2.2.2.2.2.2.2.2.2.2.2.2.2.2.2.2.2.2.2.1
theorem k0_mult113_dvd : ∀ (v1_0 : BitVec 32) (k0_t4 : Fin (k0_t4_loop v1_0).trips) (v93 : BitVec 32) (k0_hw14 : k0_chk14 v1_0 k0_t4 v93), 16 ∣ (k0_mult113 v93).toNat := fun v1_0 k0_t4 v93 k0_hw14 => k0_hw14.2.2.2.1.2.2.2.2.2.2.2.2.2.2.2.2.2.2.2.2.2.2.2.2.1
theorem k0_mult114_dvd : ∀ (v1_0 : BitVec 32) (k0_t4 : Fin (k0_t4_loop v1_0).trips) (v93 : BitVec 32) (k0_hw14 : k0_chk14 v1_0 k0_t4 v93), 16 ∣ (k0_mult114 v93).toNat := fun v1_0 k0_t4 v93 k0_hw14 => k0_hw14.2.2.2.1.2.2.2.2.2.2.2.2.2.2.2.2.2.2.2.2.2.2.2.2.2.1
theorem k0_mult115_dvd : ∀ (v1_0 : BitVec 32) (k0_t4 : Fin (k0_t4_loop v1_0).trips) (v93 : BitVec 32) (k0_hw14 : k0_chk14 v1_0 k0_t4 v93), 16 ∣ (k0_mult115 v93).toNat := fun v1_0 k0_t4 v93 k0_hw14 => k0_hw14.2.2.2.1.2.2.2.2.2.2.2.2.2.2.2.2.2.2.2.2.2.2.2.2.2.2.1
theorem k0_mult116_dvd : ∀ (v1_0 : BitVec 32) (k0_t4 : Fin (k0_t4_loop v1_0).trips) (v93 : BitVec 32) (k0_hw14 : k0_chk14 v1_0 k0_t4 v93), 16 ∣ (k0_mult116 v93).toNat := fun v1_0 k0_t4 v93 k0_hw14 => k0_hw14.2.2.2.1.2.2.2.2.2.2.2.2.2.2.2.2.2.2.2.2.2.2.2.2.2.2.2.1
theorem k0_mult117_dvd : ∀ (v1_0 : BitVec 32) (k0_t4 : Fin (k0_t4_loop v1_0).trips) (v93 : BitVec 32) (k0_hw14 : k0_chk14 v1_0 k0_t4 v93), 16 ∣ (k0_mult117 v93).toNat := fun v1_0 k0_t4 v93 k0_hw14 => k0_hw14.2.2.2.1.2.2.2.2.2.2.2.2.2.2.2.2.2.2.2.2.2.2.2.2.2.2.2.2.1
theorem k0_mult118_dvd : ∀ (v1_0 : BitVec 32) (k0_t4 : Fin (k0_t4_loop v1_0).trips) (v93 : BitVec 32) (k0_hw14 : k0_chk14 v1_0 k0_t4 v93), 16 ∣ (k0_mult118 v93).toNat := fun v1_0 k0_t4 v93 k0_hw14 => k0_hw14.2.2.2.1.2.2.2.2.2.2.2.2.2.2.2.2.2.2.2.2.2.2.2.2.2.2.2.2.2.1
theorem k0_mult119_dvd : ∀ (v1_0 : BitVec 32) (k0_t4 : Fin (k0_t4_loop v1_0).trips) (v93 : BitVec 32) (k0_hw14 : k0_chk14 v1_0 k0_t4 v93), 16 ∣ (k0_mult119 v93).toNat := fun v1_0 k0_t4 v93 k0_hw14 => k0_hw14.2.2.2.1.2.2.2.2.2.2.2.2.2.2.2.2.2.2.2.2.2.2.2.2.2.2.2.2.2.2.1
theorem k0_mult120_dvd : ∀ (v1_0 : BitVec 32) (k0_t4 : Fin (k0_t4_loop v1_0).trips) (v93 : BitVec 32) (k0_hw14 : k0_chk14 v1_0 k0_t4 v93), 16 ∣ (k0_mult120 v93).toNat := fun v1_0 k0_t4 v93 k0_hw14 => k0_hw14.2.2.2.1.2.2.2.2.2.2.2.2.2.2.2.2.2.2.2.2.2.2.2.2.2.2.2.2.2.2.2.1
theorem k0_mult121_dvd : ∀ (v1_0 : BitVec 32) (k0_t4 : Fin (k0_t4_loop v1_0).trips) (v93 : BitVec 32) (k0_hw14 : k0_chk14 v1_0 k0_t4 v93), 16 ∣ (k0_mult121 v93).toNat := fun v1_0 k0_t4 v93 k0_hw14 => k0_hw14.2.2.2.1.2.2.2.2.2.2.2.2.2.2.2.2.2.2.2.2.2.2.2.2.2.2.2.2.2.2.2.2.1
theorem k0_mult122_dvd : ∀ (v1_0 : BitVec 32) (k0_t4 : Fin (k0_t4_loop v1_0).trips) (v93 : BitVec 32) (k0_hw14 : k0_chk14 v1_0 k0_t4 v93), 16 ∣ (k0_mult122 v93).toNat := fun v1_0 k0_t4 v93 k0_hw14 => k0_hw14.2.2.2.1.2.2.2.2.2.2.2.2.2.2.2.2.2.2.2.2.2.2.2.2.2.2.2.2.2.2.2.2.2.1
theorem k0_mult123_dvd : ∀ (v1_0 : BitVec 32) (k0_t4 : Fin (k0_t4_loop v1_0).trips) (v93 : BitVec 32) (k0_hw14 : k0_chk14 v1_0 k0_t4 v93), 16 ∣ (k0_mult123 v93).toNat := fun v1_0 k0_t4 v93 k0_hw14 => k0_hw14.2.2.2.1.2.2.2.2.2.2.2.2.2.2.2.2.2.2.2.2.2.2.2.2.2.2.2.2.2.2.2.2.2.2.1
theorem k0_mult124_dvd : ∀ (v1_0 : BitVec 32) (k0_t4 : Fin (k0_t4_loop v1_0).trips) (v93 : BitVec 32) (k0_hw14 : k0_chk14 v1_0 k0_t4 v93), 16 ∣ (k0_mult124 v93).toNat := fun v1_0 k0_t4 v93 k0_hw14 => k0_hw14.2.2.2.1.2.2.2.2.2.2.2.2.2.2.2.2.2.2.2.2.2.2.2.2.2.2.2.2.2.2.2.2.2.2.2
theorem k0_mult125_dvd : ∀ (v1_0 : BitVec 32) (k0_t4 : Fin (k0_t4_loop v1_0).trips) (v93 : BitVec 32) (k0_hw14 : k0_chk14 v1_0 k0_t4 v93), 16 ∣ (k0_mult125 v93).toNat := fun v1_0 k0_t4 v93 k0_hw14 => k0_hw14.2.2.2.2.1.1
theorem k0_mult126_dvd : ∀ (v1_0 : BitVec 32) (k0_t4 : Fin (k0_t4_loop v1_0).trips) (v93 : BitVec 32) (k0_hw14 : k0_chk14 v1_0 k0_t4 v93), 16 ∣ (k0_mult126 v93).toNat := fun v1_0 k0_t4 v93 k0_hw14 => k0_hw14.2.2.2.2.1.2.1
theorem k0_mult127_dvd : ∀ (v1_0 : BitVec 32) (k0_t4 : Fin (k0_t4_loop v1_0).trips) (v93 : BitVec 32) (k0_hw14 : k0_chk14 v1_0 k0_t4 v93), 16 ∣ (k0_mult127 v93).toNat := fun v1_0 k0_t4 v93 k0_hw14 => k0_hw14.2.2.2.2.1.2.2.1
theorem k0_mult128_dvd : ∀ (v1_0 : BitVec 32) (k0_t4 : Fin (k0_t4_loop v1_0).trips) (v93 : BitVec 32) (k0_hw14 : k0_chk14 v1_0 k0_t4 v93), 16 ∣ (k0_mult128 v93).toNat := fun v1_0 k0_t4 v93 k0_hw14 => k0_hw14.2.2.2.2.1.2.2.2.1
theorem k0_mult129_dvd : ∀ (v1_0 : BitVec 32) (k0_t4 : Fin (k0_t4_loop v1_0).trips) (v93 : BitVec 32) (k0_hw14 : k0_chk14 v1_0 k0_t4 v93), 16 ∣ (k0_mult129 v93).toNat := fun v1_0 k0_t4 v93 k0_hw14 => k0_hw14.2.2.2.2.1.2.2.2.2.1
theorem k0_mult130_dvd : ∀ (v1_0 : BitVec 32) (k0_t4 : Fin (k0_t4_loop v1_0).trips) (v93 : BitVec 32) (k0_hw14 : k0_chk14 v1_0 k0_t4 v93), 16 ∣ (k0_mult130 v93).toNat := fun v1_0 k0_t4 v93 k0_hw14 => k0_hw14.2.2.2.2.1.2.2.2.2.2.1
theorem k0_mult131_dvd : ∀ (v1_0 : BitVec 32) (k0_t4 : Fin (k0_t4_loop v1_0).trips) (v93 : BitVec 32) (k0_hw14 : k0_chk14 v1_0 k0_t4 v93), 16 ∣ (k0_mult131 v93).toNat := fun v1_0 k0_t4 v93 k0_hw14 => k0_hw14.2.2.2.2.1.2.2.2.2.2.2.1
theorem k0_mult132_dvd : ∀ (v1_0 : BitVec 32) (k0_t4 : Fin (k0_t4_loop v1_0).trips) (v93 : BitVec 32) (k0_hw14 : k0_chk14 v1_0 k0_t4 v93), 16 ∣ (k0_mult132 v93).toNat := fun v1_0 k0_t4 v93 k0_hw14 => k0_hw14.2.2.2.2.1.2.2.2.2.2.2.2.1
theorem k0_mult133_dvd : ∀ (v1_0 : BitVec 32) (k0_t4 : Fin (k0_t4_loop v1_0).trips) (v93 : BitVec 32) (k0_hw14 : k0_chk14 v1_0 k0_t4 v93), 16 ∣ (k0_mult133 v93).toNat := fun v1_0 k0_t4 v93 k0_hw14 => k0_hw14.2.2.2.2.1.2.2.2.2.2.2.2.2.1
theorem k0_mult134_dvd : ∀ (v1_0 : BitVec 32) (k0_t4 : Fin (k0_t4_loop v1_0).trips) (v93 : BitVec 32) (k0_hw14 : k0_chk14 v1_0 k0_t4 v93), 16 ∣ (k0_mult134 v93).toNat := fun v1_0 k0_t4 v93 k0_hw14 => k0_hw14.2.2.2.2.1.2.2.2.2.2.2.2.2.2.1
theorem k0_off34_inb : ∀ (v1_0 : BitVec 32) (k0_t4 : Fin (k0_t4_loop v1_0).trips) (v93 : BitVec 32) (k0_hw14 : k0_chk14 v1_0 k0_t4 v93), ∀ (r : Fin 16), ∀ a, (k0_off34 v1_0 k0_t4 v93 (BitVec.ofNat 32 (16 * r.val))) a + S1x16x128.size a ≤ S2x256x3072.size a := fun v1_0 k0_t4 v93 k0_hw14 r => k0_hw14.2.2.2.2.1.2.2.2.2.2.2.2.2.2.2.1 r
theorem k0_mult135_dvd : ∀ (v1_0 : BitVec 32) (k0_t4 : Fin (k0_t4_loop v1_0).trips) (v93 : BitVec 32) (k0_hw14 : k0_chk14 v1_0 k0_t4 v93), 16 ∣ (k0_mult135 v93).toNat := fun v1_0 k0_t4 v93 k0_hw14 => k0_hw14.2.2.2.2.1.2.2.2.2.2.2.2.2.2.2.2.1
theorem k0_off35_inb : ∀ (v1_0 : BitVec 32) (k0_t4 : Fin (k0_t4_loop v1_0).trips) (v93 : BitVec 32) (k0_hw14 : k0_chk14 v1_0 k0_t4 v93), ∀ (r : Fin 16), ∀ a, (k0_off35 v1_0 k0_t4 v93 (BitVec.ofNat 32 (16 * r.val))) a + S1x16x128.size a ≤ S2x256x3072.size a := fun v1_0 k0_t4 v93 k0_hw14 r => k0_hw14.2.2.2.2.1.2.2.2.2.2.2.2.2.2.2.2.2.1 r
theorem k0_mult136_dvd : ∀ (v1_0 : BitVec 32) (k0_t4 : Fin (k0_t4_loop v1_0).trips) (v93 : BitVec 32) (k0_hw14 : k0_chk14 v1_0 k0_t4 v93), 16 ∣ (k0_mult136 v93).toNat := fun v1_0 k0_t4 v93 k0_hw14 => k0_hw14.2.2.2.2.1.2.2.2.2.2.2.2.2.2.2.2.2.2.1
theorem k0_mult137_dvd : ∀ (v1_0 : BitVec 32) (k0_t4 : Fin (k0_t4_loop v1_0).trips) (v93 : BitVec 32) (k0_hw14 : k0_chk14 v1_0 k0_t4 v93), 16 ∣ (k0_mult137 v93).toNat := fun v1_0 k0_t4 v93 k0_hw14 => k0_hw14.2.2.2.2.1.2.2.2.2.2.2.2.2.2.2.2.2.2.2.1
theorem k0_mult138_dvd : ∀ (v1_0 : BitVec 32) (k0_t4 : Fin (k0_t4_loop v1_0).trips) (v93 : BitVec 32) (k0_hw14 : k0_chk14 v1_0 k0_t4 v93), 16 ∣ (k0_mult138 v93).toNat := fun v1_0 k0_t4 v93 k0_hw14 => k0_hw14.2.2.2.2.1.2.2.2.2.2.2.2.2.2.2.2.2.2.2.2.1
theorem k0_mult139_dvd : ∀ (v1_0 : BitVec 32) (k0_t4 : Fin (k0_t4_loop v1_0).trips) (v93 : BitVec 32) (k0_hw14 : k0_chk14 v1_0 k0_t4 v93), 16 ∣ (k0_mult139 v93).toNat := fun v1_0 k0_t4 v93 k0_hw14 => k0_hw14.2.2.2.2.1.2.2.2.2.2.2.2.2.2.2.2.2.2.2.2.2.1
theorem k0_mult140_dvd : ∀ (v1_0 : BitVec 32) (k0_t4 : Fin (k0_t4_loop v1_0).trips) (v93 : BitVec 32) (k0_hw14 : k0_chk14 v1_0 k0_t4 v93), 16 ∣ (k0_mult140 v93).toNat := fun v1_0 k0_t4 v93 k0_hw14 => k0_hw14.2.2.2.2.1.2.2.2.2.2.2.2.2.2.2.2.2.2.2.2.2.2.1
theorem k0_mult141_dvd : ∀ (v1_0 : BitVec 32) (k0_t4 : Fin (k0_t4_loop v1_0).trips) (v93 : BitVec 32) (k0_hw14 : k0_chk14 v1_0 k0_t4 v93), 16 ∣ (k0_mult141 v93).toNat := fun v1_0 k0_t4 v93 k0_hw14 => k0_hw14.2.2.2.2.1.2.2.2.2.2.2.2.2.2.2.2.2.2.2.2.2.2.2.1
theorem k0_mult142_dvd : ∀ (v1_0 : BitVec 32) (k0_t4 : Fin (k0_t4_loop v1_0).trips) (v93 : BitVec 32) (k0_hw14 : k0_chk14 v1_0 k0_t4 v93), 16 ∣ (k0_mult142 v93).toNat := fun v1_0 k0_t4 v93 k0_hw14 => k0_hw14.2.2.2.2.1.2.2.2.2.2.2.2.2.2.2.2.2.2.2.2.2.2.2.2.1
theorem k0_mult143_dvd : ∀ (v1_0 : BitVec 32) (k0_t4 : Fin (k0_t4_loop v1_0).trips) (v93 : BitVec 32) (k0_hw14 : k0_chk14 v1_0 k0_t4 v93), 16 ∣ (k0_mult143 v93).toNat := fun v1_0 k0_t4 v93 k0_hw14 => k0_hw14.2.2.2.2.1.2.2.2.2.2.2.2.2.2.2.2.2.2.2.2.2.2.2.2.2.1
theorem k0_mult144_dvd : ∀ (v1_0 : BitVec 32) (k0_t4 : Fin (k0_t4_loop v1_0).trips) (v93 : BitVec 32) (k0_hw14 : k0_chk14 v1_0 k0_t4 v93), 16 ∣ (k0_mult144 v93).toNat := fun v1_0 k0_t4 v93 k0_hw14 => k0_hw14.2.2.2.2.1.2.2.2.2.2.2.2.2.2.2.2.2.2.2.2.2.2.2.2.2.2.1
theorem k0_mult145_dvd : ∀ (v1_0 : BitVec 32) (k0_t4 : Fin (k0_t4_loop v1_0).trips) (v93 : BitVec 32) (k0_hw14 : k0_chk14 v1_0 k0_t4 v93), 16 ∣ (k0_mult145 v93).toNat := fun v1_0 k0_t4 v93 k0_hw14 => k0_hw14.2.2.2.2.1.2.2.2.2.2.2.2.2.2.2.2.2.2.2.2.2.2.2.2.2.2.2.1
theorem k0_mult146_dvd : ∀ (v1_0 : BitVec 32) (k0_t4 : Fin (k0_t4_loop v1_0).trips) (v93 : BitVec 32) (k0_hw14 : k0_chk14 v1_0 k0_t4 v93), 16 ∣ (k0_mult146 v93).toNat := fun v1_0 k0_t4 v93 k0_hw14 => k0_hw14.2.2.2.2.1.2.2.2.2.2.2.2.2.2.2.2.2.2.2.2.2.2.2.2.2.2.2.2.1
theorem k0_mult147_dvd : ∀ (v1_0 : BitVec 32) (k0_t4 : Fin (k0_t4_loop v1_0).trips) (v93 : BitVec 32) (k0_hw14 : k0_chk14 v1_0 k0_t4 v93), 16 ∣ (k0_mult147 v93).toNat := fun v1_0 k0_t4 v93 k0_hw14 => k0_hw14.2.2.2.2.1.2.2.2.2.2.2.2.2.2.2.2.2.2.2.2.2.2.2.2.2.2.2.2.2.1
theorem k0_mult148_dvd : ∀ (v1_0 : BitVec 32) (k0_t4 : Fin (k0_t4_loop v1_0).trips) (v93 : BitVec 32) (k0_hw14 : k0_chk14 v1_0 k0_t4 v93), 16 ∣ (k0_mult148 v93).toNat := fun v1_0 k0_t4 v93 k0_hw14 => k0_hw14.2.2.2.2.1.2.2.2.2.2.2.2.2.2.2.2.2.2.2.2.2.2.2.2.2.2.2.2.2.2.1
theorem k0_mult149_dvd : ∀ (v1_0 : BitVec 32) (k0_t4 : Fin (k0_t4_loop v1_0).trips) (v93 : BitVec 32) (k0_hw14 : k0_chk14 v1_0 k0_t4 v93), 16 ∣ (k0_mult149 v93).toNat := fun v1_0 k0_t4 v93 k0_hw14 => k0_hw14.2.2.2.2.1.2.2.2.2.2.2.2.2.2.2.2.2.2.2.2.2.2.2.2.2.2.2.2.2.2.2.1
theorem k0_mult150_dvd : ∀ (v1_0 : BitVec 32) (k0_t4 : Fin (k0_t4_loop v1_0).trips) (v93 : BitVec 32) (k0_hw14 : k0_chk14 v1_0 k0_t4 v93), 16 ∣ (k0_mult150 v93).toNat := fun v1_0 k0_t4 v93 k0_hw14 => k0_hw14.2.2.2.2.1.2.2.2.2.2.2.2.2.2.2.2.2.2.2.2.2.2.2.2.2.2.2.2.2.2.2.2.1
theorem k0_mult151_dvd : ∀ (v1_0 : BitVec 32) (k0_t4 : Fin (k0_t4_loop v1_0).trips) (v93 : BitVec 32) (k0_hw14 : k0_chk14 v1_0 k0_t4 v93), 16 ∣ (k0_mult151 v93).toNat := fun v1_0 k0_t4 v93 k0_hw14 => k0_hw14.2.2.2.2.1.2.2.2.2.2.2.2.2.2.2.2.2.2.2.2.2.2.2.2.2.2.2.2.2.2.2.2.2.1
theorem k0_mult152_dvd : ∀ (v1_0 : BitVec 32) (k0_t4 : Fin (k0_t4_loop v1_0).trips) (v93 : BitVec 32) (k0_hw14 : k0_chk14 v1_0 k0_t4 v93), 16 ∣ (k0_mult152 v93).toNat := fun v1_0 k0_t4 v93 k0_hw14 => k0_hw14.2.2.2.2.1.2.2.2.2.2.2.2.2.2.2.2.2.2.2.2.2.2.2.2.2.2.2.2.2.2.2.2.2.2.1
theorem k0_mult153_dvd : ∀ (v1_0 : BitVec 32) (k0_t4 : Fin (k0_t4_loop v1_0).trips) (v93 : BitVec 32) (k0_hw14 : k0_chk14 v1_0 k0_t4 v93), 16 ∣ (k0_mult153 v93).toNat := fun v1_0 k0_t4 v93 k0_hw14 => k0_hw14.2.2.2.2.1.2.2.2.2.2.2.2.2.2.2.2.2.2.2.2.2.2.2.2.2.2.2.2.2.2.2.2.2.2.2.1
theorem k0_mult154_dvd : ∀ (v1_0 : BitVec 32) (k0_t4 : Fin (k0_t4_loop v1_0).trips) (v93 : BitVec 32) (k0_hw14 : k0_chk14 v1_0 k0_t4 v93), 16 ∣ (k0_mult154 v93).toNat := fun v1_0 k0_t4 v93 k0_hw14 => k0_hw14.2.2.2.2.1.2.2.2.2.2.2.2.2.2.2.2.2.2.2.2.2.2.2.2.2.2.2.2.2.2.2.2.2.2.2.2
theorem k0_mult155_dvd : ∀ (v1_0 : BitVec 32) (k0_t4 : Fin (k0_t4_loop v1_0).trips) (v93 : BitVec 32) (k0_hw14 : k0_chk14 v1_0 k0_t4 v93), 16 ∣ (k0_mult155 v93).toNat := fun v1_0 k0_t4 v93 k0_hw14 => k0_hw14.2.2.2.2.2.1.1
theorem k0_mult156_dvd : ∀ (v1_0 : BitVec 32) (k0_t4 : Fin (k0_t4_loop v1_0).trips) (v93 : BitVec 32) (k0_hw14 : k0_chk14 v1_0 k0_t4 v93), 16 ∣ (k0_mult156 v93).toNat := fun v1_0 k0_t4 v93 k0_hw14 => k0_hw14.2.2.2.2.2.1.2.1
theorem k0_mult157_dvd : ∀ (v1_0 : BitVec 32) (k0_t4 : Fin (k0_t4_loop v1_0).trips) (v93 : BitVec 32) (k0_hw14 : k0_chk14 v1_0 k0_t4 v93), 16 ∣ (k0_mult157 v93).toNat := fun v1_0 k0_t4 v93 k0_hw14 => k0_hw14.2.2.2.2.2.1.2.2.1
theorem k0_mult158_dvd : ∀ (v1_0 : BitVec 32) (k0_t4 : Fin (k0_t4_loop v1_0).trips) (v93 : BitVec 32) (k0_hw14 : k0_chk14 v1_0 k0_t4 v93), 16 ∣ (k0_mult158 v93).toNat := fun v1_0 k0_t4 v93 k0_hw14 => k0_hw14.2.2.2.2.2.1.2.2.2.1
theorem k0_mult159_dvd : ∀ (v1_0 : BitVec 32) (k0_t4 : Fin (k0_t4_loop v1_0).trips) (v93 : BitVec 32) (k0_hw14 : k0_chk14 v1_0 k0_t4 v93), 16 ∣ (k0_mult159 v93).toNat := fun v1_0 k0_t4 v93 k0_hw14 => k0_hw14.2.2.2.2.2.1.2.2.2.2.1
theorem k0_mult160_dvd : ∀ (v1_0 : BitVec 32) (k0_t4 : Fin (k0_t4_loop v1_0).trips) (v93 : BitVec 32) (k0_hw14 : k0_chk14 v1_0 k0_t4 v93), 16 ∣ (k0_mult160 v93).toNat := fun v1_0 k0_t4 v93 k0_hw14 => k0_hw14.2.2.2.2.2.1.2.2.2.2.2.1
theorem k0_mult161_dvd : ∀ (v1_0 : BitVec 32) (k0_t4 : Fin (k0_t4_loop v1_0).trips) (v93 : BitVec 32) (k0_hw14 : k0_chk14 v1_0 k0_t4 v93), 16 ∣ (k0_mult161 v93).toNat := fun v1_0 k0_t4 v93 k0_hw14 => k0_hw14.2.2.2.2.2.1.2.2.2.2.2.2.1
theorem k0_mult162_dvd : ∀ (v1_0 : BitVec 32) (k0_t4 : Fin (k0_t4_loop v1_0).trips) (v93 : BitVec 32) (k0_hw14 : k0_chk14 v1_0 k0_t4 v93), 16 ∣ (k0_mult162 v93).toNat := fun v1_0 k0_t4 v93 k0_hw14 => k0_hw14.2.2.2.2.2.1.2.2.2.2.2.2.2.1
theorem k0_mult163_dvd : ∀ (v1_0 : BitVec 32) (k0_t4 : Fin (k0_t4_loop v1_0).trips) (v93 : BitVec 32) (k0_hw14 : k0_chk14 v1_0 k0_t4 v93), 16 ∣ (k0_mult163 v93).toNat := fun v1_0 k0_t4 v93 k0_hw14 => k0_hw14.2.2.2.2.2.1.2.2.2.2.2.2.2.2.1
theorem k0_mult164_dvd : ∀ (v1_0 : BitVec 32) (k0_t4 : Fin (k0_t4_loop v1_0).trips) (v93 : BitVec 32) (k0_hw14 : k0_chk14 v1_0 k0_t4 v93), 16 ∣ (k0_mult164 v93).toNat := fun v1_0 k0_t4 v93 k0_hw14 => k0_hw14.2.2.2.2.2.1.2.2.2.2.2.2.2.2.2.1
theorem k0_mult165_dvd : ∀ (v1_0 : BitVec 32) (k0_t4 : Fin (k0_t4_loop v1_0).trips) (v93 : BitVec 32) (k0_hw14 : k0_chk14 v1_0 k0_t4 v93), 16 ∣ (k0_mult165 v93).toNat := fun v1_0 k0_t4 v93 k0_hw14 => k0_hw14.2.2.2.2.2.1.2.2.2.2.2.2.2.2.2.2.1
theorem k0_mult166_dvd : ∀ (v1_0 : BitVec 32) (k0_t4 : Fin (k0_t4_loop v1_0).trips) (v93 : BitVec 32) (k0_hw14 : k0_chk14 v1_0 k0_t4 v93), 16 ∣ (k0_mult166 v93).toNat := fun v1_0 k0_t4 v93 k0_hw14 => k0_hw14.2.2.2.2.2.1.2.2.2.2.2.2.2.2.2.2.2.1
theorem k0_off36_inb : ∀ (v1_0 : BitVec 32) (k0_t4 : Fin (k0_t4_loop v1_0).trips) (v93 : BitVec 32) (k0_hw14 : k0_chk14 v1_0 k0_t4 v93), ∀ (r : Fin 16), ∀ a, (k0_off36 v1_0 k0_t4 v93 (BitVec.ofNat 32 (16 * r.val))) a + S1x16x128.size a ≤ S2x256x3072.size a := fun v1_0 k0_t4 v93 k0_hw14 r => k0_hw14.2.2.2.2.2.1.2.2.2.2.2.2.2.2.2.2.2.2.1 r
theorem k0_mult167_dvd : ∀ (v1_0 : BitVec 32) (k0_t4 : Fin (k0_t4_loop v1_0).trips) (v93 : BitVec 32) (k0_hw14 : k0_chk14 v1_0 k0_t4 v93), 16 ∣ (k0_mult167 v93).toNat := fun v1_0 k0_t4 v93 k0_hw14 => k0_hw14.2.2.2.2.2.1.2.2.2.2.2.2.2.2.2.2.2.2.2.1
theorem k0_off37_inb : ∀ (v1_0 : BitVec 32) (k0_t4 : Fin (k0_t4_loop v1_0).trips) (v93 : BitVec 32) (k0_hw14 : k0_chk14 v1_0 k0_t4 v93), ∀ (r : Fin 16), ∀ a, (k0_off37 v1_0 k0_t4 v93 (BitVec.ofNat 32 (16 * r.val))) a + S1x16x128.size a ≤ S2x256x3072.size a := fun v1_0 k0_t4 v93 k0_hw14 r => k0_hw14.2.2.2.2.2.1.2.2.2.2.2.2.2.2.2.2.2.2.2.2.1 r
theorem k0_mult168_dvd : ∀ (v1_0 : BitVec 32) (k0_t4 : Fin (k0_t4_loop v1_0).trips) (v93 : BitVec 32) (k0_hw14 : k0_chk14 v1_0 k0_t4 v93), 16 ∣ (k0_mult168 v93).toNat := fun v1_0 k0_t4 v93 k0_hw14 => k0_hw14.2.2.2.2.2.1.2.2.2.2.2.2.2.2.2.2.2.2.2.2.2.1
theorem k0_mult169_dvd : ∀ (v1_0 : BitVec 32) (k0_t4 : Fin (k0_t4_loop v1_0).trips) (v93 : BitVec 32) (k0_hw14 : k0_chk14 v1_0 k0_t4 v93), 16 ∣ (k0_mult169 v93).toNat := fun v1_0 k0_t4 v93 k0_hw14 => k0_hw14.2.2.2.2.2.1.2.2.2.2.2.2.2.2.2.2.2.2.2.2.2.2.1
theorem k0_mult170_dvd : ∀ (v1_0 : BitVec 32) (k0_t4 : Fin (k0_t4_loop v1_0).trips) (v93 : BitVec 32) (k0_hw14 : k0_chk14 v1_0 k0_t4 v93), 16 ∣ (k0_mult170 v93).toNat := fun v1_0 k0_t4 v93 k0_hw14 => k0_hw14.2.2.2.2.2.1.2.2.2.2.2.2.2.2.2.2.2.2.2.2.2.2.2.1
theorem k0_mult171_dvd : ∀ (v1_0 : BitVec 32) (k0_t4 : Fin (k0_t4_loop v1_0).trips) (v93 : BitVec 32) (k0_hw14 : k0_chk14 v1_0 k0_t4 v93), 16 ∣ (k0_mult171 v93).toNat := fun v1_0 k0_t4 v93 k0_hw14 => k0_hw14.2.2.2.2.2.1.2.2.2.2.2.2.2.2.2.2.2.2.2.2.2.2.2.2.1
theorem k0_mult172_dvd : ∀ (v1_0 : BitVec 32) (k0_t4 : Fin (k0_t4_loop v1_0).trips) (v93 : BitVec 32) (k0_hw14 : k0_chk14 v1_0 k0_t4 v93), 16 ∣ (k0_mult172 v93).toNat := fun v1_0 k0_t4 v93 k0_hw14 => k0_hw14.2.2.2.2.2.1.2.2.2.2.2.2.2.2.2.2.2.2.2.2.2.2.2.2.2.1
theorem k0_mult173_dvd : ∀ (v1_0 : BitVec 32) (k0_t4 : Fin (k0_t4_loop v1_0).trips) (v93 : BitVec 32) (k0_hw14 : k0_chk14 v1_0 k0_t4 v93), 16 ∣ (k0_mult173 v93).toNat := fun v1_0 k0_t4 v93 k0_hw14 => k0_hw14.2.2.2.2.2.1.2.2.2.2.2.2.2.2.2.2.2.2.2.2.2.2.2.2.2.2.1
theorem k0_mult174_dvd : ∀ (v1_0 : BitVec 32) (k0_t4 : Fin (k0_t4_loop v1_0).trips) (v93 : BitVec 32) (k0_hw14 : k0_chk14 v1_0 k0_t4 v93), 16 ∣ (k0_mult174 v93).toNat := fun v1_0 k0_t4 v93 k0_hw14 => k0_hw14.2.2.2.2.2.1.2.2.2.2.2.2.2.2.2.2.2.2.2.2.2.2.2.2.2.2.2.1
theorem k0_mult175_dvd : ∀ (v1_0 : BitVec 32) (k0_t4 : Fin (k0_t4_loop v1_0).trips) (v93 : BitVec 32) (k0_hw14 : k0_chk14 v1_0 k0_t4 v93), 16 ∣ (k0_mult175 v93).toNat := fun v1_0 k0_t4 v93 k0_hw14 => k0_hw14.2.2.2.2.2.1.2.2.2.2.2.2.2.2.2.2.2.2.2.2.2.2.2.2.2.2.2.2.1
theorem k0_mult176_dvd : ∀ (v1_0 : BitVec 32) (k0_t4 : Fin (k0_t4_loop v1_0).trips) (v93 : BitVec 32) (k0_hw14 : k0_chk14 v1_0 k0_t4 v93), 16 ∣ (k0_mult176 v93).toNat := fun v1_0 k0_t4 v93 k0_hw14 => k0_hw14.2.2.2.2.2.1.2.2.2.2.2.2.2.2.2.2.2.2.2.2.2.2.2.2.2.2.2.2.2.1
theorem k0_mult177_dvd : ∀ (v1_0 : BitVec 32) (k0_t4 : Fin (k0_t4_loop v1_0).trips) (v93 : BitVec 32) (k0_hw14 : k0_chk14 v1_0 k0_t4 v93), 16 ∣ (k0_mult177 v93).toNat := fun v1_0 k0_t4 v93 k0_hw14 => k0_hw14.2.2.2.2.2.1.2.2.2.2.2.2.2.2.2.2.2.2.2.2.2.2.2.2.2.2.2.2.2.2.1
theorem k0_mult178_dvd : ∀ (v1_0 : BitVec 32) (k0_t4 : Fin (k0_t4_loop v1_0).trips) (v93 : BitVec 32) (k0_hw14 : k0_chk14 v1_0 k0_t4 v93), 16 ∣ (k0_mult178 v93).toNat := fun v1_0 k0_t4 v93 k0_hw14 => k0_hw14.2.2.2.2.2.1.2.2.2.2.2.2.2.2.2.2.2.2.2.2.2.2.2.2.2.2.2.2.2.2.2.1
theorem k0_mult179_dvd : ∀ (v1_0 : BitVec 32) (k0_t4 : Fin (k0_t4_loop v1_0).trips) (v93 : BitVec 32) (k0_hw14 : k0_chk14 v1_0 k0_t4 v93), 16 ∣ (k0_mult179 v93).toNat := fun v1_0 k0_t4 v93 k0_hw14 => k0_hw14.2.2.2.2.2.1.2.2.2.2.2.2.2.2.2.2.2.2.2.2.2.2.2.2.2.2.2.2.2.2.2.2.1
theorem k0_mult180_dvd : ∀ (v1_0 : BitVec 32) (k0_t4 : Fin (k0_t4_loop v1_0).trips) (v93 : BitVec 32) (k0_hw14 : k0_chk14 v1_0 k0_t4 v93), 16 ∣ (k0_mult180 v93).toNat := fun v1_0 k0_t4 v93 k0_hw14 => k0_hw14.2.2.2.2.2.1.2.2.2.2.2.2.2.2.2.2.2.2.2.2.2.2.2.2.2.2.2.2.2.2.2.2.2.1
theorem k0_mult181_dvd : ∀ (v1_0 : BitVec 32) (k0_t4 : Fin (k0_t4_loop v1_0).trips) (v93 : BitVec 32) (k0_hw14 : k0_chk14 v1_0 k0_t4 v93), 16 ∣ (k0_mult181 v93).toNat := fun v1_0 k0_t4 v93 k0_hw14 => k0_hw14.2.2.2.2.2.1.2.2.2.2.2.2.2.2.2.2.2.2.2.2.2.2.2.2.2.2.2.2.2.2.2.2.2.2.1
theorem k0_mult182_dvd : ∀ (v1_0 : BitVec 32) (k0_t4 : Fin (k0_t4_loop v1_0).trips) (v93 : BitVec 32) (k0_hw14 : k0_chk14 v1_0 k0_t4 v93), 16 ∣ (k0_mult182 v93).toNat := fun v1_0 k0_t4 v93 k0_hw14 => k0_hw14.2.2.2.2.2.1.2.2.2.2.2.2.2.2.2.2.2.2.2.2.2.2.2.2.2.2.2.2.2.2.2.2.2.2.2.1
theorem k0_mult183_dvd : ∀ (v1_0 : BitVec 32) (k0_t4 : Fin (k0_t4_loop v1_0).trips) (v93 : BitVec 32) (k0_hw14 : k0_chk14 v1_0 k0_t4 v93), 16 ∣ (k0_mult183 v93).toNat := fun v1_0 k0_t4 v93 k0_hw14 => k0_hw14.2.2.2.2.2.1.2.2.2.2.2.2.2.2.2.2.2.2.2.2.2.2.2.2.2.2.2.2.2.2.2.2.2.2.2.2.1
theorem k0_mult184_dvd : ∀ (v1_0 : BitVec 32) (k0_t4 : Fin (k0_t4_loop v1_0).trips) (v93 : BitVec 32) (k0_hw14 : k0_chk14 v1_0 k0_t4 v93), 16 ∣ (k0_mult184 v93).toNat := fun v1_0 k0_t4 v93 k0_hw14 => k0_hw14.2.2.2.2.2.1.2.2.2.2.2.2.2.2.2.2.2.2.2.2.2.2.2.2.2.2.2.2.2.2.2.2.2.2.2.2.2
theorem k0_mult185_dvd : ∀ (v1_0 : BitVec 32) (k0_t4 : Fin (k0_t4_loop v1_0).trips) (v93 : BitVec 32) (k0_hw14 : k0_chk14 v1_0 k0_t4 v93), 16 ∣ (k0_mult185 v93).toNat := fun v1_0 k0_t4 v93 k0_hw14 => k0_hw14.2.2.2.2.2.2.1.1
theorem k0_mult186_dvd : ∀ (v1_0 : BitVec 32) (k0_t4 : Fin (k0_t4_loop v1_0).trips) (v93 : BitVec 32) (k0_hw14 : k0_chk14 v1_0 k0_t4 v93), 16 ∣ (k0_mult186 v93).toNat := fun v1_0 k0_t4 v93 k0_hw14 => k0_hw14.2.2.2.2.2.2.1.2.1
theorem k0_mult187_dvd : ∀ (v1_0 : BitVec 32) (k0_t4 : Fin (k0_t4_loop v1_0).trips) (v93 : BitVec 32) (k0_hw14 : k0_chk14 v1_0 k0_t4 v93), 16 ∣ (k0_mult187 v93).toNat := fun v1_0 k0_t4 v93 k0_hw14 => k0_hw14.2.2.2.2.2.2.1.2.2.1
theorem k0_mult188_dvd : ∀ (v1_0 : BitVec 32) (k0_t4 : Fin (k0_t4_loop v1_0).trips) (v93 : BitVec 32) (k0_hw14 : k0_chk14 v1_0 k0_t4 v93), 16 ∣ (k0_mult188 v93).toNat := fun v1_0 k0_t4 v93 k0_hw14 => k0_hw14.2.2.2.2.2.2.1.2.2.2.1
theorem k0_mult189_dvd : ∀ (v1_0 : BitVec 32) (k0_t4 : Fin (k0_t4_loop v1_0).trips) (v93 : BitVec 32) (k0_hw14 : k0_chk14 v1_0 k0_t4 v93), 16 ∣ (k0_mult189 v93).toNat := fun v1_0 k0_t4 v93 k0_hw14 => k0_hw14.2.2.2.2.2.2.1.2.2.2.2.1
theorem k0_mult190_dvd : ∀ (v1_0 : BitVec 32) (k0_t4 : Fin (k0_t4_loop v1_0).trips) (v93 : BitVec 32) (k0_hw14 : k0_chk14 v1_0 k0_t4 v93), 16 ∣ (k0_mult190 v93).toNat := fun v1_0 k0_t4 v93 k0_hw14 => k0_hw14.2.2.2.2.2.2.1.2.2.2.2.2.1
theorem k0_mult191_dvd : ∀ (v1_0 : BitVec 32) (k0_t4 : Fin (k0_t4_loop v1_0).trips) (v93 : BitVec 32) (k0_hw14 : k0_chk14 v1_0 k0_t4 v93), 16 ∣ (k0_mult191 v93).toNat := fun v1_0 k0_t4 v93 k0_hw14 => k0_hw14.2.2.2.2.2.2.1.2.2.2.2.2.2.1
theorem k0_mult192_dvd : ∀ (v1_0 : BitVec 32) (k0_t4 : Fin (k0_t4_loop v1_0).trips) (v93 : BitVec 32) (k0_hw14 : k0_chk14 v1_0 k0_t4 v93), 16 ∣ (k0_mult192 v93).toNat := fun v1_0 k0_t4 v93 k0_hw14 => k0_hw14.2.2.2.2.2.2.1.2.2.2.2.2.2.2.1
theorem k0_mult193_dvd : ∀ (v1_0 : BitVec 32) (k0_t4 : Fin (k0_t4_loop v1_0).trips) (v93 : BitVec 32) (k0_hw14 : k0_chk14 v1_0 k0_t4 v93), 16 ∣ (k0_mult193 v93).toNat := fun v1_0 k0_t4 v93 k0_hw14 => k0_hw14.2.2.2.2.2.2.1.2.2.2.2.2.2.2.2.1
theorem k0_mult194_dvd : ∀ (v1_0 : BitVec 32) (k0_t4 : Fin (k0_t4_loop v1_0).trips) (v93 : BitVec 32) (k0_hw14 : k0_chk14 v1_0 k0_t4 v93), 16 ∣ (k0_mult194 v93).toNat := fun v1_0 k0_t4 v93 k0_hw14 => k0_hw14.2.2.2.2.2.2.1.2.2.2.2.2.2.2.2.2.1
theorem k0_mult195_dvd : ∀ (v1_0 : BitVec 32) (k0_t4 : Fin (k0_t4_loop v1_0).trips) (v93 : BitVec 32) (k0_hw14 : k0_chk14 v1_0 k0_t4 v93), 16 ∣ (k0_mult195 v93).toNat := fun v1_0 k0_t4 v93 k0_hw14 => k0_hw14.2.2.2.2.2.2.1.2.2.2.2.2.2.2.2.2.2.1
theorem k0_mult196_dvd : ∀ (v1_0 : BitVec 32) (k0_t4 : Fin (k0_t4_loop v1_0).trips) (v93 : BitVec 32) (k0_hw14 : k0_chk14 v1_0 k0_t4 v93), 16 ∣ (k0_mult196 v93).toNat := fun v1_0 k0_t4 v93 k0_hw14 => k0_hw14.2.2.2.2.2.2.1.2.2.2.2.2.2.2.2.2.2.2.1
theorem k0_mult197_dvd : ∀ (v1_0 : BitVec 32) (k0_t4 : Fin (k0_t4_loop v1_0).trips) (v93 : BitVec 32) (k0_hw14 : k0_chk14 v1_0 k0_t4 v93), 16 ∣ (k0_mult197 v93).toNat := fun v1_0 k0_t4 v93 k0_hw14 => k0_hw14.2.2.2.2.2.2.1.2.2.2.2.2.2.2.2.2.2.2.2.1
theorem k0_mult198_dvd : ∀ (v1_0 : BitVec 32) (k0_t4 : Fin (k0_t4_loop v1_0).trips) (v93 : BitVec 32) (k0_hw14 : k0_chk14 v1_0 k0_t4 v93), 16 ∣ (k0_mult198 v93).toNat := fun v1_0 k0_t4 v93 k0_hw14 => k0_hw14.2.2.2.2.2.2.1.2.2.2.2.2.2.2.2.2.2.2.2.2.1
theorem k0_off38_inb : ∀ (v1_0 : BitVec 32) (k0_t4 : Fin (k0_t4_loop v1_0).trips) (v93 : BitVec 32) (k0_hw14 : k0_chk14 v1_0 k0_t4 v93), ∀ (r : Fin 16), ∀ a, (k0_off38 v1_0 k0_t4 v93 (BitVec.ofNat 32 (16 * r.val))) a + S1x16x128.size a ≤ S2x256x3072.size a := fun v1_0 k0_t4 v93 k0_hw14 r => k0_hw14.2.2.2.2.2.2.1.2.2.2.2.2.2.2.2.2.2.2.2.2.2.1 r
theorem k0_mult199_dvd : ∀ (v1_0 : BitVec 32) (k0_t4 : Fin (k0_t4_loop v1_0).trips) (v93 : BitVec 32) (k0_hw14 : k0_chk14 v1_0 k0_t4 v93), 16 ∣ (k0_mult199 v93).toNat := fun v1_0 k0_t4 v93 k0_hw14 => k0_hw14.2.2.2.2.2.2.1.2.2.2.2.2.2.2.2.2.2.2.2.2.2.2.1
theorem k0_off39_inb : ∀ (v1_0 : BitVec 32) (k0_t4 : Fin (k0_t4_loop v1_0).trips) (v93 : BitVec 32) (k0_hw14 : k0_chk14 v1_0 k0_t4 v93), ∀ (r : Fin 16), ∀ a, (k0_off39 v1_0 k0_t4 v93 (BitVec.ofNat 32 (16 * r.val))) a + S1x16x128.size a ≤ S2x256x3072.size a := fun v1_0 k0_t4 v93 k0_hw14 r => k0_hw14.2.2.2.2.2.2.1.2.2.2.2.2.2.2.2.2.2.2.2.2.2.2.2.1 r
theorem k0_mult200_dvd : ∀ (v1_0 : BitVec 32) (k0_t4 : Fin (k0_t4_loop v1_0).trips) (v93 : BitVec 32) (k0_hw14 : k0_chk14 v1_0 k0_t4 v93), 16 ∣ (k0_mult200 v93).toNat := fun v1_0 k0_t4 v93 k0_hw14 => k0_hw14.2.2.2.2.2.2.1.2.2.2.2.2.2.2.2.2.2.2.2.2.2.2.2.2.1
theorem k0_mult201_dvd : ∀ (v1_0 : BitVec 32) (k0_t4 : Fin (k0_t4_loop v1_0).trips) (v93 : BitVec 32) (k0_hw14 : k0_chk14 v1_0 k0_t4 v93), 16 ∣ (k0_mult201 v93).toNat := fun v1_0 k0_t4 v93 k0_hw14 => k0_hw14.2.2.2.2.2.2.1.2.2.2.2.2.2.2.2.2.2.2.2.2.2.2.2.2.2.1
theorem k0_mult202_dvd : ∀ (v1_0 : BitVec 32) (k0_t4 : Fin (k0_t4_loop v1_0).trips) (v93 : BitVec 32) (k0_hw14 : k0_chk14 v1_0 k0_t4 v93), 16 ∣ (k0_mult202 v93).toNat := fun v1_0 k0_t4 v93 k0_hw14 => k0_hw14.2.2.2.2.2.2.1.2.2.2.2.2.2.2.2.2.2.2.2.2.2.2.2.2.2.2.1
theorem k0_mult203_dvd : ∀ (v1_0 : BitVec 32) (k0_t4 : Fin (k0_t4_loop v1_0).trips) (v93 : BitVec 32) (k0_hw14 : k0_chk14 v1_0 k0_t4 v93), 16 ∣ (k0_mult203 v93).toNat := fun v1_0 k0_t4 v93 k0_hw14 => k0_hw14.2.2.2.2.2.2.1.2.2.2.2.2.2.2.2.2.2.2.2.2.2.2.2.2.2.2.2.1
theorem k0_mult204_dvd : ∀ (v1_0 : BitVec 32) (k0_t4 : Fin (k0_t4_loop v1_0).trips) (v93 : BitVec 32) (k0_hw14 : k0_chk14 v1_0 k0_t4 v93), 16 ∣ (k0_mult204 v93).toNat := fun v1_0 k0_t4 v93 k0_hw14 => k0_hw14.2.2.2.2.2.2.1.2.2.2.2.2.2.2.2.2.2.2.2.2.2.2.2.2.2.2.2.2.1
theorem k0_mult205_dvd : ∀ (v1_0 : BitVec 32) (k0_t4 : Fin (k0_t4_loop v1_0).trips) (v93 : BitVec 32) (k0_hw14 : k0_chk14 v1_0 k0_t4 v93), 16 ∣ (k0_mult205 v93).toNat := fun v1_0 k0_t4 v93 k0_hw14 => k0_hw14.2.2.2.2.2.2.1.2.2.2.2.2.2.2.2.2.2.2.2.2.2.2.2.2.2.2.2.2.2.1
theorem k0_mult206_dvd : ∀ (v1_0 : BitVec 32) (k0_t4 : Fin (k0_t4_loop v1_0).trips) (v93 : BitVec 32) (k0_hw14 : k0_chk14 v1_0 k0_t4 v93), 16 ∣ (k0_mult206 v93).toNat := fun v1_0 k0_t4 v93 k0_hw14 => k0_hw14.2.2.2.2.2.2.1.2.2.2.2.2.2.2.2.2.2.2.2.2.2.2.2.2.2.2.2.2.2.2.1
theorem k0_mult207_dvd : ∀ (v1_0 : BitVec 32) (k0_t4 : Fin (k0_t4_loop v1_0).trips) (v93 : BitVec 32) (k0_hw14 : k0_chk14 v1_0 k0_t4 v93), 16 ∣ (k0_mult207 v93).toNat := fun v1_0 k0_t4 v93 k0_hw14 => k0_hw14.2.2.2.2.2.2.1.2.2.2.2.2.2.2.2.2.2.2.2.2.2.2.2.2.2.2.2.2.2.2.2.1
theorem k0_mult208_dvd : ∀ (v1_0 : BitVec 32) (k0_t4 : Fin (k0_t4_loop v1_0).trips) (v93 : BitVec 32) (k0_hw14 : k0_chk14 v1_0 k0_t4 v93), 16 ∣ (k0_mult208 v93).toNat := fun v1_0 k0_t4 v93 k0_hw14 => k0_hw14.2.2.2.2.2.2.1.2.2.2.2.2.2.2.2.2.2.2.2.2.2.2.2.2.2.2.2.2.2.2.2.2.1
theorem k0_mult209_dvd : ∀ (v1_0 : BitVec 32) (k0_t4 : Fin (k0_t4_loop v1_0).trips) (v93 : BitVec 32) (k0_hw14 : k0_chk14 v1_0 k0_t4 v93), 16 ∣ (k0_mult209 v93).toNat := fun v1_0 k0_t4 v93 k0_hw14 => k0_hw14.2.2.2.2.2.2.1.2.2.2.2.2.2.2.2.2.2.2.2.2.2.2.2.2.2.2.2.2.2.2.2.2.2.1
theorem k0_mult210_dvd : ∀ (v1_0 : BitVec 32) (k0_t4 : Fin (k0_t4_loop v1_0).trips) (v93 : BitVec 32) (k0_hw14 : k0_chk14 v1_0 k0_t4 v93), 16 ∣ (k0_mult210 v93).toNat := fun v1_0 k0_t4 v93 k0_hw14 => k0_hw14.2.2.2.2.2.2.1.2.2.2.2.2.2.2.2.2.2.2.2.2.2.2.2.2.2.2.2.2.2.2.2.2.2.2.1
theorem k0_mult211_dvd : ∀ (v1_0 : BitVec 32) (k0_t4 : Fin (k0_t4_loop v1_0).trips) (v93 : BitVec 32) (k0_hw14 : k0_chk14 v1_0 k0_t4 v93), 16 ∣ (k0_mult211 v93).toNat := fun v1_0 k0_t4 v93 k0_hw14 => k0_hw14.2.2.2.2.2.2.1.2.2.2.2.2.2.2.2.2.2.2.2.2.2.2.2.2.2.2.2.2.2.2.2.2.2.2.2.1
theorem k0_mult212_dvd : ∀ (v1_0 : BitVec 32) (k0_t4 : Fin (k0_t4_loop v1_0).trips) (v93 : BitVec 32) (k0_hw14 : k0_chk14 v1_0 k0_t4 v93), 16 ∣ (k0_mult212 v93).toNat := fun v1_0 k0_t4 v93 k0_hw14 => k0_hw14.2.2.2.2.2.2.1.2.2.2.2.2.2.2.2.2.2.2.2.2.2.2.2.2.2.2.2.2.2.2.2.2.2.2.2.2.1
theorem k0_mult213_dvd : ∀ (v1_0 : BitVec 32) (k0_t4 : Fin (k0_t4_loop v1_0).trips) (v93 : BitVec 32) (k0_hw14 : k0_chk14 v1_0 k0_t4 v93), 16 ∣ (k0_mult213 v93).toNat := fun v1_0 k0_t4 v93 k0_hw14 => k0_hw14.2.2.2.2.2.2.1.2.2.2.2.2.2.2.2.2.2.2.2.2.2.2.2.2.2.2.2.2.2.2.2.2.2.2.2.2.2.1
theorem k0_mult214_dvd : ∀ (v1_0 : BitVec 32) (k0_t4 : Fin (k0_t4_loop v1_0).trips) (v93 : BitVec 32) (k0_hw14 : k0_chk14 v1_0 k0_t4 v93), 16 ∣ (k0_mult214 v93).toNat := fun v1_0 k0_t4 v93 k0_hw14 => k0_hw14.2.2.2.2.2.2.1.2.2.2.2.2.2.2.2.2.2.2.2.2.2.2.2.2.2.2.2.2.2.2.2.2.2.2.2.2.2.2
theorem k0_mult215_dvd : ∀ (v1_0 : BitVec 32) (k0_t4 : Fin (k0_t4_loop v1_0).trips) (v93 : BitVec 32) (k0_hw14 : k0_chk14 v1_0 k0_t4 v93), 16 ∣ (k0_mult215 v93).toNat := fun v1_0 k0_t4 v93 k0_hw14 => k0_hw14.2.2.2.2.2.2.2.1.1
theorem k0_mult216_dvd : ∀ (v1_0 : BitVec 32) (k0_t4 : Fin (k0_t4_loop v1_0).trips) (v93 : BitVec 32) (k0_hw14 : k0_chk14 v1_0 k0_t4 v93), 16 ∣ (k0_mult216 v93).toNat := fun v1_0 k0_t4 v93 k0_hw14 => k0_hw14.2.2.2.2.2.2.2.1.2.1
theorem k0_mult217_dvd : ∀ (v1_0 : BitVec 32) (k0_t4 : Fin (k0_t4_loop v1_0).trips) (v93 : BitVec 32) (k0_hw14 : k0_chk14 v1_0 k0_t4 v93), 16 ∣ (k0_mult217 v93).toNat := fun v1_0 k0_t4 v93 k0_hw14 => k0_hw14.2.2.2.2.2.2.2.1.2.2.1
theorem k0_mult218_dvd : ∀ (v1_0 : BitVec 32) (k0_t4 : Fin (k0_t4_loop v1_0).trips) (v93 : BitVec 32) (k0_hw14 : k0_chk14 v1_0 k0_t4 v93), 16 ∣ (k0_mult218 v93).toNat := fun v1_0 k0_t4 v93 k0_hw14 => k0_hw14.2.2.2.2.2.2.2.1.2.2.2.1
theorem k0_mult219_dvd : ∀ (v1_0 : BitVec 32) (k0_t4 : Fin (k0_t4_loop v1_0).trips) (v93 : BitVec 32) (k0_hw14 : k0_chk14 v1_0 k0_t4 v93), 16 ∣ (k0_mult219 v93).toNat := fun v1_0 k0_t4 v93 k0_hw14 => k0_hw14.2.2.2.2.2.2.2.1.2.2.2.2.1
theorem k0_mult220_dvd : ∀ (v1_0 : BitVec 32) (k0_t4 : Fin (k0_t4_loop v1_0).trips) (v93 : BitVec 32) (k0_hw14 : k0_chk14 v1_0 k0_t4 v93), 16 ∣ (k0_mult220 v93).toNat := fun v1_0 k0_t4 v93 k0_hw14 => k0_hw14.2.2.2.2.2.2.2.1.2.2.2.2.2.1
theorem k0_mult221_dvd : ∀ (v1_0 : BitVec 32) (k0_t4 : Fin (k0_t4_loop v1_0).trips) (v93 : BitVec 32) (k0_hw14 : k0_chk14 v1_0 k0_t4 v93), 16 ∣ (k0_mult221 v93).toNat := fun v1_0 k0_t4 v93 k0_hw14 => k0_hw14.2.2.2.2.2.2.2.1.2.2.2.2.2.2.1
theorem k0_mult222_dvd : ∀ (v1_0 : BitVec 32) (k0_t4 : Fin (k0_t4_loop v1_0).trips) (v93 : BitVec 32) (k0_hw14 : k0_chk14 v1_0 k0_t4 v93), 16 ∣ (k0_mult222 v93).toNat := fun v1_0 k0_t4 v93 k0_hw14 => k0_hw14.2.2.2.2.2.2.2.1.2.2.2.2.2.2.2.1
theorem k0_mult223_dvd : ∀ (v1_0 : BitVec 32) (k0_t4 : Fin (k0_t4_loop v1_0).trips) (v93 : BitVec 32) (k0_hw14 : k0_chk14 v1_0 k0_t4 v93), 16 ∣ (k0_mult223 v93).toNat := fun v1_0 k0_t4 v93 k0_hw14 => k0_hw14.2.2.2.2.2.2.2.1.2.2.2.2.2.2.2.2.1
theorem k0_mult224_dvd : ∀ (v1_0 : BitVec 32) (k0_t4 : Fin (k0_t4_loop v1_0).trips) (v93 : BitVec 32) (k0_hw14 : k0_chk14 v1_0 k0_t4 v93), 16 ∣ (k0_mult224 v93).toNat := fun v1_0 k0_t4 v93 k0_hw14 => k0_hw14.2.2.2.2.2.2.2.1.2.2.2.2.2.2.2.2.2.1
theorem k0_mult225_dvd : ∀ (v1_0 : BitVec 32) (k0_t4 : Fin (k0_t4_loop v1_0).trips) (v93 : BitVec 32) (k0_hw14 : k0_chk14 v1_0 k0_t4 v93), 16 ∣ (k0_mult225 v93).toNat := fun v1_0 k0_t4 v93 k0_hw14 => k0_hw14.2.2.2.2.2.2.2.1.2.2.2.2.2.2.2.2.2.2.1
theorem k0_mult226_dvd : ∀ (v1_0 : BitVec 32) (k0_t4 : Fin (k0_t4_loop v1_0).trips) (v93 : BitVec 32) (k0_hw14 : k0_chk14 v1_0 k0_t4 v93), 16 ∣ (k0_mult226 v93).toNat := fun v1_0 k0_t4 v93 k0_hw14 => k0_hw14.2.2.2.2.2.2.2.1.2.2.2.2.2.2.2.2.2.2.2.1
theorem k0_mult227_dvd : ∀ (v1_0 : BitVec 32) (k0_t4 : Fin (k0_t4_loop v1_0).trips) (v93 : BitVec 32) (k0_hw14 : k0_chk14 v1_0 k0_t4 v93), 16 ∣ (k0_mult227 v93).toNat := fun v1_0 k0_t4 v93 k0_hw14 => k0_hw14.2.2.2.2.2.2.2.1.2.2.2.2.2.2.2.2.2.2.2.2.1
theorem k0_mult228_dvd : ∀ (v1_0 : BitVec 32) (k0_t4 : Fin (k0_t4_loop v1_0).trips) (v93 : BitVec 32) (k0_hw14 : k0_chk14 v1_0 k0_t4 v93), 16 ∣ (k0_mult228 v93).toNat := fun v1_0 k0_t4 v93 k0_hw14 => k0_hw14.2.2.2.2.2.2.2.1.2.2.2.2.2.2.2.2.2.2.2.2.2.1
theorem k0_mult229_dvd : ∀ (v1_0 : BitVec 32) (k0_t4 : Fin (k0_t4_loop v1_0).trips) (v93 : BitVec 32) (k0_hw14 : k0_chk14 v1_0 k0_t4 v93), 16 ∣ (k0_mult229 v93).toNat := fun v1_0 k0_t4 v93 k0_hw14 => k0_hw14.2.2.2.2.2.2.2.1.2.2.2.2.2.2.2.2.2.2.2.2.2.2.1
theorem k0_mult230_dvd : ∀ (v1_0 : BitVec 32) (k0_t4 : Fin (k0_t4_loop v1_0).trips) (v93 : BitVec 32) (k0_hw14 : k0_chk14 v1_0 k0_t4 v93), 16 ∣ (k0_mult230 v93).toNat := fun v1_0 k0_t4 v93 k0_hw14 => k0_hw14.2.2.2.2.2.2.2.1.2.2.2.2.2.2.2.2.2.2.2.2.2.2.2.1
theorem k0_off40_inb : ∀ (v1_0 : BitVec 32) (k0_t4 : Fin (k0_t4_loop v1_0).trips) (v93 : BitVec 32) (k0_hw14 : k0_chk14 v1_0 k0_t4 v93), ∀ (r : Fin 16), ∀ a, (k0_off40 v1_0 k0_t4 v93 (BitVec.ofNat 32 (16 * r.val))) a + S1x16x128.size a ≤ S2x256x3072.size a := fun v1_0 k0_t4 v93 k0_hw14 r => k0_hw14.2.2.2.2.2.2.2.1.2.2.2.2.2.2.2.2.2.2.2.2.2.2.2.2.1 r
theorem k0_mult231_dvd : ∀ (v1_0 : BitVec 32) (k0_t4 : Fin (k0_t4_loop v1_0).trips) (v93 : BitVec 32) (k0_hw14 : k0_chk14 v1_0 k0_t4 v93), 16 ∣ (k0_mult231 v93).toNat := fun v1_0 k0_t4 v93 k0_hw14 => k0_hw14.2.2.2.2.2.2.2.1.2.2.2.2.2.2.2.2.2.2.2.2.2.2.2.2.2.1
theorem k0_off41_inb : ∀ (v1_0 : BitVec 32) (k0_t4 : Fin (k0_t4_loop v1_0).trips) (v93 : BitVec 32) (k0_hw14 : k0_chk14 v1_0 k0_t4 v93), ∀ (r : Fin 16), ∀ a, (k0_off41 v1_0 k0_t4 v93 (BitVec.ofNat 32 (16 * r.val))) a + S1x16x128.size a ≤ S2x256x3072.size a := fun v1_0 k0_t4 v93 k0_hw14 r => k0_hw14.2.2.2.2.2.2.2.1.2.2.2.2.2.2.2.2.2.2.2.2.2.2.2.2.2.2.1 r
theorem k0_mult232_dvd : ∀ (v1_0 : BitVec 32) (k0_t4 : Fin (k0_t4_loop v1_0).trips) (v93 : BitVec 32) (k0_hw14 : k0_chk14 v1_0 k0_t4 v93), 16 ∣ (k0_mult232 v93).toNat := fun v1_0 k0_t4 v93 k0_hw14 => k0_hw14.2.2.2.2.2.2.2.1.2.2.2.2.2.2.2.2.2.2.2.2.2.2.2.2.2.2.2.1
theorem k0_mult233_dvd : ∀ (v1_0 : BitVec 32) (k0_t4 : Fin (k0_t4_loop v1_0).trips) (v93 : BitVec 32) (k0_hw14 : k0_chk14 v1_0 k0_t4 v93), 16 ∣ (k0_mult233 v93).toNat := fun v1_0 k0_t4 v93 k0_hw14 => k0_hw14.2.2.2.2.2.2.2.1.2.2.2.2.2.2.2.2.2.2.2.2.2.2.2.2.2.2.2.2.1
theorem k0_mult234_dvd : ∀ (v1_0 : BitVec 32) (k0_t4 : Fin (k0_t4_loop v1_0).trips) (v93 : BitVec 32) (k0_hw14 : k0_chk14 v1_0 k0_t4 v93), 16 ∣ (k0_mult234 v93).toNat := fun v1_0 k0_t4 v93 k0_hw14 => k0_hw14.2.2.2.2.2.2.2.1.2.2.2.2.2.2.2.2.2.2.2.2.2.2.2.2.2.2.2.2.2.1
theorem k0_mult235_dvd : ∀ (v1_0 : BitVec 32) (k0_t4 : Fin (k0_t4_loop v1_0).trips) (v93 : BitVec 32) (k0_hw14 : k0_chk14 v1_0 k0_t4 v93), 16 ∣ (k0_mult235 v93).toNat := fun v1_0 k0_t4 v93 k0_hw14 => k0_hw14.2.2.2.2.2.2.2.1.2.2.2.2.2.2.2.2.2.2.2.2.2.2.2.2.2.2.2.2.2.2.1
theorem k0_mult236_dvd : ∀ (v1_0 : BitVec 32) (k0_t4 : Fin (k0_t4_loop v1_0).trips) (v93 : BitVec 32) (k0_hw14 : k0_chk14 v1_0 k0_t4 v93), 16 ∣ (k0_mult236 v93).toNat := fun v1_0 k0_t4 v93 k0_hw14 => k0_hw14.2.2.2.2.2.2.2.1.2.2.2.2.2.2.2.2.2.2.2.2.2.2.2.2.2.2.2.2.2.2.2.1
theorem k0_mult237_dvd : ∀ (v1_0 : BitVec 32) (k0_t4 : Fin (k0_t4_loop v1_0).trips) (v93 : BitVec 32) (k0_hw14 : k0_chk14 v1_0 k0_t4 v93), 16 ∣ (k0_mult237 v93).toNat := fun v1_0 k0_t4 v93 k0_hw14 => k0_hw14.2.2.2.2.2.2.2.1.2.2.2.2.2.2.2.2.2.2.2.2.2.2.2.2.2.2.2.2.2.2.2.2.1
theorem k0_mult238_dvd : ∀ (v1_0 : BitVec 32) (k0_t4 : Fin (k0_t4_loop v1_0).trips) (v93 : BitVec 32) (k0_hw14 : k0_chk14 v1_0 k0_t4 v93), 16 ∣ (k0_mult238 v93).toNat := fun v1_0 k0_t4 v93 k0_hw14 => k0_hw14.2.2.2.2.2.2.2.1.2.2.2.2.2.2.2.2.2.2.2.2.2.2.2.2.2.2.2.2.2.2.2.2.2.1
theorem k0_mult239_dvd : ∀ (v1_0 : BitVec 32) (k0_t4 : Fin (k0_t4_loop v1_0).trips) (v93 : BitVec 32) (k0_hw14 : k0_chk14 v1_0 k0_t4 v93), 16 ∣ (k0_mult239 v93).toNat := fun v1_0 k0_t4 v93 k0_hw14 => k0_hw14.2.2.2.2.2.2.2.1.2.2.2.2.2.2.2.2.2.2.2.2.2.2.2.2.2.2.2.2.2.2.2.2.2.2.1
theorem k0_mult240_dvd : ∀ (v1_0 : BitVec 32) (k0_t4 : Fin (k0_t4_loop v1_0).trips) (v93 : BitVec 32) (k0_hw14 : k0_chk14 v1_0 k0_t4 v93), 16 ∣ (k0_mult240 v93).toNat := fun v1_0 k0_t4 v93 k0_hw14 => k0_hw14.2.2.2.2.2.2.2.1.2.2.2.2.2.2.2.2.2.2.2.2.2.2.2.2.2.2.2.2.2.2.2.2.2.2.2.1
theorem k0_mult241_dvd : ∀ (v1_0 : BitVec 32) (k0_t4 : Fin (k0_t4_loop v1_0).trips) (v93 : BitVec 32) (k0_hw14 : k0_chk14 v1_0 k0_t4 v93), 16 ∣ (k0_mult241 v93).toNat := fun v1_0 k0_t4 v93 k0_hw14 => k0_hw14.2.2.2.2.2.2.2.1.2.2.2.2.2.2.2.2.2.2.2.2.2.2.2.2.2.2.2.2.2.2.2.2.2.2.2.2.1
theorem k0_mult242_dvd : ∀ (v1_0 : BitVec 32) (k0_t4 : Fin (k0_t4_loop v1_0).trips) (v93 : BitVec 32) (k0_hw14 : k0_chk14 v1_0 k0_t4 v93), 16 ∣ (k0_mult242 v93).toNat := fun v1_0 k0_t4 v93 k0_hw14 => k0_hw14.2.2.2.2.2.2.2.1.2.2.2.2.2.2.2.2.2.2.2.2.2.2.2.2.2.2.2.2.2.2.2.2.2.2.2.2.2.1
theorem k0_mult243_dvd : ∀ (v1_0 : BitVec 32) (k0_t4 : Fin (k0_t4_loop v1_0).trips) (v93 : BitVec 32) (k0_hw14 : k0_chk14 v1_0 k0_t4 v93), 16 ∣ (k0_mult243 v93).toNat := fun v1_0 k0_t4 v93 k0_hw14 => k0_hw14.2.2.2.2.2.2.2.1.2.2.2.2.2.2.2.2.2.2.2.2.2.2.2.2.2.2.2.2.2.2.2.2.2.2.2.2.2.2.1
theorem k0_mult244_dvd : ∀ (v1_0 : BitVec 32) (k0_t4 : Fin (k0_t4_loop v1_0).trips) (v93 : BitVec 32) (k0_hw14 : k0_chk14 v1_0 k0_t4 v93), 16 ∣ (k0_mult244 v93).toNat := fun v1_0 k0_t4 v93 k0_hw14 => k0_hw14.2.2.2.2.2.2.2.1.2.2.2.2.2.2.2.2.2.2.2.2.2.2.2.2.2.2.2.2.2.2.2.2.2.2.2.2.2.2.2
theorem k0_mult245_dvd : ∀ (v1_0 : BitVec 32) (k0_t4 : Fin (k0_t4_loop v1_0).trips) (v93 : BitVec 32) (k0_hw14 : k0_chk14 v1_0 k0_t4 v93), 16 ∣ (k0_mult245 v93).toNat := fun v1_0 k0_t4 v93 k0_hw14 => k0_hw14.2.2.2.2.2.2.2.2.1.1
theorem k0_mult246_dvd : ∀ (v1_0 : BitVec 32) (k0_t4 : Fin (k0_t4_loop v1_0).trips) (v93 : BitVec 32) (k0_hw14 : k0_chk14 v1_0 k0_t4 v93), 16 ∣ (k0_mult246 v93).toNat := fun v1_0 k0_t4 v93 k0_hw14 => k0_hw14.2.2.2.2.2.2.2.2.1.2.1
theorem k0_mult247_dvd : ∀ (v1_0 : BitVec 32) (k0_t4 : Fin (k0_t4_loop v1_0).trips) (v93 : BitVec 32) (k0_hw14 : k0_chk14 v1_0 k0_t4 v93), 16 ∣ (k0_mult247 v93).toNat := fun v1_0 k0_t4 v93 k0_hw14 => k0_hw14.2.2.2.2.2.2.2.2.1.2.2.1
theorem k0_mult248_dvd : ∀ (v1_0 : BitVec 32) (k0_t4 : Fin (k0_t4_loop v1_0).trips) (v93 : BitVec 32) (k0_hw14 : k0_chk14 v1_0 k0_t4 v93), 16 ∣ (k0_mult248 v93).toNat := fun v1_0 k0_t4 v93 k0_hw14 => k0_hw14.2.2.2.2.2.2.2.2.1.2.2.2.1
theorem k0_mult249_dvd : ∀ (v1_0 : BitVec 32) (k0_t4 : Fin (k0_t4_loop v1_0).trips) (v93 : BitVec 32) (k0_hw14 : k0_chk14 v1_0 k0_t4 v93), 16 ∣ (k0_mult249 v93).toNat := fun v1_0 k0_t4 v93 k0_hw14 => k0_hw14.2.2.2.2.2.2.2.2.1.2.2.2.2.1
theorem k0_mult250_dvd : ∀ (v1_0 : BitVec 32) (k0_t4 : Fin (k0_t4_loop v1_0).trips) (v93 : BitVec 32) (k0_hw14 : k0_chk14 v1_0 k0_t4 v93), 16 ∣ (k0_mult250 v93).toNat := fun v1_0 k0_t4 v93 k0_hw14 => k0_hw14.2.2.2.2.2.2.2.2.1.2.2.2.2.2.1
theorem k0_mult251_dvd : ∀ (v1_0 : BitVec 32) (k0_t4 : Fin (k0_t4_loop v1_0).trips) (v93 : BitVec 32) (k0_hw14 : k0_chk14 v1_0 k0_t4 v93), 16 ∣ (k0_mult251 v93).toNat := fun v1_0 k0_t4 v93 k0_hw14 => k0_hw14.2.2.2.2.2.2.2.2.1.2.2.2.2.2.2.1
theorem k0_mult252_dvd : ∀ (v1_0 : BitVec 32) (k0_t4 : Fin (k0_t4_loop v1_0).trips) (v93 : BitVec 32) (k0_hw14 : k0_chk14 v1_0 k0_t4 v93), 16 ∣ (k0_mult252 v93).toNat := fun v1_0 k0_t4 v93 k0_hw14 => k0_hw14.2.2.2.2.2.2.2.2.1.2.2.2.2.2.2.2.1
theorem k0_mult253_dvd : ∀ (v1_0 : BitVec 32) (k0_t4 : Fin (k0_t4_loop v1_0).trips) (v93 : BitVec 32) (k0_hw14 : k0_chk14 v1_0 k0_t4 v93), 16 ∣ (k0_mult253 v93).toNat := fun v1_0 k0_t4 v93 k0_hw14 => k0_hw14.2.2.2.2.2.2.2.2.1.2.2.2.2.2.2.2.2.1
theorem k0_mult254_dvd : ∀ (v1_0 : BitVec 32) (k0_t4 : Fin (k0_t4_loop v1_0).trips) (v93 : BitVec 32) (k0_hw14 : k0_chk14 v1_0 k0_t4 v93), 16 ∣ (k0_mult254 v93).toNat := fun v1_0 k0_t4 v93 k0_hw14 => k0_hw14.2.2.2.2.2.2.2.2.1.2.2.2.2.2.2.2.2.2.1
theorem k0_mult255_dvd : ∀ (v1_0 : BitVec 32) (k0_t4 : Fin (k0_t4_loop v1_0).trips) (v93 : BitVec 32) (k0_hw14 : k0_chk14 v1_0 k0_t4 v93), 16 ∣ (k0_mult255 v93).toNat := fun v1_0 k0_t4 v93 k0_hw14 => k0_hw14.2.2.2.2.2.2.2.2.1.2.2.2.2.2.2.2.2.2.2.1
theorem k0_mult256_dvd : ∀ (v1_0 : BitVec 32) (k0_t4 : Fin (k0_t4_loop v1_0).trips) (v93 : BitVec 32) (k0_hw14 : k0_chk14 v1_0 k0_t4 v93), 16 ∣ (k0_mult256 v93).toNat := fun v1_0 k0_t4 v93 k0_hw14 => k0_hw14.2.2.2.2.2.2.2.2.1.2.2.2.2.2.2.2.2.2.2.2.1
theorem k0_mult257_dvd : ∀ (v1_0 : BitVec 32) (k0_t4 : Fin (k0_t4_loop v1_0).trips) (v93 : BitVec 32) (k0_hw14 : k0_chk14 v1_0 k0_t4 v93), 16 ∣ (k0_mult257 v93).toNat := fun v1_0 k0_t4 v93 k0_hw14 => k0_hw14.2.2.2.2.2.2.2.2.1.2.2.2.2.2.2.2.2.2.2.2.2.1
theorem k0_mult258_dvd : ∀ (v1_0 : BitVec 32) (k0_t4 : Fin (k0_t4_loop v1_0).trips) (v93 : BitVec 32) (k0_hw14 : k0_chk14 v1_0 k0_t4 v93), 16 ∣ (k0_mult258 v93).toNat := fun v1_0 k0_t4 v93 k0_hw14 => k0_hw14.2.2.2.2.2.2.2.2.1.2.2.2.2.2.2.2.2.2.2.2.2.2.1
theorem k0_mult259_dvd : ∀ (v1_0 : BitVec 32) (k0_t4 : Fin (k0_t4_loop v1_0).trips) (v93 : BitVec 32) (k0_hw14 : k0_chk14 v1_0 k0_t4 v93), 16 ∣ (k0_mult259 v93).toNat := fun v1_0 k0_t4 v93 k0_hw14 => k0_hw14.2.2.2.2.2.2.2.2.1.2.2.2.2.2.2.2.2.2.2.2.2.2.2.1
theorem k0_mult260_dvd : ∀ (v1_0 : BitVec 32) (k0_t4 : Fin (k0_t4_loop v1_0).trips) (v93 : BitVec 32) (k0_hw14 : k0_chk14 v1_0 k0_t4 v93), 16 ∣ (k0_mult260 v93).toNat := fun v1_0 k0_t4 v93 k0_hw14 => k0_hw14.2.2.2.2.2.2.2.2.1.2.2.2.2.2.2.2.2.2.2.2.2.2.2.2.1
theorem k0_mult261_dvd : ∀ (v1_0 : BitVec 32) (k0_t4 : Fin (k0_t4_loop v1_0).trips) (v93 : BitVec 32) (k0_hw14 : k0_chk14 v1_0 k0_t4 v93), 16 ∣ (k0_mult261 v93).toNat := fun v1_0 k0_t4 v93 k0_hw14 => k0_hw14.2.2.2.2.2.2.2.2.1.2.2.2.2.2.2.2.2.2.2.2.2.2.2.2.2.1
theorem k0_mult262_dvd : ∀ (v1_0 : BitVec 32) (k0_t4 : Fin (k0_t4_loop v1_0).trips) (v93 : BitVec 32) (k0_hw14 : k0_chk14 v1_0 k0_t4 v93), 16 ∣ (k0_mult262 v93).toNat := fun v1_0 k0_t4 v93 k0_hw14 => k0_hw14.2.2.2.2.2.2.2.2.1.2.2.2.2.2.2.2.2.2.2.2.2.2.2.2.2.2.1
theorem k0_off42_inb : ∀ (v1_0 : BitVec 32) (k0_t4 : Fin (k0_t4_loop v1_0).trips) (v93 : BitVec 32) (k0_hw14 : k0_chk14 v1_0 k0_t4 v93), ∀ (r : Fin 16), ∀ a, (k0_off42 v1_0 k0_t4 v93 (BitVec.ofNat 32 (16 * r.val))) a + S1x16x128.size a ≤ S2x256x3072.size a := fun v1_0 k0_t4 v93 k0_hw14 r => k0_hw14.2.2.2.2.2.2.2.2.1.2.2.2.2.2.2.2.2.2.2.2.2.2.2.2.2.2.2.1 r
theorem k0_mult263_dvd : ∀ (v1_0 : BitVec 32) (k0_t4 : Fin (k0_t4_loop v1_0).trips) (v93 : BitVec 32) (k0_hw14 : k0_chk14 v1_0 k0_t4 v93), 16 ∣ (k0_mult263 v93).toNat := fun v1_0 k0_t4 v93 k0_hw14 => k0_hw14.2.2.2.2.2.2.2.2.1.2.2.2.2.2.2.2.2.2.2.2.2.2.2.2.2.2.2.2.1
theorem k0_off43_inb : ∀ (v1_0 : BitVec 32) (k0_t4 : Fin (k0_t4_loop v1_0).trips) (v93 : BitVec 32) (k0_hw14 : k0_chk14 v1_0 k0_t4 v93), ∀ (r : Fin 16), ∀ a, (k0_off43 v1_0 k0_t4 v93 (BitVec.ofNat 32 (16 * r.val))) a + S1x16x128.size a ≤ S2x256x3072.size a := fun v1_0 k0_t4 v93 k0_hw14 r => k0_hw14.2.2.2.2.2.2.2.2.1.2.2.2.2.2.2.2.2.2.2.2.2.2.2.2.2.2.2.2.2.1 r
theorem k0_mult264_dvd : ∀ (v1_0 : BitVec 32) (k0_t4 : Fin (k0_t4_loop v1_0).trips) (v93 : BitVec 32) (k0_hw14 : k0_chk14 v1_0 k0_t4 v93), 16 ∣ (k0_mult264 v93).toNat := fun v1_0 k0_t4 v93 k0_hw14 => k0_hw14.2.2.2.2.2.2.2.2.1.2.2.2.2.2.2.2.2.2.2.2.2.2.2.2.2.2.2.2.2.2.1
theorem k0_mult265_dvd : ∀ (v1_0 : BitVec 32) (k0_t4 : Fin (k0_t4_loop v1_0).trips) (v93 : BitVec 32) (k0_hw14 : k0_chk14 v1_0 k0_t4 v93), 16 ∣ (k0_mult265 v93).toNat := fun v1_0 k0_t4 v93 k0_hw14 => k0_hw14.2.2.2.2.2.2.2.2.1.2.2.2.2.2.2.2.2.2.2.2.2.2.2.2.2.2.2.2.2.2.2.1
theorem k0_mult266_dvd : ∀ (v1_0 : BitVec 32) (k0_t4 : Fin (k0_t4_loop v1_0).trips) (v93 : BitVec 32) (k0_hw14 : k0_chk14 v1_0 k0_t4 v93), 16 ∣ (k0_mult266 v93).toNat := fun v1_0 k0_t4 v93 k0_hw14 => k0_hw14.2.2.2.2.2.2.2.2.1.2.2.2.2.2.2.2.2.2.2.2.2.2.2.2.2.2.2.2.2.2.2.2.1
theorem k0_mult267_dvd : ∀ (v1_0 : BitVec 32) (k0_t4 : Fin (k0_t4_loop v1_0).trips) (v93 : BitVec 32) (k0_hw14 : k0_chk14 v1_0 k0_t4 v93), 16 ∣ (k0_mult267 v93).toNat := fun v1_0 k0_t4 v93 k0_hw14 => k0_hw14.2.2.2.2.2.2.2.2.1.2.2.2.2.2.2.2.2.2.2.2.2.2.2.2.2.2.2.2.2.2.2.2.2.1
theorem k0_mult268_dvd : ∀ (v1_0 : BitVec 32) (k0_t4 : Fin (k0_t4_loop v1_0).trips) (v93 : BitVec 32) (k0_hw14 : k0_chk14 v1_0 k0_t4 v93), 16 ∣ (k0_mult268 v93).toNat := fun v1_0 k0_t4 v93 k0_hw14 => k0_hw14.2.2.2.2.2.2.2.2.1.2.2.2.2.2.2.2.2.2.2.2.2.2.2.2.2.2.2.2.2.2.2.2.2.2.1
theorem k0_mult269_dvd : ∀ (v1_0 : BitVec 32) (k0_t4 : Fin (k0_t4_loop v1_0).trips) (v93 : BitVec 32) (k0_hw14 : k0_chk14 v1_0 k0_t4 v93), 16 ∣ (k0_mult269 v93).toNat := fun v1_0 k0_t4 v93 k0_hw14 => k0_hw14.2.2.2.2.2.2.2.2.1.2.2.2.2.2.2.2.2.2.2.2.2.2.2.2.2.2.2.2.2.2.2.2.2.2.2.1
theorem k0_mult270_dvd : ∀ (v1_0 : BitVec 32) (k0_t4 : Fin (k0_t4_loop v1_0).trips) (v93 : BitVec 32) (k0_hw14 : k0_chk14 v1_0 k0_t4 v93), 16 ∣ (k0_mult270 v93).toNat := fun v1_0 k0_t4 v93 k0_hw14 => k0_hw14.2.2.2.2.2.2.2.2.1.2.2.2.2.2.2.2.2.2.2.2.2.2.2.2.2.2.2.2.2.2.2.2.2.2.2.2.1
theorem k0_mult271_dvd : ∀ (v1_0 : BitVec 32) (k0_t4 : Fin (k0_t4_loop v1_0).trips) (v93 : BitVec 32) (k0_hw14 : k0_chk14 v1_0 k0_t4 v93), 16 ∣ (k0_mult271 v93).toNat := fun v1_0 k0_t4 v93 k0_hw14 => k0_hw14.2.2.2.2.2.2.2.2.1.2.2.2.2.2.2.2.2.2.2.2.2.2.2.2.2.2.2.2.2.2.2.2.2.2.2.2.2.1
theorem k0_mult272_dvd : ∀ (v1_0 : BitVec 32) (k0_t4 : Fin (k0_t4_loop v1_0).trips) (v93 : BitVec 32) (k0_hw14 : k0_chk14 v1_0 k0_t4 v93), 16 ∣ (k0_mult272 v93).toNat := fun v1_0 k0_t4 v93 k0_hw14 => k0_hw14.2.2.2.2.2.2.2.2.1.2.2.2.2.2.2.2.2.2.2.2.2.2.2.2.2.2.2.2.2.2.2.2.2.2.2.2.2.2.1
theorem k0_mult273_dvd : ∀ (v1_0 : BitVec 32) (k0_t4 : Fin (k0_t4_loop v1_0).trips) (v93 : BitVec 32) (k0_hw14 : k0_chk14 v1_0 k0_t4 v93), 16 ∣ (k0_mult273 v93).toNat := fun v1_0 k0_t4 v93 k0_hw14 => k0_hw14.2.2.2.2.2.2.2.2.1.2.2.2.2.2.2.2.2.2.2.2.2.2.2.2.2.2.2.2.2.2.2.2.2.2.2.2.2.2.2.1
theorem k0_mult274_dvd : ∀ (v1_0 : BitVec 32) (k0_t4 : Fin (k0_t4_loop v1_0).trips) (v93 : BitVec 32) (k0_hw14 : k0_chk14 v1_0 k0_t4 v93), 16 ∣ (k0_mult274 v93).toNat := fun v1_0 k0_t4 v93 k0_hw14 => k0_hw14.2.2.2.2.2.2.2.2.1.2.2.2.2.2.2.2.2.2.2.2.2.2.2.2.2.2.2.2.2.2.2.2.2.2.2.2.2.2.2.2
theorem k0_mult275_dvd : ∀ (v1_0 : BitVec 32) (k0_t4 : Fin (k0_t4_loop v1_0).trips) (v93 : BitVec 32) (k0_hw14 : k0_chk14 v1_0 k0_t4 v93), 16 ∣ (k0_mult275 v93).toNat := fun v1_0 k0_t4 v93 k0_hw14 => k0_hw14.2.2.2.2.2.2.2.2.2.1.1
theorem k0_mult276_dvd : ∀ (v1_0 : BitVec 32) (k0_t4 : Fin (k0_t4_loop v1_0).trips) (v93 : BitVec 32) (k0_hw14 : k0_chk14 v1_0 k0_t4 v93), 16 ∣ (k0_mult276 v93).toNat := fun v1_0 k0_t4 v93 k0_hw14 => k0_hw14.2.2.2.2.2.2.2.2.2.1.2.1
theorem k0_mult277_dvd : ∀ (v1_0 : BitVec 32) (k0_t4 : Fin (k0_t4_loop v1_0).trips) (v93 : BitVec 32) (k0_hw14 : k0_chk14 v1_0 k0_t4 v93), 16 ∣ (k0_mult277 v93).toNat := fun v1_0 k0_t4 v93 k0_hw14 => k0_hw14.2.2.2.2.2.2.2.2.2.1.2.2.1
theorem k0_mult278_dvd : ∀ (v1_0 : BitVec 32) (k0_t4 : Fin (k0_t4_loop v1_0).trips) (v93 : BitVec 32) (k0_hw14 : k0_chk14 v1_0 k0_t4 v93), 16 ∣ (k0_mult278 v93).toNat := fun v1_0 k0_t4 v93 k0_hw14 => k0_hw14.2.2.2.2.2.2.2.2.2.1.2.2.2.1
theorem k0_mult279_dvd : ∀ (v1_0 : BitVec 32) (k0_t4 : Fin (k0_t4_loop v1_0).trips) (v93 : BitVec 32) (k0_hw14 : k0_chk14 v1_0 k0_t4 v93), 16 ∣ (k0_mult279 v93).toNat := fun v1_0 k0_t4 v93 k0_hw14 => k0_hw14.2.2.2.2.2.2.2.2.2.1.2.2.2.2.1
theorem k0_mult280_dvd : ∀ (v1_0 : BitVec 32) (k0_t4 : Fin (k0_t4_loop v1_0).trips) (v93 : BitVec 32) (k0_hw14 : k0_chk14 v1_0 k0_t4 v93), 16 ∣ (k0_mult280 v93).toNat := fun v1_0 k0_t4 v93 k0_hw14 => k0_hw14.2.2.2.2.2.2.2.2.2.1.2.2.2.2.2.1
theorem k0_mult281_dvd : ∀ (v1_0 : BitVec 32) (k0_t4 : Fin (k0_t4_loop v1_0).trips) (v93 : BitVec 32) (k0_hw14 : k0_chk14 v1_0 k0_t4 v93), 16 ∣ (k0_mult281 v93).toNat := fun v1_0 k0_t4 v93 k0_hw14 => k0_hw14.2.2.2.2.2.2.2.2.2.1.2.2.2.2.2.2.1
theorem k0_mult282_dvd : ∀ (v1_0 : BitVec 32) (k0_t4 : Fin (k0_t4_loop v1_0).trips) (v93 : BitVec 32) (k0_hw14 : k0_chk14 v1_0 k0_t4 v93), 16 ∣ (k0_mult282 v93).toNat := fun v1_0 k0_t4 v93 k0_hw14 => k0_hw14.2.2.2.2.2.2.2.2.2.1.2.2.2.2.2.2.2.1
theorem k0_mult283_dvd : ∀ (v1_0 : BitVec 32) (k0_t4 : Fin (k0_t4_loop v1_0).trips) (v93 : BitVec 32) (k0_hw14 : k0_chk14 v1_0 k0_t4 v93), 16 ∣ (k0_mult283 v93).toNat := fun v1_0 k0_t4 v93 k0_hw14 => k0_hw14.2.2.2.2.2.2.2.2.2.1.2.2.2.2.2.2.2.2.1
theorem k0_mult284_dvd : ∀ (v1_0 : BitVec 32) (k0_t4 : Fin (k0_t4_loop v1_0).trips) (v93 : BitVec 32) (k0_hw14 : k0_chk14 v1_0 k0_t4 v93), 16 ∣ (k0_mult284 v93).toNat := fun v1_0 k0_t4 v93 k0_hw14 => k0_hw14.2.2.2.2.2.2.2.2.2.1.2.2.2.2.2.2.2.2.2.1
theorem k0_mult285_dvd : ∀ (v1_0 : BitVec 32) (k0_t4 : Fin (k0_t4_loop v1_0).trips) (v93 : BitVec 32) (k0_hw14 : k0_chk14 v1_0 k0_t4 v93), 16 ∣ (k0_mult285 v93).toNat := fun v1_0 k0_t4 v93 k0_hw14 => k0_hw14.2.2.2.2.2.2.2.2.2.1.2.2.2.2.2.2.2.2.2.2.1
theorem k0_mult286_dvd : ∀ (v1_0 : BitVec 32) (k0_t4 : Fin (k0_t4_loop v1_0).trips) (v93 : BitVec 32) (k0_hw14 : k0_chk14 v1_0 k0_t4 v93), 16 ∣ (k0_mult286 v93).toNat := fun v1_0 k0_t4 v93 k0_hw14 => k0_hw14.2.2.2.2.2.2.2.2.2.1.2.2.2.2.2.2.2.2.2.2.2.1
theorem k0_mult287_dvd : ∀ (v1_0 : BitVec 32) (k0_t4 : Fin (k0_t4_loop v1_0).trips) (v93 : BitVec 32) (k0_hw14 : k0_chk14 v1_0 k0_t4 v93), 16 ∣ (k0_mult287 v93).toNat := fun v1_0 k0_t4 v93 k0_hw14 => k0_hw14.2.2.2.2.2.2.2.2.2.1.2.2.2.2.2.2.2.2.2.2.2.2.1
theorem k0_mult288_dvd : ∀ (v1_0 : BitVec 32) (k0_t4 : Fin (k0_t4_loop v1_0).trips) (v93 : BitVec 32) (k0_hw14 : k0_chk14 v1_0 k0_t4 v93), 16 ∣ (k0_mult288 v93).toNat := fun v1_0 k0_t4 v93 k0_hw14 => k0_hw14.2.2.2.2.2.2.2.2.2.1.2.2.2.2.2.2.2.2.2.2.2.2.2.1
theorem k0_mult289_dvd : ∀ (v1_0 : BitVec 32) (k0_t4 : Fin (k0_t4_loop v1_0).trips) (v93 : BitVec 32) (k0_hw14 : k0_chk14 v1_0 k0_t4 v93), 16 ∣ (k0_mult289 v93).toNat := fun v1_0 k0_t4 v93 k0_hw14 => k0_hw14.2.2.2.2.2.2.2.2.2.1.2.2.2.2.2.2.2.2.2.2.2.2.2.2.1
theorem k0_mult290_dvd : ∀ (v1_0 : BitVec 32) (k0_t4 : Fin (k0_t4_loop v1_0).trips) (v93 : BitVec 32) (k0_hw14 : k0_chk14 v1_0 k0_t4 v93), 16 ∣ (k0_mult290 v93).toNat := fun v1_0 k0_t4 v93 k0_hw14 => k0_hw14.2.2.2.2.2.2.2.2.2.1.2.2.2.2.2.2.2.2.2.2.2.2.2.2.2.1
theorem k0_mult291_dvd : ∀ (v1_0 : BitVec 32) (k0_t4 : Fin (k0_t4_loop v1_0).trips) (v93 : BitVec 32) (k0_hw14 : k0_chk14 v1_0 k0_t4 v93), 16 ∣ (k0_mult291 v93).toNat := fun v1_0 k0_t4 v93 k0_hw14 => k0_hw14.2.2.2.2.2.2.2.2.2.1.2.2.2.2.2.2.2.2.2.2.2.2.2.2.2.2.1
theorem k0_mult292_dvd : ∀ (v1_0 : BitVec 32) (k0_t4 : Fin (k0_t4_loop v1_0).trips) (v93 : BitVec 32) (k0_hw14 : k0_chk14 v1_0 k0_t4 v93), 16 ∣ (k0_mult292 v93).toNat := fun v1_0 k0_t4 v93 k0_hw14 => k0_hw14.2.2.2.2.2.2.2.2.2.1.2.2.2.2.2.2.2.2.2.2.2.2.2.2.2.2.2.1
theorem k0_mult293_dvd : ∀ (v1_0 : BitVec 32) (k0_t4 : Fin (k0_t4_loop v1_0).trips) (v93 : BitVec 32) (k0_hw14 : k0_chk14 v1_0 k0_t4 v93), 16 ∣ (k0_mult293 v93).toNat := fun v1_0 k0_t4 v93 k0_hw14 => k0_hw14.2.2.2.2.2.2.2.2.2.1.2.2.2.2.2.2.2.2.2.2.2.2.2.2.2.2.2.2.1
theorem k0_mult294_dvd : ∀ (v1_0 : BitVec 32) (k0_t4 : Fin (k0_t4_loop v1_0).trips) (v93 : BitVec 32) (k0_hw14 : k0_chk14 v1_0 k0_t4 v93), 16 ∣ (k0_mult294 v93).toNat := fun v1_0 k0_t4 v93 k0_hw14 => k0_hw14.2.2.2.2.2.2.2.2.2.1.2.2.2.2.2.2.2.2.2.2.2.2.2.2.2.2.2.2.2.1
theorem k0_off44_inb : ∀ (v1_0 : BitVec 32) (k0_t4 : Fin (k0_t4_loop v1_0).trips) (v93 : BitVec 32) (k0_hw14 : k0_chk14 v1_0 k0_t4 v93), ∀ (r : Fin 16), ∀ a, (k0_off44 v1_0 k0_t4 v93 (BitVec.ofNat 32 (16 * r.val))) a + S1x16x128.size a ≤ S2x256x3072.size a := fun v1_0 k0_t4 v93 k0_hw14 r => k0_hw14.2.2.2.2.2.2.2.2.2.1.2.2.2.2.2.2.2.2.2.2.2.2.2.2.2.2.2.2.2.2.1 r
theorem k0_mult295_dvd : ∀ (v1_0 : BitVec 32) (k0_t4 : Fin (k0_t4_loop v1_0).trips) (v93 : BitVec 32) (k0_hw14 : k0_chk14 v1_0 k0_t4 v93), 16 ∣ (k0_mult295 v93).toNat := fun v1_0 k0_t4 v93 k0_hw14 => k0_hw14.2.2.2.2.2.2.2.2.2.1.2.2.2.2.2.2.2.2.2.2.2.2.2.2.2.2.2.2.2.2.2.1
theorem k0_off45_inb : ∀ (v1_0 : BitVec 32) (k0_t4 : Fin (k0_t4_loop v1_0).trips) (v93 : BitVec 32) (k0_hw14 : k0_chk14 v1_0 k0_t4 v93), ∀ (r : Fin 16), ∀ a, (k0_off45 v1_0 k0_t4 v93 (BitVec.ofNat 32 (16 * r.val))) a + S1x16x128.size a ≤ S2x256x3072.size a := fun v1_0 k0_t4 v93 k0_hw14 r => k0_hw14.2.2.2.2.2.2.2.2.2.1.2.2.2.2.2.2.2.2.2.2.2.2.2.2.2.2.2.2.2.2.2.2.1 r
theorem k0_mult296_dvd : ∀ (v1_0 : BitVec 32) (k0_t4 : Fin (k0_t4_loop v1_0).trips) (v93 : BitVec 32) (k0_hw14 : k0_chk14 v1_0 k0_t4 v93), 16 ∣ (k0_mult296 v93).toNat := fun v1_0 k0_t4 v93 k0_hw14 => k0_hw14.2.2.2.2.2.2.2.2.2.1.2.2.2.2.2.2.2.2.2.2.2.2.2.2.2.2.2.2.2.2.2.2.2.1
theorem k0_mult297_dvd : ∀ (v1_0 : BitVec 32) (k0_t4 : Fin (k0_t4_loop v1_0).trips) (v93 : BitVec 32) (k0_hw14 : k0_chk14 v1_0 k0_t4 v93), 16 ∣ (k0_mult297 v93).toNat := fun v1_0 k0_t4 v93 k0_hw14 => k0_hw14.2.2.2.2.2.2.2.2.2.1.2.2.2.2.2.2.2.2.2.2.2.2.2.2.2.2.2.2.2.2.2.2.2.2.1
theorem k0_mult298_dvd : ∀ (v1_0 : BitVec 32) (k0_t4 : Fin (k0_t4_loop v1_0).trips) (v93 : BitVec 32) (k0_hw14 : k0_chk14 v1_0 k0_t4 v93), 16 ∣ (k0_mult298 v93).toNat := fun v1_0 k0_t4 v93 k0_hw14 => k0_hw14.2.2.2.2.2.2.2.2.2.1.2.2.2.2.2.2.2.2.2.2.2.2.2.2.2.2.2.2.2.2.2.2.2.2.2.1
theorem k0_mult299_dvd : ∀ (v1_0 : BitVec 32) (k0_t4 : Fin (k0_t4_loop v1_0).trips) (v93 : BitVec 32) (k0_hw14 : k0_chk14 v1_0 k0_t4 v93), 16 ∣ (k0_mult299 v93).toNat := fun v1_0 k0_t4 v93 k0_hw14 => k0_hw14.2.2.2.2.2.2.2.2.2.1.2.2.2.2.2.2.2.2.2.2.2.2.2.2.2.2.2.2.2.2.2.2.2.2.2.2.1
theorem k0_mult300_dvd : ∀ (v1_0 : BitVec 32) (k0_t4 : Fin (k0_t4_loop v1_0).trips) (v93 : BitVec 32) (k0_hw14 : k0_chk14 v1_0 k0_t4 v93), 16 ∣ (k0_mult300 v93).toNat := fun v1_0 k0_t4 v93 k0_hw14 => k0_hw14.2.2.2.2.2.2.2.2.2.1.2.2.2.2.2.2.2.2.2.2.2.2.2.2.2.2.2.2.2.2.2.2.2.2.2.2.2.1
theorem k0_mult301_dvd : ∀ (v1_0 : BitVec 32) (k0_t4 : Fin (k0_t4_loop v1_0).trips) (v93 : BitVec 32) (k0_hw14 : k0_chk14 v1_0 k0_t4 v93), 16 ∣ (k0_mult301 v93).toNat := fun v1_0 k0_t4 v93 k0_hw14 => k0_hw14.2.2.2.2.2.2.2.2.2.1.2.2.2.2.2.2.2.2.2.2.2.2.2.2.2.2.2.2.2.2.2.2.2.2.2.2.2.2.1
theorem k0_mult302_dvd : ∀ (v1_0 : BitVec 32) (k0_t4 : Fin (k0_t4_loop v1_0).trips) (v93 : BitVec 32) (k0_hw14 : k0_chk14 v1_0 k0_t4 v93), 16 ∣ (k0_mult302 v93).toNat := fun v1_0 k0_t4 v93 k0_hw14 => k0_hw14.2.2.2.2.2.2.2.2.2.1.2.2.2.2.2.2.2.2.2.2.2.2.2.2.2.2.2.2.2.2.2.2.2.2.2.2.2.2.2.1
theorem k0_mult303_dvd : ∀ (v1_0 : BitVec 32) (k0_t4 : Fin (k0_t4_loop v1_0).trips) (v93 : BitVec 32) (k0_hw14 : k0_chk14 v1_0 k0_t4 v93), 16 ∣ (k0_mult303 v93).toNat := fun v1_0 k0_t4 v93 k0_hw14 => k0_hw14.2.2.2.2.2.2.2.2.2.1.2.2.2.2.2.2.2.2.2.2.2.2.2.2.2.2.2.2.2.2.2.2.2.2.2.2.2.2.2.2.1
theorem k0_mult304_dvd : ∀ (v1_0 : BitVec 32) (k0_t4 : Fin (k0_t4_loop v1_0).trips) (v93 : BitVec 32) (k0_hw14 : k0_chk14 v1_0 k0_t4 v93), 16 ∣ (k0_mult304 v93).toNat := fun v1_0 k0_t4 v93 k0_hw14 => k0_hw14.2.2.2.2.2.2.2.2.2.1.2.2.2.2.2.2.2.2.2.2.2.2.2.2.2.2.2.2.2.2.2.2.2.2.2.2.2.2.2.2.2
theorem k0_mult305_dvd : ∀ (v1_0 : BitVec 32) (k0_t4 : Fin (k0_t4_loop v1_0).trips) (v93 : BitVec 32) (k0_hw14 : k0_chk14 v1_0 k0_t4 v93), 16 ∣ (k0_mult305 v93).toNat := fun v1_0 k0_t4 v93 k0_hw14 => k0_hw14.2.2.2.2.2.2.2.2.2.2.1.1
theorem k0_mult306_dvd : ∀ (v1_0 : BitVec 32) (k0_t4 : Fin (k0_t4_loop v1_0).trips) (v93 : BitVec 32) (k0_hw14 : k0_chk14 v1_0 k0_t4 v93), 16 ∣ (k0_mult306 v93).toNat := fun v1_0 k0_t4 v93 k0_hw14 => k0_hw14.2.2.2.2.2.2.2.2.2.2.1.2.1
theorem k0_mult307_dvd : ∀ (v1_0 : BitVec 32) (k0_t4 : Fin (k0_t4_loop v1_0).trips) (v93 : BitVec 32) (k0_hw14 : k0_chk14 v1_0 k0_t4 v93), 16 ∣ (k0_mult307 v93).toNat := fun v1_0 k0_t4 v93 k0_hw14 => k0_hw14.2.2.2.2.2.2.2.2.2.2.1.2.2.1
theorem k0_mult308_dvd : ∀ (v1_0 : BitVec 32) (k0_t4 : Fin (k0_t4_loop v1_0).trips) (v93 : BitVec 32) (k0_hw14 : k0_chk14 v1_0 k0_t4 v93), 16 ∣ (k0_mult308 v93).toNat := fun v1_0 k0_t4 v93 k0_hw14 => k0_hw14.2.2.2.2.2.2.2.2.2.2.1.2.2.2.1
theorem k0_mult309_dvd : ∀ (v1_0 : BitVec 32) (k0_t4 : Fin (k0_t4_loop v1_0).trips) (v93 : BitVec 32) (k0_hw14 : k0_chk14 v1_0 k0_t4 v93), 16 ∣ (k0_mult309 v93).toNat := fun v1_0 k0_t4 v93 k0_hw14 => k0_hw14.2.2.2.2.2.2.2.2.2.2.1.2.2.2.2.1
theorem k0_mult310_dvd : ∀ (v1_0 : BitVec 32) (k0_t4 : Fin (k0_t4_loop v1_0).trips) (v93 : BitVec 32) (k0_hw14 : k0_chk14 v1_0 k0_t4 v93), 16 ∣ (k0_mult310 v93).toNat := fun v1_0 k0_t4 v93 k0_hw14 => k0_hw14.2.2.2.2.2.2.2.2.2.2.1.2.2.2.2.2.1
theorem k0_mult311_dvd : ∀ (v1_0 : BitVec 32) (k0_t4 : Fin (k0_t4_loop v1_0).trips) (v93 : BitVec 32) (k0_hw14 : k0_chk14 v1_0 k0_t4 v93), 16 ∣ (k0_mult311 v93).toNat := fun v1_0 k0_t4 v93 k0_hw14 => k0_hw14.2.2.2.2.2.2.2.2.2.2.1.2.2.2.2.2.2.1
theorem k0_mult312_dvd : ∀ (v1_0 : BitVec 32) (k0_t4 : Fin (k0_t4_loop v1_0).trips) (v93 : BitVec 32) (k0_hw14 : k0_chk14 v1_0 k0_t4 v93), 16 ∣ (k0_mult312 v93).toNat := fun v1_0 k0_t4 v93 k0_hw14 => k0_hw14.2.2.2.2.2.2.2.2.2.2.1.2.2.2.2.2.2.2.1
theorem k0_mult313_dvd : ∀ (v1_0 : BitVec 32) (k0_t4 : Fin (k0_t4_loop v1_0).trips) (v93 : BitVec 32) (k0_hw14 : k0_chk14 v1_0 k0_t4 v93), 16 ∣ (k0_mult313 v93).toNat := fun v1_0 k0_t4 v93 k0_hw14 => k0_hw14.2.2.2.2.2.2.2.2.2.2.1.2.2.2.2.2.2.2.2.1
theorem k0_mult314_dvd : ∀ (v1_0 : BitVec 32) (k0_t4 : Fin (k0_t4_loop v1_0).trips) (v93 : BitVec 32) (k0_hw14 : k0_chk14 v1_0 k0_t4 v93), 16 ∣ (k0_mult314 v93).toNat := fun v1_0 k0_t4 v93 k0_hw14 => k0_hw14.2.2.2.2.2.2.2.2.2.2.1.2.2.2.2.2.2.2.2.2.1
theorem k0_mult315_dvd : ∀ (v1_0 : BitVec 32) (k0_t4 : Fin (k0_t4_loop v1_0).trips) (v93 : BitVec 32) (k0_hw14 : k0_chk14 v1_0 k0_t4 v93), 16 ∣ (k0_mult315 v93).toNat := fun v1_0 k0_t4 v93 k0_hw14 => k0_hw14.2.2.2.2.2.2.2.2.2.2.1.2.2.2.2.2.2.2.2.2.2.1
theorem k0_mult316_dvd : ∀ (v1_0 : BitVec 32) (k0_t4 : Fin (k0_t4_loop v1_0).trips) (v93 : BitVec 32) (k0_hw14 : k0_chk14 v1_0 k0_t4 v93), 16 ∣ (k0_mult316 v93).toNat := fun v1_0 k0_t4 v93 k0_hw14 => k0_hw14.2.2.2.2.2.2.2.2.2.2.1.2.2.2.2.2.2.2.2.2.2.2.1
theorem k0_mult317_dvd : ∀ (v1_0 : BitVec 32) (k0_t4 : Fin (k0_t4_loop v1_0).trips) (v93 : BitVec 32) (k0_hw14 : k0_chk14 v1_0 k0_t4 v93), 16 ∣ (k0_mult317 v93).toNat := fun v1_0 k0_t4 v93 k0_hw14 => k0_hw14.2.2.2.2.2.2.2.2.2.2.1.2.2.2.2.2.2.2.2.2.2.2.2.1
theorem k0_mult318_dvd : ∀ (v1_0 : BitVec 32) (k0_t4 : Fin (k0_t4_loop v1_0).trips) (v93 : BitVec 32) (k0_hw14 : k0_chk14 v1_0 k0_t4 v93), 16 ∣ (k0_mult318 v93).toNat := fun v1_0 k0_t4 v93 k0_hw14 => k0_hw14.2.2.2.2.2.2.2.2.2.2.1.2.2.2.2.2.2.2.2.2.2.2.2.2.1
theorem k0_mult319_dvd : ∀ (v1_0 : BitVec 32) (k0_t4 : Fin (k0_t4_loop v1_0).trips) (v93 : BitVec 32) (k0_hw14 : k0_chk14 v1_0 k0_t4 v93), 16 ∣ (k0_mult319 v93).toNat := fun v1_0 k0_t4 v93 k0_hw14 => k0_hw14.2.2.2.2.2.2.2.2.2.2.1.2.2.2.2.2.2.2.2.2.2.2.2.2.2.1
theorem k0_mult320_dvd : ∀ (v1_0 : BitVec 32) (k0_t4 : Fin (k0_t4_loop v1_0).trips) (v93 : BitVec 32) (k0_hw14 : k0_chk14 v1_0 k0_t4 v93), 16 ∣ (k0_mult320 v93).toNat := fun v1_0 k0_t4 v93 k0_hw14 => k0_hw14.2.2.2.2.2.2.2.2.2.2.1.2.2.2.2.2.2.2.2.2.2.2.2.2.2.2.1
theorem k0_mult321_dvd : ∀ (v1_0 : BitVec 32) (k0_t4 : Fin (k0_t4_loop v1_0).trips) (v93 : BitVec 32) (k0_hw14 : k0_chk14 v1_0 k0_t4 v93), 16 ∣ (k0_mult321 v93).toNat := fun v1_0 k0_t4 v93 k0_hw14 => k0_hw14.2.2.2.2.2.2.2.2.2.2.1.2.2.2.2.2.2.2.2.2.2.2.2.2.2.2.2.1
theorem k0_mult322_dvd : ∀ (v1_0 : BitVec 32) (k0_t4 : Fin (k0_t4_loop v1_0).trips) (v93 : BitVec 32) (k0_hw14 : k0_chk14 v1_0 k0_t4 v93), 16 ∣ (k0_mult322 v93).toNat := fun v1_0 k0_t4 v93 k0_hw14 => k0_hw14.2.2.2.2.2.2.2.2.2.2.1.2.2.2.2.2.2.2.2.2.2.2.2.2.2.2.2.2.1
theorem k0_mult323_dvd : ∀ (v1_0 : BitVec 32) (k0_t4 : Fin (k0_t4_loop v1_0).trips) (v93 : BitVec 32) (k0_hw14 : k0_chk14 v1_0 k0_t4 v93), 16 ∣ (k0_mult323 v93).toNat := fun v1_0 k0_t4 v93 k0_hw14 => k0_hw14.2.2.2.2.2.2.2.2.2.2.1.2.2.2.2.2.2.2.2.2.2.2.2.2.2.2.2.2.2.1
theorem k0_mult324_dvd : ∀ (v1_0 : BitVec 32) (k0_t4 : Fin (k0_t4_loop v1_0).trips) (v93 : BitVec 32) (k0_hw14 : k0_chk14 v1_0 k0_t4 v93), 16 ∣ (k0_mult324 v93).toNat := fun v1_0 k0_t4 v93 k0_hw14 => k0_hw14.2.2.2.2.2.2.2.2.2.2.1.2.2.2.2.2.2.2.2.2.2.2.2.2.2.2.2.2.2.2.1
theorem k0_mult325_dvd : ∀ (v1_0 : BitVec 32) (k0_t4 : Fin (k0_t4_loop v1_0).trips) (v93 : BitVec 32) (k0_hw14 : k0_chk14 v1_0 k0_t4 v93), 16 ∣ (k0_mult325 v93).toNat := fun v1_0 k0_t4 v93 k0_hw14 => k0_hw14.2.2.2.2.2.2.2.2.2.2.1.2.2.2.2.2.2.2.2.2.2.2.2.2.2.2.2.2.2.2.2.1
theorem k0_mult326_dvd : ∀ (v1_0 : BitVec 32) (k0_t4 : Fin (k0_t4_loop v1_0).trips) (v93 : BitVec 32) (k0_hw14 : k0_chk14 v1_0 k0_t4 v93), 16 ∣ (k0_mult326 v93).toNat := fun v1_0 k0_t4 v93 k0_hw14 => k0_hw14.2.2.2.2.2.2.2.2.2.2.1.2.2.2.2.2.2.2.2.2.2.2.2.2.2.2.2.2.2.2.2.2.1
theorem k0_off46_inb : ∀ (v1_0 : BitVec 32) (k0_t4 : Fin (k0_t4_loop v1_0).trips) (v93 : BitVec 32) (k0_hw14 : k0_chk14 v1_0 k0_t4 v93), ∀ (r : Fin 16), ∀ a, (k0_off46 v1_0 k0_t4 v93 (BitVec.ofNat 32 (16 * r.val))) a + S1x16x128.size a ≤ S2x256x3072.size a := fun v1_0 k0_t4 v93 k0_hw14 r => k0_hw14.2.2.2.2.2.2.2.2.2.2.1.2.2.2.2.2.2.2.2.2.2.2.2.2.2.2.2.2.2.2.2.2.2.1 r
theorem k0_mult327_dvd : ∀ (v1_0 : BitVec 32) (k0_t4 : Fin (k0_t4_loop v1_0).trips) (v93 : BitVec 32) (k0_hw14 : k0_chk14 v1_0 k0_t4 v93), 16 ∣ (k0_mult327 v93).toNat := fun v1_0 k0_t4 v93 k0_hw14 => k0_hw14.2.2.2.2.2.2.2.2.2.2.1.2.2.2.2.2.2.2.2.2.2.2.2.2.2.2.2.2.2.2.2.2.2.2.1
theorem k0_off47_inb : ∀ (v1_0 : BitVec 32) (k0_t4 : Fin (k0_t4_loop v1_0).trips) (v93 : BitVec 32) (k0_hw14 : k0_chk14 v1_0 k0_t4 v93), ∀ (r : Fin 16), ∀ a, (k0_off47 v1_0 k0_t4 v93 (BitVec.ofNat 32 (16 * r.val))) a + S1x16x128.size a ≤ S2x256x3072.size a := fun v1_0 k0_t4 v93 k0_hw14 r => k0_hw14.2.2.2.2.2.2.2.2.2.2.1.2.2.2.2.2.2.2.2.2.2.2.2.2.2.2.2.2.2.2.2.2.2.2.2.1 r
theorem k0_mult328_dvd : ∀ (v1_0 : BitVec 32) (k0_t4 : Fin (k0_t4_loop v1_0).trips) (v93 : BitVec 32) (k0_hw14 : k0_chk14 v1_0 k0_t4 v93), 16 ∣ (k0_mult328 v93).toNat := fun v1_0 k0_t4 v93 k0_hw14 => k0_hw14.2.2.2.2.2.2.2.2.2.2.1.2.2.2.2.2.2.2.2.2.2.2.2.2.2.2.2.2.2.2.2.2.2.2.2.2.1
theorem k0_mult329_dvd : ∀ (v1_0 : BitVec 32) (k0_t4 : Fin (k0_t4_loop v1_0).trips) (v93 : BitVec 32) (k0_hw14 : k0_chk14 v1_0 k0_t4 v93), 16 ∣ (k0_mult329 v93).toNat := fun v1_0 k0_t4 v93 k0_hw14 => k0_hw14.2.2.2.2.2.2.2.2.2.2.1.2.2.2.2.2.2.2.2.2.2.2.2.2.2.2.2.2.2.2.2.2.2.2.2.2.2.1
theorem k0_mult330_dvd : ∀ (v1_0 : BitVec 32) (k0_t4 : Fin (k0_t4_loop v1_0).trips) (v93 : BitVec 32) (k0_hw14 : k0_chk14 v1_0 k0_t4 v93), 16 ∣ (k0_mult330 v93).toNat := fun v1_0 k0_t4 v93 k0_hw14 => k0_hw14.2.2.2.2.2.2.2.2.2.2.1.2.2.2.2.2.2.2.2.2.2.2.2.2.2.2.2.2.2.2.2.2.2.2.2.2.2.2.1
theorem k0_mult331_dvd : ∀ (v1_0 : BitVec 32) (k0_t4 : Fin (k0_t4_loop v1_0).trips) (v93 : BitVec 32) (k0_hw14 : k0_chk14 v1_0 k0_t4 v93), 16 ∣ (k0_mult331 v93).toNat := fun v1_0 k0_t4 v93 k0_hw14 => k0_hw14.2.2.2.2.2.2.2.2.2.2.1.2.2.2.2.2.2.2.2.2.2.2.2.2.2.2.2.2.2.2.2.2.2.2.2.2.2.2.2.1
theorem k0_mult332_dvd : ∀ (v1_0 : BitVec 32) (k0_t4 : Fin (k0_t4_loop v1_0).trips) (v93 : BitVec 32) (k0_hw14 : k0_chk14 v1_0 k0_t4 v93), 16 ∣ (k0_mult332 v93).toNat := fun v1_0 k0_t4 v93 k0_hw14 => k0_hw14.2.2.2.2.2.2.2.2.2.2.1.2.2.2.2.2.2.2.2.2.2.2.2.2.2.2.2.2.2.2.2.2.2.2.2.2.2.2.2.2.1
theorem k0_mult333_dvd : ∀ (v1_0 : BitVec 32) (k0_t4 : Fin (k0_t4_loop v1_0).trips) (v93 : BitVec 32) (k0_hw14 : k0_chk14 v1_0 k0_t4 v93), 16 ∣ (k0_mult333 v93).toNat := fun v1_0 k0_t4 v93 k0_hw14 => k0_hw14.2.2.2.2.2.2.2.2.2.2.1.2.2.2.2.2.2.2.2.2.2.2.2.2.2.2.2.2.2.2.2.2.2.2.2.2.2.2.2.2.2.1
theorem k0_mult334_dvd : ∀ (v1_0 : BitVec 32) (k0_t4 : Fin (k0_t4_loop v1_0).trips) (v93 : BitVec 32) (k0_hw14 : k0_chk14 v1_0 k0_t4 v93), 16 ∣ (k0_mult334 v93).toNat := fun v1_0 k0_t4 v93 k0_hw14 => k0_hw14.2.2.2.2.2.2.2.2.2.2.1.2.2.2.2.2.2.2.2.2.2.2.2.2.2.2.2.2.2.2.2.2.2.2.2.2.2.2.2.2.2.2
theorem k0_mult335_dvd : ∀ (v1_0 : BitVec 32) (k0_t4 : Fin (k0_t4_loop v1_0).trips) (v93 : BitVec 32) (k0_hw14 : k0_chk14 v1_0 k0_t4 v93), 16 ∣ (k0_mult335 v93).toNat := fun v1_0 k0_t4 v93 k0_hw14 => k0_hw14.2.2.2.2.2.2.2.2.2.2.2.1.1
theorem k0_mult336_dvd : ∀ (v1_0 : BitVec 32) (k0_t4 : Fin (k0_t4_loop v1_0).trips) (v93 : BitVec 32) (k0_hw14 : k0_chk14 v1_0 k0_t4 v93), 16 ∣ (k0_mult336 v93).toNat := fun v1_0 k0_t4 v93 k0_hw14 => k0_hw14.2.2.2.2.2.2.2.2.2.2.2.1.2.1
theorem k0_mult337_dvd : ∀ (v1_0 : BitVec 32) (k0_t4 : Fin (k0_t4_loop v1_0).trips) (v93 : BitVec 32) (k0_hw14 : k0_chk14 v1_0 k0_t4 v93), 16 ∣ (k0_mult337 v93).toNat := fun v1_0 k0_t4 v93 k0_hw14 => k0_hw14.2.2.2.2.2.2.2.2.2.2.2.1.2.2.1
theorem k0_mult338_dvd : ∀ (v1_0 : BitVec 32) (k0_t4 : Fin (k0_t4_loop v1_0).trips) (v93 : BitVec 32) (k0_hw14 : k0_chk14 v1_0 k0_t4 v93), 16 ∣ (k0_mult338 v93).toNat := fun v1_0 k0_t4 v93 k0_hw14 => k0_hw14.2.2.2.2.2.2.2.2.2.2.2.1.2.2.2.1
theorem k0_mult339_dvd : ∀ (v1_0 : BitVec 32) (k0_t4 : Fin (k0_t4_loop v1_0).trips) (v93 : BitVec 32) (k0_hw14 : k0_chk14 v1_0 k0_t4 v93), 16 ∣ (k0_mult339 v93).toNat := fun v1_0 k0_t4 v93 k0_hw14 => k0_hw14.2.2.2.2.2.2.2.2.2.2.2.1.2.2.2.2.1
theorem k0_mult340_dvd : ∀ (v1_0 : BitVec 32) (k0_t4 : Fin (k0_t4_loop v1_0).trips) (v93 : BitVec 32) (k0_hw14 : k0_chk14 v1_0 k0_t4 v93), 16 ∣ (k0_mult340 v93).toNat := fun v1_0 k0_t4 v93 k0_hw14 => k0_hw14.2.2.2.2.2.2.2.2.2.2.2.1.2.2.2.2.2.1
theorem k0_mult341_dvd : ∀ (v1_0 : BitVec 32) (k0_t4 : Fin (k0_t4_loop v1_0).trips) (v93 : BitVec 32) (k0_hw14 : k0_chk14 v1_0 k0_t4 v93), 16 ∣ (k0_mult341 v93).toNat := fun v1_0 k0_t4 v93 k0_hw14 => k0_hw14.2.2.2.2.2.2.2.2.2.2.2.1.2.2.2.2.2.2.1
theorem k0_mult342_dvd : ∀ (v1_0 : BitVec 32) (k0_t4 : Fin (k0_t4_loop v1_0).trips) (v93 : BitVec 32) (k0_hw14 : k0_chk14 v1_0 k0_t4 v93), 16 ∣ (k0_mult342 v93).toNat := fun v1_0 k0_t4 v93 k0_hw14 => k0_hw14.2.2.2.2.2.2.2.2.2.2.2.1.2.2.2.2.2.2.2.1
theorem k0_mult343_dvd : ∀ (v1_0 : BitVec 32) (k0_t4 : Fin (k0_t4_loop v1_0).trips) (v93 : BitVec 32) (k0_hw14 : k0_chk14 v1_0 k0_t4 v93), 16 ∣ (k0_mult343 v93).toNat := fun v1_0 k0_t4 v93 k0_hw14 => k0_hw14.2.2.2.2.2.2.2.2.2.2.2.1.2.2.2.2.2.2.2.2.1
theorem k0_mult344_dvd : ∀ (v1_0 : BitVec 32) (k0_t4 : Fin (k0_t4_loop v1_0).trips) (v93 : BitVec 32) (k0_hw14 : k0_chk14 v1_0 k0_t4 v93), 16 ∣ (k0_mult344 v93).toNat := fun v1_0 k0_t4 v93 k0_hw14 => k0_hw14.2.2.2.2.2.2.2.2.2.2.2.1.2.2.2.2.2.2.2.2.2.1
theorem k0_mult345_dvd : ∀ (v1_0 : BitVec 32) (k0_t4 : Fin (k0_t4_loop v1_0).trips) (v93 : BitVec 32) (k0_hw14 : k0_chk14 v1_0 k0_t4 v93), 16 ∣ (k0_mult345 v93).toNat := fun v1_0 k0_t4 v93 k0_hw14 => k0_hw14.2.2.2.2.2.2.2.2.2.2.2.1.2.2.2.2.2.2.2.2.2.2.1
theorem k0_mult346_dvd : ∀ (v1_0 : BitVec 32) (k0_t4 : Fin (k0_t4_loop v1_0).trips) (v93 : BitVec 32) (k0_hw14 : k0_chk14 v1_0 k0_t4 v93), 16 ∣ (k0_mult346 v93).toNat := fun v1_0 k0_t4 v93 k0_hw14 => k0_hw14.2.2.2.2.2.2.2.2.2.2.2.1.2.2.2.2.2.2.2.2.2.2.2.1
theorem k0_mult347_dvd : ∀ (v1_0 : BitVec 32) (k0_t4 : Fin (k0_t4_loop v1_0).trips) (v93 : BitVec 32) (k0_hw14 : k0_chk14 v1_0 k0_t4 v93), 16 ∣ (k0_mult347 v93).toNat := fun v1_0 k0_t4 v93 k0_hw14 => k0_hw14.2.2.2.2.2.2.2.2.2.2.2.1.2.2.2.2.2.2.2.2.2.2.2.2.1
theorem k0_mult348_dvd : ∀ (v1_0 : BitVec 32) (k0_t4 : Fin (k0_t4_loop v1_0).trips) (v93 : BitVec 32) (k0_hw14 : k0_chk14 v1_0 k0_t4 v93), 16 ∣ (k0_mult348 v93).toNat := fun v1_0 k0_t4 v93 k0_hw14 => k0_hw14.2.2.2.2.2.2.2.2.2.2.2.1.2.2.2.2.2.2.2.2.2.2.2.2.2.1
theorem k0_mult349_dvd : ∀ (v1_0 : BitVec 32) (k0_t4 : Fin (k0_t4_loop v1_0).trips) (v93 : BitVec 32) (k0_hw14 : k0_chk14 v1_0 k0_t4 v93), 16 ∣ (k0_mult349 v93).toNat := fun v1_0 k0_t4 v93 k0_hw14 => k0_hw14.2.2.2.2.2.2.2.2.2.2.2.1.2.2.2.2.2.2.2.2.2.2.2.2.2.2.1
theorem k0_mult350_dvd : ∀ (v1_0 : BitVec 32) (k0_t4 : Fin (k0_t4_loop v1_0).trips) (v93 : BitVec 32) (k0_hw14 : k0_chk14 v1_0 k0_t4 v93), 16 ∣ (k0_mult350 v93).toNat := fun v1_0 k0_t4 v93 k0_hw14 => k0_hw14.2.2.2.2.2.2.2.2.2.2.2.1.2.2.2.2.2.2.2.2.2.2.2.2.2.2.2.1
theorem k0_mult351_dvd : ∀ (v1_0 : BitVec 32) (k0_t4 : Fin (k0_t4_loop v1_0).trips) (v93 : BitVec 32) (k0_hw14 : k0_chk14 v1_0 k0_t4 v93), 16 ∣ (k0_mult351 v93).toNat := fun v1_0 k0_t4 v93 k0_hw14 => k0_hw14.2.2.2.2.2.2.2.2.2.2.2.1.2.2.2.2.2.2.2.2.2.2.2.2.2.2.2.2.1
theorem k0_mult352_dvd : ∀ (v1_0 : BitVec 32) (k0_t4 : Fin (k0_t4_loop v1_0).trips) (v93 : BitVec 32) (k0_hw14 : k0_chk14 v1_0 k0_t4 v93), 16 ∣ (k0_mult352 v93).toNat := fun v1_0 k0_t4 v93 k0_hw14 => k0_hw14.2.2.2.2.2.2.2.2.2.2.2.1.2.2.2.2.2.2.2.2.2.2.2.2.2.2.2.2.2.1
theorem k0_mult353_dvd : ∀ (v1_0 : BitVec 32) (k0_t4 : Fin (k0_t4_loop v1_0).trips) (v93 : BitVec 32) (k0_hw14 : k0_chk14 v1_0 k0_t4 v93), 16 ∣ (k0_mult353 v93).toNat := fun v1_0 k0_t4 v93 k0_hw14 => k0_hw14.2.2.2.2.2.2.2.2.2.2.2.1.2.2.2.2.2.2.2.2.2.2.2.2.2.2.2.2.2.2.1
theorem k0_mult354_dvd : ∀ (v1_0 : BitVec 32) (k0_t4 : Fin (k0_t4_loop v1_0).trips) (v93 : BitVec 32) (k0_hw14 : k0_chk14 v1_0 k0_t4 v93), 16 ∣ (k0_mult354 v93).toNat := fun v1_0 k0_t4 v93 k0_hw14 => k0_hw14.2.2.2.2.2.2.2.2.2.2.2.1.2.2.2.2.2.2.2.2.2.2.2.2.2.2.2.2.2.2.2.1
theorem k0_mult355_dvd : ∀ (v1_0 : BitVec 32) (k0_t4 : Fin (k0_t4_loop v1_0).trips) (v93 : BitVec 32) (k0_hw14 : k0_chk14 v1_0 k0_t4 v93), 16 ∣ (k0_mult355 v93).toNat := fun v1_0 k0_t4 v93 k0_hw14 => k0_hw14.2.2.2.2.2.2.2.2.2.2.2.1.2.2.2.2.2.2.2.2.2.2.2.2.2.2.2.2.2.2.2.2.1
theorem k0_mult356_dvd : ∀ (v1_0 : BitVec 32) (k0_t4 : Fin (k0_t4_loop v1_0).trips) (v93 : BitVec 32) (k0_hw14 : k0_chk14 v1_0 k0_t4 v93), 16 ∣ (k0_mult356 v93).toNat := fun v1_0 k0_t4 v93 k0_hw14 => k0_hw14.2.2.2.2.2.2.2.2.2.2.2.1.2.2.2.2.2.2.2.2.2.2.2.2.2.2.2.2.2.2.2.2.2.1
theorem k0_mult357_dvd : ∀ (v1_0 : BitVec 32) (k0_t4 : Fin (k0_t4_loop v1_0).trips) (v93 : BitVec 32) (k0_hw14 : k0_chk14 v1_0 k0_t4 v93), 16 ∣ (k0_mult357 v93).toNat := fun v1_0 k0_t4 v93 k0_hw14 => k0_hw14.2.2.2.2.2.2.2.2.2.2.2.1.2.2.2.2.2.2.2.2.2.2.2.2.2.2.2.2.2.2.2.2.2.2.1
theorem k0_mult358_dvd : ∀ (v1_0 : BitVec 32) (k0_t4 : Fin (k0_t4_loop v1_0).trips) (v93 : BitVec 32) (k0_hw14 : k0_chk14 v1_0 k0_t4 v93), 16 ∣ (k0_mult358 v93).toNat := fun v1_0 k0_t4 v93 k0_hw14 => k0_hw14.2.2.2.2.2.2.2.2.2.2.2.1.2.2.2.2.2.2.2.2.2.2.2.2.2.2.2.2.2.2.2.2.2.2.2.1
theorem k0_off48_inb : ∀ (v1_0 : BitVec 32) (k0_t4 : Fin (k0_t4_loop v1_0).trips) (v93 : BitVec 32) (k0_hw14 : k0_chk14 v1_0 k0_t4 v93), ∀ (r : Fin 16), ∀ a, (k0_off48 v1_0 k0_t4 v93 (BitVec.ofNat 32 (16 * r.val))) a + S1x16x128.size a ≤ S2x256x3072.size a := fun v1_0 k0_t4 v93 k0_hw14 r => k0_hw14.2.2.2.2.2.2.2.2.2.2.2.1.2.2.2.2.2.2.2.2.2.2.2.2.2.2.2.2.2.2.2.2.2.2.2.2.1 r
theorem k0_mult359_dvd : ∀ (v1_0 : BitVec 32) (k0_t4 : Fin (k0_t4_loop v1_0).trips) (v93 : BitVec 32) (k0_hw14 : k0_chk14 v1_0 k0_t4 v93), 16 ∣ (k0_mult359 v93).toNat := fun v1_0 k0_t4 v93 k0_hw14 => k0_hw14.2.2.2.2.2.2.2.2.2.2.2.1.2.2.2.2.2.2.2.2.2.2.2.2.2.2.2.2.2.2.2.2.2.2.2.2.2.1
theorem k0_off49_inb : ∀ (v1_0 : BitVec 32) (k0_t4 : Fin (k0_t4_loop v1_0).trips) (v93 : BitVec 32) (k0_hw14 : k0_chk14 v1_0 k0_t4 v93), ∀ (r : Fin 16), ∀ a, (k0_off49 v1_0 k0_t4 v93 (BitVec.ofNat 32 (16 * r.val))) a + S1x16x128.size a ≤ S2x256x3072.size a := fun v1_0 k0_t4 v93 k0_hw14 r => k0_hw14.2.2.2.2.2.2.2.2.2.2.2.1.2.2.2.2.2.2.2.2.2.2.2.2.2.2.2.2.2.2.2.2.2.2.2.2.2.2.1 r
theorem k0_mult360_dvd : ∀ (v1_0 : BitVec 32) (k0_t4 : Fin (k0_t4_loop v1_0).trips) (v93 : BitVec 32) (k0_hw14 : k0_chk14 v1_0 k0_t4 v93), 16 ∣ (k0_mult360 v93).toNat := fun v1_0 k0_t4 v93 k0_hw14 => k0_hw14.2.2.2.2.2.2.2.2.2.2.2.1.2.2.2.2.2.2.2.2.2.2.2.2.2.2.2.2.2.2.2.2.2.2.2.2.2.2.2.1
theorem k0_mult361_dvd : ∀ (v1_0 : BitVec 32) (k0_t4 : Fin (k0_t4_loop v1_0).trips) (v93 : BitVec 32) (k0_hw14 : k0_chk14 v1_0 k0_t4 v93), 16 ∣ (k0_mult361 v93).toNat := fun v1_0 k0_t4 v93 k0_hw14 => k0_hw14.2.2.2.2.2.2.2.2.2.2.2.1.2.2.2.2.2.2.2.2.2.2.2.2.2.2.2.2.2.2.2.2.2.2.2.2.2.2.2.2.1
theorem k0_mult362_dvd : ∀ (v1_0 : BitVec 32) (k0_t4 : Fin (k0_t4_loop v1_0).trips) (v93 : BitVec 32) (k0_hw14 : k0_chk14 v1_0 k0_t4 v93), 16 ∣ (k0_mult362 v93).toNat := fun v1_0 k0_t4 v93 k0_hw14 => k0_hw14.2.2.2.2.2.2.2.2.2.2.2.1.2.2.2.2.2.2.2.2.2.2.2.2.2.2.2.2.2.2.2.2.2.2.2.2.2.2.2.2.2.1
theorem k0_mult363_dvd : ∀ (v1_0 : BitVec 32) (k0_t4 : Fin (k0_t4_loop v1_0).trips) (v93 : BitVec 32) (k0_hw14 : k0_chk14 v1_0 k0_t4 v93), 16 ∣ (k0_mult363 v93).toNat := fun v1_0 k0_t4 v93 k0_hw14 => k0_hw14.2.2.2.2.2.2.2.2.2.2.2.1.2.2.2.2.2.2.2.2.2.2.2.2.2.2.2.2.2.2.2.2.2.2.2.2.2.2.2.2.2.2.1
theorem k0_mult364_dvd : ∀ (v1_0 : BitVec 32) (k0_t4 : Fin (k0_t4_loop v1_0).trips) (v93 : BitVec 32) (k0_hw14 : k0_chk14 v1_0 k0_t4 v93), 16 ∣ (k0_mult364 v93).toNat := fun v1_0 k0_t4 v93 k0_hw14 => k0_hw14.2.2.2.2.2.2.2.2.2.2.2.1.2.2.2.2.2.2.2.2.2.2.2.2.2.2.2.2.2.2.2.2.2.2.2.2.2.2.2.2.2.2.2
theorem k0_mult365_dvd : ∀ (v1_0 : BitVec 32) (k0_t4 : Fin (k0_t4_loop v1_0).trips) (v93 : BitVec 32) (k0_hw14 : k0_chk14 v1_0 k0_t4 v93), 16 ∣ (k0_mult365 v93).toNat := fun v1_0 k0_t4 v93 k0_hw14 => k0_hw14.2.2.2.2.2.2.2.2.2.2.2.2.1
theorem k0_mult366_dvd : ∀ (v1_0 : BitVec 32) (k0_t4 : Fin (k0_t4_loop v1_0).trips) (v93 : BitVec 32) (k0_hw14 : k0_chk14 v1_0 k0_t4 v93), 16 ∣ (k0_mult366 v93).toNat := fun v1_0 k0_t4 v93 k0_hw14 => k0_hw14.2.2.2.2.2.2.2.2.2.2.2.2.2.1
theorem k0_mult367_dvd : ∀ (v1_0 : BitVec 32) (k0_t4 : Fin (k0_t4_loop v1_0).trips) (v93 : BitVec 32) (k0_hw14 : k0_chk14 v1_0 k0_t4 v93), 16 ∣ (k0_mult367 v93).toNat := fun v1_0 k0_t4 v93 k0_hw14 => k0_hw14.2.2.2.2.2.2.2.2.2.2.2.2.2.2.1
theorem k0_mult368_dvd : ∀ (v1_0 : BitVec 32) (k0_t4 : Fin (k0_t4_loop v1_0).trips) (v93 : BitVec 32) (k0_hw14 : k0_chk14 v1_0 k0_t4 v93), 16 ∣ (k0_mult368 v93).toNat := fun v1_0 k0_t4 v93 k0_hw14 => k0_hw14.2.2.2.2.2.2.2.2.2.2.2.2.2.2.2.1
theorem k0_mult369_dvd : ∀ (v1_0 : BitVec 32) (k0_t4 : Fin (k0_t4_loop v1_0).trips) (v93 : BitVec 32) (k0_hw14 : k0_chk14 v1_0 k0_t4 v93), 16 ∣ (k0_mult369 v93).toNat := fun v1_0 k0_t4 v93 k0_hw14 => k0_hw14.2.2.2.2.2.2.2.2.2.2.2.2.2.2.2.2.1
theorem k0_mult370_dvd : ∀ (v1_0 : BitVec 32) (k0_t4 : Fin (k0_t4_loop v1_0).trips) (v93 : BitVec 32) (k0_hw14 : k0_chk14 v1_0 k0_t4 v93), 16 ∣ (k0_mult370 v93).toNat := fun v1_0 k0_t4 v93 k0_hw14 => k0_hw14.2.2.2.2.2.2.2.2.2.2.2.2.2.2.2.2.2.1
theorem k0_mult371_dvd : ∀ (v1_0 : BitVec 32) (k0_t4 : Fin (k0_t4_loop v1_0).trips) (v93 : BitVec 32) (k0_hw14 : k0_chk14 v1_0 k0_t4 v93), 16 ∣ (k0_mult371 v93).toNat := fun v1_0 k0_t4 v93 k0_hw14 => k0_hw14.2.2.2.2.2.2.2.2.2.2.2.2.2.2.2.2.2.2.1
theorem k0_mult372_dvd : ∀ (v1_0 : BitVec 32) (k0_t4 : Fin (k0_t4_loop v1_0).trips) (v93 : BitVec 32) (k0_hw14 : k0_chk14 v1_0 k0_t4 v93), 16 ∣ (k0_mult372 v93).toNat := fun v1_0 k0_t4 v93 k0_hw14 => k0_hw14.2.2.2.2.2.2.2.2.2.2.2.2.2.2.2.2.2.2.2.1
theorem k0_mult373_dvd : ∀ (v1_0 : BitVec 32) (k0_t4 : Fin (k0_t4_loop v1_0).trips) (v93 : BitVec 32) (k0_hw14 : k0_chk14 v1_0 k0_t4 v93), 16 ∣ (k0_mult373 v93).toNat := fun v1_0 k0_t4 v93 k0_hw14 => k0_hw14.2.2.2.2.2.2.2.2.2.2.2.2.2.2.2.2.2.2.2.2.1
theorem k0_mult374_dvd : ∀ (v1_0 : BitVec 32) (k0_t4 : Fin (k0_t4_loop v1_0).trips) (v93 : BitVec 32) (k0_hw14 : k0_chk14 v1_0 k0_t4 v93), 16 ∣ (k0_mult374 v93).toNat := fun v1_0 k0_t4 v93 k0_hw14 => k0_hw14.2.2.2.2.2.2.2.2.2.2.2.2.2.2.2.2.2.2.2.2.2.1
theorem k0_mult375_dvd : ∀ (v1_0 : BitVec 32) (k0_t4 : Fin (k0_t4_loop v1_0).trips) (v93 : BitVec 32) (k0_hw14 : k0_chk14 v1_0 k0_t4 v93), 16 ∣ (k0_mult375 v93).toNat := fun v1_0 k0_t4 v93 k0_hw14 => k0_hw14.2.2.2.2.2.2.2.2.2.2.2.2.2.2.2.2.2.2.2.2.2.2.1
theorem k0_mult376_dvd : ∀ (v1_0 : BitVec 32) (k0_t4 : Fin (k0_t4_loop v1_0).trips) (v93 : BitVec 32) (k0_hw14 : k0_chk14 v1_0 k0_t4 v93), 16 ∣ (k0_mult376 v93).toNat := fun v1_0 k0_t4 v93 k0_hw14 => k0_hw14.2.2.2.2.2.2.2.2.2.2.2.2.2.2.2.2.2.2.2.2.2.2.2.1
theorem k0_mult377_dvd : ∀ (v1_0 : BitVec 32) (k0_t4 : Fin (k0_t4_loop v1_0).trips) (v93 : BitVec 32) (k0_hw14 : k0_chk14 v1_0 k0_t4 v93), 16 ∣ (k0_mult377 v93).toNat := fun v1_0 k0_t4 v93 k0_hw14 => k0_hw14.2.2.2.2.2.2.2.2.2.2.2.2.2.2.2.2.2.2.2.2.2.2.2.2.1
theorem k0_mult378_dvd : ∀ (v1_0 : BitVec 32) (k0_t4 : Fin (k0_t4_loop v1_0).trips) (v93 : BitVec 32) (k0_hw14 : k0_chk14 v1_0 k0_t4 v93), 16 ∣ (k0_mult378 v93).toNat := fun v1_0 k0_t4 v93 k0_hw14 => k0_hw14.2.2.2.2.2.2.2.2.2.2.2.2.2.2.2.2.2.2.2.2.2.2.2.2.2.1
theorem k0_mult379_dvd : ∀ (v1_0 : BitVec 32) (k0_t4 : Fin (k0_t4_loop v1_0).trips) (v93 : BitVec 32) (k0_hw14 : k0_chk14 v1_0 k0_t4 v93), 16 ∣ (k0_mult379 v93).toNat := fun v1_0 k0_t4 v93 k0_hw14 => k0_hw14.2.2.2.2.2.2.2.2.2.2.2.2.2.2.2.2.2.2.2.2.2.2.2.2.2.2.1
theorem k0_mult380_dvd : ∀ (v1_0 : BitVec 32) (k0_t4 : Fin (k0_t4_loop v1_0).trips) (v93 : BitVec 32) (k0_hw14 : k0_chk14 v1_0 k0_t4 v93), 16 ∣ (k0_mult380 v93).toNat := fun v1_0 k0_t4 v93 k0_hw14 => k0_hw14.2.2.2.2.2.2.2.2.2.2.2.2.2.2.2.2.2.2.2.2.2.2.2.2.2.2.2.1
theorem k0_mult381_dvd : ∀ (v1_0 : BitVec 32) (k0_t4 : Fin (k0_t4_loop v1_0).trips) (v93 : BitVec 32) (k0_hw14 : k0_chk14 v1_0 k0_t4 v93), 16 ∣ (k0_mult381 v93).toNat := fun v1_0 k0_t4 v93 k0_hw14 => k0_hw14.2.2.2.2.2.2.2.2.2.2.2.2.2.2.2.2.2.2.2.2.2.2.2.2.2.2.2.2.1
theorem k0_mult382_dvd : ∀ (v1_0 : BitVec 32) (k0_t4 : Fin (k0_t4_loop v1_0).trips) (v93 : BitVec 32) (k0_hw14 : k0_chk14 v1_0 k0_t4 v93), 16 ∣ (k0_mult382 v93).toNat := fun v1_0 k0_t4 v93 k0_hw14 => k0_hw14.2.2.2.2.2.2.2.2.2.2.2.2.2.2.2.2.2.2.2.2.2.2.2.2.2.2.2.2.2.1
theorem k0_mult383_dvd : ∀ (v1_0 : BitVec 32) (k0_t4 : Fin (k0_t4_loop v1_0).trips) (v93 : BitVec 32) (k0_hw14 : k0_chk14 v1_0 k0_t4 v93), 16 ∣ (k0_mult383 v93).toNat := fun v1_0 k0_t4 v93 k0_hw14 => k0_hw14.2.2.2.2.2.2.2.2.2.2.2.2.2.2.2.2.2.2.2.2.2.2.2.2.2.2.2.2.2.2.1
theorem k0_mult384_dvd : ∀ (v1_0 : BitVec 32) (k0_t4 : Fin (k0_t4_loop v1_0).trips) (v93 : BitVec 32) (k0_hw14 : k0_chk14 v1_0 k0_t4 v93), 16 ∣ (k0_mult384 v93).toNat := fun v1_0 k0_t4 v93 k0_hw14 => k0_hw14.2.2.2.2.2.2.2.2.2.2.2.2.2.2.2.2.2.2.2.2.2.2.2.2.2.2.2.2.2.2.2.1
theorem k0_mult385_dvd : ∀ (v1_0 : BitVec 32) (k0_t4 : Fin (k0_t4_loop v1_0).trips) (v93 : BitVec 32) (k0_hw14 : k0_chk14 v1_0 k0_t4 v93), 16 ∣ (k0_mult385 v93).toNat := fun v1_0 k0_t4 v93 k0_hw14 => k0_hw14.2.2.2.2.2.2.2.2.2.2.2.2.2.2.2.2.2.2.2.2.2.2.2.2.2.2.2.2.2.2.2.2.1
theorem k0_mult386_dvd : ∀ (v1_0 : BitVec 32) (k0_t4 : Fin (k0_t4_loop v1_0).trips) (v93 : BitVec 32) (k0_hw14 : k0_chk14 v1_0 k0_t4 v93), 16 ∣ (k0_mult386 v93).toNat := fun v1_0 k0_t4 v93 k0_hw14 => k0_hw14.2.2.2.2.2.2.2.2.2.2.2.2.2.2.2.2.2.2.2.2.2.2.2.2.2.2.2.2.2.2.2.2.2.1
theorem k0_mult387_dvd : ∀ (v1_0 : BitVec 32) (k0_t4 : Fin (k0_t4_loop v1_0).trips) (v93 : BitVec 32) (k0_hw14 : k0_chk14 v1_0 k0_t4 v93), 16 ∣ (k0_mult387 v93).toNat := fun v1_0 k0_t4 v93 k0_hw14 => k0_hw14.2.2.2.2.2.2.2.2.2.2.2.2.2.2.2.2.2.2.2.2.2.2.2.2.2.2.2.2.2.2.2.2.2.2.1
theorem k0_mult388_dvd : ∀ (v1_0 : BitVec 32) (k0_t4 : Fin (k0_t4_loop v1_0).trips) (v93 : BitVec 32) (k0_hw14 : k0_chk14 v1_0 k0_t4 v93), 16 ∣ (k0_mult388 v93).toNat := fun v1_0 k0_t4 v93 k0_hw14 => k0_hw14.2.2.2.2.2.2.2.2.2.2.2.2.2.2.2.2.2.2.2.2.2.2.2.2.2.2.2.2.2.2.2.2.2.2.2.1
theorem k0_mult389_dvd : ∀ (v1_0 : BitVec 32) (k0_t4 : Fin (k0_t4_loop v1_0).trips) (v93 : BitVec 32) (k0_hw14 : k0_chk14 v1_0 k0_t4 v93), 16 ∣ (k0_mult389 v93).toNat := fun v1_0 k0_t4 v93 k0_hw14 => k0_hw14.2.2.2.2.2.2.2.2.2.2.2.2.2.2.2.2.2.2.2.2.2.2.2.2.2.2.2.2.2.2.2.2.2.2.2.2

def k0_off50 (v1_0 : BitVec 32) (k0_t4 : Fin (k0_t4_loop v1_0).trips) : Fin 3 → Nat :=
  let c0_i32_13 : BitVec 32 := 0#32
  let c1_i32_16 : BitVec 32 := 1#32
  let arg22 : BitVec 32 := Scf.iv c0_i32_13 c1_i32_16 k0_t4
  let c1_i32_32 : BitVec 32 := 1#32
  let v72 : BitVec 32 := Scalar.andi arg22 c1_i32_32
  let v3557 : Index := Scalar.indexCast v72
  let c0_1534 : Index := 0#32
  let c0_1535 : Index := 0#32
  ![v3557.toNat, 0, 0]
def k0_off51 (v1_0 : BitVec 32) (k0_t4 : Fin (k0_t4_loop v1_0).trips) : Fin 1 → Nat :=
  let c0_i32_13 : BitVec 32 := 0#32
  let c1_i32_16 : BitVec 32 := 1#32
  let arg22 : BitVec 32 := Scf.iv c0_i32_13 c1_i32_16 k0_t4
  let v3562 : Index := Scalar.indexCast arg22
  ![v3562.toNat]
def k0_off52 (v1_0 : BitVec 32) (k0_t4 : Fin (k0_t4_loop v1_0).trips) : Fin 3 → Nat :=
  let c0_i32_13 : BitVec 32 := 0#32
  let c1_i32_16 : BitVec 32 := 1#32
  let arg22 : BitVec 32 := Scf.iv c0_i32_13 c1_i32_16 k0_t4
  let c1_i32_32 : BitVec 32 := 1#32
  let v72 : BitVec 32 := Scalar.andi arg22 c1_i32_32
  let v3568 : Index := Scalar.indexCast v72
  let c0_1538 : Index := 0#32
  let c0_1539 : Index := 0#32
  ![v3568.toNat, 0, 0]
def k0_mult390 (v93 : BitVec 32) (v3579 : BitVec 32) : BitVec 32 :=
  let c1_i32_1542 : BitVec 32 := 1#32
  let v3580 : BitVec 32 := Scalar.subi v3579 c1_i32_1542
  let v3581 : BitVec 32 := Scalar.subi v3580 v93
  let c_m16_i32_1543 : BitVec 32 := 4294967280#32
  let v3582 : BitVec 32 := Scalar.andi v3581 c_m16_i32_1543
  v3582

def k0_off53 (v1_0 : BitVec 32) (k0_t4 : Fin (k0_t4_loop v1_0).trips) (v93 : BitVec 32) (v3579 : BitVec 32) : Fin 3 → Nat :=
  let c0_i32_13 : BitVec 32 := 0#32
  let c1_i32_16 : BitVec 32 := 1#32
  let arg22 : BitVec 32 := Scf.iv c0_i32_13 c1_i32_16 k0_t4
  let c1_i32_32 : BitVec 32 := 1#32
  let v72 : BitVec 32 := Scalar.andi arg22 c1_i32_32
  let v3584 : Index := Scalar.indexCast v72
  let c1_i32_1542 : BitVec 32 := 1#32
  let v3580 : BitVec 32 := Scalar.subi v3579 c1_i32_1542
  let v3581 : BitVec 32 := Scalar.subi v3580 v93
  let c_m16_i32_1543 : BitVec 32 := 4294967280#32
  let v3582 : BitVec 32 := Scalar.andi v3581 c_m16_i32_1543
  let v3583 : BitVec 32 := v3582
  let v3585 : Index := Scalar.indexCast v3583
  let c0_1544 : Index := 0#32
  ![v3584.toNat, v3585.toNat, 0]

def k0_chk15 (v1_0 : BitVec 32) (k0_t4 : Fin (k0_t4_loop v1_0).trips) (v93 : BitVec 32) (v3579 : BitVec 32) : Prop :=
  (16 ∣ (k0_mult390 v93 v3579).toNat) ∧
  (∀ a, (k0_off53 v1_0 k0_t4 v93 v3579) a + S1x16x1536.size a ≤ S2x256x1536.size a)
theorem k0_mult390_dvd : ∀ (v1_0 : BitVec 32) (k0_t4 : Fin (k0_t4_loop v1_0).trips) (v93 : BitVec 32) (v3579 : BitVec 32) (k0_hw15 : k0_chk15 v1_0 k0_t4 v93 v3579), 16 ∣ (k0_mult390 v93 v3579).toNat := fun v1_0 k0_t4 v93 v3579 k0_hw15 => k0_hw15.1
theorem k0_off53_inb : ∀ (v1_0 : BitVec 32) (k0_t4 : Fin (k0_t4_loop v1_0).trips) (v93 : BitVec 32) (v3579 : BitVec 32) (k0_hw15 : k0_chk15 v1_0 k0_t4 v93 v3579), ∀ a, (k0_off53 v1_0 k0_t4 v93 v3579) a + S1x16x1536.size a ≤ S2x256x1536.size a := fun v1_0 k0_t4 v93 v3579 k0_hw15 => k0_hw15.2

def k0_cond4 (v1_0 : BitVec 32) (k0_t4 : Fin (k0_t4_loop v1_0).trips) : BitVec 1 :=
  let c0_i32_13 : BitVec 32 := 0#32
  let c1_i32_16 : BitVec 32 := 1#32
  let arg22 : BitVec 32 := Scf.iv c0_i32_13 c1_i32_16 k0_t4
  let c0_i32_1547 : BitVec 32 := 0#32
  let v3591 : BitVec 1 := Scalar.cmpi .sgt arg22 c0_i32_1547
  let v3592 : BitVec 32 := Scalar.extui v3591
  let c0_i32_1548 : BitVec 32 := 0#32
  let v3593 : BitVec 1 := Scalar.cmpi .ne v3592 c0_i32_1548
  v3593

def k0_off54 (v1_0 : BitVec 32) (k0_t4 : Fin (k0_t4_loop v1_0).trips) : Fin 1 → Nat :=
  let c0_i32_13 : BitVec 32 := 0#32
  let c1_i32_16 : BitVec 32 := 1#32
  let arg22 : BitVec 32 := Scf.iv c0_i32_13 c1_i32_16 k0_t4
  let c1_i32_1574 : BitVec 32 := 1#32
  let v3643 : BitVec 32 := Scalar.subi arg22 c1_i32_1574
  let v3644 : Index := Scalar.indexCast v3643
  ![v3644.toNat]
def k0_mult391 (v3645 : BitVec 32) (v3648 : BitVec 32) : BitVec 32 :=
  let v3649 : BitVec 32 := Scalar.subi v3648 v3645
  let c16_i32_1576 : BitVec 32 := 16#32
  let v3650 : BitVec 32 := Scalar.addi v3649 c16_i32_1576
  let c1_i32_1577 : BitVec 32 := 1#32
  let v3651 : BitVec 32 := Scalar.subi v3650 c1_i32_1577
  let c_m16_i32_1578 : BitVec 32 := 4294967280#32
  let v3652 : BitVec 32 := Scalar.andi v3651 c_m16_i32_1578
  let c_m512_i32_1579 : BitVec 32 := 4294966784#32
  let v3653 : BitVec 32 := Scalar.andi v3652 c_m512_i32_1579
  v3653

def k0_mult392 (v3645 : BitVec 32) (v3648 : BitVec 32) : BitVec 32 :=
  let v3649 : BitVec 32 := Scalar.subi v3648 v3645
  let c16_i32_1576 : BitVec 32 := 16#32
  let v3650 : BitVec 32 := Scalar.addi v3649 c16_i32_1576
  let c1_i32_1577 : BitVec 32 := 1#32
  let v3651 : BitVec 32 := Scalar.subi v3650 c1_i32_1577
  let c_m16_i32_1578 : BitVec 32 := 4294967280#32
  let v3652 : BitVec 32 := Scalar.andi v3651 c_m16_i32_1578
  let c_m512_i32_1579 : BitVec 32 := 4294966784#32
  let v3653 : BitVec 32 := Scalar.andi v3652 c_m512_i32_1579
  let v3654 : BitVec 32 := v3653
  let v3655 : BitVec 32 := Scalar.addi v3645 v3654
  v3655
def k0_off55 (v3645 : BitVec 32) (v3648 : BitVec 32) : Fin 2 → Nat :=
  let v3649 : BitVec 32 := Scalar.subi v3648 v3645
  let c16_i32_1576 : BitVec 32 := 16#32
  let v3650 : BitVec 32 := Scalar.addi v3649 c16_i32_1576
  let c1_i32_1577 : BitVec 32 := 1#32
  let v3651 : BitVec 32 := Scalar.subi v3650 c1_i32_1577
  let c_m16_i32_1578 : BitVec 32 := 4294967280#32
  let v3652 : BitVec 32 := Scalar.andi v3651 c_m16_i32_1578
  let c_m512_i32_1579 : BitVec 32 := 4294966784#32
  let v3653 : BitVec 32 := Scalar.andi v3652 c_m512_i32_1579
  let v3654 : BitVec 32 := v3653
  let v3655 : BitVec 32 := Scalar.addi v3645 v3654
  let v3656 : BitVec 32 := v3655
  let c0_i32_1599 : BitVec 32 := 0#32
  ![v3656.toNat, 0]
def k0_cond5 (v3645 : BitVec 32) (v3648 : BitVec 32) : BitVec 1 :=
  let v3649 : BitVec 32 := Scalar.subi v3648 v3645
  let c16_i32_1576 : BitVec 32 := 16#32
  let v3650 : BitVec 32 := Scalar.addi v3649 c16_i32_1576
  let c1_i32_1577 : BitVec 32 := 1#32
  let v3651 : BitVec 32 := Scalar.subi v3650 c1_i32_1577
  let c_m16_i32_1578 : BitVec 32 := 4294967280#32
  let v3652 : BitVec 32 := Scalar.andi v3651 c_m16_i32_1578
  let c256_i32_1580 : BitVec 32 := 256#32
  let v3657 : BitVec 32 := Scalar.andi v3652 c256_i32_1580
  let c0_i32_1581 : BitVec 32 := 0#32
  let v3658 : BitVec 1 := Scalar.cmpi .ne v3657 c0_i32_1581
  let v3659 : BitVec 32 := Scalar.extui v3658
  let c0_i32_1582 : BitVec 32 := 0#32
  let v3660 : BitVec 1 := Scalar.cmpi .ne v3659 c0_i32_1582
  v3660

def k0_off56 (v1_0 : BitVec 32) (k0_t4 : Fin (k0_t4_loop v1_0).trips) (v3645 : BitVec 32) (v3648 : BitVec 32) : Fin 3 → Nat :=
  let c0_i32_13 : BitVec 32 := 0#32
  let c1_i32_16 : BitVec 32 := 1#32
  let arg22 : BitVec 32 := Scf.iv c0_i32_13 c1_i32_16 k0_t4
  let c1_i32_1574 : BitVec 32 := 1#32
  let v3643 : BitVec 32 := Scalar.subi arg22 c1_i32_1574
  let c1_i32_1575 : BitVec 32 := 1#32
  let v3646 : BitVec 32 := Scalar.andi v3643 c1_i32_1575
  let v3649 : BitVec 32 := Scalar.subi v3648 v3645
  let c16_i32_1576 : BitVec 32 := 16#32
  let v3650 : BitVec 32 := Scalar.addi v3649 c16_i32_1576
  let c1_i32_1577 : BitVec 32 := 1#32
  let v3651 : BitVec 32 := Scalar.subi v3650 c1_i32_1577
  let c_m16_i32_1578 : BitVec 32 := 4294967280#32
  let v3652 : BitVec 32 := Scalar.andi v3651 c_m16_i32_1578
  let c_m512_i32_1579 : BitVec 32 := 4294966784#32
  let v3653 : BitVec 32 := Scalar.andi v3652 c_m512_i32_1579
  let v3654 : BitVec 32 := v3653
  let c0_i32_1600 : BitVec 32 := 0#32
  ![v3646.toNat, v3654.toNat, 0]
def k0_mult393 (v3645 : BitVec 32) (v3648 : BitVec 32) : BitVec 32 :=
  let v3649 : BitVec 32 := Scalar.subi v3648 v3645
  let c16_i32_1576 : BitVec 32 := 16#32
  let v3650 : BitVec 32 := Scalar.addi v3649 c16_i32_1576
  let c1_i32_1577 : BitVec 32 := 1#32
  let v3651 : BitVec 32 := Scalar.subi v3650 c1_i32_1577
  let c_m16_i32_1578 : BitVec 32 := 4294967280#32
  let v3652 : BitVec 32 := Scalar.andi v3651 c_m16_i32_1578
  let c_m256_i32_1583 : BitVec 32 := 4294967040#32
  let v3661 : BitVec 32 := Scalar.andi v3652 c_m256_i32_1583
  v3661
def k0_mult394 (v3645 : BitVec 32) (v3648 : BitVec 32) : BitVec 32 :=
  let v3649 : BitVec 32 := Scalar.subi v3648 v3645
  let c16_i32_1576 : BitVec 32 := 16#32
  let v3650 : BitVec 32 := Scalar.addi v3649 c16_i32_1576
  let c1_i32_1577 : BitVec 32 := 1#32
  let v3651 : BitVec 32 := Scalar.subi v3650 c1_i32_1577
  let c_m16_i32_1578 : BitVec 32 := 4294967280#32
  let v3652 : BitVec 32 := Scalar.andi v3651 c_m16_i32_1578
  let c_m256_i32_1583 : BitVec 32 := 4294967040#32
  let v3661 : BitVec 32 := Scalar.andi v3652 c_m256_i32_1583
  let v3662 : BitVec 32 := v3661
  let v3663 : BitVec 32 := Scalar.addi v3645 v3662
  v3663
def k0_off57 (v3645 : BitVec 32) (v3648 : BitVec 32) : Fin 2 → Nat :=
  let v3649 : BitVec 32 := Scalar.subi v3648 v3645
  let c16_i32_1576 : BitVec 32 := 16#32
  let v3650 : BitVec 32 := Scalar.addi v3649 c16_i32_1576
  let c1_i32_1577 : BitVec 32 := 1#32
  let v3651 : BitVec 32 := Scalar.subi v3650 c1_i32_1577
  let c_m16_i32_1578 : BitVec 32 := 4294967280#32
  let v3652 : BitVec 32 := Scalar.andi v3651 c_m16_i32_1578
  let c_m256_i32_1583 : BitVec 32 := 4294967040#32
  let v3661 : BitVec 32 := Scalar.andi v3652 c_m256_i32_1583
  let v3662 : BitVec 32 := v3661
  let v3663 : BitVec 32 := Scalar.addi v3645 v3662
  let v3664 : BitVec 32 := v3663
  let c0_i32_1599 : BitVec 32 := 0#32
  ![v3664.toNat, 0]
def k0_cond6 (v3645 : BitVec 32) (v3648 : BitVec 32) : BitVec 1 :=
  let v3649 : BitVec 32 := Scalar.subi v3648 v3645
  let c16_i32_1576 : BitVec 32 := 16#32
  let v3650 : BitVec 32 := Scalar.addi v3649 c16_i32_1576
  let c1_i32_1577 : BitVec 32 := 1#32
  let v3651 : BitVec 32 := Scalar.subi v3650 c1_i32_1577
  let c_m16_i32_1578 : BitVec 32 := 4294967280#32
  let v3652 : BitVec 32 := Scalar.andi v3651 c_m16_i32_1578
  let c128_i32_1584 : BitVec 32 := 128#32
  let v3665 : BitVec 32 := Scalar.andi v3652 c128_i32_1584
  let c0_i32_1585 : BitVec 32 := 0#32
  let v3666 : BitVec 1 := Scalar.cmpi .ne v3665 c0_i32_1585
  let v3667 : BitVec 32 := Scalar.extui v3666
  let c0_i32_1586 : BitVec 32 := 0#32
  let v3668 : BitVec 1 := Scalar.cmpi .ne v3667 c0_i32_1586
  v3668

def k0_off58 (v1_0 : BitVec 32) (k0_t4 : Fin (k0_t4_loop v1_0).trips) (v3645 : BitVec 32) (v3648 : BitVec 32) : Fin 3 → Nat :=
  let c0_i32_13 : BitVec 32 := 0#32
  let c1_i32_16 : BitVec 32 := 1#32
  let arg22 : BitVec 32 := Scf.iv c0_i32_13 c1_i32_16 k0_t4
  let c1_i32_1574 : BitVec 32 := 1#32
  let v3643 : BitVec 32 := Scalar.subi arg22 c1_i32_1574
  let c1_i32_1575 : BitVec 32 := 1#32
  let v3646 : BitVec 32 := Scalar.andi v3643 c1_i32_1575
  let v3649 : BitVec 32 := Scalar.subi v3648 v3645
  let c16_i32_1576 : BitVec 32 := 16#32
  let v3650 : BitVec 32 := Scalar.addi v3649 c16_i32_1576
  let c1_i32_1577 : BitVec 32 := 1#32
  let v3651 : BitVec 32 := Scalar.subi v3650 c1_i32_1577
  let c_m16_i32_1578 : BitVec 32 := 4294967280#32
  let v3652 : BitVec 32 := Scalar.andi v3651 c_m16_i32_1578
  let c_m256_i32_1583 : BitVec 32 := 4294967040#32
  let v3661 : BitVec 32 := Scalar.andi v3652 c_m256_i32_1583
  let v3662 : BitVec 32 := v3661
  let c0_i32_1600 : BitVec 32 := 0#32
  ![v3646.toNat, v3662.toNat, 0]
def k0_mult395 (v3645 : BitVec 32) (v3648 : BitVec 32) : BitVec 32 :=
  let v3649 : BitVec 32 := Scalar.subi v3648 v3645
  let c16_i32_1576 : BitVec 32 := 16#32
  let v3650 : BitVec 32 := Scalar.addi v3649 c16_i32_1576
  let c1_i32_1577 : BitVec 32 := 1#32
  let v3651 : BitVec 32 := Scalar.subi v3650 c1_i32_1577
  let c_m16_i32_1578 : BitVec 32 := 4294967280#32
  let v3652 : BitVec 32 := Scalar.andi v3651 c_m16_i32_1578
  let c_m128_i32_1587 : BitVec 32 := 4294967168#32
  let v3669 : BitVec 32 := Scalar.andi v3652 c_m128_i32_1587
  v3669
def k0_mult396 (v3645 : BitVec 32) (v3648 : BitVec 32) : BitVec 32 :=
  let v3649 : BitVec 32 := Scalar.subi v3648 v3645
  let c16_i32_1576 : BitVec 32 := 16#32
  let v3650 : BitVec 32 := Scalar.addi v3649 c16_i32_1576
  let c1_i32_1577 : BitVec 32 := 1#32
  let v3651 : BitVec 32 := Scalar.subi v3650 c1_i32_1577
  let c_m16_i32_1578 : BitVec 32 := 4294967280#32
  let v3652 : BitVec 32 := Scalar.andi v3651 c_m16_i32_1578
  let c_m128_i32_1587 : BitVec 32 := 4294967168#32
  let v3669 : BitVec 32 := Scalar.andi v3652 c_m128_i32_1587
  let v3670 : BitVec 32 := v3669
  let v3671 : BitVec 32 := Scalar.addi v3645 v3670
  v3671
def k0_off59 (v3645 : BitVec 32) (v3648 : BitVec 32) : Fin 2 → Nat :=
  let v3649 : BitVec 32 := Scalar.subi v3648 v3645
  let c16_i32_1576 : BitVec 32 := 16#32
  let v3650 : BitVec 32 := Scalar.addi v3649 c16_i32_1576
  let c1_i32_1577 : BitVec 32 := 1#32
  let v3651 : BitVec 32 := Scalar.subi v3650 c1_i32_1577
  let c_m16_i32_1578 : BitVec 32 := 4294967280#32
  let v3652 : BitVec 32 := Scalar.andi v3651 c_m16_i32_1578
  let c_m128_i32_1587 : BitVec 32 := 4294967168#32
  let v3669 : BitVec 32 := Scalar.andi v3652 c_m128_i32_1587
  let v3670 : BitVec 32 := v3669
  let v3671 : BitVec 32 := Scalar.addi v3645 v3670
  let v3672 : BitVec 32 := v3671
  let c0_i32_1599 : BitVec 32 := 0#32
  ![v3672.toNat, 0]
def k0_cond7 (v3645 : BitVec 32) (v3648 : BitVec 32) : BitVec 1 :=
  let v3649 : BitVec 32 := Scalar.subi v3648 v3645
  let c16_i32_1576 : BitVec 32 := 16#32
  let v3650 : BitVec 32 := Scalar.addi v3649 c16_i32_1576
  let c1_i32_1577 : BitVec 32 := 1#32
  let v3651 : BitVec 32 := Scalar.subi v3650 c1_i32_1577
  let c_m16_i32_1578 : BitVec 32 := 4294967280#32
  let v3652 : BitVec 32 := Scalar.andi v3651 c_m16_i32_1578
  let c64_i32_1588 : BitVec 32 := 64#32
  let v3673 : BitVec 32 := Scalar.andi v3652 c64_i32_1588
  let c0_i32_1589 : BitVec 32 := 0#32
  let v3674 : BitVec 1 := Scalar.cmpi .ne v3673 c0_i32_1589
  let v3675 : BitVec 32 := Scalar.extui v3674
  let c0_i32_1590 : BitVec 32 := 0#32
  let v3676 : BitVec 1 := Scalar.cmpi .ne v3675 c0_i32_1590
  v3676

def k0_off60 (v1_0 : BitVec 32) (k0_t4 : Fin (k0_t4_loop v1_0).trips) (v3645 : BitVec 32) (v3648 : BitVec 32) : Fin 3 → Nat :=
  let c0_i32_13 : BitVec 32 := 0#32
  let c1_i32_16 : BitVec 32 := 1#32
  let arg22 : BitVec 32 := Scf.iv c0_i32_13 c1_i32_16 k0_t4
  let c1_i32_1574 : BitVec 32 := 1#32
  let v3643 : BitVec 32 := Scalar.subi arg22 c1_i32_1574
  let c1_i32_1575 : BitVec 32 := 1#32
  let v3646 : BitVec 32 := Scalar.andi v3643 c1_i32_1575
  let v3649 : BitVec 32 := Scalar.subi v3648 v3645
  let c16_i32_1576 : BitVec 32 := 16#32
  let v3650 : BitVec 32 := Scalar.addi v3649 c16_i32_1576
  let c1_i32_1577 : BitVec 32 := 1#32
  let v3651 : BitVec 32 := Scalar.subi v3650 c1_i32_1577
  let c_m16_i32_1578 : BitVec 32 := 4294967280#32
  let v3652 : BitVec 32 := Scalar.andi v3651 c_m16_i32_1578
  let c_m128_i32_1587 : BitVec 32 := 4294967168#32
  let v3669 : BitVec 32 := Scalar.andi v3652 c_m128_i32_1587
  let v3670 : BitVec 32 := v3669
  let c0_i32_1600 : BitVec 32 := 0#32
  ![v3646.toNat, v3670.toNat, 0]
def k0_mult397 (v3645 : BitVec 32) (v3648 : BitVec 32) : BitVec 32 :=
  let v3649 : BitVec 32 := Scalar.subi v3648 v3645
  let c16_i32_1576 : BitVec 32 := 16#32
  let v3650 : BitVec 32 := Scalar.addi v3649 c16_i32_1576
  let c1_i32_1577 : BitVec 32 := 1#32
  let v3651 : BitVec 32 := Scalar.subi v3650 c1_i32_1577
  let c_m16_i32_1578 : BitVec 32 := 4294967280#32
  let v3652 : BitVec 32 := Scalar.andi v3651 c_m16_i32_1578
  let c_m64_i32_1591 : BitVec 32 := 4294967232#32
  let v3677 : BitVec 32 := Scalar.andi v3652 c_m64_i32_1591
  v3677
def k0_mult398 (v3645 : BitVec 32) (v3648 : BitVec 32) : BitVec 32 :=
  let v3649 : BitVec 32 := Scalar.subi v3648 v3645
  let c16_i32_1576 : BitVec 32 := 16#32
  let v3650 : BitVec 32 := Scalar.addi v3649 c16_i32_1576
  let c1_i32_1577 : BitVec 32 := 1#32
  let v3651 : BitVec 32 := Scalar.subi v3650 c1_i32_1577
  let c_m16_i32_1578 : BitVec 32 := 4294967280#32
  let v3652 : BitVec 32 := Scalar.andi v3651 c_m16_i32_1578
  let c_m64_i32_1591 : BitVec 32 := 4294967232#32
  let v3677 : BitVec 32 := Scalar.andi v3652 c_m64_i32_1591
  let v3678 : BitVec 32 := v3677
  let v3679 : BitVec 32 := Scalar.addi v3645 v3678
  v3679
def k0_off61 (v3645 : BitVec 32) (v3648 : BitVec 32) : Fin 2 → Nat :=
  let v3649 : BitVec 32 := Scalar.subi v3648 v3645
  let c16_i32_1576 : BitVec 32 := 16#32
  let v3650 : BitVec 32 := Scalar.addi v3649 c16_i32_1576
  let c1_i32_1577 : BitVec 32 := 1#32
  let v3651 : BitVec 32 := Scalar.subi v3650 c1_i32_1577
  let c_m16_i32_1578 : BitVec 32 := 4294967280#32
  let v3652 : BitVec 32 := Scalar.andi v3651 c_m16_i32_1578
  let c_m64_i32_1591 : BitVec 32 := 4294967232#32
  let v3677 : BitVec 32 := Scalar.andi v3652 c_m64_i32_1591
  let v3678 : BitVec 32 := v3677
  let v3679 : BitVec 32 := Scalar.addi v3645 v3678
  let v3680 : BitVec 32 := v3679
  let c0_i32_1599 : BitVec 32 := 0#32
  ![v3680.toNat, 0]
def k0_cond8 (v3645 : BitVec 32) (v3648 : BitVec 32) : BitVec 1 :=
  let v3649 : BitVec 32 := Scalar.subi v3648 v3645
  let c16_i32_1576 : BitVec 32 := 16#32
  let v3650 : BitVec 32 := Scalar.addi v3649 c16_i32_1576
  let c1_i32_1577 : BitVec 32 := 1#32
  let v3651 : BitVec 32 := Scalar.subi v3650 c1_i32_1577
  let c_m16_i32_1578 : BitVec 32 := 4294967280#32
  let v3652 : BitVec 32 := Scalar.andi v3651 c_m16_i32_1578
  let c32_i32_1592 : BitVec 32 := 32#32
  let v3681 : BitVec 32 := Scalar.andi v3652 c32_i32_1592
  let c0_i32_1593 : BitVec 32 := 0#32
  let v3682 : BitVec 1 := Scalar.cmpi .ne v3681 c0_i32_1593
  let v3683 : BitVec 32 := Scalar.extui v3682
  let c0_i32_1594 : BitVec 32 := 0#32
  let v3684 : BitVec 1 := Scalar.cmpi .ne v3683 c0_i32_1594
  v3684

def k0_off62 (v1_0 : BitVec 32) (k0_t4 : Fin (k0_t4_loop v1_0).trips) (v3645 : BitVec 32) (v3648 : BitVec 32) : Fin 3 → Nat :=
  let c0_i32_13 : BitVec 32 := 0#32
  let c1_i32_16 : BitVec 32 := 1#32
  let arg22 : BitVec 32 := Scf.iv c0_i32_13 c1_i32_16 k0_t4
  let c1_i32_1574 : BitVec 32 := 1#32
  let v3643 : BitVec 32 := Scalar.subi arg22 c1_i32_1574
  let c1_i32_1575 : BitVec 32 := 1#32
  let v3646 : BitVec 32 := Scalar.andi v3643 c1_i32_1575
  let v3649 : BitVec 32 := Scalar.subi v3648 v3645
  let c16_i32_1576 : BitVec 32 := 16#32
  let v3650 : BitVec 32 := Scalar.addi v3649 c16_i32_1576
  let c1_i32_1577 : BitVec 32 := 1#32
  let v3651 : BitVec 32 := Scalar.subi v3650 c1_i32_1577
  let c_m16_i32_1578 : BitVec 32 := 4294967280#32
  let v3652 : BitVec 32 := Scalar.andi v3651 c_m16_i32_1578
  let c_m64_i32_1591 : BitVec 32 := 4294967232#32
  let v3677 : BitVec 32 := Scalar.andi v3652 c_m64_i32_1591
  let v3678 : BitVec 32 := v3677
  let c0_i32_1600 : BitVec 32 := 0#32
  ![v3646.toNat, v3678.toNat, 0]
def k0_mult399 (v3645 : BitVec 32) (v3648 : BitVec 32) : BitVec 32 :=
  let v3649 : BitVec 32 := Scalar.subi v3648 v3645
  let c16_i32_1576 : BitVec 32 := 16#32
  let v3650 : BitVec 32 := Scalar.addi v3649 c16_i32_1576
  let c1_i32_1577 : BitVec 32 := 1#32
  let v3651 : BitVec 32 := Scalar.subi v3650 c1_i32_1577
  let c_m16_i32_1578 : BitVec 32 := 4294967280#32
  let v3652 : BitVec 32 := Scalar.andi v3651 c_m16_i32_1578
  let c_m32_i32_1595 : BitVec 32 := 4294967264#32
  let v3685 : BitVec 32 := Scalar.andi v3652 c_m32_i32_1595
  v3685
def k0_mult400 (v3645 : BitVec 32) (v3648 : BitVec 32) : BitVec 32 :=
  let v3649 : BitVec 32 := Scalar.subi v3648 v3645
  let c16_i32_1576 : BitVec 32 := 16#32
  let v3650 : BitVec 32 := Scalar.addi v3649 c16_i32_1576
  let c1_i32_1577 : BitVec 32 := 1#32
  let v3651 : BitVec 32 := Scalar.subi v3650 c1_i32_1577
  let c_m16_i32_1578 : BitVec 32 := 4294967280#32
  let v3652 : BitVec 32 := Scalar.andi v3651 c_m16_i32_1578
  let c_m32_i32_1595 : BitVec 32 := 4294967264#32
  let v3685 : BitVec 32 := Scalar.andi v3652 c_m32_i32_1595
  let v3686 : BitVec 32 := v3685
  let v3687 : BitVec 32 := Scalar.addi v3645 v3686
  v3687
def k0_off63 (v3645 : BitVec 32) (v3648 : BitVec 32) : Fin 2 → Nat :=
  let v3649 : BitVec 32 := Scalar.subi v3648 v3645
  let c16_i32_1576 : BitVec 32 := 16#32
  let v3650 : BitVec 32 := Scalar.addi v3649 c16_i32_1576
  let c1_i32_1577 : BitVec 32 := 1#32
  let v3651 : BitVec 32 := Scalar.subi v3650 c1_i32_1577
  let c_m16_i32_1578 : BitVec 32 := 4294967280#32
  let v3652 : BitVec 32 := Scalar.andi v3651 c_m16_i32_1578
  let c_m32_i32_1595 : BitVec 32 := 4294967264#32
  let v3685 : BitVec 32 := Scalar.andi v3652 c_m32_i32_1595
  let v3686 : BitVec 32 := v3685
  let v3687 : BitVec 32 := Scalar.addi v3645 v3686
  let v3688 : BitVec 32 := v3687
  let c0_i32_1599 : BitVec 32 := 0#32
  ![v3688.toNat, 0]
def k0_cond9 (v3645 : BitVec 32) (v3648 : BitVec 32) : BitVec 1 :=
  let v3649 : BitVec 32 := Scalar.subi v3648 v3645
  let c16_i32_1576 : BitVec 32 := 16#32
  let v3650 : BitVec 32 := Scalar.addi v3649 c16_i32_1576
  let c1_i32_1577 : BitVec 32 := 1#32
  let v3651 : BitVec 32 := Scalar.subi v3650 c1_i32_1577
  let c_m16_i32_1578 : BitVec 32 := 4294967280#32
  let v3652 : BitVec 32 := Scalar.andi v3651 c_m16_i32_1578
  let c16_i32_1596 : BitVec 32 := 16#32
  let v3689 : BitVec 32 := Scalar.andi v3652 c16_i32_1596
  let c0_i32_1597 : BitVec 32 := 0#32
  let v3690 : BitVec 1 := Scalar.cmpi .ne v3689 c0_i32_1597
  let v3691 : BitVec 32 := Scalar.extui v3690
  let c0_i32_1598 : BitVec 32 := 0#32
  let v3692 : BitVec 1 := Scalar.cmpi .ne v3691 c0_i32_1598
  v3692

def k0_off64 (v1_0 : BitVec 32) (k0_t4 : Fin (k0_t4_loop v1_0).trips) (v3645 : BitVec 32) (v3648 : BitVec 32) : Fin 3 → Nat :=
  let c0_i32_13 : BitVec 32 := 0#32
  let c1_i32_16 : BitVec 32 := 1#32
  let arg22 : BitVec 32 := Scf.iv c0_i32_13 c1_i32_16 k0_t4
  let c1_i32_1574 : BitVec 32 := 1#32
  let v3643 : BitVec 32 := Scalar.subi arg22 c1_i32_1574
  let c1_i32_1575 : BitVec 32 := 1#32
  let v3646 : BitVec 32 := Scalar.andi v3643 c1_i32_1575
  let v3649 : BitVec 32 := Scalar.subi v3648 v3645
  let c16_i32_1576 : BitVec 32 := 16#32
  let v3650 : BitVec 32 := Scalar.addi v3649 c16_i32_1576
  let c1_i32_1577 : BitVec 32 := 1#32
  let v3651 : BitVec 32 := Scalar.subi v3650 c1_i32_1577
  let c_m16_i32_1578 : BitVec 32 := 4294967280#32
  let v3652 : BitVec 32 := Scalar.andi v3651 c_m16_i32_1578
  let c_m32_i32_1595 : BitVec 32 := 4294967264#32
  let v3685 : BitVec 32 := Scalar.andi v3652 c_m32_i32_1595
  let v3686 : BitVec 32 := v3685
  let c0_i32_1600 : BitVec 32 := 0#32
  ![v3646.toNat, v3686.toNat, 0]

def k0_chk16 (v1_0 : BitVec 32) (k0_t4 : Fin (k0_t4_loop v1_0).trips) (v3645 : BitVec 32) (v3648 : BitVec 32) : Prop :=
  (∀ (k0_h4 : k0_cond4 v1_0 k0_t4 = 1#1), 16 ∣ (k0_mult391 v3645 v3648).toNat) ∧
  (∀ (k0_h4 : k0_cond4 v1_0 k0_t4 = 1#1), 16 ∣ (k0_mult392 v3645 v3648).toNat) ∧
  (∀ (k0_h4 : k0_cond4 v1_0 k0_t4 = 1#1), ∀ (k0_h5 : k0_cond5 v3645 v3648 = 1#1), ∀ a, (k0_off55 v3645 v3648) a + S256x1536.size a ≤ S12288x1536.size a) ∧
  (∀ (k0_h4 : k0_cond4 v1_0 k0_t4 = 1#1), ∀ (k0_h5 : k0_cond5 v3645 v3648 = 1#1), ∀ a, (k0_off56 v1_0 k0_t4 v3645 v3648) a + S1x256x1536.size a ≤ S2x256x1536.size a) ∧
  (∀ (k0_h4 : k0_cond4 v1_0 k0_t4 = 1#1), ∀ (k0_h5 : k0_cond5 v3645 v3648 = 1#1), ∀ (hinb : ∀ a, (k0_off56 v1_0 k0_t4 v3645 v3648) a + S1x256x1536.size a ≤ S2x256x1536.size a), (Rect.unit (s := S2x256x1536) (k0_off56 v1_0 k0_t4 v3645 v3648) S1x256x1536.size hinb).WholeWords (EltTy.packing .bf16)) ∧
  (∀ (k0_h4 : k0_cond4 v1_0 k0_t4 = 1#1), ∀ (k0_h5 : k0_cond5 v3645 v3648 = 1#1), ∀ (hinb : ∀ a, (k0_off55 v3645 v3648) a + S256x1536.size a ≤ S12288x1536.size a), (Rect.unit (s := S12288x1536) (k0_off55 v3645 v3648) S256x1536.size hinb).WholeWords (EltTy.packing .bf16)) ∧
  (∀ (k0_h4 : k0_cond4 v1_0 k0_t4 = 1#1), 16 ∣ (k0_mult393 v3645 v3648).toNat) ∧
  (∀ (k0_h4 : k0_cond4 v1_0 k0_t4 = 1#1), 16 ∣ (k0_mult394 v3645 v3648).toNat) ∧
  (∀ (k0_h4 : k0_cond4 v1_0 k0_t4 = 1#1), ∀ (k0_h6 : k0_cond6 v3645 v3648 = 1#1), ∀ a, (k0_off57 v3645 v3648) a + S128x1536.size a ≤ S12288x1536.size a) ∧
  (∀ (k0_h4 : k0_cond4 v1_0 k0_t4 = 1#1), ∀ (k0_h6 : k0_cond6 v3645 v3648 = 1#1), ∀ a, (k0_off58 v1_0 k0_t4 v3645 v3648) a + S1x128x1536.size a ≤ S2x256x1536.size a) ∧
  (∀ (k0_h4 : k0_cond4 v1_0 k0_t4 = 1#1), ∀ (k0_h6 : k0_cond6 v3645 v3648 = 1#1), ∀ (hinb : ∀ a, (k0_off58 v1_0 k0_t4 v3645 v3648) a + S1x128x1536.size a ≤ S2x256x1536.size a), (Rect.unit (s := S2x256x1536) (k0_off58 v1_0 k0_t4 v3645 v3648) S1x128x1536.size hinb).WholeWords (EltTy.packing .bf16)) ∧
  (∀ (k0_h4 : k0_cond4 v1_0 k0_t4 = 1#1), ∀ (k0_h6 : k0_cond6 v3645 v3648 = 1#1), ∀ (hinb : ∀ a, (k0_off57 v3645 v3648) a + S128x1536.size a ≤ S12288x1536.size a), (Rect.unit (s := S12288x1536) (k0_off57 v3645 v3648) S128x1536.size hinb).WholeWords (EltTy.packing .bf16)) ∧
  (∀ (k0_h4 : k0_cond4 v1_0 k0_t4 = 1#1), 16 ∣ (k0_mult395 v3645 v3648).toNat) ∧
  (∀ (k0_h4 : k0_cond4 v1_0 k0_t4 = 1#1), 16 ∣ (k0_mult396 v3645 v3648).toNat) ∧
  (∀ (k0_h4 : k0_cond4 v1_0 k0_t4 = 1#1), ∀ (k0_h7 : k0_cond7 v3645 v3648 = 1#1), ∀ a, (k0_off59 v3645 v3648) a + S64x1536.size a ≤ S12288x1536.size a) ∧
  (∀ (k0_h4 : k0_cond4 v1_0 k0_t4 = 1#1), ∀ (k0_h7 : k0_cond7 v3645 v3648 = 1#1), ∀ a, (k0_off60 v1_0 k0_t4 v3645 v3648) a + S1x64x1536.size a ≤ S2x256x1536.size a) ∧
  (∀ (k0_h4 : k0_cond4 v1_0 k0_t4 = 1#1), ∀ (k0_h7 : k0_cond7 v3645 v3648 = 1#1), ∀ (hinb : ∀ a, (k0_off60 v1_0 k0_t4 v3645 v3648) a + S1x64x1536.size a ≤ S2x256x1536.size a), (Rect.unit (s := S2x256x1536) (k0_off60 v1_0 k0_t4 v3645 v3648) S1x64x1536.size hinb).WholeWords (EltTy.packing .bf16)) ∧
  (∀ (k0_h4 : k0_cond4 v1_0 k0_t4 = 1#1), ∀ (k0_h7 : k0_cond7 v3645 v3648 = 1#1), ∀ (hinb : ∀ a, (k0_off59 v3645 v3648) a + S64x1536.size a ≤ S12288x1536.size a), (Rect.unit (s := S12288x1536) (k0_off59 v3645 v3648) S64x1536.size hinb).WholeWords (EltTy.packing .bf16)) ∧
  (∀ (k0_h4 : k0_cond4 v1_0 k0_t4 = 1#1), 16 ∣ (k0_mult397 v3645 v3648).toNat) ∧
  (∀ (k0_h4 : k0_cond4 v1_0 k0_t4 = 1#1), 16 ∣ (k0_mult398 v3645 v3648).toNat) ∧
  (∀ (k0_h4 : k0_cond4 v1_0 k0_t4 = 1#1), ∀ (k0_h8 : k0_cond8 v3645 v3648 = 1#1), ∀ a, (k0_off61 v3645 v3648) a + S32x1536.size a ≤ S12288x1536.size a) ∧
  (∀ (k0_h4 : k0_cond4 v1_0 k0_t4 = 1#1), ∀ (k0_h8 : k0_cond8 v3645 v3648 = 1#1), ∀ a, (k0_off62 v1_0 k0_t4 v3645 v3648) a + S1x32x1536.size a ≤ S2x256x1536.size a) ∧
  (∀ (k0_h4 : k0_cond4 v1_0 k0_t4 = 1#1), ∀ (k0_h8 : k0_cond8 v3645 v3648 = 1#1), ∀ (hinb : ∀ a, (k0_off62 v1_0 k0_t4 v3645 v3648) a + S1x32x1536.size a ≤ S2x256x1536.size a), (Rect.unit (s := S2x256x1536) (k0_off62 v1_0 k0_t4 v3645 v3648) S1x32x1536.size hinb).WholeWords (EltTy.packing .bf16)) ∧
  (∀ (k0_h4 : k0_cond4 v1_0 k0_t4 = 1#1), ∀ (k0_h8 : k0_cond8 v3645 v3648 = 1#1), ∀ (hinb : ∀ a, (k0_off61 v3645 v3648) a + S32x1536.size a ≤ S12288x1536.size a), (Rect.unit (s := S12288x1536) (k0_off61 v3645 v3648) S32x1536.size hinb).WholeWords (EltTy.packing .bf16)) ∧
  (∀ (k0_h4 : k0_cond4 v1_0 k0_t4 = 1#1), 16 ∣ (k0_mult399 v3645 v3648).toNat) ∧
  (∀ (k0_h4 : k0_cond4 v1_0 k0_t4 = 1#1), 16 ∣ (k0_mult400 v3645 v3648).toNat) ∧
  (∀ (k0_h4 : k0_cond4 v1_0 k0_t4 = 1#1), ∀ (k0_h9 : k0_cond9 v3645 v3648 = 1#1), ∀ a, (k0_off63 v3645 v3648) a + S16x1536.size a ≤ S12288x1536.size a) ∧
  (∀ (k0_h4 : k0_cond4 v1_0 k0_t4 = 1#1), ∀ (k0_h9 : k0_cond9 v3645 v3648 = 1#1), ∀ a, (k0_off64 v1_0 k0_t4 v3645 v3648) a + S1x16x1536.size a ≤ S2x256x1536.size a) ∧
  (∀ (k0_h4 : k0_cond4 v1_0 k0_t4 = 1#1), ∀ (k0_h9 : k0_cond9 v3645 v3648 = 1#1), ∀ (hinb : ∀ a, (k0_off64 v1_0 k0_t4 v3645 v3648) a + S1x16x1536.size a ≤ S2x256x1536.size a), (Rect.unit (s := S2x256x1536) (k0_off64 v1_0 k0_t4 v3645 v3648) S1x16x1536.size hinb).WholeWords (EltTy.packing .bf16)) ∧
  (∀ (k0_h4 : k0_cond4 v1_0 k0_t4 = 1#1), ∀ (k0_h9 : k0_cond9 v3645 v3648 = 1#1), ∀ (hinb : ∀ a, (k0_off63 v3645 v3648) a + S16x1536.size a ≤ S12288x1536.size a), (Rect.unit (s := S12288x1536) (k0_off63 v3645 v3648) S16x1536.size hinb).WholeWords (EltTy.packing .bf16))
theorem k0_mult391_dvd : ∀ (v1_0 : BitVec 32) (k0_t4 : Fin (k0_t4_loop v1_0).trips) (v3645 : BitVec 32) (v3648 : BitVec 32) (k0_hw16 : k0_chk16 v1_0 k0_t4 v3645 v3648), ∀ (k0_h4 : k0_cond4 v1_0 k0_t4 = 1#1), 16 ∣ (k0_mult391 v3645 v3648).toNat := fun v1_0 k0_t4 v3645 v3648 k0_hw16 k0_h4 => k0_hw16.1 k0_h4
theorem k0_mult392_dvd : ∀ (v1_0 : BitVec 32) (k0_t4 : Fin (k0_t4_loop v1_0).trips) (v3645 : BitVec 32) (v3648 : BitVec 32) (k0_hw16 : k0_chk16 v1_0 k0_t4 v3645 v3648), ∀ (k0_h4 : k0_cond4 v1_0 k0_t4 = 1#1), 16 ∣ (k0_mult392 v3645 v3648).toNat := fun v1_0 k0_t4 v3645 v3648 k0_hw16 k0_h4 => k0_hw16.2.1 k0_h4
theorem k0_off55_inb : ∀ (v1_0 : BitVec 32) (k0_t4 : Fin (k0_t4_loop v1_0).trips) (v3645 : BitVec 32) (v3648 : BitVec 32) (k0_hw16 : k0_chk16 v1_0 k0_t4 v3645 v3648), ∀ (k0_h4 : k0_cond4 v1_0 k0_t4 = 1#1), ∀ (k0_h5 : k0_cond5 v3645 v3648 = 1#1), ∀ a, (k0_off55 v3645 v3648) a + S256x1536.size a ≤ S12288x1536.size a := fun v1_0 k0_t4 v3645 v3648 k0_hw16 k0_h4 k0_h5 => k0_hw16.2.2.1 k0_h4 k0_h5
theorem k0_off56_inb : ∀ (v1_0 : BitVec 32) (k0_t4 : Fin (k0_t4_loop v1_0).trips) (v3645 : BitVec 32) (v3648 : BitVec 32) (k0_hw16 : k0_chk16 v1_0 k0_t4 v3645 v3648), ∀ (k0_h4 : k0_cond4 v1_0 k0_t4 = 1#1), ∀ (k0_h5 : k0_cond5 v3645 v3648 = 1#1), ∀ a, (k0_off56 v1_0 k0_t4 v3645 v3648) a + S1x256x1536.size a ≤ S2x256x1536.size a := fun v1_0 k0_t4 v3645 v3648 k0_hw16 k0_h4 k0_h5 => k0_hw16.2.2.2.1 k0_h4 k0_h5
theorem k0_off56_wordsbf16 : ∀ (v1_0 : BitVec 32) (k0_t4 : Fin (k0_t4_loop v1_0).trips) (v3645 : BitVec 32) (v3648 : BitVec 32) (k0_hw16 : k0_chk16 v1_0 k0_t4 v3645 v3648), ∀ (k0_h4 : k0_cond4 v1_0 k0_t4 = 1#1), ∀ (k0_h5 : k0_cond5 v3645 v3648 = 1#1), (Rect.unit (s := S2x256x1536) (k0_off56 v1_0 k0_t4 v3645 v3648) S1x256x1536.size (k0_off56_inb v1_0 k0_t4 v3645 v3648 k0_hw16 k0_h4 k0_h5)).WholeWords (EltTy.packing .bf16) := fun v1_0 k0_t4 v3645 v3648 k0_hw16 k0_h4 k0_h5 => k0_hw16.2.2.2.2.1 k0_h4 k0_h5 (k0_off56_inb v1_0 k0_t4 v3645 v3648 k0_hw16 k0_h4 k0_h5)
theorem k0_off55_wordsbf16 : ∀ (v1_0 : BitVec 32) (k0_t4 : Fin (k0_t4_loop v1_0).trips) (v3645 : BitVec 32) (v3648 : BitVec 32) (k0_hw16 : k0_chk16 v1_0 k0_t4 v3645 v3648), ∀ (k0_h4 : k0_cond4 v1_0 k0_t4 = 1#1), ∀ (k0_h5 : k0_cond5 v3645 v3648 = 1#1), (Rect.unit (s := S12288x1536) (k0_off55 v3645 v3648) S256x1536.size (k0_off55_inb v1_0 k0_t4 v3645 v3648 k0_hw16 k0_h4 k0_h5)).WholeWords (EltTy.packing .bf16) := fun v1_0 k0_t4 v3645 v3648 k0_hw16 k0_h4 k0_h5 => k0_hw16.2.2.2.2.2.1 k0_h4 k0_h5 (k0_off55_inb v1_0 k0_t4 v3645 v3648 k0_hw16 k0_h4 k0_h5)
theorem k0_mult393_dvd : ∀ (v1_0 : BitVec 32) (k0_t4 : Fin (k0_t4_loop v1_0).trips) (v3645 : BitVec 32) (v3648 : BitVec 32) (k0_hw16 : k0_chk16 v1_0 k0_t4 v3645 v3648), ∀ (k0_h4 : k0_cond4 v1_0 k0_t4 = 1#1), 16 ∣ (k0_mult393 v3645 v3648).toNat := fun v1_0 k0_t4 v3645 v3648 k0_hw16 k0_h4 => k0_hw16.2.2.2.2.2.2.1 k0_h4
theorem k0_mult394_dvd : ∀ (v1_0 : BitVec 32) (k0_t4 : Fin (k0_t4_loop v1_0).trips) (v3645 : BitVec 32) (v3648 : BitVec 32) (k0_hw16 : k0_chk16 v1_0 k0_t4 v3645 v3648), ∀ (k0_h4 : k0_cond4 v1_0 k0_t4 = 1#1), 16 ∣ (k0_mult394 v3645 v3648).toNat := fun v1_0 k0_t4 v3645 v3648 k0_hw16 k0_h4 => k0_hw16.2.2.2.2.2.2.2.1 k0_h4
theorem k0_off57_inb : ∀ (v1_0 : BitVec 32) (k0_t4 : Fin (k0_t4_loop v1_0).trips) (v3645 : BitVec 32) (v3648 : BitVec 32) (k0_hw16 : k0_chk16 v1_0 k0_t4 v3645 v3648), ∀ (k0_h4 : k0_cond4 v1_0 k0_t4 = 1#1), ∀ (k0_h6 : k0_cond6 v3645 v3648 = 1#1), ∀ a, (k0_off57 v3645 v3648) a + S128x1536.size a ≤ S12288x1536.size a := fun v1_0 k0_t4 v3645 v3648 k0_hw16 k0_h4 k0_h6 => k0_hw16.2.2.2.2.2.2.2.2.1 k0_h4 k0_h6
theorem k0_off58_inb : ∀ (v1_0 : BitVec 32) (k0_t4 : Fin (k0_t4_loop v1_0).trips) (v3645 : BitVec 32) (v3648 : BitVec 32) (k0_hw16 : k0_chk16 v1_0 k0_t4 v3645 v3648), ∀ (k0_h4 : k0_cond4 v1_0 k0_t4 = 1#1), ∀ (k0_h6 : k0_cond6 v3645 v3648 = 1#1), ∀ a, (k0_off58 v1_0 k0_t4 v3645 v3648) a + S1x128x1536.size a ≤ S2x256x1536.size a := fun v1_0 k0_t4 v3645 v3648 k0_hw16 k0_h4 k0_h6 => k0_hw16.2.2.2.2.2.2.2.2.2.1 k0_h4 k0_h6
theorem k0_off58_wordsbf16 : ∀ (v1_0 : BitVec 32) (k0_t4 : Fin (k0_t4_loop v1_0).trips) (v3645 : BitVec 32) (v3648 : BitVec 32) (k0_hw16 : k0_chk16 v1_0 k0_t4 v3645 v3648), ∀ (k0_h4 : k0_cond4 v1_0 k0_t4 = 1#1), ∀ (k0_h6 : k0_cond6 v3645 v3648 = 1#1), (Rect.unit (s := S2x256x1536) (k0_off58 v1_0 k0_t4 v3645 v3648) S1x128x1536.size (k0_off58_inb v1_0 k0_t4 v3645 v3648 k0_hw16 k0_h4 k0_h6)).WholeWords (EltTy.packing .bf16) := fun v1_0 k0_t4 v3645 v3648 k0_hw16 k0_h4 k0_h6 => k0_hw16.2.2.2.2.2.2.2.2.2.2.1 k0_h4 k0_h6 (k0_off58_inb v1_0 k0_t4 v3645 v3648 k0_hw16 k0_h4 k0_h6)
theorem k0_off57_wordsbf16 : ∀ (v1_0 : BitVec 32) (k0_t4 : Fin (k0_t4_loop v1_0).trips) (v3645 : BitVec 32) (v3648 : BitVec 32) (k0_hw16 : k0_chk16 v1_0 k0_t4 v3645 v3648), ∀ (k0_h4 : k0_cond4 v1_0 k0_t4 = 1#1), ∀ (k0_h6 : k0_cond6 v3645 v3648 = 1#1), (Rect.unit (s := S12288x1536) (k0_off57 v3645 v3648) S128x1536.size (k0_off57_inb v1_0 k0_t4 v3645 v3648 k0_hw16 k0_h4 k0_h6)).WholeWords (EltTy.packing .bf16) := fun v1_0 k0_t4 v3645 v3648 k0_hw16 k0_h4 k0_h6 => k0_hw16.2.2.2.2.2.2.2.2.2.2.2.1 k0_h4 k0_h6 (k0_off57_inb v1_0 k0_t4 v3645 v3648 k0_hw16 k0_h4 k0_h6)
theorem k0_mult395_dvd : ∀ (v1_0 : BitVec 32) (k0_t4 : Fin (k0_t4_loop v1_0).trips) (v3645 : BitVec 32) (v3648 : BitVec 32) (k0_hw16 : k0_chk16 v1_0 k0_t4 v3645 v3648), ∀ (k0_h4 : k0_cond4 v1_0 k0_t4 = 1#1), 16 ∣ (k0_mult395 v3645 v3648).toNat := fun v1_0 k0_t4 v3645 v3648 k0_hw16 k0_h4 => k0_hw16.2.2.2.2.2.2.2.2.2.2.2.2.1 k0_h4
theorem k0_mult396_dvd : ∀ (v1_0 : BitVec 32) (k0_t4 : Fin (k0_t4_loop v1_0).trips) (v3645 : BitVec 32) (v3648 : BitVec 32) (k0_hw16 : k0_chk16 v1_0 k0_t4 v3645 v3648), ∀ (k0_h4 : k0_cond4 v1_0 k0_t4 = 1#1), 16 ∣ (k0_mult396 v3645 v3648).toNat := fun v1_0 k0_t4 v3645 v3648 k0_hw16 k0_h4 => k0_hw16.2.2.2.2.2.2.2.2.2.2.2.2.2.1 k0_h4
theorem k0_off59_inb : ∀ (v1_0 : BitVec 32) (k0_t4 : Fin (k0_t4_loop v1_0).trips) (v3645 : BitVec 32) (v3648 : BitVec 32) (k0_hw16 : k0_chk16 v1_0 k0_t4 v3645 v3648), ∀ (k0_h4 : k0_cond4 v1_0 k0_t4 = 1#1), ∀ (k0_h7 : k0_cond7 v3645 v3648 = 1#1), ∀ a, (k0_off59 v3645 v3648) a + S64x1536.size a ≤ S12288x1536.size a := fun v1_0 k0_t4 v3645 v3648 k0_hw16 k0_h4 k0_h7 => k0_hw16.2.2.2.2.2.2.2.2.2.2.2.2.2.2.1 k0_h4 k0_h7
theorem k0_off60_inb : ∀ (v1_0 : BitVec 32) (k0_t4 : Fin (k0_t4_loop v1_0).trips) (v3645 : BitVec 32) (v3648 : BitVec 32) (k0_hw16 : k0_chk16 v1_0 k0_t4 v3645 v3648), ∀ (k0_h4 : k0_cond4 v1_0 k0_t4 = 1#1), ∀ (k0_h7 : k0_cond7 v3645 v3648 = 1#1), ∀ a, (k0_off60 v1_0 k0_t4 v3645 v3648) a + S1x64x1536.size a ≤ S2x256x1536.size a := fun v1_0 k0_t4 v3645 v3648 k0_hw16 k0_h4 k0_h7 => k0_hw16.2.2.2.2.2.2.2.2.2.2.2.2.2.2.2.1 k0_h4 k0_h7
theorem k0_off60_wordsbf16 : ∀ (v1_0 : BitVec 32) (k0_t4 : Fin (k0_t4_loop v1_0).trips) (v3645 : BitVec 32) (v3648 : BitVec 32) (k0_hw16 : k0_chk16 v1_0 k0_t4 v3645 v3648), ∀ (k0_h4 : k0_cond4 v1_0 k0_t4 = 1#1), ∀ (k0_h7 : k0_cond7 v3645 v3648 = 1#1), (Rect.unit (s := S2x256x1536) (k0_off60 v1_0 k0_t4 v3645 v3648) S1x64x1536.size (k0_off60_inb v1_0 k0_t4 v3645 v3648 k0_hw16 k0_h4 k0_h7)).WholeWords (EltTy.packing .bf16) := fun v1_0 k0_t4 v3645 v3648 k0_hw16 k0_h4 k0_h7 => k0_hw16.2.2.2.2.2.2.2.2.2.2.2.2.2.2.2.2.1 k0_h4 k0_h7 (k0_off60_inb v1_0 k0_t4 v3645 v3648 k0_hw16 k0_h4 k0_h7)
theorem k0_off59_wordsbf16 : ∀ (v1_0 : BitVec 32) (k0_t4 : Fin (k0_t4_loop v1_0).trips) (v3645 : BitVec 32) (v3648 : BitVec 32) (k0_hw16 : k0_chk16 v1_0 k0_t4 v3645 v3648), ∀ (k0_h4 : k0_cond4 v1_0 k0_t4 = 1#1), ∀ (k0_h7 : k0_cond7 v3645 v3648 = 1#1), (Rect.unit (s := S12288x1536) (k0_off59 v3645 v3648) S64x1536.size (k0_off59_inb v1_0 k0_t4 v3645 v3648 k0_hw16 k0_h4 k0_h7)).WholeWords (EltTy.packing .bf16) := fun v1_0 k0_t4 v3645 v3648 k0_hw16 k0_h4 k0_h7 => k0_hw16.2.2.2.2.2.2.2.2.2.2.2.2.2.2.2.2.2.1 k0_h4 k0_h7 (k0_off59_inb v1_0 k0_t4 v3645 v3648 k0_hw16 k0_h4 k0_h7)
theorem k0_mult397_dvd : ∀ (v1_0 : BitVec 32) (k0_t4 : Fin (k0_t4_loop v1_0).trips) (v3645 : BitVec 32) (v3648 : BitVec 32) (k0_hw16 : k0_chk16 v1_0 k0_t4 v3645 v3648), ∀ (k0_h4 : k0_cond4 v1_0 k0_t4 = 1#1), 16 ∣ (k0_mult397 v3645 v3648).toNat := fun v1_0 k0_t4 v3645 v3648 k0_hw16 k0_h4 => k0_hw16.2.2.2.2.2.2.2.2.2.2.2.2.2.2.2.2.2.2.1 k0_h4
theorem k0_mult398_dvd : ∀ (v1_0 : BitVec 32) (k0_t4 : Fin (k0_t4_loop v1_0).trips) (v3645 : BitVec 32) (v3648 : BitVec 32) (k0_hw16 : k0_chk16 v1_0 k0_t4 v3645 v3648), ∀ (k0_h4 : k0_cond4 v1_0 k0_t4 = 1#1), 16 ∣ (k0_mult398 v3645 v3648).toNat := fun v1_0 k0_t4 v3645 v3648 k0_hw16 k0_h4 => k0_hw16.2.2.2.2.2.2.2.2.2.2.2.2.2.2.2.2.2.2.2.1 k0_h4
theorem k0_off61_inb : ∀ (v1_0 : BitVec 32) (k0_t4 : Fin (k0_t4_loop v1_0).trips) (v3645 : BitVec 32) (v3648 : BitVec 32) (k0_hw16 : k0_chk16 v1_0 k0_t4 v3645 v3648), ∀ (k0_h4 : k0_cond4 v1_0 k0_t4 = 1#1), ∀ (k0_h8 : k0_cond8 v3645 v3648 = 1#1), ∀ a, (k0_off61 v3645 v3648) a + S32x1536.size a ≤ S12288x1536.size a := fun v1_0 k0_t4 v3645 v3648 k0_hw16 k0_h4 k0_h8 => k0_hw16.2.2.2.2.2.2.2.2.2.2.2.2.2.2.2.2.2.2.2.2.1 k0_h4 k0_h8
theorem k0_off62_inb : ∀ (v1_0 : BitVec 32) (k0_t4 : Fin (k0_t4_loop v1_0).trips) (v3645 : BitVec 32) (v3648 : BitVec 32) (k0_hw16 : k0_chk16 v1_0 k0_t4 v3645 v3648), ∀ (k0_h4 : k0_cond4 v1_0 k0_t4 = 1#1), ∀ (k0_h8 : k0_cond8 v3645 v3648 = 1#1), ∀ a, (k0_off62 v1_0 k0_t4 v3645 v3648) a + S1x32x1536.size a ≤ S2x256x1536.size a := fun v1_0 k0_t4 v3645 v3648 k0_hw16 k0_h4 k0_h8 => k0_hw16.2.2.2.2.2.2.2.2.2.2.2.2.2.2.2.2.2.2.2.2.2.1 k0_h4 k0_h8
theorem k0_off62_wordsbf16 : ∀ (v1_0 : BitVec 32) (k0_t4 : Fin (k0_t4_loop v1_0).trips) (v3645 : BitVec 32) (v3648 : BitVec 32) (k0_hw16 : k0_chk16 v1_0 k0_t4 v3645 v3648), ∀ (k0_h4 : k0_cond4 v1_0 k0_t4 = 1#1), ∀ (k0_h8 : k0_cond8 v3645 v3648 = 1#1), (Rect.unit (s := S2x256x1536) (k0_off62 v1_0 k0_t4 v3645 v3648) S1x32x1536.size (k0_off62_inb v1_0 k0_t4 v3645 v3648 k0_hw16 k0_h4 k0_h8)).WholeWords (EltTy.packing .bf16) := fun v1_0 k0_t4 v3645 v3648 k0_hw16 k0_h4 k0_h8 => k0_hw16.2.2.2.2.2.2.2.2.2.2.2.2.2.2.2.2.2.2.2.2.2.2.1 k0_h4 k0_h8 (k0_off62_inb v1_0 k0_t4 v3645 v3648 k0_hw16 k0_h4 k0_h8)
theorem k0_off61_wordsbf16 : ∀ (v1_0 : BitVec 32) (k0_t4 : Fin (k0_t4_loop v1_0).trips) (v3645 : BitVec 32) (v3648 : BitVec 32) (k0_hw16 : k0_chk16 v1_0 k0_t4 v3645 v3648), ∀ (k0_h4 : k0_cond4 v1_0 k0_t4 = 1#1), ∀ (k0_h8 : k0_cond8 v3645 v3648 = 1#1), (Rect.unit (s := S12288x1536) (k0_off61 v3645 v3648) S32x1536.size (k0_off61_inb v1_0 k0_t4 v3645 v3648 k0_hw16 k0_h4 k0_h8)).WholeWords (EltTy.packing .bf16) := fun v1_0 k0_t4 v3645 v3648 k0_hw16 k0_h4 k0_h8 => k0_hw16.2.2.2.2.2.2.2.2.2.2.2.2.2.2.2.2.2.2.2.2.2.2.2.1 k0_h4 k0_h8 (k0_off61_inb v1_0 k0_t4 v3645 v3648 k0_hw16 k0_h4 k0_h8)
theorem k0_mult399_dvd : ∀ (v1_0 : BitVec 32) (k0_t4 : Fin (k0_t4_loop v1_0).trips) (v3645 : BitVec 32) (v3648 : BitVec 32) (k0_hw16 : k0_chk16 v1_0 k0_t4 v3645 v3648), ∀ (k0_h4 : k0_cond4 v1_0 k0_t4 = 1#1), 16 ∣ (k0_mult399 v3645 v3648).toNat := fun v1_0 k0_t4 v3645 v3648 k0_hw16 k0_h4 => k0_hw16.2.2.2.2.2.2.2.2.2.2.2.2.2.2.2.2.2.2.2.2.2.2.2.2.1 k0_h4
theorem k0_mult400_dvd : ∀ (v1_0 : BitVec 32) (k0_t4 : Fin (k0_t4_loop v1_0).trips) (v3645 : BitVec 32) (v3648 : BitVec 32) (k0_hw16 : k0_chk16 v1_0 k0_t4 v3645 v3648), ∀ (k0_h4 : k0_cond4 v1_0 k0_t4 = 1#1), 16 ∣ (k0_mult400 v3645 v3648).toNat := fun v1_0 k0_t4 v3645 v3648 k0_hw16 k0_h4 => k0_hw16.2.2.2.2.2.2.2.2.2.2.2.2.2.2.2.2.2.2.2.2.2.2.2.2.2.1 k0_h4
theorem k0_off63_inb : ∀ (v1_0 : BitVec 32) (k0_t4 : Fin (k0_t4_loop v1_0).trips) (v3645 : BitVec 32) (v3648 : BitVec 32) (k0_hw16 : k0_chk16 v1_0 k0_t4 v3645 v3648), ∀ (k0_h4 : k0_cond4 v1_0 k0_t4 = 1#1), ∀ (k0_h9 : k0_cond9 v3645 v3648 = 1#1), ∀ a, (k0_off63 v3645 v3648) a + S16x1536.size a ≤ S12288x1536.size a := fun v1_0 k0_t4 v3645 v3648 k0_hw16 k0_h4 k0_h9 => k0_hw16.2.2.2.2.2.2.2.2.2.2.2.2.2.2.2.2.2.2.2.2.2.2.2.2.2.2.1 k0_h4 k0_h9
theorem k0_off64_inb : ∀ (v1_0 : BitVec 32) (k0_t4 : Fin (k0_t4_loop v1_0).trips) (v3645 : BitVec 32) (v3648 : BitVec 32) (k0_hw16 : k0_chk16 v1_0 k0_t4 v3645 v3648), ∀ (k0_h4 : k0_cond4 v1_0 k0_t4 = 1#1), ∀ (k0_h9 : k0_cond9 v3645 v3648 = 1#1), ∀ a, (k0_off64 v1_0 k0_t4 v3645 v3648) a + S1x16x1536.size a ≤ S2x256x1536.size a := fun v1_0 k0_t4 v3645 v3648 k0_hw16 k0_h4 k0_h9 => k0_hw16.2.2.2.2.2.2.2.2.2.2.2.2.2.2.2.2.2.2.2.2.2.2.2.2.2.2.2.1 k0_h4 k0_h9
theorem k0_off64_wordsbf16 : ∀ (v1_0 : BitVec 32) (k0_t4 : Fin (k0_t4_loop v1_0).trips) (v3645 : BitVec 32) (v3648 : BitVec 32) (k0_hw16 : k0_chk16 v1_0 k0_t4 v3645 v3648), ∀ (k0_h4 : k0_cond4 v1_0 k0_t4 = 1#1), ∀ (k0_h9 : k0_cond9 v3645 v3648 = 1#1), (Rect.unit (s := S2x256x1536) (k0_off64 v1_0 k0_t4 v3645 v3648) S1x16x1536.size (k0_off64_inb v1_0 k0_t4 v3645 v3648 k0_hw16 k0_h4 k0_h9)).WholeWords (EltTy.packing .bf16) := fun v1_0 k0_t4 v3645 v3648 k0_hw16 k0_h4 k0_h9 => k0_hw16.2.2.2.2.2.2.2.2.2.2.2.2.2.2.2.2.2.2.2.2.2.2.2.2.2.2.2.2.1 k0_h4 k0_h9 (k0_off64_inb v1_0 k0_t4 v3645 v3648 k0_hw16 k0_h4 k0_h9)
theorem k0_off63_wordsbf16 : ∀ (v1_0 : BitVec 32) (k0_t4 : Fin (k0_t4_loop v1_0).trips) (v3645 : BitVec 32) (v3648 : BitVec 32) (k0_hw16 : k0_chk16 v1_0 k0_t4 v3645 v3648), ∀ (k0_h4 : k0_cond4 v1_0 k0_t4 = 1#1), ∀ (k0_h9 : k0_cond9 v3645 v3648 = 1#1), (Rect.unit (s := S12288x1536) (k0_off63 v3645 v3648) S16x1536.size (k0_off63_inb v1_0 k0_t4 v3645 v3648 k0_hw16 k0_h4 k0_h9)).WholeWords (EltTy.packing .bf16) := fun v1_0 k0_t4 v3645 v3648 k0_hw16 k0_h4 k0_h9 => k0_hw16.2.2.2.2.2.2.2.2.2.2.2.2.2.2.2.2.2.2.2.2.2.2.2.2.2.2.2.2.2 k0_h4 k0_h9 (k0_off63_inb v1_0 k0_t4 v3645 v3648 k0_hw16 k0_h4 k0_h9)

def k0_off65 (v1_0 : BitVec 32) (k0_t4 : Fin (k0_t4_loop v1_0).trips) : Fin 1 → Nat :=
  let c0_i32_13 : BitVec 32 := 0#32
  let c1_i32_16 : BitVec 32 := 1#32
  let arg22 : BitVec 32 := Scf.iv c0_i32_13 c1_i32_16 k0_t4
  let v3594 : Index := Scalar.indexCast arg22
  ![v3594.toNat]
def k0_mult401 (v3595 : BitVec 32) (v3598 : BitVec 32) : BitVec 32 :=
  let v3599 : BitVec 32 := Scalar.subi v3598 v3595
  let c16_i32_1550 : BitVec 32 := 16#32
  let v3600 : BitVec 32 := Scalar.addi v3599 c16_i32_1550
  let c1_i32_1551 : BitVec 32 := 1#32
  let v3601 : BitVec 32 := Scalar.subi v3600 c1_i32_1551
  let c_m16_i32_1552 : BitVec 32 := 4294967280#32
  let v3602 : BitVec 32 := Scalar.andi v3601 c_m16_i32_1552
  let c_m512_i32_1553 : BitVec 32 := 4294966784#32
  let v3603 : BitVec 32 := Scalar.andi v3602 c_m512_i32_1553
  v3603

def k0_mult402 (v3595 : BitVec 32) (v3598 : BitVec 32) : BitVec 32 :=
  let v3599 : BitVec 32 := Scalar.subi v3598 v3595
  let c16_i32_1550 : BitVec 32 := 16#32
  let v3600 : BitVec 32 := Scalar.addi v3599 c16_i32_1550
  let c1_i32_1551 : BitVec 32 := 1#32
  let v3601 : BitVec 32 := Scalar.subi v3600 c1_i32_1551
  let c_m16_i32_1552 : BitVec 32 := 4294967280#32
  let v3602 : BitVec 32 := Scalar.andi v3601 c_m16_i32_1552
  let c_m512_i32_1553 : BitVec 32 := 4294966784#32
  let v3603 : BitVec 32 := Scalar.andi v3602 c_m512_i32_1553
  let v3604 : BitVec 32 := v3603
  let v3605 : BitVec 32 := Scalar.addi v3595 v3604
  v3605
def k0_off66 (v3595 : BitVec 32) (v3598 : BitVec 32) : Fin 2 → Nat :=
  let v3599 : BitVec 32 := Scalar.subi v3598 v3595
  let c16_i32_1550 : BitVec 32 := 16#32
  let v3600 : BitVec 32 := Scalar.addi v3599 c16_i32_1550
  let c1_i32_1551 : BitVec 32 := 1#32
  let v3601 : BitVec 32 := Scalar.subi v3600 c1_i32_1551
  let c_m16_i32_1552 : BitVec 32 := 4294967280#32
  let v3602 : BitVec 32 := Scalar.andi v3601 c_m16_i32_1552
  let c_m512_i32_1553 : BitVec 32 := 4294966784#32
  let v3603 : BitVec 32 := Scalar.andi v3602 c_m512_i32_1553
  let v3604 : BitVec 32 := v3603
  let v3605 : BitVec 32 := Scalar.addi v3595 v3604
  let v3606 : BitVec 32 := v3605
  let c0_i32_1574 : BitVec 32 := 0#32
  ![v3606.toNat, 0]
def k0_cond10 (v3595 : BitVec 32) (v3598 : BitVec 32) : BitVec 1 :=
  let v3599 : BitVec 32 := Scalar.subi v3598 v3595
  let c16_i32_1550 : BitVec 32 := 16#32
  let v3600 : BitVec 32 := Scalar.addi v3599 c16_i32_1550
  let c1_i32_1551 : BitVec 32 := 1#32
  let v3601 : BitVec 32 := Scalar.subi v3600 c1_i32_1551
  let c_m16_i32_1552 : BitVec 32 := 4294967280#32
  let v3602 : BitVec 32 := Scalar.andi v3601 c_m16_i32_1552
  let c256_i32_1554 : BitVec 32 := 256#32
  let v3607 : BitVec 32 := Scalar.andi v3602 c256_i32_1554
  let c0_i32_1555 : BitVec 32 := 0#32
  let v3608 : BitVec 1 := Scalar.cmpi .ne v3607 c0_i32_1555
  let v3609 : BitVec 32 := Scalar.extui v3608
  let c0_i32_1556 : BitVec 32 := 0#32
  let v3610 : BitVec 1 := Scalar.cmpi .ne v3609 c0_i32_1556
  v3610

def k0_off67 (v1_0 : BitVec 32) (k0_t4 : Fin (k0_t4_loop v1_0).trips) (v3595 : BitVec 32) (v3598 : BitVec 32) : Fin 3 → Nat :=
  let c0_i32_13 : BitVec 32 := 0#32
  let c1_i32_16 : BitVec 32 := 1#32
  let arg22 : BitVec 32 := Scf.iv c0_i32_13 c1_i32_16 k0_t4
  let c1_i32_1549 : BitVec 32 := 1#32
  let v3596 : BitVec 32 := Scalar.andi arg22 c1_i32_1549
  let v3599 : BitVec 32 := Scalar.subi v3598 v3595
  let c16_i32_1550 : BitVec 32 := 16#32
  let v3600 : BitVec 32 := Scalar.addi v3599 c16_i32_1550
  let c1_i32_1551 : BitVec 32 := 1#32
  let v3601 : BitVec 32 := Scalar.subi v3600 c1_i32_1551
  let c_m16_i32_1552 : BitVec 32 := 4294967280#32
  let v3602 : BitVec 32 := Scalar.andi v3601 c_m16_i32_1552
  let c_m512_i32_1553 : BitVec 32 := 4294966784#32
  let v3603 : BitVec 32 := Scalar.andi v3602 c_m512_i32_1553
  let v3604 : BitVec 32 := v3603
  let c0_i32_1575 : BitVec 32 := 0#32
  ![v3596.toNat, v3604.toNat, 0]
def k0_mult403 (v3595 : BitVec 32) (v3598 : BitVec 32) : BitVec 32 :=
  let v3599 : BitVec 32 := Scalar.subi v3598 v3595
  let c16_i32_1550 : BitVec 32 := 16#32
  let v3600 : BitVec 32 := Scalar.addi v3599 c16_i32_1550
  let c1_i32_1551 : BitVec 32 := 1#32
  let v3601 : BitVec 32 := Scalar.subi v3600 c1_i32_1551
  let c_m16_i32_1552 : BitVec 32 := 4294967280#32
  let v3602 : BitVec 32 := Scalar.andi v3601 c_m16_i32_1552
  let c_m256_i32_1557 : BitVec 32 := 4294967040#32
  let v3611 : BitVec 32 := Scalar.andi v3602 c_m256_i32_1557
  v3611
def k0_mult404 (v3595 : BitVec 32) (v3598 : BitVec 32) : BitVec 32 :=
  let v3599 : BitVec 32 := Scalar.subi v3598 v3595
  let c16_i32_1550 : BitVec 32 := 16#32
  let v3600 : BitVec 32 := Scalar.addi v3599 c16_i32_1550
  let c1_i32_1551 : BitVec 32 := 1#32
  let v3601 : BitVec 32 := Scalar.subi v3600 c1_i32_1551
  let c_m16_i32_1552 : BitVec 32 := 4294967280#32
  let v3602 : BitVec 32 := Scalar.andi v3601 c_m16_i32_1552
  let c_m256_i32_1557 : BitVec 32 := 4294967040#32
  let v3611 : BitVec 32 := Scalar.andi v3602 c_m256_i32_1557
  let v3612 : BitVec 32 := v3611
  let v3613 : BitVec 32 := Scalar.addi v3595 v3612
  v3613
def k0_off68 (v3595 : BitVec 32) (v3598 : BitVec 32) : Fin 2 → Nat :=
  let v3599 : BitVec 32 := Scalar.subi v3598 v3595
  let c16_i32_1550 : BitVec 32 := 16#32
  let v3600 : BitVec 32 := Scalar.addi v3599 c16_i32_1550
  let c1_i32_1551 : BitVec 32 := 1#32
  let v3601 : BitVec 32 := Scalar.subi v3600 c1_i32_1551
  let c_m16_i32_1552 : BitVec 32 := 4294967280#32
  let v3602 : BitVec 32 := Scalar.andi v3601 c_m16_i32_1552
  let c_m256_i32_1557 : BitVec 32 := 4294967040#32
  let v3611 : BitVec 32 := Scalar.andi v3602 c_m256_i32_1557
  let v3612 : BitVec 32 := v3611
  let v3613 : BitVec 32 := Scalar.addi v3595 v3612
  let v3614 : BitVec 32 := v3613
  let c0_i32_1574 : BitVec 32 := 0#32
  ![v3614.toNat, 0]
def k0_cond11 (v3595 : BitVec 32) (v3598 : BitVec 32) : BitVec 1 :=
  let v3599 : BitVec 32 := Scalar.subi v3598 v3595
  let c16_i32_1550 : BitVec 32 := 16#32
  let v3600 : BitVec 32 := Scalar.addi v3599 c16_i32_1550
  let c1_i32_1551 : BitVec 32 := 1#32
  let v3601 : BitVec 32 := Scalar.subi v3600 c1_i32_1551
  let c_m16_i32_1552 : BitVec 32 := 4294967280#32
  let v3602 : BitVec 32 := Scalar.andi v3601 c_m16_i32_1552
  let c128_i32_1558 : BitVec 32 := 128#32
  let v3615 : BitVec 32 := Scalar.andi v3602 c128_i32_1558
  let c0_i32_1559 : BitVec 32 := 0#32
  let v3616 : BitVec 1 := Scalar.cmpi .ne v3615 c0_i32_1559
  let v3617 : BitVec 32 := Scalar.extui v3616
  let c0_i32_1560 : BitVec 32 := 0#32
  let v3618 : BitVec 1 := Scalar.cmpi .ne v3617 c0_i32_1560
  v3618

def k0_off69 (v1_0 : BitVec 32) (k0_t4 : Fin (k0_t4_loop v1_0).trips) (v3595 : BitVec 32) (v3598 : BitVec 32) : Fin 3 → Nat :=
  let c0_i32_13 : BitVec 32 := 0#32
  let c1_i32_16 : BitVec 32 := 1#32
  let arg22 : BitVec 32 := Scf.iv c0_i32_13 c1_i32_16 k0_t4
  let c1_i32_1549 : BitVec 32 := 1#32
  let v3596 : BitVec 32 := Scalar.andi arg22 c1_i32_1549
  let v3599 : BitVec 32 := Scalar.subi v3598 v3595
  let c16_i32_1550 : BitVec 32 := 16#32
  let v3600 : BitVec 32 := Scalar.addi v3599 c16_i32_1550
  let c1_i32_1551 : BitVec 32 := 1#32
  let v3601 : BitVec 32 := Scalar.subi v3600 c1_i32_1551
  let c_m16_i32_1552 : BitVec 32 := 4294967280#32
  let v3602 : BitVec 32 := Scalar.andi v3601 c_m16_i32_1552
  let c_m256_i32_1557 : BitVec 32 := 4294967040#32
  let v3611 : BitVec 32 := Scalar.andi v3602 c_m256_i32_1557
  let v3612 : BitVec 32 := v3611
  let c0_i32_1575 : BitVec 32 := 0#32
  ![v3596.toNat, v3612.toNat, 0]
def k0_mult405 (v3595 : BitVec 32) (v3598 : BitVec 32) : BitVec 32 :=
  let v3599 : BitVec 32 := Scalar.subi v3598 v3595
  let c16_i32_1550 : BitVec 32 := 16#32
  let v3600 : BitVec 32 := Scalar.addi v3599 c16_i32_1550
  let c1_i32_1551 : BitVec 32 := 1#32
  let v3601 : BitVec 32 := Scalar.subi v3600 c1_i32_1551
  let c_m16_i32_1552 : BitVec 32 := 4294967280#32
  let v3602 : BitVec 32 := Scalar.andi v3601 c_m16_i32_1552
  let c_m128_i32_1561 : BitVec 32 := 4294967168#32
  let v3619 : BitVec 32 := Scalar.andi v3602 c_m128_i32_1561
  v3619
def k0_mult406 (v3595 : BitVec 32) (v3598 : BitVec 32) : BitVec 32 :=
  let v3599 : BitVec 32 := Scalar.subi v3598 v3595
  let c16_i32_1550 : BitVec 32 := 16#32
  let v3600 : BitVec 32 := Scalar.addi v3599 c16_i32_1550
  let c1_i32_1551 : BitVec 32 := 1#32
  let v3601 : BitVec 32 := Scalar.subi v3600 c1_i32_1551
  let c_m16_i32_1552 : BitVec 32 := 4294967280#32
  let v3602 : BitVec 32 := Scalar.andi v3601 c_m16_i32_1552
  let c_m128_i32_1561 : BitVec 32 := 4294967168#32
  let v3619 : BitVec 32 := Scalar.andi v3602 c_m128_i32_1561
  let v3620 : BitVec 32 := v3619
  let v3621 : BitVec 32 := Scalar.addi v3595 v3620
  v3621
def k0_off70 (v3595 : BitVec 32) (v3598 : BitVec 32) : Fin 2 → Nat :=
  let v3599 : BitVec 32 := Scalar.subi v3598 v3595
  let c16_i32_1550 : BitVec 32 := 16#32
  let v3600 : BitVec 32 := Scalar.addi v3599 c16_i32_1550
  let c1_i32_1551 : BitVec 32 := 1#32
  let v3601 : BitVec 32 := Scalar.subi v3600 c1_i32_1551
  let c_m16_i32_1552 : BitVec 32 := 4294967280#32
  let v3602 : BitVec 32 := Scalar.andi v3601 c_m16_i32_1552
  let c_m128_i32_1561 : BitVec 32 := 4294967168#32
  let v3619 : BitVec 32 := Scalar.andi v3602 c_m128_i32_1561
  let v3620 : BitVec 32 := v3619
  let v3621 : BitVec 32 := Scalar.addi v3595 v3620
  let v3622 : BitVec 32 := v3621
  let c0_i32_1574 : BitVec 32 := 0#32
  ![v3622.toNat, 0]
def k0_cond12 (v3595 : BitVec 32) (v3598 : BitVec 32) : BitVec 1 :=
  let v3599 : BitVec 32 := Scalar.subi v3598 v3595
  let c16_i32_1550 : BitVec 32 := 16#32
  let v3600 : BitVec 32 := Scalar.addi v3599 c16_i32_1550
  let c1_i32_1551 : BitVec 32 := 1#32
  let v3601 : BitVec 32 := Scalar.subi v3600 c1_i32_1551
  let c_m16_i32_1552 : BitVec 32 := 4294967280#32
  let v3602 : BitVec 32 := Scalar.andi v3601 c_m16_i32_1552
  let c64_i32_1562 : BitVec 32 := 64#32
  let v3623 : BitVec 32 := Scalar.andi v3602 c64_i32_1562
  let c0_i32_1563 : BitVec 32 := 0#32
  let v3624 : BitVec 1 := Scalar.cmpi .ne v3623 c0_i32_1563
  let v3625 : BitVec 32 := Scalar.extui v3624
  let c0_i32_1564 : BitVec 32 := 0#32
  let v3626 : BitVec 1 := Scalar.cmpi .ne v3625 c0_i32_1564
  v3626

def k0_off71 (v1_0 : BitVec 32) (k0_t4 : Fin (k0_t4_loop v1_0).trips) (v3595 : BitVec 32) (v3598 : BitVec 32) : Fin 3 → Nat :=
  let c0_i32_13 : BitVec 32 := 0#32
  let c1_i32_16 : BitVec 32 := 1#32
  let arg22 : BitVec 32 := Scf.iv c0_i32_13 c1_i32_16 k0_t4
  let c1_i32_1549 : BitVec 32 := 1#32
  let v3596 : BitVec 32 := Scalar.andi arg22 c1_i32_1549
  let v3599 : BitVec 32 := Scalar.subi v3598 v3595
  let c16_i32_1550 : BitVec 32 := 16#32
  let v3600 : BitVec 32 := Scalar.addi v3599 c16_i32_1550
  let c1_i32_1551 : BitVec 32 := 1#32
  let v3601 : BitVec 32 := Scalar.subi v3600 c1_i32_1551
  let c_m16_i32_1552 : BitVec 32 := 4294967280#32
  let v3602 : BitVec 32 := Scalar.andi v3601 c_m16_i32_1552
  let c_m128_i32_1561 : BitVec 32 := 4294967168#32
  let v3619 : BitVec 32 := Scalar.andi v3602 c_m128_i32_1561
  let v3620 : BitVec 32 := v3619
  let c0_i32_1575 : BitVec 32 := 0#32
  ![v3596.toNat, v3620.toNat, 0]
def k0_mult407 (v3595 : BitVec 32) (v3598 : BitVec 32) : BitVec 32 :=
  let v3599 : BitVec 32 := Scalar.subi v3598 v3595
  let c16_i32_1550 : BitVec 32 := 16#32
  let v3600 : BitVec 32 := Scalar.addi v3599 c16_i32_1550
  let c1_i32_1551 : BitVec 32 := 1#32
  let v3601 : BitVec 32 := Scalar.subi v3600 c1_i32_1551
  let c_m16_i32_1552 : BitVec 32 := 4294967280#32
  let v3602 : BitVec 32 := Scalar.andi v3601 c_m16_i32_1552
  let c_m64_i32_1565 : BitVec 32 := 4294967232#32
  let v3627 : BitVec 32 := Scalar.andi v3602 c_m64_i32_1565
  v3627
def k0_mult408 (v3595 : BitVec 32) (v3598 : BitVec 32) : BitVec 32 :=
  let v3599 : BitVec 32 := Scalar.subi v3598 v3595
  let c16_i32_1550 : BitVec 32 := 16#32
  let v3600 : BitVec 32 := Scalar.addi v3599 c16_i32_1550
  let c1_i32_1551 : BitVec 32 := 1#32
  let v3601 : BitVec 32 := Scalar.subi v3600 c1_i32_1551
  let c_m16_i32_1552 : BitVec 32 := 4294967280#32
  let v3602 : BitVec 32 := Scalar.andi v3601 c_m16_i32_1552
  let c_m64_i32_1565 : BitVec 32 := 4294967232#32
  let v3627 : BitVec 32 := Scalar.andi v3602 c_m64_i32_1565
  let v3628 : BitVec 32 := v3627
  let v3629 : BitVec 32 := Scalar.addi v3595 v3628
  v3629
def k0_off72 (v3595 : BitVec 32) (v3598 : BitVec 32) : Fin 2 → Nat :=
  let v3599 : BitVec 32 := Scalar.subi v3598 v3595
  let c16_i32_1550 : BitVec 32 := 16#32
  let v3600 : BitVec 32 := Scalar.addi v3599 c16_i32_1550
  let c1_i32_1551 : BitVec 32 := 1#32
  let v3601 : BitVec 32 := Scalar.subi v3600 c1_i32_1551
  let c_m16_i32_1552 : BitVec 32 := 4294967280#32
  let v3602 : BitVec 32 := Scalar.andi v3601 c_m16_i32_1552
  let c_m64_i32_1565 : BitVec 32 := 4294967232#32
  let v3627 : BitVec 32 := Scalar.andi v3602 c_m64_i32_1565
  let v3628 : BitVec 32 := v3627
  let v3629 : BitVec 32 := Scalar.addi v3595 v3628
  let v3630 : BitVec 32 := v3629
  let c0_i32_1574 : BitVec 32 := 0#32
  ![v3630.toNat, 0]
def k0_cond13 (v3595 : BitVec 32) (v3598 : BitVec 32) : BitVec 1 :=
  let v3599 : BitVec 32 := Scalar.subi v3598 v3595
  let c16_i32_1550 : BitVec 32 := 16#32
  let v3600 : BitVec 32 := Scalar.addi v3599 c16_i32_1550
  let c1_i32_1551 : BitVec 32 := 1#32
  let v3601 : BitVec 32 := Scalar.subi v3600 c1_i32_1551
  let c_m16_i32_1552 : BitVec 32 := 4294967280#32
  let v3602 : BitVec 32 := Scalar.andi v3601 c_m16_i32_1552
  let c32_i32_1566 : BitVec 32 := 32#32
  let v3631 : BitVec 32 := Scalar.andi v3602 c32_i32_1566
  let c0_i32_1567 : BitVec 32 := 0#32
  let v3632 : BitVec 1 := Scalar.cmpi .ne v3631 c0_i32_1567
  let v3633 : BitVec 32 := Scalar.extui v3632
  let c0_i32_1568 : BitVec 32 := 0#32
  let v3634 : BitVec 1 := Scalar.cmpi .ne v3633 c0_i32_1568
  v3634

def k0_off73 (v1_0 : BitVec 32) (k0_t4 : Fin (k0_t4_loop v1_0).trips) (v3595 : BitVec 32) (v3598 : BitVec 32) : Fin 3 → Nat :=
  let c0_i32_13 : BitVec 32 := 0#32
  let c1_i32_16 : BitVec 32 := 1#32
  let arg22 : BitVec 32 := Scf.iv c0_i32_13 c1_i32_16 k0_t4
  let c1_i32_1549 : BitVec 32 := 1#32
  let v3596 : BitVec 32 := Scalar.andi arg22 c1_i32_1549
  let v3599 : BitVec 32 := Scalar.subi v3598 v3595
  let c16_i32_1550 : BitVec 32 := 16#32
  let v3600 : BitVec 32 := Scalar.addi v3599 c16_i32_1550
  let c1_i32_1551 : BitVec 32 := 1#32
  let v3601 : BitVec 32 := Scalar.subi v3600 c1_i32_1551
  let c_m16_i32_1552 : BitVec 32 := 4294967280#32
  let v3602 : BitVec 32 := Scalar.andi v3601 c_m16_i32_1552
  let c_m64_i32_1565 : BitVec 32 := 4294967232#32
  let v3627 : BitVec 32 := Scalar.andi v3602 c_m64_i32_1565
  let v3628 : BitVec 32 := v3627
  let c0_i32_1575 : BitVec 32 := 0#32
  ![v3596.toNat, v3628.toNat, 0]
def k0_mult409 (v3595 : BitVec 32) (v3598 : BitVec 32) : BitVec 32 :=
  let v3599 : BitVec 32 := Scalar.subi v3598 v3595
  let c16_i32_1550 : BitVec 32 := 16#32
  let v3600 : BitVec 32 := Scalar.addi v3599 c16_i32_1550
  let c1_i32_1551 : BitVec 32 := 1#32
  let v3601 : BitVec 32 := Scalar.subi v3600 c1_i32_1551
  let c_m16_i32_1552 : BitVec 32 := 4294967280#32
  let v3602 : BitVec 32 := Scalar.andi v3601 c_m16_i32_1552
  let c_m32_i32_1569 : BitVec 32 := 4294967264#32
  let v3635 : BitVec 32 := Scalar.andi v3602 c_m32_i32_1569
  v3635
def k0_mult410 (v3595 : BitVec 32) (v3598 : BitVec 32) : BitVec 32 :=
  let v3599 : BitVec 32 := Scalar.subi v3598 v3595
  let c16_i32_1550 : BitVec 32 := 16#32
  let v3600 : BitVec 32 := Scalar.addi v3599 c16_i32_1550
  let c1_i32_1551 : BitVec 32 := 1#32
  let v3601 : BitVec 32 := Scalar.subi v3600 c1_i32_1551
  let c_m16_i32_1552 : BitVec 32 := 4294967280#32
  let v3602 : BitVec 32 := Scalar.andi v3601 c_m16_i32_1552
  let c_m32_i32_1569 : BitVec 32 := 4294967264#32
  let v3635 : BitVec 32 := Scalar.andi v3602 c_m32_i32_1569
  let v3636 : BitVec 32 := v3635
  let v3637 : BitVec 32 := Scalar.addi v3595 v3636
  v3637
def k0_off74 (v3595 : BitVec 32) (v3598 : BitVec 32) : Fin 2 → Nat :=
  let v3599 : BitVec 32 := Scalar.subi v3598 v3595
  let c16_i32_1550 : BitVec 32 := 16#32
  let v3600 : BitVec 32 := Scalar.addi v3599 c16_i32_1550
  let c1_i32_1551 : BitVec 32 := 1#32
  let v3601 : BitVec 32 := Scalar.subi v3600 c1_i32_1551
  let c_m16_i32_1552 : BitVec 32 := 4294967280#32
  let v3602 : BitVec 32 := Scalar.andi v3601 c_m16_i32_1552
  let c_m32_i32_1569 : BitVec 32 := 4294967264#32
  let v3635 : BitVec 32 := Scalar.andi v3602 c_m32_i32_1569
  let v3636 : BitVec 32 := v3635
  let v3637 : BitVec 32 := Scalar.addi v3595 v3636
  let v3638 : BitVec 32 := v3637
  let c0_i32_1574 : BitVec 32 := 0#32
  ![v3638.toNat, 0]
def k0_cond14 (v3595 : BitVec 32) (v3598 : BitVec 32) : BitVec 1 :=
  let v3599 : BitVec 32 := Scalar.subi v3598 v3595
  let c16_i32_1550 : BitVec 32 := 16#32
  let v3600 : BitVec 32 := Scalar.addi v3599 c16_i32_1550
  let c1_i32_1551 : BitVec 32 := 1#32
  let v3601 : BitVec 32 := Scalar.subi v3600 c1_i32_1551
  let c_m16_i32_1552 : BitVec 32 := 4294967280#32
  let v3602 : BitVec 32 := Scalar.andi v3601 c_m16_i32_1552
  let c16_i32_1570 : BitVec 32 := 16#32
  let v3639 : BitVec 32 := Scalar.andi v3602 c16_i32_1570
  let c0_i32_1571 : BitVec 32 := 0#32
  let v3640 : BitVec 1 := Scalar.cmpi .ne v3639 c0_i32_1571
  let v3641 : BitVec 32 := Scalar.extui v3640
  let c0_i32_1572 : BitVec 32 := 0#32
  let v3642 : BitVec 1 := Scalar.cmpi .ne v3641 c0_i32_1572
  v3642

def k0_off75 (v1_0 : BitVec 32) (k0_t4 : Fin (k0_t4_loop v1_0).trips) (v3595 : BitVec 32) (v3598 : BitVec 32) : Fin 3 → Nat :=
  let c0_i32_13 : BitVec 32 := 0#32
  let c1_i32_16 : BitVec 32 := 1#32
  let arg22 : BitVec 32 := Scf.iv c0_i32_13 c1_i32_16 k0_t4
  let c1_i32_1549 : BitVec 32 := 1#32
  let v3596 : BitVec 32 := Scalar.andi arg22 c1_i32_1549
  let v3599 : BitVec 32 := Scalar.subi v3598 v3595
  let c16_i32_1550 : BitVec 32 := 16#32
  let v3600 : BitVec 32 := Scalar.addi v3599 c16_i32_1550
  let c1_i32_1551 : BitVec 32 := 1#32
  let v3601 : BitVec 32 := Scalar.subi v3600 c1_i32_1551
  let c_m16_i32_1552 : BitVec 32 := 4294967280#32
  let v3602 : BitVec 32 := Scalar.andi v3601 c_m16_i32_1552
  let c_m32_i32_1569 : BitVec 32 := 4294967264#32
  let v3635 : BitVec 32 := Scalar.andi v3602 c_m32_i32_1569
  let v3636 : BitVec 32 := v3635
  let c0_i32_1575 : BitVec 32 := 0#32
  ![v3596.toNat, v3636.toNat, 0]

def k0_chk17 (v1_0 : BitVec 32) (k0_t4 : Fin (k0_t4_loop v1_0).trips) (v3595 : BitVec 32) (v3598 : BitVec 32) : Prop :=
  (16 ∣ (k0_mult401 v3595 v3598).toNat) ∧
  (16 ∣ (k0_mult402 v3595 v3598).toNat) ∧
  (∀ (k0_h10 : k0_cond10 v3595 v3598 = 1#1), ∀ a, (k0_off66 v3595 v3598) a + S256x1536.size a ≤ S12288x1536.size a) ∧
  (∀ (k0_h10 : k0_cond10 v3595 v3598 = 1#1), ∀ a, (k0_off67 v1_0 k0_t4 v3595 v3598) a + S1x256x1536.size a ≤ S2x256x1536.size a) ∧
  (∀ (k0_h10 : k0_cond10 v3595 v3598 = 1#1), ∀ (hinb : ∀ a, (k0_off67 v1_0 k0_t4 v3595 v3598) a + S1x256x1536.size a ≤ S2x256x1536.size a), (Rect.unit (s := S2x256x1536) (k0_off67 v1_0 k0_t4 v3595 v3598) S1x256x1536.size hinb).WholeWords (EltTy.packing .bf16)) ∧
  (∀ (k0_h10 : k0_cond10 v3595 v3598 = 1#1), ∀ (hinb : ∀ a, (k0_off66 v3595 v3598) a + S256x1536.size a ≤ S12288x1536.size a), (Rect.unit (s := S12288x1536) (k0_off66 v3595 v3598) S256x1536.size hinb).WholeWords (EltTy.packing .bf16)) ∧
  (16 ∣ (k0_mult403 v3595 v3598).toNat) ∧
  (16 ∣ (k0_mult404 v3595 v3598).toNat) ∧
  (∀ (k0_h11 : k0_cond11 v3595 v3598 = 1#1), ∀ a, (k0_off68 v3595 v3598) a + S128x1536.size a ≤ S12288x1536.size a) ∧
  (∀ (k0_h11 : k0_cond11 v3595 v3598 = 1#1), ∀ a, (k0_off69 v1_0 k0_t4 v3595 v3598) a + S1x128x1536.size a ≤ S2x256x1536.size a) ∧
  (∀ (k0_h11 : k0_cond11 v3595 v3598 = 1#1), ∀ (hinb : ∀ a, (k0_off69 v1_0 k0_t4 v3595 v3598) a + S1x128x1536.size a ≤ S2x256x1536.size a), (Rect.unit (s := S2x256x1536) (k0_off69 v1_0 k0_t4 v3595 v3598) S1x128x1536.size hinb).WholeWords (EltTy.packing .bf16)) ∧
  (∀ (k0_h11 : k0_cond11 v3595 v3598 = 1#1), ∀ (hinb : ∀ a, (k0_off68 v3595 v3598) a + S128x1536.size a ≤ S12288x1536.size a), (Rect.unit (s := S12288x1536) (k0_off68 v3595 v3598) S128x1536.size hinb).WholeWords (EltTy.packing .bf16)) ∧
  (16 ∣ (k0_mult405 v3595 v3598).toNat) ∧
  (16 ∣ (k0_mult406 v3595 v3598).toNat) ∧
  (∀ (k0_h12 : k0_cond12 v3595 v3598 = 1#1), ∀ a, (k0_off70 v3595 v3598) a + S64x1536.size a ≤ S12288x1536.size a) ∧
  (∀ (k0_h12 : k0_cond12 v3595 v3598 = 1#1), ∀ a, (k0_off71 v1_0 k0_t4 v3595 v3598) a + S1x64x1536.size a ≤ S2x256x1536.size a) ∧
  (∀ (k0_h12 : k0_cond12 v3595 v3598 = 1#1), ∀ (hinb : ∀ a, (k0_off71 v1_0 k0_t4 v3595 v3598) a + S1x64x1536.size a ≤ S2x256x1536.size a), (Rect.unit (s := S2x256x1536) (k0_off71 v1_0 k0_t4 v3595 v3598) S1x64x1536.size hinb).WholeWords (EltTy.packing .bf16)) ∧
  (∀ (k0_h12 : k0_cond12 v3595 v3598 = 1#1), ∀ (hinb : ∀ a, (k0_off70 v3595 v3598) a + S64x1536.size a ≤ S12288x1536.size a), (Rect.unit (s := S12288x1536) (k0_off70 v3595 v3598) S64x1536.size hinb).WholeWords (EltTy.packing .bf16)) ∧
  (16 ∣ (k0_mult407 v3595 v3598).toNat) ∧
  (16 ∣ (k0_mult408 v3595 v3598).toNat) ∧
  (∀ (k0_h13 : k0_cond13 v3595 v3598 = 1#1), ∀ a, (k0_off72 v3595 v3598) a + S32x1536.size a ≤ S12288x1536.size a) ∧
  (∀ (k0_h13 : k0_cond13 v3595 v3598 = 1#1), ∀ a, (k0_off73 v1_0 k0_t4 v3595 v3598) a + S1x32x1536.size a ≤ S2x256x1536.size a) ∧
  (∀ (k0_h13 : k0_cond13 v3595 v3598 = 1#1), ∀ (hinb : ∀ a, (k0_off73 v1_0 k0_t4 v3595 v3598) a + S1x32x1536.size a ≤ S2x256x1536.size a), (Rect.unit (s := S2x256x1536) (k0_off73 v1_0 k0_t4 v3595 v3598) S1x32x1536.size hinb).WholeWords (EltTy.packing .bf16)) ∧
  (∀ (k0_h13 : k0_cond13 v3595 v3598 = 1#1), ∀ (hinb : ∀ a, (k0_off72 v3595 v3598) a + S32x1536.size a ≤ S12288x1536.size a), (Rect.unit (s := S12288x1536) (k0_off72 v3595 v3598) S32x1536.size hinb).WholeWords (EltTy.packing .bf16)) ∧
  (16 ∣ (k0_mult409 v3595 v3598).toNat) ∧
  (16 ∣ (k0_mult410 v3595 v3598).toNat) ∧
  (∀ (k0_h14 : k0_cond14 v3595 v3598 = 1#1), ∀ a, (k0_off74 v3595 v3598) a + S16x1536.size a ≤ S12288x1536.size a) ∧
  (∀ (k0_h14 : k0_cond14 v3595 v3598 = 1#1), ∀ a, (k0_off75 v1_0 k0_t4 v3595 v3598) a + S1x16x1536.size a ≤ S2x256x1536.size a) ∧
  (∀ (k0_h14 : k0_cond14 v3595 v3598 = 1#1), ∀ (hinb : ∀ a, (k0_off75 v1_0 k0_t4 v3595 v3598) a + S1x16x1536.size a ≤ S2x256x1536.size a), (Rect.unit (s := S2x256x1536) (k0_off75 v1_0 k0_t4 v3595 v3598) S1x16x1536.size hinb).WholeWords (EltTy.packing .bf16)) ∧
  (∀ (k0_h14 : k0_cond14 v3595 v3598 = 1#1), ∀ (hinb : ∀ a, (k0_off74 v3595 v3598) a + S16x1536.size a ≤ S12288x1536.size a), (Rect.unit (s := S12288x1536) (k0_off74 v3595 v3598) S16x1536.size hinb).WholeWords (EltTy.packing .bf16))
theorem k0_mult401_dvd : ∀ (v1_0 : BitVec 32) (k0_t4 : Fin (k0_t4_loop v1_0).trips) (v3595 : BitVec 32) (v3598 : BitVec 32) (k0_hw17 : k0_chk17 v1_0 k0_t4 v3595 v3598), 16 ∣ (k0_mult401 v3595 v3598).toNat := fun v1_0 k0_t4 v3595 v3598 k0_hw17 => k0_hw17.1
theorem k0_mult402_dvd : ∀ (v1_0 : BitVec 32) (k0_t4 : Fin (k0_t4_loop v1_0).trips) (v3595 : BitVec 32) (v3598 : BitVec 32) (k0_hw17 : k0_chk17 v1_0 k0_t4 v3595 v3598), 16 ∣ (k0_mult402 v3595 v3598).toNat := fun v1_0 k0_t4 v3595 v3598 k0_hw17 => k0_hw17.2.1
theorem k0_off66_inb : ∀ (v1_0 : BitVec 32) (k0_t4 : Fin (k0_t4_loop v1_0).trips) (v3595 : BitVec 32) (v3598 : BitVec 32) (k0_hw17 : k0_chk17 v1_0 k0_t4 v3595 v3598), ∀ (k0_h10 : k0_cond10 v3595 v3598 = 1#1), ∀ a, (k0_off66 v3595 v3598) a + S256x1536.size a ≤ S12288x1536.size a := fun v1_0 k0_t4 v3595 v3598 k0_hw17 k0_h10 => k0_hw17.2.2.1 k0_h10
theorem k0_off67_inb : ∀ (v1_0 : BitVec 32) (k0_t4 : Fin (k0_t4_loop v1_0).trips) (v3595 : BitVec 32) (v3598 : BitVec 32) (k0_hw17 : k0_chk17 v1_0 k0_t4 v3595 v3598), ∀ (k0_h10 : k0_cond10 v3595 v3598 = 1#1), ∀ a, (k0_off67 v1_0 k0_t4 v3595 v3598) a + S1x256x1536.size a ≤ S2x256x1536.size a := fun v1_0 k0_t4 v3595 v3598 k0_hw17 k0_h10 => k0_hw17.2.2.2.1 k0_h10
theorem k0_off67_wordsbf16 : ∀ (v1_0 : BitVec 32) (k0_t4 : Fin (k0_t4_loop v1_0).trips) (v3595 : BitVec 32) (v3598 : BitVec 32) (k0_hw17 : k0_chk17 v1_0 k0_t4 v3595 v3598), ∀ (k0_h10 : k0_cond10 v3595 v3598 = 1#1), (Rect.unit (s := S2x256x1536) (k0_off67 v1_0 k0_t4 v3595 v3598) S1x256x1536.size (k0_off67_inb v1_0 k0_t4 v3595 v3598 k0_hw17 k0_h10)).WholeWords (EltTy.packing .bf16) := fun v1_0 k0_t4 v3595 v3598 k0_hw17 k0_h10 => k0_hw17.2.2.2.2.1 k0_h10 (k0_off67_inb v1_0 k0_t4 v3595 v3598 k0_hw17 k0_h10)
theorem k0_off66_wordsbf16 : ∀ (v1_0 : BitVec 32) (k0_t4 : Fin (k0_t4_loop v1_0).trips) (v3595 : BitVec 32) (v3598 : BitVec 32) (k0_hw17 : k0_chk17 v1_0 k0_t4 v3595 v3598), ∀ (k0_h10 : k0_cond10 v3595 v3598 = 1#1), (Rect.unit (s := S12288x1536) (k0_off66 v3595 v3598) S256x1536.size (k0_off66_inb v1_0 k0_t4 v3595 v3598 k0_hw17 k0_h10)).WholeWords (EltTy.packing .bf16) := fun v1_0 k0_t4 v3595 v3598 k0_hw17 k0_h10 => k0_hw17.2.2.2.2.2.1 k0_h10 (k0_off66_inb v1_0 k0_t4 v3595 v3598 k0_hw17 k0_h10)
theorem k0_mult403_dvd : ∀ (v1_0 : BitVec 32) (k0_t4 : Fin (k0_t4_loop v1_0).trips) (v3595 : BitVec 32) (v3598 : BitVec 32) (k0_hw17 : k0_chk17 v1_0 k0_t4 v3595 v3598), 16 ∣ (k0_mult403 v3595 v3598).toNat := fun v1_0 k0_t4 v3595 v3598 k0_hw17 => k0_hw17.2.2.2.2.2.2.1
theorem k0_mult404_dvd : ∀ (v1_0 : BitVec 32) (k0_t4 : Fin (k0_t4_loop v1_0).trips) (v3595 : BitVec 32) (v3598 : BitVec 32) (k0_hw17 : k0_chk17 v1_0 k0_t4 v3595 v3598), 16 ∣ (k0_mult404 v3595 v3598).toNat := fun v1_0 k0_t4 v3595 v3598 k0_hw17 => k0_hw17.2.2.2.2.2.2.2.1
theorem k0_off68_inb : ∀ (v1_0 : BitVec 32) (k0_t4 : Fin (k0_t4_loop v1_0).trips) (v3595 : BitVec 32) (v3598 : BitVec 32) (k0_hw17 : k0_chk17 v1_0 k0_t4 v3595 v3598), ∀ (k0_h11 : k0_cond11 v3595 v3598 = 1#1), ∀ a, (k0_off68 v3595 v3598) a + S128x1536.size a ≤ S12288x1536.size a := fun v1_0 k0_t4 v3595 v3598 k0_hw17 k0_h11 => k0_hw17.2.2.2.2.2.2.2.2.1 k0_h11
theorem k0_off69_inb : ∀ (v1_0 : BitVec 32) (k0_t4 : Fin (k0_t4_loop v1_0).trips) (v3595 : BitVec 32) (v3598 : BitVec 32) (k0_hw17 : k0_chk17 v1_0 k0_t4 v3595 v3598), ∀ (k0_h11 : k0_cond11 v3595 v3598 = 1#1), ∀ a, (k0_off69 v1_0 k0_t4 v3595 v3598) a + S1x128x1536.size a ≤ S2x256x1536.size a := fun v1_0 k0_t4 v3595 v3598 k0_hw17 k0_h11 => k0_hw17.2.2.2.2.2.2.2.2.2.1 k0_h11
theorem k0_off69_wordsbf16 : ∀ (v1_0 : BitVec 32) (k0_t4 : Fin (k0_t4_loop v1_0).trips) (v3595 : BitVec 32) (v3598 : BitVec 32) (k0_hw17 : k0_chk17 v1_0 k0_t4 v3595 v3598), ∀ (k0_h11 : k0_cond11 v3595 v3598 = 1#1), (Rect.unit (s := S2x256x1536) (k0_off69 v1_0 k0_t4 v3595 v3598) S1x128x1536.size (k0_off69_inb v1_0 k0_t4 v3595 v3598 k0_hw17 k0_h11)).WholeWords (EltTy.packing .bf16) := fun v1_0 k0_t4 v3595 v3598 k0_hw17 k0_h11 => k0_hw17.2.2.2.2.2.2.2.2.2.2.1 k0_h11 (k0_off69_inb v1_0 k0_t4 v3595 v3598 k0_hw17 k0_h11)
theorem k0_off68_wordsbf16 : ∀ (v1_0 : BitVec 32) (k0_t4 : Fin (k0_t4_loop v1_0).trips) (v3595 : BitVec 32) (v3598 : BitVec 32) (k0_hw17 : k0_chk17 v1_0 k0_t4 v3595 v3598), ∀ (k0_h11 : k0_cond11 v3595 v3598 = 1#1), (Rect.unit (s := S12288x1536) (k0_off68 v3595 v3598) S128x1536.size (k0_off68_inb v1_0 k0_t4 v3595 v3598 k0_hw17 k0_h11)).WholeWords (EltTy.packing .bf16) := fun v1_0 k0_t4 v3595 v3598 k0_hw17 k0_h11 => k0_hw17.2.2.2.2.2.2.2.2.2.2.2.1 k0_h11 (k0_off68_inb v1_0 k0_t4 v3595 v3598 k0_hw17 k0_h11)
theorem k0_mult405_dvd : ∀ (v1_0 : BitVec 32) (k0_t4 : Fin (k0_t4_loop v1_0).trips) (v3595 : BitVec 32) (v3598 : BitVec 32) (k0_hw17 : k0_chk17 v1_0 k0_t4 v3595 v3598), 16 ∣ (k0_mult405 v3595 v3598).toNat := fun v1_0 k0_t4 v3595 v3598 k0_hw17 => k0_hw17.2.2.2.2.2.2.2.2.2.2.2.2.1
theorem k0_mult406_dvd : ∀ (v1_0 : BitVec 32) (k0_t4 : Fin (k0_t4_loop v1_0).trips) (v3595 : BitVec 32) (v3598 : BitVec 32) (k0_hw17 : k0_chk17 v1_0 k0_t4 v3595 v3598), 16 ∣ (k0_mult406 v3595 v3598).toNat := fun v1_0 k0_t4 v3595 v3598 k0_hw17 => k0_hw17.2.2.2.2.2.2.2.2.2.2.2.2.2.1
theorem k0_off70_inb : ∀ (v1_0 : BitVec 32) (k0_t4 : Fin (k0_t4_loop v1_0).trips) (v3595 : BitVec 32) (v3598 : BitVec 32) (k0_hw17 : k0_chk17 v1_0 k0_t4 v3595 v3598), ∀ (k0_h12 : k0_cond12 v3595 v3598 = 1#1), ∀ a, (k0_off70 v3595 v3598) a + S64x1536.size a ≤ S12288x1536.size a := fun v1_0 k0_t4 v3595 v3598 k0_hw17 k0_h12 => k0_hw17.2.2.2.2.2.2.2.2.2.2.2.2.2.2.1 k0_h12
theorem k0_off71_inb : ∀ (v1_0 : BitVec 32) (k0_t4 : Fin (k0_t4_loop v1_0).trips) (v3595 : BitVec 32) (v3598 : BitVec 32) (k0_hw17 : k0_chk17 v1_0 k0_t4 v3595 v3598), ∀ (k0_h12 : k0_cond12 v3595 v3598 = 1#1), ∀ a, (k0_off71 v1_0 k0_t4 v3595 v3598) a + S1x64x1536.size a ≤ S2x256x1536.size a := fun v1_0 k0_t4 v3595 v3598 k0_hw17 k0_h12 => k0_hw17.2.2.2.2.2.2.2.2.2.2.2.2.2.2.2.1 k0_h12
theorem k0_off71_wordsbf16 : ∀ (v1_0 : BitVec 32) (k0_t4 : Fin (k0_t4_loop v1_0).trips) (v3595 : BitVec 32) (v3598 : BitVec 32) (k0_hw17 : k0_chk17 v1_0 k0_t4 v3595 v3598), ∀ (k0_h12 : k0_cond12 v3595 v3598 = 1#1), (Rect.unit (s := S2x256x1536) (k0_off71 v1_0 k0_t4 v3595 v3598) S1x64x1536.size (k0_off71_inb v1_0 k0_t4 v3595 v3598 k0_hw17 k0_h12)).WholeWords (EltTy.packing .bf16) := fun v1_0 k0_t4 v3595 v3598 k0_hw17 k0_h12 => k0_hw17.2.2.2.2.2.2.2.2.2.2.2.2.2.2.2.2.1 k0_h12 (k0_off71_inb v1_0 k0_t4 v3595 v3598 k0_hw17 k0_h12)
theorem k0_off70_wordsbf16 : ∀ (v1_0 : BitVec 32) (k0_t4 : Fin (k0_t4_loop v1_0).trips) (v3595 : BitVec 32) (v3598 : BitVec 32) (k0_hw17 : k0_chk17 v1_0 k0_t4 v3595 v3598), ∀ (k0_h12 : k0_cond12 v3595 v3598 = 1#1), (Rect.unit (s := S12288x1536) (k0_off70 v3595 v3598) S64x1536.size (k0_off70_inb v1_0 k0_t4 v3595 v3598 k0_hw17 k0_h12)).WholeWords (EltTy.packing .bf16) := fun v1_0 k0_t4 v3595 v3598 k0_hw17 k0_h12 => k0_hw17.2.2.2.2.2.2.2.2.2.2.2.2.2.2.2.2.2.1 k0_h12 (k0_off70_inb v1_0 k0_t4 v3595 v3598 k0_hw17 k0_h12)
theorem k0_mult407_dvd : ∀ (v1_0 : BitVec 32) (k0_t4 : Fin (k0_t4_loop v1_0).trips) (v3595 : BitVec 32) (v3598 : BitVec 32) (k0_hw17 : k0_chk17 v1_0 k0_t4 v3595 v3598), 16 ∣ (k0_mult407 v3595 v3598).toNat := fun v1_0 k0_t4 v3595 v3598 k0_hw17 => k0_hw17.2.2.2.2.2.2.2.2.2.2.2.2.2.2.2.2.2.2.1
theorem k0_mult408_dvd : ∀ (v1_0 : BitVec 32) (k0_t4 : Fin (k0_t4_loop v1_0).trips) (v3595 : BitVec 32) (v3598 : BitVec 32) (k0_hw17 : k0_chk17 v1_0 k0_t4 v3595 v3598), 16 ∣ (k0_mult408 v3595 v3598).toNat := fun v1_0 k0_t4 v3595 v3598 k0_hw17 => k0_hw17.2.2.2.2.2.2.2.2.2.2.2.2.2.2.2.2.2.2.2.1
theorem k0_off72_inb : ∀ (v1_0 : BitVec 32) (k0_t4 : Fin (k0_t4_loop v1_0).trips) (v3595 : BitVec 32) (v3598 : BitVec 32) (k0_hw17 : k0_chk17 v1_0 k0_t4 v3595 v3598), ∀ (k0_h13 : k0_cond13 v3595 v3598 = 1#1), ∀ a, (k0_off72 v3595 v3598) a + S32x1536.size a ≤ S12288x1536.size a := fun v1_0 k0_t4 v3595 v3598 k0_hw17 k0_h13 => k0_hw17.2.2.2.2.2.2.2.2.2.2.2.2.2.2.2.2.2.2.2.2.1 k0_h13
theorem k0_off73_inb : ∀ (v1_0 : BitVec 32) (k0_t4 : Fin (k0_t4_loop v1_0).trips) (v3595 : BitVec 32) (v3598 : BitVec 32) (k0_hw17 : k0_chk17 v1_0 k0_t4 v3595 v3598), ∀ (k0_h13 : k0_cond13 v3595 v3598 = 1#1), ∀ a, (k0_off73 v1_0 k0_t4 v3595 v3598) a + S1x32x1536.size a ≤ S2x256x1536.size a := fun v1_0 k0_t4 v3595 v3598 k0_hw17 k0_h13 => k0_hw17.2.2.2.2.2.2.2.2.2.2.2.2.2.2.2.2.2.2.2.2.2.1 k0_h13
theorem k0_off73_wordsbf16 : ∀ (v1_0 : BitVec 32) (k0_t4 : Fin (k0_t4_loop v1_0).trips) (v3595 : BitVec 32) (v3598 : BitVec 32) (k0_hw17 : k0_chk17 v1_0 k0_t4 v3595 v3598), ∀ (k0_h13 : k0_cond13 v3595 v3598 = 1#1), (Rect.unit (s := S2x256x1536) (k0_off73 v1_0 k0_t4 v3595 v3598) S1x32x1536.size (k0_off73_inb v1_0 k0_t4 v3595 v3598 k0_hw17 k0_h13)).WholeWords (EltTy.packing .bf16) := fun v1_0 k0_t4 v3595 v3598 k0_hw17 k0_h13 => k0_hw17.2.2.2.2.2.2.2.2.2.2.2.2.2.2.2.2.2.2.2.2.2.2.1 k0_h13 (k0_off73_inb v1_0 k0_t4 v3595 v3598 k0_hw17 k0_h13)
theorem k0_off72_wordsbf16 : ∀ (v1_0 : BitVec 32) (k0_t4 : Fin (k0_t4_loop v1_0).trips) (v3595 : BitVec 32) (v3598 : BitVec 32) (k0_hw17 : k0_chk17 v1_0 k0_t4 v3595 v3598), ∀ (k0_h13 : k0_cond13 v3595 v3598 = 1#1), (Rect.unit (s := S12288x1536) (k0_off72 v3595 v3598) S32x1536.size (k0_off72_inb v1_0 k0_t4 v3595 v3598 k0_hw17 k0_h13)).WholeWords (EltTy.packing .bf16) := fun v1_0 k0_t4 v3595 v3598 k0_hw17 k0_h13 => k0_hw17.2.2.2.2.2.2.2.2.2.2.2.2.2.2.2.2.2.2.2.2.2.2.2.1 k0_h13 (k0_off72_inb v1_0 k0_t4 v3595 v3598 k0_hw17 k0_h13)
theorem k0_mult409_dvd : ∀ (v1_0 : BitVec 32) (k0_t4 : Fin (k0_t4_loop v1_0).trips) (v3595 : BitVec 32) (v3598 : BitVec 32) (k0_hw17 : k0_chk17 v1_0 k0_t4 v3595 v3598), 16 ∣ (k0_mult409 v3595 v3598).toNat := fun v1_0 k0_t4 v3595 v3598 k0_hw17 => k0_hw17.2.2.2.2.2.2.2.2.2.2.2.2.2.2.2.2.2.2.2.2.2.2.2.2.1
theorem k0_mult410_dvd : ∀ (v1_0 : BitVec 32) (k0_t4 : Fin (k0_t4_loop v1_0).trips) (v3595 : BitVec 32) (v3598 : BitVec 32) (k0_hw17 : k0_chk17 v1_0 k0_t4 v3595 v3598), 16 ∣ (k0_mult410 v3595 v3598).toNat := fun v1_0 k0_t4 v3595 v3598 k0_hw17 => k0_hw17.2.2.2.2.2.2.2.2.2.2.2.2.2.2.2.2.2.2.2.2.2.2.2.2.2.1
theorem k0_off74_inb : ∀ (v1_0 : BitVec 32) (k0_t4 : Fin (k0_t4_loop v1_0).trips) (v3595 : BitVec 32) (v3598 : BitVec 32) (k0_hw17 : k0_chk17 v1_0 k0_t4 v3595 v3598), ∀ (k0_h14 : k0_cond14 v3595 v3598 = 1#1), ∀ a, (k0_off74 v3595 v3598) a + S16x1536.size a ≤ S12288x1536.size a := fun v1_0 k0_t4 v3595 v3598 k0_hw17 k0_h14 => k0_hw17.2.2.2.2.2.2.2.2.2.2.2.2.2.2.2.2.2.2.2.2.2.2.2.2.2.2.1 k0_h14
theorem k0_off75_inb : ∀ (v1_0 : BitVec 32) (k0_t4 : Fin (k0_t4_loop v1_0).trips) (v3595 : BitVec 32) (v3598 : BitVec 32) (k0_hw17 : k0_chk17 v1_0 k0_t4 v3595 v3598), ∀ (k0_h14 : k0_cond14 v3595 v3598 = 1#1), ∀ a, (k0_off75 v1_0 k0_t4 v3595 v3598) a + S1x16x1536.size a ≤ S2x256x1536.size a := fun v1_0 k0_t4 v3595 v3598 k0_hw17 k0_h14 => k0_hw17.2.2.2.2.2.2.2.2.2.2.2.2.2.2.2.2.2.2.2.2.2.2.2.2.2.2.2.1 k0_h14
theorem k0_off75_wordsbf16 : ∀ (v1_0 : BitVec 32) (k0_t4 : Fin (k0_t4_loop v1_0).trips) (v3595 : BitVec 32) (v3598 : BitVec 32) (k0_hw17 : k0_chk17 v1_0 k0_t4 v3595 v3598), ∀ (k0_h14 : k0_cond14 v3595 v3598 = 1#1), (Rect.unit (s := S2x256x1536) (k0_off75 v1_0 k0_t4 v3595 v3598) S1x16x1536.size (k0_off75_inb v1_0 k0_t4 v3595 v3598 k0_hw17 k0_h14)).WholeWords (EltTy.packing .bf16) := fun v1_0 k0_t4 v3595 v3598 k0_hw17 k0_h14 => k0_hw17.2.2.2.2.2.2.2.2.2.2.2.2.2.2.2.2.2.2.2.2.2.2.2.2.2.2.2.2.1 k0_h14 (k0_off75_inb v1_0 k0_t4 v3595 v3598 k0_hw17 k0_h14)
theorem k0_off74_wordsbf16 : ∀ (v1_0 : BitVec 32) (k0_t4 : Fin (k0_t4_loop v1_0).trips) (v3595 : BitVec 32) (v3598 : BitVec 32) (k0_hw17 : k0_chk17 v1_0 k0_t4 v3595 v3598), ∀ (k0_h14 : k0_cond14 v3595 v3598 = 1#1), (Rect.unit (s := S12288x1536) (k0_off74 v3595 v3598) S16x1536.size (k0_off74_inb v1_0 k0_t4 v3595 v3598 k0_hw17 k0_h14)).WholeWords (EltTy.packing .bf16) := fun v1_0 k0_t4 v3595 v3598 k0_hw17 k0_h14 => k0_hw17.2.2.2.2.2.2.2.2.2.2.2.2.2.2.2.2.2.2.2.2.2.2.2.2.2.2.2.2.2 k0_h14 (k0_off74_inb v1_0 k0_t4 v3595 v3598 k0_hw17 k0_h14)

@[reducible] def k0_t6_loop (v1_0 : BitVec 32) : Scf.Loop 32 :=
  let c0_i32_13 : BitVec 32 := 0#32
  let v15 : BitVec 32 := Scalar.subi v1_0 c0_i32_13
  let c1_i32_15 : BitVec 32 := 1#32
  let v17 : BitVec 32 := Scalar.divsi v15 c1_i32_15
  let v18 : BitVec 32 := Scalar.muli v17 c1_i32_15
  let v19 : BitVec 32 := Scalar.addi c0_i32_13 v18
  let v16 : BitVec 32 := Scalar.addi c0_i32_13 v15
  let c1_i32_17 : BitVec 32 := 1#32
  ⟨v19, v16, c1_i32_17⟩
def k0_off76 (v1_0 : BitVec 32) (k0_t6 : Fin (k0_t6_loop v1_0).trips) : Fin 1 → Nat :=
  let c0_i32_13 : BitVec 32 := 0#32
  let v15 : BitVec 32 := Scalar.subi v1_0 c0_i32_13
  let c1_i32_15 : BitVec 32 := 1#32
  let v17 : BitVec 32 := Scalar.divsi v15 c1_i32_15
  let v18 : BitVec 32 := Scalar.muli v17 c1_i32_15
  let v19 : BitVec 32 := Scalar.addi c0_i32_13 v18
  let c1_i32_17 : BitVec 32 := 1#32
  let arg22 : BitVec 32 := Scf.iv v19 c1_i32_17 k0_t6
  let c1_i32_1574 : BitVec 32 := 1#32
  let v3643 : BitVec 32 := Scalar.addi arg22 c1_i32_1574
  let v3644 : Index := Scalar.indexCast v3643
  ![v3644.toNat]
def k0_cond15 (v1_0 : BitVec 32) (k0_t6 : Fin (k0_t6_loop v1_0).trips) : BitVec 1 :=
  let c0_i32_13 : BitVec 32 := 0#32
  let v15 : BitVec 32 := Scalar.subi v1_0 c0_i32_13
  let c1_i32_15 : BitVec 32 := 1#32
  let v17 : BitVec 32 := Scalar.divsi v15 c1_i32_15
  let v18 : BitVec 32 := Scalar.muli v17 c1_i32_15
  let v19 : BitVec 32 := Scalar.addi c0_i32_13 v18
  let c1_i32_17 : BitVec 32 := 1#32
  let arg22 : BitVec 32 := Scf.iv v19 c1_i32_17 k0_t6
  let c1_i32_33 : BitVec 32 := 1#32
  let v73 : BitVec 32 := Scalar.addi arg22 c1_i32_33
  let v74 : BitVec 1 := Scalar.cmpi .slt v73 v1_0
  let v75 : BitVec 32 := Scalar.extui v74
  let c0_i32_34 : BitVec 32 := 0#32
  let v76 : BitVec 1 := Scalar.cmpi .ne v75 c0_i32_34
  v76

def k0_mult411 (v3645 : BitVec 32) : BitVec 32 :=
  let c12032_i32_1575 : BitVec 32 := 12032#32
  let v3646 : BitVec 32 := Scalar.minsi v3645 c12032_i32_1575
  v3646

def k0_off77 (v1_0 : BitVec 32) (k0_t6 : Fin (k0_t6_loop v1_0).trips) : Fin 1 → Nat :=
  let c0_i32_13 : BitVec 32 := 0#32
  let v15 : BitVec 32 := Scalar.subi v1_0 c0_i32_13
  let c1_i32_15 : BitVec 32 := 1#32
  let v17 : BitVec 32 := Scalar.divsi v15 c1_i32_15
  let v18 : BitVec 32 := Scalar.muli v17 c1_i32_15
  let v19 : BitVec 32 := Scalar.addi c0_i32_13 v18
  let c1_i32_17 : BitVec 32 := 1#32
  let arg22 : BitVec 32 := Scf.iv v19 c1_i32_17 k0_t6
  let c1_i32_1574 : BitVec 32 := 1#32
  let v3643 : BitVec 32 := Scalar.addi arg22 c1_i32_1574
  let c1_i32_1576 : BitVec 32 := 1#32
  let v3648 : BitVec 32 := Scalar.andi v3643 c1_i32_1576
  ![v3648.toNat]
def k0_off78 (v1_0 : BitVec 32) (k0_t6 : Fin (k0_t6_loop v1_0).trips) : Fin 3 → Nat :=
  let c0_i32_13 : BitVec 32 := 0#32
  let v15 : BitVec 32 := Scalar.subi v1_0 c0_i32_13
  let c1_i32_15 : BitVec 32 := 1#32
  let v17 : BitVec 32 := Scalar.divsi v15 c1_i32_15
  let v18 : BitVec 32 := Scalar.muli v17 c1_i32_15
  let v19 : BitVec 32 := Scalar.addi c0_i32_13 v18
  let c1_i32_17 : BitVec 32 := 1#32
  let arg22 : BitVec 32 := Scf.iv v19 c1_i32_17 k0_t6
  let c1_i32_1574 : BitVec 32 := 1#32
  let v3643 : BitVec 32 := Scalar.addi arg22 c1_i32_1574
  let c1_i32_1576 : BitVec 32 := 1#32
  let v3648 : BitVec 32 := Scalar.andi v3643 c1_i32_1576
  let c0_i32_1577 : BitVec 32 := 0#32
  let c0_i32_1578 : BitVec 32 := 0#32
  ![v3648.toNat, 0, 0]
def k0_off79 (v3645 : BitVec 32) : Fin 2 → Nat :=
  let c12032_i32_1575 : BitVec 32 := 12032#32
  let v3646 : BitVec 32 := Scalar.minsi v3645 c12032_i32_1575
  let v3647 : BitVec 32 := v3646
  let c0_i32_1579 : BitVec 32 := 0#32
  ![v3647.toNat, 0]

def k0_chk18 (v1_0 : BitVec 32) (k0_t6 : Fin (k0_t6_loop v1_0).trips) (v3645 : BitVec 32) : Prop :=
  (∀ (k0_h15 : k0_cond15 v1_0 k0_t6 = 1#1), 16 ∣ (k0_mult411 v3645).toNat) ∧
  (∀ (k0_h15 : k0_cond15 v1_0 k0_t6 = 1#1), ∀ a, (k0_off79 v3645) a + S256x3072.size a ≤ S12288x3072.size a) ∧
  (∀ (k0_h15 : k0_cond15 v1_0 k0_t6 = 1#1), ∀ (hinb : ∀ a, (k0_off79 v3645) a + S256x3072.size a ≤ S12288x3072.size a), (Rect.unit (s := S12288x3072) (k0_off79 v3645) S256x3072.size hinb).WholeWords (EltTy.packing .bf16))
theorem k0_mult411_dvd : ∀ (v1_0 : BitVec 32) (k0_t6 : Fin (k0_t6_loop v1_0).trips) (v3645 : BitVec 32) (k0_hw18 : k0_chk18 v1_0 k0_t6 v3645), ∀ (k0_h15 : k0_cond15 v1_0 k0_t6 = 1#1), 16 ∣ (k0_mult411 v3645).toNat := fun v1_0 k0_t6 v3645 k0_hw18 k0_h15 => k0_hw18.1 k0_h15
theorem k0_off79_inb : ∀ (v1_0 : BitVec 32) (k0_t6 : Fin (k0_t6_loop v1_0).trips) (v3645 : BitVec 32) (k0_hw18 : k0_chk18 v1_0 k0_t6 v3645), ∀ (k0_h15 : k0_cond15 v1_0 k0_t6 = 1#1), ∀ a, (k0_off79 v3645) a + S256x3072.size a ≤ S12288x3072.size a := fun v1_0 k0_t6 v3645 k0_hw18 k0_h15 => k0_hw18.2.1 k0_h15
theorem k0_off79_wordsbf16 : ∀ (v1_0 : BitVec 32) (k0_t6 : Fin (k0_t6_loop v1_0).trips) (v3645 : BitVec 32) (k0_hw18 : k0_chk18 v1_0 k0_t6 v3645), ∀ (k0_h15 : k0_cond15 v1_0 k0_t6 = 1#1), (Rect.unit (s := S12288x3072) (k0_off79 v3645) S256x3072.size (k0_off79_inb v1_0 k0_t6 v3645 k0_hw18 k0_h15)).WholeWords (EltTy.packing .bf16) := fun v1_0 k0_t6 v3645 k0_hw18 k0_h15 => k0_hw18.2.2 k0_h15 (k0_off79_inb v1_0 k0_t6 v3645 k0_hw18 k0_h15)

def k0_off80 (v1_0 : BitVec 32) (k0_t6 : Fin (k0_t6_loop v1_0).trips) : Fin 1 → Nat :=
  let c0_i32_13 : BitVec 32 := 0#32
  let v15 : BitVec 32 := Scalar.subi v1_0 c0_i32_13
  let c1_i32_15 : BitVec 32 := 1#32
  let v17 : BitVec 32 := Scalar.divsi v15 c1_i32_15
  let v18 : BitVec 32 := Scalar.muli v17 c1_i32_15
  let v19 : BitVec 32 := Scalar.addi c0_i32_13 v18
  let c1_i32_17 : BitVec 32 := 1#32
  let arg22 : BitVec 32 := Scf.iv v19 c1_i32_17 k0_t6
  let v77 : Index := Scalar.indexCast arg22
  ![v77.toNat]
def k0_off81 (v1_0 : BitVec 32) (k0_t6 : Fin (k0_t6_loop v1_0).trips) : Fin 1 → Nat :=
  let c0_i32_13 : BitVec 32 := 0#32
  let v15 : BitVec 32 := Scalar.subi v1_0 c0_i32_13
  let c1_i32_15 : BitVec 32 := 1#32
  let v17 : BitVec 32 := Scalar.divsi v15 c1_i32_15
  let v18 : BitVec 32 := Scalar.muli v17 c1_i32_15
  let v19 : BitVec 32 := Scalar.addi c0_i32_13 v18
  let c1_i32_17 : BitVec 32 := 1#32
  let arg22 : BitVec 32 := Scf.iv v19 c1_i32_17 k0_t6
  let v3643 : Index := Scalar.indexCast arg22
  ![v3643.toNat]
def k0_cond16 (v78 : BitVec 32) : BitVec 1 :=
  let c1_i32_35 : BitVec 32 := 1#32
  let v79 : BitVec 1 := Scalar.cmpi .eq v78 c1_i32_35
  let v80 : BitVec 32 := Scalar.extui v79
  let c0_i32_36 : BitVec 32 := 0#32
  let v81 : BitVec 1 := Scalar.cmpi .ne v80 c0_i32_36
  v81

def k0_chk19 (v1_0 : BitVec 32) (k0_t6 : Fin (k0_t6_loop v1_0).trips) (v78 : BitVec 32) : Prop :=
  (∀ (k0_h16 : k0_cond16 v78 = 1#1), ∀ a, (k0_off81 v1_0 k0_t6) a + S1.size a ≤ S64.size a)
theorem k0_off81_inb : ∀ (v1_0 : BitVec 32) (k0_t6 : Fin (k0_t6_loop v1_0).trips) (v78 : BitVec 32) (k0_hw19 : k0_chk19 v1_0 k0_t6 v78), ∀ (k0_h16 : k0_cond16 v78 = 1#1), ∀ a, (k0_off81 v1_0 k0_t6) a + S1.size a ≤ S64.size a := fun v1_0 k0_t6 v78 k0_hw19 k0_h16 => k0_hw19 k0_h16

def k0_off82 (v3644 : BitVec 32) : Fin 3 → Nat :=
  let c0_i32_1574 : BitVec 32 := 0#32
  let c0_i32_1575 : BitVec 32 := 0#32
  ![v3644.toNat, 0, 0]

def k0_off83 (v3644 : BitVec 32) : Fin 3 → Nat :=
  let c0_i32_1576 : BitVec 32 := 0#32
  let c0_i32_1577 : BitVec 32 := 0#32
  ![v3644.toNat, 0, 0]

def k0_chk20 (v78 : BitVec 32) (v3644 : BitVec 32) : Prop :=
  (∀ (k0_h16 : k0_cond16 v78 = 1#1), ∀ a, (k0_off82 v3644) a + S1x3072x1536.size a ≤ S8x3072x1536.size a) ∧
  (∀ (k0_h16 : k0_cond16 v78 = 1#1), ∀ (hinb : ∀ a, (k0_off82 v3644) a + S1x3072x1536.size a ≤ S8x3072x1536.size a), (Rect.unit (s := S8x3072x1536) (k0_off82 v3644) S1x3072x1536.size hinb).WholeWords (EltTy.packing .fp8e4m3)) ∧
  (∀ (k0_h16 : k0_cond16 v78 = 1#1), ∀ a, (k0_off83 v3644) a + S1x96x1536.size a ≤ S8x96x1536.size a) ∧
  (∀ (k0_h16 : k0_cond16 v78 = 1#1), ∀ (hinb : ∀ a, (k0_off83 v3644) a + S1x96x1536.size a ≤ S8x96x1536.size a), (Rect.unit (s := S8x96x1536) (k0_off83 v3644) S1x96x1536.size hinb).WholeWords (EltTy.packing .i8))
theorem k0_off82_inb : ∀ (v78 : BitVec 32) (v3644 : BitVec 32) (k0_hw20 : k0_chk20 v78 v3644), ∀ (k0_h16 : k0_cond16 v78 = 1#1), ∀ a, (k0_off82 v3644) a + S1x3072x1536.size a ≤ S8x3072x1536.size a := fun v78 v3644 k0_hw20 k0_h16 => k0_hw20.1 k0_h16
theorem k0_off82_wordsfp8e4m3 : ∀ (v78 : BitVec 32) (v3644 : BitVec 32) (k0_hw20 : k0_chk20 v78 v3644), ∀ (k0_h16 : k0_cond16 v78 = 1#1), (Rect.unit (s := S8x3072x1536) (k0_off82 v3644) S1x3072x1536.size (k0_off82_inb v78 v3644 k0_hw20 k0_h16)).WholeWords (EltTy.packing .fp8e4m3) := fun v78 v3644 k0_hw20 k0_h16 => k0_hw20.2.1 k0_h16 (k0_off82_inb v78 v3644 k0_hw20 k0_h16)
theorem k0_off83_inb : ∀ (v78 : BitVec 32) (v3644 : BitVec 32) (k0_hw20 : k0_chk20 v78 v3644), ∀ (k0_h16 : k0_cond16 v78 = 1#1), ∀ a, (k0_off83 v3644) a + S1x96x1536.size a ≤ S8x96x1536.size a := fun v78 v3644 k0_hw20 k0_h16 => k0_hw20.2.2.1 k0_h16
theorem k0_off83_wordsi8 : ∀ (v78 : BitVec 32) (v3644 : BitVec 32) (k0_hw20 : k0_chk20 v78 v3644), ∀ (k0_h16 : k0_cond16 v78 = 1#1), (Rect.unit (s := S8x96x1536) (k0_off83 v3644) S1x96x1536.size (k0_off83_inb v78 v3644 k0_hw20 k0_h16)).WholeWords (EltTy.packing .i8) := fun v78 v3644 k0_hw20 k0_h16 => k0_hw20.2.2.2 k0_h16 (k0_off83_inb v78 v3644 k0_hw20 k0_h16)

@[reducible] def k0_t7_loop : Scf.Loop 32 :=
  let c0_i32_1583 : BitVec 32 := 0#32
  let c96_i32_1584 : BitVec 32 := 96#32
  let v3659 : BitVec 32 := Scalar.addi c0_i32_1583 c96_i32_1584
  let c1_i32_1585 : BitVec 32 := 1#32
  ⟨c0_i32_1583, v3659, c1_i32_1585⟩
def k0_mult412 (k0_t7 : Fin k0_t7_loop.trips) : BitVec 32 :=
  let c0_i32_1583 : BitVec 32 := 0#32
  let c1_i32_1585 : BitVec 32 := 1#32
  let arg24 : BitVec 32 := Scf.iv c0_i32_1583 c1_i32_1585 k0_t7
  let c32_i32_1589 : BitVec 32 := 32#32
  let v3666 : BitVec 32 := Scalar.muli arg24 c32_i32_1589
  v3666
def k0_off84 (k0_t7 : Fin k0_t7_loop.trips) : Fin 2 → Nat :=
  let c0_i32_1583 : BitVec 32 := 0#32
  let c1_i32_1585 : BitVec 32 := 1#32
  let arg24 : BitVec 32 := Scf.iv c0_i32_1583 c1_i32_1585 k0_t7
  let v3668 : Index := Scalar.indexCast arg24
  let c0_1590 : Index := 0#32
  ![v3668.toNat, 0]
def k0_off85 (k0_t7 : Fin k0_t7_loop.trips) : Fin 2 → Nat :=
  let c0_i32_1583 : BitVec 32 := 0#32
  let c1_i32_1585 : BitVec 32 := 1#32
  let arg24 : BitVec 32 := Scf.iv c0_i32_1583 c1_i32_1585 k0_t7
  let c32_i32_1589 : BitVec 32 := 32#32
  let v3666 : BitVec 32 := Scalar.muli arg24 c32_i32_1589
  let v3667 : BitVec 32 := v3666
  let v3673 : Index := Scalar.indexCast v3667
  let c0_1591 : Index := 0#32
  ![v3673.toNat, 0]
def k0_off86 (v1_0 : BitVec 32) (arg24 : BitVec 32) : Fin 1 → Nat :=
  let c1_i32_1589 : BitVec 32 := 1#32
  let v3667 : BitVec 32 := Scalar.subi v1_0 c1_i32_1589
  let v3668 : BitVec 32 := Scalar.minsi arg24 v3667
  let v3669 : Index := Scalar.indexCast v3668
  ![v3669.toNat]

def k0_chk21 (v1_0 : BitVec 32) (v78 : BitVec 32) (arg24 : BitVec 32) : Prop :=
  (∀ (k0_h16 : k0_cond16 v78 = 1#1), ∀ a, (k0_off86 v1_0 arg24) a + S1.size a ≤ S64.size a)
theorem k0_off86_inb : ∀ (v1_0 : BitVec 32) (v78 : BitVec 32) (arg24 : BitVec 32) (k0_hw21 : k0_chk21 v1_0 v78 arg24), ∀ (k0_h16 : k0_cond16 v78 = 1#1), ∀ a, (k0_off86 v1_0 arg24) a + S1.size a ≤ S64.size a := fun v1_0 v78 arg24 k0_hw21 k0_h16 => k0_hw21 k0_h16

def k0_off87 (v3662 : BitVec 32) : Fin 1 → Nat :=
  let v3666 : Index := Scalar.indexCast v3662
  ![v3666.toNat]
def k0_cond17 (v1_0 : BitVec 32) (v3662 : BitVec 32) : BitVec 1 :=
  let v3663 : BitVec 1 := Scalar.cmpi .slt v3662 v1_0
  let v3664 : BitVec 32 := Scalar.extui v3663
  let c0_i32_1588 : BitVec 32 := 0#32
  let v3665 : BitVec 1 := Scalar.cmpi .ne v3664 c0_i32_1588
  v3665

def k0_chk22 (v1_0 : BitVec 32) (v78 : BitVec 32) (v3662 : BitVec 32) : Prop :=
  (∀ (k0_h16 : k0_cond16 v78 = 1#1), ∀ (k0_h17 : k0_cond17 v1_0 v3662 = 1#1), ∀ a, (k0_off87 v3662) a + S1.size a ≤ S64.size a)
theorem k0_off87_inb : ∀ (v1_0 : BitVec 32) (v78 : BitVec 32) (v3662 : BitVec 32) (k0_hw22 : k0_chk22 v1_0 v78 v3662), ∀ (k0_h16 : k0_cond16 v78 = 1#1), ∀ (k0_h17 : k0_cond17 v1_0 v3662 = 1#1), ∀ a, (k0_off87 v3662) a + S1.size a ≤ S64.size a := fun v1_0 v78 v3662 k0_hw22 k0_h16 k0_h17 => k0_hw22 k0_h16 k0_h17

def k0_off88 (v3667 : BitVec 32) : Fin 3 → Nat :=
  let c0_i32_1589 : BitVec 32 := 0#32
  let c0_i32_1590 : BitVec 32 := 0#32
  ![v3667.toNat, 0, 0]

def k0_off89 (v3667 : BitVec 32) : Fin 3 → Nat :=
  let c0_i32_1591 : BitVec 32 := 0#32
  let c0_i32_1592 : BitVec 32 := 0#32
  ![v3667.toNat, 0, 0]

def k0_chk23 (v1_0 : BitVec 32) (v78 : BitVec 32) (v3662 : BitVec 32) (v3667 : BitVec 32) : Prop :=
  (∀ (k0_h16 : k0_cond16 v78 = 1#1), ∀ (k0_h17 : k0_cond17 v1_0 v3662 = 1#1), ∀ a, (k0_off88 v3667) a + S1x3072x1536.size a ≤ S8x3072x1536.size a) ∧
  (∀ (k0_h16 : k0_cond16 v78 = 1#1), ∀ (k0_h17 : k0_cond17 v1_0 v3662 = 1#1), ∀ (hinb : ∀ a, (k0_off88 v3667) a + S1x3072x1536.size a ≤ S8x3072x1536.size a), (Rect.unit (s := S8x3072x1536) (k0_off88 v3667) S1x3072x1536.size hinb).WholeWords (EltTy.packing .fp8e4m3)) ∧
  (∀ (k0_h16 : k0_cond16 v78 = 1#1), ∀ (k0_h17 : k0_cond17 v1_0 v3662 = 1#1), ∀ a, (k0_off89 v3667) a + S1x96x1536.size a ≤ S8x96x1536.size a) ∧
  (∀ (k0_h16 : k0_cond16 v78 = 1#1), ∀ (k0_h17 : k0_cond17 v1_0 v3662 = 1#1), ∀ (hinb : ∀ a, (k0_off89 v3667) a + S1x96x1536.size a ≤ S8x96x1536.size a), (Rect.unit (s := S8x96x1536) (k0_off89 v3667) S1x96x1536.size hinb).WholeWords (EltTy.packing .i8))
theorem k0_off88_inb : ∀ (v1_0 : BitVec 32) (v78 : BitVec 32) (v3662 : BitVec 32) (v3667 : BitVec 32) (k0_hw23 : k0_chk23 v1_0 v78 v3662 v3667), ∀ (k0_h16 : k0_cond16 v78 = 1#1), ∀ (k0_h17 : k0_cond17 v1_0 v3662 = 1#1), ∀ a, (k0_off88 v3667) a + S1x3072x1536.size a ≤ S8x3072x1536.size a := fun v1_0 v78 v3662 v3667 k0_hw23 k0_h16 k0_h17 => k0_hw23.1 k0_h16 k0_h17
theorem k0_off88_wordsfp8e4m3 : ∀ (v1_0 : BitVec 32) (v78 : BitVec 32) (v3662 : BitVec 32) (v3667 : BitVec 32) (k0_hw23 : k0_chk23 v1_0 v78 v3662 v3667), ∀ (k0_h16 : k0_cond16 v78 = 1#1), ∀ (k0_h17 : k0_cond17 v1_0 v3662 = 1#1), (Rect.unit (s := S8x3072x1536) (k0_off88 v3667) S1x3072x1536.size (k0_off88_inb v1_0 v78 v3662 v3667 k0_hw23 k0_h16 k0_h17)).WholeWords (EltTy.packing .fp8e4m3) := fun v1_0 v78 v3662 v3667 k0_hw23 k0_h16 k0_h17 => k0_hw23.2.1 k0_h16 k0_h17 (k0_off88_inb v1_0 v78 v3662 v3667 k0_hw23 k0_h16 k0_h17)
theorem k0_off89_inb : ∀ (v1_0 : BitVec 32) (v78 : BitVec 32) (v3662 : BitVec 32) (v3667 : BitVec 32) (k0_hw23 : k0_chk23 v1_0 v78 v3662 v3667), ∀ (k0_h16 : k0_cond16 v78 = 1#1), ∀ (k0_h17 : k0_cond17 v1_0 v3662 = 1#1), ∀ a, (k0_off89 v3667) a + S1x96x1536.size a ≤ S8x96x1536.size a := fun v1_0 v78 v3662 v3667 k0_hw23 k0_h16 k0_h17 => k0_hw23.2.2.1 k0_h16 k0_h17
theorem k0_off89_wordsi8 : ∀ (v1_0 : BitVec 32) (v78 : BitVec 32) (v3662 : BitVec 32) (v3667 : BitVec 32) (k0_hw23 : k0_chk23 v1_0 v78 v3662 v3667), ∀ (k0_h16 : k0_cond16 v78 = 1#1), ∀ (k0_h17 : k0_cond17 v1_0 v3662 = 1#1), (Rect.unit (s := S8x96x1536) (k0_off89 v3667) S1x96x1536.size (k0_off89_inb v1_0 v78 v3662 v3667 k0_hw23 k0_h16 k0_h17)).WholeWords (EltTy.packing .i8) := fun v1_0 v78 v3662 v3667 k0_hw23 k0_h16 k0_h17 => k0_hw23.2.2.2 k0_h16 k0_h17 (k0_off89_inb v1_0 v78 v3662 v3667 k0_hw23 k0_h16 k0_h17)

def k0_off90 (v1_0 : BitVec 32) (k0_t6 : Fin (k0_t6_loop v1_0).trips) : Fin 1 → Nat :=
  let c0_i32_13 : BitVec 32 := 0#32
  let v15 : BitVec 32 := Scalar.subi v1_0 c0_i32_13
  let c1_i32_15 : BitVec 32 := 1#32
  let v17 : BitVec 32 := Scalar.divsi v15 c1_i32_15
  let v18 : BitVec 32 := Scalar.muli v17 c1_i32_15
  let v19 : BitVec 32 := Scalar.addi c0_i32_13 v18
  let c1_i32_17 : BitVec 32 := 1#32
  let arg22 : BitVec 32 := Scf.iv v19 c1_i32_17 k0_t6
  let v82 : Index := Scalar.indexCast arg22
  ![v82.toNat]
def k0_mult413 (v83 : BitVec 32) : BitVec 32 :=
  let c12032_i32_37 : BitVec 32 := 12032#32
  let v84 : BitVec 32 := Scalar.minsi v83 c12032_i32_37
  v84

def k0_off91 (v1_0 : BitVec 32) (k0_t6 : Fin (k0_t6_loop v1_0).trips) : Fin 1 → Nat :=
  let c0_i32_13 : BitVec 32 := 0#32
  let v15 : BitVec 32 := Scalar.subi v1_0 c0_i32_13
  let c1_i32_15 : BitVec 32 := 1#32
  let v17 : BitVec 32 := Scalar.divsi v15 c1_i32_15
  let v18 : BitVec 32 := Scalar.muli v17 c1_i32_15
  let v19 : BitVec 32 := Scalar.addi c0_i32_13 v18
  let c1_i32_17 : BitVec 32 := 1#32
  let arg22 : BitVec 32 := Scf.iv v19 c1_i32_17 k0_t6
  let c1_i32_38 : BitVec 32 := 1#32
  let v86 : BitVec 32 := Scalar.andi arg22 c1_i32_38
  ![v86.toNat]
def k0_off92 (v1_0 : BitVec 32) (k0_t6 : Fin (k0_t6_loop v1_0).trips) : Fin 3 → Nat :=
  let c0_i32_13 : BitVec 32 := 0#32
  let v15 : BitVec 32 := Scalar.subi v1_0 c0_i32_13
  let c1_i32_15 : BitVec 32 := 1#32
  let v17 : BitVec 32 := Scalar.divsi v15 c1_i32_15
  let v18 : BitVec 32 := Scalar.muli v17 c1_i32_15
  let v19 : BitVec 32 := Scalar.addi c0_i32_13 v18
  let c1_i32_17 : BitVec 32 := 1#32
  let arg22 : BitVec 32 := Scf.iv v19 c1_i32_17 k0_t6
  let c1_i32_38 : BitVec 32 := 1#32
  let v86 : BitVec 32 := Scalar.andi arg22 c1_i32_38
  let c0_i32_39 : BitVec 32 := 0#32
  let c0_i32_40 : BitVec 32 := 0#32
  ![v86.toNat, 0, 0]
def k0_off93 (v83 : BitVec 32) : Fin 2 → Nat :=
  let c12032_i32_37 : BitVec 32 := 12032#32
  let v84 : BitVec 32 := Scalar.minsi v83 c12032_i32_37
  let v85 : BitVec 32 := v84
  let c0_i32_41 : BitVec 32 := 0#32
  ![v85.toNat, 0]

def k0_chk24 (v83 : BitVec 32) : Prop :=
  (16 ∣ (k0_mult413 v83).toNat) ∧
  (∀ a, (k0_off93 v83) a + S256x3072.size a ≤ S12288x3072.size a) ∧
  (∀ (hinb : ∀ a, (k0_off93 v83) a + S256x3072.size a ≤ S12288x3072.size a), (Rect.unit (s := S12288x3072) (k0_off93 v83) S256x3072.size hinb).WholeWords (EltTy.packing .bf16))
theorem k0_mult413_dvd : ∀ (v83 : BitVec 32) (k0_hw24 : k0_chk24 v83), 16 ∣ (k0_mult413 v83).toNat := fun v83 k0_hw24 => k0_hw24.1
theorem k0_off93_inb : ∀ (v83 : BitVec 32) (k0_hw24 : k0_chk24 v83), ∀ a, (k0_off93 v83) a + S256x3072.size a ≤ S12288x3072.size a := fun v83 k0_hw24 => k0_hw24.2.1
theorem k0_off93_wordsbf16 : ∀ (v83 : BitVec 32) (k0_hw24 : k0_chk24 v83), (Rect.unit (s := S12288x3072) (k0_off93 v83) S256x3072.size (k0_off93_inb v83 k0_hw24)).WholeWords (EltTy.packing .bf16) := fun v83 k0_hw24 => k0_hw24.2.2 (k0_off93_inb v83 k0_hw24)

def k0_off94 (v1_0 : BitVec 32) (k0_t6 : Fin (k0_t6_loop v1_0).trips) : Fin 1 → Nat :=
  let c0_i32_13 : BitVec 32 := 0#32
  let v15 : BitVec 32 := Scalar.subi v1_0 c0_i32_13
  let c1_i32_15 : BitVec 32 := 1#32
  let v17 : BitVec 32 := Scalar.divsi v15 c1_i32_15
  let v18 : BitVec 32 := Scalar.muli v17 c1_i32_15
  let v19 : BitVec 32 := Scalar.addi c0_i32_13 v18
  let c1_i32_17 : BitVec 32 := 1#32
  let arg22 : BitVec 32 := Scf.iv v19 c1_i32_17 k0_t6
  let v92 : Index := Scalar.indexCast arg22
  ![v92.toNat]
def k0_mult414 (v93 : BitVec 32) : BitVec 32 :=
  let c12032_i32_42 : BitVec 32 := 12032#32
  let v94 : BitVec 32 := Scalar.minsi v93 c12032_i32_42
  let v95 : BitVec 32 := Scalar.subi v93 v94
  v95

def k0_mult415 (v93 : BitVec 32) : BitVec 32 :=
  let c12032_i32_42 : BitVec 32 := 12032#32
  let v94 : BitVec 32 := Scalar.minsi v93 c12032_i32_42
  let v95 : BitVec 32 := Scalar.subi v93 v94
  let v96 : BitVec 32 := v95
  let c0_i32_43 : BitVec 32 := 0#32
  let v97 : BitVec 32 := Scalar.addi v96 c0_i32_43
  let c255_i32 : BitVec 32 := 255#32
  let v98 : BitVec 32 := Scalar.andi v97 c255_i32
  v98
def k0_off95 (v1_0 : BitVec 32) (k0_t6 : Fin (k0_t6_loop v1_0).trips) (v93 : BitVec 32) (c0_i32_43 : BitVec 32) : Fin 3 → Nat :=
  let c0_i32_13 : BitVec 32 := 0#32
  let v15 : BitVec 32 := Scalar.subi v1_0 c0_i32_13
  let c1_i32_15 : BitVec 32 := 1#32
  let v17 : BitVec 32 := Scalar.divsi v15 c1_i32_15
  let v18 : BitVec 32 := Scalar.muli v17 c1_i32_15
  let v19 : BitVec 32 := Scalar.addi c0_i32_13 v18
  let c1_i32_17 : BitVec 32 := 1#32
  let arg22 : BitVec 32 := Scf.iv v19 c1_i32_17 k0_t6
  let c1_i32_32 : BitVec 32 := 1#32
  let v72 : BitVec 32 := Scalar.andi arg22 c1_i32_32
  let v100 : Index := Scalar.indexCast v72
  let c12032_i32_42 : BitVec 32 := 12032#32
  let v94 : BitVec 32 := Scalar.minsi v93 c12032_i32_42
  let v95 : BitVec 32 := Scalar.subi v93 v94
  let v96 : BitVec 32 := v95
  let v97 : BitVec 32 := Scalar.addi v96 c0_i32_43
  let c255_i32 : BitVec 32 := 255#32
  let v98 : BitVec 32 := Scalar.andi v97 c255_i32
  let v99 : BitVec 32 := v98
  let v101 : Index := Scalar.indexCast v99
  let c0_44 : Index := 0#32
  ![v100.toNat, v101.toNat, 0]
def k0_mult416 (v93 : BitVec 32) : BitVec 32 :=
  let c12032_i32_42 : BitVec 32 := 12032#32
  let v94 : BitVec 32 := Scalar.minsi v93 c12032_i32_42
  let v95 : BitVec 32 := Scalar.subi v93 v94
  let v96 : BitVec 32 := v95
  let c0_i32_45 : BitVec 32 := 0#32
  let v104 : BitVec 32 := Scalar.addi v96 c0_i32_45
  let c255_i32_46 : BitVec 32 := 255#32
  let v105 : BitVec 32 := Scalar.andi v104 c255_i32_46
  v105
def k0_off96 (v1_0 : BitVec 32) (k0_t6 : Fin (k0_t6_loop v1_0).trips) (v93 : BitVec 32) (c0_i32_45 : BitVec 32) : Fin 3 → Nat :=
  let c0_i32_13 : BitVec 32 := 0#32
  let v15 : BitVec 32 := Scalar.subi v1_0 c0_i32_13
  let c1_i32_15 : BitVec 32 := 1#32
  let v17 : BitVec 32 := Scalar.divsi v15 c1_i32_15
  let v18 : BitVec 32 := Scalar.muli v17 c1_i32_15
  let v19 : BitVec 32 := Scalar.addi c0_i32_13 v18
  let c1_i32_17 : BitVec 32 := 1#32
  let arg22 : BitVec 32 := Scf.iv v19 c1_i32_17 k0_t6
  let c1_i32_32 : BitVec 32 := 1#32
  let v72 : BitVec 32 := Scalar.andi arg22 c1_i32_32
  let v107 : Index := Scalar.indexCast v72
  let c12032_i32_42 : BitVec 32 := 12032#32
  let v94 : BitVec 32 := Scalar.minsi v93 c12032_i32_42
  let v95 : BitVec 32 := Scalar.subi v93 v94
  let v96 : BitVec 32 := v95
  let v104 : BitVec 32 := Scalar.addi v96 c0_i32_45
  let c255_i32_46 : BitVec 32 := 255#32
  let v105 : BitVec 32 := Scalar.andi v104 c255_i32_46
  let v106 : BitVec 32 := v105
  let v108 : Index := Scalar.indexCast v106
  let c128 : Index := 128#32
  ![v107.toNat, v108.toNat, 128]
def k0_mult417 (v93 : BitVec 32) : BitVec 32 :=
  let c12032_i32_42 : BitVec 32 := 12032#32
  let v94 : BitVec 32 := Scalar.minsi v93 c12032_i32_42
  let v95 : BitVec 32 := Scalar.subi v93 v94
  let v96 : BitVec 32 := v95
  let c16_i32_47 : BitVec 32 := 16#32
  let v111 : BitVec 32 := Scalar.addi v96 c16_i32_47
  let c255_i32_48 : BitVec 32 := 255#32
  let v112 : BitVec 32 := Scalar.andi v111 c255_i32_48
  v112
def k0_mult418 (v93 : BitVec 32) : BitVec 32 :=
  let c12032_i32_42 : BitVec 32 := 12032#32
  let v94 : BitVec 32 := Scalar.minsi v93 c12032_i32_42
  let v95 : BitVec 32 := Scalar.subi v93 v94
  let v96 : BitVec 32 := v95
  let c16_i32_50 : BitVec 32 := 16#32
  let v118 : BitVec 32 := Scalar.addi v96 c16_i32_50
  let c255_i32_51 : BitVec 32 := 255#32
  let v119 : BitVec 32 := Scalar.andi v118 c255_i32_51
  v119
def k0_mult419 (v93 : BitVec 32) : BitVec 32 :=
  let c12032_i32_42 : BitVec 32 := 12032#32
  let v94 : BitVec 32 := Scalar.minsi v93 c12032_i32_42
  let v95 : BitVec 32 := Scalar.subi v93 v94
  let v96 : BitVec 32 := v95
  let c32_i32_53 : BitVec 32 := 32#32
  let v125 : BitVec 32 := Scalar.addi v96 c32_i32_53
  let c255_i32_54 : BitVec 32 := 255#32
  let v126 : BitVec 32 := Scalar.andi v125 c255_i32_54
  v126
def k0_mult420 (v93 : BitVec 32) : BitVec 32 :=
  let c12032_i32_42 : BitVec 32 := 12032#32
  let v94 : BitVec 32 := Scalar.minsi v93 c12032_i32_42
  let v95 : BitVec 32 := Scalar.subi v93 v94
  let v96 : BitVec 32 := v95
  let c32_i32_56 : BitVec 32 := 32#32
  let v132 : BitVec 32 := Scalar.addi v96 c32_i32_56
  let c255_i32_57 : BitVec 32 := 255#32
  let v133 : BitVec 32 := Scalar.andi v132 c255_i32_57
  v133
def k0_mult421 (v93 : BitVec 32) : BitVec 32 :=
  let c12032_i32_42 : BitVec 32 := 12032#32
  let v94 : BitVec 32 := Scalar.minsi v93 c12032_i32_42
  let v95 : BitVec 32 := Scalar.subi v93 v94
  let v96 : BitVec 32 := v95
  let c48_i32 : BitVec 32 := 48#32
  let v139 : BitVec 32 := Scalar.addi v96 c48_i32
  let c255_i32_59 : BitVec 32 := 255#32
  let v140 : BitVec 32 := Scalar.andi v139 c255_i32_59
  v140
def k0_mult422 (v93 : BitVec 32) : BitVec 32 :=
  let c12032_i32_42 : BitVec 32 := 12032#32
  let v94 : BitVec 32 := Scalar.minsi v93 c12032_i32_42
  let v95 : BitVec 32 := Scalar.subi v93 v94
  let v96 : BitVec 32 := v95
  let c48_i32_61 : BitVec 32 := 48#32
  let v146 : BitVec 32 := Scalar.addi v96 c48_i32_61
  let c255_i32_62 : BitVec 32 := 255#32
  let v147 : BitVec 32 := Scalar.andi v146 c255_i32_62
  v147
def k0_mult423 (v93 : BitVec 32) : BitVec 32 :=
  let c12032_i32_42 : BitVec 32 := 12032#32
  let v94 : BitVec 32 := Scalar.minsi v93 c12032_i32_42
  let v95 : BitVec 32 := Scalar.subi v93 v94
  let v96 : BitVec 32 := v95
  let c64_i32_64 : BitVec 32 := 64#32
  let v153 : BitVec 32 := Scalar.addi v96 c64_i32_64
  let c255_i32_65 : BitVec 32 := 255#32
  let v154 : BitVec 32 := Scalar.andi v153 c255_i32_65
  v154
def k0_mult424 (v93 : BitVec 32) : BitVec 32 :=
  let c12032_i32_42 : BitVec 32 := 12032#32
  let v94 : BitVec 32 := Scalar.minsi v93 c12032_i32_42
  let v95 : BitVec 32 := Scalar.subi v93 v94
  let v96 : BitVec 32 := v95
  let c64_i32_67 : BitVec 32 := 64#32
  let v160 : BitVec 32 := Scalar.addi v96 c64_i32_67
  let c255_i32_68 : BitVec 32 := 255#32
  let v161 : BitVec 32 := Scalar.andi v160 c255_i32_68
  v161
def k0_mult425 (v93 : BitVec 32) : BitVec 32 :=
  let c12032_i32_42 : BitVec 32 := 12032#32
  let v94 : BitVec 32 := Scalar.minsi v93 c12032_i32_42
  let v95 : BitVec 32 := Scalar.subi v93 v94
  let v96 : BitVec 32 := v95
  let c80_i32 : BitVec 32 := 80#32
  let v167 : BitVec 32 := Scalar.addi v96 c80_i32
  let c255_i32_70 : BitVec 32 := 255#32
  let v168 : BitVec 32 := Scalar.andi v167 c255_i32_70
  v168
def k0_mult426 (v93 : BitVec 32) : BitVec 32 :=
  let c12032_i32_42 : BitVec 32 := 12032#32
  let v94 : BitVec 32 := Scalar.minsi v93 c12032_i32_42
  let v95 : BitVec 32 := Scalar.subi v93 v94
  let v96 : BitVec 32 := v95
  let c80_i32_72 : BitVec 32 := 80#32
  let v174 : BitVec 32 := Scalar.addi v96 c80_i32_72
  let c255_i32_73 : BitVec 32 := 255#32
  let v175 : BitVec 32 := Scalar.andi v174 c255_i32_73
  v175
def k0_mult427 (v93 : BitVec 32) : BitVec 32 :=
  let c12032_i32_42 : BitVec 32 := 12032#32
  let v94 : BitVec 32 := Scalar.minsi v93 c12032_i32_42
  let v95 : BitVec 32 := Scalar.subi v93 v94
  let v96 : BitVec 32 := v95
  let c96_i32 : BitVec 32 := 96#32
  let v181 : BitVec 32 := Scalar.addi v96 c96_i32
  let c255_i32_75 : BitVec 32 := 255#32
  let v182 : BitVec 32 := Scalar.andi v181 c255_i32_75
  v182
def k0_mult428 (v93 : BitVec 32) : BitVec 32 :=
  let c12032_i32_42 : BitVec 32 := 12032#32
  let v94 : BitVec 32 := Scalar.minsi v93 c12032_i32_42
  let v95 : BitVec 32 := Scalar.subi v93 v94
  let v96 : BitVec 32 := v95
  let c96_i32_77 : BitVec 32 := 96#32
  let v188 : BitVec 32 := Scalar.addi v96 c96_i32_77
  let c255_i32_78 : BitVec 32 := 255#32
  let v189 : BitVec 32 := Scalar.andi v188 c255_i32_78
  v189
def k0_mult429 (v93 : BitVec 32) : BitVec 32 :=
  let c12032_i32_42 : BitVec 32 := 12032#32
  let v94 : BitVec 32 := Scalar.minsi v93 c12032_i32_42
  let v95 : BitVec 32 := Scalar.subi v93 v94
  let v96 : BitVec 32 := v95
  let c112_i32 : BitVec 32 := 112#32
  let v195 : BitVec 32 := Scalar.addi v96 c112_i32
  let c255_i32_80 : BitVec 32 := 255#32
  let v196 : BitVec 32 := Scalar.andi v195 c255_i32_80
  v196
def k0_mult430 (v93 : BitVec 32) : BitVec 32 :=
  let c12032_i32_42 : BitVec 32 := 12032#32
  let v94 : BitVec 32 := Scalar.minsi v93 c12032_i32_42
  let v95 : BitVec 32 := Scalar.subi v93 v94
  let v96 : BitVec 32 := v95
  let c112_i32_82 : BitVec 32 := 112#32
  let v202 : BitVec 32 := Scalar.addi v96 c112_i32_82
  let c255_i32_83 : BitVec 32 := 255#32
  let v203 : BitVec 32 := Scalar.andi v202 c255_i32_83
  v203
def k0_mult431 (v93 : BitVec 32) : BitVec 32 :=
  let c12032_i32_42 : BitVec 32 := 12032#32
  let v94 : BitVec 32 := Scalar.minsi v93 c12032_i32_42
  let v95 : BitVec 32 := Scalar.subi v93 v94
  let v96 : BitVec 32 := v95
  let c128_i32_85 : BitVec 32 := 128#32
  let v209 : BitVec 32 := Scalar.addi v96 c128_i32_85
  let c255_i32_86 : BitVec 32 := 255#32
  let v210 : BitVec 32 := Scalar.andi v209 c255_i32_86
  v210
def k0_mult432 (v93 : BitVec 32) : BitVec 32 :=
  let c12032_i32_42 : BitVec 32 := 12032#32
  let v94 : BitVec 32 := Scalar.minsi v93 c12032_i32_42
  let v95 : BitVec 32 := Scalar.subi v93 v94
  let v96 : BitVec 32 := v95
  let c128_i32_88 : BitVec 32 := 128#32
  let v216 : BitVec 32 := Scalar.addi v96 c128_i32_88
  let c255_i32_89 : BitVec 32 := 255#32
  let v217 : BitVec 32 := Scalar.andi v216 c255_i32_89
  v217
def k0_mult433 (v93 : BitVec 32) : BitVec 32 :=
  let c12032_i32_42 : BitVec 32 := 12032#32
  let v94 : BitVec 32 := Scalar.minsi v93 c12032_i32_42
  let v95 : BitVec 32 := Scalar.subi v93 v94
  let v96 : BitVec 32 := v95
  let c144_i32 : BitVec 32 := 144#32
  let v223 : BitVec 32 := Scalar.addi v96 c144_i32
  let c255_i32_91 : BitVec 32 := 255#32
  let v224 : BitVec 32 := Scalar.andi v223 c255_i32_91
  v224
def k0_mult434 (v93 : BitVec 32) : BitVec 32 :=
  let c12032_i32_42 : BitVec 32 := 12032#32
  let v94 : BitVec 32 := Scalar.minsi v93 c12032_i32_42
  let v95 : BitVec 32 := Scalar.subi v93 v94
  let v96 : BitVec 32 := v95
  let c144_i32_93 : BitVec 32 := 144#32
  let v230 : BitVec 32 := Scalar.addi v96 c144_i32_93
  let c255_i32_94 : BitVec 32 := 255#32
  let v231 : BitVec 32 := Scalar.andi v230 c255_i32_94
  v231
def k0_mult435 (v93 : BitVec 32) : BitVec 32 :=
  let c12032_i32_42 : BitVec 32 := 12032#32
  let v94 : BitVec 32 := Scalar.minsi v93 c12032_i32_42
  let v95 : BitVec 32 := Scalar.subi v93 v94
  let v96 : BitVec 32 := v95
  let c160_i32 : BitVec 32 := 160#32
  let v237 : BitVec 32 := Scalar.addi v96 c160_i32
  let c255_i32_96 : BitVec 32 := 255#32
  let v238 : BitVec 32 := Scalar.andi v237 c255_i32_96
  v238
def k0_mult436 (v93 : BitVec 32) : BitVec 32 :=
  let c12032_i32_42 : BitVec 32 := 12032#32
  let v94 : BitVec 32 := Scalar.minsi v93 c12032_i32_42
  let v95 : BitVec 32 := Scalar.subi v93 v94
  let v96 : BitVec 32 := v95
  let c160_i32_98 : BitVec 32 := 160#32
  let v244 : BitVec 32 := Scalar.addi v96 c160_i32_98
  let c255_i32_99 : BitVec 32 := 255#32
  let v245 : BitVec 32 := Scalar.andi v244 c255_i32_99
  v245
def k0_mult437 (v93 : BitVec 32) : BitVec 32 :=
  let c12032_i32_42 : BitVec 32 := 12032#32
  let v94 : BitVec 32 := Scalar.minsi v93 c12032_i32_42
  let v95 : BitVec 32 := Scalar.subi v93 v94
  let v96 : BitVec 32 := v95
  let c176_i32 : BitVec 32 := 176#32
  let v251 : BitVec 32 := Scalar.addi v96 c176_i32
  let c255_i32_101 : BitVec 32 := 255#32
  let v252 : BitVec 32 := Scalar.andi v251 c255_i32_101
  v252
def k0_mult438 (v93 : BitVec 32) : BitVec 32 :=
  let c12032_i32_42 : BitVec 32 := 12032#32
  let v94 : BitVec 32 := Scalar.minsi v93 c12032_i32_42
  let v95 : BitVec 32 := Scalar.subi v93 v94
  let v96 : BitVec 32 := v95
  let c176_i32_103 : BitVec 32 := 176#32
  let v258 : BitVec 32 := Scalar.addi v96 c176_i32_103
  let c255_i32_104 : BitVec 32 := 255#32
  let v259 : BitVec 32 := Scalar.andi v258 c255_i32_104
  v259
def k0_mult439 (v93 : BitVec 32) : BitVec 32 :=
  let c12032_i32_42 : BitVec 32 := 12032#32
  let v94 : BitVec 32 := Scalar.minsi v93 c12032_i32_42
  let v95 : BitVec 32 := Scalar.subi v93 v94
  let v96 : BitVec 32 := v95
  let c192_i32 : BitVec 32 := 192#32
  let v265 : BitVec 32 := Scalar.addi v96 c192_i32
  let c255_i32_106 : BitVec 32 := 255#32
  let v266 : BitVec 32 := Scalar.andi v265 c255_i32_106
  v266
def k0_mult440 (v93 : BitVec 32) : BitVec 32 :=
  let c12032_i32_42 : BitVec 32 := 12032#32
  let v94 : BitVec 32 := Scalar.minsi v93 c12032_i32_42
  let v95 : BitVec 32 := Scalar.subi v93 v94
  let v96 : BitVec 32 := v95
  let c192_i32_108 : BitVec 32 := 192#32
  let v272 : BitVec 32 := Scalar.addi v96 c192_i32_108
  let c255_i32_109 : BitVec 32 := 255#32
  let v273 : BitVec 32 := Scalar.andi v272 c255_i32_109
  v273
def k0_mult441 (v93 : BitVec 32) : BitVec 32 :=
  let c12032_i32_42 : BitVec 32 := 12032#32
  let v94 : BitVec 32 := Scalar.minsi v93 c12032_i32_42
  let v95 : BitVec 32 := Scalar.subi v93 v94
  let v96 : BitVec 32 := v95
  let c208_i32 : BitVec 32 := 208#32
  let v279 : BitVec 32 := Scalar.addi v96 c208_i32
  let c255_i32_111 : BitVec 32 := 255#32
  let v280 : BitVec 32 := Scalar.andi v279 c255_i32_111
  v280
def k0_mult442 (v93 : BitVec 32) : BitVec 32 :=
  let c12032_i32_42 : BitVec 32 := 12032#32
  let v94 : BitVec 32 := Scalar.minsi v93 c12032_i32_42
  let v95 : BitVec 32 := Scalar.subi v93 v94
  let v96 : BitVec 32 := v95
  let c208_i32_113 : BitVec 32 := 208#32
  let v286 : BitVec 32 := Scalar.addi v96 c208_i32_113
  let c255_i32_114 : BitVec 32 := 255#32
  let v287 : BitVec 32 := Scalar.andi v286 c255_i32_114
  v287
def k0_mult443 (v93 : BitVec 32) : BitVec 32 :=
  let c12032_i32_42 : BitVec 32 := 12032#32
  let v94 : BitVec 32 := Scalar.minsi v93 c12032_i32_42
  let v95 : BitVec 32 := Scalar.subi v93 v94
  let v96 : BitVec 32 := v95
  let c224_i32 : BitVec 32 := 224#32
  let v293 : BitVec 32 := Scalar.addi v96 c224_i32
  let c255_i32_116 : BitVec 32 := 255#32
  let v294 : BitVec 32 := Scalar.andi v293 c255_i32_116
  v294
def k0_mult444 (v93 : BitVec 32) : BitVec 32 :=
  let c12032_i32_42 : BitVec 32 := 12032#32
  let v94 : BitVec 32 := Scalar.minsi v93 c12032_i32_42
  let v95 : BitVec 32 := Scalar.subi v93 v94
  let v96 : BitVec 32 := v95
  let c224_i32_118 : BitVec 32 := 224#32
  let v300 : BitVec 32 := Scalar.addi v96 c224_i32_118
  let c255_i32_119 : BitVec 32 := 255#32
  let v301 : BitVec 32 := Scalar.andi v300 c255_i32_119
  v301
def k0_mult445 (v93 : BitVec 32) : BitVec 32 :=
  let c12032_i32_42 : BitVec 32 := 12032#32
  let v94 : BitVec 32 := Scalar.minsi v93 c12032_i32_42
  let v95 : BitVec 32 := Scalar.subi v93 v94
  let v96 : BitVec 32 := v95
  let c240_i32 : BitVec 32 := 240#32
  let v307 : BitVec 32 := Scalar.addi v96 c240_i32
  let c255_i32_121 : BitVec 32 := 255#32
  let v308 : BitVec 32 := Scalar.andi v307 c255_i32_121
  v308
def k0_mult446 (v93 : BitVec 32) : BitVec 32 :=
  let c12032_i32_42 : BitVec 32 := 12032#32
  let v94 : BitVec 32 := Scalar.minsi v93 c12032_i32_42
  let v95 : BitVec 32 := Scalar.subi v93 v94
  let v96 : BitVec 32 := v95
  let c240_i32_123 : BitVec 32 := 240#32
  let v314 : BitVec 32 := Scalar.addi v96 c240_i32_123
  let c255_i32_124 : BitVec 32 := 255#32
  let v315 : BitVec 32 := Scalar.andi v314 c255_i32_124
  v315
def k0_mult447 (v93 : BitVec 32) : BitVec 32 :=
  let c12032_i32_42 : BitVec 32 := 12032#32
  let v94 : BitVec 32 := Scalar.minsi v93 c12032_i32_42
  let v95 : BitVec 32 := Scalar.subi v93 v94
  let v96 : BitVec 32 := v95
  let c0_i32_144 : BitVec 32 := 0#32
  let v385 : BitVec 32 := Scalar.addi v96 c0_i32_144
  let c255_i32_145 : BitVec 32 := 255#32
  let v386 : BitVec 32 := Scalar.andi v385 c255_i32_145
  v386
def k0_off97 (v1_0 : BitVec 32) (k0_t6 : Fin (k0_t6_loop v1_0).trips) (v93 : BitVec 32) (c0_i32_144 : BitVec 32) : Fin 3 → Nat :=
  let c0_i32_13 : BitVec 32 := 0#32
  let v15 : BitVec 32 := Scalar.subi v1_0 c0_i32_13
  let c1_i32_15 : BitVec 32 := 1#32
  let v17 : BitVec 32 := Scalar.divsi v15 c1_i32_15
  let v18 : BitVec 32 := Scalar.muli v17 c1_i32_15
  let v19 : BitVec 32 := Scalar.addi c0_i32_13 v18
  let c1_i32_17 : BitVec 32 := 1#32
  let arg22 : BitVec 32 := Scf.iv v19 c1_i32_17 k0_t6
  let c1_i32_32 : BitVec 32 := 1#32
  let v72 : BitVec 32 := Scalar.andi arg22 c1_i32_32
  let v388 : Index := Scalar.indexCast v72
  let c12032_i32_42 : BitVec 32 := 12032#32
  let v94 : BitVec 32 := Scalar.minsi v93 c12032_i32_42
  let v95 : BitVec 32 := Scalar.subi v93 v94
  let v96 : BitVec 32 := v95
  let v385 : BitVec 32 := Scalar.addi v96 c0_i32_144
  let c255_i32_145 : BitVec 32 := 255#32
  let v386 : BitVec 32 := Scalar.andi v385 c255_i32_145
  let v387 : BitVec 32 := v386
  let v389 : Index := Scalar.indexCast v387
  let c256 : Index := 256#32
  ![v388.toNat, v389.toNat, 256]
def k0_mult448 (v93 : BitVec 32) : BitVec 32 :=
  let c12032_i32_42 : BitVec 32 := 12032#32
  let v94 : BitVec 32 := Scalar.minsi v93 c12032_i32_42
  let v95 : BitVec 32 := Scalar.subi v93 v94
  let v96 : BitVec 32 := v95
  let c0_i32_146 : BitVec 32 := 0#32
  let v392 : BitVec 32 := Scalar.addi v96 c0_i32_146
  let c255_i32_147 : BitVec 32 := 255#32
  let v393 : BitVec 32 := Scalar.andi v392 c255_i32_147
  v393
def k0_off98 (v1_0 : BitVec 32) (k0_t6 : Fin (k0_t6_loop v1_0).trips) (v93 : BitVec 32) (c0_i32_146 : BitVec 32) : Fin 3 → Nat :=
  let c0_i32_13 : BitVec 32 := 0#32
  let v15 : BitVec 32 := Scalar.subi v1_0 c0_i32_13
  let c1_i32_15 : BitVec 32 := 1#32
  let v17 : BitVec 32 := Scalar.divsi v15 c1_i32_15
  let v18 : BitVec 32 := Scalar.muli v17 c1_i32_15
  let v19 : BitVec 32 := Scalar.addi c0_i32_13 v18
  let c1_i32_17 : BitVec 32 := 1#32
  let arg22 : BitVec 32 := Scf.iv v19 c1_i32_17 k0_t6
  let c1_i32_32 : BitVec 32 := 1#32
  let v72 : BitVec 32 := Scalar.andi arg22 c1_i32_32
  let v395 : Index := Scalar.indexCast v72
  let c12032_i32_42 : BitVec 32 := 12032#32
  let v94 : BitVec 32 := Scalar.minsi v93 c12032_i32_42
  let v95 : BitVec 32 := Scalar.subi v93 v94
  let v96 : BitVec 32 := v95
  let v392 : BitVec 32 := Scalar.addi v96 c0_i32_146
  let c255_i32_147 : BitVec 32 := 255#32
  let v393 : BitVec 32 := Scalar.andi v392 c255_i32_147
  let v394 : BitVec 32 := v393
  let v396 : Index := Scalar.indexCast v394
  let c384 : Index := 384#32
  ![v395.toNat, v396.toNat, 384]
def k0_mult449 (v93 : BitVec 32) : BitVec 32 :=
  let c12032_i32_42 : BitVec 32 := 12032#32
  let v94 : BitVec 32 := Scalar.minsi v93 c12032_i32_42
  let v95 : BitVec 32 := Scalar.subi v93 v94
  let v96 : BitVec 32 := v95
  let c16_i32_148 : BitVec 32 := 16#32
  let v399 : BitVec 32 := Scalar.addi v96 c16_i32_148
  let c255_i32_149 : BitVec 32 := 255#32
  let v400 : BitVec 32 := Scalar.andi v399 c255_i32_149
  v400
def k0_mult450 (v93 : BitVec 32) : BitVec 32 :=
  let c12032_i32_42 : BitVec 32 := 12032#32
  let v94 : BitVec 32 := Scalar.minsi v93 c12032_i32_42
  let v95 : BitVec 32 := Scalar.subi v93 v94
  let v96 : BitVec 32 := v95
  let c16_i32_151 : BitVec 32 := 16#32
  let v406 : BitVec 32 := Scalar.addi v96 c16_i32_151
  let c255_i32_152 : BitVec 32 := 255#32
  let v407 : BitVec 32 := Scalar.andi v406 c255_i32_152
  v407
def k0_mult451 (v93 : BitVec 32) : BitVec 32 :=
  let c12032_i32_42 : BitVec 32 := 12032#32
  let v94 : BitVec 32 := Scalar.minsi v93 c12032_i32_42
  let v95 : BitVec 32 := Scalar.subi v93 v94
  let v96 : BitVec 32 := v95
  let c32_i32_154 : BitVec 32 := 32#32
  let v413 : BitVec 32 := Scalar.addi v96 c32_i32_154
  let c255_i32_155 : BitVec 32 := 255#32
  let v414 : BitVec 32 := Scalar.andi v413 c255_i32_155
  v414
def k0_mult452 (v93 : BitVec 32) : BitVec 32 :=
  let c12032_i32_42 : BitVec 32 := 12032#32
  let v94 : BitVec 32 := Scalar.minsi v93 c12032_i32_42
  let v95 : BitVec 32 := Scalar.subi v93 v94
  let v96 : BitVec 32 := v95
  let c32_i32_157 : BitVec 32 := 32#32
  let v420 : BitVec 32 := Scalar.addi v96 c32_i32_157
  let c255_i32_158 : BitVec 32 := 255#32
  let v421 : BitVec 32 := Scalar.andi v420 c255_i32_158
  v421
def k0_mult453 (v93 : BitVec 32) : BitVec 32 :=
  let c12032_i32_42 : BitVec 32 := 12032#32
  let v94 : BitVec 32 := Scalar.minsi v93 c12032_i32_42
  let v95 : BitVec 32 := Scalar.subi v93 v94
  let v96 : BitVec 32 := v95
  let c48_i32_160 : BitVec 32 := 48#32
  let v427 : BitVec 32 := Scalar.addi v96 c48_i32_160
  let c255_i32_161 : BitVec 32 := 255#32
  let v428 : BitVec 32 := Scalar.andi v427 c255_i32_161
  v428
def k0_mult454 (v93 : BitVec 32) : BitVec 32 :=
  let c12032_i32_42 : BitVec 32 := 12032#32
  let v94 : BitVec 32 := Scalar.minsi v93 c12032_i32_42
  let v95 : BitVec 32 := Scalar.subi v93 v94
  let v96 : BitVec 32 := v95
  let c48_i32_163 : BitVec 32 := 48#32
  let v434 : BitVec 32 := Scalar.addi v96 c48_i32_163
  let c255_i32_164 : BitVec 32 := 255#32
  let v435 : BitVec 32 := Scalar.andi v434 c255_i32_164
  v435
def k0_mult455 (v93 : BitVec 32) : BitVec 32 :=
  let c12032_i32_42 : BitVec 32 := 12032#32
  let v94 : BitVec 32 := Scalar.minsi v93 c12032_i32_42
  let v95 : BitVec 32 := Scalar.subi v93 v94
  let v96 : BitVec 32 := v95
  let c64_i32_166 : BitVec 32 := 64#32
  let v441 : BitVec 32 := Scalar.addi v96 c64_i32_166
  let c255_i32_167 : BitVec 32 := 255#32
  let v442 : BitVec 32 := Scalar.andi v441 c255_i32_167
  v442
def k0_mult456 (v93 : BitVec 32) : BitVec 32 :=
  let c12032_i32_42 : BitVec 32 := 12032#32
  let v94 : BitVec 32 := Scalar.minsi v93 c12032_i32_42
  let v95 : BitVec 32 := Scalar.subi v93 v94
  let v96 : BitVec 32 := v95
  let c64_i32_169 : BitVec 32 := 64#32
  let v448 : BitVec 32 := Scalar.addi v96 c64_i32_169
  let c255_i32_170 : BitVec 32 := 255#32
  let v449 : BitVec 32 := Scalar.andi v448 c255_i32_170
  v449
def k0_mult457 (v93 : BitVec 32) : BitVec 32 :=
  let c12032_i32_42 : BitVec 32 := 12032#32
  let v94 : BitVec 32 := Scalar.minsi v93 c12032_i32_42
  let v95 : BitVec 32 := Scalar.subi v93 v94
  let v96 : BitVec 32 := v95
  let c80_i32_172 : BitVec 32 := 80#32
  let v455 : BitVec 32 := Scalar.addi v96 c80_i32_172
  let c255_i32_173 : BitVec 32 := 255#32
  let v456 : BitVec 32 := Scalar.andi v455 c255_i32_173
  v456
def k0_mult458 (v93 : BitVec 32) : BitVec 32 :=
  let c12032_i32_42 : BitVec 32 := 12032#32
  let v94 : BitVec 32 := Scalar.minsi v93 c12032_i32_42
  let v95 : BitVec 32 := Scalar.subi v93 v94
  let v96 : BitVec 32 := v95
  let c80_i32_175 : BitVec 32 := 80#32
  let v462 : BitVec 32 := Scalar.addi v96 c80_i32_175
  let c255_i32_176 : BitVec 32 := 255#32
  let v463 : BitVec 32 := Scalar.andi v462 c255_i32_176
  v463
def k0_mult459 (v93 : BitVec 32) : BitVec 32 :=
  let c12032_i32_42 : BitVec 32 := 12032#32
  let v94 : BitVec 32 := Scalar.minsi v93 c12032_i32_42
  let v95 : BitVec 32 := Scalar.subi v93 v94
  let v96 : BitVec 32 := v95
  let c96_i32_178 : BitVec 32 := 96#32
  let v469 : BitVec 32 := Scalar.addi v96 c96_i32_178
  let c255_i32_179 : BitVec 32 := 255#32
  let v470 : BitVec 32 := Scalar.andi v469 c255_i32_179
  v470
def k0_mult460 (v93 : BitVec 32) : BitVec 32 :=
  let c12032_i32_42 : BitVec 32 := 12032#32
  let v94 : BitVec 32 := Scalar.minsi v93 c12032_i32_42
  let v95 : BitVec 32 := Scalar.subi v93 v94
  let v96 : BitVec 32 := v95
  let c96_i32_181 : BitVec 32 := 96#32
  let v476 : BitVec 32 := Scalar.addi v96 c96_i32_181
  let c255_i32_182 : BitVec 32 := 255#32
  let v477 : BitVec 32 := Scalar.andi v476 c255_i32_182
  v477
def k0_mult461 (v93 : BitVec 32) : BitVec 32 :=
  let c12032_i32_42 : BitVec 32 := 12032#32
  let v94 : BitVec 32 := Scalar.minsi v93 c12032_i32_42
  let v95 : BitVec 32 := Scalar.subi v93 v94
  let v96 : BitVec 32 := v95
  let c112_i32_184 : BitVec 32 := 112#32
  let v483 : BitVec 32 := Scalar.addi v96 c112_i32_184
  let c255_i32_185 : BitVec 32 := 255#32
  let v484 : BitVec 32 := Scalar.andi v483 c255_i32_185
  v484
def k0_mult462 (v93 : BitVec 32) : BitVec 32 :=
  let c12032_i32_42 : BitVec 32 := 12032#32
  let v94 : BitVec 32 := Scalar.minsi v93 c12032_i32_42
  let v95 : BitVec 32 := Scalar.subi v93 v94
  let v96 : BitVec 32 := v95
  let c112_i32_187 : BitVec 32 := 112#32
  let v490 : BitVec 32 := Scalar.addi v96 c112_i32_187
  let c255_i32_188 : BitVec 32 := 255#32
  let v491 : BitVec 32 := Scalar.andi v490 c255_i32_188
  v491
def k0_mult463 (v93 : BitVec 32) : BitVec 32 :=
  let c12032_i32_42 : BitVec 32 := 12032#32
  let v94 : BitVec 32 := Scalar.minsi v93 c12032_i32_42
  let v95 : BitVec 32 := Scalar.subi v93 v94
  let v96 : BitVec 32 := v95
  let c128_i32_190 : BitVec 32 := 128#32
  let v497 : BitVec 32 := Scalar.addi v96 c128_i32_190
  let c255_i32_191 : BitVec 32 := 255#32
  let v498 : BitVec 32 := Scalar.andi v497 c255_i32_191
  v498
def k0_mult464 (v93 : BitVec 32) : BitVec 32 :=
  let c12032_i32_42 : BitVec 32 := 12032#32
  let v94 : BitVec 32 := Scalar.minsi v93 c12032_i32_42
  let v95 : BitVec 32 := Scalar.subi v93 v94
  let v96 : BitVec 32 := v95
  let c128_i32_193 : BitVec 32 := 128#32
  let v504 : BitVec 32 := Scalar.addi v96 c128_i32_193
  let c255_i32_194 : BitVec 32 := 255#32
  let v505 : BitVec 32 := Scalar.andi v504 c255_i32_194
  v505
def k0_mult465 (v93 : BitVec 32) : BitVec 32 :=
  let c12032_i32_42 : BitVec 32 := 12032#32
  let v94 : BitVec 32 := Scalar.minsi v93 c12032_i32_42
  let v95 : BitVec 32 := Scalar.subi v93 v94
  let v96 : BitVec 32 := v95
  let c144_i32_196 : BitVec 32 := 144#32
  let v511 : BitVec 32 := Scalar.addi v96 c144_i32_196
  let c255_i32_197 : BitVec 32 := 255#32
  let v512 : BitVec 32 := Scalar.andi v511 c255_i32_197
  v512
def k0_mult466 (v93 : BitVec 32) : BitVec 32 :=
  let c12032_i32_42 : BitVec 32 := 12032#32
  let v94 : BitVec 32 := Scalar.minsi v93 c12032_i32_42
  let v95 : BitVec 32 := Scalar.subi v93 v94
  let v96 : BitVec 32 := v95
  let c144_i32_199 : BitVec 32 := 144#32
  let v518 : BitVec 32 := Scalar.addi v96 c144_i32_199
  let c255_i32_200 : BitVec 32 := 255#32
  let v519 : BitVec 32 := Scalar.andi v518 c255_i32_200
  v519
def k0_mult467 (v93 : BitVec 32) : BitVec 32 :=
  let c12032_i32_42 : BitVec 32 := 12032#32
  let v94 : BitVec 32 := Scalar.minsi v93 c12032_i32_42
  let v95 : BitVec 32 := Scalar.subi v93 v94
  let v96 : BitVec 32 := v95
  let c160_i32_202 : BitVec 32 := 160#32
  let v525 : BitVec 32 := Scalar.addi v96 c160_i32_202
  let c255_i32_203 : BitVec 32 := 255#32
  let v526 : BitVec 32 := Scalar.andi v525 c255_i32_203
  v526
def k0_mult468 (v93 : BitVec 32) : BitVec 32 :=
  let c12032_i32_42 : BitVec 32 := 12032#32
  let v94 : BitVec 32 := Scalar.minsi v93 c12032_i32_42
  let v95 : BitVec 32 := Scalar.subi v93 v94
  let v96 : BitVec 32 := v95
  let c160_i32_205 : BitVec 32 := 160#32
  let v532 : BitVec 32 := Scalar.addi v96 c160_i32_205
  let c255_i32_206 : BitVec 32 := 255#32
  let v533 : BitVec 32 := Scalar.andi v532 c255_i32_206
  v533
def k0_mult469 (v93 : BitVec 32) : BitVec 32 :=
  let c12032_i32_42 : BitVec 32 := 12032#32
  let v94 : BitVec 32 := Scalar.minsi v93 c12032_i32_42
  let v95 : BitVec 32 := Scalar.subi v93 v94
  let v96 : BitVec 32 := v95
  let c176_i32_208 : BitVec 32 := 176#32
  let v539 : BitVec 32 := Scalar.addi v96 c176_i32_208
  let c255_i32_209 : BitVec 32 := 255#32
  let v540 : BitVec 32 := Scalar.andi v539 c255_i32_209
  v540
def k0_mult470 (v93 : BitVec 32) : BitVec 32 :=
  let c12032_i32_42 : BitVec 32 := 12032#32
  let v94 : BitVec 32 := Scalar.minsi v93 c12032_i32_42
  let v95 : BitVec 32 := Scalar.subi v93 v94
  let v96 : BitVec 32 := v95
  let c176_i32_211 : BitVec 32 := 176#32
  let v546 : BitVec 32 := Scalar.addi v96 c176_i32_211
  let c255_i32_212 : BitVec 32 := 255#32
  let v547 : BitVec 32 := Scalar.andi v546 c255_i32_212
  v547
def k0_mult471 (v93 : BitVec 32) : BitVec 32 :=
  let c12032_i32_42 : BitVec 32 := 12032#32
  let v94 : BitVec 32 := Scalar.minsi v93 c12032_i32_42
  let v95 : BitVec 32 := Scalar.subi v93 v94
  let v96 : BitVec 32 := v95
  let c192_i32_214 : BitVec 32 := 192#32
  let v553 : BitVec 32 := Scalar.addi v96 c192_i32_214
  let c255_i32_215 : BitVec 32 := 255#32
  let v554 : BitVec 32 := Scalar.andi v553 c255_i32_215
  v554
def k0_mult472 (v93 : BitVec 32) : BitVec 32 :=
  let c12032_i32_42 : BitVec 32 := 12032#32
  let v94 : BitVec 32 := Scalar.minsi v93 c12032_i32_42
  let v95 : BitVec 32 := Scalar.subi v93 v94
  let v96 : BitVec 32 := v95
  let c192_i32_217 : BitVec 32 := 192#32
  let v560 : BitVec 32 := Scalar.addi v96 c192_i32_217
  let c255_i32_218 : BitVec 32 := 255#32
  let v561 : BitVec 32 := Scalar.andi v560 c255_i32_218
  v561
def k0_mult473 (v93 : BitVec 32) : BitVec 32 :=
  let c12032_i32_42 : BitVec 32 := 12032#32
  let v94 : BitVec 32 := Scalar.minsi v93 c12032_i32_42
  let v95 : BitVec 32 := Scalar.subi v93 v94
  let v96 : BitVec 32 := v95
  let c208_i32_220 : BitVec 32 := 208#32
  let v567 : BitVec 32 := Scalar.addi v96 c208_i32_220
  let c255_i32_221 : BitVec 32 := 255#32
  let v568 : BitVec 32 := Scalar.andi v567 c255_i32_221
  v568
def k0_mult474 (v93 : BitVec 32) : BitVec 32 :=
  let c12032_i32_42 : BitVec 32 := 12032#32
  let v94 : BitVec 32 := Scalar.minsi v93 c12032_i32_42
  let v95 : BitVec 32 := Scalar.subi v93 v94
  let v96 : BitVec 32 := v95
  let c208_i32_223 : BitVec 32 := 208#32
  let v574 : BitVec 32 := Scalar.addi v96 c208_i32_223
  let c255_i32_224 : BitVec 32 := 255#32
  let v575 : BitVec 32 := Scalar.andi v574 c255_i32_224
  v575
def k0_mult475 (v93 : BitVec 32) : BitVec 32 :=
  let c12032_i32_42 : BitVec 32 := 12032#32
  let v94 : BitVec 32 := Scalar.minsi v93 c12032_i32_42
  let v95 : BitVec 32 := Scalar.subi v93 v94
  let v96 : BitVec 32 := v95
  let c224_i32_226 : BitVec 32 := 224#32
  let v581 : BitVec 32 := Scalar.addi v96 c224_i32_226
  let c255_i32_227 : BitVec 32 := 255#32
  let v582 : BitVec 32 := Scalar.andi v581 c255_i32_227
  v582
def k0_mult476 (v93 : BitVec 32) : BitVec 32 :=
  let c12032_i32_42 : BitVec 32 := 12032#32
  let v94 : BitVec 32 := Scalar.minsi v93 c12032_i32_42
  let v95 : BitVec 32 := Scalar.subi v93 v94
  let v96 : BitVec 32 := v95
  let c224_i32_229 : BitVec 32 := 224#32
  let v588 : BitVec 32 := Scalar.addi v96 c224_i32_229
  let c255_i32_230 : BitVec 32 := 255#32
  let v589 : BitVec 32 := Scalar.andi v588 c255_i32_230
  v589
def k0_mult477 (v93 : BitVec 32) : BitVec 32 :=
  let c12032_i32_42 : BitVec 32 := 12032#32
  let v94 : BitVec 32 := Scalar.minsi v93 c12032_i32_42
  let v95 : BitVec 32 := Scalar.subi v93 v94
  let v96 : BitVec 32 := v95
  let c240_i32_232 : BitVec 32 := 240#32
  let v595 : BitVec 32 := Scalar.addi v96 c240_i32_232
  let c255_i32_233 : BitVec 32 := 255#32
  let v596 : BitVec 32 := Scalar.andi v595 c255_i32_233
  v596
def k0_mult478 (v93 : BitVec 32) : BitVec 32 :=
  let c12032_i32_42 : BitVec 32 := 12032#32
  let v94 : BitVec 32 := Scalar.minsi v93 c12032_i32_42
  let v95 : BitVec 32 := Scalar.subi v93 v94
  let v96 : BitVec 32 := v95
  let c240_i32_235 : BitVec 32 := 240#32
  let v602 : BitVec 32 := Scalar.addi v96 c240_i32_235
  let c255_i32_236 : BitVec 32 := 255#32
  let v603 : BitVec 32 := Scalar.andi v602 c255_i32_236
  v603
def k0_mult479 (v93 : BitVec 32) : BitVec 32 :=
  let c12032_i32_42 : BitVec 32 := 12032#32
  let v94 : BitVec 32 := Scalar.minsi v93 c12032_i32_42
  let v95 : BitVec 32 := Scalar.subi v93 v94
  let v96 : BitVec 32 := v95
  let c0_i32_270 : BitVec 32 := 0#32
  let v673 : BitVec 32 := Scalar.addi v96 c0_i32_270
  let c255_i32_271 : BitVec 32 := 255#32
  let v674 : BitVec 32 := Scalar.andi v673 c255_i32_271
  v674
def k0_off99 (v1_0 : BitVec 32) (k0_t6 : Fin (k0_t6_loop v1_0).trips) (v93 : BitVec 32) (c0_i32_270 : BitVec 32) : Fin 3 → Nat :=
  let c0_i32_13 : BitVec 32 := 0#32
  let v15 : BitVec 32 := Scalar.subi v1_0 c0_i32_13
  let c1_i32_15 : BitVec 32 := 1#32
  let v17 : BitVec 32 := Scalar.divsi v15 c1_i32_15
  let v18 : BitVec 32 := Scalar.muli v17 c1_i32_15
  let v19 : BitVec 32 := Scalar.addi c0_i32_13 v18
  let c1_i32_17 : BitVec 32 := 1#32
  let arg22 : BitVec 32 := Scf.iv v19 c1_i32_17 k0_t6
  let c1_i32_32 : BitVec 32 := 1#32
  let v72 : BitVec 32 := Scalar.andi arg22 c1_i32_32
  let v676 : Index := Scalar.indexCast v72
  let c12032_i32_42 : BitVec 32 := 12032#32
  let v94 : BitVec 32 := Scalar.minsi v93 c12032_i32_42
  let v95 : BitVec 32 := Scalar.subi v93 v94
  let v96 : BitVec 32 := v95
  let v673 : BitVec 32 := Scalar.addi v96 c0_i32_270
  let c255_i32_271 : BitVec 32 := 255#32
  let v674 : BitVec 32 := Scalar.andi v673 c255_i32_271
  let v675 : BitVec 32 := v674
  let v677 : Index := Scalar.indexCast v675
  let c512 : Index := 512#32
  ![v676.toNat, v677.toNat, 512]
def k0_mult480 (v93 : BitVec 32) : BitVec 32 :=
  let c12032_i32_42 : BitVec 32 := 12032#32
  let v94 : BitVec 32 := Scalar.minsi v93 c12032_i32_42
  let v95 : BitVec 32 := Scalar.subi v93 v94
  let v96 : BitVec 32 := v95
  let c0_i32_272 : BitVec 32 := 0#32
  let v680 : BitVec 32 := Scalar.addi v96 c0_i32_272
  let c255_i32_273 : BitVec 32 := 255#32
  let v681 : BitVec 32 := Scalar.andi v680 c255_i32_273
  v681
def k0_off100 (v1_0 : BitVec 32) (k0_t6 : Fin (k0_t6_loop v1_0).trips) (v93 : BitVec 32) (c0_i32_272 : BitVec 32) : Fin 3 → Nat :=
  let c0_i32_13 : BitVec 32 := 0#32
  let v15 : BitVec 32 := Scalar.subi v1_0 c0_i32_13
  let c1_i32_15 : BitVec 32 := 1#32
  let v17 : BitVec 32 := Scalar.divsi v15 c1_i32_15
  let v18 : BitVec 32 := Scalar.muli v17 c1_i32_15
  let v19 : BitVec 32 := Scalar.addi c0_i32_13 v18
  let c1_i32_17 : BitVec 32 := 1#32
  let arg22 : BitVec 32 := Scf.iv v19 c1_i32_17 k0_t6
  let c1_i32_32 : BitVec 32 := 1#32
  let v72 : BitVec 32 := Scalar.andi arg22 c1_i32_32
  let v683 : Index := Scalar.indexCast v72
  let c12032_i32_42 : BitVec 32 := 12032#32
  let v94 : BitVec 32 := Scalar.minsi v93 c12032_i32_42
  let v95 : BitVec 32 := Scalar.subi v93 v94
  let v96 : BitVec 32 := v95
  let v680 : BitVec 32 := Scalar.addi v96 c0_i32_272
  let c255_i32_273 : BitVec 32 := 255#32
  let v681 : BitVec 32 := Scalar.andi v680 c255_i32_273
  let v682 : BitVec 32 := v681
  let v684 : Index := Scalar.indexCast v682
  let c640 : Index := 640#32
  ![v683.toNat, v684.toNat, 640]
def k0_mult481 (v93 : BitVec 32) : BitVec 32 :=
  let c12032_i32_42 : BitVec 32 := 12032#32
  let v94 : BitVec 32 := Scalar.minsi v93 c12032_i32_42
  let v95 : BitVec 32 := Scalar.subi v93 v94
  let v96 : BitVec 32 := v95
  let c16_i32_274 : BitVec 32 := 16#32
  let v687 : BitVec 32 := Scalar.addi v96 c16_i32_274
  let c255_i32_275 : BitVec 32 := 255#32
  let v688 : BitVec 32 := Scalar.andi v687 c255_i32_275
  v688
def k0_mult482 (v93 : BitVec 32) : BitVec 32 :=
  let c12032_i32_42 : BitVec 32 := 12032#32
  let v94 : BitVec 32 := Scalar.minsi v93 c12032_i32_42
  let v95 : BitVec 32 := Scalar.subi v93 v94
  let v96 : BitVec 32 := v95
  let c16_i32_277 : BitVec 32 := 16#32
  let v694 : BitVec 32 := Scalar.addi v96 c16_i32_277
  let c255_i32_278 : BitVec 32 := 255#32
  let v695 : BitVec 32 := Scalar.andi v694 c255_i32_278
  v695
def k0_mult483 (v93 : BitVec 32) : BitVec 32 :=
  let c12032_i32_42 : BitVec 32 := 12032#32
  let v94 : BitVec 32 := Scalar.minsi v93 c12032_i32_42
  let v95 : BitVec 32 := Scalar.subi v93 v94
  let v96 : BitVec 32 := v95
  let c32_i32_280 : BitVec 32 := 32#32
  let v701 : BitVec 32 := Scalar.addi v96 c32_i32_280
  let c255_i32_281 : BitVec 32 := 255#32
  let v702 : BitVec 32 := Scalar.andi v701 c255_i32_281
  v702
def k0_mult484 (v93 : BitVec 32) : BitVec 32 :=
  let c12032_i32_42 : BitVec 32 := 12032#32
  let v94 : BitVec 32 := Scalar.minsi v93 c12032_i32_42
  let v95 : BitVec 32 := Scalar.subi v93 v94
  let v96 : BitVec 32 := v95
  let c32_i32_283 : BitVec 32 := 32#32
  let v708 : BitVec 32 := Scalar.addi v96 c32_i32_283
  let c255_i32_284 : BitVec 32 := 255#32
  let v709 : BitVec 32 := Scalar.andi v708 c255_i32_284
  v709
def k0_mult485 (v93 : BitVec 32) : BitVec 32 :=
  let c12032_i32_42 : BitVec 32 := 12032#32
  let v94 : BitVec 32 := Scalar.minsi v93 c12032_i32_42
  let v95 : BitVec 32 := Scalar.subi v93 v94
  let v96 : BitVec 32 := v95
  let c48_i32_286 : BitVec 32 := 48#32
  let v715 : BitVec 32 := Scalar.addi v96 c48_i32_286
  let c255_i32_287 : BitVec 32 := 255#32
  let v716 : BitVec 32 := Scalar.andi v715 c255_i32_287
  v716
def k0_mult486 (v93 : BitVec 32) : BitVec 32 :=
  let c12032_i32_42 : BitVec 32 := 12032#32
  let v94 : BitVec 32 := Scalar.minsi v93 c12032_i32_42
  let v95 : BitVec 32 := Scalar.subi v93 v94
  let v96 : BitVec 32 := v95
  let c48_i32_289 : BitVec 32 := 48#32
  let v722 : BitVec 32 := Scalar.addi v96 c48_i32_289
  let c255_i32_290 : BitVec 32 := 255#32
  let v723 : BitVec 32 := Scalar.andi v722 c255_i32_290
  v723
def k0_mult487 (v93 : BitVec 32) : BitVec 32 :=
  let c12032_i32_42 : BitVec 32 := 12032#32
  let v94 : BitVec 32 := Scalar.minsi v93 c12032_i32_42
  let v95 : BitVec 32 := Scalar.subi v93 v94
  let v96 : BitVec 32 := v95
  let c64_i32_292 : BitVec 32 := 64#32
  let v729 : BitVec 32 := Scalar.addi v96 c64_i32_292
  let c255_i32_293 : BitVec 32 := 255#32
  let v730 : BitVec 32 := Scalar.andi v729 c255_i32_293
  v730
def k0_mult488 (v93 : BitVec 32) : BitVec 32 :=
  let c12032_i32_42 : BitVec 32 := 12032#32
  let v94 : BitVec 32 := Scalar.minsi v93 c12032_i32_42
  let v95 : BitVec 32 := Scalar.subi v93 v94
  let v96 : BitVec 32 := v95
  let c64_i32_295 : BitVec 32 := 64#32
  let v736 : BitVec 32 := Scalar.addi v96 c64_i32_295
  let c255_i32_296 : BitVec 32 := 255#32
  let v737 : BitVec 32 := Scalar.andi v736 c255_i32_296
  v737
def k0_mult489 (v93 : BitVec 32) : BitVec 32 :=
  let c12032_i32_42 : BitVec 32 := 12032#32
  let v94 : BitVec 32 := Scalar.minsi v93 c12032_i32_42
  let v95 : BitVec 32 := Scalar.subi v93 v94
  let v96 : BitVec 32 := v95
  let c80_i32_298 : BitVec 32 := 80#32
  let v743 : BitVec 32 := Scalar.addi v96 c80_i32_298
  let c255_i32_299 : BitVec 32 := 255#32
  let v744 : BitVec 32 := Scalar.andi v743 c255_i32_299
  v744
def k0_mult490 (v93 : BitVec 32) : BitVec 32 :=
  let c12032_i32_42 : BitVec 32 := 12032#32
  let v94 : BitVec 32 := Scalar.minsi v93 c12032_i32_42
  let v95 : BitVec 32 := Scalar.subi v93 v94
  let v96 : BitVec 32 := v95
  let c80_i32_301 : BitVec 32 := 80#32
  let v750 : BitVec 32 := Scalar.addi v96 c80_i32_301
  let c255_i32_302 : BitVec 32 := 255#32
  let v751 : BitVec 32 := Scalar.andi v750 c255_i32_302
  v751
def k0_mult491 (v93 : BitVec 32) : BitVec 32 :=
  let c12032_i32_42 : BitVec 32 := 12032#32
  let v94 : BitVec 32 := Scalar.minsi v93 c12032_i32_42
  let v95 : BitVec 32 := Scalar.subi v93 v94
  let v96 : BitVec 32 := v95
  let c96_i32_304 : BitVec 32 := 96#32
  let v757 : BitVec 32 := Scalar.addi v96 c96_i32_304
  let c255_i32_305 : BitVec 32 := 255#32
  let v758 : BitVec 32 := Scalar.andi v757 c255_i32_305
  v758
def k0_mult492 (v93 : BitVec 32) : BitVec 32 :=
  let c12032_i32_42 : BitVec 32 := 12032#32
  let v94 : BitVec 32 := Scalar.minsi v93 c12032_i32_42
  let v95 : BitVec 32 := Scalar.subi v93 v94
  let v96 : BitVec 32 := v95
  let c96_i32_307 : BitVec 32 := 96#32
  let v764 : BitVec 32 := Scalar.addi v96 c96_i32_307
  let c255_i32_308 : BitVec 32 := 255#32
  let v765 : BitVec 32 := Scalar.andi v764 c255_i32_308
  v765
def k0_mult493 (v93 : BitVec 32) : BitVec 32 :=
  let c12032_i32_42 : BitVec 32 := 12032#32
  let v94 : BitVec 32 := Scalar.minsi v93 c12032_i32_42
  let v95 : BitVec 32 := Scalar.subi v93 v94
  let v96 : BitVec 32 := v95
  let c112_i32_310 : BitVec 32 := 112#32
  let v771 : BitVec 32 := Scalar.addi v96 c112_i32_310
  let c255_i32_311 : BitVec 32 := 255#32
  let v772 : BitVec 32 := Scalar.andi v771 c255_i32_311
  v772
def k0_mult494 (v93 : BitVec 32) : BitVec 32 :=
  let c12032_i32_42 : BitVec 32 := 12032#32
  let v94 : BitVec 32 := Scalar.minsi v93 c12032_i32_42
  let v95 : BitVec 32 := Scalar.subi v93 v94
  let v96 : BitVec 32 := v95
  let c112_i32_313 : BitVec 32 := 112#32
  let v778 : BitVec 32 := Scalar.addi v96 c112_i32_313
  let c255_i32_314 : BitVec 32 := 255#32
  let v779 : BitVec 32 := Scalar.andi v778 c255_i32_314
  v779
def k0_mult495 (v93 : BitVec 32) : BitVec 32 :=
  let c12032_i32_42 : BitVec 32 := 12032#32
  let v94 : BitVec 32 := Scalar.minsi v93 c12032_i32_42
  let v95 : BitVec 32 := Scalar.subi v93 v94
  let v96 : BitVec 32 := v95
  let c128_i32_316 : BitVec 32 := 128#32
  let v785 : BitVec 32 := Scalar.addi v96 c128_i32_316
  let c255_i32_317 : BitVec 32 := 255#32
  let v786 : BitVec 32 := Scalar.andi v785 c255_i32_317
  v786
def k0_mult496 (v93 : BitVec 32) : BitVec 32 :=
  let c12032_i32_42 : BitVec 32 := 12032#32
  let v94 : BitVec 32 := Scalar.minsi v93 c12032_i32_42
  let v95 : BitVec 32 := Scalar.subi v93 v94
  let v96 : BitVec 32 := v95
  let c128_i32_319 : BitVec 32 := 128#32
  let v792 : BitVec 32 := Scalar.addi v96 c128_i32_319
  let c255_i32_320 : BitVec 32 := 255#32
  let v793 : BitVec 32 := Scalar.andi v792 c255_i32_320
  v793
def k0_mult497 (v93 : BitVec 32) : BitVec 32 :=
  let c12032_i32_42 : BitVec 32 := 12032#32
  let v94 : BitVec 32 := Scalar.minsi v93 c12032_i32_42
  let v95 : BitVec 32 := Scalar.subi v93 v94
  let v96 : BitVec 32 := v95
  let c144_i32_322 : BitVec 32 := 144#32
  let v799 : BitVec 32 := Scalar.addi v96 c144_i32_322
  let c255_i32_323 : BitVec 32 := 255#32
  let v800 : BitVec 32 := Scalar.andi v799 c255_i32_323
  v800
def k0_mult498 (v93 : BitVec 32) : BitVec 32 :=
  let c12032_i32_42 : BitVec 32 := 12032#32
  let v94 : BitVec 32 := Scalar.minsi v93 c12032_i32_42
  let v95 : BitVec 32 := Scalar.subi v93 v94
  let v96 : BitVec 32 := v95
  let c144_i32_325 : BitVec 32 := 144#32
  let v806 : BitVec 32 := Scalar.addi v96 c144_i32_325
  let c255_i32_326 : BitVec 32 := 255#32
  let v807 : BitVec 32 := Scalar.andi v806 c255_i32_326
  v807
def k0_mult499 (v93 : BitVec 32) : BitVec 32 :=
  let c12032_i32_42 : BitVec 32 := 12032#32
  let v94 : BitVec 32 := Scalar.minsi v93 c12032_i32_42
  let v95 : BitVec 32 := Scalar.subi v93 v94
  let v96 : BitVec 32 := v95
  let c160_i32_328 : BitVec 32 := 160#32
  let v813 : BitVec 32 := Scalar.addi v96 c160_i32_328
  let c255_i32_329 : BitVec 32 := 255#32
  let v814 : BitVec 32 := Scalar.andi v813 c255_i32_329
  v814
def k0_mult500 (v93 : BitVec 32) : BitVec 32 :=
  let c12032_i32_42 : BitVec 32 := 12032#32
  let v94 : BitVec 32 := Scalar.minsi v93 c12032_i32_42
  let v95 : BitVec 32 := Scalar.subi v93 v94
  let v96 : BitVec 32 := v95
  let c160_i32_331 : BitVec 32 := 160#32
  let v820 : BitVec 32 := Scalar.addi v96 c160_i32_331
  let c255_i32_332 : BitVec 32 := 255#32
  let v821 : BitVec 32 := Scalar.andi v820 c255_i32_332
  v821
def k0_mult501 (v93 : BitVec 32) : BitVec 32 :=
  let c12032_i32_42 : BitVec 32 := 12032#32
  let v94 : BitVec 32 := Scalar.minsi v93 c12032_i32_42
  let v95 : BitVec 32 := Scalar.subi v93 v94
  let v96 : BitVec 32 := v95
  let c176_i32_334 : BitVec 32 := 176#32
  let v827 : BitVec 32 := Scalar.addi v96 c176_i32_334
  let c255_i32_335 : BitVec 32 := 255#32
  let v828 : BitVec 32 := Scalar.andi v827 c255_i32_335
  v828
def k0_mult502 (v93 : BitVec 32) : BitVec 32 :=
  let c12032_i32_42 : BitVec 32 := 12032#32
  let v94 : BitVec 32 := Scalar.minsi v93 c12032_i32_42
  let v95 : BitVec 32 := Scalar.subi v93 v94
  let v96 : BitVec 32 := v95
  let c176_i32_337 : BitVec 32 := 176#32
  let v834 : BitVec 32 := Scalar.addi v96 c176_i32_337
  let c255_i32_338 : BitVec 32 := 255#32
  let v835 : BitVec 32 := Scalar.andi v834 c255_i32_338
  v835
def k0_mult503 (v93 : BitVec 32) : BitVec 32 :=
  let c12032_i32_42 : BitVec 32 := 12032#32
  let v94 : BitVec 32 := Scalar.minsi v93 c12032_i32_42
  let v95 : BitVec 32 := Scalar.subi v93 v94
  let v96 : BitVec 32 := v95
  let c192_i32_340 : BitVec 32 := 192#32
  let v841 : BitVec 32 := Scalar.addi v96 c192_i32_340
  let c255_i32_341 : BitVec 32 := 255#32
  let v842 : BitVec 32 := Scalar.andi v841 c255_i32_341
  v842
def k0_mult504 (v93 : BitVec 32) : BitVec 32 :=
  let c12032_i32_42 : BitVec 32 := 12032#32
  let v94 : BitVec 32 := Scalar.minsi v93 c12032_i32_42
  let v95 : BitVec 32 := Scalar.subi v93 v94
  let v96 : BitVec 32 := v95
  let c192_i32_343 : BitVec 32 := 192#32
  let v848 : BitVec 32 := Scalar.addi v96 c192_i32_343
  let c255_i32_344 : BitVec 32 := 255#32
  let v849 : BitVec 32 := Scalar.andi v848 c255_i32_344
  v849
def k0_mult505 (v93 : BitVec 32) : BitVec 32 :=
  let c12032_i32_42 : BitVec 32 := 12032#32
  let v94 : BitVec 32 := Scalar.minsi v93 c12032_i32_42
  let v95 : BitVec 32 := Scalar.subi v93 v94
  let v96 : BitVec 32 := v95
  let c208_i32_346 : BitVec 32 := 208#32
  let v855 : BitVec 32 := Scalar.addi v96 c208_i32_346
  let c255_i32_347 : BitVec 32 := 255#32
  let v856 : BitVec 32 := Scalar.andi v855 c255_i32_347
  v856
def k0_mult506 (v93 : BitVec 32) : BitVec 32 :=
  let c12032_i32_42 : BitVec 32 := 12032#32
  let v94 : BitVec 32 := Scalar.minsi v93 c12032_i32_42
  let v95 : BitVec 32 := Scalar.subi v93 v94
  let v96 : BitVec 32 := v95
  let c208_i32_349 : BitVec 32 := 208#32
  let v862 : BitVec 32 := Scalar.addi v96 c208_i32_349
  let c255_i32_350 : BitVec 32 := 255#32
  let v863 : BitVec 32 := Scalar.andi v862 c255_i32_350
  v863
def k0_mult507 (v93 : BitVec 32) : BitVec 32 :=
  let c12032_i32_42 : BitVec 32 := 12032#32
  let v94 : BitVec 32 := Scalar.minsi v93 c12032_i32_42
  let v95 : BitVec 32 := Scalar.subi v93 v94
  let v96 : BitVec 32 := v95
  let c224_i32_352 : BitVec 32 := 224#32
  let v869 : BitVec 32 := Scalar.addi v96 c224_i32_352
  let c255_i32_353 : BitVec 32 := 255#32
  let v870 : BitVec 32 := Scalar.andi v869 c255_i32_353
  v870
def k0_mult508 (v93 : BitVec 32) : BitVec 32 :=
  let c12032_i32_42 : BitVec 32 := 12032#32
  let v94 : BitVec 32 := Scalar.minsi v93 c12032_i32_42
  let v95 : BitVec 32 := Scalar.subi v93 v94
  let v96 : BitVec 32 := v95
  let c224_i32_355 : BitVec 32 := 224#32
  let v876 : BitVec 32 := Scalar.addi v96 c224_i32_355
  let c255_i32_356 : BitVec 32 := 255#32
  let v877 : BitVec 32 := Scalar.andi v876 c255_i32_356
  v877
def k0_mult509 (v93 : BitVec 32) : BitVec 32 :=
  let c12032_i32_42 : BitVec 32 := 12032#32
  let v94 : BitVec 32 := Scalar.minsi v93 c12032_i32_42
  let v95 : BitVec 32 := Scalar.subi v93 v94
  let v96 : BitVec 32 := v95
  let c240_i32_358 : BitVec 32 := 240#32
  let v883 : BitVec 32 := Scalar.addi v96 c240_i32_358
  let c255_i32_359 : BitVec 32 := 255#32
  let v884 : BitVec 32 := Scalar.andi v883 c255_i32_359
  v884
def k0_mult510 (v93 : BitVec 32) : BitVec 32 :=
  let c12032_i32_42 : BitVec 32 := 12032#32
  let v94 : BitVec 32 := Scalar.minsi v93 c12032_i32_42
  let v95 : BitVec 32 := Scalar.subi v93 v94
  let v96 : BitVec 32 := v95
  let c240_i32_361 : BitVec 32 := 240#32
  let v890 : BitVec 32 := Scalar.addi v96 c240_i32_361
  let c255_i32_362 : BitVec 32 := 255#32
  let v891 : BitVec 32 := Scalar.andi v890 c255_i32_362
  v891
def k0_mult511 (v93 : BitVec 32) : BitVec 32 :=
  let c12032_i32_42 : BitVec 32 := 12032#32
  let v94 : BitVec 32 := Scalar.minsi v93 c12032_i32_42
  let v95 : BitVec 32 := Scalar.subi v93 v94
  let v96 : BitVec 32 := v95
  let c0_i32_396 : BitVec 32 := 0#32
  let v961 : BitVec 32 := Scalar.addi v96 c0_i32_396
  let c255_i32_397 : BitVec 32 := 255#32
  let v962 : BitVec 32 := Scalar.andi v961 c255_i32_397
  v962
def k0_off101 (v1_0 : BitVec 32) (k0_t6 : Fin (k0_t6_loop v1_0).trips) (v93 : BitVec 32) (c0_i32_396 : BitVec 32) : Fin 3 → Nat :=
  let c0_i32_13 : BitVec 32 := 0#32
  let v15 : BitVec 32 := Scalar.subi v1_0 c0_i32_13
  let c1_i32_15 : BitVec 32 := 1#32
  let v17 : BitVec 32 := Scalar.divsi v15 c1_i32_15
  let v18 : BitVec 32 := Scalar.muli v17 c1_i32_15
  let v19 : BitVec 32 := Scalar.addi c0_i32_13 v18
  let c1_i32_17 : BitVec 32 := 1#32
  let arg22 : BitVec 32 := Scf.iv v19 c1_i32_17 k0_t6
  let c1_i32_32 : BitVec 32 := 1#32
  let v72 : BitVec 32 := Scalar.andi arg22 c1_i32_32
  let v964 : Index := Scalar.indexCast v72
  let c12032_i32_42 : BitVec 32 := 12032#32
  let v94 : BitVec 32 := Scalar.minsi v93 c12032_i32_42
  let v95 : BitVec 32 := Scalar.subi v93 v94
  let v96 : BitVec 32 := v95
  let v961 : BitVec 32 := Scalar.addi v96 c0_i32_396
  let c255_i32_397 : BitVec 32 := 255#32
  let v962 : BitVec 32 := Scalar.andi v961 c255_i32_397
  let v963 : BitVec 32 := v962
  let v965 : Index := Scalar.indexCast v963
  let c768 : Index := 768#32
  ![v964.toNat, v965.toNat, 768]
def k0_mult512 (v93 : BitVec 32) : BitVec 32 :=
  let c12032_i32_42 : BitVec 32 := 12032#32
  let v94 : BitVec 32 := Scalar.minsi v93 c12032_i32_42
  let v95 : BitVec 32 := Scalar.subi v93 v94
  let v96 : BitVec 32 := v95
  let c0_i32_398 : BitVec 32 := 0#32
  let v968 : BitVec 32 := Scalar.addi v96 c0_i32_398
  let c255_i32_399 : BitVec 32 := 255#32
  let v969 : BitVec 32 := Scalar.andi v968 c255_i32_399
  v969
def k0_off102 (v1_0 : BitVec 32) (k0_t6 : Fin (k0_t6_loop v1_0).trips) (v93 : BitVec 32) (c0_i32_398 : BitVec 32) : Fin 3 → Nat :=
  let c0_i32_13 : BitVec 32 := 0#32
  let v15 : BitVec 32 := Scalar.subi v1_0 c0_i32_13
  let c1_i32_15 : BitVec 32 := 1#32
  let v17 : BitVec 32 := Scalar.divsi v15 c1_i32_15
  let v18 : BitVec 32 := Scalar.muli v17 c1_i32_15
  let v19 : BitVec 32 := Scalar.addi c0_i32_13 v18
  let c1_i32_17 : BitVec 32 := 1#32
  let arg22 : BitVec 32 := Scf.iv v19 c1_i32_17 k0_t6
  let c1_i32_32 : BitVec 32 := 1#32
  let v72 : BitVec 32 := Scalar.andi arg22 c1_i32_32
  let v971 : Index := Scalar.indexCast v72
  let c12032_i32_42 : BitVec 32 := 12032#32
  let v94 : BitVec 32 := Scalar.minsi v93 c12032_i32_42
  let v95 : BitVec 32 := Scalar.subi v93 v94
  let v96 : BitVec 32 := v95
  let v968 : BitVec 32 := Scalar.addi v96 c0_i32_398
  let c255_i32_399 : BitVec 32 := 255#32
  let v969 : BitVec 32 := Scalar.andi v968 c255_i32_399
  let v970 : BitVec 32 := v969
  let v972 : Index := Scalar.indexCast v970
  let c896 : Index := 896#32
  ![v971.toNat, v972.toNat, 896]
def k0_mult513 (v93 : BitVec 32) : BitVec 32 :=
  let c12032_i32_42 : BitVec 32 := 12032#32
  let v94 : BitVec 32 := Scalar.minsi v93 c12032_i32_42
  let v95 : BitVec 32 := Scalar.subi v93 v94
  let v96 : BitVec 32 := v95
  let c16_i32_400 : BitVec 32 := 16#32
  let v975 : BitVec 32 := Scalar.addi v96 c16_i32_400
  let c255_i32_401 : BitVec 32 := 255#32
  let v976 : BitVec 32 := Scalar.andi v975 c255_i32_401
  v976
def k0_mult514 (v93 : BitVec 32) : BitVec 32 :=
  let c12032_i32_42 : BitVec 32 := 12032#32
  let v94 : BitVec 32 := Scalar.minsi v93 c12032_i32_42
  let v95 : BitVec 32 := Scalar.subi v93 v94
  let v96 : BitVec 32 := v95
  let c16_i32_403 : BitVec 32 := 16#32
  let v982 : BitVec 32 := Scalar.addi v96 c16_i32_403
  let c255_i32_404 : BitVec 32 := 255#32
  let v983 : BitVec 32 := Scalar.andi v982 c255_i32_404
  v983
def k0_mult515 (v93 : BitVec 32) : BitVec 32 :=
  let c12032_i32_42 : BitVec 32 := 12032#32
  let v94 : BitVec 32 := Scalar.minsi v93 c12032_i32_42
  let v95 : BitVec 32 := Scalar.subi v93 v94
  let v96 : BitVec 32 := v95
  let c32_i32_406 : BitVec 32 := 32#32
  let v989 : BitVec 32 := Scalar.addi v96 c32_i32_406
  let c255_i32_407 : BitVec 32 := 255#32
  let v990 : BitVec 32 := Scalar.andi v989 c255_i32_407
  v990
def k0_mult516 (v93 : BitVec 32) : BitVec 32 :=
  let c12032_i32_42 : BitVec 32 := 12032#32
  let v94 : BitVec 32 := Scalar.minsi v93 c12032_i32_42
  let v95 : BitVec 32 := Scalar.subi v93 v94
  let v96 : BitVec 32 := v95
  let c32_i32_409 : BitVec 32 := 32#32
  let v996 : BitVec 32 := Scalar.addi v96 c32_i32_409
  let c255_i32_410 : BitVec 32 := 255#32
  let v997 : BitVec 32 := Scalar.andi v996 c255_i32_410
  v997
def k0_mult517 (v93 : BitVec 32) : BitVec 32 :=
  let c12032_i32_42 : BitVec 32 := 12032#32
  let v94 : BitVec 32 := Scalar.minsi v93 c12032_i32_42
  let v95 : BitVec 32 := Scalar.subi v93 v94
  let v96 : BitVec 32 := v95
  let c48_i32_412 : BitVec 32 := 48#32
  let v1003 : BitVec 32 := Scalar.addi v96 c48_i32_412
  let c255_i32_413 : BitVec 32 := 255#32
  let v1004 : BitVec 32 := Scalar.andi v1003 c255_i32_413
  v1004
def k0_mult518 (v93 : BitVec 32) : BitVec 32 :=
  let c12032_i32_42 : BitVec 32 := 12032#32
  let v94 : BitVec 32 := Scalar.minsi v93 c12032_i32_42
  let v95 : BitVec 32 := Scalar.subi v93 v94
  let v96 : BitVec 32 := v95
  let c48_i32_415 : BitVec 32 := 48#32
  let v1010 : BitVec 32 := Scalar.addi v96 c48_i32_415
  let c255_i32_416 : BitVec 32 := 255#32
  let v1011 : BitVec 32 := Scalar.andi v1010 c255_i32_416
  v1011
def k0_mult519 (v93 : BitVec 32) : BitVec 32 :=
  let c12032_i32_42 : BitVec 32 := 12032#32
  let v94 : BitVec 32 := Scalar.minsi v93 c12032_i32_42
  let v95 : BitVec 32 := Scalar.subi v93 v94
  let v96 : BitVec 32 := v95
  let c64_i32_418 : BitVec 32 := 64#32
  let v1017 : BitVec 32 := Scalar.addi v96 c64_i32_418
  let c255_i32_419 : BitVec 32 := 255#32
  let v1018 : BitVec 32 := Scalar.andi v1017 c255_i32_419
  v1018
def k0_mult520 (v93 : BitVec 32) : BitVec 32 :=
  let c12032_i32_42 : BitVec 32 := 12032#32
  let v94 : BitVec 32 := Scalar.minsi v93 c12032_i32_42
  let v95 : BitVec 32 := Scalar.subi v93 v94
  let v96 : BitVec 32 := v95
  let c64_i32_421 : BitVec 32 := 64#32
  let v1024 : BitVec 32 := Scalar.addi v96 c64_i32_421
  let c255_i32_422 : BitVec 32 := 255#32
  let v1025 : BitVec 32 := Scalar.andi v1024 c255_i32_422
  v1025
def k0_mult521 (v93 : BitVec 32) : BitVec 32 :=
  let c12032_i32_42 : BitVec 32 := 12032#32
  let v94 : BitVec 32 := Scalar.minsi v93 c12032_i32_42
  let v95 : BitVec 32 := Scalar.subi v93 v94
  let v96 : BitVec 32 := v95
  let c80_i32_424 : BitVec 32 := 80#32
  let v1031 : BitVec 32 := Scalar.addi v96 c80_i32_424
  let c255_i32_425 : BitVec 32 := 255#32
  let v1032 : BitVec 32 := Scalar.andi v1031 c255_i32_425
  v1032
def k0_mult522 (v93 : BitVec 32) : BitVec 32 :=
  let c12032_i32_42 : BitVec 32 := 12032#32
  let v94 : BitVec 32 := Scalar.minsi v93 c12032_i32_42
  let v95 : BitVec 32 := Scalar.subi v93 v94
  let v96 : BitVec 32 := v95
  let c80_i32_427 : BitVec 32 := 80#32
  let v1038 : BitVec 32 := Scalar.addi v96 c80_i32_427
  let c255_i32_428 : BitVec 32 := 255#32
  let v1039 : BitVec 32 := Scalar.andi v1038 c255_i32_428
  v1039
def k0_mult523 (v93 : BitVec 32) : BitVec 32 :=
  let c12032_i32_42 : BitVec 32 := 12032#32
  let v94 : BitVec 32 := Scalar.minsi v93 c12032_i32_42
  let v95 : BitVec 32 := Scalar.subi v93 v94
  let v96 : BitVec 32 := v95
  let c96_i32_430 : BitVec 32 := 96#32
  let v1045 : BitVec 32 := Scalar.addi v96 c96_i32_430
  let c255_i32_431 : BitVec 32 := 255#32
  let v1046 : BitVec 32 := Scalar.andi v1045 c255_i32_431
  v1046
def k0_mult524 (v93 : BitVec 32) : BitVec 32 :=
  let c12032_i32_42 : BitVec 32 := 12032#32
  let v94 : BitVec 32 := Scalar.minsi v93 c12032_i32_42
  let v95 : BitVec 32 := Scalar.subi v93 v94
  let v96 : BitVec 32 := v95
  let c96_i32_433 : BitVec 32 := 96#32
  let v1052 : BitVec 32 := Scalar.addi v96 c96_i32_433
  let c255_i32_434 : BitVec 32 := 255#32
  let v1053 : BitVec 32 := Scalar.andi v1052 c255_i32_434
  v1053
def k0_mult525 (v93 : BitVec 32) : BitVec 32 :=
  let c12032_i32_42 : BitVec 32 := 12032#32
  let v94 : BitVec 32 := Scalar.minsi v93 c12032_i32_42
  let v95 : BitVec 32 := Scalar.subi v93 v94
  let v96 : BitVec 32 := v95
  let c112_i32_436 : BitVec 32 := 112#32
  let v1059 : BitVec 32 := Scalar.addi v96 c112_i32_436
  let c255_i32_437 : BitVec 32 := 255#32
  let v1060 : BitVec 32 := Scalar.andi v1059 c255_i32_437
  v1060
def k0_mult526 (v93 : BitVec 32) : BitVec 32 :=
  let c12032_i32_42 : BitVec 32 := 12032#32
  let v94 : BitVec 32 := Scalar.minsi v93 c12032_i32_42
  let v95 : BitVec 32 := Scalar.subi v93 v94
  let v96 : BitVec 32 := v95
  let c112_i32_439 : BitVec 32 := 112#32
  let v1066 : BitVec 32 := Scalar.addi v96 c112_i32_439
  let c255_i32_440 : BitVec 32 := 255#32
  let v1067 : BitVec 32 := Scalar.andi v1066 c255_i32_440
  v1067
def k0_mult527 (v93 : BitVec 32) : BitVec 32 :=
  let c12032_i32_42 : BitVec 32 := 12032#32
  let v94 : BitVec 32 := Scalar.minsi v93 c12032_i32_42
  let v95 : BitVec 32 := Scalar.subi v93 v94
  let v96 : BitVec 32 := v95
  let c128_i32_442 : BitVec 32 := 128#32
  let v1073 : BitVec 32 := Scalar.addi v96 c128_i32_442
  let c255_i32_443 : BitVec 32 := 255#32
  let v1074 : BitVec 32 := Scalar.andi v1073 c255_i32_443
  v1074
def k0_mult528 (v93 : BitVec 32) : BitVec 32 :=
  let c12032_i32_42 : BitVec 32 := 12032#32
  let v94 : BitVec 32 := Scalar.minsi v93 c12032_i32_42
  let v95 : BitVec 32 := Scalar.subi v93 v94
  let v96 : BitVec 32 := v95
  let c128_i32_445 : BitVec 32 := 128#32
  let v1080 : BitVec 32 := Scalar.addi v96 c128_i32_445
  let c255_i32_446 : BitVec 32 := 255#32
  let v1081 : BitVec 32 := Scalar.andi v1080 c255_i32_446
  v1081
def k0_mult529 (v93 : BitVec 32) : BitVec 32 :=
  let c12032_i32_42 : BitVec 32 := 12032#32
  let v94 : BitVec 32 := Scalar.minsi v93 c12032_i32_42
  let v95 : BitVec 32 := Scalar.subi v93 v94
  let v96 : BitVec 32 := v95
  let c144_i32_448 : BitVec 32 := 144#32
  let v1087 : BitVec 32 := Scalar.addi v96 c144_i32_448
  let c255_i32_449 : BitVec 32 := 255#32
  let v1088 : BitVec 32 := Scalar.andi v1087 c255_i32_449
  v1088
def k0_mult530 (v93 : BitVec 32) : BitVec 32 :=
  let c12032_i32_42 : BitVec 32 := 12032#32
  let v94 : BitVec 32 := Scalar.minsi v93 c12032_i32_42
  let v95 : BitVec 32 := Scalar.subi v93 v94
  let v96 : BitVec 32 := v95
  let c144_i32_451 : BitVec 32 := 144#32
  let v1094 : BitVec 32 := Scalar.addi v96 c144_i32_451
  let c255_i32_452 : BitVec 32 := 255#32
  let v1095 : BitVec 32 := Scalar.andi v1094 c255_i32_452
  v1095
def k0_mult531 (v93 : BitVec 32) : BitVec 32 :=
  let c12032_i32_42 : BitVec 32 := 12032#32
  let v94 : BitVec 32 := Scalar.minsi v93 c12032_i32_42
  let v95 : BitVec 32 := Scalar.subi v93 v94
  let v96 : BitVec 32 := v95
  let c160_i32_454 : BitVec 32 := 160#32
  let v1101 : BitVec 32 := Scalar.addi v96 c160_i32_454
  let c255_i32_455 : BitVec 32 := 255#32
  let v1102 : BitVec 32 := Scalar.andi v1101 c255_i32_455
  v1102
def k0_mult532 (v93 : BitVec 32) : BitVec 32 :=
  let c12032_i32_42 : BitVec 32 := 12032#32
  let v94 : BitVec 32 := Scalar.minsi v93 c12032_i32_42
  let v95 : BitVec 32 := Scalar.subi v93 v94
  let v96 : BitVec 32 := v95
  let c160_i32_457 : BitVec 32 := 160#32
  let v1108 : BitVec 32 := Scalar.addi v96 c160_i32_457
  let c255_i32_458 : BitVec 32 := 255#32
  let v1109 : BitVec 32 := Scalar.andi v1108 c255_i32_458
  v1109
def k0_mult533 (v93 : BitVec 32) : BitVec 32 :=
  let c12032_i32_42 : BitVec 32 := 12032#32
  let v94 : BitVec 32 := Scalar.minsi v93 c12032_i32_42
  let v95 : BitVec 32 := Scalar.subi v93 v94
  let v96 : BitVec 32 := v95
  let c176_i32_460 : BitVec 32 := 176#32
  let v1115 : BitVec 32 := Scalar.addi v96 c176_i32_460
  let c255_i32_461 : BitVec 32 := 255#32
  let v1116 : BitVec 32 := Scalar.andi v1115 c255_i32_461
  v1116
def k0_mult534 (v93 : BitVec 32) : BitVec 32 :=
  let c12032_i32_42 : BitVec 32 := 12032#32
  let v94 : BitVec 32 := Scalar.minsi v93 c12032_i32_42
  let v95 : BitVec 32 := Scalar.subi v93 v94
  let v96 : BitVec 32 := v95
  let c176_i32_463 : BitVec 32 := 176#32
  let v1122 : BitVec 32 := Scalar.addi v96 c176_i32_463
  let c255_i32_464 : BitVec 32 := 255#32
  let v1123 : BitVec 32 := Scalar.andi v1122 c255_i32_464
  v1123
def k0_mult535 (v93 : BitVec 32) : BitVec 32 :=
  let c12032_i32_42 : BitVec 32 := 12032#32
  let v94 : BitVec 32 := Scalar.minsi v93 c12032_i32_42
  let v95 : BitVec 32 := Scalar.subi v93 v94
  let v96 : BitVec 32 := v95
  let c192_i32_466 : BitVec 32 := 192#32
  let v1129 : BitVec 32 := Scalar.addi v96 c192_i32_466
  let c255_i32_467 : BitVec 32 := 255#32
  let v1130 : BitVec 32 := Scalar.andi v1129 c255_i32_467
  v1130
def k0_mult536 (v93 : BitVec 32) : BitVec 32 :=
  let c12032_i32_42 : BitVec 32 := 12032#32
  let v94 : BitVec 32 := Scalar.minsi v93 c12032_i32_42
  let v95 : BitVec 32 := Scalar.subi v93 v94
  let v96 : BitVec 32 := v95
  let c192_i32_469 : BitVec 32 := 192#32
  let v1136 : BitVec 32 := Scalar.addi v96 c192_i32_469
  let c255_i32_470 : BitVec 32 := 255#32
  let v1137 : BitVec 32 := Scalar.andi v1136 c255_i32_470
  v1137
def k0_mult537 (v93 : BitVec 32) : BitVec 32 :=
  let c12032_i32_42 : BitVec 32 := 12032#32
  let v94 : BitVec 32 := Scalar.minsi v93 c12032_i32_42
  let v95 : BitVec 32 := Scalar.subi v93 v94
  let v96 : BitVec 32 := v95
  let c208_i32_472 : BitVec 32 := 208#32
  let v1143 : BitVec 32 := Scalar.addi v96 c208_i32_472
  let c255_i32_473 : BitVec 32 := 255#32
  let v1144 : BitVec 32 := Scalar.andi v1143 c255_i32_473
  v1144
def k0_mult538 (v93 : BitVec 32) : BitVec 32 :=
  let c12032_i32_42 : BitVec 32 := 12032#32
  let v94 : BitVec 32 := Scalar.minsi v93 c12032_i32_42
  let v95 : BitVec 32 := Scalar.subi v93 v94
  let v96 : BitVec 32 := v95
  let c208_i32_475 : BitVec 32 := 208#32
  let v1150 : BitVec 32 := Scalar.addi v96 c208_i32_475
  let c255_i32_476 : BitVec 32 := 255#32
  let v1151 : BitVec 32 := Scalar.andi v1150 c255_i32_476
  v1151
def k0_mult539 (v93 : BitVec 32) : BitVec 32 :=
  let c12032_i32_42 : BitVec 32 := 12032#32
  let v94 : BitVec 32 := Scalar.minsi v93 c12032_i32_42
  let v95 : BitVec 32 := Scalar.subi v93 v94
  let v96 : BitVec 32 := v95
  let c224_i32_478 : BitVec 32 := 224#32
  let v1157 : BitVec 32 := Scalar.addi v96 c224_i32_478
  let c255_i32_479 : BitVec 32 := 255#32
  let v1158 : BitVec 32 := Scalar.andi v1157 c255_i32_479
  v1158
def k0_mult540 (v93 : BitVec 32) : BitVec 32 :=
  let c12032_i32_42 : BitVec 32 := 12032#32
  let v94 : BitVec 32 := Scalar.minsi v93 c12032_i32_42
  let v95 : BitVec 32 := Scalar.subi v93 v94
  let v96 : BitVec 32 := v95
  let c224_i32_481 : BitVec 32 := 224#32
  let v1164 : BitVec 32 := Scalar.addi v96 c224_i32_481
  let c255_i32_482 : BitVec 32 := 255#32
  let v1165 : BitVec 32 := Scalar.andi v1164 c255_i32_482
  v1165
def k0_mult541 (v93 : BitVec 32) : BitVec 32 :=
  let c12032_i32_42 : BitVec 32 := 12032#32
  let v94 : BitVec 32 := Scalar.minsi v93 c12032_i32_42
  let v95 : BitVec 32 := Scalar.subi v93 v94
  let v96 : BitVec 32 := v95
  let c240_i32_484 : BitVec 32 := 240#32
  let v1171 : BitVec 32 := Scalar.addi v96 c240_i32_484
  let c255_i32_485 : BitVec 32 := 255#32
  let v1172 : BitVec 32 := Scalar.andi v1171 c255_i32_485
  v1172
def k0_mult542 (v93 : BitVec 32) : BitVec 32 :=
  let c12032_i32_42 : BitVec 32 := 12032#32
  let v94 : BitVec 32 := Scalar.minsi v93 c12032_i32_42
  let v95 : BitVec 32 := Scalar.subi v93 v94
  let v96 : BitVec 32 := v95
  let c240_i32_487 : BitVec 32 := 240#32
  let v1178 : BitVec 32 := Scalar.addi v96 c240_i32_487
  let c255_i32_488 : BitVec 32 := 255#32
  let v1179 : BitVec 32 := Scalar.andi v1178 c255_i32_488
  v1179
def k0_mult543 (v93 : BitVec 32) : BitVec 32 :=
  let c12032_i32_42 : BitVec 32 := 12032#32
  let v94 : BitVec 32 := Scalar.minsi v93 c12032_i32_42
  let v95 : BitVec 32 := Scalar.subi v93 v94
  let v96 : BitVec 32 := v95
  let c0_i32_522 : BitVec 32 := 0#32
  let v1249 : BitVec 32 := Scalar.addi v96 c0_i32_522
  let c255_i32_523 : BitVec 32 := 255#32
  let v1250 : BitVec 32 := Scalar.andi v1249 c255_i32_523
  v1250
def k0_off103 (v1_0 : BitVec 32) (k0_t6 : Fin (k0_t6_loop v1_0).trips) (v93 : BitVec 32) (c0_i32_522 : BitVec 32) : Fin 3 → Nat :=
  let c0_i32_13 : BitVec 32 := 0#32
  let v15 : BitVec 32 := Scalar.subi v1_0 c0_i32_13
  let c1_i32_15 : BitVec 32 := 1#32
  let v17 : BitVec 32 := Scalar.divsi v15 c1_i32_15
  let v18 : BitVec 32 := Scalar.muli v17 c1_i32_15
  let v19 : BitVec 32 := Scalar.addi c0_i32_13 v18
  let c1_i32_17 : BitVec 32 := 1#32
  let arg22 : BitVec 32 := Scf.iv v19 c1_i32_17 k0_t6
  let c1_i32_32 : BitVec 32 := 1#32
  let v72 : BitVec 32 := Scalar.andi arg22 c1_i32_32
  let v1252 : Index := Scalar.indexCast v72
  let c12032_i32_42 : BitVec 32 := 12032#32
  let v94 : BitVec 32 := Scalar.minsi v93 c12032_i32_42
  let v95 : BitVec 32 := Scalar.subi v93 v94
  let v96 : BitVec 32 := v95
  let v1249 : BitVec 32 := Scalar.addi v96 c0_i32_522
  let c255_i32_523 : BitVec 32 := 255#32
  let v1250 : BitVec 32 := Scalar.andi v1249 c255_i32_523
  let v1251 : BitVec 32 := v1250
  let v1253 : Index := Scalar.indexCast v1251
  let c1024 : Index := 1024#32
  ![v1252.toNat, v1253.toNat, 1024]
def k0_mult544 (v93 : BitVec 32) : BitVec 32 :=
  let c12032_i32_42 : BitVec 32 := 12032#32
  let v94 : BitVec 32 := Scalar.minsi v93 c12032_i32_42
  let v95 : BitVec 32 := Scalar.subi v93 v94
  let v96 : BitVec 32 := v95
  let c0_i32_524 : BitVec 32 := 0#32
  let v1256 : BitVec 32 := Scalar.addi v96 c0_i32_524
  let c255_i32_525 : BitVec 32 := 255#32
  let v1257 : BitVec 32 := Scalar.andi v1256 c255_i32_525
  v1257
def k0_off104 (v1_0 : BitVec 32) (k0_t6 : Fin (k0_t6_loop v1_0).trips) (v93 : BitVec 32) (c0_i32_524 : BitVec 32) : Fin 3 → Nat :=
  let c0_i32_13 : BitVec 32 := 0#32
  let v15 : BitVec 32 := Scalar.subi v1_0 c0_i32_13
  let c1_i32_15 : BitVec 32 := 1#32
  let v17 : BitVec 32 := Scalar.divsi v15 c1_i32_15
  let v18 : BitVec 32 := Scalar.muli v17 c1_i32_15
  let v19 : BitVec 32 := Scalar.addi c0_i32_13 v18
  let c1_i32_17 : BitVec 32 := 1#32
  let arg22 : BitVec 32 := Scf.iv v19 c1_i32_17 k0_t6
  let c1_i32_32 : BitVec 32 := 1#32
  let v72 : BitVec 32 := Scalar.andi arg22 c1_i32_32
  let v1259 : Index := Scalar.indexCast v72
  let c12032_i32_42 : BitVec 32 := 12032#32
  let v94 : BitVec 32 := Scalar.minsi v93 c12032_i32_42
  let v95 : BitVec 32 := Scalar.subi v93 v94
  let v96 : BitVec 32 := v95
  let v1256 : BitVec 32 := Scalar.addi v96 c0_i32_524
  let c255_i32_525 : BitVec 32 := 255#32
  let v1257 : BitVec 32 := Scalar.andi v1256 c255_i32_525
  let v1258 : BitVec 32 := v1257
  let v1260 : Index := Scalar.indexCast v1258
  let c1152 : Index := 1152#32
  ![v1259.toNat, v1260.toNat, 1152]
def k0_mult545 (v93 : BitVec 32) : BitVec 32 :=
  let c12032_i32_42 : BitVec 32 := 12032#32
  let v94 : BitVec 32 := Scalar.minsi v93 c12032_i32_42
  let v95 : BitVec 32 := Scalar.subi v93 v94
  let v96 : BitVec 32 := v95
  let c16_i32_526 : BitVec 32 := 16#32
  let v1263 : BitVec 32 := Scalar.addi v96 c16_i32_526
  let c255_i32_527 : BitVec 32 := 255#32
  let v1264 : BitVec 32 := Scalar.andi v1263 c255_i32_527
  v1264
def k0_mult546 (v93 : BitVec 32) : BitVec 32 :=
  let c12032_i32_42 : BitVec 32 := 12032#32
  let v94 : BitVec 32 := Scalar.minsi v93 c12032_i32_42
  let v95 : BitVec 32 := Scalar.subi v93 v94
  let v96 : BitVec 32 := v95
  let c16_i32_529 : BitVec 32 := 16#32
  let v1270 : BitVec 32 := Scalar.addi v96 c16_i32_529
  let c255_i32_530 : BitVec 32 := 255#32
  let v1271 : BitVec 32 := Scalar.andi v1270 c255_i32_530
  v1271
def k0_mult547 (v93 : BitVec 32) : BitVec 32 :=
  let c12032_i32_42 : BitVec 32 := 12032#32
  let v94 : BitVec 32 := Scalar.minsi v93 c12032_i32_42
  let v95 : BitVec 32 := Scalar.subi v93 v94
  let v96 : BitVec 32 := v95
  let c32_i32_532 : BitVec 32 := 32#32
  let v1277 : BitVec 32 := Scalar.addi v96 c32_i32_532
  let c255_i32_533 : BitVec 32 := 255#32
  let v1278 : BitVec 32 := Scalar.andi v1277 c255_i32_533
  v1278
def k0_mult548 (v93 : BitVec 32) : BitVec 32 :=
  let c12032_i32_42 : BitVec 32 := 12032#32
  let v94 : BitVec 32 := Scalar.minsi v93 c12032_i32_42
  let v95 : BitVec 32 := Scalar.subi v93 v94
  let v96 : BitVec 32 := v95
  let c32_i32_535 : BitVec 32 := 32#32
  let v1284 : BitVec 32 := Scalar.addi v96 c32_i32_535
  let c255_i32_536 : BitVec 32 := 255#32
  let v1285 : BitVec 32 := Scalar.andi v1284 c255_i32_536
  v1285
def k0_mult549 (v93 : BitVec 32) : BitVec 32 :=
  let c12032_i32_42 : BitVec 32 := 12032#32
  let v94 : BitVec 32 := Scalar.minsi v93 c12032_i32_42
  let v95 : BitVec 32 := Scalar.subi v93 v94
  let v96 : BitVec 32 := v95
  let c48_i32_538 : BitVec 32 := 48#32
  let v1291 : BitVec 32 := Scalar.addi v96 c48_i32_538
  let c255_i32_539 : BitVec 32 := 255#32
  let v1292 : BitVec 32 := Scalar.andi v1291 c255_i32_539
  v1292
def k0_mult550 (v93 : BitVec 32) : BitVec 32 :=
  let c12032_i32_42 : BitVec 32 := 12032#32
  let v94 : BitVec 32 := Scalar.minsi v93 c12032_i32_42
  let v95 : BitVec 32 := Scalar.subi v93 v94
  let v96 : BitVec 32 := v95
  let c48_i32_541 : BitVec 32 := 48#32
  let v1298 : BitVec 32 := Scalar.addi v96 c48_i32_541
  let c255_i32_542 : BitVec 32 := 255#32
  let v1299 : BitVec 32 := Scalar.andi v1298 c255_i32_542
  v1299
def k0_mult551 (v93 : BitVec 32) : BitVec 32 :=
  let c12032_i32_42 : BitVec 32 := 12032#32
  let v94 : BitVec 32 := Scalar.minsi v93 c12032_i32_42
  let v95 : BitVec 32 := Scalar.subi v93 v94
  let v96 : BitVec 32 := v95
  let c64_i32_544 : BitVec 32 := 64#32
  let v1305 : BitVec 32 := Scalar.addi v96 c64_i32_544
  let c255_i32_545 : BitVec 32 := 255#32
  let v1306 : BitVec 32 := Scalar.andi v1305 c255_i32_545
  v1306
def k0_mult552 (v93 : BitVec 32) : BitVec 32 :=
  let c12032_i32_42 : BitVec 32 := 12032#32
  let v94 : BitVec 32 := Scalar.minsi v93 c12032_i32_42
  let v95 : BitVec 32 := Scalar.subi v93 v94
  let v96 : BitVec 32 := v95
  let c64_i32_547 : BitVec 32 := 64#32
  let v1312 : BitVec 32 := Scalar.addi v96 c64_i32_547
  let c255_i32_548 : BitVec 32 := 255#32
  let v1313 : BitVec 32 := Scalar.andi v1312 c255_i32_548
  v1313
def k0_mult553 (v93 : BitVec 32) : BitVec 32 :=
  let c12032_i32_42 : BitVec 32 := 12032#32
  let v94 : BitVec 32 := Scalar.minsi v93 c12032_i32_42
  let v95 : BitVec 32 := Scalar.subi v93 v94
  let v96 : BitVec 32 := v95
  let c80_i32_550 : BitVec 32 := 80#32
  let v1319 : BitVec 32 := Scalar.addi v96 c80_i32_550
  let c255_i32_551 : BitVec 32 := 255#32
  let v1320 : BitVec 32 := Scalar.andi v1319 c255_i32_551
  v1320
def k0_mult554 (v93 : BitVec 32) : BitVec 32 :=
  let c12032_i32_42 : BitVec 32 := 12032#32
  let v94 : BitVec 32 := Scalar.minsi v93 c12032_i32_42
  let v95 : BitVec 32 := Scalar.subi v93 v94
  let v96 : BitVec 32 := v95
  let c80_i32_553 : BitVec 32 := 80#32
  let v1326 : BitVec 32 := Scalar.addi v96 c80_i32_553
  let c255_i32_554 : BitVec 32 := 255#32
  let v1327 : BitVec 32 := Scalar.andi v1326 c255_i32_554
  v1327
def k0_mult555 (v93 : BitVec 32) : BitVec 32 :=
  let c12032_i32_42 : BitVec 32 := 12032#32
  let v94 : BitVec 32 := Scalar.minsi v93 c12032_i32_42
  let v95 : BitVec 32 := Scalar.subi v93 v94
  let v96 : BitVec 32 := v95
  let c96_i32_556 : BitVec 32 := 96#32
  let v1333 : BitVec 32 := Scalar.addi v96 c96_i32_556
  let c255_i32_557 : BitVec 32 := 255#32
  let v1334 : BitVec 32 := Scalar.andi v1333 c255_i32_557
  v1334
def k0_mult556 (v93 : BitVec 32) : BitVec 32 :=
  let c12032_i32_42 : BitVec 32 := 12032#32
  let v94 : BitVec 32 := Scalar.minsi v93 c12032_i32_42
  let v95 : BitVec 32 := Scalar.subi v93 v94
  let v96 : BitVec 32 := v95
  let c96_i32_559 : BitVec 32 := 96#32
  let v1340 : BitVec 32 := Scalar.addi v96 c96_i32_559
  let c255_i32_560 : BitVec 32 := 255#32
  let v1341 : BitVec 32 := Scalar.andi v1340 c255_i32_560
  v1341
def k0_mult557 (v93 : BitVec 32) : BitVec 32 :=
  let c12032_i32_42 : BitVec 32 := 12032#32
  let v94 : BitVec 32 := Scalar.minsi v93 c12032_i32_42
  let v95 : BitVec 32 := Scalar.subi v93 v94
  let v96 : BitVec 32 := v95
  let c112_i32_562 : BitVec 32 := 112#32
  let v1347 : BitVec 32 := Scalar.addi v96 c112_i32_562
  let c255_i32_563 : BitVec 32 := 255#32
  let v1348 : BitVec 32 := Scalar.andi v1347 c255_i32_563
  v1348
def k0_mult558 (v93 : BitVec 32) : BitVec 32 :=
  let c12032_i32_42 : BitVec 32 := 12032#32
  let v94 : BitVec 32 := Scalar.minsi v93 c12032_i32_42
  let v95 : BitVec 32 := Scalar.subi v93 v94
  let v96 : BitVec 32 := v95
  let c112_i32_565 : BitVec 32 := 112#32
  let v1354 : BitVec 32 := Scalar.addi v96 c112_i32_565
  let c255_i32_566 : BitVec 32 := 255#32
  let v1355 : BitVec 32 := Scalar.andi v1354 c255_i32_566
  v1355
def k0_mult559 (v93 : BitVec 32) : BitVec 32 :=
  let c12032_i32_42 : BitVec 32 := 12032#32
  let v94 : BitVec 32 := Scalar.minsi v93 c12032_i32_42
  let v95 : BitVec 32 := Scalar.subi v93 v94
  let v96 : BitVec 32 := v95
  let c128_i32_568 : BitVec 32 := 128#32
  let v1361 : BitVec 32 := Scalar.addi v96 c128_i32_568
  let c255_i32_569 : BitVec 32 := 255#32
  let v1362 : BitVec 32 := Scalar.andi v1361 c255_i32_569
  v1362
def k0_mult560 (v93 : BitVec 32) : BitVec 32 :=
  let c12032_i32_42 : BitVec 32 := 12032#32
  let v94 : BitVec 32 := Scalar.minsi v93 c12032_i32_42
  let v95 : BitVec 32 := Scalar.subi v93 v94
  let v96 : BitVec 32 := v95
  let c128_i32_571 : BitVec 32 := 128#32
  let v1368 : BitVec 32 := Scalar.addi v96 c128_i32_571
  let c255_i32_572 : BitVec 32 := 255#32
  let v1369 : BitVec 32 := Scalar.andi v1368 c255_i32_572
  v1369
def k0_mult561 (v93 : BitVec 32) : BitVec 32 :=
  let c12032_i32_42 : BitVec 32 := 12032#32
  let v94 : BitVec 32 := Scalar.minsi v93 c12032_i32_42
  let v95 : BitVec 32 := Scalar.subi v93 v94
  let v96 : BitVec 32 := v95
  let c144_i32_574 : BitVec 32 := 144#32
  let v1375 : BitVec 32 := Scalar.addi v96 c144_i32_574
  let c255_i32_575 : BitVec 32 := 255#32
  let v1376 : BitVec 32 := Scalar.andi v1375 c255_i32_575
  v1376
def k0_mult562 (v93 : BitVec 32) : BitVec 32 :=
  let c12032_i32_42 : BitVec 32 := 12032#32
  let v94 : BitVec 32 := Scalar.minsi v93 c12032_i32_42
  let v95 : BitVec 32 := Scalar.subi v93 v94
  let v96 : BitVec 32 := v95
  let c144_i32_577 : BitVec 32 := 144#32
  let v1382 : BitVec 32 := Scalar.addi v96 c144_i32_577
  let c255_i32_578 : BitVec 32 := 255#32
  let v1383 : BitVec 32 := Scalar.andi v1382 c255_i32_578
  v1383
def k0_mult563 (v93 : BitVec 32) : BitVec 32 :=
  let c12032_i32_42 : BitVec 32 := 12032#32
  let v94 : BitVec 32 := Scalar.minsi v93 c12032_i32_42
  let v95 : BitVec 32 := Scalar.subi v93 v94
  let v96 : BitVec 32 := v95
  let c160_i32_580 : BitVec 32 := 160#32
  let v1389 : BitVec 32 := Scalar.addi v96 c160_i32_580
  let c255_i32_581 : BitVec 32 := 255#32
  let v1390 : BitVec 32 := Scalar.andi v1389 c255_i32_581
  v1390
def k0_mult564 (v93 : BitVec 32) : BitVec 32 :=
  let c12032_i32_42 : BitVec 32 := 12032#32
  let v94 : BitVec 32 := Scalar.minsi v93 c12032_i32_42
  let v95 : BitVec 32 := Scalar.subi v93 v94
  let v96 : BitVec 32 := v95
  let c160_i32_583 : BitVec 32 := 160#32
  let v1396 : BitVec 32 := Scalar.addi v96 c160_i32_583
  let c255_i32_584 : BitVec 32 := 255#32
  let v1397 : BitVec 32 := Scalar.andi v1396 c255_i32_584
  v1397
def k0_mult565 (v93 : BitVec 32) : BitVec 32 :=
  let c12032_i32_42 : BitVec 32 := 12032#32
  let v94 : BitVec 32 := Scalar.minsi v93 c12032_i32_42
  let v95 : BitVec 32 := Scalar.subi v93 v94
  let v96 : BitVec 32 := v95
  let c176_i32_586 : BitVec 32 := 176#32
  let v1403 : BitVec 32 := Scalar.addi v96 c176_i32_586
  let c255_i32_587 : BitVec 32 := 255#32
  let v1404 : BitVec 32 := Scalar.andi v1403 c255_i32_587
  v1404
def k0_mult566 (v93 : BitVec 32) : BitVec 32 :=
  let c12032_i32_42 : BitVec 32 := 12032#32
  let v94 : BitVec 32 := Scalar.minsi v93 c12032_i32_42
  let v95 : BitVec 32 := Scalar.subi v93 v94
  let v96 : BitVec 32 := v95
  let c176_i32_589 : BitVec 32 := 176#32
  let v1410 : BitVec 32 := Scalar.addi v96 c176_i32_589
  let c255_i32_590 : BitVec 32 := 255#32
  let v1411 : BitVec 32 := Scalar.andi v1410 c255_i32_590
  v1411
def k0_mult567 (v93 : BitVec 32) : BitVec 32 :=
  let c12032_i32_42 : BitVec 32 := 12032#32
  let v94 : BitVec 32 := Scalar.minsi v93 c12032_i32_42
  let v95 : BitVec 32 := Scalar.subi v93 v94
  let v96 : BitVec 32 := v95
  let c192_i32_592 : BitVec 32 := 192#32
  let v1417 : BitVec 32 := Scalar.addi v96 c192_i32_592
  let c255_i32_593 : BitVec 32 := 255#32
  let v1418 : BitVec 32 := Scalar.andi v1417 c255_i32_593
  v1418
def k0_mult568 (v93 : BitVec 32) : BitVec 32 :=
  let c12032_i32_42 : BitVec 32 := 12032#32
  let v94 : BitVec 32 := Scalar.minsi v93 c12032_i32_42
  let v95 : BitVec 32 := Scalar.subi v93 v94
  let v96 : BitVec 32 := v95
  let c192_i32_595 : BitVec 32 := 192#32
  let v1424 : BitVec 32 := Scalar.addi v96 c192_i32_595
  let c255_i32_596 : BitVec 32 := 255#32
  let v1425 : BitVec 32 := Scalar.andi v1424 c255_i32_596
  v1425
def k0_mult569 (v93 : BitVec 32) : BitVec 32 :=
  let c12032_i32_42 : BitVec 32 := 12032#32
  let v94 : BitVec 32 := Scalar.minsi v93 c12032_i32_42
  let v95 : BitVec 32 := Scalar.subi v93 v94
  let v96 : BitVec 32 := v95
  let c208_i32_598 : BitVec 32 := 208#32
  let v1431 : BitVec 32 := Scalar.addi v96 c208_i32_598
  let c255_i32_599 : BitVec 32 := 255#32
  let v1432 : BitVec 32 := Scalar.andi v1431 c255_i32_599
  v1432
def k0_mult570 (v93 : BitVec 32) : BitVec 32 :=
  let c12032_i32_42 : BitVec 32 := 12032#32
  let v94 : BitVec 32 := Scalar.minsi v93 c12032_i32_42
  let v95 : BitVec 32 := Scalar.subi v93 v94
  let v96 : BitVec 32 := v95
  let c208_i32_601 : BitVec 32 := 208#32
  let v1438 : BitVec 32 := Scalar.addi v96 c208_i32_601
  let c255_i32_602 : BitVec 32 := 255#32
  let v1439 : BitVec 32 := Scalar.andi v1438 c255_i32_602
  v1439
def k0_mult571 (v93 : BitVec 32) : BitVec 32 :=
  let c12032_i32_42 : BitVec 32 := 12032#32
  let v94 : BitVec 32 := Scalar.minsi v93 c12032_i32_42
  let v95 : BitVec 32 := Scalar.subi v93 v94
  let v96 : BitVec 32 := v95
  let c224_i32_604 : BitVec 32 := 224#32
  let v1445 : BitVec 32 := Scalar.addi v96 c224_i32_604
  let c255_i32_605 : BitVec 32 := 255#32
  let v1446 : BitVec 32 := Scalar.andi v1445 c255_i32_605
  v1446
def k0_mult572 (v93 : BitVec 32) : BitVec 32 :=
  let c12032_i32_42 : BitVec 32 := 12032#32
  let v94 : BitVec 32 := Scalar.minsi v93 c12032_i32_42
  let v95 : BitVec 32 := Scalar.subi v93 v94
  let v96 : BitVec 32 := v95
  let c224_i32_607 : BitVec 32 := 224#32
  let v1452 : BitVec 32 := Scalar.addi v96 c224_i32_607
  let c255_i32_608 : BitVec 32 := 255#32
  let v1453 : BitVec 32 := Scalar.andi v1452 c255_i32_608
  v1453
def k0_mult573 (v93 : BitVec 32) : BitVec 32 :=
  let c12032_i32_42 : BitVec 32 := 12032#32
  let v94 : BitVec 32 := Scalar.minsi v93 c12032_i32_42
  let v95 : BitVec 32 := Scalar.subi v93 v94
  let v96 : BitVec 32 := v95
  let c240_i32_610 : BitVec 32 := 240#32
  let v1459 : BitVec 32 := Scalar.addi v96 c240_i32_610
  let c255_i32_611 : BitVec 32 := 255#32
  let v1460 : BitVec 32 := Scalar.andi v1459 c255_i32_611
  v1460
def k0_mult574 (v93 : BitVec 32) : BitVec 32 :=
  let c12032_i32_42 : BitVec 32 := 12032#32
  let v94 : BitVec 32 := Scalar.minsi v93 c12032_i32_42
  let v95 : BitVec 32 := Scalar.subi v93 v94
  let v96 : BitVec 32 := v95
  let c240_i32_613 : BitVec 32 := 240#32
  let v1466 : BitVec 32 := Scalar.addi v96 c240_i32_613
  let c255_i32_614 : BitVec 32 := 255#32
  let v1467 : BitVec 32 := Scalar.andi v1466 c255_i32_614
  v1467
def k0_mult575 (v93 : BitVec 32) : BitVec 32 :=
  let c12032_i32_42 : BitVec 32 := 12032#32
  let v94 : BitVec 32 := Scalar.minsi v93 c12032_i32_42
  let v95 : BitVec 32 := Scalar.subi v93 v94
  let v96 : BitVec 32 := v95
  let c0_i32_648 : BitVec 32 := 0#32
  let v1537 : BitVec 32 := Scalar.addi v96 c0_i32_648
  let c255_i32_649 : BitVec 32 := 255#32
  let v1538 : BitVec 32 := Scalar.andi v1537 c255_i32_649
  v1538
def k0_off105 (v1_0 : BitVec 32) (k0_t6 : Fin (k0_t6_loop v1_0).trips) (v93 : BitVec 32) (c0_i32_648 : BitVec 32) : Fin 3 → Nat :=
  let c0_i32_13 : BitVec 32 := 0#32
  let v15 : BitVec 32 := Scalar.subi v1_0 c0_i32_13
  let c1_i32_15 : BitVec 32 := 1#32
  let v17 : BitVec 32 := Scalar.divsi v15 c1_i32_15
  let v18 : BitVec 32 := Scalar.muli v17 c1_i32_15
  let v19 : BitVec 32 := Scalar.addi c0_i32_13 v18
  let c1_i32_17 : BitVec 32 := 1#32
  let arg22 : BitVec 32 := Scf.iv v19 c1_i32_17 k0_t6
  let c1_i32_32 : BitVec 32 := 1#32
  let v72 : BitVec 32 := Scalar.andi arg22 c1_i32_32
  let v1540 : Index := Scalar.indexCast v72
  let c12032_i32_42 : BitVec 32 := 12032#32
  let v94 : BitVec 32 := Scalar.minsi v93 c12032_i32_42
  let v95 : BitVec 32 := Scalar.subi v93 v94
  let v96 : BitVec 32 := v95
  let v1537 : BitVec 32 := Scalar.addi v96 c0_i32_648
  let c255_i32_649 : BitVec 32 := 255#32
  let v1538 : BitVec 32 := Scalar.andi v1537 c255_i32_649
  let v1539 : BitVec 32 := v1538
  let v1541 : Index := Scalar.indexCast v1539
  let c1280 : Index := 1280#32
  ![v1540.toNat, v1541.toNat, 1280]
def k0_mult576 (v93 : BitVec 32) : BitVec 32 :=
  let c12032_i32_42 : BitVec 32 := 12032#32
  let v94 : BitVec 32 := Scalar.minsi v93 c12032_i32_42
  let v95 : BitVec 32 := Scalar.subi v93 v94
  let v96 : BitVec 32 := v95
  let c0_i32_650 : BitVec 32 := 0#32
  let v1544 : BitVec 32 := Scalar.addi v96 c0_i32_650
  let c255_i32_651 : BitVec 32 := 255#32
  let v1545 : BitVec 32 := Scalar.andi v1544 c255_i32_651
  v1545
def k0_off106 (v1_0 : BitVec 32) (k0_t6 : Fin (k0_t6_loop v1_0).trips) (v93 : BitVec 32) (c0_i32_650 : BitVec 32) : Fin 3 → Nat :=
  let c0_i32_13 : BitVec 32 := 0#32
  let v15 : BitVec 32 := Scalar.subi v1_0 c0_i32_13
  let c1_i32_15 : BitVec 32 := 1#32
  let v17 : BitVec 32 := Scalar.divsi v15 c1_i32_15
  let v18 : BitVec 32 := Scalar.muli v17 c1_i32_15
  let v19 : BitVec 32 := Scalar.addi c0_i32_13 v18
  let c1_i32_17 : BitVec 32 := 1#32
  let arg22 : BitVec 32 := Scf.iv v19 c1_i32_17 k0_t6
  let c1_i32_32 : BitVec 32 := 1#32
  let v72 : BitVec 32 := Scalar.andi arg22 c1_i32_32
  let v1547 : Index := Scalar.indexCast v72
  let c12032_i32_42 : BitVec 32 := 12032#32
  let v94 : BitVec 32 := Scalar.minsi v93 c12032_i32_42
  let v95 : BitVec 32 := Scalar.subi v93 v94
  let v96 : BitVec 32 := v95
  let v1544 : BitVec 32 := Scalar.addi v96 c0_i32_650
  let c255_i32_651 : BitVec 32 := 255#32
  let v1545 : BitVec 32 := Scalar.andi v1544 c255_i32_651
  let v1546 : BitVec 32 := v1545
  let v1548 : Index := Scalar.indexCast v1546
  let c1408 : Index := 1408#32
  ![v1547.toNat, v1548.toNat, 1408]
def k0_mult577 (v93 : BitVec 32) : BitVec 32 :=
  let c12032_i32_42 : BitVec 32 := 12032#32
  let v94 : BitVec 32 := Scalar.minsi v93 c12032_i32_42
  let v95 : BitVec 32 := Scalar.subi v93 v94
  let v96 : BitVec 32 := v95
  let c16_i32_652 : BitVec 32 := 16#32
  let v1551 : BitVec 32 := Scalar.addi v96 c16_i32_652
  let c255_i32_653 : BitVec 32 := 255#32
  let v1552 : BitVec 32 := Scalar.andi v1551 c255_i32_653
  v1552
def k0_mult578 (v93 : BitVec 32) : BitVec 32 :=
  let c12032_i32_42 : BitVec 32 := 12032#32
  let v94 : BitVec 32 := Scalar.minsi v93 c12032_i32_42
  let v95 : BitVec 32 := Scalar.subi v93 v94
  let v96 : BitVec 32 := v95
  let c16_i32_655 : BitVec 32 := 16#32
  let v1558 : BitVec 32 := Scalar.addi v96 c16_i32_655
  let c255_i32_656 : BitVec 32 := 255#32
  let v1559 : BitVec 32 := Scalar.andi v1558 c255_i32_656
  v1559
def k0_mult579 (v93 : BitVec 32) : BitVec 32 :=
  let c12032_i32_42 : BitVec 32 := 12032#32
  let v94 : BitVec 32 := Scalar.minsi v93 c12032_i32_42
  let v95 : BitVec 32 := Scalar.subi v93 v94
  let v96 : BitVec 32 := v95
  let c32_i32_658 : BitVec 32 := 32#32
  let v1565 : BitVec 32 := Scalar.addi v96 c32_i32_658
  let c255_i32_659 : BitVec 32 := 255#32
  let v1566 : BitVec 32 := Scalar.andi v1565 c255_i32_659
  v1566
def k0_mult580 (v93 : BitVec 32) : BitVec 32 :=
  let c12032_i32_42 : BitVec 32 := 12032#32
  let v94 : BitVec 32 := Scalar.minsi v93 c12032_i32_42
  let v95 : BitVec 32 := Scalar.subi v93 v94
  let v96 : BitVec 32 := v95
  let c32_i32_661 : BitVec 32 := 32#32
  let v1572 : BitVec 32 := Scalar.addi v96 c32_i32_661
  let c255_i32_662 : BitVec 32 := 255#32
  let v1573 : BitVec 32 := Scalar.andi v1572 c255_i32_662
  v1573
def k0_mult581 (v93 : BitVec 32) : BitVec 32 :=
  let c12032_i32_42 : BitVec 32 := 12032#32
  let v94 : BitVec 32 := Scalar.minsi v93 c12032_i32_42
  let v95 : BitVec 32 := Scalar.subi v93 v94
  let v96 : BitVec 32 := v95
  let c48_i32_664 : BitVec 32 := 48#32
  let v1579 : BitVec 32 := Scalar.addi v96 c48_i32_664
  let c255_i32_665 : BitVec 32 := 255#32
  let v1580 : BitVec 32 := Scalar.andi v1579 c255_i32_665
  v1580
def k0_mult582 (v93 : BitVec 32) : BitVec 32 :=
  let c12032_i32_42 : BitVec 32 := 12032#32
  let v94 : BitVec 32 := Scalar.minsi v93 c12032_i32_42
  let v95 : BitVec 32 := Scalar.subi v93 v94
  let v96 : BitVec 32 := v95
  let c48_i32_667 : BitVec 32 := 48#32
  let v1586 : BitVec 32 := Scalar.addi v96 c48_i32_667
  let c255_i32_668 : BitVec 32 := 255#32
  let v1587 : BitVec 32 := Scalar.andi v1586 c255_i32_668
  v1587
def k0_mult583 (v93 : BitVec 32) : BitVec 32 :=
  let c12032_i32_42 : BitVec 32 := 12032#32
  let v94 : BitVec 32 := Scalar.minsi v93 c12032_i32_42
  let v95 : BitVec 32 := Scalar.subi v93 v94
  let v96 : BitVec 32 := v95
  let c64_i32_670 : BitVec 32 := 64#32
  let v1593 : BitVec 32 := Scalar.addi v96 c64_i32_670
  let c255_i32_671 : BitVec 32 := 255#32
  let v1594 : BitVec 32 := Scalar.andi v1593 c255_i32_671
  v1594
def k0_mult584 (v93 : BitVec 32) : BitVec 32 :=
  let c12032_i32_42 : BitVec 32 := 12032#32
  let v94 : BitVec 32 := Scalar.minsi v93 c12032_i32_42
  let v95 : BitVec 32 := Scalar.subi v93 v94
  let v96 : BitVec 32 := v95
  let c64_i32_673 : BitVec 32 := 64#32
  let v1600 : BitVec 32 := Scalar.addi v96 c64_i32_673
  let c255_i32_674 : BitVec 32 := 255#32
  let v1601 : BitVec 32 := Scalar.andi v1600 c255_i32_674
  v1601
def k0_mult585 (v93 : BitVec 32) : BitVec 32 :=
  let c12032_i32_42 : BitVec 32 := 12032#32
  let v94 : BitVec 32 := Scalar.minsi v93 c12032_i32_42
  let v95 : BitVec 32 := Scalar.subi v93 v94
  let v96 : BitVec 32 := v95
  let c80_i32_676 : BitVec 32 := 80#32
  let v1607 : BitVec 32 := Scalar.addi v96 c80_i32_676
  let c255_i32_677 : BitVec 32 := 255#32
  let v1608 : BitVec 32 := Scalar.andi v1607 c255_i32_677
  v1608
def k0_mult586 (v93 : BitVec 32) : BitVec 32 :=
  let c12032_i32_42 : BitVec 32 := 12032#32
  let v94 : BitVec 32 := Scalar.minsi v93 c12032_i32_42
  let v95 : BitVec 32 := Scalar.subi v93 v94
  let v96 : BitVec 32 := v95
  let c80_i32_679 : BitVec 32 := 80#32
  let v1614 : BitVec 32 := Scalar.addi v96 c80_i32_679
  let c255_i32_680 : BitVec 32 := 255#32
  let v1615 : BitVec 32 := Scalar.andi v1614 c255_i32_680
  v1615
def k0_mult587 (v93 : BitVec 32) : BitVec 32 :=
  let c12032_i32_42 : BitVec 32 := 12032#32
  let v94 : BitVec 32 := Scalar.minsi v93 c12032_i32_42
  let v95 : BitVec 32 := Scalar.subi v93 v94
  let v96 : BitVec 32 := v95
  let c96_i32_682 : BitVec 32 := 96#32
  let v1621 : BitVec 32 := Scalar.addi v96 c96_i32_682
  let c255_i32_683 : BitVec 32 := 255#32
  let v1622 : BitVec 32 := Scalar.andi v1621 c255_i32_683
  v1622
def k0_mult588 (v93 : BitVec 32) : BitVec 32 :=
  let c12032_i32_42 : BitVec 32 := 12032#32
  let v94 : BitVec 32 := Scalar.minsi v93 c12032_i32_42
  let v95 : BitVec 32 := Scalar.subi v93 v94
  let v96 : BitVec 32 := v95
  let c96_i32_685 : BitVec 32 := 96#32
  let v1628 : BitVec 32 := Scalar.addi v96 c96_i32_685
  let c255_i32_686 : BitVec 32 := 255#32
  let v1629 : BitVec 32 := Scalar.andi v1628 c255_i32_686
  v1629
def k0_mult589 (v93 : BitVec 32) : BitVec 32 :=
  let c12032_i32_42 : BitVec 32 := 12032#32
  let v94 : BitVec 32 := Scalar.minsi v93 c12032_i32_42
  let v95 : BitVec 32 := Scalar.subi v93 v94
  let v96 : BitVec 32 := v95
  let c112_i32_688 : BitVec 32 := 112#32
  let v1635 : BitVec 32 := Scalar.addi v96 c112_i32_688
  let c255_i32_689 : BitVec 32 := 255#32
  let v1636 : BitVec 32 := Scalar.andi v1635 c255_i32_689
  v1636
def k0_mult590 (v93 : BitVec 32) : BitVec 32 :=
  let c12032_i32_42 : BitVec 32 := 12032#32
  let v94 : BitVec 32 := Scalar.minsi v93 c12032_i32_42
  let v95 : BitVec 32 := Scalar.subi v93 v94
  let v96 : BitVec 32 := v95
  let c112_i32_691 : BitVec 32 := 112#32
  let v1642 : BitVec 32 := Scalar.addi v96 c112_i32_691
  let c255_i32_692 : BitVec 32 := 255#32
  let v1643 : BitVec 32 := Scalar.andi v1642 c255_i32_692
  v1643
def k0_mult591 (v93 : BitVec 32) : BitVec 32 :=
  let c12032_i32_42 : BitVec 32 := 12032#32
  let v94 : BitVec 32 := Scalar.minsi v93 c12032_i32_42
  let v95 : BitVec 32 := Scalar.subi v93 v94
  let v96 : BitVec 32 := v95
  let c128_i32_694 : BitVec 32 := 128#32
  let v1649 : BitVec 32 := Scalar.addi v96 c128_i32_694
  let c255_i32_695 : BitVec 32 := 255#32
  let v1650 : BitVec 32 := Scalar.andi v1649 c255_i32_695
  v1650
def k0_mult592 (v93 : BitVec 32) : BitVec 32 :=
  let c12032_i32_42 : BitVec 32 := 12032#32
  let v94 : BitVec 32 := Scalar.minsi v93 c12032_i32_42
  let v95 : BitVec 32 := Scalar.subi v93 v94
  let v96 : BitVec 32 := v95
  let c128_i32_697 : BitVec 32 := 128#32
  let v1656 : BitVec 32 := Scalar.addi v96 c128_i32_697
  let c255_i32_698 : BitVec 32 := 255#32
  let v1657 : BitVec 32 := Scalar.andi v1656 c255_i32_698
  v1657
def k0_mult593 (v93 : BitVec 32) : BitVec 32 :=
  let c12032_i32_42 : BitVec 32 := 12032#32
  let v94 : BitVec 32 := Scalar.minsi v93 c12032_i32_42
  let v95 : BitVec 32 := Scalar.subi v93 v94
  let v96 : BitVec 32 := v95
  let c144_i32_700 : BitVec 32 := 144#32
  let v1663 : BitVec 32 := Scalar.addi v96 c144_i32_700
  let c255_i32_701 : BitVec 32 := 255#32
  let v1664 : BitVec 32 := Scalar.andi v1663 c255_i32_701
  v1664
def k0_mult594 (v93 : BitVec 32) : BitVec 32 :=
  let c12032_i32_42 : BitVec 32 := 12032#32
  let v94 : BitVec 32 := Scalar.minsi v93 c12032_i32_42
  let v95 : BitVec 32 := Scalar.subi v93 v94
  let v96 : BitVec 32 := v95
  let c144_i32_703 : BitVec 32 := 144#32
  let v1670 : BitVec 32 := Scalar.addi v96 c144_i32_703
  let c255_i32_704 : BitVec 32 := 255#32
  let v1671 : BitVec 32 := Scalar.andi v1670 c255_i32_704
  v1671
def k0_mult595 (v93 : BitVec 32) : BitVec 32 :=
  let c12032_i32_42 : BitVec 32 := 12032#32
  let v94 : BitVec 32 := Scalar.minsi v93 c12032_i32_42
  let v95 : BitVec 32 := Scalar.subi v93 v94
  let v96 : BitVec 32 := v95
  let c160_i32_706 : BitVec 32 := 160#32
  let v1677 : BitVec 32 := Scalar.addi v96 c160_i32_706
  let c255_i32_707 : BitVec 32 := 255#32
  let v1678 : BitVec 32 := Scalar.andi v1677 c255_i32_707
  v1678
def k0_mult596 (v93 : BitVec 32) : BitVec 32 :=
  let c12032_i32_42 : BitVec 32 := 12032#32
  let v94 : BitVec 32 := Scalar.minsi v93 c12032_i32_42
  let v95 : BitVec 32 := Scalar.subi v93 v94
  let v96 : BitVec 32 := v95
  let c160_i32_709 : BitVec 32 := 160#32
  let v1684 : BitVec 32 := Scalar.addi v96 c160_i32_709
  let c255_i32_710 : BitVec 32 := 255#32
  let v1685 : BitVec 32 := Scalar.andi v1684 c255_i32_710
  v1685
def k0_mult597 (v93 : BitVec 32) : BitVec 32 :=
  let c12032_i32_42 : BitVec 32 := 12032#32
  let v94 : BitVec 32 := Scalar.minsi v93 c12032_i32_42
  let v95 : BitVec 32 := Scalar.subi v93 v94
  let v96 : BitVec 32 := v95
  let c176_i32_712 : BitVec 32 := 176#32
  let v1691 : BitVec 32 := Scalar.addi v96 c176_i32_712
  let c255_i32_713 : BitVec 32 := 255#32
  let v1692 : BitVec 32 := Scalar.andi v1691 c255_i32_713
  v1692
def k0_mult598 (v93 : BitVec 32) : BitVec 32 :=
  let c12032_i32_42 : BitVec 32 := 12032#32
  let v94 : BitVec 32 := Scalar.minsi v93 c12032_i32_42
  let v95 : BitVec 32 := Scalar.subi v93 v94
  let v96 : BitVec 32 := v95
  let c176_i32_715 : BitVec 32 := 176#32
  let v1698 : BitVec 32 := Scalar.addi v96 c176_i32_715
  let c255_i32_716 : BitVec 32 := 255#32
  let v1699 : BitVec 32 := Scalar.andi v1698 c255_i32_716
  v1699
def k0_mult599 (v93 : BitVec 32) : BitVec 32 :=
  let c12032_i32_42 : BitVec 32 := 12032#32
  let v94 : BitVec 32 := Scalar.minsi v93 c12032_i32_42
  let v95 : BitVec 32 := Scalar.subi v93 v94
  let v96 : BitVec 32 := v95
  let c192_i32_718 : BitVec 32 := 192#32
  let v1705 : BitVec 32 := Scalar.addi v96 c192_i32_718
  let c255_i32_719 : BitVec 32 := 255#32
  let v1706 : BitVec 32 := Scalar.andi v1705 c255_i32_719
  v1706
def k0_mult600 (v93 : BitVec 32) : BitVec 32 :=
  let c12032_i32_42 : BitVec 32 := 12032#32
  let v94 : BitVec 32 := Scalar.minsi v93 c12032_i32_42
  let v95 : BitVec 32 := Scalar.subi v93 v94
  let v96 : BitVec 32 := v95
  let c192_i32_721 : BitVec 32 := 192#32
  let v1712 : BitVec 32 := Scalar.addi v96 c192_i32_721
  let c255_i32_722 : BitVec 32 := 255#32
  let v1713 : BitVec 32 := Scalar.andi v1712 c255_i32_722
  v1713
def k0_mult601 (v93 : BitVec 32) : BitVec 32 :=
  let c12032_i32_42 : BitVec 32 := 12032#32
  let v94 : BitVec 32 := Scalar.minsi v93 c12032_i32_42
  let v95 : BitVec 32 := Scalar.subi v93 v94
  let v96 : BitVec 32 := v95
  let c208_i32_724 : BitVec 32 := 208#32
  let v1719 : BitVec 32 := Scalar.addi v96 c208_i32_724
  let c255_i32_725 : BitVec 32 := 255#32
  let v1720 : BitVec 32 := Scalar.andi v1719 c255_i32_725
  v1720
def k0_mult602 (v93 : BitVec 32) : BitVec 32 :=
  let c12032_i32_42 : BitVec 32 := 12032#32
  let v94 : BitVec 32 := Scalar.minsi v93 c12032_i32_42
  let v95 : BitVec 32 := Scalar.subi v93 v94
  let v96 : BitVec 32 := v95
  let c208_i32_727 : BitVec 32 := 208#32
  let v1726 : BitVec 32 := Scalar.addi v96 c208_i32_727
  let c255_i32_728 : BitVec 32 := 255#32
  let v1727 : BitVec 32 := Scalar.andi v1726 c255_i32_728
  v1727
def k0_mult603 (v93 : BitVec 32) : BitVec 32 :=
  let c12032_i32_42 : BitVec 32 := 12032#32
  let v94 : BitVec 32 := Scalar.minsi v93 c12032_i32_42
  let v95 : BitVec 32 := Scalar.subi v93 v94
  let v96 : BitVec 32 := v95
  let c224_i32_730 : BitVec 32 := 224#32
  let v1733 : BitVec 32 := Scalar.addi v96 c224_i32_730
  let c255_i32_731 : BitVec 32 := 255#32
  let v1734 : BitVec 32 := Scalar.andi v1733 c255_i32_731
  v1734
def k0_mult604 (v93 : BitVec 32) : BitVec 32 :=
  let c12032_i32_42 : BitVec 32 := 12032#32
  let v94 : BitVec 32 := Scalar.minsi v93 c12032_i32_42
  let v95 : BitVec 32 := Scalar.subi v93 v94
  let v96 : BitVec 32 := v95
  let c224_i32_733 : BitVec 32 := 224#32
  let v1740 : BitVec 32 := Scalar.addi v96 c224_i32_733
  let c255_i32_734 : BitVec 32 := 255#32
  let v1741 : BitVec 32 := Scalar.andi v1740 c255_i32_734
  v1741
def k0_mult605 (v93 : BitVec 32) : BitVec 32 :=
  let c12032_i32_42 : BitVec 32 := 12032#32
  let v94 : BitVec 32 := Scalar.minsi v93 c12032_i32_42
  let v95 : BitVec 32 := Scalar.subi v93 v94
  let v96 : BitVec 32 := v95
  let c240_i32_736 : BitVec 32 := 240#32
  let v1747 : BitVec 32 := Scalar.addi v96 c240_i32_736
  let c255_i32_737 : BitVec 32 := 255#32
  let v1748 : BitVec 32 := Scalar.andi v1747 c255_i32_737
  v1748
def k0_mult606 (v93 : BitVec 32) : BitVec 32 :=
  let c12032_i32_42 : BitVec 32 := 12032#32
  let v94 : BitVec 32 := Scalar.minsi v93 c12032_i32_42
  let v95 : BitVec 32 := Scalar.subi v93 v94
  let v96 : BitVec 32 := v95
  let c240_i32_739 : BitVec 32 := 240#32
  let v1754 : BitVec 32 := Scalar.addi v96 c240_i32_739
  let c255_i32_740 : BitVec 32 := 255#32
  let v1755 : BitVec 32 := Scalar.andi v1754 c255_i32_740
  v1755
def k0_mult607 (v93 : BitVec 32) : BitVec 32 :=
  let c12032_i32_42 : BitVec 32 := 12032#32
  let v94 : BitVec 32 := Scalar.minsi v93 c12032_i32_42
  let v95 : BitVec 32 := Scalar.subi v93 v94
  let v96 : BitVec 32 := v95
  let c0_i32_774 : BitVec 32 := 0#32
  let v1825 : BitVec 32 := Scalar.addi v96 c0_i32_774
  let c255_i32_775 : BitVec 32 := 255#32
  let v1826 : BitVec 32 := Scalar.andi v1825 c255_i32_775
  v1826
def k0_off107 (v1_0 : BitVec 32) (k0_t6 : Fin (k0_t6_loop v1_0).trips) (v93 : BitVec 32) (c0_i32_774 : BitVec 32) : Fin 3 → Nat :=
  let c0_i32_13 : BitVec 32 := 0#32
  let v15 : BitVec 32 := Scalar.subi v1_0 c0_i32_13
  let c1_i32_15 : BitVec 32 := 1#32
  let v17 : BitVec 32 := Scalar.divsi v15 c1_i32_15
  let v18 : BitVec 32 := Scalar.muli v17 c1_i32_15
  let v19 : BitVec 32 := Scalar.addi c0_i32_13 v18
  let c1_i32_17 : BitVec 32 := 1#32
  let arg22 : BitVec 32 := Scf.iv v19 c1_i32_17 k0_t6
  let c1_i32_32 : BitVec 32 := 1#32
  let v72 : BitVec 32 := Scalar.andi arg22 c1_i32_32
  let v1828 : Index := Scalar.indexCast v72
  let c12032_i32_42 : BitVec 32 := 12032#32
  let v94 : BitVec 32 := Scalar.minsi v93 c12032_i32_42
  let v95 : BitVec 32 := Scalar.subi v93 v94
  let v96 : BitVec 32 := v95
  let v1825 : BitVec 32 := Scalar.addi v96 c0_i32_774
  let c255_i32_775 : BitVec 32 := 255#32
  let v1826 : BitVec 32 := Scalar.andi v1825 c255_i32_775
  let v1827 : BitVec 32 := v1826
  let v1829 : Index := Scalar.indexCast v1827
  let c1536 : Index := 1536#32
  ![v1828.toNat, v1829.toNat, 1536]
def k0_mult608 (v93 : BitVec 32) : BitVec 32 :=
  let c12032_i32_42 : BitVec 32 := 12032#32
  let v94 : BitVec 32 := Scalar.minsi v93 c12032_i32_42
  let v95 : BitVec 32 := Scalar.subi v93 v94
  let v96 : BitVec 32 := v95
  let c0_i32_776 : BitVec 32 := 0#32
  let v1832 : BitVec 32 := Scalar.addi v96 c0_i32_776
  let c255_i32_777 : BitVec 32 := 255#32
  let v1833 : BitVec 32 := Scalar.andi v1832 c255_i32_777
  v1833
def k0_off108 (v1_0 : BitVec 32) (k0_t6 : Fin (k0_t6_loop v1_0).trips) (v93 : BitVec 32) (c0_i32_776 : BitVec 32) : Fin 3 → Nat :=
  let c0_i32_13 : BitVec 32 := 0#32
  let v15 : BitVec 32 := Scalar.subi v1_0 c0_i32_13
  let c1_i32_15 : BitVec 32 := 1#32
  let v17 : BitVec 32 := Scalar.divsi v15 c1_i32_15
  let v18 : BitVec 32 := Scalar.muli v17 c1_i32_15
  let v19 : BitVec 32 := Scalar.addi c0_i32_13 v18
  let c1_i32_17 : BitVec 32 := 1#32
  let arg22 : BitVec 32 := Scf.iv v19 c1_i32_17 k0_t6
  let c1_i32_32 : BitVec 32 := 1#32
  let v72 : BitVec 32 := Scalar.andi arg22 c1_i32_32
  let v1835 : Index := Scalar.indexCast v72
  let c12032_i32_42 : BitVec 32 := 12032#32
  let v94 : BitVec 32 := Scalar.minsi v93 c12032_i32_42
  let v95 : BitVec 32 := Scalar.subi v93 v94
  let v96 : BitVec 32 := v95
  let v1832 : BitVec 32 := Scalar.addi v96 c0_i32_776
  let c255_i32_777 : BitVec 32 := 255#32
  let v1833 : BitVec 32 := Scalar.andi v1832 c255_i32_777
  let v1834 : BitVec 32 := v1833
  let v1836 : Index := Scalar.indexCast v1834
  let c1664 : Index := 1664#32
  ![v1835.toNat, v1836.toNat, 1664]
def k0_mult609 (v93 : BitVec 32) : BitVec 32 :=
  let c12032_i32_42 : BitVec 32 := 12032#32
  let v94 : BitVec 32 := Scalar.minsi v93 c12032_i32_42
  let v95 : BitVec 32 := Scalar.subi v93 v94
  let v96 : BitVec 32 := v95
  let c16_i32_778 : BitVec 32 := 16#32
  let v1839 : BitVec 32 := Scalar.addi v96 c16_i32_778
  let c255_i32_779 : BitVec 32 := 255#32
  let v1840 : BitVec 32 := Scalar.andi v1839 c255_i32_779
  v1840
def k0_mult610 (v93 : BitVec 32) : BitVec 32 :=
  let c12032_i32_42 : BitVec 32 := 12032#32
  let v94 : BitVec 32 := Scalar.minsi v93 c12032_i32_42
  let v95 : BitVec 32 := Scalar.subi v93 v94
  let v96 : BitVec 32 := v95
  let c16_i32_781 : BitVec 32 := 16#32
  let v1846 : BitVec 32 := Scalar.addi v96 c16_i32_781
  let c255_i32_782 : BitVec 32 := 255#32
  let v1847 : BitVec 32 := Scalar.andi v1846 c255_i32_782
  v1847
def k0_mult611 (v93 : BitVec 32) : BitVec 32 :=
  let c12032_i32_42 : BitVec 32 := 12032#32
  let v94 : BitVec 32 := Scalar.minsi v93 c12032_i32_42
  let v95 : BitVec 32 := Scalar.subi v93 v94
  let v96 : BitVec 32 := v95
  let c32_i32_784 : BitVec 32 := 32#32
  let v1853 : BitVec 32 := Scalar.addi v96 c32_i32_784
  let c255_i32_785 : BitVec 32 := 255#32
  let v1854 : BitVec 32 := Scalar.andi v1853 c255_i32_785
  v1854
def k0_mult612 (v93 : BitVec 32) : BitVec 32 :=
  let c12032_i32_42 : BitVec 32 := 12032#32
  let v94 : BitVec 32 := Scalar.minsi v93 c12032_i32_42
  let v95 : BitVec 32 := Scalar.subi v93 v94
  let v96 : BitVec 32 := v95
  let c32_i32_787 : BitVec 32 := 32#32
  let v1860 : BitVec 32 := Scalar.addi v96 c32_i32_787
  let c255_i32_788 : BitVec 32 := 255#32
  let v1861 : BitVec 32 := Scalar.andi v1860 c255_i32_788
  v1861
def k0_mult613 (v93 : BitVec 32) : BitVec 32 :=
  let c12032_i32_42 : BitVec 32 := 12032#32
  let v94 : BitVec 32 := Scalar.minsi v93 c12032_i32_42
  let v95 : BitVec 32 := Scalar.subi v93 v94
  let v96 : BitVec 32 := v95
  let c48_i32_790 : BitVec 32 := 48#32
  let v1867 : BitVec 32 := Scalar.addi v96 c48_i32_790
  let c255_i32_791 : BitVec 32 := 255#32
  let v1868 : BitVec 32 := Scalar.andi v1867 c255_i32_791
  v1868
def k0_mult614 (v93 : BitVec 32) : BitVec 32 :=
  let c12032_i32_42 : BitVec 32 := 12032#32
  let v94 : BitVec 32 := Scalar.minsi v93 c12032_i32_42
  let v95 : BitVec 32 := Scalar.subi v93 v94
  let v96 : BitVec 32 := v95
  let c48_i32_793 : BitVec 32 := 48#32
  let v1874 : BitVec 32 := Scalar.addi v96 c48_i32_793
  let c255_i32_794 : BitVec 32 := 255#32
  let v1875 : BitVec 32 := Scalar.andi v1874 c255_i32_794
  v1875
def k0_mult615 (v93 : BitVec 32) : BitVec 32 :=
  let c12032_i32_42 : BitVec 32 := 12032#32
  let v94 : BitVec 32 := Scalar.minsi v93 c12032_i32_42
  let v95 : BitVec 32 := Scalar.subi v93 v94
  let v96 : BitVec 32 := v95
  let c64_i32_796 : BitVec 32 := 64#32
  let v1881 : BitVec 32 := Scalar.addi v96 c64_i32_796
  let c255_i32_797 : BitVec 32 := 255#32
  let v1882 : BitVec 32 := Scalar.andi v1881 c255_i32_797
  v1882
def k0_mult616 (v93 : BitVec 32) : BitVec 32 :=
  let c12032_i32_42 : BitVec 32 := 12032#32
  let v94 : BitVec 32 := Scalar.minsi v93 c12032_i32_42
  let v95 : BitVec 32 := Scalar.subi v93 v94
  let v96 : BitVec 32 := v95
  let c64_i32_799 : BitVec 32 := 64#32
  let v1888 : BitVec 32 := Scalar.addi v96 c64_i32_799
  let c255_i32_800 : BitVec 32 := 255#32
  let v1889 : BitVec 32 := Scalar.andi v1888 c255_i32_800
  v1889
def k0_mult617 (v93 : BitVec 32) : BitVec 32 :=
  let c12032_i32_42 : BitVec 32 := 12032#32
  let v94 : BitVec 32 := Scalar.minsi v93 c12032_i32_42
  let v95 : BitVec 32 := Scalar.subi v93 v94
  let v96 : BitVec 32 := v95
  let c80_i32_802 : BitVec 32 := 80#32
  let v1895 : BitVec 32 := Scalar.addi v96 c80_i32_802
  let c255_i32_803 : BitVec 32 := 255#32
  let v1896 : BitVec 32 := Scalar.andi v1895 c255_i32_803
  v1896
def k0_mult618 (v93 : BitVec 32) : BitVec 32 :=
  let c12032_i32_42 : BitVec 32 := 12032#32
  let v94 : BitVec 32 := Scalar.minsi v93 c12032_i32_42
  let v95 : BitVec 32 := Scalar.subi v93 v94
  let v96 : BitVec 32 := v95
  let c80_i32_805 : BitVec 32 := 80#32
  let v1902 : BitVec 32 := Scalar.addi v96 c80_i32_805
  let c255_i32_806 : BitVec 32 := 255#32
  let v1903 : BitVec 32 := Scalar.andi v1902 c255_i32_806
  v1903
def k0_mult619 (v93 : BitVec 32) : BitVec 32 :=
  let c12032_i32_42 : BitVec 32 := 12032#32
  let v94 : BitVec 32 := Scalar.minsi v93 c12032_i32_42
  let v95 : BitVec 32 := Scalar.subi v93 v94
  let v96 : BitVec 32 := v95
  let c96_i32_808 : BitVec 32 := 96#32
  let v1909 : BitVec 32 := Scalar.addi v96 c96_i32_808
  let c255_i32_809 : BitVec 32 := 255#32
  let v1910 : BitVec 32 := Scalar.andi v1909 c255_i32_809
  v1910
def k0_mult620 (v93 : BitVec 32) : BitVec 32 :=
  let c12032_i32_42 : BitVec 32 := 12032#32
  let v94 : BitVec 32 := Scalar.minsi v93 c12032_i32_42
  let v95 : BitVec 32 := Scalar.subi v93 v94
  let v96 : BitVec 32 := v95
  let c96_i32_811 : BitVec 32 := 96#32
  let v1916 : BitVec 32 := Scalar.addi v96 c96_i32_811
  let c255_i32_812 : BitVec 32 := 255#32
  let v1917 : BitVec 32 := Scalar.andi v1916 c255_i32_812
  v1917
def k0_mult621 (v93 : BitVec 32) : BitVec 32 :=
  let c12032_i32_42 : BitVec 32 := 12032#32
  let v94 : BitVec 32 := Scalar.minsi v93 c12032_i32_42
  let v95 : BitVec 32 := Scalar.subi v93 v94
  let v96 : BitVec 32 := v95
  let c112_i32_814 : BitVec 32 := 112#32
  let v1923 : BitVec 32 := Scalar.addi v96 c112_i32_814
  let c255_i32_815 : BitVec 32 := 255#32
  let v1924 : BitVec 32 := Scalar.andi v1923 c255_i32_815
  v1924
def k0_mult622 (v93 : BitVec 32) : BitVec 32 :=
  let c12032_i32_42 : BitVec 32 := 12032#32
  let v94 : BitVec 32 := Scalar.minsi v93 c12032_i32_42
  let v95 : BitVec 32 := Scalar.subi v93 v94
  let v96 : BitVec 32 := v95
  let c112_i32_817 : BitVec 32 := 112#32
  let v1930 : BitVec 32 := Scalar.addi v96 c112_i32_817
  let c255_i32_818 : BitVec 32 := 255#32
  let v1931 : BitVec 32 := Scalar.andi v1930 c255_i32_818
  v1931
def k0_mult623 (v93 : BitVec 32) : BitVec 32 :=
  let c12032_i32_42 : BitVec 32 := 12032#32
  let v94 : BitVec 32 := Scalar.minsi v93 c12032_i32_42
  let v95 : BitVec 32 := Scalar.subi v93 v94
  let v96 : BitVec 32 := v95
  let c128_i32_820 : BitVec 32 := 128#32
  let v1937 : BitVec 32 := Scalar.addi v96 c128_i32_820
  let c255_i32_821 : BitVec 32 := 255#32
  let v1938 : BitVec 32 := Scalar.andi v1937 c255_i32_821
  v1938
def k0_mult624 (v93 : BitVec 32) : BitVec 32 :=
  let c12032_i32_42 : BitVec 32 := 12032#32
  let v94 : BitVec 32 := Scalar.minsi v93 c12032_i32_42
  let v95 : BitVec 32 := Scalar.subi v93 v94
  let v96 : BitVec 32 := v95
  let c128_i32_823 : BitVec 32 := 128#32
  let v1944 : BitVec 32 := Scalar.addi v96 c128_i32_823
  let c255_i32_824 : BitVec 32 := 255#32
  let v1945 : BitVec 32 := Scalar.andi v1944 c255_i32_824
  v1945
def k0_mult625 (v93 : BitVec 32) : BitVec 32 :=
  let c12032_i32_42 : BitVec 32 := 12032#32
  let v94 : BitVec 32 := Scalar.minsi v93 c12032_i32_42
  let v95 : BitVec 32 := Scalar.subi v93 v94
  let v96 : BitVec 32 := v95
  let c144_i32_826 : BitVec 32 := 144#32
  let v1951 : BitVec 32 := Scalar.addi v96 c144_i32_826
  let c255_i32_827 : BitVec 32 := 255#32
  let v1952 : BitVec 32 := Scalar.andi v1951 c255_i32_827
  v1952
def k0_mult626 (v93 : BitVec 32) : BitVec 32 :=
  let c12032_i32_42 : BitVec 32 := 12032#32
  let v94 : BitVec 32 := Scalar.minsi v93 c12032_i32_42
  let v95 : BitVec 32 := Scalar.subi v93 v94
  let v96 : BitVec 32 := v95
  let c144_i32_829 : BitVec 32 := 144#32
  let v1958 : BitVec 32 := Scalar.addi v96 c144_i32_829
  let c255_i32_830 : BitVec 32 := 255#32
  let v1959 : BitVec 32 := Scalar.andi v1958 c255_i32_830
  v1959
def k0_mult627 (v93 : BitVec 32) : BitVec 32 :=
  let c12032_i32_42 : BitVec 32 := 12032#32
  let v94 : BitVec 32 := Scalar.minsi v93 c12032_i32_42
  let v95 : BitVec 32 := Scalar.subi v93 v94
  let v96 : BitVec 32 := v95
  let c160_i32_832 : BitVec 32 := 160#32
  let v1965 : BitVec 32 := Scalar.addi v96 c160_i32_832
  let c255_i32_833 : BitVec 32 := 255#32
  let v1966 : BitVec 32 := Scalar.andi v1965 c255_i32_833
  v1966
def k0_mult628 (v93 : BitVec 32) : BitVec 32 :=
  let c12032_i32_42 : BitVec 32 := 12032#32
  let v94 : BitVec 32 := Scalar.minsi v93 c12032_i32_42
  let v95 : BitVec 32 := Scalar.subi v93 v94
  let v96 : BitVec 32 := v95
  let c160_i32_835 : BitVec 32 := 160#32
  let v1972 : BitVec 32 := Scalar.addi v96 c160_i32_835
  let c255_i32_836 : BitVec 32 := 255#32
  let v1973 : BitVec 32 := Scalar.andi v1972 c255_i32_836
  v1973
def k0_mult629 (v93 : BitVec 32) : BitVec 32 :=
  let c12032_i32_42 : BitVec 32 := 12032#32
  let v94 : BitVec 32 := Scalar.minsi v93 c12032_i32_42
  let v95 : BitVec 32 := Scalar.subi v93 v94
  let v96 : BitVec 32 := v95
  let c176_i32_838 : BitVec 32 := 176#32
  let v1979 : BitVec 32 := Scalar.addi v96 c176_i32_838
  let c255_i32_839 : BitVec 32 := 255#32
  let v1980 : BitVec 32 := Scalar.andi v1979 c255_i32_839
  v1980
def k0_mult630 (v93 : BitVec 32) : BitVec 32 :=
  let c12032_i32_42 : BitVec 32 := 12032#32
  let v94 : BitVec 32 := Scalar.minsi v93 c12032_i32_42
  let v95 : BitVec 32 := Scalar.subi v93 v94
  let v96 : BitVec 32 := v95
  let c176_i32_841 : BitVec 32 := 176#32
  let v1986 : BitVec 32 := Scalar.addi v96 c176_i32_841
  let c255_i32_842 : BitVec 32 := 255#32
  let v1987 : BitVec 32 := Scalar.andi v1986 c255_i32_842
  v1987
def k0_mult631 (v93 : BitVec 32) : BitVec 32 :=
  let c12032_i32_42 : BitVec 32 := 12032#32
  let v94 : BitVec 32 := Scalar.minsi v93 c12032_i32_42
  let v95 : BitVec 32 := Scalar.subi v93 v94
  let v96 : BitVec 32 := v95
  let c192_i32_844 : BitVec 32 := 192#32
  let v1993 : BitVec 32 := Scalar.addi v96 c192_i32_844
  let c255_i32_845 : BitVec 32 := 255#32
  let v1994 : BitVec 32 := Scalar.andi v1993 c255_i32_845
  v1994
def k0_mult632 (v93 : BitVec 32) : BitVec 32 :=
  let c12032_i32_42 : BitVec 32 := 12032#32
  let v94 : BitVec 32 := Scalar.minsi v93 c12032_i32_42
  let v95 : BitVec 32 := Scalar.subi v93 v94
  let v96 : BitVec 32 := v95
  let c192_i32_847 : BitVec 32 := 192#32
  let v2000 : BitVec 32 := Scalar.addi v96 c192_i32_847
  let c255_i32_848 : BitVec 32 := 255#32
  let v2001 : BitVec 32 := Scalar.andi v2000 c255_i32_848
  v2001
def k0_mult633 (v93 : BitVec 32) : BitVec 32 :=
  let c12032_i32_42 : BitVec 32 := 12032#32
  let v94 : BitVec 32 := Scalar.minsi v93 c12032_i32_42
  let v95 : BitVec 32 := Scalar.subi v93 v94
  let v96 : BitVec 32 := v95
  let c208_i32_850 : BitVec 32 := 208#32
  let v2007 : BitVec 32 := Scalar.addi v96 c208_i32_850
  let c255_i32_851 : BitVec 32 := 255#32
  let v2008 : BitVec 32 := Scalar.andi v2007 c255_i32_851
  v2008
def k0_mult634 (v93 : BitVec 32) : BitVec 32 :=
  let c12032_i32_42 : BitVec 32 := 12032#32
  let v94 : BitVec 32 := Scalar.minsi v93 c12032_i32_42
  let v95 : BitVec 32 := Scalar.subi v93 v94
  let v96 : BitVec 32 := v95
  let c208_i32_853 : BitVec 32 := 208#32
  let v2014 : BitVec 32 := Scalar.addi v96 c208_i32_853
  let c255_i32_854 : BitVec 32 := 255#32
  let v2015 : BitVec 32 := Scalar.andi v2014 c255_i32_854
  v2015
def k0_mult635 (v93 : BitVec 32) : BitVec 32 :=
  let c12032_i32_42 : BitVec 32 := 12032#32
  let v94 : BitVec 32 := Scalar.minsi v93 c12032_i32_42
  let v95 : BitVec 32 := Scalar.subi v93 v94
  let v96 : BitVec 32 := v95
  let c224_i32_856 : BitVec 32 := 224#32
  let v2021 : BitVec 32 := Scalar.addi v96 c224_i32_856
  let c255_i32_857 : BitVec 32 := 255#32
  let v2022 : BitVec 32 := Scalar.andi v2021 c255_i32_857
  v2022
def k0_mult636 (v93 : BitVec 32) : BitVec 32 :=
  let c12032_i32_42 : BitVec 32 := 12032#32
  let v94 : BitVec 32 := Scalar.minsi v93 c12032_i32_42
  let v95 : BitVec 32 := Scalar.subi v93 v94
  let v96 : BitVec 32 := v95
  let c224_i32_859 : BitVec 32 := 224#32
  let v2028 : BitVec 32 := Scalar.addi v96 c224_i32_859
  let c255_i32_860 : BitVec 32 := 255#32
  let v2029 : BitVec 32 := Scalar.andi v2028 c255_i32_860
  v2029
def k0_mult637 (v93 : BitVec 32) : BitVec 32 :=
  let c12032_i32_42 : BitVec 32 := 12032#32
  let v94 : BitVec 32 := Scalar.minsi v93 c12032_i32_42
  let v95 : BitVec 32 := Scalar.subi v93 v94
  let v96 : BitVec 32 := v95
  let c240_i32_862 : BitVec 32 := 240#32
  let v2035 : BitVec 32 := Scalar.addi v96 c240_i32_862
  let c255_i32_863 : BitVec 32 := 255#32
  let v2036 : BitVec 32 := Scalar.andi v2035 c255_i32_863
  v2036
def k0_mult638 (v93 : BitVec 32) : BitVec 32 :=
  let c12032_i32_42 : BitVec 32 := 12032#32
  let v94 : BitVec 32 := Scalar.minsi v93 c12032_i32_42
  let v95 : BitVec 32 := Scalar.subi v93 v94
  let v96 : BitVec 32 := v95
  let c240_i32_865 : BitVec 32 := 240#32
  let v2042 : BitVec 32 := Scalar.addi v96 c240_i32_865
  let c255_i32_866 : BitVec 32 := 255#32
  let v2043 : BitVec 32 := Scalar.andi v2042 c255_i32_866
  v2043
def k0_mult639 (v93 : BitVec 32) : BitVec 32 :=
  let c12032_i32_42 : BitVec 32 := 12032#32
  let v94 : BitVec 32 := Scalar.minsi v93 c12032_i32_42
  let v95 : BitVec 32 := Scalar.subi v93 v94
  let v96 : BitVec 32 := v95
  let c0_i32_900 : BitVec 32 := 0#32
  let v2113 : BitVec 32 := Scalar.addi v96 c0_i32_900
  let c255_i32_901 : BitVec 32 := 255#32
  let v2114 : BitVec 32 := Scalar.andi v2113 c255_i32_901
  v2114
def k0_off109 (v1_0 : BitVec 32) (k0_t6 : Fin (k0_t6_loop v1_0).trips) (v93 : BitVec 32) (c0_i32_900 : BitVec 32) : Fin 3 → Nat :=
  let c0_i32_13 : BitVec 32 := 0#32
  let v15 : BitVec 32 := Scalar.subi v1_0 c0_i32_13
  let c1_i32_15 : BitVec 32 := 1#32
  let v17 : BitVec 32 := Scalar.divsi v15 c1_i32_15
  let v18 : BitVec 32 := Scalar.muli v17 c1_i32_15
  let v19 : BitVec 32 := Scalar.addi c0_i32_13 v18
  let c1_i32_17 : BitVec 32 := 1#32
  let arg22 : BitVec 32 := Scf.iv v19 c1_i32_17 k0_t6
  let c1_i32_32 : BitVec 32 := 1#32
  let v72 : BitVec 32 := Scalar.andi arg22 c1_i32_32
  let v2116 : Index := Scalar.indexCast v72
  let c12032_i32_42 : BitVec 32 := 12032#32
  let v94 : BitVec 32 := Scalar.minsi v93 c12032_i32_42
  let v95 : BitVec 32 := Scalar.subi v93 v94
  let v96 : BitVec 32 := v95
  let v2113 : BitVec 32 := Scalar.addi v96 c0_i32_900
  let c255_i32_901 : BitVec 32 := 255#32
  let v2114 : BitVec 32 := Scalar.andi v2113 c255_i32_901
  let v2115 : BitVec 32 := v2114
  let v2117 : Index := Scalar.indexCast v2115
  let c1792 : Index := 1792#32
  ![v2116.toNat, v2117.toNat, 1792]
def k0_mult640 (v93 : BitVec 32) : BitVec 32 :=
  let c12032_i32_42 : BitVec 32 := 12032#32
  let v94 : BitVec 32 := Scalar.minsi v93 c12032_i32_42
  let v95 : BitVec 32 := Scalar.subi v93 v94
  let v96 : BitVec 32 := v95
  let c0_i32_902 : BitVec 32 := 0#32
  let v2120 : BitVec 32 := Scalar.addi v96 c0_i32_902
  let c255_i32_903 : BitVec 32 := 255#32
  let v2121 : BitVec 32 := Scalar.andi v2120 c255_i32_903
  v2121
def k0_off110 (v1_0 : BitVec 32) (k0_t6 : Fin (k0_t6_loop v1_0).trips) (v93 : BitVec 32) (c0_i32_902 : BitVec 32) : Fin 3 → Nat :=
  let c0_i32_13 : BitVec 32 := 0#32
  let v15 : BitVec 32 := Scalar.subi v1_0 c0_i32_13
  let c1_i32_15 : BitVec 32 := 1#32
  let v17 : BitVec 32 := Scalar.divsi v15 c1_i32_15
  let v18 : BitVec 32 := Scalar.muli v17 c1_i32_15
  let v19 : BitVec 32 := Scalar.addi c0_i32_13 v18
  let c1_i32_17 : BitVec 32 := 1#32
  let arg22 : BitVec 32 := Scf.iv v19 c1_i32_17 k0_t6
  let c1_i32_32 : BitVec 32 := 1#32
  let v72 : BitVec 32 := Scalar.andi arg22 c1_i32_32
  let v2123 : Index := Scalar.indexCast v72
  let c12032_i32_42 : BitVec 32 := 12032#32
  let v94 : BitVec 32 := Scalar.minsi v93 c12032_i32_42
  let v95 : BitVec 32 := Scalar.subi v93 v94
  let v96 : BitVec 32 := v95
  let v2120 : BitVec 32 := Scalar.addi v96 c0_i32_902
  let c255_i32_903 : BitVec 32 := 255#32
  let v2121 : BitVec 32 := Scalar.andi v2120 c255_i32_903
  let v2122 : BitVec 32 := v2121
  let v2124 : Index := Scalar.indexCast v2122
  let c1920 : Index := 1920#32
  ![v2123.toNat, v2124.toNat, 1920]
def k0_mult641 (v93 : BitVec 32) : BitVec 32 :=
  let c12032_i32_42 : BitVec 32 := 12032#32
  let v94 : BitVec 32 := Scalar.minsi v93 c12032_i32_42
  let v95 : BitVec 32 := Scalar.subi v93 v94
  let v96 : BitVec 32 := v95
  let c16_i32_904 : BitVec 32 := 16#32
  let v2127 : BitVec 32 := Scalar.addi v96 c16_i32_904
  let c255_i32_905 : BitVec 32 := 255#32
  let v2128 : BitVec 32 := Scalar.andi v2127 c255_i32_905
  v2128
def k0_mult642 (v93 : BitVec 32) : BitVec 32 :=
  let c12032_i32_42 : BitVec 32 := 12032#32
  let v94 : BitVec 32 := Scalar.minsi v93 c12032_i32_42
  let v95 : BitVec 32 := Scalar.subi v93 v94
  let v96 : BitVec 32 := v95
  let c16_i32_907 : BitVec 32 := 16#32
  let v2134 : BitVec 32 := Scalar.addi v96 c16_i32_907
  let c255_i32_908 : BitVec 32 := 255#32
  let v2135 : BitVec 32 := Scalar.andi v2134 c255_i32_908
  v2135
def k0_mult643 (v93 : BitVec 32) : BitVec 32 :=
  let c12032_i32_42 : BitVec 32 := 12032#32
  let v94 : BitVec 32 := Scalar.minsi v93 c12032_i32_42
  let v95 : BitVec 32 := Scalar.subi v93 v94
  let v96 : BitVec 32 := v95
  let c32_i32_910 : BitVec 32 := 32#32
  let v2141 : BitVec 32 := Scalar.addi v96 c32_i32_910
  let c255_i32_911 : BitVec 32 := 255#32
  let v2142 : BitVec 32 := Scalar.andi v2141 c255_i32_911
  v2142
def k0_mult644 (v93 : BitVec 32) : BitVec 32 :=
  let c12032_i32_42 : BitVec 32 := 12032#32
  let v94 : BitVec 32 := Scalar.minsi v93 c12032_i32_42
  let v95 : BitVec 32 := Scalar.subi v93 v94
  let v96 : BitVec 32 := v95
  let c32_i32_913 : BitVec 32 := 32#32
  let v2148 : BitVec 32 := Scalar.addi v96 c32_i32_913
  let c255_i32_914 : BitVec 32 := 255#32
  let v2149 : BitVec 32 := Scalar.andi v2148 c255_i32_914
  v2149
def k0_mult645 (v93 : BitVec 32) : BitVec 32 :=
  let c12032_i32_42 : BitVec 32 := 12032#32
  let v94 : BitVec 32 := Scalar.minsi v93 c12032_i32_42
  let v95 : BitVec 32 := Scalar.subi v93 v94
  let v96 : BitVec 32 := v95
  let c48_i32_916 : BitVec 32 := 48#32
  let v2155 : BitVec 32 := Scalar.addi v96 c48_i32_916
  let c255_i32_917 : BitVec 32 := 255#32
  let v2156 : BitVec 32 := Scalar.andi v2155 c255_i32_917
  v2156
def k0_mult646 (v93 : BitVec 32) : BitVec 32 :=
  let c12032_i32_42 : BitVec 32 := 12032#32
  let v94 : BitVec 32 := Scalar.minsi v93 c12032_i32_42
  let v95 : BitVec 32 := Scalar.subi v93 v94
  let v96 : BitVec 32 := v95
  let c48_i32_919 : BitVec 32 := 48#32
  let v2162 : BitVec 32 := Scalar.addi v96 c48_i32_919
  let c255_i32_920 : BitVec 32 := 255#32
  let v2163 : BitVec 32 := Scalar.andi v2162 c255_i32_920
  v2163
def k0_mult647 (v93 : BitVec 32) : BitVec 32 :=
  let c12032_i32_42 : BitVec 32 := 12032#32
  let v94 : BitVec 32 := Scalar.minsi v93 c12032_i32_42
  let v95 : BitVec 32 := Scalar.subi v93 v94
  let v96 : BitVec 32 := v95
  let c64_i32_922 : BitVec 32 := 64#32
  let v2169 : BitVec 32 := Scalar.addi v96 c64_i32_922
  let c255_i32_923 : BitVec 32 := 255#32
  let v2170 : BitVec 32 := Scalar.andi v2169 c255_i32_923
  v2170
def k0_mult648 (v93 : BitVec 32) : BitVec 32 :=
  let c12032_i32_42 : BitVec 32 := 12032#32
  let v94 : BitVec 32 := Scalar.minsi v93 c12032_i32_42
  let v95 : BitVec 32 := Scalar.subi v93 v94
  let v96 : BitVec 32 := v95
  let c64_i32_925 : BitVec 32 := 64#32
  let v2176 : BitVec 32 := Scalar.addi v96 c64_i32_925
  let c255_i32_926 : BitVec 32 := 255#32
  let v2177 : BitVec 32 := Scalar.andi v2176 c255_i32_926
  v2177
def k0_mult649 (v93 : BitVec 32) : BitVec 32 :=
  let c12032_i32_42 : BitVec 32 := 12032#32
  let v94 : BitVec 32 := Scalar.minsi v93 c12032_i32_42
  let v95 : BitVec 32 := Scalar.subi v93 v94
  let v96 : BitVec 32 := v95
  let c80_i32_928 : BitVec 32 := 80#32
  let v2183 : BitVec 32 := Scalar.addi v96 c80_i32_928
  let c255_i32_929 : BitVec 32 := 255#32
  let v2184 : BitVec 32 := Scalar.andi v2183 c255_i32_929
  v2184
def k0_mult650 (v93 : BitVec 32) : BitVec 32 :=
  let c12032_i32_42 : BitVec 32 := 12032#32
  let v94 : BitVec 32 := Scalar.minsi v93 c12032_i32_42
  let v95 : BitVec 32 := Scalar.subi v93 v94
  let v96 : BitVec 32 := v95
  let c80_i32_931 : BitVec 32 := 80#32
  let v2190 : BitVec 32 := Scalar.addi v96 c80_i32_931
  let c255_i32_932 : BitVec 32 := 255#32
  let v2191 : BitVec 32 := Scalar.andi v2190 c255_i32_932
  v2191
def k0_mult651 (v93 : BitVec 32) : BitVec 32 :=
  let c12032_i32_42 : BitVec 32 := 12032#32
  let v94 : BitVec 32 := Scalar.minsi v93 c12032_i32_42
  let v95 : BitVec 32 := Scalar.subi v93 v94
  let v96 : BitVec 32 := v95
  let c96_i32_934 : BitVec 32 := 96#32
  let v2197 : BitVec 32 := Scalar.addi v96 c96_i32_934
  let c255_i32_935 : BitVec 32 := 255#32
  let v2198 : BitVec 32 := Scalar.andi v2197 c255_i32_935
  v2198
def k0_mult652 (v93 : BitVec 32) : BitVec 32 :=
  let c12032_i32_42 : BitVec 32 := 12032#32
  let v94 : BitVec 32 := Scalar.minsi v93 c12032_i32_42
  let v95 : BitVec 32 := Scalar.subi v93 v94
  let v96 : BitVec 32 := v95
  let c96_i32_937 : BitVec 32 := 96#32
  let v2204 : BitVec 32 := Scalar.addi v96 c96_i32_937
  let c255_i32_938 : BitVec 32 := 255#32
  let v2205 : BitVec 32 := Scalar.andi v2204 c255_i32_938
  v2205
def k0_mult653 (v93 : BitVec 32) : BitVec 32 :=
  let c12032_i32_42 : BitVec 32 := 12032#32
  let v94 : BitVec 32 := Scalar.minsi v93 c12032_i32_42
  let v95 : BitVec 32 := Scalar.subi v93 v94
  let v96 : BitVec 32 := v95
  let c112_i32_940 : BitVec 32 := 112#32
  let v2211 : BitVec 32 := Scalar.addi v96 c112_i32_940
  let c255_i32_941 : BitVec 32 := 255#32
  let v2212 : BitVec 32 := Scalar.andi v2211 c255_i32_941
  v2212
def k0_mult654 (v93 : BitVec 32) : BitVec 32 :=
  let c12032_i32_42 : BitVec 32 := 12032#32
  let v94 : BitVec 32 := Scalar.minsi v93 c12032_i32_42
  let v95 : BitVec 32 := Scalar.subi v93 v94
  let v96 : BitVec 32 := v95
  let c112_i32_943 : BitVec 32 := 112#32
  let v2218 : BitVec 32 := Scalar.addi v96 c112_i32_943
  let c255_i32_944 : BitVec 32 := 255#32
  let v2219 : BitVec 32 := Scalar.andi v2218 c255_i32_944
  v2219
def k0_mult655 (v93 : BitVec 32) : BitVec 32 :=
  let c12032_i32_42 : BitVec 32 := 12032#32
  let v94 : BitVec 32 := Scalar.minsi v93 c12032_i32_42
  let v95 : BitVec 32 := Scalar.subi v93 v94
  let v96 : BitVec 32 := v95
  let c128_i32_946 : BitVec 32 := 128#32
  let v2225 : BitVec 32 := Scalar.addi v96 c128_i32_946
  let c255_i32_947 : BitVec 32 := 255#32
  let v2226 : BitVec 32 := Scalar.andi v2225 c255_i32_947
  v2226
def k0_mult656 (v93 : BitVec 32) : BitVec 32 :=
  let c12032_i32_42 : BitVec 32 := 12032#32
  let v94 : BitVec 32 := Scalar.minsi v93 c12032_i32_42
  let v95 : BitVec 32 := Scalar.subi v93 v94
  let v96 : BitVec 32 := v95
  let c128_i32_949 : BitVec 32 := 128#32
  let v2232 : BitVec 32 := Scalar.addi v96 c128_i32_949
  let c255_i32_950 : BitVec 32 := 255#32
  let v2233 : BitVec 32 := Scalar.andi v2232 c255_i32_950
  v2233
def k0_mult657 (v93 : BitVec 32) : BitVec 32 :=
  let c12032_i32_42 : BitVec 32 := 12032#32
  let v94 : BitVec 32 := Scalar.minsi v93 c12032_i32_42
  let v95 : BitVec 32 := Scalar.subi v93 v94
  let v96 : BitVec 32 := v95
  let c144_i32_952 : BitVec 32 := 144#32
  let v2239 : BitVec 32 := Scalar.addi v96 c144_i32_952
  let c255_i32_953 : BitVec 32 := 255#32
  let v2240 : BitVec 32 := Scalar.andi v2239 c255_i32_953
  v2240
def k0_mult658 (v93 : BitVec 32) : BitVec 32 :=
  let c12032_i32_42 : BitVec 32 := 12032#32
  let v94 : BitVec 32 := Scalar.minsi v93 c12032_i32_42
  let v95 : BitVec 32 := Scalar.subi v93 v94
  let v96 : BitVec 32 := v95
  let c144_i32_955 : BitVec 32 := 144#32
  let v2246 : BitVec 32 := Scalar.addi v96 c144_i32_955
  let c255_i32_956 : BitVec 32 := 255#32
  let v2247 : BitVec 32 := Scalar.andi v2246 c255_i32_956
  v2247
def k0_mult659 (v93 : BitVec 32) : BitVec 32 :=
  let c12032_i32_42 : BitVec 32 := 12032#32
  let v94 : BitVec 32 := Scalar.minsi v93 c12032_i32_42
  let v95 : BitVec 32 := Scalar.subi v93 v94
  let v96 : BitVec 32 := v95
  let c160_i32_958 : BitVec 32 := 160#32
  let v2253 : BitVec 32 := Scalar.addi v96 c160_i32_958
  let c255_i32_959 : BitVec 32 := 255#32
  let v2254 : BitVec 32 := Scalar.andi v2253 c255_i32_959
  v2254
def k0_mult660 (v93 : BitVec 32) : BitVec 32 :=
  let c12032_i32_42 : BitVec 32 := 12032#32
  let v94 : BitVec 32 := Scalar.minsi v93 c12032_i32_42
  let v95 : BitVec 32 := Scalar.subi v93 v94
  let v96 : BitVec 32 := v95
  let c160_i32_961 : BitVec 32 := 160#32
  let v2260 : BitVec 32 := Scalar.addi v96 c160_i32_961
  let c255_i32_962 : BitVec 32 := 255#32
  let v2261 : BitVec 32 := Scalar.andi v2260 c255_i32_962
  v2261
def k0_mult661 (v93 : BitVec 32) : BitVec 32 :=
  let c12032_i32_42 : BitVec 32 := 12032#32
  let v94 : BitVec 32 := Scalar.minsi v93 c12032_i32_42
  let v95 : BitVec 32 := Scalar.subi v93 v94
  let v96 : BitVec 32 := v95
  let c176_i32_964 : BitVec 32 := 176#32
  let v2267 : BitVec 32 := Scalar.addi v96 c176_i32_964
  let c255_i32_965 : BitVec 32 := 255#32
  let v2268 : BitVec 32 := Scalar.andi v2267 c255_i32_965
  v2268
def k0_mult662 (v93 : BitVec 32) : BitVec 32 :=
  let c12032_i32_42 : BitVec 32 := 12032#32
  let v94 : BitVec 32 := Scalar.minsi v93 c12032_i32_42
  let v95 : BitVec 32 := Scalar.subi v93 v94
  let v96 : BitVec 32 := v95
  let c176_i32_967 : BitVec 32 := 176#32
  let v2274 : BitVec 32 := Scalar.addi v96 c176_i32_967
  let c255_i32_968 : BitVec 32 := 255#32
  let v2275 : BitVec 32 := Scalar.andi v2274 c255_i32_968
  v2275
def k0_mult663 (v93 : BitVec 32) : BitVec 32 :=
  let c12032_i32_42 : BitVec 32 := 12032#32
  let v94 : BitVec 32 := Scalar.minsi v93 c12032_i32_42
  let v95 : BitVec 32 := Scalar.subi v93 v94
  let v96 : BitVec 32 := v95
  let c192_i32_970 : BitVec 32 := 192#32
  let v2281 : BitVec 32 := Scalar.addi v96 c192_i32_970
  let c255_i32_971 : BitVec 32 := 255#32
  let v2282 : BitVec 32 := Scalar.andi v2281 c255_i32_971
  v2282
def k0_mult664 (v93 : BitVec 32) : BitVec 32 :=
  let c12032_i32_42 : BitVec 32 := 12032#32
  let v94 : BitVec 32 := Scalar.minsi v93 c12032_i32_42
  let v95 : BitVec 32 := Scalar.subi v93 v94
  let v96 : BitVec 32 := v95
  let c192_i32_973 : BitVec 32 := 192#32
  let v2288 : BitVec 32 := Scalar.addi v96 c192_i32_973
  let c255_i32_974 : BitVec 32 := 255#32
  let v2289 : BitVec 32 := Scalar.andi v2288 c255_i32_974
  v2289
def k0_mult665 (v93 : BitVec 32) : BitVec 32 :=
  let c12032_i32_42 : BitVec 32 := 12032#32
  let v94 : BitVec 32 := Scalar.minsi v93 c12032_i32_42
  let v95 : BitVec 32 := Scalar.subi v93 v94
  let v96 : BitVec 32 := v95
  let c208_i32_976 : BitVec 32 := 208#32
  let v2295 : BitVec 32 := Scalar.addi v96 c208_i32_976
  let c255_i32_977 : BitVec 32 := 255#32
  let v2296 : BitVec 32 := Scalar.andi v2295 c255_i32_977
  v2296
def k0_mult666 (v93 : BitVec 32) : BitVec 32 :=
  let c12032_i32_42 : BitVec 32 := 12032#32
  let v94 : BitVec 32 := Scalar.minsi v93 c12032_i32_42
  let v95 : BitVec 32 := Scalar.subi v93 v94
  let v96 : BitVec 32 := v95
  let c208_i32_979 : BitVec 32 := 208#32
  let v2302 : BitVec 32 := Scalar.addi v96 c208_i32_979
  let c255_i32_980 : BitVec 32 := 255#32
  let v2303 : BitVec 32 := Scalar.andi v2302 c255_i32_980
  v2303
def k0_mult667 (v93 : BitVec 32) : BitVec 32 :=
  let c12032_i32_42 : BitVec 32 := 12032#32
  let v94 : BitVec 32 := Scalar.minsi v93 c12032_i32_42
  let v95 : BitVec 32 := Scalar.subi v93 v94
  let v96 : BitVec 32 := v95
  let c224_i32_982 : BitVec 32 := 224#32
  let v2309 : BitVec 32 := Scalar.addi v96 c224_i32_982
  let c255_i32_983 : BitVec 32 := 255#32
  let v2310 : BitVec 32 := Scalar.andi v2309 c255_i32_983
  v2310
def k0_mult668 (v93 : BitVec 32) : BitVec 32 :=
  let c12032_i32_42 : BitVec 32 := 12032#32
  let v94 : BitVec 32 := Scalar.minsi v93 c12032_i32_42
  let v95 : BitVec 32 := Scalar.subi v93 v94
  let v96 : BitVec 32 := v95
  let c224_i32_985 : BitVec 32 := 224#32
  let v2316 : BitVec 32 := Scalar.addi v96 c224_i32_985
  let c255_i32_986 : BitVec 32 := 255#32
  let v2317 : BitVec 32 := Scalar.andi v2316 c255_i32_986
  v2317
def k0_mult669 (v93 : BitVec 32) : BitVec 32 :=
  let c12032_i32_42 : BitVec 32 := 12032#32
  let v94 : BitVec 32 := Scalar.minsi v93 c12032_i32_42
  let v95 : BitVec 32 := Scalar.subi v93 v94
  let v96 : BitVec 32 := v95
  let c240_i32_988 : BitVec 32 := 240#32
  let v2323 : BitVec 32 := Scalar.addi v96 c240_i32_988
  let c255_i32_989 : BitVec 32 := 255#32
  let v2324 : BitVec 32 := Scalar.andi v2323 c255_i32_989
  v2324
def k0_mult670 (v93 : BitVec 32) : BitVec 32 :=
  let c12032_i32_42 : BitVec 32 := 12032#32
  let v94 : BitVec 32 := Scalar.minsi v93 c12032_i32_42
  let v95 : BitVec 32 := Scalar.subi v93 v94
  let v96 : BitVec 32 := v95
  let c240_i32_991 : BitVec 32 := 240#32
  let v2330 : BitVec 32 := Scalar.addi v96 c240_i32_991
  let c255_i32_992 : BitVec 32 := 255#32
  let v2331 : BitVec 32 := Scalar.andi v2330 c255_i32_992
  v2331
def k0_mult671 (v93 : BitVec 32) : BitVec 32 :=
  let c12032_i32_42 : BitVec 32 := 12032#32
  let v94 : BitVec 32 := Scalar.minsi v93 c12032_i32_42
  let v95 : BitVec 32 := Scalar.subi v93 v94
  let v96 : BitVec 32 := v95
  let c0_i32_1026 : BitVec 32 := 0#32
  let v2401 : BitVec 32 := Scalar.addi v96 c0_i32_1026
  let c255_i32_1027 : BitVec 32 := 255#32
  let v2402 : BitVec 32 := Scalar.andi v2401 c255_i32_1027
  v2402
def k0_off111 (v1_0 : BitVec 32) (k0_t6 : Fin (k0_t6_loop v1_0).trips) (v93 : BitVec 32) (c0_i32_1026 : BitVec 32) : Fin 3 → Nat :=
  let c0_i32_13 : BitVec 32 := 0#32
  let v15 : BitVec 32 := Scalar.subi v1_0 c0_i32_13
  let c1_i32_15 : BitVec 32 := 1#32
  let v17 : BitVec 32 := Scalar.divsi v15 c1_i32_15
  let v18 : BitVec 32 := Scalar.muli v17 c1_i32_15
  let v19 : BitVec 32 := Scalar.addi c0_i32_13 v18
  let c1_i32_17 : BitVec 32 := 1#32
  let arg22 : BitVec 32 := Scf.iv v19 c1_i32_17 k0_t6
  let c1_i32_32 : BitVec 32 := 1#32
  let v72 : BitVec 32 := Scalar.andi arg22 c1_i32_32
  let v2404 : Index := Scalar.indexCast v72
  let c12032_i32_42 : BitVec 32 := 12032#32
  let v94 : BitVec 32 := Scalar.minsi v93 c12032_i32_42
  let v95 : BitVec 32 := Scalar.subi v93 v94
  let v96 : BitVec 32 := v95
  let v2401 : BitVec 32 := Scalar.addi v96 c0_i32_1026
  let c255_i32_1027 : BitVec 32 := 255#32
  let v2402 : BitVec 32 := Scalar.andi v2401 c255_i32_1027
  let v2403 : BitVec 32 := v2402
  let v2405 : Index := Scalar.indexCast v2403
  let c2048 : Index := 2048#32
  ![v2404.toNat, v2405.toNat, 2048]
def k0_mult672 (v93 : BitVec 32) : BitVec 32 :=
  let c12032_i32_42 : BitVec 32 := 12032#32
  let v94 : BitVec 32 := Scalar.minsi v93 c12032_i32_42
  let v95 : BitVec 32 := Scalar.subi v93 v94
  let v96 : BitVec 32 := v95
  let c0_i32_1028 : BitVec 32 := 0#32
  let v2408 : BitVec 32 := Scalar.addi v96 c0_i32_1028
  let c255_i32_1029 : BitVec 32 := 255#32
  let v2409 : BitVec 32 := Scalar.andi v2408 c255_i32_1029
  v2409
def k0_off112 (v1_0 : BitVec 32) (k0_t6 : Fin (k0_t6_loop v1_0).trips) (v93 : BitVec 32) (c0_i32_1028 : BitVec 32) : Fin 3 → Nat :=
  let c0_i32_13 : BitVec 32 := 0#32
  let v15 : BitVec 32 := Scalar.subi v1_0 c0_i32_13
  let c1_i32_15 : BitVec 32 := 1#32
  let v17 : BitVec 32 := Scalar.divsi v15 c1_i32_15
  let v18 : BitVec 32 := Scalar.muli v17 c1_i32_15
  let v19 : BitVec 32 := Scalar.addi c0_i32_13 v18
  let c1_i32_17 : BitVec 32 := 1#32
  let arg22 : BitVec 32 := Scf.iv v19 c1_i32_17 k0_t6
  let c1_i32_32 : BitVec 32 := 1#32
  let v72 : BitVec 32 := Scalar.andi arg22 c1_i32_32
  let v2411 : Index := Scalar.indexCast v72
  let c12032_i32_42 : BitVec 32 := 12032#32
  let v94 : BitVec 32 := Scalar.minsi v93 c12032_i32_42
  let v95 : BitVec 32 := Scalar.subi v93 v94
  let v96 : BitVec 32 := v95
  let v2408 : BitVec 32 := Scalar.addi v96 c0_i32_1028
  let c255_i32_1029 : BitVec 32 := 255#32
  let v2409 : BitVec 32 := Scalar.andi v2408 c255_i32_1029
  let v2410 : BitVec 32 := v2409
  let v2412 : Index := Scalar.indexCast v2410
  let c2176 : Index := 2176#32
  ![v2411.toNat, v2412.toNat, 2176]
def k0_mult673 (v93 : BitVec 32) : BitVec 32 :=
  let c12032_i32_42 : BitVec 32 := 12032#32
  let v94 : BitVec 32 := Scalar.minsi v93 c12032_i32_42
  let v95 : BitVec 32 := Scalar.subi v93 v94
  let v96 : BitVec 32 := v95
  let c16_i32_1030 : BitVec 32 := 16#32
  let v2415 : BitVec 32 := Scalar.addi v96 c16_i32_1030
  let c255_i32_1031 : BitVec 32 := 255#32
  let v2416 : BitVec 32 := Scalar.andi v2415 c255_i32_1031
  v2416
def k0_mult674 (v93 : BitVec 32) : BitVec 32 :=
  let c12032_i32_42 : BitVec 32 := 12032#32
  let v94 : BitVec 32 := Scalar.minsi v93 c12032_i32_42
  let v95 : BitVec 32 := Scalar.subi v93 v94
  let v96 : BitVec 32 := v95
  let c16_i32_1033 : BitVec 32 := 16#32
  let v2422 : BitVec 32 := Scalar.addi v96 c16_i32_1033
  let c255_i32_1034 : BitVec 32 := 255#32
  let v2423 : BitVec 32 := Scalar.andi v2422 c255_i32_1034
  v2423
def k0_mult675 (v93 : BitVec 32) : BitVec 32 :=
  let c12032_i32_42 : BitVec 32 := 12032#32
  let v94 : BitVec 32 := Scalar.minsi v93 c12032_i32_42
  let v95 : BitVec 32 := Scalar.subi v93 v94
  let v96 : BitVec 32 := v95
  let c32_i32_1036 : BitVec 32 := 32#32
  let v2429 : BitVec 32 := Scalar.addi v96 c32_i32_1036
  let c255_i32_1037 : BitVec 32 := 255#32
  let v2430 : BitVec 32 := Scalar.andi v2429 c255_i32_1037
  v2430
def k0_mult676 (v93 : BitVec 32) : BitVec 32 :=
  let c12032_i32_42 : BitVec 32 := 12032#32
  let v94 : BitVec 32 := Scalar.minsi v93 c12032_i32_42
  let v95 : BitVec 32 := Scalar.subi v93 v94
  let v96 : BitVec 32 := v95
  let c32_i32_1039 : BitVec 32 := 32#32
  let v2436 : BitVec 32 := Scalar.addi v96 c32_i32_1039
  let c255_i32_1040 : BitVec 32 := 255#32
  let v2437 : BitVec 32 := Scalar.andi v2436 c255_i32_1040
  v2437
def k0_mult677 (v93 : BitVec 32) : BitVec 32 :=
  let c12032_i32_42 : BitVec 32 := 12032#32
  let v94 : BitVec 32 := Scalar.minsi v93 c12032_i32_42
  let v95 : BitVec 32 := Scalar.subi v93 v94
  let v96 : BitVec 32 := v95
  let c48_i32_1042 : BitVec 32 := 48#32
  let v2443 : BitVec 32 := Scalar.addi v96 c48_i32_1042
  let c255_i32_1043 : BitVec 32 := 255#32
  let v2444 : BitVec 32 := Scalar.andi v2443 c255_i32_1043
  v2444
def k0_mult678 (v93 : BitVec 32) : BitVec 32 :=
  let c12032_i32_42 : BitVec 32 := 12032#32
  let v94 : BitVec 32 := Scalar.minsi v93 c12032_i32_42
  let v95 : BitVec 32 := Scalar.subi v93 v94
  let v96 : BitVec 32 := v95
  let c48_i32_1045 : BitVec 32 := 48#32
  let v2450 : BitVec 32 := Scalar.addi v96 c48_i32_1045
  let c255_i32_1046 : BitVec 32 := 255#32
  let v2451 : BitVec 32 := Scalar.andi v2450 c255_i32_1046
  v2451
def k0_mult679 (v93 : BitVec 32) : BitVec 32 :=
  let c12032_i32_42 : BitVec 32 := 12032#32
  let v94 : BitVec 32 := Scalar.minsi v93 c12032_i32_42
  let v95 : BitVec 32 := Scalar.subi v93 v94
  let v96 : BitVec 32 := v95
  let c64_i32_1048 : BitVec 32 := 64#32
  let v2457 : BitVec 32 := Scalar.addi v96 c64_i32_1048
  let c255_i32_1049 : BitVec 32 := 255#32
  let v2458 : BitVec 32 := Scalar.andi v2457 c255_i32_1049
  v2458
def k0_mult680 (v93 : BitVec 32) : BitVec 32 :=
  let c12032_i32_42 : BitVec 32 := 12032#32
  let v94 : BitVec 32 := Scalar.minsi v93 c12032_i32_42
  let v95 : BitVec 32 := Scalar.subi v93 v94
  let v96 : BitVec 32 := v95
  let c64_i32_1051 : BitVec 32 := 64#32
  let v2464 : BitVec 32 := Scalar.addi v96 c64_i32_1051
  let c255_i32_1052 : BitVec 32 := 255#32
  let v2465 : BitVec 32 := Scalar.andi v2464 c255_i32_1052
  v2465
def k0_mult681 (v93 : BitVec 32) : BitVec 32 :=
  let c12032_i32_42 : BitVec 32 := 12032#32
  let v94 : BitVec 32 := Scalar.minsi v93 c12032_i32_42
  let v95 : BitVec 32 := Scalar.subi v93 v94
  let v96 : BitVec 32 := v95
  let c80_i32_1054 : BitVec 32 := 80#32
  let v2471 : BitVec 32 := Scalar.addi v96 c80_i32_1054
  let c255_i32_1055 : BitVec 32 := 255#32
  let v2472 : BitVec 32 := Scalar.andi v2471 c255_i32_1055
  v2472
def k0_mult682 (v93 : BitVec 32) : BitVec 32 :=
  let c12032_i32_42 : BitVec 32 := 12032#32
  let v94 : BitVec 32 := Scalar.minsi v93 c12032_i32_42
  let v95 : BitVec 32 := Scalar.subi v93 v94
  let v96 : BitVec 32 := v95
  let c80_i32_1057 : BitVec 32 := 80#32
  let v2478 : BitVec 32 := Scalar.addi v96 c80_i32_1057
  let c255_i32_1058 : BitVec 32 := 255#32
  let v2479 : BitVec 32 := Scalar.andi v2478 c255_i32_1058
  v2479
def k0_mult683 (v93 : BitVec 32) : BitVec 32 :=
  let c12032_i32_42 : BitVec 32 := 12032#32
  let v94 : BitVec 32 := Scalar.minsi v93 c12032_i32_42
  let v95 : BitVec 32 := Scalar.subi v93 v94
  let v96 : BitVec 32 := v95
  let c96_i32_1060 : BitVec 32 := 96#32
  let v2485 : BitVec 32 := Scalar.addi v96 c96_i32_1060
  let c255_i32_1061 : BitVec 32 := 255#32
  let v2486 : BitVec 32 := Scalar.andi v2485 c255_i32_1061
  v2486
def k0_mult684 (v93 : BitVec 32) : BitVec 32 :=
  let c12032_i32_42 : BitVec 32 := 12032#32
  let v94 : BitVec 32 := Scalar.minsi v93 c12032_i32_42
  let v95 : BitVec 32 := Scalar.subi v93 v94
  let v96 : BitVec 32 := v95
  let c96_i32_1063 : BitVec 32 := 96#32
  let v2492 : BitVec 32 := Scalar.addi v96 c96_i32_1063
  let c255_i32_1064 : BitVec 32 := 255#32
  let v2493 : BitVec 32 := Scalar.andi v2492 c255_i32_1064
  v2493
def k0_mult685 (v93 : BitVec 32) : BitVec 32 :=
  let c12032_i32_42 : BitVec 32 := 12032#32
  let v94 : BitVec 32 := Scalar.minsi v93 c12032_i32_42
  let v95 : BitVec 32 := Scalar.subi v93 v94
  let v96 : BitVec 32 := v95
  let c112_i32_1066 : BitVec 32 := 112#32
  let v2499 : BitVec 32 := Scalar.addi v96 c112_i32_1066
  let c255_i32_1067 : BitVec 32 := 255#32
  let v2500 : BitVec 32 := Scalar.andi v2499 c255_i32_1067
  v2500
def k0_mult686 (v93 : BitVec 32) : BitVec 32 :=
  let c12032_i32_42 : BitVec 32 := 12032#32
  let v94 : BitVec 32 := Scalar.minsi v93 c12032_i32_42
  let v95 : BitVec 32 := Scalar.subi v93 v94
  let v96 : BitVec 32 := v95
  let c112_i32_1069 : BitVec 32 := 112#32
  let v2506 : BitVec 32 := Scalar.addi v96 c112_i32_1069
  let c255_i32_1070 : BitVec 32 := 255#32
  let v2507 : BitVec 32 := Scalar.andi v2506 c255_i32_1070
  v2507
def k0_mult687 (v93 : BitVec 32) : BitVec 32 :=
  let c12032_i32_42 : BitVec 32 := 12032#32
  let v94 : BitVec 32 := Scalar.minsi v93 c12032_i32_42
  let v95 : BitVec 32 := Scalar.subi v93 v94
  let v96 : BitVec 32 := v95
  let c128_i32_1072 : BitVec 32 := 128#32
  let v2513 : BitVec 32 := Scalar.addi v96 c128_i32_1072
  let c255_i32_1073 : BitVec 32 := 255#32
  let v2514 : BitVec 32 := Scalar.andi v2513 c255_i32_1073
  v2514
def k0_mult688 (v93 : BitVec 32) : BitVec 32 :=
  let c12032_i32_42 : BitVec 32 := 12032#32
  let v94 : BitVec 32 := Scalar.minsi v93 c12032_i32_42
  let v95 : BitVec 32 := Scalar.subi v93 v94
  let v96 : BitVec 32 := v95
  let c128_i32_1075 : BitVec 32 := 128#32
  let v2520 : BitVec 32 := Scalar.addi v96 c128_i32_1075
  let c255_i32_1076 : BitVec 32 := 255#32
  let v2521 : BitVec 32 := Scalar.andi v2520 c255_i32_1076
  v2521
def k0_mult689 (v93 : BitVec 32) : BitVec 32 :=
  let c12032_i32_42 : BitVec 32 := 12032#32
  let v94 : BitVec 32 := Scalar.minsi v93 c12032_i32_42
  let v95 : BitVec 32 := Scalar.subi v93 v94
  let v96 : BitVec 32 := v95
  let c144_i32_1078 : BitVec 32 := 144#32
  let v2527 : BitVec 32 := Scalar.addi v96 c144_i32_1078
  let c255_i32_1079 : BitVec 32 := 255#32
  let v2528 : BitVec 32 := Scalar.andi v2527 c255_i32_1079
  v2528
def k0_mult690 (v93 : BitVec 32) : BitVec 32 :=
  let c12032_i32_42 : BitVec 32 := 12032#32
  let v94 : BitVec 32 := Scalar.minsi v93 c12032_i32_42
  let v95 : BitVec 32 := Scalar.subi v93 v94
  let v96 : BitVec 32 := v95
  let c144_i32_1081 : BitVec 32 := 144#32
  let v2534 : BitVec 32 := Scalar.addi v96 c144_i32_1081
  let c255_i32_1082 : BitVec 32 := 255#32
  let v2535 : BitVec 32 := Scalar.andi v2534 c255_i32_1082
  v2535
def k0_mult691 (v93 : BitVec 32) : BitVec 32 :=
  let c12032_i32_42 : BitVec 32 := 12032#32
  let v94 : BitVec 32 := Scalar.minsi v93 c12032_i32_42
  let v95 : BitVec 32 := Scalar.subi v93 v94
  let v96 : BitVec 32 := v95
  let c160_i32_1084 : BitVec 32 := 160#32
  let v2541 : BitVec 32 := Scalar.addi v96 c160_i32_1084
  let c255_i32_1085 : BitVec 32 := 255#32
  let v2542 : BitVec 32 := Scalar.andi v2541 c255_i32_1085
  v2542
def k0_mult692 (v93 : BitVec 32) : BitVec 32 :=
  let c12032_i32_42 : BitVec 32 := 12032#32
  let v94 : BitVec 32 := Scalar.minsi v93 c12032_i32_42
  let v95 : BitVec 32 := Scalar.subi v93 v94
  let v96 : BitVec 32 := v95
  let c160_i32_1087 : BitVec 32 := 160#32
  let v2548 : BitVec 32 := Scalar.addi v96 c160_i32_1087
  let c255_i32_1088 : BitVec 32 := 255#32
  let v2549 : BitVec 32 := Scalar.andi v2548 c255_i32_1088
  v2549
def k0_mult693 (v93 : BitVec 32) : BitVec 32 :=
  let c12032_i32_42 : BitVec 32 := 12032#32
  let v94 : BitVec 32 := Scalar.minsi v93 c12032_i32_42
  let v95 : BitVec 32 := Scalar.subi v93 v94
  let v96 : BitVec 32 := v95
  let c176_i32_1090 : BitVec 32 := 176#32
  let v2555 : BitVec 32 := Scalar.addi v96 c176_i32_1090
  let c255_i32_1091 : BitVec 32 := 255#32
  let v2556 : BitVec 32 := Scalar.andi v2555 c255_i32_1091
  v2556
def k0_mult694 (v93 : BitVec 32) : BitVec 32 :=
  let c12032_i32_42 : BitVec 32 := 12032#32
  let v94 : BitVec 32 := Scalar.minsi v93 c12032_i32_42
  let v95 : BitVec 32 := Scalar.subi v93 v94
  let v96 : BitVec 32 := v95
  let c176_i32_1093 : BitVec 32 := 176#32
  let v2562 : BitVec 32 := Scalar.addi v96 c176_i32_1093
  let c255_i32_1094 : BitVec 32 := 255#32
  let v2563 : BitVec 32 := Scalar.andi v2562 c255_i32_1094
  v2563
def k0_mult695 (v93 : BitVec 32) : BitVec 32 :=
  let c12032_i32_42 : BitVec 32 := 12032#32
  let v94 : BitVec 32 := Scalar.minsi v93 c12032_i32_42
  let v95 : BitVec 32 := Scalar.subi v93 v94
  let v96 : BitVec 32 := v95
  let c192_i32_1096 : BitVec 32 := 192#32
  let v2569 : BitVec 32 := Scalar.addi v96 c192_i32_1096
  let c255_i32_1097 : BitVec 32 := 255#32
  let v2570 : BitVec 32 := Scalar.andi v2569 c255_i32_1097
  v2570
def k0_mult696 (v93 : BitVec 32) : BitVec 32 :=
  let c12032_i32_42 : BitVec 32 := 12032#32
  let v94 : BitVec 32 := Scalar.minsi v93 c12032_i32_42
  let v95 : BitVec 32 := Scalar.subi v93 v94
  let v96 : BitVec 32 := v95
  let c192_i32_1099 : BitVec 32 := 192#32
  let v2576 : BitVec 32 := Scalar.addi v96 c192_i32_1099
  let c255_i32_1100 : BitVec 32 := 255#32
  let v2577 : BitVec 32 := Scalar.andi v2576 c255_i32_1100
  v2577
def k0_mult697 (v93 : BitVec 32) : BitVec 32 :=
  let c12032_i32_42 : BitVec 32 := 12032#32
  let v94 : BitVec 32 := Scalar.minsi v93 c12032_i32_42
  let v95 : BitVec 32 := Scalar.subi v93 v94
  let v96 : BitVec 32 := v95
  let c208_i32_1102 : BitVec 32 := 208#32
  let v2583 : BitVec 32 := Scalar.addi v96 c208_i32_1102
  let c255_i32_1103 : BitVec 32 := 255#32
  let v2584 : BitVec 32 := Scalar.andi v2583 c255_i32_1103
  v2584
def k0_mult698 (v93 : BitVec 32) : BitVec 32 :=
  let c12032_i32_42 : BitVec 32 := 12032#32
  let v94 : BitVec 32 := Scalar.minsi v93 c12032_i32_42
  let v95 : BitVec 32 := Scalar.subi v93 v94
  let v96 : BitVec 32 := v95
  let c208_i32_1105 : BitVec 32 := 208#32
  let v2590 : BitVec 32 := Scalar.addi v96 c208_i32_1105
  let c255_i32_1106 : BitVec 32 := 255#32
  let v2591 : BitVec 32 := Scalar.andi v2590 c255_i32_1106
  v2591
def k0_mult699 (v93 : BitVec 32) : BitVec 32 :=
  let c12032_i32_42 : BitVec 32 := 12032#32
  let v94 : BitVec 32 := Scalar.minsi v93 c12032_i32_42
  let v95 : BitVec 32 := Scalar.subi v93 v94
  let v96 : BitVec 32 := v95
  let c224_i32_1108 : BitVec 32 := 224#32
  let v2597 : BitVec 32 := Scalar.addi v96 c224_i32_1108
  let c255_i32_1109 : BitVec 32 := 255#32
  let v2598 : BitVec 32 := Scalar.andi v2597 c255_i32_1109
  v2598
def k0_mult700 (v93 : BitVec 32) : BitVec 32 :=
  let c12032_i32_42 : BitVec 32 := 12032#32
  let v94 : BitVec 32 := Scalar.minsi v93 c12032_i32_42
  let v95 : BitVec 32 := Scalar.subi v93 v94
  let v96 : BitVec 32 := v95
  let c224_i32_1111 : BitVec 32 := 224#32
  let v2604 : BitVec 32 := Scalar.addi v96 c224_i32_1111
  let c255_i32_1112 : BitVec 32 := 255#32
  let v2605 : BitVec 32 := Scalar.andi v2604 c255_i32_1112
  v2605
def k0_mult701 (v93 : BitVec 32) : BitVec 32 :=
  let c12032_i32_42 : BitVec 32 := 12032#32
  let v94 : BitVec 32 := Scalar.minsi v93 c12032_i32_42
  let v95 : BitVec 32 := Scalar.subi v93 v94
  let v96 : BitVec 32 := v95
  let c240_i32_1114 : BitVec 32 := 240#32
  let v2611 : BitVec 32 := Scalar.addi v96 c240_i32_1114
  let c255_i32_1115 : BitVec 32 := 255#32
  let v2612 : BitVec 32 := Scalar.andi v2611 c255_i32_1115
  v2612
def k0_mult702 (v93 : BitVec 32) : BitVec 32 :=
  let c12032_i32_42 : BitVec 32 := 12032#32
  let v94 : BitVec 32 := Scalar.minsi v93 c12032_i32_42
  let v95 : BitVec 32 := Scalar.subi v93 v94
  let v96 : BitVec 32 := v95
  let c240_i32_1117 : BitVec 32 := 240#32
  let v2618 : BitVec 32 := Scalar.addi v96 c240_i32_1117
  let c255_i32_1118 : BitVec 32 := 255#32
  let v2619 : BitVec 32 := Scalar.andi v2618 c255_i32_1118
  v2619
def k0_mult703 (v93 : BitVec 32) : BitVec 32 :=
  let c12032_i32_42 : BitVec 32 := 12032#32
  let v94 : BitVec 32 := Scalar.minsi v93 c12032_i32_42
  let v95 : BitVec 32 := Scalar.subi v93 v94
  let v96 : BitVec 32 := v95
  let c0_i32_1152 : BitVec 32 := 0#32
  let v2689 : BitVec 32 := Scalar.addi v96 c0_i32_1152
  let c255_i32_1153 : BitVec 32 := 255#32
  let v2690 : BitVec 32 := Scalar.andi v2689 c255_i32_1153
  v2690
def k0_off113 (v1_0 : BitVec 32) (k0_t6 : Fin (k0_t6_loop v1_0).trips) (v93 : BitVec 32) (c0_i32_1152 : BitVec 32) : Fin 3 → Nat :=
  let c0_i32_13 : BitVec 32 := 0#32
  let v15 : BitVec 32 := Scalar.subi v1_0 c0_i32_13
  let c1_i32_15 : BitVec 32 := 1#32
  let v17 : BitVec 32 := Scalar.divsi v15 c1_i32_15
  let v18 : BitVec 32 := Scalar.muli v17 c1_i32_15
  let v19 : BitVec 32 := Scalar.addi c0_i32_13 v18
  let c1_i32_17 : BitVec 32 := 1#32
  let arg22 : BitVec 32 := Scf.iv v19 c1_i32_17 k0_t6
  let c1_i32_32 : BitVec 32 := 1#32
  let v72 : BitVec 32 := Scalar.andi arg22 c1_i32_32
  let v2692 : Index := Scalar.indexCast v72
  let c12032_i32_42 : BitVec 32 := 12032#32
  let v94 : BitVec 32 := Scalar.minsi v93 c12032_i32_42
  let v95 : BitVec 32 := Scalar.subi v93 v94
  let v96 : BitVec 32 := v95
  let v2689 : BitVec 32 := Scalar.addi v96 c0_i32_1152
  let c255_i32_1153 : BitVec 32 := 255#32
  let v2690 : BitVec 32 := Scalar.andi v2689 c255_i32_1153
  let v2691 : BitVec 32 := v2690
  let v2693 : Index := Scalar.indexCast v2691
  let c2304 : Index := 2304#32
  ![v2692.toNat, v2693.toNat, 2304]
def k0_mult704 (v93 : BitVec 32) : BitVec 32 :=
  let c12032_i32_42 : BitVec 32 := 12032#32
  let v94 : BitVec 32 := Scalar.minsi v93 c12032_i32_42
  let v95 : BitVec 32 := Scalar.subi v93 v94
  let v96 : BitVec 32 := v95
  let c0_i32_1154 : BitVec 32 := 0#32
  let v2696 : BitVec 32 := Scalar.addi v96 c0_i32_1154
  let c255_i32_1155 : BitVec 32 := 255#32
  let v2697 : BitVec 32 := Scalar.andi v2696 c255_i32_1155
  v2697
def k0_off114 (v1_0 : BitVec 32) (k0_t6 : Fin (k0_t6_loop v1_0).trips) (v93 : BitVec 32) (c0_i32_1154 : BitVec 32) : Fin 3 → Nat :=
  let c0_i32_13 : BitVec 32 := 0#32
  let v15 : BitVec 32 := Scalar.subi v1_0 c0_i32_13
  let c1_i32_15 : BitVec 32 := 1#32
  let v17 : BitVec 32 := Scalar.divsi v15 c1_i32_15
  let v18 : BitVec 32 := Scalar.muli v17 c1_i32_15
  let v19 : BitVec 32 := Scalar.addi c0_i32_13 v18
  let c1_i32_17 : BitVec 32 := 1#32
  let arg22 : BitVec 32 := Scf.iv v19 c1_i32_17 k0_t6
  let c1_i32_32 : BitVec 32 := 1#32
  let v72 : BitVec 32 := Scalar.andi arg22 c1_i32_32
  let v2699 : Index := Scalar.indexCast v72
  let c12032_i32_42 : BitVec 32 := 12032#32
  let v94 : BitVec 32 := Scalar.minsi v93 c12032_i32_42
  let v95 : BitVec 32 := Scalar.subi v93 v94
  let v96 : BitVec 32 := v95
  let v2696 : BitVec 32 := Scalar.addi v96 c0_i32_1154
  let c255_i32_1155 : BitVec 32 := 255#32
  let v2697 : BitVec 32 := Scalar.andi v2696 c255_i32_1155
  let v2698 : BitVec 32 := v2697
  let v2700 : Index := Scalar.indexCast v2698
  let c2432 : Index := 2432#32
  ![v2699.toNat, v2700.toNat, 2432]
def k0_mult705 (v93 : BitVec 32) : BitVec 32 :=
  let c12032_i32_42 : BitVec 32 := 12032#32
  let v94 : BitVec 32 := Scalar.minsi v93 c12032_i32_42
  let v95 : BitVec 32 := Scalar.subi v93 v94
  let v96 : BitVec 32 := v95
  let c16_i32_1156 : BitVec 32 := 16#32
  let v2703 : BitVec 32 := Scalar.addi v96 c16_i32_1156
  let c255_i32_1157 : BitVec 32 := 255#32
  let v2704 : BitVec 32 := Scalar.andi v2703 c255_i32_1157
  v2704
def k0_mult706 (v93 : BitVec 32) : BitVec 32 :=
  let c12032_i32_42 : BitVec 32 := 12032#32
  let v94 : BitVec 32 := Scalar.minsi v93 c12032_i32_42
  let v95 : BitVec 32 := Scalar.subi v93 v94
  let v96 : BitVec 32 := v95
  let c16_i32_1159 : BitVec 32 := 16#32
  let v2710 : BitVec 32 := Scalar.addi v96 c16_i32_1159
  let c255_i32_1160 : BitVec 32 := 255#32
  let v2711 : BitVec 32 := Scalar.andi v2710 c255_i32_1160
  v2711
def k0_mult707 (v93 : BitVec 32) : BitVec 32 :=
  let c12032_i32_42 : BitVec 32 := 12032#32
  let v94 : BitVec 32 := Scalar.minsi v93 c12032_i32_42
  let v95 : BitVec 32 := Scalar.subi v93 v94
  let v96 : BitVec 32 := v95
  let c32_i32_1162 : BitVec 32 := 32#32
  let v2717 : BitVec 32 := Scalar.addi v96 c32_i32_1162
  let c255_i32_1163 : BitVec 32 := 255#32
  let v2718 : BitVec 32 := Scalar.andi v2717 c255_i32_1163
  v2718
def k0_mult708 (v93 : BitVec 32) : BitVec 32 :=
  let c12032_i32_42 : BitVec 32 := 12032#32
  let v94 : BitVec 32 := Scalar.minsi v93 c12032_i32_42
  let v95 : BitVec 32 := Scalar.subi v93 v94
  let v96 : BitVec 32 := v95
  let c32_i32_1165 : BitVec 32 := 32#32
  let v2724 : BitVec 32 := Scalar.addi v96 c32_i32_1165
  let c255_i32_1166 : BitVec 32 := 255#32
  let v2725 : BitVec 32 := Scalar.andi v2724 c255_i32_1166
  v2725
def k0_mult709 (v93 : BitVec 32) : BitVec 32 :=
  let c12032_i32_42 : BitVec 32 := 12032#32
  let v94 : BitVec 32 := Scalar.minsi v93 c12032_i32_42
  let v95 : BitVec 32 := Scalar.subi v93 v94
  let v96 : BitVec 32 := v95
  let c48_i32_1168 : BitVec 32 := 48#32
  let v2731 : BitVec 32 := Scalar.addi v96 c48_i32_1168
  let c255_i32_1169 : BitVec 32 := 255#32
  let v2732 : BitVec 32 := Scalar.andi v2731 c255_i32_1169
  v2732
def k0_mult710 (v93 : BitVec 32) : BitVec 32 :=
  let c12032_i32_42 : BitVec 32 := 12032#32
  let v94 : BitVec 32 := Scalar.minsi v93 c12032_i32_42
  let v95 : BitVec 32 := Scalar.subi v93 v94
  let v96 : BitVec 32 := v95
  let c48_i32_1171 : BitVec 32 := 48#32
  let v2738 : BitVec 32 := Scalar.addi v96 c48_i32_1171
  let c255_i32_1172 : BitVec 32 := 255#32
  let v2739 : BitVec 32 := Scalar.andi v2738 c255_i32_1172
  v2739
def k0_mult711 (v93 : BitVec 32) : BitVec 32 :=
  let c12032_i32_42 : BitVec 32 := 12032#32
  let v94 : BitVec 32 := Scalar.minsi v93 c12032_i32_42
  let v95 : BitVec 32 := Scalar.subi v93 v94
  let v96 : BitVec 32 := v95
  let c64_i32_1174 : BitVec 32 := 64#32
  let v2745 : BitVec 32 := Scalar.addi v96 c64_i32_1174
  let c255_i32_1175 : BitVec 32 := 255#32
  let v2746 : BitVec 32 := Scalar.andi v2745 c255_i32_1175
  v2746
def k0_mult712 (v93 : BitVec 32) : BitVec 32 :=
  let c12032_i32_42 : BitVec 32 := 12032#32
  let v94 : BitVec 32 := Scalar.minsi v93 c12032_i32_42
  let v95 : BitVec 32 := Scalar.subi v93 v94
  let v96 : BitVec 32 := v95
  let c64_i32_1177 : BitVec 32 := 64#32
  let v2752 : BitVec 32 := Scalar.addi v96 c64_i32_1177
  let c255_i32_1178 : BitVec 32 := 255#32
  let v2753 : BitVec 32 := Scalar.andi v2752 c255_i32_1178
  v2753
def k0_mult713 (v93 : BitVec 32) : BitVec 32 :=
  let c12032_i32_42 : BitVec 32 := 12032#32
  let v94 : BitVec 32 := Scalar.minsi v93 c12032_i32_42
  let v95 : BitVec 32 := Scalar.subi v93 v94
  let v96 : BitVec 32 := v95
  let c80_i32_1180 : BitVec 32 := 80#32
  let v2759 : BitVec 32 := Scalar.addi v96 c80_i32_1180
  let c255_i32_1181 : BitVec 32 := 255#32
  let v2760 : BitVec 32 := Scalar.andi v2759 c255_i32_1181
  v2760
def k0_mult714 (v93 : BitVec 32) : BitVec 32 :=
  let c12032_i32_42 : BitVec 32 := 12032#32
  let v94 : BitVec 32 := Scalar.minsi v93 c12032_i32_42
  let v95 : BitVec 32 := Scalar.subi v93 v94
  let v96 : BitVec 32 := v95
  let c80_i32_1183 : BitVec 32 := 80#32
  let v2766 : BitVec 32 := Scalar.addi v96 c80_i32_1183
  let c255_i32_1184 : BitVec 32 := 255#32
  let v2767 : BitVec 32 := Scalar.andi v2766 c255_i32_1184
  v2767
def k0_mult715 (v93 : BitVec 32) : BitVec 32 :=
  let c12032_i32_42 : BitVec 32 := 12032#32
  let v94 : BitVec 32 := Scalar.minsi v93 c12032_i32_42
  let v95 : BitVec 32 := Scalar.subi v93 v94
  let v96 : BitVec 32 := v95
  let c96_i32_1186 : BitVec 32 := 96#32
  let v2773 : BitVec 32 := Scalar.addi v96 c96_i32_1186
  let c255_i32_1187 : BitVec 32 := 255#32
  let v2774 : BitVec 32 := Scalar.andi v2773 c255_i32_1187
  v2774
def k0_mult716 (v93 : BitVec 32) : BitVec 32 :=
  let c12032_i32_42 : BitVec 32 := 12032#32
  let v94 : BitVec 32 := Scalar.minsi v93 c12032_i32_42
  let v95 : BitVec 32 := Scalar.subi v93 v94
  let v96 : BitVec 32 := v95
  let c96_i32_1189 : BitVec 32 := 96#32
  let v2780 : BitVec 32 := Scalar.addi v96 c96_i32_1189
  let c255_i32_1190 : BitVec 32 := 255#32
  let v2781 : BitVec 32 := Scalar.andi v2780 c255_i32_1190
  v2781
def k0_mult717 (v93 : BitVec 32) : BitVec 32 :=
  let c12032_i32_42 : BitVec 32 := 12032#32
  let v94 : BitVec 32 := Scalar.minsi v93 c12032_i32_42
  let v95 : BitVec 32 := Scalar.subi v93 v94
  let v96 : BitVec 32 := v95
  let c112_i32_1192 : BitVec 32 := 112#32
  let v2787 : BitVec 32 := Scalar.addi v96 c112_i32_1192
  let c255_i32_1193 : BitVec 32 := 255#32
  let v2788 : BitVec 32 := Scalar.andi v2787 c255_i32_1193
  v2788
def k0_mult718 (v93 : BitVec 32) : BitVec 32 :=
  let c12032_i32_42 : BitVec 32 := 12032#32
  let v94 : BitVec 32 := Scalar.minsi v93 c12032_i32_42
  let v95 : BitVec 32 := Scalar.subi v93 v94
  let v96 : BitVec 32 := v95
  let c112_i32_1195 : BitVec 32 := 112#32
  let v2794 : BitVec 32 := Scalar.addi v96 c112_i32_1195
  let c255_i32_1196 : BitVec 32 := 255#32
  let v2795 : BitVec 32 := Scalar.andi v2794 c255_i32_1196
  v2795
def k0_mult719 (v93 : BitVec 32) : BitVec 32 :=
  let c12032_i32_42 : BitVec 32 := 12032#32
  let v94 : BitVec 32 := Scalar.minsi v93 c12032_i32_42
  let v95 : BitVec 32 := Scalar.subi v93 v94
  let v96 : BitVec 32 := v95
  let c128_i32_1198 : BitVec 32 := 128#32
  let v2801 : BitVec 32 := Scalar.addi v96 c128_i32_1198
  let c255_i32_1199 : BitVec 32 := 255#32
  let v2802 : BitVec 32 := Scalar.andi v2801 c255_i32_1199
  v2802
def k0_mult720 (v93 : BitVec 32) : BitVec 32 :=
  let c12032_i32_42 : BitVec 32 := 12032#32
  let v94 : BitVec 32 := Scalar.minsi v93 c12032_i32_42
  let v95 : BitVec 32 := Scalar.subi v93 v94
  let v96 : BitVec 32 := v95
  let c128_i32_1201 : BitVec 32 := 128#32
  let v2808 : BitVec 32 := Scalar.addi v96 c128_i32_1201
  let c255_i32_1202 : BitVec 32 := 255#32
  let v2809 : BitVec 32 := Scalar.andi v2808 c255_i32_1202
  v2809
def k0_mult721 (v93 : BitVec 32) : BitVec 32 :=
  let c12032_i32_42 : BitVec 32 := 12032#32
  let v94 : BitVec 32 := Scalar.minsi v93 c12032_i32_42
  let v95 : BitVec 32 := Scalar.subi v93 v94
  let v96 : BitVec 32 := v95
  let c144_i32_1204 : BitVec 32 := 144#32
  let v2815 : BitVec 32 := Scalar.addi v96 c144_i32_1204
  let c255_i32_1205 : BitVec 32 := 255#32
  let v2816 : BitVec 32 := Scalar.andi v2815 c255_i32_1205
  v2816
def k0_mult722 (v93 : BitVec 32) : BitVec 32 :=
  let c12032_i32_42 : BitVec 32 := 12032#32
  let v94 : BitVec 32 := Scalar.minsi v93 c12032_i32_42
  let v95 : BitVec 32 := Scalar.subi v93 v94
  let v96 : BitVec 32 := v95
  let c144_i32_1207 : BitVec 32 := 144#32
  let v2822 : BitVec 32 := Scalar.addi v96 c144_i32_1207
  let c255_i32_1208 : BitVec 32 := 255#32
  let v2823 : BitVec 32 := Scalar.andi v2822 c255_i32_1208
  v2823
def k0_mult723 (v93 : BitVec 32) : BitVec 32 :=
  let c12032_i32_42 : BitVec 32 := 12032#32
  let v94 : BitVec 32 := Scalar.minsi v93 c12032_i32_42
  let v95 : BitVec 32 := Scalar.subi v93 v94
  let v96 : BitVec 32 := v95
  let c160_i32_1210 : BitVec 32 := 160#32
  let v2829 : BitVec 32 := Scalar.addi v96 c160_i32_1210
  let c255_i32_1211 : BitVec 32 := 255#32
  let v2830 : BitVec 32 := Scalar.andi v2829 c255_i32_1211
  v2830
def k0_mult724 (v93 : BitVec 32) : BitVec 32 :=
  let c12032_i32_42 : BitVec 32 := 12032#32
  let v94 : BitVec 32 := Scalar.minsi v93 c12032_i32_42
  let v95 : BitVec 32 := Scalar.subi v93 v94
  let v96 : BitVec 32 := v95
  let c160_i32_1213 : BitVec 32 := 160#32
  let v2836 : BitVec 32 := Scalar.addi v96 c160_i32_1213
  let c255_i32_1214 : BitVec 32 := 255#32
  let v2837 : BitVec 32 := Scalar.andi v2836 c255_i32_1214
  v2837
def k0_mult725 (v93 : BitVec 32) : BitVec 32 :=
  let c12032_i32_42 : BitVec 32 := 12032#32
  let v94 : BitVec 32 := Scalar.minsi v93 c12032_i32_42
  let v95 : BitVec 32 := Scalar.subi v93 v94
  let v96 : BitVec 32 := v95
  let c176_i32_1216 : BitVec 32 := 176#32
  let v2843 : BitVec 32 := Scalar.addi v96 c176_i32_1216
  let c255_i32_1217 : BitVec 32 := 255#32
  let v2844 : BitVec 32 := Scalar.andi v2843 c255_i32_1217
  v2844
def k0_mult726 (v93 : BitVec 32) : BitVec 32 :=
  let c12032_i32_42 : BitVec 32 := 12032#32
  let v94 : BitVec 32 := Scalar.minsi v93 c12032_i32_42
  let v95 : BitVec 32 := Scalar.subi v93 v94
  let v96 : BitVec 32 := v95
  let c176_i32_1219 : BitVec 32 := 176#32
  let v2850 : BitVec 32 := Scalar.addi v96 c176_i32_1219
  let c255_i32_1220 : BitVec 32 := 255#32
  let v2851 : BitVec 32 := Scalar.andi v2850 c255_i32_1220
  v2851
def k0_mult727 (v93 : BitVec 32) : BitVec 32 :=
  let c12032_i32_42 : BitVec 32 := 12032#32
  let v94 : BitVec 32 := Scalar.minsi v93 c12032_i32_42
  let v95 : BitVec 32 := Scalar.subi v93 v94
  let v96 : BitVec 32 := v95
  let c192_i32_1222 : BitVec 32 := 192#32
  let v2857 : BitVec 32 := Scalar.addi v96 c192_i32_1222
  let c255_i32_1223 : BitVec 32 := 255#32
  let v2858 : BitVec 32 := Scalar.andi v2857 c255_i32_1223
  v2858
def k0_mult728 (v93 : BitVec 32) : BitVec 32 :=
  let c12032_i32_42 : BitVec 32 := 12032#32
  let v94 : BitVec 32 := Scalar.minsi v93 c12032_i32_42
  let v95 : BitVec 32 := Scalar.subi v93 v94
  let v96 : BitVec 32 := v95
  let c192_i32_1225 : BitVec 32 := 192#32
  let v2864 : BitVec 32 := Scalar.addi v96 c192_i32_1225
  let c255_i32_1226 : BitVec 32 := 255#32
  let v2865 : BitVec 32 := Scalar.andi v2864 c255_i32_1226
  v2865
def k0_mult729 (v93 : BitVec 32) : BitVec 32 :=
  let c12032_i32_42 : BitVec 32 := 12032#32
  let v94 : BitVec 32 := Scalar.minsi v93 c12032_i32_42
  let v95 : BitVec 32 := Scalar.subi v93 v94
  let v96 : BitVec 32 := v95
  let c208_i32_1228 : BitVec 32 := 208#32
  let v2871 : BitVec 32 := Scalar.addi v96 c208_i32_1228
  let c255_i32_1229 : BitVec 32 := 255#32
  let v2872 : BitVec 32 := Scalar.andi v2871 c255_i32_1229
  v2872
def k0_mult730 (v93 : BitVec 32) : BitVec 32 :=
  let c12032_i32_42 : BitVec 32 := 12032#32
  let v94 : BitVec 32 := Scalar.minsi v93 c12032_i32_42
  let v95 : BitVec 32 := Scalar.subi v93 v94
  let v96 : BitVec 32 := v95
  let c208_i32_1231 : BitVec 32 := 208#32
  let v2878 : BitVec 32 := Scalar.addi v96 c208_i32_1231
  let c255_i32_1232 : BitVec 32 := 255#32
  let v2879 : BitVec 32 := Scalar.andi v2878 c255_i32_1232
  v2879
def k0_mult731 (v93 : BitVec 32) : BitVec 32 :=
  let c12032_i32_42 : BitVec 32 := 12032#32
  let v94 : BitVec 32 := Scalar.minsi v93 c12032_i32_42
  let v95 : BitVec 32 := Scalar.subi v93 v94
  let v96 : BitVec 32 := v95
  let c224_i32_1234 : BitVec 32 := 224#32
  let v2885 : BitVec 32 := Scalar.addi v96 c224_i32_1234
  let c255_i32_1235 : BitVec 32 := 255#32
  let v2886 : BitVec 32 := Scalar.andi v2885 c255_i32_1235
  v2886
def k0_mult732 (v93 : BitVec 32) : BitVec 32 :=
  let c12032_i32_42 : BitVec 32 := 12032#32
  let v94 : BitVec 32 := Scalar.minsi v93 c12032_i32_42
  let v95 : BitVec 32 := Scalar.subi v93 v94
  let v96 : BitVec 32 := v95
  let c224_i32_1237 : BitVec 32 := 224#32
  let v2892 : BitVec 32 := Scalar.addi v96 c224_i32_1237
  let c255_i32_1238 : BitVec 32 := 255#32
  let v2893 : BitVec 32 := Scalar.andi v2892 c255_i32_1238
  v2893
def k0_mult733 (v93 : BitVec 32) : BitVec 32 :=
  let c12032_i32_42 : BitVec 32 := 12032#32
  let v94 : BitVec 32 := Scalar.minsi v93 c12032_i32_42
  let v95 : BitVec 32 := Scalar.subi v93 v94
  let v96 : BitVec 32 := v95
  let c240_i32_1240 : BitVec 32 := 240#32
  let v2899 : BitVec 32 := Scalar.addi v96 c240_i32_1240
  let c255_i32_1241 : BitVec 32 := 255#32
  let v2900 : BitVec 32 := Scalar.andi v2899 c255_i32_1241
  v2900
def k0_mult734 (v93 : BitVec 32) : BitVec 32 :=
  let c12032_i32_42 : BitVec 32 := 12032#32
  let v94 : BitVec 32 := Scalar.minsi v93 c12032_i32_42
  let v95 : BitVec 32 := Scalar.subi v93 v94
  let v96 : BitVec 32 := v95
  let c240_i32_1243 : BitVec 32 := 240#32
  let v2906 : BitVec 32 := Scalar.addi v96 c240_i32_1243
  let c255_i32_1244 : BitVec 32 := 255#32
  let v2907 : BitVec 32 := Scalar.andi v2906 c255_i32_1244
  v2907
def k0_mult735 (v93 : BitVec 32) : BitVec 32 :=
  let c12032_i32_42 : BitVec 32 := 12032#32
  let v94 : BitVec 32 := Scalar.minsi v93 c12032_i32_42
  let v95 : BitVec 32 := Scalar.subi v93 v94
  let v96 : BitVec 32 := v95
  let c0_i32_1278 : BitVec 32 := 0#32
  let v2977 : BitVec 32 := Scalar.addi v96 c0_i32_1278
  let c255_i32_1279 : BitVec 32 := 255#32
  let v2978 : BitVec 32 := Scalar.andi v2977 c255_i32_1279
  v2978
def k0_off115 (v1_0 : BitVec 32) (k0_t6 : Fin (k0_t6_loop v1_0).trips) (v93 : BitVec 32) (c0_i32_1278 : BitVec 32) : Fin 3 → Nat :=
  let c0_i32_13 : BitVec 32 := 0#32
  let v15 : BitVec 32 := Scalar.subi v1_0 c0_i32_13
  let c1_i32_15 : BitVec 32 := 1#32
  let v17 : BitVec 32 := Scalar.divsi v15 c1_i32_15
  let v18 : BitVec 32 := Scalar.muli v17 c1_i32_15
  let v19 : BitVec 32 := Scalar.addi c0_i32_13 v18
  let c1_i32_17 : BitVec 32 := 1#32
  let arg22 : BitVec 32 := Scf.iv v19 c1_i32_17 k0_t6
  let c1_i32_32 : BitVec 32 := 1#32
  let v72 : BitVec 32 := Scalar.andi arg22 c1_i32_32
  let v2980 : Index := Scalar.indexCast v72
  let c12032_i32_42 : BitVec 32 := 12032#32
  let v94 : BitVec 32 := Scalar.minsi v93 c12032_i32_42
  let v95 : BitVec 32 := Scalar.subi v93 v94
  let v96 : BitVec 32 := v95
  let v2977 : BitVec 32 := Scalar.addi v96 c0_i32_1278
  let c255_i32_1279 : BitVec 32 := 255#32
  let v2978 : BitVec 32 := Scalar.andi v2977 c255_i32_1279
  let v2979 : BitVec 32 := v2978
  let v2981 : Index := Scalar.indexCast v2979
  let c2560 : Index := 2560#32
  ![v2980.toNat, v2981.toNat, 2560]
def k0_mult736 (v93 : BitVec 32) : BitVec 32 :=
  let c12032_i32_42 : BitVec 32 := 12032#32
  let v94 : BitVec 32 := Scalar.minsi v93 c12032_i32_42
  let v95 : BitVec 32 := Scalar.subi v93 v94
  let v96 : BitVec 32 := v95
  let c0_i32_1280 : BitVec 32 := 0#32
  let v2984 : BitVec 32 := Scalar.addi v96 c0_i32_1280
  let c255_i32_1281 : BitVec 32 := 255#32
  let v2985 : BitVec 32 := Scalar.andi v2984 c255_i32_1281
  v2985
def k0_off116 (v1_0 : BitVec 32) (k0_t6 : Fin (k0_t6_loop v1_0).trips) (v93 : BitVec 32) (c0_i32_1280 : BitVec 32) : Fin 3 → Nat :=
  let c0_i32_13 : BitVec 32 := 0#32
  let v15 : BitVec 32 := Scalar.subi v1_0 c0_i32_13
  let c1_i32_15 : BitVec 32 := 1#32
  let v17 : BitVec 32 := Scalar.divsi v15 c1_i32_15
  let v18 : BitVec 32 := Scalar.muli v17 c1_i32_15
  let v19 : BitVec 32 := Scalar.addi c0_i32_13 v18
  let c1_i32_17 : BitVec 32 := 1#32
  let arg22 : BitVec 32 := Scf.iv v19 c1_i32_17 k0_t6
  let c1_i32_32 : BitVec 32 := 1#32
  let v72 : BitVec 32 := Scalar.andi arg22 c1_i32_32
  let v2987 : Index := Scalar.indexCast v72
  let c12032_i32_42 : BitVec 32 := 12032#32
  let v94 : BitVec 32 := Scalar.minsi v93 c12032_i32_42
  let v95 : BitVec 32 := Scalar.subi v93 v94
  let v96 : BitVec 32 := v95
  let v2984 : BitVec 32 := Scalar.addi v96 c0_i32_1280
  let c255_i32_1281 : BitVec 32 := 255#32
  let v2985 : BitVec 32 := Scalar.andi v2984 c255_i32_1281
  let v2986 : BitVec 32 := v2985
  let v2988 : Index := Scalar.indexCast v2986
  let c2688 : Index := 2688#32
  ![v2987.toNat, v2988.toNat, 2688]
def k0_mult737 (v93 : BitVec 32) : BitVec 32 :=
  let c12032_i32_42 : BitVec 32 := 12032#32
  let v94 : BitVec 32 := Scalar.minsi v93 c12032_i32_42
  let v95 : BitVec 32 := Scalar.subi v93 v94
  let v96 : BitVec 32 := v95
  let c16_i32_1282 : BitVec 32 := 16#32
  let v2991 : BitVec 32 := Scalar.addi v96 c16_i32_1282
  let c255_i32_1283 : BitVec 32 := 255#32
  let v2992 : BitVec 32 := Scalar.andi v2991 c255_i32_1283
  v2992
def k0_mult738 (v93 : BitVec 32) : BitVec 32 :=
  let c12032_i32_42 : BitVec 32 := 12032#32
  let v94 : BitVec 32 := Scalar.minsi v93 c12032_i32_42
  let v95 : BitVec 32 := Scalar.subi v93 v94
  let v96 : BitVec 32 := v95
  let c16_i32_1285 : BitVec 32 := 16#32
  let v2998 : BitVec 32 := Scalar.addi v96 c16_i32_1285
  let c255_i32_1286 : BitVec 32 := 255#32
  let v2999 : BitVec 32 := Scalar.andi v2998 c255_i32_1286
  v2999
def k0_mult739 (v93 : BitVec 32) : BitVec 32 :=
  let c12032_i32_42 : BitVec 32 := 12032#32
  let v94 : BitVec 32 := Scalar.minsi v93 c12032_i32_42
  let v95 : BitVec 32 := Scalar.subi v93 v94
  let v96 : BitVec 32 := v95
  let c32_i32_1288 : BitVec 32 := 32#32
  let v3005 : BitVec 32 := Scalar.addi v96 c32_i32_1288
  let c255_i32_1289 : BitVec 32 := 255#32
  let v3006 : BitVec 32 := Scalar.andi v3005 c255_i32_1289
  v3006
def k0_mult740 (v93 : BitVec 32) : BitVec 32 :=
  let c12032_i32_42 : BitVec 32 := 12032#32
  let v94 : BitVec 32 := Scalar.minsi v93 c12032_i32_42
  let v95 : BitVec 32 := Scalar.subi v93 v94
  let v96 : BitVec 32 := v95
  let c32_i32_1291 : BitVec 32 := 32#32
  let v3012 : BitVec 32 := Scalar.addi v96 c32_i32_1291
  let c255_i32_1292 : BitVec 32 := 255#32
  let v3013 : BitVec 32 := Scalar.andi v3012 c255_i32_1292
  v3013
def k0_mult741 (v93 : BitVec 32) : BitVec 32 :=
  let c12032_i32_42 : BitVec 32 := 12032#32
  let v94 : BitVec 32 := Scalar.minsi v93 c12032_i32_42
  let v95 : BitVec 32 := Scalar.subi v93 v94
  let v96 : BitVec 32 := v95
  let c48_i32_1294 : BitVec 32 := 48#32
  let v3019 : BitVec 32 := Scalar.addi v96 c48_i32_1294
  let c255_i32_1295 : BitVec 32 := 255#32
  let v3020 : BitVec 32 := Scalar.andi v3019 c255_i32_1295
  v3020
def k0_mult742 (v93 : BitVec 32) : BitVec 32 :=
  let c12032_i32_42 : BitVec 32 := 12032#32
  let v94 : BitVec 32 := Scalar.minsi v93 c12032_i32_42
  let v95 : BitVec 32 := Scalar.subi v93 v94
  let v96 : BitVec 32 := v95
  let c48_i32_1297 : BitVec 32 := 48#32
  let v3026 : BitVec 32 := Scalar.addi v96 c48_i32_1297
  let c255_i32_1298 : BitVec 32 := 255#32
  let v3027 : BitVec 32 := Scalar.andi v3026 c255_i32_1298
  v3027
def k0_mult743 (v93 : BitVec 32) : BitVec 32 :=
  let c12032_i32_42 : BitVec 32 := 12032#32
  let v94 : BitVec 32 := Scalar.minsi v93 c12032_i32_42
  let v95 : BitVec 32 := Scalar.subi v93 v94
  let v96 : BitVec 32 := v95
  let c64_i32_1300 : BitVec 32 := 64#32
  let v3033 : BitVec 32 := Scalar.addi v96 c64_i32_1300
  let c255_i32_1301 : BitVec 32 := 255#32
  let v3034 : BitVec 32 := Scalar.andi v3033 c255_i32_1301
  v3034
def k0_mult744 (v93 : BitVec 32) : BitVec 32 :=
  let c12032_i32_42 : BitVec 32 := 12032#32
  let v94 : BitVec 32 := Scalar.minsi v93 c12032_i32_42
  let v95 : BitVec 32 := Scalar.subi v93 v94
  let v96 : BitVec 32 := v95
  let c64_i32_1303 : BitVec 32 := 64#32
  let v3040 : BitVec 32 := Scalar.addi v96 c64_i32_1303
  let c255_i32_1304 : BitVec 32 := 255#32
  let v3041 : BitVec 32 := Scalar.andi v3040 c255_i32_1304
  v3041
def k0_mult745 (v93 : BitVec 32) : BitVec 32 :=
  let c12032_i32_42 : BitVec 32 := 12032#32
  let v94 : BitVec 32 := Scalar.minsi v93 c12032_i32_42
  let v95 : BitVec 32 := Scalar.subi v93 v94
  let v96 : BitVec 32 := v95
  let c80_i32_1306 : BitVec 32 := 80#32
  let v3047 : BitVec 32 := Scalar.addi v96 c80_i32_1306
  let c255_i32_1307 : BitVec 32 := 255#32
  let v3048 : BitVec 32 := Scalar.andi v3047 c255_i32_1307
  v3048
def k0_mult746 (v93 : BitVec 32) : BitVec 32 :=
  let c12032_i32_42 : BitVec 32 := 12032#32
  let v94 : BitVec 32 := Scalar.minsi v93 c12032_i32_42
  let v95 : BitVec 32 := Scalar.subi v93 v94
  let v96 : BitVec 32 := v95
  let c80_i32_1309 : BitVec 32 := 80#32
  let v3054 : BitVec 32 := Scalar.addi v96 c80_i32_1309
  let c255_i32_1310 : BitVec 32 := 255#32
  let v3055 : BitVec 32 := Scalar.andi v3054 c255_i32_1310
  v3055
def k0_mult747 (v93 : BitVec 32) : BitVec 32 :=
  let c12032_i32_42 : BitVec 32 := 12032#32
  let v94 : BitVec 32 := Scalar.minsi v93 c12032_i32_42
  let v95 : BitVec 32 := Scalar.subi v93 v94
  let v96 : BitVec 32 := v95
  let c96_i32_1312 : BitVec 32 := 96#32
  let v3061 : BitVec 32 := Scalar.addi v96 c96_i32_1312
  let c255_i32_1313 : BitVec 32 := 255#32
  let v3062 : BitVec 32 := Scalar.andi v3061 c255_i32_1313
  v3062
def k0_mult748 (v93 : BitVec 32) : BitVec 32 :=
  let c12032_i32_42 : BitVec 32 := 12032#32
  let v94 : BitVec 32 := Scalar.minsi v93 c12032_i32_42
  let v95 : BitVec 32 := Scalar.subi v93 v94
  let v96 : BitVec 32 := v95
  let c96_i32_1315 : BitVec 32 := 96#32
  let v3068 : BitVec 32 := Scalar.addi v96 c96_i32_1315
  let c255_i32_1316 : BitVec 32 := 255#32
  let v3069 : BitVec 32 := Scalar.andi v3068 c255_i32_1316
  v3069
def k0_mult749 (v93 : BitVec 32) : BitVec 32 :=
  let c12032_i32_42 : BitVec 32 := 12032#32
  let v94 : BitVec 32 := Scalar.minsi v93 c12032_i32_42
  let v95 : BitVec 32 := Scalar.subi v93 v94
  let v96 : BitVec 32 := v95
  let c112_i32_1318 : BitVec 32 := 112#32
  let v3075 : BitVec 32 := Scalar.addi v96 c112_i32_1318
  let c255_i32_1319 : BitVec 32 := 255#32
  let v3076 : BitVec 32 := Scalar.andi v3075 c255_i32_1319
  v3076
def k0_mult750 (v93 : BitVec 32) : BitVec 32 :=
  let c12032_i32_42 : BitVec 32 := 12032#32
  let v94 : BitVec 32 := Scalar.minsi v93 c12032_i32_42
  let v95 : BitVec 32 := Scalar.subi v93 v94
  let v96 : BitVec 32 := v95
  let c112_i32_1321 : BitVec 32 := 112#32
  let v3082 : BitVec 32 := Scalar.addi v96 c112_i32_1321
  let c255_i32_1322 : BitVec 32 := 255#32
  let v3083 : BitVec 32 := Scalar.andi v3082 c255_i32_1322
  v3083
def k0_mult751 (v93 : BitVec 32) : BitVec 32 :=
  let c12032_i32_42 : BitVec 32 := 12032#32
  let v94 : BitVec 32 := Scalar.minsi v93 c12032_i32_42
  let v95 : BitVec 32 := Scalar.subi v93 v94
  let v96 : BitVec 32 := v95
  let c128_i32_1324 : BitVec 32 := 128#32
  let v3089 : BitVec 32 := Scalar.addi v96 c128_i32_1324
  let c255_i32_1325 : BitVec 32 := 255#32
  let v3090 : BitVec 32 := Scalar.andi v3089 c255_i32_1325
  v3090
def k0_mult752 (v93 : BitVec 32) : BitVec 32 :=
  let c12032_i32_42 : BitVec 32 := 12032#32
  let v94 : BitVec 32 := Scalar.minsi v93 c12032_i32_42
  let v95 : BitVec 32 := Scalar.subi v93 v94
  let v96 : BitVec 32 := v95
  let c128_i32_1327 : BitVec 32 := 128#32
  let v3096 : BitVec 32 := Scalar.addi v96 c128_i32_1327
  let c255_i32_1328 : BitVec 32 := 255#32
  let v3097 : BitVec 32 := Scalar.andi v3096 c255_i32_1328
  v3097
def k0_mult753 (v93 : BitVec 32) : BitVec 32 :=
  let c12032_i32_42 : BitVec 32 := 12032#32
  let v94 : BitVec 32 := Scalar.minsi v93 c12032_i32_42
  let v95 : BitVec 32 := Scalar.subi v93 v94
  let v96 : BitVec 32 := v95
  let c144_i32_1330 : BitVec 32 := 144#32
  let v3103 : BitVec 32 := Scalar.addi v96 c144_i32_1330
  let c255_i32_1331 : BitVec 32 := 255#32
  let v3104 : BitVec 32 := Scalar.andi v3103 c255_i32_1331
  v3104
def k0_mult754 (v93 : BitVec 32) : BitVec 32 :=
  let c12032_i32_42 : BitVec 32 := 12032#32
  let v94 : BitVec 32 := Scalar.minsi v93 c12032_i32_42
  let v95 : BitVec 32 := Scalar.subi v93 v94
  let v96 : BitVec 32 := v95
  let c144_i32_1333 : BitVec 32 := 144#32
  let v3110 : BitVec 32 := Scalar.addi v96 c144_i32_1333
  let c255_i32_1334 : BitVec 32 := 255#32
  let v3111 : BitVec 32 := Scalar.andi v3110 c255_i32_1334
  v3111
def k0_mult755 (v93 : BitVec 32) : BitVec 32 :=
  let c12032_i32_42 : BitVec 32 := 12032#32
  let v94 : BitVec 32 := Scalar.minsi v93 c12032_i32_42
  let v95 : BitVec 32 := Scalar.subi v93 v94
  let v96 : BitVec 32 := v95
  let c160_i32_1336 : BitVec 32 := 160#32
  let v3117 : BitVec 32 := Scalar.addi v96 c160_i32_1336
  let c255_i32_1337 : BitVec 32 := 255#32
  let v3118 : BitVec 32 := Scalar.andi v3117 c255_i32_1337
  v3118
def k0_mult756 (v93 : BitVec 32) : BitVec 32 :=
  let c12032_i32_42 : BitVec 32 := 12032#32
  let v94 : BitVec 32 := Scalar.minsi v93 c12032_i32_42
  let v95 : BitVec 32 := Scalar.subi v93 v94
  let v96 : BitVec 32 := v95
  let c160_i32_1339 : BitVec 32 := 160#32
  let v3124 : BitVec 32 := Scalar.addi v96 c160_i32_1339
  let c255_i32_1340 : BitVec 32 := 255#32
  let v3125 : BitVec 32 := Scalar.andi v3124 c255_i32_1340
  v3125
def k0_mult757 (v93 : BitVec 32) : BitVec 32 :=
  let c12032_i32_42 : BitVec 32 := 12032#32
  let v94 : BitVec 32 := Scalar.minsi v93 c12032_i32_42
  let v95 : BitVec 32 := Scalar.subi v93 v94
  let v96 : BitVec 32 := v95
  let c176_i32_1342 : BitVec 32 := 176#32
  let v3131 : BitVec 32 := Scalar.addi v96 c176_i32_1342
  let c255_i32_1343 : BitVec 32 := 255#32
  let v3132 : BitVec 32 := Scalar.andi v3131 c255_i32_1343
  v3132
def k0_mult758 (v93 : BitVec 32) : BitVec 32 :=
  let c12032_i32_42 : BitVec 32 := 12032#32
  let v94 : BitVec 32 := Scalar.minsi v93 c12032_i32_42
  let v95 : BitVec 32 := Scalar.subi v93 v94
  let v96 : BitVec 32 := v95
  let c176_i32_1345 : BitVec 32 := 176#32
  let v3138 : BitVec 32 := Scalar.addi v96 c176_i32_1345
  let c255_i32_1346 : BitVec 32 := 255#32
  let v3139 : BitVec 32 := Scalar.andi v3138 c255_i32_1346
  v3139
def k0_mult759 (v93 : BitVec 32) : BitVec 32 :=
  let c12032_i32_42 : BitVec 32 := 12032#32
  let v94 : BitVec 32 := Scalar.minsi v93 c12032_i32_42
  let v95 : BitVec 32 := Scalar.subi v93 v94
  let v96 : BitVec 32 := v95
  let c192_i32_1348 : BitVec 32 := 192#32
  let v3145 : BitVec 32 := Scalar.addi v96 c192_i32_1348
  let c255_i32_1349 : BitVec 32 := 255#32
  let v3146 : BitVec 32 := Scalar.andi v3145 c255_i32_1349
  v3146
def k0_mult760 (v93 : BitVec 32) : BitVec 32 :=
  let c12032_i32_42 : BitVec 32 := 12032#32
  let v94 : BitVec 32 := Scalar.minsi v93 c12032_i32_42
  let v95 : BitVec 32 := Scalar.subi v93 v94
  let v96 : BitVec 32 := v95
  let c192_i32_1351 : BitVec 32 := 192#32
  let v3152 : BitVec 32 := Scalar.addi v96 c192_i32_1351
  let c255_i32_1352 : BitVec 32 := 255#32
  let v3153 : BitVec 32 := Scalar.andi v3152 c255_i32_1352
  v3153
def k0_mult761 (v93 : BitVec 32) : BitVec 32 :=
  let c12032_i32_42 : BitVec 32 := 12032#32
  let v94 : BitVec 32 := Scalar.minsi v93 c12032_i32_42
  let v95 : BitVec 32 := Scalar.subi v93 v94
  let v96 : BitVec 32 := v95
  let c208_i32_1354 : BitVec 32 := 208#32
  let v3159 : BitVec 32 := Scalar.addi v96 c208_i32_1354
  let c255_i32_1355 : BitVec 32 := 255#32
  let v3160 : BitVec 32 := Scalar.andi v3159 c255_i32_1355
  v3160
def k0_mult762 (v93 : BitVec 32) : BitVec 32 :=
  let c12032_i32_42 : BitVec 32 := 12032#32
  let v94 : BitVec 32 := Scalar.minsi v93 c12032_i32_42
  let v95 : BitVec 32 := Scalar.subi v93 v94
  let v96 : BitVec 32 := v95
  let c208_i32_1357 : BitVec 32 := 208#32
  let v3166 : BitVec 32 := Scalar.addi v96 c208_i32_1357
  let c255_i32_1358 : BitVec 32 := 255#32
  let v3167 : BitVec 32 := Scalar.andi v3166 c255_i32_1358
  v3167
def k0_mult763 (v93 : BitVec 32) : BitVec 32 :=
  let c12032_i32_42 : BitVec 32 := 12032#32
  let v94 : BitVec 32 := Scalar.minsi v93 c12032_i32_42
  let v95 : BitVec 32 := Scalar.subi v93 v94
  let v96 : BitVec 32 := v95
  let c224_i32_1360 : BitVec 32 := 224#32
  let v3173 : BitVec 32 := Scalar.addi v96 c224_i32_1360
  let c255_i32_1361 : BitVec 32 := 255#32
  let v3174 : BitVec 32 := Scalar.andi v3173 c255_i32_1361
  v3174
def k0_mult764 (v93 : BitVec 32) : BitVec 32 :=
  let c12032_i32_42 : BitVec 32 := 12032#32
  let v94 : BitVec 32 := Scalar.minsi v93 c12032_i32_42
  let v95 : BitVec 32 := Scalar.subi v93 v94
  let v96 : BitVec 32 := v95
  let c224_i32_1363 : BitVec 32 := 224#32
  let v3180 : BitVec 32 := Scalar.addi v96 c224_i32_1363
  let c255_i32_1364 : BitVec 32 := 255#32
  let v3181 : BitVec 32 := Scalar.andi v3180 c255_i32_1364
  v3181
def k0_mult765 (v93 : BitVec 32) : BitVec 32 :=
  let c12032_i32_42 : BitVec 32 := 12032#32
  let v94 : BitVec 32 := Scalar.minsi v93 c12032_i32_42
  let v95 : BitVec 32 := Scalar.subi v93 v94
  let v96 : BitVec 32 := v95
  let c240_i32_1366 : BitVec 32 := 240#32
  let v3187 : BitVec 32 := Scalar.addi v96 c240_i32_1366
  let c255_i32_1367 : BitVec 32 := 255#32
  let v3188 : BitVec 32 := Scalar.andi v3187 c255_i32_1367
  v3188
def k0_mult766 (v93 : BitVec 32) : BitVec 32 :=
  let c12032_i32_42 : BitVec 32 := 12032#32
  let v94 : BitVec 32 := Scalar.minsi v93 c12032_i32_42
  let v95 : BitVec 32 := Scalar.subi v93 v94
  let v96 : BitVec 32 := v95
  let c240_i32_1369 : BitVec 32 := 240#32
  let v3194 : BitVec 32 := Scalar.addi v96 c240_i32_1369
  let c255_i32_1370 : BitVec 32 := 255#32
  let v3195 : BitVec 32 := Scalar.andi v3194 c255_i32_1370
  v3195
def k0_mult767 (v93 : BitVec 32) : BitVec 32 :=
  let c12032_i32_42 : BitVec 32 := 12032#32
  let v94 : BitVec 32 := Scalar.minsi v93 c12032_i32_42
  let v95 : BitVec 32 := Scalar.subi v93 v94
  let v96 : BitVec 32 := v95
  let c0_i32_1404 : BitVec 32 := 0#32
  let v3265 : BitVec 32 := Scalar.addi v96 c0_i32_1404
  let c255_i32_1405 : BitVec 32 := 255#32
  let v3266 : BitVec 32 := Scalar.andi v3265 c255_i32_1405
  v3266
def k0_off117 (v1_0 : BitVec 32) (k0_t6 : Fin (k0_t6_loop v1_0).trips) (v93 : BitVec 32) (c0_i32_1404 : BitVec 32) : Fin 3 → Nat :=
  let c0_i32_13 : BitVec 32 := 0#32
  let v15 : BitVec 32 := Scalar.subi v1_0 c0_i32_13
  let c1_i32_15 : BitVec 32 := 1#32
  let v17 : BitVec 32 := Scalar.divsi v15 c1_i32_15
  let v18 : BitVec 32 := Scalar.muli v17 c1_i32_15
  let v19 : BitVec 32 := Scalar.addi c0_i32_13 v18
  let c1_i32_17 : BitVec 32 := 1#32
  let arg22 : BitVec 32 := Scf.iv v19 c1_i32_17 k0_t6
  let c1_i32_32 : BitVec 32 := 1#32
  let v72 : BitVec 32 := Scalar.andi arg22 c1_i32_32
  let v3268 : Index := Scalar.indexCast v72
  let c12032_i32_42 : BitVec 32 := 12032#32
  let v94 : BitVec 32 := Scalar.minsi v93 c12032_i32_42
  let v95 : BitVec 32 := Scalar.subi v93 v94
  let v96 : BitVec 32 := v95
  let v3265 : BitVec 32 := Scalar.addi v96 c0_i32_1404
  let c255_i32_1405 : BitVec 32 := 255#32
  let v3266 : BitVec 32 := Scalar.andi v3265 c255_i32_1405
  let v3267 : BitVec 32 := v3266
  let v3269 : Index := Scalar.indexCast v3267
  let c2816 : Index := 2816#32
  ![v3268.toNat, v3269.toNat, 2816]
def k0_mult768 (v93 : BitVec 32) : BitVec 32 :=
  let c12032_i32_42 : BitVec 32 := 12032#32
  let v94 : BitVec 32 := Scalar.minsi v93 c12032_i32_42
  let v95 : BitVec 32 := Scalar.subi v93 v94
  let v96 : BitVec 32 := v95
  let c0_i32_1406 : BitVec 32 := 0#32
  let v3272 : BitVec 32 := Scalar.addi v96 c0_i32_1406
  let c255_i32_1407 : BitVec 32 := 255#32
  let v3273 : BitVec 32 := Scalar.andi v3272 c255_i32_1407
  v3273
def k0_off118 (v1_0 : BitVec 32) (k0_t6 : Fin (k0_t6_loop v1_0).trips) (v93 : BitVec 32) (c0_i32_1406 : BitVec 32) : Fin 3 → Nat :=
  let c0_i32_13 : BitVec 32 := 0#32
  let v15 : BitVec 32 := Scalar.subi v1_0 c0_i32_13
  let c1_i32_15 : BitVec 32 := 1#32
  let v17 : BitVec 32 := Scalar.divsi v15 c1_i32_15
  let v18 : BitVec 32 := Scalar.muli v17 c1_i32_15
  let v19 : BitVec 32 := Scalar.addi c0_i32_13 v18
  let c1_i32_17 : BitVec 32 := 1#32
  let arg22 : BitVec 32 := Scf.iv v19 c1_i32_17 k0_t6
  let c1_i32_32 : BitVec 32 := 1#32
  let v72 : BitVec 32 := Scalar.andi arg22 c1_i32_32
  let v3275 : Index := Scalar.indexCast v72
  let c12032_i32_42 : BitVec 32 := 12032#32
  let v94 : BitVec 32 := Scalar.minsi v93 c12032_i32_42
  let v95 : BitVec 32 := Scalar.subi v93 v94
  let v96 : BitVec 32 := v95
  let v3272 : BitVec 32 := Scalar.addi v96 c0_i32_1406
  let c255_i32_1407 : BitVec 32 := 255#32
  let v3273 : BitVec 32 := Scalar.andi v3272 c255_i32_1407
  let v3274 : BitVec 32 := v3273
  let v3276 : Index := Scalar.indexCast v3274
  let c2944 : Index := 2944#32
  ![v3275.toNat, v3276.toNat, 2944]
def k0_mult769 (v93 : BitVec 32) : BitVec 32 :=
  let c12032_i32_42 : BitVec 32 := 12032#32
  let v94 : BitVec 32 := Scalar.minsi v93 c12032_i32_42
  let v95 : BitVec 32 := Scalar.subi v93 v94
  let v96 : BitVec 32 := v95
  let c16_i32_1408 : BitVec 32 := 16#32
  let v3279 : BitVec 32 := Scalar.addi v96 c16_i32_1408
  let c255_i32_1409 : BitVec 32 := 255#32
  let v3280 : BitVec 32 := Scalar.andi v3279 c255_i32_1409
  v3280
def k0_mult770 (v93 : BitVec 32) : BitVec 32 :=
  let c12032_i32_42 : BitVec 32 := 12032#32
  let v94 : BitVec 32 := Scalar.minsi v93 c12032_i32_42
  let v95 : BitVec 32 := Scalar.subi v93 v94
  let v96 : BitVec 32 := v95
  let c16_i32_1411 : BitVec 32 := 16#32
  let v3286 : BitVec 32 := Scalar.addi v96 c16_i32_1411
  let c255_i32_1412 : BitVec 32 := 255#32
  let v3287 : BitVec 32 := Scalar.andi v3286 c255_i32_1412
  v3287
def k0_mult771 (v93 : BitVec 32) : BitVec 32 :=
  let c12032_i32_42 : BitVec 32 := 12032#32
  let v94 : BitVec 32 := Scalar.minsi v93 c12032_i32_42
  let v95 : BitVec 32 := Scalar.subi v93 v94
  let v96 : BitVec 32 := v95
  let c32_i32_1414 : BitVec 32 := 32#32
  let v3293 : BitVec 32 := Scalar.addi v96 c32_i32_1414
  let c255_i32_1415 : BitVec 32 := 255#32
  let v3294 : BitVec 32 := Scalar.andi v3293 c255_i32_1415
  v3294
def k0_mult772 (v93 : BitVec 32) : BitVec 32 :=
  let c12032_i32_42 : BitVec 32 := 12032#32
  let v94 : BitVec 32 := Scalar.minsi v93 c12032_i32_42
  let v95 : BitVec 32 := Scalar.subi v93 v94
  let v96 : BitVec 32 := v95
  let c32_i32_1417 : BitVec 32 := 32#32
  let v3300 : BitVec 32 := Scalar.addi v96 c32_i32_1417
  let c255_i32_1418 : BitVec 32 := 255#32
  let v3301 : BitVec 32 := Scalar.andi v3300 c255_i32_1418
  v3301
def k0_mult773 (v93 : BitVec 32) : BitVec 32 :=
  let c12032_i32_42 : BitVec 32 := 12032#32
  let v94 : BitVec 32 := Scalar.minsi v93 c12032_i32_42
  let v95 : BitVec 32 := Scalar.subi v93 v94
  let v96 : BitVec 32 := v95
  let c48_i32_1420 : BitVec 32 := 48#32
  let v3307 : BitVec 32 := Scalar.addi v96 c48_i32_1420
  let c255_i32_1421 : BitVec 32 := 255#32
  let v3308 : BitVec 32 := Scalar.andi v3307 c255_i32_1421
  v3308
def k0_mult774 (v93 : BitVec 32) : BitVec 32 :=
  let c12032_i32_42 : BitVec 32 := 12032#32
  let v94 : BitVec 32 := Scalar.minsi v93 c12032_i32_42
  let v95 : BitVec 32 := Scalar.subi v93 v94
  let v96 : BitVec 32 := v95
  let c48_i32_1423 : BitVec 32 := 48#32
  let v3314 : BitVec 32 := Scalar.addi v96 c48_i32_1423
  let c255_i32_1424 : BitVec 32 := 255#32
  let v3315 : BitVec 32 := Scalar.andi v3314 c255_i32_1424
  v3315
def k0_mult775 (v93 : BitVec 32) : BitVec 32 :=
  let c12032_i32_42 : BitVec 32 := 12032#32
  let v94 : BitVec 32 := Scalar.minsi v93 c12032_i32_42
  let v95 : BitVec 32 := Scalar.subi v93 v94
  let v96 : BitVec 32 := v95
  let c64_i32_1426 : BitVec 32 := 64#32
  let v3321 : BitVec 32 := Scalar.addi v96 c64_i32_1426
  let c255_i32_1427 : BitVec 32 := 255#32
  let v3322 : BitVec 32 := Scalar.andi v3321 c255_i32_1427
  v3322
def k0_mult776 (v93 : BitVec 32) : BitVec 32 :=
  let c12032_i32_42 : BitVec 32 := 12032#32
  let v94 : BitVec 32 := Scalar.minsi v93 c12032_i32_42
  let v95 : BitVec 32 := Scalar.subi v93 v94
  let v96 : BitVec 32 := v95
  let c64_i32_1429 : BitVec 32 := 64#32
  let v3328 : BitVec 32 := Scalar.addi v96 c64_i32_1429
  let c255_i32_1430 : BitVec 32 := 255#32
  let v3329 : BitVec 32 := Scalar.andi v3328 c255_i32_1430
  v3329
def k0_mult777 (v93 : BitVec 32) : BitVec 32 :=
  let c12032_i32_42 : BitVec 32 := 12032#32
  let v94 : BitVec 32 := Scalar.minsi v93 c12032_i32_42
  let v95 : BitVec 32 := Scalar.subi v93 v94
  let v96 : BitVec 32 := v95
  let c80_i32_1432 : BitVec 32 := 80#32
  let v3335 : BitVec 32 := Scalar.addi v96 c80_i32_1432
  let c255_i32_1433 : BitVec 32 := 255#32
  let v3336 : BitVec 32 := Scalar.andi v3335 c255_i32_1433
  v3336
def k0_mult778 (v93 : BitVec 32) : BitVec 32 :=
  let c12032_i32_42 : BitVec 32 := 12032#32
  let v94 : BitVec 32 := Scalar.minsi v93 c12032_i32_42
  let v95 : BitVec 32 := Scalar.subi v93 v94
  let v96 : BitVec 32 := v95
  let c80_i32_1435 : BitVec 32 := 80#32
  let v3342 : BitVec 32 := Scalar.addi v96 c80_i32_1435
  let c255_i32_1436 : BitVec 32 := 255#32
  let v3343 : BitVec 32 := Scalar.andi v3342 c255_i32_1436
  v3343
def k0_mult779 (v93 : BitVec 32) : BitVec 32 :=
  let c12032_i32_42 : BitVec 32 := 12032#32
  let v94 : BitVec 32 := Scalar.minsi v93 c12032_i32_42
  let v95 : BitVec 32 := Scalar.subi v93 v94
  let v96 : BitVec 32 := v95
  let c96_i32_1438 : BitVec 32 := 96#32
  let v3349 : BitVec 32 := Scalar.addi v96 c96_i32_1438
  let c255_i32_1439 : BitVec 32 := 255#32
  let v3350 : BitVec 32 := Scalar.andi v3349 c255_i32_1439
  v3350
def k0_mult780 (v93 : BitVec 32) : BitVec 32 :=
  let c12032_i32_42 : BitVec 32 := 12032#32
  let v94 : BitVec 32 := Scalar.minsi v93 c12032_i32_42
  let v95 : BitVec 32 := Scalar.subi v93 v94
  let v96 : BitVec 32 := v95
  let c96_i32_1441 : BitVec 32 := 96#32
  let v3356 : BitVec 32 := Scalar.addi v96 c96_i32_1441
  let c255_i32_1442 : BitVec 32 := 255#32
  let v3357 : BitVec 32 := Scalar.andi v3356 c255_i32_1442
  v3357
def k0_mult781 (v93 : BitVec 32) : BitVec 32 :=
  let c12032_i32_42 : BitVec 32 := 12032#32
  let v94 : BitVec 32 := Scalar.minsi v93 c12032_i32_42
  let v95 : BitVec 32 := Scalar.subi v93 v94
  let v96 : BitVec 32 := v95
  let c112_i32_1444 : BitVec 32 := 112#32
  let v3363 : BitVec 32 := Scalar.addi v96 c112_i32_1444
  let c255_i32_1445 : BitVec 32 := 255#32
  let v3364 : BitVec 32 := Scalar.andi v3363 c255_i32_1445
  v3364
def k0_mult782 (v93 : BitVec 32) : BitVec 32 :=
  let c12032_i32_42 : BitVec 32 := 12032#32
  let v94 : BitVec 32 := Scalar.minsi v93 c12032_i32_42
  let v95 : BitVec 32 := Scalar.subi v93 v94
  let v96 : BitVec 32 := v95
  let c112_i32_1447 : BitVec 32 := 112#32
  let v3370 : BitVec 32 := Scalar.addi v96 c112_i32_1447
  let c255_i32_1448 : BitVec 32 := 255#32
  let v3371 : BitVec 32 := Scalar.andi v3370 c255_i32_1448
  v3371
def k0_mult783 (v93 : BitVec 32) : BitVec 32 :=
  let c12032_i32_42 : BitVec 32 := 12032#32
  let v94 : BitVec 32 := Scalar.minsi v93 c12032_i32_42
  let v95 : BitVec 32 := Scalar.subi v93 v94
  let v96 : BitVec 32 := v95
  let c128_i32_1450 : BitVec 32 := 128#32
  let v3377 : BitVec 32 := Scalar.addi v96 c128_i32_1450
  let c255_i32_1451 : BitVec 32 := 255#32
  let v3378 : BitVec 32 := Scalar.andi v3377 c255_i32_1451
  v3378
def k0_mult784 (v93 : BitVec 32) : BitVec 32 :=
  let c12032_i32_42 : BitVec 32 := 12032#32
  let v94 : BitVec 32 := Scalar.minsi v93 c12032_i32_42
  let v95 : BitVec 32 := Scalar.subi v93 v94
  let v96 : BitVec 32 := v95
  let c128_i32_1453 : BitVec 32 := 128#32
  let v3384 : BitVec 32 := Scalar.addi v96 c128_i32_1453
  let c255_i32_1454 : BitVec 32 := 255#32
  let v3385 : BitVec 32 := Scalar.andi v3384 c255_i32_1454
  v3385
def k0_mult785 (v93 : BitVec 32) : BitVec 32 :=
  let c12032_i32_42 : BitVec 32 := 12032#32
  let v94 : BitVec 32 := Scalar.minsi v93 c12032_i32_42
  let v95 : BitVec 32 := Scalar.subi v93 v94
  let v96 : BitVec 32 := v95
  let c144_i32_1456 : BitVec 32 := 144#32
  let v3391 : BitVec 32 := Scalar.addi v96 c144_i32_1456
  let c255_i32_1457 : BitVec 32 := 255#32
  let v3392 : BitVec 32 := Scalar.andi v3391 c255_i32_1457
  v3392
def k0_mult786 (v93 : BitVec 32) : BitVec 32 :=
  let c12032_i32_42 : BitVec 32 := 12032#32
  let v94 : BitVec 32 := Scalar.minsi v93 c12032_i32_42
  let v95 : BitVec 32 := Scalar.subi v93 v94
  let v96 : BitVec 32 := v95
  let c144_i32_1459 : BitVec 32 := 144#32
  let v3398 : BitVec 32 := Scalar.addi v96 c144_i32_1459
  let c255_i32_1460 : BitVec 32 := 255#32
  let v3399 : BitVec 32 := Scalar.andi v3398 c255_i32_1460
  v3399
def k0_mult787 (v93 : BitVec 32) : BitVec 32 :=
  let c12032_i32_42 : BitVec 32 := 12032#32
  let v94 : BitVec 32 := Scalar.minsi v93 c12032_i32_42
  let v95 : BitVec 32 := Scalar.subi v93 v94
  let v96 : BitVec 32 := v95
  let c160_i32_1462 : BitVec 32 := 160#32
  let v3405 : BitVec 32 := Scalar.addi v96 c160_i32_1462
  let c255_i32_1463 : BitVec 32 := 255#32
  let v3406 : BitVec 32 := Scalar.andi v3405 c255_i32_1463
  v3406
def k0_mult788 (v93 : BitVec 32) : BitVec 32 :=
  let c12032_i32_42 : BitVec 32 := 12032#32
  let v94 : BitVec 32 := Scalar.minsi v93 c12032_i32_42
  let v95 : BitVec 32 := Scalar.subi v93 v94
  let v96 : BitVec 32 := v95
  let c160_i32_1465 : BitVec 32 := 160#32
  let v3412 : BitVec 32 := Scalar.addi v96 c160_i32_1465
  let c255_i32_1466 : BitVec 32 := 255#32
  let v3413 : BitVec 32 := Scalar.andi v3412 c255_i32_1466
  v3413
def k0_mult789 (v93 : BitVec 32) : BitVec 32 :=
  let c12032_i32_42 : BitVec 32 := 12032#32
  let v94 : BitVec 32 := Scalar.minsi v93 c12032_i32_42
  let v95 : BitVec 32 := Scalar.subi v93 v94
  let v96 : BitVec 32 := v95
  let c176_i32_1468 : BitVec 32 := 176#32
  let v3419 : BitVec 32 := Scalar.addi v96 c176_i32_1468
  let c255_i32_1469 : BitVec 32 := 255#32
  let v3420 : BitVec 32 := Scalar.andi v3419 c255_i32_1469
  v3420
def k0_mult790 (v93 : BitVec 32) : BitVec 32 :=
  let c12032_i32_42 : BitVec 32 := 12032#32
  let v94 : BitVec 32 := Scalar.minsi v93 c12032_i32_42
  let v95 : BitVec 32 := Scalar.subi v93 v94
  let v96 : BitVec 32 := v95
  let c176_i32_1471 : BitVec 32 := 176#32
  let v3426 : BitVec 32 := Scalar.addi v96 c176_i32_1471
  let c255_i32_1472 : BitVec 32 := 255#32
  let v3427 : BitVec 32 := Scalar.andi v3426 c255_i32_1472
  v3427
def k0_mult791 (v93 : BitVec 32) : BitVec 32 :=
  let c12032_i32_42 : BitVec 32 := 12032#32
  let v94 : BitVec 32 := Scalar.minsi v93 c12032_i32_42
  let v95 : BitVec 32 := Scalar.subi v93 v94
  let v96 : BitVec 32 := v95
  let c192_i32_1474 : BitVec 32 := 192#32
  let v3433 : BitVec 32 := Scalar.addi v96 c192_i32_1474
  let c255_i32_1475 : BitVec 32 := 255#32
  let v3434 : BitVec 32 := Scalar.andi v3433 c255_i32_1475
  v3434
def k0_mult792 (v93 : BitVec 32) : BitVec 32 :=
  let c12032_i32_42 : BitVec 32 := 12032#32
  let v94 : BitVec 32 := Scalar.minsi v93 c12032_i32_42
  let v95 : BitVec 32 := Scalar.subi v93 v94
  let v96 : BitVec 32 := v95
  let c192_i32_1477 : BitVec 32 := 192#32
  let v3440 : BitVec 32 := Scalar.addi v96 c192_i32_1477
  let c255_i32_1478 : BitVec 32 := 255#32
  let v3441 : BitVec 32 := Scalar.andi v3440 c255_i32_1478
  v3441
def k0_mult793 (v93 : BitVec 32) : BitVec 32 :=
  let c12032_i32_42 : BitVec 32 := 12032#32
  let v94 : BitVec 32 := Scalar.minsi v93 c12032_i32_42
  let v95 : BitVec 32 := Scalar.subi v93 v94
  let v96 : BitVec 32 := v95
  let c208_i32_1480 : BitVec 32 := 208#32
  let v3447 : BitVec 32 := Scalar.addi v96 c208_i32_1480
  let c255_i32_1481 : BitVec 32 := 255#32
  let v3448 : BitVec 32 := Scalar.andi v3447 c255_i32_1481
  v3448
def k0_mult794 (v93 : BitVec 32) : BitVec 32 :=
  let c12032_i32_42 : BitVec 32 := 12032#32
  let v94 : BitVec 32 := Scalar.minsi v93 c12032_i32_42
  let v95 : BitVec 32 := Scalar.subi v93 v94
  let v96 : BitVec 32 := v95
  let c208_i32_1483 : BitVec 32 := 208#32
  let v3454 : BitVec 32 := Scalar.addi v96 c208_i32_1483
  let c255_i32_1484 : BitVec 32 := 255#32
  let v3455 : BitVec 32 := Scalar.andi v3454 c255_i32_1484
  v3455
def k0_mult795 (v93 : BitVec 32) : BitVec 32 :=
  let c12032_i32_42 : BitVec 32 := 12032#32
  let v94 : BitVec 32 := Scalar.minsi v93 c12032_i32_42
  let v95 : BitVec 32 := Scalar.subi v93 v94
  let v96 : BitVec 32 := v95
  let c224_i32_1486 : BitVec 32 := 224#32
  let v3461 : BitVec 32 := Scalar.addi v96 c224_i32_1486
  let c255_i32_1487 : BitVec 32 := 255#32
  let v3462 : BitVec 32 := Scalar.andi v3461 c255_i32_1487
  v3462
def k0_mult796 (v93 : BitVec 32) : BitVec 32 :=
  let c12032_i32_42 : BitVec 32 := 12032#32
  let v94 : BitVec 32 := Scalar.minsi v93 c12032_i32_42
  let v95 : BitVec 32 := Scalar.subi v93 v94
  let v96 : BitVec 32 := v95
  let c224_i32_1489 : BitVec 32 := 224#32
  let v3468 : BitVec 32 := Scalar.addi v96 c224_i32_1489
  let c255_i32_1490 : BitVec 32 := 255#32
  let v3469 : BitVec 32 := Scalar.andi v3468 c255_i32_1490
  v3469
def k0_mult797 (v93 : BitVec 32) : BitVec 32 :=
  let c12032_i32_42 : BitVec 32 := 12032#32
  let v94 : BitVec 32 := Scalar.minsi v93 c12032_i32_42
  let v95 : BitVec 32 := Scalar.subi v93 v94
  let v96 : BitVec 32 := v95
  let c240_i32_1492 : BitVec 32 := 240#32
  let v3475 : BitVec 32 := Scalar.addi v96 c240_i32_1492
  let c255_i32_1493 : BitVec 32 := 255#32
  let v3476 : BitVec 32 := Scalar.andi v3475 c255_i32_1493
  v3476
def k0_mult798 (v93 : BitVec 32) : BitVec 32 :=
  let c12032_i32_42 : BitVec 32 := 12032#32
  let v94 : BitVec 32 := Scalar.minsi v93 c12032_i32_42
  let v95 : BitVec 32 := Scalar.subi v93 v94
  let v96 : BitVec 32 := v95
  let c240_i32_1495 : BitVec 32 := 240#32
  let v3482 : BitVec 32 := Scalar.addi v96 c240_i32_1495
  let c255_i32_1496 : BitVec 32 := 255#32
  let v3483 : BitVec 32 := Scalar.andi v3482 c255_i32_1496
  v3483

def k0_chk25_0 (v1_0 : BitVec 32) (k0_t6 : Fin (k0_t6_loop v1_0).trips) (v93 : BitVec 32) : Prop :=
  (16 ∣ (k0_mult414 v93).toNat) ∧
  (16 ∣ (k0_mult415 v93).toNat) ∧
  (∀ (r : Fin 16), ∀ a, (k0_off95 v1_0 k0_t6 v93 (BitVec.ofNat 32 (16 * r.val))) a + S1x16x128.size a ≤ S2x256x3072.size a) ∧
  (16 ∣ (k0_mult416 v93).toNat) ∧
  (∀ (r : Fin 16), ∀ a, (k0_off96 v1_0 k0_t6 v93 (BitVec.ofNat 32 (16 * r.val))) a + S1x16x128.size a ≤ S2x256x3072.size a) ∧
  (16 ∣ (k0_mult417 v93).toNat) ∧
  (16 ∣ (k0_mult418 v93).toNat) ∧
  (16 ∣ (k0_mult419 v93).toNat) ∧
  (16 ∣ (k0_mult420 v93).toNat) ∧
  (16 ∣ (k0_mult421 v93).toNat) ∧
  (16 ∣ (k0_mult422 v93).toNat) ∧
  (16 ∣ (k0_mult423 v93).toNat) ∧
  (16 ∣ (k0_mult424 v93).toNat) ∧
  (16 ∣ (k0_mult425 v93).toNat) ∧
  (16 ∣ (k0_mult426 v93).toNat) ∧
  (16 ∣ (k0_mult427 v93).toNat) ∧
  (16 ∣ (k0_mult428 v93).toNat) ∧
  (16 ∣ (k0_mult429 v93).toNat) ∧
  (16 ∣ (k0_mult430 v93).toNat) ∧
  (16 ∣ (k0_mult431 v93).toNat) ∧
  (16 ∣ (k0_mult432 v93).toNat) ∧
  (16 ∣ (k0_mult433 v93).toNat) ∧
  (16 ∣ (k0_mult434 v93).toNat) ∧
  (16 ∣ (k0_mult435 v93).toNat) ∧
  (16 ∣ (k0_mult436 v93).toNat) ∧
  (16 ∣ (k0_mult437 v93).toNat) ∧
  (16 ∣ (k0_mult438 v93).toNat) ∧
  (16 ∣ (k0_mult439 v93).toNat) ∧
  (16 ∣ (k0_mult440 v93).toNat) ∧
  (16 ∣ (k0_mult441 v93).toNat) ∧
  (16 ∣ (k0_mult442 v93).toNat) ∧
  (16 ∣ (k0_mult443 v93).toNat)
def k0_chk25_1 (v1_0 : BitVec 32) (k0_t6 : Fin (k0_t6_loop v1_0).trips) (v93 : BitVec 32) : Prop :=
  (16 ∣ (k0_mult444 v93).toNat) ∧
  (16 ∣ (k0_mult445 v93).toNat) ∧
  (16 ∣ (k0_mult446 v93).toNat) ∧
  (16 ∣ (k0_mult447 v93).toNat) ∧
  (∀ (r : Fin 16), ∀ a, (k0_off97 v1_0 k0_t6 v93 (BitVec.ofNat 32 (16 * r.val))) a + S1x16x128.size a ≤ S2x256x3072.size a) ∧
  (16 ∣ (k0_mult448 v93).toNat) ∧
  (∀ (r : Fin 16), ∀ a, (k0_off98 v1_0 k0_t6 v93 (BitVec.ofNat 32 (16 * r.val))) a + S1x16x128.size a ≤ S2x256x3072.size a) ∧
  (16 ∣ (k0_mult449 v93).toNat) ∧
  (16 ∣ (k0_mult450 v93).toNat) ∧
  (16 ∣ (k0_mult451 v93).toNat) ∧
  (16 ∣ (k0_mult452 v93).toNat) ∧
  (16 ∣ (k0_mult453 v93).toNat) ∧
  (16 ∣ (k0_mult454 v93).toNat) ∧
  (16 ∣ (k0_mult455 v93).toNat) ∧
  (16 ∣ (k0_mult456 v93).toNat) ∧
  (16 ∣ (k0_mult457 v93).toNat) ∧
  (16 ∣ (k0_mult458 v93).toNat) ∧
  (16 ∣ (k0_mult459 v93).toNat) ∧
  (16 ∣ (k0_mult460 v93).toNat) ∧
  (16 ∣ (k0_mult461 v93).toNat) ∧
  (16 ∣ (k0_mult462 v93).toNat) ∧
  (16 ∣ (k0_mult463 v93).toNat) ∧
  (16 ∣ (k0_mult464 v93).toNat) ∧
  (16 ∣ (k0_mult465 v93).toNat) ∧
  (16 ∣ (k0_mult466 v93).toNat) ∧
  (16 ∣ (k0_mult467 v93).toNat) ∧
  (16 ∣ (k0_mult468 v93).toNat) ∧
  (16 ∣ (k0_mult469 v93).toNat) ∧
  (16 ∣ (k0_mult470 v93).toNat) ∧
  (16 ∣ (k0_mult471 v93).toNat) ∧
  (16 ∣ (k0_mult472 v93).toNat) ∧
  (16 ∣ (k0_mult473 v93).toNat)
def k0_chk25_2 (v1_0 : BitVec 32) (k0_t6 : Fin (k0_t6_loop v1_0).trips) (v93 : BitVec 32) : Prop :=
  (16 ∣ (k0_mult474 v93).toNat) ∧
  (16 ∣ (k0_mult475 v93).toNat) ∧
  (16 ∣ (k0_mult476 v93).toNat) ∧
  (16 ∣ (k0_mult477 v93).toNat) ∧
  (16 ∣ (k0_mult478 v93).toNat) ∧
  (16 ∣ (k0_mult479 v93).toNat) ∧
  (∀ (r : Fin 16), ∀ a, (k0_off99 v1_0 k0_t6 v93 (BitVec.ofNat 32 (16 * r.val))) a + S1x16x128.size a ≤ S2x256x3072.size a) ∧
  (16 ∣ (k0_mult480 v93).toNat) ∧
  (∀ (r : Fin 16), ∀ a, (k0_off100 v1_0 k0_t6 v93 (BitVec.ofNat 32 (16 * r.val))) a + S1x16x128.size a ≤ S2x256x3072.size a) ∧
  (16 ∣ (k0_mult481 v93).toNat) ∧
  (16 ∣ (k0_mult482 v93).toNat) ∧
  (16 ∣ (k0_mult483 v93).toNat) ∧
  (16 ∣ (k0_mult484 v93).toNat) ∧
  (16 ∣ (k0_mult485 v93).toNat) ∧
  (16 ∣ (k0_mult486 v93).toNat) ∧
  (16 ∣ (k0_mult487 v93).toNat) ∧
  (16 ∣ (k0_mult488 v93).toNat) ∧
  (16 ∣ (k0_mult489 v93).toNat) ∧
  (16 ∣ (k0_mult490 v93).toNat) ∧
  (16 ∣ (k0_mult491 v93).toNat) ∧
  (16 ∣ (k0_mult492 v93).toNat) ∧
  (16 ∣ (k0_mult493 v93).toNat) ∧
  (16 ∣ (k0_mult494 v93).toNat) ∧
  (16 ∣ (k0_mult495 v93).toNat) ∧
  (16 ∣ (k0_mult496 v93).toNat) ∧
  (16 ∣ (k0_mult497 v93).toNat) ∧
  (16 ∣ (k0_mult498 v93).toNat) ∧
  (16 ∣ (k0_mult499 v93).toNat) ∧
  (16 ∣ (k0_mult500 v93).toNat) ∧
  (16 ∣ (k0_mult501 v93).toNat) ∧
  (16 ∣ (k0_mult502 v93).toNat) ∧
  (16 ∣ (k0_mult503 v93).toNat)
def k0_chk25_3 (v1_0 : BitVec 32) (k0_t6 : Fin (k0_t6_loop v1_0).trips) (v93 : BitVec 32) : Prop :=
  (16 ∣ (k0_mult504 v93).toNat) ∧
  (16 ∣ (k0_mult505 v93).toNat) ∧
  (16 ∣ (k0_mult506 v93).toNat) ∧
  (16 ∣ (k0_mult507 v93).toNat) ∧
  (16 ∣ (k0_mult508 v93).toNat) ∧
  (16 ∣ (k0_mult509 v93).toNat) ∧
  (16 ∣ (k0_mult510 v93).toNat) ∧
  (16 ∣ (k0_mult511 v93).toNat) ∧
  (∀ (r : Fin 16), ∀ a, (k0_off101 v1_0 k0_t6 v93 (BitVec.ofNat 32 (16 * r.val))) a + S1x16x128.size a ≤ S2x256x3072.size a) ∧
  (16 ∣ (k0_mult512 v93).toNat) ∧
  (∀ (r : Fin 16), ∀ a, (k0_off102 v1_0 k0_t6 v93 (BitVec.ofNat 32 (16 * r.val))) a + S1x16x128.size a ≤ S2x256x3072.size a) ∧
  (16 ∣ (k0_mult513 v93).toNat) ∧
  (16 ∣ (k0_mult514 v93).toNat) ∧
  (16 ∣ (k0_mult515 v93).toNat) ∧
  (16 ∣ (k0_mult516 v93).toNat) ∧
  (16 ∣ (k0_mult517 v93).toNat) ∧
  (16 ∣ (k0_mult518 v93).toNat) ∧
  (16 ∣ (k0_mult519 v93).toNat) ∧
  (16 ∣ (k0_mult520 v93).toNat) ∧
  (16 ∣ (k0_mult521 v93).toNat) ∧
  (16 ∣ (k0_mult522 v93).toNat) ∧
  (16 ∣ (k0_mult523 v93).toNat) ∧
  (16 ∣ (k0_mult524 v93).toNat) ∧
  (16 ∣ (k0_mult525 v93).toNat) ∧
  (16 ∣ (k0_mult526 v93).toNat) ∧
  (16 ∣ (k0_mult527 v93).toNat) ∧
  (16 ∣ (k0_mult528 v93).toNat) ∧
  (16 ∣ (k0_mult529 v93).toNat) ∧
  (16 ∣ (k0_mult530 v93).toNat) ∧
  (16 ∣ (k0_mult531 v93).toNat) ∧
  (16 ∣ (k0_mult532 v93).toNat) ∧
  (16 ∣ (k0_mult533 v93).toNat)
def k0_chk25_4 (v1_0 : BitVec 32) (k0_t6 : Fin (k0_t6_loop v1_0).trips) (v93 : BitVec 32) : Prop :=
  (16 ∣ (k0_mult534 v93).toNat) ∧
  (16 ∣ (k0_mult535 v93).toNat) ∧
  (16 ∣ (k0_mult536 v93).toNat) ∧
  (16 ∣ (k0_mult537 v93).toNat) ∧
  (16 ∣ (k0_mult538 v93).toNat) ∧
  (16 ∣ (k0_mult539 v93).toNat) ∧
  (16 ∣ (k0_mult540 v93).toNat) ∧
  (16 ∣ (k0_mult541 v93).toNat) ∧
  (16 ∣ (k0_mult542 v93).toNat) ∧
  (16 ∣ (k0_mult543 v93).toNat) ∧
  (∀ (r : Fin 16), ∀ a, (k0_off103 v1_0 k0_t6 v93 (BitVec.ofNat 32 (16 * r.val))) a + S1x16x128.size a ≤ S2x256x3072.size a) ∧
  (16 ∣ (k0_mult544 v93).toNat) ∧
  (∀ (r : Fin 16), ∀ a, (k0_off104 v1_0 k0_t6 v93 (BitVec.ofNat 32 (16 * r.val))) a + S1x16x128.size a ≤ S2x256x3072.size a) ∧
  (16 ∣ (k0_mult545 v93).toNat) ∧
  (16 ∣ (k0_mult546 v93).toNat) ∧
  (16 ∣ (k0_mult547 v93).toNat) ∧
  (16 ∣ (k0_mult548 v93).toNat) ∧
  (16 ∣ (k0_mult549 v93).toNat) ∧
  (16 ∣ (k0_mult550 v93).toNat) ∧
  (16 ∣ (k0_mult551 v93).toNat) ∧
  (16 ∣ (k0_mult552 v93).toNat) ∧
  (16 ∣ (k0_mult553 v93).toNat) ∧
  (16 ∣ (k0_mult554 v93).toNat) ∧
  (16 ∣ (k0_mult555 v93).toNat) ∧
  (16 ∣ (k0_mult556 v93).toNat) ∧
  (16 ∣ (k0_mult557 v93).toNat) ∧
  (16 ∣ (k0_mult558 v93).toNat) ∧
  (16 ∣ (k0_mult559 v93).toNat) ∧
  (16 ∣ (k0_mult560 v93).toNat) ∧
  (16 ∣ (k0_mult561 v93).toNat) ∧
  (16 ∣ (k0_mult562 v93).toNat) ∧
  (16 ∣ (k0_mult563 v93).toNat)
def k0_chk25_5 (v1_0 : BitVec 32) (k0_t6 : Fin (k0_t6_loop v1_0).trips) (v93 : BitVec 32) : Prop :=
  (16 ∣ (k0_mult564 v93).toNat) ∧
  (16 ∣ (k0_mult565 v93).toNat) ∧
  (16 ∣ (k0_mult566 v93).toNat) ∧
  (16 ∣ (k0_mult567 v93).toNat) ∧
  (16 ∣ (k0_mult568 v93).toNat) ∧
  (16 ∣ (k0_mult569 v93).toNat) ∧
  (16 ∣ (k0_mult570 v93).toNat) ∧
  (16 ∣ (k0_mult571 v93).toNat) ∧
  (16 ∣ (k0_mult572 v93).toNat) ∧
  (16 ∣ (k0_mult573 v93).toNat) ∧
  (16 ∣ (k0_mult574 v93).toNat) ∧
  (16 ∣ (k0_mult575 v93).toNat) ∧
  (∀ (r : Fin 16), ∀ a, (k0_off105 v1_0 k0_t6 v93 (BitVec.ofNat 32 (16 * r.val))) a + S1x16x128.size a ≤ S2x256x3072.size a) ∧
  (16 ∣ (k0_mult576 v93).toNat) ∧
  (∀ (r : Fin 16), ∀ a, (k0_off106 v1_0 k0_t6 v93 (BitVec.ofNat 32 (16 * r.val))) a + S1x16x128.size a ≤ S2x256x3072.size a) ∧
  (16 ∣ (k0_mult577 v93).toNat) ∧
  (16 ∣ (k0_mult578 v93).toNat) ∧
  (16 ∣ (k0_mult579 v93).toNat) ∧
  (16 ∣ (k0_mult580 v93).toNat) ∧
  (16 ∣ (k0_mult581 v93).toNat) ∧
  (16 ∣ (k0_mult582 v93).toNat) ∧
  (16 ∣ (k0_mult583 v93).toNat) ∧
  (16 ∣ (k0_mult584 v93).toNat) ∧
  (16 ∣ (k0_mult585 v93).toNat) ∧
  (16 ∣ (k0_mult586 v93).toNat) ∧
  (16 ∣ (k0_mult587 v93).toNat) ∧
  (16 ∣ (k0_mult588 v93).toNat) ∧
  (16 ∣ (k0_mult589 v93).toNat) ∧
  (16 ∣ (k0_mult590 v93).toNat) ∧
  (16 ∣ (k0_mult591 v93).toNat) ∧
  (16 ∣ (k0_mult592 v93).toNat) ∧
  (16 ∣ (k0_mult593 v93).toNat)
def k0_chk25_6 (v1_0 : BitVec 32) (k0_t6 : Fin (k0_t6_loop v1_0).trips) (v93 : BitVec 32) : Prop :=
  (16 ∣ (k0_mult594 v93).toNat) ∧
  (16 ∣ (k0_mult595 v93).toNat) ∧
  (16 ∣ (k0_mult596 v93).toNat) ∧
  (16 ∣ (k0_mult597 v93).toNat) ∧
  (16 ∣ (k0_mult598 v93).toNat) ∧
  (16 ∣ (k0_mult599 v93).toNat) ∧
  (16 ∣ (k0_mult600 v93).toNat) ∧
  (16 ∣ (k0_mult601 v93).toNat) ∧
  (16 ∣ (k0_mult602 v93).toNat) ∧
  (16 ∣ (k0_mult603 v93).toNat) ∧
  (16 ∣ (k0_mult604 v93).toNat) ∧
  (16 ∣ (k0_mult605 v93).toNat) ∧
  (16 ∣ (k0_mult606 v93).toNat) ∧
  (16 ∣ (k0_mult607 v93).toNat) ∧
  (∀ (r : Fin 16), ∀ a, (k0_off107 v1_0 k0_t6 v93 (BitVec.ofNat 32 (16 * r.val))) a + S1x16x128.size a ≤ S2x256x3072.size a) ∧
  (16 ∣ (k0_mult608 v93).toNat) ∧
  (∀ (r : Fin 16), ∀ a, (k0_off108 v1_0 k0_t6 v93 (BitVec.ofNat 32 (16 * r.val))) a + S1x16x128.size a ≤ S2x256x3072.size a) ∧
  (16 ∣ (k0_mult609 v93).toNat) ∧
  (16 ∣ (k0_mult610 v93).toNat) ∧
  (16 ∣ (k0_mult611 v93).toNat) ∧
  (16 ∣ (k0_mult612 v93).toNat) ∧
  (16 ∣ (k0_mult613 v93).toNat) ∧
  (16 ∣ (k0_mult614 v93).toNat) ∧
  (16 ∣ (k0_mult615 v93).toNat) ∧
  (16 ∣ (k0_mult616 v93).toNat) ∧
  (16 ∣ (k0_mult617 v93).toNat) ∧
  (16 ∣ (k0_mult618 v93).toNat) ∧
  (16 ∣ (k0_mult619 v93).toNat) ∧
  (16 ∣ (k0_mult620 v93).toNat) ∧
  (16 ∣ (k0_mult621 v93).toNat) ∧
  (16 ∣ (k0_mult622 v93).toNat) ∧
  (16 ∣ (k0_mult623 v93).toNat)
def k0_chk25_7 (v1_0 : BitVec 32) (k0_t6 : Fin (k0_t6_loop v1_0).trips) (v93 : BitVec 32) : Prop :=
  (16 ∣ (k0_mult624 v93).toNat) ∧
  (16 ∣ (k0_mult625 v93).toNat) ∧
  (16 ∣ (k0_mult626 v93).toNat) ∧
  (16 ∣ (k0_mult627 v93).toNat) ∧
  (16 ∣ (k0_mult628 v93).toNat) ∧
  (16 ∣ (k0_mult629 v93).toNat) ∧
  (16 ∣ (k0_mult630 v93).toNat) ∧
  (16 ∣ (k0_mult631 v93).toNat) ∧
  (16 ∣ (k0_mult632 v93).toNat) ∧
  (16 ∣ (k0_mult633 v93).toNat) ∧
  (16 ∣ (k0_mult634 v93).toNat) ∧
  (16 ∣ (k0_mult635 v93).toNat) ∧
  (16 ∣ (k0_mult636 v93).toNat) ∧
  (16 ∣ (k0_mult637 v93).toNat) ∧
  (16 ∣ (k0_mult638 v93).toNat) ∧
  (16 ∣ (k0_mult639 v93).toNat) ∧
  (∀ (r : Fin 16), ∀ a, (k0_off109 v1_0 k0_t6 v93 (BitVec.ofNat 32 (16 * r.val))) a + S1x16x128.size a ≤ S2x256x3072.size a) ∧
  (16 ∣ (k0_mult640 v93).toNat) ∧
  (∀ (r : Fin 16), ∀ a, (k0_off110 v1_0 k0_t6 v93 (BitVec.ofNat 32 (16 * r.val))) a + S1x16x128.size a ≤ S2x256x3072.size a) ∧
  (16 ∣ (k0_mult641 v93).toNat) ∧
  (16 ∣ (k0_mult642 v93).toNat) ∧
  (16 ∣ (k0_mult643 v93).toNat) ∧
  (16 ∣ (k0_mult644 v93).toNat) ∧
  (16 ∣ (k0_mult645 v93).toNat) ∧
  (16 ∣ (k0_mult646 v93).toNat) ∧
  (16 ∣ (k0_mult647 v93).toNat) ∧
  (16 ∣ (k0_mult648 v93).toNat) ∧
  (16 ∣ (k0_mult649 v93).toNat) ∧
  (16 ∣ (k0_mult650 v93).toNat) ∧
  (16 ∣ (k0_mult651 v93).toNat) ∧
  (16 ∣ (k0_mult652 v93).toNat) ∧
  (16 ∣ (k0_mult653 v93).toNat)
def k0_chk25_8 (v1_0 : BitVec 32) (k0_t6 : Fin (k0_t6_loop v1_0).trips) (v93 : BitVec 32) : Prop :=
  (16 ∣ (k0_mult654 v93).toNat) ∧
  (16 ∣ (k0_mult655 v93).toNat) ∧
  (16 ∣ (k0_mult656 v93).toNat) ∧
  (16 ∣ (k0_mult657 v93).toNat) ∧
  (16 ∣ (k0_mult658 v93).toNat) ∧
  (16 ∣ (k0_mult659 v93).toNat) ∧
  (16 ∣ (k0_mult660 v93).toNat) ∧
  (16 ∣ (k0_mult661 v93).toNat) ∧
  (16 ∣ (k0_mult662 v93).toNat) ∧
  (16 ∣ (k0_mult663 v93).toNat) ∧
  (16 ∣ (k0_mult664 v93).toNat) ∧
  (16 ∣ (k0_mult665 v93).toNat) ∧
  (16 ∣ (k0_mult666 v93).toNat) ∧
  (16 ∣ (k0_mult667 v93).toNat) ∧
  (16 ∣ (k0_mult668 v93).toNat) ∧
  (16 ∣ (k0_mult669 v93).toNat) ∧
  (16 ∣ (k0_mult670 v93).toNat) ∧
  (16 ∣ (k0_mult671 v93).toNat) ∧
  (∀ (r : Fin 16), ∀ a, (k0_off111 v1_0 k0_t6 v93 (BitVec.ofNat 32 (16 * r.val))) a + S1x16x128.size a ≤ S2x256x3072.size a) ∧
  (16 ∣ (k0_mult672 v93).toNat) ∧
  (∀ (r : Fin 16), ∀ a, (k0_off112 v1_0 k0_t6 v93 (BitVec.ofNat 32 (16 * r.val))) a + S1x16x128.size a ≤ S2x256x3072.size a) ∧
  (16 ∣ (k0_mult673 v93).toNat) ∧
  (16 ∣ (k0_mult674 v93).toNat) ∧
  (16 ∣ (k0_mult675 v93).toNat) ∧
  (16 ∣ (k0_mult676 v93).toNat) ∧
  (16 ∣ (k0_mult677 v93).toNat) ∧
  (16 ∣ (k0_mult678 v93).toNat) ∧
  (16 ∣ (k0_mult679 v93).toNat) ∧
  (16 ∣ (k0_mult680 v93).toNat) ∧
  (16 ∣ (k0_mult681 v93).toNat) ∧
  (16 ∣ (k0_mult682 v93).toNat) ∧
  (16 ∣ (k0_mult683 v93).toNat)
def k0_chk25_9 (v1_0 : BitVec 32) (k0_t6 : Fin (k0_t6_loop v1_0).trips) (v93 : BitVec 32) : Prop :=
  (16 ∣ (k0_mult684 v93).toNat) ∧
  (16 ∣ (k0_mult685 v93).toNat) ∧
  (16 ∣ (k0_mult686 v93).toNat) ∧
  (16 ∣ (k0_mult687 v93).toNat) ∧
  (16 ∣ (k0_mult688 v93).toNat) ∧
  (16 ∣ (k0_mult689 v93).toNat) ∧
  (16 ∣ (k0_mult690 v93).toNat) ∧
  (16 ∣ (k0_mult691 v93).toNat) ∧
  (16 ∣ (k0_mult692 v93).toNat) ∧
  (16 ∣ (k0_mult693 v93).toNat) ∧
  (16 ∣ (k0_mult694 v93).toNat) ∧
  (16 ∣ (k0_mult695 v93).toNat) ∧
  (16 ∣ (k0_mult696 v93).toNat) ∧
  (16 ∣ (k0_mult697 v93).toNat) ∧
  (16 ∣ (k0_mult698 v93).toNat) ∧
  (16 ∣ (k0_mult699 v93).toNat) ∧
  (16 ∣ (k0_mult700 v93).toNat) ∧
  (16 ∣ (k0_mult701 v93).toNat) ∧
  (16 ∣ (k0_mult702 v93).toNat) ∧
  (16 ∣ (k0_mult703 v93).toNat) ∧
  (∀ (r : Fin 16), ∀ a, (k0_off113 v1_0 k0_t6 v93 (BitVec.ofNat 32 (16 * r.val))) a + S1x16x128.size a ≤ S2x256x3072.size a) ∧
  (16 ∣ (k0_mult704 v93).toNat) ∧
  (∀ (r : Fin 16), ∀ a, (k0_off114 v1_0 k0_t6 v93 (BitVec.ofNat 32 (16 * r.val))) a + S1x16x128.size a ≤ S2x256x3072.size a) ∧
  (16 ∣ (k0_mult705 v93).toNat) ∧
  (16 ∣ (k0_mult706 v93).toNat) ∧
  (16 ∣ (k0_mult707 v93).toNat) ∧
  (16 ∣ (k0_mult708 v93).toNat) ∧
  (16 ∣ (k0_mult709 v93).toNat) ∧
  (16 ∣ (k0_mult710 v93).toNat) ∧
  (16 ∣ (k0_mult711 v93).toNat) ∧
  (16 ∣ (k0_mult712 v93).toNat) ∧
  (16 ∣ (k0_mult713 v93).toNat)
def k0_chk25_10 (v1_0 : BitVec 32) (k0_t6 : Fin (k0_t6_loop v1_0).trips) (v93 : BitVec 32) : Prop :=
  (16 ∣ (k0_mult714 v93).toNat) ∧
  (16 ∣ (k0_mult715 v93).toNat) ∧
  (16 ∣ (k0_mult716 v93).toNat) ∧
  (16 ∣ (k0_mult717 v93).toNat) ∧
  (16 ∣ (k0_mult718 v93).toNat) ∧
  (16 ∣ (k0_mult719 v93).toNat) ∧
  (16 ∣ (k0_mult720 v93).toNat) ∧
  (16 ∣ (k0_mult721 v93).toNat) ∧
  (16 ∣ (k0_mult722 v93).toNat) ∧
  (16 ∣ (k0_mult723 v93).toNat) ∧
  (16 ∣ (k0_mult724 v93).toNat) ∧
  (16 ∣ (k0_mult725 v93).toNat) ∧
  (16 ∣ (k0_mult726 v93).toNat) ∧
  (16 ∣ (k0_mult727 v93).toNat) ∧
  (16 ∣ (k0_mult728 v93).toNat) ∧
  (16 ∣ (k0_mult729 v93).toNat) ∧
  (16 ∣ (k0_mult730 v93).toNat) ∧
  (16 ∣ (k0_mult731 v93).toNat) ∧
  (16 ∣ (k0_mult732 v93).toNat) ∧
  (16 ∣ (k0_mult733 v93).toNat) ∧
  (16 ∣ (k0_mult734 v93).toNat) ∧
  (16 ∣ (k0_mult735 v93).toNat) ∧
  (∀ (r : Fin 16), ∀ a, (k0_off115 v1_0 k0_t6 v93 (BitVec.ofNat 32 (16 * r.val))) a + S1x16x128.size a ≤ S2x256x3072.size a) ∧
  (16 ∣ (k0_mult736 v93).toNat) ∧
  (∀ (r : Fin 16), ∀ a, (k0_off116 v1_0 k0_t6 v93 (BitVec.ofNat 32 (16 * r.val))) a + S1x16x128.size a ≤ S2x256x3072.size a) ∧
  (16 ∣ (k0_mult737 v93).toNat) ∧
  (16 ∣ (k0_mult738 v93).toNat) ∧
  (16 ∣ (k0_mult739 v93).toNat) ∧
  (16 ∣ (k0_mult740 v93).toNat) ∧
  (16 ∣ (k0_mult741 v93).toNat) ∧
  (16 ∣ (k0_mult742 v93).toNat) ∧
  (16 ∣ (k0_mult743 v93).toNat)
def k0_chk25_11 (v1_0 : BitVec 32) (k0_t6 : Fin (k0_t6_loop v1_0).trips) (v93 : BitVec 32) : Prop :=
  (16 ∣ (k0_mult744 v93).toNat) ∧
  (16 ∣ (k0_mult745 v93).toNat) ∧
  (16 ∣ (k0_mult746 v93).toNat) ∧
  (16 ∣ (k0_mult747 v93).toNat) ∧
  (16 ∣ (k0_mult748 v93).toNat) ∧
  (16 ∣ (k0_mult749 v93).toNat) ∧
  (16 ∣ (k0_mult750 v93).toNat) ∧
  (16 ∣ (k0_mult751 v93).toNat) ∧
  (16 ∣ (k0_mult752 v93).toNat) ∧
  (16 ∣ (k0_mult753 v93).toNat) ∧
  (16 ∣ (k0_mult754 v93).toNat) ∧
  (16 ∣ (k0_mult755 v93).toNat) ∧
  (16 ∣ (k0_mult756 v93).toNat) ∧
  (16 ∣ (k0_mult757 v93).toNat) ∧
  (16 ∣ (k0_mult758 v93).toNat) ∧
  (16 ∣ (k0_mult759 v93).toNat) ∧
  (16 ∣ (k0_mult760 v93).toNat) ∧
  (16 ∣ (k0_mult761 v93).toNat) ∧
  (16 ∣ (k0_mult762 v93).toNat) ∧
  (16 ∣ (k0_mult763 v93).toNat) ∧
  (16 ∣ (k0_mult764 v93).toNat) ∧
  (16 ∣ (k0_mult765 v93).toNat) ∧
  (16 ∣ (k0_mult766 v93).toNat) ∧
  (16 ∣ (k0_mult767 v93).toNat) ∧
  (∀ (r : Fin 16), ∀ a, (k0_off117 v1_0 k0_t6 v93 (BitVec.ofNat 32 (16 * r.val))) a + S1x16x128.size a ≤ S2x256x3072.size a) ∧
  (16 ∣ (k0_mult768 v93).toNat) ∧
  (∀ (r : Fin 16), ∀ a, (k0_off118 v1_0 k0_t6 v93 (BitVec.ofNat 32 (16 * r.val))) a + S1x16x128.size a ≤ S2x256x3072.size a) ∧
  (16 ∣ (k0_mult769 v93).toNat) ∧
  (16 ∣ (k0_mult770 v93).toNat) ∧
  (16 ∣ (k0_mult771 v93).toNat) ∧
  (16 ∣ (k0_mult772 v93).toNat) ∧
  (16 ∣ (k0_mult773 v93).toNat)
def k0_chk25_12 (v1_0 : BitVec 32) (k0_t6 : Fin (k0_t6_loop v1_0).trips) (v93 : BitVec 32) : Prop :=
  (16 ∣ (k0_mult774 v93).toNat) ∧
  (16 ∣ (k0_mult775 v93).toNat) ∧
  (16 ∣ (k0_mult776 v93).toNat) ∧
  (16 ∣ (k0_mult777 v93).toNat) ∧
  (16 ∣ (k0_mult778 v93).toNat) ∧
  (16 ∣ (k0_mult779 v93).toNat) ∧
  (16 ∣ (k0_mult780 v93).toNat) ∧
  (16 ∣ (k0_mult781 v93).toNat) ∧
  (16 ∣ (k0_mult782 v93).toNat) ∧
  (16 ∣ (k0_mult783 v93).toNat) ∧
  (16 ∣ (k0_mult784 v93).toNat) ∧
  (16 ∣ (k0_mult785 v93).toNat) ∧
  (16 ∣ (k0_mult786 v93).toNat) ∧
  (16 ∣ (k0_mult787 v93).toNat) ∧
  (16 ∣ (k0_mult788 v93).toNat) ∧
  (16 ∣ (k0_mult789 v93).toNat) ∧
  (16 ∣ (k0_mult790 v93).toNat) ∧
  (16 ∣ (k0_mult791 v93).toNat) ∧
  (16 ∣ (k0_mult792 v93).toNat) ∧
  (16 ∣ (k0_mult793 v93).toNat) ∧
  (16 ∣ (k0_mult794 v93).toNat) ∧
  (16 ∣ (k0_mult795 v93).toNat) ∧
  (16 ∣ (k0_mult796 v93).toNat) ∧
  (16 ∣ (k0_mult797 v93).toNat) ∧
  (16 ∣ (k0_mult798 v93).toNat)
def k0_chk25 (v1_0 : BitVec 32) (k0_t6 : Fin (k0_t6_loop v1_0).trips) (v93 : BitVec 32) : Prop :=
  k0_chk25_0 v1_0 k0_t6 v93 ∧
  k0_chk25_1 v1_0 k0_t6 v93 ∧
  k0_chk25_2 v1_0 k0_t6 v93 ∧
  k0_chk25_3 v1_0 k0_t6 v93 ∧
  k0_chk25_4 v1_0 k0_t6 v93 ∧
  k0_chk25_5 v1_0 k0_t6 v93 ∧
  k0_chk25_6 v1_0 k0_t6 v93 ∧
  k0_chk25_7 v1_0 k0_t6 v93 ∧
  k0_chk25_8 v1_0 k0_t6 v93 ∧
  k0_chk25_9 v1_0 k0_t6 v93 ∧
  k0_chk25_10 v1_0 k0_t6 v93 ∧
  k0_chk25_11 v1_0 k0_t6 v93 ∧
  k0_chk25_12 v1_0 k0_t6 v93
theorem k0_mult414_dvd : ∀ (v1_0 : BitVec 32) (k0_t6 : Fin (k0_t6_loop v1_0).trips) (v93 : BitVec 32) (k0_hw25 : k0_chk25 v1_0 k0_t6 v93), 16 ∣ (k0_mult414 v93).toNat := fun v1_0 k0_t6 v93 k0_hw25 => k0_hw25.1.1
theorem k0_mult415_dvd : ∀ (v1_0 : BitVec 32) (k0_t6 : Fin (k0_t6_loop v1_0).trips) (v93 : BitVec 32) (k0_hw25 : k0_chk25 v1_0 k0_t6 v93), 16 ∣ (k0_mult415 v93).toNat := fun v1_0 k0_t6 v93 k0_hw25 => k0_hw25.1.2.1
theorem k0_off95_inb : ∀ (v1_0 : BitVec 32) (k0_t6 : Fin (k0_t6_loop v1_0).trips) (v93 : BitVec 32) (k0_hw25 : k0_chk25 v1_0 k0_t6 v93), ∀ (r : Fin 16), ∀ a, (k0_off95 v1_0 k0_t6 v93 (BitVec.ofNat 32 (16 * r.val))) a + S1x16x128.size a ≤ S2x256x3072.size a := fun v1_0 k0_t6 v93 k0_hw25 r => k0_hw25.1.2.2.1 r
theorem k0_mult416_dvd : ∀ (v1_0 : BitVec 32) (k0_t6 : Fin (k0_t6_loop v1_0).trips) (v93 : BitVec 32) (k0_hw25 : k0_chk25 v1_0 k0_t6 v93), 16 ∣ (k0_mult416 v93).toNat := fun v1_0 k0_t6 v93 k0_hw25 => k0_hw25.1.2.2.2.1
theorem k0_off96_inb : ∀ (v1_0 : BitVec 32) (k0_t6 : Fin (k0_t6_loop v1_0).trips) (v93 : BitVec 32) (k0_hw25 : k0_chk25 v1_0 k0_t6 v93), ∀ (r : Fin 16), ∀ a, (k0_off96 v1_0 k0_t6 v93 (BitVec.ofNat 32 (16 * r.val))) a + S1x16x128.size a ≤ S2x256x3072.size a := fun v1_0 k0_t6 v93 k0_hw25 r => k0_hw25.1.2.2.2.2.1 r
theorem k0_mult417_dvd : ∀ (v1_0 : BitVec 32) (k0_t6 : Fin (k0_t6_loop v1_0).trips) (v93 : BitVec 32) (k0_hw25 : k0_chk25 v1_0 k0_t6 v93), 16 ∣ (k0_mult417 v93).toNat := fun v1_0 k0_t6 v93 k0_hw25 => k0_hw25.1.2.2.2.2.2.1
theorem k0_mult418_dvd : ∀ (v1_0 : BitVec 32) (k0_t6 : Fin (k0_t6_loop v1_0).trips) (v93 : BitVec 32) (k0_hw25 : k0_chk25 v1_0 k0_t6 v93), 16 ∣ (k0_mult418 v93).toNat := fun v1_0 k0_t6 v93 k0_hw25 => k0_hw25.1.2.2.2.2.2.2.1
theorem k0_mult419_dvd : ∀ (v1_0 : BitVec 32) (k0_t6 : Fin (k0_t6_loop v1_0).trips) (v93 : BitVec 32) (k0_hw25 : k0_chk25 v1_0 k0_t6 v93), 16 ∣ (k0_mult419 v93).toNat := fun v1_0 k0_t6 v93 k0_hw25 => k0_hw25.1.2.2.2.2.2.2.2.1
theorem k0_mult420_dvd : ∀ (v1_0 : BitVec 32) (k0_t6 : Fin (k0_t6_loop v1_0).trips) (v93 : BitVec 32) (k0_hw25 : k0_chk25 v1_0 k0_t6 v93), 16 ∣ (k0_mult420 v93).toNat := fun v1_0 k0_t6 v93 k0_hw25 => k0_hw25.1.2.2.2.2.2.2.2.2.1
theorem k0_mult421_dvd : ∀ (v1_0 : BitVec 32) (k0_t6 : Fin (k0_t6_loop v1_0).trips) (v93 : BitVec 32) (k0_hw25 : k0_chk25 v1_0 k0_t6 v93), 16 ∣ (k0_mult421 v93).toNat := fun v1_0 k0_t6 v93 k0_hw25 => k0_hw25.1.2.2.2.2.2.2.2.2.2.1
theorem k0_mult422_dvd : ∀ (v1_0 : BitVec 32) (k0_t6 : Fin (k0_t6_loop v1_0).trips) (v93 : BitVec 32) (k0_hw25 : k0_chk25 v1_0 k0_t6 v93), 16 ∣ (k0_mult422 v93).toNat := fun v1_0 k0_t6 v93 k0_hw25 => k0_hw25.1.2.2.2.2.2.2.2.2.2.2.1
theorem k0_mult423_dvd : ∀ (v1_0 : BitVec 32) (k0_t6 : Fin (k0_t6_loop v1_0).trips) (v93 : BitVec 32) (k0_hw25 : k0_chk25 v1_0 k0_t6 v93), 16 ∣ (k0_mult423 v93).toNat := fun v1_0 k0_t6 v93 k0_hw25 => k0_hw25.1.2.2.2.2.2.2.2.2.2.2.2.1
theorem k0_mult424_dvd : ∀ (v1_0 : BitVec 32) (k0_t6 : Fin (k0_t6_loop v1_0).trips) (v93 : BitVec 32) (k0_hw25 : k0_chk25 v1_0 k0_t6 v93), 16 ∣ (k0_mult424 v93).toNat := fun v1_0 k0_t6 v93 k0_hw25 => k0_hw25.1.2.2.2.2.2.2.2.2.2.2.2.2.1
theorem k0_mult425_dvd : ∀ (v1_0 : BitVec 32) (k0_t6 : Fin (k0_t6_loop v1_0).trips) (v93 : BitVec 32) (k0_hw25 : k0_chk25 v1_0 k0_t6 v93), 16 ∣ (k0_mult425 v93).toNat := fun v1_0 k0_t6 v93 k0_hw25 => k0_hw25.1.2.2.2.2.2.2.2.2.2.2.2.2.2.1
theorem k0_mult426_dvd : ∀ (v1_0 : BitVec 32) (k0_t6 : Fin (k0_t6_loop v1_0).trips) (v93 : BitVec 32) (k0_hw25 : k0_chk25 v1_0 k0_t6 v93), 16 ∣ (k0_mult426 v93).toNat := fun v1_0 k0_t6 v93 k0_hw25 => k0_hw25.1.2.2.2.2.2.2.2.2.2.2.2.2.2.2.1
theorem k0_mult427_dvd : ∀ (v1_0 : BitVec 32) (k0_t6 : Fin (k0_t6_loop v1_0).trips) (v93 : BitVec 32) (k0_hw25 : k0_chk25 v1_0 k0_t6 v93), 16 ∣ (k0_mult427 v93).toNat := fun v1_0 k0_t6 v93 k0_hw25 => k0_hw25.1.2.2.2.2.2.2.2.2.2.2.2.2.2.2.2.1
theorem k0_mult428_dvd : ∀ (v1_0 : BitVec 32) (k0_t6 : Fin (k0_t6_loop v1_0).trips) (v93 : BitVec 32) (k0_hw25 : k0_chk25 v1_0 k0_t6 v93), 16 ∣ (k0_mult428 v93).toNat := fun v1_0 k0_t6 v93 k0_hw25 => k0_hw25.1.2.2.2.2.2.2.2.2.2.2.2.2.2.2.2.2.1
theorem k0_mult429_dvd : ∀ (v1_0 : BitVec 32) (k0_t6 : Fin (k0_t6_loop v1_0).trips) (v93 : BitVec 32) (k0_hw25 : k0_chk25 v1_0 k0_t6 v93), 16 ∣ (k0_mult429 v93).toNat := fun v1_0 k0_t6 v93 k0_hw25 => k0_hw25.1.2.2.2.2.2.2.2.2.2.2.2.2.2.2.2.2.2.1
theorem k0_mult430_dvd : ∀ (v1_0 : BitVec 32) (k0_t6 : Fin (k0_t6_loop v1_0).trips) (v93 : BitVec 32) (k0_hw25 : k0_chk25 v1_0 k0_t6 v93), 16 ∣ (k0_mult430 v93).toNat := fun v1_0 k0_t6 v93 k0_hw25 => k0_hw25.1.2.2.2.2.2.2.2.2.2.2.2.2.2.2.2.2.2.2.1
theorem k0_mult431_dvd : ∀ (v1_0 : BitVec 32) (k0_t6 : Fin (k0_t6_loop v1_0).trips) (v93 : BitVec 32) (k0_hw25 : k0_chk25 v1_0 k0_t6 v93), 16 ∣ (k0_mult431 v93).toNat := fun v1_0 k0_t6 v93 k0_hw25 => k0_hw25.1.2.2.2.2.2.2.2.2.2.2.2.2.2.2.2.2.2.2.2.1
theorem k0_mult432_dvd : ∀ (v1_0 : BitVec 32) (k0_t6 : Fin (k0_t6_loop v1_0).trips) (v93 : BitVec 32) (k0_hw25 : k0_chk25 v1_0 k0_t6 v93), 16 ∣ (k0_mult432 v93).toNat := fun v1_0 k0_t6 v93 k0_hw25 => k0_hw25.1.2.2.2.2.2.2.2.2.2.2.2.2.2.2.2.2.2.2.2.2.1
theorem k0_mult433_dvd : ∀ (v1_0 : BitVec 32) (k0_t6 : Fin (k0_t6_loop v1_0).trips) (v93 : BitVec 32) (k0_hw25 : k0_chk25 v1_0 k0_t6 v93), 16 ∣ (k0_mult433 v93).toNat := fun v1_0 k0_t6 v93 k0_hw25 => k0_hw25.1.2.2.2.2.2.2.2.2.2.2.2.2.2.2.2.2.2.2.2.2.2.1
theorem k0_mult434_dvd : ∀ (v1_0 : BitVec 32) (k0_t6 : Fin (k0_t6_loop v1_0).trips) (v93 : BitVec 32) (k0_hw25 : k0_chk25 v1_0 k0_t6 v93), 16 ∣ (k0_mult434 v93).toNat := fun v1_0 k0_t6 v93 k0_hw25 => k0_hw25.1.2.2.2.2.2.2.2.2.2.2.2.2.2.2.2.2.2.2.2.2.2.2.1
theorem k0_mult435_dvd : ∀ (v1_0 : BitVec 32) (k0_t6 : Fin (k0_t6_loop v1_0).trips) (v93 : BitVec 32) (k0_hw25 : k0_chk25 v1_0 k0_t6 v93), 16 ∣ (k0_mult435 v93).toNat := fun v1_0 k0_t6 v93 k0_hw25 => k0_hw25.1.2.2.2.2.2.2.2.2.2.2.2.2.2.2.2.2.2.2.2.2.2.2.2.1
theorem k0_mult436_dvd : ∀ (v1_0 : BitVec 32) (k0_t6 : Fin (k0_t6_loop v1_0).trips) (v93 : BitVec 32) (k0_hw25 : k0_chk25 v1_0 k0_t6 v93), 16 ∣ (k0_mult436 v93).toNat := fun v1_0 k0_t6 v93 k0_hw25 => k0_hw25.1.2.2.2.2.2.2.2.2.2.2.2.2.2.2.2.2.2.2.2.2.2.2.2.2.1
theorem k0_mult437_dvd : ∀ (v1_0 : BitVec 32) (k0_t6 : Fin (k0_t6_loop v1_0).trips) (v93 : BitVec 32) (k0_hw25 : k0_chk25 v1_0 k0_t6 v93), 16 ∣ (k0_mult437 v93).toNat := fun v1_0 k0_t6 v93 k0_hw25 => k0_hw25.1.2.2.2.2.2.2.2.2.2.2.2.2.2.2.2.2.2.2.2.2.2.2.2.2.2.1
theorem k0_mult438_dvd : ∀ (v1_0 : BitVec 32) (k0_t6 : Fin (k0_t6_loop v1_0).trips) (v93 : BitVec 32) (k0_hw25 : k0_chk25 v1_0 k0_t6 v93), 16 ∣ (k0_mult438 v93).toNat := fun v1_0 k0_t6 v93 k0_hw25 => k0_hw25.1.2.2.2.2.2.2.2.2.2.2.2.2.2.2.2.2.2.2.2.2.2.2.2.2.2.2.1
theorem k0_mult439_dvd : ∀ (v1_0 : BitVec 32) (k0_t6 : Fin (k0_t6_loop v1_0).trips) (v93 : BitVec 32) (k0_hw25 : k0_chk25 v1_0 k0_t6 v93), 16 ∣ (k0_mult439 v93).toNat := fun v1_0 k0_t6 v93 k0_hw25 => k0_hw25.1.2.2.2.2.2.2.2.2.2.2.2.2.2.2.2.2.2.2.2.2.2.2.2.2.2.2.2.1
theorem k0_mult440_dvd : ∀ (v1_0 : BitVec 32) (k0_t6 : Fin (k0_t6_loop v1_0).trips) (v93 : BitVec 32) (k0_hw25 : k0_chk25 v1_0 k0_t6 v93), 16 ∣ (k0_mult440 v93).toNat := fun v1_0 k0_t6 v93 k0_hw25 => k0_hw25.1.2.2.2.2.2.2.2.2.2.2.2.2.2.2.2.2.2.2.2.2.2.2.2.2.2.2.2.2.1
theorem k0_mult441_dvd : ∀ (v1_0 : BitVec 32) (k0_t6 : Fin (k0_t6_loop v1_0).trips) (v93 : BitVec 32) (k0_hw25 : k0_chk25 v1_0 k0_t6 v93), 16 ∣ (k0_mult441 v93).toNat := fun v1_0 k0_t6 v93 k0_hw25 => k0_hw25.1.2.2.2.2.2.2.2.2.2.2.2.2.2.2.2.2.2.2.2.2.2.2.2.2.2.2.2.2.2.1
theorem k0_mult442_dvd : ∀ (v1_0 : BitVec 32) (k0_t6 : Fin (k0_t6_loop v1_0).trips) (v93 : BitVec 32) (k0_hw25 : k0_chk25 v1_0 k0_t6 v93), 16 ∣ (k0_mult442 v93).toNat := fun v1_0 k0_t6 v93 k0_hw25 => k0_hw25.1.2.2.2.2.2.2.2.2.2.2.2.2.2.2.2.2.2.2.2.2.2.2.2.2.2.2.2.2.2.2.1
theorem k0_mult443_dvd : ∀ (v1_0 : BitVec 32) (k0_t6 : Fin (k0_t6_loop v1_0).trips) (v93 : BitVec 32) (k0_hw25 : k0_chk25 v1_0 k0_t6 v93), 16 ∣ (k0_mult443 v93).toNat := fun v1_0 k0_t6 v93 k0_hw25 => k0_hw25.1.2.2.2.2.2.2.2.2.2.2.2.2.2.2.2.2.2.2.2.2.2.2.2.2.2.2.2.2.2.2.2
theorem k0_mult444_dvd : ∀ (v1_0 : BitVec 32) (k0_t6 : Fin (k0_t6_loop v1_0).trips) (v93 : BitVec 32) (k0_hw25 : k0_chk25 v1_0 k0_t6 v93), 16 ∣ (k0_mult444 v93).toNat := fun v1_0 k0_t6 v93 k0_hw25 => k0_hw25.2.1.1
theorem k0_mult445_dvd : ∀ (v1_0 : BitVec 32) (k0_t6 : Fin (k0_t6_loop v1_0).trips) (v93 : BitVec 32) (k0_hw25 : k0_chk25 v1_0 k0_t6 v93), 16 ∣ (k0_mult445 v93).toNat := fun v1_0 k0_t6 v93 k0_hw25 => k0_hw25.2.1.2.1
theorem k0_mult446_dvd : ∀ (v1_0 : BitVec 32) (k0_t6 : Fin (k0_t6_loop v1_0).trips) (v93 : BitVec 32) (k0_hw25 : k0_chk25 v1_0 k0_t6 v93), 16 ∣ (k0_mult446 v93).toNat := fun v1_0 k0_t6 v93 k0_hw25 => k0_hw25.2.1.2.2.1
theorem k0_mult447_dvd : ∀ (v1_0 : BitVec 32) (k0_t6 : Fin (k0_t6_loop v1_0).trips) (v93 : BitVec 32) (k0_hw25 : k0_chk25 v1_0 k0_t6 v93), 16 ∣ (k0_mult447 v93).toNat := fun v1_0 k0_t6 v93 k0_hw25 => k0_hw25.2.1.2.2.2.1
theorem k0_off97_inb : ∀ (v1_0 : BitVec 32) (k0_t6 : Fin (k0_t6_loop v1_0).trips) (v93 : BitVec 32) (k0_hw25 : k0_chk25 v1_0 k0_t6 v93), ∀ (r : Fin 16), ∀ a, (k0_off97 v1_0 k0_t6 v93 (BitVec.ofNat 32 (16 * r.val))) a + S1x16x128.size a ≤ S2x256x3072.size a := fun v1_0 k0_t6 v93 k0_hw25 r => k0_hw25.2.1.2.2.2.2.1 r
theorem k0_mult448_dvd : ∀ (v1_0 : BitVec 32) (k0_t6 : Fin (k0_t6_loop v1_0).trips) (v93 : BitVec 32) (k0_hw25 : k0_chk25 v1_0 k0_t6 v93), 16 ∣ (k0_mult448 v93).toNat := fun v1_0 k0_t6 v93 k0_hw25 => k0_hw25.2.1.2.2.2.2.2.1
theorem k0_off98_inb : ∀ (v1_0 : BitVec 32) (k0_t6 : Fin (k0_t6_loop v1_0).trips) (v93 : BitVec 32) (k0_hw25 : k0_chk25 v1_0 k0_t6 v93), ∀ (r : Fin 16), ∀ a, (k0_off98 v1_0 k0_t6 v93 (BitVec.ofNat 32 (16 * r.val))) a + S1x16x128.size a ≤ S2x256x3072.size a := fun v1_0 k0_t6 v93 k0_hw25 r => k0_hw25.2.1.2.2.2.2.2.2.1 r
theorem k0_mult449_dvd : ∀ (v1_0 : BitVec 32) (k0_t6 : Fin (k0_t6_loop v1_0).trips) (v93 : BitVec 32) (k0_hw25 : k0_chk25 v1_0 k0_t6 v93), 16 ∣ (k0_mult449 v93).toNat := fun v1_0 k0_t6 v93 k0_hw25 => k0_hw25.2.1.2.2.2.2.2.2.2.1
theorem k0_mult450_dvd : ∀ (v1_0 : BitVec 32) (k0_t6 : Fin (k0_t6_loop v1_0).trips) (v93 : BitVec 32) (k0_hw25 : k0_chk25 v1_0 k0_t6 v93), 16 ∣ (k0_mult450 v93).toNat := fun v1_0 k0_t6 v93 k0_hw25 => k0_hw25.2.1.2.2.2.2.2.2.2.2.1
theorem k0_mult451_dvd : ∀ (v1_0 : BitVec 32) (k0_t6 : Fin (k0_t6_loop v1_0).trips) (v93 : BitVec 32) (k0_hw25 : k0_chk25 v1_0 k0_t6 v93), 16 ∣ (k0_mult451 v93).toNat := fun v1_0 k0_t6 v93 k0_hw25 => k0_hw25.2.1.2.2.2.2.2.2.2.2.2.1
theorem k0_mult452_dvd : ∀ (v1_0 : BitVec 32) (k0_t6 : Fin (k0_t6_loop v1_0).trips) (v93 : BitVec 32) (k0_hw25 : k0_chk25 v1_0 k0_t6 v93), 16 ∣ (k0_mult452 v93).toNat := fun v1_0 k0_t6 v93 k0_hw25 => k0_hw25.2.1.2.2.2.2.2.2.2.2.2.2.1
theorem k0_mult453_dvd : ∀ (v1_0 : BitVec 32) (k0_t6 : Fin (k0_t6_loop v1_0).trips) (v93 : BitVec 32) (k0_hw25 : k0_chk25 v1_0 k0_t6 v93), 16 ∣ (k0_mult453 v93).toNat := fun v1_0 k0_t6 v93 k0_hw25 => k0_hw25.2.1.2.2.2.2.2.2.2.2.2.2.2.1
theorem k0_mult454_dvd : ∀ (v1_0 : BitVec 32) (k0_t6 : Fin (k0_t6_loop v1_0).trips) (v93 : BitVec 32) (k0_hw25 : k0_chk25 v1_0 k0_t6 v93), 16 ∣ (k0_mult454 v93).toNat := fun v1_0 k0_t6 v93 k0_hw25 => k0_hw25.2.1.2.2.2.2.2.2.2.2.2.2.2.2.1
theorem k0_mult455_dvd : ∀ (v1_0 : BitVec 32) (k0_t6 : Fin (k0_t6_loop v1_0).trips) (v93 : BitVec 32) (k0_hw25 : k0_chk25 v1_0 k0_t6 v93), 16 ∣ (k0_mult455 v93).toNat := fun v1_0 k0_t6 v93 k0_hw25 => k0_hw25.2.1.2.2.2.2.2.2.2.2.2.2.2.2.2.1
theorem k0_mult456_dvd : ∀ (v1_0 : BitVec 32) (k0_t6 : Fin (k0_t6_loop v1_0).trips) (v93 : BitVec 32) (k0_hw25 : k0_chk25 v1_0 k0_t6 v93), 16 ∣ (k0_mult456 v93).toNat := fun v1_0 k0_t6 v93 k0_hw25 => k0_hw25.2.1.2.2.2.2.2.2.2.2.2.2.2.2.2.2.1
theorem k0_mult457_dvd : ∀ (v1_0 : BitVec 32) (k0_t6 : Fin (k0_t6_loop v1_0).trips) (v93 : BitVec 32) (k0_hw25 : k0_chk25 v1_0 k0_t6 v93), 16 ∣ (k0_mult457 v93).toNat := fun v1_0 k0_t6 v93 k0_hw25 => k0_hw25.2.1.2.2.2.2.2.2.2.2.2.2.2.2.2.2.2.1
theorem k0_mult458_dvd : ∀ (v1_0 : BitVec 32) (k0_t6 : Fin (k0_t6_loop v1_0).trips) (v93 : BitVec 32) (k0_hw25 : k0_chk25 v1_0 k0_t6 v93), 16 ∣ (k0_mult458 v93).toNat := fun v1_0 k0_t6 v93 k0_hw25 => k0_hw25.2.1.2.2.2.2.2.2.2.2.2.2.2.2.2.2.2.2.1
theorem k0_mult459_dvd : ∀ (v1_0 : BitVec 32) (k0_t6 : Fin (k0_t6_loop v1_0).trips) (v93 : BitVec 32) (k0_hw25 : k0_chk25 v1_0 k0_t6 v93), 16 ∣ (k0_mult459 v93).toNat := fun v1_0 k0_t6 v93 k0_hw25 => k0_hw25.2.1.2.2.2.2.2.2.2.2.2.2.2.2.2.2.2.2.2.1
theorem k0_mult460_dvd : ∀ (v1_0 : BitVec 32) (k0_t6 : Fin (k0_t6_loop v1_0).trips) (v93 : BitVec 32) (k0_hw25 : k0_chk25 v1_0 k0_t6 v93), 16 ∣ (k0_mult460 v93).toNat := fun v1_0 k0_t6 v93 k0_hw25 => k0_hw25.2.1.2.2.2.2.2.2.2.2.2.2.2.2.2.2.2.2.2.2.1
theorem k0_mult461_dvd : ∀ (v1_0 : BitVec 32) (k0_t6 : Fin (k0_t6_loop v1_0).trips) (v93 : BitVec 32) (k0_hw25 : k0_chk25 v1_0 k0_t6 v93), 16 ∣ (k0_mult461 v93).toNat := fun v1_0 k0_t6 v93 k0_hw25 => k0_hw25.2.1.2.2.2.2.2.2.2.2.2.2.2.2.2.2.2.2.2.2.2.1
theorem k0_mult462_dvd : ∀ (v1_0 : BitVec 32) (k0_t6 : Fin (k0_t6_loop v1_0).trips) (v93 : BitVec 32) (k0_hw25 : k0_chk25 v1_0 k0_t6 v93), 16 ∣ (k0_mult462 v93).toNat := fun v1_0 k0_t6 v93 k0_hw25 => k0_hw25.2.1.2.2.2.2.2.2.2.2.2.2.2.2.2.2.2.2.2.2.2.2.1
theorem k0_mult463_dvd : ∀ (v1_0 : BitVec 32) (k0_t6 : Fin (k0_t6_loop v1_0).trips) (v93 : BitVec 32) (k0_hw25 : k0_chk25 v1_0 k0_t6 v93), 16 ∣ (k0_mult463 v93).toNat := fun v1_0 k0_t6 v93 k0_hw25 => k0_hw25.2.1.2.2.2.2.2.2.2.2.2.2.2.2.2.2.2.2.2.2.2.2.2.1
theorem k0_mult464_dvd : ∀ (v1_0 : BitVec 32) (k0_t6 : Fin (k0_t6_loop v1_0).trips) (v93 : BitVec 32) (k0_hw25 : k0_chk25 v1_0 k0_t6 v93), 16 ∣ (k0_mult464 v93).toNat := fun v1_0 k0_t6 v93 k0_hw25 => k0_hw25.2.1.2.2.2.2.2.2.2.2.2.2.2.2.2.2.2.2.2.2.2.2.2.2.1
theorem k0_mult465_dvd : ∀ (v1_0 : BitVec 32) (k0_t6 : Fin (k0_t6_loop v1_0).trips) (v93 : BitVec 32) (k0_hw25 : k0_chk25 v1_0 k0_t6 v93), 16 ∣ (k0_mult465 v93).toNat := fun v1_0 k0_t6 v93 k0_hw25 => k0_hw25.2.1.2.2.2.2.2.2.2.2.2.2.2.2.2.2.2.2.2.2.2.2.2.2.2.1
theorem k0_mult466_dvd : ∀ (v1_0 : BitVec 32) (k0_t6 : Fin (k0_t6_loop v1_0).trips) (v93 : BitVec 32) (k0_hw25 : k0_chk25 v1_0 k0_t6 v93), 16 ∣ (k0_mult466 v93).toNat := fun v1_0 k0_t6 v93 k0_hw25 => k0_hw25.2.1.2.2.2.2.2.2.2.2.2.2.2.2.2.2.2.2.2.2.2.2.2.2.2.2.1
theorem k0_mult467_dvd : ∀ (v1_0 : BitVec 32) (k0_t6 : Fin (k0_t6_loop v1_0).trips) (v93 : BitVec 32) (k0_hw25 : k0_chk25 v1_0 k0_t6 v93), 16 ∣ (k0_mult467 v93).toNat := fun v1_0 k0_t6 v93 k0_hw25 => k0_hw25.2.1.2.2.2.2.2.2.2.2.2.2.2.2.2.2.2.2.2.2.2.2.2.2.2.2.2.1
theorem k0_mult468_dvd : ∀ (v1_0 : BitVec 32) (k0_t6 : Fin (k0_t6_loop v1_0).trips) (v93 : BitVec 32) (k0_hw25 : k0_chk25 v1_0 k0_t6 v93), 16 ∣ (k0_mult468 v93).toNat := fun v1_0 k0_t6 v93 k0_hw25 => k0_hw25.2.1.2.2.2.2.2.2.2.2.2.2.2.2.2.2.2.2.2.2.2.2.2.2.2.2.2.2.1
theorem k0_mult469_dvd : ∀ (v1_0 : BitVec 32) (k0_t6 : Fin (k0_t6_loop v1_0).trips) (v93 : BitVec 32) (k0_hw25 : k0_chk25 v1_0 k0_t6 v93), 16 ∣ (k0_mult469 v93).toNat := fun v1_0 k0_t6 v93 k0_hw25 => k0_hw25.2.1.2.2.2.2.2.2.2.2.2.2.2.2.2.2.2.2.2.2.2.2.2.2.2.2.2.2.2.1
theorem k0_mult470_dvd : ∀ (v1_0 : BitVec 32) (k0_t6 : Fin (k0_t6_loop v1_0).trips) (v93 : BitVec 32) (k0_hw25 : k0_chk25 v1_0 k0_t6 v93), 16 ∣ (k0_mult470 v93).toNat := fun v1_0 k0_t6 v93 k0_hw25 => k0_hw25.2.1.2.2.2.2.2.2.2.2.2.2.2.2.2.2.2.2.2.2.2.2.2.2.2.2.2.2.2.2.1
theorem k0_mult471_dvd : ∀ (v1_0 : BitVec 32) (k0_t6 : Fin (k0_t6_loop v1_0).trips) (v93 : BitVec 32) (k0_hw25 : k0_chk25 v1_0 k0_t6 v93), 16 ∣ (k0_mult471 v93).toNat := fun v1_0 k0_t6 v93 k0_hw25 => k0_hw25.2.1.2.2.2.2.2.2.2.2.2.2.2.2.2.2.2.2.2.2.2.2.2.2.2.2.2.2.2.2.2.1
theorem k0_mult472_dvd : ∀ (v1_0 : BitVec 32) (k0_t6 : Fin (k0_t6_loop v1_0).trips) (v93 : BitVec 32) (k0_hw25 : k0_chk25 v1_0 k0_t6 v93), 16 ∣ (k0_mult472 v93).toNat := fun v1_0 k0_t6 v93 k0_hw25 => k0_hw25.2.1.2.2.2.2.2.2.2.2.2.2.2.2.2.2.2.2.2.2.2.2.2.2.2.2.2.2.2.2.2.2.1
theorem k0_mult473_dvd : ∀ (v1_0 : BitVec 32) (k0_t6 : Fin (k0_t6_loop v1_0).trips) (v93 : BitVec 32) (k0_hw25 : k0_chk25 v1_0 k0_t6 v93), 16 ∣ (k0_mult473 v93).toNat := fun v1_0 k0_t6 v93 k0_hw25 => k0_hw25.2.1.2.2.2.2.2.2.2.2.2.2.2.2.2.2.2.2.2.2.2.2.2.2.2.2.2.2.2.2.2.2.2
theorem k0_mult474_dvd : ∀ (v1_0 : BitVec 32) (k0_t6 : Fin (k0_t6_loop v1_0).trips) (v93 : BitVec 32) (k0_hw25 : k0_chk25 v1_0 k0_t6 v93), 16 ∣ (k0_mult474 v93).toNat := fun v1_0 k0_t6 v93 k0_hw25 => k0_hw25.2.2.1.1
theorem k0_mult475_dvd : ∀ (v1_0 : BitVec 32) (k0_t6 : Fin (k0_t6_loop v1_0).trips) (v93 : BitVec 32) (k0_hw25 : k0_chk25 v1_0 k0_t6 v93), 16 ∣ (k0_mult475 v93).toNat := fun v1_0 k0_t6 v93 k0_hw25 => k0_hw25.2.2.1.2.1
theorem k0_mult476_dvd : ∀ (v1_0 : BitVec 32) (k0_t6 : Fin (k0_t6_loop v1_0).trips) (v93 : BitVec 32) (k0_hw25 : k0_chk25 v1_0 k0_t6 v93), 16 ∣ (k0_mult476 v93).toNat := fun v1_0 k0_t6 v93 k0_hw25 => k0_hw25.2.2.1.2.2.1
theorem k0_mult477_dvd : ∀ (v1_0 : BitVec 32) (k0_t6 : Fin (k0_t6_loop v1_0).trips) (v93 : BitVec 32) (k0_hw25 : k0_chk25 v1_0 k0_t6 v93), 16 ∣ (k0_mult477 v93).toNat := fun v1_0 k0_t6 v93 k0_hw25 => k0_hw25.2.2.1.2.2.2.1
theorem k0_mult478_dvd : ∀ (v1_0 : BitVec 32) (k0_t6 : Fin (k0_t6_loop v1_0).trips) (v93 : BitVec 32) (k0_hw25 : k0_chk25 v1_0 k0_t6 v93), 16 ∣ (k0_mult478 v93).toNat := fun v1_0 k0_t6 v93 k0_hw25 => k0_hw25.2.2.1.2.2.2.2.1
theorem k0_mult479_dvd : ∀ (v1_0 : BitVec 32) (k0_t6 : Fin (k0_t6_loop v1_0).trips) (v93 : BitVec 32) (k0_hw25 : k0_chk25 v1_0 k0_t6 v93), 16 ∣ (k0_mult479 v93).toNat := fun v1_0 k0_t6 v93 k0_hw25 => k0_hw25.2.2.1.2.2.2.2.2.1
theorem k0_off99_inb : ∀ (v1_0 : BitVec 32) (k0_t6 : Fin (k0_t6_loop v1_0).trips) (v93 : BitVec 32) (k0_hw25 : k0_chk25 v1_0 k0_t6 v93), ∀ (r : Fin 16), ∀ a, (k0_off99 v1_0 k0_t6 v93 (BitVec.ofNat 32 (16 * r.val))) a + S1x16x128.size a ≤ S2x256x3072.size a := fun v1_0 k0_t6 v93 k0_hw25 r => k0_hw25.2.2.1.2.2.2.2.2.2.1 r
theorem k0_mult480_dvd : ∀ (v1_0 : BitVec 32) (k0_t6 : Fin (k0_t6_loop v1_0).trips) (v93 : BitVec 32) (k0_hw25 : k0_chk25 v1_0 k0_t6 v93), 16 ∣ (k0_mult480 v93).toNat := fun v1_0 k0_t6 v93 k0_hw25 => k0_hw25.2.2.1.2.2.2.2.2.2.2.1
theorem k0_off100_inb : ∀ (v1_0 : BitVec 32) (k0_t6 : Fin (k0_t6_loop v1_0).trips) (v93 : BitVec 32) (k0_hw25 : k0_chk25 v1_0 k0_t6 v93), ∀ (r : Fin 16), ∀ a, (k0_off100 v1_0 k0_t6 v93 (BitVec.ofNat 32 (16 * r.val))) a + S1x16x128.size a ≤ S2x256x3072.size a := fun v1_0 k0_t6 v93 k0_hw25 r => k0_hw25.2.2.1.2.2.2.2.2.2.2.2.1 r
theorem k0_mult481_dvd : ∀ (v1_0 : BitVec 32) (k0_t6 : Fin (k0_t6_loop v1_0).trips) (v93 : BitVec 32) (k0_hw25 : k0_chk25 v1_0 k0_t6 v93), 16 ∣ (k0_mult481 v93).toNat := fun v1_0 k0_t6 v93 k0_hw25 => k0_hw25.2.2.1.2.2.2.2.2.2.2.2.2.1
theorem k0_mult482_dvd : ∀ (v1_0 : BitVec 32) (k0_t6 : Fin (k0_t6_loop v1_0).trips) (v93 : BitVec 32) (k0_hw25 : k0_chk25 v1_0 k0_t6 v93), 16 ∣ (k0_mult482 v93).toNat := fun v1_0 k0_t6 v93 k0_hw25 => k0_hw25.2.2.1.2.2.2.2.2.2.2.2.2.2.1
theorem k0_mult483_dvd : ∀ (v1_0 : BitVec 32) (k0_t6 : Fin (k0_t6_loop v1_0).trips) (v93 : BitVec 32) (k0_hw25 : k0_chk25 v1_0 k0_t6 v93), 16 ∣ (k0_mult483 v93).toNat := fun v1_0 k0_t6 v93 k0_hw25 => k0_hw25.2.2.1.2.2.2.2.2.2.2.2.2.2.2.1
theorem k0_mult484_dvd : ∀ (v1_0 : BitVec 32) (k0_t6 : Fin (k0_t6_loop v1_0).trips) (v93 : BitVec 32) (k0_hw25 : k0_chk25 v1_0 k0_t6 v93), 16 ∣ (k0_mult484 v93).toNat := fun v1_0 k0_t6 v93 k0_hw25 => k0_hw25.2.2.1.2.2.2.2.2.2.2.2.2.2.2.2.1
theorem k0_mult485_dvd : ∀ (v1_0 : BitVec 32) (k0_t6 : Fin (k0_t6_loop v1_0).trips) (v93 : BitVec 32) (k0_hw25 : k0_chk25 v1_0 k0_t6 v93), 16 ∣ (k0_mult485 v93).toNat := fun v1_0 k0_t6 v93 k0_hw25 => k0_hw25.2.2.1.2.2.2.2.2.2.2.2.2.2.2.2.2.1
theorem k0_mult486_dvd : ∀ (v1_0 : BitVec 32) (k0_t6 : Fin (k0_t6_loop v1_0).trips) (v93 : BitVec 32) (k0_hw25 : k0_chk25 v1_0 k0_t6 v93), 16 ∣ (k0_mult486 v93).toNat := fun v1_0 k0_t6 v93 k0_hw25 => k0_hw25.2.2.1.2.2.2.2.2.2.2.2.2.2.2.2.2.2.1
theorem k0_mult487_dvd : ∀ (v1_0 : BitVec 32) (k0_t6 : Fin (k0_t6_loop v1_0).trips) (v93 : BitVec 32) (k0_hw25 : k0_chk25 v1_0 k0_t6 v93), 16 ∣ (k0_mult487 v93).toNat := fun v1_0 k0_t6 v93 k0_hw25 => k0_hw25.2.2.1.2.2.2.2.2.2.2.2.2.2.2.2.2.2.2.1
theorem k0_mult488_dvd : ∀ (v1_0 : BitVec 32) (k0_t6 : Fin (k0_t6_loop v1_0).trips) (v93 : BitVec 32) (k0_hw25 : k0_chk25 v1_0 k0_t6 v93), 16 ∣ (k0_mult488 v93).toNat := fun v1_0 k0_t6 v93 k0_hw25 => k0_hw25.2.2.1.2.2.2.2.2.2.2.2.2.2.2.2.2.2.2.2.1
theorem k0_mult489_dvd : ∀ (v1_0 : BitVec 32) (k0_t6 : Fin (k0_t6_loop v1_0).trips) (v93 : BitVec 32) (k0_hw25 : k0_chk25 v1_0 k0_t6 v93), 16 ∣ (k0_mult489 v93).toNat := fun v1_0 k0_t6 v93 k0_hw25 => k0_hw25.2.2.1.2.2.2.2.2.2.2.2.2.2.2.2.2.2.2.2.2.1
theorem k0_mult490_dvd : ∀ (v1_0 : BitVec 32) (k0_t6 : Fin (k0_t6_loop v1_0).trips) (v93 : BitVec 32) (k0_hw25 : k0_chk25 v1_0 k0_t6 v93), 16 ∣ (k0_mult490 v93).toNat := fun v1_0 k0_t6 v93 k0_hw25 => k0_hw25.2.2.1.2.2.2.2.2.2.2.2.2.2.2.2.2.2.2.2.2.2.1
theorem k0_mult491_dvd : ∀ (v1_0 : BitVec 32) (k0_t6 : Fin (k0_t6_loop v1_0).trips) (v93 : BitVec 32) (k0_hw25 : k0_chk25 v1_0 k0_t6 v93), 16 ∣ (k0_mult491 v93).toNat := fun v1_0 k0_t6 v93 k0_hw25 => k0_hw25.2.2.1.2.2.2.2.2.2.2.2.2.2.2.2.2.2.2.2.2.2.2.1
theorem k0_mult492_dvd : ∀ (v1_0 : BitVec 32) (k0_t6 : Fin (k0_t6_loop v1_0).trips) (v93 : BitVec 32) (k0_hw25 : k0_chk25 v1_0 k0_t6 v93), 16 ∣ (k0_mult492 v93).toNat := fun v1_0 k0_t6 v93 k0_hw25 => k0_hw25.2.2.1.2.2.2.2.2.2.2.2.2.2.2.2.2.2.2.2.2.2.2.2.1
theorem k0_mult493_dvd : ∀ (v1_0 : BitVec 32) (k0_t6 : Fin (k0_t6_loop v1_0).trips) (v93 : BitVec 32) (k0_hw25 : k0_chk25 v1_0 k0_t6 v93), 16 ∣ (k0_mult493 v93).toNat := fun v1_0 k0_t6 v93 k0_hw25 => k0_hw25.2.2.1.2.2.2.2.2.2.2.2.2.2.2.2.2.2.2.2.2.2.2.2.2.1
theorem k0_mult494_dvd : ∀ (v1_0 : BitVec 32) (k0_t6 : Fin (k0_t6_loop v1_0).trips) (v93 : BitVec 32) (k0_hw25 : k0_chk25 v1_0 k0_t6 v93), 16 ∣ (k0_mult494 v93).toNat := fun v1_0 k0_t6 v93 k0_hw25 => k0_hw25.2.2.1.2.2.2.2.2.2.2.2.2.2.2.2.2.2.2.2.2.2.2.2.2.2.1
theorem k0_mult495_dvd : ∀ (v1_0 : BitVec 32) (k0_t6 : Fin (k0_t6_loop v1_0).trips) (v93 : BitVec 32) (k0_hw25 : k0_chk25 v1_0 k0_t6 v93), 16 ∣ (k0_mult495 v93).toNat := fun v1_0 k0_t6 v93 k0_hw25 => k0_hw25.2.2.1.2.2.2.2.2.2.2.2.2.2.2.2.2.2.2.2.2.2.2.2.2.2.2.1
theorem k0_mult496_dvd : ∀ (v1_0 : BitVec 32) (k0_t6 : Fin (k0_t6_loop v1_0).trips) (v93 : BitVec 32) (k0_hw25 : k0_chk25 v1_0 k0_t6 v93), 16 ∣ (k0_mult496 v93).toNat := fun v1_0 k0_t6 v93 k0_hw25 => k0_hw25.2.2.1.2.2.2.2.2.2.2.2.2.2.2.2.2.2.2.2.2.2.2.2.2.2.2.2.1
theorem k0_mult497_dvd : ∀ (v1_0 : BitVec 32) (k0_t6 : Fin (k0_t6_loop v1_0).trips) (v93 : BitVec 32) (k0_hw25 : k0_chk25 v1_0 k0_t6 v93), 16 ∣ (k0_mult497 v93).toNat := fun v1_0 k0_t6 v93 k0_hw25 => k0_hw25.2.2.1.2.2.2.2.2.2.2.2.2.2.2.2.2.2.2.2.2.2.2.2.2.2.2.2.2.1
theorem k0_mult498_dvd : ∀ (v1_0 : BitVec 32) (k0_t6 : Fin (k0_t6_loop v1_0).trips) (v93 : BitVec 32) (k0_hw25 : k0_chk25 v1_0 k0_t6 v93), 16 ∣ (k0_mult498 v93).toNat := fun v1_0 k0_t6 v93 k0_hw25 => k0_hw25.2.2.1.2.2.2.2.2.2.2.2.2.2.2.2.2.2.2.2.2.2.2.2.2.2.2.2.2.2.1
theorem k0_mult499_dvd : ∀ (v1_0 : BitVec 32) (k0_t6 : Fin (k0_t6_loop v1_0).trips) (v93 : BitVec 32) (k0_hw25 : k0_chk25 v1_0 k0_t6 v93), 16 ∣ (k0_mult499 v93).toNat := fun v1_0 k0_t6 v93 k0_hw25 => k0_hw25.2.2.1.2.2.2.2.2.2.2.2.2.2.2.2.2.2.2.2.2.2.2.2.2.2.2.2.2.2.2.1
theorem k0_mult500_dvd : ∀ (v1_0 : BitVec 32) (k0_t6 : Fin (k0_t6_loop v1_0).trips) (v93 : BitVec 32) (k0_hw25 : k0_chk25 v1_0 k0_t6 v93), 16 ∣ (k0_mult500 v93).toNat := fun v1_0 k0_t6 v93 k0_hw25 => k0_hw25.2.2.1.2.2.2.2.2.2.2.2.2.2.2.2.2.2.2.2.2.2.2.2.2.2.2.2.2.2.2.2.1
theorem k0_mult501_dvd : ∀ (v1_0 : BitVec 32) (k0_t6 : Fin (k0_t6_loop v1_0).trips) (v93 : BitVec 32) (k0_hw25 : k0_chk25 v1_0 k0_t6 v93), 16 ∣ (k0_mult501 v93).toNat := fun v1_0 k0_t6 v93 k0_hw25 => k0_hw25.2.2.1.2.2.2.2.2.2.2.2.2.2.2.2.2.2.2.2.2.2.2.2.2.2.2.2.2.2.2.2.2.1
theorem k0_mult502_dvd : ∀ (v1_0 : BitVec 32) (k0_t6 : Fin (k0_t6_loop v1_0).trips) (v93 : BitVec 32) (k0_hw25 : k0_chk25 v1_0 k0_t6 v93), 16 ∣ (k0_mult502 v93).toNat := fun v1_0 k0_t6 v93 k0_hw25 => k0_hw25.2.2.1.2.2.2.2.2.2.2.2.2.2.2.2.2.2.2.2.2.2.2.2.2.2.2.2.2.2.2.2.2.2.1
theorem k0_mult503_dvd : ∀ (v1_0 : BitVec 32) (k0_t6 : Fin (k0_t6_loop v1_0).trips) (v93 : BitVec 32) (k0_hw25 : k0_chk25 v1_0 k0_t6 v93), 16 ∣ (k0_mult503 v93).toNat := fun v1_0 k0_t6 v93 k0_hw25 => k0_hw25.2.2.1.2.2.2.2.2.2.2.2.2.2.2.2.2.2.2.2.2.2.2.2.2.2.2.2.2.2.2.2.2.2.2
theorem k0_mult504_dvd : ∀ (v1_0 : BitVec 32) (k0_t6 : Fin (k0_t6_loop v1_0).trips) (v93 : BitVec 32) (k0_hw25 : k0_chk25 v1_0 k0_t6 v93), 16 ∣ (k0_mult504 v93).toNat := fun v1_0 k0_t6 v93 k0_hw25 => k0_hw25.2.2.2.1.1
theorem k0_mult505_dvd : ∀ (v1_0 : BitVec 32) (k0_t6 : Fin (k0_t6_loop v1_0).trips) (v93 : BitVec 32) (k0_hw25 : k0_chk25 v1_0 k0_t6 v93), 16 ∣ (k0_mult505 v93).toNat := fun v1_0 k0_t6 v93 k0_hw25 => k0_hw25.2.2.2.1.2.1
theorem k0_mult506_dvd : ∀ (v1_0 : BitVec 32) (k0_t6 : Fin (k0_t6_loop v1_0).trips) (v93 : BitVec 32) (k0_hw25 : k0_chk25 v1_0 k0_t6 v93), 16 ∣ (k0_mult506 v93).toNat := fun v1_0 k0_t6 v93 k0_hw25 => k0_hw25.2.2.2.1.2.2.1
theorem k0_mult507_dvd : ∀ (v1_0 : BitVec 32) (k0_t6 : Fin (k0_t6_loop v1_0).trips) (v93 : BitVec 32) (k0_hw25 : k0_chk25 v1_0 k0_t6 v93), 16 ∣ (k0_mult507 v93).toNat := fun v1_0 k0_t6 v93 k0_hw25 => k0_hw25.2.2.2.1.2.2.2.1
theorem k0_mult508_dvd : ∀ (v1_0 : BitVec 32) (k0_t6 : Fin (k0_t6_loop v1_0).trips) (v93 : BitVec 32) (k0_hw25 : k0_chk25 v1_0 k0_t6 v93), 16 ∣ (k0_mult508 v93).toNat := fun v1_0 k0_t6 v93 k0_hw25 => k0_hw25.2.2.2.1.2.2.2.2.1
theorem k0_mult509_dvd : ∀ (v1_0 : BitVec 32) (k0_t6 : Fin (k0_t6_loop v1_0).trips) (v93 : BitVec 32) (k0_hw25 : k0_chk25 v1_0 k0_t6 v93), 16 ∣ (k0_mult509 v93).toNat := fun v1_0 k0_t6 v93 k0_hw25 => k0_hw25.2.2.2.1.2.2.2.2.2.1
theorem k0_mult510_dvd : ∀ (v1_0 : BitVec 32) (k0_t6 : Fin (k0_t6_loop v1_0).trips) (v93 : BitVec 32) (k0_hw25 : k0_chk25 v1_0 k0_t6 v93), 16 ∣ (k0_mult510 v93).toNat := fun v1_0 k0_t6 v93 k0_hw25 => k0_hw25.2.2.2.1.2.2.2.2.2.2.1
theorem k0_mult511_dvd : ∀ (v1_0 : BitVec 32) (k0_t6 : Fin (k0_t6_loop v1_0).trips) (v93 : BitVec 32) (k0_hw25 : k0_chk25 v1_0 k0_t6 v93), 16 ∣ (k0_mult511 v93).toNat := fun v1_0 k0_t6 v93 k0_hw25 => k0_hw25.2.2.2.1.2.2.2.2.2.2.2.1
theorem k0_off101_inb : ∀ (v1_0 : BitVec 32) (k0_t6 : Fin (k0_t6_loop v1_0).trips) (v93 : BitVec 32) (k0_hw25 : k0_chk25 v1_0 k0_t6 v93), ∀ (r : Fin 16), ∀ a, (k0_off101 v1_0 k0_t6 v93 (BitVec.ofNat 32 (16 * r.val))) a + S1x16x128.size a ≤ S2x256x3072.size a := fun v1_0 k0_t6 v93 k0_hw25 r => k0_hw25.2.2.2.1.2.2.2.2.2.2.2.2.1 r
theorem k0_mult512_dvd : ∀ (v1_0 : BitVec 32) (k0_t6 : Fin (k0_t6_loop v1_0).trips) (v93 : BitVec 32) (k0_hw25 : k0_chk25 v1_0 k0_t6 v93), 16 ∣ (k0_mult512 v93).toNat := fun v1_0 k0_t6 v93 k0_hw25 => k0_hw25.2.2.2.1.2.2.2.2.2.2.2.2.2.1
theorem k0_off102_inb : ∀ (v1_0 : BitVec 32) (k0_t6 : Fin (k0_t6_loop v1_0).trips) (v93 : BitVec 32) (k0_hw25 : k0_chk25 v1_0 k0_t6 v93), ∀ (r : Fin 16), ∀ a, (k0_off102 v1_0 k0_t6 v93 (BitVec.ofNat 32 (16 * r.val))) a + S1x16x128.size a ≤ S2x256x3072.size a := fun v1_0 k0_t6 v93 k0_hw25 r => k0_hw25.2.2.2.1.2.2.2.2.2.2.2.2.2.2.1 r
theorem k0_mult513_dvd : ∀ (v1_0 : BitVec 32) (k0_t6 : Fin (k0_t6_loop v1_0).trips) (v93 : BitVec 32) (k0_hw25 : k0_chk25 v1_0 k0_t6 v93), 16 ∣ (k0_mult513 v93).toNat := fun v1_0 k0_t6 v93 k0_hw25 => k0_hw25.2.2.2.1.2.2.2.2.2.2.2.2.2.2.2.1
theorem k0_mult514_dvd : ∀ (v1_0 : BitVec 32) (k0_t6 : Fin (k0_t6_loop v1_0).trips) (v93 : BitVec 32) (k0_hw25 : k0_chk25 v1_0 k0_t6 v93), 16 ∣ (k0_mult514 v93).toNat := fun v1_0 k0_t6 v93 k0_hw25 => k0_hw25.2.2.2.1.2.2.2.2.2.2.2.2.2.2.2.2.1
theorem k0_mult515_dvd : ∀ (v1_0 : BitVec 32) (k0_t6 : Fin (k0_t6_loop v1_0).trips) (v93 : BitVec 32) (k0_hw25 : k0_chk25 v1_0 k0_t6 v93), 16 ∣ (k0_mult515 v93).toNat := fun v1_0 k0_t6 v93 k0_hw25 => k0_hw25.2.2.2.1.2.2.2.2.2.2.2.2.2.2.2.2.2.1
theorem k0_mult516_dvd : ∀ (v1_0 : BitVec 32) (k0_t6 : Fin (k0_t6_loop v1_0).trips) (v93 : BitVec 32) (k0_hw25 : k0_chk25 v1_0 k0_t6 v93), 16 ∣ (k0_mult516 v93).toNat := fun v1_0 k0_t6 v93 k0_hw25 => k0_hw25.2.2.2.1.2.2.2.2.2.2.2.2.2.2.2.2.2.2.1
theorem k0_mult517_dvd : ∀ (v1_0 : BitVec 32) (k0_t6 : Fin (k0_t6_loop v1_0).trips) (v93 : BitVec 32) (k0_hw25 : k0_chk25 v1_0 k0_t6 v93), 16 ∣ (k0_mult517 v93).toNat := fun v1_0 k0_t6 v93 k0_hw25 => k0_hw25.2.2.2.1.2.2.2.2.2.2.2.2.2.2.2.2.2.2.2.1
theorem k0_mult518_dvd : ∀ (v1_0 : BitVec 32) (k0_t6 : Fin (k0_t6_loop v1_0).trips) (v93 : BitVec 32) (k0_hw25 : k0_chk25 v1_0 k0_t6 v93), 16 ∣ (k0_mult518 v93).toNat := fun v1_0 k0_t6 v93 k0_hw25 => k0_hw25.2.2.2.1.2.2.2.2.2.2.2.2.2.2.2.2.2.2.2.2.1
theorem k0_mult519_dvd : ∀ (v1_0 : BitVec 32) (k0_t6 : Fin (k0_t6_loop v1_0).trips) (v93 : BitVec 32) (k0_hw25 : k0_chk25 v1_0 k0_t6 v93), 16 ∣ (k0_mult519 v93).toNat := fun v1_0 k0_t6 v93 k0_hw25 => k0_hw25.2.2.2.1.2.2.2.2.2.2.2.2.2.2.2.2.2.2.2.2.2.1
theorem k0_mult520_dvd : ∀ (v1_0 : BitVec 32) (k0_t6 : Fin (k0_t6_loop v1_0).trips) (v93 : BitVec 32) (k0_hw25 : k0_chk25 v1_0 k0_t6 v93), 16 ∣ (k0_mult520 v93).toNat := fun v1_0 k0_t6 v93 k0_hw25 => k0_hw25.2.2.2.1.2.2.2.2.2.2.2.2.2.2.2.2.2.2.2.2.2.2.1
theorem k0_mult521_dvd : ∀ (v1_0 : BitVec 32) (k0_t6 : Fin (k0_t6_loop v1_0).trips) (v93 : BitVec 32) (k0_hw25 : k0_chk25 v1_0 k0_t6 v93), 16 ∣ (k0_mult521 v93).toNat := fun v1_0 k0_t6 v93 k0_hw25 => k0_hw25.2.2.2.1.2.2.2.2.2.2.2.2.2.2.2.2.2.2.2.2.2.2.2.1
theorem k0_mult522_dvd : ∀ (v1_0 : BitVec 32) (k0_t6 : Fin (k0_t6_loop v1_0).trips) (v93 : BitVec 32) (k0_hw25 : k0_chk25 v1_0 k0_t6 v93), 16 ∣ (k0_mult522 v93).toNat := fun v1_0 k0_t6 v93 k0_hw25 => k0_hw25.2.2.2.1.2.2.2.2.2.2.2.2.2.2.2.2.2.2.2.2.2.2.2.2.1
theorem k0_mult523_dvd : ∀ (v1_0 : BitVec 32) (k0_t6 : Fin (k0_t6_loop v1_0).trips) (v93 : BitVec 32) (k0_hw25 : k0_chk25 v1_0 k0_t6 v93), 16 ∣ (k0_mult523 v93).toNat := fun v1_0 k0_t6 v93 k0_hw25 => k0_hw25.2.2.2.1.2.2.2.2.2.2.2.2.2.2.2.2.2.2.2.2.2.2.2.2.2.1
theorem k0_mult524_dvd : ∀ (v1_0 : BitVec 32) (k0_t6 : Fin (k0_t6_loop v1_0).trips) (v93 : BitVec 32) (k0_hw25 : k0_chk25 v1_0 k0_t6 v93), 16 ∣ (k0_mult524 v93).toNat := fun v1_0 k0_t6 v93 k0_hw25 => k0_hw25.2.2.2.1.2.2.2.2.2.2.2.2.2.2.2.2.2.2.2.2.2.2.2.2.2.2.1
theorem k0_mult525_dvd : ∀ (v1_0 : BitVec 32) (k0_t6 : Fin (k0_t6_loop v1_0).trips) (v93 : BitVec 32) (k0_hw25 : k0_chk25 v1_0 k0_t6 v93), 16 ∣ (k0_mult525 v93).toNat := fun v1_0 k0_t6 v93 k0_hw25 => k0_hw25.2.2.2.1.2.2.2.2.2.2.2.2.2.2.2.2.2.2.2.2.2.2.2.2.2.2.2.1
theorem k0_mult526_dvd : ∀ (v1_0 : BitVec 32) (k0_t6 : Fin (k0_t6_loop v1_0).trips) (v93 : BitVec 32) (k0_hw25 : k0_chk25 v1_0 k0_t6 v93), 16 ∣ (k0_mult526 v93).toNat := fun v1_0 k0_t6 v93 k0_hw25 => k0_hw25.2.2.2.1.2.2.2.2.2.2.2.2.2.2.2.2.2.2.2.2.2.2.2.2.2.2.2.2.1
theorem k0_mult527_dvd : ∀ (v1_0 : BitVec 32) (k0_t6 : Fin (k0_t6_loop v1_0).trips) (v93 : BitVec 32) (k0_hw25 : k0_chk25 v1_0 k0_t6 v93), 16 ∣ (k0_mult527 v93).toNat := fun v1_0 k0_t6 v93 k0_hw25 => k0_hw25.2.2.2.1.2.2.2.2.2.2.2.2.2.2.2.2.2.2.2.2.2.2.2.2.2.2.2.2.2.1
theorem k0_mult528_dvd : ∀ (v1_0 : BitVec 32) (k0_t6 : Fin (k0_t6_loop v1_0).trips) (v93 : BitVec 32) (k0_hw25 : k0_chk25 v1_0 k0_t6 v93), 16 ∣ (k0_mult528 v93).toNat := fun v1_0 k0_t6 v93 k0_hw25 => k0_hw25.2.2.2.1.2.2.2.2.2.2.2.2.2.2.2.2.2.2.2.2.2.2.2.2.2.2.2.2.2.2.1
theorem k0_mult529_dvd : ∀ (v1_0 : BitVec 32) (k0_t6 : Fin (k0_t6_loop v1_0).trips) (v93 : BitVec 32) (k0_hw25 : k0_chk25 v1_0 k0_t6 v93), 16 ∣ (k0_mult529 v93).toNat := fun v1_0 k0_t6 v93 k0_hw25 => k0_hw25.2.2.2.1.2.2.2.2.2.2.2.2.2.2.2.2.2.2.2.2.2.2.2.2.2.2.2.2.2.2.2.1
theorem k0_mult530_dvd : ∀ (v1_0 : BitVec 32) (k0_t6 : Fin (k0_t6_loop v1_0).trips) (v93 : BitVec 32) (k0_hw25 : k0_chk25 v1_0 k0_t6 v93), 16 ∣ (k0_mult530 v93).toNat := fun v1_0 k0_t6 v93 k0_hw25 => k0_hw25.2.2.2.1.2.2.2.2.2.2.2.2.2.2.2.2.2.2.2.2.2.2.2.2.2.2.2.2.2.2.2.2.1
theorem k0_mult531_dvd : ∀ (v1_0 : BitVec 32) (k0_t6 : Fin (k0_t6_loop v1_0).trips) (v93 : BitVec 32) (k0_hw25 : k0_chk25 v1_0 k0_t6 v93), 16 ∣ (k0_mult531 v93).toNat := fun v1_0 k0_t6 v93 k0_hw25 => k0_hw25.2.2.2.1.2.2.2.2.2.2.2.2.2.2.2.2.2.2.2.2.2.2.2.2.2.2.2.2.2.2.2.2.2.1
theorem k0_mult532_dvd : ∀ (v1_0 : BitVec 32) (k0_t6 : Fin (k0_t6_loop v1_0).trips) (v93 : BitVec 32) (k0_hw25 : k0_chk25 v1_0 k0_t6 v93), 16 ∣ (k0_mult532 v93).toNat := fun v1_0 k0_t6 v93 k0_hw25 => k0_hw25.2.2.2.1.2.2.2.2.2.2.2.2.2.2.2.2.2.2.2.2.2.2.2.2.2.2.2.2.2.2.2.2.2.2.1
theorem k0_mult533_dvd : ∀ (v1_0 : BitVec 32) (k0_t6 : Fin (k0_t6_loop v1_0).trips) (v93 : BitVec 32) (k0_hw25 : k0_chk25 v1_0 k0_t6 v93), 16 ∣ (k0_mult533 v93).toNat := fun v1_0 k0_t6 v93 k0_hw25 => k0_hw25.2.2.2.1.2.2.2.2.2.2.2.2.2.2.2.2.2.2.2.2.2.2.2.2.2.2.2.2.2.2.2.2.2.2.2
theorem k0_mult534_dvd : ∀ (v1_0 : BitVec 32) (k0_t6 : Fin (k0_t6_loop v1_0).trips) (v93 : BitVec 32) (k0_hw25 : k0_chk25 v1_0 k0_t6 v93), 16 ∣ (k0_mult534 v93).toNat := fun v1_0 k0_t6 v93 k0_hw25 => k0_hw25.2.2.2.2.1.1
theorem k0_mult535_dvd : ∀ (v1_0 : BitVec 32) (k0_t6 : Fin (k0_t6_loop v1_0).trips) (v93 : BitVec 32) (k0_hw25 : k0_chk25 v1_0 k0_t6 v93), 16 ∣ (k0_mult535 v93).toNat := fun v1_0 k0_t6 v93 k0_hw25 => k0_hw25.2.2.2.2.1.2.1
theorem k0_mult536_dvd : ∀ (v1_0 : BitVec 32) (k0_t6 : Fin (k0_t6_loop v1_0).trips) (v93 : BitVec 32) (k0_hw25 : k0_chk25 v1_0 k0_t6 v93), 16 ∣ (k0_mult536 v93).toNat := fun v1_0 k0_t6 v93 k0_hw25 => k0_hw25.2.2.2.2.1.2.2.1
theorem k0_mult537_dvd : ∀ (v1_0 : BitVec 32) (k0_t6 : Fin (k0_t6_loop v1_0).trips) (v93 : BitVec 32) (k0_hw25 : k0_chk25 v1_0 k0_t6 v93), 16 ∣ (k0_mult537 v93).toNat := fun v1_0 k0_t6 v93 k0_hw25 => k0_hw25.2.2.2.2.1.2.2.2.1
theorem k0_mult538_dvd : ∀ (v1_0 : BitVec 32) (k0_t6 : Fin (k0_t6_loop v1_0).trips) (v93 : BitVec 32) (k0_hw25 : k0_chk25 v1_0 k0_t6 v93), 16 ∣ (k0_mult538 v93).toNat := fun v1_0 k0_t6 v93 k0_hw25 => k0_hw25.2.2.2.2.1.2.2.2.2.1
theorem k0_mult539_dvd : ∀ (v1_0 : BitVec 32) (k0_t6 : Fin (k0_t6_loop v1_0).trips) (v93 : BitVec 32) (k0_hw25 : k0_chk25 v1_0 k0_t6 v93), 16 ∣ (k0_mult539 v93).toNat := fun v1_0 k0_t6 v93 k0_hw25 => k0_hw25.2.2.2.2.1.2.2.2.2.2.1
theorem k0_mult540_dvd : ∀ (v1_0 : BitVec 32) (k0_t6 : Fin (k0_t6_loop v1_0).trips) (v93 : BitVec 32) (k0_hw25 : k0_chk25 v1_0 k0_t6 v93), 16 ∣ (k0_mult540 v93).toNat := fun v1_0 k0_t6 v93 k0_hw25 => k0_hw25.2.2.2.2.1.2.2.2.2.2.2.1
theorem k0_mult541_dvd : ∀ (v1_0 : BitVec 32) (k0_t6 : Fin (k0_t6_loop v1_0).trips) (v93 : BitVec 32) (k0_hw25 : k0_chk25 v1_0 k0_t6 v93), 16 ∣ (k0_mult541 v93).toNat := fun v1_0 k0_t6 v93 k0_hw25 => k0_hw25.2.2.2.2.1.2.2.2.2.2.2.2.1
theorem k0_mult542_dvd : ∀ (v1_0 : BitVec 32) (k0_t6 : Fin (k0_t6_loop v1_0).trips) (v93 : BitVec 32) (k0_hw25 : k0_chk25 v1_0 k0_t6 v93), 16 ∣ (k0_mult542 v93).toNat := fun v1_0 k0_t6 v93 k0_hw25 => k0_hw25.2.2.2.2.1.2.2.2.2.2.2.2.2.1
theorem k0_mult543_dvd : ∀ (v1_0 : BitVec 32) (k0_t6 : Fin (k0_t6_loop v1_0).trips) (v93 : BitVec 32) (k0_hw25 : k0_chk25 v1_0 k0_t6 v93), 16 ∣ (k0_mult543 v93).toNat := fun v1_0 k0_t6 v93 k0_hw25 => k0_hw25.2.2.2.2.1.2.2.2.2.2.2.2.2.2.1
theorem k0_off103_inb : ∀ (v1_0 : BitVec 32) (k0_t6 : Fin (k0_t6_loop v1_0).trips) (v93 : BitVec 32) (k0_hw25 : k0_chk25 v1_0 k0_t6 v93), ∀ (r : Fin 16), ∀ a, (k0_off103 v1_0 k0_t6 v93 (BitVec.ofNat 32 (16 * r.val))) a + S1x16x128.size a ≤ S2x256x3072.size a := fun v1_0 k0_t6 v93 k0_hw25 r => k0_hw25.2.2.2.2.1.2.2.2.2.2.2.2.2.2.2.1 r
theorem k0_mult544_dvd : ∀ (v1_0 : BitVec 32) (k0_t6 : Fin (k0_t6_loop v1_0).trips) (v93 : BitVec 32) (k0_hw25 : k0_chk25 v1_0 k0_t6 v93), 16 ∣ (k0_mult544 v93).toNat := fun v1_0 k0_t6 v93 k0_hw25 => k0_hw25.2.2.2.2.1.2.2.2.2.2.2.2.2.2.2.2.1
theorem k0_off104_inb : ∀ (v1_0 : BitVec 32) (k0_t6 : Fin (k0_t6_loop v1_0).trips) (v93 : BitVec 32) (k0_hw25 : k0_chk25 v1_0 k0_t6 v93), ∀ (r : Fin 16), ∀ a, (k0_off104 v1_0 k0_t6 v93 (BitVec.ofNat 32 (16 * r.val))) a + S1x16x128.size a ≤ S2x256x3072.size a := fun v1_0 k0_t6 v93 k0_hw25 r => k0_hw25.2.2.2.2.1.2.2.2.2.2.2.2.2.2.2.2.2.1 r
theorem k0_mult545_dvd : ∀ (v1_0 : BitVec 32) (k0_t6 : Fin (k0_t6_loop v1_0).trips) (v93 : BitVec 32) (k0_hw25 : k0_chk25 v1_0 k0_t6 v93), 16 ∣ (k0_mult545 v93).toNat := fun v1_0 k0_t6 v93 k0_hw25 => k0_hw25.2.2.2.2.1.2.2.2.2.2.2.2.2.2.2.2.2.2.1
theorem k0_mult546_dvd : ∀ (v1_0 : BitVec 32) (k0_t6 : Fin (k0_t6_loop v1_0).trips) (v93 : BitVec 32) (k0_hw25 : k0_chk25 v1_0 k0_t6 v93), 16 ∣ (k0_mult546 v93).toNat := fun v1_0 k0_t6 v93 k0_hw25 => k0_hw25.2.2.2.2.1.2.2.2.2.2.2.2.2.2.2.2.2.2.2.1
theorem k0_mult547_dvd : ∀ (v1_0 : BitVec 32) (k0_t6 : Fin (k0_t6_loop v1_0).trips) (v93 : BitVec 32) (k0_hw25 : k0_chk25 v1_0 k0_t6 v93), 16 ∣ (k0_mult547 v93).toNat := fun v1_0 k0_t6 v93 k0_hw25 => k0_hw25.2.2.2.2.1.2.2.2.2.2.2.2.2.2.2.2.2.2.2.2.1
theorem k0_mult548_dvd : ∀ (v1_0 : BitVec 32) (k0_t6 : Fin (k0_t6_loop v1_0).trips) (v93 : BitVec 32) (k0_hw25 : k0_chk25 v1_0 k0_t6 v93), 16 ∣ (k0_mult548 v93).toNat := fun v1_0 k0_t6 v93 k0_hw25 => k0_hw25.2.2.2.2.1.2.2.2.2.2.2.2.2.2.2.2.2.2.2.2.2.1
theorem k0_mult549_dvd : ∀ (v1_0 : BitVec 32) (k0_t6 : Fin (k0_t6_loop v1_0).trips) (v93 : BitVec 32) (k0_hw25 : k0_chk25 v1_0 k0_t6 v93), 16 ∣ (k0_mult549 v93).toNat := fun v1_0 k0_t6 v93 k0_hw25 => k0_hw25.2.2.2.2.1.2.2.2.2.2.2.2.2.2.2.2.2.2.2.2.2.2.1
theorem k0_mult550_dvd : ∀ (v1_0 : BitVec 32) (k0_t6 : Fin (k0_t6_loop v1_0).trips) (v93 : BitVec 32) (k0_hw25 : k0_chk25 v1_0 k0_t6 v93), 16 ∣ (k0_mult550 v93).toNat := fun v1_0 k0_t6 v93 k0_hw25 => k0_hw25.2.2.2.2.1.2.2.2.2.2.2.2.2.2.2.2.2.2.2.2.2.2.2.1
theorem k0_mult551_dvd : ∀ (v1_0 : BitVec 32) (k0_t6 : Fin (k0_t6_loop v1_0).trips) (v93 : BitVec 32) (k0_hw25 : k0_chk25 v1_0 k0_t6 v93), 16 ∣ (k0_mult551 v93).toNat := fun v1_0 k0_t6 v93 k0_hw25 => k0_hw25.2.2.2.2.1.2.2.2.2.2.2.2.2.2.2.2.2.2.2.2.2.2.2.2.1
theorem k0_mult552_dvd : ∀ (v1_0 : BitVec 32) (k0_t6 : Fin (k0_t6_loop v1_0).trips) (v93 : BitVec 32) (k0_hw25 : k0_chk25 v1_0 k0_t6 v93), 16 ∣ (k0_mult552 v93).toNat := fun v1_0 k0_t6 v93 k0_hw25 => k0_hw25.2.2.2.2.1.2.2.2.2.2.2.2.2.2.2.2.2.2.2.2.2.2.2.2.2.1
theorem k0_mult553_dvd : ∀ (v1_0 : BitVec 32) (k0_t6 : Fin (k0_t6_loop v1_0).trips) (v93 : BitVec 32) (k0_hw25 : k0_chk25 v1_0 k0_t6 v93), 16 ∣ (k0_mult553 v93).toNat := fun v1_0 k0_t6 v93 k0_hw25 => k0_hw25.2.2.2.2.1.2.2.2.2.2.2.2.2.2.2.2.2.2.2.2.2.2.2.2.2.2.1
theorem k0_mult554_dvd : ∀ (v1_0 : BitVec 32) (k0_t6 : Fin (k0_t6_loop v1_0).trips) (v93 : BitVec 32) (k0_hw25 : k0_chk25 v1_0 k0_t6 v93), 16 ∣ (k0_mult554 v93).toNat := fun v1_0 k0_t6 v93 k0_hw25 => k0_hw25.2.2.2.2.1.2.2.2.2.2.2.2.2.2.2.2.2.2.2.2.2.2.2.2.2.2.2.1
theorem k0_mult555_dvd : ∀ (v1_0 : BitVec 32) (k0_t6 : Fin (k0_t6_loop v1_0).trips) (v93 : BitVec 32) (k0_hw25 : k0_chk25 v1_0 k0_t6 v93), 16 ∣ (k0_mult555 v93).toNat := fun v1_0 k0_t6 v93 k0_hw25 => k0_hw25.2.2.2.2.1.2.2.2.2.2.2.2.2.2.2.2.2.2.2.2.2.2.2.2.2.2.2.2.1
theorem k0_mult556_dvd : ∀ (v1_0 : BitVec 32) (k0_t6 : Fin (k0_t6_loop v1_0).trips) (v93 : BitVec 32) (k0_hw25 : k0_chk25 v1_0 k0_t6 v93), 16 ∣ (k0_mult556 v93).toNat := fun v1_0 k0_t6 v93 k0_hw25 => k0_hw25.2.2.2.2.1.2.2.2.2.2.2.2.2.2.2.2.2.2.2.2.2.2.2.2.2.2.2.2.2.1
theorem k0_mult557_dvd : ∀ (v1_0 : BitVec 32) (k0_t6 : Fin (k0_t6_loop v1_0).trips) (v93 : BitVec 32) (k0_hw25 : k0_chk25 v1_0 k0_t6 v93), 16 ∣ (k0_mult557 v93).toNat := fun v1_0 k0_t6 v93 k0_hw25 => k0_hw25.2.2.2.2.1.2.2.2.2.2.2.2.2.2.2.2.2.2.2.2.2.2.2.2.2.2.2.2.2.2.1
theorem k0_mult558_dvd : ∀ (v1_0 : BitVec 32) (k0_t6 : Fin (k0_t6_loop v1_0).trips) (v93 : BitVec 32) (k0_hw25 : k0_chk25 v1_0 k0_t6 v93), 16 ∣ (k0_mult558 v93).toNat := fun v1_0 k0_t6 v93 k0_hw25 => k0_hw25.2.2.2.2.1.2.2.2.2.2.2.2.2.2.2.2.2.2.2.2.2.2.2.2.2.2.2.2.2.2.2.1
theorem k0_mult559_dvd : ∀ (v1_0 : BitVec 32) (k0_t6 : Fin (k0_t6_loop v1_0).trips) (v93 : BitVec 32) (k0_hw25 : k0_chk25 v1_0 k0_t6 v93), 16 ∣ (k0_mult559 v93).toNat := fun v1_0 k0_t6 v93 k0_hw25 => k0_hw25.2.2.2.2.1.2.2.2.2.2.2.2.2.2.2.2.2.2.2.2.2.2.2.2.2.2.2.2.2.2.2.2.1
theorem k0_mult560_dvd : ∀ (v1_0 : BitVec 32) (k0_t6 : Fin (k0_t6_loop v1_0).trips) (v93 : BitVec 32) (k0_hw25 : k0_chk25 v1_0 k0_t6 v93), 16 ∣ (k0_mult560 v93).toNat := fun v1_0 k0_t6 v93 k0_hw25 => k0_hw25.2.2.2.2.1.2.2.2.2.2.2.2.2.2.2.2.2.2.2.2.2.2.2.2.2.2.2.2.2.2.2.2.2.1
theorem k0_mult561_dvd : ∀ (v1_0 : BitVec 32) (k0_t6 : Fin (k0_t6_loop v1_0).trips) (v93 : BitVec 32) (k0_hw25 : k0_chk25 v1_0 k0_t6 v93), 16 ∣ (k0_mult561 v93).toNat := fun v1_0 k0_t6 v93 k0_hw25 => k0_hw25.2.2.2.2.1.2.2.2.2.2.2.2.2.2.2.2.2.2.2.2.2.2.2.2.2.2.2.2.2.2.2.2.2.2.1
theorem k0_mult562_dvd : ∀ (v1_0 : BitVec 32) (k0_t6 : Fin (k0_t6_loop v1_0).trips) (v93 : BitVec 32) (k0_hw25 : k0_chk25 v1_0 k0_t6 v93), 16 ∣ (k0_mult562 v93).toNat := fun v1_0 k0_t6 v93 k0_hw25 => k0_hw25.2.2.2.2.1.2.2.2.2.2.2.2.2.2.2.2.2.2.2.2.2.2.2.2.2.2.2.2.2.2.2.2.2.2.2.1
theorem k0_mult563_dvd : ∀ (v1_0 : BitVec 32) (k0_t6 : Fin (k0_t6_loop v1_0).trips) (v93 : BitVec 32) (k0_hw25 : k0_chk25 v1_0 k0_t6 v93), 16 ∣ (k0_mult563 v93).toNat := fun v1_0 k0_t6 v93 k0_hw25 => k0_hw25.2.2.2.2.1.2.2.2.2.2.2.2.2.2.2.2.2.2.2.2.2.2.2.2.2.2.2.2.2.2.2.2.2.2.2.2
theorem k0_mult564_dvd : ∀ (v1_0 : BitVec 32) (k0_t6 : Fin (k0_t6_loop v1_0).trips) (v93 : BitVec 32) (k0_hw25 : k0_chk25 v1_0 k0_t6 v93), 16 ∣ (k0_mult564 v93).toNat := fun v1_0 k0_t6 v93 k0_hw25 => k0_hw25.2.2.2.2.2.1.1
theorem k0_mult565_dvd : ∀ (v1_0 : BitVec 32) (k0_t6 : Fin (k0_t6_loop v1_0).trips) (v93 : BitVec 32) (k0_hw25 : k0_chk25 v1_0 k0_t6 v93), 16 ∣ (k0_mult565 v93).toNat := fun v1_0 k0_t6 v93 k0_hw25 => k0_hw25.2.2.2.2.2.1.2.1
theorem k0_mult566_dvd : ∀ (v1_0 : BitVec 32) (k0_t6 : Fin (k0_t6_loop v1_0).trips) (v93 : BitVec 32) (k0_hw25 : k0_chk25 v1_0 k0_t6 v93), 16 ∣ (k0_mult566 v93).toNat := fun v1_0 k0_t6 v93 k0_hw25 => k0_hw25.2.2.2.2.2.1.2.2.1
theorem k0_mult567_dvd : ∀ (v1_0 : BitVec 32) (k0_t6 : Fin (k0_t6_loop v1_0).trips) (v93 : BitVec 32) (k0_hw25 : k0_chk25 v1_0 k0_t6 v93), 16 ∣ (k0_mult567 v93).toNat := fun v1_0 k0_t6 v93 k0_hw25 => k0_hw25.2.2.2.2.2.1.2.2.2.1
theorem k0_mult568_dvd : ∀ (v1_0 : BitVec 32) (k0_t6 : Fin (k0_t6_loop v1_0).trips) (v93 : BitVec 32) (k0_hw25 : k0_chk25 v1_0 k0_t6 v93), 16 ∣ (k0_mult568 v93).toNat := fun v1_0 k0_t6 v93 k0_hw25 => k0_hw25.2.2.2.2.2.1.2.2.2.2.1
theorem k0_mult569_dvd : ∀ (v1_0 : BitVec 32) (k0_t6 : Fin (k0_t6_loop v1_0).trips) (v93 : BitVec 32) (k0_hw25 : k0_chk25 v1_0 k0_t6 v93), 16 ∣ (k0_mult569 v93).toNat := fun v1_0 k0_t6 v93 k0_hw25 => k0_hw25.2.2.2.2.2.1.2.2.2.2.2.1
theorem k0_mult570_dvd : ∀ (v1_0 : BitVec 32) (k0_t6 : Fin (k0_t6_loop v1_0).trips) (v93 : BitVec 32) (k0_hw25 : k0_chk25 v1_0 k0_t6 v93), 16 ∣ (k0_mult570 v93).toNat := fun v1_0 k0_t6 v93 k0_hw25 => k0_hw25.2.2.2.2.2.1.2.2.2.2.2.2.1
theorem k0_mult571_dvd : ∀ (v1_0 : BitVec 32) (k0_t6 : Fin (k0_t6_loop v1_0).trips) (v93 : BitVec 32) (k0_hw25 : k0_chk25 v1_0 k0_t6 v93), 16 ∣ (k0_mult571 v93).toNat := fun v1_0 k0_t6 v93 k0_hw25 => k0_hw25.2.2.2.2.2.1.2.2.2.2.2.2.2.1
theorem k0_mult572_dvd : ∀ (v1_0 : BitVec 32) (k0_t6 : Fin (k0_t6_loop v1_0).trips) (v93 : BitVec 32) (k0_hw25 : k0_chk25 v1_0 k0_t6 v93), 16 ∣ (k0_mult572 v93).toNat := fun v1_0 k0_t6 v93 k0_hw25 => k0_hw25.2.2.2.2.2.1.2.2.2.2.2.2.2.2.1
theorem k0_mult573_dvd : ∀ (v1_0 : BitVec 32) (k0_t6 : Fin (k0_t6_loop v1_0).trips) (v93 : BitVec 32) (k0_hw25 : k0_chk25 v1_0 k0_t6 v93), 16 ∣ (k0_mult573 v93).toNat := fun v1_0 k0_t6 v93 k0_hw25 => k0_hw25.2.2.2.2.2.1.2.2.2.2.2.2.2.2.2.1
theorem k0_mult574_dvd : ∀ (v1_0 : BitVec 32) (k0_t6 : Fin (k0_t6_loop v1_0).trips) (v93 : BitVec 32) (k0_hw25 : k0_chk25 v1_0 k0_t6 v93), 16 ∣ (k0_mult574 v93).toNat := fun v1_0 k0_t6 v93 k0_hw25 => k0_hw25.2.2.2.2.2.1.2.2.2.2.2.2.2.2.2.2.1
theorem k0_mult575_dvd : ∀ (v1_0 : BitVec 32) (k0_t6 : Fin (k0_t6_loop v1_0).trips) (v93 : BitVec 32) (k0_hw25 : k0_chk25 v1_0 k0_t6 v93), 16 ∣ (k0_mult575 v93).toNat := fun v1_0 k0_t6 v93 k0_hw25 => k0_hw25.2.2.2.2.2.1.2.2.2.2.2.2.2.2.2.2.2.1
theorem k0_off105_inb : ∀ (v1_0 : BitVec 32) (k0_t6 : Fin (k0_t6_loop v1_0).trips) (v93 : BitVec 32) (k0_hw25 : k0_chk25 v1_0 k0_t6 v93), ∀ (r : Fin 16), ∀ a, (k0_off105 v1_0 k0_t6 v93 (BitVec.ofNat 32 (16 * r.val))) a + S1x16x128.size a ≤ S2x256x3072.size a := fun v1_0 k0_t6 v93 k0_hw25 r => k0_hw25.2.2.2.2.2.1.2.2.2.2.2.2.2.2.2.2.2.2.1 r
theorem k0_mult576_dvd : ∀ (v1_0 : BitVec 32) (k0_t6 : Fin (k0_t6_loop v1_0).trips) (v93 : BitVec 32) (k0_hw25 : k0_chk25 v1_0 k0_t6 v93), 16 ∣ (k0_mult576 v93).toNat := fun v1_0 k0_t6 v93 k0_hw25 => k0_hw25.2.2.2.2.2.1.2.2.2.2.2.2.2.2.2.2.2.2.2.1
theorem k0_off106_inb : ∀ (v1_0 : BitVec 32) (k0_t6 : Fin (k0_t6_loop v1_0).trips) (v93 : BitVec 32) (k0_hw25 : k0_chk25 v1_0 k0_t6 v93), ∀ (r : Fin 16), ∀ a, (k0_off106 v1_0 k0_t6 v93 (BitVec.ofNat 32 (16 * r.val))) a + S1x16x128.size a ≤ S2x256x3072.size a := fun v1_0 k0_t6 v93 k0_hw25 r => k0_hw25.2.2.2.2.2.1.2.2.2.2.2.2.2.2.2.2.2.2.2.2.1 r
theorem k0_mult577_dvd : ∀ (v1_0 : BitVec 32) (k0_t6 : Fin (k0_t6_loop v1_0).trips) (v93 : BitVec 32) (k0_hw25 : k0_chk25 v1_0 k0_t6 v93), 16 ∣ (k0_mult577 v93).toNat := fun v1_0 k0_t6 v93 k0_hw25 => k0_hw25.2.2.2.2.2.1.2.2.2.2.2.2.2.2.2.2.2.2.2.2.2.1
theorem k0_mult578_dvd : ∀ (v1_0 : BitVec 32) (k0_t6 : Fin (k0_t6_loop v1_0).trips) (v93 : BitVec 32) (k0_hw25 : k0_chk25 v1_0 k0_t6 v93), 16 ∣ (k0_mult578 v93).toNat := fun v1_0 k0_t6 v93 k0_hw25 => k0_hw25.2.2.2.2.2.1.2.2.2.2.2.2.2.2.2.2.2.2.2.2.2.2.1
theorem k0_mult579_dvd : ∀ (v1_0 : BitVec 32) (k0_t6 : Fin (k0_t6_loop v1_0).trips) (v93 : BitVec 32) (k0_hw25 : k0_chk25 v1_0 k0_t6 v93), 16 ∣ (k0_mult579 v93).toNat := fun v1_0 k0_t6 v93 k0_hw25 => k0_hw25.2.2.2.2.2.1.2.2.2.2.2.2.2.2.2.2.2.2.2.2.2.2.2.1
theorem k0_mult580_dvd : ∀ (v1_0 : BitVec 32) (k0_t6 : Fin (k0_t6_loop v1_0).trips) (v93 : BitVec 32) (k0_hw25 : k0_chk25 v1_0 k0_t6 v93), 16 ∣ (k0_mult580 v93).toNat := fun v1_0 k0_t6 v93 k0_hw25 => k0_hw25.2.2.2.2.2.1.2.2.2.2.2.2.2.2.2.2.2.2.2.2.2.2.2.2.1
theorem k0_mult581_dvd : ∀ (v1_0 : BitVec 32) (k0_t6 : Fin (k0_t6_loop v1_0).trips) (v93 : BitVec 32) (k0_hw25 : k0_chk25 v1_0 k0_t6 v93), 16 ∣ (k0_mult581 v93).toNat := fun v1_0 k0_t6 v93 k0_hw25 => k0_hw25.2.2.2.2.2.1.2.2.2.2.2.2.2.2.2.2.2.2.2.2.2.2.2.2.2.1
theorem k0_mult582_dvd : ∀ (v1_0 : BitVec 32) (k0_t6 : Fin (k0_t6_loop v1_0).trips) (v93 : BitVec 32) (k0_hw25 : k0_chk25 v1_0 k0_t6 v93), 16 ∣ (k0_mult582 v93).toNat := fun v1_0 k0_t6 v93 k0_hw25 => k0_hw25.2.2.2.2.2.1.2.2.2.2.2.2.2.2.2.2.2.2.2.2.2.2.2.2.2.2.1
theorem k0_mult583_dvd : ∀ (v1_0 : BitVec 32) (k0_t6 : Fin (k0_t6_loop v1_0).trips) (v93 : BitVec 32) (k0_hw25 : k0_chk25 v1_0 k0_t6 v93), 16 ∣ (k0_mult583 v93).toNat := fun v1_0 k0_t6 v93 k0_hw25 => k0_hw25.2.2.2.2.2.1.2.2.2.2.2.2.2.2.2.2.2.2.2.2.2.2.2.2.2.2.2.1
theorem k0_mult584_dvd : ∀ (v1_0 : BitVec 32) (k0_t6 : Fin (k0_t6_loop v1_0).trips) (v93 : BitVec 32) (k0_hw25 : k0_chk25 v1_0 k0_t6 v93), 16 ∣ (k0_mult584 v93).toNat := fun v1_0 k0_t6 v93 k0_hw25 => k0_hw25.2.2.2.2.2.1.2.2.2.2.2.2.2.2.2.2.2.2.2.2.2.2.2.2.2.2.2.2.1
theorem k0_mult585_dvd : ∀ (v1_0 : BitVec 32) (k0_t6 : Fin (k0_t6_loop v1_0).trips) (v93 : BitVec 32) (k0_hw25 : k0_chk25 v1_0 k0_t6 v93), 16 ∣ (k0_mult585 v93).toNat := fun v1_0 k0_t6 v93 k0_hw25 => k0_hw25.2.2.2.2.2.1.2.2.2.2.2.2.2.2.2.2.2.2.2.2.2.2.2.2.2.2.2.2.2.1
theorem k0_mult586_dvd : ∀ (v1_0 : BitVec 32) (k0_t6 : Fin (k0_t6_loop v1_0).trips) (v93 : BitVec 32) (k0_hw25 : k0_chk25 v1_0 k0_t6 v93), 16 ∣ (k0_mult586 v93).toNat := fun v1_0 k0_t6 v93 k0_hw25 => k0_hw25.2.2.2.2.2.1.2.2.2.2.2.2.2.2.2.2.2.2.2.2.2.2.2.2.2.2.2.2.2.2.1
theorem k0_mult587_dvd : ∀ (v1_0 : BitVec 32) (k0_t6 : Fin (k0_t6_loop v1_0).trips) (v93 : BitVec 32) (k0_hw25 : k0_chk25 v1_0 k0_t6 v93), 16 ∣ (k0_mult587 v93).toNat := fun v1_0 k0_t6 v93 k0_hw25 => k0_hw25.2.2.2.2.2.1.2.2.2.2.2.2.2.2.2.2.2.2.2.2.2.2.2.2.2.2.2.2.2.2.2.1
theorem k0_mult588_dvd : ∀ (v1_0 : BitVec 32) (k0_t6 : Fin (k0_t6_loop v1_0).trips) (v93 : BitVec 32) (k0_hw25 : k0_chk25 v1_0 k0_t6 v93), 16 ∣ (k0_mult588 v93).toNat := fun v1_0 k0_t6 v93 k0_hw25 => k0_hw25.2.2.2.2.2.1.2.2.2.2.2.2.2.2.2.2.2.2.2.2.2.2.2.2.2.2.2.2.2.2.2.2.1
theorem k0_mult589_dvd : ∀ (v1_0 : BitVec 32) (k0_t6 : Fin (k0_t6_loop v1_0).trips) (v93 : BitVec 32) (k0_hw25 : k0_chk25 v1_0 k0_t6 v93), 16 ∣ (k0_mult589 v93).toNat := fun v1_0 k0_t6 v93 k0_hw25 => k0_hw25.2.2.2.2.2.1.2.2.2.2.2.2.2.2.2.2.2.2.2.2.2.2.2.2.2.2.2.2.2.2.2.2.2.1
theorem k0_mult590_dvd : ∀ (v1_0 : BitVec 32) (k0_t6 : Fin (k0_t6_loop v1_0).trips) (v93 : BitVec 32) (k0_hw25 : k0_chk25 v1_0 k0_t6 v93), 16 ∣ (k0_mult590 v93).toNat := fun v1_0 k0_t6 v93 k0_hw25 => k0_hw25.2.2.2.2.2.1.2.2.2.2.2.2.2.2.2.2.2.2.2.2.2.2.2.2.2.2.2.2.2.2.2.2.2.2.1
theorem k0_mult591_dvd : ∀ (v1_0 : BitVec 32) (k0_t6 : Fin (k0_t6_loop v1_0).trips) (v93 : BitVec 32) (k0_hw25 : k0_chk25 v1_0 k0_t6 v93), 16 ∣ (k0_mult591 v93).toNat := fun v1_0 k0_t6 v93 k0_hw25 => k0_hw25.2.2.2.2.2.1.2.2.2.2.2.2.2.2.2.2.2.2.2.2.2.2.2.2.2.2.2.2.2.2.2.2.2.2.2.1
theorem k0_mult592_dvd : ∀ (v1_0 : BitVec 32) (k0_t6 : Fin (k0_t6_loop v1_0).trips) (v93 : BitVec 32) (k0_hw25 : k0_chk25 v1_0 k0_t6 v93), 16 ∣ (k0_mult592 v93).toNat := fun v1_0 k0_t6 v93 k0_hw25 => k0_hw25.2.2.2.2.2.1.2.2.2.2.2.2.2.2.2.2.2.2.2.2.2.2.2.2.2.2.2.2.2.2.2.2.2.2.2.2.1
theorem k0_mult593_dvd : ∀ (v1_0 : BitVec 32) (k0_t6 : Fin (k0_t6_loop v1_0).trips) (v93 : BitVec 32) (k0_hw25 : k0_chk25 v1_0 k0_t6 v93), 16 ∣ (k0_mult593 v93).toNat := fun v1_0 k0_t6 v93 k0_hw25 => k0_hw25.2.2.2.2.2.1.2.2.2.2.2.2.2.2.2.2.2.2.2.2.2.2.2.2.2.2.2.2.2.2.2.2.2.2.2.2.2
theorem k0_mult594_dvd : ∀ (v1_0 : BitVec 32) (k0_t6 : Fin (k0_t6_loop v1_0).trips) (v93 : BitVec 32) (k0_hw25 : k0_chk25 v1_0 k0_t6 v93), 16 ∣ (k0_mult594 v93).toNat := fun v1_0 k0_t6 v93 k0_hw25 => k0_hw25.2.2.2.2.2.2.1.1
theorem k0_mult595_dvd : ∀ (v1_0 : BitVec 32) (k0_t6 : Fin (k0_t6_loop v1_0).trips) (v93 : BitVec 32) (k0_hw25 : k0_chk25 v1_0 k0_t6 v93), 16 ∣ (k0_mult595 v93).toNat := fun v1_0 k0_t6 v93 k0_hw25 => k0_hw25.2.2.2.2.2.2.1.2.1
theorem k0_mult596_dvd : ∀ (v1_0 : BitVec 32) (k0_t6 : Fin (k0_t6_loop v1_0).trips) (v93 : BitVec 32) (k0_hw25 : k0_chk25 v1_0 k0_t6 v93), 16 ∣ (k0_mult596 v93).toNat := fun v1_0 k0_t6 v93 k0_hw25 => k0_hw25.2.2.2.2.2.2.1.2.2.1
theorem k0_mult597_dvd : ∀ (v1_0 : BitVec 32) (k0_t6 : Fin (k0_t6_loop v1_0).trips) (v93 : BitVec 32) (k0_hw25 : k0_chk25 v1_0 k0_t6 v93), 16 ∣ (k0_mult597 v93).toNat := fun v1_0 k0_t6 v93 k0_hw25 => k0_hw25.2.2.2.2.2.2.1.2.2.2.1
theorem k0_mult598_dvd : ∀ (v1_0 : BitVec 32) (k0_t6 : Fin (k0_t6_loop v1_0).trips) (v93 : BitVec 32) (k0_hw25 : k0_chk25 v1_0 k0_t6 v93), 16 ∣ (k0_mult598 v93).toNat := fun v1_0 k0_t6 v93 k0_hw25 => k0_hw25.2.2.2.2.2.2.1.2.2.2.2.1
theorem k0_mult599_dvd : ∀ (v1_0 : BitVec 32) (k0_t6 : Fin (k0_t6_loop v1_0).trips) (v93 : BitVec 32) (k0_hw25 : k0_chk25 v1_0 k0_t6 v93), 16 ∣ (k0_mult599 v93).toNat := fun v1_0 k0_t6 v93 k0_hw25 => k0_hw25.2.2.2.2.2.2.1.2.2.2.2.2.1
theorem k0_mult600_dvd : ∀ (v1_0 : BitVec 32) (k0_t6 : Fin (k0_t6_loop v1_0).trips) (v93 : BitVec 32) (k0_hw25 : k0_chk25 v1_0 k0_t6 v93), 16 ∣ (k0_mult600 v93).toNat := fun v1_0 k0_t6 v93 k0_hw25 => k0_hw25.2.2.2.2.2.2.1.2.2.2.2.2.2.1
theorem k0_mult601_dvd : ∀ (v1_0 : BitVec 32) (k0_t6 : Fin (k0_t6_loop v1_0).trips) (v93 : BitVec 32) (k0_hw25 : k0_chk25 v1_0 k0_t6 v93), 16 ∣ (k0_mult601 v93).toNat := fun v1_0 k0_t6 v93 k0_hw25 => k0_hw25.2.2.2.2.2.2.1.2.2.2.2.2.2.2.1
theorem k0_mult602_dvd : ∀ (v1_0 : BitVec 32) (k0_t6 : Fin (k0_t6_loop v1_0).trips) (v93 : BitVec 32) (k0_hw25 : k0_chk25 v1_0 k0_t6 v93), 16 ∣ (k0_mult602 v93).toNat := fun v1_0 k0_t6 v93 k0_hw25 => k0_hw25.2.2.2.2.2.2.1.2.2.2.2.2.2.2.2.1
theorem k0_mult603_dvd : ∀ (v1_0 : BitVec 32) (k0_t6 : Fin (k0_t6_loop v1_0).trips) (v93 : BitVec 32) (k0_hw25 : k0_chk25 v1_0 k0_t6 v93), 16 ∣ (k0_mult603 v93).toNat := fun v1_0 k0_t6 v93 k0_hw25 => k0_hw25.2.2.2.2.2.2.1.2.2.2.2.2.2.2.2.2.1
theorem k0_mult604_dvd : ∀ (v1_0 : BitVec 32) (k0_t6 : Fin (k0_t6_loop v1_0).trips) (v93 : BitVec 32) (k0_hw25 : k0_chk25 v1_0 k0_t6 v93), 16 ∣ (k0_mult604 v93).toNat := fun v1_0 k0_t6 v93 k0_hw25 => k0_hw25.2.2.2.2.2.2.1.2.2.2.2.2.2.2.2.2.2.1
theorem k0_mult605_dvd : ∀ (v1_0 : BitVec 32) (k0_t6 : Fin (k0_t6_loop v1_0).trips) (v93 : BitVec 32) (k0_hw25 : k0_chk25 v1_0 k0_t6 v93), 16 ∣ (k0_mult605 v93).toNat := fun v1_0 k0_t6 v93 k0_hw25 => k0_hw25.2.2.2.2.2.2.1.2.2.2.2.2.2.2.2.2.2.2.1
theorem k0_mult606_dvd : ∀ (v1_0 : BitVec 32) (k0_t6 : Fin (k0_t6_loop v1_0).trips) (v93 : BitVec 32) (k0_hw25 : k0_chk25 v1_0 k0_t6 v93), 16 ∣ (k0_mult606 v93).toNat := fun v1_0 k0_t6 v93 k0_hw25 => k0_hw25.2.2.2.2.2.2.1.2.2.2.2.2.2.2.2.2.2.2.2.1
theorem k0_mult607_dvd : ∀ (v1_0 : BitVec 32) (k0_t6 : Fin (k0_t6_loop v1_0).trips) (v93 : BitVec 32) (k0_hw25 : k0_chk25 v1_0 k0_t6 v93), 16 ∣ (k0_mult607 v93).toNat := fun v1_0 k0_t6 v93 k0_hw25 => k0_hw25.2.2.2.2.2.2.1.2.2.2.2.2.2.2.2.2.2.2.2.2.1
theorem k0_off107_inb : ∀ (v1_0 : BitVec 32) (k0_t6 : Fin (k0_t6_loop v1_0).trips) (v93 : BitVec 32) (k0_hw25 : k0_chk25 v1_0 k0_t6 v93), ∀ (r : Fin 16), ∀ a, (k0_off107 v1_0 k0_t6 v93 (BitVec.ofNat 32 (16 * r.val))) a + S1x16x128.size a ≤ S2x256x3072.size a := fun v1_0 k0_t6 v93 k0_hw25 r => k0_hw25.2.2.2.2.2.2.1.2.2.2.2.2.2.2.2.2.2.2.2.2.2.1 r
theorem k0_mult608_dvd : ∀ (v1_0 : BitVec 32) (k0_t6 : Fin (k0_t6_loop v1_0).trips) (v93 : BitVec 32) (k0_hw25 : k0_chk25 v1_0 k0_t6 v93), 16 ∣ (k0_mult608 v93).toNat := fun v1_0 k0_t6 v93 k0_hw25 => k0_hw25.2.2.2.2.2.2.1.2.2.2.2.2.2.2.2.2.2.2.2.2.2.2.1
theorem k0_off108_inb : ∀ (v1_0 : BitVec 32) (k0_t6 : Fin (k0_t6_loop v1_0).trips) (v93 : BitVec 32) (k0_hw25 : k0_chk25 v1_0 k0_t6 v93), ∀ (r : Fin 16), ∀ a, (k0_off108 v1_0 k0_t6 v93 (BitVec.ofNat 32 (16 * r.val))) a + S1x16x128.size a ≤ S2x256x3072.size a := fun v1_0 k0_t6 v93 k0_hw25 r => k0_hw25.2.2.2.2.2.2.1.2.2.2.2.2.2.2.2.2.2.2.2.2.2.2.2.1 r
theorem k0_mult609_dvd : ∀ (v1_0 : BitVec 32) (k0_t6 : Fin (k0_t6_loop v1_0).trips) (v93 : BitVec 32) (k0_hw25 : k0_chk25 v1_0 k0_t6 v93), 16 ∣ (k0_mult609 v93).toNat := fun v1_0 k0_t6 v93 k0_hw25 => k0_hw25.2.2.2.2.2.2.1.2.2.2.2.2.2.2.2.2.2.2.2.2.2.2.2.2.1
theorem k0_mult610_dvd : ∀ (v1_0 : BitVec 32) (k0_t6 : Fin (k0_t6_loop v1_0).trips) (v93 : BitVec 32) (k0_hw25 : k0_chk25 v1_0 k0_t6 v93), 16 ∣ (k0_mult610 v93).toNat := fun v1_0 k0_t6 v93 k0_hw25 => k0_hw25.2.2.2.2.2.2.1.2.2.2.2.2.2.2.2.2.2.2.2.2.2.2.2.2.2.1
theorem k0_mult611_dvd : ∀ (v1_0 : BitVec 32) (k0_t6 : Fin (k0_t6_loop v1_0).trips) (v93 : BitVec 32) (k0_hw25 : k0_chk25 v1_0 k0_t6 v93), 16 ∣ (k0_mult611 v93).toNat := fun v1_0 k0_t6 v93 k0_hw25 => k0_hw25.2.2.2.2.2.2.1.2.2.2.2.2.2.2.2.2.2.2.2.2.2.2.2.2.2.2.1
theorem k0_mult612_dvd : ∀ (v1_0 : BitVec 32) (k0_t6 : Fin (k0_t6_loop v1_0).trips) (v93 : BitVec 32) (k0_hw25 : k0_chk25 v1_0 k0_t6 v93), 16 ∣ (k0_mult612 v93).toNat := fun v1_0 k0_t6 v93 k0_hw25 => k0_hw25.2.2.2.2.2.2.1.2.2.2.2.2.2.2.2.2.2.2.2.2.2.2.2.2.2.2.2.1
theorem k0_mult613_dvd : ∀ (v1_0 : BitVec 32) (k0_t6 : Fin (k0_t6_loop v1_0).trips) (v93 : BitVec 32) (k0_hw25 : k0_chk25 v1_0 k0_t6 v93), 16 ∣ (k0_mult613 v93).toNat := fun v1_0 k0_t6 v93 k0_hw25 => k0_hw25.2.2.2.2.2.2.1.2.2.2.2.2.2.2.2.2.2.2.2.2.2.2.2.2.2.2.2.2.1
theorem k0_mult614_dvd : ∀ (v1_0 : BitVec 32) (k0_t6 : Fin (k0_t6_loop v1_0).trips) (v93 : BitVec 32) (k0_hw25 : k0_chk25 v1_0 k0_t6 v93), 16 ∣ (k0_mult614 v93).toNat := fun v1_0 k0_t6 v93 k0_hw25 => k0_hw25.2.2.2.2.2.2.1.2.2.2.2.2.2.2.2.2.2.2.2.2.2.2.2.2.2.2.2.2.2.1
theorem k0_mult615_dvd : ∀ (v1_0 : BitVec 32) (k0_t6 : Fin (k0_t6_loop v1_0).trips) (v93 : BitVec 32) (k0_hw25 : k0_chk25 v1_0 k0_t6 v93), 16 ∣ (k0_mult615 v93).toNat := fun v1_0 k0_t6 v93 k0_hw25 => k0_hw25.2.2.2.2.2.2.1.2.2.2.2.2.2.2.2.2.2.2.2.2.2.2.2.2.2.2.2.2.2.2.1
theorem k0_mult616_dvd : ∀ (v1_0 : BitVec 32) (k0_t6 : Fin (k0_t6_loop v1_0).trips) (v93 : BitVec 32) (k0_hw25 : k0_chk25 v1_0 k0_t6 v93), 16 ∣ (k0_mult616 v93).toNat := fun v1_0 k0_t6 v93 k0_hw25 => k0_hw25.2.2.2.2.2.2.1.2.2.2.2.2.2.2.2.2.2.2.2.2.2.2.2.2.2.2.2.2.2.2.2.1
theorem k0_mult617_dvd : ∀ (v1_0 : BitVec 32) (k0_t6 : Fin (k0_t6_loop v1_0).trips) (v93 : BitVec 32) (k0_hw25 : k0_chk25 v1_0 k0_t6 v93), 16 ∣ (k0_mult617 v93).toNat := fun v1_0 k0_t6 v93 k0_hw25 => k0_hw25.2.2.2.2.2.2.1.2.2.2.2.2.2.2.2.2.2.2.2.2.2.2.2.2.2.2.2.2.2.2.2.2.1
theorem k0_mult618_dvd : ∀ (v1_0 : BitVec 32) (k0_t6 : Fin (k0_t6_loop v1_0).trips) (v93 : BitVec 32) (k0_hw25 : k0_chk25 v1_0 k0_t6 v93), 16 ∣ (k0_mult618 v93).toNat := fun v1_0 k0_t6 v93 k0_hw25 => k0_hw25.2.2.2.2.2.2.1.2.2.2.2.2.2.2.2.2.2.2.2.2.2.2.2.2.2.2.2.2.2.2.2.2.2.1
theorem k0_mult619_dvd : ∀ (v1_0 : BitVec 32) (k0_t6 : Fin (k0_t6_loop v1_0).trips) (v93 : BitVec 32) (k0_hw25 : k0_chk25 v1_0 k0_t6 v93), 16 ∣ (k0_mult619 v93).toNat := fun v1_0 k0_t6 v93 k0_hw25 => k0_hw25.2.2.2.2.2.2.1.2.2.2.2.2.2.2.2.2.2.2.2.2.2.2.2.2.2.2.2.2.2.2.2.2.2.2.1
theorem k0_mult620_dvd : ∀ (v1_0 : BitVec 32) (k0_t6 : Fin (k0_t6_loop v1_0).trips) (v93 : BitVec 32) (k0_hw25 : k0_chk25 v1_0 k0_t6 v93), 16 ∣ (k0_mult620 v93).toNat := fun v1_0 k0_t6 v93 k0_hw25 => k0_hw25.2.2.2.2.2.2.1.2.2.2.2.2.2.2.2.2.2.2.2.2.2.2.2.2.2.2.2.2.2.2.2.2.2.2.2.1
theorem k0_mult621_dvd : ∀ (v1_0 : BitVec 32) (k0_t6 : Fin (k0_t6_loop v1_0).trips) (v93 : BitVec 32) (k0_hw25 : k0_chk25 v1_0 k0_t6 v93), 16 ∣ (k0_mult621 v93).toNat := fun v1_0 k0_t6 v93 k0_hw25 => k0_hw25.2.2.2.2.2.2.1.2.2.2.2.2.2.2.2.2.2.2.2.2.2.2.2.2.2.2.2.2.2.2.2.2.2.2.2.2.1
theorem k0_mult622_dvd : ∀ (v1_0 : BitVec 32) (k0_t6 : Fin (k0_t6_loop v1_0).trips) (v93 : BitVec 32) (k0_hw25 : k0_chk25 v1_0 k0_t6 v93), 16 ∣ (k0_mult622 v93).toNat := fun v1_0 k0_t6 v93 k0_hw25 => k0_hw25.2.2.2.2.2.2.1.2.2.2.2.2.2.2.2.2.2.2.2.2.2.2.2.2.2.2.2.2.2.2.2.2.2.2.2.2.2.1
theorem k0_mult623_dvd : ∀ (v1_0 : BitVec 32) (k0_t6 : Fin (k0_t6_loop v1_0).trips) (v93 : BitVec 32) (k0_hw25 : k0_chk25 v1_0 k0_t6 v93), 16 ∣ (k0_mult623 v93).toNat := fun v1_0 k0_t6 v93 k0_hw25 => k0_hw25.2.2.2.2.2.2.1.2.2.2.2.2.2.2.2.2.2.2.2.2.2.2.2.2.2.2.2.2.2.2.2.2.2.2.2.2.2.2
theorem k0_mult624_dvd : ∀ (v1_0 : BitVec 32) (k0_t6 : Fin (k0_t6_loop v1_0).trips) (v93 : BitVec 32) (k0_hw25 : k0_chk25 v1_0 k0_t6 v93), 16 ∣ (k0_mult624 v93).toNat := fun v1_0 k0_t6 v93 k0_hw25 => k0_hw25.2.2.2.2.2.2.2.1.1
theorem k0_mult625_dvd : ∀ (v1_0 : BitVec 32) (k0_t6 : Fin (k0_t6_loop v1_0).trips) (v93 : BitVec 32) (k0_hw25 : k0_chk25 v1_0 k0_t6 v93), 16 ∣ (k0_mult625 v93).toNat := fun v1_0 k0_t6 v93 k0_hw25 => k0_hw25.2.2.2.2.2.2.2.1.2.1
theorem k0_mult626_dvd : ∀ (v1_0 : BitVec 32) (k0_t6 : Fin (k0_t6_loop v1_0).trips) (v93 : BitVec 32) (k0_hw25 : k0_chk25 v1_0 k0_t6 v93), 16 ∣ (k0_mult626 v93).toNat := fun v1_0 k0_t6 v93 k0_hw25 => k0_hw25.2.2.2.2.2.2.2.1.2.2.1
theorem k0_mult627_dvd : ∀ (v1_0 : BitVec 32) (k0_t6 : Fin (k0_t6_loop v1_0).trips) (v93 : BitVec 32) (k0_hw25 : k0_chk25 v1_0 k0_t6 v93), 16 ∣ (k0_mult627 v93).toNat := fun v1_0 k0_t6 v93 k0_hw25 => k0_hw25.2.2.2.2.2.2.2.1.2.2.2.1
theorem k0_mult628_dvd : ∀ (v1_0 : BitVec 32) (k0_t6 : Fin (k0_t6_loop v1_0).trips) (v93 : BitVec 32) (k0_hw25 : k0_chk25 v1_0 k0_t6 v93), 16 ∣ (k0_mult628 v93).toNat := fun v1_0 k0_t6 v93 k0_hw25 => k0_hw25.2.2.2.2.2.2.2.1.2.2.2.2.1
theorem k0_mult629_dvd : ∀ (v1_0 : BitVec 32) (k0_t6 : Fin (k0_t6_loop v1_0).trips) (v93 : BitVec 32) (k0_hw25 : k0_chk25 v1_0 k0_t6 v93), 16 ∣ (k0_mult629 v93).toNat := fun v1_0 k0_t6 v93 k0_hw25 => k0_hw25.2.2.2.2.2.2.2.1.2.2.2.2.2.1
theorem k0_mult630_dvd : ∀ (v1_0 : BitVec 32) (k0_t6 : Fin (k0_t6_loop v1_0).trips) (v93 : BitVec 32) (k0_hw25 : k0_chk25 v1_0 k0_t6 v93), 16 ∣ (k0_mult630 v93).toNat := fun v1_0 k0_t6 v93 k0_hw25 => k0_hw25.2.2.2.2.2.2.2.1.2.2.2.2.2.2.1
theorem k0_mult631_dvd : ∀ (v1_0 : BitVec 32) (k0_t6 : Fin (k0_t6_loop v1_0).trips) (v93 : BitVec 32) (k0_hw25 : k0_chk25 v1_0 k0_t6 v93), 16 ∣ (k0_mult631 v93).toNat := fun v1_0 k0_t6 v93 k0_hw25 => k0_hw25.2.2.2.2.2.2.2.1.2.2.2.2.2.2.2.1
theorem k0_mult632_dvd : ∀ (v1_0 : BitVec 32) (k0_t6 : Fin (k0_t6_loop v1_0).trips) (v93 : BitVec 32) (k0_hw25 : k0_chk25 v1_0 k0_t6 v93), 16 ∣ (k0_mult632 v93).toNat := fun v1_0 k0_t6 v93 k0_hw25 => k0_hw25.2.2.2.2.2.2.2.1.2.2.2.2.2.2.2.2.1
theorem k0_mult633_dvd : ∀ (v1_0 : BitVec 32) (k0_t6 : Fin (k0_t6_loop v1_0).trips) (v93 : BitVec 32) (k0_hw25 : k0_chk25 v1_0 k0_t6 v93), 16 ∣ (k0_mult633 v93).toNat := fun v1_0 k0_t6 v93 k0_hw25 => k0_hw25.2.2.2.2.2.2.2.1.2.2.2.2.2.2.2.2.2.1
theorem k0_mult634_dvd : ∀ (v1_0 : BitVec 32) (k0_t6 : Fin (k0_t6_loop v1_0).trips) (v93 : BitVec 32) (k0_hw25 : k0_chk25 v1_0 k0_t6 v93), 16 ∣ (k0_mult634 v93).toNat := fun v1_0 k0_t6 v93 k0_hw25 => k0_hw25.2.2.2.2.2.2.2.1.2.2.2.2.2.2.2.2.2.2.1
theorem k0_mult635_dvd : ∀ (v1_0 : BitVec 32) (k0_t6 : Fin (k0_t6_loop v1_0).trips) (v93 : BitVec 32) (k0_hw25 : k0_chk25 v1_0 k0_t6 v93), 16 ∣ (k0_mult635 v93).toNat := fun v1_0 k0_t6 v93 k0_hw25 => k0_hw25.2.2.2.2.2.2.2.1.2.2.2.2.2.2.2.2.2.2.2.1
theorem k0_mult636_dvd : ∀ (v1_0 : BitVec 32) (k0_t6 : Fin (k0_t6_loop v1_0).trips) (v93 : BitVec 32) (k0_hw25 : k0_chk25 v1_0 k0_t6 v93), 16 ∣ (k0_mult636 v93).toNat := fun v1_0 k0_t6 v93 k0_hw25 => k0_hw25.2.2.2.2.2.2.2.1.2.2.2.2.2.2.2.2.2.2.2.2.1
theorem k0_mult637_dvd : ∀ (v1_0 : BitVec 32) (k0_t6 : Fin (k0_t6_loop v1_0).trips) (v93 : BitVec 32) (k0_hw25 : k0_chk25 v1_0 k0_t6 v93), 16 ∣ (k0_mult637 v93).toNat := fun v1_0 k0_t6 v93 k0_hw25 => k0_hw25.2.2.2.2.2.2.2.1.2.2.2.2.2.2.2.2.2.2.2.2.2.1
theorem k0_mult638_dvd : ∀ (v1_0 : BitVec 32) (k0_t6 : Fin (k0_t6_loop v1_0).trips) (v93 : BitVec 32) (k0_hw25 : k0_chk25 v1_0 k0_t6 v93), 16 ∣ (k0_mult638 v93).toNat := fun v1_0 k0_t6 v93 k0_hw25 => k0_hw25.2.2.2.2.2.2.2.1.2.2.2.2.2.2.2.2.2.2.2.2.2.2.1
theorem k0_mult639_dvd : ∀ (v1_0 : BitVec 32) (k0_t6 : Fin (k0_t6_loop v1_0).trips) (v93 : BitVec 32) (k0_hw25 : k0_chk25 v1_0 k0_t6 v93), 16 ∣ (k0_mult639 v93).toNat := fun v1_0 k0_t6 v93 k0_hw25 => k0_hw25.2.2.2.2.2.2.2.1.2.2.2.2.2.2.2.2.2.2.2.2.2.2.2.1
theorem k0_off109_inb : ∀ (v1_0 : BitVec 32) (k0_t6 : Fin (k0_t6_loop v1_0).trips) (v93 : BitVec 32) (k0_hw25 : k0_chk25 v1_0 k0_t6 v93), ∀ (r : Fin 16), ∀ a, (k0_off109 v1_0 k0_t6 v93 (BitVec.ofNat 32 (16 * r.val))) a + S1x16x128.size a ≤ S2x256x3072.size a := fun v1_0 k0_t6 v93 k0_hw25 r => k0_hw25.2.2.2.2.2.2.2.1.2.2.2.2.2.2.2.2.2.2.2.2.2.2.2.2.1 r
theorem k0_mult640_dvd : ∀ (v1_0 : BitVec 32) (k0_t6 : Fin (k0_t6_loop v1_0).trips) (v93 : BitVec 32) (k0_hw25 : k0_chk25 v1_0 k0_t6 v93), 16 ∣ (k0_mult640 v93).toNat := fun v1_0 k0_t6 v93 k0_hw25 => k0_hw25.2.2.2.2.2.2.2.1.2.2.2.2.2.2.2.2.2.2.2.2.2.2.2.2.2.1
theorem k0_off110_inb : ∀ (v1_0 : BitVec 32) (k0_t6 : Fin (k0_t6_loop v1_0).trips) (v93 : BitVec 32) (k0_hw25 : k0_chk25 v1_0 k0_t6 v93), ∀ (r : Fin 16), ∀ a, (k0_off110 v1_0 k0_t6 v93 (BitVec.ofNat 32 (16 * r.val))) a + S1x16x128.size a ≤ S2x256x3072.size a := fun v1_0 k0_t6 v93 k0_hw25 r => k0_hw25.2.2.2.2.2.2.2.1.2.2.2.2.2.2.2.2.2.2.2.2.2.2.2.2.2.2.1 r
theorem k0_mult641_dvd : ∀ (v1_0 : BitVec 32) (k0_t6 : Fin (k0_t6_loop v1_0).trips) (v93 : BitVec 32) (k0_hw25 : k0_chk25 v1_0 k0_t6 v93), 16 ∣ (k0_mult641 v93).toNat := fun v1_0 k0_t6 v93 k0_hw25 => k0_hw25.2.2.2.2.2.2.2.1.2.2.2.2.2.2.2.2.2.2.2.2.2.2.2.2.2.2.2.1
theorem k0_mult642_dvd : ∀ (v1_0 : BitVec 32) (k0_t6 : Fin (k0_t6_loop v1_0).trips) (v93 : BitVec 32) (k0_hw25 : k0_chk25 v1_0 k0_t6 v93), 16 ∣ (k0_mult642 v93).toNat := fun v1_0 k0_t6 v93 k0_hw25 => k0_hw25.2.2.2.2.2.2.2.1.2.2.2.2.2.2.2.2.2.2.2.2.2.2.2.2.2.2.2.2.1
theorem k0_mult643_dvd : ∀ (v1_0 : BitVec 32) (k0_t6 : Fin (k0_t6_loop v1_0).trips) (v93 : BitVec 32) (k0_hw25 : k0_chk25 v1_0 k0_t6 v93), 16 ∣ (k0_mult643 v93).toNat := fun v1_0 k0_t6 v93 k0_hw25 => k0_hw25.2.2.2.2.2.2.2.1.2.2.2.2.2.2.2.2.2.2.2.2.2.2.2.2.2.2.2.2.2.1
theorem k0_mult644_dvd : ∀ (v1_0 : BitVec 32) (k0_t6 : Fin (k0_t6_loop v1_0).trips) (v93 : BitVec 32) (k0_hw25 : k0_chk25 v1_0 k0_t6 v93), 16 ∣ (k0_mult644 v93).toNat := fun v1_0 k0_t6 v93 k0_hw25 => k0_hw25.2.2.2.2.2.2.2.1.2.2.2.2.2.2.2.2.2.2.2.2.2.2.2.2.2.2.2.2.2.2.1
theorem k0_mult645_dvd : ∀ (v1_0 : BitVec 32) (k0_t6 : Fin (k0_t6_loop v1_0).trips) (v93 : BitVec 32) (k0_hw25 : k0_chk25 v1_0 k0_t6 v93), 16 ∣ (k0_mult645 v93).toNat := fun v1_0 k0_t6 v93 k0_hw25 => k0_hw25.2.2.2.2.2.2.2.1.2.2.2.2.2.2.2.2.2.2.2.2.2.2.2.2.2.2.2.2.2.2.2.1
theorem k0_mult646_dvd : ∀ (v1_0 : BitVec 32) (k0_t6 : Fin (k0_t6_loop v1_0).trips) (v93 : BitVec 32) (k0_hw25 : k0_chk25 v1_0 k0_t6 v93), 16 ∣ (k0_mult646 v93).toNat := fun v1_0 k0_t6 v93 k0_hw25 => k0_hw25.2.2.2.2.2.2.2.1.2.2.2.2.2.2.2.2.2.2.2.2.2.2.2.2.2.2.2.2.2.2.2.2.1
theorem k0_mult647_dvd : ∀ (v1_0 : BitVec 32) (k0_t6 : Fin (k0_t6_loop v1_0).trips) (v93 : BitVec 32) (k0_hw25 : k0_chk25 v1_0 k0_t6 v93), 16 ∣ (k0_mult647 v93).toNat := fun v1_0 k0_t6 v93 k0_hw25 => k0_hw25.2.2.2.2.2.2.2.1.2.2.2.2.2.2.2.2.2.2.2.2.2.2.2.2.2.2.2.2.2.2.2.2.2.1
theorem k0_mult648_dvd : ∀ (v1_0 : BitVec 32) (k0_t6 : Fin (k0_t6_loop v1_0).trips) (v93 : BitVec 32) (k0_hw25 : k0_chk25 v1_0 k0_t6 v93), 16 ∣ (k0_mult648 v93).toNat := fun v1_0 k0_t6 v93 k0_hw25 => k0_hw25.2.2.2.2.2.2.2.1.2.2.2.2.2.2.2.2.2.2.2.2.2.2.2.2.2.2.2.2.2.2.2.2.2.2.1
theorem k0_mult649_dvd : ∀ (v1_0 : BitVec 32) (k0_t6 : Fin (k0_t6_loop v1_0).trips) (v93 : BitVec 32) (k0_hw25 : k0_chk25 v1_0 k0_t6 v93), 16 ∣ (k0_mult649 v93).toNat := fun v1_0 k0_t6 v93 k0_hw25 => k0_hw25.2.2.2.2.2.2.2.1.2.2.2.2.2.2.2.2.2.2.2.2.2.2.2.2.2.2.2.2.2.2.2.2.2.2.2.1
theorem k0_mult650_dvd : ∀ (v1_0 : BitVec 32) (k0_t6 : Fin (k0_t6_loop v1_0).trips) (v93 : BitVec 32) (k0_hw25 : k0_chk25 v1_0 k0_t6 v93), 16 ∣ (k0_mult650 v93).toNat := fun v1_0 k0_t6 v93 k0_hw25 => k0_hw25.2.2.2.2.2.2.2.1.2.2.2.2.2.2.2.2.2.2.2.2.2.2.2.2.2.2.2.2.2.2.2.2.2.2.2.2.1
theorem k0_mult651_dvd : ∀ (v1_0 : BitVec 32) (k0_t6 : Fin (k0_t6_loop v1_0).trips) (v93 : BitVec 32) (k0_hw25 : k0_chk25 v1_0 k0_t6 v93), 16 ∣ (k0_mult651 v93).toNat := fun v1_0 k0_t6 v93 k0_hw25 => k0_hw25.2.2.2.2.2.2.2.1.2.2.2.2.2.2.2.2.2.2.2.2.2.2.2.2.2.2.2.2.2.2.2.2.2.2.2.2.2.1
theorem k0_mult652_dvd : ∀ (v1_0 : BitVec 32) (k0_t6 : Fin (k0_t6_loop v1_0).trips) (v93 : BitVec 32) (k0_hw25 : k0_chk25 v1_0 k0_t6 v93), 16 ∣ (k0_mult652 v93).toNat := fun v1_0 k0_t6 v93 k0_hw25 => k0_hw25.2.2.2.2.2.2.2.1.2.2.2.2.2.2.2.2.2.2.2.2.2.2.2.2.2.2.2.2.2.2.2.2.2.2.2.2.2.2.1
theorem k0_mult653_dvd : ∀ (v1_0 : BitVec 32) (k0_t6 : Fin (k0_t6_loop v1_0).trips) (v93 : BitVec 32) (k0_hw25 : k0_chk25 v1_0 k0_t6 v93), 16 ∣ (k0_mult653 v93).toNat := fun v1_0 k0_t6 v93 k0_hw25 => k0_hw25.2.2.2.2.2.2.2.1.2.2.2.2.2.2.2.2.2.2.2.2.2.2.2.2.2.2.2.2.2.2.2.2.2.2.2.2.2.2.2
theorem k0_mult654_dvd : ∀ (v1_0 : BitVec 32) (k0_t6 : Fin (k0_t6_loop v1_0).trips) (v93 : BitVec 32) (k0_hw25 : k0_chk25 v1_0 k0_t6 v93), 16 ∣ (k0_mult654 v93).toNat := fun v1_0 k0_t6 v93 k0_hw25 => k0_hw25.2.2.2.2.2.2.2.2.1.1
theorem k0_mult655_dvd : ∀ (v1_0 : BitVec 32) (k0_t6 : Fin (k0_t6_loop v1_0).trips) (v93 : BitVec 32) (k0_hw25 : k0_chk25 v1_0 k0_t6 v93), 16 ∣ (k0_mult655 v93).toNat := fun v1_0 k0_t6 v93 k0_hw25 => k0_hw25.2.2.2.2.2.2.2.2.1.2.1
theorem k0_mult656_dvd : ∀ (v1_0 : BitVec 32) (k0_t6 : Fin (k0_t6_loop v1_0).trips) (v93 : BitVec 32) (k0_hw25 : k0_chk25 v1_0 k0_t6 v93), 16 ∣ (k0_mult656 v93).toNat := fun v1_0 k0_t6 v93 k0_hw25 => k0_hw25.2.2.2.2.2.2.2.2.1.2.2.1
theorem k0_mult657_dvd : ∀ (v1_0 : BitVec 32) (k0_t6 : Fin (k0_t6_loop v1_0).trips) (v93 : BitVec 32) (k0_hw25 : k0_chk25 v1_0 k0_t6 v93), 16 ∣ (k0_mult657 v93).toNat := fun v1_0 k0_t6 v93 k0_hw25 => k0_hw25.2.2.2.2.2.2.2.2.1.2.2.2.1
theorem k0_mult658_dvd : ∀ (v1_0 : BitVec 32) (k0_t6 : Fin (k0_t6_loop v1_0).trips) (v93 : BitVec 32) (k0_hw25 : k0_chk25 v1_0 k0_t6 v93), 16 ∣ (k0_mult658 v93).toNat := fun v1_0 k0_t6 v93 k0_hw25 => k0_hw25.2.2.2.2.2.2.2.2.1.2.2.2.2.1
theorem k0_mult659_dvd : ∀ (v1_0 : BitVec 32) (k0_t6 : Fin (k0_t6_loop v1_0).trips) (v93 : BitVec 32) (k0_hw25 : k0_chk25 v1_0 k0_t6 v93), 16 ∣ (k0_mult659 v93).toNat := fun v1_0 k0_t6 v93 k0_hw25 => k0_hw25.2.2.2.2.2.2.2.2.1.2.2.2.2.2.1
theorem k0_mult660_dvd : ∀ (v1_0 : BitVec 32) (k0_t6 : Fin (k0_t6_loop v1_0).trips) (v93 : BitVec 32) (k0_hw25 : k0_chk25 v1_0 k0_t6 v93), 16 ∣ (k0_mult660 v93).toNat := fun v1_0 k0_t6 v93 k0_hw25 => k0_hw25.2.2.2.2.2.2.2.2.1.2.2.2.2.2.2.1
theorem k0_mult661_dvd : ∀ (v1_0 : BitVec 32) (k0_t6 : Fin (k0_t6_loop v1_0).trips) (v93 : BitVec 32) (k0_hw25 : k0_chk25 v1_0 k0_t6 v93), 16 ∣ (k0_mult661 v93).toNat := fun v1_0 k0_t6 v93 k0_hw25 => k0_hw25.2.2.2.2.2.2.2.2.1.2.2.2.2.2.2.2.1
theorem k0_mult662_dvd : ∀ (v1_0 : BitVec 32) (k0_t6 : Fin (k0_t6_loop v1_0).trips) (v93 : BitVec 32) (k0_hw25 : k0_chk25 v1_0 k0_t6 v93), 16 ∣ (k0_mult662 v93).toNat := fun v1_0 k0_t6 v93 k0_hw25 => k0_hw25.2.2.2.2.2.2.2.2.1.2.2.2.2.2.2.2.2.1
theorem k0_mult663_dvd : ∀ (v1_0 : BitVec 32) (k0_t6 : Fin (k0_t6_loop v1_0).trips) (v93 : BitVec 32) (k0_hw25 : k0_chk25 v1_0 k0_t6 v93), 16 ∣ (k0_mult663 v93).toNat := fun v1_0 k0_t6 v93 k0_hw25 => k0_hw25.2.2.2.2.2.2.2.2.1.2.2.2.2.2.2.2.2.2.1
theorem k0_mult664_dvd : ∀ (v1_0 : BitVec 32) (k0_t6 : Fin (k0_t6_loop v1_0).trips) (v93 : BitVec 32) (k0_hw25 : k0_chk25 v1_0 k0_t6 v93), 16 ∣ (k0_mult664 v93).toNat := fun v1_0 k0_t6 v93 k0_hw25 => k0_hw25.2.2.2.2.2.2.2.2.1.2.2.2.2.2.2.2.2.2.2.1
theorem k0_mult665_dvd : ∀ (v1_0 : BitVec 32) (k0_t6 : Fin (k0_t6_loop v1_0).trips) (v93 : BitVec 32) (k0_hw25 : k0_chk25 v1_0 k0_t6 v93), 16 ∣ (k0_mult665 v93).toNat := fun v1_0 k0_t6 v93 k0_hw25 => k0_hw25.2.2.2.2.2.2.2.2.1.2.2.2.2.2.2.2.2.2.2.2.1
theorem k0_mult666_dvd : ∀ (v1_0 : BitVec 32) (k0_t6 : Fin (k0_t6_loop v1_0).trips) (v93 : BitVec 32) (k0_hw25 : k0_chk25 v1_0 k0_t6 v93), 16 ∣ (k0_mult666 v93).toNat := fun v1_0 k0_t6 v93 k0_hw25 => k0_hw25.2.2.2.2.2.2.2.2.1.2.2.2.2.2.2.2.2.2.2.2.2.1
theorem k0_mult667_dvd : ∀ (v1_0 : BitVec 32) (k0_t6 : Fin (k0_t6_loop v1_0).trips) (v93 : BitVec 32) (k0_hw25 : k0_chk25 v1_0 k0_t6 v93), 16 ∣ (k0_mult667 v93).toNat := fun v1_0 k0_t6 v93 k0_hw25 => k0_hw25.2.2.2.2.2.2.2.2.1.2.2.2.2.2.2.2.2.2.2.2.2.2.1
theorem k0_mult668_dvd : ∀ (v1_0 : BitVec 32) (k0_t6 : Fin (k0_t6_loop v1_0).trips) (v93 : BitVec 32) (k0_hw25 : k0_chk25 v1_0 k0_t6 v93), 16 ∣ (k0_mult668 v93).toNat := fun v1_0 k0_t6 v93 k0_hw25 => k0_hw25.2.2.2.2.2.2.2.2.1.2.2.2.2.2.2.2.2.2.2.2.2.2.2.1
theorem k0_mult669_dvd : ∀ (v1_0 : BitVec 32) (k0_t6 : Fin (k0_t6_loop v1_0).trips) (v93 : BitVec 32) (k0_hw25 : k0_chk25 v1_0 k0_t6 v93), 16 ∣ (k0_mult669 v93).toNat := fun v1_0 k0_t6 v93 k0_hw25 => k0_hw25.2.2.2.2.2.2.2.2.1.2.2.2.2.2.2.2.2.2.2.2.2.2.2.2.1
theorem k0_mult670_dvd : ∀ (v1_0 : BitVec 32) (k0_t6 : Fin (k0_t6_loop v1_0).trips) (v93 : BitVec 32) (k0_hw25 : k0_chk25 v1_0 k0_t6 v93), 16 ∣ (k0_mult670 v93).toNat := fun v1_0 k0_t6 v93 k0_hw25 => k0_hw25.2.2.2.2.2.2.2.2.1.2.2.2.2.2.2.2.2.2.2.2.2.2.2.2.2.1
theorem k0_mult671_dvd : ∀ (v1_0 : BitVec 32) (k0_t6 : Fin (k0_t6_loop v1_0).trips) (v93 : BitVec 32) (k0_hw25 : k0_chk25 v1_0 k0_t6 v93), 16 ∣ (k0_mult671 v93).toNat := fun v1_0 k0_t6 v93 k0_hw25 => k0_hw25.2.2.2.2.2.2.2.2.1.2.2.2.2.2.2.2.2.2.2.2.2.2.2.2.2.2.1
theorem k0_off111_inb : ∀ (v1_0 : BitVec 32) (k0_t6 : Fin (k0_t6_loop v1_0).trips) (v93 : BitVec 32) (k0_hw25 : k0_chk25 v1_0 k0_t6 v93), ∀ (r : Fin 16), ∀ a, (k0_off111 v1_0 k0_t6 v93 (BitVec.ofNat 32 (16 * r.val))) a + S1x16x128.size a ≤ S2x256x3072.size a := fun v1_0 k0_t6 v93 k0_hw25 r => k0_hw25.2.2.2.2.2.2.2.2.1.2.2.2.2.2.2.2.2.2.2.2.2.2.2.2.2.2.2.1 r
theorem k0_mult672_dvd : ∀ (v1_0 : BitVec 32) (k0_t6 : Fin (k0_t6_loop v1_0).trips) (v93 : BitVec 32) (k0_hw25 : k0_chk25 v1_0 k0_t6 v93), 16 ∣ (k0_mult672 v93).toNat := fun v1_0 k0_t6 v93 k0_hw25 => k0_hw25.2.2.2.2.2.2.2.2.1.2.2.2.2.2.2.2.2.2.2.2.2.2.2.2.2.2.2.2.1
theorem k0_off112_inb : ∀ (v1_0 : BitVec 32) (k0_t6 : Fin (k0_t6_loop v1_0).trips) (v93 : BitVec 32) (k0_hw25 : k0_chk25 v1_0 k0_t6 v93), ∀ (r : Fin 16), ∀ a, (k0_off112 v1_0 k0_t6 v93 (BitVec.ofNat 32 (16 * r.val))) a + S1x16x128.size a ≤ S2x256x3072.size a := fun v1_0 k0_t6 v93 k0_hw25 r => k0_hw25.2.2.2.2.2.2.2.2.1.2.2.2.2.2.2.2.2.2.2.2.2.2.2.2.2.2.2.2.2.1 r
theorem k0_mult673_dvd : ∀ (v1_0 : BitVec 32) (k0_t6 : Fin (k0_t6_loop v1_0).trips) (v93 : BitVec 32) (k0_hw25 : k0_chk25 v1_0 k0_t6 v93), 16 ∣ (k0_mult673 v93).toNat := fun v1_0 k0_t6 v93 k0_hw25 => k0_hw25.2.2.2.2.2.2.2.2.1.2.2.2.2.2.2.2.2.2.2.2.2.2.2.2.2.2.2.2.2.2.1
theorem k0_mult674_dvd : ∀ (v1_0 : BitVec 32) (k0_t6 : Fin (k0_t6_loop v1_0).trips) (v93 : BitVec 32) (k0_hw25 : k0_chk25 v1_0 k0_t6 v93), 16 ∣ (k0_mult674 v93).toNat := fun v1_0 k0_t6 v93 k0_hw25 => k0_hw25.2.2.2.2.2.2.2.2.1.2.2.2.2.2.2.2.2.2.2.2.2.2.2.2.2.2.2.2.2.2.2.1
theorem k0_mult675_dvd : ∀ (v1_0 : BitVec 32) (k0_t6 : Fin (k0_t6_loop v1_0).trips) (v93 : BitVec 32) (k0_hw25 : k0_chk25 v1_0 k0_t6 v93), 16 ∣ (k0_mult675 v93).toNat := fun v1_0 k0_t6 v93 k0_hw25 => k0_hw25.2.2.2.2.2.2.2.2.1.2.2.2.2.2.2.2.2.2.2.2.2.2.2.2.2.2.2.2.2.2.2.2.1
theorem k0_mult676_dvd : ∀ (v1_0 : BitVec 32) (k0_t6 : Fin (k0_t6_loop v1_0).trips) (v93 : BitVec 32) (k0_hw25 : k0_chk25 v1_0 k0_t6 v93), 16 ∣ (k0_mult676 v93).toNat := fun v1_0 k0_t6 v93 k0_hw25 => k0_hw25.2.2.2.2.2.2.2.2.1.2.2.2.2.2.2.2.2.2.2.2.2.2.2.2.2.2.2.2.2.2.2.2.2.1
theorem k0_mult677_dvd : ∀ (v1_0 : BitVec 32) (k0_t6 : Fin (k0_t6_loop v1_0).trips) (v93 : BitVec 32) (k0_hw25 : k0_chk25 v1_0 k0_t6 v93), 16 ∣ (k0_mult677 v93).toNat := fun v1_0 k0_t6 v93 k0_hw25 => k0_hw25.2.2.2.2.2.2.2.2.1.2.2.2.2.2.2.2.2.2.2.2.2.2.2.2.2.2.2.2.2.2.2.2.2.2.1
theorem k0_mult678_dvd : ∀ (v1_0 : BitVec 32) (k0_t6 : Fin (k0_t6_loop v1_0).trips) (v93 : BitVec 32) (k0_hw25 : k0_chk25 v1_0 k0_t6 v93), 16 ∣ (k0_mult678 v93).toNat := fun v1_0 k0_t6 v93 k0_hw25 => k0_hw25.2.2.2.2.2.2.2.2.1.2.2.2.2.2.2.2.2.2.2.2.2.2.2.2.2.2.2.2.2.2.2.2.2.2.2.1
theorem k0_mult679_dvd : ∀ (v1_0 : BitVec 32) (k0_t6 : Fin (k0_t6_loop v1_0).trips) (v93 : BitVec 32) (k0_hw25 : k0_chk25 v1_0 k0_t6 v93), 16 ∣ (k0_mult679 v93).toNat := fun v1_0 k0_t6 v93 k0_hw25 => k0_hw25.2.2.2.2.2.2.2.2.1.2.2.2.2.2.2.2.2.2.2.2.2.2.2.2.2.2.2.2.2.2.2.2.2.2.2.2.1
theorem k0_mult680_dvd : ∀ (v1_0 : BitVec 32) (k0_t6 : Fin (k0_t6_loop v1_0).trips) (v93 : BitVec 32) (k0_hw25 : k0_chk25 v1_0 k0_t6 v93), 16 ∣ (k0_mult680 v93).toNat := fun v1_0 k0_t6 v93 k0_hw25 => k0_hw25.2.2.2.2.2.2.2.2.1.2.2.2.2.2.2.2.2.2.2.2.2.2.2.2.2.2.2.2.2.2.2.2.2.2.2.2.2.1
theorem k0_mult681_dvd : ∀ (v1_0 : BitVec 32) (k0_t6 : Fin (k0_t6_loop v1_0).trips) (v93 : BitVec 32) (k0_hw25 : k0_chk25 v1_0 k0_t6 v93), 16 ∣ (k0_mult681 v93).toNat := fun v1_0 k0_t6 v93 k0_hw25 => k0_hw25.2.2.2.2.2.2.2.2.1.2.2.2.2.2.2.2.2.2.2.2.2.2.2.2.2.2.2.2.2.2.2.2.2.2.2.2.2.2.1
theorem k0_mult682_dvd : ∀ (v1_0 : BitVec 32) (k0_t6 : Fin (k0_t6_loop v1_0).trips) (v93 : BitVec 32) (k0_hw25 : k0_chk25 v1_0 k0_t6 v93), 16 ∣ (k0_mult682 v93).toNat := fun v1_0 k0_t6 v93 k0_hw25 => k0_hw25.2.2.2.2.2.2.2.2.1.2.2.2.2.2.2.2.2.2.2.2.2.2.2.2.2.2.2.2.2.2.2.2.2.2.2.2.2.2.2.1
theorem k0_mult683_dvd : ∀ (v1_0 : BitVec 32) (k0_t6 : Fin (k0_t6_loop v1_0).trips) (v93 : BitVec 32) (k0_hw25 : k0_chk25 v1_0 k0_t6 v93), 16 ∣ (k0_mult683 v93).toNat := fun v1_0 k0_t6 v93 k0_hw25 => k0_hw25.2.2.2.2.2.2.2.2.1.2.2.2.2.2.2.2.2.2.2.2.2.2.2.2.2.2.2.2.2.2.2.2.2.2.2.2.2.2.2.2
theorem k0_mult684_dvd : ∀ (v1_0 : BitVec 32) (k0_t6 : Fin (k0_t6_loop v1_0).trips) (v93 : BitVec 32) (k0_hw25 : k0_chk25 v1_0 k0_t6 v93), 16 ∣ (k0_mult684 v93).toNat := fun v1_0 k0_t6 v93 k0_hw25 => k0_hw25.2.2.2.2.2.2.2.2.2.1.1
theorem k0_mult685_dvd : ∀ (v1_0 : BitVec 32) (k0_t6 : Fin (k0_t6_loop v1_0).trips) (v93 : BitVec 32) (k0_hw25 : k0_chk25 v1_0 k0_t6 v93), 16 ∣ (k0_mult685 v93).toNat := fun v1_0 k0_t6 v93 k0_hw25 => k0_hw25.2.2.2.2.2.2.2.2.2.1.2.1
theorem k0_mult686_dvd : ∀ (v1_0 : BitVec 32) (k0_t6 : Fin (k0_t6_loop v1_0).trips) (v93 : BitVec 32) (k0_hw25 : k0_chk25 v1_0 k0_t6 v93), 16 ∣ (k0_mult686 v93).toNat := fun v1_0 k0_t6 v93 k0_hw25 => k0_hw25.2.2.2.2.2.2.2.2.2.1.2.2.1
theorem k0_mult687_dvd : ∀ (v1_0 : BitVec 32) (k0_t6 : Fin (k0_t6_loop v1_0).trips) (v93 : BitVec 32) (k0_hw25 : k0_chk25 v1_0 k0_t6 v93), 16 ∣ (k0_mult687 v93).toNat := fun v1_0 k0_t6 v93 k0_hw25 => k0_hw25.2.2.2.2.2.2.2.2.2.1.2.2.2.1
theorem k0_mult688_dvd : ∀ (v1_0 : BitVec 32) (k0_t6 : Fin (k0_t6_loop v1_0).trips) (v93 : BitVec 32) (k0_hw25 : k0_chk25 v1_0 k0_t6 v93), 16 ∣ (k0_mult688 v93).toNat := fun v1_0 k0_t6 v93 k0_hw25 => k0_hw25.2.2.2.2.2.2.2.2.2.1.2.2.2.2.1
theorem k0_mult689_dvd : ∀ (v1_0 : BitVec 32) (k0_t6 : Fin (k0_t6_loop v1_0).trips) (v93 : BitVec 32) (k0_hw25 : k0_chk25 v1_0 k0_t6 v93), 16 ∣ (k0_mult689 v93).toNat := fun v1_0 k0_t6 v93 k0_hw25 => k0_hw25.2.2.2.2.2.2.2.2.2.1.2.2.2.2.2.1
theorem k0_mult690_dvd : ∀ (v1_0 : BitVec 32) (k0_t6 : Fin (k0_t6_loop v1_0).trips) (v93 : BitVec 32) (k0_hw25 : k0_chk25 v1_0 k0_t6 v93), 16 ∣ (k0_mult690 v93).toNat := fun v1_0 k0_t6 v93 k0_hw25 => k0_hw25.2.2.2.2.2.2.2.2.2.1.2.2.2.2.2.2.1
theorem k0_mult691_dvd : ∀ (v1_0 : BitVec 32) (k0_t6 : Fin (k0_t6_loop v1_0).trips) (v93 : BitVec 32) (k0_hw25 : k0_chk25 v1_0 k0_t6 v93), 16 ∣ (k0_mult691 v93).toNat := fun v1_0 k0_t6 v93 k0_hw25 => k0_hw25.2.2.2.2.2.2.2.2.2.1.2.2.2.2.2.2.2.1
theorem k0_mult692_dvd : ∀ (v1_0 : BitVec 32) (k0_t6 : Fin (k0_t6_loop v1_0).trips) (v93 : BitVec 32) (k0_hw25 : k0_chk25 v1_0 k0_t6 v93), 16 ∣ (k0_mult692 v93).toNat := fun v1_0 k0_t6 v93 k0_hw25 => k0_hw25.2.2.2.2.2.2.2.2.2.1.2.2.2.2.2.2.2.2.1
theorem k0_mult693_dvd : ∀ (v1_0 : BitVec 32) (k0_t6 : Fin (k0_t6_loop v1_0).trips) (v93 : BitVec 32) (k0_hw25 : k0_chk25 v1_0 k0_t6 v93), 16 ∣ (k0_mult693 v93).toNat := fun v1_0 k0_t6 v93 k0_hw25 => k0_hw25.2.2.2.2.2.2.2.2.2.1.2.2.2.2.2.2.2.2.2.1
theorem k0_mult694_dvd : ∀ (v1_0 : BitVec 32) (k0_t6 : Fin (k0_t6_loop v1_0).trips) (v93 : BitVec 32) (k0_hw25 : k0_chk25 v1_0 k0_t6 v93), 16 ∣ (k0_mult694 v93).toNat := fun v1_0 k0_t6 v93 k0_hw25 => k0_hw25.2.2.2.2.2.2.2.2.2.1.2.2.2.2.2.2.2.2.2.2.1
theorem k0_mult695_dvd : ∀ (v1_0 : BitVec 32) (k0_t6 : Fin (k0_t6_loop v1_0).trips) (v93 : BitVec 32) (k0_hw25 : k0_chk25 v1_0 k0_t6 v93), 16 ∣ (k0_mult695 v93).toNat := fun v1_0 k0_t6 v93 k0_hw25 => k0_hw25.2.2.2.2.2.2.2.2.2.1.2.2.2.2.2.2.2.2.2.2.2.1
theorem k0_mult696_dvd : ∀ (v1_0 : BitVec 32) (k0_t6 : Fin (k0_t6_loop v1_0).trips) (v93 : BitVec 32) (k0_hw25 : k0_chk25 v1_0 k0_t6 v93), 16 ∣ (k0_mult696 v93).toNat := fun v1_0 k0_t6 v93 k0_hw25 => k0_hw25.2.2.2.2.2.2.2.2.2.1.2.2.2.2.2.2.2.2.2.2.2.2.1
theorem k0_mult697_dvd : ∀ (v1_0 : BitVec 32) (k0_t6 : Fin (k0_t6_loop v1_0).trips) (v93 : BitVec 32) (k0_hw25 : k0_chk25 v1_0 k0_t6 v93), 16 ∣ (k0_mult697 v93).toNat := fun v1_0 k0_t6 v93 k0_hw25 => k0_hw25.2.2.2.2.2.2.2.2.2.1.2.2.2.2.2.2.2.2.2.2.2.2.2.1
theorem k0_mult698_dvd : ∀ (v1_0 : BitVec 32) (k0_t6 : Fin (k0_t6_loop v1_0).trips) (v93 : BitVec 32) (k0_hw25 : k0_chk25 v1_0 k0_t6 v93), 16 ∣ (k0_mult698 v93).toNat := fun v1_0 k0_t6 v93 k0_hw25 => k0_hw25.2.2.2.2.2.2.2.2.2.1.2.2.2.2.2.2.2.2.2.2.2.2.2.2.1
theorem k0_mult699_dvd : ∀ (v1_0 : BitVec 32) (k0_t6 : Fin (k0_t6_loop v1_0).trips) (v93 : BitVec 32) (k0_hw25 : k0_chk25 v1_0 k0_t6 v93), 16 ∣ (k0_mult699 v93).toNat := fun v1_0 k0_t6 v93 k0_hw25 => k0_hw25.2.2.2.2.2.2.2.2.2.1.2.2.2.2.2.2.2.2.2.2.2.2.2.2.2.1
theorem k0_mult700_dvd : ∀ (v1_0 : BitVec 32) (k0_t6 : Fin (k0_t6_loop v1_0).trips) (v93 : BitVec 32) (k0_hw25 : k0_chk25 v1_0 k0_t6 v93), 16 ∣ (k0_mult700 v93).toNat := fun v1_0 k0_t6 v93 k0_hw25 => k0_hw25.2.2.2.2.2.2.2.2.2.1.2.2.2.2.2.2.2.2.2.2.2.2.2.2.2.2.1
theorem k0_mult701_dvd : ∀ (v1_0 : BitVec 32) (k0_t6 : Fin (k0_t6_loop v1_0).trips) (v93 : BitVec 32) (k0_hw25 : k0_chk25 v1_0 k0_t6 v93), 16 ∣ (k0_mult701 v93).toNat := fun v1_0 k0_t6 v93 k0_hw25 => k0_hw25.2.2.2.2.2.2.2.2.2.1.2.2.2.2.2.2.2.2.2.2.2.2.2.2.2.2.2.1
theorem k0_mult702_dvd : ∀ (v1_0 : BitVec 32) (k0_t6 : Fin (k0_t6_loop v1_0).trips) (v93 : BitVec 32) (k0_hw25 : k0_chk25 v1_0 k0_t6 v93), 16 ∣ (k0_mult702 v93).toNat := fun v1_0 k0_t6 v93 k0_hw25 => k0_hw25.2.2.2.2.2.2.2.2.2.1.2.2.2.2.2.2.2.2.2.2.2.2.2.2.2.2.2.2.1
theorem k0_mult703_dvd : ∀ (v1_0 : BitVec 32) (k0_t6 : Fin (k0_t6_loop v1_0).trips) (v93 : BitVec 32) (k0_hw25 : k0_chk25 v1_0 k0_t6 v93), 16 ∣ (k0_mult703 v93).toNat := fun v1_0 k0_t6 v93 k0_hw25 => k0_hw25.2.2.2.2.2.2.2.2.2.1.2.2.2.2.2.2.2.2.2.2.2.2.2.2.2.2.2.2.2.1
theorem k0_off113_inb : ∀ (v1_0 : BitVec 32) (k0_t6 : Fin (k0_t6_loop v1_0).trips) (v93 : BitVec 32) (k0_hw25 : k0_chk25 v1_0 k0_t6 v93), ∀ (r : Fin 16), ∀ a, (k0_off113 v1_0 k0_t6 v93 (BitVec.ofNat 32 (16 * r.val))) a + S1x16x128.size a ≤ S2x256x3072.size a := fun v1_0 k0_t6 v93 k0_hw25 r => k0_hw25.2.2.2.2.2.2.2.2.2.1.2.2.2.2.2.2.2.2.2.2.2.2.2.2.2.2.2.2.2.2.1 r
theorem k0_mult704_dvd : ∀ (v1_0 : BitVec 32) (k0_t6 : Fin (k0_t6_loop v1_0).trips) (v93 : BitVec 32) (k0_hw25 : k0_chk25 v1_0 k0_t6 v93), 16 ∣ (k0_mult704 v93).toNat := fun v1_0 k0_t6 v93 k0_hw25 => k0_hw25.2.2.2.2.2.2.2.2.2.1.2.2.2.2.2.2.2.2.2.2.2.2.2.2.2.2.2.2.2.2.2.1
theorem k0_off114_inb : ∀ (v1_0 : BitVec 32) (k0_t6 : Fin (k0_t6_loop v1_0).trips) (v93 : BitVec 32) (k0_hw25 : k0_chk25 v1_0 k0_t6 v93), ∀ (r : Fin 16), ∀ a, (k0_off114 v1_0 k0_t6 v93 (BitVec.ofNat 32 (16 * r.val))) a + S1x16x128.size a ≤ S2x256x3072.size a := fun v1_0 k0_t6 v93 k0_hw25 r => k0_hw25.2.2.2.2.2.2.2.2.2.1.2.2.2.2.2.2.2.2.2.2.2.2.2.2.2.2.2.2.2.2.2.2.1 r
theorem k0_mult705_dvd : ∀ (v1_0 : BitVec 32) (k0_t6 : Fin (k0_t6_loop v1_0).trips) (v93 : BitVec 32) (k0_hw25 : k0_chk25 v1_0 k0_t6 v93), 16 ∣ (k0_mult705 v93).toNat := fun v1_0 k0_t6 v93 k0_hw25 => k0_hw25.2.2.2.2.2.2.2.2.2.1.2.2.2.2.2.2.2.2.2.2.2.2.2.2.2.2.2.2.2.2.2.2.2.1
theorem k0_mult706_dvd : ∀ (v1_0 : BitVec 32) (k0_t6 : Fin (k0_t6_loop v1_0).trips) (v93 : BitVec 32) (k0_hw25 : k0_chk25 v1_0 k0_t6 v93), 16 ∣ (k0_mult706 v93).toNat := fun v1_0 k0_t6 v93 k0_hw25 => k0_hw25.2.2.2.2.2.2.2.2.2.1.2.2.2.2.2.2.2.2.2.2.2.2.2.2.2.2.2.2.2.2.2.2.2.2.1
theorem k0_mult707_dvd : ∀ (v1_0 : BitVec 32) (k0_t6 : Fin (k0_t6_loop v1_0).trips) (v93 : BitVec 32) (k0_hw25 : k0_chk25 v1_0 k0_t6 v93), 16 ∣ (k0_mult707 v93).toNat := fun v1_0 k0_t6 v93 k0_hw25 => k0_hw25.2.2.2.2.2.2.2.2.2.1.2.2.2.2.2.2.2.2.2.2.2.2.2.2.2.2.2.2.2.2.2.2.2.2.2.1
theorem k0_mult708_dvd : ∀ (v1_0 : BitVec 32) (k0_t6 : Fin (k0_t6_loop v1_0).trips) (v93 : BitVec 32) (k0_hw25 : k0_chk25 v1_0 k0_t6 v93), 16 ∣ (k0_mult708 v93).toNat := fun v1_0 k0_t6 v93 k0_hw25 => k0_hw25.2.2.2.2.2.2.2.2.2.1.2.2.2.2.2.2.2.2.2.2.2.2.2.2.2.2.2.2.2.2.2.2.2.2.2.2.1
theorem k0_mult709_dvd : ∀ (v1_0 : BitVec 32) (k0_t6 : Fin (k0_t6_loop v1_0).trips) (v93 : BitVec 32) (k0_hw25 : k0_chk25 v1_0 k0_t6 v93), 16 ∣ (k0_mult709 v93).toNat := fun v1_0 k0_t6 v93 k0_hw25 => k0_hw25.2.2.2.2.2.2.2.2.2.1.2.2.2.2.2.2.2.2.2.2.2.2.2.2.2.2.2.2.2.2.2.2.2.2.2.2.2.1
theorem k0_mult710_dvd : ∀ (v1_0 : BitVec 32) (k0_t6 : Fin (k0_t6_loop v1_0).trips) (v93 : BitVec 32) (k0_hw25 : k0_chk25 v1_0 k0_t6 v93), 16 ∣ (k0_mult710 v93).toNat := fun v1_0 k0_t6 v93 k0_hw25 => k0_hw25.2.2.2.2.2.2.2.2.2.1.2.2.2.2.2.2.2.2.2.2.2.2.2.2.2.2.2.2.2.2.2.2.2.2.2.2.2.2.1
theorem k0_mult711_dvd : ∀ (v1_0 : BitVec 32) (k0_t6 : Fin (k0_t6_loop v1_0).trips) (v93 : BitVec 32) (k0_hw25 : k0_chk25 v1_0 k0_t6 v93), 16 ∣ (k0_mult711 v93).toNat := fun v1_0 k0_t6 v93 k0_hw25 => k0_hw25.2.2.2.2.2.2.2.2.2.1.2.2.2.2.2.2.2.2.2.2.2.2.2.2.2.2.2.2.2.2.2.2.2.2.2.2.2.2.2.1
theorem k0_mult712_dvd : ∀ (v1_0 : BitVec 32) (k0_t6 : Fin (k0_t6_loop v1_0).trips) (v93 : BitVec 32) (k0_hw25 : k0_chk25 v1_0 k0_t6 v93), 16 ∣ (k0_mult712 v93).toNat := fun v1_0 k0_t6 v93 k0_hw25 => k0_hw25.2.2.2.2.2.2.2.2.2.1.2.2.2.2.2.2.2.2.2.2.2.2.2.2.2.2.2.2.2.2.2.2.2.2.2.2.2.2.2.2.1
theorem k0_mult713_dvd : ∀ (v1_0 : BitVec 32) (k0_t6 : Fin (k0_t6_loop v1_0).trips) (v93 : BitVec 32) (k0_hw25 : k0_chk25 v1_0 k0_t6 v93), 16 ∣ (k0_mult713 v93).toNat := fun v1_0 k0_t6 v93 k0_hw25 => k0_hw25.2.2.2.2.2.2.2.2.2.1.2.2.2.2.2.2.2.2.2.2.2.2.2.2.2.2.2.2.2.2.2.2.2.2.2.2.2.2.2.2.2
theorem k0_mult714_dvd : ∀ (v1_0 : BitVec 32) (k0_t6 : Fin (k0_t6_loop v1_0).trips) (v93 : BitVec 32) (k0_hw25 : k0_chk25 v1_0 k0_t6 v93), 16 ∣ (k0_mult714 v93).toNat := fun v1_0 k0_t6 v93 k0_hw25 => k0_hw25.2.2.2.2.2.2.2.2.2.2.1.1
theorem k0_mult715_dvd : ∀ (v1_0 : BitVec 32) (k0_t6 : Fin (k0_t6_loop v1_0).trips) (v93 : BitVec 32) (k0_hw25 : k0_chk25 v1_0 k0_t6 v93), 16 ∣ (k0_mult715 v93).toNat := fun v1_0 k0_t6 v93 k0_hw25 => k0_hw25.2.2.2.2.2.2.2.2.2.2.1.2.1
theorem k0_mult716_dvd : ∀ (v1_0 : BitVec 32) (k0_t6 : Fin (k0_t6_loop v1_0).trips) (v93 : BitVec 32) (k0_hw25 : k0_chk25 v1_0 k0_t6 v93), 16 ∣ (k0_mult716 v93).toNat := fun v1_0 k0_t6 v93 k0_hw25 => k0_hw25.2.2.2.2.2.2.2.2.2.2.1.2.2.1
theorem k0_mult717_dvd : ∀ (v1_0 : BitVec 32) (k0_t6 : Fin (k0_t6_loop v1_0).trips) (v93 : BitVec 32) (k0_hw25 : k0_chk25 v1_0 k0_t6 v93), 16 ∣ (k0_mult717 v93).toNat := fun v1_0 k0_t6 v93 k0_hw25 => k0_hw25.2.2.2.2.2.2.2.2.2.2.1.2.2.2.1
theorem k0_mult718_dvd : ∀ (v1_0 : BitVec 32) (k0_t6 : Fin (k0_t6_loop v1_0).trips) (v93 : BitVec 32) (k0_hw25 : k0_chk25 v1_0 k0_t6 v93), 16 ∣ (k0_mult718 v93).toNat := fun v1_0 k0_t6 v93 k0_hw25 => k0_hw25.2.2.2.2.2.2.2.2.2.2.1.2.2.2.2.1
theorem k0_mult719_dvd : ∀ (v1_0 : BitVec 32) (k0_t6 : Fin (k0_t6_loop v1_0).trips) (v93 : BitVec 32) (k0_hw25 : k0_chk25 v1_0 k0_t6 v93), 16 ∣ (k0_mult719 v93).toNat := fun v1_0 k0_t6 v93 k0_hw25 => k0_hw25.2.2.2.2.2.2.2.2.2.2.1.2.2.2.2.2.1
theorem k0_mult720_dvd : ∀ (v1_0 : BitVec 32) (k0_t6 : Fin (k0_t6_loop v1_0).trips) (v93 : BitVec 32) (k0_hw25 : k0_chk25 v1_0 k0_t6 v93), 16 ∣ (k0_mult720 v93).toNat := fun v1_0 k0_t6 v93 k0_hw25 => k0_hw25.2.2.2.2.2.2.2.2.2.2.1.2.2.2.2.2.2.1
theorem k0_mult721_dvd : ∀ (v1_0 : BitVec 32) (k0_t6 : Fin (k0_t6_loop v1_0).trips) (v93 : BitVec 32) (k0_hw25 : k0_chk25 v1_0 k0_t6 v93), 16 ∣ (k0_mult721 v93).toNat := fun v1_0 k0_t6 v93 k0_hw25 => k0_hw25.2.2.2.2.2.2.2.2.2.2.1.2.2.2.2.2.2.2.1
theorem k0_mult722_dvd : ∀ (v1_0 : BitVec 32) (k0_t6 : Fin (k0_t6_loop v1_0).trips) (v93 : BitVec 32) (k0_hw25 : k0_chk25 v1_0 k0_t6 v93), 16 ∣ (k0_mult722 v93).toNat := fun v1_0 k0_t6 v93 k0_hw25 => k0_hw25.2.2.2.2.2.2.2.2.2.2.1.2.2.2.2.2.2.2.2.1
theorem k0_mult723_dvd : ∀ (v1_0 : BitVec 32) (k0_t6 : Fin (k0_t6_loop v1_0).trips) (v93 : BitVec 32) (k0_hw25 : k0_chk25 v1_0 k0_t6 v93), 16 ∣ (k0_mult723 v93).toNat := fun v1_0 k0_t6 v93 k0_hw25 => k0_hw25.2.2.2.2.2.2.2.2.2.2.1.2.2.2.2.2.2.2.2.2.1
theorem k0_mult724_dvd : ∀ (v1_0 : BitVec 32) (k0_t6 : Fin (k0_t6_loop v1_0).trips) (v93 : BitVec 32) (k0_hw25 : k0_chk25 v1_0 k0_t6 v93), 16 ∣ (k0_mult724 v93).toNat := fun v1_0 k0_t6 v93 k0_hw25 => k0_hw25.2.2.2.2.2.2.2.2.2.2.1.2.2.2.2.2.2.2.2.2.2.1
theorem k0_mult725_dvd : ∀ (v1_0 : BitVec 32) (k0_t6 : Fin (k0_t6_loop v1_0).trips) (v93 : BitVec 32) (k0_hw25 : k0_chk25 v1_0 k0_t6 v93), 16 ∣ (k0_mult725 v93).toNat := fun v1_0 k0_t6 v93 k0_hw25 => k0_hw25.2.2.2.2.2.2.2.2.2.2.1.2.2.2.2.2.2.2.2.2.2.2.1
theorem k0_mult726_dvd : ∀ (v1_0 : BitVec 32) (k0_t6 : Fin (k0_t6_loop v1_0).trips) (v93 : BitVec 32) (k0_hw25 : k0_chk25 v1_0 k0_t6 v93), 16 ∣ (k0_mult726 v93).toNat := fun v1_0 k0_t6 v93 k0_hw25 => k0_hw25.2.2.2.2.2.2.2.2.2.2.1.2.2.2.2.2.2.2.2.2.2.2.2.1
theorem k0_mult727_dvd : ∀ (v1_0 : BitVec 32) (k0_t6 : Fin (k0_t6_loop v1_0).trips) (v93 : BitVec 32) (k0_hw25 : k0_chk25 v1_0 k0_t6 v93), 16 ∣ (k0_mult727 v93).toNat := fun v1_0 k0_t6 v93 k0_hw25 => k0_hw25.2.2.2.2.2.2.2.2.2.2.1.2.2.2.2.2.2.2.2.2.2.2.2.2.1
theorem k0_mult728_dvd : ∀ (v1_0 : BitVec 32) (k0_t6 : Fin (k0_t6_loop v1_0).trips) (v93 : BitVec 32) (k0_hw25 : k0_chk25 v1_0 k0_t6 v93), 16 ∣ (k0_mult728 v93).toNat := fun v1_0 k0_t6 v93 k0_hw25 => k0_hw25.2.2.2.2.2.2.2.2.2.2.1.2.2.2.2.2.2.2.2.2.2.2.2.2.2.1
theorem k0_mult729_dvd : ∀ (v1_0 : BitVec 32) (k0_t6 : Fin (k0_t6_loop v1_0).trips) (v93 : BitVec 32) (k0_hw25 : k0_chk25 v1_0 k0_t6 v93), 16 ∣ (k0_mult729 v93).toNat := fun v1_0 k0_t6 v93 k0_hw25 => k0_hw25.2.2.2.2.2.2.2.2.2.2.1.2.2.2.2.2.2.2.2.2.2.2.2.2.2.2.1
theorem k0_mult730_dvd : ∀ (v1_0 : BitVec 32) (k0_t6 : Fin (k0_t6_loop v1_0).trips) (v93 : BitVec 32) (k0_hw25 : k0_chk25 v1_0 k0_t6 v93), 16 ∣ (k0_mult730 v93).toNat := fun v1_0 k0_t6 v93 k0_hw25 => k0_hw25.2.2.2.2.2.2.2.2.2.2.1.2.2.2.2.2.2.2.2.2.2.2.2.2.2.2.2.1
theorem k0_mult731_dvd : ∀ (v1_0 : BitVec 32) (k0_t6 : Fin (k0_t6_loop v1_0).trips) (v93 : BitVec 32) (k0_hw25 : k0_chk25 v1_0 k0_t6 v93), 16 ∣ (k0_mult731 v93).toNat := fun v1_0 k0_t6 v93 k0_hw25 => k0_hw25.2.2.2.2.2.2.2.2.2.2.1.2.2.2.2.2.2.2.2.2.2.2.2.2.2.2.2.2.1
theorem k0_mult732_dvd : ∀ (v1_0 : BitVec 32) (k0_t6 : Fin (k0_t6_loop v1_0).trips) (v93 : BitVec 32) (k0_hw25 : k0_chk25 v1_0 k0_t6 v93), 16 ∣ (k0_mult732 v93).toNat := fun v1_0 k0_t6 v93 k0_hw25 => k0_hw25.2.2.2.2.2.2.2.2.2.2.1.2.2.2.2.2.2.2.2.2.2.2.2.2.2.2.2.2.2.1
theorem k0_mult733_dvd : ∀ (v1_0 : BitVec 32) (k0_t6 : Fin (k0_t6_loop v1_0).trips) (v93 : BitVec 32) (k0_hw25 : k0_chk25 v1_0 k0_t6 v93), 16 ∣ (k0_mult733 v93).toNat := fun v1_0 k0_t6 v93 k0_hw25 => k0_hw25.2.2.2.2.2.2.2.2.2.2.1.2.2.2.2.2.2.2.2.2.2.2.2.2.2.2.2.2.2.2.1
theorem k0_mult734_dvd : ∀ (v1_0 : BitVec 32) (k0_t6 : Fin (k0_t6_loop v1_0).trips) (v93 : BitVec 32) (k0_hw25 : k0_chk25 v1_0 k0_t6 v93), 16 ∣ (k0_mult734 v93).toNat := fun v1_0 k0_t6 v93 k0_hw25 => k0_hw25.2.2.2.2.2.2.2.2.2.2.1.2.2.2.2.2.2.2.2.2.2.2.2.2.2.2.2.2.2.2.2.1
theorem k0_mult735_dvd : ∀ (v1_0 : BitVec 32) (k0_t6 : Fin (k0_t6_loop v1_0).trips) (v93 : BitVec 32) (k0_hw25 : k0_chk25 v1_0 k0_t6 v93), 16 ∣ (k0_mult735 v93).toNat := fun v1_0 k0_t6 v93 k0_hw25 => k0_hw25.2.2.2.2.2.2.2.2.2.2.1.2.2.2.2.2.2.2.2.2.2.2.2.2.2.2.2.2.2.2.2.2.1
theorem k0_off115_inb : ∀ (v1_0 : BitVec 32) (k0_t6 : Fin (k0_t6_loop v1_0).trips) (v93 : BitVec 32) (k0_hw25 : k0_chk25 v1_0 k0_t6 v93), ∀ (r : Fin 16), ∀ a, (k0_off115 v1_0 k0_t6 v93 (BitVec.ofNat 32 (16 * r.val))) a + S1x16x128.size a ≤ S2x256x3072.size a := fun v1_0 k0_t6 v93 k0_hw25 r => k0_hw25.2.2.2.2.2.2.2.2.2.2.1.2.2.2.2.2.2.2.2.2.2.2.2.2.2.2.2.2.2.2.2.2.2.1 r
theorem k0_mult736_dvd : ∀ (v1_0 : BitVec 32) (k0_t6 : Fin (k0_t6_loop v1_0).trips) (v93 : BitVec 32) (k0_hw25 : k0_chk25 v1_0 k0_t6 v93), 16 ∣ (k0_mult736 v93).toNat := fun v1_0 k0_t6 v93 k0_hw25 => k0_hw25.2.2.2.2.2.2.2.2.2.2.1.2.2.2.2.2.2.2.2.2.2.2.2.2.2.2.2.2.2.2.2.2.2.2.1
theorem k0_off116_inb : ∀ (v1_0 : BitVec 32) (k0_t6 : Fin (k0_t6_loop v1_0).trips) (v93 : BitVec 32) (k0_hw25 : k0_chk25 v1_0 k0_t6 v93), ∀ (r : Fin 16), ∀ a, (k0_off116 v1_0 k0_t6 v93 (BitVec.ofNat 32 (16 * r.val))) a + S1x16x128.size a ≤ S2x256x3072.size a := fun v1_0 k0_t6 v93 k0_hw25 r => k0_hw25.2.2.2.2.2.2.2.2.2.2.1.2.2.2.2.2.2.2.2.2.2.2.2.2.2.2.2.2.2.2.2.2.2.2.2.1 r
theorem k0_mult737_dvd : ∀ (v1_0 : BitVec 32) (k0_t6 : Fin (k0_t6_loop v1_0).trips) (v93 : BitVec 32) (k0_hw25 : k0_chk25 v1_0 k0_t6 v93), 16 ∣ (k0_mult737 v93).toNat := fun v1_0 k0_t6 v93 k0_hw25 => k0_hw25.2.2.2.2.2.2.2.2.2.2.1.2.2.2.2.2.2.2.2.2.2.2.2.2.2.2.2.2.2.2.2.2.2.2.2.2.1
theorem k0_mult738_dvd : ∀ (v1_0 : BitVec 32) (k0_t6 : Fin (k0_t6_loop v1_0).trips) (v93 : BitVec 32) (k0_hw25 : k0_chk25 v1_0 k0_t6 v93), 16 ∣ (k0_mult738 v93).toNat := fun v1_0 k0_t6 v93 k0_hw25 => k0_hw25.2.2.2.2.2.2.2.2.2.2.1.2.2.2.2.2.2.2.2.2.2.2.2.2.2.2.2.2.2.2.2.2.2.2.2.2.2.1
theorem k0_mult739_dvd : ∀ (v1_0 : BitVec 32) (k0_t6 : Fin (k0_t6_loop v1_0).trips) (v93 : BitVec 32) (k0_hw25 : k0_chk25 v1_0 k0_t6 v93), 16 ∣ (k0_mult739 v93).toNat := fun v1_0 k0_t6 v93 k0_hw25 => k0_hw25.2.2.2.2.2.2.2.2.2.2.1.2.2.2.2.2.2.2.2.2.2.2.2.2.2.2.2.2.2.2.2.2.2.2.2.2.2.2.1
theorem k0_mult740_dvd : ∀ (v1_0 : BitVec 32) (k0_t6 : Fin (k0_t6_loop v1_0).trips) (v93 : BitVec 32) (k0_hw25 : k0_chk25 v1_0 k0_t6 v93), 16 ∣ (k0_mult740 v93).toNat := fun v1_0 k0_t6 v93 k0_hw25 => k0_hw25.2.2.2.2.2.2.2.2.2.2.1.2.2.2.2.2.2.2.2.2.2.2.2.2.2.2.2.2.2.2.2.2.2.2.2.2.2.2.2.1
theorem k0_mult741_dvd : ∀ (v1_0 : BitVec 32) (k0_t6 : Fin (k0_t6_loop v1_0).trips) (v93 : BitVec 32) (k0_hw25 : k0_chk25 v1_0 k0_t6 v93), 16 ∣ (k0_mult741 v93).toNat := fun v1_0 k0_t6 v93 k0_hw25 => k0_hw25.2.2.2.2.2.2.2.2.2.2.1.2.2.2.2.2.2.2.2.2.2.2.2.2.2.2.2.2.2.2.2.2.2.2.2.2.2.2.2.2.1
theorem k0_mult742_dvd : ∀ (v1_0 : BitVec 32) (k0_t6 : Fin (k0_t6_loop v1_0).trips) (v93 : BitVec 32) (k0_hw25 : k0_chk25 v1_0 k0_t6 v93), 16 ∣ (k0_mult742 v93).toNat := fun v1_0 k0_t6 v93 k0_hw25 => k0_hw25.2.2.2.2.2.2.2.2.2.2.1.2.2.2.2.2.2.2.2.2.2.2.2.2.2.2.2.2.2.2.2.2.2.2.2.2.2.2.2.2.2.1
theorem k0_mult743_dvd : ∀ (v1_0 : BitVec 32) (k0_t6 : Fin (k0_t6_loop v1_0).trips) (v93 : BitVec 32) (k0_hw25 : k0_chk25 v1_0 k0_t6 v93), 16 ∣ (k0_mult743 v93).toNat := fun v1_0 k0_t6 v93 k0_hw25 => k0_hw25.2.2.2.2.2.2.2.2.2.2.1.2.2.2.2.2.2.2.2.2.2.2.2.2.2.2.2.2.2.2.2.2.2.2.2.2.2.2.2.2.2.2
theorem k0_mult744_dvd : ∀ (v1_0 : BitVec 32) (k0_t6 : Fin (k0_t6_loop v1_0).trips) (v93 : BitVec 32) (k0_hw25 : k0_chk25 v1_0 k0_t6 v93), 16 ∣ (k0_mult744 v93).toNat := fun v1_0 k0_t6 v93 k0_hw25 => k0_hw25.2.2.2.2.2.2.2.2.2.2.2.1.1
theorem k0_mult745_dvd : ∀ (v1_0 : BitVec 32) (k0_t6 : Fin (k0_t6_loop v1_0).trips) (v93 : BitVec 32) (k0_hw25 : k0_chk25 v1_0 k0_t6 v93), 16 ∣ (k0_mult745 v93).toNat := fun v1_0 k0_t6 v93 k0_hw25 => k0_hw25.2.2.2.2.2.2.2.2.2.2.2.1.2.1
theorem k0_mult746_dvd : ∀ (v1_0 : BitVec 32) (k0_t6 : Fin (k0_t6_loop v1_0).trips) (v93 : BitVec 32) (k0_hw25 : k0_chk25 v1_0 k0_t6 v93), 16 ∣ (k0_mult746 v93).toNat := fun v1_0 k0_t6 v93 k0_hw25 => k0_hw25.2.2.2.2.2.2.2.2.2.2.2.1.2.2.1
theorem k0_mult747_dvd : ∀ (v1_0 : BitVec 32) (k0_t6 : Fin (k0_t6_loop v1_0).trips) (v93 : BitVec 32) (k0_hw25 : k0_chk25 v1_0 k0_t6 v93), 16 ∣ (k0_mult747 v93).toNat := fun v1_0 k0_t6 v93 k0_hw25 => k0_hw25.2.2.2.2.2.2.2.2.2.2.2.1.2.2.2.1
theorem k0_mult748_dvd : ∀ (v1_0 : BitVec 32) (k0_t6 : Fin (k0_t6_loop v1_0).trips) (v93 : BitVec 32) (k0_hw25 : k0_chk25 v1_0 k0_t6 v93), 16 ∣ (k0_mult748 v93).toNat := fun v1_0 k0_t6 v93 k0_hw25 => k0_hw25.2.2.2.2.2.2.2.2.2.2.2.1.2.2.2.2.1
theorem k0_mult749_dvd : ∀ (v1_0 : BitVec 32) (k0_t6 : Fin (k0_t6_loop v1_0).trips) (v93 : BitVec 32) (k0_hw25 : k0_chk25 v1_0 k0_t6 v93), 16 ∣ (k0_mult749 v93).toNat := fun v1_0 k0_t6 v93 k0_hw25 => k0_hw25.2.2.2.2.2.2.2.2.2.2.2.1.2.2.2.2.2.1
theorem k0_mult750_dvd : ∀ (v1_0 : BitVec 32) (k0_t6 : Fin (k0_t6_loop v1_0).trips) (v93 : BitVec 32) (k0_hw25 : k0_chk25 v1_0 k0_t6 v93), 16 ∣ (k0_mult750 v93).toNat := fun v1_0 k0_t6 v93 k0_hw25 => k0_hw25.2.2.2.2.2.2.2.2.2.2.2.1.2.2.2.2.2.2.1
theorem k0_mult751_dvd : ∀ (v1_0 : BitVec 32) (k0_t6 : Fin (k0_t6_loop v1_0).trips) (v93 : BitVec 32) (k0_hw25 : k0_chk25 v1_0 k0_t6 v93), 16 ∣ (k0_mult751 v93).toNat := fun v1_0 k0_t6 v93 k0_hw25 => k0_hw25.2.2.2.2.2.2.2.2.2.2.2.1.2.2.2.2.2.2.2.1
theorem k0_mult752_dvd : ∀ (v1_0 : BitVec 32) (k0_t6 : Fin (k0_t6_loop v1_0).trips) (v93 : BitVec 32) (k0_hw25 : k0_chk25 v1_0 k0_t6 v93), 16 ∣ (k0_mult752 v93).toNat := fun v1_0 k0_t6 v93 k0_hw25 => k0_hw25.2.2.2.2.2.2.2.2.2.2.2.1.2.2.2.2.2.2.2.2.1
theorem k0_mult753_dvd : ∀ (v1_0 : BitVec 32) (k0_t6 : Fin (k0_t6_loop v1_0).trips) (v93 : BitVec 32) (k0_hw25 : k0_chk25 v1_0 k0_t6 v93), 16 ∣ (k0_mult753 v93).toNat := fun v1_0 k0_t6 v93 k0_hw25 => k0_hw25.2.2.2.2.2.2.2.2.2.2.2.1.2.2.2.2.2.2.2.2.2.1
theorem k0_mult754_dvd : ∀ (v1_0 : BitVec 32) (k0_t6 : Fin (k0_t6_loop v1_0).trips) (v93 : BitVec 32) (k0_hw25 : k0_chk25 v1_0 k0_t6 v93), 16 ∣ (k0_mult754 v93).toNat := fun v1_0 k0_t6 v93 k0_hw25 => k0_hw25.2.2.2.2.2.2.2.2.2.2.2.1.2.2.2.2.2.2.2.2.2.2.1
theorem k0_mult755_dvd : ∀ (v1_0 : BitVec 32) (k0_t6 : Fin (k0_t6_loop v1_0).trips) (v93 : BitVec 32) (k0_hw25 : k0_chk25 v1_0 k0_t6 v93), 16 ∣ (k0_mult755 v93).toNat := fun v1_0 k0_t6 v93 k0_hw25 => k0_hw25.2.2.2.2.2.2.2.2.2.2.2.1.2.2.2.2.2.2.2.2.2.2.2.1
theorem k0_mult756_dvd : ∀ (v1_0 : BitVec 32) (k0_t6 : Fin (k0_t6_loop v1_0).trips) (v93 : BitVec 32) (k0_hw25 : k0_chk25 v1_0 k0_t6 v93), 16 ∣ (k0_mult756 v93).toNat := fun v1_0 k0_t6 v93 k0_hw25 => k0_hw25.2.2.2.2.2.2.2.2.2.2.2.1.2.2.2.2.2.2.2.2.2.2.2.2.1
theorem k0_mult757_dvd : ∀ (v1_0 : BitVec 32) (k0_t6 : Fin (k0_t6_loop v1_0).trips) (v93 : BitVec 32) (k0_hw25 : k0_chk25 v1_0 k0_t6 v93), 16 ∣ (k0_mult757 v93).toNat := fun v1_0 k0_t6 v93 k0_hw25 => k0_hw25.2.2.2.2.2.2.2.2.2.2.2.1.2.2.2.2.2.2.2.2.2.2.2.2.2.1
theorem k0_mult758_dvd : ∀ (v1_0 : BitVec 32) (k0_t6 : Fin (k0_t6_loop v1_0).trips) (v93 : BitVec 32) (k0_hw25 : k0_chk25 v1_0 k0_t6 v93), 16 ∣ (k0_mult758 v93).toNat := fun v1_0 k0_t6 v93 k0_hw25 => k0_hw25.2.2.2.2.2.2.2.2.2.2.2.1.2.2.2.2.2.2.2.2.2.2.2.2.2.2.1
theorem k0_mult759_dvd : ∀ (v1_0 : BitVec 32) (k0_t6 : Fin (k0_t6_loop v1_0).trips) (v93 : BitVec 32) (k0_hw25 : k0_chk25 v1_0 k0_t6 v93), 16 ∣ (k0_mult759 v93).toNat := fun v1_0 k0_t6 v93 k0_hw25 => k0_hw25.2.2.2.2.2.2.2.2.2.2.2.1.2.2.2.2.2.2.2.2.2.2.2.2.2.2.2.1
theorem k0_mult760_dvd : ∀ (v1_0 : BitVec 32) (k0_t6 : Fin (k0_t6_loop v1_0).trips) (v93 : BitVec 32) (k0_hw25 : k0_chk25 v1_0 k0_t6 v93), 16 ∣ (k0_mult760 v93).toNat := fun v1_0 k0_t6 v93 k0_hw25 => k0_hw25.2.2.2.2.2.2.2.2.2.2.2.1.2.2.2.2.2.2.2.2.2.2.2.2.2.2.2.2.1
theorem k0_mult761_dvd : ∀ (v1_0 : BitVec 32) (k0_t6 : Fin (k0_t6_loop v1_0).trips) (v93 : BitVec 32) (k0_hw25 : k0_chk25 v1_0 k0_t6 v93), 16 ∣ (k0_mult761 v93).toNat := fun v1_0 k0_t6 v93 k0_hw25 => k0_hw25.2.2.2.2.2.2.2.2.2.2.2.1.2.2.2.2.2.2.2.2.2.2.2.2.2.2.2.2.2.1
theorem k0_mult762_dvd : ∀ (v1_0 : BitVec 32) (k0_t6 : Fin (k0_t6_loop v1_0).trips) (v93 : BitVec 32) (k0_hw25 : k0_chk25 v1_0 k0_t6 v93), 16 ∣ (k0_mult762 v93).toNat := fun v1_0 k0_t6 v93 k0_hw25 => k0_hw25.2.2.2.2.2.2.2.2.2.2.2.1.2.2.2.2.2.2.2.2.2.2.2.2.2.2.2.2.2.2.1
theorem k0_mult763_dvd : ∀ (v1_0 : BitVec 32) (k0_t6 : Fin (k0_t6_loop v1_0).trips) (v93 : BitVec 32) (k0_hw25 : k0_chk25 v1_0 k0_t6 v93), 16 ∣ (k0_mult763 v93).toNat := fun v1_0 k0_t6 v93 k0_hw25 => k0_hw25.2.2.2.2.2.2.2.2.2.2.2.1.2.2.2.2.2.2.2.2.2.2.2.2.2.2.2.2.2.2.2.1
theorem k0_mult764_dvd : ∀ (v1_0 : BitVec 32) (k0_t6 : Fin (k0_t6_loop v1_0).trips) (v93 : BitVec 32) (k0_hw25 : k0_chk25 v1_0 k0_t6 v93), 16 ∣ (k0_mult764 v93).toNat := fun v1_0 k0_t6 v93 k0_hw25 => k0_hw25.2.2.2.2.2.2.2.2.2.2.2.1.2.2.2.2.2.2.2.2.2.2.2.2.2.2.2.2.2.2.2.2.1
theorem k0_mult765_dvd : ∀ (v1_0 : BitVec 32) (k0_t6 : Fin (k0_t6_loop v1_0).trips) (v93 : BitVec 32) (k0_hw25 : k0_chk25 v1_0 k0_t6 v93), 16 ∣ (k0_mult765 v93).toNat := fun v1_0 k0_t6 v93 k0_hw25 => k0_hw25.2.2.2.2.2.2.2.2.2.2.2.1.2.2.2.2.2.2.2.2.2.2.2.2.2.2.2.2.2.2.2.2.2.1
theorem k0_mult766_dvd : ∀ (v1_0 : BitVec 32) (k0_t6 : Fin (k0_t6_loop v1_0).trips) (v93 : BitVec 32) (k0_hw25 : k0_chk25 v1_0 k0_t6 v93), 16 ∣ (k0_mult766 v93).toNat := fun v1_0 k0_t6 v93 k0_hw25 => k0_hw25.2.2.2.2.2.2.2.2.2.2.2.1.2.2.2.2.2.2.2.2.2.2.2.2.2.2.2.2.2.2.2.2.2.2.1
theorem k0_mult767_dvd : ∀ (v1_0 : BitVec 32) (k0_t6 : Fin (k0_t6_loop v1_0).trips) (v93 : BitVec 32) (k0_hw25 : k0_chk25 v1_0 k0_t6 v93), 16 ∣ (k0_mult767 v93).toNat := fun v1_0 k0_t6 v93 k0_hw25 => k0_hw25.2.2.2.2.2.2.2.2.2.2.2.1.2.2.2.2.2.2.2.2.2.2.2.2.2.2.2.2.2.2.2.2.2.2.2.1
theorem k0_off117_inb : ∀ (v1_0 : BitVec 32) (k0_t6 : Fin (k0_t6_loop v1_0).trips) (v93 : BitVec 32) (k0_hw25 : k0_chk25 v1_0 k0_t6 v93), ∀ (r : Fin 16), ∀ a, (k0_off117 v1_0 k0_t6 v93 (BitVec.ofNat 32 (16 * r.val))) a + S1x16x128.size a ≤ S2x256x3072.size a := fun v1_0 k0_t6 v93 k0_hw25 r => k0_hw25.2.2.2.2.2.2.2.2.2.2.2.1.2.2.2.2.2.2.2.2.2.2.2.2.2.2.2.2.2.2.2.2.2.2.2.2.1 r
theorem k0_mult768_dvd : ∀ (v1_0 : BitVec 32) (k0_t6 : Fin (k0_t6_loop v1_0).trips) (v93 : BitVec 32) (k0_hw25 : k0_chk25 v1_0 k0_t6 v93), 16 ∣ (k0_mult768 v93).toNat := fun v1_0 k0_t6 v93 k0_hw25 => k0_hw25.2.2.2.2.2.2.2.2.2.2.2.1.2.2.2.2.2.2.2.2.2.2.2.2.2.2.2.2.2.2.2.2.2.2.2.2.2.1
theorem k0_off118_inb : ∀ (v1_0 : BitVec 32) (k0_t6 : Fin (k0_t6_loop v1_0).trips) (v93 : BitVec 32) (k0_hw25 : k0_chk25 v1_0 k0_t6 v93), ∀ (r : Fin 16), ∀ a, (k0_off118 v1_0 k0_t6 v93 (BitVec.ofNat 32 (16 * r.val))) a + S1x16x128.size a ≤ S2x256x3072.size a := fun v1_0 k0_t6 v93 k0_hw25 r => k0_hw25.2.2.2.2.2.2.2.2.2.2.2.1.2.2.2.2.2.2.2.2.2.2.2.2.2.2.2.2.2.2.2.2.2.2.2.2.2.2.1 r
theorem k0_mult769_dvd : ∀ (v1_0 : BitVec 32) (k0_t6 : Fin (k0_t6_loop v1_0).trips) (v93 : BitVec 32) (k0_hw25 : k0_chk25 v1_0 k0_t6 v93), 16 ∣ (k0_mult769 v93).toNat := fun v1_0 k0_t6 v93 k0_hw25 => k0_hw25.2.2.2.2.2.2.2.2.2.2.2.1.2.2.2.2.2.2.2.2.2.2.2.2.2.2.2.2.2.2.2.2.2.2.2.2.2.2.2.1
theorem k0_mult770_dvd : ∀ (v1_0 : BitVec 32) (k0_t6 : Fin (k0_t6_loop v1_0).trips) (v93 : BitVec 32) (k0_hw25 : k0_chk25 v1_0 k0_t6 v93), 16 ∣ (k0_mult770 v93).toNat := fun v1_0 k0_t6 v93 k0_hw25 => k0_hw25.2.2.2.2.2.2.2.2.2.2.2.1.2.2.2.2.2.2.2.2.2.2.2.2.2.2.2.2.2.2.2.2.2.2.2.2.2.2.2.2.1
theorem k0_mult771_dvd : ∀ (v1_0 : BitVec 32) (k0_t6 : Fin (k0_t6_loop v1_0).trips) (v93 : BitVec 32) (k0_hw25 : k0_chk25 v1_0 k0_t6 v93), 16 ∣ (k0_mult771 v93).toNat := fun v1_0 k0_t6 v93 k0_hw25 => k0_hw25.2.2.2.2.2.2.2.2.2.2.2.1.2.2.2.2.2.2.2.2.2.2.2.2.2.2.2.2.2.2.2.2.2.2.2.2.2.2.2.2.2.1
theorem k0_mult772_dvd : ∀ (v1_0 : BitVec 32) (k0_t6 : Fin (k0_t6_loop v1_0).trips) (v93 : BitVec 32) (k0_hw25 : k0_chk25 v1_0 k0_t6 v93), 16 ∣ (k0_mult772 v93).toNat := fun v1_0 k0_t6 v93 k0_hw25 => k0_hw25.2.2.2.2.2.2.2.2.2.2.2.1.2.2.2.2.2.2.2.2.2.2.2.2.2.2.2.2.2.2.2.2.2.2.2.2.2.2.2.2.2.2.1
theorem k0_mult773_dvd : ∀ (v1_0 : BitVec 32) (k0_t6 : Fin (k0_t6_loop v1_0).trips) (v93 : BitVec 32) (k0_hw25 : k0_chk25 v1_0 k0_t6 v93), 16 ∣ (k0_mult773 v93).toNat := fun v1_0 k0_t6 v93 k0_hw25 => k0_hw25.2.2.2.2.2.2.2.2.2.2.2.1.2.2.2.2.2.2.2.2.2.2.2.2.2.2.2.2.2.2.2.2.2.2.2.2.2.2.2.2.2.2.2
theorem k0_mult774_dvd : ∀ (v1_0 : BitVec 32) (k0_t6 : Fin (k0_t6_loop v1_0).trips) (v93 : BitVec 32) (k0_hw25 : k0_chk25 v1_0 k0_t6 v93), 16 ∣ (k0_mult774 v93).toNat := fun v1_0 k0_t6 v93 k0_hw25 => k0_hw25.2.2.2.2.2.2.2.2.2.2.2.2.1
theorem k0_mult775_dvd : ∀ (v1_0 : BitVec 32) (k0_t6 : Fin (k0_t6_loop v1_0).trips) (v93 : BitVec 32) (k0_hw25 : k0_chk25 v1_0 k0_t6 v93), 16 ∣ (k0_mult775 v93).toNat := fun v1_0 k0_t6 v93 k0_hw25 => k0_hw25.2.2.2.2.2.2.2.2.2.2.2.2.2.1
theorem k0_mult776_dvd : ∀ (v1_0 : BitVec 32) (k0_t6 : Fin (k0_t6_loop v1_0).trips) (v93 : BitVec 32) (k0_hw25 : k0_chk25 v1_0 k0_t6 v93), 16 ∣ (k0_mult776 v93).toNat := fun v1_0 k0_t6 v93 k0_hw25 => k0_hw25.2.2.2.2.2.2.2.2.2.2.2.2.2.2.1
theorem k0_mult777_dvd : ∀ (v1_0 : BitVec 32) (k0_t6 : Fin (k0_t6_loop v1_0).trips) (v93 : BitVec 32) (k0_hw25 : k0_chk25 v1_0 k0_t6 v93), 16 ∣ (k0_mult777 v93).toNat := fun v1_0 k0_t6 v93 k0_hw25 => k0_hw25.2.2.2.2.2.2.2.2.2.2.2.2.2.2.2.1
theorem k0_mult778_dvd : ∀ (v1_0 : BitVec 32) (k0_t6 : Fin (k0_t6_loop v1_0).trips) (v93 : BitVec 32) (k0_hw25 : k0_chk25 v1_0 k0_t6 v93), 16 ∣ (k0_mult778 v93).toNat := fun v1_0 k0_t6 v93 k0_hw25 => k0_hw25.2.2.2.2.2.2.2.2.2.2.2.2.2.2.2.2.1
theorem k0_mult779_dvd : ∀ (v1_0 : BitVec 32) (k0_t6 : Fin (k0_t6_loop v1_0).trips) (v93 : BitVec 32) (k0_hw25 : k0_chk25 v1_0 k0_t6 v93), 16 ∣ (k0_mult779 v93).toNat := fun v1_0 k0_t6 v93 k0_hw25 => k0_hw25.2.2.2.2.2.2.2.2.2.2.2.2.2.2.2.2.2.1
theorem k0_mult780_dvd : ∀ (v1_0 : BitVec 32) (k0_t6 : Fin (k0_t6_loop v1_0).trips) (v93 : BitVec 32) (k0_hw25 : k0_chk25 v1_0 k0_t6 v93), 16 ∣ (k0_mult780 v93).toNat := fun v1_0 k0_t6 v93 k0_hw25 => k0_hw25.2.2.2.2.2.2.2.2.2.2.2.2.2.2.2.2.2.2.1
theorem k0_mult781_dvd : ∀ (v1_0 : BitVec 32) (k0_t6 : Fin (k0_t6_loop v1_0).trips) (v93 : BitVec 32) (k0_hw25 : k0_chk25 v1_0 k0_t6 v93), 16 ∣ (k0_mult781 v93).toNat := fun v1_0 k0_t6 v93 k0_hw25 => k0_hw25.2.2.2.2.2.2.2.2.2.2.2.2.2.2.2.2.2.2.2.1
theorem k0_mult782_dvd : ∀ (v1_0 : BitVec 32) (k0_t6 : Fin (k0_t6_loop v1_0).trips) (v93 : BitVec 32) (k0_hw25 : k0_chk25 v1_0 k0_t6 v93), 16 ∣ (k0_mult782 v93).toNat := fun v1_0 k0_t6 v93 k0_hw25 => k0_hw25.2.2.2.2.2.2.2.2.2.2.2.2.2.2.2.2.2.2.2.2.1
theorem k0_mult783_dvd : ∀ (v1_0 : BitVec 32) (k0_t6 : Fin (k0_t6_loop v1_0).trips) (v93 : BitVec 32) (k0_hw25 : k0_chk25 v1_0 k0_t6 v93), 16 ∣ (k0_mult783 v93).toNat := fun v1_0 k0_t6 v93 k0_hw25 => k0_hw25.2.2.2.2.2.2.2.2.2.2.2.2.2.2.2.2.2.2.2.2.2.1
theorem k0_mult784_dvd : ∀ (v1_0 : BitVec 32) (k0_t6 : Fin (k0_t6_loop v1_0).trips) (v93 : BitVec 32) (k0_hw25 : k0_chk25 v1_0 k0_t6 v93), 16 ∣ (k0_mult784 v93).toNat := fun v1_0 k0_t6 v93 k0_hw25 => k0_hw25.2.2.2.2.2.2.2.2.2.2.2.2.2.2.2.2.2.2.2.2.2.2.1
theorem k0_mult785_dvd : ∀ (v1_0 : BitVec 32) (k0_t6 : Fin (k0_t6_loop v1_0).trips) (v93 : BitVec 32) (k0_hw25 : k0_chk25 v1_0 k0_t6 v93), 16 ∣ (k0_mult785 v93).toNat := fun v1_0 k0_t6 v93 k0_hw25 => k0_hw25.2.2.2.2.2.2.2.2.2.2.2.2.2.2.2.2.2.2.2.2.2.2.2.1
theorem k0_mult786_dvd : ∀ (v1_0 : BitVec 32) (k0_t6 : Fin (k0_t6_loop v1_0).trips) (v93 : BitVec 32) (k0_hw25 : k0_chk25 v1_0 k0_t6 v93), 16 ∣ (k0_mult786 v93).toNat := fun v1_0 k0_t6 v93 k0_hw25 => k0_hw25.2.2.2.2.2.2.2.2.2.2.2.2.2.2.2.2.2.2.2.2.2.2.2.2.1
theorem k0_mult787_dvd : ∀ (v1_0 : BitVec 32) (k0_t6 : Fin (k0_t6_loop v1_0).trips) (v93 : BitVec 32) (k0_hw25 : k0_chk25 v1_0 k0_t6 v93), 16 ∣ (k0_mult787 v93).toNat := fun v1_0 k0_t6 v93 k0_hw25 => k0_hw25.2.2.2.2.2.2.2.2.2.2.2.2.2.2.2.2.2.2.2.2.2.2.2.2.2.1
theorem k0_mult788_dvd : ∀ (v1_0 : BitVec 32) (k0_t6 : Fin (k0_t6_loop v1_0).trips) (v93 : BitVec 32) (k0_hw25 : k0_chk25 v1_0 k0_t6 v93), 16 ∣ (k0_mult788 v93).toNat := fun v1_0 k0_t6 v93 k0_hw25 => k0_hw25.2.2.2.2.2.2.2.2.2.2.2.2.2.2.2.2.2.2.2.2.2.2.2.2.2.2.1
theorem k0_mult789_dvd : ∀ (v1_0 : BitVec 32) (k0_t6 : Fin (k0_t6_loop v1_0).trips) (v93 : BitVec 32) (k0_hw25 : k0_chk25 v1_0 k0_t6 v93), 16 ∣ (k0_mult789 v93).toNat := fun v1_0 k0_t6 v93 k0_hw25 => k0_hw25.2.2.2.2.2.2.2.2.2.2.2.2.2.2.2.2.2.2.2.2.2.2.2.2.2.2.2.1
theorem k0_mult790_dvd : ∀ (v1_0 : BitVec 32) (k0_t6 : Fin (k0_t6_loop v1_0).trips) (v93 : BitVec 32) (k0_hw25 : k0_chk25 v1_0 k0_t6 v93), 16 ∣ (k0_mult790 v93).toNat := fun v1_0 k0_t6 v93 k0_hw25 => k0_hw25.2.2.2.2.2.2.2.2.2.2.2.2.2.2.2.2.2.2.2.2.2.2.2.2.2.2.2.2.1
theorem k0_mult791_dvd : ∀ (v1_0 : BitVec 32) (k0_t6 : Fin (k0_t6_loop v1_0).trips) (v93 : BitVec 32) (k0_hw25 : k0_chk25 v1_0 k0_t6 v93), 16 ∣ (k0_mult791 v93).toNat := fun v1_0 k0_t6 v93 k0_hw25 => k0_hw25.2.2.2.2.2.2.2.2.2.2.2.2.2.2.2.2.2.2.2.2.2.2.2.2.2.2.2.2.2.1
theorem k0_mult792_dvd : ∀ (v1_0 : BitVec 32) (k0_t6 : Fin (k0_t6_loop v1_0).trips) (v93 : BitVec 32) (k0_hw25 : k0_chk25 v1_0 k0_t6 v93), 16 ∣ (k0_mult792 v93).toNat := fun v1_0 k0_t6 v93 k0_hw25 => k0_hw25.2.2.2.2.2.2.2.2.2.2.2.2.2.2.2.2.2.2.2.2.2.2.2.2.2.2.2.2.2.2.1
theorem k0_mult793_dvd : ∀ (v1_0 : BitVec 32) (k0_t6 : Fin (k0_t6_loop v1_0).trips) (v93 : BitVec 32) (k0_hw25 : k0_chk25 v1_0 k0_t6 v93), 16 ∣ (k0_mult793 v93).toNat := fun v1_0 k0_t6 v93 k0_hw25 => k0_hw25.2.2.2.2.2.2.2.2.2.2.2.2.2.2.2.2.2.2.2.2.2.2.2.2.2.2.2.2.2.2.2.1
theorem k0_mult794_dvd : ∀ (v1_0 : BitVec 32) (k0_t6 : Fin (k0_t6_loop v1_0).trips) (v93 : BitVec 32) (k0_hw25 : k0_chk25 v1_0 k0_t6 v93), 16 ∣ (k0_mult794 v93).toNat := fun v1_0 k0_t6 v93 k0_hw25 => k0_hw25.2.2.2.2.2.2.2.2.2.2.2.2.2.2.2.2.2.2.2.2.2.2.2.2.2.2.2.2.2.2.2.2.1
theorem k0_mult795_dvd : ∀ (v1_0 : BitVec 32) (k0_t6 : Fin (k0_t6_loop v1_0).trips) (v93 : BitVec 32) (k0_hw25 : k0_chk25 v1_0 k0_t6 v93), 16 ∣ (k0_mult795 v93).toNat := fun v1_0 k0_t6 v93 k0_hw25 => k0_hw25.2.2.2.2.2.2.2.2.2.2.2.2.2.2.2.2.2.2.2.2.2.2.2.2.2.2.2.2.2.2.2.2.2.1
theorem k0_mult796_dvd : ∀ (v1_0 : BitVec 32) (k0_t6 : Fin (k0_t6_loop v1_0).trips) (v93 : BitVec 32) (k0_hw25 : k0_chk25 v1_0 k0_t6 v93), 16 ∣ (k0_mult796 v93).toNat := fun v1_0 k0_t6 v93 k0_hw25 => k0_hw25.2.2.2.2.2.2.2.2.2.2.2.2.2.2.2.2.2.2.2.2.2.2.2.2.2.2.2.2.2.2.2.2.2.2.1
theorem k0_mult797_dvd : ∀ (v1_0 : BitVec 32) (k0_t6 : Fin (k0_t6_loop v1_0).trips) (v93 : BitVec 32) (k0_hw25 : k0_chk25 v1_0 k0_t6 v93), 16 ∣ (k0_mult797 v93).toNat := fun v1_0 k0_t6 v93 k0_hw25 => k0_hw25.2.2.2.2.2.2.2.2.2.2.2.2.2.2.2.2.2.2.2.2.2.2.2.2.2.2.2.2.2.2.2.2.2.2.2.1
theorem k0_mult798_dvd : ∀ (v1_0 : BitVec 32) (k0_t6 : Fin (k0_t6_loop v1_0).trips) (v93 : BitVec 32) (k0_hw25 : k0_chk25 v1_0 k0_t6 v93), 16 ∣ (k0_mult798 v93).toNat := fun v1_0 k0_t6 v93 k0_hw25 => k0_hw25.2.2.2.2.2.2.2.2.2.2.2.2.2.2.2.2.2.2.2.2.2.2.2.2.2.2.2.2.2.2.2.2.2.2.2.2

def k0_off119 (v1_0 : BitVec 32) (k0_t6 : Fin (k0_t6_loop v1_0).trips) : Fin 3 → Nat :=
  let c0_i32_13 : BitVec 32 := 0#32
  let v15 : BitVec 32 := Scalar.subi v1_0 c0_i32_13
  let c1_i32_15 : BitVec 32 := 1#32
  let v17 : BitVec 32 := Scalar.divsi v15 c1_i32_15
  let v18 : BitVec 32 := Scalar.muli v17 c1_i32_15
  let v19 : BitVec 32 := Scalar.addi c0_i32_13 v18
  let c1_i32_17 : BitVec 32 := 1#32
  let arg22 : BitVec 32 := Scf.iv v19 c1_i32_17 k0_t6
  let c1_i32_32 : BitVec 32 := 1#32
  let v72 : BitVec 32 := Scalar.andi arg22 c1_i32_32
  let v3557 : Index := Scalar.indexCast v72
  let c0_1534 : Index := 0#32
  let c0_1535 : Index := 0#32
  ![v3557.toNat, 0, 0]
def k0_off120 (v1_0 : BitVec 32) (k0_t6 : Fin (k0_t6_loop v1_0).trips) : Fin 1 → Nat :=
  let c0_i32_13 : BitVec 32 := 0#32
  let v15 : BitVec 32 := Scalar.subi v1_0 c0_i32_13
  let c1_i32_15 : BitVec 32 := 1#32
  let v17 : BitVec 32 := Scalar.divsi v15 c1_i32_15
  let v18 : BitVec 32 := Scalar.muli v17 c1_i32_15
  let v19 : BitVec 32 := Scalar.addi c0_i32_13 v18
  let c1_i32_17 : BitVec 32 := 1#32
  let arg22 : BitVec 32 := Scf.iv v19 c1_i32_17 k0_t6
  let v3562 : Index := Scalar.indexCast arg22
  ![v3562.toNat]
def k0_off121 (v1_0 : BitVec 32) (k0_t6 : Fin (k0_t6_loop v1_0).trips) : Fin 3 → Nat :=
  let c0_i32_13 : BitVec 32 := 0#32
  let v15 : BitVec 32 := Scalar.subi v1_0 c0_i32_13
  let c1_i32_15 : BitVec 32 := 1#32
  let v17 : BitVec 32 := Scalar.divsi v15 c1_i32_15
  let v18 : BitVec 32 := Scalar.muli v17 c1_i32_15
  let v19 : BitVec 32 := Scalar.addi c0_i32_13 v18
  let c1_i32_17 : BitVec 32 := 1#32
  let arg22 : BitVec 32 := Scf.iv v19 c1_i32_17 k0_t6
  let c1_i32_32 : BitVec 32 := 1#32
  let v72 : BitVec 32 := Scalar.andi arg22 c1_i32_32
  let v3568 : Index := Scalar.indexCast v72
  let c0_1538 : Index := 0#32
  let c0_1539 : Index := 0#32
  ![v3568.toNat, 0, 0]
def k0_mult799 (v93 : BitVec 32) (v3579 : BitVec 32) : BitVec 32 :=
  let c1_i32_1542 : BitVec 32 := 1#32
  let v3580 : BitVec 32 := Scalar.subi v3579 c1_i32_1542
  let v3581 : BitVec 32 := Scalar.subi v3580 v93
  let c_m16_i32_1543 : BitVec 32 := 4294967280#32
  let v3582 : BitVec 32 := Scalar.andi v3581 c_m16_i32_1543
  v3582

def k0_off122 (v1_0 : BitVec 32) (k0_t6 : Fin (k0_t6_loop v1_0).trips) (v93 : BitVec 32) (v3579 : BitVec 32) : Fin 3 → Nat :=
  let c0_i32_13 : BitVec 32 := 0#32
  let v15 : BitVec 32 := Scalar.subi v1_0 c0_i32_13
  let c1_i32_15 : BitVec 32 := 1#32
  let v17 : BitVec 32 := Scalar.divsi v15 c1_i32_15
  let v18 : BitVec 32 := Scalar.muli v17 c1_i32_15
  let v19 : BitVec 32 := Scalar.addi c0_i32_13 v18
  let c1_i32_17 : BitVec 32 := 1#32
  let arg22 : BitVec 32 := Scf.iv v19 c1_i32_17 k0_t6
  let c1_i32_32 : BitVec 32 := 1#32
  let v72 : BitVec 32 := Scalar.andi arg22 c1_i32_32
  let v3584 : Index := Scalar.indexCast v72
  let c1_i32_1542 : BitVec 32 := 1#32
  let v3580 : BitVec 32 := Scalar.subi v3579 c1_i32_1542
  let v3581 : BitVec 32 := Scalar.subi v3580 v93
  let c_m16_i32_1543 : BitVec 32 := 4294967280#32
  let v3582 : BitVec 32 := Scalar.andi v3581 c_m16_i32_1543
  let v3583 : BitVec 32 := v3582
  let v3585 : Index := Scalar.indexCast v3583
  let c0_1544 : Index := 0#32
  ![v3584.toNat, v3585.toNat, 0]

def k0_chk26 (v1_0 : BitVec 32) (k0_t6 : Fin (k0_t6_loop v1_0).trips) (v93 : BitVec 32) (v3579 : BitVec 32) : Prop :=
  (16 ∣ (k0_mult799 v93 v3579).toNat) ∧
  (∀ a, (k0_off122 v1_0 k0_t6 v93 v3579) a + S1x16x1536.size a ≤ S2x256x1536.size a)
theorem k0_mult799_dvd : ∀ (v1_0 : BitVec 32) (k0_t6 : Fin (k0_t6_loop v1_0).trips) (v93 : BitVec 32) (v3579 : BitVec 32) (k0_hw26 : k0_chk26 v1_0 k0_t6 v93 v3579), 16 ∣ (k0_mult799 v93 v3579).toNat := fun v1_0 k0_t6 v93 v3579 k0_hw26 => k0_hw26.1
theorem k0_off122_inb : ∀ (v1_0 : BitVec 32) (k0_t6 : Fin (k0_t6_loop v1_0).trips) (v93 : BitVec 32) (v3579 : BitVec 32) (k0_hw26 : k0_chk26 v1_0 k0_t6 v93 v3579), ∀ a, (k0_off122 v1_0 k0_t6 v93 v3579) a + S1x16x1536.size a ≤ S2x256x1536.size a := fun v1_0 k0_t6 v93 v3579 k0_hw26 => k0_hw26.2

def k0_off123 (v1_0 : BitVec 32) (k0_t6 : Fin (k0_t6_loop v1_0).trips) : Fin 1 → Nat :=
  let c0_i32_13 : BitVec 32 := 0#32
  let v15 : BitVec 32 := Scalar.subi v1_0 c0_i32_13
  let c1_i32_15 : BitVec 32 := 1#32
  let v17 : BitVec 32 := Scalar.divsi v15 c1_i32_15
  let v18 : BitVec 32 := Scalar.muli v17 c1_i32_15
  let v19 : BitVec 32 := Scalar.addi c0_i32_13 v18
  let c1_i32_17 : BitVec 32 := 1#32
  let arg22 : BitVec 32 := Scf.iv v19 c1_i32_17 k0_t6
  let c1_i32_1574 : BitVec 32 := 1#32
  let v3643 : BitVec 32 := Scalar.subi arg22 c1_i32_1574
  let v3644 : Index := Scalar.indexCast v3643
  ![v3644.toNat]
def k0_cond18 (v1_0 : BitVec 32) (k0_t6 : Fin (k0_t6_loop v1_0).trips) : BitVec 1 :=
  let c0_i32_13 : BitVec 32 := 0#32
  let v15 : BitVec 32 := Scalar.subi v1_0 c0_i32_13
  let c1_i32_15 : BitVec 32 := 1#32
  let v17 : BitVec 32 := Scalar.divsi v15 c1_i32_15
  let v18 : BitVec 32 := Scalar.muli v17 c1_i32_15
  let v19 : BitVec 32 := Scalar.addi c0_i32_13 v18
  let c1_i32_17 : BitVec 32 := 1#32
  let arg22 : BitVec 32 := Scf.iv v19 c1_i32_17 k0_t6
  let c0_i32_1547 : BitVec 32 := 0#32
  let v3591 : BitVec 1 := Scalar.cmpi .sgt arg22 c0_i32_1547
  let v3592 : BitVec 32 := Scalar.extui v3591
  let c0_i32_1548 : BitVec 32 := 0#32
  let v3593 : BitVec 1 := Scalar.cmpi .ne v3592 c0_i32_1548
  v3593

def k0_mult800 (v3645 : BitVec 32) (v3648 : BitVec 32) : BitVec 32 :=
  let v3649 : BitVec 32 := Scalar.subi v3648 v3645
  let c16_i32_1576 : BitVec 32 := 16#32
  let v3650 : BitVec 32 := Scalar.addi v3649 c16_i32_1576
  let c1_i32_1577 : BitVec 32 := 1#32
  let v3651 : BitVec 32 := Scalar.subi v3650 c1_i32_1577
  let c_m16_i32_1578 : BitVec 32 := 4294967280#32
  let v3652 : BitVec 32 := Scalar.andi v3651 c_m16_i32_1578
  let c_m512_i32_1579 : BitVec 32 := 4294966784#32
  let v3653 : BitVec 32 := Scalar.andi v3652 c_m512_i32_1579
  v3653

def k0_mult801 (v3645 : BitVec 32) (v3648 : BitVec 32) : BitVec 32 :=
  let v3649 : BitVec 32 := Scalar.subi v3648 v3645
  let c16_i32_1576 : BitVec 32 := 16#32
  let v3650 : BitVec 32 := Scalar.addi v3649 c16_i32_1576
  let c1_i32_1577 : BitVec 32 := 1#32
  let v3651 : BitVec 32 := Scalar.subi v3650 c1_i32_1577
  let c_m16_i32_1578 : BitVec 32 := 4294967280#32
  let v3652 : BitVec 32 := Scalar.andi v3651 c_m16_i32_1578
  let c_m512_i32_1579 : BitVec 32 := 4294966784#32
  let v3653 : BitVec 32 := Scalar.andi v3652 c_m512_i32_1579
  let v3654 : BitVec 32 := v3653
  let v3655 : BitVec 32 := Scalar.addi v3645 v3654
  v3655
def k0_off124 (v3645 : BitVec 32) (v3648 : BitVec 32) : Fin 2 → Nat :=
  let v3649 : BitVec 32 := Scalar.subi v3648 v3645
  let c16_i32_1576 : BitVec 32 := 16#32
  let v3650 : BitVec 32 := Scalar.addi v3649 c16_i32_1576
  let c1_i32_1577 : BitVec 32 := 1#32
  let v3651 : BitVec 32 := Scalar.subi v3650 c1_i32_1577
  let c_m16_i32_1578 : BitVec 32 := 4294967280#32
  let v3652 : BitVec 32 := Scalar.andi v3651 c_m16_i32_1578
  let c_m512_i32_1579 : BitVec 32 := 4294966784#32
  let v3653 : BitVec 32 := Scalar.andi v3652 c_m512_i32_1579
  let v3654 : BitVec 32 := v3653
  let v3655 : BitVec 32 := Scalar.addi v3645 v3654
  let v3656 : BitVec 32 := v3655
  let c0_i32_1599 : BitVec 32 := 0#32
  ![v3656.toNat, 0]
def k0_cond19 (v3645 : BitVec 32) (v3648 : BitVec 32) : BitVec 1 :=
  let v3649 : BitVec 32 := Scalar.subi v3648 v3645
  let c16_i32_1576 : BitVec 32 := 16#32
  let v3650 : BitVec 32 := Scalar.addi v3649 c16_i32_1576
  let c1_i32_1577 : BitVec 32 := 1#32
  let v3651 : BitVec 32 := Scalar.subi v3650 c1_i32_1577
  let c_m16_i32_1578 : BitVec 32 := 4294967280#32
  let v3652 : BitVec 32 := Scalar.andi v3651 c_m16_i32_1578
  let c256_i32_1580 : BitVec 32 := 256#32
  let v3657 : BitVec 32 := Scalar.andi v3652 c256_i32_1580
  let c0_i32_1581 : BitVec 32 := 0#32
  let v3658 : BitVec 1 := Scalar.cmpi .ne v3657 c0_i32_1581
  let v3659 : BitVec 32 := Scalar.extui v3658
  let c0_i32_1582 : BitVec 32 := 0#32
  let v3660 : BitVec 1 := Scalar.cmpi .ne v3659 c0_i32_1582
  v3660

def k0_off125 (v1_0 : BitVec 32) (k0_t6 : Fin (k0_t6_loop v1_0).trips) (v3645 : BitVec 32) (v3648 : BitVec 32) : Fin 3 → Nat :=
  let c0_i32_13 : BitVec 32 := 0#32
  let v15 : BitVec 32 := Scalar.subi v1_0 c0_i32_13
  let c1_i32_15 : BitVec 32 := 1#32
  let v17 : BitVec 32 := Scalar.divsi v15 c1_i32_15
  let v18 : BitVec 32 := Scalar.muli v17 c1_i32_15
  let v19 : BitVec 32 := Scalar.addi c0_i32_13 v18
  let c1_i32_17 : BitVec 32 := 1#32
  let arg22 : BitVec 32 := Scf.iv v19 c1_i32_17 k0_t6
  let c1_i32_1574 : BitVec 32 := 1#32
  let v3643 : BitVec 32 := Scalar.subi arg22 c1_i32_1574
  let c1_i32_1575 : BitVec 32 := 1#32
  let v3646 : BitVec 32 := Scalar.andi v3643 c1_i32_1575
  let v3649 : BitVec 32 := Scalar.subi v3648 v3645
  let c16_i32_1576 : BitVec 32 := 16#32
  let v3650 : BitVec 32 := Scalar.addi v3649 c16_i32_1576
  let c1_i32_1577 : BitVec 32 := 1#32
  let v3651 : BitVec 32 := Scalar.subi v3650 c1_i32_1577
  let c_m16_i32_1578 : BitVec 32 := 4294967280#32
  let v3652 : BitVec 32 := Scalar.andi v3651 c_m16_i32_1578
  let c_m512_i32_1579 : BitVec 32 := 4294966784#32
  let v3653 : BitVec 32 := Scalar.andi v3652 c_m512_i32_1579
  let v3654 : BitVec 32 := v3653
  let c0_i32_1600 : BitVec 32 := 0#32
  ![v3646.toNat, v3654.toNat, 0]
def k0_mult802 (v3645 : BitVec 32) (v3648 : BitVec 32) : BitVec 32 :=
  let v3649 : BitVec 32 := Scalar.subi v3648 v3645
  let c16_i32_1576 : BitVec 32 := 16#32
  let v3650 : BitVec 32 := Scalar.addi v3649 c16_i32_1576
  let c1_i32_1577 : BitVec 32 := 1#32
  let v3651 : BitVec 32 := Scalar.subi v3650 c1_i32_1577
  let c_m16_i32_1578 : BitVec 32 := 4294967280#32
  let v3652 : BitVec 32 := Scalar.andi v3651 c_m16_i32_1578
  let c_m256_i32_1583 : BitVec 32 := 4294967040#32
  let v3661 : BitVec 32 := Scalar.andi v3652 c_m256_i32_1583
  v3661
def k0_mult803 (v3645 : BitVec 32) (v3648 : BitVec 32) : BitVec 32 :=
  let v3649 : BitVec 32 := Scalar.subi v3648 v3645
  let c16_i32_1576 : BitVec 32 := 16#32
  let v3650 : BitVec 32 := Scalar.addi v3649 c16_i32_1576
  let c1_i32_1577 : BitVec 32 := 1#32
  let v3651 : BitVec 32 := Scalar.subi v3650 c1_i32_1577
  let c_m16_i32_1578 : BitVec 32 := 4294967280#32
  let v3652 : BitVec 32 := Scalar.andi v3651 c_m16_i32_1578
  let c_m256_i32_1583 : BitVec 32 := 4294967040#32
  let v3661 : BitVec 32 := Scalar.andi v3652 c_m256_i32_1583
  let v3662 : BitVec 32 := v3661
  let v3663 : BitVec 32 := Scalar.addi v3645 v3662
  v3663
def k0_off126 (v3645 : BitVec 32) (v3648 : BitVec 32) : Fin 2 → Nat :=
  let v3649 : BitVec 32 := Scalar.subi v3648 v3645
  let c16_i32_1576 : BitVec 32 := 16#32
  let v3650 : BitVec 32 := Scalar.addi v3649 c16_i32_1576
  let c1_i32_1577 : BitVec 32 := 1#32
  let v3651 : BitVec 32 := Scalar.subi v3650 c1_i32_1577
  let c_m16_i32_1578 : BitVec 32 := 4294967280#32
  let v3652 : BitVec 32 := Scalar.andi v3651 c_m16_i32_1578
  let c_m256_i32_1583 : BitVec 32 := 4294967040#32
  let v3661 : BitVec 32 := Scalar.andi v3652 c_m256_i32_1583
  let v3662 : BitVec 32 := v3661
  let v3663 : BitVec 32 := Scalar.addi v3645 v3662
  let v3664 : BitVec 32 := v3663
  let c0_i32_1599 : BitVec 32 := 0#32
  ![v3664.toNat, 0]
def k0_cond20 (v3645 : BitVec 32) (v3648 : BitVec 32) : BitVec 1 :=
  let v3649 : BitVec 32 := Scalar.subi v3648 v3645
  let c16_i32_1576 : BitVec 32 := 16#32
  let v3650 : BitVec 32 := Scalar.addi v3649 c16_i32_1576
  let c1_i32_1577 : BitVec 32 := 1#32
  let v3651 : BitVec 32 := Scalar.subi v3650 c1_i32_1577
  let c_m16_i32_1578 : BitVec 32 := 4294967280#32
  let v3652 : BitVec 32 := Scalar.andi v3651 c_m16_i32_1578
  let c128_i32_1584 : BitVec 32 := 128#32
  let v3665 : BitVec 32 := Scalar.andi v3652 c128_i32_1584
  let c0_i32_1585 : BitVec 32 := 0#32
  let v3666 : BitVec 1 := Scalar.cmpi .ne v3665 c0_i32_1585
  let v3667 : BitVec 32 := Scalar.extui v3666
  let c0_i32_1586 : BitVec 32 := 0#32
  let v3668 : BitVec 1 := Scalar.cmpi .ne v3667 c0_i32_1586
  v3668

def k0_off127 (v1_0 : BitVec 32) (k0_t6 : Fin (k0_t6_loop v1_0).trips) (v3645 : BitVec 32) (v3648 : BitVec 32) : Fin 3 → Nat :=
  let c0_i32_13 : BitVec 32 := 0#32
  let v15 : BitVec 32 := Scalar.subi v1_0 c0_i32_13
  let c1_i32_15 : BitVec 32 := 1#32
  let v17 : BitVec 32 := Scalar.divsi v15 c1_i32_15
  let v18 : BitVec 32 := Scalar.muli v17 c1_i32_15
  let v19 : BitVec 32 := Scalar.addi c0_i32_13 v18
  let c1_i32_17 : BitVec 32 := 1#32
  let arg22 : BitVec 32 := Scf.iv v19 c1_i32_17 k0_t6
  let c1_i32_1574 : BitVec 32 := 1#32
  let v3643 : BitVec 32 := Scalar.subi arg22 c1_i32_1574
  let c1_i32_1575 : BitVec 32 := 1#32
  let v3646 : BitVec 32 := Scalar.andi v3643 c1_i32_1575
  let v3649 : BitVec 32 := Scalar.subi v3648 v3645
  let c16_i32_1576 : BitVec 32 := 16#32
  let v3650 : BitVec 32 := Scalar.addi v3649 c16_i32_1576
  let c1_i32_1577 : BitVec 32 := 1#32
  let v3651 : BitVec 32 := Scalar.subi v3650 c1_i32_1577
  let c_m16_i32_1578 : BitVec 32 := 4294967280#32
  let v3652 : BitVec 32 := Scalar.andi v3651 c_m16_i32_1578
  let c_m256_i32_1583 : BitVec 32 := 4294967040#32
  let v3661 : BitVec 32 := Scalar.andi v3652 c_m256_i32_1583
  let v3662 : BitVec 32 := v3661
  let c0_i32_1600 : BitVec 32 := 0#32
  ![v3646.toNat, v3662.toNat, 0]
def k0_mult804 (v3645 : BitVec 32) (v3648 : BitVec 32) : BitVec 32 :=
  let v3649 : BitVec 32 := Scalar.subi v3648 v3645
  let c16_i32_1576 : BitVec 32 := 16#32
  let v3650 : BitVec 32 := Scalar.addi v3649 c16_i32_1576
  let c1_i32_1577 : BitVec 32 := 1#32
  let v3651 : BitVec 32 := Scalar.subi v3650 c1_i32_1577
  let c_m16_i32_1578 : BitVec 32 := 4294967280#32
  let v3652 : BitVec 32 := Scalar.andi v3651 c_m16_i32_1578
  let c_m128_i32_1587 : BitVec 32 := 4294967168#32
  let v3669 : BitVec 32 := Scalar.andi v3652 c_m128_i32_1587
  v3669
def k0_mult805 (v3645 : BitVec 32) (v3648 : BitVec 32) : BitVec 32 :=
  let v3649 : BitVec 32 := Scalar.subi v3648 v3645
  let c16_i32_1576 : BitVec 32 := 16#32
  let v3650 : BitVec 32 := Scalar.addi v3649 c16_i32_1576
  let c1_i32_1577 : BitVec 32 := 1#32
  let v3651 : BitVec 32 := Scalar.subi v3650 c1_i32_1577
  let c_m16_i32_1578 : BitVec 32 := 4294967280#32
  let v3652 : BitVec 32 := Scalar.andi v3651 c_m16_i32_1578
  let c_m128_i32_1587 : BitVec 32 := 4294967168#32
  let v3669 : BitVec 32 := Scalar.andi v3652 c_m128_i32_1587
  let v3670 : BitVec 32 := v3669
  let v3671 : BitVec 32 := Scalar.addi v3645 v3670
  v3671
def k0_off128 (v3645 : BitVec 32) (v3648 : BitVec 32) : Fin 2 → Nat :=
  let v3649 : BitVec 32 := Scalar.subi v3648 v3645
  let c16_i32_1576 : BitVec 32 := 16#32
  let v3650 : BitVec 32 := Scalar.addi v3649 c16_i32_1576
  let c1_i32_1577 : BitVec 32 := 1#32
  let v3651 : BitVec 32 := Scalar.subi v3650 c1_i32_1577
  let c_m16_i32_1578 : BitVec 32 := 4294967280#32
  let v3652 : BitVec 32 := Scalar.andi v3651 c_m16_i32_1578
  let c_m128_i32_1587 : BitVec 32 := 4294967168#32
  let v3669 : BitVec 32 := Scalar.andi v3652 c_m128_i32_1587
  let v3670 : BitVec 32 := v3669
  let v3671 : BitVec 32 := Scalar.addi v3645 v3670
  let v3672 : BitVec 32 := v3671
  let c0_i32_1599 : BitVec 32 := 0#32
  ![v3672.toNat, 0]
def k0_cond21 (v3645 : BitVec 32) (v3648 : BitVec 32) : BitVec 1 :=
  let v3649 : BitVec 32 := Scalar.subi v3648 v3645
  let c16_i32_1576 : BitVec 32 := 16#32
  let v3650 : BitVec 32 := Scalar.addi v3649 c16_i32_1576
  let c1_i32_1577 : BitVec 32 := 1#32
  let v3651 : BitVec 32 := Scalar.subi v3650 c1_i32_1577
  let c_m16_i32_1578 : BitVec 32 := 4294967280#32
  let v3652 : BitVec 32 := Scalar.andi v3651 c_m16_i32_1578
  let c64_i32_1588 : BitVec 32 := 64#32
  let v3673 : BitVec 32 := Scalar.andi v3652 c64_i32_1588
  let c0_i32_1589 : BitVec 32 := 0#32
  let v3674 : BitVec 1 := Scalar.cmpi .ne v3673 c0_i32_1589
  let v3675 : BitVec 32 := Scalar.extui v3674
  let c0_i32_1590 : BitVec 32 := 0#32
  let v3676 : BitVec 1 := Scalar.cmpi .ne v3675 c0_i32_1590
  v3676

def k0_off129 (v1_0 : BitVec 32) (k0_t6 : Fin (k0_t6_loop v1_0).trips) (v3645 : BitVec 32) (v3648 : BitVec 32) : Fin 3 → Nat :=
  let c0_i32_13 : BitVec 32 := 0#32
  let v15 : BitVec 32 := Scalar.subi v1_0 c0_i32_13
  let c1_i32_15 : BitVec 32 := 1#32
  let v17 : BitVec 32 := Scalar.divsi v15 c1_i32_15
  let v18 : BitVec 32 := Scalar.muli v17 c1_i32_15
  let v19 : BitVec 32 := Scalar.addi c0_i32_13 v18
  let c1_i32_17 : BitVec 32 := 1#32
  let arg22 : BitVec 32 := Scf.iv v19 c1_i32_17 k0_t6
  let c1_i32_1574 : BitVec 32 := 1#32
  let v3643 : BitVec 32 := Scalar.subi arg22 c1_i32_1574
  let c1_i32_1575 : BitVec 32 := 1#32
  let v3646 : BitVec 32 := Scalar.andi v3643 c1_i32_1575
  let v3649 : BitVec 32 := Scalar.subi v3648 v3645
  let c16_i32_1576 : BitVec 32 := 16#32
  let v3650 : BitVec 32 := Scalar.addi v3649 c16_i32_1576
  let c1_i32_1577 : BitVec 32 := 1#32
  let v3651 : BitVec 32 := Scalar.subi v3650 c1_i32_1577
  let c_m16_i32_1578 : BitVec 32 := 4294967280#32
  let v3652 : BitVec 32 := Scalar.andi v3651 c_m16_i32_1578
  let c_m128_i32_1587 : BitVec 32 := 4294967168#32
  let v3669 : BitVec 32 := Scalar.andi v3652 c_m128_i32_1587
  let v3670 : BitVec 32 := v3669
  let c0_i32_1600 : BitVec 32 := 0#32
  ![v3646.toNat, v3670.toNat, 0]
def k0_mult806 (v3645 : BitVec 32) (v3648 : BitVec 32) : BitVec 32 :=
  let v3649 : BitVec 32 := Scalar.subi v3648 v3645
  let c16_i32_1576 : BitVec 32 := 16#32
  let v3650 : BitVec 32 := Scalar.addi v3649 c16_i32_1576
  let c1_i32_1577 : BitVec 32 := 1#32
  let v3651 : BitVec 32 := Scalar.subi v3650 c1_i32_1577
  let c_m16_i32_1578 : BitVec 32 := 4294967280#32
  let v3652 : BitVec 32 := Scalar.andi v3651 c_m16_i32_1578
  let c_m64_i32_1591 : BitVec 32 := 4294967232#32
  let v3677 : BitVec 32 := Scalar.andi v3652 c_m64_i32_1591
  v3677
def k0_mult807 (v3645 : BitVec 32) (v3648 : BitVec 32) : BitVec 32 :=
  let v3649 : BitVec 32 := Scalar.subi v3648 v3645
  let c16_i32_1576 : BitVec 32 := 16#32
  let v3650 : BitVec 32 := Scalar.addi v3649 c16_i32_1576
  let c1_i32_1577 : BitVec 32 := 1#32
  let v3651 : BitVec 32 := Scalar.subi v3650 c1_i32_1577
  let c_m16_i32_1578 : BitVec 32 := 4294967280#32
  let v3652 : BitVec 32 := Scalar.andi v3651 c_m16_i32_1578
  let c_m64_i32_1591 : BitVec 32 := 4294967232#32
  let v3677 : BitVec 32 := Scalar.andi v3652 c_m64_i32_1591
  let v3678 : BitVec 32 := v3677
  let v3679 : BitVec 32 := Scalar.addi v3645 v3678
  v3679
def k0_off130 (v3645 : BitVec 32) (v3648 : BitVec 32) : Fin 2 → Nat :=
  let v3649 : BitVec 32 := Scalar.subi v3648 v3645
  let c16_i32_1576 : BitVec 32 := 16#32
  let v3650 : BitVec 32 := Scalar.addi v3649 c16_i32_1576
  let c1_i32_1577 : BitVec 32 := 1#32
  let v3651 : BitVec 32 := Scalar.subi v3650 c1_i32_1577
  let c_m16_i32_1578 : BitVec 32 := 4294967280#32
  let v3652 : BitVec 32 := Scalar.andi v3651 c_m16_i32_1578
  let c_m64_i32_1591 : BitVec 32 := 4294967232#32
  let v3677 : BitVec 32 := Scalar.andi v3652 c_m64_i32_1591
  let v3678 : BitVec 32 := v3677
  let v3679 : BitVec 32 := Scalar.addi v3645 v3678
  let v3680 : BitVec 32 := v3679
  let c0_i32_1599 : BitVec 32 := 0#32
  ![v3680.toNat, 0]
def k0_cond22 (v3645 : BitVec 32) (v3648 : BitVec 32) : BitVec 1 :=
  let v3649 : BitVec 32 := Scalar.subi v3648 v3645
  let c16_i32_1576 : BitVec 32 := 16#32
  let v3650 : BitVec 32 := Scalar.addi v3649 c16_i32_1576
  let c1_i32_1577 : BitVec 32 := 1#32
  let v3651 : BitVec 32 := Scalar.subi v3650 c1_i32_1577
  let c_m16_i32_1578 : BitVec 32 := 4294967280#32
  let v3652 : BitVec 32 := Scalar.andi v3651 c_m16_i32_1578
  let c32_i32_1592 : BitVec 32 := 32#32
  let v3681 : BitVec 32 := Scalar.andi v3652 c32_i32_1592
  let c0_i32_1593 : BitVec 32 := 0#32
  let v3682 : BitVec 1 := Scalar.cmpi .ne v3681 c0_i32_1593
  let v3683 : BitVec 32 := Scalar.extui v3682
  let c0_i32_1594 : BitVec 32 := 0#32
  let v3684 : BitVec 1 := Scalar.cmpi .ne v3683 c0_i32_1594
  v3684

def k0_off131 (v1_0 : BitVec 32) (k0_t6 : Fin (k0_t6_loop v1_0).trips) (v3645 : BitVec 32) (v3648 : BitVec 32) : Fin 3 → Nat :=
  let c0_i32_13 : BitVec 32 := 0#32
  let v15 : BitVec 32 := Scalar.subi v1_0 c0_i32_13
  let c1_i32_15 : BitVec 32 := 1#32
  let v17 : BitVec 32 := Scalar.divsi v15 c1_i32_15
  let v18 : BitVec 32 := Scalar.muli v17 c1_i32_15
  let v19 : BitVec 32 := Scalar.addi c0_i32_13 v18
  let c1_i32_17 : BitVec 32 := 1#32
  let arg22 : BitVec 32 := Scf.iv v19 c1_i32_17 k0_t6
  let c1_i32_1574 : BitVec 32 := 1#32
  let v3643 : BitVec 32 := Scalar.subi arg22 c1_i32_1574
  let c1_i32_1575 : BitVec 32 := 1#32
  let v3646 : BitVec 32 := Scalar.andi v3643 c1_i32_1575
  let v3649 : BitVec 32 := Scalar.subi v3648 v3645
  let c16_i32_1576 : BitVec 32 := 16#32
  let v3650 : BitVec 32 := Scalar.addi v3649 c16_i32_1576
  let c1_i32_1577 : BitVec 32 := 1#32
  let v3651 : BitVec 32 := Scalar.subi v3650 c1_i32_1577
  let c_m16_i32_1578 : BitVec 32 := 4294967280#32
  let v3652 : BitVec 32 := Scalar.andi v3651 c_m16_i32_1578
  let c_m64_i32_1591 : BitVec 32 := 4294967232#32
  let v3677 : BitVec 32 := Scalar.andi v3652 c_m64_i32_1591
  let v3678 : BitVec 32 := v3677
  let c0_i32_1600 : BitVec 32 := 0#32
  ![v3646.toNat, v3678.toNat, 0]
def k0_mult808 (v3645 : BitVec 32) (v3648 : BitVec 32) : BitVec 32 :=
  let v3649 : BitVec 32 := Scalar.subi v3648 v3645
  let c16_i32_1576 : BitVec 32 := 16#32
  let v3650 : BitVec 32 := Scalar.addi v3649 c16_i32_1576
  let c1_i32_1577 : BitVec 32 := 1#32
  let v3651 : BitVec 32 := Scalar.subi v3650 c1_i32_1577
  let c_m16_i32_1578 : BitVec 32 := 4294967280#32
  let v3652 : BitVec 32 := Scalar.andi v3651 c_m16_i32_1578
  let c_m32_i32_1595 : BitVec 32 := 4294967264#32
  let v3685 : BitVec 32 := Scalar.andi v3652 c_m32_i32_1595
  v3685
def k0_mult809 (v3645 : BitVec 32) (v3648 : BitVec 32) : BitVec 32 :=
  let v3649 : BitVec 32 := Scalar.subi v3648 v3645
  let c16_i32_1576 : BitVec 32 := 16#32
  let v3650 : BitVec 32 := Scalar.addi v3649 c16_i32_1576
  let c1_i32_1577 : BitVec 32 := 1#32
  let v3651 : BitVec 32 := Scalar.subi v3650 c1_i32_1577
  let c_m16_i32_1578 : BitVec 32 := 4294967280#32
  let v3652 : BitVec 32 := Scalar.andi v3651 c_m16_i32_1578
  let c_m32_i32_1595 : BitVec 32 := 4294967264#32
  let v3685 : BitVec 32 := Scalar.andi v3652 c_m32_i32_1595
  let v3686 : BitVec 32 := v3685
  let v3687 : BitVec 32 := Scalar.addi v3645 v3686
  v3687
def k0_off132 (v3645 : BitVec 32) (v3648 : BitVec 32) : Fin 2 → Nat :=
  let v3649 : BitVec 32 := Scalar.subi v3648 v3645
  let c16_i32_1576 : BitVec 32 := 16#32
  let v3650 : BitVec 32 := Scalar.addi v3649 c16_i32_1576
  let c1_i32_1577 : BitVec 32 := 1#32
  let v3651 : BitVec 32 := Scalar.subi v3650 c1_i32_1577
  let c_m16_i32_1578 : BitVec 32 := 4294967280#32
  let v3652 : BitVec 32 := Scalar.andi v3651 c_m16_i32_1578
  let c_m32_i32_1595 : BitVec 32 := 4294967264#32
  let v3685 : BitVec 32 := Scalar.andi v3652 c_m32_i32_1595
  let v3686 : BitVec 32 := v3685
  let v3687 : BitVec 32 := Scalar.addi v3645 v3686
  let v3688 : BitVec 32 := v3687
  let c0_i32_1599 : BitVec 32 := 0#32
  ![v3688.toNat, 0]
def k0_cond23 (v3645 : BitVec 32) (v3648 : BitVec 32) : BitVec 1 :=
  let v3649 : BitVec 32 := Scalar.subi v3648 v3645
  let c16_i32_1576 : BitVec 32 := 16#32
  let v3650 : BitVec 32 := Scalar.addi v3649 c16_i32_1576
  let c1_i32_1577 : BitVec 32 := 1#32
  let v3651 : BitVec 32 := Scalar.subi v3650 c1_i32_1577
  let c_m16_i32_1578 : BitVec 32 := 4294967280#32
  let v3652 : BitVec 32 := Scalar.andi v3651 c_m16_i32_1578
  let c16_i32_1596 : BitVec 32 := 16#32
  let v3689 : BitVec 32 := Scalar.andi v3652 c16_i32_1596
  let c0_i32_1597 : BitVec 32 := 0#32
  let v3690 : BitVec 1 := Scalar.cmpi .ne v3689 c0_i32_1597
  let v3691 : BitVec 32 := Scalar.extui v3690
  let c0_i32_1598 : BitVec 32 := 0#32
  let v3692 : BitVec 1 := Scalar.cmpi .ne v3691 c0_i32_1598
  v3692

def k0_off133 (v1_0 : BitVec 32) (k0_t6 : Fin (k0_t6_loop v1_0).trips) (v3645 : BitVec 32) (v3648 : BitVec 32) : Fin 3 → Nat :=
  let c0_i32_13 : BitVec 32 := 0#32
  let v15 : BitVec 32 := Scalar.subi v1_0 c0_i32_13
  let c1_i32_15 : BitVec 32 := 1#32
  let v17 : BitVec 32 := Scalar.divsi v15 c1_i32_15
  let v18 : BitVec 32 := Scalar.muli v17 c1_i32_15
  let v19 : BitVec 32 := Scalar.addi c0_i32_13 v18
  let c1_i32_17 : BitVec 32 := 1#32
  let arg22 : BitVec 32 := Scf.iv v19 c1_i32_17 k0_t6
  let c1_i32_1574 : BitVec 32 := 1#32
  let v3643 : BitVec 32 := Scalar.subi arg22 c1_i32_1574
  let c1_i32_1575 : BitVec 32 := 1#32
  let v3646 : BitVec 32 := Scalar.andi v3643 c1_i32_1575
  let v3649 : BitVec 32 := Scalar.subi v3648 v3645
  let c16_i32_1576 : BitVec 32 := 16#32
  let v3650 : BitVec 32 := Scalar.addi v3649 c16_i32_1576
  let c1_i32_1577 : BitVec 32 := 1#32
  let v3651 : BitVec 32 := Scalar.subi v3650 c1_i32_1577
  let c_m16_i32_1578 : BitVec 32 := 4294967280#32
  let v3652 : BitVec 32 := Scalar.andi v3651 c_m16_i32_1578
  let c_m32_i32_1595 : BitVec 32 := 4294967264#32
  let v3685 : BitVec 32 := Scalar.andi v3652 c_m32_i32_1595
  let v3686 : BitVec 32 := v3685
  let c0_i32_1600 : BitVec 32 := 0#32
  ![v3646.toNat, v3686.toNat, 0]

def k0_chk27 (v1_0 : BitVec 32) (k0_t6 : Fin (k0_t6_loop v1_0).trips) (v3645 : BitVec 32) (v3648 : BitVec 32) : Prop :=
  (∀ (k0_h18 : k0_cond18 v1_0 k0_t6 = 1#1), 16 ∣ (k0_mult800 v3645 v3648).toNat) ∧
  (∀ (k0_h18 : k0_cond18 v1_0 k0_t6 = 1#1), 16 ∣ (k0_mult801 v3645 v3648).toNat) ∧
  (∀ (k0_h18 : k0_cond18 v1_0 k0_t6 = 1#1), ∀ (k0_h19 : k0_cond19 v3645 v3648 = 1#1), ∀ a, (k0_off124 v3645 v3648) a + S256x1536.size a ≤ S12288x1536.size a) ∧
  (∀ (k0_h18 : k0_cond18 v1_0 k0_t6 = 1#1), ∀ (k0_h19 : k0_cond19 v3645 v3648 = 1#1), ∀ a, (k0_off125 v1_0 k0_t6 v3645 v3648) a + S1x256x1536.size a ≤ S2x256x1536.size a) ∧
  (∀ (k0_h18 : k0_cond18 v1_0 k0_t6 = 1#1), ∀ (k0_h19 : k0_cond19 v3645 v3648 = 1#1), ∀ (hinb : ∀ a, (k0_off125 v1_0 k0_t6 v3645 v3648) a + S1x256x1536.size a ≤ S2x256x1536.size a), (Rect.unit (s := S2x256x1536) (k0_off125 v1_0 k0_t6 v3645 v3648) S1x256x1536.size hinb).WholeWords (EltTy.packing .bf16)) ∧
  (∀ (k0_h18 : k0_cond18 v1_0 k0_t6 = 1#1), ∀ (k0_h19 : k0_cond19 v3645 v3648 = 1#1), ∀ (hinb : ∀ a, (k0_off124 v3645 v3648) a + S256x1536.size a ≤ S12288x1536.size a), (Rect.unit (s := S12288x1536) (k0_off124 v3645 v3648) S256x1536.size hinb).WholeWords (EltTy.packing .bf16)) ∧
  (∀ (k0_h18 : k0_cond18 v1_0 k0_t6 = 1#1), 16 ∣ (k0_mult802 v3645 v3648).toNat) ∧
  (∀ (k0_h18 : k0_cond18 v1_0 k0_t6 = 1#1), 16 ∣ (k0_mult803 v3645 v3648).toNat) ∧
  (∀ (k0_h18 : k0_cond18 v1_0 k0_t6 = 1#1), ∀ (k0_h20 : k0_cond20 v3645 v3648 = 1#1), ∀ a, (k0_off126 v3645 v3648) a + S128x1536.size a ≤ S12288x1536.size a) ∧
  (∀ (k0_h18 : k0_cond18 v1_0 k0_t6 = 1#1), ∀ (k0_h20 : k0_cond20 v3645 v3648 = 1#1), ∀ a, (k0_off127 v1_0 k0_t6 v3645 v3648) a + S1x128x1536.size a ≤ S2x256x1536.size a) ∧
  (∀ (k0_h18 : k0_cond18 v1_0 k0_t6 = 1#1), ∀ (k0_h20 : k0_cond20 v3645 v3648 = 1#1), ∀ (hinb : ∀ a, (k0_off127 v1_0 k0_t6 v3645 v3648) a + S1x128x1536.size a ≤ S2x256x1536.size a), (Rect.unit (s := S2x256x1536) (k0_off127 v1_0 k0_t6 v3645 v3648) S1x128x1536.size hinb).WholeWords (EltTy.packing .bf16)) ∧
  (∀ (k0_h18 : k0_cond18 v1_0 k0_t6 = 1#1), ∀ (k0_h20 : k0_cond20 v3645 v3648 = 1#1), ∀ (hinb : ∀ a, (k0_off126 v3645 v3648) a + S128x1536.size a ≤ S12288x1536.size a), (Rect.unit (s := S12288x1536) (k0_off126 v3645 v3648) S128x1536.size hinb).WholeWords (EltTy.packing .bf16)) ∧
  (∀ (k0_h18 : k0_cond18 v1_0 k0_t6 = 1#1), 16 ∣ (k0_mult804 v3645 v3648).toNat) ∧
  (∀ (k0_h18 : k0_cond18 v1_0 k0_t6 = 1#1), 16 ∣ (k0_mult805 v3645 v3648).toNat) ∧
  (∀ (k0_h18 : k0_cond18 v1_0 k0_t6 = 1#1), ∀ (k0_h21 : k0_cond21 v3645 v3648 = 1#1), ∀ a, (k0_off128 v3645 v3648) a + S64x1536.size a ≤ S12288x1536.size a) ∧
  (∀ (k0_h18 : k0_cond18 v1_0 k0_t6 = 1#1), ∀ (k0_h21 : k0_cond21 v3645 v3648 = 1#1), ∀ a, (k0_off129 v1_0 k0_t6 v3645 v3648) a + S1x64x1536.size a ≤ S2x256x1536.size a) ∧
  (∀ (k0_h18 : k0_cond18 v1_0 k0_t6 = 1#1), ∀ (k0_h21 : k0_cond21 v3645 v3648 = 1#1), ∀ (hinb : ∀ a, (k0_off129 v1_0 k0_t6 v3645 v3648) a + S1x64x1536.size a ≤ S2x256x1536.size a), (Rect.unit (s := S2x256x1536) (k0_off129 v1_0 k0_t6 v3645 v3648) S1x64x1536.size hinb).WholeWords (EltTy.packing .bf16)) ∧
  (∀ (k0_h18 : k0_cond18 v1_0 k0_t6 = 1#1), ∀ (k0_h21 : k0_cond21 v3645 v3648 = 1#1), ∀ (hinb : ∀ a, (k0_off128 v3645 v3648) a + S64x1536.size a ≤ S12288x1536.size a), (Rect.unit (s := S12288x1536) (k0_off128 v3645 v3648) S64x1536.size hinb).WholeWords (EltTy.packing .bf16)) ∧
  (∀ (k0_h18 : k0_cond18 v1_0 k0_t6 = 1#1), 16 ∣ (k0_mult806 v3645 v3648).toNat) ∧
  (∀ (k0_h18 : k0_cond18 v1_0 k0_t6 = 1#1), 16 ∣ (k0_mult807 v3645 v3648).toNat) ∧
  (∀ (k0_h18 : k0_cond18 v1_0 k0_t6 = 1#1), ∀ (k0_h22 : k0_cond22 v3645 v3648 = 1#1), ∀ a, (k0_off130 v3645 v3648) a + S32x1536.size a ≤ S12288x1536.size a) ∧
  (∀ (k0_h18 : k0_cond18 v1_0 k0_t6 = 1#1), ∀ (k0_h22 : k0_cond22 v3645 v3648 = 1#1), ∀ a, (k0_off131 v1_0 k0_t6 v3645 v3648) a + S1x32x1536.size a ≤ S2x256x1536.size a) ∧
  (∀ (k0_h18 : k0_cond18 v1_0 k0_t6 = 1#1), ∀ (k0_h22 : k0_cond22 v3645 v3648 = 1#1), ∀ (hinb : ∀ a, (k0_off131 v1_0 k0_t6 v3645 v3648) a + S1x32x1536.size a ≤ S2x256x1536.size a), (Rect.unit (s := S2x256x1536) (k0_off131 v1_0 k0_t6 v3645 v3648) S1x32x1536.size hinb).WholeWords (EltTy.packing .bf16)) ∧
  (∀ (k0_h18 : k0_cond18 v1_0 k0_t6 = 1#1), ∀ (k0_h22 : k0_cond22 v3645 v3648 = 1#1), ∀ (hinb : ∀ a, (k0_off130 v3645 v3648) a + S32x1536.size a ≤ S12288x1536.size a), (Rect.unit (s := S12288x1536) (k0_off130 v3645 v3648) S32x1536.size hinb).WholeWords (EltTy.packing .bf16)) ∧
  (∀ (k0_h18 : k0_cond18 v1_0 k0_t6 = 1#1), 16 ∣ (k0_mult808 v3645 v3648).toNat) ∧
  (∀ (k0_h18 : k0_cond18 v1_0 k0_t6 = 1#1), 16 ∣ (k0_mult809 v3645 v3648).toNat) ∧
  (∀ (k0_h18 : k0_cond18 v1_0 k0_t6 = 1#1), ∀ (k0_h23 : k0_cond23 v3645 v3648 = 1#1), ∀ a, (k0_off132 v3645 v3648) a + S16x1536.size a ≤ S12288x1536.size a) ∧
  (∀ (k0_h18 : k0_cond18 v1_0 k0_t6 = 1#1), ∀ (k0_h23 : k0_cond23 v3645 v3648 = 1#1), ∀ a, (k0_off133 v1_0 k0_t6 v3645 v3648) a + S1x16x1536.size a ≤ S2x256x1536.size a) ∧
  (∀ (k0_h18 : k0_cond18 v1_0 k0_t6 = 1#1), ∀ (k0_h23 : k0_cond23 v3645 v3648 = 1#1), ∀ (hinb : ∀ a, (k0_off133 v1_0 k0_t6 v3645 v3648) a + S1x16x1536.size a ≤ S2x256x1536.size a), (Rect.unit (s := S2x256x1536) (k0_off133 v1_0 k0_t6 v3645 v3648) S1x16x1536.size hinb).WholeWords (EltTy.packing .bf16)) ∧
  (∀ (k0_h18 : k0_cond18 v1_0 k0_t6 = 1#1), ∀ (k0_h23 : k0_cond23 v3645 v3648 = 1#1), ∀ (hinb : ∀ a, (k0_off132 v3645 v3648) a + S16x1536.size a ≤ S12288x1536.size a), (Rect.unit (s := S12288x1536) (k0_off132 v3645 v3648) S16x1536.size hinb).WholeWords (EltTy.packing .bf16))
theorem k0_mult800_dvd : ∀ (v1_0 : BitVec 32) (k0_t6 : Fin (k0_t6_loop v1_0).trips) (v3645 : BitVec 32) (v3648 : BitVec 32) (k0_hw27 : k0_chk27 v1_0 k0_t6 v3645 v3648), ∀ (k0_h18 : k0_cond18 v1_0 k0_t6 = 1#1), 16 ∣ (k0_mult800 v3645 v3648).toNat := fun v1_0 k0_t6 v3645 v3648 k0_hw27 k0_h18 => k0_hw27.1 k0_h18
theorem k0_mult801_dvd : ∀ (v1_0 : BitVec 32) (k0_t6 : Fin (k0_t6_loop v1_0).trips) (v3645 : BitVec 32) (v3648 : BitVec 32) (k0_hw27 : k0_chk27 v1_0 k0_t6 v3645 v3648), ∀ (k0_h18 : k0_cond18 v1_0 k0_t6 = 1#1), 16 ∣ (k0_mult801 v3645 v3648).toNat := fun v1_0 k0_t6 v3645 v3648 k0_hw27 k0_h18 => k0_hw27.2.1 k0_h18
theorem k0_off124_inb : ∀ (v1_0 : BitVec 32) (k0_t6 : Fin (k0_t6_loop v1_0).trips) (v3645 : BitVec 32) (v3648 : BitVec 32) (k0_hw27 : k0_chk27 v1_0 k0_t6 v3645 v3648), ∀ (k0_h18 : k0_cond18 v1_0 k0_t6 = 1#1), ∀ (k0_h19 : k0_cond19 v3645 v3648 = 1#1), ∀ a, (k0_off124 v3645 v3648) a + S256x1536.size a ≤ S12288x1536.size a := fun v1_0 k0_t6 v3645 v3648 k0_hw27 k0_h18 k0_h19 => k0_hw27.2.2.1 k0_h18 k0_h19
theorem k0_off125_inb : ∀ (v1_0 : BitVec 32) (k0_t6 : Fin (k0_t6_loop v1_0).trips) (v3645 : BitVec 32) (v3648 : BitVec 32) (k0_hw27 : k0_chk27 v1_0 k0_t6 v3645 v3648), ∀ (k0_h18 : k0_cond18 v1_0 k0_t6 = 1#1), ∀ (k0_h19 : k0_cond19 v3645 v3648 = 1#1), ∀ a, (k0_off125 v1_0 k0_t6 v3645 v3648) a + S1x256x1536.size a ≤ S2x256x1536.size a := fun v1_0 k0_t6 v3645 v3648 k0_hw27 k0_h18 k0_h19 => k0_hw27.2.2.2.1 k0_h18 k0_h19
theorem k0_off125_wordsbf16 : ∀ (v1_0 : BitVec 32) (k0_t6 : Fin (k0_t6_loop v1_0).trips) (v3645 : BitVec 32) (v3648 : BitVec 32) (k0_hw27 : k0_chk27 v1_0 k0_t6 v3645 v3648), ∀ (k0_h18 : k0_cond18 v1_0 k0_t6 = 1#1), ∀ (k0_h19 : k0_cond19 v3645 v3648 = 1#1), (Rect.unit (s := S2x256x1536) (k0_off125 v1_0 k0_t6 v3645 v3648) S1x256x1536.size (k0_off125_inb v1_0 k0_t6 v3645 v3648 k0_hw27 k0_h18 k0_h19)).WholeWords (EltTy.packing .bf16) := fun v1_0 k0_t6 v3645 v3648 k0_hw27 k0_h18 k0_h19 => k0_hw27.2.2.2.2.1 k0_h18 k0_h19 (k0_off125_inb v1_0 k0_t6 v3645 v3648 k0_hw27 k0_h18 k0_h19)
theorem k0_off124_wordsbf16 : ∀ (v1_0 : BitVec 32) (k0_t6 : Fin (k0_t6_loop v1_0).trips) (v3645 : BitVec 32) (v3648 : BitVec 32) (k0_hw27 : k0_chk27 v1_0 k0_t6 v3645 v3648), ∀ (k0_h18 : k0_cond18 v1_0 k0_t6 = 1#1), ∀ (k0_h19 : k0_cond19 v3645 v3648 = 1#1), (Rect.unit (s := S12288x1536) (k0_off124 v3645 v3648) S256x1536.size (k0_off124_inb v1_0 k0_t6 v3645 v3648 k0_hw27 k0_h18 k0_h19)).WholeWords (EltTy.packing .bf16) := fun v1_0 k0_t6 v3645 v3648 k0_hw27 k0_h18 k0_h19 => k0_hw27.2.2.2.2.2.1 k0_h18 k0_h19 (k0_off124_inb v1_0 k0_t6 v3645 v3648 k0_hw27 k0_h18 k0_h19)
theorem k0_mult802_dvd : ∀ (v1_0 : BitVec 32) (k0_t6 : Fin (k0_t6_loop v1_0).trips) (v3645 : BitVec 32) (v3648 : BitVec 32) (k0_hw27 : k0_chk27 v1_0 k0_t6 v3645 v3648), ∀ (k0_h18 : k0_cond18 v1_0 k0_t6 = 1#1), 16 ∣ (k0_mult802 v3645 v3648).toNat := fun v1_0 k0_t6 v3645 v3648 k0_hw27 k0_h18 => k0_hw27.2.2.2.2.2.2.1 k0_h18
theorem k0_mult803_dvd : ∀ (v1_0 : BitVec 32) (k0_t6 : Fin (k0_t6_loop v1_0).trips) (v3645 : BitVec 32) (v3648 : BitVec 32) (k0_hw27 : k0_chk27 v1_0 k0_t6 v3645 v3648), ∀ (k0_h18 : k0_cond18 v1_0 k0_t6 = 1#1), 16 ∣ (k0_mult803 v3645 v3648).toNat := fun v1_0 k0_t6 v3645 v3648 k0_hw27 k0_h18 => k0_hw27.2.2.2.2.2.2.2.1 k0_h18
theorem k0_off126_inb : ∀ (v1_0 : BitVec 32) (k0_t6 : Fin (k0_t6_loop v1_0).trips) (v3645 : BitVec 32) (v3648 : BitVec 32) (k0_hw27 : k0_chk27 v1_0 k0_t6 v3645 v3648), ∀ (k0_h18 : k0_cond18 v1_0 k0_t6 = 1#1), ∀ (k0_h20 : k0_cond20 v3645 v3648 = 1#1), ∀ a, (k0_off126 v3645 v3648) a + S128x1536.size a ≤ S12288x1536.size a := fun v1_0 k0_t6 v3645 v3648 k0_hw27 k0_h18 k0_h20 => k0_hw27.2.2.2.2.2.2.2.2.1 k0_h18 k0_h20
theorem k0_off127_inb : ∀ (v1_0 : BitVec 32) (k0_t6 : Fin (k0_t6_loop v1_0).trips) (v3645 : BitVec 32) (v3648 : BitVec 32) (k0_hw27 : k0_chk27 v1_0 k0_t6 v3645 v3648), ∀ (k0_h18 : k0_cond18 v1_0 k0_t6 = 1#1), ∀ (k0_h20 : k0_cond20 v3645 v3648 = 1#1), ∀ a, (k0_off127 v1_0 k0_t6 v3645 v3648) a + S1x128x1536.size a ≤ S2x256x1536.size a := fun v1_0 k0_t6 v3645 v3648 k0_hw27 k0_h18 k0_h20 => k0_hw27.2.2.2.2.2.2.2.2.2.1 k0_h18 k0_h20
theorem k0_off127_wordsbf16 : ∀ (v1_0 : BitVec 32) (k0_t6 : Fin (k0_t6_loop v1_0).trips) (v3645 : BitVec 32) (v3648 : BitVec 32) (k0_hw27 : k0_chk27 v1_0 k0_t6 v3645 v3648), ∀ (k0_h18 : k0_cond18 v1_0 k0_t6 = 1#1), ∀ (k0_h20 : k0_cond20 v3645 v3648 = 1#1), (Rect.unit (s := S2x256x1536) (k0_off127 v1_0 k0_t6 v3645 v3648) S1x128x1536.size (k0_off127_inb v1_0 k0_t6 v3645 v3648 k0_hw27 k0_h18 k0_h20)).WholeWords (EltTy.packing .bf16) := fun v1_0 k0_t6 v3645 v3648 k0_hw27 k0_h18 k0_h20 => k0_hw27.2.2.2.2.2.2.2.2.2.2.1 k0_h18 k0_h20 (k0_off127_inb v1_0 k0_t6 v3645 v3648 k0_hw27 k0_h18 k0_h20)
theorem k0_off126_wordsbf16 : ∀ (v1_0 : BitVec 32) (k0_t6 : Fin (k0_t6_loop v1_0).trips) (v3645 : BitVec 32) (v3648 : BitVec 32) (k0_hw27 : k0_chk27 v1_0 k0_t6 v3645 v3648), ∀ (k0_h18 : k0_cond18 v1_0 k0_t6 = 1#1), ∀ (k0_h20 : k0_cond20 v3645 v3648 = 1#1), (Rect.unit (s := S12288x1536) (k0_off126 v3645 v3648) S128x1536.size (k0_off126_inb v1_0 k0_t6 v3645 v3648 k0_hw27 k0_h18 k0_h20)).WholeWords (EltTy.packing .bf16) := fun v1_0 k0_t6 v3645 v3648 k0_hw27 k0_h18 k0_h20 => k0_hw27.2.2.2.2.2.2.2.2.2.2.2.1 k0_h18 k0_h20 (k0_off126_inb v1_0 k0_t6 v3645 v3648 k0_hw27 k0_h18 k0_h20)
theorem k0_mult804_dvd : ∀ (v1_0 : BitVec 32) (k0_t6 : Fin (k0_t6_loop v1_0).trips) (v3645 : BitVec 32) (v3648 : BitVec 32) (k0_hw27 : k0_chk27 v1_0 k0_t6 v3645 v3648), ∀ (k0_h18 : k0_cond18 v1_0 k0_t6 = 1#1), 16 ∣ (k0_mult804 v3645 v3648).toNat := fun v1_0 k0_t6 v3645 v3648 k0_hw27 k0_h18 => k0_hw27.2.2.2.2.2.2.2.2.2.2.2.2.1 k0_h18
theorem k0_mult805_dvd : ∀ (v1_0 : BitVec 32) (k0_t6 : Fin (k0_t6_loop v1_0).trips) (v3645 : BitVec 32) (v3648 : BitVec 32) (k0_hw27 : k0_chk27 v1_0 k0_t6 v3645 v3648), ∀ (k0_h18 : k0_cond18 v1_0 k0_t6 = 1#1), 16 ∣ (k0_mult805 v3645 v3648).toNat := fun v1_0 k0_t6 v3645 v3648 k0_hw27 k0_h18 => k0_hw27.2.2.2.2.2.2.2.2.2.2.2.2.2.1 k0_h18
theorem k0_off128_inb : ∀ (v1_0 : BitVec 32) (k0_t6 : Fin (k0_t6_loop v1_0).trips) (v3645 : BitVec 32) (v3648 : BitVec 32) (k0_hw27 : k0_chk27 v1_0 k0_t6 v3645 v3648), ∀ (k0_h18 : k0_cond18 v1_0 k0_t6 = 1#1), ∀ (k0_h21 : k0_cond21 v3645 v3648 = 1#1), ∀ a, (k0_off128 v3645 v3648) a + S64x1536.size a ≤ S12288x1536.size a := fun v1_0 k0_t6 v3645 v3648 k0_hw27 k0_h18 k0_h21 => k0_hw27.2.2.2.2.2.2.2.2.2.2.2.2.2.2.1 k0_h18 k0_h21
theorem k0_off129_inb : ∀ (v1_0 : BitVec 32) (k0_t6 : Fin (k0_t6_loop v1_0).trips) (v3645 : BitVec 32) (v3648 : BitVec 32) (k0_hw27 : k0_chk27 v1_0 k0_t6 v3645 v3648), ∀ (k0_h18 : k0_cond18 v1_0 k0_t6 = 1#1), ∀ (k0_h21 : k0_cond21 v3645 v3648 = 1#1), ∀ a, (k0_off129 v1_0 k0_t6 v3645 v3648) a + S1x64x1536.size a ≤ S2x256x1536.size a := fun v1_0 k0_t6 v3645 v3648 k0_hw27 k0_h18 k0_h21 => k0_hw27.2.2.2.2.2.2.2.2.2.2.2.2.2.2.2.1 k0_h18 k0_h21
theorem k0_off129_wordsbf16 : ∀ (v1_0 : BitVec 32) (k0_t6 : Fin (k0_t6_loop v1_0).trips) (v3645 : BitVec 32) (v3648 : BitVec 32) (k0_hw27 : k0_chk27 v1_0 k0_t6 v3645 v3648), ∀ (k0_h18 : k0_cond18 v1_0 k0_t6 = 1#1), ∀ (k0_h21 : k0_cond21 v3645 v3648 = 1#1), (Rect.unit (s := S2x256x1536) (k0_off129 v1_0 k0_t6 v3645 v3648) S1x64x1536.size (k0_off129_inb v1_0 k0_t6 v3645 v3648 k0_hw27 k0_h18 k0_h21)).WholeWords (EltTy.packing .bf16) := fun v1_0 k0_t6 v3645 v3648 k0_hw27 k0_h18 k0_h21 => k0_hw27.2.2.2.2.2.2.2.2.2.2.2.2.2.2.2.2.1 k0_h18 k0_h21 (k0_off129_inb v1_0 k0_t6 v3645 v3648 k0_hw27 k0_h18 k0_h21)
theorem k0_off128_wordsbf16 : ∀ (v1_0 : BitVec 32) (k0_t6 : Fin (k0_t6_loop v1_0).trips) (v3645 : BitVec 32) (v3648 : BitVec 32) (k0_hw27 : k0_chk27 v1_0 k0_t6 v3645 v3648), ∀ (k0_h18 : k0_cond18 v1_0 k0_t6 = 1#1), ∀ (k0_h21 : k0_cond21 v3645 v3648 = 1#1), (Rect.unit (s := S12288x1536) (k0_off128 v3645 v3648) S64x1536.size (k0_off128_inb v1_0 k0_t6 v3645 v3648 k0_hw27 k0_h18 k0_h21)).WholeWords (EltTy.packing .bf16) := fun v1_0 k0_t6 v3645 v3648 k0_hw27 k0_h18 k0_h21 => k0_hw27.2.2.2.2.2.2.2.2.2.2.2.2.2.2.2.2.2.1 k0_h18 k0_h21 (k0_off128_inb v1_0 k0_t6 v3645 v3648 k0_hw27 k0_h18 k0_h21)
theorem k0_mult806_dvd : ∀ (v1_0 : BitVec 32) (k0_t6 : Fin (k0_t6_loop v1_0).trips) (v3645 : BitVec 32) (v3648 : BitVec 32) (k0_hw27 : k0_chk27 v1_0 k0_t6 v3645 v3648), ∀ (k0_h18 : k0_cond18 v1_0 k0_t6 = 1#1), 16 ∣ (k0_mult806 v3645 v3648).toNat := fun v1_0 k0_t6 v3645 v3648 k0_hw27 k0_h18 => k0_hw27.2.2.2.2.2.2.2.2.2.2.2.2.2.2.2.2.2.2.1 k0_h18
theorem k0_mult807_dvd : ∀ (v1_0 : BitVec 32) (k0_t6 : Fin (k0_t6_loop v1_0).trips) (v3645 : BitVec 32) (v3648 : BitVec 32) (k0_hw27 : k0_chk27 v1_0 k0_t6 v3645 v3648), ∀ (k0_h18 : k0_cond18 v1_0 k0_t6 = 1#1), 16 ∣ (k0_mult807 v3645 v3648).toNat := fun v1_0 k0_t6 v3645 v3648 k0_hw27 k0_h18 => k0_hw27.2.2.2.2.2.2.2.2.2.2.2.2.2.2.2.2.2.2.2.1 k0_h18
theorem k0_off130_inb : ∀ (v1_0 : BitVec 32) (k0_t6 : Fin (k0_t6_loop v1_0).trips) (v3645 : BitVec 32) (v3648 : BitVec 32) (k0_hw27 : k0_chk27 v1_0 k0_t6 v3645 v3648), ∀ (k0_h18 : k0_cond18 v1_0 k0_t6 = 1#1), ∀ (k0_h22 : k0_cond22 v3645 v3648 = 1#1), ∀ a, (k0_off130 v3645 v3648) a + S32x1536.size a ≤ S12288x1536.size a := fun v1_0 k0_t6 v3645 v3648 k0_hw27 k0_h18 k0_h22 => k0_hw27.2.2.2.2.2.2.2.2.2.2.2.2.2.2.2.2.2.2.2.2.1 k0_h18 k0_h22
theorem k0_off131_inb : ∀ (v1_0 : BitVec 32) (k0_t6 : Fin (k0_t6_loop v1_0).trips) (v3645 : BitVec 32) (v3648 : BitVec 32) (k0_hw27 : k0_chk27 v1_0 k0_t6 v3645 v3648), ∀ (k0_h18 : k0_cond18 v1_0 k0_t6 = 1#1), ∀ (k0_h22 : k0_cond22 v3645 v3648 = 1#1), ∀ a, (k0_off131 v1_0 k0_t6 v3645 v3648) a + S1x32x1536.size a ≤ S2x256x1536.size a := fun v1_0 k0_t6 v3645 v3648 k0_hw27 k0_h18 k0_h22 => k0_hw27.2.2.2.2.2.2.2.2.2.2.2.2.2.2.2.2.2.2.2.2.2.1 k0_h18 k0_h22
theorem k0_off131_wordsbf16 : ∀ (v1_0 : BitVec 32) (k0_t6 : Fin (k0_t6_loop v1_0).trips) (v3645 : BitVec 32) (v3648 : BitVec 32) (k0_hw27 : k0_chk27 v1_0 k0_t6 v3645 v3648), ∀ (k0_h18 : k0_cond18 v1_0 k0_t6 = 1#1), ∀ (k0_h22 : k0_cond22 v3645 v3648 = 1#1), (Rect.unit (s := S2x256x1536) (k0_off131 v1_0 k0_t6 v3645 v3648) S1x32x1536.size (k0_off131_inb v1_0 k0_t6 v3645 v3648 k0_hw27 k0_h18 k0_h22)).WholeWords (EltTy.packing .bf16) := fun v1_0 k0_t6 v3645 v3648 k0_hw27 k0_h18 k0_h22 => k0_hw27.2.2.2.2.2.2.2.2.2.2.2.2.2.2.2.2.2.2.2.2.2.2.1 k0_h18 k0_h22 (k0_off131_inb v1_0 k0_t6 v3645 v3648 k0_hw27 k0_h18 k0_h22)
theorem k0_off130_wordsbf16 : ∀ (v1_0 : BitVec 32) (k0_t6 : Fin (k0_t6_loop v1_0).trips) (v3645 : BitVec 32) (v3648 : BitVec 32) (k0_hw27 : k0_chk27 v1_0 k0_t6 v3645 v3648), ∀ (k0_h18 : k0_cond18 v1_0 k0_t6 = 1#1), ∀ (k0_h22 : k0_cond22 v3645 v3648 = 1#1), (Rect.unit (s := S12288x1536) (k0_off130 v3645 v3648) S32x1536.size (k0_off130_inb v1_0 k0_t6 v3645 v3648 k0_hw27 k0_h18 k0_h22)).WholeWords (EltTy.packing .bf16) := fun v1_0 k0_t6 v3645 v3648 k0_hw27 k0_h18 k0_h22 => k0_hw27.2.2.2.2.2.2.2.2.2.2.2.2.2.2.2.2.2.2.2.2.2.2.2.1 k0_h18 k0_h22 (k0_off130_inb v1_0 k0_t6 v3645 v3648 k0_hw27 k0_h18 k0_h22)
theorem k0_mult808_dvd : ∀ (v1_0 : BitVec 32) (k0_t6 : Fin (k0_t6_loop v1_0).trips) (v3645 : BitVec 32) (v3648 : BitVec 32) (k0_hw27 : k0_chk27 v1_0 k0_t6 v3645 v3648), ∀ (k0_h18 : k0_cond18 v1_0 k0_t6 = 1#1), 16 ∣ (k0_mult808 v3645 v3648).toNat := fun v1_0 k0_t6 v3645 v3648 k0_hw27 k0_h18 => k0_hw27.2.2.2.2.2.2.2.2.2.2.2.2.2.2.2.2.2.2.2.2.2.2.2.2.1 k0_h18
theorem k0_mult809_dvd : ∀ (v1_0 : BitVec 32) (k0_t6 : Fin (k0_t6_loop v1_0).trips) (v3645 : BitVec 32) (v3648 : BitVec 32) (k0_hw27 : k0_chk27 v1_0 k0_t6 v3645 v3648), ∀ (k0_h18 : k0_cond18 v1_0 k0_t6 = 1#1), 16 ∣ (k0_mult809 v3645 v3648).toNat := fun v1_0 k0_t6 v3645 v3648 k0_hw27 k0_h18 => k0_hw27.2.2.2.2.2.2.2.2.2.2.2.2.2.2.2.2.2.2.2.2.2.2.2.2.2.1 k0_h18
theorem k0_off132_inb : ∀ (v1_0 : BitVec 32) (k0_t6 : Fin (k0_t6_loop v1_0).trips) (v3645 : BitVec 32) (v3648 : BitVec 32) (k0_hw27 : k0_chk27 v1_0 k0_t6 v3645 v3648), ∀ (k0_h18 : k0_cond18 v1_0 k0_t6 = 1#1), ∀ (k0_h23 : k0_cond23 v3645 v3648 = 1#1), ∀ a, (k0_off132 v3645 v3648) a + S16x1536.size a ≤ S12288x1536.size a := fun v1_0 k0_t6 v3645 v3648 k0_hw27 k0_h18 k0_h23 => k0_hw27.2.2.2.2.2.2.2.2.2.2.2.2.2.2.2.2.2.2.2.2.2.2.2.2.2.2.1 k0_h18 k0_h23
theorem k0_off133_inb : ∀ (v1_0 : BitVec 32) (k0_t6 : Fin (k0_t6_loop v1_0).trips) (v3645 : BitVec 32) (v3648 : BitVec 32) (k0_hw27 : k0_chk27 v1_0 k0_t6 v3645 v3648), ∀ (k0_h18 : k0_cond18 v1_0 k0_t6 = 1#1), ∀ (k0_h23 : k0_cond23 v3645 v3648 = 1#1), ∀ a, (k0_off133 v1_0 k0_t6 v3645 v3648) a + S1x16x1536.size a ≤ S2x256x1536.size a := fun v1_0 k0_t6 v3645 v3648 k0_hw27 k0_h18 k0_h23 => k0_hw27.2.2.2.2.2.2.2.2.2.2.2.2.2.2.2.2.2.2.2.2.2.2.2.2.2.2.2.1 k0_h18 k0_h23
theorem k0_off133_wordsbf16 : ∀ (v1_0 : BitVec 32) (k0_t6 : Fin (k0_t6_loop v1_0).trips) (v3645 : BitVec 32) (v3648 : BitVec 32) (k0_hw27 : k0_chk27 v1_0 k0_t6 v3645 v3648), ∀ (k0_h18 : k0_cond18 v1_0 k0_t6 = 1#1), ∀ (k0_h23 : k0_cond23 v3645 v3648 = 1#1), (Rect.unit (s := S2x256x1536) (k0_off133 v1_0 k0_t6 v3645 v3648) S1x16x1536.size (k0_off133_inb v1_0 k0_t6 v3645 v3648 k0_hw27 k0_h18 k0_h23)).WholeWords (EltTy.packing .bf16) := fun v1_0 k0_t6 v3645 v3648 k0_hw27 k0_h18 k0_h23 => k0_hw27.2.2.2.2.2.2.2.2.2.2.2.2.2.2.2.2.2.2.2.2.2.2.2.2.2.2.2.2.1 k0_h18 k0_h23 (k0_off133_inb v1_0 k0_t6 v3645 v3648 k0_hw27 k0_h18 k0_h23)
theorem k0_off132_wordsbf16 : ∀ (v1_0 : BitVec 32) (k0_t6 : Fin (k0_t6_loop v1_0).trips) (v3645 : BitVec 32) (v3648 : BitVec 32) (k0_hw27 : k0_chk27 v1_0 k0_t6 v3645 v3648), ∀ (k0_h18 : k0_cond18 v1_0 k0_t6 = 1#1), ∀ (k0_h23 : k0_cond23 v3645 v3648 = 1#1), (Rect.unit (s := S12288x1536) (k0_off132 v3645 v3648) S16x1536.size (k0_off132_inb v1_0 k0_t6 v3645 v3648 k0_hw27 k0_h18 k0_h23)).WholeWords (EltTy.packing .bf16) := fun v1_0 k0_t6 v3645 v3648 k0_hw27 k0_h18 k0_h23 => k0_hw27.2.2.2.2.2.2.2.2.2.2.2.2.2.2.2.2.2.2.2.2.2.2.2.2.2.2.2.2.2 k0_h18 k0_h23 (k0_off132_inb v1_0 k0_t6 v3645 v3648 k0_hw27 k0_h18 k0_h23)

def k0_off134 (v1_0 : BitVec 32) (k0_t6 : Fin (k0_t6_loop v1_0).trips) : Fin 1 → Nat :=
  let c0_i32_13 : BitVec 32 := 0#32
  let v15 : BitVec 32 := Scalar.subi v1_0 c0_i32_13
  let c1_i32_15 : BitVec 32 := 1#32
  let v17 : BitVec 32 := Scalar.divsi v15 c1_i32_15
  let v18 : BitVec 32 := Scalar.muli v17 c1_i32_15
  let v19 : BitVec 32 := Scalar.addi c0_i32_13 v18
  let c1_i32_17 : BitVec 32 := 1#32
  let arg22 : BitVec 32 := Scf.iv v19 c1_i32_17 k0_t6
  let v3594 : Index := Scalar.indexCast arg22
  ![v3594.toNat]
def k0_mult810 (v3595 : BitVec 32) (v3598 : BitVec 32) : BitVec 32 :=
  let v3599 : BitVec 32 := Scalar.subi v3598 v3595
  let c16_i32_1550 : BitVec 32 := 16#32
  let v3600 : BitVec 32 := Scalar.addi v3599 c16_i32_1550
  let c1_i32_1551 : BitVec 32 := 1#32
  let v3601 : BitVec 32 := Scalar.subi v3600 c1_i32_1551
  let c_m16_i32_1552 : BitVec 32 := 4294967280#32
  let v3602 : BitVec 32 := Scalar.andi v3601 c_m16_i32_1552
  let c_m512_i32_1553 : BitVec 32 := 4294966784#32
  let v3603 : BitVec 32 := Scalar.andi v3602 c_m512_i32_1553
  v3603

def k0_mult811 (v3595 : BitVec 32) (v3598 : BitVec 32) : BitVec 32 :=
  let v3599 : BitVec 32 := Scalar.subi v3598 v3595
  let c16_i32_1550 : BitVec 32 := 16#32
  let v3600 : BitVec 32 := Scalar.addi v3599 c16_i32_1550
  let c1_i32_1551 : BitVec 32 := 1#32
  let v3601 : BitVec 32 := Scalar.subi v3600 c1_i32_1551
  let c_m16_i32_1552 : BitVec 32 := 4294967280#32
  let v3602 : BitVec 32 := Scalar.andi v3601 c_m16_i32_1552
  let c_m512_i32_1553 : BitVec 32 := 4294966784#32
  let v3603 : BitVec 32 := Scalar.andi v3602 c_m512_i32_1553
  let v3604 : BitVec 32 := v3603
  let v3605 : BitVec 32 := Scalar.addi v3595 v3604
  v3605
def k0_off135 (v3595 : BitVec 32) (v3598 : BitVec 32) : Fin 2 → Nat :=
  let v3599 : BitVec 32 := Scalar.subi v3598 v3595
  let c16_i32_1550 : BitVec 32 := 16#32
  let v3600 : BitVec 32 := Scalar.addi v3599 c16_i32_1550
  let c1_i32_1551 : BitVec 32 := 1#32
  let v3601 : BitVec 32 := Scalar.subi v3600 c1_i32_1551
  let c_m16_i32_1552 : BitVec 32 := 4294967280#32
  let v3602 : BitVec 32 := Scalar.andi v3601 c_m16_i32_1552
  let c_m512_i32_1553 : BitVec 32 := 4294966784#32
  let v3603 : BitVec 32 := Scalar.andi v3602 c_m512_i32_1553
  let v3604 : BitVec 32 := v3603
  let v3605 : BitVec 32 := Scalar.addi v3595 v3604
  let v3606 : BitVec 32 := v3605
  let c0_i32_1574 : BitVec 32 := 0#32
  ![v3606.toNat, 0]
def k0_cond24 (v3595 : BitVec 32) (v3598 : BitVec 32) : BitVec 1 :=
  let v3599 : BitVec 32 := Scalar.subi v3598 v3595
  let c16_i32_1550 : BitVec 32 := 16#32
  let v3600 : BitVec 32 := Scalar.addi v3599 c16_i32_1550
  let c1_i32_1551 : BitVec 32 := 1#32
  let v3601 : BitVec 32 := Scalar.subi v3600 c1_i32_1551
  let c_m16_i32_1552 : BitVec 32 := 4294967280#32
  let v3602 : BitVec 32 := Scalar.andi v3601 c_m16_i32_1552
  let c256_i32_1554 : BitVec 32 := 256#32
  let v3607 : BitVec 32 := Scalar.andi v3602 c256_i32_1554
  let c0_i32_1555 : BitVec 32 := 0#32
  let v3608 : BitVec 1 := Scalar.cmpi .ne v3607 c0_i32_1555
  let v3609 : BitVec 32 := Scalar.extui v3608
  let c0_i32_1556 : BitVec 32 := 0#32
  let v3610 : BitVec 1 := Scalar.cmpi .ne v3609 c0_i32_1556
  v3610

def k0_off136 (v1_0 : BitVec 32) (k0_t6 : Fin (k0_t6_loop v1_0).trips) (v3595 : BitVec 32) (v3598 : BitVec 32) : Fin 3 → Nat :=
  let c0_i32_13 : BitVec 32 := 0#32
  let v15 : BitVec 32 := Scalar.subi v1_0 c0_i32_13
  let c1_i32_15 : BitVec 32 := 1#32
  let v17 : BitVec 32 := Scalar.divsi v15 c1_i32_15
  let v18 : BitVec 32 := Scalar.muli v17 c1_i32_15
  let v19 : BitVec 32 := Scalar.addi c0_i32_13 v18
  let c1_i32_17 : BitVec 32 := 1#32
  let arg22 : BitVec 32 := Scf.iv v19 c1_i32_17 k0_t6
  let c1_i32_1549 : BitVec 32 := 1#32
  let v3596 : BitVec 32 := Scalar.andi arg22 c1_i32_1549
  let v3599 : BitVec 32 := Scalar.subi v3598 v3595
  let c16_i32_1550 : BitVec 32 := 16#32
  let v3600 : BitVec 32 := Scalar.addi v3599 c16_i32_1550
  let c1_i32_1551 : BitVec 32 := 1#32
  let v3601 : BitVec 32 := Scalar.subi v3600 c1_i32_1551
  let c_m16_i32_1552 : BitVec 32 := 4294967280#32
  let v3602 : BitVec 32 := Scalar.andi v3601 c_m16_i32_1552
  let c_m512_i32_1553 : BitVec 32 := 4294966784#32
  let v3603 : BitVec 32 := Scalar.andi v3602 c_m512_i32_1553
  let v3604 : BitVec 32 := v3603
  let c0_i32_1575 : BitVec 32 := 0#32
  ![v3596.toNat, v3604.toNat, 0]
def k0_mult812 (v3595 : BitVec 32) (v3598 : BitVec 32) : BitVec 32 :=
  let v3599 : BitVec 32 := Scalar.subi v3598 v3595
  let c16_i32_1550 : BitVec 32 := 16#32
  let v3600 : BitVec 32 := Scalar.addi v3599 c16_i32_1550
  let c1_i32_1551 : BitVec 32 := 1#32
  let v3601 : BitVec 32 := Scalar.subi v3600 c1_i32_1551
  let c_m16_i32_1552 : BitVec 32 := 4294967280#32
  let v3602 : BitVec 32 := Scalar.andi v3601 c_m16_i32_1552
  let c_m256_i32_1557 : BitVec 32 := 4294967040#32
  let v3611 : BitVec 32 := Scalar.andi v3602 c_m256_i32_1557
  v3611
def k0_mult813 (v3595 : BitVec 32) (v3598 : BitVec 32) : BitVec 32 :=
  let v3599 : BitVec 32 := Scalar.subi v3598 v3595
  let c16_i32_1550 : BitVec 32 := 16#32
  let v3600 : BitVec 32 := Scalar.addi v3599 c16_i32_1550
  let c1_i32_1551 : BitVec 32 := 1#32
  let v3601 : BitVec 32 := Scalar.subi v3600 c1_i32_1551
  let c_m16_i32_1552 : BitVec 32 := 4294967280#32
  let v3602 : BitVec 32 := Scalar.andi v3601 c_m16_i32_1552
  let c_m256_i32_1557 : BitVec 32 := 4294967040#32
  let v3611 : BitVec 32 := Scalar.andi v3602 c_m256_i32_1557
  let v3612 : BitVec 32 := v3611
  let v3613 : BitVec 32 := Scalar.addi v3595 v3612
  v3613
def k0_off137 (v3595 : BitVec 32) (v3598 : BitVec 32) : Fin 2 → Nat :=
  let v3599 : BitVec 32 := Scalar.subi v3598 v3595
  let c16_i32_1550 : BitVec 32 := 16#32
  let v3600 : BitVec 32 := Scalar.addi v3599 c16_i32_1550
  let c1_i32_1551 : BitVec 32 := 1#32
  let v3601 : BitVec 32 := Scalar.subi v3600 c1_i32_1551
  let c_m16_i32_1552 : BitVec 32 := 4294967280#32
  let v3602 : BitVec 32 := Scalar.andi v3601 c_m16_i32_1552
  let c_m256_i32_1557 : BitVec 32 := 4294967040#32
  let v3611 : BitVec 32 := Scalar.andi v3602 c_m256_i32_1557
  let v3612 : BitVec 32 := v3611
  let v3613 : BitVec 32 := Scalar.addi v3595 v3612
  let v3614 : BitVec 32 := v3613
  let c0_i32_1574 : BitVec 32 := 0#32
  ![v3614.toNat, 0]
def k0_cond25 (v3595 : BitVec 32) (v3598 : BitVec 32) : BitVec 1 :=
  let v3599 : BitVec 32 := Scalar.subi v3598 v3595
  let c16_i32_1550 : BitVec 32 := 16#32
  let v3600 : BitVec 32 := Scalar.addi v3599 c16_i32_1550
  let c1_i32_1551 : BitVec 32 := 1#32
  let v3601 : BitVec 32 := Scalar.subi v3600 c1_i32_1551
  let c_m16_i32_1552 : BitVec 32 := 4294967280#32
  let v3602 : BitVec 32 := Scalar.andi v3601 c_m16_i32_1552
  let c128_i32_1558 : BitVec 32 := 128#32
  let v3615 : BitVec 32 := Scalar.andi v3602 c128_i32_1558
  let c0_i32_1559 : BitVec 32 := 0#32
  let v3616 : BitVec 1 := Scalar.cmpi .ne v3615 c0_i32_1559
  let v3617 : BitVec 32 := Scalar.extui v3616
  let c0_i32_1560 : BitVec 32 := 0#32
  let v3618 : BitVec 1 := Scalar.cmpi .ne v3617 c0_i32_1560
  v3618

def k0_off138 (v1_0 : BitVec 32) (k0_t6 : Fin (k0_t6_loop v1_0).trips) (v3595 : BitVec 32) (v3598 : BitVec 32) : Fin 3 → Nat :=
  let c0_i32_13 : BitVec 32 := 0#32
  let v15 : BitVec 32 := Scalar.subi v1_0 c0_i32_13
  let c1_i32_15 : BitVec 32 := 1#32
  let v17 : BitVec 32 := Scalar.divsi v15 c1_i32_15
  let v18 : BitVec 32 := Scalar.muli v17 c1_i32_15
  let v19 : BitVec 32 := Scalar.addi c0_i32_13 v18
  let c1_i32_17 : BitVec 32 := 1#32
  let arg22 : BitVec 32 := Scf.iv v19 c1_i32_17 k0_t6
  let c1_i32_1549 : BitVec 32 := 1#32
  let v3596 : BitVec 32 := Scalar.andi arg22 c1_i32_1549
  let v3599 : BitVec 32 := Scalar.subi v3598 v3595
  let c16_i32_1550 : BitVec 32 := 16#32
  let v3600 : BitVec 32 := Scalar.addi v3599 c16_i32_1550
  let c1_i32_1551 : BitVec 32 := 1#32
  let v3601 : BitVec 32 := Scalar.subi v3600 c1_i32_1551
  let c_m16_i32_1552 : BitVec 32 := 4294967280#32
  let v3602 : BitVec 32 := Scalar.andi v3601 c_m16_i32_1552
  let c_m256_i32_1557 : BitVec 32 := 4294967040#32
  let v3611 : BitVec 32 := Scalar.andi v3602 c_m256_i32_1557
  let v3612 : BitVec 32 := v3611
  let c0_i32_1575 : BitVec 32 := 0#32
  ![v3596.toNat, v3612.toNat, 0]
def k0_mult814 (v3595 : BitVec 32) (v3598 : BitVec 32) : BitVec 32 :=
  let v3599 : BitVec 32 := Scalar.subi v3598 v3595
  let c16_i32_1550 : BitVec 32 := 16#32
  let v3600 : BitVec 32 := Scalar.addi v3599 c16_i32_1550
  let c1_i32_1551 : BitVec 32 := 1#32
  let v3601 : BitVec 32 := Scalar.subi v3600 c1_i32_1551
  let c_m16_i32_1552 : BitVec 32 := 4294967280#32
  let v3602 : BitVec 32 := Scalar.andi v3601 c_m16_i32_1552
  let c_m128_i32_1561 : BitVec 32 := 4294967168#32
  let v3619 : BitVec 32 := Scalar.andi v3602 c_m128_i32_1561
  v3619
def k0_mult815 (v3595 : BitVec 32) (v3598 : BitVec 32) : BitVec 32 :=
  let v3599 : BitVec 32 := Scalar.subi v3598 v3595
  let c16_i32_1550 : BitVec 32 := 16#32
  let v3600 : BitVec 32 := Scalar.addi v3599 c16_i32_1550
  let c1_i32_1551 : BitVec 32 := 1#32
  let v3601 : BitVec 32 := Scalar.subi v3600 c1_i32_1551
  let c_m16_i32_1552 : BitVec 32 := 4294967280#32
  let v3602 : BitVec 32 := Scalar.andi v3601 c_m16_i32_1552
  let c_m128_i32_1561 : BitVec 32 := 4294967168#32
  let v3619 : BitVec 32 := Scalar.andi v3602 c_m128_i32_1561
  let v3620 : BitVec 32 := v3619
  let v3621 : BitVec 32 := Scalar.addi v3595 v3620
  v3621
def k0_off139 (v3595 : BitVec 32) (v3598 : BitVec 32) : Fin 2 → Nat :=
  let v3599 : BitVec 32 := Scalar.subi v3598 v3595
  let c16_i32_1550 : BitVec 32 := 16#32
  let v3600 : BitVec 32 := Scalar.addi v3599 c16_i32_1550
  let c1_i32_1551 : BitVec 32 := 1#32
  let v3601 : BitVec 32 := Scalar.subi v3600 c1_i32_1551
  let c_m16_i32_1552 : BitVec 32 := 4294967280#32
  let v3602 : BitVec 32 := Scalar.andi v3601 c_m16_i32_1552
  let c_m128_i32_1561 : BitVec 32 := 4294967168#32
  let v3619 : BitVec 32 := Scalar.andi v3602 c_m128_i32_1561
  let v3620 : BitVec 32 := v3619
  let v3621 : BitVec 32 := Scalar.addi v3595 v3620
  let v3622 : BitVec 32 := v3621
  let c0_i32_1574 : BitVec 32 := 0#32
  ![v3622.toNat, 0]
def k0_cond26 (v3595 : BitVec 32) (v3598 : BitVec 32) : BitVec 1 :=
  let v3599 : BitVec 32 := Scalar.subi v3598 v3595
  let c16_i32_1550 : BitVec 32 := 16#32
  let v3600 : BitVec 32 := Scalar.addi v3599 c16_i32_1550
  let c1_i32_1551 : BitVec 32 := 1#32
  let v3601 : BitVec 32 := Scalar.subi v3600 c1_i32_1551
  let c_m16_i32_1552 : BitVec 32 := 4294967280#32
  let v3602 : BitVec 32 := Scalar.andi v3601 c_m16_i32_1552
  let c64_i32_1562 : BitVec 32 := 64#32
  let v3623 : BitVec 32 := Scalar.andi v3602 c64_i32_1562
  let c0_i32_1563 : BitVec 32 := 0#32
  let v3624 : BitVec 1 := Scalar.cmpi .ne v3623 c0_i32_1563
  let v3625 : BitVec 32 := Scalar.extui v3624
  let c0_i32_1564 : BitVec 32 := 0#32
  let v3626 : BitVec 1 := Scalar.cmpi .ne v3625 c0_i32_1564
  v3626

def k0_off140 (v1_0 : BitVec 32) (k0_t6 : Fin (k0_t6_loop v1_0).trips) (v3595 : BitVec 32) (v3598 : BitVec 32) : Fin 3 → Nat :=
  let c0_i32_13 : BitVec 32 := 0#32
  let v15 : BitVec 32 := Scalar.subi v1_0 c0_i32_13
  let c1_i32_15 : BitVec 32 := 1#32
  let v17 : BitVec 32 := Scalar.divsi v15 c1_i32_15
  let v18 : BitVec 32 := Scalar.muli v17 c1_i32_15
  let v19 : BitVec 32 := Scalar.addi c0_i32_13 v18
  let c1_i32_17 : BitVec 32 := 1#32
  let arg22 : BitVec 32 := Scf.iv v19 c1_i32_17 k0_t6
  let c1_i32_1549 : BitVec 32 := 1#32
  let v3596 : BitVec 32 := Scalar.andi arg22 c1_i32_1549
  let v3599 : BitVec 32 := Scalar.subi v3598 v3595
  let c16_i32_1550 : BitVec 32 := 16#32
  let v3600 : BitVec 32 := Scalar.addi v3599 c16_i32_1550
  let c1_i32_1551 : BitVec 32 := 1#32
  let v3601 : BitVec 32 := Scalar.subi v3600 c1_i32_1551
  let c_m16_i32_1552 : BitVec 32 := 4294967280#32
  let v3602 : BitVec 32 := Scalar.andi v3601 c_m16_i32_1552
  let c_m128_i32_1561 : BitVec 32 := 4294967168#32
  let v3619 : BitVec 32 := Scalar.andi v3602 c_m128_i32_1561
  let v3620 : BitVec 32 := v3619
  let c0_i32_1575 : BitVec 32 := 0#32
  ![v3596.toNat, v3620.toNat, 0]
def k0_mult816 (v3595 : BitVec 32) (v3598 : BitVec 32) : BitVec 32 :=
  let v3599 : BitVec 32 := Scalar.subi v3598 v3595
  let c16_i32_1550 : BitVec 32 := 16#32
  let v3600 : BitVec 32 := Scalar.addi v3599 c16_i32_1550
  let c1_i32_1551 : BitVec 32 := 1#32
  let v3601 : BitVec 32 := Scalar.subi v3600 c1_i32_1551
  let c_m16_i32_1552 : BitVec 32 := 4294967280#32
  let v3602 : BitVec 32 := Scalar.andi v3601 c_m16_i32_1552
  let c_m64_i32_1565 : BitVec 32 := 4294967232#32
  let v3627 : BitVec 32 := Scalar.andi v3602 c_m64_i32_1565
  v3627
def k0_mult817 (v3595 : BitVec 32) (v3598 : BitVec 32) : BitVec 32 :=
  let v3599 : BitVec 32 := Scalar.subi v3598 v3595
  let c16_i32_1550 : BitVec 32 := 16#32
  let v3600 : BitVec 32 := Scalar.addi v3599 c16_i32_1550
  let c1_i32_1551 : BitVec 32 := 1#32
  let v3601 : BitVec 32 := Scalar.subi v3600 c1_i32_1551
  let c_m16_i32_1552 : BitVec 32 := 4294967280#32
  let v3602 : BitVec 32 := Scalar.andi v3601 c_m16_i32_1552
  let c_m64_i32_1565 : BitVec 32 := 4294967232#32
  let v3627 : BitVec 32 := Scalar.andi v3602 c_m64_i32_1565
  let v3628 : BitVec 32 := v3627
  let v3629 : BitVec 32 := Scalar.addi v3595 v3628
  v3629
def k0_off141 (v3595 : BitVec 32) (v3598 : BitVec 32) : Fin 2 → Nat :=
  let v3599 : BitVec 32 := Scalar.subi v3598 v3595
  let c16_i32_1550 : BitVec 32 := 16#32
  let v3600 : BitVec 32 := Scalar.addi v3599 c16_i32_1550
  let c1_i32_1551 : BitVec 32 := 1#32
  let v3601 : BitVec 32 := Scalar.subi v3600 c1_i32_1551
  let c_m16_i32_1552 : BitVec 32 := 4294967280#32
  let v3602 : BitVec 32 := Scalar.andi v3601 c_m16_i32_1552
  let c_m64_i32_1565 : BitVec 32 := 4294967232#32
  let v3627 : BitVec 32 := Scalar.andi v3602 c_m64_i32_1565
  let v3628 : BitVec 32 := v3627
  let v3629 : BitVec 32 := Scalar.addi v3595 v3628
  let v3630 : BitVec 32 := v3629
  let c0_i32_1574 : BitVec 32 := 0#32
  ![v3630.toNat, 0]
def k0_cond27 (v3595 : BitVec 32) (v3598 : BitVec 32) : BitVec 1 :=
  let v3599 : BitVec 32 := Scalar.subi v3598 v3595
  let c16_i32_1550 : BitVec 32 := 16#32
  let v3600 : BitVec 32 := Scalar.addi v3599 c16_i32_1550
  let c1_i32_1551 : BitVec 32 := 1#32
  let v3601 : BitVec 32 := Scalar.subi v3600 c1_i32_1551
  let c_m16_i32_1552 : BitVec 32 := 4294967280#32
  let v3602 : BitVec 32 := Scalar.andi v3601 c_m16_i32_1552
  let c32_i32_1566 : BitVec 32 := 32#32
  let v3631 : BitVec 32 := Scalar.andi v3602 c32_i32_1566
  let c0_i32_1567 : BitVec 32 := 0#32
  let v3632 : BitVec 1 := Scalar.cmpi .ne v3631 c0_i32_1567
  let v3633 : BitVec 32 := Scalar.extui v3632
  let c0_i32_1568 : BitVec 32 := 0#32
  let v3634 : BitVec 1 := Scalar.cmpi .ne v3633 c0_i32_1568
  v3634

def k0_off142 (v1_0 : BitVec 32) (k0_t6 : Fin (k0_t6_loop v1_0).trips) (v3595 : BitVec 32) (v3598 : BitVec 32) : Fin 3 → Nat :=
  let c0_i32_13 : BitVec 32 := 0#32
  let v15 : BitVec 32 := Scalar.subi v1_0 c0_i32_13
  let c1_i32_15 : BitVec 32 := 1#32
  let v17 : BitVec 32 := Scalar.divsi v15 c1_i32_15
  let v18 : BitVec 32 := Scalar.muli v17 c1_i32_15
  let v19 : BitVec 32 := Scalar.addi c0_i32_13 v18
  let c1_i32_17 : BitVec 32 := 1#32
  let arg22 : BitVec 32 := Scf.iv v19 c1_i32_17 k0_t6
  let c1_i32_1549 : BitVec 32 := 1#32
  let v3596 : BitVec 32 := Scalar.andi arg22 c1_i32_1549
  let v3599 : BitVec 32 := Scalar.subi v3598 v3595
  let c16_i32_1550 : BitVec 32 := 16#32
  let v3600 : BitVec 32 := Scalar.addi v3599 c16_i32_1550
  let c1_i32_1551 : BitVec 32 := 1#32
  let v3601 : BitVec 32 := Scalar.subi v3600 c1_i32_1551
  let c_m16_i32_1552 : BitVec 32 := 4294967280#32
  let v3602 : BitVec 32 := Scalar.andi v3601 c_m16_i32_1552
  let c_m64_i32_1565 : BitVec 32 := 4294967232#32
  let v3627 : BitVec 32 := Scalar.andi v3602 c_m64_i32_1565
  let v3628 : BitVec 32 := v3627
  let c0_i32_1575 : BitVec 32 := 0#32
  ![v3596.toNat, v3628.toNat, 0]
def k0_mult818 (v3595 : BitVec 32) (v3598 : BitVec 32) : BitVec 32 :=
  let v3599 : BitVec 32 := Scalar.subi v3598 v3595
  let c16_i32_1550 : BitVec 32 := 16#32
  let v3600 : BitVec 32 := Scalar.addi v3599 c16_i32_1550
  let c1_i32_1551 : BitVec 32 := 1#32
  let v3601 : BitVec 32 := Scalar.subi v3600 c1_i32_1551
  let c_m16_i32_1552 : BitVec 32 := 4294967280#32
  let v3602 : BitVec 32 := Scalar.andi v3601 c_m16_i32_1552
  let c_m32_i32_1569 : BitVec 32 := 4294967264#32
  let v3635 : BitVec 32 := Scalar.andi v3602 c_m32_i32_1569
  v3635
def k0_mult819 (v3595 : BitVec 32) (v3598 : BitVec 32) : BitVec 32 :=
  let v3599 : BitVec 32 := Scalar.subi v3598 v3595
  let c16_i32_1550 : BitVec 32 := 16#32
  let v3600 : BitVec 32 := Scalar.addi v3599 c16_i32_1550
  let c1_i32_1551 : BitVec 32 := 1#32
  let v3601 : BitVec 32 := Scalar.subi v3600 c1_i32_1551
  let c_m16_i32_1552 : BitVec 32 := 4294967280#32
  let v3602 : BitVec 32 := Scalar.andi v3601 c_m16_i32_1552
  let c_m32_i32_1569 : BitVec 32 := 4294967264#32
  let v3635 : BitVec 32 := Scalar.andi v3602 c_m32_i32_1569
  let v3636 : BitVec 32 := v3635
  let v3637 : BitVec 32 := Scalar.addi v3595 v3636
  v3637
def k0_off143 (v3595 : BitVec 32) (v3598 : BitVec 32) : Fin 2 → Nat :=
  let v3599 : BitVec 32 := Scalar.subi v3598 v3595
  let c16_i32_1550 : BitVec 32 := 16#32
  let v3600 : BitVec 32 := Scalar.addi v3599 c16_i32_1550
  let c1_i32_1551 : BitVec 32 := 1#32
  let v3601 : BitVec 32 := Scalar.subi v3600 c1_i32_1551
  let c_m16_i32_1552 : BitVec 32 := 4294967280#32
  let v3602 : BitVec 32 := Scalar.andi v3601 c_m16_i32_1552
  let c_m32_i32_1569 : BitVec 32 := 4294967264#32
  let v3635 : BitVec 32 := Scalar.andi v3602 c_m32_i32_1569
  let v3636 : BitVec 32 := v3635
  let v3637 : BitVec 32 := Scalar.addi v3595 v3636
  let v3638 : BitVec 32 := v3637
  let c0_i32_1574 : BitVec 32 := 0#32
  ![v3638.toNat, 0]
def k0_cond28 (v3595 : BitVec 32) (v3598 : BitVec 32) : BitVec 1 :=
  let v3599 : BitVec 32 := Scalar.subi v3598 v3595
  let c16_i32_1550 : BitVec 32 := 16#32
  let v3600 : BitVec 32 := Scalar.addi v3599 c16_i32_1550
  let c1_i32_1551 : BitVec 32 := 1#32
  let v3601 : BitVec 32 := Scalar.subi v3600 c1_i32_1551
  let c_m16_i32_1552 : BitVec 32 := 4294967280#32
  let v3602 : BitVec 32 := Scalar.andi v3601 c_m16_i32_1552
  let c16_i32_1570 : BitVec 32 := 16#32
  let v3639 : BitVec 32 := Scalar.andi v3602 c16_i32_1570
  let c0_i32_1571 : BitVec 32 := 0#32
  let v3640 : BitVec 1 := Scalar.cmpi .ne v3639 c0_i32_1571
  let v3641 : BitVec 32 := Scalar.extui v3640
  let c0_i32_1572 : BitVec 32 := 0#32
  let v3642 : BitVec 1 := Scalar.cmpi .ne v3641 c0_i32_1572
  v3642

def k0_off144 (v1_0 : BitVec 32) (k0_t6 : Fin (k0_t6_loop v1_0).trips) (v3595 : BitVec 32) (v3598 : BitVec 32) : Fin 3 → Nat :=
  let c0_i32_13 : BitVec 32 := 0#32
  let v15 : BitVec 32 := Scalar.subi v1_0 c0_i32_13
  let c1_i32_15 : BitVec 32 := 1#32
  let v17 : BitVec 32 := Scalar.divsi v15 c1_i32_15
  let v18 : BitVec 32 := Scalar.muli v17 c1_i32_15
  let v19 : BitVec 32 := Scalar.addi c0_i32_13 v18
  let c1_i32_17 : BitVec 32 := 1#32
  let arg22 : BitVec 32 := Scf.iv v19 c1_i32_17 k0_t6
  let c1_i32_1549 : BitVec 32 := 1#32
  let v3596 : BitVec 32 := Scalar.andi arg22 c1_i32_1549
  let v3599 : BitVec 32 := Scalar.subi v3598 v3595
  let c16_i32_1550 : BitVec 32 := 16#32
  let v3600 : BitVec 32 := Scalar.addi v3599 c16_i32_1550
  let c1_i32_1551 : BitVec 32 := 1#32
  let v3601 : BitVec 32 := Scalar.subi v3600 c1_i32_1551
  let c_m16_i32_1552 : BitVec 32 := 4294967280#32
  let v3602 : BitVec 32 := Scalar.andi v3601 c_m16_i32_1552
  let c_m32_i32_1569 : BitVec 32 := 4294967264#32
  let v3635 : BitVec 32 := Scalar.andi v3602 c_m32_i32_1569
  let v3636 : BitVec 32 := v3635
  let c0_i32_1575 : BitVec 32 := 0#32
  ![v3596.toNat, v3636.toNat, 0]

def k0_chk28 (v1_0 : BitVec 32) (k0_t6 : Fin (k0_t6_loop v1_0).trips) (v3595 : BitVec 32) (v3598 : BitVec 32) : Prop :=
  (16 ∣ (k0_mult810 v3595 v3598).toNat) ∧
  (16 ∣ (k0_mult811 v3595 v3598).toNat) ∧
  (∀ (k0_h24 : k0_cond24 v3595 v3598 = 1#1), ∀ a, (k0_off135 v3595 v3598) a + S256x1536.size a ≤ S12288x1536.size a) ∧
  (∀ (k0_h24 : k0_cond24 v3595 v3598 = 1#1), ∀ a, (k0_off136 v1_0 k0_t6 v3595 v3598) a + S1x256x1536.size a ≤ S2x256x1536.size a) ∧
  (∀ (k0_h24 : k0_cond24 v3595 v3598 = 1#1), ∀ (hinb : ∀ a, (k0_off136 v1_0 k0_t6 v3595 v3598) a + S1x256x1536.size a ≤ S2x256x1536.size a), (Rect.unit (s := S2x256x1536) (k0_off136 v1_0 k0_t6 v3595 v3598) S1x256x1536.size hinb).WholeWords (EltTy.packing .bf16)) ∧
  (∀ (k0_h24 : k0_cond24 v3595 v3598 = 1#1), ∀ (hinb : ∀ a, (k0_off135 v3595 v3598) a + S256x1536.size a ≤ S12288x1536.size a), (Rect.unit (s := S12288x1536) (k0_off135 v3595 v3598) S256x1536.size hinb).WholeWords (EltTy.packing .bf16)) ∧
  (16 ∣ (k0_mult812 v3595 v3598).toNat) ∧
  (16 ∣ (k0_mult813 v3595 v3598).toNat) ∧
  (∀ (k0_h25 : k0_cond25 v3595 v3598 = 1#1), ∀ a, (k0_off137 v3595 v3598) a + S128x1536.size a ≤ S12288x1536.size a) ∧
  (∀ (k0_h25 : k0_cond25 v3595 v3598 = 1#1), ∀ a, (k0_off138 v1_0 k0_t6 v3595 v3598) a + S1x128x1536.size a ≤ S2x256x1536.size a) ∧
  (∀ (k0_h25 : k0_cond25 v3595 v3598 = 1#1), ∀ (hinb : ∀ a, (k0_off138 v1_0 k0_t6 v3595 v3598) a + S1x128x1536.size a ≤ S2x256x1536.size a), (Rect.unit (s := S2x256x1536) (k0_off138 v1_0 k0_t6 v3595 v3598) S1x128x1536.size hinb).WholeWords (EltTy.packing .bf16)) ∧
  (∀ (k0_h25 : k0_cond25 v3595 v3598 = 1#1), ∀ (hinb : ∀ a, (k0_off137 v3595 v3598) a + S128x1536.size a ≤ S12288x1536.size a), (Rect.unit (s := S12288x1536) (k0_off137 v3595 v3598) S128x1536.size hinb).WholeWords (EltTy.packing .bf16)) ∧
  (16 ∣ (k0_mult814 v3595 v3598).toNat) ∧
  (16 ∣ (k0_mult815 v3595 v3598).toNat) ∧
  (∀ (k0_h26 : k0_cond26 v3595 v3598 = 1#1), ∀ a, (k0_off139 v3595 v3598) a + S64x1536.size a ≤ S12288x1536.size a) ∧
  (∀ (k0_h26 : k0_cond26 v3595 v3598 = 1#1), ∀ a, (k0_off140 v1_0 k0_t6 v3595 v3598) a + S1x64x1536.size a ≤ S2x256x1536.size a) ∧
  (∀ (k0_h26 : k0_cond26 v3595 v3598 = 1#1), ∀ (hinb : ∀ a, (k0_off140 v1_0 k0_t6 v3595 v3598) a + S1x64x1536.size a ≤ S2x256x1536.size a), (Rect.unit (s := S2x256x1536) (k0_off140 v1_0 k0_t6 v3595 v3598) S1x64x1536.size hinb).WholeWords (EltTy.packing .bf16)) ∧
  (∀ (k0_h26 : k0_cond26 v3595 v3598 = 1#1), ∀ (hinb : ∀ a, (k0_off139 v3595 v3598) a + S64x1536.size a ≤ S12288x1536.size a), (Rect.unit (s := S12288x1536) (k0_off139 v3595 v3598) S64x1536.size hinb).WholeWords (EltTy.packing .bf16)) ∧
  (16 ∣ (k0_mult816 v3595 v3598).toNat) ∧
  (16 ∣ (k0_mult817 v3595 v3598).toNat) ∧
  (∀ (k0_h27 : k0_cond27 v3595 v3598 = 1#1), ∀ a, (k0_off141 v3595 v3598) a + S32x1536.size a ≤ S12288x1536.size a) ∧
  (∀ (k0_h27 : k0_cond27 v3595 v3598 = 1#1), ∀ a, (k0_off142 v1_0 k0_t6 v3595 v3598) a + S1x32x1536.size a ≤ S2x256x1536.size a) ∧
  (∀ (k0_h27 : k0_cond27 v3595 v3598 = 1#1), ∀ (hinb : ∀ a, (k0_off142 v1_0 k0_t6 v3595 v3598) a + S1x32x1536.size a ≤ S2x256x1536.size a), (Rect.unit (s := S2x256x1536) (k0_off142 v1_0 k0_t6 v3595 v3598) S1x32x1536.size hinb).WholeWords (EltTy.packing .bf16)) ∧
  (∀ (k0_h27 : k0_cond27 v3595 v3598 = 1#1), ∀ (hinb : ∀ a, (k0_off141 v3595 v3598) a + S32x1536.size a ≤ S12288x1536.size a), (Rect.unit (s := S12288x1536) (k0_off141 v3595 v3598) S32x1536.size hinb).WholeWords (EltTy.packing .bf16)) ∧
  (16 ∣ (k0_mult818 v3595 v3598).toNat) ∧
  (16 ∣ (k0_mult819 v3595 v3598).toNat) ∧
  (∀ (k0_h28 : k0_cond28 v3595 v3598 = 1#1), ∀ a, (k0_off143 v3595 v3598) a + S16x1536.size a ≤ S12288x1536.size a) ∧
  (∀ (k0_h28 : k0_cond28 v3595 v3598 = 1#1), ∀ a, (k0_off144 v1_0 k0_t6 v3595 v3598) a + S1x16x1536.size a ≤ S2x256x1536.size a) ∧
  (∀ (k0_h28 : k0_cond28 v3595 v3598 = 1#1), ∀ (hinb : ∀ a, (k0_off144 v1_0 k0_t6 v3595 v3598) a + S1x16x1536.size a ≤ S2x256x1536.size a), (Rect.unit (s := S2x256x1536) (k0_off144 v1_0 k0_t6 v3595 v3598) S1x16x1536.size hinb).WholeWords (EltTy.packing .bf16)) ∧
  (∀ (k0_h28 : k0_cond28 v3595 v3598 = 1#1), ∀ (hinb : ∀ a, (k0_off143 v3595 v3598) a + S16x1536.size a ≤ S12288x1536.size a), (Rect.unit (s := S12288x1536) (k0_off143 v3595 v3598) S16x1536.size hinb).WholeWords (EltTy.packing .bf16))
theorem k0_mult810_dvd : ∀ (v1_0 : BitVec 32) (k0_t6 : Fin (k0_t6_loop v1_0).trips) (v3595 : BitVec 32) (v3598 : BitVec 32) (k0_hw28 : k0_chk28 v1_0 k0_t6 v3595 v3598), 16 ∣ (k0_mult810 v3595 v3598).toNat := fun v1_0 k0_t6 v3595 v3598 k0_hw28 => k0_hw28.1
theorem k0_mult811_dvd : ∀ (v1_0 : BitVec 32) (k0_t6 : Fin (k0_t6_loop v1_0).trips) (v3595 : BitVec 32) (v3598 : BitVec 32) (k0_hw28 : k0_chk28 v1_0 k0_t6 v3595 v3598), 16 ∣ (k0_mult811 v3595 v3598).toNat := fun v1_0 k0_t6 v3595 v3598 k0_hw28 => k0_hw28.2.1
theorem k0_off135_inb : ∀ (v1_0 : BitVec 32) (k0_t6 : Fin (k0_t6_loop v1_0).trips) (v3595 : BitVec 32) (v3598 : BitVec 32) (k0_hw28 : k0_chk28 v1_0 k0_t6 v3595 v3598), ∀ (k0_h24 : k0_cond24 v3595 v3598 = 1#1), ∀ a, (k0_off135 v3595 v3598) a + S256x1536.size a ≤ S12288x1536.size a := fun v1_0 k0_t6 v3595 v3598 k0_hw28 k0_h24 => k0_hw28.2.2.1 k0_h24
theorem k0_off136_inb : ∀ (v1_0 : BitVec 32) (k0_t6 : Fin (k0_t6_loop v1_0).trips) (v3595 : BitVec 32) (v3598 : BitVec 32) (k0_hw28 : k0_chk28 v1_0 k0_t6 v3595 v3598), ∀ (k0_h24 : k0_cond24 v3595 v3598 = 1#1), ∀ a, (k0_off136 v1_0 k0_t6 v3595 v3598) a + S1x256x1536.size a ≤ S2x256x1536.size a := fun v1_0 k0_t6 v3595 v3598 k0_hw28 k0_h24 => k0_hw28.2.2.2.1 k0_h24
theorem k0_off136_wordsbf16 : ∀ (v1_0 : BitVec 32) (k0_t6 : Fin (k0_t6_loop v1_0).trips) (v3595 : BitVec 32) (v3598 : BitVec 32) (k0_hw28 : k0_chk28 v1_0 k0_t6 v3595 v3598), ∀ (k0_h24 : k0_cond24 v3595 v3598 = 1#1), (Rect.unit (s := S2x256x1536) (k0_off136 v1_0 k0_t6 v3595 v3598) S1x256x1536.size (k0_off136_inb v1_0 k0_t6 v3595 v3598 k0_hw28 k0_h24)).WholeWords (EltTy.packing .bf16) := fun v1_0 k0_t6 v3595 v3598 k0_hw28 k0_h24 => k0_hw28.2.2.2.2.1 k0_h24 (k0_off136_inb v1_0 k0_t6 v3595 v3598 k0_hw28 k0_h24)
theorem k0_off135_wordsbf16 : ∀ (v1_0 : BitVec 32) (k0_t6 : Fin (k0_t6_loop v1_0).trips) (v3595 : BitVec 32) (v3598 : BitVec 32) (k0_hw28 : k0_chk28 v1_0 k0_t6 v3595 v3598), ∀ (k0_h24 : k0_cond24 v3595 v3598 = 1#1), (Rect.unit (s := S12288x1536) (k0_off135 v3595 v3598) S256x1536.size (k0_off135_inb v1_0 k0_t6 v3595 v3598 k0_hw28 k0_h24)).WholeWords (EltTy.packing .bf16) := fun v1_0 k0_t6 v3595 v3598 k0_hw28 k0_h24 => k0_hw28.2.2.2.2.2.1 k0_h24 (k0_off135_inb v1_0 k0_t6 v3595 v3598 k0_hw28 k0_h24)
theorem k0_mult812_dvd : ∀ (v1_0 : BitVec 32) (k0_t6 : Fin (k0_t6_loop v1_0).trips) (v3595 : BitVec 32) (v3598 : BitVec 32) (k0_hw28 : k0_chk28 v1_0 k0_t6 v3595 v3598), 16 ∣ (k0_mult812 v3595 v3598).toNat := fun v1_0 k0_t6 v3595 v3598 k0_hw28 => k0_hw28.2.2.2.2.2.2.1
theorem k0_mult813_dvd : ∀ (v1_0 : BitVec 32) (k0_t6 : Fin (k0_t6_loop v1_0).trips) (v3595 : BitVec 32) (v3598 : BitVec 32) (k0_hw28 : k0_chk28 v1_0 k0_t6 v3595 v3598), 16 ∣ (k0_mult813 v3595 v3598).toNat := fun v1_0 k0_t6 v3595 v3598 k0_hw28 => k0_hw28.2.2.2.2.2.2.2.1
theorem k0_off137_inb : ∀ (v1_0 : BitVec 32) (k0_t6 : Fin (k0_t6_loop v1_0).trips) (v3595 : BitVec 32) (v3598 : BitVec 32) (k0_hw28 : k0_chk28 v1_0 k0_t6 v3595 v3598), ∀ (k0_h25 : k0_cond25 v3595 v3598 = 1#1), ∀ a, (k0_off137 v3595 v3598) a + S128x1536.size a ≤ S12288x1536.size a := fun v1_0 k0_t6 v3595 v3598 k0_hw28 k0_h25 => k0_hw28.2.2.2.2.2.2.2.2.1 k0_h25
theorem k0_off138_inb : ∀ (v1_0 : BitVec 32) (k0_t6 : Fin (k0_t6_loop v1_0).trips) (v3595 : BitVec 32) (v3598 : BitVec 32) (k0_hw28 : k0_chk28 v1_0 k0_t6 v3595 v3598), ∀ (k0_h25 : k0_cond25 v3595 v3598 = 1#1), ∀ a, (k0_off138 v1_0 k0_t6 v3595 v3598) a + S1x128x1536.size a ≤ S2x256x1536.size a := fun v1_0 k0_t6 v3595 v3598 k0_hw28 k0_h25 => k0_hw28.2.2.2.2.2.2.2.2.2.1 k0_h25
theorem k0_off138_wordsbf16 : ∀ (v1_0 : BitVec 32) (k0_t6 : Fin (k0_t6_loop v1_0).trips) (v3595 : BitVec 32) (v3598 : BitVec 32) (k0_hw28 : k0_chk28 v1_0 k0_t6 v3595 v3598), ∀ (k0_h25 : k0_cond25 v3595 v3598 = 1#1), (Rect.unit (s := S2x256x1536) (k0_off138 v1_0 k0_t6 v3595 v3598) S1x128x1536.size (k0_off138_inb v1_0 k0_t6 v3595 v3598 k0_hw28 k0_h25)).WholeWords (EltTy.packing .bf16) := fun v1_0 k0_t6 v3595 v3598 k0_hw28 k0_h25 => k0_hw28.2.2.2.2.2.2.2.2.2.2.1 k0_h25 (k0_off138_inb v1_0 k0_t6 v3595 v3598 k0_hw28 k0_h25)
theorem k0_off137_wordsbf16 : ∀ (v1_0 : BitVec 32) (k0_t6 : Fin (k0_t6_loop v1_0).trips) (v3595 : BitVec 32) (v3598 : BitVec 32) (k0_hw28 : k0_chk28 v1_0 k0_t6 v3595 v3598), ∀ (k0_h25 : k0_cond25 v3595 v3598 = 1#1), (Rect.unit (s := S12288x1536) (k0_off137 v3595 v3598) S128x1536.size (k0_off137_inb v1_0 k0_t6 v3595 v3598 k0_hw28 k0_h25)).WholeWords (EltTy.packing .bf16) := fun v1_0 k0_t6 v3595 v3598 k0_hw28 k0_h25 => k0_hw28.2.2.2.2.2.2.2.2.2.2.2.1 k0_h25 (k0_off137_inb v1_0 k0_t6 v3595 v3598 k0_hw28 k0_h25)
theorem k0_mult814_dvd : ∀ (v1_0 : BitVec 32) (k0_t6 : Fin (k0_t6_loop v1_0).trips) (v3595 : BitVec 32) (v3598 : BitVec 32) (k0_hw28 : k0_chk28 v1_0 k0_t6 v3595 v3598), 16 ∣ (k0_mult814 v3595 v3598).toNat := fun v1_0 k0_t6 v3595 v3598 k0_hw28 => k0_hw28.2.2.2.2.2.2.2.2.2.2.2.2.1
theorem k0_mult815_dvd : ∀ (v1_0 : BitVec 32) (k0_t6 : Fin (k0_t6_loop v1_0).trips) (v3595 : BitVec 32) (v3598 : BitVec 32) (k0_hw28 : k0_chk28 v1_0 k0_t6 v3595 v3598), 16 ∣ (k0_mult815 v3595 v3598).toNat := fun v1_0 k0_t6 v3595 v3598 k0_hw28 => k0_hw28.2.2.2.2.2.2.2.2.2.2.2.2.2.1
theorem k0_off139_inb : ∀ (v1_0 : BitVec 32) (k0_t6 : Fin (k0_t6_loop v1_0).trips) (v3595 : BitVec 32) (v3598 : BitVec 32) (k0_hw28 : k0_chk28 v1_0 k0_t6 v3595 v3598), ∀ (k0_h26 : k0_cond26 v3595 v3598 = 1#1), ∀ a, (k0_off139 v3595 v3598) a + S64x1536.size a ≤ S12288x1536.size a := fun v1_0 k0_t6 v3595 v3598 k0_hw28 k0_h26 => k0_hw28.2.2.2.2.2.2.2.2.2.2.2.2.2.2.1 k0_h26
theorem k0_off140_inb : ∀ (v1_0 : BitVec 32) (k0_t6 : Fin (k0_t6_loop v1_0).trips) (v3595 : BitVec 32) (v3598 : BitVec 32) (k0_hw28 : k0_chk28 v1_0 k0_t6 v3595 v3598), ∀ (k0_h26 : k0_cond26 v3595 v3598 = 1#1), ∀ a, (k0_off140 v1_0 k0_t6 v3595 v3598) a + S1x64x1536.size a ≤ S2x256x1536.size a := fun v1_0 k0_t6 v3595 v3598 k0_hw28 k0_h26 => k0_hw28.2.2.2.2.2.2.2.2.2.2.2.2.2.2.2.1 k0_h26
theorem k0_off140_wordsbf16 : ∀ (v1_0 : BitVec 32) (k0_t6 : Fin (k0_t6_loop v1_0).trips) (v3595 : BitVec 32) (v3598 : BitVec 32) (k0_hw28 : k0_chk28 v1_0 k0_t6 v3595 v3598), ∀ (k0_h26 : k0_cond26 v3595 v3598 = 1#1), (Rect.unit (s := S2x256x1536) (k0_off140 v1_0 k0_t6 v3595 v3598) S1x64x1536.size (k0_off140_inb v1_0 k0_t6 v3595 v3598 k0_hw28 k0_h26)).WholeWords (EltTy.packing .bf16) := fun v1_0 k0_t6 v3595 v3598 k0_hw28 k0_h26 => k0_hw28.2.2.2.2.2.2.2.2.2.2.2.2.2.2.2.2.1 k0_h26 (k0_off140_inb v1_0 k0_t6 v3595 v3598 k0_hw28 k0_h26)
theorem k0_off139_wordsbf16 : ∀ (v1_0 : BitVec 32) (k0_t6 : Fin (k0_t6_loop v1_0).trips) (v3595 : BitVec 32) (v3598 : BitVec 32) (k0_hw28 : k0_chk28 v1_0 k0_t6 v3595 v3598), ∀ (k0_h26 : k0_cond26 v3595 v3598 = 1#1), (Rect.unit (s := S12288x1536) (k0_off139 v3595 v3598) S64x1536.size (k0_off139_inb v1_0 k0_t6 v3595 v3598 k0_hw28 k0_h26)).WholeWords (EltTy.packing .bf16) := fun v1_0 k0_t6 v3595 v3598 k0_hw28 k0_h26 => k0_hw28.2.2.2.2.2.2.2.2.2.2.2.2.2.2.2.2.2.1 k0_h26 (k0_off139_inb v1_0 k0_t6 v3595 v3598 k0_hw28 k0_h26)
theorem k0_mult816_dvd : ∀ (v1_0 : BitVec 32) (k0_t6 : Fin (k0_t6_loop v1_0).trips) (v3595 : BitVec 32) (v3598 : BitVec 32) (k0_hw28 : k0_chk28 v1_0 k0_t6 v3595 v3598), 16 ∣ (k0_mult816 v3595 v3598).toNat := fun v1_0 k0_t6 v3595 v3598 k0_hw28 => k0_hw28.2.2.2.2.2.2.2.2.2.2.2.2.2.2.2.2.2.2.1
theorem k0_mult817_dvd : ∀ (v1_0 : BitVec 32) (k0_t6 : Fin (k0_t6_loop v1_0).trips) (v3595 : BitVec 32) (v3598 : BitVec 32) (k0_hw28 : k0_chk28 v1_0 k0_t6 v3595 v3598), 16 ∣ (k0_mult817 v3595 v3598).toNat := fun v1_0 k0_t6 v3595 v3598 k0_hw28 => k0_hw28.2.2.2.2.2.2.2.2.2.2.2.2.2.2.2.2.2.2.2.1
theorem k0_off141_inb : ∀ (v1_0 : BitVec 32) (k0_t6 : Fin (k0_t6_loop v1_0).trips) (v3595 : BitVec 32) (v3598 : BitVec 32) (k0_hw28 : k0_chk28 v1_0 k0_t6 v3595 v3598), ∀ (k0_h27 : k0_cond27 v3595 v3598 = 1#1), ∀ a, (k0_off141 v3595 v3598) a + S32x1536.size a ≤ S12288x1536.size a := fun v1_0 k0_t6 v3595 v3598 k0_hw28 k0_h27 => k0_hw28.2.2.2.2.2.2.2.2.2.2.2.2.2.2.2.2.2.2.2.2.1 k0_h27
theorem k0_off142_inb : ∀ (v1_0 : BitVec 32) (k0_t6 : Fin (k0_t6_loop v1_0).trips) (v3595 : BitVec 32) (v3598 : BitVec 32) (k0_hw28 : k0_chk28 v1_0 k0_t6 v3595 v3598), ∀ (k0_h27 : k0_cond27 v3595 v3598 = 1#1), ∀ a, (k0_off142 v1_0 k0_t6 v3595 v3598) a + S1x32x1536.size a ≤ S2x256x1536.size a := fun v1_0 k0_t6 v3595 v3598 k0_hw28 k0_h27 => k0_hw28.2.2.2.2.2.2.2.2.2.2.2.2.2.2.2.2.2.2.2.2.2.1 k0_h27
theorem k0_off142_wordsbf16 : ∀ (v1_0 : BitVec 32) (k0_t6 : Fin (k0_t6_loop v1_0).trips) (v3595 : BitVec 32) (v3598 : BitVec 32) (k0_hw28 : k0_chk28 v1_0 k0_t6 v3595 v3598), ∀ (k0_h27 : k0_cond27 v3595 v3598 = 1#1), (Rect.unit (s := S2x256x1536) (k0_off142 v1_0 k0_t6 v3595 v3598) S1x32x1536.size (k0_off142_inb v1_0 k0_t6 v3595 v3598 k0_hw28 k0_h27)).WholeWords (EltTy.packing .bf16) := fun v1_0 k0_t6 v3595 v3598 k0_hw28 k0_h27 => k0_hw28.2.2.2.2.2.2.2.2.2.2.2.2.2.2.2.2.2.2.2.2.2.2.1 k0_h27 (k0_off142_inb v1_0 k0_t6 v3595 v3598 k0_hw28 k0_h27)
theorem k0_off141_wordsbf16 : ∀ (v1_0 : BitVec 32) (k0_t6 : Fin (k0_t6_loop v1_0).trips) (v3595 : BitVec 32) (v3598 : BitVec 32) (k0_hw28 : k0_chk28 v1_0 k0_t6 v3595 v3598), ∀ (k0_h27 : k0_cond27 v3595 v3598 = 1#1), (Rect.unit (s := S12288x1536) (k0_off141 v3595 v3598) S32x1536.size (k0_off141_inb v1_0 k0_t6 v3595 v3598 k0_hw28 k0_h27)).WholeWords (EltTy.packing .bf16) := fun v1_0 k0_t6 v3595 v3598 k0_hw28 k0_h27 => k0_hw28.2.2.2.2.2.2.2.2.2.2.2.2.2.2.2.2.2.2.2.2.2.2.2.1 k0_h27 (k0_off141_inb v1_0 k0_t6 v3595 v3598 k0_hw28 k0_h27)
theorem k0_mult818_dvd : ∀ (v1_0 : BitVec 32) (k0_t6 : Fin (k0_t6_loop v1_0).trips) (v3595 : BitVec 32) (v3598 : BitVec 32) (k0_hw28 : k0_chk28 v1_0 k0_t6 v3595 v3598), 16 ∣ (k0_mult818 v3595 v3598).toNat := fun v1_0 k0_t6 v3595 v3598 k0_hw28 => k0_hw28.2.2.2.2.2.2.2.2.2.2.2.2.2.2.2.2.2.2.2.2.2.2.2.2.1
theorem k0_mult819_dvd : ∀ (v1_0 : BitVec 32) (k0_t6 : Fin (k0_t6_loop v1_0).trips) (v3595 : BitVec 32) (v3598 : BitVec 32) (k0_hw28 : k0_chk28 v1_0 k0_t6 v3595 v3598), 16 ∣ (k0_mult819 v3595 v3598).toNat := fun v1_0 k0_t6 v3595 v3598 k0_hw28 => k0_hw28.2.2.2.2.2.2.2.2.2.2.2.2.2.2.2.2.2.2.2.2.2.2.2.2.2.1
theorem k0_off143_inb : ∀ (v1_0 : BitVec 32) (k0_t6 : Fin (k0_t6_loop v1_0).trips) (v3595 : BitVec 32) (v3598 : BitVec 32) (k0_hw28 : k0_chk28 v1_0 k0_t6 v3595 v3598), ∀ (k0_h28 : k0_cond28 v3595 v3598 = 1#1), ∀ a, (k0_off143 v3595 v3598) a + S16x1536.size a ≤ S12288x1536.size a := fun v1_0 k0_t6 v3595 v3598 k0_hw28 k0_h28 => k0_hw28.2.2.2.2.2.2.2.2.2.2.2.2.2.2.2.2.2.2.2.2.2.2.2.2.2.2.1 k0_h28
theorem k0_off144_inb : ∀ (v1_0 : BitVec 32) (k0_t6 : Fin (k0_t6_loop v1_0).trips) (v3595 : BitVec 32) (v3598 : BitVec 32) (k0_hw28 : k0_chk28 v1_0 k0_t6 v3595 v3598), ∀ (k0_h28 : k0_cond28 v3595 v3598 = 1#1), ∀ a, (k0_off144 v1_0 k0_t6 v3595 v3598) a + S1x16x1536.size a ≤ S2x256x1536.size a := fun v1_0 k0_t6 v3595 v3598 k0_hw28 k0_h28 => k0_hw28.2.2.2.2.2.2.2.2.2.2.2.2.2.2.2.2.2.2.2.2.2.2.2.2.2.2.2.1 k0_h28
theorem k0_off144_wordsbf16 : ∀ (v1_0 : BitVec 32) (k0_t6 : Fin (k0_t6_loop v1_0).trips) (v3595 : BitVec 32) (v3598 : BitVec 32) (k0_hw28 : k0_chk28 v1_0 k0_t6 v3595 v3598), ∀ (k0_h28 : k0_cond28 v3595 v3598 = 1#1), (Rect.unit (s := S2x256x1536) (k0_off144 v1_0 k0_t6 v3595 v3598) S1x16x1536.size (k0_off144_inb v1_0 k0_t6 v3595 v3598 k0_hw28 k0_h28)).WholeWords (EltTy.packing .bf16) := fun v1_0 k0_t6 v3595 v3598 k0_hw28 k0_h28 => k0_hw28.2.2.2.2.2.2.2.2.2.2.2.2.2.2.2.2.2.2.2.2.2.2.2.2.2.2.2.2.1 k0_h28 (k0_off144_inb v1_0 k0_t6 v3595 v3598 k0_hw28 k0_h28)
theorem k0_off143_wordsbf16 : ∀ (v1_0 : BitVec 32) (k0_t6 : Fin (k0_t6_loop v1_0).trips) (v3595 : BitVec 32) (v3598 : BitVec 32) (k0_hw28 : k0_chk28 v1_0 k0_t6 v3595 v3598), ∀ (k0_h28 : k0_cond28 v3595 v3598 = 1#1), (Rect.unit (s := S12288x1536) (k0_off143 v3595 v3598) S16x1536.size (k0_off143_inb v1_0 k0_t6 v3595 v3598 k0_hw28 k0_h28)).WholeWords (EltTy.packing .bf16) := fun v1_0 k0_t6 v3595 v3598 k0_hw28 k0_h28 => k0_hw28.2.2.2.2.2.2.2.2.2.2.2.2.2.2.2.2.2.2.2.2.2.2.2.2.2.2.2.2.2 k0_h28 (k0_off143_inb v1_0 k0_t6 v3595 v3598 k0_hw28 k0_h28)

def k0_off145 (v1_0 : BitVec 32) : Fin 1 → Nat :=
  let c1_i32_18 : BitVec 32 := 1#32
  let v22 : BitVec 32 := Scalar.subi v1_0 c1_i32_18
  let v23 : Index := Scalar.indexCast v22
  ![v23.toNat]

def k0_chk6_0 (v1_0 : BitVec 32) : Prop :=
  ((k0_t4_loop v1_0).OK) ∧
  (∀ k0_t4 : Fin (k0_t4_loop v1_0).trips, ∀ (k0_h1 : k0_cond1 v1_0 k0_t4 = 1#1), ∀ a, (k0_off7 v1_0 k0_t4) a + S1.size a ≤ S64.size a) ∧
  (∀ k0_t4 : Fin (k0_t4_loop v1_0).trips, ∀ (k0_h1 : k0_cond1 v1_0 k0_t4 = 1#1), ∀ a, (k0_off8 v1_0 k0_t4) a + S1.size a ≤ S2.size a) ∧
  (∀ k0_t4 : Fin (k0_t4_loop v1_0).trips, ∀ (k0_h1 : k0_cond1 v1_0 k0_t4 = 1#1), ∀ a, (k0_off9 v1_0 k0_t4) a + S1x256x3072.size a ≤ S2x256x3072.size a) ∧
  (∀ k0_t4 : Fin (k0_t4_loop v1_0).trips, ∀ (k0_h1 : k0_cond1 v1_0 k0_t4 = 1#1), ∀ (hinb : ∀ a, (k0_off9 v1_0 k0_t4) a + S1x256x3072.size a ≤ S2x256x3072.size a), (Rect.unit (s := S2x256x3072) (k0_off9 v1_0 k0_t4) S1x256x3072.size hinb).WholeWords (EltTy.packing .bf16)) ∧
  (∀ k0_t4 : Fin (k0_t4_loop v1_0).trips, ∀ a, (k0_off11 v1_0 k0_t4) a + S1.size a ≤ S64.size a) ∧
  (∀ k0_t4 : Fin (k0_t4_loop v1_0).trips, ∀ a, (k0_off21 v1_0 k0_t4) a + S1.size a ≤ S64.size a) ∧
  (∀ k0_t4 : Fin (k0_t4_loop v1_0).trips, ∀ a, (k0_off22 v1_0 k0_t4) a + S1.size a ≤ S2.size a) ∧
  (∀ k0_t4 : Fin (k0_t4_loop v1_0).trips, ∀ a, (k0_off23 v1_0 k0_t4) a + S1x256x3072.size a ≤ S2x256x3072.size a) ∧
  (∀ k0_t4 : Fin (k0_t4_loop v1_0).trips, ∀ (hinb : ∀ a, (k0_off23 v1_0 k0_t4) a + S1x256x3072.size a ≤ S2x256x3072.size a), (Rect.unit (s := S2x256x3072) (k0_off23 v1_0 k0_t4) S1x256x3072.size hinb).WholeWords (EltTy.packing .bf16)) ∧
  (∀ k0_t4 : Fin (k0_t4_loop v1_0).trips, ∀ a, (k0_off25 v1_0 k0_t4) a + S1.size a ≤ S64.size a) ∧
  (∀ k0_t4 : Fin (k0_t4_loop v1_0).trips, ∀ a, (k0_off50 v1_0 k0_t4) a + S1x256x1536.size a ≤ S2x256x1536.size a) ∧
  (∀ k0_t4 : Fin (k0_t4_loop v1_0).trips, ∀ (hinb : ∀ a, (k0_off50 v1_0 k0_t4) a + S1x256x1536.size a ≤ S2x256x1536.size a), (Rect.unit (s := S2x256x1536) (k0_off50 v1_0 k0_t4) S1x256x1536.size hinb).PackedRows (EltTy.packing .bf16)) ∧
  (∀ k0_t4 : Fin (k0_t4_loop v1_0).trips, ∀ a, (k0_off51 v1_0 k0_t4) a + S1.size a ≤ S64.size a) ∧
  (∀ k0_t4 : Fin (k0_t4_loop v1_0).trips, ∀ a, (k0_off52 v1_0 k0_t4) a + S1x16x1536.size a ≤ S2x256x1536.size a) ∧
  (∀ k0_t4 : Fin (k0_t4_loop v1_0).trips, ∀ (hinb : ∀ a, (k0_off52 v1_0 k0_t4) a + S1x16x1536.size a ≤ S2x256x1536.size a), (Rect.unit (s := S2x256x1536) (k0_off52 v1_0 k0_t4) S1x16x1536.size hinb).PackedRows (EltTy.packing .bf16)) ∧
  (∀ k0_t4 : Fin (k0_t4_loop v1_0).trips, ∀ (k0_h4 : k0_cond4 v1_0 k0_t4 = 1#1), ∀ a, (k0_off54 v1_0 k0_t4) a + S1.size a ≤ S64.size a) ∧
  (∀ k0_t4 : Fin (k0_t4_loop v1_0).trips, ∀ a, (k0_off65 v1_0 k0_t4) a + S1.size a ≤ S64.size a) ∧
  ((k0_t6_loop v1_0).OK) ∧
  (∀ k0_t6 : Fin (k0_t6_loop v1_0).trips, ∀ (k0_h15 : k0_cond15 v1_0 k0_t6 = 1#1), ∀ a, (k0_off76 v1_0 k0_t6) a + S1.size a ≤ S64.size a) ∧
  (∀ k0_t6 : Fin (k0_t6_loop v1_0).trips, ∀ (k0_h15 : k0_cond15 v1_0 k0_t6 = 1#1), ∀ a, (k0_off77 v1_0 k0_t6) a + S1.size a ≤ S2.size a) ∧
  (∀ k0_t6 : Fin (k0_t6_loop v1_0).trips, ∀ (k0_h15 : k0_cond15 v1_0 k0_t6 = 1#1), ∀ a, (k0_off78 v1_0 k0_t6) a + S1x256x3072.size a ≤ S2x256x3072.size a) ∧
  (∀ k0_t6 : Fin (k0_t6_loop v1_0).trips, ∀ (k0_h15 : k0_cond15 v1_0 k0_t6 = 1#1), ∀ (hinb : ∀ a, (k0_off78 v1_0 k0_t6) a + S1x256x3072.size a ≤ S2x256x3072.size a), (Rect.unit (s := S2x256x3072) (k0_off78 v1_0 k0_t6) S1x256x3072.size hinb).WholeWords (EltTy.packing .bf16)) ∧
  (∀ k0_t6 : Fin (k0_t6_loop v1_0).trips, ∀ a, (k0_off80 v1_0 k0_t6) a + S1.size a ≤ S64.size a) ∧
  (∀ k0_t6 : Fin (k0_t6_loop v1_0).trips, ∀ a, (k0_off90 v1_0 k0_t6) a + S1.size a ≤ S64.size a) ∧
  (∀ k0_t6 : Fin (k0_t6_loop v1_0).trips, ∀ a, (k0_off91 v1_0 k0_t6) a + S1.size a ≤ S2.size a) ∧
  (∀ k0_t6 : Fin (k0_t6_loop v1_0).trips, ∀ a, (k0_off92 v1_0 k0_t6) a + S1x256x3072.size a ≤ S2x256x3072.size a) ∧
  (∀ k0_t6 : Fin (k0_t6_loop v1_0).trips, ∀ (hinb : ∀ a, (k0_off92 v1_0 k0_t6) a + S1x256x3072.size a ≤ S2x256x3072.size a), (Rect.unit (s := S2x256x3072) (k0_off92 v1_0 k0_t6) S1x256x3072.size hinb).WholeWords (EltTy.packing .bf16)) ∧
  (∀ k0_t6 : Fin (k0_t6_loop v1_0).trips, ∀ a, (k0_off94 v1_0 k0_t6) a + S1.size a ≤ S64.size a) ∧
  (∀ k0_t6 : Fin (k0_t6_loop v1_0).trips, ∀ a, (k0_off119 v1_0 k0_t6) a + S1x256x1536.size a ≤ S2x256x1536.size a) ∧
  (∀ k0_t6 : Fin (k0_t6_loop v1_0).trips, ∀ (hinb : ∀ a, (k0_off119 v1_0 k0_t6) a + S1x256x1536.size a ≤ S2x256x1536.size a), (Rect.unit (s := S2x256x1536) (k0_off119 v1_0 k0_t6) S1x256x1536.size hinb).PackedRows (EltTy.packing .bf16)) ∧
  (∀ k0_t6 : Fin (k0_t6_loop v1_0).trips, ∀ a, (k0_off120 v1_0 k0_t6) a + S1.size a ≤ S64.size a)
def k0_chk6_1 (v1_0 : BitVec 32) : Prop :=
  (∀ k0_t6 : Fin (k0_t6_loop v1_0).trips, ∀ a, (k0_off121 v1_0 k0_t6) a + S1x16x1536.size a ≤ S2x256x1536.size a) ∧
  (∀ k0_t6 : Fin (k0_t6_loop v1_0).trips, ∀ (hinb : ∀ a, (k0_off121 v1_0 k0_t6) a + S1x16x1536.size a ≤ S2x256x1536.size a), (Rect.unit (s := S2x256x1536) (k0_off121 v1_0 k0_t6) S1x16x1536.size hinb).PackedRows (EltTy.packing .bf16)) ∧
  (∀ k0_t6 : Fin (k0_t6_loop v1_0).trips, ∀ (k0_h18 : k0_cond18 v1_0 k0_t6 = 1#1), ∀ a, (k0_off123 v1_0 k0_t6) a + S1.size a ≤ S64.size a) ∧
  (∀ k0_t6 : Fin (k0_t6_loop v1_0).trips, ∀ a, (k0_off134 v1_0 k0_t6) a + S1.size a ≤ S64.size a) ∧
  (∀ a, (k0_off145 v1_0) a + S1.size a ≤ S64.size a)
def k0_chk6 (v1_0 : BitVec 32) : Prop :=
  k0_chk6_0 v1_0 ∧
  k0_chk6_1 v1_0
theorem k0_t4_ok : ∀ (v1_0 : BitVec 32) (k0_hw6 : k0_chk6 v1_0), (k0_t4_loop v1_0).OK := fun v1_0 k0_hw6 => k0_hw6.1.1
theorem k0_off7_inb : ∀ (v1_0 : BitVec 32) (k0_hw6 : k0_chk6 v1_0) (k0_t4 : Fin (k0_t4_loop v1_0).trips), ∀ (k0_h1 : k0_cond1 v1_0 k0_t4 = 1#1), ∀ a, (k0_off7 v1_0 k0_t4) a + S1.size a ≤ S64.size a := fun v1_0 k0_hw6 k0_t4 k0_h1 => k0_hw6.1.2.1 k0_t4 k0_h1
theorem k0_off8_inb : ∀ (v1_0 : BitVec 32) (k0_hw6 : k0_chk6 v1_0) (k0_t4 : Fin (k0_t4_loop v1_0).trips), ∀ (k0_h1 : k0_cond1 v1_0 k0_t4 = 1#1), ∀ a, (k0_off8 v1_0 k0_t4) a + S1.size a ≤ S2.size a := fun v1_0 k0_hw6 k0_t4 k0_h1 => k0_hw6.1.2.2.1 k0_t4 k0_h1
theorem k0_off9_inb : ∀ (v1_0 : BitVec 32) (k0_hw6 : k0_chk6 v1_0) (k0_t4 : Fin (k0_t4_loop v1_0).trips), ∀ (k0_h1 : k0_cond1 v1_0 k0_t4 = 1#1), ∀ a, (k0_off9 v1_0 k0_t4) a + S1x256x3072.size a ≤ S2x256x3072.size a := fun v1_0 k0_hw6 k0_t4 k0_h1 => k0_hw6.1.2.2.2.1 k0_t4 k0_h1
theorem k0_off9_wordsbf16 : ∀ (v1_0 : BitVec 32) (k0_hw6 : k0_chk6 v1_0) (k0_t4 : Fin (k0_t4_loop v1_0).trips), ∀ (k0_h1 : k0_cond1 v1_0 k0_t4 = 1#1), (Rect.unit (s := S2x256x3072) (k0_off9 v1_0 k0_t4) S1x256x3072.size (k0_off9_inb v1_0 k0_hw6 k0_t4 k0_h1)).WholeWords (EltTy.packing .bf16) := fun v1_0 k0_hw6 k0_t4 k0_h1 => k0_hw6.1.2.2.2.2.1 k0_t4 k0_h1 (k0_off9_inb v1_0 k0_hw6 k0_t4 k0_h1)
theorem k0_off11_inb : ∀ (v1_0 : BitVec 32) (k0_hw6 : k0_chk6 v1_0) (k0_t4 : Fin (k0_t4_loop v1_0).trips), ∀ a, (k0_off11 v1_0 k0_t4) a + S1.size a ≤ S64.size a := fun v1_0 k0_hw6 k0_t4 => k0_hw6.1.2.2.2.2.2.1 k0_t4
theorem k0_off21_inb : ∀ (v1_0 : BitVec 32) (k0_hw6 : k0_chk6 v1_0) (k0_t4 : Fin (k0_t4_loop v1_0).trips), ∀ a, (k0_off21 v1_0 k0_t4) a + S1.size a ≤ S64.size a := fun v1_0 k0_hw6 k0_t4 => k0_hw6.1.2.2.2.2.2.2.1 k0_t4
theorem k0_off22_inb : ∀ (v1_0 : BitVec 32) (k0_hw6 : k0_chk6 v1_0) (k0_t4 : Fin (k0_t4_loop v1_0).trips), ∀ a, (k0_off22 v1_0 k0_t4) a + S1.size a ≤ S2.size a := fun v1_0 k0_hw6 k0_t4 => k0_hw6.1.2.2.2.2.2.2.2.1 k0_t4
theorem k0_off23_inb : ∀ (v1_0 : BitVec 32) (k0_hw6 : k0_chk6 v1_0) (k0_t4 : Fin (k0_t4_loop v1_0).trips), ∀ a, (k0_off23 v1_0 k0_t4) a + S1x256x3072.size a ≤ S2x256x3072.size a := fun v1_0 k0_hw6 k0_t4 => k0_hw6.1.2.2.2.2.2.2.2.2.1 k0_t4
theorem k0_off23_wordsbf16 : ∀ (v1_0 : BitVec 32) (k0_hw6 : k0_chk6 v1_0) (k0_t4 : Fin (k0_t4_loop v1_0).trips), (Rect.unit (s := S2x256x3072) (k0_off23 v1_0 k0_t4) S1x256x3072.size (k0_off23_inb v1_0 k0_hw6 k0_t4)).WholeWords (EltTy.packing .bf16) := fun v1_0 k0_hw6 k0_t4 => k0_hw6.1.2.2.2.2.2.2.2.2.2.1 k0_t4 (k0_off23_inb v1_0 k0_hw6 k0_t4)
theorem k0_off25_inb : ∀ (v1_0 : BitVec 32) (k0_hw6 : k0_chk6 v1_0) (k0_t4 : Fin (k0_t4_loop v1_0).trips), ∀ a, (k0_off25 v1_0 k0_t4) a + S1.size a ≤ S64.size a := fun v1_0 k0_hw6 k0_t4 => k0_hw6.1.2.2.2.2.2.2.2.2.2.2.1 k0_t4
theorem k0_off50_inb : ∀ (v1_0 : BitVec 32) (k0_hw6 : k0_chk6 v1_0) (k0_t4 : Fin (k0_t4_loop v1_0).trips), ∀ a, (k0_off50 v1_0 k0_t4) a + S1x256x1536.size a ≤ S2x256x1536.size a := fun v1_0 k0_hw6 k0_t4 => k0_hw6.1.2.2.2.2.2.2.2.2.2.2.2.1 k0_t4
theorem k0_off50_packedbf16 : ∀ (v1_0 : BitVec 32) (k0_hw6 : k0_chk6 v1_0) (k0_t4 : Fin (k0_t4_loop v1_0).trips), (Rect.unit (s := S2x256x1536) (k0_off50 v1_0 k0_t4) S1x256x1536.size (k0_off50_inb v1_0 k0_hw6 k0_t4)).PackedRows (EltTy.packing .bf16) := fun v1_0 k0_hw6 k0_t4 => k0_hw6.1.2.2.2.2.2.2.2.2.2.2.2.2.1 k0_t4 (k0_off50_inb v1_0 k0_hw6 k0_t4)
theorem k0_off51_inb : ∀ (v1_0 : BitVec 32) (k0_hw6 : k0_chk6 v1_0) (k0_t4 : Fin (k0_t4_loop v1_0).trips), ∀ a, (k0_off51 v1_0 k0_t4) a + S1.size a ≤ S64.size a := fun v1_0 k0_hw6 k0_t4 => k0_hw6.1.2.2.2.2.2.2.2.2.2.2.2.2.2.1 k0_t4
theorem k0_off52_inb : ∀ (v1_0 : BitVec 32) (k0_hw6 : k0_chk6 v1_0) (k0_t4 : Fin (k0_t4_loop v1_0).trips), ∀ a, (k0_off52 v1_0 k0_t4) a + S1x16x1536.size a ≤ S2x256x1536.size a := fun v1_0 k0_hw6 k0_t4 => k0_hw6.1.2.2.2.2.2.2.2.2.2.2.2.2.2.2.1 k0_t4
theorem k0_off52_packedbf16 : ∀ (v1_0 : BitVec 32) (k0_hw6 : k0_chk6 v1_0) (k0_t4 : Fin (k0_t4_loop v1_0).trips), (Rect.unit (s := S2x256x1536) (k0_off52 v1_0 k0_t4) S1x16x1536.size (k0_off52_inb v1_0 k0_hw6 k0_t4)).PackedRows (EltTy.packing .bf16) := fun v1_0 k0_hw6 k0_t4 => k0_hw6.1.2.2.2.2.2.2.2.2.2.2.2.2.2.2.2.1 k0_t4 (k0_off52_inb v1_0 k0_hw6 k0_t4)
theorem k0_off54_inb : ∀ (v1_0 : BitVec 32) (k0_hw6 : k0_chk6 v1_0) (k0_t4 : Fin (k0_t4_loop v1_0).trips), ∀ (k0_h4 : k0_cond4 v1_0 k0_t4 = 1#1), ∀ a, (k0_off54 v1_0 k0_t4) a + S1.size a ≤ S64.size a := fun v1_0 k0_hw6 k0_t4 k0_h4 => k0_hw6.1.2.2.2.2.2.2.2.2.2.2.2.2.2.2.2.2.1 k0_t4 k0_h4
theorem k0_off65_inb : ∀ (v1_0 : BitVec 32) (k0_hw6 : k0_chk6 v1_0) (k0_t4 : Fin (k0_t4_loop v1_0).trips), ∀ a, (k0_off65 v1_0 k0_t4) a + S1.size a ≤ S64.size a := fun v1_0 k0_hw6 k0_t4 => k0_hw6.1.2.2.2.2.2.2.2.2.2.2.2.2.2.2.2.2.2.1 k0_t4
theorem k0_t6_ok : ∀ (v1_0 : BitVec 32) (k0_hw6 : k0_chk6 v1_0), (k0_t6_loop v1_0).OK := fun v1_0 k0_hw6 => k0_hw6.1.2.2.2.2.2.2.2.2.2.2.2.2.2.2.2.2.2.2.1
theorem k0_off76_inb : ∀ (v1_0 : BitVec 32) (k0_hw6 : k0_chk6 v1_0) (k0_t6 : Fin (k0_t6_loop v1_0).trips), ∀ (k0_h15 : k0_cond15 v1_0 k0_t6 = 1#1), ∀ a, (k0_off76 v1_0 k0_t6) a + S1.size a ≤ S64.size a := fun v1_0 k0_hw6 k0_t6 k0_h15 => k0_hw6.1.2.2.2.2.2.2.2.2.2.2.2.2.2.2.2.2.2.2.2.1 k0_t6 k0_h15
theorem k0_off77_inb : ∀ (v1_0 : BitVec 32) (k0_hw6 : k0_chk6 v1_0) (k0_t6 : Fin (k0_t6_loop v1_0).trips), ∀ (k0_h15 : k0_cond15 v1_0 k0_t6 = 1#1), ∀ a, (k0_off77 v1_0 k0_t6) a + S1.size a ≤ S2.size a := fun v1_0 k0_hw6 k0_t6 k0_h15 => k0_hw6.1.2.2.2.2.2.2.2.2.2.2.2.2.2.2.2.2.2.2.2.2.1 k0_t6 k0_h15
theorem k0_off78_inb : ∀ (v1_0 : BitVec 32) (k0_hw6 : k0_chk6 v1_0) (k0_t6 : Fin (k0_t6_loop v1_0).trips), ∀ (k0_h15 : k0_cond15 v1_0 k0_t6 = 1#1), ∀ a, (k0_off78 v1_0 k0_t6) a + S1x256x3072.size a ≤ S2x256x3072.size a := fun v1_0 k0_hw6 k0_t6 k0_h15 => k0_hw6.1.2.2.2.2.2.2.2.2.2.2.2.2.2.2.2.2.2.2.2.2.2.1 k0_t6 k0_h15
theorem k0_off78_wordsbf16 : ∀ (v1_0 : BitVec 32) (k0_hw6 : k0_chk6 v1_0) (k0_t6 : Fin (k0_t6_loop v1_0).trips), ∀ (k0_h15 : k0_cond15 v1_0 k0_t6 = 1#1), (Rect.unit (s := S2x256x3072) (k0_off78 v1_0 k0_t6) S1x256x3072.size (k0_off78_inb v1_0 k0_hw6 k0_t6 k0_h15)).WholeWords (EltTy.packing .bf16) := fun v1_0 k0_hw6 k0_t6 k0_h15 => k0_hw6.1.2.2.2.2.2.2.2.2.2.2.2.2.2.2.2.2.2.2.2.2.2.2.1 k0_t6 k0_h15 (k0_off78_inb v1_0 k0_hw6 k0_t6 k0_h15)
theorem k0_off80_inb : ∀ (v1_0 : BitVec 32) (k0_hw6 : k0_chk6 v1_0) (k0_t6 : Fin (k0_t6_loop v1_0).trips), ∀ a, (k0_off80 v1_0 k0_t6) a + S1.size a ≤ S64.size a := fun v1_0 k0_hw6 k0_t6 => k0_hw6.1.2.2.2.2.2.2.2.2.2.2.2.2.2.2.2.2.2.2.2.2.2.2.2.1 k0_t6
theorem k0_off90_inb : ∀ (v1_0 : BitVec 32) (k0_hw6 : k0_chk6 v1_0) (k0_t6 : Fin (k0_t6_loop v1_0).trips), ∀ a, (k0_off90 v1_0 k0_t6) a + S1.size a ≤ S64.size a := fun v1_0 k0_hw6 k0_t6 => k0_hw6.1.2.2.2.2.2.2.2.2.2.2.2.2.2.2.2.2.2.2.2.2.2.2.2.2.1 k0_t6
theorem k0_off91_inb : ∀ (v1_0 : BitVec 32) (k0_hw6 : k0_chk6 v1_0) (k0_t6 : Fin (k0_t6_loop v1_0).trips), ∀ a, (k0_off91 v1_0 k0_t6) a + S1.size a ≤ S2.size a := fun v1_0 k0_hw6 k0_t6 => k0_hw6.1.2.2.2.2.2.2.2.2.2.2.2.2.2.2.2.2.2.2.2.2.2.2.2.2.2.1 k0_t6
theorem k0_off92_inb : ∀ (v1_0 : BitVec 32) (k0_hw6 : k0_chk6 v1_0) (k0_t6 : Fin (k0_t6_loop v1_0).trips), ∀ a, (k0_off92 v1_0 k0_t6) a + S1x256x3072.size a ≤ S2x256x3072.size a := fun v1_0 k0_hw6 k0_t6 => k0_hw6.1.2.2.2.2.2.2.2.2.2.2.2.2.2.2.2.2.2.2.2.2.2.2.2.2.2.2.1 k0_t6
theorem k0_off92_wordsbf16 : ∀ (v1_0 : BitVec 32) (k0_hw6 : k0_chk6 v1_0) (k0_t6 : Fin (k0_t6_loop v1_0).trips), (Rect.unit (s := S2x256x3072) (k0_off92 v1_0 k0_t6) S1x256x3072.size (k0_off92_inb v1_0 k0_hw6 k0_t6)).WholeWords (EltTy.packing .bf16) := fun v1_0 k0_hw6 k0_t6 => k0_hw6.1.2.2.2.2.2.2.2.2.2.2.2.2.2.2.2.2.2.2.2.2.2.2.2.2.2.2.2.1 k0_t6 (k0_off92_inb v1_0 k0_hw6 k0_t6)
theorem k0_off94_inb : ∀ (v1_0 : BitVec 32) (k0_hw6 : k0_chk6 v1_0) (k0_t6 : Fin (k0_t6_loop v1_0).trips), ∀ a, (k0_off94 v1_0 k0_t6) a + S1.size a ≤ S64.size a := fun v1_0 k0_hw6 k0_t6 => k0_hw6.1.2.2.2.2.2.2.2.2.2.2.2.2.2.2.2.2.2.2.2.2.2.2.2.2.2.2.2.2.1 k0_t6
theorem k0_off119_inb : ∀ (v1_0 : BitVec 32) (k0_hw6 : k0_chk6 v1_0) (k0_t6 : Fin (k0_t6_loop v1_0).trips), ∀ a, (k0_off119 v1_0 k0_t6) a + S1x256x1536.size a ≤ S2x256x1536.size a := fun v1_0 k0_hw6 k0_t6 => k0_hw6.1.2.2.2.2.2.2.2.2.2.2.2.2.2.2.2.2.2.2.2.2.2.2.2.2.2.2.2.2.2.1 k0_t6
theorem k0_off119_packedbf16 : ∀ (v1_0 : BitVec 32) (k0_hw6 : k0_chk6 v1_0) (k0_t6 : Fin (k0_t6_loop v1_0).trips), (Rect.unit (s := S2x256x1536) (k0_off119 v1_0 k0_t6) S1x256x1536.size (k0_off119_inb v1_0 k0_hw6 k0_t6)).PackedRows (EltTy.packing .bf16) := fun v1_0 k0_hw6 k0_t6 => k0_hw6.1.2.2.2.2.2.2.2.2.2.2.2.2.2.2.2.2.2.2.2.2.2.2.2.2.2.2.2.2.2.2.1 k0_t6 (k0_off119_inb v1_0 k0_hw6 k0_t6)
theorem k0_off120_inb : ∀ (v1_0 : BitVec 32) (k0_hw6 : k0_chk6 v1_0) (k0_t6 : Fin (k0_t6_loop v1_0).trips), ∀ a, (k0_off120 v1_0 k0_t6) a + S1.size a ≤ S64.size a := fun v1_0 k0_hw6 k0_t6 => k0_hw6.1.2.2.2.2.2.2.2.2.2.2.2.2.2.2.2.2.2.2.2.2.2.2.2.2.2.2.2.2.2.2.2 k0_t6
theorem k0_off121_inb : ∀ (v1_0 : BitVec 32) (k0_hw6 : k0_chk6 v1_0) (k0_t6 : Fin (k0_t6_loop v1_0).trips), ∀ a, (k0_off121 v1_0 k0_t6) a + S1x16x1536.size a ≤ S2x256x1536.size a := fun v1_0 k0_hw6 k0_t6 => k0_hw6.2.1 k0_t6
theorem k0_off121_packedbf16 : ∀ (v1_0 : BitVec 32) (k0_hw6 : k0_chk6 v1_0) (k0_t6 : Fin (k0_t6_loop v1_0).trips), (Rect.unit (s := S2x256x1536) (k0_off121 v1_0 k0_t6) S1x16x1536.size (k0_off121_inb v1_0 k0_hw6 k0_t6)).PackedRows (EltTy.packing .bf16) := fun v1_0 k0_hw6 k0_t6 => k0_hw6.2.2.1 k0_t6 (k0_off121_inb v1_0 k0_hw6 k0_t6)
theorem k0_off123_inb : ∀ (v1_0 : BitVec 32) (k0_hw6 : k0_chk6 v1_0) (k0_t6 : Fin (k0_t6_loop v1_0).trips), ∀ (k0_h18 : k0_cond18 v1_0 k0_t6 = 1#1), ∀ a, (k0_off123 v1_0 k0_t6) a + S1.size a ≤ S64.size a := fun v1_0 k0_hw6 k0_t6 k0_h18 => k0_hw6.2.2.2.1 k0_t6 k0_h18
theorem k0_off134_inb : ∀ (v1_0 : BitVec 32) (k0_hw6 : k0_chk6 v1_0) (k0_t6 : Fin (k0_t6_loop v1_0).trips), ∀ a, (k0_off134 v1_0 k0_t6) a + S1.size a ≤ S64.size a := fun v1_0 k0_hw6 k0_t6 => k0_hw6.2.2.2.2.1 k0_t6
theorem k0_off145_inb : ∀ (v1_0 : BitVec 32) (k0_hw6 : k0_chk6 v1_0), ∀ a, (k0_off145 v1_0) a + S1.size a ≤ S64.size a := fun v1_0 k0_hw6 => k0_hw6.2.2.2.2.2

def k0_mult820 (v24 : BitVec 32) (v27 : BitVec 32) : BitVec 32 :=
  let v28 : BitVec 32 := Scalar.subi v27 v24
  let c16_i32 : BitVec 32 := 16#32
  let v29 : BitVec 32 := Scalar.addi v28 c16_i32
  let c1_i32_20 : BitVec 32 := 1#32
  let v30 : BitVec 32 := Scalar.subi v29 c1_i32_20
  let c_m16_i32 : BitVec 32 := 4294967280#32
  let v31 : BitVec 32 := Scalar.andi v30 c_m16_i32
  let c_m512_i32 : BitVec 32 := 4294966784#32
  let v32 : BitVec 32 := Scalar.andi v31 c_m512_i32
  v32

def k0_mult821 (v24 : BitVec 32) (v27 : BitVec 32) : BitVec 32 :=
  let v28 : BitVec 32 := Scalar.subi v27 v24
  let c16_i32 : BitVec 32 := 16#32
  let v29 : BitVec 32 := Scalar.addi v28 c16_i32
  let c1_i32_20 : BitVec 32 := 1#32
  let v30 : BitVec 32 := Scalar.subi v29 c1_i32_20
  let c_m16_i32 : BitVec 32 := 4294967280#32
  let v31 : BitVec 32 := Scalar.andi v30 c_m16_i32
  let c_m512_i32 : BitVec 32 := 4294966784#32
  let v32 : BitVec 32 := Scalar.andi v31 c_m512_i32
  let v33 : BitVec 32 := v32
  let v34 : BitVec 32 := Scalar.addi v24 v33
  v34
def k0_off146 (v24 : BitVec 32) (v27 : BitVec 32) : Fin 2 → Nat :=
  let v28 : BitVec 32 := Scalar.subi v27 v24
  let c16_i32 : BitVec 32 := 16#32
  let v29 : BitVec 32 := Scalar.addi v28 c16_i32
  let c1_i32_20 : BitVec 32 := 1#32
  let v30 : BitVec 32 := Scalar.subi v29 c1_i32_20
  let c_m16_i32 : BitVec 32 := 4294967280#32
  let v31 : BitVec 32 := Scalar.andi v30 c_m16_i32
  let c_m512_i32 : BitVec 32 := 4294966784#32
  let v32 : BitVec 32 := Scalar.andi v31 c_m512_i32
  let v33 : BitVec 32 := v32
  let v34 : BitVec 32 := Scalar.addi v24 v33
  let v35 : BitVec 32 := v34
  let c0_i32_32 : BitVec 32 := 0#32
  ![v35.toNat, 0]
def k0_cond29 (v24 : BitVec 32) (v27 : BitVec 32) : BitVec 1 :=
  let v28 : BitVec 32 := Scalar.subi v27 v24
  let c16_i32 : BitVec 32 := 16#32
  let v29 : BitVec 32 := Scalar.addi v28 c16_i32
  let c1_i32_20 : BitVec 32 := 1#32
  let v30 : BitVec 32 := Scalar.subi v29 c1_i32_20
  let c_m16_i32 : BitVec 32 := 4294967280#32
  let v31 : BitVec 32 := Scalar.andi v30 c_m16_i32
  let c256_i32 : BitVec 32 := 256#32
  let v36 : BitVec 32 := Scalar.andi v31 c256_i32
  let c0_i32_21 : BitVec 32 := 0#32
  let v37 : BitVec 1 := Scalar.cmpi .ne v36 c0_i32_21
  let v38 : BitVec 32 := Scalar.extui v37
  let c0_i32_22 : BitVec 32 := 0#32
  let v39 : BitVec 1 := Scalar.cmpi .ne v38 c0_i32_22
  v39

def k0_off147 (v1_0 : BitVec 32) (v24 : BitVec 32) (v27 : BitVec 32) : Fin 3 → Nat :=
  let c1_i32_18 : BitVec 32 := 1#32
  let v22 : BitVec 32 := Scalar.subi v1_0 c1_i32_18
  let c1_i32_19 : BitVec 32 := 1#32
  let v25 : BitVec 32 := Scalar.andi v22 c1_i32_19
  let v28 : BitVec 32 := Scalar.subi v27 v24
  let c16_i32 : BitVec 32 := 16#32
  let v29 : BitVec 32 := Scalar.addi v28 c16_i32
  let c1_i32_20 : BitVec 32 := 1#32
  let v30 : BitVec 32 := Scalar.subi v29 c1_i32_20
  let c_m16_i32 : BitVec 32 := 4294967280#32
  let v31 : BitVec 32 := Scalar.andi v30 c_m16_i32
  let c_m512_i32 : BitVec 32 := 4294966784#32
  let v32 : BitVec 32 := Scalar.andi v31 c_m512_i32
  let v33 : BitVec 32 := v32
  let c0_i32_33 : BitVec 32 := 0#32
  ![v25.toNat, v33.toNat, 0]
def k0_mult822 (v24 : BitVec 32) (v27 : BitVec 32) : BitVec 32 :=
  let v28 : BitVec 32 := Scalar.subi v27 v24
  let c16_i32 : BitVec 32 := 16#32
  let v29 : BitVec 32 := Scalar.addi v28 c16_i32
  let c1_i32_20 : BitVec 32 := 1#32
  let v30 : BitVec 32 := Scalar.subi v29 c1_i32_20
  let c_m16_i32 : BitVec 32 := 4294967280#32
  let v31 : BitVec 32 := Scalar.andi v30 c_m16_i32
  let c_m256_i32 : BitVec 32 := 4294967040#32
  let v40 : BitVec 32 := Scalar.andi v31 c_m256_i32
  v40
def k0_mult823 (v24 : BitVec 32) (v27 : BitVec 32) : BitVec 32 :=
  let v28 : BitVec 32 := Scalar.subi v27 v24
  let c16_i32 : BitVec 32 := 16#32
  let v29 : BitVec 32 := Scalar.addi v28 c16_i32
  let c1_i32_20 : BitVec 32 := 1#32
  let v30 : BitVec 32 := Scalar.subi v29 c1_i32_20
  let c_m16_i32 : BitVec 32 := 4294967280#32
  let v31 : BitVec 32 := Scalar.andi v30 c_m16_i32
  let c_m256_i32 : BitVec 32 := 4294967040#32
  let v40 : BitVec 32 := Scalar.andi v31 c_m256_i32
  let v41 : BitVec 32 := v40
  let v42 : BitVec 32 := Scalar.addi v24 v41
  v42
def k0_off148 (v24 : BitVec 32) (v27 : BitVec 32) : Fin 2 → Nat :=
  let v28 : BitVec 32 := Scalar.subi v27 v24
  let c16_i32 : BitVec 32 := 16#32
  let v29 : BitVec 32 := Scalar.addi v28 c16_i32
  let c1_i32_20 : BitVec 32 := 1#32
  let v30 : BitVec 32 := Scalar.subi v29 c1_i32_20
  let c_m16_i32 : BitVec 32 := 4294967280#32
  let v31 : BitVec 32 := Scalar.andi v30 c_m16_i32
  let c_m256_i32 : BitVec 32 := 4294967040#32
  let v40 : BitVec 32 := Scalar.andi v31 c_m256_i32
  let v41 : BitVec 32 := v40
  let v42 : BitVec 32 := Scalar.addi v24 v41
  let v43 : BitVec 32 := v42
  let c0_i32_32 : BitVec 32 := 0#32
  ![v43.toNat, 0]
def k0_cond30 (v24 : BitVec 32) (v27 : BitVec 32) : BitVec 1 :=
  let v28 : BitVec 32 := Scalar.subi v27 v24
  let c16_i32 : BitVec 32 := 16#32
  let v29 : BitVec 32 := Scalar.addi v28 c16_i32
  let c1_i32_20 : BitVec 32 := 1#32
  let v30 : BitVec 32 := Scalar.subi v29 c1_i32_20
  let c_m16_i32 : BitVec 32 := 4294967280#32
  let v31 : BitVec 32 := Scalar.andi v30 c_m16_i32
  let c128_i32 : BitVec 32 := 128#32
  let v44 : BitVec 32 := Scalar.andi v31 c128_i32
  let c0_i32_23 : BitVec 32 := 0#32
  let v45 : BitVec 1 := Scalar.cmpi .ne v44 c0_i32_23
  let v46 : BitVec 32 := Scalar.extui v45
  let c0_i32_24 : BitVec 32 := 0#32
  let v47 : BitVec 1 := Scalar.cmpi .ne v46 c0_i32_24
  v47

def k0_off149 (v1_0 : BitVec 32) (v24 : BitVec 32) (v27 : BitVec 32) : Fin 3 → Nat :=
  let c1_i32_18 : BitVec 32 := 1#32
  let v22 : BitVec 32 := Scalar.subi v1_0 c1_i32_18
  let c1_i32_19 : BitVec 32 := 1#32
  let v25 : BitVec 32 := Scalar.andi v22 c1_i32_19
  let v28 : BitVec 32 := Scalar.subi v27 v24
  let c16_i32 : BitVec 32 := 16#32
  let v29 : BitVec 32 := Scalar.addi v28 c16_i32
  let c1_i32_20 : BitVec 32 := 1#32
  let v30 : BitVec 32 := Scalar.subi v29 c1_i32_20
  let c_m16_i32 : BitVec 32 := 4294967280#32
  let v31 : BitVec 32 := Scalar.andi v30 c_m16_i32
  let c_m256_i32 : BitVec 32 := 4294967040#32
  let v40 : BitVec 32 := Scalar.andi v31 c_m256_i32
  let v41 : BitVec 32 := v40
  let c0_i32_33 : BitVec 32 := 0#32
  ![v25.toNat, v41.toNat, 0]
def k0_mult824 (v24 : BitVec 32) (v27 : BitVec 32) : BitVec 32 :=
  let v28 : BitVec 32 := Scalar.subi v27 v24
  let c16_i32 : BitVec 32 := 16#32
  let v29 : BitVec 32 := Scalar.addi v28 c16_i32
  let c1_i32_20 : BitVec 32 := 1#32
  let v30 : BitVec 32 := Scalar.subi v29 c1_i32_20
  let c_m16_i32 : BitVec 32 := 4294967280#32
  let v31 : BitVec 32 := Scalar.andi v30 c_m16_i32
  let c_m128_i32 : BitVec 32 := 4294967168#32
  let v48 : BitVec 32 := Scalar.andi v31 c_m128_i32
  v48
def k0_mult825 (v24 : BitVec 32) (v27 : BitVec 32) : BitVec 32 :=
  let v28 : BitVec 32 := Scalar.subi v27 v24
  let c16_i32 : BitVec 32 := 16#32
  let v29 : BitVec 32 := Scalar.addi v28 c16_i32
  let c1_i32_20 : BitVec 32 := 1#32
  let v30 : BitVec 32 := Scalar.subi v29 c1_i32_20
  let c_m16_i32 : BitVec 32 := 4294967280#32
  let v31 : BitVec 32 := Scalar.andi v30 c_m16_i32
  let c_m128_i32 : BitVec 32 := 4294967168#32
  let v48 : BitVec 32 := Scalar.andi v31 c_m128_i32
  let v49 : BitVec 32 := v48
  let v50 : BitVec 32 := Scalar.addi v24 v49
  v50
def k0_off150 (v24 : BitVec 32) (v27 : BitVec 32) : Fin 2 → Nat :=
  let v28 : BitVec 32 := Scalar.subi v27 v24
  let c16_i32 : BitVec 32 := 16#32
  let v29 : BitVec 32 := Scalar.addi v28 c16_i32
  let c1_i32_20 : BitVec 32 := 1#32
  let v30 : BitVec 32 := Scalar.subi v29 c1_i32_20
  let c_m16_i32 : BitVec 32 := 4294967280#32
  let v31 : BitVec 32 := Scalar.andi v30 c_m16_i32
  let c_m128_i32 : BitVec 32 := 4294967168#32
  let v48 : BitVec 32 := Scalar.andi v31 c_m128_i32
  let v49 : BitVec 32 := v48
  let v50 : BitVec 32 := Scalar.addi v24 v49
  let v51 : BitVec 32 := v50
  let c0_i32_32 : BitVec 32 := 0#32
  ![v51.toNat, 0]
def k0_cond31 (v24 : BitVec 32) (v27 : BitVec 32) : BitVec 1 :=
  let v28 : BitVec 32 := Scalar.subi v27 v24
  let c16_i32 : BitVec 32 := 16#32
  let v29 : BitVec 32 := Scalar.addi v28 c16_i32
  let c1_i32_20 : BitVec 32 := 1#32
  let v30 : BitVec 32 := Scalar.subi v29 c1_i32_20
  let c_m16_i32 : BitVec 32 := 4294967280#32
  let v31 : BitVec 32 := Scalar.andi v30 c_m16_i32
  let c64_i32 : BitVec 32 := 64#32
  let v52 : BitVec 32 := Scalar.andi v31 c64_i32
  let c0_i32_25 : BitVec 32 := 0#32
  let v53 : BitVec 1 := Scalar.cmpi .ne v52 c0_i32_25
  let v54 : BitVec 32 := Scalar.extui v53
  let c0_i32_26 : BitVec 32 := 0#32
  let v55 : BitVec 1 := Scalar.cmpi .ne v54 c0_i32_26
  v55

def k0_off151 (v1_0 : BitVec 32) (v24 : BitVec 32) (v27 : BitVec 32) : Fin 3 → Nat :=
  let c1_i32_18 : BitVec 32 := 1#32
  let v22 : BitVec 32 := Scalar.subi v1_0 c1_i32_18
  let c1_i32_19 : BitVec 32 := 1#32
  let v25 : BitVec 32 := Scalar.andi v22 c1_i32_19
  let v28 : BitVec 32 := Scalar.subi v27 v24
  let c16_i32 : BitVec 32 := 16#32
  let v29 : BitVec 32 := Scalar.addi v28 c16_i32
  let c1_i32_20 : BitVec 32 := 1#32
  let v30 : BitVec 32 := Scalar.subi v29 c1_i32_20
  let c_m16_i32 : BitVec 32 := 4294967280#32
  let v31 : BitVec 32 := Scalar.andi v30 c_m16_i32
  let c_m128_i32 : BitVec 32 := 4294967168#32
  let v48 : BitVec 32 := Scalar.andi v31 c_m128_i32
  let v49 : BitVec 32 := v48
  let c0_i32_33 : BitVec 32 := 0#32
  ![v25.toNat, v49.toNat, 0]
def k0_mult826 (v24 : BitVec 32) (v27 : BitVec 32) : BitVec 32 :=
  let v28 : BitVec 32 := Scalar.subi v27 v24
  let c16_i32 : BitVec 32 := 16#32
  let v29 : BitVec 32 := Scalar.addi v28 c16_i32
  let c1_i32_20 : BitVec 32 := 1#32
  let v30 : BitVec 32 := Scalar.subi v29 c1_i32_20
  let c_m16_i32 : BitVec 32 := 4294967280#32
  let v31 : BitVec 32 := Scalar.andi v30 c_m16_i32
  let c_m64_i32 : BitVec 32 := 4294967232#32
  let v56 : BitVec 32 := Scalar.andi v31 c_m64_i32
  v56
def k0_mult827 (v24 : BitVec 32) (v27 : BitVec 32) : BitVec 32 :=
  let v28 : BitVec 32 := Scalar.subi v27 v24
  let c16_i32 : BitVec 32 := 16#32
  let v29 : BitVec 32 := Scalar.addi v28 c16_i32
  let c1_i32_20 : BitVec 32 := 1#32
  let v30 : BitVec 32 := Scalar.subi v29 c1_i32_20
  let c_m16_i32 : BitVec 32 := 4294967280#32
  let v31 : BitVec 32 := Scalar.andi v30 c_m16_i32
  let c_m64_i32 : BitVec 32 := 4294967232#32
  let v56 : BitVec 32 := Scalar.andi v31 c_m64_i32
  let v57 : BitVec 32 := v56
  let v58 : BitVec 32 := Scalar.addi v24 v57
  v58
def k0_off152 (v24 : BitVec 32) (v27 : BitVec 32) : Fin 2 → Nat :=
  let v28 : BitVec 32 := Scalar.subi v27 v24
  let c16_i32 : BitVec 32 := 16#32
  let v29 : BitVec 32 := Scalar.addi v28 c16_i32
  let c1_i32_20 : BitVec 32 := 1#32
  let v30 : BitVec 32 := Scalar.subi v29 c1_i32_20
  let c_m16_i32 : BitVec 32 := 4294967280#32
  let v31 : BitVec 32 := Scalar.andi v30 c_m16_i32
  let c_m64_i32 : BitVec 32 := 4294967232#32
  let v56 : BitVec 32 := Scalar.andi v31 c_m64_i32
  let v57 : BitVec 32 := v56
  let v58 : BitVec 32 := Scalar.addi v24 v57
  let v59 : BitVec 32 := v58
  let c0_i32_32 : BitVec 32 := 0#32
  ![v59.toNat, 0]
def k0_cond32 (v24 : BitVec 32) (v27 : BitVec 32) : BitVec 1 :=
  let v28 : BitVec 32 := Scalar.subi v27 v24
  let c16_i32 : BitVec 32 := 16#32
  let v29 : BitVec 32 := Scalar.addi v28 c16_i32
  let c1_i32_20 : BitVec 32 := 1#32
  let v30 : BitVec 32 := Scalar.subi v29 c1_i32_20
  let c_m16_i32 : BitVec 32 := 4294967280#32
  let v31 : BitVec 32 := Scalar.andi v30 c_m16_i32
  let c32_i32 : BitVec 32 := 32#32
  let v60 : BitVec 32 := Scalar.andi v31 c32_i32
  let c0_i32_27 : BitVec 32 := 0#32
  let v61 : BitVec 1 := Scalar.cmpi .ne v60 c0_i32_27
  let v62 : BitVec 32 := Scalar.extui v61
  let c0_i32_28 : BitVec 32 := 0#32
  let v63 : BitVec 1 := Scalar.cmpi .ne v62 c0_i32_28
  v63

def k0_off153 (v1_0 : BitVec 32) (v24 : BitVec 32) (v27 : BitVec 32) : Fin 3 → Nat :=
  let c1_i32_18 : BitVec 32 := 1#32
  let v22 : BitVec 32 := Scalar.subi v1_0 c1_i32_18
  let c1_i32_19 : BitVec 32 := 1#32
  let v25 : BitVec 32 := Scalar.andi v22 c1_i32_19
  let v28 : BitVec 32 := Scalar.subi v27 v24
  let c16_i32 : BitVec 32 := 16#32
  let v29 : BitVec 32 := Scalar.addi v28 c16_i32
  let c1_i32_20 : BitVec 32 := 1#32
  let v30 : BitVec 32 := Scalar.subi v29 c1_i32_20
  let c_m16_i32 : BitVec 32 := 4294967280#32
  let v31 : BitVec 32 := Scalar.andi v30 c_m16_i32
  let c_m64_i32 : BitVec 32 := 4294967232#32
  let v56 : BitVec 32 := Scalar.andi v31 c_m64_i32
  let v57 : BitVec 32 := v56
  let c0_i32_33 : BitVec 32 := 0#32
  ![v25.toNat, v57.toNat, 0]
def k0_mult828 (v24 : BitVec 32) (v27 : BitVec 32) : BitVec 32 :=
  let v28 : BitVec 32 := Scalar.subi v27 v24
  let c16_i32 : BitVec 32 := 16#32
  let v29 : BitVec 32 := Scalar.addi v28 c16_i32
  let c1_i32_20 : BitVec 32 := 1#32
  let v30 : BitVec 32 := Scalar.subi v29 c1_i32_20
  let c_m16_i32 : BitVec 32 := 4294967280#32
  let v31 : BitVec 32 := Scalar.andi v30 c_m16_i32
  let c_m32_i32 : BitVec 32 := 4294967264#32
  let v64 : BitVec 32 := Scalar.andi v31 c_m32_i32
  v64
def k0_mult829 (v24 : BitVec 32) (v27 : BitVec 32) : BitVec 32 :=
  let v28 : BitVec 32 := Scalar.subi v27 v24
  let c16_i32 : BitVec 32 := 16#32
  let v29 : BitVec 32 := Scalar.addi v28 c16_i32
  let c1_i32_20 : BitVec 32 := 1#32
  let v30 : BitVec 32 := Scalar.subi v29 c1_i32_20
  let c_m16_i32 : BitVec 32 := 4294967280#32
  let v31 : BitVec 32 := Scalar.andi v30 c_m16_i32
  let c_m32_i32 : BitVec 32 := 4294967264#32
  let v64 : BitVec 32 := Scalar.andi v31 c_m32_i32
  let v65 : BitVec 32 := v64
  let v66 : BitVec 32 := Scalar.addi v24 v65
  v66
def k0_off154 (v24 : BitVec 32) (v27 : BitVec 32) : Fin 2 → Nat :=
  let v28 : BitVec 32 := Scalar.subi v27 v24
  let c16_i32 : BitVec 32 := 16#32
  let v29 : BitVec 32 := Scalar.addi v28 c16_i32
  let c1_i32_20 : BitVec 32 := 1#32
  let v30 : BitVec 32 := Scalar.subi v29 c1_i32_20
  let c_m16_i32 : BitVec 32 := 4294967280#32
  let v31 : BitVec 32 := Scalar.andi v30 c_m16_i32
  let c_m32_i32 : BitVec 32 := 4294967264#32
  let v64 : BitVec 32 := Scalar.andi v31 c_m32_i32
  let v65 : BitVec 32 := v64
  let v66 : BitVec 32 := Scalar.addi v24 v65
  let v67 : BitVec 32 := v66
  let c0_i32_32 : BitVec 32 := 0#32
  ![v67.toNat, 0]
def k0_cond33 (v24 : BitVec 32) (v27 : BitVec 32) : BitVec 1 :=
  let v28 : BitVec 32 := Scalar.subi v27 v24
  let c16_i32 : BitVec 32 := 16#32
  let v29 : BitVec 32 := Scalar.addi v28 c16_i32
  let c1_i32_20 : BitVec 32 := 1#32
  let v30 : BitVec 32 := Scalar.subi v29 c1_i32_20
  let c_m16_i32 : BitVec 32 := 4294967280#32
  let v31 : BitVec 32 := Scalar.andi v30 c_m16_i32
  let c16_i32_29 : BitVec 32 := 16#32
  let v68 : BitVec 32 := Scalar.andi v31 c16_i32_29
  let c0_i32_30 : BitVec 32 := 0#32
  let v69 : BitVec 1 := Scalar.cmpi .ne v68 c0_i32_30
  let v70 : BitVec 32 := Scalar.extui v69
  let c0_i32_31 : BitVec 32 := 0#32
  let v71 : BitVec 1 := Scalar.cmpi .ne v70 c0_i32_31
  v71

def k0_off155 (v1_0 : BitVec 32) (v24 : BitVec 32) (v27 : BitVec 32) : Fin 3 → Nat :=
  let c1_i32_18 : BitVec 32 := 1#32
  let v22 : BitVec 32 := Scalar.subi v1_0 c1_i32_18
  let c1_i32_19 : BitVec 32 := 1#32
  let v25 : BitVec 32 := Scalar.andi v22 c1_i32_19
  let v28 : BitVec 32 := Scalar.subi v27 v24
  let c16_i32 : BitVec 32 := 16#32
  let v29 : BitVec 32 := Scalar.addi v28 c16_i32
  let c1_i32_20 : BitVec 32 := 1#32
  let v30 : BitVec 32 := Scalar.subi v29 c1_i32_20
  let c_m16_i32 : BitVec 32 := 4294967280#32
  let v31 : BitVec 32 := Scalar.andi v30 c_m16_i32
  let c_m32_i32 : BitVec 32 := 4294967264#32
  let v64 : BitVec 32 := Scalar.andi v31 c_m32_i32
  let v65 : BitVec 32 := v64
  let c0_i32_33 : BitVec 32 := 0#32
  ![v25.toNat, v65.toNat, 0]

def k0_chk29 (v1_0 : BitVec 32) (v24 : BitVec 32) (v27 : BitVec 32) : Prop :=
  (16 ∣ (k0_mult820 v24 v27).toNat) ∧
  (16 ∣ (k0_mult821 v24 v27).toNat) ∧
  (∀ (k0_h29 : k0_cond29 v24 v27 = 1#1), ∀ a, (k0_off146 v24 v27) a + S256x1536.size a ≤ S12288x1536.size a) ∧
  (∀ (k0_h29 : k0_cond29 v24 v27 = 1#1), ∀ a, (k0_off147 v1_0 v24 v27) a + S1x256x1536.size a ≤ S2x256x1536.size a) ∧
  (∀ (k0_h29 : k0_cond29 v24 v27 = 1#1), ∀ (hinb : ∀ a, (k0_off147 v1_0 v24 v27) a + S1x256x1536.size a ≤ S2x256x1536.size a), (Rect.unit (s := S2x256x1536) (k0_off147 v1_0 v24 v27) S1x256x1536.size hinb).WholeWords (EltTy.packing .bf16)) ∧
  (∀ (k0_h29 : k0_cond29 v24 v27 = 1#1), ∀ (hinb : ∀ a, (k0_off146 v24 v27) a + S256x1536.size a ≤ S12288x1536.size a), (Rect.unit (s := S12288x1536) (k0_off146 v24 v27) S256x1536.size hinb).WholeWords (EltTy.packing .bf16)) ∧
  (16 ∣ (k0_mult822 v24 v27).toNat) ∧
  (16 ∣ (k0_mult823 v24 v27).toNat) ∧
  (∀ (k0_h30 : k0_cond30 v24 v27 = 1#1), ∀ a, (k0_off148 v24 v27) a + S128x1536.size a ≤ S12288x1536.size a) ∧
  (∀ (k0_h30 : k0_cond30 v24 v27 = 1#1), ∀ a, (k0_off149 v1_0 v24 v27) a + S1x128x1536.size a ≤ S2x256x1536.size a) ∧
  (∀ (k0_h30 : k0_cond30 v24 v27 = 1#1), ∀ (hinb : ∀ a, (k0_off149 v1_0 v24 v27) a + S1x128x1536.size a ≤ S2x256x1536.size a), (Rect.unit (s := S2x256x1536) (k0_off149 v1_0 v24 v27) S1x128x1536.size hinb).WholeWords (EltTy.packing .bf16)) ∧
  (∀ (k0_h30 : k0_cond30 v24 v27 = 1#1), ∀ (hinb : ∀ a, (k0_off148 v24 v27) a + S128x1536.size a ≤ S12288x1536.size a), (Rect.unit (s := S12288x1536) (k0_off148 v24 v27) S128x1536.size hinb).WholeWords (EltTy.packing .bf16)) ∧
  (16 ∣ (k0_mult824 v24 v27).toNat) ∧
  (16 ∣ (k0_mult825 v24 v27).toNat) ∧
  (∀ (k0_h31 : k0_cond31 v24 v27 = 1#1), ∀ a, (k0_off150 v24 v27) a + S64x1536.size a ≤ S12288x1536.size a) ∧
  (∀ (k0_h31 : k0_cond31 v24 v27 = 1#1), ∀ a, (k0_off151 v1_0 v24 v27) a + S1x64x1536.size a ≤ S2x256x1536.size a) ∧
  (∀ (k0_h31 : k0_cond31 v24 v27 = 1#1), ∀ (hinb : ∀ a, (k0_off151 v1_0 v24 v27) a + S1x64x1536.size a ≤ S2x256x1536.size a), (Rect.unit (s := S2x256x1536) (k0_off151 v1_0 v24 v27) S1x64x1536.size hinb).WholeWords (EltTy.packing .bf16)) ∧
  (∀ (k0_h31 : k0_cond31 v24 v27 = 1#1), ∀ (hinb : ∀ a, (k0_off150 v24 v27) a + S64x1536.size a ≤ S12288x1536.size a), (Rect.unit (s := S12288x1536) (k0_off150 v24 v27) S64x1536.size hinb).WholeWords (EltTy.packing .bf16)) ∧
  (16 ∣ (k0_mult826 v24 v27).toNat) ∧
  (16 ∣ (k0_mult827 v24 v27).toNat) ∧
  (∀ (k0_h32 : k0_cond32 v24 v27 = 1#1), ∀ a, (k0_off152 v24 v27) a + S32x1536.size a ≤ S12288x1536.size a) ∧
  (∀ (k0_h32 : k0_cond32 v24 v27 = 1#1), ∀ a, (k0_off153 v1_0 v24 v27) a + S1x32x1536.size a ≤ S2x256x1536.size a) ∧
  (∀ (k0_h32 : k0_cond32 v24 v27 = 1#1), ∀ (hinb : ∀ a, (k0_off153 v1_0 v24 v27) a + S1x32x1536.size a ≤ S2x256x1536.size a), (Rect.unit (s := S2x256x1536) (k0_off153 v1_0 v24 v27) S1x32x1536.size hinb).WholeWords (EltTy.packing .bf16)) ∧
  (∀ (k0_h32 : k0_cond32 v24 v27 = 1#1), ∀ (hinb : ∀ a, (k0_off152 v24 v27) a + S32x1536.size a ≤ S12288x1536.size a), (Rect.unit (s := S12288x1536) (k0_off152 v24 v27) S32x1536.size hinb).WholeWords (EltTy.packing .bf16)) ∧
  (16 ∣ (k0_mult828 v24 v27).toNat) ∧
  (16 ∣ (k0_mult829 v24 v27).toNat) ∧
  (∀ (k0_h33 : k0_cond33 v24 v27 = 1#1), ∀ a, (k0_off154 v24 v27) a + S16x1536.size a ≤ S12288x1536.size a) ∧
  (∀ (k0_h33 : k0_cond33 v24 v27 = 1#1), ∀ a, (k0_off155 v1_0 v24 v27) a + S1x16x1536.size a ≤ S2x256x1536.size a) ∧
  (∀ (k0_h33 : k0_cond33 v24 v27 = 1#1), ∀ (hinb : ∀ a, (k0_off155 v1_0 v24 v27) a + S1x16x1536.size a ≤ S2x256x1536.size a), (Rect.unit (s := S2x256x1536) (k0_off155 v1_0 v24 v27) S1x16x1536.size hinb).WholeWords (EltTy.packing .bf16)) ∧
  (∀ (k0_h33 : k0_cond33 v24 v27 = 1#1), ∀ (hinb : ∀ a, (k0_off154 v24 v27) a + S16x1536.size a ≤ S12288x1536.size a), (Rect.unit (s := S12288x1536) (k0_off154 v24 v27) S16x1536.size hinb).WholeWords (EltTy.packing .bf16))
theorem k0_mult820_dvd : ∀ (v1_0 : BitVec 32) (v24 : BitVec 32) (v27 : BitVec 32) (k0_hw29 : k0_chk29 v1_0 v24 v27), 16 ∣ (k0_mult820 v24 v27).toNat := fun v1_0 v24 v27 k0_hw29 => k0_hw29.1
theorem k0_mult821_dvd : ∀ (v1_0 : BitVec 32) (v24 : BitVec 32) (v27 : BitVec 32) (k0_hw29 : k0_chk29 v1_0 v24 v27), 16 ∣ (k0_mult821 v24 v27).toNat := fun v1_0 v24 v27 k0_hw29 => k0_hw29.2.1
theorem k0_off146_inb : ∀ (v1_0 : BitVec 32) (v24 : BitVec 32) (v27 : BitVec 32) (k0_hw29 : k0_chk29 v1_0 v24 v27), ∀ (k0_h29 : k0_cond29 v24 v27 = 1#1), ∀ a, (k0_off146 v24 v27) a + S256x1536.size a ≤ S12288x1536.size a := fun v1_0 v24 v27 k0_hw29 k0_h29 => k0_hw29.2.2.1 k0_h29
theorem k0_off147_inb : ∀ (v1_0 : BitVec 32) (v24 : BitVec 32) (v27 : BitVec 32) (k0_hw29 : k0_chk29 v1_0 v24 v27), ∀ (k0_h29 : k0_cond29 v24 v27 = 1#1), ∀ a, (k0_off147 v1_0 v24 v27) a + S1x256x1536.size a ≤ S2x256x1536.size a := fun v1_0 v24 v27 k0_hw29 k0_h29 => k0_hw29.2.2.2.1 k0_h29
theorem k0_off147_wordsbf16 : ∀ (v1_0 : BitVec 32) (v24 : BitVec 32) (v27 : BitVec 32) (k0_hw29 : k0_chk29 v1_0 v24 v27), ∀ (k0_h29 : k0_cond29 v24 v27 = 1#1), (Rect.unit (s := S2x256x1536) (k0_off147 v1_0 v24 v27) S1x256x1536.size (k0_off147_inb v1_0 v24 v27 k0_hw29 k0_h29)).WholeWords (EltTy.packing .bf16) := fun v1_0 v24 v27 k0_hw29 k0_h29 => k0_hw29.2.2.2.2.1 k0_h29 (k0_off147_inb v1_0 v24 v27 k0_hw29 k0_h29)
theorem k0_off146_wordsbf16 : ∀ (v1_0 : BitVec 32) (v24 : BitVec 32) (v27 : BitVec 32) (k0_hw29 : k0_chk29 v1_0 v24 v27), ∀ (k0_h29 : k0_cond29 v24 v27 = 1#1), (Rect.unit (s := S12288x1536) (k0_off146 v24 v27) S256x1536.size (k0_off146_inb v1_0 v24 v27 k0_hw29 k0_h29)).WholeWords (EltTy.packing .bf16) := fun v1_0 v24 v27 k0_hw29 k0_h29 => k0_hw29.2.2.2.2.2.1 k0_h29 (k0_off146_inb v1_0 v24 v27 k0_hw29 k0_h29)
theorem k0_mult822_dvd : ∀ (v1_0 : BitVec 32) (v24 : BitVec 32) (v27 : BitVec 32) (k0_hw29 : k0_chk29 v1_0 v24 v27), 16 ∣ (k0_mult822 v24 v27).toNat := fun v1_0 v24 v27 k0_hw29 => k0_hw29.2.2.2.2.2.2.1
theorem k0_mult823_dvd : ∀ (v1_0 : BitVec 32) (v24 : BitVec 32) (v27 : BitVec 32) (k0_hw29 : k0_chk29 v1_0 v24 v27), 16 ∣ (k0_mult823 v24 v27).toNat := fun v1_0 v24 v27 k0_hw29 => k0_hw29.2.2.2.2.2.2.2.1
theorem k0_off148_inb : ∀ (v1_0 : BitVec 32) (v24 : BitVec 32) (v27 : BitVec 32) (k0_hw29 : k0_chk29 v1_0 v24 v27), ∀ (k0_h30 : k0_cond30 v24 v27 = 1#1), ∀ a, (k0_off148 v24 v27) a + S128x1536.size a ≤ S12288x1536.size a := fun v1_0 v24 v27 k0_hw29 k0_h30 => k0_hw29.2.2.2.2.2.2.2.2.1 k0_h30
theorem k0_off149_inb : ∀ (v1_0 : BitVec 32) (v24 : BitVec 32) (v27 : BitVec 32) (k0_hw29 : k0_chk29 v1_0 v24 v27), ∀ (k0_h30 : k0_cond30 v24 v27 = 1#1), ∀ a, (k0_off149 v1_0 v24 v27) a + S1x128x1536.size a ≤ S2x256x1536.size a := fun v1_0 v24 v27 k0_hw29 k0_h30 => k0_hw29.2.2.2.2.2.2.2.2.2.1 k0_h30
theorem k0_off149_wordsbf16 : ∀ (v1_0 : BitVec 32) (v24 : BitVec 32) (v27 : BitVec 32) (k0_hw29 : k0_chk29 v1_0 v24 v27), ∀ (k0_h30 : k0_cond30 v24 v27 = 1#1), (Rect.unit (s := S2x256x1536) (k0_off149 v1_0 v24 v27) S1x128x1536.size (k0_off149_inb v1_0 v24 v27 k0_hw29 k0_h30)).WholeWords (EltTy.packing .bf16) := fun v1_0 v24 v27 k0_hw29 k0_h30 => k0_hw29.2.2.2.2.2.2.2.2.2.2.1 k0_h30 (k0_off149_inb v1_0 v24 v27 k0_hw29 k0_h30)
theorem k0_off148_wordsbf16 : ∀ (v1_0 : BitVec 32) (v24 : BitVec 32) (v27 : BitVec 32) (k0_hw29 : k0_chk29 v1_0 v24 v27), ∀ (k0_h30 : k0_cond30 v24 v27 = 1#1), (Rect.unit (s := S12288x1536) (k0_off148 v24 v27) S128x1536.size (k0_off148_inb v1_0 v24 v27 k0_hw29 k0_h30)).WholeWords (EltTy.packing .bf16) := fun v1_0 v24 v27 k0_hw29 k0_h30 => k0_hw29.2.2.2.2.2.2.2.2.2.2.2.1 k0_h30 (k0_off148_inb v1_0 v24 v27 k0_hw29 k0_h30)
theorem k0_mult824_dvd : ∀ (v1_0 : BitVec 32) (v24 : BitVec 32) (v27 : BitVec 32) (k0_hw29 : k0_chk29 v1_0 v24 v27), 16 ∣ (k0_mult824 v24 v27).toNat := fun v1_0 v24 v27 k0_hw29 => k0_hw29.2.2.2.2.2.2.2.2.2.2.2.2.1
theorem k0_mult825_dvd : ∀ (v1_0 : BitVec 32) (v24 : BitVec 32) (v27 : BitVec 32) (k0_hw29 : k0_chk29 v1_0 v24 v27), 16 ∣ (k0_mult825 v24 v27).toNat := fun v1_0 v24 v27 k0_hw29 => k0_hw29.2.2.2.2.2.2.2.2.2.2.2.2.2.1
theorem k0_off150_inb : ∀ (v1_0 : BitVec 32) (v24 : BitVec 32) (v27 : BitVec 32) (k0_hw29 : k0_chk29 v1_0 v24 v27), ∀ (k0_h31 : k0_cond31 v24 v27 = 1#1), ∀ a, (k0_off150 v24 v27) a + S64x1536.size a ≤ S12288x1536.size a := fun v1_0 v24 v27 k0_hw29 k0_h31 => k0_hw29.2.2.2.2.2.2.2.2.2.2.2.2.2.2.1 k0_h31
theorem k0_off151_inb : ∀ (v1_0 : BitVec 32) (v24 : BitVec 32) (v27 : BitVec 32) (k0_hw29 : k0_chk29 v1_0 v24 v27), ∀ (k0_h31 : k0_cond31 v24 v27 = 1#1), ∀ a, (k0_off151 v1_0 v24 v27) a + S1x64x1536.size a ≤ S2x256x1536.size a := fun v1_0 v24 v27 k0_hw29 k0_h31 => k0_hw29.2.2.2.2.2.2.2.2.2.2.2.2.2.2.2.1 k0_h31
theorem k0_off151_wordsbf16 : ∀ (v1_0 : BitVec 32) (v24 : BitVec 32) (v27 : BitVec 32) (k0_hw29 : k0_chk29 v1_0 v24 v27), ∀ (k0_h31 : k0_cond31 v24 v27 = 1#1), (Rect.unit (s := S2x256x1536) (k0_off151 v1_0 v24 v27) S1x64x1536.size (k0_off151_inb v1_0 v24 v27 k0_hw29 k0_h31)).WholeWords (EltTy.packing .bf16) := fun v1_0 v24 v27 k0_hw29 k0_h31 => k0_hw29.2.2.2.2.2.2.2.2.2.2.2.2.2.2.2.2.1 k0_h31 (k0_off151_inb v1_0 v24 v27 k0_hw29 k0_h31)
theorem k0_off150_wordsbf16 : ∀ (v1_0 : BitVec 32) (v24 : BitVec 32) (v27 : BitVec 32) (k0_hw29 : k0_chk29 v1_0 v24 v27), ∀ (k0_h31 : k0_cond31 v24 v27 = 1#1), (Rect.unit (s := S12288x1536) (k0_off150 v24 v27) S64x1536.size (k0_off150_inb v1_0 v24 v27 k0_hw29 k0_h31)).WholeWords (EltTy.packing .bf16) := fun v1_0 v24 v27 k0_hw29 k0_h31 => k0_hw29.2.2.2.2.2.2.2.2.2.2.2.2.2.2.2.2.2.1 k0_h31 (k0_off150_inb v1_0 v24 v27 k0_hw29 k0_h31)
theorem k0_mult826_dvd : ∀ (v1_0 : BitVec 32) (v24 : BitVec 32) (v27 : BitVec 32) (k0_hw29 : k0_chk29 v1_0 v24 v27), 16 ∣ (k0_mult826 v24 v27).toNat := fun v1_0 v24 v27 k0_hw29 => k0_hw29.2.2.2.2.2.2.2.2.2.2.2.2.2.2.2.2.2.2.1
theorem k0_mult827_dvd : ∀ (v1_0 : BitVec 32) (v24 : BitVec 32) (v27 : BitVec 32) (k0_hw29 : k0_chk29 v1_0 v24 v27), 16 ∣ (k0_mult827 v24 v27).toNat := fun v1_0 v24 v27 k0_hw29 => k0_hw29.2.2.2.2.2.2.2.2.2.2.2.2.2.2.2.2.2.2.2.1
theorem k0_off152_inb : ∀ (v1_0 : BitVec 32) (v24 : BitVec 32) (v27 : BitVec 32) (k0_hw29 : k0_chk29 v1_0 v24 v27), ∀ (k0_h32 : k0_cond32 v24 v27 = 1#1), ∀ a, (k0_off152 v24 v27) a + S32x1536.size a ≤ S12288x1536.size a := fun v1_0 v24 v27 k0_hw29 k0_h32 => k0_hw29.2.2.2.2.2.2.2.2.2.2.2.2.2.2.2.2.2.2.2.2.1 k0_h32
theorem k0_off153_inb : ∀ (v1_0 : BitVec 32) (v24 : BitVec 32) (v27 : BitVec 32) (k0_hw29 : k0_chk29 v1_0 v24 v27), ∀ (k0_h32 : k0_cond32 v24 v27 = 1#1), ∀ a, (k0_off153 v1_0 v24 v27) a + S1x32x1536.size a ≤ S2x256x1536.size a := fun v1_0 v24 v27 k0_hw29 k0_h32 => k0_hw29.2.2.2.2.2.2.2.2.2.2.2.2.2.2.2.2.2.2.2.2.2.1 k0_h32
theorem k0_off153_wordsbf16 : ∀ (v1_0 : BitVec 32) (v24 : BitVec 32) (v27 : BitVec 32) (k0_hw29 : k0_chk29 v1_0 v24 v27), ∀ (k0_h32 : k0_cond32 v24 v27 = 1#1), (Rect.unit (s := S2x256x1536) (k0_off153 v1_0 v24 v27) S1x32x1536.size (k0_off153_inb v1_0 v24 v27 k0_hw29 k0_h32)).WholeWords (EltTy.packing .bf16) := fun v1_0 v24 v27 k0_hw29 k0_h32 => k0_hw29.2.2.2.2.2.2.2.2.2.2.2.2.2.2.2.2.2.2.2.2.2.2.1 k0_h32 (k0_off153_inb v1_0 v24 v27 k0_hw29 k0_h32)
theorem k0_off152_wordsbf16 : ∀ (v1_0 : BitVec 32) (v24 : BitVec 32) (v27 : BitVec 32) (k0_hw29 : k0_chk29 v1_0 v24 v27), ∀ (k0_h32 : k0_cond32 v24 v27 = 1#1), (Rect.unit (s := S12288x1536) (k0_off152 v24 v27) S32x1536.size (k0_off152_inb v1_0 v24 v27 k0_hw29 k0_h32)).WholeWords (EltTy.packing .bf16) := fun v1_0 v24 v27 k0_hw29 k0_h32 => k0_hw29.2.2.2.2.2.2.2.2.2.2.2.2.2.2.2.2.2.2.2.2.2.2.2.1 k0_h32 (k0_off152_inb v1_0 v24 v27 k0_hw29 k0_h32)
theorem k0_mult828_dvd : ∀ (v1_0 : BitVec 32) (v24 : BitVec 32) (v27 : BitVec 32) (k0_hw29 : k0_chk29 v1_0 v24 v27), 16 ∣ (k0_mult828 v24 v27).toNat := fun v1_0 v24 v27 k0_hw29 => k0_hw29.2.2.2.2.2.2.2.2.2.2.2.2.2.2.2.2.2.2.2.2.2.2.2.2.1
theorem k0_mult829_dvd : ∀ (v1_0 : BitVec 32) (v24 : BitVec 32) (v27 : BitVec 32) (k0_hw29 : k0_chk29 v1_0 v24 v27), 16 ∣ (k0_mult829 v24 v27).toNat := fun v1_0 v24 v27 k0_hw29 => k0_hw29.2.2.2.2.2.2.2.2.2.2.2.2.2.2.2.2.2.2.2.2.2.2.2.2.2.1
theorem k0_off154_inb : ∀ (v1_0 : BitVec 32) (v24 : BitVec 32) (v27 : BitVec 32) (k0_hw29 : k0_chk29 v1_0 v24 v27), ∀ (k0_h33 : k0_cond33 v24 v27 = 1#1), ∀ a, (k0_off154 v24 v27) a + S16x1536.size a ≤ S12288x1536.size a := fun v1_0 v24 v27 k0_hw29 k0_h33 => k0_hw29.2.2.2.2.2.2.2.2.2.2.2.2.2.2.2.2.2.2.2.2.2.2.2.2.2.2.1 k0_h33
theorem k0_off155_inb : ∀ (v1_0 : BitVec 32) (v24 : BitVec 32) (v27 : BitVec 32) (k0_hw29 : k0_chk29 v1_0 v24 v27), ∀ (k0_h33 : k0_cond33 v24 v27 = 1#1), ∀ a, (k0_off155 v1_0 v24 v27) a + S1x16x1536.size a ≤ S2x256x1536.size a := fun v1_0 v24 v27 k0_hw29 k0_h33 => k0_hw29.2.2.2.2.2.2.2.2.2.2.2.2.2.2.2.2.2.2.2.2.2.2.2.2.2.2.2.1 k0_h33
theorem k0_off155_wordsbf16 : ∀ (v1_0 : BitVec 32) (v24 : BitVec 32) (v27 : BitVec 32) (k0_hw29 : k0_chk29 v1_0 v24 v27), ∀ (k0_h33 : k0_cond33 v24 v27 = 1#1), (Rect.unit (s := S2x256x1536) (k0_off155 v1_0 v24 v27) S1x16x1536.size (k0_off155_inb v1_0 v24 v27 k0_hw29 k0_h33)).WholeWords (EltTy.packing .bf16) := fun v1_0 v24 v27 k0_hw29 k0_h33 => k0_hw29.2.2.2.2.2.2.2.2.2.2.2.2.2.2.2.2.2.2.2.2.2.2.2.2.2.2.2.2.1 k0_h33 (k0_off155_inb v1_0 v24 v27 k0_hw29 k0_h33)
theorem k0_off154_wordsbf16 : ∀ (v1_0 : BitVec 32) (v24 : BitVec 32) (v27 : BitVec 32) (k0_hw29 : k0_chk29 v1_0 v24 v27), ∀ (k0_h33 : k0_cond33 v24 v27 = 1#1), (Rect.unit (s := S12288x1536) (k0_off154 v24 v27) S16x1536.size (k0_off154_inb v1_0 v24 v27 k0_hw29 k0_h33)).WholeWords (EltTy.packing .bf16) := fun v1_0 v24 v27 k0_hw29 k0_h33 => k0_hw29.2.2.2.2.2.2.2.2.2.2.2.2.2.2.2.2.2.2.2.2.2.2.2.2.2.2.2.2.2 k0_h33 (k0_off154_inb v1_0 v24 v27 k0_hw29 k0_h33)

abbrev stage0_0 : Fin 1 → Memref sig .tc .smem S8 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
-- ==== ReferenceIdeal.lean ====
abbrev S12288x3072 : Shape := ⟨2, ![12288, 3072]⟩
abbrev S8 : Shape := ⟨1, ![8]⟩
abbrev S8x3072x1536 : Shape := ⟨3, ![8, 3072, 1536]⟩
abbrev S8x96x1536 : Shape := ⟨3, ![8, 96, 1536]⟩
abbrev S12288x1536 : Shape := ⟨2, ![12288, 1536]⟩
abbrev S1 : Shape := ⟨1, ![1]⟩
abbrev S1x96x1536 : Shape := ⟨3, ![1, 96, 1536]⟩
abbrev S96x1536 : Shape := ⟨2, ![96, 1536]⟩
abbrev S1x3072x1536 : Shape := ⟨3, ![1, 3072, 1536]⟩
abbrev S3072x1536 : Shape := ⟨2, ![3072, 1536]⟩
abbrev S96x32x1536 : Shape := ⟨3, ![96, 32, 1536]⟩
abbrev S96x1x1536 : Shape := ⟨3, ![96, 1, 1536]⟩

abbrev nBuf : Space → Nat
  | .hbm => 5
  | .vmem => 4
  | .smem => 1
  | _ => 0

abbrev bufTy : (tb : Table) → Fin (tcTables nBuf tb) → BufTy
  | .hbm, ⟨0, _⟩ => ⟨S12288x3072, .bf16⟩
  | .hbm, ⟨1, _⟩ => ⟨S8, .i32⟩
  | .hbm, ⟨2, _⟩ => ⟨S8x3072x1536, .fp8e4m3⟩
  | .hbm, ⟨3, _⟩ => ⟨S8x96x1536, .i8⟩
  | .hbm, ⟨4, _⟩ => ⟨S12288x1536, .bf16⟩
  | .local _ .vmem, ⟨0, _⟩ => ⟨S12288x3072, .bf16⟩
  | .local _ .vmem, ⟨1, _⟩ => ⟨S8x3072x1536, .fp8e4m3⟩
  | .local _ .vmem, ⟨2, _⟩ => ⟨S8x96x1536, .i8⟩
  | .local _ .vmem, ⟨3, _⟩ => ⟨S12288x1536, .bf16⟩
  | .local _ .smem, ⟨0, _⟩ => ⟨S8, .i32⟩
  | _, _ => ⟨S12288x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .smem, ⟨0, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg1_0 : Ref sig .tc := ⟨.vmem, 0, rfl⟩
abbrev cc0_stg2_0 : Ref sig .tc := ⟨.vmem, 1, rfl⟩
abbrev cc0_stg3_0 : Ref sig .tc := ⟨.vmem, 2, rfl⟩
abbrev cc0_stg4_0 : Ref sig .tc := ⟨.vmem, 3, rfl⟩
abbrev cc0_stg0_0 : Ref sig .tc := ⟨.smem, 0, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := .none

abbrev stage0_0 : Fin 1 → Memref sig .tc .smem S8 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S12288x3072 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S8x3072x1536 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S8x96x1536 .i8 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S12288x1536 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== Proof.RI.Pre.lean ====
/-
  What the precondition says of the group sizes and of the scales.
-/
module

public import proofs.«01_k».proof.Proof.Gen.Pre_valid
public import Idealize.ShloMosaic.Lib.StableHlo.Predicate
public import Idealize.ShloMosaic.Lib.ReduceAll
public import Idealize.ShloMosaic.Lib.ValueIdx

@[expose] public section

noncomputable section

namespace Cert.Pre_valid.Hand

open Cert.Pre_valid Cert.Pre_valid.Gen
open Idealize.ShloMosaic Idealize.ShloMosaic.StableHlo.Predicate

variable {F : FTy → Type} [FloatOps F]

instance : Subsingleton S_.Idx := ⟨fun a b => funext fun i => i.elim0⟩

/-- The one index of a scalar. -/
def i0 : S_.Idx := fun a => a.elim0

/-- The sizes are at most the rows and add up to them; the scales are neither all zeros nor all ones. -/
structure Valid (g : S8.Idx → BitVec 32) (s : S8x96x1536.Idx → BitVec 8) : Prop where
  le : ∀ i, (g i).toNat ≤ 12288
  sum : ∑ i, (g i).toNat = 12288
  pos : ∀ i, 1 ≤ (s i).toNat
  lt : ∀ i, (s i).toNat ≤ 254

theorem le_of_bits (a : BitVec 32) (h0 : IntOp.cmpi .sge a 0#32 = 1#1) (h1 : IntOp.cmpi .sle a 12288#32 = 1#1) : a.toNat ≤ 12288 := by
  have h0' : BitVec.sle 0#32 a = true := (ofBool_eq_one_iff _).1 h0
  have h1' : BitVec.sle a 12288#32 = true := (ofBool_eq_one_iff _).1 h1
  rw [BitVec.sle_eq_decide, decide_eq_true_eq] at h0' h1'
  have e0 : (0#32 : BitVec 32).toInt = 0 := by decide
  have e1 : (12288#32 : BitVec 32).toInt = 12288 := by decide
  rw [e0] at h0'
  rw [e1] at h1'
  have := a.isLt
  rw [BitVec.toInt_eq_toNat_cond] at h0' h1'
  split at h0' <;> omega

theorem valid_of {x : FVec F S12288x3072 .bf16} {g : IVec S8 32} {w : FVec F S8x3072x1536 .fp8e4m3} {s : IVec S8x96x1536 8}
    (h : fn (F := F) x g w s = fun _ => 1#1) : Valid g s := by
  have h1 := congrFun h i0
  have h1 : IntOp.andi (IntOp.andi _ _) _ = 1#1 := h1
  obtain ⟨h2, h3⟩ := IntOp.andi_eq_one.1 h1
  obtain ⟨h4, h5⟩ := IntOp.andi_eq_one.1 h2
  have hg := Host.reduce_andi_all _ _ _ _ _ h4
  have hs := Host.reduce_andi_all _ _ _ _ _ h3
  have hle : ∀ i, (g i).toNat ≤ 12288 := by
    intro i
    obtain ⟨a, b⟩ := IntOp.andi_eq_one.1 (hg i)
    exact le_of_bits (g i) a b
  have h6 := cmpi_eq_iff.1 h5
  have hlt : ∑ i : S8.Idx, (g i).toNat < 2 ^ 32 := by
    refine lt_of_le_of_lt (Finset.sum_le_card_nsmul _ _ 12288 fun i _ => hle i) ?_
    rw [Finset.card_univ]
    have : Fintype.card S8.Idx = 8 := by decide
    rw [this]; decide
  refine ⟨hle, ?_, ?_, ?_⟩
  · have e : (Host.reduce IntOp.addi g (constantI S_ 32 0#32) reducesTo_S8_S_d0 h_S_ i0).toNat = ∑ i : S8.Idx, (g i).toNat := by
      rw [Host.reduce_eq_fold]
      have hf : (Finset.univ.filter fun i : S8.Idx => reducesTo_S8_S_d0.drop i = i0) = Finset.univ :=
        Finset.filter_true_of_mem fun i _ => Subsingleton.elim _ _
      rw [hf]
      exact toNat_fold_addi _ _ hlt
    rw [← e]
    exact congrArg BitVec.toNat h6
  · intro i
    obtain ⟨a, b⟩ := IntOp.andi_eq_one.1 (hs i)
    have a' : BitVec.ule 1#8 (s i) = true := (ofBool_eq_one_iff _).1 a
    have : (1#8).toNat ≤ (s i).toNat := by simpa [BitVec.ule] using a'
    exact this
  · intro i
    obtain ⟨a, b⟩ := IntOp.andi_eq_one.1 (hs i)
    have b' : BitVec.ule (s i) 254#8 = true := (ofBool_eq_one_iff _).1 b
    have : (s i).toNat ≤ (254#8).toNat := by simpa [BitVec.ule] using b'
    exact this

/-- An index of the sizes. -/
def at8 (n : Fin 8) : S8.Idx
  | ⟨0, _⟩ => n

/-- The sizes, one after another, add up to the rows. -/
theorem Valid.sum8 {g : S8.Idx → BitVec 32} {s : S8x96x1536.Idx → BitVec 8} (h : Valid g s) :
    (g (at8 0)).toNat + (g (at8 1)).toNat + (g (at8 2)).toNat + (g (at8 3)).toNat + (g (at8 4)).toNat + (g (at8 5)).toNat + (g (at8 6)).toNat + (g (at8 7)).toNat = 12288 := by
  rw [← h.sum, ← Fin.sum_univ_eight (fun n => (g (at8 n)).toNat)]
  refine Finset.sum_bij' (fun n _ => at8 n) (fun i _ => i 0) (fun _ _ => Finset.mem_univ _) (fun _ _ => Finset.mem_univ _) (fun _ _ => rfl) (fun i _ => ?_) (fun _ _ => rfl)
  funext a
  match a with
  | ⟨0, _⟩ => rfl

end Cert.Pre_valid.Hand
-- ==== Proof.KI.Base.lean ====
/-
  The vocabulary of the proof: the program's memrefs under short names, the logic's algebra, and the weakest precondition
  of a piece of the kernel's body.
-/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.MixedBatch
public import Idealize.ShloMosaic.Lib.Tactic
public import Idealize.ShloMosaic.Lib.WordCmp
public import Idealize.ShloMosaic.Lib.WordArith
public import Idealize.ShloMosaic.Lib.WordArith.Masks
public import Idealize.ShloMosaic.Lib.Pointwise
public import Idealize.ShloMosaic.Lib.ValueLayout

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-! ### The kernel's operands -/

abbrev m0 : Memref sig .tc .smem S8 .i32 := Memref.whole cc0_stg0_0
abbrev m1 : Memref sig .tc .hbm S12288x3072 .bf16 := Memref.whole main_arg0
abbrev m2 : Memref sig .tc .hbm S8x3072x1536 .fp8e4m3 := Memref.whole main_arg2
abbrev m3 : Memref sig .tc .hbm S8x96x1536 .i8 := Memref.whole main_arg3
abbrev m4 : Memref sig .tc .hbm S12288x1536 .bf16 := Memref.whole main_v0
abbrev m5 : Memref sig .tc .vmem S2x256x3072 .bf16 := Memref.whole cc0_scratch0
abbrev m6 : Memref sig .tc .vmem S3072x1536 .fp8e4m3 := Memref.whole cc0_scratch1
abbrev m7 : Memref sig .tc .vmem S96x1536 .i8 := Memref.whole cc0_scratch2
abbrev m8 : Memref sig .tc .vmem S3072x1536 .bf16 := Memref.whole cc0_scratch3
abbrev m9 : Memref sig .tc .vmem S96x1536 .i32 := Memref.whole cc0_scratch4
abbrev m10 : Memref sig .tc .vmem S256x3072 .bf16 := Memref.whole cc0_scratch5
abbrev m11 : Memref sig .tc .vmem S2x256x1536 .bf16 := Memref.whole cc0_scratch6
abbrev m12 : Memref sig .tc .vmem S16x1536 .bf16 := Memref.whole cc0_scratch7
abbrev m13 : Memref sig .tc .smem S64 .i32 := Memref.whole cc0_scratch8
abbrev m14 : Memref sig .tc .smem S64 .i32 := Memref.whole cc0_scratch9
abbrev m15 : Memref sig .tc .smem S64 .i32 := Memref.whole cc0_scratch10
abbrev m16 : Memref sig .tc .smem S64 .i32 := Memref.whole cc0_scratch11
abbrev m17 : Memref sig .tc .smem S64 .i32 := Memref.whole cc0_scratch12
theorem h0 : m0.IsWhole := Memref.isWhole_whole _
theorem h1 : m1.IsWhole := Memref.isWhole_whole _
theorem h2 : m2.IsWhole := Memref.isWhole_whole _
theorem h3 : m3.IsWhole := Memref.isWhole_whole _
theorem h4 : m4.IsWhole := Memref.isWhole_whole _
theorem h5 : m5.IsWhole := Memref.isWhole_whole _
theorem h6 : m6.IsWhole := Memref.isWhole_whole _
theorem h7 : m7.IsWhole := Memref.isWhole_whole _
theorem h8 : m8.IsWhole := Memref.isWhole_whole _
theorem h9 : m9.IsWhole := Memref.isWhole_whole _
theorem h10 : m10.IsWhole := Memref.isWhole_whole _
theorem h11 : m11.IsWhole := Memref.isWhole_whole _
theorem h12 : m12.IsWhole := Memref.isWhole_whole _
theorem h13 : m13.IsWhole := Memref.isWhole_whole _
theorem h14 : m14.IsWhole := Memref.isWhole_whole _
theorem h15 : m15.IsWhole := Memref.isWhole_whole _
theorem h16 : m16.IsWhole := Memref.isWhole_whole _
theorem h17 : m17.IsWhole := Memref.isWhole_whole _
abbrev s18 : DmaSems sig S2 := cc0_scratch13
abbrev s19 : DmaSems sig S_ := cc0_scratch14
abbrev s20 : DmaSems sig S_ := cc0_scratch15
abbrev s21 : DmaSems sig S_ := cc0_scratch16

/-! ### The logic -/

/-- The proof's algebra: the pipeline library's beside the transfers' counters. -/
abbrev MM (F : FTy → Type) := MT nD τ sig Unit (Elt F) ℕ (Pipeline.UD sig nD τ) ℕ

/-- Assertions. -/
abbrev PP (F : FTy → Type) := sProp (MM F)

/-- A piece of the TensorCore's program. -/
abbrev PG (F : FTy → Type) (α : Type) := Prog (TpuEff nD τ sig (Elt F) (Λ₀ F) .tc) α

/-- The weakest precondition of a piece of the kernel's body. -/
abbrev Wp {α : Type} (c : Dev nD) (p : PG F α) (Q : α → PP F) : PP F :=
  wp frame (wpE (defs₀ (F := F)) Variants.nat (c : Thread nD τ) none) Set.univ p Q

/-- The whole buffer `b` at contents `f`. -/
abbrev own (c : Dev nD) (b : Ref sig .tc) (f : Buf (Elt F) ((c : Thread nD τ).loc b)) : PP F :=
  ((c : Thread nD τ).loc b) ↦{fullShare} f

/-- The elements `S` of the buffer `b`, at contents `f`, at share `q`. -/
abbrev part (c : Dev nD) (b : Ref sig .tc) (S : Finset (Idx ((c : Thread nD τ).loc b))) (q : PosShare TreeShare)
    (f : Buf (Elt F) ((c : Thread nD τ).loc b)) : PP F :=
  ((c : Thread nD τ).loc b) ↦[S]{q} f

theorem wp_lift {α β : Type} (c : Dev nD) (e : TpuEff nD τ sig (Elt F) (Λ₀ F) .tc β) (k : β → PG F α) (Q : α → PP F) :
    Wp c (Prog.lift e >>= k) Q = Wp c (.op e k) Q := rfl

/-- Through a whole buffer's view an element is itself. -/
theorem whole_setOn (b : Ref sig .tc) (M : Finset b.ty.shape.Idx) : (View.whole b : View sig .tc _ _ _).setOn M = M := by
  unfold View.setOn; rw [View.emb_whole]; exact Finset.map_refl

/-- A store through a whole buffer's view, at an element of the rectangle. -/
theorem write_in (b : Ref sig .tc) (r : Rect b.ty.shape) (f : b.ty.Contents (Elt F)) (w : r.shape.Idx → Elt F b.ty.elt)
    (x : r.shape.Idx) : ((Memref.whole b).access r).write (Elt F) f w Finset.univ (r.emb x) = w x := by
  have h := View.write_emb_of_mem (v := (Memref.whole b).access r) f w (M := Finset.univ) (x := x) (Finset.mem_univ _)
  exact h

/-- And off the rectangle. -/
theorem write_out (b : Ref sig .tc) (r : Rect b.ty.shape) (f : b.ty.Contents (Elt F)) (w : r.shape.Idx → Elt F b.ty.elt)
    (y : b.ty.shape.Idx) (hy : y ∉ r.set) : ((Memref.whole b).access r).write (Elt F) f w Finset.univ y = f y := by
  refine View.write_of_not_mem _ _ _ ?_
  show y ∉ ((View.whole b).slice r).set
  rw [View.set_slice]; exact fun h => hy (by exact (Finset.mem_map' (Function.Embedding.refl _)).mp h)

/-- A store of a unit-stride rectangle of a whole buffer, at any element: the stored value inside, the old one outside. -/
theorem write_cases (b : Ref sig .tc) (off size : Fin b.ty.shape.rank → ℕ) (inb)
    (f : b.ty.Contents (Elt F)) (w : (Rect.unit (s := b.ty.shape) off size inb).shape.Idx → Elt F b.ty.elt)
    (y : b.ty.shape.Idx) (P : Elt F b.ty.elt → Prop)
    (hin : ∀ x : (Rect.unit (s := b.ty.shape) off size inb).shape.Idx, (∀ a, (y a).val = off a + (x a).val) → P (w x))
    (hout : ¬ (∀ a, off a ≤ (y a).val ∧ (y a).val < off a + size a) → P (f y)) :
    P (((Memref.whole b).access (Rect.unit (s := b.ty.shape) off size inb)).write (Elt F) f w Finset.univ y) := by
  by_cases h : y ∈ (Rect.unit (s := b.ty.shape) off size inb).set
  · have h' := Rect.mem_set_unit.mp h
    let x : (Rect.unit (s := b.ty.shape) off size inb).shape.Idx :=
      fun a => ⟨(y a).val - off a, by have := h' a; show _ < size a; omega⟩
    have hx : ∀ a, (y a).val = off a + (x a).val := fun a => by
      have := h' a; show (y a).val = off a + ((y a).val - off a); omega
    have hyx : (Rect.unit (s := b.ty.shape) off size inb).emb x = y := by
      funext a
      exact Fin.ext (by show off a + 1 * (x a).val = (y a).val; rw [hx a, Nat.one_mul])
    have hw := write_in (F := F) b (Rect.unit (s := b.ty.shape) off size inb) f w x
    rw [hyx] at hw
    rw [hw]
    exact hin x hx
  · rw [write_out (F := F) b _ f w y h]
    exact hout fun hh => h (Rect.mem_set_unit.mpr hh)

/-- A `[1, a, b]` array read as an `[a, b]` one. -/
theorem cast_drop {α : Type} {a b : ℕ} (v : (⟨3, ![1, a, b]⟩ : Shape).Idx → α)
    (h : (⟨3, ![1, a, b]⟩ : Shape).ShapeCasts ⟨2, ![a, b]⟩) (x : (⟨2, ![a, b]⟩ : Shape).Idx) :
    shapeCast ⟨2, ![a, b]⟩ v h x = v (ValueIdx.ix3 (0 : Fin 1) (x 0) (x 1)) := by
  have hx : x = ValueIdx.ix2 (x 0) (x 1) := by funext k; fin_cases k <;> rfl
  conv_lhs => rw [hx]
  exact ValueIdx.shapeCast_1ab_ab_apply v h (x 0) (x 1)

/-- An `[a, b]` array read as a `[1, a, b]` one. -/
theorem cast_add {α : Type} {a b : ℕ} (v : (⟨2, ![a, b]⟩ : Shape).Idx → α)
    (h : (⟨2, ![a, b]⟩ : Shape).ShapeCasts ⟨3, ![1, a, b]⟩) (x : (⟨3, ![1, a, b]⟩ : Shape).Idx) :
    shapeCast ⟨3, ![1, a, b]⟩ v h x = v (ValueIdx.ix2 (x 1) (x 2)) := by
  have hx : x = ValueIdx.ix3 (x 0) (x 1) (x 2) := by funext k; fin_cases k <;> rfl
  conv_lhs => rw [hx]
  exact ValueIdx.shapeCast_ab_1ab_apply v h (x 0) (x 1) (x 2)

end Cert.KernelIdeal.Hand
-- ==== Proof.KI.Copy.lean ====
/-
  The strip copies of a tile's activations: from one slot of the ring buffer, 16 rows by 128 columns at a time, into the
  matrix unit's left operand, 16 rows by 256 columns at a time. One lemma for each kind of step.
-/
module

public import proofs.«01_k».proof.Proof.KI.Base
public import Idealize.ShloMosaic.Lib.Pointwise
public import Idealize.ShloMosaic.Lib.ValueLayout

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- An index of the ring buffer of activations. -/
def ix5 (a b c : ℕ) : S2x256x3072.Idx
  | 0 => ⟨a % 2, Nat.mod_lt _ (by decide)⟩
  | 1 => ⟨b % 256, Nat.mod_lt _ (by decide)⟩
  | 2 => ⟨c % 3072, Nat.mod_lt _ (by decide)⟩

theorem ix5_eq (i : S2x256x3072.Idx) (a b c : ℕ) (ha : (i 0).val = a) (hb : (i 1).val = b) (hc : (i 2).val = c) :
    i = ix5 a b c := by
  have h0 : (i 0).val < 2 := (i 0).isLt
  have h1 : (i 1).val < 256 := (i 1).isLt
  have h2 : (i 2).val < 3072 := (i 2).isLt
  funext k
  fin_cases k
  · exact Fin.ext (by subst ha; exact (Nat.mod_eq_of_lt h0).symm)
  · exact Fin.ext (by subst hb; exact (Nat.mod_eq_of_lt h1).symm)
  · exact Fin.ext (by subst hc; exact (Nat.mod_eq_of_lt h2).symm)

/-- The elements of slot `σ` of the ring buffer. -/
def slot5 (c : Dev nD) (σ : ℕ) : Finset (Idx ((c : Thread nD τ).loc cc0_scratch0)) :=
  Finset.univ.filter fun i : S2x256x3072.Idx => (i 0).val = σ

/-- What the copy puts at row `r`, column `j` of the left operand. -/
def rowT (f5 : S2x256x3072.Idx → Elt F .bf16) (σ skip r j : ℕ) : Elt F .bf16 :=
  f5 (ix5 σ ((skip + 16 * (r / 16)) % 256 + r % 16) j)

/-- Strip `(i, k)` as the program loads it. -/
def st3 (f5 : S2x256x3072.Idx → Elt F .bf16) (σ skip i k : ℕ) : Vec F S1x16x128 .bf16 :=
  fun x => rowT f5 σ skip (16 * i + (x 1).val) (128 * k + (x 2).val)

/-- Strip `(i, k)` as a matrix. -/
def st (f5 : S2x256x3072.Idx → Elt F .bf16) (σ skip i k : ℕ) : FVec F S16x128 .bf16 :=
  shapeCast S16x128 (st3 f5 σ skip i k) shapeCasts_S1x16x128_S16x128

/-- Two strips side by side. -/
def cat (f5 : S2x256x3072.Idx → Elt F .bf16) (σ skip i k : ℕ) : FVec F S16x256 .bf16 :=
  concatenate S16x256 1 [⟨S16x128, st f5 σ skip i (2 * k)⟩, ⟨S16x128, st f5 σ skip i (2 * k + 1)⟩]
    concatenates_S16x128_S16x128_S16x256_d1

/-- The left operand holds the copy on the first `n` strips. -/
def Agree (f5 : S2x256x3072.Idx → Elt F .bf16) (σ skip n : ℕ) (fq : S256x3072.Idx → Elt F .bf16) : Prop :=
  ∀ y : S256x3072.Idx, 16 * ((y 1).val / 256) + (y 0).val / 16 < n → fq y = rowT f5 σ skip (y 0).val (y 1).val

/-- What is held while a tile's activations are copied: the ring buffer's slot, and the left operand with the first `n`
    strips done. -/
def InvB (R : PP F) (c : Dev nD) (f5 : S2x256x3072.Idx → Elt F .bf16) (σ skip n : ℕ) : PP F :=
  iprop(part c cc0_scratch0 (slot5 c σ) fullShare f5 ∗
    (∃ fq : S256x3072.Idx → Elt F .bf16, ⌜Agree f5 σ skip n fq⌝ ∗ own c cc0_scratch5 fq) ∗ R)

variable {R : PP F} {c : Dev nD} {f5 : S2x256x3072.Idx → Elt F .bf16} {σ skip n : ℕ} {α : Type} {Q : α → PP F}

/-- A load of a strip. -/
theorem step_ld (hσ : σ < 2) (hs : 16 ∣ skip) (i k : ℕ) (hi : i < 16) (hk : k < 24) {off : Fin 3 → ℕ} {inb}
    {hl : m5.view.LoadsAt (Rect.unit (s := S2x256x3072) off S1x16x128.size inb).toLoadRect}
    {K : Vec F S1x16x128 .bf16 → PG F α}
    (hoff : off = ![σ, (skip + 16 * i) % 256, 128 * k])
    (H : InvB R c f5 σ skip n ⊢ Wp c (K (st3 f5 σ skip i k)) Q) :
    InvB R c f5 σ skip n
      ⊢ Wp c (Prog.lift (.load m5 (Rect.unit (s := S2x256x3072) off S1x16x128.size inb).toLoadRect hl) >>= K) Q := by
  subst hoff
  have hval : m5.view.readAt (Elt F) (Rect.unit (s := S2x256x3072) ![σ, (skip + 16 * i) % 256, 128 * k] S1x16x128.size inb).toLoadRect f5
      = st3 f5 σ skip i k := by
    funext x
    have hx0 : (x 0).val < 1 := (x 0).isLt
    have hx1 : (x 1).val < 16 := (x 1).isLt
    have hx2 : (x 2).val < 128 := (x 2).isLt
    unfold st3 rowT
    refine congrArg f5 (ix5_eq _ _ _ _ ?_ ?_ ?_)
    · show σ + 1 * (x 0).val = σ; omega
    · show (skip + 16 * i) % 256 + 1 * (x 1).val = _
      rw [show (16 * i + (x 1).val) / 16 = i by omega, show (16 * i + (x 1).val) % 16 = (x 1).val by omega]; omega
    · show 128 * k + 1 * (x 2).val = _; omega
  rw [wp_lift]
  unfold InvB at H ⊢
  iintro ⟨H5, Hq, HR⟩
  iapply (wp_load Variants.nat (c : Thread nD τ) none Set.univ (m := m5) (S := slot5 c σ) (f := f5) (by
    intro y hy
    have hy' : (y : S2x256x3072.Idx) ∈ (Rect.unit (s := S2x256x3072) ![σ, (skip + 16 * i) % 256, 128 * k] S1x16x128.size inb).set := by
      rwa [whole_setOn] at hy
    rw [Rect.mem_set_unit] at hy'
    have := hy' 0
    refine Finset.mem_filter.mpr ⟨Finset.mem_univ _, ?_⟩
    have h1 : σ ≤ (y 0).val ∧ (y 0).val < σ + 1 := this
    omega)) $$ H5
  iintro H5
  rw [hval]
  iapply H
  isplitl [H5]; · iexact H5
  isplitl [Hq]; · iexact Hq
  iexact HR

/-- A load of the left operand that nothing reads. -/
theorem step_dead {r : LoadRect S256x3072} {hl : m10.view.LoadsAt r}
    {K : (r.shape.Idx → Elt F .bf16) → PG F α}
    (H : ∀ v, InvB R c f5 σ skip n ⊢ Wp c (K v) Q) :
    InvB R c f5 σ skip n ⊢ Wp c (Prog.lift (.load m10 r hl) >>= K) Q := by
  rw [wp_lift]
  unfold InvB at H ⊢
  iintro ⟨H5, ⟨%fq, %hq, Hq⟩, HR⟩
  iapply (wp_load Variants.nat (c : Thread nD τ) none Set.univ (m := m10) (S := Finset.univ) (f := fq) (Finset.subset_univ _)) $$ Hq
  iintro Hq
  iapply H
  isplitl [H5]; · iexact H5
  isplitl [Hq]
  · iexists fq; isplitr
    · ipureintro; exact hq
    · iexact Hq
  iexact HR

/-- What a store puts on its rectangle. -/
theorem cat_apply (hs : 16 ∣ skip) (i k : ℕ) (x : S16x256.Idx) :
    shapeCast S16x256 (cat f5 σ skip i k) shapeCasts_S16x256_S16x256 x
      = rowT f5 σ skip (16 * i + (x 0).val) (256 * k + (x 1).val) := by
  have hx1 : (x 1).val < 256 := (x 1).isLt
  rw [shapeCast_self]
  unfold cat
  rw [concatenate_pair_apply]
  have hx0 : (x 0).val < 16 := (x 0).isLt
  split
  · rename_i hlt
    have hlt' : (x 1).val < 128 := hlt
    unfold st
    rw [cast_drop]
    show rowT f5 σ skip (16 * i + (x 0).val) (128 * (2 * k) + (x 1).val) = _
    congr 1; omega
  · rename_i hlt
    have hlt' : ¬ (x 1).val < 128 := hlt
    unfold st
    rw [cast_drop]
    show rowT f5 σ skip (16 * i + (x 0).val) (128 * (2 * k + 1) + ((x 1).val - 128)) = _
    congr 1; omega

/-- A store of two strips. -/
theorem step_st (hs : 16 ∣ skip) (i k : ℕ) (hi : i < 16) (hk : k < 12) {off : Fin 2 → ℕ} {inb} {Mk : Finset S16x256.Idx}
    {hx : (m10.access (Rect.unit (s := S256x3072) off S16x256.size inb)).Stores Mk} {hm}
    {pay : Vec F S16x256 .bf16} {K : PUnit → PG F α}
    (hMk : Mk = Finset.univ)
    (hoff : off = ![16 * i, 256 * k])
    (hpay : pay = shapeCast S16x256 (cat f5 σ skip i k) shapeCasts_S16x256_S16x256)
    (H : InvB R c f5 σ skip (n + 1) ⊢ Wp c (K ⟨⟩) Q) (hn : n = 16 * k + i) :
    InvB R c f5 σ skip n
      ⊢ Wp c (Prog.lift (.store m10 (Rect.unit (s := S256x3072) off S16x256.size inb) pay Mk hx hm) >>= K) Q := by
  subst hoff hMk
  rw [wp_lift]
  unfold InvB at H ⊢
  iintro ⟨H5, ⟨%fq, %hq, Hq⟩, HR⟩
  iapply (wp_store Variants.nat (c : Thread nD τ) none Set.univ (m := m10)
    (r := Rect.unit (s := S256x3072) ![16 * i, 256 * k] S16x256.size inb) (S := Finset.univ) (f := fq) (Finset.subset_univ _)) $$ Hq
  iintro Hq
  iapply H
  isplitl [H5]; · iexact H5
  isplitl [Hq]
  · iexists _; isplitr
    rotate_left
    · iexact Hq
    · ipureintro
      intro y hy
      have hy0 : (y 0).val < 256 := (y 0).isLt
      have hy1 : (y 1).val < 3072 := (y 1).isLt
      refine write_cases (F := F) cc0_scratch5 ![16 * i, 256 * k] S16x256.size inb fq pay y
        (fun v => v = rowT f5 σ skip (y 0).val (y 1).val) (fun x hx => ?_) (fun h => ?_)
      · rw [hpay, cat_apply hs]
        have e0 : (y 0).val = 16 * i + (x 0).val := hx 0
        have e1 : (y 1).val = 256 * k + (x 1).val := hx 1
        rw [e0, e1]
      · apply hq
        have h' : ¬ ((16 * i ≤ (y 0).val ∧ (y 0).val < 16 * i + 16) ∧ (256 * k ≤ (y 1).val ∧ (y 1).val < 256 * k + 256)) := by
          intro hh
          apply h
          intro a
          fin_cases a
          · exact hh.1
          · exact hh.2
        omega
  iexact HR

/-- The end of a piece of the program. -/
theorem step_ret {a : α} (H : InvB R c f5 σ skip n ⊢ Q a) : InvB R c f5 σ skip n ⊢ Wp c (pure a) Q :=
  H.trans fupd_intro

/-- A piece of the program ahead of the rest. -/
theorem step_bind {β : Type} {p : PG F β} {k : β → PG F α} {P : PP F} (H : P ⊢ Wp c p (fun a => Wp c (k a) Q)) :
    P ⊢ Wp c (p >>= k) Q := by
  unfold Wp; rw [wp_bind]; exact H

/-- The row a strip starts at, in the words of the program. -/
theorem row_word {x imm : BitVec 32} {i : ℕ} (himm : imm.toNat = 16 * i) :
    (Scalar.andi (Scalar.addi x imm) 255#32).toNat = (x.toNat + 16 * i) % 256 := by
  rw [WordArith.toNat_andi_lowMask _ 255#32 8 (by decide)]
  show (x + imm).toNat % 2 ^ 8 = _
  rw [BitVec.toNat_add, himm]
  omega

/-- The corner of a strip, in the words of the program. -/
theorem offEq {iv v93 imm : BitVec 32} {i K : ℕ} (hσ : (Scalar.andi iv 1#32).toNat = σ)
    (hsk : (Scalar.subi v93 (Scalar.minsi v93 12032#32)).toNat = skip) (himm : imm.toNat = 16 * i) :
    ![(Scalar.andi iv 1#32).toNat, (Scalar.andi (Scalar.addi (Scalar.subi v93 (Scalar.minsi v93 12032#32)) imm) 255#32).toNat, K]
      = ![σ, (skip + 16 * i) % 256, K] := by
  rw [hσ, row_word himm, hsk]

end Cert.KernelIdeal.Hand
-- ==== Proof.KI.Rules.lean ====
/-
  The rules for single steps of the program: side conditions, branches, transfers, and the tables of words.
-/
module

public import proofs.«01_k».proof.Proof.KI.Base

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

variable {α : Type} {c : Dev nD}

/-- The transfers' counters. -/
abbrev EC : UEmb Counters (MM F) := countersEmb (U := Pipeline.UD sig nD τ)

/-- Owning the semaphore `sm` at value `n`. -/
abbrev sval (c : Dev nD) (sm : SemLoc sig) (n : ℕ) : PP F := semVal ((c : Thread nD τ), sm) n

/-- The waits done so far, and nothing owed. -/
abbrev owed (c : Dev nD) : PP F := iprop(∃ W, owes (c : Thread nD τ) 0 W)

/-! ### Side conditions and branches -/

theorem as_rule {P : Prop} {d : Decidable P} {K : PLift P → PG F α} {Q : α → PP F} (h : P) :
    Wp c (K ⟨h⟩) Q ⊢ Wp c (Prog.lift (.assume P d) >>= K) Q := by
  rw [wp_lift]; exact wp_assume _ _ _ _ h

theorem step_dite {A : Prop} {_ : Decidable A} {X : A → PG F α} {R : PG F α} {Q : α → PP F} {P Mid : PP F}
    (hR : Mid ⊢ Wp c R Q) (hA : (Mid ⊢ Wp c R Q) → ∀ h : A, P ⊢ Wp c (X h) Q) (hN : ¬ A → P ⊢ Mid) :
    P ⊢ Wp c (dite A X (fun _ => R)) Q := by
  by_cases h : A
  · rw [dif_pos h]; exact hA hR h
  · rw [dif_neg h]; exact (hN h).trans hR

/-! ### Transfers -/

/-- A transfer under way on `sm` that will deliver `D`; the elements it has no use for are kept beside it. -/
def Fly (c : Dev nD) (sm : SemLoc sig) (N : ℕ) (D : PP F) : PP F :=
  iprop(∃ D0 Rm : PP F, Transfers.Flight EC (c : Thread nD τ) sm () N D0 ∗ Rm ∗ ⌜iprop(D0 ∗ Rm) ⊢ D⌝)

theorem Fly_mono {sm : SemLoc sig} {N : ℕ} {D D' : PP F} (h : D ⊢ D') : Fly c sm N D ⊢ Fly c sm N D' := by
  unfold Fly
  iintro ⟨%D0, %Rm, HF, HR, %hD⟩
  iexists D0; iexists Rm
  isplitl [HF]; · iexact HF
  isplitl [HR]; · iexact HR
  ipureintro; exact hD.trans h

theorem fly_start {Q : α → PP F} {cs cs' : Space} {s : Shape} {e : EltTy}
    {src : Memref sig .tc cs s e} {dst : Memref sig .tc cs' s e} {sm : SemLoc sig}
    {hsrc : src.view.WordExact} {hdst : dst.view.WordExact} {hsem : DmaTarget.Typed (nD := nD) (p := Proc.tc (τ := τ)) cs sm (.here dst)}
    {K : PUnit → PG F α} {q : PosShare TreeShare} {fs : Buf (Elt F) (src.view.loc (c : Thread nD τ))}
    {Sd : Finset (Idx (dst.view.loc (c : Thread nD τ)))} {fd : Buf (Elt F) (dst.view.loc (c : Thread nD τ))}
    (N : ℕ) (hN : dst.view.amount sm = N) (hN0 : 0 < N) (hSd : dst.view.set ⊆ Sd) :
    iprop((src.view.loc (c : Thread nD τ) ↦{q} fs) ∗ (dst.view.loc (c : Thread nD τ) ↦[Sd]{fullShare} fd) ∗ sval c sm 0)
      ⊢ iprop((Fly c sm N iprop((dst.view.loc (c : Thread nD τ) ↦[Sd]{fullShare} (dst.view.write (Elt F) fd (src.view.read (Elt F) fs) Finset.univ))
                 ∗ (src.view.loc (c : Thread nD τ) ↦{q} fs)) -∗ Wp c (K ⟨⟩) Q)
          -∗ Wp c (Prog.lift (.enqueueDma src (.here dst) sm hsrc hdst hsem) >>= K) Q) := by
  rw [wp_lift]
  iintro ⟨Hs, Hd, Hv⟩ HK
  ihave Hs2 := (pointsTo_split_subset (I := src.view.set) (Finset.subset_univ _)).1 $$ Hs
  icases Hs2 with ⟨Hs, Hr⟩
  iapply (Transfers.wp_dmaLocal EC Variants.nat (c : Thread nD τ) none () N hN hN0 hSd) $$ [Hs Hd Hv]
  · isplitl [Hs]; · iexact Hs
    isplitl [Hd]; · iexact Hd
    iexact Hv
  iintro HF
  iapply HK
  unfold Fly
  iexists _; iexists _
  isplitl [HF]; · iexact HF
  isplitl [Hr]; · iexact Hr
  ipureintro
  iintro ⟨⟨Hd, Hs⟩, Hr⟩
  isplitl [Hd]; · iexact Hd
  iapply (pointsTo_split_subset (I := src.view.set) (Finset.subset_univ _)).2
  isplitl [Hs]; · iexact Hs
  iexact Hr

theorem fly_wait {Q : α → PP F} {cs cs' : Space} {s s' : Shape} {e e' : EltTy} {sem : DmaSem sig}
    {srcw : Memref sig .tc cs s' e'} {dstw : Memref sig .tc cs' s e} {hsrc : srcw.view.WordExact} {hdst : dstw.view.WordExact}
    {K : PUnit → PG F α} {N : ℕ} {D : PP F} (hN : dstw.view.dmaCredit = N) :
    iprop(Fly c (.dma sem) N D ∗ owed c)
      ⊢ iprop((iprop(D ∗ sval c (.dma sem) 0 ∗ owed c) -∗ Wp c (K ⟨⟩) Q)
          -∗ Wp c (Prog.lift (.waitDma2 sem srcw dstw hsrc hdst) >>= K) Q) := by
  rw [wp_lift]
  unfold Fly
  iintro ⟨⟨%D0, %Rm, HF, HR, %hD⟩, ⟨%W, HO⟩⟩ HK
  iapply (Transfers.wp_waitLocal EC Variants.nat (c : Thread nD τ) none () hN) $$ [HF HO]
  · isplitl [HF]; · iexact HF
    iexact HO
  iintro ⟨HD, Hv, HO⟩
  iapply HK
  isplitl [HD HR]
  · iapply hD; isplitl [HD]; · iexact HD
    iexact HR
  isplitl [Hv]; · iexact Hv
  iexists _; iexact HO

/-! ### Tables of words -/

/-- The index of entry `n`. -/
def jx64 (n : ℕ) : S64.Idx
  | 0 => ⟨n % 64, Nat.mod_lt n (by decide)⟩

/-- The index of size `n`. -/
def jx8 (n : ℕ) : S8.Idx
  | 0 => ⟨n % 8, Nat.mod_lt n (by decide)⟩

/-- Entry `n` of a table. -/
def rd (f : S64.Idx → BitVec 32) (n : ℕ) : BitVec 32 := f (jx64 n)

/-- A table with one entry replaced. -/
def upd (f : S64.Idx → BitVec 32) (n : ℕ) (v : BitVec 32) : S64.Idx → BitVec 32 := fun y => if (y 0).val = n then v else f y

theorem rd_upd_same (f : S64.Idx → BitVec 32) (n : ℕ) (v : BitVec 32) (h : n < 64) : rd (upd f n v) n = v := by
  unfold rd upd; rw [if_pos]; exact Nat.mod_eq_of_lt h

theorem rd_upd_ne (f : S64.Idx → BitVec 32) (n k : ℕ) (v : BitVec 32) (h : k < 64) (hk : k ≠ n) : rd (upd f n v) k = rd f k := by
  unfold rd upd; rw [if_neg]; intro hh
  exact hk (by rw [← hh]; exact (Nat.mod_eq_of_lt h).symm)

/-- Entry `n` of the row of sizes. -/
def rd8 (f : S8.Idx → BitVec 32) (n : ℕ) : BitVec 32 := f (jx8 n)

theorem ld0 {Q : α → PP F} {off : Fin 1 → ℕ} {inb} {hl hp} {f : S8.Idx → BitVec 32} {K : BitVec 32 → PG F α} (n : ℕ) (hoff : off = ![n]) :
    own (F := F) c cc0_stg0_0 f ⊢ iprop((own (F := F) c cc0_stg0_0 f -∗ Wp c (K (rd8 f n)) Q)
      -∗ Wp c (smemLoad m0 (Rect.unit (s := S8) off S1.size inb) hl hp >>= K) Q) := by
  subst hoff
  have hn : n < 8 := by have := inb 0; exact this
  have hv : ∀ x, (m0.access (Rect.unit (s := S8) ![n] S1.size inb)).read (Elt F) f x = rd8 f n := by
    intro x
    refine congrArg f (funext fun a => ?_)
    fin_cases a
    have hx0 : (x 0).val < 1 := (x 0).isLt
    refine Fin.ext ?_
    show n + 1 * (x 0).val = n % 8
    rw [Nat.mod_eq_of_lt hn]; omega
  have h := wp_smemLoadElt (defs := defs₀ (F := F)) Variants.nat (c : Thread nD τ) none Set.univ (Q := Q) (m := m0) (k := K) (r := Rect.unit (s := S8) ![n] S1.size inb)
    (hw := View.loads_smem_one hp hl) (x := Shape.Idx.first (hl.symm ▸ Nat.one_pos)) (S := Finset.univ) (q := fullShare) (f := f) (Γ := ∅) (Finset.subset_univ _)
  rw [hv] at h
  exact h

theorem ld13 {Q : α → PP F} {off : Fin 1 → ℕ} {inb} {hl hp} {f : S64.Idx → BitVec 32} {K : BitVec 32 → PG F α} (n : ℕ) (hoff : off = ![n]) :
    own (F := F) c cc0_scratch8 f ⊢ iprop((own (F := F) c cc0_scratch8 f -∗ Wp c (K (rd f n)) Q)
      -∗ Wp c (smemLoad m13 (Rect.unit (s := S64) off S1.size inb) hl hp >>= K) Q) := by
  subst hoff
  have hn : n < 64 := by have := inb 0; exact this
  have hv : ∀ x, (m13.access (Rect.unit (s := S64) ![n] S1.size inb)).read (Elt F) f x = rd f n := by
    intro x
    refine congrArg f (funext fun a => ?_)
    fin_cases a
    have hx0 : (x 0).val < 1 := (x 0).isLt
    refine Fin.ext ?_
    show n + 1 * (x 0).val = n % 64
    rw [Nat.mod_eq_of_lt hn]; omega
  have h := wp_smemLoadElt (defs := defs₀ (F := F)) Variants.nat (c : Thread nD τ) none Set.univ (Q := Q) (m := m13) (k := K) (r := Rect.unit (s := S64) ![n] S1.size inb)
    (hw := View.loads_smem_one hp hl) (x := Shape.Idx.first (hl.symm ▸ Nat.one_pos)) (S := Finset.univ) (q := fullShare) (f := f) (Γ := ∅) (Finset.subset_univ _)
  rw [hv] at h
  exact h

theorem st13v (n : ℕ) (inb) (f : S64.Idx → BitVec 32) (v : BitVec 32) :
    (m13.access (Rect.unit (s := S64) ![n] S1.size inb)).write (Elt F) f (fun _ => v) Finset.univ = upd f n v := by
  funext y
  refine write_cases (F := F) cc0_scratch8 ![n] S1.size inb f (fun _ => v) y (fun z => z = upd f n v y) ?_ ?_
  · intro x hx
    have h1 : (y 0).val = n + (x 0).val := hx 0
    have hx0 : (x 0).val < 1 := (x 0).isLt
    have h2 : (y 0).val = n := by omega
    exact (if_pos h2).symm
  · intro h
    have h2 : ¬ (y 0).val = n := by
      intro hh; apply h; intro a
      have ha : a = (0 : Fin 1) := Subsingleton.elim (α := Fin 1) _ _
      rw [ha]
      exact ⟨Nat.le_of_eq hh.symm, Nat.lt_succ_of_le (Nat.le_of_eq hh)⟩
    exact (if_neg h2).symm

theorem st13 {Q : α → PP F} {off : Fin 1 → ℕ} {inb} {f : S64.Idx → BitVec 32} {v : BitVec 32} {Mk : Finset S1.Idx}
    {hx : (m13.access (Rect.unit (s := S64) off S1.size inb)).Stores Mk} {hm}
    {K : PUnit → PG F α} (n : ℕ) (hoff : off = ![n]) (hMk : Mk = Finset.univ) :
    own (F := F) c cc0_scratch8 f ⊢ iprop((own (F := F) c cc0_scratch8 (upd f n v) -∗ Wp c (K ⟨⟩) Q)
      -∗ Wp c (Prog.lift (.store m13 (Rect.unit (s := S64) off S1.size inb) (fun _ => v) Mk hx hm) >>= K) Q) := by
  subst hoff hMk
  have h := wp_store (defs := defs₀ (F := F)) Variants.nat (c : Thread nD τ) none Set.univ (Q := Q) (m := m13) (r := Rect.unit (s := S64) ![n] S1.size inb)
    (w := fun _ => v) (hx := hx) (hm := hm) (k := K) (S := Finset.univ) (f := f) (Γ := ∅) (Finset.subset_univ _)
  rw [st13v] at h
  exact h

theorem ld14 {Q : α → PP F} {off : Fin 1 → ℕ} {inb} {hl hp} {f : S64.Idx → BitVec 32} {K : BitVec 32 → PG F α} (n : ℕ) (hoff : off = ![n]) :
    own (F := F) c cc0_scratch9 f ⊢ iprop((own (F := F) c cc0_scratch9 f -∗ Wp c (K (rd f n)) Q)
      -∗ Wp c (smemLoad m14 (Rect.unit (s := S64) off S1.size inb) hl hp >>= K) Q) := by
  subst hoff
  have hn : n < 64 := by have := inb 0; exact this
  have hv : ∀ x, (m14.access (Rect.unit (s := S64) ![n] S1.size inb)).read (Elt F) f x = rd f n := by
    intro x
    refine congrArg f (funext fun a => ?_)
    fin_cases a
    have hx0 : (x 0).val < 1 := (x 0).isLt
    refine Fin.ext ?_
    show n + 1 * (x 0).val = n % 64
    rw [Nat.mod_eq_of_lt hn]; omega
  have h := wp_smemLoadElt (defs := defs₀ (F := F)) Variants.nat (c : Thread nD τ) none Set.univ (Q := Q) (m := m14) (k := K) (r := Rect.unit (s := S64) ![n] S1.size inb)
    (hw := View.loads_smem_one hp hl) (x := Shape.Idx.first (hl.symm ▸ Nat.one_pos)) (S := Finset.univ) (q := fullShare) (f := f) (Γ := ∅) (Finset.subset_univ _)
  rw [hv] at h
  exact h

theorem st14v (n : ℕ) (inb) (f : S64.Idx → BitVec 32) (v : BitVec 32) :
    (m14.access (Rect.unit (s := S64) ![n] S1.size inb)).write (Elt F) f (fun _ => v) Finset.univ = upd f n v := by
  funext y
  refine write_cases (F := F) cc0_scratch9 ![n] S1.size inb f (fun _ => v) y (fun z => z = upd f n v y) ?_ ?_
  · intro x hx
    have h1 : (y 0).val = n + (x 0).val := hx 0
    have hx0 : (x 0).val < 1 := (x 0).isLt
    have h2 : (y 0).val = n := by omega
    exact (if_pos h2).symm
  · intro h
    have h2 : ¬ (y 0).val = n := by
      intro hh; apply h; intro a
      have ha : a = (0 : Fin 1) := Subsingleton.elim (α := Fin 1) _ _
      rw [ha]
      exact ⟨Nat.le_of_eq hh.symm, Nat.lt_succ_of_le (Nat.le_of_eq hh)⟩
    exact (if_neg h2).symm

theorem st14 {Q : α → PP F} {off : Fin 1 → ℕ} {inb} {f : S64.Idx → BitVec 32} {v : BitVec 32} {Mk : Finset S1.Idx}
    {hx : (m14.access (Rect.unit (s := S64) off S1.size inb)).Stores Mk} {hm}
    {K : PUnit → PG F α} (n : ℕ) (hoff : off = ![n]) (hMk : Mk = Finset.univ) :
    own (F := F) c cc0_scratch9 f ⊢ iprop((own (F := F) c cc0_scratch9 (upd f n v) -∗ Wp c (K ⟨⟩) Q)
      -∗ Wp c (Prog.lift (.store m14 (Rect.unit (s := S64) off S1.size inb) (fun _ => v) Mk hx hm) >>= K) Q) := by
  subst hoff hMk
  have h := wp_store (defs := defs₀ (F := F)) Variants.nat (c : Thread nD τ) none Set.univ (Q := Q) (m := m14) (r := Rect.unit (s := S64) ![n] S1.size inb)
    (w := fun _ => v) (hx := hx) (hm := hm) (k := K) (S := Finset.univ) (f := f) (Γ := ∅) (Finset.subset_univ _)
  rw [st14v] at h
  exact h

theorem ld15 {Q : α → PP F} {off : Fin 1 → ℕ} {inb} {hl hp} {f : S64.Idx → BitVec 32} {K : BitVec 32 → PG F α} (n : ℕ) (hoff : off = ![n]) :
    own (F := F) c cc0_scratch10 f ⊢ iprop((own (F := F) c cc0_scratch10 f -∗ Wp c (K (rd f n)) Q)
      -∗ Wp c (smemLoad m15 (Rect.unit (s := S64) off S1.size inb) hl hp >>= K) Q) := by
  subst hoff
  have hn : n < 64 := by have := inb 0; exact this
  have hv : ∀ x, (m15.access (Rect.unit (s := S64) ![n] S1.size inb)).read (Elt F) f x = rd f n := by
    intro x
    refine congrArg f (funext fun a => ?_)
    fin_cases a
    have hx0 : (x 0).val < 1 := (x 0).isLt
    refine Fin.ext ?_
    show n + 1 * (x 0).val = n % 64
    rw [Nat.mod_eq_of_lt hn]; omega
  have h := wp_smemLoadElt (defs := defs₀ (F := F)) Variants.nat (c : Thread nD τ) none Set.univ (Q := Q) (m := m15) (k := K) (r := Rect.unit (s := S64) ![n] S1.size inb)
    (hw := View.loads_smem_one hp hl) (x := Shape.Idx.first (hl.symm ▸ Nat.one_pos)) (S := Finset.univ) (q := fullShare) (f := f) (Γ := ∅) (Finset.subset_univ _)
  rw [hv] at h
  exact h

theorem st15v (n : ℕ) (inb) (f : S64.Idx → BitVec 32) (v : BitVec 32) :
    (m15.access (Rect.unit (s := S64) ![n] S1.size inb)).write (Elt F) f (fun _ => v) Finset.univ = upd f n v := by
  funext y
  refine write_cases (F := F) cc0_scratch10 ![n] S1.size inb f (fun _ => v) y (fun z => z = upd f n v y) ?_ ?_
  · intro x hx
    have h1 : (y 0).val = n + (x 0).val := hx 0
    have hx0 : (x 0).val < 1 := (x 0).isLt
    have h2 : (y 0).val = n := by omega
    exact (if_pos h2).symm
  · intro h
    have h2 : ¬ (y 0).val = n := by
      intro hh; apply h; intro a
      have ha : a = (0 : Fin 1) := Subsingleton.elim (α := Fin 1) _ _
      rw [ha]
      exact ⟨Nat.le_of_eq hh.symm, Nat.lt_succ_of_le (Nat.le_of_eq hh)⟩
    exact (if_neg h2).symm

theorem st15 {Q : α → PP F} {off : Fin 1 → ℕ} {inb} {f : S64.Idx → BitVec 32} {v : BitVec 32} {Mk : Finset S1.Idx}
    {hx : (m15.access (Rect.unit (s := S64) off S1.size inb)).Stores Mk} {hm}
    {K : PUnit → PG F α} (n : ℕ) (hoff : off = ![n]) (hMk : Mk = Finset.univ) :
    own (F := F) c cc0_scratch10 f ⊢ iprop((own (F := F) c cc0_scratch10 (upd f n v) -∗ Wp c (K ⟨⟩) Q)
      -∗ Wp c (Prog.lift (.store m15 (Rect.unit (s := S64) off S1.size inb) (fun _ => v) Mk hx hm) >>= K) Q) := by
  subst hoff hMk
  have h := wp_store (defs := defs₀ (F := F)) Variants.nat (c : Thread nD τ) none Set.univ (Q := Q) (m := m15) (r := Rect.unit (s := S64) ![n] S1.size inb)
    (w := fun _ => v) (hx := hx) (hm := hm) (k := K) (S := Finset.univ) (f := f) (Γ := ∅) (Finset.subset_univ _)
  rw [st15v] at h
  exact h

theorem ld16 {Q : α → PP F} {off : Fin 1 → ℕ} {inb} {hl hp} {f : S64.Idx → BitVec 32} {K : BitVec 32 → PG F α} (n : ℕ) (hoff : off = ![n]) :
    own (F := F) c cc0_scratch11 f ⊢ iprop((own (F := F) c cc0_scratch11 f -∗ Wp c (K (rd f n)) Q)
      -∗ Wp c (smemLoad m16 (Rect.unit (s := S64) off S1.size inb) hl hp >>= K) Q) := by
  subst hoff
  have hn : n < 64 := by have := inb 0; exact this
  have hv : ∀ x, (m16.access (Rect.unit (s := S64) ![n] S1.size inb)).read (Elt F) f x = rd f n := by
    intro x
    refine congrArg f (funext fun a => ?_)
    fin_cases a
    have hx0 : (x 0).val < 1 := (x 0).isLt
    refine Fin.ext ?_
    show n + 1 * (x 0).val = n % 64
    rw [Nat.mod_eq_of_lt hn]; omega
  have h := wp_smemLoadElt (defs := defs₀ (F := F)) Variants.nat (c : Thread nD τ) none Set.univ (Q := Q) (m := m16) (k := K) (r := Rect.unit (s := S64) ![n] S1.size inb)
    (hw := View.loads_smem_one hp hl) (x := Shape.Idx.first (hl.symm ▸ Nat.one_pos)) (S := Finset.univ) (q := fullShare) (f := f) (Γ := ∅) (Finset.subset_univ _)
  rw [hv] at h
  exact h

theorem st16v (n : ℕ) (inb) (f : S64.Idx → BitVec 32) (v : BitVec 32) :
    (m16.access (Rect.unit (s := S64) ![n] S1.size inb)).write (Elt F) f (fun _ => v) Finset.univ = upd f n v := by
  funext y
  refine write_cases (F := F) cc0_scratch11 ![n] S1.size inb f (fun _ => v) y (fun z => z = upd f n v y) ?_ ?_
  · intro x hx
    have h1 : (y 0).val = n + (x 0).val := hx 0
    have hx0 : (x 0).val < 1 := (x 0).isLt
    have h2 : (y 0).val = n := by omega
    exact (if_pos h2).symm
  · intro h
    have h2 : ¬ (y 0).val = n := by
      intro hh; apply h; intro a
      have ha : a = (0 : Fin 1) := Subsingleton.elim (α := Fin 1) _ _
      rw [ha]
      exact ⟨Nat.le_of_eq hh.symm, Nat.lt_succ_of_le (Nat.le_of_eq hh)⟩
    exact (if_neg h2).symm

theorem st16 {Q : α → PP F} {off : Fin 1 → ℕ} {inb} {f : S64.Idx → BitVec 32} {v : BitVec 32} {Mk : Finset S1.Idx}
    {hx : (m16.access (Rect.unit (s := S64) off S1.size inb)).Stores Mk} {hm}
    {K : PUnit → PG F α} (n : ℕ) (hoff : off = ![n]) (hMk : Mk = Finset.univ) :
    own (F := F) c cc0_scratch11 f ⊢ iprop((own (F := F) c cc0_scratch11 (upd f n v) -∗ Wp c (K ⟨⟩) Q)
      -∗ Wp c (Prog.lift (.store m16 (Rect.unit (s := S64) off S1.size inb) (fun _ => v) Mk hx hm) >>= K) Q) := by
  subst hoff hMk
  have h := wp_store (defs := defs₀ (F := F)) Variants.nat (c : Thread nD τ) none Set.univ (Q := Q) (m := m16) (r := Rect.unit (s := S64) ![n] S1.size inb)
    (w := fun _ => v) (hx := hx) (hm := hm) (k := K) (S := Finset.univ) (f := f) (Γ := ∅) (Finset.subset_univ _)
  rw [st16v] at h
  exact h

theorem ld17 {Q : α → PP F} {off : Fin 1 → ℕ} {inb} {hl hp} {f : S64.Idx → BitVec 32} {K : BitVec 32 → PG F α} (n : ℕ) (hoff : off = ![n]) :
    own (F := F) c cc0_scratch12 f ⊢ iprop((own (F := F) c cc0_scratch12 f -∗ Wp c (K (rd f n)) Q)
      -∗ Wp c (smemLoad m17 (Rect.unit (s := S64) off S1.size inb) hl hp >>= K) Q) := by
  subst hoff
  have hn : n < 64 := by have := inb 0; exact this
  have hv : ∀ x, (m17.access (Rect.unit (s := S64) ![n] S1.size inb)).read (Elt F) f x = rd f n := by
    intro x
    refine congrArg f (funext fun a => ?_)
    fin_cases a
    have hx0 : (x 0).val < 1 := (x 0).isLt
    refine Fin.ext ?_
    show n + 1 * (x 0).val = n % 64
    rw [Nat.mod_eq_of_lt hn]; omega
  have h := wp_smemLoadElt (defs := defs₀ (F := F)) Variants.nat (c : Thread nD τ) none Set.univ (Q := Q) (m := m17) (k := K) (r := Rect.unit (s := S64) ![n] S1.size inb)
    (hw := View.loads_smem_one hp hl) (x := Shape.Idx.first (hl.symm ▸ Nat.one_pos)) (S := Finset.univ) (q := fullShare) (f := f) (Γ := ∅) (Finset.subset_univ _)
  rw [hv] at h
  exact h

theorem st17v (n : ℕ) (inb) (f : S64.Idx → BitVec 32) (v : BitVec 32) :
    (m17.access (Rect.unit (s := S64) ![n] S1.size inb)).write (Elt F) f (fun _ => v) Finset.univ = upd f n v := by
  funext y
  refine write_cases (F := F) cc0_scratch12 ![n] S1.size inb f (fun _ => v) y (fun z => z = upd f n v y) ?_ ?_
  · intro x hx
    have h1 : (y 0).val = n + (x 0).val := hx 0
    have hx0 : (x 0).val < 1 := (x 0).isLt
    have h2 : (y 0).val = n := by omega
    exact (if_pos h2).symm
  · intro h
    have h2 : ¬ (y 0).val = n := by
      intro hh; apply h; intro a
      have ha : a = (0 : Fin 1) := Subsingleton.elim (α := Fin 1) _ _
      rw [ha]
      exact ⟨Nat.le_of_eq hh.symm, Nat.lt_succ_of_le (Nat.le_of_eq hh)⟩
    exact (if_neg h2).symm

theorem st17 {Q : α → PP F} {off : Fin 1 → ℕ} {inb} {f : S64.Idx → BitVec 32} {v : BitVec 32} {Mk : Finset S1.Idx}
    {hx : (m17.access (Rect.unit (s := S64) off S1.size inb)).Stores Mk} {hm}
    {K : PUnit → PG F α} (n : ℕ) (hoff : off = ![n]) (hMk : Mk = Finset.univ) :
    own (F := F) c cc0_scratch12 f ⊢ iprop((own (F := F) c cc0_scratch12 (upd f n v) -∗ Wp c (K ⟨⟩) Q)
      -∗ Wp c (Prog.lift (.store m17 (Rect.unit (s := S64) off S1.size inb) (fun _ => v) Mk hx hm) >>= K) Q) := by
  subst hoff hMk
  have h := wp_store (defs := defs₀ (F := F)) Variants.nat (c : Thread nD τ) none Set.univ (Q := Q) (m := m17) (r := Rect.unit (s := S64) ![n] S1.size inb)
    (w := fun _ => v) (hx := hx) (hm := hm) (k := K) (S := Finset.univ) (f := f) (Γ := ∅) (Finset.subset_univ _)
  rw [st17v] at h
  exact h

end Cert.KernelIdeal.Hand
-- ==== Proof.KI.Moves.lean ====
/-
  Loads and stores of rectangles, and the transfers that bring in activations, weights and scales.
-/
module

public import proofs.«01_k».proof.Proof.KI.Copy
public import proofs.«01_k».proof.Proof.KI.Rules

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

variable {α : Type} {c : Dev nD}

/-! ### Indices -/

/-- An index of a matrix, from any two numbers. -/
def gx2 {A B : ℕ} [NeZero A] [NeZero B] (a b : ℕ) : (⟨2, ![A, B]⟩ : Shape).Idx := ValueIdx.ix2 (Fin.ofNat A a) (Fin.ofNat B b)

/-- An index of a stack of matrices, from any three numbers. -/
def gx3 {A B C : ℕ} [NeZero A] [NeZero B] [NeZero C] (a b c : ℕ) : (⟨3, ![A, B, C]⟩ : Shape).Idx :=
  ValueIdx.ix3 (Fin.ofNat A a) (Fin.ofNat B b) (Fin.ofNat C c)

theorem gx2_eq {A B : ℕ} [NeZero A] [NeZero B] (i : (⟨2, ![A, B]⟩ : Shape).Idx) (a b : ℕ) (ha : (i 0).val = a) (hb : (i 1).val = b) :
    i = gx2 a b := by
  subst ha hb
  have h0 : (i 0).val < A := (i 0).isLt
  have h1 : (i 1).val < B := (i 1).isLt
  funext k
  fin_cases k
  · exact Fin.ext (Nat.mod_eq_of_lt h0).symm
  · exact Fin.ext (Nat.mod_eq_of_lt h1).symm

theorem gx3_eq {A B C : ℕ} [NeZero A] [NeZero B] [NeZero C] (i : (⟨3, ![A, B, C]⟩ : Shape).Idx) (a b c : ℕ)
    (ha : (i 0).val = a) (hb : (i 1).val = b) (hc : (i 2).val = c) : i = gx3 a b c := by
  subst ha hb hc
  have h0 : (i 0).val < A := (i 0).isLt
  have h1 : (i 1).val < B := (i 1).isLt
  have h2 : (i 2).val < C := (i 2).isLt
  funext k
  fin_cases k
  · exact Fin.ext (Nat.mod_eq_of_lt h0).symm
  · exact Fin.ext (Nat.mod_eq_of_lt h1).symm
  · exact Fin.ext (Nat.mod_eq_of_lt h2).symm

theorem gx2_0 {A B : ℕ} [NeZero A] [NeZero B] (a b : ℕ) (h : a < A) : ((gx2 a b : (⟨2, ![A, B]⟩ : Shape).Idx) 0).val = a := Nat.mod_eq_of_lt h
theorem gx2_1 {A B : ℕ} [NeZero A] [NeZero B] (a b : ℕ) (h : b < B) : ((gx2 a b : (⟨2, ![A, B]⟩ : Shape).Idx) 1).val = b := Nat.mod_eq_of_lt h
theorem gx3_0 {A B C : ℕ} [NeZero A] [NeZero B] [NeZero C] (a b c : ℕ) (h : a < A) : ((gx3 a b c : (⟨3, ![A, B, C]⟩ : Shape).Idx) 0).val = a := Nat.mod_eq_of_lt h
theorem gx3_1 {A B C : ℕ} [NeZero A] [NeZero B] [NeZero C] (a b c : ℕ) (h : b < B) : ((gx3 a b c : (⟨3, ![A, B, C]⟩ : Shape).Idx) 1).val = b := Nat.mod_eq_of_lt h
theorem gx3_2 {A B C : ℕ} [NeZero A] [NeZero B] [NeZero C] (a b c : ℕ) (h : c < C) : ((gx3 a b c : (⟨3, ![A, B, C]⟩ : Shape).Idx) 2).val = c := Nat.mod_eq_of_lt h

/-! ### Loads and stores of rectangles of a whole buffer -/

theorem read_whole2 {A B : ℕ} {α : Type} (inb) (f : (⟨2, ![A, B]⟩ : Shape).Idx → α) :
    (fun x => f ((Rect.unit (s := ⟨2, ![A, B]⟩) ![0, 0] (⟨2, ![A, B]⟩ : Shape).size inb).emb x)) = f := by
  funext x
  refine congrArg f (funext fun a => Fin.ext ?_)
  fin_cases a
  · show 0 + 1 * (x 0).val = (x 0).val; omega
  · show 0 + 1 * (x 1).val = (x 1).val; omega

theorem ldr7 {off size : Fin 2 → ℕ} {inb} {hl} {S : Finset S96x1536.Idx} {q : PosShare TreeShare} {f : S96x1536.Idx → Elt F (cc0_scratch2 : Ref sig .tc).ty.elt}
    {Q : α → PP F} {K : ((Rect.unit (s := S96x1536) off size inb).toLoadRect.shape.Idx → Elt F (cc0_scratch2 : Ref sig .tc).ty.elt) → PG F α}
    (hS : ∀ y : S96x1536.Idx, (∀ a, off a ≤ (y a).val ∧ (y a).val < off a + size a) → y ∈ S) :
    part (F := F) c cc0_scratch2 S q f ⊢ iprop((part (F := F) c cc0_scratch2 S q f -∗ Wp c (K (fun x => f ((Rect.unit (s := S96x1536) off size inb).emb x))) Q)
      -∗ Wp c (Prog.lift (.load m7 (Rect.unit (s := S96x1536) off size inb).toLoadRect hl) >>= K) Q) := by
  have h := wp_load (defs := defs₀ (F := F)) Variants.nat (c : Thread nD τ) none Set.univ (Q := Q) (m := m7)
    (r := (Rect.unit (s := S96x1536) off size inb).toLoadRect) (hl := hl)
    (k := K) (S := S) (q := q) (f := f) (Γ := ∅) (by
      intro y hy
      have hy' : (y : S96x1536.Idx) ∈ (Rect.unit (s := S96x1536) off size inb).set := by
        rwa [whole_setOn] at hy
      exact hS y (Rect.mem_set_unit.mp hy'))
  exact h

theorem str7 {off size : Fin 2 → ℕ} {inb} {S : Finset S96x1536.Idx} {f : S96x1536.Idx → Elt F (cc0_scratch2 : Ref sig .tc).ty.elt}
    {w : (Rect.unit (s := S96x1536) off size inb).shape.Idx → Elt F (cc0_scratch2 : Ref sig .tc).ty.elt} {Mk : Finset (Rect.unit (s := S96x1536) off size inb).shape.Idx} {hx hm}
    {Q : α → PP F} {K : PUnit → PG F α} (hMk : Mk = Finset.univ)
    (hS : ∀ y : S96x1536.Idx, (∀ a, off a ≤ (y a).val ∧ (y a).val < off a + size a) → y ∈ S) :
    part (F := F) c cc0_scratch2 S fullShare f
      ⊢ iprop((part (F := F) c cc0_scratch2 S fullShare ((m7.access (Rect.unit (s := S96x1536) off size inb)).write (Elt F) f w Finset.univ) -∗ Wp c (K ⟨⟩) Q)
      -∗ Wp c (Prog.lift (.store m7 (Rect.unit (s := S96x1536) off size inb) w Mk hx hm) >>= K) Q) := by
  subst hMk
  have h := wp_store (defs := defs₀ (F := F)) Variants.nat (c : Thread nD τ) none Set.univ (Q := Q) (m := m7)
    (r := Rect.unit (s := S96x1536) off size inb) (hx := hx) (hm := hm) (w := w)
    (k := K) (S := S) (f := f) (Γ := ∅) (by
      intro y hy
      have hy' : (y : S96x1536.Idx) ∈ (Rect.unit (s := S96x1536) off size inb).set := by
        rw [View.setOn_univ, View.set_slice] at hy
        exact (Finset.mem_map' (Function.Embedding.refl _)).mp hy
      exact hS y (Rect.mem_set_unit.mp hy'))
  exact h

/-- A load of the whole of `m7`. -/
theorem ldw7 {Q : α → PP F} {inb} {hl} {f : S96x1536.Idx → Elt F (cc0_scratch2 : Ref sig .tc).ty.elt} {K : (S96x1536.Idx → Elt F (cc0_scratch2 : Ref sig .tc).ty.elt) → PG F α} :
    own (F := F) c cc0_scratch2 f ⊢ iprop((own (F := F) c cc0_scratch2 f -∗ Wp (α := α) c (K f) Q)
      -∗ Wp c (Prog.lift (.load m7 (Rect.unit (s := S96x1536) ![0, 0] S96x1536.size inb).toLoadRect hl) >>= K) Q) := by
  have h := ldr7 (F := F) (c := c) (off := ![0, 0]) (size := S96x1536.size) (inb := inb) (hl := hl) (S := (Finset.univ : Finset (Idx ((c : Thread nD τ).loc cc0_scratch2)))) (q := fullShare) (f := f) (Q := Q) (K := K)
    (fun y _ => Finset.mem_univ (α := Idx ((c : Thread nD τ).loc cc0_scratch2)) y)
  have hr := read_whole2 inb f
  rw [hr] at h
  exact h

theorem stwv7 (inb) (f w : S96x1536.Idx → Elt F (cc0_scratch2 : Ref sig .tc).ty.elt) :
    (m7.access (Rect.unit (s := S96x1536) ![0, 0] S96x1536.size inb)).write (Elt F) f w Finset.univ = w := by
  funext y
  refine write_cases (F := F) cc0_scratch2 ![0, 0] S96x1536.size inb f w y (fun v => v = w y) ?_ ?_
  · intro x hx
    have h0 : (y 0).val = 0 + (x 0).val := hx 0
    have h1 : (y 1).val = 0 + (x 1).val := hx 1
    refine congrArg w (funext fun a => Fin.ext ?_)
    fin_cases a
    · show (x 0).val = (y 0).val; omega
    · show (x 1).val = (y 1).val; omega
  · intro hh; exfalso; apply hh
    intro a
    have hsz : ∀ a : Fin 2, (![0, 0] : Fin 2 → ℕ) a = 0 := by decide
    have ha := (y a).isLt
    have h0 : (![0, 0] : Fin 2 → ℕ) a = 0 := hsz a
    exact ⟨le_of_eq_of_le h0 (Nat.zero_le _), lt_of_lt_of_eq ha (by rw [show (![0, 0] : Fin 2 → ℕ) a = 0 from h0, Nat.zero_add]; rfl)⟩

/-- A store of the whole of `m7`. -/
theorem stw7 {Q : α → PP F} {inb} {f : S96x1536.Idx → Elt F (cc0_scratch2 : Ref sig .tc).ty.elt} {w : S96x1536.Idx → Elt F (cc0_scratch2 : Ref sig .tc).ty.elt} {Mk : Finset S96x1536.Idx} {hx hm}
    {K : PUnit → PG F α} (hMk : Mk = Finset.univ) :
    own (F := F) c cc0_scratch2 f ⊢ iprop((own (F := F) c cc0_scratch2 w -∗ Wp c (K ⟨⟩) Q)
      -∗ Wp c (Prog.lift (.store m7 (Rect.unit (s := S96x1536) ![0, 0] S96x1536.size inb) w Mk hx hm) >>= K) Q) := by
  have h := str7 (F := F) (c := c) (off := ![0, 0]) (size := S96x1536.size) (inb := inb) (S := (Finset.univ : Finset (Idx ((c : Thread nD τ).loc cc0_scratch2)))) (f := f) (w := w) (Mk := Mk) (hx := hx) (hm := hm) (Q := Q) (K := K)
    hMk (fun y _ => Finset.mem_univ (α := Idx ((c : Thread nD τ).loc cc0_scratch2)) y)
  rw [stwv7] at h
  exact h

theorem ldr8 {off size : Fin 2 → ℕ} {inb} {hl} {S : Finset S3072x1536.Idx} {q : PosShare TreeShare} {f : S3072x1536.Idx → Elt F (cc0_scratch3 : Ref sig .tc).ty.elt}
    {Q : α → PP F} {K : ((Rect.unit (s := S3072x1536) off size inb).toLoadRect.shape.Idx → Elt F (cc0_scratch3 : Ref sig .tc).ty.elt) → PG F α}
    (hS : ∀ y : S3072x1536.Idx, (∀ a, off a ≤ (y a).val ∧ (y a).val < off a + size a) → y ∈ S) :
    part (F := F) c cc0_scratch3 S q f ⊢ iprop((part (F := F) c cc0_scratch3 S q f -∗ Wp c (K (fun x => f ((Rect.unit (s := S3072x1536) off size inb).emb x))) Q)
      -∗ Wp c (Prog.lift (.load m8 (Rect.unit (s := S3072x1536) off size inb).toLoadRect hl) >>= K) Q) := by
  have h := wp_load (defs := defs₀ (F := F)) Variants.nat (c : Thread nD τ) none Set.univ (Q := Q) (m := m8)
    (r := (Rect.unit (s := S3072x1536) off size inb).toLoadRect) (hl := hl)
    (k := K) (S := S) (q := q) (f := f) (Γ := ∅) (by
      intro y hy
      have hy' : (y : S3072x1536.Idx) ∈ (Rect.unit (s := S3072x1536) off size inb).set := by
        rwa [whole_setOn] at hy
      exact hS y (Rect.mem_set_unit.mp hy'))
  exact h

theorem str8 {off size : Fin 2 → ℕ} {inb} {S : Finset S3072x1536.Idx} {f : S3072x1536.Idx → Elt F (cc0_scratch3 : Ref sig .tc).ty.elt}
    {w : (Rect.unit (s := S3072x1536) off size inb).shape.Idx → Elt F (cc0_scratch3 : Ref sig .tc).ty.elt} {Mk : Finset (Rect.unit (s := S3072x1536) off size inb).shape.Idx} {hx hm}
    {Q : α → PP F} {K : PUnit → PG F α} (hMk : Mk = Finset.univ)
    (hS : ∀ y : S3072x1536.Idx, (∀ a, off a ≤ (y a).val ∧ (y a).val < off a + size a) → y ∈ S) :
    part (F := F) c cc0_scratch3 S fullShare f
      ⊢ iprop((part (F := F) c cc0_scratch3 S fullShare ((m8.access (Rect.unit (s := S3072x1536) off size inb)).write (Elt F) f w Finset.univ) -∗ Wp c (K ⟨⟩) Q)
      -∗ Wp c (Prog.lift (.store m8 (Rect.unit (s := S3072x1536) off size inb) w Mk hx hm) >>= K) Q) := by
  subst hMk
  have h := wp_store (defs := defs₀ (F := F)) Variants.nat (c : Thread nD τ) none Set.univ (Q := Q) (m := m8)
    (r := Rect.unit (s := S3072x1536) off size inb) (hx := hx) (hm := hm) (w := w)
    (k := K) (S := S) (f := f) (Γ := ∅) (by
      intro y hy
      have hy' : (y : S3072x1536.Idx) ∈ (Rect.unit (s := S3072x1536) off size inb).set := by
        rw [View.setOn_univ, View.set_slice] at hy
        exact (Finset.mem_map' (Function.Embedding.refl _)).mp hy
      exact hS y (Rect.mem_set_unit.mp hy'))
  exact h

/-- A load of the whole of `m8`. -/
theorem ldw8 {Q : α → PP F} {inb} {hl} {f : S3072x1536.Idx → Elt F (cc0_scratch3 : Ref sig .tc).ty.elt} {K : (S3072x1536.Idx → Elt F (cc0_scratch3 : Ref sig .tc).ty.elt) → PG F α} :
    own (F := F) c cc0_scratch3 f ⊢ iprop((own (F := F) c cc0_scratch3 f -∗ Wp (α := α) c (K f) Q)
      -∗ Wp c (Prog.lift (.load m8 (Rect.unit (s := S3072x1536) ![0, 0] S3072x1536.size inb).toLoadRect hl) >>= K) Q) := by
  have h := ldr8 (F := F) (c := c) (off := ![0, 0]) (size := S3072x1536.size) (inb := inb) (hl := hl) (S := (Finset.univ : Finset (Idx ((c : Thread nD τ).loc cc0_scratch3)))) (q := fullShare) (f := f) (Q := Q) (K := K)
    (fun y _ => Finset.mem_univ (α := Idx ((c : Thread nD τ).loc cc0_scratch3)) y)
  have hr := read_whole2 inb f
  rw [hr] at h
  exact h

theorem stwv8 (inb) (f w : S3072x1536.Idx → Elt F (cc0_scratch3 : Ref sig .tc).ty.elt) :
    (m8.access (Rect.unit (s := S3072x1536) ![0, 0] S3072x1536.size inb)).write (Elt F) f w Finset.univ = w := by
  funext y
  refine write_cases (F := F) cc0_scratch3 ![0, 0] S3072x1536.size inb f w y (fun v => v = w y) ?_ ?_
  · intro x hx
    have h0 : (y 0).val = 0 + (x 0).val := hx 0
    have h1 : (y 1).val = 0 + (x 1).val := hx 1
    refine congrArg w (funext fun a => Fin.ext ?_)
    fin_cases a
    · show (x 0).val = (y 0).val; omega
    · show (x 1).val = (y 1).val; omega
  · intro hh; exfalso; apply hh
    intro a
    have hsz : ∀ a : Fin 2, (![0, 0] : Fin 2 → ℕ) a = 0 := by decide
    have ha := (y a).isLt
    have h0 : (![0, 0] : Fin 2 → ℕ) a = 0 := hsz a
    exact ⟨le_of_eq_of_le h0 (Nat.zero_le _), lt_of_lt_of_eq ha (by rw [show (![0, 0] : Fin 2 → ℕ) a = 0 from h0, Nat.zero_add]; rfl)⟩

/-- A store of the whole of `m8`. -/
theorem stw8 {Q : α → PP F} {inb} {f : S3072x1536.Idx → Elt F (cc0_scratch3 : Ref sig .tc).ty.elt} {w : S3072x1536.Idx → Elt F (cc0_scratch3 : Ref sig .tc).ty.elt} {Mk : Finset S3072x1536.Idx} {hx hm}
    {K : PUnit → PG F α} (hMk : Mk = Finset.univ) :
    own (F := F) c cc0_scratch3 f ⊢ iprop((own (F := F) c cc0_scratch3 w -∗ Wp c (K ⟨⟩) Q)
      -∗ Wp c (Prog.lift (.store m8 (Rect.unit (s := S3072x1536) ![0, 0] S3072x1536.size inb) w Mk hx hm) >>= K) Q) := by
  have h := str8 (F := F) (c := c) (off := ![0, 0]) (size := S3072x1536.size) (inb := inb) (S := (Finset.univ : Finset (Idx ((c : Thread nD τ).loc cc0_scratch3)))) (f := f) (w := w) (Mk := Mk) (hx := hx) (hm := hm) (Q := Q) (K := K)
    hMk (fun y _ => Finset.mem_univ (α := Idx ((c : Thread nD τ).loc cc0_scratch3)) y)
  rw [stwv8] at h
  exact h

theorem ldr9 {off size : Fin 2 → ℕ} {inb} {hl} {S : Finset S96x1536.Idx} {q : PosShare TreeShare} {f : S96x1536.Idx → Elt F (cc0_scratch4 : Ref sig .tc).ty.elt}
    {Q : α → PP F} {K : ((Rect.unit (s := S96x1536) off size inb).toLoadRect.shape.Idx → Elt F (cc0_scratch4 : Ref sig .tc).ty.elt) → PG F α}
    (hS : ∀ y : S96x1536.Idx, (∀ a, off a ≤ (y a).val ∧ (y a).val < off a + size a) → y ∈ S) :
    part (F := F) c cc0_scratch4 S q f ⊢ iprop((part (F := F) c cc0_scratch4 S q f -∗ Wp c (K (fun x => f ((Rect.unit (s := S96x1536) off size inb).emb x))) Q)
      -∗ Wp c (Prog.lift (.load m9 (Rect.unit (s := S96x1536) off size inb).toLoadRect hl) >>= K) Q) := by
  have h := wp_load (defs := defs₀ (F := F)) Variants.nat (c : Thread nD τ) none Set.univ (Q := Q) (m := m9)
    (r := (Rect.unit (s := S96x1536) off size inb).toLoadRect) (hl := hl)
    (k := K) (S := S) (q := q) (f := f) (Γ := ∅) (by
      intro y hy
      have hy' : (y : S96x1536.Idx) ∈ (Rect.unit (s := S96x1536) off size inb).set := by
        rwa [whole_setOn] at hy
      exact hS y (Rect.mem_set_unit.mp hy'))
  exact h

theorem str9 {off size : Fin 2 → ℕ} {inb} {S : Finset S96x1536.Idx} {f : S96x1536.Idx → Elt F (cc0_scratch4 : Ref sig .tc).ty.elt}
    {w : (Rect.unit (s := S96x1536) off size inb).shape.Idx → Elt F (cc0_scratch4 : Ref sig .tc).ty.elt} {Mk : Finset (Rect.unit (s := S96x1536) off size inb).shape.Idx} {hx hm}
    {Q : α → PP F} {K : PUnit → PG F α} (hMk : Mk = Finset.univ)
    (hS : ∀ y : S96x1536.Idx, (∀ a, off a ≤ (y a).val ∧ (y a).val < off a + size a) → y ∈ S) :
    part (F := F) c cc0_scratch4 S fullShare f
      ⊢ iprop((part (F := F) c cc0_scratch4 S fullShare ((m9.access (Rect.unit (s := S96x1536) off size inb)).write (Elt F) f w Finset.univ) -∗ Wp c (K ⟨⟩) Q)
      -∗ Wp c (Prog.lift (.store m9 (Rect.unit (s := S96x1536) off size inb) w Mk hx hm) >>= K) Q) := by
  subst hMk
  have h := wp_store (defs := defs₀ (F := F)) Variants.nat (c : Thread nD τ) none Set.univ (Q := Q) (m := m9)
    (r := Rect.unit (s := S96x1536) off size inb) (hx := hx) (hm := hm) (w := w)
    (k := K) (S := S) (f := f) (Γ := ∅) (by
      intro y hy
      have hy' : (y : S96x1536.Idx) ∈ (Rect.unit (s := S96x1536) off size inb).set := by
        rw [View.setOn_univ, View.set_slice] at hy
        exact (Finset.mem_map' (Function.Embedding.refl _)).mp hy
      exact hS y (Rect.mem_set_unit.mp hy'))
  exact h

/-- A load of the whole of `m9`. -/
theorem ldw9 {Q : α → PP F} {inb} {hl} {f : S96x1536.Idx → Elt F (cc0_scratch4 : Ref sig .tc).ty.elt} {K : (S96x1536.Idx → Elt F (cc0_scratch4 : Ref sig .tc).ty.elt) → PG F α} :
    own (F := F) c cc0_scratch4 f ⊢ iprop((own (F := F) c cc0_scratch4 f -∗ Wp (α := α) c (K f) Q)
      -∗ Wp c (Prog.lift (.load m9 (Rect.unit (s := S96x1536) ![0, 0] S96x1536.size inb).toLoadRect hl) >>= K) Q) := by
  have h := ldr9 (F := F) (c := c) (off := ![0, 0]) (size := S96x1536.size) (inb := inb) (hl := hl) (S := (Finset.univ : Finset (Idx ((c : Thread nD τ).loc cc0_scratch4)))) (q := fullShare) (f := f) (Q := Q) (K := K)
    (fun y _ => Finset.mem_univ (α := Idx ((c : Thread nD τ).loc cc0_scratch4)) y)
  have hr := read_whole2 inb f
  rw [hr] at h
  exact h

theorem stwv9 (inb) (f w : S96x1536.Idx → Elt F (cc0_scratch4 : Ref sig .tc).ty.elt) :
    (m9.access (Rect.unit (s := S96x1536) ![0, 0] S96x1536.size inb)).write (Elt F) f w Finset.univ = w := by
  funext y
  refine write_cases (F := F) cc0_scratch4 ![0, 0] S96x1536.size inb f w y (fun v => v = w y) ?_ ?_
  · intro x hx
    have h0 : (y 0).val = 0 + (x 0).val := hx 0
    have h1 : (y 1).val = 0 + (x 1).val := hx 1
    refine congrArg w (funext fun a => Fin.ext ?_)
    fin_cases a
    · show (x 0).val = (y 0).val; omega
    · show (x 1).val = (y 1).val; omega
  · intro hh; exfalso; apply hh
    intro a
    have hsz : ∀ a : Fin 2, (![0, 0] : Fin 2 → ℕ) a = 0 := by decide
    have ha := (y a).isLt
    have h0 : (![0, 0] : Fin 2 → ℕ) a = 0 := hsz a
    exact ⟨le_of_eq_of_le h0 (Nat.zero_le _), lt_of_lt_of_eq ha (by rw [show (![0, 0] : Fin 2 → ℕ) a = 0 from h0, Nat.zero_add]; rfl)⟩

/-- A store of the whole of `m9`. -/
theorem stw9 {Q : α → PP F} {inb} {f : S96x1536.Idx → Elt F (cc0_scratch4 : Ref sig .tc).ty.elt} {w : S96x1536.Idx → Elt F (cc0_scratch4 : Ref sig .tc).ty.elt} {Mk : Finset S96x1536.Idx} {hx hm}
    {K : PUnit → PG F α} (hMk : Mk = Finset.univ) :
    own (F := F) c cc0_scratch4 f ⊢ iprop((own (F := F) c cc0_scratch4 w -∗ Wp c (K ⟨⟩) Q)
      -∗ Wp c (Prog.lift (.store m9 (Rect.unit (s := S96x1536) ![0, 0] S96x1536.size inb) w Mk hx hm) >>= K) Q) := by
  have h := str9 (F := F) (c := c) (off := ![0, 0]) (size := S96x1536.size) (inb := inb) (S := (Finset.univ : Finset (Idx ((c : Thread nD τ).loc cc0_scratch4)))) (f := f) (w := w) (Mk := Mk) (hx := hx) (hm := hm) (Q := Q) (K := K)
    hMk (fun y _ => Finset.mem_univ (α := Idx ((c : Thread nD τ).loc cc0_scratch4)) y)
  rw [stwv9] at h
  exact h

theorem ldr10 {off size : Fin 2 → ℕ} {inb} {hl} {S : Finset S256x3072.Idx} {q : PosShare TreeShare} {f : S256x3072.Idx → Elt F (cc0_scratch5 : Ref sig .tc).ty.elt}
    {Q : α → PP F} {K : ((Rect.unit (s := S256x3072) off size inb).toLoadRect.shape.Idx → Elt F (cc0_scratch5 : Ref sig .tc).ty.elt) → PG F α}
    (hS : ∀ y : S256x3072.Idx, (∀ a, off a ≤ (y a).val ∧ (y a).val < off a + size a) → y ∈ S) :
    part (F := F) c cc0_scratch5 S q f ⊢ iprop((part (F := F) c cc0_scratch5 S q f -∗ Wp c (K (fun x => f ((Rect.unit (s := S256x3072) off size inb).emb x))) Q)
      -∗ Wp c (Prog.lift (.load m10 (Rect.unit (s := S256x3072) off size inb).toLoadRect hl) >>= K) Q) := by
  have h := wp_load (defs := defs₀ (F := F)) Variants.nat (c : Thread nD τ) none Set.univ (Q := Q) (m := m10)
    (r := (Rect.unit (s := S256x3072) off size inb).toLoadRect) (hl := hl)
    (k := K) (S := S) (q := q) (f := f) (Γ := ∅) (by
      intro y hy
      have hy' : (y : S256x3072.Idx) ∈ (Rect.unit (s := S256x3072) off size inb).set := by
        rwa [whole_setOn] at hy
      exact hS y (Rect.mem_set_unit.mp hy'))
  exact h

theorem str10 {off size : Fin 2 → ℕ} {inb} {S : Finset S256x3072.Idx} {f : S256x3072.Idx → Elt F (cc0_scratch5 : Ref sig .tc).ty.elt}
    {w : (Rect.unit (s := S256x3072) off size inb).shape.Idx → Elt F (cc0_scratch5 : Ref sig .tc).ty.elt} {Mk : Finset (Rect.unit (s := S256x3072) off size inb).shape.Idx} {hx hm}
    {Q : α → PP F} {K : PUnit → PG F α} (hMk : Mk = Finset.univ)
    (hS : ∀ y : S256x3072.Idx, (∀ a, off a ≤ (y a).val ∧ (y a).val < off a + size a) → y ∈ S) :
    part (F := F) c cc0_scratch5 S fullShare f
      ⊢ iprop((part (F := F) c cc0_scratch5 S fullShare ((m10.access (Rect.unit (s := S256x3072) off size inb)).write (Elt F) f w Finset.univ) -∗ Wp c (K ⟨⟩) Q)
      -∗ Wp c (Prog.lift (.store m10 (Rect.unit (s := S256x3072) off size inb) w Mk hx hm) >>= K) Q) := by
  subst hMk
  have h := wp_store (defs := defs₀ (F := F)) Variants.nat (c : Thread nD τ) none Set.univ (Q := Q) (m := m10)
    (r := Rect.unit (s := S256x3072) off size inb) (hx := hx) (hm := hm) (w := w)
    (k := K) (S := S) (f := f) (Γ := ∅) (by
      intro y hy
      have hy' : (y : S256x3072.Idx) ∈ (Rect.unit (s := S256x3072) off size inb).set := by
        rw [View.setOn_univ, View.set_slice] at hy
        exact (Finset.mem_map' (Function.Embedding.refl _)).mp hy
      exact hS y (Rect.mem_set_unit.mp hy'))
  exact h

/-- A load of the whole of `m10`. -/
theorem ldw10 {Q : α → PP F} {inb} {hl} {f : S256x3072.Idx → Elt F (cc0_scratch5 : Ref sig .tc).ty.elt} {K : (S256x3072.Idx → Elt F (cc0_scratch5 : Ref sig .tc).ty.elt) → PG F α} :
    own (F := F) c cc0_scratch5 f ⊢ iprop((own (F := F) c cc0_scratch5 f -∗ Wp (α := α) c (K f) Q)
      -∗ Wp c (Prog.lift (.load m10 (Rect.unit (s := S256x3072) ![0, 0] S256x3072.size inb).toLoadRect hl) >>= K) Q) := by
  have h := ldr10 (F := F) (c := c) (off := ![0, 0]) (size := S256x3072.size) (inb := inb) (hl := hl) (S := (Finset.univ : Finset (Idx ((c : Thread nD τ).loc cc0_scratch5)))) (q := fullShare) (f := f) (Q := Q) (K := K)
    (fun y _ => Finset.mem_univ (α := Idx ((c : Thread nD τ).loc cc0_scratch5)) y)
  have hr := read_whole2 inb f
  rw [hr] at h
  exact h

theorem stwv10 (inb) (f w : S256x3072.Idx → Elt F (cc0_scratch5 : Ref sig .tc).ty.elt) :
    (m10.access (Rect.unit (s := S256x3072) ![0, 0] S256x3072.size inb)).write (Elt F) f w Finset.univ = w := by
  funext y
  refine write_cases (F := F) cc0_scratch5 ![0, 0] S256x3072.size inb f w y (fun v => v = w y) ?_ ?_
  · intro x hx
    have h0 : (y 0).val = 0 + (x 0).val := hx 0
    have h1 : (y 1).val = 0 + (x 1).val := hx 1
    refine congrArg w (funext fun a => Fin.ext ?_)
    fin_cases a
    · show (x 0).val = (y 0).val; omega
    · show (x 1).val = (y 1).val; omega
  · intro hh; exfalso; apply hh
    intro a
    have hsz : ∀ a : Fin 2, (![0, 0] : Fin 2 → ℕ) a = 0 := by decide
    have ha := (y a).isLt
    have h0 : (![0, 0] : Fin 2 → ℕ) a = 0 := hsz a
    exact ⟨le_of_eq_of_le h0 (Nat.zero_le _), lt_of_lt_of_eq ha (by rw [show (![0, 0] : Fin 2 → ℕ) a = 0 from h0, Nat.zero_add]; rfl)⟩

/-- A store of the whole of `m10`. -/
theorem stw10 {Q : α → PP F} {inb} {f : S256x3072.Idx → Elt F (cc0_scratch5 : Ref sig .tc).ty.elt} {w : S256x3072.Idx → Elt F (cc0_scratch5 : Ref sig .tc).ty.elt} {Mk : Finset S256x3072.Idx} {hx hm}
    {K : PUnit → PG F α} (hMk : Mk = Finset.univ) :
    own (F := F) c cc0_scratch5 f ⊢ iprop((own (F := F) c cc0_scratch5 w -∗ Wp c (K ⟨⟩) Q)
      -∗ Wp c (Prog.lift (.store m10 (Rect.unit (s := S256x3072) ![0, 0] S256x3072.size inb) w Mk hx hm) >>= K) Q) := by
  have h := str10 (F := F) (c := c) (off := ![0, 0]) (size := S256x3072.size) (inb := inb) (S := (Finset.univ : Finset (Idx ((c : Thread nD τ).loc cc0_scratch5)))) (f := f) (w := w) (Mk := Mk) (hx := hx) (hm := hm) (Q := Q) (K := K)
    hMk (fun y _ => Finset.mem_univ (α := Idx ((c : Thread nD τ).loc cc0_scratch5)) y)
  rw [stwv10] at h
  exact h

theorem ldr12 {off size : Fin 2 → ℕ} {inb} {hl} {S : Finset S16x1536.Idx} {q : PosShare TreeShare} {f : S16x1536.Idx → Elt F (cc0_scratch7 : Ref sig .tc).ty.elt}
    {Q : α → PP F} {K : ((Rect.unit (s := S16x1536) off size inb).toLoadRect.shape.Idx → Elt F (cc0_scratch7 : Ref sig .tc).ty.elt) → PG F α}
    (hS : ∀ y : S16x1536.Idx, (∀ a, off a ≤ (y a).val ∧ (y a).val < off a + size a) → y ∈ S) :
    part (F := F) c cc0_scratch7 S q f ⊢ iprop((part (F := F) c cc0_scratch7 S q f -∗ Wp c (K (fun x => f ((Rect.unit (s := S16x1536) off size inb).emb x))) Q)
      -∗ Wp c (Prog.lift (.load m12 (Rect.unit (s := S16x1536) off size inb).toLoadRect hl) >>= K) Q) := by
  have h := wp_load (defs := defs₀ (F := F)) Variants.nat (c : Thread nD τ) none Set.univ (Q := Q) (m := m12)
    (r := (Rect.unit (s := S16x1536) off size inb).toLoadRect) (hl := hl)
    (k := K) (S := S) (q := q) (f := f) (Γ := ∅) (by
      intro y hy
      have hy' : (y : S16x1536.Idx) ∈ (Rect.unit (s := S16x1536) off size inb).set := by
        rwa [whole_setOn] at hy
      exact hS y (Rect.mem_set_unit.mp hy'))
  exact h

theorem str12 {off size : Fin 2 → ℕ} {inb} {S : Finset S16x1536.Idx} {f : S16x1536.Idx → Elt F (cc0_scratch7 : Ref sig .tc).ty.elt}
    {w : (Rect.unit (s := S16x1536) off size inb).shape.Idx → Elt F (cc0_scratch7 : Ref sig .tc).ty.elt} {Mk : Finset (Rect.unit (s := S16x1536) off size inb).shape.Idx} {hx hm}
    {Q : α → PP F} {K : PUnit → PG F α} (hMk : Mk = Finset.univ)
    (hS : ∀ y : S16x1536.Idx, (∀ a, off a ≤ (y a).val ∧ (y a).val < off a + size a) → y ∈ S) :
    part (F := F) c cc0_scratch7 S fullShare f
      ⊢ iprop((part (F := F) c cc0_scratch7 S fullShare ((m12.access (Rect.unit (s := S16x1536) off size inb)).write (Elt F) f w Finset.univ) -∗ Wp c (K ⟨⟩) Q)
      -∗ Wp c (Prog.lift (.store m12 (Rect.unit (s := S16x1536) off size inb) w Mk hx hm) >>= K) Q) := by
  subst hMk
  have h := wp_store (defs := defs₀ (F := F)) Variants.nat (c : Thread nD τ) none Set.univ (Q := Q) (m := m12)
    (r := Rect.unit (s := S16x1536) off size inb) (hx := hx) (hm := hm) (w := w)
    (k := K) (S := S) (f := f) (Γ := ∅) (by
      intro y hy
      have hy' : (y : S16x1536.Idx) ∈ (Rect.unit (s := S16x1536) off size inb).set := by
        rw [View.setOn_univ, View.set_slice] at hy
        exact (Finset.mem_map' (Function.Embedding.refl _)).mp hy
      exact hS y (Rect.mem_set_unit.mp hy'))
  exact h

/-- A load of the whole of `m12`. -/
theorem ldw12 {Q : α → PP F} {inb} {hl} {f : S16x1536.Idx → Elt F (cc0_scratch7 : Ref sig .tc).ty.elt} {K : (S16x1536.Idx → Elt F (cc0_scratch7 : Ref sig .tc).ty.elt) → PG F α} :
    own (F := F) c cc0_scratch7 f ⊢ iprop((own (F := F) c cc0_scratch7 f -∗ Wp (α := α) c (K f) Q)
      -∗ Wp c (Prog.lift (.load m12 (Rect.unit (s := S16x1536) ![0, 0] S16x1536.size inb).toLoadRect hl) >>= K) Q) := by
  have h := ldr12 (F := F) (c := c) (off := ![0, 0]) (size := S16x1536.size) (inb := inb) (hl := hl) (S := (Finset.univ : Finset (Idx ((c : Thread nD τ).loc cc0_scratch7)))) (q := fullShare) (f := f) (Q := Q) (K := K)
    (fun y _ => Finset.mem_univ (α := Idx ((c : Thread nD τ).loc cc0_scratch7)) y)
  have hr := read_whole2 inb f
  rw [hr] at h
  exact h

theorem stwv12 (inb) (f w : S16x1536.Idx → Elt F (cc0_scratch7 : Ref sig .tc).ty.elt) :
    (m12.access (Rect.unit (s := S16x1536) ![0, 0] S16x1536.size inb)).write (Elt F) f w Finset.univ = w := by
  funext y
  refine write_cases (F := F) cc0_scratch7 ![0, 0] S16x1536.size inb f w y (fun v => v = w y) ?_ ?_
  · intro x hx
    have h0 : (y 0).val = 0 + (x 0).val := hx 0
    have h1 : (y 1).val = 0 + (x 1).val := hx 1
    refine congrArg w (funext fun a => Fin.ext ?_)
    fin_cases a
    · show (x 0).val = (y 0).val; omega
    · show (x 1).val = (y 1).val; omega
  · intro hh; exfalso; apply hh
    intro a
    have hsz : ∀ a : Fin 2, (![0, 0] : Fin 2 → ℕ) a = 0 := by decide
    have ha := (y a).isLt
    have h0 : (![0, 0] : Fin 2 → ℕ) a = 0 := hsz a
    exact ⟨le_of_eq_of_le h0 (Nat.zero_le _), lt_of_lt_of_eq ha (by rw [show (![0, 0] : Fin 2 → ℕ) a = 0 from h0, Nat.zero_add]; rfl)⟩

/-- A store of the whole of `m12`. -/
theorem stw12 {Q : α → PP F} {inb} {f : S16x1536.Idx → Elt F (cc0_scratch7 : Ref sig .tc).ty.elt} {w : S16x1536.Idx → Elt F (cc0_scratch7 : Ref sig .tc).ty.elt} {Mk : Finset S16x1536.Idx} {hx hm}
    {K : PUnit → PG F α} (hMk : Mk = Finset.univ) :
    own (F := F) c cc0_scratch7 f ⊢ iprop((own (F := F) c cc0_scratch7 w -∗ Wp c (K ⟨⟩) Q)
      -∗ Wp c (Prog.lift (.store m12 (Rect.unit (s := S16x1536) ![0, 0] S16x1536.size inb) w Mk hx hm) >>= K) Q) := by
  have h := str12 (F := F) (c := c) (off := ![0, 0]) (size := S16x1536.size) (inb := inb) (S := (Finset.univ : Finset (Idx ((c : Thread nD τ).loc cc0_scratch7)))) (f := f) (w := w) (Mk := Mk) (hx := hx) (hm := hm) (Q := Q) (K := K)
    hMk (fun y _ => Finset.mem_univ (α := Idx ((c : Thread nD τ).loc cc0_scratch7)) y)
  rw [stwv12] at h
  exact h

theorem ldr6 {off size : Fin 2 → ℕ} {inb} {hl} {S : Finset S3072x1536.Idx} {q : PosShare TreeShare} {f : S3072x1536.Idx → Elt F (cc0_scratch1 : Ref sig .tc).ty.elt}
    {Q : α → PP F} {K : ((Rect.unit (s := S3072x1536) off size inb).toLoadRect.shape.Idx → Elt F (cc0_scratch1 : Ref sig .tc).ty.elt) → PG F α}
    (hS : ∀ y : S3072x1536.Idx, (∀ a, off a ≤ (y a).val ∧ (y a).val < off a + size a) → y ∈ S) :
    part (F := F) c cc0_scratch1 S q f ⊢ iprop((part (F := F) c cc0_scratch1 S q f -∗ Wp c (K (fun x => f ((Rect.unit (s := S3072x1536) off size inb).emb x))) Q)
      -∗ Wp c (Prog.lift (.load m6 (Rect.unit (s := S3072x1536) off size inb).toLoadRect hl) >>= K) Q) := by
  have h := wp_load (defs := defs₀ (F := F)) Variants.nat (c : Thread nD τ) none Set.univ (Q := Q) (m := m6)
    (r := (Rect.unit (s := S3072x1536) off size inb).toLoadRect) (hl := hl)
    (k := K) (S := S) (q := q) (f := f) (Γ := ∅) (by
      intro y hy
      have hy' : (y : S3072x1536.Idx) ∈ (Rect.unit (s := S3072x1536) off size inb).set := by
        rwa [whole_setOn] at hy
      exact hS y (Rect.mem_set_unit.mp hy'))
  exact h

theorem str6 {off size : Fin 2 → ℕ} {inb} {S : Finset S3072x1536.Idx} {f : S3072x1536.Idx → Elt F (cc0_scratch1 : Ref sig .tc).ty.elt}
    {w : (Rect.unit (s := S3072x1536) off size inb).shape.Idx → Elt F (cc0_scratch1 : Ref sig .tc).ty.elt} {Mk : Finset (Rect.unit (s := S3072x1536) off size inb).shape.Idx} {hx hm}
    {Q : α → PP F} {K : PUnit → PG F α} (hMk : Mk = Finset.univ)
    (hS : ∀ y : S3072x1536.Idx, (∀ a, off a ≤ (y a).val ∧ (y a).val < off a + size a) → y ∈ S) :
    part (F := F) c cc0_scratch1 S fullShare f
      ⊢ iprop((part (F := F) c cc0_scratch1 S fullShare ((m6.access (Rect.unit (s := S3072x1536) off size inb)).write (Elt F) f w Finset.univ) -∗ Wp c (K ⟨⟩) Q)
      -∗ Wp c (Prog.lift (.store m6 (Rect.unit (s := S3072x1536) off size inb) w Mk hx hm) >>= K) Q) := by
  subst hMk
  have h := wp_store (defs := defs₀ (F := F)) Variants.nat (c : Thread nD τ) none Set.univ (Q := Q) (m := m6)
    (r := Rect.unit (s := S3072x1536) off size inb) (hx := hx) (hm := hm) (w := w)
    (k := K) (S := S) (f := f) (Γ := ∅) (by
      intro y hy
      have hy' : (y : S3072x1536.Idx) ∈ (Rect.unit (s := S3072x1536) off size inb).set := by
        rw [View.setOn_univ, View.set_slice] at hy
        exact (Finset.mem_map' (Function.Embedding.refl _)).mp hy
      exact hS y (Rect.mem_set_unit.mp hy'))
  exact h

theorem ldr11 {off size : Fin 3 → ℕ} {inb} {hl} {S : Finset S2x256x1536.Idx} {q : PosShare TreeShare} {f : S2x256x1536.Idx → Elt F (cc0_scratch6 : Ref sig .tc).ty.elt}
    {Q : α → PP F} {K : ((Rect.unit (s := S2x256x1536) off size inb).toLoadRect.shape.Idx → Elt F (cc0_scratch6 : Ref sig .tc).ty.elt) → PG F α}
    (hS : ∀ y : S2x256x1536.Idx, (∀ a, off a ≤ (y a).val ∧ (y a).val < off a + size a) → y ∈ S) :
    part (F := F) c cc0_scratch6 S q f ⊢ iprop((part (F := F) c cc0_scratch6 S q f -∗ Wp c (K (fun x => f ((Rect.unit (s := S2x256x1536) off size inb).emb x))) Q)
      -∗ Wp c (Prog.lift (.load m11 (Rect.unit (s := S2x256x1536) off size inb).toLoadRect hl) >>= K) Q) := by
  have h := wp_load (defs := defs₀ (F := F)) Variants.nat (c : Thread nD τ) none Set.univ (Q := Q) (m := m11)
    (r := (Rect.unit (s := S2x256x1536) off size inb).toLoadRect) (hl := hl)
    (k := K) (S := S) (q := q) (f := f) (Γ := ∅) (by
      intro y hy
      have hy' : (y : S2x256x1536.Idx) ∈ (Rect.unit (s := S2x256x1536) off size inb).set := by
        rwa [whole_setOn] at hy
      exact hS y (Rect.mem_set_unit.mp hy'))
  exact h

theorem str11 {off size : Fin 3 → ℕ} {inb} {S : Finset S2x256x1536.Idx} {f : S2x256x1536.Idx → Elt F (cc0_scratch6 : Ref sig .tc).ty.elt}
    {w : (Rect.unit (s := S2x256x1536) off size inb).shape.Idx → Elt F (cc0_scratch6 : Ref sig .tc).ty.elt} {Mk : Finset (Rect.unit (s := S2x256x1536) off size inb).shape.Idx} {hx hm}
    {Q : α → PP F} {K : PUnit → PG F α} (hMk : Mk = Finset.univ)
    (hS : ∀ y : S2x256x1536.Idx, (∀ a, off a ≤ (y a).val ∧ (y a).val < off a + size a) → y ∈ S) :
    part (F := F) c cc0_scratch6 S fullShare f
      ⊢ iprop((part (F := F) c cc0_scratch6 S fullShare ((m11.access (Rect.unit (s := S2x256x1536) off size inb)).write (Elt F) f w Finset.univ) -∗ Wp c (K ⟨⟩) Q)
      -∗ Wp c (Prog.lift (.store m11 (Rect.unit (s := S2x256x1536) off size inb) w Mk hx hm) >>= K) Q) := by
  subst hMk
  have h := wp_store (defs := defs₀ (F := F)) Variants.nat (c : Thread nD τ) none Set.univ (Q := Q) (m := m11)
    (r := Rect.unit (s := S2x256x1536) off size inb) (hx := hx) (hm := hm) (w := w)
    (k := K) (S := S) (f := f) (Γ := ∅) (by
      intro y hy
      have hy' : (y : S2x256x1536.Idx) ∈ (Rect.unit (s := S2x256x1536) off size inb).set := by
        rw [View.setOn_univ, View.set_slice] at hy
        exact (Finset.mem_map' (Function.Embedding.refl _)).mp hy
      exact hS y (Rect.mem_set_unit.mp hy'))
  exact h

end Cert.KernelIdeal.Hand
-- ==== Proof.KI.Fetch.lean ====
/-
  The transfers that bring in activations, weights and scales.
-/
module

public import proofs.«01_k».proof.Proof.KI.Moves

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

variable {α : Type} {c : Dev nD}

/-- The semaphore of slot `σ` of the activations' ring buffer. -/
def x18 (σ : ℕ) : DmaSem sig := if σ = 0 then ((s18.slice (Rect.unit (s := S2) ![0] S1.size inb_S2_S1_0)).squeeze S_ squeezes_S1_S_).sem
  else ((s18.slice (Rect.unit (s := S2) ![1] S1.size (by decide))).squeeze S_ squeezes_S1_S_).sem

theorem x18_eq {σ : ℕ} (hσ : σ < 2) {off : Fin 1 → ℕ} {inb} {h} (hoff : off = ![σ]) :
    ((s18.slice (Rect.unit (s := S2) off S1.size inb)).squeeze S_ h).sem = x18 σ := by
  subst hoff
  interval_cases σ
  · rfl
  · rfl

/-- What a fetch of 256 rows of activations from row `s0` leaves. -/
def XGot (c : Dev nD) (σ s0 : ℕ) (q : PosShare TreeShare) (fx : S12288x3072.Idx → Elt F .bf16) : PP F :=
  iprop((∃ g : S2x256x3072.Idx → Elt F .bf16, ⌜∀ r j, r < 256 → j < 3072 → g (ix5 σ r j) = fx (gx2 (s0 + r) j)⌝
      ∗ part c cc0_scratch0 (slot5 c σ) fullShare g) ∗ part c main_arg0 Finset.univ q fx)

/-- The amount such a fetch credits. -/
abbrev NX : ℕ := Ref.dmaCredit (cc0_scratch0 : Ref sig .tc) S256x3072 .bf16
abbrev NW : ℕ := Ref.dmaCredit (cc0_scratch1 : Ref sig .tc) S3072x1536 .fp8e4m3
abbrev NS : ℕ := Ref.dmaCredit (cc0_scratch2 : Ref sig .tc) S96x1536 .i8

/-- A fetch of activations under way. -/
def XFly (c : Dev nD) (σ s0 : ℕ) (q : PosShare TreeShare) (fx : S12288x3072.Idx → Elt F .bf16) : PP F :=
  Fly c (.dma (x18 σ)) NX (XGot c σ s0 q fx)

theorem x_start {Q : α → PP F} {K : PUnit → PG F α} {σ s0 : ℕ} (hσ : σ < 2) {offd : Fin 3 → ℕ} {offs : Fin 2 → ℕ} {inbd inbs hd hs hq sem hsrc hdst hsem}
    (hoffd : offd = ![σ, 0, 0]) (hoffs : offs = ![s0, 0]) (hse : sem = x18 σ) {q : PosShare TreeShare} {g : S2x256x3072.Idx → Elt F .bf16}
    {fx : S12288x3072.Idx → Elt F .bf16} :
    iprop(part c main_arg0 Finset.univ q fx ∗ part c cc0_scratch0 (slot5 c σ) fullShare g ∗ sval c (.dma (x18 σ)) 0)
      ⊢ iprop((XFly c σ s0 q fx -∗ Wp c (K ⟨⟩) Q)
        -∗ Wp c (Prog.lift (.enqueueDma (m1.slice (Rect.unit (s := S12288x3072) offs S256x3072.size inbs) hs)
            (.here ((m5.slice (Rect.unit (s := S2x256x3072) offd S1x256x3072.size inbd) hd).squeeze S256x3072 hq)) (.dma sem) hsrc hdst hsem) >>= K) Q) := by
  subst hoffd hoffs hse
  have h := fly_start (F := F) (c := c) (Q := Q) (K := K) (src := m1.slice (Rect.unit (s := S12288x3072) ![s0, 0] S256x3072.size inbs) hs)
    (dst := (m5.slice (Rect.unit (s := S2x256x3072) ![σ, 0, 0] S1x256x3072.size inbd) hd).squeeze S256x3072 hq) (sm := .dma (x18 σ))
    (hsrc := hsrc) (hdst := hdst) (hsem := hsem) (q := q) (fs := fx) (Sd := slot5 c σ) (fd := g) NX rfl (by decide) (by
      intro y hy
      have hy' : (y : S2x256x3072.Idx) ∈ (Rect.unit (s := S2x256x3072) ![σ, 0, 0] S1x256x3072.size inbd).set := by
        have hy2 : y ∈ ((View.whole cc0_scratch0 : View sig .tc _ _ _).slice (Rect.unit (s := S2x256x3072) ![σ, 0, 0] S1x256x3072.size inbd)).set :=
          (subset_of_eq (View.set_reshape ((View.whole cc0_scratch0 : View sig .tc _ _ _).slice (Rect.unit (s := S2x256x3072) ![σ, 0, 0] S1x256x3072.size inbd)) hq.numel_eq)) hy
        rw [View.set_slice_whole] at hy2; exact hy2
      rw [Rect.mem_set_unit] at hy'
      have h1 : σ ≤ (y 0).val ∧ (y 0).val < σ + 1 := hy' 0
      refine Finset.mem_filter.mpr ⟨Finset.mem_univ _, ?_⟩
      omega)
  refine h.trans (wand_mono_left ?_)
  iintro HX HF
  iapply HX
  unfold XFly
  iapply (Fly_mono (F := F) ?_) $$ HF
  unfold XGot
  iintro ⟨Hd, Hs⟩
  isplitr [Hs]
  · iexists _; isplitr
    rotate_left
    · iexact Hd
    ipureintro
    intro r j hr hj
    let x : S256x3072.Idx := ValueIdx.ix2 (⟨r, hr⟩ : Fin 256) (⟨j, hj⟩ : Fin 3072)
    have hx : ((m5.slice (Rect.unit (s := S2x256x3072) ![σ, 0, 0] S1x256x3072.size inbd) hd).squeeze S256x3072 hq).view.emb x = ix5 σ r j := by
      show (Rect.unit (s := S2x256x3072) ![σ, 0, 0] S1x256x3072.size inbd).emb (Shape.reshapeEquiv _ x) = _
      rw [ValueIdx.reshapeEquiv_ix2_1ab]
      refine ix5_eq _ _ _ _ ?_ ?_ ?_
      · show σ + 1 * 0 = σ; omega
      · show 0 + 1 * r = r; omega
      · show 0 + 1 * j = j; omega
    rw [← hx]
    refine (View.write_emb_of_mem _ _ (Finset.mem_univ _)).trans ?_
    refine congrArg fx (gx2_eq _ _ _ ?_ ?_)
    · show s0 + 1 * r = s0 + r; omega
    · show 0 + 1 * j = j; omega
  · iexact Hs

theorem x_wait {Q : α → PP F} {K : PUnit → PG F α} {σ s0 : ℕ} {cs cs' : Space} {s' : Shape} {e' : EltTy} {srcw : Memref sig .tc cs s' e'}
    {dstw : Memref sig .tc cs' S256x3072 .bf16} {sem hsrc hdst} (hN : dstw.view.dmaCredit = NX) (hse : sem = x18 σ)
    {q : PosShare TreeShare} {fx : S12288x3072.Idx → Elt F .bf16} :
    iprop(XFly c σ s0 q fx ∗ owed c)
      ⊢ iprop((iprop(XGot c σ s0 q fx ∗ sval c (.dma (x18 σ)) 0 ∗ owed c) -∗ Wp c (K ⟨⟩) Q)
        -∗ Wp c (Prog.lift (.waitDma2 sem srcw dstw hsrc hdst) >>= K) Q) := by
  subst hse
  exact fly_wait (F := F) (c := c) hN

/-- What a fetch of expert `e`'s weights leaves. -/
def wGot (c : Dev nD) (e : ℕ) (fw : S8x3072x1536.Idx → Elt F .fp8e4m3) : PP F :=
  iprop((∃ g : S3072x1536.Idx → Elt F .fp8e4m3, ⌜∀ k j, k < 3072 → j < 1536 → g (gx2 k j) = fw (gx3 e k j)⌝ ∗ own (F := F) c cc0_scratch1 g) ∗ own (F := F) c main_arg2 fw)

theorem w_start {Q : α → PP F} {K : PUnit → PG F α} {e : ℕ} {offs : Fin 3 → ℕ} {inbs hs hq sem hsrc hdst hsem}
    (hoffs : offs = ![e, 0, 0]) {g : S3072x1536.Idx → Elt F .fp8e4m3} {fw : S8x3072x1536.Idx → Elt F .fp8e4m3} :
    iprop(own (F := F) c main_arg2 fw ∗ own (F := F) c cc0_scratch1 g ∗ sval c (.dma sem) 0)
      ⊢ iprop((Fly c (.dma sem) NW (wGot c e fw) -∗ Wp c (K ⟨⟩) Q)
        -∗ Wp c (Prog.lift (.enqueueDma (((m2).slice (Rect.unit (s := S8x3072x1536) offs S1x3072x1536.size inbs) hs).squeeze S3072x1536 hq)
            (.here m6) (.dma sem) hsrc hdst hsem) >>= K) Q) := by
  subst hoffs
  have h := fly_start (F := F) (c := c) (Q := Q) (K := K) (src := ((m2).slice (Rect.unit (s := S8x3072x1536) ![e, 0, 0] S1x3072x1536.size inbs) hs).squeeze S3072x1536 hq)
    (dst := m6) (sm := .dma sem)
    (hsrc := hsrc) (hdst := hdst) (hsem := hsem) (q := fullShare) (fs := fw) (Sd := (Finset.univ : Finset (Idx ((c : Thread nD τ).loc cc0_scratch1)))) (fd := g) NW rfl (by decide) (Finset.subset_univ _)
  refine h.trans (wand_mono_left ?_)
  iintro HX HF
  iapply HX
  iapply (Fly_mono (F := F) ?_) $$ HF
  unfold wGot
  iintro ⟨Hd, Hs⟩
  isplitr [Hs]
  · iexists _; isplitr
    rotate_left
    · iexact Hd
    ipureintro
    intro k j hk hj
    let x : S3072x1536.Idx := ValueIdx.ix2 (⟨k, hk⟩ : Fin 3072) (⟨j, hj⟩ : Fin 1536)
    have hx : (m6).view.emb x = gx2 k j := gx2_eq x k j rfl rfl
    rw [← hx]
    refine (View.write_emb_of_mem _ _ (Finset.mem_univ _)).trans ?_
    have hy : (((m2).slice (Rect.unit (s := S8x3072x1536) ![e, 0, 0] S1x3072x1536.size inbs) hs).squeeze S3072x1536 hq).view.emb x = gx3 e k j := by
      show (Rect.unit (s := S8x3072x1536) ![e, 0, 0] S1x3072x1536.size inbs).emb (Shape.reshapeEquiv _ x) = _
      rw [ValueIdx.reshapeEquiv_ix2_1ab]
      refine gx3_eq _ _ _ _ ?_ ?_ ?_
      · show e + 1 * 0 = e; omega
      · show 0 + 1 * k = k; omega
      · show 0 + 1 * j = j; omega
    show fw ((((m2).slice (Rect.unit (s := S8x3072x1536) ![e, 0, 0] S1x3072x1536.size inbs) hs).squeeze S3072x1536 hq).view.emb x) = _
    rw [hy]
  · iexact Hs

/-- What a fetch of expert `e`'s scales leaves. -/
def sGot (c : Dev nD) (e : ℕ) (fw : S8x96x1536.Idx → Elt F .i8) : PP F :=
  iprop((∃ g : S96x1536.Idx → Elt F .i8, ⌜∀ k j, k < 96 → j < 1536 → g (gx2 k j) = fw (gx3 e k j)⌝ ∗ own (F := F) c cc0_scratch2 g) ∗ own (F := F) c main_arg3 fw)

theorem s_start {Q : α → PP F} {K : PUnit → PG F α} {e : ℕ} {offs : Fin 3 → ℕ} {inbs hs hq sem hsrc hdst hsem}
    (hoffs : offs = ![e, 0, 0]) {g : S96x1536.Idx → Elt F .i8} {fw : S8x96x1536.Idx → Elt F .i8} :
    iprop(own (F := F) c main_arg3 fw ∗ own (F := F) c cc0_scratch2 g ∗ sval c (.dma sem) 0)
      ⊢ iprop((Fly c (.dma sem) NS (sGot c e fw) -∗ Wp c (K ⟨⟩) Q)
        -∗ Wp c (Prog.lift (.enqueueDma (((m3).slice (Rect.unit (s := S8x96x1536) offs S1x96x1536.size inbs) hs).squeeze S96x1536 hq)
            (.here m7) (.dma sem) hsrc hdst hsem) >>= K) Q) := by
  subst hoffs
  have h := fly_start (F := F) (c := c) (Q := Q) (K := K) (src := ((m3).slice (Rect.unit (s := S8x96x1536) ![e, 0, 0] S1x96x1536.size inbs) hs).squeeze S96x1536 hq)
    (dst := m7) (sm := .dma sem)
    (hsrc := hsrc) (hdst := hdst) (hsem := hsem) (q := fullShare) (fs := fw) (Sd := (Finset.univ : Finset (Idx ((c : Thread nD τ).loc cc0_scratch2)))) (fd := g) NS rfl (by decide) (Finset.subset_univ _)
  refine h.trans (wand_mono_left ?_)
  iintro HX HF
  iapply HX
  iapply (Fly_mono (F := F) ?_) $$ HF
  unfold sGot
  iintro ⟨Hd, Hs⟩
  isplitr [Hs]
  · iexists _; isplitr
    rotate_left
    · iexact Hd
    ipureintro
    intro k j hk hj
    let x : S96x1536.Idx := ValueIdx.ix2 (⟨k, hk⟩ : Fin 96) (⟨j, hj⟩ : Fin 1536)
    have hx : (m7).view.emb x = gx2 k j := gx2_eq x k j rfl rfl
    rw [← hx]
    refine (View.write_emb_of_mem _ _ (Finset.mem_univ _)).trans ?_
    have hy : (((m3).slice (Rect.unit (s := S8x96x1536) ![e, 0, 0] S1x96x1536.size inbs) hs).squeeze S96x1536 hq).view.emb x = gx3 e k j := by
      show (Rect.unit (s := S8x96x1536) ![e, 0, 0] S1x96x1536.size inbs).emb (Shape.reshapeEquiv _ x) = _
      rw [ValueIdx.reshapeEquiv_ix2_1ab]
      refine gx3_eq _ _ _ _ ?_ ?_ ?_
      · show e + 1 * 0 = e; omega
      · show 0 + 1 * k = k; omega
      · show 0 + 1 * j = j; omega
    show fw ((((m3).slice (Rect.unit (s := S8x96x1536) ![e, 0, 0] S1x96x1536.size inbs) hs).squeeze S96x1536 hq).view.emb x) = _
    rw [hy]
  · iexact Hs

end Cert.KernelIdeal.Hand
-- ==== Proof.KI.OutB.lean ====
/-
  The copies of a tile to the output: one for each binary digit of its number of 16-row blocks, all on one semaphore.
-/
module

public import proofs.«01_k».proof.Proof.KI.Moves

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

variable {α : Type} {c : Dev nD}

/-! ### A number of 16-row blocks, cut by its binary digits -/

/-- The blocks in piece `p`. -/
def bw (p : ℕ) : ℕ := 2 ^ (4 - p)
/-- Whether `k` blocks include piece `p`. -/
abbrev pres (k p : ℕ) : Prop := k / bw p % 2 = 1
/-- Where piece `p` starts. -/
def oo (k p : ℕ) : ℕ := k / 2 ^ (5 - p) * 2 ^ (5 - p)
/-- The pieces before `p`. -/
def cnt (k p : ℕ) : ℕ := ((List.range p).filter fun q => k / bw q % 2 = 1).length
/-- The piece issued as number `t`. -/
def pcN (k t : ℕ) : ℕ := ((List.range 5).find? fun p => decide (k / bw p % 2 = 1) && decide (cnt k p = t)).getD 0

theorem pieces_pres : ∀ k < 17, ∀ p < 5, pres k p → pcN k (cnt k p) = p ∧ cnt k p < cnt k 5 ∧ cnt k (p + 1) = cnt k p + 1 ∧ oo k (p + 1) = oo k p + bw p := by
  decide
theorem pieces_not : ∀ k < 17, ∀ p < 5, ¬ pres k p → cnt k (p + 1) = cnt k p ∧ oo k (p + 1) = oo k p := by decide
theorem pieces_le : ∀ k < 17, ∀ p < 6, oo k p ≤ k := by decide
theorem pieces_end : ∀ k < 17, oo k 5 = k ∧ oo k 0 = 0 ∧ cnt k 0 = 0 := by decide
theorem pieces_cover : ∀ k < 17, ∀ x < k, ∃ t : Fin (cnt k 5), oo k (pcN k t.val) ≤ x ∧ x < oo k (pcN k t.val + 1) := by decide
theorem pieces_mem : ∀ k < 17, ∀ t : Fin (cnt k 5), oo k (pcN k t.val + 1) ≤ k := by decide
theorem pieces_disj : ∀ k < 17, ∀ t t' : Fin (cnt k 5), t ≠ t' →
    oo k (pcN k t.val + 1) ≤ oo k (pcN k t'.val) ∨ oo k (pcN k t'.val + 1) ≤ oo k (pcN k t.val) := by decide

/-! ### The pieces' elements -/

/-- The elements of slot `σ` of the output ring. -/
def slot6 (c : Dev nD) (σ : ℕ) : Finset (Idx ((c : Thread nD τ).loc cc0_scratch6)) :=
  Finset.univ.filter fun i : S2x256x1536.Idx => (i 0).val = σ
/-- Blocks `a` to `b` of the output from row `R`. -/
def rowsOut (c : Dev nD) (R a b : ℕ) : Finset (Idx ((c : Thread nD τ).loc main_v0)) :=
  Finset.univ.filter fun i : S12288x1536.Idx => R + 16 * a ≤ (i 0).val ∧ (i 0).val < R + 16 * b
/-- The rest of the output. -/
def restOut (c : Dev nD) (R b : ℕ) : Finset (Idx ((c : Thread nD τ).loc main_v0)) :=
  Finset.univ.filter fun i : S12288x1536.Idx => ¬ (R ≤ (i 0).val ∧ (i 0).val < R + 16 * b)
/-- Blocks `a` to `b` of slot `σ`. -/
def rowsBuf (c : Dev nD) (σ a b : ℕ) : Finset (Idx ((c : Thread nD τ).loc cc0_scratch6)) :=
  Finset.univ.filter fun i : S2x256x1536.Idx => (i 0).val = σ ∧ 16 * a ≤ (i 1).val ∧ (i 1).val < 16 * b

/-- The output after the copy of `k` blocks of slot `σ` to row `R`. -/
def outNew (R k σ : ℕ) (fo : S2x256x1536.Idx → Elt F .bf16) (fOld : S12288x1536.Idx → Elt F .bf16) : S12288x1536.Idx → Elt F .bf16 :=
  fun i => if R ≤ (i 0).val ∧ (i 0).val < R + 16 * k then fo (gx3 σ ((i 0).val - R) (i 1).val) else fOld i

/-- What piece `p` delivers. -/
def piece (c : Dev nD) (σ R k : ℕ) (fo : S2x256x1536.Idx → Elt F .bf16) (fOld : S12288x1536.Idx → Elt F .bf16) (p : ℕ) : PP F :=
  iprop(part c main_v0 (rowsOut c R (oo k p) (oo k (p + 1))) fullShare (outNew R k σ fo fOld)
    ∗ part c cc0_scratch6 (rowsBuf c σ (oo k p) (oo k (p + 1))) fullShare fo)

/-- What piece `p` credits. -/
def amtP (p : ℕ) : ℕ := Ref.dmaCredit (main_v0 : Ref sig .tc) ⟨2, ![16 * bw p, 1536]⟩ .bf16

/-- The batch of copies, with `j` issued and `u` awaited. -/
abbrev MB (c : Dev nD) (σ R k : ℕ) (fo : S2x256x1536.Idx → Elt F .bf16) (fOld : S12288x1536.Idx → Elt F .bf16) (j u : ℕ) : PP F :=
  Transfers.MixedBatch EC (c : Thread nD τ) (.dma s21.sem) () (n := cnt k 5) (fun t => amtP (pcN k t.val)) (fun t => piece c σ R k fo fOld (pcN k t.val)) j u

/-- The copies under way: pieces before `p` issued. -/
def OI (c : Dev nD) (σ R k : ℕ) (fo : S2x256x1536.Idx → Elt F .bf16) (fOld : S12288x1536.Idx → Elt F .bf16) (p : ℕ) : PP F :=
  iprop(MB c σ R k fo fOld (cnt k p) 0 ∗ part c main_v0 (restOut c R (oo k p)) fullShare fOld
    ∗ part c cc0_scratch6 (rowsBuf c σ (oo k p) 16) fullShare fo)

/-- The copies all issued: pieces before `p` awaited. -/
def OW (c : Dev nD) (σ R k : ℕ) (fo : S2x256x1536.Idx → Elt F .bf16) (fOld : S12288x1536.Idx → Elt F .bf16) (p : ℕ) : PP F :=
  iprop(MB c σ R k fo fOld (cnt k 5) (Transfers.sumTo (n := cnt k 5) (fun t => amtP (pcN k t.val)) (cnt k p))
    ∗ part c main_v0 (restOut c R k) fullShare fOld ∗ part c cc0_scratch6 (rowsBuf c σ k 16) fullShare fo)

variable {σ R k : ℕ} {fo : S2x256x1536.Idx → Elt F .bf16} {fOld : S12288x1536.Idx → Elt F .bf16}

theorem ob_alloc (hk : k < 17) :
    iprop(own c main_v0 fOld ∗ part c cc0_scratch6 (slot6 c σ) fullShare fo ∗ sval c (.dma s21.sem) 0)
      ⊢ iprop(|={Set.univ}=> OI c σ R k fo fOld 0) := by
  have h0 := pieces_end k hk
  have hr : restOut c R (oo k 0) = Finset.univ := by
    ext i; rw [h0.2.1]; unfold restOut
    simp only [Finset.mem_filter, Finset.mem_univ, true_and, iff_true]; omega
  have hb : rowsBuf c σ (oo k 0) 16 = slot6 c σ := by
    ext i; rw [h0.2.1]; unfold rowsBuf slot6
    have : ((i : S2x256x1536.Idx) 1).val < 256 := (i 1).isLt
    simp only [Finset.mem_filter, Finset.mem_univ, true_and]; omega
  unfold OI
  rw [hr, hb, h0.2.2]
  iintro ⟨Ho, Hb, Hv⟩
  haveI : ∀ t : Fin (cnt k 5), Storable (upEmb : UEmb _ (MM F)) (piece c σ R k fo fOld (pcN k t.val)) := fun t => by
    unfold piece part; infer_instance
  imod (Transfers.mixedBatch_alloc' EC (c : Thread nD τ) () (fun t : Fin (cnt k 5) => amtP (pcN k t.val)) (fun t => piece c σ R k fo fOld (pcN k t.val))
    (sm := .dma s21.sem) (E := Set.univ)) $$ Hv with HB
  imodintro
  isplitl [HB]; · iexact HB
  isplitl [Ho]; · iexact Ho
  iexact Hb

theorem ob_skip {p : ℕ} (hk : k < 17) (hp : p < 5) (h : ¬ pres k p) : OI c σ R k fo fOld p ⊢ OI c σ R k fo fOld (p + 1) := by
  have h1 := pieces_not k hk p hp h
  unfold OI; rw [h1.1, h1.2]

theorem ob_wskip {p : ℕ} (hk : k < 17) (hp : p < 5) (h : ¬ pres k p) : OW c σ R k fo fOld p ⊢ OW c σ R k fo fOld (p + 1) := by
  have h1 := pieces_not k hk p hp h
  unfold OW; rw [h1.1]

theorem ob_issued (hk : k < 17) : OI c σ R k fo fOld 5 ⊢ OW c σ R k fo fOld 0 := by
  have h0 := pieces_end k hk
  unfold OI OW; rw [h0.1, h0.2.2]; exact .rfl

theorem ob_issue {p r : ℕ} (hk : k < 17) (hp : p < 5) (hσ : σ < 2) (h : pres k p) (hr : r = 16 * bw p) {Q : α → PP F} {K : PUnit → PG F α}
    {offo : Fin 2 → ℕ} {offb : Fin 3 → ℕ} {inbo inbb hso hsb hq hsrc hdst hsem}
    (hoffo : offo = ![R + 16 * oo k p, 0]) (hoffb : offb = ![σ, 16 * oo k p, 0]) :
    OI c σ R k fo fOld p ⊢ iprop((OI c σ R k fo fOld (p + 1) -∗ Wp c (K ⟨⟩) Q)
      -∗ Wp c (Prog.lift (.enqueueDma ((m11.slice (Rect.unit (s := S2x256x1536) offb (⟨3, ![1, r, 1536]⟩ : Shape).size inbb) hsb).squeeze (⟨2, ![r, 1536]⟩ : Shape) hq)
          (.here (m4.slice (Rect.unit (s := S12288x1536) offo (⟨2, ![r, 1536]⟩ : Shape).size inbo) hso)) (.dma s21.sem) hsrc hdst hsem) >>= K) Q) := by
  obtain ⟨hpc, hlt, hc1, ho1⟩ := pieces_pres k hk p hp h
  have hle := pieces_le k hk (p + 1) (by omega)
  subst hoffo hoffb hr
  have hbb : 16 * oo k p + 16 * bw p ≤ 256 := by have := inbb 1; exact this
  have hoo : R + 16 * oo k p + 16 * bw p ≤ 12288 := by have := inbo 0; exact this
  have hsetO : ∀ i : S12288x1536.Idx, i ∈ (Rect.unit (s := S12288x1536) ![R + 16 * oo k p, 0] (⟨2, ![16 * bw p, 1536]⟩ : Shape).size inbo).set
      ↔ i ∈ rowsOut c R (oo k p) (oo k (p + 1)) := by
    intro i
    have hi1 : (i 1).val < 1536 := (i 1).isLt
    rw [Rect.mem_set_unit]; unfold rowsOut
    simp only [Finset.mem_filter, Finset.mem_univ, true_and]
    rw [ho1]
    constructor
    · intro hh
      have h0 : R + 16 * oo k p ≤ (i 0).val ∧ (i 0).val < R + 16 * oo k p + 16 * bw p := hh 0
      omega
    · intro hh a
      fin_cases a
      · show R + 16 * oo k p ≤ (i 0).val ∧ (i 0).val < R + 16 * oo k p + 16 * bw p; omega
      · show 0 ≤ (i 1).val ∧ (i 1).val < 0 + 1536; omega
  have hsetB : ((m11.slice (Rect.unit (s := S2x256x1536) ![σ, 16 * oo k p, 0] (⟨3, ![1, 16 * bw p, 1536]⟩ : Shape).size inbb) hsb).squeeze (⟨2, ![16 * bw p, 1536]⟩ : Shape) hq).view.set
      = rowsBuf c σ (oo k p) (oo k (p + 1)) := by
    refine (View.set_reshape ((View.whole cc0_scratch6 : View sig .tc _ _ _).slice (Rect.unit (s := S2x256x1536) ![σ, 16 * oo k p, 0] (⟨3, ![1, 16 * bw p, 1536]⟩ : Shape).size inbb)) hq.numel_eq).trans ?_
    rw [View.set_slice_whole]
    ext i
    have hi2 : ((i : S2x256x1536.Idx) 2).val < 1536 := (i 2).isLt
    refine Rect.mem_set_unit.trans ?_
    unfold rowsBuf
    simp only [Finset.mem_filter, Finset.mem_univ, true_and]
    rw [ho1]
    constructor
    · intro hh
      have h0 : σ ≤ ((i : S2x256x1536.Idx) 0).val ∧ ((i : S2x256x1536.Idx) 0).val < σ + 1 := hh 0
      have h1 : 16 * oo k p ≤ ((i : S2x256x1536.Idx) 1).val ∧ ((i : S2x256x1536.Idx) 1).val < 16 * oo k p + 16 * bw p := hh 1
      omega
    · intro hh a
      fin_cases a
      · show σ ≤ ((i : S2x256x1536.Idx) 0).val ∧ ((i : S2x256x1536.Idx) 0).val < σ + 1; omega
      · show 16 * oo k p ≤ ((i : S2x256x1536.Idx) 1).val ∧ ((i : S2x256x1536.Idx) 1).val < 16 * oo k p + 16 * bw p; omega
      · show 0 ≤ ((i : S2x256x1536.Idx) 2).val ∧ ((i : S2x256x1536.Idx) 2).val < 0 + 1536; omega
  have hsubO : rowsOut c R (oo k p) (oo k (p + 1)) ⊆ restOut c R (oo k p) := by
    intro i; unfold rowsOut restOut
    simp only [Finset.mem_filter, Finset.mem_univ, true_and]; omega
  have hdifO : restOut c R (oo k p) \ rowsOut c R (oo k p) (oo k (p + 1)) = restOut c R (oo k (p + 1)) := by
    ext i; unfold rowsOut restOut
    simp only [Finset.mem_sdiff, Finset.mem_filter, Finset.mem_univ, true_and]; omega
  have hsubB : rowsBuf c σ (oo k p) (oo k (p + 1)) ⊆ rowsBuf c σ (oo k p) 16 := by
    intro i; unfold rowsBuf
    simp only [Finset.mem_filter, Finset.mem_univ, true_and]; omega
  have hdifB : rowsBuf c σ (oo k p) 16 \ rowsBuf c σ (oo k p) (oo k (p + 1)) = rowsBuf c σ (oo k (p + 1)) 16 := by
    ext i; unfold rowsBuf
    simp only [Finset.mem_sdiff, Finset.mem_filter, Finset.mem_univ, true_and]; omega
  rw [wp_lift]
  unfold OI
  iintro ⟨HB, Ho, Hb⟩ HK
  ihave Ho2 := (pointsTo_split_subset hsubO).1 $$ Ho
  icases Ho2 with ⟨Ho, Hro⟩
  ihave Hb2 := (pointsTo_split_subset hsubB).1 $$ Hb
  icases Hb2 with ⟨Hb, Hrb⟩
  rw [hdifO, hdifB]
  iapply (Transfers.wp_dmaMixedBatch EC Variants.nat (c : Thread nD τ) none ()
    (src := (m11.slice (Rect.unit (s := S2x256x1536) ![σ, 16 * oo k p, 0] (⟨3, ![1, 16 * bw p, 1536]⟩ : Shape).size inbb) hsb).squeeze (⟨2, ![16 * bw p, 1536]⟩ : Shape) hq)
    (dst := m4.slice (Rect.unit (s := S12288x1536) ![R + 16 * oo k p, 0] (⟨2, ![16 * bw p, 1536]⟩ : Shape).size inbo) hso)
    (q := fullShare) (fs := fo) (fd := fOld) (Sd := rowsOut c R (oo k p) (oo k (p + 1)))
    (D := fun t : Fin (cnt k 5) => piece c σ R k fo fOld (pcN k t.val))
    (fun t : Fin (cnt k 5) => amtP (pcN k t.val)) (by
      intro i hi
      have hi' : (i : S12288x1536.Idx) ∈ (Rect.unit (s := S12288x1536) ![R + 16 * oo k p, 0] (⟨2, ![16 * bw p, 1536]⟩ : Shape).size inbo).set := by
        have hi2 : i ∈ ((View.whole main_v0 : View sig .tc _ _ _).slice (Rect.unit (s := S12288x1536) ![R + 16 * oo k p, 0] (⟨2, ![16 * bw p, 1536]⟩ : Shape).size inbo)).set := hi
        rw [View.set_slice_whole] at hi2; exact hi2
      exact (hsetO i).mp hi') hlt (by show _ = amtP (pcN k (cnt k p)); rw [hpc]; rfl) (Nat.zero_le _) (by
      show _ ⊢ piece c σ R k fo fOld (pcN k (cnt k p))
      rw [hpc, hsetB]
      unfold piece
      refine sep_mono (Entails.of_eq (pointsTo_congr fun i hi => ?_)) .rfl
      have hi2 : R + 16 * oo k p ≤ ((i : S12288x1536.Idx) 0).val ∧ ((i : S12288x1536.Idx) 0).val < R + 16 * oo k (p + 1) := by
        have := hi; unfold rowsOut at this
        simpa only [Finset.mem_filter, Finset.mem_univ, true_and] using this
      rw [ho1] at hi2
      have hi1 : ((i : S12288x1536.Idx) 1).val < 1536 := (i 1).isLt
      let x : (⟨2, ![16 * bw p, 1536]⟩ : Shape).Idx :=
        ValueIdx.ix2 (⟨((i : S12288x1536.Idx) 0).val - (R + 16 * oo k p), by omega⟩ : Fin (16 * bw p)) (⟨((i : S12288x1536.Idx) 1).val, hi1⟩ : Fin 1536)
      have hx : (m4.slice (Rect.unit (s := S12288x1536) ![R + 16 * oo k p, 0] (⟨2, ![16 * bw p, 1536]⟩ : Shape).size inbo) hso).view.emb x = i := by
        funext a; fin_cases a
        · refine Fin.ext ?_
          show R + 16 * oo k p + 1 * (((i : S12288x1536.Idx) 0).val - (R + 16 * oo k p)) = ((i : S12288x1536.Idx) 0).val; omega
        · refine Fin.ext ?_
          show 0 + 1 * ((i : S12288x1536.Idx) 1).val = ((i : S12288x1536.Idx) 1).val; omega
      have hw := View.write_emb_of_mem (v := (m4.slice (Rect.unit (s := S12288x1536) ![R + 16 * oo k p, 0] (⟨2, ![16 * bw p, 1536]⟩ : Shape).size inbo) hso).view)
        (Val := Elt F) fOld (((m11.slice (Rect.unit (s := S2x256x1536) ![σ, 16 * oo k p, 0] (⟨3, ![1, 16 * bw p, 1536]⟩ : Shape).size inbb) hsb).squeeze (⟨2, ![16 * bw p, 1536]⟩ : Shape) hq).view.read (Elt F) fo)
        (M := Finset.univ) (x := x) (Finset.mem_univ _)
      rw [hx] at hw
      refine hw.trans ?_
      unfold outNew
      rw [if_pos (by omega)]
      refine congrArg fo ?_
      show (Rect.unit (s := S2x256x1536) ![σ, 16 * oo k p, 0] (⟨3, ![1, 16 * bw p, 1536]⟩ : Shape).size inbb).emb (Shape.reshapeEquiv _ x) = _
      rw [ValueIdx.reshapeEquiv_ix2_1ab]
      refine gx3_eq _ _ _ _ ?_ ?_ ?_
      · show σ + 1 * 0 = σ; omega
      · show 16 * oo k p + 1 * (((i : S12288x1536.Idx) 0).val - (R + 16 * oo k p)) = ((i : S12288x1536.Idx) 0).val - R; omega
      · show 0 + 1 * ((i : S12288x1536.Idx) 1).val = ((i : S12288x1536.Idx) 1).val; omega)) $$ [Hb Ho HB]
  · isplitl [Hb]
    · rw [hsetB]; iexact Hb
    isplitl [Ho]; · iexact Ho
    iexact HB
  iintro HB
  iapply HK
  rw [hc1]
  isplitl [HB]; · iexact HB
  isplitl [Hro]; · iexact Hro
  iexact Hrb

theorem ob_wait {p r : ℕ} (hk : k < 17) (hp : p < 5) (h : pres k p) (hr : r = 16 * bw p) {Q : α → PP F} {K : PUnit → PG F α}
    {cs : Space} {s' : Shape} {e' : EltTy} {srcw : Memref sig .tc cs s' e'} {offo : Fin 2 → ℕ} {inbo hso hsrc hdst} :
    iprop(OW c σ R k fo fOld p ∗ owed c) ⊢ iprop((iprop(OW c σ R k fo fOld (p + 1) ∗ owed c) -∗ Wp c (K ⟨⟩) Q)
      -∗ Wp c (Prog.lift (.waitDma2 s21.sem srcw (m4.slice (Rect.unit (s := S12288x1536) offo (⟨2, ![r, 1536]⟩ : Shape).size inbo) hso) hsrc hdst) >>= K) Q) := by
  obtain ⟨hpc, hlt, hc1, ho1⟩ := pieces_pres k hk p hp h
  subst hr
  rw [wp_lift]
  unfold OW
  have hs := Transfers.sumTo_succ (n := cnt k 5) (fun t => amtP (pcN k t.val)) hlt
  have hm : ∀ a b : ℕ, a ≤ b → b ≤ cnt k 5 → Transfers.sumTo (n := cnt k 5) (fun t => amtP (pcN k t.val)) a ≤ Transfers.sumTo (n := cnt k 5) (fun t => amtP (pcN k t.val)) b := by
    intro a b hab
    induction b, hab using Nat.le_induction with
    | base => intro _; exact le_rfl
    | succ b hab ih => intro hb; exact (ih (by omega)).trans (by show _ ≤ _ + _; omega)
  have hs' : Transfers.sumTo (n := cnt k 5) (fun t => amtP (pcN k t.val)) (cnt k (p + 1)) = Transfers.sumTo (n := cnt k 5) (fun t => amtP (pcN k t.val)) (cnt k p) + amtP p := by
    rw [hc1, hs]; show _ + amtP (pcN k (cnt k p)) = _; rw [hpc]
  have hu : Transfers.sumTo (n := cnt k 5) (fun t => amtP (pcN k t.val)) (cnt k p) + amtP p ≤ Transfers.sumTo (n := cnt k 5) (fun t => amtP (pcN k t.val)) (cnt k 5) := by
    rw [← hs']; exact hm _ _ (by omega) le_rfl
  iintro ⟨⟨HB, Ho, Hb⟩, ⟨%W, HO⟩⟩ HK
  iapply (Transfers.wp_waitMixedBatch EC Variants.nat (c : Thread nD τ) none () (J := amtP p) (by rfl) hu) $$ [HB HO]
  · isplitl [HB]; · iexact HB
    iexact HO
  iintro ⟨HB, HO⟩
  iapply HK
  rw [hs']
  isplitr [HO]
  · isplitl [HB]; · iexact HB
    isplitl [Ho]; · iexact Ho
    iexact Hb
  · iexists _; iexact HO

theorem ob_collect (hk : k < 17) :
    OW c σ R k fo fOld 5 ⊢ iprop(|={Set.univ}=> iprop(own c main_v0 (outNew R k σ fo fOld) ∗ part c cc0_scratch6 (slot6 c σ) fullShare fo ∗ sval c (.dma s21.sem) 0)) := by
  unfold OW
  have hU : (Finset.univ.biUnion fun t : Fin (cnt k 5) => rowsOut c R (oo k (pcN k t.val)) (oo k (pcN k t.val + 1))) = rowsOut c R 0 k := by
    ext i
    simp only [Finset.mem_biUnion, Finset.mem_univ, true_and, rowsOut, Finset.mem_filter]
    constructor
    · rintro ⟨t, h1, h2⟩
      have := pieces_mem k hk t
      omega
    · rintro ⟨h1, h2⟩
      obtain ⟨t, h3, h4⟩ := pieces_cover k hk ((((i : S12288x1536.Idx) 0).val - R) / 16) (by omega)
      exact ⟨t, by omega, by omega⟩
  have hV : (Finset.univ.biUnion fun t : Fin (cnt k 5) => rowsBuf c σ (oo k (pcN k t.val)) (oo k (pcN k t.val + 1))) = rowsBuf c σ 0 k := by
    ext i
    simp only [Finset.mem_biUnion, Finset.mem_univ, true_and, rowsBuf, Finset.mem_filter]
    constructor
    · rintro ⟨t, h0, h1, h2⟩
      have := pieces_mem k hk t
      omega
    · rintro ⟨h0, h1, h2⟩
      obtain ⟨t, h3, h4⟩ := pieces_cover k hk (((i : S2x256x1536.Idx) 1).val / 16) (by omega)
      exact ⟨t, h0, by omega, by omega⟩
  have hdU : ∀ t ∈ (Finset.univ : Finset (Fin (cnt k 5))), ∀ t' ∈ (Finset.univ : Finset (Fin (cnt k 5))), t ≠ t' →
      Disjoint (rowsOut c R (oo k (pcN k t.val)) (oo k (pcN k t.val + 1))) (rowsOut c R (oo k (pcN k t'.val)) (oo k (pcN k t'.val + 1))) := by
    intro t _ t' _ hne
    rw [Finset.disjoint_left]
    intro i; simp only [rowsOut, Finset.mem_filter, Finset.mem_univ, true_and]
    have := pieces_disj k hk t t' hne
    omega
  have hdV : ∀ t ∈ (Finset.univ : Finset (Fin (cnt k 5))), ∀ t' ∈ (Finset.univ : Finset (Fin (cnt k 5))), t ≠ t' →
      Disjoint (rowsBuf c σ (oo k (pcN k t.val)) (oo k (pcN k t.val + 1))) (rowsBuf c σ (oo k (pcN k t'.val)) (oo k (pcN k t'.val + 1))) := by
    intro t _ t' _ hne
    rw [Finset.disjoint_left]
    intro i; simp only [rowsBuf, Finset.mem_filter, Finset.mem_univ, true_and]
    have := pieces_disj k hk t t' hne
    omega
  have hsO : rowsOut c R 0 k ⊆ Finset.univ := Finset.subset_univ _
  have hdO : Finset.univ \ rowsOut c R 0 k = restOut c R k := by
    ext i; unfold rowsOut restOut
    simp only [Finset.mem_sdiff, Finset.mem_filter, Finset.mem_univ, true_and]; omega
  have hsB : rowsBuf c σ 0 k ⊆ slot6 c σ := by
    intro i; unfold rowsBuf slot6
    simp only [Finset.mem_filter, Finset.mem_univ, true_and]; omega
  have hdB : slot6 c σ \ rowsBuf c σ 0 k = rowsBuf c σ k 16 := by
    ext i
    have : ((i : S2x256x1536.Idx) 1).val < 256 := (i 1).isLt
    unfold rowsBuf slot6
    simp only [Finset.mem_sdiff, Finset.mem_filter, Finset.mem_univ, true_and]; omega
  have hcol : MB c σ R k fo fOld (cnt k 5) (Transfers.sumTo (n := cnt k 5) (fun t => amtP (pcN k t.val)) (cnt k 5))
      ⊢ iprop(|={Set.univ}=> iprop(bigSep Finset.univ (fun t : Fin (cnt k 5) => piece c σ R k fo fOld (pcN k t.val)) ∗ sval c (.dma s21.sem) 0)) :=
    by
    refine Transfers.mixedBatch_collect' EC (c : Thread nD τ) (sm := .dma s21.sem) (ι := ()) (A := fun t : Fin (cnt k 5) => amtP (pcN k t.val)) ?_ (D := fun t : Fin (cnt k 5) => piece c σ R k fo fOld (pcN k t.val))
    exact (fun t => by
      have : ∀ p < 5, 0 < amtP p := by decide
      have h5 : ∀ k < 17, ∀ t : Fin (cnt k 5), pcN k t.val < 5 := by decide
      exact this _ (h5 k hk t))
  iintro ⟨HB, Ho, Hb⟩
  imod hcol $$ HB with ⟨HD, Hv⟩
  imodintro
  have e1 : bigSep Finset.univ (fun t : Fin (cnt k 5) => piece c σ R k fo fOld (pcN k t.val))
      ⊢ iprop(part c main_v0 (rowsOut c R 0 k) fullShare (outNew R k σ fo fOld) ∗ part c cc0_scratch6 (rowsBuf c σ 0 k) fullShare fo) := by
    unfold piece
    rw [← hU, ← hV]
    unfold part
    rw [pointsTo_biUnion _ _ hdU, pointsTo_biUnion _ _ hdV]
    exact Entails.of_eq (bigSep_sep _ _ _)
  ihave HD := e1 $$ HD
  icases HD with ⟨HDo, HDb⟩
  isplitl [HDo Ho]
  · iapply (pointsTo_split_subset hsO).2
    isplitl [HDo]; · iexact HDo
    rw [hdO]
    rw [pointsTo_congr (g := fOld) (fun i hi => ?_)]
    · iexact Ho
    · unfold outNew; rw [if_neg]
      unfold restOut at hi
      simpa only [Finset.mem_filter, Finset.mem_univ, _root_.true_and] using hi
  isplitl [HDb Hb]
  · iapply (pointsTo_split_subset hsB).2
    isplitl [HDb]; · iexact HDb
    rw [hdB]
    iexact Hb
  iexact Hv

end Cert.KernelIdeal.Hand
-- ==== Proof.KI.Words.lean ====
/-
  The words the kernel computes with: slots, offsets, block counts and conditions as numbers, and the checks they pass.
-/
module

public import proofs.«01_k».proof.Proof.KI.OutB
public import Idealize.ShloMosaic.Lib.PairWhole
public import Idealize.ShloMosaic.Lib.WordCmp

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-! ### Small words -/

theorem word_id (x : BitVec 32) : BitVec.ofNat 32 x.toNat = x := by
  apply BitVec.eq_of_toNat_eq; rw [BitVec.toNat_ofNat]; exact Nat.mod_eq_of_lt x.isLt

theorem iv_nat (k : ℕ) (hk : k < 64) : (Scf.iv 0#32 1#32 k).toNat = k := WordArith.toNat_iv_zero_one k (by omega)

theorem and_one (x : BitVec 32) : (Scalar.andi x 1#32).toNat = x.toNat % 2 := WordArith.toNat_andi_lowMask x 1#32 1 (by decide)

theorem sub_one {x : BitVec 32} {n : ℕ} (hx : x.toNat = n) (h0 : 0 < n) : (Scalar.subi x 1#32).toNat = n - 1 := by
  have := x.isLt
  show (x - 1#32).toNat = _
  rw [BitVec.toNat_sub]
  show (2 ^ 32 - 1 + x.toNat) % 2 ^ 32 = _
  omega

theorem add_one {x : BitVec 32} {n : ℕ} (hx : x.toNat = n) (h0 : n < 2 ^ 31) : (Scalar.addi x 1#32).toNat = n + 1 := by
  rw [WordArith.toNat_addi_one, hx]; omega

theorem slot_cur {k : ℕ} (hk : k < 64) : (Scalar.andi (Scf.iv 0#32 1#32 k) 1#32).toNat = k % 2 := by rw [and_one, iv_nat k hk]
theorem slot_next {k : ℕ} (hk : k < 64) : (Scalar.andi (Scalar.addi (Scf.iv 0#32 1#32 k) 1#32) 1#32).toNat = (k + 1) % 2 := by
  rw [and_one, add_one (iv_nat k hk) (by omega)]
theorem slot_prev {k : ℕ} (hk : k < 64) (h0 : 0 < k) : (Scalar.andi (Scalar.subi (Scf.iv 0#32 1#32 k) 1#32) 1#32).toNat = (k - 1) % 2 := by
  rw [and_one, sub_one (iv_nat k hk) h0]
theorem slot_last {x : BitVec 32} {n : ℕ} (hx : x.toNat = n) (h0 : 0 < n) : (Scalar.andi (Scalar.subi x 1#32) 1#32).toNat = (n - 1) % 2 := by
  rw [and_one, sub_one hx h0]

theorem min_nat (x c : BitVec 32) (hx : x.toNat < 2 ^ 31) (hc : c.toNat < 2 ^ 31) : (Scalar.minsi x c).toNat = min x.toNat c.toNat :=
  WordArith.toNat_minsi_of_lt x c hx hc

theorem bit_ne (b : BitVec 1) : Scalar.cmpi .ne (Scalar.extui b : BitVec 32) 0#32 = 1#1 ↔ b = 1#1 := by
  revert b; decide

theorem slt_nat {x y : BitVec 32} (hx : x.toNat < 2 ^ 31) (hy : y.toNat < 2 ^ 31) : Scalar.cmpi .slt x y = 1#1 ↔ x.toNat < y.toNat := by
  have e1 := word_id x
  have e2 := word_id y
  generalize x.toNat = a at *
  generalize y.toNat = b at *
  subst e1 e2
  show IntOp.cmpi .slt (BitVec.ofNat 32 a) (BitVec.ofNat 32 b) = 1#1 ↔ _
  rw [WordCmp.cmpi_slt_ofNat (w := 32) hx hy]
  exact WordCmp.ofBool_decide_eq_one_iff _

/-- The trips of a loop from zero by ones. -/
theorem trips_one {v : BitVec 32} {n : ℕ} (hv : v.toNat = n) (hn : n < 2 ^ 31) : Scf.trips 0#32 v 1#32 = n := by
  have e := BitVec.toInt_eq_toNat_cond v
  have h0 : (0#32 : BitVec 32).toInt = 0 := by decide
  have h1 : (1#32 : BitVec 32).toInt = 1 := by decide
  unfold Scf.trips
  rw [h0, h1, e, if_pos (by omega)]
  omega

/-! ### The rows of a tile, up to whole blocks -/

/-- The blocks of a tile that ends at `E` and starts at `R`. -/
def kk (R E : ℕ) : ℕ := (E - R + 15) / 16

/-- What is known of a tile's row and end words. -/
structure Tw (r e : BitVec 32) (R E : ℕ) : Prop where
  hr : r.toNat = R
  he : e.toNat = E
  lt : R < E
  le : E ≤ R + 256
  top : E ≤ 12288
  dvd : 16 ∣ R

variable {r e : BitVec 32} {R E : ℕ}

theorem Tw.kk_lt (h : Tw r e R E) : kk R E < 17 := by have := h.le; unfold kk; omega
theorem Tw.kk_top (h : Tw r e R E) : R + 16 * kk R E ≤ 12288 := by have := h.top; have := h.dvd; have := h.lt; unfold kk; omega

theorem rw16_eq (h : Tw r e R E) :
    Scalar.andi (Scalar.subi (Scalar.addi (Scalar.subi e r) 16#32) 1#32) 4294967280#32 = BitVec.ofNat 32 (16 * kk R E) := by
  obtain ⟨hr, he, h1, h2, h3, h4⟩ := h
  have d1 : (Scalar.subi e r).toNat = E - R := by
    show (e - r).toNat = _
    rw [BitVec.toNat_sub, hr, he]
    omega
  have d2 : (Scalar.subi (Scalar.addi (Scalar.subi e r) 16#32) 1#32).toNat = E - R + 15 := by
    refine (sub_one (n := E - R + 16) ?_ (by omega)).trans (by omega)
    show (Scalar.subi e r + 16#32).toNat = _
    rw [BitVec.toNat_add, d1]
    show (E - R + 16) % 2 ^ 32 = _
    omega
  apply BitVec.eq_of_toNat_eq
  refine (WordArith.toNat_andi_mask16 _).trans ?_
  rw [d2, BitVec.toNat_ofNat]
  unfold kk
  omega

theorem rows_bound (h : Tw r e R E) {p : ℕ} (hp : p < 5) (hb : pres (kk R E) p) :
    R + 16 * oo (kk R E) p + 16 * bw p ≤ 12288 ∧ 16 * oo (kk R E) p + 16 * bw p ≤ 256 := by
  have h1 := pieces_pres _ h.kk_lt p hp hb
  have h2 := pieces_le _ h.kk_lt (p + 1) (by omega)
  have h3 := h.kk_lt
  have h4 := h.kk_top
  omega

theorem cb0 : ∀ k < 17, (Scalar.cmpi .ne (Scalar.extui (Scalar.cmpi .ne (Scalar.andi (BitVec.ofNat 32 (16 * k)) 256#32) 0#32) : BitVec 32) 0#32 = 1#1 ↔ pres k 0) := by
  decide
theorem mk0 : ∀ k < 17, (Scalar.andi (BitVec.ofNat 32 (16 * k)) 4294966784#32).toNat = 16 * oo k 0 := by
  decide
theorem am0 (h : Tw r e R E) : (Scalar.addi r (Scalar.andi (BitVec.ofNat 32 (16 * kk R E)) 4294966784#32)).toNat = R + 16 * oo (kk R E) 0 := by
  have h1 := mk0 _ h.kk_lt
  have h2 := pieces_le _ h.kk_lt 0 (by omega)
  have h3 := h.kk_lt
  have h4 := h.kk_top
  show (r + _).toNat = _
  rw [BitVec.toNat_add, h1, h.hr]
  omega

theorem cb1 : ∀ k < 17, (Scalar.cmpi .ne (Scalar.extui (Scalar.cmpi .ne (Scalar.andi (BitVec.ofNat 32 (16 * k)) 128#32) 0#32) : BitVec 32) 0#32 = 1#1 ↔ pres k 1) := by
  decide
theorem mk1 : ∀ k < 17, (Scalar.andi (BitVec.ofNat 32 (16 * k)) 4294967040#32).toNat = 16 * oo k 1 := by
  decide
theorem am1 (h : Tw r e R E) : (Scalar.addi r (Scalar.andi (BitVec.ofNat 32 (16 * kk R E)) 4294967040#32)).toNat = R + 16 * oo (kk R E) 1 := by
  have h1 := mk1 _ h.kk_lt
  have h2 := pieces_le _ h.kk_lt 1 (by omega)
  have h3 := h.kk_lt
  have h4 := h.kk_top
  show (r + _).toNat = _
  rw [BitVec.toNat_add, h1, h.hr]
  omega

theorem cb2 : ∀ k < 17, (Scalar.cmpi .ne (Scalar.extui (Scalar.cmpi .ne (Scalar.andi (BitVec.ofNat 32 (16 * k)) 64#32) 0#32) : BitVec 32) 0#32 = 1#1 ↔ pres k 2) := by
  decide
theorem mk2 : ∀ k < 17, (Scalar.andi (BitVec.ofNat 32 (16 * k)) 4294967168#32).toNat = 16 * oo k 2 := by
  decide
theorem am2 (h : Tw r e R E) : (Scalar.addi r (Scalar.andi (BitVec.ofNat 32 (16 * kk R E)) 4294967168#32)).toNat = R + 16 * oo (kk R E) 2 := by
  have h1 := mk2 _ h.kk_lt
  have h2 := pieces_le _ h.kk_lt 2 (by omega)
  have h3 := h.kk_lt
  have h4 := h.kk_top
  show (r + _).toNat = _
  rw [BitVec.toNat_add, h1, h.hr]
  omega

theorem cb3 : ∀ k < 17, (Scalar.cmpi .ne (Scalar.extui (Scalar.cmpi .ne (Scalar.andi (BitVec.ofNat 32 (16 * k)) 32#32) 0#32) : BitVec 32) 0#32 = 1#1 ↔ pres k 3) := by
  decide
theorem mk3 : ∀ k < 17, (Scalar.andi (BitVec.ofNat 32 (16 * k)) 4294967232#32).toNat = 16 * oo k 3 := by
  decide
theorem am3 (h : Tw r e R E) : (Scalar.addi r (Scalar.andi (BitVec.ofNat 32 (16 * kk R E)) 4294967232#32)).toNat = R + 16 * oo (kk R E) 3 := by
  have h1 := mk3 _ h.kk_lt
  have h2 := pieces_le _ h.kk_lt 3 (by omega)
  have h3 := h.kk_lt
  have h4 := h.kk_top
  show (r + _).toNat = _
  rw [BitVec.toNat_add, h1, h.hr]
  omega

theorem cb4 : ∀ k < 17, (Scalar.cmpi .ne (Scalar.extui (Scalar.cmpi .ne (Scalar.andi (BitVec.ofNat 32 (16 * k)) 16#32) 0#32) : BitVec 32) 0#32 = 1#1 ↔ pres k 4) := by
  decide
theorem mk4 : ∀ k < 17, (Scalar.andi (BitVec.ofNat 32 (16 * k)) 4294967264#32).toNat = 16 * oo k 4 := by
  decide
theorem am4 (h : Tw r e R E) : (Scalar.addi r (Scalar.andi (BitVec.ofNat 32 (16 * kk R E)) 4294967264#32)).toNat = R + 16 * oo (kk R E) 4 := by
  have h1 := mk4 _ h.kk_lt
  have h2 := pieces_le _ h.kk_lt 4 (by omega)
  have h3 := h.kk_lt
  have h4 := h.kk_top
  show (r + _).toNat = _
  rw [BitVec.toNat_add, h1, h.hr]
  omega

theorem cond5_iff (h : Tw r e R E) : k0_cond5 r e = 1#1 ↔ pres (kk R E) 0 := by
  unfold k0_cond5; dsimp only; rw [rw16_eq h]; exact cb0 _ h.kk_lt
theorem off55_eq (h : Tw r e R E) : k0_off55 r e = ![R + 16 * oo (kk R E) 0, 0] := by
  unfold k0_off55; dsimp only; rw [rw16_eq h, am0 h]
theorem off56_eq (h : Tw r e R E) {v1_0 : BitVec 32} {t : Fin (k0_t4_loop v1_0).trips} (hk : t.val < 64) (h0 : 0 < t.val) : k0_off56 v1_0 t r e = ![(t.val - 1) % 2, 16 * oo (kk R E) 0, 0] := by
  unfold k0_off56; dsimp only; rw [rw16_eq h, mk0 _ h.kk_lt]; rw [slot_prev hk h0]

theorem cond6_iff (h : Tw r e R E) : k0_cond6 r e = 1#1 ↔ pres (kk R E) 1 := by
  unfold k0_cond6; dsimp only; rw [rw16_eq h]; exact cb1 _ h.kk_lt
theorem off57_eq (h : Tw r e R E) : k0_off57 r e = ![R + 16 * oo (kk R E) 1, 0] := by
  unfold k0_off57; dsimp only; rw [rw16_eq h, am1 h]
theorem off58_eq (h : Tw r e R E) {v1_0 : BitVec 32} {t : Fin (k0_t4_loop v1_0).trips} (hk : t.val < 64) (h0 : 0 < t.val) : k0_off58 v1_0 t r e = ![(t.val - 1) % 2, 16 * oo (kk R E) 1, 0] := by
  unfold k0_off58; dsimp only; rw [rw16_eq h, mk1 _ h.kk_lt]; rw [slot_prev hk h0]

theorem cond7_iff (h : Tw r e R E) : k0_cond7 r e = 1#1 ↔ pres (kk R E) 2 := by
  unfold k0_cond7; dsimp only; rw [rw16_eq h]; exact cb2 _ h.kk_lt
theorem off59_eq (h : Tw r e R E) : k0_off59 r e = ![R + 16 * oo (kk R E) 2, 0] := by
  unfold k0_off59; dsimp only; rw [rw16_eq h, am2 h]
theorem off60_eq (h : Tw r e R E) {v1_0 : BitVec 32} {t : Fin (k0_t4_loop v1_0).trips} (hk : t.val < 64) (h0 : 0 < t.val) : k0_off60 v1_0 t r e = ![(t.val - 1) % 2, 16 * oo (kk R E) 2, 0] := by
  unfold k0_off60; dsimp only; rw [rw16_eq h, mk2 _ h.kk_lt]; rw [slot_prev hk h0]

theorem cond8_iff (h : Tw r e R E) : k0_cond8 r e = 1#1 ↔ pres (kk R E) 3 := by
  unfold k0_cond8; dsimp only; rw [rw16_eq h]; exact cb3 _ h.kk_lt
theorem off61_eq (h : Tw r e R E) : k0_off61 r e = ![R + 16 * oo (kk R E) 3, 0] := by
  unfold k0_off61; dsimp only; rw [rw16_eq h, am3 h]
theorem off62_eq (h : Tw r e R E) {v1_0 : BitVec 32} {t : Fin (k0_t4_loop v1_0).trips} (hk : t.val < 64) (h0 : 0 < t.val) : k0_off62 v1_0 t r e = ![(t.val - 1) % 2, 16 * oo (kk R E) 3, 0] := by
  unfold k0_off62; dsimp only; rw [rw16_eq h, mk3 _ h.kk_lt]; rw [slot_prev hk h0]

theorem cond9_iff (h : Tw r e R E) : k0_cond9 r e = 1#1 ↔ pres (kk R E) 4 := by
  unfold k0_cond9; dsimp only; rw [rw16_eq h]; exact cb4 _ h.kk_lt
theorem off63_eq (h : Tw r e R E) : k0_off63 r e = ![R + 16 * oo (kk R E) 4, 0] := by
  unfold k0_off63; dsimp only; rw [rw16_eq h, am4 h]
theorem off64_eq (h : Tw r e R E) {v1_0 : BitVec 32} {t : Fin (k0_t4_loop v1_0).trips} (hk : t.val < 64) (h0 : 0 < t.val) : k0_off64 v1_0 t r e = ![(t.val - 1) % 2, 16 * oo (kk R E) 4, 0] := by
  unfold k0_off64; dsimp only; rw [rw16_eq h, mk4 _ h.kk_lt]; rw [slot_prev hk h0]

theorem chk16_ok (h : Tw r e R E) {v1_0 : BitVec 32} {t : Fin (k0_t4_loop v1_0).trips} (hk : t.val < 64) (h0 : 0 < t.val) : k0_chk16 v1_0 t r e :=
  ⟨
    fun _ => by unfold k0_mult391; dsimp only; rw [rw16_eq h, mk0 _ h.kk_lt]; exact ⟨_, rfl⟩,
    fun _ => by unfold k0_mult392; dsimp only; rw [rw16_eq h, am0 h]; have := h.dvd; omega,
    fun _ hc a => by
      have := rows_bound h (p := 0) (by omega) ((cond5_iff h).mp hc)
      rw [off55_eq h]; fin_cases a
      · show R + 16 * oo (kk R E) 0 + 256 ≤ 12288; exact this.1
      · show 0 + 1536 ≤ 1536; omega,
    fun _ hc a => by
      have := rows_bound h (p := 0) (by omega) ((cond5_iff h).mp hc)
      rw [off56_eq h hk h0]; fin_cases a
      · show (t.val - 1) % 2 + 1 ≤ 2; omega
      · show 16 * oo (kk R E) 0 + 256 ≤ 256; exact this.2
      · show 0 + 1536 ≤ 1536; omega,
    fun _ hc hinb => (Rect.packedRows_of_rowAxis _ 2 (by decide) (by
      show 2 ∣ k0_off56 v1_0 t r e 1; rw [off56_eq h hk h0]; show 2 ∣ 16 * oo (kk R E) 0; omega) (by show 2 ∣ 256; decide) rfl).wholeWords,
    fun _ hc hinb => (Rect.packedRows_of_rowAxis _ 2 (by decide) (by
      show 2 ∣ k0_off55 r e 0; rw [off55_eq h]; show 2 ∣ R + 16 * oo (kk R E) 0; have := h.dvd; omega) (by show 2 ∣ 256; decide) rfl).wholeWords,
    fun _ => by unfold k0_mult393; dsimp only; rw [rw16_eq h, mk1 _ h.kk_lt]; exact ⟨_, rfl⟩,
    fun _ => by unfold k0_mult394; dsimp only; rw [rw16_eq h, am1 h]; have := h.dvd; omega,
    fun _ hc a => by
      have := rows_bound h (p := 1) (by omega) ((cond6_iff h).mp hc)
      rw [off57_eq h]; fin_cases a
      · show R + 16 * oo (kk R E) 1 + 128 ≤ 12288; exact this.1
      · show 0 + 1536 ≤ 1536; omega,
    fun _ hc a => by
      have := rows_bound h (p := 1) (by omega) ((cond6_iff h).mp hc)
      rw [off58_eq h hk h0]; fin_cases a
      · show (t.val - 1) % 2 + 1 ≤ 2; omega
      · show 16 * oo (kk R E) 1 + 128 ≤ 256; exact this.2
      · show 0 + 1536 ≤ 1536; omega,
    fun _ hc hinb => (Rect.packedRows_of_rowAxis _ 2 (by decide) (by
      show 2 ∣ k0_off58 v1_0 t r e 1; rw [off58_eq h hk h0]; show 2 ∣ 16 * oo (kk R E) 1; omega) (by show 2 ∣ 128; decide) rfl).wholeWords,
    fun _ hc hinb => (Rect.packedRows_of_rowAxis _ 2 (by decide) (by
      show 2 ∣ k0_off57 r e 0; rw [off57_eq h]; show 2 ∣ R + 16 * oo (kk R E) 1; have := h.dvd; omega) (by show 2 ∣ 128; decide) rfl).wholeWords,
    fun _ => by unfold k0_mult395; dsimp only; rw [rw16_eq h, mk2 _ h.kk_lt]; exact ⟨_, rfl⟩,
    fun _ => by unfold k0_mult396; dsimp only; rw [rw16_eq h, am2 h]; have := h.dvd; omega,
    fun _ hc a => by
      have := rows_bound h (p := 2) (by omega) ((cond7_iff h).mp hc)
      rw [off59_eq h]; fin_cases a
      · show R + 16 * oo (kk R E) 2 + 64 ≤ 12288; exact this.1
      · show 0 + 1536 ≤ 1536; omega,
    fun _ hc a => by
      have := rows_bound h (p := 2) (by omega) ((cond7_iff h).mp hc)
      rw [off60_eq h hk h0]; fin_cases a
      · show (t.val - 1) % 2 + 1 ≤ 2; omega
      · show 16 * oo (kk R E) 2 + 64 ≤ 256; exact this.2
      · show 0 + 1536 ≤ 1536; omega,
    fun _ hc hinb => (Rect.packedRows_of_rowAxis _ 2 (by decide) (by
      show 2 ∣ k0_off60 v1_0 t r e 1; rw [off60_eq h hk h0]; show 2 ∣ 16 * oo (kk R E) 2; omega) (by show 2 ∣ 64; decide) rfl).wholeWords,
    fun _ hc hinb => (Rect.packedRows_of_rowAxis _ 2 (by decide) (by
      show 2 ∣ k0_off59 r e 0; rw [off59_eq h]; show 2 ∣ R + 16 * oo (kk R E) 2; have := h.dvd; omega) (by show 2 ∣ 64; decide) rfl).wholeWords,
    fun _ => by unfold k0_mult397; dsimp only; rw [rw16_eq h, mk3 _ h.kk_lt]; exact ⟨_, rfl⟩,
    fun _ => by unfold k0_mult398; dsimp only; rw [rw16_eq h, am3 h]; have := h.dvd; omega,
    fun _ hc a => by
      have := rows_bound h (p := 3) (by omega) ((cond8_iff h).mp hc)
      rw [off61_eq h]; fin_cases a
      · show R + 16 * oo (kk R E) 3 + 32 ≤ 12288; exact this.1
      · show 0 + 1536 ≤ 1536; omega,
    fun _ hc a => by
      have := rows_bound h (p := 3) (by omega) ((cond8_iff h).mp hc)
      rw [off62_eq h hk h0]; fin_cases a
      · show (t.val - 1) % 2 + 1 ≤ 2; omega
      · show 16 * oo (kk R E) 3 + 32 ≤ 256; exact this.2
      · show 0 + 1536 ≤ 1536; omega,
    fun _ hc hinb => (Rect.packedRows_of_rowAxis _ 2 (by decide) (by
      show 2 ∣ k0_off62 v1_0 t r e 1; rw [off62_eq h hk h0]; show 2 ∣ 16 * oo (kk R E) 3; omega) (by show 2 ∣ 32; decide) rfl).wholeWords,
    fun _ hc hinb => (Rect.packedRows_of_rowAxis _ 2 (by decide) (by
      show 2 ∣ k0_off61 r e 0; rw [off61_eq h]; show 2 ∣ R + 16 * oo (kk R E) 3; have := h.dvd; omega) (by show 2 ∣ 32; decide) rfl).wholeWords,
    fun _ => by unfold k0_mult399; dsimp only; rw [rw16_eq h, mk4 _ h.kk_lt]; exact ⟨_, rfl⟩,
    fun _ => by unfold k0_mult400; dsimp only; rw [rw16_eq h, am4 h]; have := h.dvd; omega,
    fun _ hc a => by
      have := rows_bound h (p := 4) (by omega) ((cond9_iff h).mp hc)
      rw [off63_eq h]; fin_cases a
      · show R + 16 * oo (kk R E) 4 + 16 ≤ 12288; exact this.1
      · show 0 + 1536 ≤ 1536; omega,
    fun _ hc a => by
      have := rows_bound h (p := 4) (by omega) ((cond9_iff h).mp hc)
      rw [off64_eq h hk h0]; fin_cases a
      · show (t.val - 1) % 2 + 1 ≤ 2; omega
      · show 16 * oo (kk R E) 4 + 16 ≤ 256; exact this.2
      · show 0 + 1536 ≤ 1536; omega,
    fun _ hc hinb => (Rect.packedRows_of_rowAxis _ 2 (by decide) (by
      show 2 ∣ k0_off64 v1_0 t r e 1; rw [off64_eq h hk h0]; show 2 ∣ 16 * oo (kk R E) 4; omega) (by show 2 ∣ 16; decide) rfl).wholeWords,
    fun _ hc hinb => (Rect.packedRows_of_rowAxis _ 2 (by decide) (by
      show 2 ∣ k0_off63 r e 0; rw [off63_eq h]; show 2 ∣ R + 16 * oo (kk R E) 4; have := h.dvd; omega) (by show 2 ∣ 16; decide) rfl).wholeWords⟩

theorem cond10_iff (h : Tw r e R E) : k0_cond10 r e = 1#1 ↔ pres (kk R E) 0 := by
  unfold k0_cond10; dsimp only; rw [rw16_eq h]; exact cb0 _ h.kk_lt
theorem off66_eq (h : Tw r e R E) : k0_off66 r e = ![R + 16 * oo (kk R E) 0, 0] := by
  unfold k0_off66; dsimp only; rw [rw16_eq h, am0 h]
theorem off67_eq (h : Tw r e R E) {v1_0 : BitVec 32} {t : Fin (k0_t4_loop v1_0).trips} (hk : t.val < 64)  : k0_off67 v1_0 t r e = ![t.val % 2, 16 * oo (kk R E) 0, 0] := by
  unfold k0_off67; dsimp only; rw [rw16_eq h, mk0 _ h.kk_lt]; rw [slot_cur hk]

theorem cond11_iff (h : Tw r e R E) : k0_cond11 r e = 1#1 ↔ pres (kk R E) 1 := by
  unfold k0_cond11; dsimp only; rw [rw16_eq h]; exact cb1 _ h.kk_lt
theorem off68_eq (h : Tw r e R E) : k0_off68 r e = ![R + 16 * oo (kk R E) 1, 0] := by
  unfold k0_off68; dsimp only; rw [rw16_eq h, am1 h]
theorem off69_eq (h : Tw r e R E) {v1_0 : BitVec 32} {t : Fin (k0_t4_loop v1_0).trips} (hk : t.val < 64)  : k0_off69 v1_0 t r e = ![t.val % 2, 16 * oo (kk R E) 1, 0] := by
  unfold k0_off69; dsimp only; rw [rw16_eq h, mk1 _ h.kk_lt]; rw [slot_cur hk]

theorem cond12_iff (h : Tw r e R E) : k0_cond12 r e = 1#1 ↔ pres (kk R E) 2 := by
  unfold k0_cond12; dsimp only; rw [rw16_eq h]; exact cb2 _ h.kk_lt
theorem off70_eq (h : Tw r e R E) : k0_off70 r e = ![R + 16 * oo (kk R E) 2, 0] := by
  unfold k0_off70; dsimp only; rw [rw16_eq h, am2 h]
theorem off71_eq (h : Tw r e R E) {v1_0 : BitVec 32} {t : Fin (k0_t4_loop v1_0).trips} (hk : t.val < 64)  : k0_off71 v1_0 t r e = ![t.val % 2, 16 * oo (kk R E) 2, 0] := by
  unfold k0_off71; dsimp only; rw [rw16_eq h, mk2 _ h.kk_lt]; rw [slot_cur hk]

theorem cond13_iff (h : Tw r e R E) : k0_cond13 r e = 1#1 ↔ pres (kk R E) 3 := by
  unfold k0_cond13; dsimp only; rw [rw16_eq h]; exact cb3 _ h.kk_lt
theorem off72_eq (h : Tw r e R E) : k0_off72 r e = ![R + 16 * oo (kk R E) 3, 0] := by
  unfold k0_off72; dsimp only; rw [rw16_eq h, am3 h]
theorem off73_eq (h : Tw r e R E) {v1_0 : BitVec 32} {t : Fin (k0_t4_loop v1_0).trips} (hk : t.val < 64)  : k0_off73 v1_0 t r e = ![t.val % 2, 16 * oo (kk R E) 3, 0] := by
  unfold k0_off73; dsimp only; rw [rw16_eq h, mk3 _ h.kk_lt]; rw [slot_cur hk]

theorem cond14_iff (h : Tw r e R E) : k0_cond14 r e = 1#1 ↔ pres (kk R E) 4 := by
  unfold k0_cond14; dsimp only; rw [rw16_eq h]; exact cb4 _ h.kk_lt
theorem off74_eq (h : Tw r e R E) : k0_off74 r e = ![R + 16 * oo (kk R E) 4, 0] := by
  unfold k0_off74; dsimp only; rw [rw16_eq h, am4 h]
theorem off75_eq (h : Tw r e R E) {v1_0 : BitVec 32} {t : Fin (k0_t4_loop v1_0).trips} (hk : t.val < 64)  : k0_off75 v1_0 t r e = ![t.val % 2, 16 * oo (kk R E) 4, 0] := by
  unfold k0_off75; dsimp only; rw [rw16_eq h, mk4 _ h.kk_lt]; rw [slot_cur hk]

theorem chk17_ok (h : Tw r e R E) {v1_0 : BitVec 32} {t : Fin (k0_t4_loop v1_0).trips} (hk : t.val < 64)  : k0_chk17 v1_0 t r e :=
  ⟨
    by unfold k0_mult401; dsimp only; rw [rw16_eq h, mk0 _ h.kk_lt]; exact ⟨_, rfl⟩,
    by unfold k0_mult402; dsimp only; rw [rw16_eq h, am0 h]; have := h.dvd; omega,
    fun hc a => by
      have := rows_bound h (p := 0) (by omega) ((cond10_iff h).mp hc)
      rw [off66_eq h]; fin_cases a
      · show R + 16 * oo (kk R E) 0 + 256 ≤ 12288; exact this.1
      · show 0 + 1536 ≤ 1536; omega,
    fun hc a => by
      have := rows_bound h (p := 0) (by omega) ((cond10_iff h).mp hc)
      rw [off67_eq h hk]; fin_cases a
      · show t.val % 2 + 1 ≤ 2; omega
      · show 16 * oo (kk R E) 0 + 256 ≤ 256; exact this.2
      · show 0 + 1536 ≤ 1536; omega,
    fun hc hinb => (Rect.packedRows_of_rowAxis _ 2 (by decide) (by
      show 2 ∣ k0_off67 v1_0 t r e 1; rw [off67_eq h hk]; show 2 ∣ 16 * oo (kk R E) 0; omega) (by show 2 ∣ 256; decide) rfl).wholeWords,
    fun hc hinb => (Rect.packedRows_of_rowAxis _ 2 (by decide) (by
      show 2 ∣ k0_off66 r e 0; rw [off66_eq h]; show 2 ∣ R + 16 * oo (kk R E) 0; have := h.dvd; omega) (by show 2 ∣ 256; decide) rfl).wholeWords,
    by unfold k0_mult403; dsimp only; rw [rw16_eq h, mk1 _ h.kk_lt]; exact ⟨_, rfl⟩,
    by unfold k0_mult404; dsimp only; rw [rw16_eq h, am1 h]; have := h.dvd; omega,
    fun hc a => by
      have := rows_bound h (p := 1) (by omega) ((cond11_iff h).mp hc)
      rw [off68_eq h]; fin_cases a
      · show R + 16 * oo (kk R E) 1 + 128 ≤ 12288; exact this.1
      · show 0 + 1536 ≤ 1536; omega,
    fun hc a => by
      have := rows_bound h (p := 1) (by omega) ((cond11_iff h).mp hc)
      rw [off69_eq h hk]; fin_cases a
      · show t.val % 2 + 1 ≤ 2; omega
      · show 16 * oo (kk R E) 1 + 128 ≤ 256; exact this.2
      · show 0 + 1536 ≤ 1536; omega,
    fun hc hinb => (Rect.packedRows_of_rowAxis _ 2 (by decide) (by
      show 2 ∣ k0_off69 v1_0 t r e 1; rw [off69_eq h hk]; show 2 ∣ 16 * oo (kk R E) 1; omega) (by show 2 ∣ 128; decide) rfl).wholeWords,
    fun hc hinb => (Rect.packedRows_of_rowAxis _ 2 (by decide) (by
      show 2 ∣ k0_off68 r e 0; rw [off68_eq h]; show 2 ∣ R + 16 * oo (kk R E) 1; have := h.dvd; omega) (by show 2 ∣ 128; decide) rfl).wholeWords,
    by unfold k0_mult405; dsimp only; rw [rw16_eq h, mk2 _ h.kk_lt]; exact ⟨_, rfl⟩,
    by unfold k0_mult406; dsimp only; rw [rw16_eq h, am2 h]; have := h.dvd; omega,
    fun hc a => by
      have := rows_bound h (p := 2) (by omega) ((cond12_iff h).mp hc)
      rw [off70_eq h]; fin_cases a
      · show R + 16 * oo (kk R E) 2 + 64 ≤ 12288; exact this.1
      · show 0 + 1536 ≤ 1536; omega,
    fun hc a => by
      have := rows_bound h (p := 2) (by omega) ((cond12_iff h).mp hc)
      rw [off71_eq h hk]; fin_cases a
      · show t.val % 2 + 1 ≤ 2; omega
      · show 16 * oo (kk R E) 2 + 64 ≤ 256; exact this.2
      · show 0 + 1536 ≤ 1536; omega,
    fun hc hinb => (Rect.packedRows_of_rowAxis _ 2 (by decide) (by
      show 2 ∣ k0_off71 v1_0 t r e 1; rw [off71_eq h hk]; show 2 ∣ 16 * oo (kk R E) 2; omega) (by show 2 ∣ 64; decide) rfl).wholeWords,
    fun hc hinb => (Rect.packedRows_of_rowAxis _ 2 (by decide) (by
      show 2 ∣ k0_off70 r e 0; rw [off70_eq h]; show 2 ∣ R + 16 * oo (kk R E) 2; have := h.dvd; omega) (by show 2 ∣ 64; decide) rfl).wholeWords,
    by unfold k0_mult407; dsimp only; rw [rw16_eq h, mk3 _ h.kk_lt]; exact ⟨_, rfl⟩,
    by unfold k0_mult408; dsimp only; rw [rw16_eq h, am3 h]; have := h.dvd; omega,
    fun hc a => by
      have := rows_bound h (p := 3) (by omega) ((cond13_iff h).mp hc)
      rw [off72_eq h]; fin_cases a
      · show R + 16 * oo (kk R E) 3 + 32 ≤ 12288; exact this.1
      · show 0 + 1536 ≤ 1536; omega,
    fun hc a => by
      have := rows_bound h (p := 3) (by omega) ((cond13_iff h).mp hc)
      rw [off73_eq h hk]; fin_cases a
      · show t.val % 2 + 1 ≤ 2; omega
      · show 16 * oo (kk R E) 3 + 32 ≤ 256; exact this.2
      · show 0 + 1536 ≤ 1536; omega,
    fun hc hinb => (Rect.packedRows_of_rowAxis _ 2 (by decide) (by
      show 2 ∣ k0_off73 v1_0 t r e 1; rw [off73_eq h hk]; show 2 ∣ 16 * oo (kk R E) 3; omega) (by show 2 ∣ 32; decide) rfl).wholeWords,
    fun hc hinb => (Rect.packedRows_of_rowAxis _ 2 (by decide) (by
      show 2 ∣ k0_off72 r e 0; rw [off72_eq h]; show 2 ∣ R + 16 * oo (kk R E) 3; have := h.dvd; omega) (by show 2 ∣ 32; decide) rfl).wholeWords,
    by unfold k0_mult409; dsimp only; rw [rw16_eq h, mk4 _ h.kk_lt]; exact ⟨_, rfl⟩,
    by unfold k0_mult410; dsimp only; rw [rw16_eq h, am4 h]; have := h.dvd; omega,
    fun hc a => by
      have := rows_bound h (p := 4) (by omega) ((cond14_iff h).mp hc)
      rw [off74_eq h]; fin_cases a
      · show R + 16 * oo (kk R E) 4 + 16 ≤ 12288; exact this.1
      · show 0 + 1536 ≤ 1536; omega,
    fun hc a => by
      have := rows_bound h (p := 4) (by omega) ((cond14_iff h).mp hc)
      rw [off75_eq h hk]; fin_cases a
      · show t.val % 2 + 1 ≤ 2; omega
      · show 16 * oo (kk R E) 4 + 16 ≤ 256; exact this.2
      · show 0 + 1536 ≤ 1536; omega,
    fun hc hinb => (Rect.packedRows_of_rowAxis _ 2 (by decide) (by
      show 2 ∣ k0_off75 v1_0 t r e 1; rw [off75_eq h hk]; show 2 ∣ 16 * oo (kk R E) 4; omega) (by show 2 ∣ 16; decide) rfl).wholeWords,
    fun hc hinb => (Rect.packedRows_of_rowAxis _ 2 (by decide) (by
      show 2 ∣ k0_off74 r e 0; rw [off74_eq h]; show 2 ∣ R + 16 * oo (kk R E) 4; have := h.dvd; omega) (by show 2 ∣ 16; decide) rfl).wholeWords⟩

theorem cond29_iff (h : Tw r e R E) : k0_cond29 r e = 1#1 ↔ pres (kk R E) 0 := by
  unfold k0_cond29; dsimp only; rw [rw16_eq h]; exact cb0 _ h.kk_lt
theorem off146_eq (h : Tw r e R E) : k0_off146 r e = ![R + 16 * oo (kk R E) 0, 0] := by
  unfold k0_off146; dsimp only; rw [rw16_eq h, am0 h]
theorem off147_eq (h : Tw r e R E) {v1_0 : BitVec 32} {n : ℕ} (hv : v1_0.toNat = n) (h0 : 0 < n) : k0_off147 v1_0 r e = ![(n - 1) % 2, 16 * oo (kk R E) 0, 0] := by
  unfold k0_off147; dsimp only; rw [rw16_eq h, mk0 _ h.kk_lt]; rw [slot_last hv h0]

theorem cond30_iff (h : Tw r e R E) : k0_cond30 r e = 1#1 ↔ pres (kk R E) 1 := by
  unfold k0_cond30; dsimp only; rw [rw16_eq h]; exact cb1 _ h.kk_lt
theorem off148_eq (h : Tw r e R E) : k0_off148 r e = ![R + 16 * oo (kk R E) 1, 0] := by
  unfold k0_off148; dsimp only; rw [rw16_eq h, am1 h]
theorem off149_eq (h : Tw r e R E) {v1_0 : BitVec 32} {n : ℕ} (hv : v1_0.toNat = n) (h0 : 0 < n) : k0_off149 v1_0 r e = ![(n - 1) % 2, 16 * oo (kk R E) 1, 0] := by
  unfold k0_off149; dsimp only; rw [rw16_eq h, mk1 _ h.kk_lt]; rw [slot_last hv h0]

theorem cond31_iff (h : Tw r e R E) : k0_cond31 r e = 1#1 ↔ pres (kk R E) 2 := by
  unfold k0_cond31; dsimp only; rw [rw16_eq h]; exact cb2 _ h.kk_lt
theorem off150_eq (h : Tw r e R E) : k0_off150 r e = ![R + 16 * oo (kk R E) 2, 0] := by
  unfold k0_off150; dsimp only; rw [rw16_eq h, am2 h]
theorem off151_eq (h : Tw r e R E) {v1_0 : BitVec 32} {n : ℕ} (hv : v1_0.toNat = n) (h0 : 0 < n) : k0_off151 v1_0 r e = ![(n - 1) % 2, 16 * oo (kk R E) 2, 0] := by
  unfold k0_off151; dsimp only; rw [rw16_eq h, mk2 _ h.kk_lt]; rw [slot_last hv h0]

theorem cond32_iff (h : Tw r e R E) : k0_cond32 r e = 1#1 ↔ pres (kk R E) 3 := by
  unfold k0_cond32; dsimp only; rw [rw16_eq h]; exact cb3 _ h.kk_lt
theorem off152_eq (h : Tw r e R E) : k0_off152 r e = ![R + 16 * oo (kk R E) 3, 0] := by
  unfold k0_off152; dsimp only; rw [rw16_eq h, am3 h]
theorem off153_eq (h : Tw r e R E) {v1_0 : BitVec 32} {n : ℕ} (hv : v1_0.toNat = n) (h0 : 0 < n) : k0_off153 v1_0 r e = ![(n - 1) % 2, 16 * oo (kk R E) 3, 0] := by
  unfold k0_off153; dsimp only; rw [rw16_eq h, mk3 _ h.kk_lt]; rw [slot_last hv h0]

theorem cond33_iff (h : Tw r e R E) : k0_cond33 r e = 1#1 ↔ pres (kk R E) 4 := by
  unfold k0_cond33; dsimp only; rw [rw16_eq h]; exact cb4 _ h.kk_lt
theorem off154_eq (h : Tw r e R E) : k0_off154 r e = ![R + 16 * oo (kk R E) 4, 0] := by
  unfold k0_off154; dsimp only; rw [rw16_eq h, am4 h]
theorem off155_eq (h : Tw r e R E) {v1_0 : BitVec 32} {n : ℕ} (hv : v1_0.toNat = n) (h0 : 0 < n) : k0_off155 v1_0 r e = ![(n - 1) % 2, 16 * oo (kk R E) 4, 0] := by
  unfold k0_off155; dsimp only; rw [rw16_eq h, mk4 _ h.kk_lt]; rw [slot_last hv h0]

theorem chk29_ok (h : Tw r e R E) {v1_0 : BitVec 32} {n : ℕ} (hv : v1_0.toNat = n) (h0 : 0 < n) : k0_chk29 v1_0 r e :=
  ⟨
    by unfold k0_mult820; dsimp only; rw [rw16_eq h, mk0 _ h.kk_lt]; exact ⟨_, rfl⟩,
    by unfold k0_mult821; dsimp only; rw [rw16_eq h, am0 h]; have := h.dvd; omega,
    fun hc a => by
      have := rows_bound h (p := 0) (by omega) ((cond29_iff h).mp hc)
      rw [off146_eq h]; fin_cases a
      · show R + 16 * oo (kk R E) 0 + 256 ≤ 12288; exact this.1
      · show 0 + 1536 ≤ 1536; omega,
    fun hc a => by
      have := rows_bound h (p := 0) (by omega) ((cond29_iff h).mp hc)
      rw [off147_eq h hv h0]; fin_cases a
      · show (n - 1) % 2 + 1 ≤ 2; omega
      · show 16 * oo (kk R E) 0 + 256 ≤ 256; exact this.2
      · show 0 + 1536 ≤ 1536; omega,
    fun hc hinb => (Rect.packedRows_of_rowAxis _ 2 (by decide) (by
      show 2 ∣ k0_off147 v1_0 r e 1; rw [off147_eq h hv h0]; show 2 ∣ 16 * oo (kk R E) 0; omega) (by show 2 ∣ 256; decide) rfl).wholeWords,
    fun hc hinb => (Rect.packedRows_of_rowAxis _ 2 (by decide) (by
      show 2 ∣ k0_off146 r e 0; rw [off146_eq h]; show 2 ∣ R + 16 * oo (kk R E) 0; have := h.dvd; omega) (by show 2 ∣ 256; decide) rfl).wholeWords,
    by unfold k0_mult822; dsimp only; rw [rw16_eq h, mk1 _ h.kk_lt]; exact ⟨_, rfl⟩,
    by unfold k0_mult823; dsimp only; rw [rw16_eq h, am1 h]; have := h.dvd; omega,
    fun hc a => by
      have := rows_bound h (p := 1) (by omega) ((cond30_iff h).mp hc)
      rw [off148_eq h]; fin_cases a
      · show R + 16 * oo (kk R E) 1 + 128 ≤ 12288; exact this.1
      · show 0 + 1536 ≤ 1536; omega,
    fun hc a => by
      have := rows_bound h (p := 1) (by omega) ((cond30_iff h).mp hc)
      rw [off149_eq h hv h0]; fin_cases a
      · show (n - 1) % 2 + 1 ≤ 2; omega
      · show 16 * oo (kk R E) 1 + 128 ≤ 256; exact this.2
      · show 0 + 1536 ≤ 1536; omega,
    fun hc hinb => (Rect.packedRows_of_rowAxis _ 2 (by decide) (by
      show 2 ∣ k0_off149 v1_0 r e 1; rw [off149_eq h hv h0]; show 2 ∣ 16 * oo (kk R E) 1; omega) (by show 2 ∣ 128; decide) rfl).wholeWords,
    fun hc hinb => (Rect.packedRows_of_rowAxis _ 2 (by decide) (by
      show 2 ∣ k0_off148 r e 0; rw [off148_eq h]; show 2 ∣ R + 16 * oo (kk R E) 1; have := h.dvd; omega) (by show 2 ∣ 128; decide) rfl).wholeWords,
    by unfold k0_mult824; dsimp only; rw [rw16_eq h, mk2 _ h.kk_lt]; exact ⟨_, rfl⟩,
    by unfold k0_mult825; dsimp only; rw [rw16_eq h, am2 h]; have := h.dvd; omega,
    fun hc a => by
      have := rows_bound h (p := 2) (by omega) ((cond31_iff h).mp hc)
      rw [off150_eq h]; fin_cases a
      · show R + 16 * oo (kk R E) 2 + 64 ≤ 12288; exact this.1
      · show 0 + 1536 ≤ 1536; omega,
    fun hc a => by
      have := rows_bound h (p := 2) (by omega) ((cond31_iff h).mp hc)
      rw [off151_eq h hv h0]; fin_cases a
      · show (n - 1) % 2 + 1 ≤ 2; omega
      · show 16 * oo (kk R E) 2 + 64 ≤ 256; exact this.2
      · show 0 + 1536 ≤ 1536; omega,
    fun hc hinb => (Rect.packedRows_of_rowAxis _ 2 (by decide) (by
      show 2 ∣ k0_off151 v1_0 r e 1; rw [off151_eq h hv h0]; show 2 ∣ 16 * oo (kk R E) 2; omega) (by show 2 ∣ 64; decide) rfl).wholeWords,
    fun hc hinb => (Rect.packedRows_of_rowAxis _ 2 (by decide) (by
      show 2 ∣ k0_off150 r e 0; rw [off150_eq h]; show 2 ∣ R + 16 * oo (kk R E) 2; have := h.dvd; omega) (by show 2 ∣ 64; decide) rfl).wholeWords,
    by unfold k0_mult826; dsimp only; rw [rw16_eq h, mk3 _ h.kk_lt]; exact ⟨_, rfl⟩,
    by unfold k0_mult827; dsimp only; rw [rw16_eq h, am3 h]; have := h.dvd; omega,
    fun hc a => by
      have := rows_bound h (p := 3) (by omega) ((cond32_iff h).mp hc)
      rw [off152_eq h]; fin_cases a
      · show R + 16 * oo (kk R E) 3 + 32 ≤ 12288; exact this.1
      · show 0 + 1536 ≤ 1536; omega,
    fun hc a => by
      have := rows_bound h (p := 3) (by omega) ((cond32_iff h).mp hc)
      rw [off153_eq h hv h0]; fin_cases a
      · show (n - 1) % 2 + 1 ≤ 2; omega
      · show 16 * oo (kk R E) 3 + 32 ≤ 256; exact this.2
      · show 0 + 1536 ≤ 1536; omega,
    fun hc hinb => (Rect.packedRows_of_rowAxis _ 2 (by decide) (by
      show 2 ∣ k0_off153 v1_0 r e 1; rw [off153_eq h hv h0]; show 2 ∣ 16 * oo (kk R E) 3; omega) (by show 2 ∣ 32; decide) rfl).wholeWords,
    fun hc hinb => (Rect.packedRows_of_rowAxis _ 2 (by decide) (by
      show 2 ∣ k0_off152 r e 0; rw [off152_eq h]; show 2 ∣ R + 16 * oo (kk R E) 3; have := h.dvd; omega) (by show 2 ∣ 32; decide) rfl).wholeWords,
    by unfold k0_mult828; dsimp only; rw [rw16_eq h, mk4 _ h.kk_lt]; exact ⟨_, rfl⟩,
    by unfold k0_mult829; dsimp only; rw [rw16_eq h, am4 h]; have := h.dvd; omega,
    fun hc a => by
      have := rows_bound h (p := 4) (by omega) ((cond33_iff h).mp hc)
      rw [off154_eq h]; fin_cases a
      · show R + 16 * oo (kk R E) 4 + 16 ≤ 12288; exact this.1
      · show 0 + 1536 ≤ 1536; omega,
    fun hc a => by
      have := rows_bound h (p := 4) (by omega) ((cond33_iff h).mp hc)
      rw [off155_eq h hv h0]; fin_cases a
      · show (n - 1) % 2 + 1 ≤ 2; omega
      · show 16 * oo (kk R E) 4 + 16 ≤ 256; exact this.2
      · show 0 + 1536 ≤ 1536; omega,
    fun hc hinb => (Rect.packedRows_of_rowAxis _ 2 (by decide) (by
      show 2 ∣ k0_off155 v1_0 r e 1; rw [off155_eq h hv h0]; show 2 ∣ 16 * oo (kk R E) 4; omega) (by show 2 ∣ 16; decide) rfl).wholeWords,
    fun hc hinb => (Rect.packedRows_of_rowAxis _ 2 (by decide) (by
      show 2 ∣ k0_off154 r e 0; rw [off154_eq h]; show 2 ∣ R + 16 * oo (kk R E) 4; have := h.dvd; omega) (by show 2 ∣ 16; decide) rfl).wholeWords⟩

/-! ### The strips' corners -/

theorem cor16 {x c : BitVec 32} (hx : 16 ∣ x.toNat) (hc : 16 ∣ c.toNat) : 16 ∣ (Scalar.andi (Scalar.addi x c) 255#32).toNat := by
  obtain ⟨i, hi⟩ := hc
  rw [row_word hi]; omega

theorem skip_word (h : r.toNat = R) (hR : R < 12288) (hd : 16 ∣ R) :
    (Scalar.subi r (Scalar.minsi r 12032#32)).toNat = R - min R 12032 := by
  have hm := min_nat r 12032#32 (by omega) (by decide)
  show (r - Scalar.minsi r 12032#32).toNat = _
  rw [BitVec.toNat_sub, hm, h]
  show (2 ^ 32 - min R 12032 + R) % 2 ^ 32 = _
  omega

theorem b14 {x : BitVec 32} {s : ℕ} (hx : 16 ∣ x.toNat) (hs : s < 2) {C : ℕ} (hC : C + 128 ≤ 3072) (q : Fin 16) (a : Fin 3) :
    (![s, (Scalar.andi (Scalar.addi x (BitVec.ofNat 32 (16 * q.val))) 255#32).toNat, C] : Fin 3 → ℕ) a + S1x16x128.size a ≤ S2x256x3072.size a := by
  have hq := q.isLt
  have hi : (BitVec.ofNat 32 (16 * q.val)).toNat = 16 * q.val := by rw [BitVec.toNat_ofNat]; omega
  fin_cases a
  · show s + 1 ≤ 2; omega
  · show (Scalar.andi (Scalar.addi x (BitVec.ofNat 32 (16 * q.val))) 255#32).toNat + 16 ≤ 256
    rw [row_word hi]; omega
  · show C + 128 ≤ 3072; exact hC

section
variable {v1_0 : BitVec 32} {t : Fin (k0_t4_loop v1_0).trips}

theorem chk14_0_ok (h16 : 16 ∣ (Scalar.subi r (Scalar.minsi r 12032#32)).toNat) (hs : (Scalar.andi (Scf.iv 0#32 1#32 t.val) 1#32).toNat < 2) : k0_chk14_0 v1_0 t r :=
  ⟨h16,
    cor16 h16 (by decide),
    fun q a => b14 h16 hs (C := 0) (by decide) q a,
    cor16 h16 (by decide),
    fun q a => b14 h16 hs (C := 128) (by decide) q a,
    cor16 h16 (by decide),
    cor16 h16 (by decide),
    cor16 h16 (by decide),
    cor16 h16 (by decide),
    cor16 h16 (by decide),
    cor16 h16 (by decide),
    cor16 h16 (by decide),
    cor16 h16 (by decide),
    cor16 h16 (by decide),
    cor16 h16 (by decide),
    cor16 h16 (by decide),
    cor16 h16 (by decide),
    cor16 h16 (by decide),
    cor16 h16 (by decide),
    cor16 h16 (by decide),
    cor16 h16 (by decide),
    cor16 h16 (by decide),
    cor16 h16 (by decide),
    cor16 h16 (by decide),
    cor16 h16 (by decide),
    cor16 h16 (by decide),
    cor16 h16 (by decide),
    cor16 h16 (by decide),
    cor16 h16 (by decide),
    cor16 h16 (by decide),
    cor16 h16 (by decide),
    cor16 h16 (by decide)⟩

theorem chk14_1_ok (h16 : 16 ∣ (Scalar.subi r (Scalar.minsi r 12032#32)).toNat) (hs : (Scalar.andi (Scf.iv 0#32 1#32 t.val) 1#32).toNat < 2) : k0_chk14_1 v1_0 t r :=
  ⟨cor16 h16 (by decide),
    cor16 h16 (by decide),
    cor16 h16 (by decide),
    cor16 h16 (by decide),
    fun q a => b14 h16 hs (C := 256) (by decide) q a,
    cor16 h16 (by decide),
    fun q a => b14 h16 hs (C := 384) (by decide) q a,
    cor16 h16 (by decide),
    cor16 h16 (by decide),
    cor16 h16 (by decide),
    cor16 h16 (by decide),
    cor16 h16 (by decide),
    cor16 h16 (by decide),
    cor16 h16 (by decide),
    cor16 h16 (by decide),
    cor16 h16 (by decide),
    cor16 h16 (by decide),
    cor16 h16 (by decide),
    cor16 h16 (by decide),
    cor16 h16 (by decide),
    cor16 h16 (by decide),
    cor16 h16 (by decide),
    cor16 h16 (by decide),
    cor16 h16 (by decide),
    cor16 h16 (by decide),
    cor16 h16 (by decide),
    cor16 h16 (by decide),
    cor16 h16 (by decide),
    cor16 h16 (by decide),
    cor16 h16 (by decide),
    cor16 h16 (by decide),
    cor16 h16 (by decide)⟩

theorem chk14_2_ok (h16 : 16 ∣ (Scalar.subi r (Scalar.minsi r 12032#32)).toNat) (hs : (Scalar.andi (Scf.iv 0#32 1#32 t.val) 1#32).toNat < 2) : k0_chk14_2 v1_0 t r :=
  ⟨cor16 h16 (by decide),
    cor16 h16 (by decide),
    cor16 h16 (by decide),
    cor16 h16 (by decide),
    cor16 h16 (by decide),
    cor16 h16 (by decide),
    fun q a => b14 h16 hs (C := 512) (by decide) q a,
    cor16 h16 (by decide),
    fun q a => b14 h16 hs (C := 640) (by decide) q a,
    cor16 h16 (by decide),
    cor16 h16 (by decide),
    cor16 h16 (by decide),
    cor16 h16 (by decide),
    cor16 h16 (by decide),
    cor16 h16 (by decide),
    cor16 h16 (by decide),
    cor16 h16 (by decide),
    cor16 h16 (by decide),
    cor16 h16 (by decide),
    cor16 h16 (by decide),
    cor16 h16 (by decide),
    cor16 h16 (by decide),
    cor16 h16 (by decide),
    cor16 h16 (by decide),
    cor16 h16 (by decide),
    cor16 h16 (by decide),
    cor16 h16 (by decide),
    cor16 h16 (by decide),
    cor16 h16 (by decide),
    cor16 h16 (by decide),
    cor16 h16 (by decide),
    cor16 h16 (by decide)⟩

theorem chk14_3_ok (h16 : 16 ∣ (Scalar.subi r (Scalar.minsi r 12032#32)).toNat) (hs : (Scalar.andi (Scf.iv 0#32 1#32 t.val) 1#32).toNat < 2) : k0_chk14_3 v1_0 t r :=
  ⟨cor16 h16 (by decide),
    cor16 h16 (by decide),
    cor16 h16 (by decide),
    cor16 h16 (by decide),
    cor16 h16 (by decide),
    cor16 h16 (by decide),
    cor16 h16 (by decide),
    cor16 h16 (by decide),
    fun q a => b14 h16 hs (C := 768) (by decide) q a,
    cor16 h16 (by decide),
    fun q a => b14 h16 hs (C := 896) (by decide) q a,
    cor16 h16 (by decide),
    cor16 h16 (by decide),
    cor16 h16 (by decide),
    cor16 h16 (by decide),
    cor16 h16 (by decide),
    cor16 h16 (by decide),
    cor16 h16 (by decide),
    cor16 h16 (by decide),
    cor16 h16 (by decide),
    cor16 h16 (by decide),
    cor16 h16 (by decide),
    cor16 h16 (by decide),
    cor16 h16 (by decide),
    cor16 h16 (by decide),
    cor16 h16 (by decide),
    cor16 h16 (by decide),
    cor16 h16 (by decide),
    cor16 h16 (by decide),
    cor16 h16 (by decide),
    cor16 h16 (by decide),
    cor16 h16 (by decide)⟩

theorem chk14_4_ok (h16 : 16 ∣ (Scalar.subi r (Scalar.minsi r 12032#32)).toNat) (hs : (Scalar.andi (Scf.iv 0#32 1#32 t.val) 1#32).toNat < 2) : k0_chk14_4 v1_0 t r :=
  ⟨cor16 h16 (by decide),
    cor16 h16 (by decide),
    cor16 h16 (by decide),
    cor16 h16 (by decide),
    cor16 h16 (by decide),
    cor16 h16 (by decide),
    cor16 h16 (by decide),
    cor16 h16 (by decide),
    cor16 h16 (by decide),
    cor16 h16 (by decide),
    fun q a => b14 h16 hs (C := 1024) (by decide) q a,
    cor16 h16 (by decide),
    fun q a => b14 h16 hs (C := 1152) (by decide) q a,
    cor16 h16 (by decide),
    cor16 h16 (by decide),
    cor16 h16 (by decide),
    cor16 h16 (by decide),
    cor16 h16 (by decide),
    cor16 h16 (by decide),
    cor16 h16 (by decide),
    cor16 h16 (by decide),
    cor16 h16 (by decide),
    cor16 h16 (by decide),
    cor16 h16 (by decide),
    cor16 h16 (by decide),
    cor16 h16 (by decide),
    cor16 h16 (by decide),
    cor16 h16 (by decide),
    cor16 h16 (by decide),
    cor16 h16 (by decide),
    cor16 h16 (by decide),
    cor16 h16 (by decide)⟩

theorem chk14_5_ok (h16 : 16 ∣ (Scalar.subi r (Scalar.minsi r 12032#32)).toNat) (hs : (Scalar.andi (Scf.iv 0#32 1#32 t.val) 1#32).toNat < 2) : k0_chk14_5 v1_0 t r :=
  ⟨cor16 h16 (by decide),
    cor16 h16 (by decide),
    cor16 h16 (by decide),
    cor16 h16 (by decide),
    cor16 h16 (by decide),
    cor16 h16 (by decide),
    cor16 h16 (by decide),
    cor16 h16 (by decide),
    cor16 h16 (by decide),
    cor16 h16 (by decide),
    cor16 h16 (by decide),
    cor16 h16 (by decide),
    fun q a => b14 h16 hs (C := 1280) (by decide) q a,
    cor16 h16 (by decide),
    fun q a => b14 h16 hs (C := 1408) (by decide) q a,
    cor16 h16 (by decide),
    cor16 h16 (by decide),
    cor16 h16 (by decide),
    cor16 h16 (by decide),
    cor16 h16 (by decide),
    cor16 h16 (by decide),
    cor16 h16 (by decide),
    cor16 h16 (by decide),
    cor16 h16 (by decide),
    cor16 h16 (by decide),
    cor16 h16 (by decide),
    cor16 h16 (by decide),
    cor16 h16 (by decide),
    cor16 h16 (by decide),
    cor16 h16 (by decide),
    cor16 h16 (by decide),
    cor16 h16 (by decide)⟩

theorem chk14_6_ok (h16 : 16 ∣ (Scalar.subi r (Scalar.minsi r 12032#32)).toNat) (hs : (Scalar.andi (Scf.iv 0#32 1#32 t.val) 1#32).toNat < 2) : k0_chk14_6 v1_0 t r :=
  ⟨cor16 h16 (by decide),
    cor16 h16 (by decide),
    cor16 h16 (by decide),
    cor16 h16 (by decide),
    cor16 h16 (by decide),
    cor16 h16 (by decide),
    cor16 h16 (by decide),
    cor16 h16 (by decide),
    cor16 h16 (by decide),
    cor16 h16 (by decide),
    cor16 h16 (by decide),
    cor16 h16 (by decide),
    cor16 h16 (by decide),
    cor16 h16 (by decide),
    fun q a => b14 h16 hs (C := 1536) (by decide) q a,
    cor16 h16 (by decide),
    fun q a => b14 h16 hs (C := 1664) (by decide) q a,
    cor16 h16 (by decide),
    cor16 h16 (by decide),
    cor16 h16 (by decide),
    cor16 h16 (by decide),
    cor16 h16 (by decide),
    cor16 h16 (by decide),
    cor16 h16 (by decide),
    cor16 h16 (by decide),
    cor16 h16 (by decide),
    cor16 h16 (by decide),
    cor16 h16 (by decide),
    cor16 h16 (by decide),
    cor16 h16 (by decide),
    cor16 h16 (by decide),
    cor16 h16 (by decide)⟩

theorem chk14_7_ok (h16 : 16 ∣ (Scalar.subi r (Scalar.minsi r 12032#32)).toNat) (hs : (Scalar.andi (Scf.iv 0#32 1#32 t.val) 1#32).toNat < 2) : k0_chk14_7 v1_0 t r :=
  ⟨cor16 h16 (by decide),
    cor16 h16 (by decide),
    cor16 h16 (by decide),
    cor16 h16 (by decide),
    cor16 h16 (by decide),
    cor16 h16 (by decide),
    cor16 h16 (by decide),
    cor16 h16 (by decide),
    cor16 h16 (by decide),
    cor16 h16 (by decide),
    cor16 h16 (by decide),
    cor16 h16 (by decide),
    cor16 h16 (by decide),
    cor16 h16 (by decide),
    cor16 h16 (by decide),
    cor16 h16 (by decide),
    fun q a => b14 h16 hs (C := 1792) (by decide) q a,
    cor16 h16 (by decide),
    fun q a => b14 h16 hs (C := 1920) (by decide) q a,
    cor16 h16 (by decide),
    cor16 h16 (by decide),
    cor16 h16 (by decide),
    cor16 h16 (by decide),
    cor16 h16 (by decide),
    cor16 h16 (by decide),
    cor16 h16 (by decide),
    cor16 h16 (by decide),
    cor16 h16 (by decide),
    cor16 h16 (by decide),
    cor16 h16 (by decide),
    cor16 h16 (by decide),
    cor16 h16 (by decide)⟩

theorem chk14_8_ok (h16 : 16 ∣ (Scalar.subi r (Scalar.minsi r 12032#32)).toNat) (hs : (Scalar.andi (Scf.iv 0#32 1#32 t.val) 1#32).toNat < 2) : k0_chk14_8 v1_0 t r :=
  ⟨cor16 h16 (by decide),
    cor16 h16 (by decide),
    cor16 h16 (by decide),
    cor16 h16 (by decide),
    cor16 h16 (by decide),
    cor16 h16 (by decide),
    cor16 h16 (by decide),
    cor16 h16 (by decide),
    cor16 h16 (by decide),
    cor16 h16 (by decide),
    cor16 h16 (by decide),
    cor16 h16 (by decide),
    cor16 h16 (by decide),
    cor16 h16 (by decide),
    cor16 h16 (by decide),
    cor16 h16 (by decide),
    cor16 h16 (by decide),
    cor16 h16 (by decide),
    fun q a => b14 h16 hs (C := 2048) (by decide) q a,
    cor16 h16 (by decide),
    fun q a => b14 h16 hs (C := 2176) (by decide) q a,
    cor16 h16 (by decide),
    cor16 h16 (by decide),
    cor16 h16 (by decide),
    cor16 h16 (by decide),
    cor16 h16 (by decide),
    cor16 h16 (by decide),
    cor16 h16 (by decide),
    cor16 h16 (by decide),
    cor16 h16 (by decide),
    cor16 h16 (by decide),
    cor16 h16 (by decide)⟩

theorem chk14_9_ok (h16 : 16 ∣ (Scalar.subi r (Scalar.minsi r 12032#32)).toNat) (hs : (Scalar.andi (Scf.iv 0#32 1#32 t.val) 1#32).toNat < 2) : k0_chk14_9 v1_0 t r :=
  ⟨cor16 h16 (by decide),
    cor16 h16 (by decide),
    cor16 h16 (by decide),
    cor16 h16 (by decide),
    cor16 h16 (by decide),
    cor16 h16 (by decide),
    cor16 h16 (by decide),
    cor16 h16 (by decide),
    cor16 h16 (by decide),
    cor16 h16 (by decide),
    cor16 h16 (by decide),
    cor16 h16 (by decide),
    cor16 h16 (by decide),
    cor16 h16 (by decide),
    cor16 h16 (by decide),
    cor16 h16 (by decide),
    cor16 h16 (by decide),
    cor16 h16 (by decide),
    cor16 h16 (by decide),
    cor16 h16 (by decide),
    fun q a => b14 h16 hs (C := 2304) (by decide) q a,
    cor16 h16 (by decide),
    fun q a => b14 h16 hs (C := 2432) (by decide) q a,
    cor16 h16 (by decide),
    cor16 h16 (by decide),
    cor16 h16 (by decide),
    cor16 h16 (by decide),
    cor16 h16 (by decide),
    cor16 h16 (by decide),
    cor16 h16 (by decide),
    cor16 h16 (by decide),
    cor16 h16 (by decide)⟩

theorem chk14_10_ok (h16 : 16 ∣ (Scalar.subi r (Scalar.minsi r 12032#32)).toNat) (hs : (Scalar.andi (Scf.iv 0#32 1#32 t.val) 1#32).toNat < 2) : k0_chk14_10 v1_0 t r :=
  ⟨cor16 h16 (by decide),
    cor16 h16 (by decide),
    cor16 h16 (by decide),
    cor16 h16 (by decide),
    cor16 h16 (by decide),
    cor16 h16 (by decide),
    cor16 h16 (by decide),
    cor16 h16 (by decide),
    cor16 h16 (by decide),
    cor16 h16 (by decide),
    cor16 h16 (by decide),
    cor16 h16 (by decide),
    cor16 h16 (by decide),
    cor16 h16 (by decide),
    cor16 h16 (by decide),
    cor16 h16 (by decide),
    cor16 h16 (by decide),
    cor16 h16 (by decide),
    cor16 h16 (by decide),
    cor16 h16 (by decide),
    cor16 h16 (by decide),
    cor16 h16 (by decide),
    fun q a => b14 h16 hs (C := 2560) (by decide) q a,
    cor16 h16 (by decide),
    fun q a => b14 h16 hs (C := 2688) (by decide) q a,
    cor16 h16 (by decide),
    cor16 h16 (by decide),
    cor16 h16 (by decide),
    cor16 h16 (by decide),
    cor16 h16 (by decide),
    cor16 h16 (by decide),
    cor16 h16 (by decide)⟩

theorem chk14_11_ok (h16 : 16 ∣ (Scalar.subi r (Scalar.minsi r 12032#32)).toNat) (hs : (Scalar.andi (Scf.iv 0#32 1#32 t.val) 1#32).toNat < 2) : k0_chk14_11 v1_0 t r :=
  ⟨cor16 h16 (by decide),
    cor16 h16 (by decide),
    cor16 h16 (by decide),
    cor16 h16 (by decide),
    cor16 h16 (by decide),
    cor16 h16 (by decide),
    cor16 h16 (by decide),
    cor16 h16 (by decide),
    cor16 h16 (by decide),
    cor16 h16 (by decide),
    cor16 h16 (by decide),
    cor16 h16 (by decide),
    cor16 h16 (by decide),
    cor16 h16 (by decide),
    cor16 h16 (by decide),
    cor16 h16 (by decide),
    cor16 h16 (by decide),
    cor16 h16 (by decide),
    cor16 h16 (by decide),
    cor16 h16 (by decide),
    cor16 h16 (by decide),
    cor16 h16 (by decide),
    cor16 h16 (by decide),
    cor16 h16 (by decide),
    fun q a => b14 h16 hs (C := 2816) (by decide) q a,
    cor16 h16 (by decide),
    fun q a => b14 h16 hs (C := 2944) (by decide) q a,
    cor16 h16 (by decide),
    cor16 h16 (by decide),
    cor16 h16 (by decide),
    cor16 h16 (by decide),
    cor16 h16 (by decide)⟩

theorem chk14_12_ok (h16 : 16 ∣ (Scalar.subi r (Scalar.minsi r 12032#32)).toNat) (hs : (Scalar.andi (Scf.iv 0#32 1#32 t.val) 1#32).toNat < 2) : k0_chk14_12 v1_0 t r :=
  ⟨cor16 h16 (by decide),
    cor16 h16 (by decide),
    cor16 h16 (by decide),
    cor16 h16 (by decide),
    cor16 h16 (by decide),
    cor16 h16 (by decide),
    cor16 h16 (by decide),
    cor16 h16 (by decide),
    cor16 h16 (by decide),
    cor16 h16 (by decide),
    cor16 h16 (by decide),
    cor16 h16 (by decide),
    cor16 h16 (by decide),
    cor16 h16 (by decide),
    cor16 h16 (by decide),
    cor16 h16 (by decide),
    cor16 h16 (by decide),
    cor16 h16 (by decide),
    cor16 h16 (by decide),
    cor16 h16 (by decide),
    cor16 h16 (by decide),
    cor16 h16 (by decide),
    cor16 h16 (by decide),
    cor16 h16 (by decide),
    cor16 h16 (by decide)⟩

theorem chk14_ok (h : r.toNat = R) (hR : R < 12288) (hd : 16 ∣ R) (hk : t.val < 64) : k0_chk14 v1_0 t r := by
  have h16 : 16 ∣ (Scalar.subi r (Scalar.minsi r 12032#32)).toNat := by rw [skip_word h hR hd]; omega
  have hs : (Scalar.andi (Scf.iv 0#32 1#32 t.val) 1#32).toNat < 2 := by rw [slot_cur hk]; omega
  exact ⟨chk14_0_ok h16 hs, chk14_1_ok h16 hs, chk14_2_ok h16 hs, chk14_3_ok h16 hs, chk14_4_ok h16 hs, chk14_5_ok h16 hs, chk14_6_ok h16 hs, chk14_7_ok h16 hs, chk14_8_ok h16 hs, chk14_9_ok h16 hs, chk14_10_ok h16 hs, chk14_11_ok h16 hs, chk14_12_ok h16 hs⟩

/-- The first row of the tile's last block, in the tile. -/
theorem last_word (h : Tw r e R E) : (Scalar.andi (Scalar.subi (Scalar.subi e 1#32) r) 4294967280#32).toNat = (E - 1 - R) / 16 * 16 := by
  obtain ⟨hr, he, h1, h2, h3, h4⟩ := h
  refine (WordArith.toNat_andi_mask16 _).trans ?_
  have : (Scalar.subi (Scalar.subi e 1#32) r).toNat = E - 1 - R := by
    show (Scalar.subi e 1#32 - r).toNat = _
    rw [BitVec.toNat_sub, sub_one he (by omega), hr]
    omega
  rw [this]

theorem off53_eq (h : Tw r e R E) (hk : t.val < 64) : k0_off53 v1_0 t r e = ![t.val % 2, (E - 1 - R) / 16 * 16, 0] := by
  unfold k0_off53; dsimp only
  show ![(Scalar.andi (Scf.iv 0#32 1#32 t.val) 1#32).toNat, (Scalar.andi (Scalar.subi (Scalar.subi e 1#32) r) 4294967280#32).toNat, 0] = _
  rw [slot_cur hk, last_word h]

theorem chk15_ok (h : Tw r e R E) (hk : t.val < 64) : k0_chk15 v1_0 t r e := by
  refine ⟨?_, fun a => ?_⟩
  · show 16 ∣ (Scalar.andi (Scalar.subi (Scalar.subi e 1#32) r) 4294967280#32).toNat
    rw [last_word h]; omega
  · have := h.le; have := h.lt
    rw [off53_eq h hk]; fin_cases a
    · show t.val % 2 + 1 ≤ 2; omega
    · show (E - 1 - R) / 16 * 16 + 16 ≤ 256; omega
    · show 0 + 1536 ≤ 1536; omega

/-- Where a tile's fetch starts. -/
theorem start_word (h : r.toNat = R) (hR : R < 12288) : (Scalar.minsi r 12032#32).toNat = min R 12032 := by
  have hm := min_nat r 12032#32 (by omega) (by decide)
  rw [hm, h]; rfl

theorem x_off (h : r.toNat = R) (hR : R < 12288) : (![(Scalar.minsi r 12032#32).toNat, 0] : Fin 2 → ℕ) = ![min R 12032, 0] := by
  rw [start_word h hR]

theorem x_ok (off : Fin 2 → ℕ) (ho : off = ![min R 12032, 0]) (hd : 16 ∣ R) :
    (∀ a, off a + S256x3072.size a ≤ S12288x3072.size a)
    ∧ (∀ (hinb : ∀ a, off a + S256x3072.size a ≤ S12288x3072.size a), (Rect.unit (s := S12288x3072) off S256x3072.size hinb).WholeWords (EltTy.packing .bf16)) := by
  subst ho
  refine ⟨fun a => ?_, fun hinb => (Rect.packedRows_of_rowAxis _ 2 (by decide) ?_ ?_ rfl).wholeWords⟩
  · fin_cases a
    · show min R 12032 + 256 ≤ 12288; omega
    · show 0 + 3072 ≤ 3072; omega
  · show 2 ∣ min R 12032; omega
  · show 2 ∣ 256; decide

theorem chk4_ok (h : r.toNat = R) (hR : R < 12288) (hd : 16 ∣ R) : k0_chk4 r :=
  ⟨by show 16 ∣ (Scalar.minsi r 12032#32).toNat; rw [start_word h hR]; omega, (x_ok _ (x_off h hR) hd).1, (x_ok _ (x_off h hR) hd).2⟩
theorem chk7_ok (h : r.toNat = R) (hR : R < 12288) (hd : 16 ∣ R) : k0_chk7 v1_0 t r :=
  ⟨fun _ => by show 16 ∣ (Scalar.minsi r 12032#32).toNat; rw [start_word h hR]; omega, fun _ => (x_ok _ (x_off h hR) hd).1, fun _ => (x_ok _ (x_off h hR) hd).2⟩
theorem chk13_ok (h : r.toNat = R) (hR : R < 12288) (hd : 16 ∣ R) : k0_chk13 r :=
  ⟨by show 16 ∣ (Scalar.minsi r 12032#32).toNat; rw [start_word h hR]; omega, (x_ok _ (x_off h hR) hd).1, (x_ok _ (x_off h hR) hd).2⟩
end

theorem w_ok {x : BitVec 32} (h : x.toNat < 8) :
    (∀ a, (![x.toNat, 0, 0] : Fin 3 → ℕ) a + S1x3072x1536.size a ≤ S8x3072x1536.size a)
    ∧ (∀ (hinb : ∀ a, (![x.toNat, 0, 0] : Fin 3 → ℕ) a + S1x3072x1536.size a ≤ S8x3072x1536.size a), (Rect.unit (s := S8x3072x1536) ![x.toNat, 0, 0] S1x3072x1536.size hinb).WholeWords (EltTy.packing .fp8e4m3))
    ∧ (∀ a, (![x.toNat, 0, 0] : Fin 3 → ℕ) a + S1x96x1536.size a ≤ S8x96x1536.size a)
    ∧ (∀ (hinb : ∀ a, (![x.toNat, 0, 0] : Fin 3 → ℕ) a + S1x96x1536.size a ≤ S8x96x1536.size a), (Rect.unit (s := S8x96x1536) ![x.toNat, 0, 0] S1x96x1536.size hinb).WholeWords (EltTy.packing .i8)) := by
  refine ⟨fun a => ?_, fun hinb => (Rect.packedRows_of_rowAxis _ 4 (by decide) ?_ ?_ rfl).wholeWords, fun a => ?_,
    fun hinb => (Rect.packedRows_of_rowAxis _ 4 (by decide) ?_ ?_ rfl).wholeWords⟩
  · fin_cases a
    · show x.toNat + 1 ≤ 8; omega
    · show 0 + 3072 ≤ 3072; omega
    · show 0 + 1536 ≤ 1536; omega
  · show 4 ∣ 0; decide
  · show 4 ∣ 3072; decide
  · fin_cases a
    · show x.toNat + 1 ≤ 8; omega
    · show 0 + 96 ≤ 96; omega
    · show 0 + 1536 ≤ 1536; omega
  · show 4 ∣ 0; decide
  · show 4 ∣ 96; decide

theorem chk5_ok {x : BitVec 32} (h : x.toNat < 8) : k0_chk5 x := w_ok h
theorem chk9_ok {v78 x : BitVec 32} (h : x.toNat < 8) : k0_chk9 v78 x :=
  ⟨fun _ => (w_ok h).1, fun _ => (w_ok h).2.1, fun _ => (w_ok h).2.2.1, fun _ => (w_ok h).2.2.2⟩
theorem chk12_ok {v1_0 v78 v3662 x : BitVec 32} (h : x.toNat < 8) : k0_chk12 v1_0 v78 v3662 x :=
  ⟨fun _ _ => (w_ok h).1, fun _ _ => (w_ok h).2.1, fun _ _ => (w_ok h).2.2.1, fun _ _ => (w_ok h).2.2.2⟩

theorem cell_ok {x : ℕ} (h : x < 64) (a : Fin 1) : (![x] : Fin 1 → ℕ) a + S1.size a ≤ S64.size a := by
  fin_cases a; show x + 1 ≤ 64; omega

/-! ### The tile loops' bounds -/

section
variable {v1_0 : BitVec 32} {n : ℕ}

theorem t4_loop_eq (v : BitVec 32) : k0_t4_loop v = ⟨0#32, v, 1#32⟩ := by
  unfold k0_t4_loop; dsimp only
  have h1 : Scalar.subi v 0#32 = v := by show v - 0#32 = v; simp
  have h2 : Scalar.divsi v 1#32 = v := WordArith.divsi_one _ v
  have h3 : Scalar.muli v 1#32 = v := by show v * 1#32 = v; simp
  have h4 : Scalar.addi 0#32 v = v := by show 0#32 + v = v; simp
  rw [h1, h2, h3, h4]

theorem t6_loop_eq (v : BitVec 32) : k0_t6_loop v = ⟨v, v, 1#32⟩ := by
  unfold k0_t6_loop; dsimp only
  have h1 : Scalar.subi v 0#32 = v := by show v - 0#32 = v; simp
  have h2 : Scalar.divsi v 1#32 = v := WordArith.divsi_one _ v
  have h3 : Scalar.muli v 1#32 = v := by show v * 1#32 = v; simp
  have h4 : Scalar.addi 0#32 v = v := by show 0#32 + v = v; simp
  rw [h1, h2, h3, h4]

theorem t4_trips (hv : v1_0.toNat = n) (hn : n < 64) : (k0_t4_loop v1_0).trips = n := by
  rw [t4_loop_eq]; exact trips_one hv (by omega)

theorem t6_trips : (k0_t6_loop v1_0).trips = 0 := by
  rw [t6_loop_eq]; show Scf.trips v1_0 v1_0 1#32 = 0
  unfold Scf.trips; have h1 : (1#32 : BitVec 32).toInt = 1 := by decide
  rw [h1]; omega

theorem cond1_iff (hv : v1_0.toNat = n) (hn : n < 64) (t : Fin (k0_t4_loop v1_0).trips) : k0_cond1 v1_0 t = 1#1 ↔ t.val + 1 < n := by
  have ht : t.val < n := lt_of_lt_of_eq t.isLt (t4_trips hv hn)
  have h1 := add_one (iv_nat t.val (by omega)) (by omega)
  refine (bit_ne _).trans ?_
  refine (slt_nat (by rw [h1]; omega) (by omega)).trans ?_
  rw [h1, hv]

theorem cond3_iff (hv : v1_0.toNat = n) (hn : n < 64) {u : BitVec 32} (hu : u.toNat ≤ 64) : k0_cond3 v1_0 u = 1#1 ↔ u.toNat < n := by
  refine (bit_ne _).trans ?_
  refine (slt_nat (by omega) (by omega)).trans ?_
  rw [hv]

theorem cond2_iff {x : BitVec 32} : k0_cond2 x = 1#1 ↔ x.toNat = 1 := by
  refine (bit_ne _).trans ?_
  show IntOp.cmpi .eq x 1#32 = 1#1 ↔ _
  have e1 := word_id x
  have hx := x.isLt
  generalize x.toNat = a at *
  subst e1
  show IntOp.cmpi .eq (BitVec.ofNat 32 a) (BitVec.ofNat 32 1) = 1#1 ↔ _
  rw [WordCmp.cmpi_eq_ofNat (w := 32) hx (by decide : (1 : ℕ) < 2 ^ 32)]
  exact WordCmp.ofBool_decide_eq_one_iff _

theorem cond4_iff (hv : v1_0.toNat = n) (hn : n < 64) (t : Fin (k0_t4_loop v1_0).trips) : k0_cond4 v1_0 t = 1#1 ↔ 0 < t.val := by
  have ht : t.val < n := lt_of_lt_of_eq t.isLt (t4_trips hv hn)
  have h1 := iv_nat t.val (by omega)
  refine (bit_ne _).trans ?_
  show Scalar.cmpi .slt 0#32 (Scf.iv 0#32 1#32 t.val) = 1#1 ↔ _
  refine (slt_nat (by decide) (by rw [h1]; omega)).trans ?_
  rw [h1]; exact Iff.rfl

theorem off7_eq (t : Fin (k0_t4_loop v1_0).trips) (h : t.val < 63) : k0_off7 v1_0 t = ![t.val + 1] := by
  show ![(Scalar.addi (Scf.iv 0#32 1#32 t.val) 1#32).toNat] = _
  rw [add_one (iv_nat _ (by omega)) (by omega)]
theorem off8_eq (t : Fin (k0_t4_loop v1_0).trips) (h : t.val < 63) : k0_off8 v1_0 t = ![(t.val + 1) % 2] := by
  show ![(Scalar.andi (Scalar.addi (Scf.iv 0#32 1#32 t.val) 1#32) 1#32).toNat] = _
  rw [slot_next (by omega)]
theorem off9_eq (t : Fin (k0_t4_loop v1_0).trips) (h : t.val < 63) : k0_off9 v1_0 t = ![(t.val + 1) % 2, 0, 0] := by
  show ![(Scalar.andi (Scalar.addi (Scf.iv 0#32 1#32 t.val) 1#32) 1#32).toNat, 0, 0] = _
  rw [slot_next (by omega)]
theorem off11_eq (t : Fin (k0_t4_loop v1_0).trips) (h : t.val < 64) : k0_off11 v1_0 t = ![t.val] := by
  show ![(Scf.iv 0#32 1#32 t.val).toNat] = _
  rw [iv_nat _ h]
theorem off12_eq (t : Fin (k0_t4_loop v1_0).trips) (h : t.val < 64) : k0_off12 v1_0 t = ![t.val] := by
  show ![(Scf.iv 0#32 1#32 t.val).toNat] = _
  rw [iv_nat _ h]
theorem off21_eq (t : Fin (k0_t4_loop v1_0).trips) (h : t.val < 64) : k0_off21 v1_0 t = ![t.val] := by
  show ![(Scf.iv 0#32 1#32 t.val).toNat] = _
  rw [iv_nat _ h]
theorem off25_eq (t : Fin (k0_t4_loop v1_0).trips) (h : t.val < 64) : k0_off25 v1_0 t = ![t.val] := by
  show ![(Scf.iv 0#32 1#32 t.val).toNat] = _
  rw [iv_nat _ h]
theorem off51_eq (t : Fin (k0_t4_loop v1_0).trips) (h : t.val < 64) : k0_off51 v1_0 t = ![t.val] := by
  show ![(Scf.iv 0#32 1#32 t.val).toNat] = _
  rw [iv_nat _ h]
theorem off65_eq (t : Fin (k0_t4_loop v1_0).trips) (h : t.val < 64) : k0_off65 v1_0 t = ![t.val] := by
  show ![(Scf.iv 0#32 1#32 t.val).toNat] = _
  rw [iv_nat _ h]
theorem off22_eq (t : Fin (k0_t4_loop v1_0).trips) (h : t.val < 64) : k0_off22 v1_0 t = ![t.val % 2] := by
  show ![(Scalar.andi (Scf.iv 0#32 1#32 t.val) 1#32).toNat] = _
  rw [slot_cur h]
theorem off23_eq (t : Fin (k0_t4_loop v1_0).trips) (h : t.val < 64) : k0_off23 v1_0 t = ![t.val % 2, 0, 0] := by
  show ![(Scalar.andi (Scf.iv 0#32 1#32 t.val) 1#32).toNat, 0, 0] = _
  rw [slot_cur h]
theorem off50_eq (t : Fin (k0_t4_loop v1_0).trips) (h : t.val < 64) : k0_off50 v1_0 t = ![t.val % 2, 0, 0] := by
  show ![(Scalar.andi (Scf.iv 0#32 1#32 t.val) 1#32).toNat, 0, 0] = _
  rw [slot_cur h]
theorem off52_eq (t : Fin (k0_t4_loop v1_0).trips) (h : t.val < 64) : k0_off52 v1_0 t = ![t.val % 2, 0, 0] := by
  show ![(Scalar.andi (Scf.iv 0#32 1#32 t.val) 1#32).toNat, 0, 0] = _
  rw [slot_cur h]
theorem off54_eq (t : Fin (k0_t4_loop v1_0).trips) (h : t.val < 64) (h0 : 0 < t.val) : k0_off54 v1_0 t = ![t.val - 1] := by
  show ![(Scalar.subi (Scf.iv 0#32 1#32 t.val) 1#32).toNat] = _
  rw [sub_one (iv_nat _ h) h0]
theorem off145_eq (hv : v1_0.toNat = n) (h0 : 0 < n) : k0_off145 v1_0 = ![n - 1] := by
  show ![(Scalar.subi v1_0 1#32).toNat] = _
  rw [sub_one hv h0]

theorem slot_ok3072 {x : ℕ} (h : x < 2) (a : Fin 3) : (![x, 0, 0] : Fin 3 → ℕ) a + S1x256x3072.size a ≤ S2x256x3072.size a := by
  fin_cases a
  · show x + 1 ≤ 2; omega
  · show 0 + 256 ≤ 256; omega
  · show 0 + 3072 ≤ 3072; omega
theorem slot_ok1536 {x : ℕ} (h : x < 2) (a : Fin 3) : (![x, 0, 0] : Fin 3 → ℕ) a + S1x256x1536.size a ≤ S2x256x1536.size a := by
  fin_cases a
  · show x + 1 ≤ 2; omega
  · show 0 + 256 ≤ 256; omega
  · show 0 + 1536 ≤ 1536; omega
theorem lead_ok1536 {x : ℕ} (h : x < 2) (a : Fin 3) : (![x, 0, 0] : Fin 3 → ℕ) a + S1x16x1536.size a ≤ S2x256x1536.size a := by
  fin_cases a
  · show x + 1 ≤ 2; omega
  · show 0 + 16 ≤ 256; omega
  · show 0 + 1536 ≤ 1536; omega

theorem two_ok {x : ℕ} (h : x < 2) (a : Fin 1) : (![x] : Fin 1 → ℕ) a + S1.size a ≤ S2.size a := by
  fin_cases a; show x + 1 ≤ 2; omega
theorem t4_ok (hv : v1_0.toNat = n) (hn : n < 64) : (k0_t4_loop v1_0).OK := by
  rw [t4_loop_eq]
  show Scf.OK 0#32 v1_0 1#32
  refine ⟨by decide, ?_⟩
  rw [trips_one hv (by omega)]
  have h0 : (0#32 : BitVec 32).toInt = 0 := by decide
  have h1 : (1#32 : BitVec 32).toInt = 1 := by decide
  rw [h0, h1]; norm_num; omega
theorem t6_ok (hv : v1_0.toNat = n) (hn : n < 64) : (k0_t6_loop v1_0).OK := by
  have ht := t6_trips (v1_0 := v1_0)
  rw [t6_loop_eq] at ht ⊢
  show Scf.OK v1_0 v1_0 1#32
  refine ⟨by decide, ?_⟩
  have ht' : Scf.trips v1_0 v1_0 1#32 = 0 := ht
  rw [ht']
  have h1 : (1#32 : BitVec 32).toInt = 1 := by decide
  have e := BitVec.toInt_eq_toNat_cond v1_0
  rw [if_pos (by omega)] at e
  rw [e, h1]; norm_num; omega

theorem chk6_ok (hv : v1_0.toNat = n) (hn : n < 64) (h0 : 0 < n) : k0_chk6 v1_0 := by
  have hT := t4_trips hv hn
  have tl : ∀ t : Fin (k0_t4_loop v1_0).trips, t.val < n := fun t => lt_of_lt_of_eq t.isLt hT
  have tn : ∀ t : Fin (k0_t4_loop v1_0).trips, k0_cond1 v1_0 t = 1#1 → t.val < 63 := fun t h => by
    have := (cond1_iff hv hn t).mp h; omega
  have no6 : ∀ t : Fin (k0_t6_loop v1_0).trips, False := fun t => Nat.not_lt_zero _ (lt_of_lt_of_eq t.isLt t6_trips)
  exact ⟨⟨t4_ok hv hn,
    fun t hc => by have := tn t hc; rw [off7_eq t this]; exact cell_ok (by omega),
    fun t hc => by have := tn t hc; rw [off8_eq t this]; exact two_ok (by omega),
    fun t hc => by have := tn t hc; rw [off9_eq t this]; exact slot_ok3072 (by omega),
    fun t hc hinb => (Rect.packedRows_of_rowAxis _ 2 (by decide) (by show 2 ∣ k0_off9 v1_0 t 1; rw [off9_eq t (tn t hc)]; exact ⟨0, rfl⟩) (by show 2 ∣ 256; decide) rfl).wholeWords,
    fun t => by have := tl t; rw [off11_eq t (by omega)]; exact cell_ok (by omega),
    fun t => by have := tl t; rw [off21_eq t (by omega)]; exact cell_ok (by omega),
    fun t => by have := tl t; rw [off22_eq t (by omega)]; exact two_ok (by omega),
    fun t => by have := tl t; rw [off23_eq t (by omega)]; exact slot_ok3072 (by omega),
    fun t hinb => (Rect.packedRows_of_rowAxis _ 2 (by decide) (by have := tl t; show 2 ∣ k0_off23 v1_0 t 1; rw [off23_eq t (by omega)]; exact ⟨0, rfl⟩) (by show 2 ∣ 256; decide) rfl).wholeWords,
    fun t => by have := tl t; rw [off25_eq t (by omega)]; exact cell_ok (by omega),
    fun t => by have := tl t; rw [off50_eq t (by omega)]; exact slot_ok1536 (by omega),
    fun t hinb => (Rect.packedRows_of_rowAxis _ 2 (by decide) (by have := tl t; show 2 ∣ k0_off50 v1_0 t 1; rw [off50_eq t (by omega)]; exact ⟨0, rfl⟩) (by show 2 ∣ 256; decide) rfl),
    fun t => by have := tl t; rw [off51_eq t (by omega)]; exact cell_ok (by omega),
    fun t => by have := tl t; rw [off52_eq t (by omega)]; exact lead_ok1536 (by omega),
    fun t hinb => (Rect.packedRows_of_rowAxis _ 2 (by decide) (by have := tl t; show 2 ∣ k0_off52 v1_0 t 1; rw [off52_eq t (by omega)]; exact ⟨0, rfl⟩) (by show 2 ∣ 16; decide) rfl),
    fun t hc => by have := tl t; rw [off54_eq t (by omega) ((cond4_iff hv hn t).mp hc)]; exact cell_ok (by omega),
    fun t => by have := tl t; rw [off65_eq t (by omega)]; exact cell_ok (by omega),
    t6_ok hv hn,
    fun t => (no6 t).elim,
    fun t => (no6 t).elim,
    fun t => (no6 t).elim,
    fun t => (no6 t).elim,
    fun t => (no6 t).elim,
    fun t => (no6 t).elim,
    fun t => (no6 t).elim,
    fun t => (no6 t).elim,
    fun t => (no6 t).elim,
    fun t => (no6 t).elim,
    fun t => (no6 t).elim,
    fun t => (no6 t).elim,
    fun t => (no6 t).elim⟩,
   ⟨fun t => (no6 t).elim,
    fun t => (no6 t).elim,
    fun t => (no6 t).elim,
    fun t => (no6 t).elim,
    by rw [off145_eq hv h0]; exact cell_ok (by omega)⟩⟩
end

end Cert.KernelIdeal.Hand
-- ==== Proof.KI.PlanW.lean ====
/-
  The plan of the tiles: what its tables say, and the words they are made of.
-/
module

public import proofs.«01_k».proof.Proof.KI.Words

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-! ### The planned tiles -/

/-- The rows before expert `e`. -/
def pre (g : S8.Idx → BitVec 32) : ℕ → ℕ
  | 0 => 0
  | e + 1 => pre g e + (rd8 g e).toNat

/-- The rows done once `n` tiles are. -/
def endAt (f14 : S64.Idx → BitVec 32) : ℕ → ℕ
  | 0 => 0
  | n + 1 => (rd f14 n).toNat

/-- What the tables say of tile `t`. -/
structure Tile (g : S8.Idx → BitVec 32) (f13 f14 f15 f16 f17 : S64.Idx → BitVec 32) (t : ℕ) : Prop where
  tw : Tw (rd f13 t) (rd f14 t) (rd f13 t).toNat (rd f14 t).toNat
  lead : (rd f15 t).toNat < 16
  start : (rd f13 t).toNat + (rd f15 t).toNat = endAt f14 t
  after : endAt f14 t < (rd f14 t).toNat
  exp : (rd f16 t).toNat < 8
  own1 : pre g (rd f16 t).toNat ≤ endAt f14 t
  own2 : (rd f14 t).toNat ≤ pre g ((rd f16 t).toNat + 1)
  first : (rd f17 t).toNat = 1 ∨ ((rd f17 t).toNat = 0 ∧ 0 < t ∧ rd f16 t = rd f16 (t - 1))

/-- The first `n` tiles are planned. -/
def Plan (g : S8.Idx → BitVec 32) (f13 f14 f15 f16 f17 : S64.Idx → BitVec 32) (n : ℕ) : Prop :=
  ∀ t < n, Tile g f13 f14 f15 f16 f17 t

variable {g : S8.Idx → BitVec 32} {f13 f14 f15 f16 f17 : S64.Idx → BitVec 32}

theorem endAt_upd {n t : ℕ} (v : BitVec 32) (hn : n < 64) (ht : t ≤ n) : endAt (upd f14 n v) t = endAt f14 t := by
  cases t with
  | zero => rfl
  | succ t => show (rd (upd f14 n v) t).toNat = _; rw [rd_upd_ne _ _ _ _ (by omega) (by omega)]; rfl

theorem Plan_step {n : ℕ} {v13 v14 v15 v16 v17 : BitVec 32} (hn : n < 64) (h : Plan g f13 f14 f15 f16 f17 n)
    (htw : Tw v13 v14 v13.toNat v14.toNat) (hl : v15.toNat < 16) (hs : v13.toNat + v15.toNat = endAt f14 n)
    (ha : endAt f14 n < v14.toNat) (hx : v16.toNat < 8) (ho1 : pre g v16.toNat ≤ endAt f14 n) (ho2 : v14.toNat ≤ pre g (v16.toNat + 1))
    (hf : v17.toNat = 1 ∨ (v17.toNat = 0 ∧ 0 < n ∧ v16 = rd f16 (n - 1))) :
    Plan g (upd f13 n v13) (upd f14 n v14) (upd f15 n v15) (upd f16 n v16) (upd f17 n v17) (n + 1) := by
  intro t ht
  by_cases e : t = n
  · subst e
    refine ⟨?_, ?_, ?_, ?_, ?_, ?_, ?_, ?_⟩ <;> simp only [rd_upd_same _ _ _ hn, endAt_upd _ hn le_rfl]
    · exact htw
    · exact hl
    · exact hs
    · exact ha
    · exact hx
    · exact ho1
    · exact ho2
    · rcases hf with hf | ⟨h1, h2, h3⟩
      · exact .inl hf
      · refine .inr ⟨h1, h2, ?_⟩
        rw [rd_upd_ne _ _ _ _ (by omega) (by omega)]; exact h3
  · have h' := h t (by omega)
    have e1 := endAt_upd (f14 := f14) (n := n) (t := t) v14 hn (by omega)
    refine ⟨?_, ?_, ?_, ?_, ?_, ?_, ?_, ?_⟩ <;> simp only [rd_upd_ne _ _ t _ (by omega : t < 64) e, e1]
    · exact h'.tw
    · exact h'.lead
    · exact h'.start
    · exact h'.after
    · exact h'.exp
    · exact h'.own1
    · exact h'.own2
    · rw [rd_upd_ne _ _ (t - 1) _ (by omega) (by omega)]; exact h'.first

/-! ### The words of the plan -/

theorem div256 {x : BitVec 32} {d : ℕ} (hx : x.toNat = d) (h : d < 2 ^ 31) : (Scalar.divsi x 256#32).toNat = d / 256 := by
  have hm : x.msb = false := by rw [BitVec.msb_eq_false_iff_two_mul_lt]; omega
  have hc : (256#32 : BitVec 32).msb = false := by decide
  unfold Scalar.divsi IntOp.divsi
  rw [if_neg (by simp [IntOp.SDivCorner]), BitVec.sdiv_eq, hm, hc]
  show (x / 256#32).toNat = _
  rw [BitVec.toNat_udiv, hx]; rfl

theorem div1 (x : BitVec 32) : Scalar.divsi x 1#32 = x := WordArith.divsi_one _ x

theorem add_nat {x y : BitVec 32} {a b : ℕ} (hx : x.toNat = a) (hy : y.toNat = b) (h : a + b < 2 ^ 32) : (Scalar.addi x y).toNat = a + b := by
  show (x + y).toNat = _
  rw [BitVec.toNat_add, hx, hy]; exact Nat.mod_eq_of_lt h

theorem sub_nat {x y : BitVec 32} {a b : ℕ} (hx : x.toNat = a) (hy : y.toNat = b) (h : b ≤ a) : (Scalar.subi x y).toNat = a - b := by
  have := x.isLt; have := y.isLt
  show (x - y).toNat = _
  rw [BitVec.toNat_sub, hx, hy]; omega

theorem mul_256 {k : ℕ} (hk : k < 64) : (Scalar.muli (Scf.iv 0#32 1#32 k) 256#32).toNat = 256 * k := by
  show (Scf.iv 0#32 1#32 k * 256#32).toNat = _
  rw [BitVec.toNat_mul, iv_nat k hk]
  show k * 256 % 2 ^ 32 = _
  omega

theorem mask_nat {x : BitVec 32} {a : ℕ} (hx : x.toNat = a) : (Scalar.andi x 4294967280#32).toNat = a / 16 * 16 := by
  rw [← hx]; exact WordArith.toNat_andi_mask16 x

theorem sgt_nat {x y : BitVec 32} (hx : x.toNat < 2 ^ 31) (hy : y.toNat < 2 ^ 31) : Scalar.cmpi .sgt x y = 1#1 ↔ y.toNat < x.toNat := by
  have e1 := word_id x
  have e2 := word_id y
  generalize x.toNat = a at *
  generalize y.toNat = b at *
  subst e1 e2
  show IntOp.cmpi .sgt (BitVec.ofNat 32 a) (BitVec.ofNat 32 b) = 1#1 ↔ _
  rw [WordCmp.cmpi_sgt_ofNat (w := 32) hx hy]
  exact WordCmp.ofBool_decide_eq_one_iff _

theorem eq_zero {k : ℕ} (hk : k < 64) : Scalar.cmpi .eq (Scf.iv 0#32 1#32 k) 0#32 = (if k = 0 then 1#1 else 0#1) := by
  revert hk; revert k; decide

/-- The tiles of an expert whose rows are `A` to `A + B`. -/
def nJ (A B : ℕ) : ℕ := if 0 < B then (A + B - A / 16 * 16 + 255) / 256 else 0

variable {a b : BitVec 32} {A B : ℕ}

theorem word86 (ha : a.toNat = A) (hb : b.toNat = B) (h : A + B ≤ 12288) :
    (Scalar.addi 0#32 (Scalar.muli (Scalar.divsi (Scalar.subi (Scalar.select (Scalar.cmpi .sgt (Scalar.addi a b) a)
      (Scalar.divsi (Scalar.subi (Scalar.addi (Scalar.subi (Scalar.addi a b) (Scalar.andi a 4294967280#32)) 256#32) 1#32) 256#32) 0#32) 0#32) 1#32) 1#32)).toNat
      = nJ A B := by
  have e1 : (Scalar.addi a b).toNat = A + B := add_nat ha hb (by omega)
  have e2 := mask_nat ha
  have e3 := sub_nat e1 e2 (by omega)
  have e4 : (Scalar.addi (Scalar.subi (Scalar.addi a b) (Scalar.andi a 4294967280#32)) 256#32).toNat = A + B - A / 16 * 16 + 256 := add_nat e3 rfl (by omega)
  have e5 := div256 (sub_one e4 (by omega)) (by omega)
  have e6 := sgt_nat (x := Scalar.addi a b) (y := a) (by omega) (by omega)
  rw [e1, ha] at e6
  have e7 : ∀ x : BitVec 32, Scalar.addi 0#32 (Scalar.muli (Scalar.divsi (Scalar.subi x 0#32) 1#32) 1#32) = x := by
    intro x
    rw [div1]
    show 0#32 + (x - 0#32) * 1#32 = x
    simp
  rw [e7]
  unfold nJ
  by_cases hB : 0 < B
  · have : Scalar.cmpi .sgt (Scalar.addi a b) a = 1#1 := e6.2 (by omega)
    rw [this, if_pos hB]
    refine Eq.trans ?_ (e5.trans (by omega))
    rfl
  · have : Scalar.cmpi .sgt (Scalar.addi a b) a ≠ 1#1 := fun hh => by have := e6.1 hh; omega
    rw [if_neg hB]
    have h0 : Scalar.cmpi .sgt (Scalar.addi a b) a = 0#1 := by
      generalize Scalar.cmpi .sgt (Scalar.addi a b) a = z at *
      revert this; clear e6; revert z; decide
    rw [h0]; rfl

theorem nJ_lt (h : A + B ≤ 12288) : nJ A B < 2 ^ 31 := by unfold nJ; split <;> omega

theorem t2_trips (ha : a.toNat = A) (hb : b.toNat = B) (h : A + B ≤ 12288) : (k0_t2_loop a b).trips = nJ A B :=
  trips_one (word86 ha hb h) (nJ_lt h)

theorem t3_trips (a b : BitVec 32) : (k0_t3_loop a b).trips = 0 := by
  have e : ∀ x : BitVec 32, Scf.trips (Scalar.addi 0#32 (Scalar.muli (Scalar.divsi x 1#32) 1#32)) (Scalar.addi 0#32 x) 1#32 = 0 := by
    intro x
    rw [div1]
    have e1 : Scalar.addi 0#32 (Scalar.muli x 1#32) = x := by show 0#32 + x * 1#32 = x; simp
    have e2 : Scalar.addi 0#32 x = x := by show 0#32 + x = x; simp
    rw [e1, e2]
    unfold Scf.trips
    have h1 : (1#32 : BitVec 32).toInt = 1 := by decide
    rw [h1]; omega
  exact e _

theorem t2_ok (ha : a.toNat = A) (hb : b.toNat = B) (h : A + B ≤ 12288) : (k0_t2_loop a b).OK := by
  have e := t2_trips ha hb h
  have e2 := nJ_lt h
  refine ⟨by show 0 < (1#32 : BitVec 32).toInt; decide, ?_⟩
  show (0#32 : BitVec 32).toInt + ((k0_t2_loop a b).trips : ℤ) * (1#32 : BitVec 32).toInt < _
  rw [e]
  have h0 : (0#32 : BitVec 32).toInt = 0 := by decide
  have h1 : (1#32 : BitVec 32).toInt = 1 := by decide
  rw [h0, h1]
  omega

theorem t3_ok (ha : a.toNat = A) (hb : b.toNat = B) (h : A + B ≤ 12288) : (k0_t3_loop a b).OK := by
  have e := t3_trips a b
  have e2 := nJ_lt h
  have e3 := word86 ha hb h
  refine ⟨by show 0 < (1#32 : BitVec 32).toInt; decide, ?_⟩
  show (k0_t3_loop a b).lb.toInt + ((k0_t3_loop a b).trips : ℤ) * (1#32 : BitVec 32).toInt < _
  rw [e]
  have e4 : (k0_t3_loop a b).lb.toNat = nJ A B := e3
  have e5 := BitVec.toInt_eq_toNat_cond (k0_t3_loop a b).lb
  rw [e4, if_pos (by omega)] at e5
  rw [e5]
  omega

theorem chk1_ok (ha : a.toNat = A) (hb : b.toNat = B) (h : A + B ≤ 12288) : k0_chk1 a b := ⟨t2_ok ha hb h, t3_ok ha hb h⟩

theorem off2_eq {x : BitVec 32} {n : ℕ} (hx : x.toNat = n) : k0_off2 x = ![n] := by subst hx; rfl

theorem chk2_ok {x : BitVec 32} (h : x.toNat < 64) : k0_chk2 x := fun k => cell_ok h k

/-! ### One planned tile -/

theorem plan_tile {n j : ℕ} {ew : BitVec 32} (hn : n < 64) (h : Plan g f13 f14 f15 f16 f17 n)
    (ha : a.toNat = A) (hb : b.toNat = B) (htop : A + B ≤ 12288) (hj : j < nJ A B) (hj64 : j < 64)
    (hA : A = pre g ew.toNat) (hB : A + B = pre g (ew.toNat + 1)) (hew : ew.toNat < 8)
    (hend : endAt f14 n = if j = 0 then A else min (A + B) (A / 16 * 16 + 256 * j)) (hprev : 0 < j → 0 < n ∧ rd f16 (n - 1) = ew) :
    Plan g
      (upd f13 n (Scalar.addi (Scalar.andi a 4294967280#32) (Scalar.muli (Scf.iv 0#32 1#32 j) 256#32)))
      (upd f14 n (Scalar.minsi (Scalar.addi a b) (Scalar.addi (Scalar.addi (Scalar.andi a 4294967280#32) (Scalar.muli (Scf.iv 0#32 1#32 j) 256#32)) 256#32)))
      (upd f15 n (Scalar.select (Scalar.cmpi .eq (Scf.iv 0#32 1#32 j) 0#32) (Scalar.subi a (Scalar.andi a 4294967280#32)) 0#32))
      (upd f16 n ew)
      (upd f17 n (Scalar.extui (Scalar.cmpi .eq (Scf.iv 0#32 1#32 j) 0#32))) (n + 1)
    ∧ endAt (upd f14 n (Scalar.minsi (Scalar.addi a b) (Scalar.addi (Scalar.addi (Scalar.andi a 4294967280#32) (Scalar.muli (Scf.iv 0#32 1#32 j) 256#32)) 256#32))) (n + 1)
      = min (A + B) (A / 16 * 16 + 256 * (j + 1)) := by
  have e1 : (Scalar.addi a b).toNat = A + B := add_nat ha hb (by omega)
  have e2 := mask_nat ha
  have hJ : 0 < B ∧ 256 * j < A + B - A / 16 * 16 := by
    unfold nJ at hj
    split at hj
    · refine ⟨by assumption, by omega⟩
    · omega
  obtain ⟨hJ1, hJ2⟩ := hJ
  have em := mul_256 hj64
  have e3 : (Scalar.addi (Scalar.andi a 4294967280#32) (Scalar.muli (Scf.iv 0#32 1#32 j) 256#32)).toNat = A / 16 * 16 + 256 * j := by
    refine add_nat e2 em ?_
    omega
  have e4 : (Scalar.addi (Scalar.addi (Scalar.andi a 4294967280#32) (Scalar.muli (Scf.iv 0#32 1#32 j) 256#32)) 256#32).toNat = A / 16 * 16 + 256 * j + 256 := by
    refine add_nat e3 rfl ?_
    omega
  have e5 := min_nat (Scalar.addi a b) _ (by omega) (by rw [e4]; omega)
  rw [e1, e4] at e5
  have e6 := sub_nat ha e2 (by omega)
  have e7 := eq_zero hj64
  generalize Scalar.addi (Scalar.andi a 4294967280#32) (Scalar.muli (Scf.iv 0#32 1#32 j) 256#32) = r at *
  generalize Scalar.minsi (Scalar.addi a b) (Scalar.addi r 256#32) = e at *
  rw [e7]
  constructor
  · refine Plan_step hn h ⟨rfl, rfl, ?_, ?_, ?_, ?_⟩ ?_ ?_ ?_ hew ?_ ?_ ?_
    · omega
    · omega
    · omega
    · rw [e3]; omega
    · by_cases h0 : j = 0
      · rw [if_pos h0]; show (Scalar.subi a (Scalar.andi a 4294967280#32)).toNat < 16; omega
      · rw [if_neg h0]; show (0#32 : BitVec 32).toNat < 16; decide
    · rw [hend]
      by_cases h0 : j = 0
      · rw [if_pos h0, if_pos h0]; show r.toNat + (Scalar.subi a (Scalar.andi a 4294967280#32)).toNat = A; omega
      · rw [if_neg h0, if_neg h0]; show r.toNat + 0 = _; omega
    · rw [hend]; split <;> omega
    · rw [hend]; split <;> omega
    · omega
    · by_cases h0 : j = 0
      · rw [if_pos h0]; exact .inl rfl
      · rw [if_neg h0]; exact .inr ⟨rfl, (hprev (by omega)).1, ((hprev (by omega)).2).symm⟩
  · show (rd (upd f14 n e) n).toNat = _
    rw [rd_upd_same _ _ _ hn, e5]; omega

end Cert.KernelIdeal.Hand
-- ==== Proof.KI.Plan.lean ====
/-
  The planning loops: the tables they fill.
-/
module

public import proofs.«01_k».proof.Proof.KI.PlanW

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

variable {c : Dev nD}

/-! ### Counted loops -/

theorem ret_rule {α : Type} {a : α} {Q : α → PP F} : Q a ⊢ Wp c (pure a) Q := fupd_intro

theorem for_rule {α σ : Type} {Q : α → PP F} (l : Scf.Loop 32) (hok : l.OK) (init : σ) (body : Fin l.trips → σ → PG F σ)
    (I : ℕ → σ → PP F) (hbody : ∀ (k : Fin l.trips) (acc : σ), I k acc ⊢ Wp c (body k acc) (I (k.val + 1))) {K : σ → PG F α} :
    I 0 init ⊢ iprop((∀ acc, I l.trips acc -∗ Wp c (K acc) Q) -∗ Wp c (Scf.Loop.for l hok init body >>= K) Q) :=
  Scf.wp_for_bind _ _ _ l.lb l.ub l.st hok init body I hbody

theorem for0_rule {α σ : Type} {Q : α → PP F} (l : Scf.Loop 32) (hok : l.OK) (init : σ) (body : Fin l.trips → σ → PG F σ)
    (h0 : l.trips = 0) {K : σ → PG F α} : Wp c (K init) Q ⊢ Wp c (Scf.Loop.for l hok init body >>= K) Q :=
  Scf.wp_for0_bind' _ _ _ l.lb l.ub l.st hok init body h0 K Q _ Entails.rfl

/-! ### The tables -/

/-- The five tables, holding words `φ` is true of. -/
def Tabs (c : Dev nD) (φ : (S64.Idx → BitVec 32) → (S64.Idx → BitVec 32) → (S64.Idx → BitVec 32) → (S64.Idx → BitVec 32) → (S64.Idx → BitVec 32) → Prop) : PP F :=
  iprop(∃ (f13 f14 f15 f16 f17 : S64.Idx → BitVec 32), ⌜φ f13 f14 f15 f16 f17⌝ ∗ own (F := F) c cc0_scratch8 f13 ∗ own (F := F) c cc0_scratch9 f14
    ∗ own (F := F) c cc0_scratch10 f15 ∗ own (F := F) c cc0_scratch11 f16 ∗ own (F := F) c cc0_scratch12 f17)

variable {g : S8.Idx → BitVec 32}

theorem pre_mono {d e : ℕ} (h : d ≤ e) : pre g d ≤ pre g e := monotone_nat_of_le_succ (fun n => Nat.le_add_right _ _) h

/-- What holds within one expert: `n0` tiles before it, `j` tiles of it. -/
def In2 (g : S8.Idx → BitVec 32) (A B n0 : ℕ) (ew : BitVec 32) (j : ℕ) (acc : BitVec 32) (f13 f14 f15 f16 f17 : S64.Idx → BitVec 32) : Prop :=
  acc.toNat = n0 + j ∧ Plan g f13 f14 f15 f16 f17 (n0 + j) ∧ (endAt f14 (n0 + j) = if j = 0 then A else min (A + B) (A / 16 * 16 + 256 * j))
    ∧ (0 < j → 0 < n0 + j ∧ rd f16 (n0 + j - 1) = ew)

set_option maxHeartbeats 4000000 in
theorem t2_step {a b ew : BitVec 32} {A B n0 : ℕ} (hw1 : k0_chk1 a b)
    (ha : a.toNat = A) (hb : b.toNat = B) (htop : A + B ≤ 12288) (hn : n0 + nJ A B ≤ 63)
    (hA : A = pre g ew.toNat) (hB : A + B = pre g (ew.toNat + 1)) (hew : ew.toNat < 8)
    (k : Fin (k0_t2_loop a b).trips) (acc : BitVec 32) :
    (Tabs c (In2 g A B n0 ew k.val acc) : PP F) ⊢ Wp c (k0_t2_body (F := F) m0 h0 m1 h1 m2 h2 m3 h3 m4 h4 m5 h5 m6 h6 m7 h7 m8 h8 m9 h9 m10 h10 m11 h11 m12 h12 m13 h13 m14 h14 m15 h15 m16 h16 m17 h17 s18 s19 s20 s21 a ew b hw1 (Scalar.addi a b) (Scalar.andi a 4294967280#32) k acc)
      (fun acc' => Tabs c (In2 g A B n0 ew (k.val + 1) acc')) := by
  have hk : k.val < nJ A B := Nat.lt_of_lt_of_eq k.isLt (t2_trips ha hb htop)
  unfold Tabs
  iintro ⟨%f13, %f14, %f15, %f16, %f17, %hφ, H13, H14, H15, H16, H17⟩
  obtain ⟨hacc, hpl, hend, hprev⟩ := hφ
  have hn64 : n0 + k.val < 64 := by omega
  have hoff := off2_eq hacc
  have hst := plan_tile hn64 hpl ha hb htop hk (by omega) hA hB hew hend hprev
  unfold k0_t2_body
  iapply (as_rule (chk2_ok (by omega : acc.toNat < 64)))
  iapply (ld13 (n0 + k.val) hoff) $$ H13; iintro H13
  iapply (st13 (n0 + k.val) hoff rfl) $$ H13; iintro H13
  iapply (ld14 (n0 + k.val) hoff) $$ H14; iintro H14
  iapply (st14 (n0 + k.val) hoff rfl) $$ H14; iintro H14
  iapply (ld15 (n0 + k.val) hoff) $$ H15; iintro H15
  iapply (st15 (n0 + k.val) hoff rfl) $$ H15; iintro H15
  iapply (ld16 (n0 + k.val) hoff) $$ H16; iintro H16
  iapply (st16 (n0 + k.val) hoff rfl) $$ H16; iintro H16
  iapply (ld17 (n0 + k.val) hoff) $$ H17; iintro H17
  iapply (st17 (n0 + k.val) hoff rfl) $$ H17; iintro H17
  iapply ret_rule
  iexists _; iexists _; iexists _; iexists _; iexists _
  isplitr
  · ipureintro
    refine ⟨?_, hst.1, ?_, fun _ => ⟨?_, ?_⟩⟩
    · exact add_one (n := n0 + k.val) hacc (show n0 + k.val < 2 ^ 31 by omega)
    · rw [if_neg (by omega)]; exact hst.2
    · omega
    · exact rd_upd_same _ _ _ hn64
  isplitl [H13]; · iexact H13
  isplitl [H14]; · iexact H14
  isplitl [H15]; · iexact H15
  isplitl [H16]; · iexact H16
  iexact H17

/-- What holds after `k` experts. -/
def In1 (g : S8.Idx → BitVec 32) (k : ℕ) (acc : BitVec 32 × BitVec 32) (f13 f14 f15 f16 f17 : S64.Idx → BitVec 32) : Prop :=
  Plan g f13 f14 f15 f16 f17 acc.1.toNat ∧ endAt f14 acc.1.toNat = pre g k ∧ acc.2.toNat = pre g k ∧ 256 * acc.1.toNat ≤ pre g k + 270 * k

set_option maxHeartbeats 4000000 in
theorem t1_step (hG : pre g 8 = 12288) (k : Fin k0_t1_loop.trips) (acc : BitVec 32 × BitVec 32) :
    (iprop(own (F := F) c cc0_stg0_0 g ∗ Tabs c (In1 g k.val acc)) : PP F) ⊢ Wp c (k0_t1_body (F := F) m0 h0 m1 h1 m2 h2 m3 h3 m4 h4 m5 h5 m6 h6 m7 h7 m8 h8 m9 h9 m10 h10 m11 h11 m12 h12 m13 h13 m14 h14 m15 h15 m16 h16 m17 h17 s18 s19 s20 s21 k acc)
      (fun acc' => iprop(own (F := F) c cc0_stg0_0 g ∗ Tabs c (In1 g (k.val + 1) acc'))) := by
  have hk : k.val < 8 := by have := k.isLt; have e : k0_t1_loop.trips = 8 := trips_one rfl (by decide); omega
  have hew : (Scf.iv 0#32 1#32 k.val).toNat = k.val := iv_nat k.val (by omega)
  obtain ⟨n, a⟩ := acc
  unfold Tabs
  iintro ⟨Hg, %f13, %f14, %f15, %f16, %f17, %hφ, H13, H14, H15, H16, H17⟩
  obtain ⟨hpl, hend, ha, hcnt⟩ := hφ
  have h1 : pre g k.val + (rd8 g k.val).toNat ≤ 12288 := by rw [← hG]; exact pre_mono (e := 8) (d := k.val + 1) (by omega)
  have hB : pre g k.val + (rd8 g k.val).toNat = pre g (k.val + 1) := rfl
  have hJ : 256 * nJ (pre g k.val) (rd8 g k.val).toNat ≤ (rd8 g k.val).toNat + 270 := by unfold nJ; split <;> omega
  have hcnt' : 256 * n.toNat ≤ pre g k.val + 270 * k.val := hcnt
  have hn0 : n.toNat + nJ (pre g k.val) (rd8 g k.val).toNat ≤ 63 := by omega
  have ha' : a.toNat = pre g k.val := ha
  have hoff : k0_off1 k = ![k.val] := by
    unfold k0_off1; show ![(Scf.iv 0#32 1#32 k.val).toNat] = _; rw [hew]
  have htr := t2_trips ha' (rfl : (rd8 g k.val).toNat = _) h1
  unfold k0_t1_body
  iapply (ld0 k.val hoff) $$ Hg; iintro Hg
  iapply (as_rule (chk1_ok ha' rfl h1))
  iapply (for_rule _ _ n _ (fun j acc' => Tabs c (In2 g (pre g k.val) (rd8 g k.val).toNat n.toNat (Scf.iv 0#32 1#32 k.val) j acc'))
    (fun j acc' => t2_step (chk1_ok ha' rfl h1) ha' rfl h1 hn0 (by rw [hew]) (by rw [hew]; exact hB) (by omega) j acc')) $$ [H13 H14 H15 H16 H17]
  · unfold Tabs
    iexists _; iexists _; iexists _; iexists _; iexists _
    isplitr
    · ipureintro
      exact ⟨rfl, hpl, hend.trans (if_pos rfl).symm, fun h => absurd h (by omega)⟩
    isplitl [H13]; · iexact H13
    isplitl [H14]; · iexact H14
    isplitl [H15]; · iexact H15
    isplitl [H16]; · iexact H16
    iexact H17
  iintro %acc' HT
  iapply (for0_rule _ _ _ _ (t3_trips _ _))
  iapply ret_rule
  isplitl [Hg]; · iexact Hg
  rw [htr]
  unfold Tabs
  icases HT with ⟨%f13, %f14, %f15, %f16, %f17, %hφ, H13, H14, H15, H16, H17⟩
  obtain ⟨hacc, hpl', hend', -⟩ := hφ
  iexists _; iexists _; iexists _; iexists _; iexists _
  isplitr
  · ipureintro
    refine ⟨?_, ?_, ?_, ?_⟩
    · show Plan g _ _ _ _ _ acc'.toNat; rw [hacc]; exact hpl'
    · show endAt _ acc'.toNat = _
      rw [hacc, hend', ← hB]
      unfold nJ
      split <;> (split <;> omega)
    · exact (add_nat ha' rfl (by omega)).trans hB
    · show 256 * acc'.toNat ≤ _
      rw [hacc, ← hB]; omega
  isplitl [H13]; · iexact H13
  isplitl [H14]; · iexact H14
  isplitl [H15]; · iexact H15
  isplitl [H16]; · iexact H16
  iexact H17

/-- What the finished plan says. -/
def Done (g : S8.Idx → BitVec 32) (n : ℕ) (f13 f14 f15 f16 f17 : S64.Idx → BitVec 32) : Prop :=
  Plan g f13 f14 f15 f16 f17 n ∧ endAt f14 n = 12288 ∧ 0 < n ∧ n ≤ 56

theorem plan_rule {α : Type} {Q : α → PP F} (hG : pre g 8 = 12288) {K : BitVec 32 × BitVec 32 → PG F α} :
    iprop(own (F := F) c cc0_stg0_0 g ∗ Tabs c (fun _ _ _ _ _ => True))
      ⊢ iprop((∀ v1 : BitVec 32 × BitVec 32, iprop(own (F := F) c cc0_stg0_0 g ∗ Tabs c (Done g v1.1.toNat)) -∗ Wp c (K v1) Q)
        -∗ Wp c (Scf.Loop.for k0_t1_loop k0_t1_ok (0#32, 0#32) (k0_t1_body (F := F) m0 h0 m1 h1 m2 h2 m3 h3 m4 h4 m5 h5 m6 h6 m7 h7 m8 h8 m9 h9 m10 h10 m11 h11 m12 h12 m13 h13 m14 h14 m15 h15 m16 h16 m17 h17 s18 s19 s20 s21) >>= K) Q) := by
  unfold Tabs
  iintro ⟨Hg, %f13, %f14, %f15, %f16, %f17, -, H13, H14, H15, H16, H17⟩ HK
  iapply (for_rule _ _ (0#32, 0#32) _ (fun k acc' => iprop(own (F := F) c cc0_stg0_0 g ∗ Tabs c (In1 g k acc'))) (fun k acc => t1_step hG k acc)) $$ [Hg H13 H14 H15 H16 H17]
  · isplitl [Hg]; · iexact Hg
    unfold Tabs
    iexists f13; iexists f14; iexists f15; iexists f16; iexists f17
    isplitr
    · ipureintro
      refine ⟨fun t ht => absurd ht (Nat.not_lt_zero _), rfl, rfl, Nat.le_refl _⟩
    isplitl [H13]; · iexact H13
    isplitl [H14]; · iexact H14
    isplitl [H15]; · iexact H15
    isplitl [H16]; · iexact H16
    iexact H17
  iintro %acc ⟨Hg, HT⟩
  iapply HK
  isplitl [Hg]; · iexact Hg
  have e : k0_t1_loop.trips = 8 := trips_one rfl (by decide)
  rw [e]
  unfold Tabs
  icases HT with ⟨%g13, %g14, %g15, %g16, %g17, %hφ, H13, H14, H15, H16, H17⟩
  obtain ⟨h1, h2, h3, h4⟩ := hφ
  iexists g13; iexists g14; iexists g15; iexists g16; iexists g17
  isplitr
  · ipureintro
    rw [hG] at h2 h4
    refine ⟨h1, h2, ?_, by omega⟩
    rcases Nat.eq_zero_or_pos acc.1.toNat with h0 | h0
    · rw [h0] at h2; exact absurd h2 (show ¬ (0 = 12288) by decide)
    · exact h0
  isplitl [H13]; · iexact H13
  isplitl [H14]; · iexact H14
  isplitl [H15]; · iexact H15
  isplitl [H16]; · iexact H16
  iexact H17

end Cert.KernelIdeal.Hand
-- ==== Proof.KI.While.lean ====
/-
  The search for the next expert's first tile.
-/
module

public import proofs.«01_k».proof.Proof.KI.PlanW

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

variable {c : Dev nD} {α : Type}

theorem as_rule' {bd : Option ℕ} {P : Prop} {d : Decidable P} {K : PLift P → PG F α} {Q : α → PP F} (h : P) :
    wp frame (wpE (defs₀ (F := F)) Variants.nat (c : Thread nD τ) bd) Set.univ (K ⟨h⟩) Q
      ⊢ wp frame (wpE (defs₀ (F := F)) Variants.nat (c : Thread nD τ) bd) Set.univ (Prog.lift (.assume P d) >>= K) Q := by
  show _ ⊢ wp _ _ _ (.op (.assume P d) K) Q
  exact wp_assume _ _ _ _ h

theorem ld17' {bd : Option ℕ} {Q : α → PP F} {off : Fin 1 → ℕ} {inb} {hl hp} {f : S64.Idx → BitVec 32} {K : BitVec 32 → PG F α} (n : ℕ) (hoff : off = ![n]) :
    own (F := F) c cc0_scratch12 f ⊢ iprop((own (F := F) c cc0_scratch12 f -∗ wp frame (wpE (defs₀ (F := F)) Variants.nat (c : Thread nD τ) bd) Set.univ (K (rd f n)) Q)
      -∗ wp frame (wpE (defs₀ (F := F)) Variants.nat (c : Thread nD τ) bd) Set.univ (smemLoad m17 (Rect.unit (s := S64) off S1.size inb) hl hp >>= K) Q) := by
  subst hoff
  have hn : n < 64 := by have := inb 0; exact this
  have hv : ∀ x, (m17.access (Rect.unit (s := S64) ![n] S1.size inb)).read (Elt F) f x = rd f n := by
    intro x
    refine congrArg f (funext fun a => ?_)
    fin_cases a
    have hx0 : (x 0).val < 1 := (x 0).isLt
    refine Fin.ext ?_
    show n + 1 * (x 0).val = n % 64
    rw [Nat.mod_eq_of_lt hn]; omega
  have h := wp_smemLoadElt (defs := defs₀ (F := F)) Variants.nat (c : Thread nD τ) bd Set.univ (Q := Q) (m := m17) (k := K) (r := Rect.unit (s := S64) ![n] S1.size inb)
    (hw := View.loads_smem_one hp hl) (x := Shape.Idx.first (hl.symm ▸ Nat.one_pos)) (S := Finset.univ) (q := fullShare) (f := f) (Γ := ∅) (Finset.subset_univ _)
  rw [hv] at h
  exact h

theorem and_bits (a b : BitVec 1) : Scalar.andi a b = 1#1 ↔ a = 1#1 ∧ b = 1#1 := by revert a b; decide

theorem off17_eq {v u : BitVec 32} {n k : ℕ} (hv : v.toNat = n) (hn : n < 64) (h0 : 0 < n) (hu : u.toNat = k) (hk : k < 65) : k0_off17 v u = ![min k (n - 1)] := by
  unfold k0_off17
  show ![(Scalar.minsi u (Scalar.subi v 1#32)).toNat] = _
  have e := sub_one hv h0
  rw [min_nat _ _ (by omega) (by omega), e, hu]

variable {v1_0 : BitVec 32} {nt : ℕ} {f17 : S64.Idx → BitVec 32}

set_option maxHeartbeats 4000000 in
theorem while_ok (hv : v1_0.toNat = nt) (h0 : 0 < nt) (hn : nt ≤ 56)
    (hw6 : k0_chk6 v1_0) (v2 : BitVec 32) (hw4 : k0_chk4 v2) (v10 : BitVec 32) (hw5 : k0_chk5 v10) (t : Fin (k0_t4_loop v1_0).trips) (v78 : BitVec 32)
    (hw8 : k0_chk8 v1_0 t v78) (v3644 : BitVec 32) (hw9 : k0_chk9 v78 v3644) (hh2 : k0_cond2 v78 = 1#1) :
    ∀ (n : ℕ) (arg : BitVec 32) (u : ℕ), arg.toNat = u → u + n = nt → ∀ K : BitVec 32 → PP F,
      iprop(own (F := F) c cc0_scratch12 f17 ∗ (∀ w : BitVec 32, ⌜u ≤ w.toNat ∧ w.toNat ≤ nt ∧ (∀ s, u ≤ s → s < w.toNat → (rd f17 s).toNat ≠ 1) ∧ (w.toNat < nt → rd f17 w.toNat ≠ 0#32)⌝ -∗ own (F := F) c cc0_scratch12 f17 -∗ K w))
        ⊢ wp frame (wpE (defs₀ (F := F)) Variants.nat (c : Thread nD τ) (some n)) Set.univ
            (cc0_while1 (F := F) v1_0 hw6 v2 hw4 v10 hw5 t v78 hw8 v3644 hw9 hh2 m17 h17 arg) K := by
  intro n
  induction n with
  | zero =>
    intro arg u ha hu K
    simp only [cc0_while1_eq_skeleton]; unfold cc0_while1_skel
    have hoff := off17_eq hv (by omega) h0 ha (by omega)
    have hc : k0_chk10 v1_0 v78 arg := fun _ a => by rw [hoff]; exact cell_ok (by omega) a
    iintro ⟨H, HK⟩
    iapply (as_rule' hc)
    iapply (ld17' _ hoff) $$ H; iintro H
    have hs : ¬ Scalar.andi (Scalar.cmpi .slt arg v1_0) (Scalar.cmpi .eq (rd f17 (min u (nt - 1))) 0#32) = 1#1 := by
      rw [and_bits, slt_nat (by omega) (by omega)]; omega
    rw [if_neg hs, Prog.pure_eq_ret, wp_ret]; imodintro
    iapply HK $$ [] H
    ipureintro
    exact ⟨by omega, by omega, fun s _ _ => by omega, fun _ => by omega⟩
  | succ n ih =>
    intro arg u ha hu K
    simp only [cc0_while1_eq_skeleton]; unfold cc0_while1_skel
    have hoff := off17_eq hv (by omega) h0 ha (by omega)
    have hc : k0_chk10 v1_0 v78 arg := fun _ a => by rw [hoff]; exact cell_ok (by omega) a
    iintro ⟨H, HK⟩
    iapply (as_rule' hc)
    iapply (ld17' _ hoff) $$ H; iintro H
    by_cases hs : Scalar.andi (Scalar.cmpi .slt arg v1_0) (Scalar.cmpi .eq (rd f17 (min u (nt - 1))) 0#32) = 1#1
    · rw [if_pos hs]
      have h1 := (and_bits _ _).1 hs
      have hz : rd f17 (min u (nt - 1)) = 0#32 := by
        have h2 := h1.2
        have e : Scalar.cmpi .eq (rd f17 (min u (nt - 1))) 0#32 = BitVec.ofBool (decide (rd f17 (min u (nt - 1)) = 0#32)) := by
          show IntOp.cmpi .eq _ _ = _
          unfold IntOp.cmpi
          rfl
        rw [e, WordCmp.ofBool_decide_eq_one_iff] at h2
        exact h2
      have hz' : (rd f17 u).toNat = 0 := by rw [show u = min u (nt - 1) by omega, hz]; rfl
      iapply (wp_call Variants.nat (c : Thread nD τ) (some (n + 1)) Set.univ (Γ := ∅) n (fun u hu => by cases hu; exact Nat.lt_succ_self n))
      iapply (ih (Scalar.addi arg 1#32) (u + 1) (add_one ha (by omega)) (by omega) _)
      isplitl [H]; · iexact H
      iintro %w %hw H
      rw [wp_ret]; imodintro
      iapply HK $$ [] H
      ipureintro
      refine ⟨by omega, hw.2.1, fun s h1 h2 => ?_, hw.2.2.2⟩
      rcases Nat.eq_or_lt_of_le h1 with h | h
      · rw [← h, hz']; decide
      · exact hw.2.2.1 s h h2
    · rw [if_neg hs, Prog.pure_eq_ret, wp_ret]; imodintro
      iapply HK $$ [] H
      ipureintro
      refine ⟨by omega, by omega, fun s _ _ => by omega, fun hlt hz => hs ?_⟩
      rw [and_bits, slt_nat (by omega) (by omega)]
      refine ⟨by omega, ?_⟩
      rw [show min u (nt - 1) = arg.toNat by omega, hz]; rfl

/-- Calling the while: the next tile that starts an expert, or the number of tiles. -/
theorem while_rule {Q : α → PP F} (hv : v1_0.toNat = nt) (h0 : 0 < nt) (hn : nt ≤ 56)
    {hw6 : k0_chk6 v1_0} {v2 : BitVec 32} {hw4 : k0_chk4 v2} {v10 : BitVec 32} {hw5 : k0_chk5 v10} {t : Fin (k0_t4_loop v1_0).trips} {v78 : BitVec 32}
    {hw8 : k0_chk8 v1_0 t v78} {v3644 : BitVec 32} {hw9 : k0_chk9 v78 v3644} {hh2 : k0_cond2 v78 = 1#1}
    {arg : BitVec 32} {u : ℕ} (ha : arg.toNat = u) (hu : u ≤ nt) {K : BitVec 32 → PG F α} :
    own (F := F) c cc0_scratch12 f17
      ⊢ iprop((∀ w : BitVec 32, ⌜u ≤ w.toNat ∧ w.toNat ≤ nt ∧ (∀ s, u ≤ s → s < w.toNat → (rd f17 s).toNat ≠ 1) ∧ (w.toNat < nt → rd f17 w.toNat ≠ 0#32)⌝ -∗ own (F := F) c cc0_scratch12 f17 -∗ Wp c (K w) Q)
        -∗ Wp c (Prog.lift (.call (1 : (Λ₀ F).Label) ⟨v1_0, hw6, v2, hw4, v10, hw5, t, v78, hw8, v3644, hw9, hh2, m17, h17, arg⟩) >>= K) Q) := by
  iintro H HK
  rw [wp_lift]
  iapply (wp_call Variants.nat (c : Thread nD τ) none Set.univ (Γ := ∅) (nt - u) (fun u hu => nomatch hu))
  iapply (while_ok hv h0 hn hw6 v2 hw4 v10 hw5 t v78 hw8 v3644 hw9 hh2 (nt - u) arg u ha (by omega) _)
  isplitl [H]; · iexact H
  iexact HK

end Cert.KernelIdeal.Hand
-- ==== Proof.KI.Dequant.lean ====
/-
  Scaling an expert's weights.
-/
module

public import proofs.«01_k».proof.Proof.KI.Plan
public import proofs.«01_k».proof.Proof.KI.While

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

variable {c : Dev nD}

/-- The scales of expert `e`, as the words the kernel makes of them. -/
def sdecF (fs : S8x96x1536.Idx → Elt F .i8) (e : ℕ) : S96x1536.Idx → BitVec 32 := k0_pay1 (F := F) (fun x => fs (gx3 e (x 0).val (x 1).val))

/-- The weights of expert `e`, scaled. -/
def dqF (fw : S8x3072x1536.Idx → Elt F .fp8e4m3) (fs : S8x96x1536.Idx → Elt F .i8) (e : ℕ) : S3072x1536.Idx → Elt F .bf16 := fun y =>
  k0_pay2 (F := F) (fun x => sdecF (F := F) fs e (gx2 ((y 0).val / 32) (x 1).val)) (fun x => fw (gx3 e (32 * ((y 0).val / 32) + (x 0).val) (x 1).val))
    (gx2 ((y 0).val % 32) (y 1).val)

theorem t5_trips : k0_t5_loop.trips = 96 := trips_one rfl (by decide)

theorem iv96 {k : ℕ} (hk : k < 96) : (Scf.iv 0#32 1#32 k).toNat = k := WordArith.toNat_iv_zero_one k (by omega)

theorem off15_eq (k : Fin k0_t5_loop.trips) : k0_off15 k = ![k.val, 0] := by
  have hk : k.val < 96 := Nat.lt_of_lt_of_eq k.isLt t5_trips
  unfold k0_off15
  show ![(Scf.iv 0#32 1#32 k.val).toNat, 0] = _
  rw [iv96 hk]

theorem off16_eq (k : Fin k0_t5_loop.trips) : k0_off16 k = ![32 * k.val, 0] := by
  have hk : k.val < 96 := Nat.lt_of_lt_of_eq k.isLt t5_trips
  unfold k0_off16
  show ![(Scf.iv 0#32 1#32 k.val * 32#32).toNat, 0] = _
  rw [BitVec.toNat_mul, iv96 hk]
  have : k.val * (32#32 : BitVec 32).toNat % 2 ^ 32 = 32 * k.val := by
    show k.val * 32 % 2 ^ 32 = _; omega
  rw [this]

variable {fw : S8x3072x1536.Idx → Elt F .fp8e4m3} {fs : S8x96x1536.Idx → Elt F .i8} {e : ℕ}

/-- The first `n` rows are scaled. -/
def DqTo (fw : S8x3072x1536.Idx → Elt F .fp8e4m3) (fs : S8x96x1536.Idx → Elt F .i8) (e n : ℕ) (fd : S3072x1536.Idx → Elt F (cc0_scratch3 : Ref sig .tc).ty.elt) : Prop :=
  ∀ y : S3072x1536.Idx, (y 0).val < n → fd y = dqF fw fs e y

theorem dq_write {k : ℕ} {fd : S3072x1536.Idx → Elt F (cc0_scratch3 : Ref sig .tc).ty.elt} (hd : ∀ y : S3072x1536.Idx, (y 0).val < 32 * k → fd y = dqF fw fs e y)
    (off : Fin 2 → ℕ) (inb) (hoff : off = ![32 * k, 0])
    (w : (Rect.unit (s := S3072x1536) off S32x1536.size inb).shape.Idx → Elt F (cc0_scratch3 : Ref sig .tc).ty.elt)
    (hw : ∀ x : (Rect.unit (s := S3072x1536) off S32x1536.size inb).shape.Idx, ∀ y : S3072x1536.Idx, (y 0).val = 32 * k + (x 0).val → (y 1).val = (x 1).val → w x = dqF fw fs e y)
    (y : S3072x1536.Idx) (hy : (y 0).val < 32 * (k + 1)) :
    (m8.access (Rect.unit (s := S3072x1536) off S32x1536.size inb)).write (Elt F) fd w Finset.univ y = dqF fw fs e y := by
  refine write_cases (F := F) cc0_scratch3 off S32x1536.size inb fd w y (fun z => z = dqF fw fs e y) ?_ ?_
  · intro x hx
    have h1 : (y 0).val = off 0 + (x 0).val := hx 0
    have h2 : (y 1).val = off 1 + (x 1).val := hx 1
    have o0 : off 0 = 32 * k := by rw [hoff]; rfl
    have o1 : off 1 = 0 := by rw [hoff]; rfl
    exact hw x y (h1.trans (congrArg (· + (x 0).val) o0)) (h2.trans ((congrArg (· + (x 1).val) o1).trans (Nat.zero_add _)))
  · intro h
    refine hd y ?_
    by_contra hc
    apply h
    intro a
    rw [hoff]
    fin_cases a
    · show 32 * k ≤ (y 0).val ∧ (y 0).val < 32 * k + 32; omega
    · show 0 ≤ (y 1).val ∧ (y 1).val < 0 + 1536
      have : (y 1).val < 1536 := (y 1).isLt
      omega

theorem dq_val {k : ℕ} (hk : k < 96) {gw : S3072x1536.Idx → Elt F .fp8e4m3} (hgw : ∀ k j, k < 3072 → j < 1536 → gw (gx2 k j) = fw (gx3 e k j))
    (off15 off16 : Fin 2 → ℕ) (i15 : ∀ a, off15 a + S1x1536.size a ≤ S96x1536.size a) (i16 : ∀ a, off16 a + S32x1536.size a ≤ S3072x1536.size a)
    (e15 : off15 = ![k, 0]) (e16 : off16 = ![32 * k, 0]) (x : S32x1536.Idx) (y : S3072x1536.Idx)
    (hy0 : (y 0).val = 32 * k + (x 0).val) (hy1 : (y 1).val = (x 1).val) :
    k0_pay2 (F := F) (fun x => sdecF (F := F) fs e ((Rect.unit (s := S96x1536) off15 S1x1536.size i15).emb x))
          (fun x => gw ((Rect.unit (s := S3072x1536) off16 S32x1536.size i16).emb x)) x = dqF fw fs e y := by
  subst e15 e16
  have hx0 : (x 0).val < 32 := (x 0).isLt
  have hx1 : (x 1).val < 1536 := (x 1).isLt
  unfold dqF
  have d1 : (y 0).val / 32 = k := by omega
  have d2 : (y 0).val % 32 = (x 0).val := by omega
  rw [d1, d2, hy1]
  have ex : x = gx2 (x 0).val (x 1).val := gx2_eq x _ _ rfl rfl
  refine Eq.trans ?_ (congrArg _ ex)
  refine congrFun ?_ x
  refine congrArg₂ (k0_pay2 (F := F)) ?_ ?_
  · funext z
    refine congrArg (sdecF (F := F) fs e) (gx2_eq _ _ _ ?_ ?_)
    · show k + 1 * (z 0).val = _
      have : (z 0).val < 1 := (z 0).isLt
      omega
    · show 0 + 1 * (z 1).val = _; omega
  · funext z
    have hz0 : (z 0).val < 32 := (z 0).isLt
    have hz1 : (z 1).val < 1536 := (z 1).isLt
    have ez : (Rect.unit (s := S3072x1536) ![32 * k, 0] S32x1536.size i16).emb z = gx2 (32 * k + (z 0).val) (z 1).val := by
      refine gx2_eq _ _ _ ?_ ?_
      · show 32 * k + 1 * (z 0).val = _; omega
      · show 0 + 1 * (z 1).val = _; omega
    rw [ez]
    exact hgw _ _ (by omega) hz1

variable {v1_0 : BitVec 32} {t : Fin (k0_t4_loop v1_0).trips} {R : PP F}

/-- The scaling loop's invariant. -/
def Inv5 (c : Dev nD) (fw : S8x3072x1536.Idx → Elt F .fp8e4m3) (fs : S8x96x1536.Idx → Elt F .i8) (e : ℕ) (gw : S3072x1536.Idx → Elt F .fp8e4m3) (k : ℕ) (_ : BitVec 32) : PP F :=
  iprop(own (F := F) c cc0_scratch4 (sdecF (F := F) fs e) ∗ own (F := F) c cc0_scratch1 gw ∗ ∃ fd : S3072x1536.Idx → Elt F (cc0_scratch3 : Ref sig .tc).ty.elt, ⌜DqTo fw fs e (32 * k) fd⌝ ∗ own (F := F) c cc0_scratch3 fd)

set_option maxHeartbeats 600000 in
theorem t5_step {hw6 : k0_chk6 v1_0} {v2 : BitVec 32} {hw4 : k0_chk4 v2} {v10 : BitVec 32} {hw5 : k0_chk5 v10} {a b : BitVec 32}
    {gw : S3072x1536.Idx → Elt F .fp8e4m3} (hgw : ∀ k j, k < 3072 → j < 1536 → gw (gx2 k j) = fw (gx3 e k j))
    (k : Fin k0_t5_loop.trips) (acc : BitVec 32) :
    Inv5 c fw fs e gw k.val acc ⊢ Wp c (k0_t5_body (F := F) m0 h0 m1 h1 m2 h2 m3 h3 m4 h4 m5 h5 m6 h6 m7 h7 m8 h8 m9 h9 m10 h10 m11 h11 m12 h12 m13 h13 m14 h14 m15 h15 m16 h16 m17 h17 s18 s19 s20 s21 v1_0 hw6 v2 hw4 v10 hw5 a b t k acc) (Inv5 c fw fs e gw (k.val + 1)) := by
  have hk : k.val < 96 := Nat.lt_of_lt_of_eq k.isLt t5_trips
  unfold Inv5
  iintro ⟨H9, H6, %fd, %hd, H8⟩
  unfold k0_t5_body
  iapply (ldr9 (fun y _ => Finset.mem_univ (α := Idx ((c : Thread nD τ).loc cc0_scratch4)) y)) $$ H9; iintro H9
  iapply (ldr6 (fun y _ => Finset.mem_univ (α := Idx ((c : Thread nD τ).loc cc0_scratch1)) y)) $$ H6; iintro H6
  iapply (ldr8 (fun y _ => Finset.mem_univ (α := Idx ((c : Thread nD τ).loc cc0_scratch3)) y)) $$ H8; iintro H8
  iapply (str8 rfl (fun y _ => Finset.mem_univ (α := Idx ((c : Thread nD τ).loc cc0_scratch3)) y)) $$ H8; iintro H8
  iapply ret_rule
  isplitl [H9]; · iexact H9
  isplitl [H6]; · iexact H6
  iexists _
  isplitr
  rotate_left
  · iexact H8
  ipureintro
  intro y hy
  exact dq_write hd _ _ (off16_eq k) _ (fun x y h1 h2 => dq_val hk hgw _ _ _ _ (off15_eq k) (off16_eq k) x y h1 h2) y hy

/-- The scaling loop: an expert's weights, scaled. -/
theorem t5_rule {α : Type} {Q : α → PP F} {hw6 : k0_chk6 v1_0} {v2 : BitVec 32} {hw4 : k0_chk4 v2} {v10 : BitVec 32} {hw5 : k0_chk5 v10} {a b : BitVec 32}
    {gw : S3072x1536.Idx → Elt F .fp8e4m3} (hgw : ∀ k j, k < 3072 → j < 1536 → gw (gx2 k j) = fw (gx3 e k j))
    {fd : S3072x1536.Idx → Elt F .bf16} {K : BitVec 32 → PG F α} :
    iprop(own (F := F) c cc0_scratch4 (sdecF (F := F) fs e) ∗ own (F := F) c cc0_scratch1 gw ∗ own (F := F) c cc0_scratch3 fd)
      ⊢ iprop((∀ v, iprop(own (F := F) c cc0_scratch4 (sdecF (F := F) fs e) ∗ own (F := F) c cc0_scratch1 gw ∗ own (F := F) c cc0_scratch3 (dqF fw fs e)) -∗ Wp c (K v) Q)
        -∗ Wp c (Scf.Loop.for k0_t5_loop k0_t5_ok 0#32 (k0_t5_body (F := F) m0 h0 m1 h1 m2 h2 m3 h3 m4 h4 m5 h5 m6 h6 m7 h7 m8 h8 m9 h9 m10 h10 m11 h11 m12 h12 m13 h13 m14 h14 m15 h15 m16 h16 m17 h17 s18 s19 s20 s21 v1_0 hw6 v2 hw4 v10 hw5 a b t) >>= K) Q) := by
  iintro ⟨H9, H6, H8⟩ HK
  iapply (for_rule _ _ 0#32 _ (Inv5 c fw fs e gw) (fun k acc => t5_step hgw k acc)) $$ [H9 H6 H8]
  · unfold Inv5
    isplitl [H9]; · iexact H9
    isplitl [H6]; · iexact H6
    iexists fd
    isplitr
    · ipureintro; intro y hy; omega
    iexact H8
  iintro %v HI
  unfold Inv5
  icases HI with ⟨H9, H6, %fd', %hd, H8⟩
  have hfd : fd' = dqF fw fs e := by
    funext y
    refine hd y ?_
    rw [t5_trips]
    exact (y 0).isLt
  subst hfd
  iapply HK
  isplitl [H9]; · iexact H9
  isplitl [H6]; · iexact H6
  iexact H8

/-- The scales as loaded make the scales' words. -/
theorem sdec_of {gs : S96x1536.Idx → Elt F .i8} (h : ∀ k j, k < 96 → j < 1536 → gs (gx2 k j) = fs (gx3 e k j)) : k0_pay1 (F := F) gs = sdecF (F := F) fs e := by
  unfold sdecF
  refine congrArg (k0_pay1 (F := F)) (funext fun x => ?_)
  have ex : x = gx2 (x 0).val (x 1).val := gx2_eq x _ _ rfl rfl
  rw [ex]
  have h0 : (x 0).val < 96 := (x 0).isLt
  have h1 : (x 1).val < 1536 := (x 1).isLt
  rw [h _ _ h0 h1]
  rw [gx2_0 _ _ h0, gx2_1 _ _ h1]

end Cert.KernelIdeal.Hand
-- ==== Proof.KI.State.lean ====
/-
  What is held between tiles, and what the results are.
-/
module

public import proofs.«01_k».proof.Proof.KI.Fetch
public import proofs.«01_k».proof.Proof.KI.Dequant

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

variable {c : Dev nD}

/-- The share of the activations each slot's fetches read with. -/
def hsh (σ : ℕ) : PosShare TreeShare := if σ = 0 then fullShare.left else fullShare.right

/-- Slot `σ` of the ring is free. -/
def XIdle (c : Dev nD) (fx : S12288x3072.Idx → Elt F .bf16) (σ : ℕ) : PP F :=
  iprop(part c main_arg0 Finset.univ (hsh σ) fx ∗ (∃ f : S2x256x3072.Idx → Elt F .bf16, part c cc0_scratch0 (slot5 c σ) fullShare f) ∗ sval c (.dma (x18 σ)) 0)

/-- Tile `t`'s fetch is under way, when there is such a tile. -/
def XA (c : Dev nD) (fx : S12288x3072.Idx → Elt F .bf16) (f13 : S64.Idx → BitVec 32) (nt t : ℕ) : PP F :=
  if t < nt then XFly c (t % 2) (min (rd f13 t).toNat 12032) (hsh (t % 2)) fx else XIdle c fx (t % 2)

/-- No weights are on their way. -/
def WIdle (c : Dev nD) (fw : S8x3072x1536.Idx → Elt F .fp8e4m3) (fs : S8x96x1536.Idx → Elt F .i8) : PP F :=
  iprop((own (F := F) c main_arg2 fw ∗ (∃ f : S3072x1536.Idx → Elt F .fp8e4m3, own (F := F) c cc0_scratch1 f) ∗ sval c (.dma s19.sem) 0)
    ∗ (own (F := F) c main_arg3 fs ∗ (∃ f : S96x1536.Idx → Elt F .i8, own (F := F) c cc0_scratch2 f) ∗ sval c (.dma s20.sem) 0))

/-- Expert `e`'s weights are on their way. -/
def WFly (c : Dev nD) (fw : S8x3072x1536.Idx → Elt F .fp8e4m3) (fs : S8x96x1536.Idx → Elt F .i8) (e : ℕ) : PP F :=
  iprop(Fly c (.dma s19.sem) NW (wGot c e fw) ∗ Fly c (.dma s20.sem) NS (sGot c e fs))

/-- The weights of tile `u`'s expert are on their way, when there is such a tile. -/
def WA (c : Dev nD) (fw : S8x3072x1536.Idx → Elt F .fp8e4m3) (fs : S8x96x1536.Idx → Elt F .i8) (f16 : S64.Idx → BitVec 32) (nt u : ℕ) : PP F :=
  if u < nt then WFly c fw fs (rd f16 u).toNat else WIdle c fw fs

/-- The next weights, before tile `t`. -/
def WS (c : Dev nD) (fw : S8x3072x1536.Idx → Elt F .fp8e4m3) (fs : S8x96x1536.Idx → Elt F .i8) (f16 f17 : S64.Idx → BitVec 32) (nt t : ℕ) : PP F :=
  iprop(∃ u, ⌜t ≤ u ∧ u ≤ nt ∧ (∀ s, t ≤ s → s < u → (rd f17 s).toNat ≠ 1) ∧ (u < nt → (rd f17 u).toNat = 1)⌝ ∗ WA c fw fs f16 nt u)

/-- The tables. -/
def TB (c : Dev nD) (f13 f14 f15 f16 f17 : S64.Idx → BitVec 32) : PP F :=
  iprop(own (F := F) c cc0_scratch8 f13 ∗ own (F := F) c cc0_scratch9 f14 ∗ own (F := F) c cc0_scratch10 f15 ∗ own (F := F) c cc0_scratch11 f16 ∗ own (F := F) c cc0_scratch12 f17)

/-- The words of the scales, whatever they are. -/
def SD (c : Dev nD) : PP F := iprop(∃ f : S96x1536.Idx → BitVec 32, own (F := F) c cc0_scratch4 f)

/-! ### What the results are -/

section
variable (fx : S12288x3072.Idx → Elt F .bf16) (fw : S8x3072x1536.Idx → Elt F .fp8e4m3) (fs : S8x96x1536.Idx → Elt F .i8) (g : S8.Idx → BitVec 32)

/-- `v` is a value of the product of row `row` by column `j` of expert `e`'s weights, perhaps passed through the wide type and back. -/
inductive Val (e row j : ℕ) : Elt F .bf16 → Prop
  | dot (xq : S256x3072.Idx → Elt F .bf16) (r : ℕ) (hr : r < 256) (hj : j < 1536) (h : ∀ k, k < 3072 → xq (gx2 r k) = fx (gx2 row k)) :
      Val e row j (k0_pay593 (F := F) xq (dqF fw fs e) (gx3 0 r j))
  | rt (w : FVec F S16x1536 .bf16) (i : S16x1536.Idx) (h : Val e row j (w i)) :
      Val e row j (truncf (F := F) .bf16 (extf (F := F) .f32 w bitsLt_bf16_f32) bitsLt_bf16_f32 i)

/-- `v` is a value of result `(row, j)`. -/
def Good (row j : ℕ) (v : Elt F .bf16) : Prop := ∃ e < 8, pre g e ≤ row ∧ row < pre g (e + 1) ∧ Val fx fw fs e row j v

/-- The first `n` rows of the output are results. -/
def OutOK (n : ℕ) (f : S12288x1536.Idx → Elt F .bf16) : Prop := ∀ row j, row < n → j < 1536 → Good fx fw fs g row j (f (gx2 row j))

/-- The rows of a tile in its slot are results. -/
def ObufOK (R E σ : ℕ) (f : S2x256x1536.Idx → Elt F .bf16) : Prop :=
  ∀ r j, r < E - R → j < 1536 → Good fx fw fs g (R + r) j (f (gx3 σ r j))

/-- The rows kept for the next tile. -/
def CarryOK (E : ℕ) (f : S16x1536.Idx → Elt F .bf16) : Prop :=
  ∀ i j, i < 16 → j < 1536 → (E - 1) / 16 * 16 + i < E → Good fx fw fs g ((E - 1) / 16 * 16 + i) j (f (gx2 i j))
end

variable {fx : S12288x3072.Idx → Elt F .bf16} {fw : S8x3072x1536.Idx → Elt F .fp8e4m3} {fs : S8x96x1536.Idx → Elt F .i8} {g : S8.Idx → BitVec 32}

theorem out_next {R E S σ : ℕ} {fo : S2x256x1536.Idx → Elt F .bf16} {fOld : S12288x1536.Idx → Elt F .bf16} (hE : E ≤ 12288) (hS : R ≤ S)
    (ho : ObufOK fx fw fs g R E σ fo) (hold : OutOK fx fw fs g S fOld) : OutOK fx fw fs g E (outNew R (kk R E) σ fo fOld) := by
  intro row j hr hj
  unfold outNew
  have e0 : ((gx2 row j : S12288x1536.Idx) 0).val = row := gx2_0 _ _ (by omega)
  have e1 : ((gx2 row j : S12288x1536.Idx) 1).val = j := gx2_1 _ _ hj
  by_cases h : R ≤ row
  · rw [if_pos (by rw [e0]; unfold kk; omega), e0, e1]
    have := ho (row - R) j (by omega) hj
    rwa [show R + (row - R) = row by omega] at this
  · rw [if_neg (by rw [e0]; omega)]
    exact hold row j (by omega) hj

/-- The output with nothing under way, before tile `t`. -/
def OC (c : Dev nD) (fx : S12288x3072.Idx → Elt F .bf16) (fw : S8x3072x1536.Idx → Elt F .fp8e4m3) (fs : S8x96x1536.Idx → Elt F .i8) (g : S8.Idx → BitVec 32)
    (f14 : S64.Idx → BitVec 32) (t : ℕ) : PP F :=
  iprop(∃ (fOld : S12288x1536.Idx → Elt F .bf16), ⌜OutOK fx fw fs g (endAt f14 t) fOld⌝ ∗ own (F := F) c main_v0 fOld
    ∗ (∃ f : S2x256x1536.Idx → Elt F .bf16, part c cc0_scratch6 (slot6 c ((t + 1) % 2)) fullShare f) ∗ sval c (.dma s21.sem) 0)

/-- The copies of the tile before `t` under way, pieces before `p` awaited. -/
def OV (c : Dev nD) (fx : S12288x3072.Idx → Elt F .bf16) (fw : S8x3072x1536.Idx → Elt F .fp8e4m3) (fs : S8x96x1536.Idx → Elt F .i8) (g : S8.Idx → BitVec 32)
    (f13 f14 : S64.Idx → BitVec 32) (t p : ℕ) : PP F :=
  iprop(∃ (fo : S2x256x1536.Idx → Elt F .bf16) (fOld : S12288x1536.Idx → Elt F .bf16),
      ⌜ObufOK fx fw fs g (rd f13 (t - 1)).toNat (rd f14 (t - 1)).toNat ((t - 1) % 2) fo ∧ OutOK fx fw fs g (endAt f14 (t - 1)) fOld⌝
      ∗ OW c ((t - 1) % 2) (rd f13 (t - 1)).toNat (kk (rd f13 (t - 1)).toNat (rd f14 (t - 1)).toNat) fo fOld p)

/-- The output's copies before tile `t`. -/
def OP (c : Dev nD) (fx : S12288x3072.Idx → Elt F .bf16) (fw : S8x3072x1536.Idx → Elt F .fp8e4m3) (fs : S8x96x1536.Idx → Elt F .i8) (g : S8.Idx → BitVec 32)
    (f13 f14 : S64.Idx → BitVec 32) (t : ℕ) : PP F :=
  if 0 < t then OV c fx fw fs g f13 f14 t 0 else OC c fx fw fs g f14 t

/-- The free slot of the output's ring before tile `t`. -/
def OX (c : Dev nD) (t : ℕ) : PP F := iprop(∃ f : S2x256x1536.Idx → Elt F .bf16, part c cc0_scratch6 (slot6 c (t % 2)) fullShare f)

/-- The kept rows before tile `t`. -/
def CS (c : Dev nD) (fx : S12288x3072.Idx → Elt F .bf16) (fw : S8x3072x1536.Idx → Elt F .fp8e4m3) (fs : S8x96x1536.Idx → Elt F .i8) (g : S8.Idx → BitVec 32)
    (f14 : S64.Idx → BitVec 32) (t : ℕ) : PP F :=
  iprop(∃ f : S16x1536.Idx → Elt F .bf16, ⌜0 < t → CarryOK fx fw fs g (endAt f14 t) f⌝ ∗ own (F := F) c cc0_scratch7 f)

/-- The scaled weights before tile `t`. -/
def DS (c : Dev nD) (fw : S8x3072x1536.Idx → Elt F .fp8e4m3) (fs : S8x96x1536.Idx → Elt F .i8) (f16 : S64.Idx → BitVec 32) (t : ℕ) : PP F :=
  iprop(∃ f : S3072x1536.Idx → Elt F .bf16, ⌜0 < t → f = dqF fw fs (rd f16 (t - 1)).toNat⌝ ∗ own (F := F) c cc0_scratch3 f)

end Cert.KernelIdeal.Hand
-- ==== Proof.RI.Scale.lean ====
/-
  A scale at the ideal instance: the power of two its word stands for, however it is made.
-/
module

public import Idealize.ShloMosaic.PureOps
public import Idealize.ShloMosaic.PureOps.Ideal
public import Idealize.ShloMosaic.Lib.ValueIdx

@[expose] public section

noncomputable section

namespace Cert.Scale

open Idealize.ShloMosaic

/-- The power of two a scale stands for. -/
def scl (s : BitVec 8) : EReal := (((2 : ℝ) ^ ((s.toNat : ℤ) - 127) : ℝ) : EReal)

/-- A scale's word, its exponent in both halves. -/
def wrd (n : ℕ) : BitVec 32 := ((BitVec.ofNat 32 n) <<< (23#32)) ||| ((BitVec.ofNat 32 n) <<< (7#32))

theorem halves : ∀ n : Fin 256, ∀ b : Fin 2,
    (((wrd n.val).extractLsb' (16 * b.val) 16).extractLsb' 15 1 == 1#1) = false
      ∧ (((wrd n.val).extractLsb' (16 * b.val) 16).extractLsb' 7 8).toNat = n.val
      ∧ (((wrd n.val).extractLsb' (16 * b.val) 16).extractLsb' 0 7).toNat = 0 := by
  decide +kernel

/-- The half of a scale's word, read as a float. -/
theorem half_eq (s : BitVec 8) (h1 : 1 ≤ s.toNat) (h2 : s.toNat ≤ 254) (b : ℕ) (hb : b < 2) :
    Ideal.ofBits .bf16 ((wrd s.toNat).extractLsb' (16 * b) 16) = scl s := by
  obtain ⟨e1, e2, e3⟩ := halves ⟨s.toNat, s.isLt⟩ ⟨b, hb⟩
  show Ideal.ieee 8 7 _ = _
  unfold Ideal.ieee
  simp only [Nat.reduceAdd]
  rw [e1, e2, e3]
  have n1 : ¬ s.toNat = 2 ^ 8 - 1 := by omega
  have n2 : ¬ s.toNat = 0 := by omega
  rw [if_neg n1, if_neg n2]
  unfold scl
  refine congrArg _ ?_
  have e : ((s.toNat : ℤ) - (2 ^ (8 - 1) - 1) - ((7 : ℕ) : ℤ)) = ((s.toNat : ℤ) - 127) - 7 := by norm_num
  rw [e, zpow_sub₀ (by norm_num : (2 : ℝ) ≠ 0)]
  norm_num
  ring

/-- A scale taken as a number, less the bias, as the power of two. -/
theorem exp2_eq (s : BitVec 8) :
    Ideal.exp2 ((((s.setWidth 32).toInt : ℝ) : EReal) - Ideal.ofBits .f32 0x42FE0000#32) = scl s := by
  have hc : Ideal.ofBits .f32 0x42FE0000#32 = ((127 : ℝ) : EReal) := by
    simp [Ideal.ofBits, Ideal.ieee, -EReal.coe_mul]; norm_num
  have hi : (s.setWidth 32).toInt = (s.toNat : ℤ) := by
    have := s.isLt
    have e : (s.setWidth 32).toNat = s.toNat := by rw [BitVec.toNat_setWidth]; omega
    rw [BitVec.toInt_eq_toNat_cond, e, if_pos (by omega)]
  rw [hc, hi, ← EReal.coe_sub, Ideal.exp2_coe]
  unfold scl
  refine congrArg _ ?_
  show (2 : ℝ) ^ ((((s.toNat : ℤ) : ℝ) - 127 : ℝ)) = _
  rw [← Real.rpow_intCast]
  congr 1
  push_cast
  ring

end Cert.Scale
-- ==== Proof.RI.KerIdeal.lean ====
/-
  The kernel's products at the ideal instance.
-/
module

public import proofs.«01_k».proof.Proof.KI.State
public import proofs.«01_k».proof.Proof.RI.Scale
public import Idealize.ShloMosaic.Lib.BitcastPair
public import Idealize.ShloMosaic.Lib.MatmulPlain
public import Idealize.ShloMosaic.Lib.ValueLayout
public import Idealize.ShloMosaic.PureOps.Ideal.Laws

@[expose] public section

set_option maxRecDepth 16384

noncomputable section

namespace Cert.KernelIdeal.Hand

open Cert.KernelIdeal Cert.KernelIdeal.Gen Cert.Scale
open Idealize.ShloMosaic Idealize.ShloMosaic.TcCoe

/-- Row `row` of the activations times column `j` of expert `e`'s weights. -/
def prodK (fx : S12288x3072.Idx → EReal) (fw : S8x3072x1536.Idx → EReal) (fs : S8x96x1536.Idx → BitVec 8) (e row j : ℕ) : EReal :=
  0 + ∑ k : Fin 3072, fx (gx2 row k.val) * (fw (gx3 e k.val j) * scl (fs (gx3 e (k.val / 32) j)))

variable {fx : S12288x3072.Idx → EReal} {fw : S8x3072x1536.Idx → EReal} {fs : S8x96x1536.Idx → BitVec 8} {e : ℕ}

theorem sdec_ideal (i : S96x1536.Idx) : sdecF (F := Ideal) fs e i = wrd (fs (gx3 e (i 0).val (i 1).val)).toNat := by
  unfold sdecF k0_pay1
  dsimp only
  rw [shapeCast_self]
  generalize hs : fs (gx3 e (i 0).val (i 1).val) = s
  show IntOp.ori (IntOp.shli .vector ((fs (gx3 e (i 0).val (i 1).val)).setWidth 32) 23#32) (IntOp.shli .vector ((fs (gx3 e (i 0).val (i 1).val)).setWidth 32) 7#32) = _
  rw [hs]
  have e1 : s.setWidth 32 = BitVec.ofNat 32 s.toNat := by
    apply BitVec.eq_of_toNat_eq
    rw [BitVec.toNat_setWidth, BitVec.toNat_ofNat]
  rw [e1]
  rfl

theorem dq_ideal (h1 : ∀ i, 1 ≤ (fs i).toNat) (h2 : ∀ i, (fs i).toNat ≤ 254) (k j : ℕ) (hk : k < 3072) (hj : j < 1536) :
    dqF (F := Ideal) fw fs e (gx2 k j) = fw (gx3 e k j) * scl (fs (gx3 e (k / 32) j)) := by
  unfold dqF
  rw [gx2_0 _ _ hk, gx2_1 _ _ hj]
  unfold k0_pay2
  dsimp only
  rw [shapeCast_self, shapeCast_self]
  have hr : k % 32 < 32 := Nat.mod_lt _ (by decide)
  have eA : fw (gx3 e (32 * (k / 32) + ((gx2 (k % 32) j : S32x1536.Idx) 0).val) ((gx2 (k % 32) j : S32x1536.Idx) 1).val) = fw (gx3 e k j) := by
    rw [gx2_0 _ _ hr, gx2_1 _ _ hj, Nat.div_add_mod]
  refine Eq.trans (congrArg₂ (fun a b : EReal => a * b) eA ?_) rfl
  show Ideal.ofBits .bf16 (bitcast S32x1536 16 _ _ (gx2 (k % 32) j)) = _
  rw [bitcast_32_16]
  have ew : ∀ (q : S16x1536.Idx) , (q 1).val = j →
      broadcastTo S16x1536 (fun x : S1x1536.Idx => sdecF (F := Ideal) fs e (gx2 (k / 32) (x 1).val)) broadcasts_S1x1536_S16x1536 q = wrd (fs (gx3 e (k / 32) j)).toNat := by
    intro q hq
    have hq2 : q = gx2 (q 0).val j := gx2_eq q _ _ rfl hq
    rw [broadcastTo_apply _ _ q (gx2 0 j) ?_]
    · show sdecF (F := Ideal) fs e (gx2 (k / 32) ((gx2 0 j : S1x1536.Idx) 1).val) = _
      rw [gx2_1 _ _ hj, sdec_ideal, gx2_0 _ _ (by omega), gx2_1 _ _ hj]
    · intro a
      match a with
      | ⟨0, _⟩ => rfl
      | ⟨1, _⟩ => exact (gx2_1 _ _ hj).trans hq.symm
  rw [ew]
  · exact half_eq _ (h1 _) (h2 _) _ (Nat.mod_lt _ (by decide))
  · exact (Shape.Bitcasts.srcIdx_other _ _ _ _ 1 (by decide)).trans (gx2_1 _ _ hj)

theorem dot_ideal (xq : S256x3072.Idx → EReal) (w : S3072x1536.Idx → EReal) (r j : ℕ) (hr : r < 256) (hj : j < 1536) :
    k0_pay593 (F := Ideal) xq w (gx3 0 r j) = 0 + ∑ k : Fin 3072, xq (gx2 r k.val) * w (gx2 k.val j) := by
  unfold k0_pay593
  have hd : dot_S256x3072_S3072x1536_S256x1536_1_0_0_1_n_n = DotDims.plain 256 3072 1536 := rfl
  refine (shapeCast_apply _ _ _ (gx2 r j : S256x1536.Idx) ?_).trans ?_
  · rw [Shape.rowMajor_val_two, Shape.rowMajor_val_three]
    show r % 256 * 1536 + j % 1536 = (0 % 1 * 256 + r % 256) * 1536 + j % 1536
    omega
  · show FloatOps.matmul (F := Ideal) (φ₁ := .bf16) (φ₂ := .bf16) dot_S256x3072_S3072x1536_S256x1536_1_0_0_1_n_n none xq w (constant S256x1536 .f32 0x00000000#32) (gx2 r j) = _
    rw [hd]
    refine (Ideal.matmul_plain_apply (φ₁ := .bf16) (φ₂ := .bf16) none xq w _ _ _).trans ?_
    have hz : constant (F := Ideal) S256x1536 .f32 0x00000000#32 (gx2 r j) = (0 : EReal) := by
      show Ideal.ofBits .f32 0x00000000#32 = 0
      simp [Ideal.ofBits, Ideal.ieee]
    refine congrArg₂ (fun a b : EReal => a + b) hz (Finset.sum_congr rfl fun k _ => ?_)
    have ek : Fin.ofNat 3072 k.val = k := Fin.ext (Nat.mod_eq_of_lt k.isLt)
    show xq (ValueIdx.ix2 (Fin.ofNat 256 r) k) * w (ValueIdx.ix2 k (Fin.ofNat 1536 j)) = xq (ValueIdx.ix2 (Fin.ofNat 256 r) (Fin.ofNat 3072 k.val)) * w (ValueIdx.ix2 (Fin.ofNat 3072 k.val) (Fin.ofNat 1536 j))
    rw [ek]

theorem val_ideal (h1 : ∀ i, 1 ≤ (fs i).toNat) (h2 : ∀ i, (fs i).toNat ≤ 254) {row j : ℕ} {v : Elt Ideal .bf16} (hv : Val (F := Ideal) fx fw fs e row j v) :
    v = prodK fx fw fs e row j := by
  induction hv with
  | dot xq r hr hj h =>
    refine (dot_ideal xq _ r j hr hj).trans (congrArg (fun a : EReal => 0 + a) (Finset.sum_congr rfl fun k _ => ?_))
    rw [h k.val k.isLt, dq_ideal h1 h2 _ _ k.isLt hj]
  | rt w i h ih => exact ih

end Cert.KernelIdeal.Hand
-- ==== Proof.RI.Value.lean ====
/-
  What the reference writes: its array as a chain of selections, one for each expert.
-/
module

public import proofs.«01_k».proof.Proof.Gen.ReferenceIdeal.Value
public import Idealize.ShloMosaic.Lib.WholeRead
public import Idealize.ShloMosaic.Lib.VecWindow

@[expose] public section

set_option maxRecDepth 16384

noncomputable section

namespace Cert.ReferenceIdeal.Hand

open Cert.ReferenceIdeal Cert.ReferenceIdeal.Gen
open Idealize.ShloMosaic Idealize.ShloMosaic.TcCoe Idealize.ShloMosaic.Tactic Idealize.SL.Sem
open Idealize.ShloMosaic.Pipeline (Dat)

variable {F : FTy → Type} [FloatOps F]

/-- An expert's scales. -/
def scaleOf (s : Vec F S1x96x1536 .i8) : FVec F S96x1536 .bf16 :=
  truncf .bf16 (exp2 (subf (sitofp .f32 (extui 32 (shapeCast S96x1536 s shapeCasts_S1x96x1536_S96x1536 : IVec S96x1536 8) natLt_8_32))
    (broadcast S96x1536 (Scalar.ofBits .f32 0x42FE0000#32)))) bitsLt_bf16_f32

/-- An expert's weights, scaled. -/
def deq (w : Vec F S1x3072x1536 .fp8e4m3) (s : Vec F S1x96x1536 .i8) : FVec F S3072x1536 .bf16 :=
  shapeCast S3072x1536 (mulf
    (shapeCast S96x32x1536 (extf .bf16 (shapeCast S3072x1536 w shapeCasts_S1x3072x1536_S3072x1536 : FVec F S3072x1536 .fp8e4m3) bitsLt_fp8e4m3_bf16 : FVec F S3072x1536 .bf16) shapeCasts_S3072x1536_S96x32x1536)
    (broadcastTo S96x32x1536 (shapeCast S96x1x1536 (scaleOf s) shapeCasts_S96x1536_S96x1x1536 : FVec F S96x1x1536 .bf16) broadcasts_S96x1x1536_S96x32x1536)) shapeCasts_S96x32x1536_S3072x1536

/-- The product by an expert's weights where the rows are its own, what was there before elsewhere. -/
def stp (a b : BitVec 32) (acc : FVec F S12288x1536 .f32) (x : Vec F S12288x3072 .bf16) (w : Vec F S1x3072x1536 .fp8e4m3) (s : Vec F S1x96x1536 .i8) :
    FVec F S12288x1536 .f32 :=
  select (andi (cmpi .sge (iota .tc S12288x1536 32 [0] iota_S12288x1536_d0_w32) (broadcast S12288x1536 a))
      (cmpi .slt (iota .tc S12288x1536 32 [0] iota_S12288x1536_d0_w32) (broadcast S12288x1536 b)))
    (matmul dot_S12288x3072_S3072x1536_S12288x1536_1_0_0_1_n_n none x (deq w s) (constant S12288x1536 .f32 0x00000000#32)) acc

/-- The first row of expert `n`, as the reference counts. -/
def bd (g : ℕ → BitVec 32) : ℕ → BitVec 32
  | 0 => 0#32
  | n + 1 => Scalar.addi (bd g n) (g n)

/-- The sums after `n` experts. -/
def accA (g : ℕ → BitVec 32) (x : Vec F S12288x3072 .bf16) (w : ℕ → Vec F S1x3072x1536 .fp8e4m3) (s : ℕ → Vec F S1x96x1536 .i8) : ℕ → FVec F S12288x1536 .f32
  | 0 => broadcast S12288x1536 (Scalar.ofBits .f32 0x00000000#32)
  | n + 1 => stp (bd g n) (bd g (n + 1)) (accA g x w s n) x (w n) (s n)

/-- Entry `n` of the sizes, from any number. -/
def gOf (g : S8.Idx → BitVec 32) (n : ℕ) : BitVec 32 := g (fun | ⟨0, _⟩ => ⟨n % 8, Nat.mod_lt n (by decide)⟩)
/-- Expert `n`'s weights, from any number. -/
def wOf (w : Vec F S8x3072x1536 .fp8e4m3) (n : ℕ) : Vec F S1x3072x1536 .fp8e4m3 := fun i => w (fun | ⟨0, _⟩ => Fin.ofNat 8 n | ⟨1, _⟩ => i 1 | ⟨2, _⟩ => i 2)
/-- Expert `n`'s scales, from any number. -/
def sOf (s : Vec F S8x96x1536 .i8) (n : ℕ) : Vec F S1x96x1536 .i8 := fun i => s (fun | ⟨0, _⟩ => Fin.ofNat 8 n | ⟨1, _⟩ => i 1 | ⟨2, _⟩ => i 2)

/-- The reference's array. -/
def refArr (g : S8.Idx → BitVec 32) (x : Vec F S12288x3072 .bf16) (w : Vec F S8x3072x1536 .fp8e4m3) (s : Vec F S8x96x1536 .i8) : FVec F S12288x1536 .bf16 :=
  truncf .bf16 (accA (gOf g) x (wOf w) (sOf s) 8) bitsLt_bf16_f32

theorem chain (g : ℕ → BitVec 32) (x : Vec F S12288x3072 .bf16) (w : ℕ → Vec F S1x3072x1536 .fp8e4m3) (s : ℕ → Vec F S1x96x1536 .i8) :
    k0_pay1 (k0_pay9 (iota .tc S12288x1536 32 [0] iota_S12288x1536_d0_w32) (bd g 6)
        (k0_pay7 (iota .tc S12288x1536 32 [0] iota_S12288x1536_d0_w32) (bd g 4)
          (k0_pay5 (iota .tc S12288x1536 32 [0] iota_S12288x1536_d0_w32) (bd g 3)
            (k0_pay4 (iota .tc S12288x1536 32 [0] iota_S12288x1536_d0_w32) (bd g 1) (k0_pay2 (g 0) (s 0) (w 0) x) (bd g 2) (k0_pay3 (s 1)) (w 1) x (g 2) (s 2) (w 2) x)
            (bd g 4) (s 3) (w 3) x)
          (bd g 5) (k0_pay6 (s 4) (w 4)) x (g 5) (s 5) (w 5) x)
        (bd g 7) (k0_pay8 (s 6)) (w 6) x) (k0_pay10 (s 7) (w 7) x) (k0_pay11 (F := F) (iota .tc S12288x1536 32 [0] iota_S12288x1536_d0_w32) (bd g 7) (g 7))
      = truncf .bf16 (accA g x w s 8) bitsLt_bf16_f32 := rfl

theorem rd_g {arg0 : Memref sig .tc .smem S8 .i32} (h : arg0.IsWhole) (x0 : Vec F S8 .i32) (n : ℕ) (inb) (hp) (hn : n < 8) :
    View.readAt (Elt F) arg0.view (Rect.unit (s := S8) ![n] S1.size inb).toLoadRect (h.unread x0) (Shape.Idx.first hp) = gOf x0 n := by
  rw [h.readAt_unread]
  refine congrArg x0 (funext fun a => Fin.ext ?_)
  match a with
  | ⟨0, _⟩ => show n + 1 * 0 = n % 8; omega

theorem rd_w {arg2 : Memref sig .tc .vmem S8x3072x1536 .fp8e4m3} (h : arg2.IsWhole) (x2 : Vec F S8x3072x1536 .fp8e4m3) (n : ℕ) (inb) (hn : n < 8) :
    View.readAt (Elt F) arg2.view (Rect.unit (s := S8x3072x1536) ![n, 0, 0] S1x3072x1536.size inb).toLoadRect (h.unread x2) = wOf x2 n := by
  funext i
  rw [h.readAt_unread]
  refine congrArg x2 (funext fun a => Fin.ext ?_)
  match a with
  | ⟨0, _⟩ => have : (i 0).val < 1 := (i 0).isLt
              show n + 1 * (i 0).val = n % 8; omega
  | ⟨1, _⟩ => show 0 + 1 * (i 1).val = (i 1).val; omega
  | ⟨2, _⟩ => show 0 + 1 * (i 2).val = (i 2).val; omega

theorem rd_s {arg3 : Memref sig .tc .vmem S8x96x1536 .i8} (h : arg3.IsWhole) (x3 : Vec F S8x96x1536 .i8) (n : ℕ) (inb) (hn : n < 8) :
    View.readAt (Elt F) arg3.view (Rect.unit (s := S8x96x1536) ![n, 0, 0] S1x96x1536.size inb).toLoadRect (h.unread x3) = sOf x3 n := by
  funext i
  rw [h.readAt_unread]
  refine congrArg x3 (funext fun a => Fin.ext ?_)
  match a with
  | ⟨0, _⟩ => have : (i 0).val < 1 := (i 0).isLt
              show n + 1 * (i 0).val = n % 8; omega
  | ⟨1, _⟩ => show 0 + 1 * (i 1).val = (i 1).val; omega
  | ⟨2, _⟩ => show 0 + 1 * (i 2).val = (i 2).val; omega

theorem rd_x {arg1 : Memref sig .tc .vmem S12288x3072 .bf16} (h : arg1.IsWhole) (x1 : Vec F S12288x3072 .bf16) (inb) :
    View.readAt (Elt F) arg1.view (Rect.unit (s := S12288x3072) ![0, 0] ![12288, 3072] inb).toLoadRect (h.unread x1) = x1 := by
  funext i
  rw [h.readAt_unread]
  refine congrArg x1 (funext fun a => Fin.ext ?_)
  match a with
  | ⟨0, _⟩ => show 0 + 1 * (i 0).val = (i 0).val; omega
  | ⟨1, _⟩ => show 0 + 1 * (i 1).val = (i 1).val; omega

theorem out_eq (c : Dev nD) (arg0 : Memref sig .tc .smem S8 .i32) (harg0 : arg0.IsWhole) (arg1 : Memref sig .tc .vmem S12288x3072 .bf16) (harg1 : arg1.IsWhole)
    (arg2 : Memref sig .tc .vmem S8x3072x1536 .fp8e4m3) (harg2 : arg2.IsWhole) (arg3 : Memref sig .tc .vmem S8x96x1536 .i8) (harg3 : arg3.IsWhole)
    (arg4 : Memref sig .tc .vmem S12288x1536 .bf16) (harg4 : arg4.IsWhole)
    (x0 : Vec F S8 .i32) (x1 : Vec F S12288x3072 .bf16) (x2 : Vec F S8x3072x1536 .fp8e4m3) (x3 : Vec F S8x96x1536 .i8) :
    out0_A_4 c arg0 harg0 arg1 harg1 arg2 harg2 arg3 harg3 arg4 harg4 x0 x1 x2 x3 = refArr x0 x1 x2 x3 := by
  unfold out0_A_4 kernelRun0_A
  dsimp only
  refine (View.read_writes_full VO0_4 _ _ _ []).trans ?_
  sl_unfold_words
  rw [rd_x harg1 x1, rd_g harg0 x0 0 _ _ (by decide), rd_g harg0 x0 1 _ _ (by decide), rd_g harg0 x0 2 _ _ (by decide), rd_g harg0 x0 3 _ _ (by decide),
    rd_g harg0 x0 4 _ _ (by decide), rd_g harg0 x0 5 _ _ (by decide), rd_g harg0 x0 6 _ _ (by decide), rd_g harg0 x0 7 _ _ (by decide),
    rd_w harg2 x2 0 _ (by decide), rd_w harg2 x2 1 _ (by decide), rd_w harg2 x2 2 _ (by decide), rd_w harg2 x2 3 _ (by decide),
    rd_w harg2 x2 4 _ (by decide), rd_w harg2 x2 5 _ (by decide), rd_w harg2 x2 6 _ (by decide), rd_w harg2 x2 7 _ (by decide),
    rd_s harg3 x3 0 _ (by decide), rd_s harg3 x3 1 _ (by decide), rd_s harg3 x3 2 _ (by decide), rd_s harg3 x3 3 _ (by decide),
    rd_s harg3 x3 4 _ (by decide), rd_s harg3 x3 5 _ (by decide), rd_s harg3 x3 6 _ (by decide), rd_s harg3 x3 7 _ (by decide)]
  exact chain (gOf x0) x1 (wOf x2) (sOf x3)

variable (m : (ℓ : Loc nD τ sig) → Buf (Elt F) ℓ)

/-- The one point. -/
def t0 : Fin cfg0.N := ⟨0, by decide⟩

theorem idx0 : ∀ t : Fin cfg0.N, win0_0.index t = fun _ => 0 := (by decide +kernel : ∀ t : Fin grid0.N, win0_0.index t = fun _ => 0)

theorem blk0 (c : Dev nD) (t : Fin cfg0.N) : iblk m c 0 t = m ((c : Thread nD τ).loc main_arg1) := by
  unfold iblk
  refine Eq.trans (funext fun i => ?_) (V_main_arg1 m c)
  have hz := idx0 t
  have e : ∀ a : Fin 1, (((win0_0.rect t).emb i) a).val = win0_0.index t a * S8.size a + 1 * (i a).val := fun a => rfl
  show V m c main_arg1 ((win0_0.rect t).emb i) = V m c main_arg1 i
  refine congrArg (V m c main_arg1) (funext fun a => Fin.ext ?_)
  match a with
  | ⟨0, _⟩ => exact (e 0).trans (by rw [hz]; show 0 * _ + 1 * (i 0).val = (i 0).val; omega)

theorem idx1 : ∀ t : Fin cfg0.N, win0_1.index t = fun _ => 0 := (by decide +kernel : ∀ t : Fin grid0.N, win0_1.index t = fun _ => 0)

theorem blk1 (c : Dev nD) (t : Fin cfg0.N) : iblk m c 1 t = m ((c : Thread nD τ).loc main_arg0) := by
  unfold iblk
  refine Eq.trans (funext fun i => ?_) (V_main_arg0 m c)
  have hz := idx1 t
  have e : ∀ a : Fin 2, (((win0_1.rect t).emb i) a).val = win0_1.index t a * S12288x3072.size a + 1 * (i a).val := fun a => rfl
  show V m c main_arg0 ((win0_1.rect t).emb i) = V m c main_arg0 i
  refine congrArg (V m c main_arg0) (funext fun a => Fin.ext ?_)
  match a with
  | ⟨0, _⟩ => exact (e 0).trans (by rw [hz]; show 0 * _ + 1 * (i 0).val = (i 0).val; omega)
  | ⟨1, _⟩ => exact (e 1).trans (by rw [hz]; show 0 * _ + 1 * (i 1).val = (i 1).val; omega)

theorem idx2 : ∀ t : Fin cfg0.N, win0_2.index t = fun _ => 0 := (by decide +kernel : ∀ t : Fin grid0.N, win0_2.index t = fun _ => 0)

theorem blk2 (c : Dev nD) (t : Fin cfg0.N) : iblk m c 2 t = m ((c : Thread nD τ).loc main_arg2) := by
  unfold iblk
  refine Eq.trans (funext fun i => ?_) (V_main_arg2 m c)
  have hz := idx2 t
  have e : ∀ a : Fin 3, (((win0_2.rect t).emb i) a).val = win0_2.index t a * S8x3072x1536.size a + 1 * (i a).val := fun a => rfl
  show V m c main_arg2 ((win0_2.rect t).emb i) = V m c main_arg2 i
  refine congrArg (V m c main_arg2) (funext fun a => Fin.ext ?_)
  match a with
  | ⟨0, _⟩ => exact (e 0).trans (by rw [hz]; show 0 * _ + 1 * (i 0).val = (i 0).val; omega)
  | ⟨1, _⟩ => exact (e 1).trans (by rw [hz]; show 0 * _ + 1 * (i 1).val = (i 1).val; omega)
  | ⟨2, _⟩ => exact (e 2).trans (by rw [hz]; show 0 * _ + 1 * (i 2).val = (i 2).val; omega)

theorem idx3 : ∀ t : Fin cfg0.N, win0_3.index t = fun _ => 0 := (by decide +kernel : ∀ t : Fin grid0.N, win0_3.index t = fun _ => 0)

theorem blk3 (c : Dev nD) (t : Fin cfg0.N) : iblk m c 3 t = m ((c : Thread nD τ).loc main_arg3) := by
  unfold iblk
  refine Eq.trans (funext fun i => ?_) (V_main_arg3 m c)
  have hz := idx3 t
  have e : ∀ a : Fin 3, (((win0_3.rect t).emb i) a).val = win0_3.index t a * S8x96x1536.size a + 1 * (i a).val := fun a => rfl
  show V m c main_arg3 ((win0_3.rect t).emb i) = V m c main_arg3 i
  refine congrArg (V m c main_arg3) (funext fun a => Fin.ext ?_)
  match a with
  | ⟨0, _⟩ => exact (e 0).trans (by rw [hz]; show 0 * _ + 1 * (i 0).val = (i 0).val; omega)
  | ⟨1, _⟩ => exact (e 1).trans (by rw [hz]; show 0 * _ + 1 * (i 1).val = (i 1).val; omega)
  | ⟨2, _⟩ => exact (e 2).trans (by rw [hz]; show 0 * _ + 1 * (i 2).val = (i 2).val; omega)

theorem idx4 : ∀ t : Fin cfg0.N, win0_4.index t = fun _ => 0 := (by decide +kernel : ∀ t : Fin grid0.N, win0_4.index t = fun _ => 0)

/-- The array after the run. -/
theorem arr_eq (c : Dev nD) : (dats m 0 c).arrAt 4 cfg0.N
    = refArr (m ((c : Thread nD τ).loc main_arg1)) (m ((c : Thread nD τ).loc main_arg0)) (m ((c : Thread nD τ).loc main_arg2)) (m ((c : Thread nD τ).loc main_arg3)) := by
  have hf : (cfg0.win 4).flush t0 = true := flush0_4 t0
  have h := (Value.blocks4 m c t0 hf).trans (Value.flushed4_A m c t0)
  rw [out_eq, blk0, blk1, blk2, blk3] at h
  funext i
  have h' := congrFun h i
  refine Eq.trans ?_ h'
  have hz := idx4 t0
  have e : ∀ a : Fin 2, (((win0_4.rect t0).emb i) a).val = win0_4.index t0 a * S12288x1536.size a + 1 * (i a).val := fun a => rfl
  show (dats m 0 c).arrAt 4 cfg0.N i = (dats m 0 c).arrAt 4 cfg0.N ((win0_4.rect t0).emb i)
  refine congrArg ((dats m 0 c).arrAt 4 cfg0.N) (funext fun a => Fin.ext ?_)
  match a with
  | ⟨0, _⟩ => exact Eq.symm ((e 0).trans (by rw [hz]; show 0 * _ + 1 * (i 0).val = (i 0).val; omega))
  | ⟨1, _⟩ => exact Eq.symm ((e 1).trans (by rw [hz]; show 0 * _ + 1 * (i 1).val = (i 1).val; omega))

end Cert.ReferenceIdeal.Hand
-- ==== Proof.RI.RefIdeal.lean ====
/-
  The reference's products at the ideal instance.
-/
module

public import proofs.«01_k».proof.Proof.RI.KerIdeal
public import proofs.«01_k».proof.Proof.RI.Scale
public import proofs.«01_k».proof.Proof.RI.Value
public import Idealize.ShloMosaic.Lib.BitcastPair
public import Idealize.ShloMosaic.Lib.MatmulPlain
public import Idealize.ShloMosaic.Lib.ValueLayout
public import Idealize.ShloMosaic.Lib.StableHlo.Predicate
public import Idealize.ShloMosaic.PureOps.Ideal.Laws

@[expose] public section

set_option maxRecDepth 16384

noncomputable section

namespace Cert.ReferenceIdeal.Hand

open Cert.ReferenceIdeal Cert.ReferenceIdeal.Gen Cert.Scale
open Cert.KernelIdeal.Hand (gx2 gx3 gx2_eq gx3_eq gx2_0 gx2_1 gx3_0 gx3_1 gx3_2 prodK pre pre_mono)
open Idealize.ShloMosaic Idealize.ShloMosaic.TcCoe

variable {fx : S12288x3072.Idx → EReal} {fw : S8x3072x1536.Idx → EReal} {fs : S8x96x1536.Idx → BitVec 8} {g : S8.Idx → BitVec 32}

theorem scale_ideal (s : S1x96x1536.Idx → BitVec 8) (i j : ℕ) (hi : i < 96) (hj : j < 1536) :
    scaleOf (F := Ideal) s (gx2 i j) = scl (s (gx3 0 i j)) := by
  have e1 : (shapeCast S96x1536 s shapeCasts_S1x96x1536_S96x1536 : IVec S96x1536 8) (gx2 i j) = s (gx3 0 i j) := by
    refine shapeCast_apply _ _ _ _ ?_
    rw [Shape.rowMajor_val_two, Shape.rowMajor_val_three]
    show (0 % 1 * 96 + i % 96) * 1536 + j % 1536 = i % 96 * 1536 + j % 1536
    omega
  refine Eq.trans ?_ (exp2_eq (s (gx3 0 i j)))
  rw [← e1]
  rfl

theorem deq_ideal (w : S1x3072x1536.Idx → EReal) (s : S1x96x1536.Idx → BitVec 8) (k j : ℕ) (hk : k < 3072) (hj : j < 1536) :
    deq (F := Ideal) w s (gx2 k j) = w (gx3 0 k j) * scl (s (gx3 0 (k / 32) j)) := by
  unfold deq
  have hq : k / 32 < 96 := by omega
  have hr : k % 32 < 32 := Nat.mod_lt _ (by decide)
  refine (shapeCast_apply _ _ _ (gx3 (k / 32) (k % 32) j : S96x32x1536.Idx) ?_).trans ?_
  · rw [Shape.rowMajor_val_two, Shape.rowMajor_val_three]
    show (k / 32 % 96 * 32 + k % 32 % 32) * 1536 + j % 1536 = k % 3072 * 1536 + j % 1536
    omega
  · refine congrArg₂ (fun a b : EReal => a * b) ?_ ?_
    · refine (shapeCast_apply _ _ _ (gx2 k j : S3072x1536.Idx) ?_).trans ?_
      · rw [Shape.rowMajor_val_two, Shape.rowMajor_val_three]
        show k % 3072 * 1536 + j % 1536 = (k / 32 % 96 * 32 + k % 32 % 32) * 1536 + j % 1536
        omega
      · refine shapeCast_apply w _ _ (gx3 0 k j : S1x3072x1536.Idx) ?_
        rw [Shape.rowMajor_val_two, Shape.rowMajor_val_three]
        show (0 % 1 * 3072 + k % 3072) * 1536 + j % 1536 = k % 3072 * 1536 + j % 1536
        omega
    · refine (broadcastTo_apply _ _ _ (gx3 (k / 32) 0 j : S96x1x1536.Idx) ?_).trans ?_
      · intro a
        match a with
        | ⟨0, _⟩ => rfl
        | ⟨1, _⟩ => rfl
        | ⟨2, _⟩ => rfl
      · refine (shapeCast_apply _ _ _ (gx2 (k / 32) j : S96x1536.Idx) ?_).trans (scale_ideal s _ _ hq hj)
        rw [Shape.rowMajor_val_two, Shape.rowMajor_val_three]
        show k / 32 % 96 * 1536 + j % 1536 = (k / 32 % 96 * 1 + 0 % 1) * 1536 + j % 1536
        omega

theorem wOf_eq (e k j : ℕ) : wOf (F := Ideal) fw e (gx3 0 k j) = fw (gx3 e k j) :=
  congrArg fw (funext fun a => by match a with | ⟨0, _⟩ => rfl | ⟨1, _⟩ => rfl | ⟨2, _⟩ => rfl)

theorem sOf_eq (e k j : ℕ) : sOf (F := Ideal) fs e (gx3 0 k j) = fs (gx3 e k j) :=
  congrArg fs (funext fun a => by match a with | ⟨0, _⟩ => rfl | ⟨1, _⟩ => rfl | ⟨2, _⟩ => rfl)

theorem mm_ideal (e row j : ℕ) (hj : j < 1536) :
    matmul (F := Ideal) (φ₁ := .bf16) (φ₂ := .bf16) dot_S12288x3072_S3072x1536_S12288x1536_1_0_0_1_n_n none fx (deq (F := Ideal) (wOf (F := Ideal) fw e) (sOf (F := Ideal) fs e)) (constant S12288x1536 .f32 0x00000000#32) (gx2 row j)
      = prodK fx fw fs e row j := by
  have hd : dot_S12288x3072_S3072x1536_S12288x1536_1_0_0_1_n_n = DotDims.plain 12288 3072 1536 := rfl
  show FloatOps.matmul (F := Ideal) (φ₁ := .bf16) (φ₂ := .bf16) dot_S12288x3072_S3072x1536_S12288x1536_1_0_0_1_n_n none fx (deq (F := Ideal) (wOf (F := Ideal) fw e) (sOf (F := Ideal) fs e)) (constant S12288x1536 .f32 0x00000000#32) (gx2 row j) = _
  rw [hd]
  refine (Ideal.matmul_plain_apply (φ₁ := .bf16) (φ₂ := .bf16) none fx _ _ _ _).trans ?_
  have hz : constant (F := Ideal) S12288x1536 .f32 0x00000000#32 (gx2 row j) = (0 : EReal) := by
    show Ideal.ofBits .f32 0x00000000#32 = 0
    simp [Ideal.ofBits, Ideal.ieee]
  refine congrArg₂ (fun a b : EReal => a + b) hz (Finset.sum_congr rfl fun k _ => ?_)
  have ek : Fin.ofNat 3072 k.val = k := Fin.ext (Nat.mod_eq_of_lt k.isLt)
  have e1 : (ValueIdx.ix2 (Fin.ofNat 12288 row) k : S12288x3072.Idx) = gx2 row k.val := by
    unfold gx2; rw [ek]
  have e2 : (ValueIdx.ix2 k (Fin.ofNat 1536 j) : S3072x1536.Idx) = gx2 k.val j := by
    unfold gx2; rw [ek]
  show fx (ValueIdx.ix2 (Fin.ofNat 12288 row) k) * deq (F := Ideal) (wOf (F := Ideal) fw e) (sOf (F := Ideal) fs e) (ValueIdx.ix2 k (Fin.ofNat 1536 j)) = _
  rw [e1, e2, deq_ideal _ _ _ _ k.isLt hj, wOf_eq, sOf_eq]

/-- The boundaries as the reference counts them are the prefix sums. -/
theorem bd_eq (hle : ∀ i, (g i).toNat ≤ 12288) : ∀ n ≤ 8, (bd (gOf g) n).toNat = pre g n ∧ pre g n ≤ 12288 * n
  | 0, _ => ⟨rfl, le_refl _⟩
  | n + 1, h => by
    obtain ⟨h1, h2⟩ := bd_eq hle n (by omega)
    have e : (gOf g n) = Cert.KernelIdeal.Hand.rd8 g n := congrArg g (funext fun a => by match a with | ⟨0, _⟩ => rfl)
    have l : (gOf g n).toNat ≤ 12288 := hle _
    have ep : pre g (n + 1) = pre g n + (gOf g n).toNat := by rw [e]; rfl
    refine ⟨?_, ?_⟩
    · show (bd (gOf g) n + gOf g n).toNat = _
      rw [BitVec.toNat_add, h1, ep]
      exact Nat.mod_eq_of_lt (by omega)
    · omega

theorem mask_eq (hle : ∀ i, (g i).toNat ≤ 12288) (n row j : ℕ) (hn : n < 8) (hrow : row < 12288) :
    (andi (cmpi .sge (iota .tc S12288x1536 32 [0] iota_S12288x1536_d0_w32) (broadcast S12288x1536 (bd (gOf g) n)))
      (cmpi .slt (iota .tc S12288x1536 32 [0] iota_S12288x1536_d0_w32) (broadcast S12288x1536 (bd (gOf g) (n + 1)))) : IVec S12288x1536 1) (gx2 row j) = 1#1
      ↔ pre g n ≤ row ∧ row < pre g (n + 1) := by
  obtain ⟨a1, a2⟩ := bd_eq hle n (by omega)
  obtain ⟨b1, b2⟩ := bd_eq hle (n + 1) (by omega)
  have ei : iota .tc S12288x1536 32 [0] iota_S12288x1536_d0_w32 (gx2 row j) = BitVec.ofNat 32 row := by
    rw [iota_single_apply]
    exact congrArg (BitVec.ofNat 32) (gx2_0 _ _ hrow)
  have er : (BitVec.ofNat 32 row).toNat = row := by rw [BitVec.toNat_ofNat]; omega
  show IntOp.andi (IntOp.cmpi .sge (iota .tc S12288x1536 32 [0] iota_S12288x1536_d0_w32 (gx2 row j)) (bd (gOf g) n))
    (IntOp.cmpi .slt (iota .tc S12288x1536 32 [0] iota_S12288x1536_d0_w32 (gx2 row j)) (bd (gOf g) (n + 1))) = 1#1 ↔ _
  rw [ei, IntOp.andi_eq_one, StableHlo.Predicate.sge_iff_toNat (by omega) (by omega), StableHlo.Predicate.slt_iff_toNat (by omega) (by omega), er, a1, b1]

/-- Before the expert's rows are met anything; after, the product. -/
theorem acc_ideal (hle : ∀ i, (g i).toNat ≤ 12288) (e row j : ℕ) (hrow : row < 12288) (hj : j < 1536) (h1 : pre g e ≤ row) (h2 : row < pre g (e + 1)) :
    ∀ n ≤ 8, e < n → accA (F := Ideal) (gOf g) fx (wOf (F := Ideal) fw) (sOf (F := Ideal) fs) n (gx2 row j) = prodK fx fw fs e row j
  | 0, _, h => by omega
  | n + 1, hn, h => by
    have hm := mask_eq (g := g) hle n row j (by omega) hrow
    show (if (andi (cmpi .sge (iota .tc S12288x1536 32 [0] iota_S12288x1536_d0_w32) (broadcast S12288x1536 (bd (gOf g) n)))
      (cmpi .slt (iota .tc S12288x1536 32 [0] iota_S12288x1536_d0_w32) (broadcast S12288x1536 (bd (gOf g) (n + 1)))) : IVec S12288x1536 1) (gx2 row j) = 1#1 then
        matmul (F := Ideal) (φ₁ := .bf16) (φ₂ := .bf16) dot_S12288x3072_S3072x1536_S12288x1536_1_0_0_1_n_n none fx (deq (F := Ideal) (wOf (F := Ideal) fw n) (sOf (F := Ideal) fs n)) (constant S12288x1536 .f32 0x00000000#32) (gx2 row j)
      else accA (F := Ideal) (gOf g) fx (wOf (F := Ideal) fw) (sOf (F := Ideal) fs) n (gx2 row j)) = _
    rcases Nat.lt_or_ge e n with hl | hg
    · rw [if_neg]
      · exact acc_ideal hle e row j hrow hj h1 h2 n (by omega) hl
      · rw [hm]
        have := pre_mono (g := g) (d := e + 1) (e := n) (by omega)
        omega
    · have he : e = n := by omega
      subst he
      rw [if_pos (hm.2 ⟨h1, h2⟩)]
      exact mm_ideal e row j hj

end Cert.ReferenceIdeal.Hand
-- ==== Proof.KI.Part2.lean ====
/-
  The first part of a tile: the fetches and the weights.
-/
module

public import proofs.«01_k».proof.Proof.KI.State
public import proofs.«01_k».proof.Proof.KI.Copy
public import proofs.«01_k».proof.Proof.KI.PlanW
public import proofs.«01_k».proof.Proof.KI.While
public import proofs.«01_k».proof.Proof.KI.Dequant

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

variable {c : Dev nD} {fx : S12288x3072.Idx → Elt F .bf16} {fw : S8x3072x1536.Idx → Elt F .fp8e4m3} {fs : S8x96x1536.Idx → Elt F .i8} {g : S8.Idx → BitVec 32}
  {f13 f14 f15 f16 f17 : S64.Idx → BitVec 32} {v1_0 : BitVec 32} {nt : ℕ} {t : Fin (k0_t4_loop v1_0).trips} {Z : PP F}

/-- What is held across the weights' step. -/
def Mid2 (c : Dev nD) (fx : S12288x3072.Idx → Elt F .bf16) (fw : S8x3072x1536.Idx → Elt F .fp8e4m3) (fs : S8x96x1536.Idx → Elt F .i8)
    (f13 f14 f15 f16 f17 : S64.Idx → BitVec 32) (nt t a : ℕ) (Z : PP F) : PP F :=
  iprop(TB c f13 f14 f15 f16 f17 ∗ owed c ∗ XA c fx f13 nt t ∗ XA c fx f13 nt (t + 1) ∗ WS c fw fs f16 f17 nt a ∗ DS c fw fs f16 a ∗ SD c ∗ Z)

/-- What is held beside the operands while the activations are copied. -/
def Fr2 (c : Dev nD) (fx : S12288x3072.Idx → Elt F .bf16) (fw : S8x3072x1536.Idx → Elt F .fp8e4m3) (fs : S8x96x1536.Idx → Elt F .i8)
    (f13 f14 f15 f16 f17 : S64.Idx → BitVec 32) (nt t : ℕ) (Z : PP F) : PP F :=
  iprop(TB c f13 f14 f15 f16 f17 ∗ owed c ∗ (part c main_arg0 Finset.univ (hsh (t % 2)) fx ∗ sval c (.dma (x18 (t % 2))) 0) ∗ XA c fx f13 nt (t + 1)
    ∗ WS c fw fs f16 f17 nt (t + 1) ∗ DS c fw fs f16 (t + 1) ∗ SD c ∗ Z)

theorem one_of_ne {g : S8.Idx → BitVec 32} {s : ℕ} (h : Tile g f13 f14 f15 f16 f17 s) (hz : rd f17 s ≠ 0#32) : (rd f17 s).toNat = 1 := by
  rcases h.first with h | h
  · exact h
  · exact absurd (BitVec.eq_of_toNat_eq (h.1.trans rfl)) hz

/-- A tile whose expert is the one before's needs no weights. -/
theorem mid_skip {n : ℕ} (hp : Plan g f13 f14 f15 f16 f17 nt) (hn : n < nt) (hF : ¬ (rd f17 n).toNat = 1) :
    Mid2 c fx fw fs f13 f14 f15 f16 f17 nt n n Z ⊢ Mid2 c fx fw fs f13 f14 f15 f16 f17 nt n (n + 1) Z := by
  rcases (hp n hn).first with h | ⟨h0, h1, h2⟩
  · exact absurd h hF
  unfold Mid2 WS DS
  iintro ⟨HT, HO, HX, HX2, ⟨%u, %hu, HW⟩, ⟨%fd, %hd, HD⟩, HS, HZ⟩
  isplitl [HT]; · iexact HT
  isplitl [HO]; · iexact HO
  isplitl [HX]; · iexact HX
  isplitl [HX2]; · iexact HX2
  isplitl [HW]
  · iexists u; isplitr
    · ipureintro
      have hne : n ≠ u := fun e => by
        have := hu.2.2.2 (by omega)
        rw [← e] at this; exact hF this
      exact ⟨by omega, hu.2.1, fun s a b => hu.2.2.1 s (by omega) b, hu.2.2.2⟩
    iexact HW
  isplitl [HD]
  · iexists fd; isplitr
    · ipureintro; intro _
      rw [Nat.add_sub_cancel, h2]; exact hd h1
    iexact HD
  isplitl [HS]; · iexact HS
  iexact HZ

theorem XA_pos {fx : S12288x3072.Idx → Elt F .bf16} {s : ℕ} (h : s < nt) : XA c fx f13 nt s = XFly c (s % 2) (min (rd f13 s).toNat 12032) (hsh (s % 2)) fx := if_pos h
theorem XA_neg {fx : S12288x3072.Idx → Elt F .bf16} {s : ℕ} (h : ¬ s < nt) : XA c fx f13 nt s = XIdle c fx (s % 2) := if_neg h

theorem WS_first {s : ℕ} (h : s < nt) (hF : (rd f17 s).toNat = 1) : WS c fw fs f16 f17 nt s ⊢ WFly c fw fs (rd f16 s).toNat := by
  unfold WS
  iintro ⟨%u, %hu, HW⟩
  have e : u = s := by
    by_contra hne
    exact hu.2.2.1 s (Nat.le_refl s) (by omega) hF
  subst e
  have e2 : WA c fw fs f16 nt u = WFly c fw fs (rd f16 u).toNat := if_pos h
  rw [← e2]
  iexact HW

theorem WS_some {s u : ℕ} (h : u < nt) (hu : s ≤ u ∧ (∀ k, s ≤ k → k < u → (rd f17 k).toNat ≠ 1) ∧ (rd f17 u).toNat = 1) :
    WFly c fw fs (rd f16 u).toNat ⊢ WS c fw fs f16 f17 nt s := by
  have e2 : WA c fw fs f16 nt u = WFly c fw fs (rd f16 u).toNat := if_pos h
  unfold WS
  iintro HW
  iexists u
  isplitr
  · ipureintro; exact ⟨hu.1, by omega, hu.2.1, fun _ => hu.2.2⟩
  rw [e2]
  iexact HW

theorem WS_none {s : ℕ} (h : s ≤ nt) (hu : ∀ k, s ≤ k → k < nt → (rd f17 k).toNat ≠ 1) :
    WIdle c fw fs ⊢ WS c fw fs f16 f17 nt s := by
  have e2 : WA c fw fs f16 nt nt = WIdle c fw fs := if_neg (Nat.lt_irrefl nt)
  unfold WS
  iintro HW
  iexists nt
  isplitr
  · ipureintro; exact ⟨h, Nat.le_refl _, hu, fun hh => absurd hh (Nat.lt_irrefl _)⟩
  rw [e2]
  iexact HW

theorem DS_some {s : ℕ} : own (F := F) c cc0_scratch3 (dqF fw fs (rd f16 s).toNat) ⊢ DS c fw fs f16 (s + 1) := by
  unfold DS
  iintro HD
  iexists _
  isplitr
  rotate_left
  · iexact HD
  ipureintro; intro _; rw [Nat.add_sub_cancel]

/-- What is held once an expert's weights are scaled and the next ones are not yet asked for. -/
def Mid3 (c : Dev nD) (fx : S12288x3072.Idx → Elt F .bf16) (fw : S8x3072x1536.Idx → Elt F .fp8e4m3) (fs : S8x96x1536.Idx → Elt F .i8)
    (f13 f14 f15 f16 f17 : S64.Idx → BitVec 32) (nt t : ℕ) (Z : PP F) : PP F :=
  iprop(TB c f13 f14 f15 f16 f17 ∗ owed c ∗ XA c fx f13 nt t ∗ XA c fx f13 nt (t + 1) ∗ WIdle c fw fs ∗ DS c fw fs f16 (t + 1) ∗ SD c ∗ Z)

set_option maxHeartbeats 8000000 in
theorem part2 (hv : v1_0.toNat = nt) (hnt : nt ≤ 56) (hp : Plan g f13 f14 f15 f16 f17 nt) (htn : t.val < nt)
    {hw6 : k0_chk6 v1_0} {v2 : BitVec 32} {hw4 : k0_chk4 v2} {v10 : BitVec 32} {hw5 : k0_chk5 v10}
    {Q : _ → PP F}
    (H : ∀ (f5 : S2x256x3072.Idx → Elt F .bf16) (v72 v96 : BitVec 32) (hw14 : k0_chk14 v1_0 t (rd f13 t.val)),
      (∀ r j, r < 256 → j < 3072 → f5 (ix5 (t.val % 2) r j) = fx (gx2 (min (rd f13 t.val).toNat 12032 + r) j)) →
      InvB (Fr2 c fx fw fs f13 f14 f15 f16 f17 nt t.val Z) c f5 (t.val % 2) ((rd f13 t.val).toNat - min (rd f13 t.val).toNat 12032) 0
        ⊢ Q ⟨Scf.iv 0#32 1#32 t.val, v72, rd f13 t.val, hw14, v96, st f5 (t.val % 2) ((rd f13 t.val).toNat - min (rd f13 t.val).toNat 12032) 0 0⟩) :
    iprop(TB c f13 f14 f15 f16 f17 ∗ owed c ∗ XA c fx f13 nt t.val ∗ XIdle c fx ((t.val + 1) % 2) ∗ WS c fw fs f16 f17 nt t.val ∗ DS c fw fs f16 t.val ∗ SD c
        ∗ (∃ f : S256x3072.Idx → Elt F .bf16, own (F := F) c cc0_scratch5 f) ∗ Z)
      ⊢ Wp c (k0_part2 (F := F) m0 h0 m1 h1 m2 h2 m3 h3 m4 h4 m5 h5 m6 h6 m7 h7 m8 h8 m9 h9 m10 h10 m11 h11 m12 h12 m13 h13 m14 h14 m15 h15 m16 h16 m17 h17 s18 s19 s20 s21 v1_0 hw6 v2 hw4 v10 hw5 0#32 1#32 t) Q := by
  have ht64 : t.val < 64 := by omega
  have hnt0 : 0 < nt := by omega
  have hn64 : nt < 64 := by omega
  have hT := hp t.val htn
  have hR : (rd f13 t.val).toNat < 12288 := by have := hT.tw.lt; have := hT.tw.top; omega
  rw [k0_part2_eq_skeleton]; unfold k0_part2_skel
  refine step_dite (Mid := Mid2 c fx fw fs f13 f14 f15 f16 f17 nt t.val t.val iprop((∃ f : S256x3072.Idx → Elt F .bf16, own (F := F) c cc0_scratch5 f) ∗ Z)) ?_ ?_ ?_
  · -- the weights' step
    unfold Mid2 TB
    iintro ⟨⟨H13, H14, H15, H16, H17⟩, HO, HX, HX2, HW, HD, HS, HQ, HZ⟩
    iapply (ld17 t.val (off11_eq t ht64)) $$ H17; iintro H17
    iapply (as_rule (show k0_chk8 v1_0 t (rd f17 t.val) from fun _ a => by rw [off12_eq t ht64]; exact cell_ok ht64 a))
    iapply (step_dite (P := Mid2 c fx fw fs f13 f14 f15 f16 f17 nt t.val t.val iprop((∃ f : S256x3072.Idx → Elt F .bf16, own (F := F) c cc0_scratch5 f) ∗ Z))
      (Mid := Mid2 c fx fw fs f13 f14 f15 f16 f17 nt t.val (t.val + 1) iprop((∃ f : S256x3072.Idx → Elt F .bf16, own (F := F) c cc0_scratch5 f) ∗ Z)) ?_ ?_ ?_) $$ [H13 H14 H15 H16 H17 HO HX HX2 HW HD HS HQ HZ]
    · -- the wait for the activations
      unfold Mid2 TB
      rw [XA_pos htn]
      iintro ⟨⟨H13, H14, H15, H16, H17⟩, HO, HX, HX2, HW, HD, HS, ⟨%fq, HQ⟩, HZ⟩
      iapply (ld13 t.val (off21_eq t ht64)) $$ H13; iintro H13
      iapply (as_rule (chk13_ok rfl hR hT.tw.dvd))
      unfold XFly
      iapply (x_wait (σ := t.val % 2) rfl (x18_eq (by omega) (off22_eq t ht64))) $$ [HX HO]
      · isplitl [HX]; · unfold XFly; iexact HX
        iexact HO
      unfold XGot
      iintro ⟨⟨⟨%f5, %hf5, H5⟩, Hx⟩, Hv, HO⟩
      iapply (ld13 t.val (off25_eq t ht64)) $$ H13; iintro H13
      iapply (as_rule (chk14_ok rfl hR hT.tw.dvd ht64))
      iapply (step_ld (R := Fr2 c fx fw fs f13 f14 f15 f16 f17 nt t.val Z) (f5 := f5) (σ := t.val % 2) (skip := (rd f13 t.val).toNat - min (rd f13 t.val).toNat 12032) (n := 0)
        (by omega) (by have := hT.tw.dvd; omega) 0 0 (by decide) (by decide) (offEq (slot_cur ht64) (skip_word rfl hR hT.tw.dvd) rfl)
        (step_ret (H f5 _ _ _ hf5))) $$ [H13 H14 H15 H16 H17 HO H5 Hx Hv HX2 HW HD HS HQ HZ]
      unfold InvB Fr2 TB
      isplitl [H5]; · iexact H5
      isplitl [HQ]
      · iexists fq; isplitr
        · ipureintro; intro y hy; exact absurd hy (Nat.not_lt_zero _)
        · iexact HQ
      isplitl [H13 H14 H15 H16 H17]
      · isplitl [H13]; · iexact H13
        isplitl [H14]; · iexact H14
        isplitl [H15]; · iexact H15
        isplitl [H16]; · iexact H16
        iexact H17
      isplitl [HO]; · iexact HO
      isplitl [Hx Hv]
      · isplitl [Hx]; · iexact Hx
        iexact Hv
      isplitl [HX2]; · iexact HX2
      isplitl [HW]; · iexact HW
      isplitl [HD]; · iexact HD
      isplitl [HS]; · iexact HS
      iexact HZ
    · -- new weights
      intro hK hc
      have hF : (rd f17 t.val).toNat = 1 := cond2_iff.mp hc
      unfold Mid2 TB
      iintro ⟨⟨H13, H14, H15, H16, H17⟩, HO, HX, HX2, HW, HD, HS, HZ⟩
      ihave HW := (WS_first htn hF) $$ HW
      unfold WFly DS SD
      icases HW with ⟨HW1, HW2⟩
      icases HD with ⟨%fd, %hfd, HD⟩
      icases HS with ⟨%fsd, HS⟩
      iapply (ld16 t.val (off12_eq t ht64)) $$ H16; iintro H16
      iapply (as_rule (chk9_ok hT.exp))
      iapply (fly_wait (N := NW) rfl) $$ [HW1 HO]
      · isplitl [HW1]; · iexact HW1
        iexact HO
      unfold wGot
      iintro ⟨⟨⟨%gw, %hgw, Hw⟩, Hfw⟩, Hvw, HO⟩
      iapply (fly_wait (N := NS) rfl) $$ [HW2 HO]
      · isplitl [HW2]; · iexact HW2
        iexact HO
      unfold sGot
      iintro ⟨⟨⟨%gs, %hgs, Hs⟩, Hfs⟩, Hvs, HO⟩
      iapply (ldw7) $$ Hs; iintro Hs
      iapply (ldw9) $$ HS; iintro HS
      iapply (stw9 rfl) $$ HS; iintro HS
      rw [sdec_of hgs]
      iapply (t5_rule hgw) $$ [HS Hw HD]
      · isplitl [HS]; · iexact HS
        isplitl [Hw]; · iexact Hw
        iexact HD
      iintro %v5
      iintro ⟨HS, Hw, HD⟩
      iapply (while_rule hv hnt0 hnt (add_one (iv_nat t.val ht64) (by omega)) (by omega)) $$ H17
      iintro %w
      iintro %hw
      iintro H17
      iapply (as_rule (show k0_chk11 v1_0 (rd f17 t.val) w from fun _ h3 a => cell_ok (x := w.toNat) (by have := (cond3_iff hv hn64 (by omega)).mp h3; omega) a))
      iapply (step_dite (P := Mid3 c fx fw fs f13 f14 f15 f16 f17 nt t.val iprop((∃ f : S256x3072.Idx → Elt F .bf16, own (F := F) c cc0_scratch5 f) ∗ Z))
        (Mid := Mid2 c fx fw fs f13 f14 f15 f16 f17 nt t.val (t.val + 1) iprop((∃ f : S256x3072.Idx → Elt F .bf16, own (F := F) c cc0_scratch5 f) ∗ Z)) hK ?_ ?_) $$ [H13 H14 H15 H16 H17 HO HX HX2 HS Hw HD Hs Hfs Hvs Hfw Hvw HZ]
      · intro hK2 hc3
        have hwn : w.toNat < nt := (cond3_iff hv hn64 (by omega)).mp hc3
        have hF2 := one_of_ne (hp _ hwn) (hw.2.2.2 hwn)
        unfold Mid3 WIdle TB
        iintro ⟨⟨H13, H14, H15, H16, H17⟩, HO, HX, HX2, ⟨⟨Hfw, ⟨%gw, Hw⟩, Hvw⟩, Hfs, ⟨%gs, Hs⟩, Hvs⟩, HD, HS, HZ⟩
        iapply (ld16 w.toNat rfl) $$ H16; iintro H16
        iapply (as_rule (chk12_ok (hp _ hwn).exp))
        iapply (w_start (e := (rd f16 w.toNat).toNat) rfl) $$ [Hfw Hw Hvw]
        · isplitl [Hfw]; · iexact Hfw
          isplitl [Hw]; · iexact Hw
          iexact Hvw
        iintro HF1
        iapply (s_start (e := (rd f16 w.toNat).toNat) rfl) $$ [Hfs Hs Hvs]
        · isplitl [Hfs]; · iexact Hfs
          isplitl [Hs]; · iexact Hs
          iexact Hvs
        iintro HF2
        iapply hK2
        unfold Mid2 TB
        isplitl [H13 H14 H15 H16 H17]
        · isplitl [H13]; · iexact H13
          isplitl [H14]; · iexact H14
          isplitl [H15]; · iexact H15
          isplitl [H16]; · iexact H16
          iexact H17
        isplitl [HO]; · iexact HO
        isplitl [HX]; · iexact HX
        isplitl [HX2]; · iexact HX2
        isplitl [HF1 HF2]
        · iapply (WS_some hwn ⟨hw.1, hw.2.2.1, hF2⟩)
          unfold WFly
          isplitl [HF1]; · iexact HF1
          iexact HF2
        isplitl [HD]; · iexact HD
        isplitl [HS]; · iexact HS
        iexact HZ
      · intro hc3
        have hwn : ¬ w.toNat < nt := fun hh => hc3 ((cond3_iff hv hn64 (by omega)).mpr hh)
        have hwe : w.toNat = nt := by omega
        unfold Mid3 Mid2
        iintro ⟨HT, HO, HX, HX2, HW, HD, HS, HZ⟩
        isplitl [HT]; · iexact HT
        isplitl [HO]; · iexact HO
        isplitl [HX]; · iexact HX
        isplitl [HX2]; · iexact HX2
        isplitl [HW]
        · iapply (WS_none (by omega) (by rw [← hwe]; exact hw.2.2.1)) $$ HW
        isplitl [HD]; · iexact HD
        isplitl [HS]; · iexact HS
        iexact HZ
      · unfold Mid3 TB WIdle SD
        isplitl [H13 H14 H15 H16 H17]
        · isplitl [H13]; · iexact H13
          isplitl [H14]; · iexact H14
          isplitl [H15]; · iexact H15
          isplitl [H16]; · iexact H16
          iexact H17
        isplitl [HO]; · iexact HO
        isplitl [HX]; · iexact HX
        isplitl [HX2]; · iexact HX2
        isplitl [Hfw Hw Hvw Hfs Hs Hvs]
        · isplitl [Hfw Hw Hvw]
          · isplitl [Hfw]; · iexact Hfw
            isplitl [Hw]
            · iexists _; iexact Hw
            iexact Hvw
          isplitl [Hfs]; · iexact Hfs
          isplitl [Hs]
          · iexists _; iexact Hs
          iexact Hvs
        isplitl [HD]
        · iapply DS_some $$ HD
        isplitl [HS]
        · iexists _; iexact HS
        iexact HZ
    · intro hc
      exact mid_skip hp htn (fun hF => hc (cond2_iff.mpr hF))
    · unfold Mid2 TB
      isplitl [H13 H14 H15 H16 H17]
      · isplitl [H13]; · iexact H13
        isplitl [H14]; · iexact H14
        isplitl [H15]; · iexact H15
        isplitl [H16]; · iexact H16
        iexact H17
      isplitl [HO]; · iexact HO
      isplitl [HX]; · iexact HX
      isplitl [HX2]; · iexact HX2
      isplitl [HW]; · iexact HW
      isplitl [HD]; · iexact HD
      isplitl [HS]; · iexact HS
      isplitl [HQ]; · iexact HQ
      iexact HZ
  · -- the next fetch
    intro hK hc
    have hn1 : t.val + 1 < nt := (cond1_iff hv hn64 t).mp hc
    have hT1 := hp _ hn1
    have hR1 : (rd f13 (t.val + 1)).toNat < 12288 := by have := hT1.tw.lt; have := hT1.tw.top; omega
    unfold TB XIdle
    iintro ⟨⟨H13, H14, H15, H16, H17⟩, HO, HX, ⟨Hx, ⟨%g5, H5⟩, Hv⟩, HW, HD, HS, HQ, HZ⟩
    iapply (ld13 (t.val + 1) (off7_eq t (by omega))) $$ H13; iintro H13
    iapply (as_rule (chk7_ok rfl hR1 hT1.tw.dvd))
    iapply (x_start (σ := (t.val + 1) % 2) (by omega) (off9_eq t (by omega)) (x_off rfl hR1) (x18_eq (by omega) (off8_eq t (by omega)))) $$ [Hx H5 Hv]
    · isplitl [Hx]; · iexact Hx
      isplitl [H5]; · iexact H5
      iexact Hv
    iintro HF
    iapply hK
    unfold Mid2 TB
    isplitl [H13 H14 H15 H16 H17]
    · isplitl [H13]; · iexact H13
      isplitl [H14]; · iexact H14
      isplitl [H15]; · iexact H15
      isplitl [H16]; · iexact H16
      iexact H17
    isplitl [HO]; · iexact HO
    isplitl [HX]; · iexact HX
    isplitl [HF]
    · rw [XA_pos hn1]; iexact HF
    isplitl [HW]; · iexact HW
    isplitl [HD]; · iexact HD
    isplitl [HS]; · iexact HS
    isplitl [HQ]; · iexact HQ
    iexact HZ
  · intro hc
    have hn1 : ¬ t.val + 1 < nt := fun h => hc ((cond1_iff hv hn64 t).mpr h)
    unfold Mid2
    rw [XA_neg hn1]

end Cert.KernelIdeal.Hand
-- ==== Proof.KI.Value.lean ====
/-
  The values a tile computes.
-/
module

public import proofs.«01_k».proof.Proof.KI.State
public import proofs.«01_k».proof.Proof.KI.Copy
public import proofs.«01_k».proof.Proof.KI.Words

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

variable {fx : S12288x3072.Idx → Elt F .bf16} {fw : S8x3072x1536.Idx → Elt F .fp8e4m3} {fs : S8x96x1536.Idx → Elt F .i8} {g : S8.Idx → BitVec 32}

/-! ### The last strip and the whole copy -/

theorem agree_all {f5 : S2x256x3072.Idx → Elt F .bf16} {σ skip : ℕ} {fq : S256x3072.Idx → Elt F .bf16} (h : Agree f5 σ skip 192 fq) {r k : ℕ} (hr : r < 256) (hk : k < 3072) :
    fq (gx2 r k) = rowT f5 σ skip r k := by
  have e0 : ((gx2 r k : S256x3072.Idx) 0).val = r := gx2_0 _ _ hr
  have e1 : ((gx2 r k : S256x3072.Idx) 1).val = k := gx2_1 _ _ hk
  have := h (gx2 r k) (by rw [e0, e1]; omega)
  rw [e0, e1] at this; exact this

/-- The rows of a tile in the left operand. -/
theorem xq_row {f5 : S2x256x3072.Idx → Elt F .bf16} {σ R E : ℕ} {fq : S256x3072.Idx → Elt F .bf16} (h : Agree f5 σ (R - min R 12032) 192 fq)
    (h5 : ∀ r j, r < 256 → j < 3072 → f5 (ix5 σ r j) = fx (gx2 (min R 12032 + r) j)) (hE : E ≤ 12288) (hd : 16 ∣ R) (hle : E ≤ R + 256)
    {r k : ℕ} (hr : r < E - R) (hk : k < 3072) : fq (gx2 r k) = fx (gx2 (R + r) k) := by
  rw [agree_all h (by omega) hk]
  unfold rowT
  rw [h5 _ _ (by omega) hk]
  congr 2; omega

/-! ### The rows taken over from the tile before -/

theorem rt_cases (lead : BitVec 32) (cf : S16x1536.Idx → Elt F .bf16) (ob : S1x16x1536.Idx → Elt F .bf16) {i j : ℕ} (hi : i < 16) (hj : j < 1536) (hl : lead.toNat < 16)
    (Pr : Elt F .bf16 → Prop)
    (h1 : i < lead.toNat → Pr (truncf (F := F) .bf16 (extf (F := F) .f32 (cf : FVec F S16x1536 .bf16) bitsLt_bf16_f32) bitsLt_bf16_f32 (gx2 i j)))
    (h2 : ¬ i < lead.toNat → ∀ w : FVec F S16x1536 .bf16, w (gx2 i j) = ob (gx3 0 i j) →
      Pr (truncf (F := F) .bf16 (extf (F := F) .f32 w bitsLt_bf16_f32) bitsLt_bf16_f32 (gx2 i j))) :
    Pr (k0_pay594 (F := F) lead cf ob (gx3 0 i j)) := by
  have e1 : (gx3 0 i j : S1x16x1536.Idx) = ValueIdx.ix3 (0 : Fin 1) (⟨i, hi⟩ : Fin 16) (⟨j, hj⟩ : Fin 1536) :=
    (gx3_eq (ValueIdx.ix3 (0 : Fin 1) (⟨i, hi⟩ : Fin 16) (⟨j, hj⟩ : Fin 1536)) 0 i j rfl rfl rfl).symm
  have e2 : (gx2 i j : S16x1536.Idx) = ValueIdx.ix2 (⟨i, hi⟩ : Fin 16) (⟨j, hj⟩ : Fin 1536) :=
    (gx2_eq (ValueIdx.ix2 (⟨i, hi⟩ : Fin 16) (⟨j, hj⟩ : Fin 1536)) i j rfl rfl).symm
  unfold k0_pay594
  dsimp only
  rw [cast_add, e1]
  have e3 : (ValueIdx.ix2 ((ValueIdx.ix3 (0 : Fin 1) (⟨i, hi⟩ : Fin 16) (⟨j, hj⟩ : Fin 1536) : S1x16x1536.Idx) 1) ((ValueIdx.ix3 (0 : Fin 1) (⟨i, hi⟩ : Fin 16) (⟨j, hj⟩ : Fin 1536) : S1x16x1536.Idx) 2) : S16x1536.Idx) = gx2 i j := by
    rw [e2]
  have hc : cmpi .slt (iota .tc S16x1536 32 [0] iota_S16x1536_d0_w32) (broadcast S16x1536 lead) (gx2 i j) = 1#1 ↔ i < lead.toNat := by
    have hi2 : iota .tc S16x1536 32 [0] iota_S16x1536_d0_w32 (gx2 i j) = BitVec.ofNat 32 i := by
      rw [iota_apply, e2]; exact congrArg (BitVec.ofNat 32) (show 0 * 16 + i = i by omega)
    show IntOp.cmpi .slt (iota .tc S16x1536 32 [0] iota_S16x1536_d0_w32 (gx2 i j)) lead = 1#1 ↔ _
    rw [hi2]
    have hn : (BitVec.ofNat 32 i).toNat = i := by rw [BitVec.toNat_ofNat]; omega
    have := slt_nat (x := BitVec.ofNat 32 i) (y := lead) (by omega) (by omega)
    rw [hn] at this; exact this
  by_cases hlt : i < lead.toNat
  · have := h1 hlt
    have e : truncf (F := F) .bf16 (select (cmpi .slt (iota .tc S16x1536 32 [0] iota_S16x1536_d0_w32) (broadcast S16x1536 lead)) (extf (F := F) .f32 (cf : FVec F S16x1536 .bf16) bitsLt_bf16_f32)
        (extf .f32 (shapeCast S16x1536 ob shapeCasts_S1x16x1536_S16x1536) bitsLt_bf16_f32)) bitsLt_bf16_f32 (gx2 i j)
        = truncf (F := F) .bf16 (extf (F := F) .f32 (cf : FVec F S16x1536 .bf16) bitsLt_bf16_f32) bitsLt_bf16_f32 (gx2 i j) := by
      show FloatOps.truncf _ _ _ = FloatOps.truncf _ _ _
      congr 1
      show Scalar.select _ _ _ = _
      rw [hc.mpr hlt]; rfl
    erw [e3, e]; exact this
  · have := h2 hlt (shapeCast S16x1536 ob shapeCasts_S1x16x1536_S16x1536) (by rw [cast_drop, e1, e2])
    have e : truncf (F := F) .bf16 (select (cmpi .slt (iota .tc S16x1536 32 [0] iota_S16x1536_d0_w32) (broadcast S16x1536 lead)) (extf (F := F) .f32 (cf : FVec F S16x1536 .bf16) bitsLt_bf16_f32)
        (extf .f32 (shapeCast S16x1536 ob shapeCasts_S1x16x1536_S16x1536) bitsLt_bf16_f32)) bitsLt_bf16_f32 (gx2 i j)
        = truncf (F := F) .bf16 (extf (F := F) .f32 (shapeCast S16x1536 ob shapeCasts_S1x16x1536_S16x1536 : FVec F S16x1536 .bf16) bitsLt_bf16_f32) bitsLt_bf16_f32 (gx2 i j) := by
      show FloatOps.truncf _ _ _ = FloatOps.truncf _ _ _
      congr 1
      show Scalar.select _ _ _ = _
      exact if_neg (fun hh => hlt (hc.mp hh))
    erw [e3, e]; exact this

/-! ### A tile's rows -/

/-- The slot after the product is stored. -/
def Dot1 (σ : ℕ) (xq : S256x3072.Idx → Elt F .bf16) (dq : S3072x1536.Idx → Elt F .bf16) (f : S2x256x1536.Idx → Elt F .bf16) : Prop :=
  ∀ r j, r < 256 → j < 1536 → f (gx3 σ r j) = k0_pay593 (F := F) xq dq (gx3 0 r j)

theorem dot_write {σ : ℕ} (hσ : σ < 2) {off : Fin 3 → ℕ} {inb} (hoff : off = ![σ, 0, 0]) (f : S2x256x1536.Idx → Elt F (cc0_scratch6 : Ref sig .tc).ty.elt)
    (xq : S256x3072.Idx → Elt F .bf16) (dq : S3072x1536.Idx → Elt F .bf16) :
    Dot1 (F := F) σ xq dq ((m11.access (Rect.unit (s := S2x256x1536) off S1x256x1536.size inb)).write (Elt F) f (k0_pay593 (F := F) xq dq) Finset.univ) := by
  subst hoff
  intro r j hr hj
  have e0 : ((gx3 σ r j : S2x256x1536.Idx) 0).val = σ := gx3_0 _ _ _ hσ
  have e1 : ((gx3 σ r j : S2x256x1536.Idx) 1).val = r := gx3_1 _ _ _ hr
  have e2 : ((gx3 σ r j : S2x256x1536.Idx) 2).val = j := gx3_2 _ _ _ hj
  refine write_cases (F := F) cc0_scratch6 ![σ, 0, 0] S1x256x1536.size inb f (k0_pay593 (F := F) xq dq) (gx3 σ r j) (fun z => z = k0_pay593 (F := F) xq dq (gx3 0 r j)) ?_ ?_
  · intro x hx
    have h1 : ((gx3 σ r j : S2x256x1536.Idx) 1).val = 0 + (x 1).val := hx 1
    have h2 : ((gx3 σ r j : S2x256x1536.Idx) 2).val = 0 + (x 2).val := hx 2
    have h0 : (x 0).val < 1 := (x 0).isLt
    refine congrArg (k0_pay593 (F := F) xq dq) (gx3_eq _ _ _ _ ?_ ?_ ?_)
    · omega
    · omega
    · omega
  · intro h
    exfalso; apply h; intro a
    fin_cases a
    · exact ⟨Nat.le_of_eq e0.symm, lt_of_eq_of_lt e0 (Nat.lt_succ_self σ)⟩
    · exact ⟨Nat.zero_le _, lt_of_eq_of_lt e1 (by show r < 0 + 256; omega)⟩
    · exact ⟨Nat.zero_le _, lt_of_eq_of_lt e2 (by show j < 0 + 1536; omega)⟩

theorem tile_rows {σ R E L e : ℕ} (hσ : σ < 2) {off : Fin 3 → ℕ} {inb} (hoff : off = ![σ, 0, 0]) {f : S2x256x1536.Idx → Elt F (cc0_scratch6 : Ref sig .tc).ty.elt}
    {xq : S256x3072.Idx → Elt F .bf16} (hd : Dot1 (F := F) σ xq (dqF fw fs e) f) {lead : BitVec 32} (hlead : lead.toNat = L) (hL : L < 16)
    {cf : S16x1536.Idx → Elt F .bf16} (hE : E ≤ R + 256) (he : e < 8) (o1 : pre g e ≤ R + L) (o2 : E ≤ pre g (e + 1))
    (hxq : ∀ r k, r < E - R → k < 3072 → xq (gx2 r k) = fx (gx2 (R + r) k))
    (hc : ∀ i j, i < L → j < 1536 → Good fx fw fs g (R + i) j (cf (gx2 i j)))
    {ob : S1x16x1536.Idx → Elt F (cc0_scratch6 : Ref sig .tc).ty.elt} (hob : ∀ i j, i < 16 → j < 1536 → ob (gx3 0 i j) = f (gx3 σ i j)) :
    ObufOK fx fw fs g R E σ ((m11.access (Rect.unit (s := S2x256x1536) off S1x16x1536.size inb)).write (Elt F) f (k0_pay594 (F := F) lead cf ob) Finset.univ) := by
  subst hoff
  intro r j hr hj
  have e0 : ((gx3 σ r j : S2x256x1536.Idx) 0).val = σ := gx3_0 _ _ _ hσ
  have e1 : ((gx3 σ r j : S2x256x1536.Idx) 1).val = r := gx3_1 _ _ _ (by omega)
  have e2 : ((gx3 σ r j : S2x256x1536.Idx) 2).val = j := gx3_2 _ _ _ hj
  have hdot : ∀ r, r < E - R → Val fx fw fs e (R + r) j (f (gx3 σ r j)) := fun r hr => by
    rw [hd r j (by omega) hj]
    exact Val.dot xq r (by omega) hj (fun k hk => hxq r k hr hk)
  refine write_cases (F := F) cc0_scratch6 ![σ, 0, 0] S1x16x1536.size inb f (k0_pay594 (F := F) lead cf ob) (gx3 σ r j) (fun z => Good fx fw fs g (R + r) j z) ?_ ?_
  · intro x hx
    have h1 : ((gx3 σ r j : S2x256x1536.Idx) 1).val = 0 + (x 1).val := hx 1
    have h2 : ((gx3 σ r j : S2x256x1536.Idx) 2).val = 0 + (x 2).val := hx 2
    have h0 : (x 0).val < 1 := (x 0).isLt
    have h3 : (x 1).val < 16 := (x 1).isLt
    have hx2 : x = gx3 0 r j := gx3_eq (A := 1) (B := 16) (C := 1536) x 0 r j (by omega) (by omega) (by omega)
    rw [hx2]
    refine rt_cases lead cf ob (by omega) hj (by omega) (fun z => Good fx fw fs g (R + r) j z) ?_ ?_
    · intro hl
      obtain ⟨e', a1, a2, a3, a4⟩ := hc r j (by omega) hj
      exact ⟨e', a1, a2, a3, Val.rt _ _ a4⟩
    · intro hl w hw
      refine ⟨e, he, by omega, by omega, Val.rt _ _ ?_⟩
      rw [hw, hob r j (by omega) hj]
      exact hdot r hr
  · intro h
    have h16 : 16 ≤ r := by
      by_contra hlt
      apply h; intro a
      fin_cases a
      · exact ⟨Nat.le_of_eq e0.symm, lt_of_eq_of_lt e0 (Nat.lt_succ_self σ)⟩
      · exact ⟨Nat.zero_le _, lt_of_eq_of_lt e1 (by show r < 0 + 16; omega)⟩
      · exact ⟨Nat.zero_le _, lt_of_eq_of_lt e2 (by show j < 0 + 1536; omega)⟩
    exact ⟨e, he, by omega, by omega, hdot r hr⟩

/-- The rows kept for the next tile. -/
theorem carry_rows {σ R E : ℕ} (hd : 16 ∣ R) (hlt : R < E) {f : S2x256x1536.Idx → Elt F .bf16} (ho : ObufOK fx fw fs g R E σ f)
    {v : S1x16x1536.Idx → Elt F .bf16} (hv : ∀ i j, i < 16 → j < 1536 → v (gx3 0 i j) = f (gx3 σ ((E - 1 - R) / 16 * 16 + i) j)) :
    CarryOK fx fw fs g E (k0_pay595 (F := F) v) := by
  intro i j hi hj hrow
  have e1 : (gx3 0 i j : S1x16x1536.Idx) = ValueIdx.ix3 (0 : Fin 1) (⟨i, hi⟩ : Fin 16) (⟨j, hj⟩ : Fin 1536) :=
    (gx3_eq (ValueIdx.ix3 (0 : Fin 1) (⟨i, hi⟩ : Fin 16) (⟨j, hj⟩ : Fin 1536)) 0 i j rfl rfl rfl).symm
  have e2 : (gx2 i j : S16x1536.Idx) = ValueIdx.ix2 (⟨i, hi⟩ : Fin 16) (⟨j, hj⟩ : Fin 1536) :=
    (gx2_eq (ValueIdx.ix2 (⟨i, hi⟩ : Fin 16) (⟨j, hj⟩ : Fin 1536)) i j rfl rfl).symm
  have e3 : k0_pay595 (F := F) v (gx2 i j) = v (gx3 0 i j) := by
    unfold k0_pay595
    rw [shapeCast_self, cast_drop, e1, e2]
  rw [e3, hv i j hi hj]
  have hm : (E - 1) / 16 * 16 = R + (E - 1 - R) / 16 * 16 := by omega
  have := ho ((E - 1 - R) / 16 * 16 + i) j (by omega) hj
  rw [hm, Nat.add_assoc]; exact this

/-- The rows the tile before kept are the lead rows of this one. -/
theorem carry_lead {R L E0 : ℕ} (hd : 16 ∣ R) (hL : L < 16) (hs : R + L = E0) {cf : S16x1536.Idx → Elt F .bf16} {n : ℕ}
    (hc : 0 < n → CarryOK fx fw fs g E0 cf) (h0 : n = 0 → E0 = 0) : ∀ i j, i < L → j < 1536 → Good fx fw fs g (R + i) j (cf (gx2 i j)) := by
  intro i j hi hj
  have hn : 0 < n := by
    rcases Nat.eq_zero_or_pos n with h | h
    · have := h0 h; omega
    · exact h
  have hm : (E0 - 1) / 16 * 16 = R := by omega
  have := hc hn i j (by omega) hj (by omega)
  rw [hm] at this; exact this

end Cert.KernelIdeal.Hand
-- ==== Proof.KI.Part89.lean ====
/-
  The product of a tile and the rows it keeps.
-/
module

public import proofs.«01_k».proof.Proof.KI.Part2
public import proofs.«01_k».proof.Proof.KI.Value
public import proofs.«01_k».proof.Proof.KI.Plan

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

variable {c : Dev nD} {fx : S12288x3072.Idx → Elt F .bf16} {fw : S8x3072x1536.Idx → Elt F .fp8e4m3} {fs : S8x96x1536.Idx → Elt F .i8} {g : S8.Idx → BitVec 32}
  {f13 f14 f15 f16 f17 : S64.Idx → BitVec 32} {v1_0 : BitVec 32} {nt : ℕ} {t : Fin (k0_t4_loop v1_0).trips}

theorem in_slot6 {off size : Fin 3 → ℕ} {σ b : ℕ} (hoff : off = ![σ, b, 0]) (hs : size 0 = 1) :
    ∀ y : S2x256x1536.Idx, (∀ a, off a ≤ (y a).val ∧ (y a).val < off a + size a) → y ∈ slot6 c σ := by
  intro y hy
  subst hoff
  have h0 := hy 0
  rw [hs] at h0
  have h1 : σ ≤ (y 0).val ∧ (y 0).val < σ + 1 := h0
  refine Finset.mem_filter.mpr ⟨Finset.mem_univ _, ?_⟩
  show (y 0).val = σ
  omega

/-- A store into a slot, by what holds of it afterwards. -/
theorem str11P {α : Type} {off size : Fin 3 → ℕ} {inb} {S : Finset S2x256x1536.Idx} {f : S2x256x1536.Idx → Elt F (cc0_scratch6 : Ref sig .tc).ty.elt}
    {w : (Rect.unit (s := S2x256x1536) off size inb).shape.Idx → Elt F (cc0_scratch6 : Ref sig .tc).ty.elt} {Mk : Finset (Rect.unit (s := S2x256x1536) off size inb).shape.Idx} {hx hm}
    {Q : α → PP F} {K : PUnit → PG F α} (Pr : (S2x256x1536.Idx → Elt F .bf16) → Prop) (hMk : Mk = Finset.univ)
    (hS : ∀ y : S2x256x1536.Idx, (∀ a, off a ≤ (y a).val ∧ (y a).val < off a + size a) → y ∈ S)
    (hP : Pr ((m11.access (Rect.unit (s := S2x256x1536) off size inb)).write (Elt F) f w Finset.univ)) :
    part (F := F) c cc0_scratch6 S fullShare f
      ⊢ iprop((∀ f' : S2x256x1536.Idx → Elt F .bf16, ⌜Pr f'⌝ -∗ part (F := F) c cc0_scratch6 S fullShare f' -∗ Wp c (K ⟨⟩) Q)
      -∗ Wp c (Prog.lift (.store m11 (Rect.unit (s := S2x256x1536) off size inb) w Mk hx hm) >>= K) Q) := by
  iintro Hp HK
  iapply (str11 hMk hS) $$ Hp
  iintro Hp
  iapply HK $$ [] Hp
  ipureintro; exact hP

/-- A load of 16 rows of a slot. -/
theorem ldr11P {α : Type} {off : Fin 3 → ℕ} {inb} {hl} {σ b : ℕ} (hσ : σ < 2) (hoff : off = ![σ, b, 0]) {f : S2x256x1536.Idx → Elt F (cc0_scratch6 : Ref sig .tc).ty.elt}
    {Q : α → PP F} {K : ((Rect.unit (s := S2x256x1536) off S1x16x1536.size inb).toLoadRect.shape.Idx → Elt F (cc0_scratch6 : Ref sig .tc).ty.elt) → PG F α} :
    part (F := F) c cc0_scratch6 (slot6 c σ) fullShare f
      ⊢ iprop((∀ v : S1x16x1536.Idx → Elt F (cc0_scratch6 : Ref sig .tc).ty.elt, ⌜∀ i j, i < 16 → j < 1536 → v (gx3 0 i j) = f (gx3 σ (b + i) j)⌝ -∗ part (F := F) c cc0_scratch6 (slot6 c σ) fullShare f -∗ Wp c (K v) Q)
      -∗ Wp c (Prog.lift (.load m11 (Rect.unit (s := S2x256x1536) off S1x16x1536.size inb).toLoadRect hl) >>= K) Q) := by
  iintro Hp HK
  iapply (ldr11 (in_slot6 (c := c) hoff rfl)) $$ Hp
  iintro Hp
  iapply HK $$ [] Hp
  ipureintro
  intro i j hi hj
  subst hoff
  have e0 : ((gx3 0 i j : S1x16x1536.Idx) 0).val = 0 := gx3_0 _ _ _ (by decide)
  have e1 : ((gx3 0 i j : S1x16x1536.Idx) 1).val = i := gx3_1 _ _ _ hi
  have e2 : ((gx3 0 i j : S1x16x1536.Idx) 2).val = j := gx3_2 _ _ _ hj
  refine congrArg f (gx3_eq (A := 2) (B := 256) (C := 1536) _ _ _ _ ?_ ?_ ?_)
  · show σ + 1 * ((gx3 0 i j : S1x16x1536.Idx) 0).val = σ; omega
  · show b + 1 * ((gx3 0 i j : S1x16x1536.Idx) 1).val = b + i; omega
  · show 0 + 1 * ((gx3 0 i j : S1x16x1536.Idx) 2).val = j; omega

/-- What is held once a tile's rows are in its slot. -/
def Mid4 (c : Dev nD) (fx : S12288x3072.Idx → Elt F .bf16) (fw : S8x3072x1536.Idx → Elt F .fp8e4m3) (fs : S8x96x1536.Idx → Elt F .i8) (g : S8.Idx → BitVec 32)
    (f13 f14 f15 f16 f17 : S64.Idx → BitVec 32) (nt t : ℕ) : PP F :=
  iprop(TB c f13 f14 f15 f16 f17 ∗ owed c ∗ XIdle c fx (t % 2) ∗ XA c fx f13 nt (t + 1) ∗ WS c fw fs f16 f17 nt (t + 1) ∗ DS c fw fs f16 (t + 1) ∗ SD c
    ∗ (∃ f : S256x3072.Idx → Elt F .bf16, own (F := F) c cc0_scratch5 f) ∗ (∃ f : S16x1536.Idx → Elt F .bf16, own (F := F) c cc0_scratch7 f)
    ∗ OP c fx fw fs g f13 f14 t
    ∗ (∃ fo : S2x256x1536.Idx → Elt F .bf16, ⌜ObufOK fx fw fs g (rd f13 t).toNat (rd f14 t).toNat (t % 2) fo⌝ ∗ part c cc0_scratch6 (slot6 c (t % 2)) fullShare fo))

set_option maxHeartbeats 4000000 in
theorem part89 (hnt : nt ≤ 56) (hp : Plan g f13 f14 f15 f16 f17 nt) (htn : t.val < nt) {hw6 : k0_chk6 v1_0} {f5 : S2x256x3072.Idx → Elt F .bf16}
    (hx5 : ∀ r j, r < 256 → j < 3072 → f5 (ix5 (t.val % 2) r j) = fx (gx2 (min (rd f13 t.val).toNat 12032 + r) j)) {arg22 v72 : BitVec 32} {Q : _ → PP F}
    (H : ∀ v, CarryOK fx fw fs g (rd f14 t.val).toNat (k0_pay595 (F := F) v) → Mid4 c fx fw fs g f13 f14 f15 f16 f17 nt t.val ⊢ Q v) :
    InvB (Fr2 c fx fw fs f13 f14 f15 f16 f17 nt t.val iprop(CS c fx fw fs g f14 t.val ∗ OP c fx fw fs g f13 f14 t.val ∗ OX c t.val)) c f5 (t.val % 2)
        ((rd f13 t.val).toNat - min (rd f13 t.val).toNat 12032) 191
      ⊢ Wp c (k0_part89 (F := F) m0 h0 m1 h1 m2 h2 m3 h3 m4 h4 m5 h5 m6 h6 m7 h7 m8 h8 m9 h9 m10 h10 m11 h11 m12 h12 m13 h13 m14 h14 m15 h15 m16 h16 m17 h17 s18 s19 s20 s21 v1_0 hw6 t arg22 v72 (rd f13 t.val) (st f5 (t.val % 2) ((rd f13 t.val).toNat - min (rd f13 t.val).toNat 12032) 15 22)
          (st f5 (t.val % 2) ((rd f13 t.val).toNat - min (rd f13 t.val).toNat 12032) 15 23)) Q := by
  have ht64 : t.val < 64 := by omega
  have hT := hp t.val htn
  have hlt := hT.tw.lt
  have hle := hT.tw.le
  have htop := hT.tw.top
  have hdv := hT.tw.dvd
  have hσ : t.val % 2 < 2 := Nat.mod_lt _ (by decide)
  rw [k0_part89_eq_skeleton]; unfold k0_part89_skel
  refine step_dead fun v3550 => ?_
  refine step_st (by omega) 15 11 (by decide) (by decide) rfl rfl rfl ?_ rfl
  unfold InvB Fr2 TB CS OX DS
  iintro ⟨H5, ⟨%fq, %hq, Hq⟩, ⟨H13, H14, H15, H16, H17⟩, HO, ⟨Hx, Hv⟩, HX2, HW, ⟨%fd, %hfd, HD⟩, HS, ⟨%cf, %hcf, HC⟩, HP, %fo0, Ho⟩
  have hfd2 : fd = dqF fw fs (rd f16 t.val).toNat := by have := hfd (Nat.succ_pos _); rwa [Nat.add_sub_cancel] at this
  subst hfd2
  iapply (ldw10) $$ Hq; iintro Hq
  iapply (ldw8) $$ HD; iintro HD
  iapply (ldr11 (in_slot6 (c := c) (off50_eq t ht64) rfl)) $$ Ho; iintro Ho
  iapply (str11P (Dot1 (F := F) (t.val % 2) fq (dqF fw fs (rd f16 t.val).toNat)) rfl (in_slot6 (c := c) (off50_eq t ht64) rfl) (dot_write hσ (off50_eq t ht64) fo0 fq _)) $$ Ho
  iintro %fo1 %hfo1 Ho
  iapply (ld15 t.val (off51_eq t ht64)) $$ H15; iintro H15
  iapply (ldw12) $$ HC; iintro HC
  iapply (ldr11P hσ (off52_eq t ht64)) $$ Ho
  iintro %ob %hob Ho
  iapply (ldr11 (in_slot6 (c := c) (off52_eq t ht64) rfl)) $$ Ho; iintro Ho
  iapply (str11P (ObufOK fx fw fs g (rd f13 t.val).toNat (rd f14 t.val).toNat (t.val % 2)) rfl (in_slot6 (c := c) (off52_eq t ht64) rfl)
    (tile_rows hσ (off52_eq t ht64) hfo1 rfl hT.lead hle hT.exp (by rw [hT.start]; exact hT.own1) hT.own2
      (fun r k hr hk => xq_row hq hx5 htop hdv hle hr hk)
      (carry_lead hdv hT.lead hT.start hcf (fun h0 => by rw [h0]; rfl))
      (fun i j hi hj => by rw [hob i j hi hj, Nat.zero_add]))) $$ Ho
  iintro %fo2 %hfo2 Ho
  iapply (ld14 t.val (off51_eq t ht64)) $$ H14; iintro H14
  iapply (as_rule (chk15_ok hT.tw ht64))
  iapply (ldr11P hσ (off53_eq hT.tw ht64)) $$ Ho
  iintro %v %hv Ho
  iapply (ret_rule)
  iapply (H v (carry_rows hdv hlt hfo2 hv))
  unfold Mid4 TB XIdle DS
  isplitl [H13 H14 H15 H16 H17]
  · isplitl [H13]; · iexact H13
    isplitl [H14]; · iexact H14
    isplitl [H15]; · iexact H15
    isplitl [H16]; · iexact H16
    iexact H17
  isplitl [HO]; · iexact HO
  isplitl [Hx Hv H5]
  · isplitl [Hx]; · iexact Hx
    isplitl [H5]
    · iexists _; iexact H5
    iexact Hv
  isplitl [HX2]; · iexact HX2
  isplitl [HW]; · iexact HW
  isplitl [HD]
  · iexists _; isplitr
    rotate_left
    · iexact HD
    ipureintro; intro _; rw [Nat.add_sub_cancel]
  isplitl [HS]; · iexact HS
  isplitl [Hq]
  · iexists _; iexact Hq
  isplitl [HC]
  · iexists _; iexact HC
  isplitl [HP]; · iexact HP
  iexists fo2; isplitr
  · ipureintro; exact hfo2
  iexact Ho

end Cert.KernelIdeal.Hand
-- ==== Proof.KI.Part90.lean ====
/-
  The copies of a tile into the result.
-/
module

public import proofs.«01_k».proof.Proof.KI.Part89
public import proofs.«01_k».proof.Proof.KI.OutB

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

variable {c : Dev nD} {fx : S12288x3072.Idx → Elt F .bf16} {fw : S8x3072x1536.Idx → Elt F .fp8e4m3} {fs : S8x96x1536.Idx → Elt F .i8} {g : S8.Idx → BitVec 32}
  {f13 f14 f15 f16 f17 : S64.Idx → BitVec 32} {v1_0 : BitVec 32} {nt : ℕ} {t : Fin (k0_t4_loop v1_0).trips}
  {α : Type} {Q : α → PP F} {σ R k : ℕ} {fo : S2x256x1536.Idx → Elt F .bf16} {fOld : S12288x1536.Idx → Elt F .bf16} {Z : PP F}

theorem fupdWp {p : PG F α} {Q : α → PP F} : iprop(|={Set.univ}=> Wp c p Q) ⊢ Wp c p Q := by
  unfold Wp; exact fupd_wp _ _ _ _ _

theorem ret_of {P : PP F} {a : α} (H : P ⊢ Q a) : P ⊢ Wp c (pure a) Q := H.trans fupd_intro

/-- A tile's copies, the pieces before `p` awaited, with the rest of the state. -/
def WZ (c : Dev nD) (σ R k : ℕ) (fo : S2x256x1536.Idx → Elt F .bf16) (fOld : S12288x1536.Idx → Elt F .bf16) (Z : PP F) (p : ℕ) : PP F :=
  iprop(OW c σ R k fo fOld p ∗ owed c ∗ Z)

/-- A tile's copies, the pieces before `p` started, with the rest of the state. -/
def IZ (c : Dev nD) (σ R k : ℕ) (fo : S2x256x1536.Idx → Elt F .bf16) (fOld : S12288x1536.Idx → Elt F .bf16) (Z : PP F) (p : ℕ) : PP F :=
  iprop(OI c σ R k fo fOld p ∗ Z)

theorem wz_skip {p : ℕ} (hk : k < 17) (hp : p < 5) (h : ¬ pres k p) : WZ c σ R k fo fOld Z p ⊢ WZ c σ R k fo fOld Z (p + 1) := by
  unfold WZ
  iintro ⟨HW, HR⟩
  ihave HW := (ob_wskip hk hp h) $$ HW
  isplitl [HW]; · iexact HW
  iexact HR

theorem iz_skip {p : ℕ} (hk : k < 17) (hp : p < 5) (h : ¬ pres k p) : IZ c σ R k fo fOld Z p ⊢ IZ c σ R k fo fOld Z (p + 1) := by
  unfold IZ
  iintro ⟨HW, HR⟩
  ihave HW := (ob_skip hk hp h) $$ HW
  isplitl [HW]; · iexact HW
  iexact HR

theorem wz_go {p r : ℕ} (hk : k < 17) (hp : p < 5) (h : pres k p) (hr : r = 16 * bw p) {K : PUnit → PG F α}
    {cs : Space} {s' : Shape} {e' : EltTy} {srcw : Memref sig .tc cs s' e'} {offo : Fin 2 → ℕ} {inbo hso hsrc hdst}
    (H : WZ c σ R k fo fOld Z (p + 1) ⊢ Wp c (K ⟨⟩) Q) :
    WZ c σ R k fo fOld Z p
      ⊢ Wp c (Prog.lift (.waitDma2 s21.sem srcw (m4.slice (Rect.unit (s := S12288x1536) offo (⟨2, ![r, 1536]⟩ : Shape).size inbo) hso) hsrc hdst) >>= K) Q := by
  unfold WZ at H ⊢
  iintro ⟨HW, HO, HR⟩
  iapply (ob_wait (r := r) hk hp h hr) $$ [HW HO]
  · isplitl [HW]; · iexact HW
    iexact HO
  iintro ⟨HW, HO⟩
  iapply H
  isplitl [HW]; · iexact HW
  isplitl [HO]; · iexact HO
  iexact HR

theorem iz_go {p r : ℕ} (hk : k < 17) (hp : p < 5) (hσ : σ < 2) (h : pres k p) (hr : r = 16 * bw p) {K : PUnit → PG F α}
    {offo : Fin 2 → ℕ} {offb : Fin 3 → ℕ} {inbo inbb hso hsb hq hsrc hdst hsem}
    (hoffo : offo = ![R + 16 * oo k p, 0]) (hoffb : offb = ![σ, 16 * oo k p, 0]) (H : IZ c σ R k fo fOld Z (p + 1) ⊢ Wp c (K ⟨⟩) Q) :
    IZ c σ R k fo fOld Z p
      ⊢ Wp c (Prog.lift (.enqueueDma ((m11.slice (Rect.unit (s := S2x256x1536) offb (⟨3, ![1, r, 1536]⟩ : Shape).size inbb) hsb).squeeze (⟨2, ![r, 1536]⟩ : Shape) hq)
          (.here (m4.slice (Rect.unit (s := S12288x1536) offo (⟨2, ![r, 1536]⟩ : Shape).size inbo) hso)) (.dma s21.sem) hsrc hdst hsem) >>= K) Q := by
  unfold IZ at H ⊢
  iintro ⟨HW, HR⟩
  iapply (ob_issue (r := r) hk hp hσ h hr hoffo hoffb) $$ HW
  iintro HW
  iapply H
  isplitl [HW]; · iexact HW
  iexact HR

set_option maxHeartbeats 4000000 in
/-- The waits for the first three pieces of the tile before. -/
theorem part1 (ht : t.val < 64) (hpos : 0 < t.val) {E : ℕ} (hT : Tw (rd f13 (t.val - 1)) (rd f14 (t.val - 1)) R E)
    {hw6 : k0_chk6 v1_0} {arg22 : BitVec 32} {hc4 : k0_cond4 v1_0 t = 1#1} {Q : _ → PP F}
    (H : ∀ hw v, WZ c σ R (kk R E) fo fOld iprop(TB c f13 f14 f15 f16 f17 ∗ Z) 3 ⊢ Q ⟨rd f13 (t.val - 1), rd f14 (t.val - 1), hw, v⟩) :
    WZ c σ R (kk R E) fo fOld iprop(TB c f13 f14 f15 f16 f17 ∗ Z) 0
      ⊢ Wp c (k0_part1 (F := F) m0 h0 m1 h1 m2 h2 m3 h3 m4 h4 m5 h5 m6 h6 m7 h7 m8 h8 m9 h9 m10 h10 m11 h11 m12 h12 m13 h13 m14 h14 m15 h15 m16 h16 m17 h17 s18 s19 s20 s21 v1_0 hw6 t arg22 hc4) Q := by
  rw [k0_part1_eq_skeleton]; unfold k0_part1_skel
  unfold WZ TB
  iintro ⟨HW, HO, ⟨H13, H14, HT⟩, HZ⟩
  iapply (ld13 (t.val - 1) (off54_eq t ht hpos)) $$ H13; iintro H13
  iapply (ld14 (t.val - 1) (off54_eq t ht hpos)) $$ H14; iintro H14
  iapply (as_rule (chk16_ok hT ht hpos))
  iapply (step_dite (P := WZ c σ R (kk R E) fo fOld iprop(TB c f13 f14 f15 f16 f17 ∗ Z) 0) (Mid := WZ c σ R (kk R E) fo fOld iprop(TB c f13 f14 f15 f16 f17 ∗ Z) 1) ?_
    (fun hR h => wz_go hT.kk_lt (by decide) ((cond5_iff hT).mp h) rfl hR) (fun h => wz_skip hT.kk_lt (by decide) (fun h' => h ((cond5_iff hT).mpr h')))) $$ [HW HO H13 H14 HT HZ]
  · refine step_dite (Mid := WZ c σ R (kk R E) fo fOld iprop(TB c f13 f14 f15 f16 f17 ∗ Z) 2) ?_
      (fun hR h => wz_go hT.kk_lt (by decide) ((cond6_iff hT).mp h) rfl hR) (fun h => wz_skip hT.kk_lt (by decide) (fun h' => h ((cond6_iff hT).mpr h')))
    refine step_dite (Mid := WZ c σ R (kk R E) fo fOld iprop(TB c f13 f14 f15 f16 f17 ∗ Z) 3) ?_
      (fun hR h => wz_go hT.kk_lt (by decide) ((cond7_iff hT).mp h) rfl hR) (fun h => wz_skip hT.kk_lt (by decide) (fun h' => h ((cond7_iff hT).mpr h')))
    exact ret_of (H _ _)
  · unfold WZ TB
    isplitl [HW]; · iexact HW
    isplitl [HO]; · iexact HO
    isplitr [HZ]
    · isplitl [H13]; · iexact H13
      isplitl [H14]; · iexact H14
      iexact HT
    iexact HZ

/-- What is held beside the output while its copies start. -/
def Yt (c : Dev nD) (fx : S12288x3072.Idx → Elt F .bf16) (fw : S8x3072x1536.Idx → Elt F .fp8e4m3) (fs : S8x96x1536.Idx → Elt F .i8) (g : S8.Idx → BitVec 32)
    (f13 f14 f16 f17 : S64.Idx → BitVec 32) (nt t : ℕ) : PP F :=
  iprop(XIdle c fx (t % 2) ∗ XA c fx f13 nt (t + 1) ∗ WS c fw fs f16 f17 nt (t + 1) ∗ DS c fw fs f16 (t + 1) ∗ SD c
    ∗ (∃ f : S256x3072.Idx → Elt F .bf16, own (F := F) c cc0_scratch5 f) ∗ CS c fx fw fs g f14 (t + 1))

/-- The slot of the tile, filled. -/
def Sl (c : Dev nD) (fx : S12288x3072.Idx → Elt F .bf16) (fw : S8x3072x1536.Idx → Elt F .fp8e4m3) (fs : S8x96x1536.Idx → Elt F .i8) (g : S8.Idx → BitVec 32)
    (f13 f14 : S64.Idx → BitVec 32) (t : ℕ) : PP F :=
  iprop(∃ fo : S2x256x1536.Idx → Elt F .bf16, ⌜ObufOK fx fw fs g (rd f13 t).toNat (rd f14 t).toNat (t % 2) fo⌝ ∗ part c cc0_scratch6 (slot6 c (t % 2)) fullShare fo)

/-- The same with the free slot, the frame of the copies of tile `t`. -/
def Zt (c : Dev nD) (fx : S12288x3072.Idx → Elt F .bf16) (fw : S8x3072x1536.Idx → Elt F .fp8e4m3) (fs : S8x96x1536.Idx → Elt F .i8) (g : S8.Idx → BitVec 32)
    (f13 f14 f15 f16 f17 : S64.Idx → BitVec 32) (nt t : ℕ) : PP F :=
  iprop(TB c f13 f14 f15 f16 f17 ∗ owed c ∗ Yt c fx fw fs g f13 f14 f16 f17 nt t ∗ OX c (t + 1))

theorem OP_pos {t : ℕ} (h : 0 < t) : OP c fx fw fs g f13 f14 t = OV c fx fw fs g f13 f14 t 0 := if_pos h
theorem OP_neg {t : ℕ} (h : ¬ 0 < t) : OP c fx fw fs g f13 f14 t = OC c fx fw fs g f14 t := if_neg h

set_option maxHeartbeats 4000000 in
/-- The end of the copies of the tile before. -/
theorem end_prev (hp : Plan g f13 f14 f15 f16 f17 nt) {t : ℕ} (htn : t < nt) (h0 : 0 < t) (hfo : ObufOK fx fw fs g (rd f13 (t - 1)).toNat (rd f14 (t - 1)).toNat ((t - 1) % 2) fo)
    (hOld : OutOK fx fw fs g (endAt f14 (t - 1)) fOld) :
    OW c ((t - 1) % 2) (rd f13 (t - 1)).toNat (kk (rd f13 (t - 1)).toNat (rd f14 (t - 1)).toNat) fo fOld 5
      ⊢ iprop(|={Set.univ}=> OC c fx fw fs g f14 t) := by
  have hT := hp (t - 1) (by omega)
  have hs := hT.start
  have hn := out_next (fx := fx) (fw := fw) (fs := fs) (g := g) hT.tw.top (show (rd f13 (t - 1)).toNat ≤ endAt f14 (t - 1) by omega) hfo hOld
  have he : (rd f14 (t - 1)).toNat = endAt f14 t := by
    obtain ⟨n, rfl⟩ : ∃ n, t = n + 1 := ⟨t - 1, by omega⟩
    rfl
  have h2 : (t - 1) % 2 = (t + 1) % 2 := by omega
  iintro HW
  imod (ob_collect hT.tw.kk_lt) $$ HW with ⟨Ho, Hs, Hv⟩
  imodintro
  unfold OC
  iexists _
  isplitr
  rotate_left
  · isplitl [Ho]; · iexact Ho
    isplitl [Hs]
    · iexists fo; rw [← h2]; iexact Hs
    iexact Hv
  ipureintro; rw [← he]; exact hn

set_option maxHeartbeats 4000000 in
/-- The kept rows, the wait for the tile before, and the start of the tile's copies. -/
theorem part90 (hv : v1_0.toNat = nt) (hnt : nt ≤ 56) (hp : Plan g f13 f14 f15 f16 f17 nt) (htn : t.val < nt) {hw6 : k0_chk6 v1_0} {arg22 : BitVec 32} {v : S1x16x1536.Idx → Elt F .bf16}
    (hcv : CarryOK fx fw fs g (rd f14 t.val).toNat (k0_pay595 (F := F) v)) {Q : _ → PP F}
    (H : ∀ fo fOld hw a b, ObufOK fx fw fs g (rd f13 t.val).toNat (rd f14 t.val).toNat (t.val % 2) fo → OutOK fx fw fs g (endAt f14 t.val) fOld →
      IZ c (t.val % 2) (rd f13 t.val).toNat (kk (rd f13 t.val).toNat (rd f14 t.val).toNat) fo fOld (Zt c fx fw fs g f13 f14 f15 f16 f17 nt t.val) 2
        ⊢ Q ⟨rd f13 t.val, rd f14 t.val, hw, a, b⟩) :
    Mid4 c fx fw fs g f13 f14 f15 f16 f17 nt t.val ⊢ Wp c (k0_part90 (F := F) m0 h0 m1 h1 m2 h2 m3 h3 m4 h4 m5 h5 m6 h6 m7 h7 m8 h8 m9 h9 m10 h10 m11 h11 m12 h12 m13 h13 m14 h14 m15 h15 m16 h16 m17 h17 s18 s19 s20 s21 v1_0 hw6 t arg22 v) Q := by
  have ht64 : t.val < 64 := by omega
  have hT := hp t.val htn
  have hσ : t.val % 2 < 2 := Nat.mod_lt _ (by decide)
  rw [k0_part90_eq_skeleton]; unfold k0_part90_skel
  unfold Mid4
  iintro ⟨HT, HO, HX, HX2, HW, HD, HS, HQ, ⟨%fc, HC⟩, HP, HL⟩
  iapply (ldw12) $$ HC; iintro HC
  iapply (stw12 rfl) $$ HC; iintro HC
  iapply (step_dite (P := iprop(TB c f13 f14 f15 f16 f17 ∗ owed c ∗ Yt c fx fw fs g f13 f14 f16 f17 nt t.val ∗ OP c fx fw fs g f13 f14 t.val ∗ Sl c fx fw fs g f13 f14 t.val))
    (Mid := iprop(TB c f13 f14 f15 f16 f17 ∗ owed c ∗ Yt c fx fw fs g f13 f14 f16 f17 nt t.val ∗ OC c fx fw fs g f14 t.val ∗ Sl c fx fw fs g f13 f14 t.val)) ?_ ?_ ?_)
    $$ [HT HO HX HX2 HW HD HS HQ HC HP HL]
  · -- the copies
    unfold OC Sl TB
    iintro ⟨⟨H13, H14, HT⟩, HO, HY, ⟨%fOld, %hOld, Ho, Hs2, Hv⟩, ⟨%fo, %hfo, Hs⟩⟩
    iapply (ld13 t.val (off65_eq t ht64)) $$ H13; iintro H13
    iapply (ld14 t.val (off65_eq t ht64)) $$ H14; iintro H14
    iapply (as_rule (chk17_ok hT.tw ht64))
    iapply fupdWp
    imod (ob_alloc (σ := t.val % 2) (R := (rd f13 t.val).toNat) hT.tw.kk_lt) $$ [Ho Hs Hv] with HI
    · isplitl [Ho]; · iexact Ho
      isplitl [Hs]; · iexact Hs
      iexact Hv
    imodintro
    iapply (step_dite (P := IZ c (t.val % 2) (rd f13 t.val).toNat (kk (rd f13 t.val).toNat (rd f14 t.val).toNat) fo fOld (Zt c fx fw fs g f13 f14 f15 f16 f17 nt t.val) 0)
      (Mid := IZ c (t.val % 2) (rd f13 t.val).toNat (kk (rd f13 t.val).toNat (rd f14 t.val).toNat) fo fOld (Zt c fx fw fs g f13 f14 f15 f16 f17 nt t.val) 1) ?_
      (fun hR h => iz_go hT.tw.kk_lt (by decide) hσ ((cond10_iff hT.tw).mp h) rfl (off66_eq hT.tw) (off67_eq hT.tw ht64) hR)
      (fun h => iz_skip hT.tw.kk_lt (by decide) (fun h' => h ((cond10_iff hT.tw).mpr h')))) $$ [HI H13 H14 HT HO HY Hs2]
    · refine step_dite (Mid := IZ c (t.val % 2) (rd f13 t.val).toNat (kk (rd f13 t.val).toNat (rd f14 t.val).toNat) fo fOld (Zt c fx fw fs g f13 f14 f15 f16 f17 nt t.val) 2) ?_
        (fun hR h => iz_go hT.tw.kk_lt (by decide) hσ ((cond11_iff hT.tw).mp h) rfl (off68_eq hT.tw) (off69_eq hT.tw ht64) hR)
        (fun h => iz_skip hT.tw.kk_lt (by decide) (fun h' => h ((cond11_iff hT.tw).mpr h')))
      exact ret_of (H fo fOld _ _ _ hfo hOld)
    · unfold IZ Zt TB OX
      isplitl [HI]; · iexact HI
      isplitl [H13 H14 HT]
      · isplitl [H13]; · iexact H13
        isplitl [H14]; · iexact H14
        iexact HT
      isplitl [HO]; · iexact HO
      isplitl [HY]; · iexact HY
      iexact Hs2
  · -- the waits
    intro hR hc4
    have h0 : 0 < t.val := (cond4_iff hv (by omega) t).mp hc4
    have hT1 := hp (t.val - 1) (by omega)
    rw [OP_pos h0]
    unfold OV
    iintro ⟨HT, HO, HY, ⟨%fo, %fOld, %hpo, HW⟩, HL⟩
    iapply (step_bind (part1 (Z := iprop(Yt c fx fw fs g f13 f14 f16 f17 nt t.val ∗ Sl c fx fw fs g f13 f14 t.val)) ht64 h0 hT1.tw (fun hw v => ?_))) $$ [HT HO HY HW HL]
    · refine step_dite (Mid := WZ c ((t.val - 1) % 2) (rd f13 (t.val - 1)).toNat (kk (rd f13 (t.val - 1)).toNat (rd f14 (t.val - 1)).toNat) fo fOld iprop(TB c f13 f14 f15 f16 f17 ∗ Yt c fx fw fs g f13 f14 f16 f17 nt t.val ∗ Sl c fx fw fs g f13 f14 t.val) 4) ?_
        (fun hR h => wz_go hT1.tw.kk_lt (by decide) ((cond8_iff hT1.tw).mp h) rfl hR) (fun h => wz_skip hT1.tw.kk_lt (by decide) (fun h' => h ((cond8_iff hT1.tw).mpr h')))
      refine step_dite (Mid := WZ c ((t.val - 1) % 2) (rd f13 (t.val - 1)).toNat (kk (rd f13 (t.val - 1)).toNat (rd f14 (t.val - 1)).toNat) fo fOld iprop(TB c f13 f14 f15 f16 f17 ∗ Yt c fx fw fs g f13 f14 f16 f17 nt t.val ∗ Sl c fx fw fs g f13 f14 t.val) 5) ?_
        (fun hR h => wz_go hT1.tw.kk_lt (by decide) ((cond9_iff hT1.tw).mp h) rfl hR) (fun h => wz_skip hT1.tw.kk_lt (by decide) (fun h' => h ((cond9_iff hT1.tw).mpr h')))
      unfold WZ
      iintro ⟨HW, HO, HT, HY, HL⟩
      iapply fupdWp
      imod (end_prev hp htn h0 hpo.1 hpo.2) $$ HW with HC
      imodintro
      iapply hR
      isplitl [HT]; · iexact HT
      isplitl [HO]; · iexact HO
      isplitl [HY]; · iexact HY
      isplitl [HC]; · iexact HC
      iexact HL
    · unfold WZ
      isplitl [HW]; · iexact HW
      isplitl [HO]; · iexact HO
      isplitl [HT]; · iexact HT
      isplitl [HY]; · iexact HY
      iexact HL
  · intro hc4
    rw [OP_neg (fun h0 => hc4 ((cond4_iff hv (by omega) t).mpr h0))]
  · unfold Yt Sl CS
    isplitl [HT]; · iexact HT
    isplitl [HO]; · iexact HO
    isplitl [HX HX2 HW HD HS HQ HC]
    · isplitl [HX]; · iexact HX
      isplitl [HX2]; · iexact HX2
      isplitl [HW]; · iexact HW
      isplitl [HD]; · iexact HD
      isplitl [HS]; · iexact HS
      isplitl [HQ]; · iexact HQ
      iexists _
      isplitr
      rotate_left
      · iexact HC
      ipureintro; intro _; exact hcv
    isplitl [HP]; · iexact HP
    iexact HL

end Cert.KernelIdeal.Hand
-- ==== Proof.KI.Copy1.lean ====
/-
  The steps of the strip copies, parts 3 to 30 of the printed body.
-/
module

public import proofs.«01_k».proof.Proof.KI.Copy

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

variable {R : PP F} {c : Dev nD} {f5 : S2x256x3072.Idx → Elt F .bf16} {σ skip : ℕ}
variable (hlt : σ < 2) (hs : 16 ∣ skip) {v1_0 : BitVec 32} {k0_t4 : Fin (k0_t4_loop v1_0).trips} {v93 : Elt F .i32}
variable (hσ : (Scalar.andi (Scf.iv 0#32 1#32 k0_t4) 1#32).toNat = σ)
variable (hsk : (Scalar.subi v93 (Scalar.minsi v93 12032#32)).toNat = skip)
variable {k0_hw14 : k0_chk14 v1_0 k0_t4 v93}
include hlt hs hσ hsk

theorem part3 (v72 : BitVec 32) (v96 : BitVec 32) {Q : _ → PP F}
    (H : InvB R c f5 σ skip 0 ⊢ Q ⟨(st f5 σ skip 0 1), (st f5 σ skip 1 0), (st f5 σ skip 1 1), (st f5 σ skip 2 0), (st f5 σ skip 2 1), (st f5 σ skip 3 0)⟩) :
    InvB R c f5 σ skip 0 ⊢ Wp c (k0_part3 m0 h0 m1 h1 m2 h2 m3 h3 m4 h4 m5 h5 m6 h6 m7 h7 m8 h8 m9 h9 m10 h10 m11 h11 m12 h12 m13 h13 m14 h14 m15 h15 m16 h16 m17 h17 s18 s19 s20 s21 v1_0 k0_t4 v72 v93 k0_hw14 v96) Q := by
  rw [k0_part3_eq_skeleton]; unfold k0_part3_skel
  refine step_ld hlt hs 0 1 (by decide) (by decide) (offEq hσ hsk rfl) ?_
  refine step_ld hlt hs 1 0 (by decide) (by decide) (offEq hσ hsk rfl) ?_
  refine step_ld hlt hs 1 1 (by decide) (by decide) (offEq hσ hsk rfl) ?_
  refine step_ld hlt hs 2 0 (by decide) (by decide) (offEq hσ hsk rfl) ?_
  refine step_ld hlt hs 2 1 (by decide) (by decide) (offEq hσ hsk rfl) ?_
  refine step_ld hlt hs 3 0 (by decide) (by decide) (offEq hσ hsk rfl) ?_
  exact step_ret H

theorem part4 (v72 : BitVec 32) (v96 : BitVec 32) {Q : _ → PP F}
    (H : InvB R c f5 σ skip 0 ⊢ Q ⟨(st f5 σ skip 3 1), (st f5 σ skip 4 0), (st f5 σ skip 4 1), (st f5 σ skip 5 0), (st f5 σ skip 5 1), (st f5 σ skip 6 0)⟩) :
    InvB R c f5 σ skip 0 ⊢ Wp c (k0_part4 m0 h0 m1 h1 m2 h2 m3 h3 m4 h4 m5 h5 m6 h6 m7 h7 m8 h8 m9 h9 m10 h10 m11 h11 m12 h12 m13 h13 m14 h14 m15 h15 m16 h16 m17 h17 s18 s19 s20 s21 v1_0 k0_t4 v72 v93 k0_hw14 v96) Q := by
  rw [k0_part4_eq_skeleton]; unfold k0_part4_skel
  refine step_ld hlt hs 3 1 (by decide) (by decide) (offEq hσ hsk rfl) ?_
  refine step_ld hlt hs 4 0 (by decide) (by decide) (offEq hσ hsk rfl) ?_
  refine step_ld hlt hs 4 1 (by decide) (by decide) (offEq hσ hsk rfl) ?_
  refine step_ld hlt hs 5 0 (by decide) (by decide) (offEq hσ hsk rfl) ?_
  refine step_ld hlt hs 5 1 (by decide) (by decide) (offEq hσ hsk rfl) ?_
  refine step_ld hlt hs 6 0 (by decide) (by decide) (offEq hσ hsk rfl) ?_
  exact step_ret H

theorem part5 (v72 : BitVec 32) (v96 : BitVec 32) {Q : _ → PP F}
    (H : InvB R c f5 σ skip 0 ⊢ Q ⟨(st f5 σ skip 6 1), (st f5 σ skip 7 0), (st f5 σ skip 7 1), (st f5 σ skip 8 0), (st f5 σ skip 8 1), (st f5 σ skip 9 0)⟩) :
    InvB R c f5 σ skip 0 ⊢ Wp c (k0_part5 m0 h0 m1 h1 m2 h2 m3 h3 m4 h4 m5 h5 m6 h6 m7 h7 m8 h8 m9 h9 m10 h10 m11 h11 m12 h12 m13 h13 m14 h14 m15 h15 m16 h16 m17 h17 s18 s19 s20 s21 v1_0 k0_t4 v72 v93 k0_hw14 v96) Q := by
  rw [k0_part5_eq_skeleton]; unfold k0_part5_skel
  refine step_ld hlt hs 6 1 (by decide) (by decide) (offEq hσ hsk rfl) ?_
  refine step_ld hlt hs 7 0 (by decide) (by decide) (offEq hσ hsk rfl) ?_
  refine step_ld hlt hs 7 1 (by decide) (by decide) (offEq hσ hsk rfl) ?_
  refine step_ld hlt hs 8 0 (by decide) (by decide) (offEq hσ hsk rfl) ?_
  refine step_ld hlt hs 8 1 (by decide) (by decide) (offEq hσ hsk rfl) ?_
  refine step_ld hlt hs 9 0 (by decide) (by decide) (offEq hσ hsk rfl) ?_
  exact step_ret H

theorem part6 (v72 : BitVec 32) (v96 : BitVec 32) {Q : _ → PP F}
    (H : InvB R c f5 σ skip 0 ⊢ Q ⟨(st f5 σ skip 9 1), (st f5 σ skip 10 0), (st f5 σ skip 10 1), (st f5 σ skip 11 0), (st f5 σ skip 11 1), (st f5 σ skip 12 0)⟩) :
    InvB R c f5 σ skip 0 ⊢ Wp c (k0_part6 m0 h0 m1 h1 m2 h2 m3 h3 m4 h4 m5 h5 m6 h6 m7 h7 m8 h8 m9 h9 m10 h10 m11 h11 m12 h12 m13 h13 m14 h14 m15 h15 m16 h16 m17 h17 s18 s19 s20 s21 v1_0 k0_t4 v72 v93 k0_hw14 v96) Q := by
  rw [k0_part6_eq_skeleton]; unfold k0_part6_skel
  refine step_ld hlt hs 9 1 (by decide) (by decide) (offEq hσ hsk rfl) ?_
  refine step_ld hlt hs 10 0 (by decide) (by decide) (offEq hσ hsk rfl) ?_
  refine step_ld hlt hs 10 1 (by decide) (by decide) (offEq hσ hsk rfl) ?_
  refine step_ld hlt hs 11 0 (by decide) (by decide) (offEq hσ hsk rfl) ?_
  refine step_ld hlt hs 11 1 (by decide) (by decide) (offEq hσ hsk rfl) ?_
  refine step_ld hlt hs 12 0 (by decide) (by decide) (offEq hσ hsk rfl) ?_
  exact step_ret H

theorem part7 (v72 : BitVec 32) (v96 : BitVec 32) {Q : _ → PP F}
    (H : InvB R c f5 σ skip 0 ⊢ Q ⟨(st f5 σ skip 12 1), (st f5 σ skip 13 0), (st f5 σ skip 13 1), (st f5 σ skip 14 0), (st f5 σ skip 14 1), (st f5 σ skip 15 0)⟩) :
    InvB R c f5 σ skip 0 ⊢ Wp c (k0_part7 m0 h0 m1 h1 m2 h2 m3 h3 m4 h4 m5 h5 m6 h6 m7 h7 m8 h8 m9 h9 m10 h10 m11 h11 m12 h12 m13 h13 m14 h14 m15 h15 m16 h16 m17 h17 s18 s19 s20 s21 v1_0 k0_t4 v72 v93 k0_hw14 v96) Q := by
  rw [k0_part7_eq_skeleton]; unfold k0_part7_skel
  refine step_ld hlt hs 12 1 (by decide) (by decide) (offEq hσ hsk rfl) ?_
  refine step_ld hlt hs 13 0 (by decide) (by decide) (offEq hσ hsk rfl) ?_
  refine step_ld hlt hs 13 1 (by decide) (by decide) (offEq hσ hsk rfl) ?_
  refine step_ld hlt hs 14 0 (by decide) (by decide) (offEq hσ hsk rfl) ?_
  refine step_ld hlt hs 14 1 (by decide) (by decide) (offEq hσ hsk rfl) ?_
  refine step_ld hlt hs 15 0 (by decide) (by decide) (offEq hσ hsk rfl) ?_
  exact step_ret H

theorem part8 {Q : _ → PP F}
    (H : InvB R c f5 σ skip 8 ⊢ Q ⟨(st f5 σ skip 15 1), (cat f5 σ skip 8 0)⟩) :
    InvB R c f5 σ skip 0 ⊢ Wp c (k0_part8 m0 h0 m1 h1 m2 h2 m3 h3 m4 h4 m5 h5 m6 h6 m7 h7 m8 h8 m9 h9 m10 h10 m11 h11 m12 h12 m13 h13 m14 h14 m15 h15 m16 h16 m17 h17 s18 s19 s20 s21 v1_0 k0_t4 v93 k0_hw14 (st f5 σ skip 0 0) (st f5 σ skip 0 1) (st f5 σ skip 1 0) (st f5 σ skip 1 1) (st f5 σ skip 2 0) (st f5 σ skip 2 1) (st f5 σ skip 3 0) (st f5 σ skip 3 1) (st f5 σ skip 4 0) (st f5 σ skip 4 1) (st f5 σ skip 5 0) (st f5 σ skip 5 1) (st f5 σ skip 6 0) (st f5 σ skip 6 1) (st f5 σ skip 7 0) (st f5 σ skip 7 1) (st f5 σ skip 8 0) (st f5 σ skip 8 1)) Q := by
  rw [k0_part8_eq_skeleton]; unfold k0_part8_skel
  refine step_ld hlt hs 15 1 (by decide) (by decide) (offEq hσ hsk rfl) ?_
  refine step_dead fun v322 => ?_
  refine step_st hs 0 0 (by decide) (by decide) rfl rfl rfl ?_ rfl
  refine step_dead fun v326 => ?_
  refine step_st hs 1 0 (by decide) (by decide) rfl rfl rfl ?_ rfl
  refine step_dead fun v330 => ?_
  refine step_st hs 2 0 (by decide) (by decide) rfl rfl rfl ?_ rfl
  refine step_dead fun v334 => ?_
  refine step_st hs 3 0 (by decide) (by decide) rfl rfl rfl ?_ rfl
  refine step_dead fun v338 => ?_
  refine step_st hs 4 0 (by decide) (by decide) rfl rfl rfl ?_ rfl
  refine step_dead fun v342 => ?_
  refine step_st hs 5 0 (by decide) (by decide) rfl rfl rfl ?_ rfl
  refine step_dead fun v346 => ?_
  refine step_st hs 6 0 (by decide) (by decide) rfl rfl rfl ?_ rfl
  refine step_dead fun v350 => ?_
  refine step_st hs 7 0 (by decide) (by decide) rfl rfl rfl ?_ rfl
  exact step_ret H

theorem part9 (v96 : BitVec 32) {Q : _ → PP F}
    (H : InvB R c f5 σ skip 16 ⊢ Q (Scalar.andi (Scalar.addi v96 0#32) 255#32)) :
    InvB R c f5 σ skip 8 ⊢ Wp c (k0_part9 m0 h0 m1 h1 m2 h2 m3 h3 m4 h4 m5 h5 m6 h6 m7 h7 m8 h8 m9 h9 m10 h10 m11 h11 m12 h12 m13 h13 m14 h14 m15 h15 m16 h16 m17 h17 s18 s19 s20 s21 v96 (st f5 σ skip 9 0) (st f5 σ skip 9 1) (st f5 σ skip 10 0) (st f5 σ skip 10 1) (st f5 σ skip 11 0) (st f5 σ skip 11 1) (st f5 σ skip 12 0) (st f5 σ skip 12 1) (st f5 σ skip 13 0) (st f5 σ skip 13 1) (st f5 σ skip 14 0) (st f5 σ skip 14 1) (st f5 σ skip 15 0) (st f5 σ skip 15 1) (cat f5 σ skip 8 0)) Q := by
  rw [k0_part9_eq_skeleton]; unfold k0_part9_skel
  refine step_dead fun v354 => ?_
  refine step_st hs 8 0 (by decide) (by decide) rfl rfl rfl ?_ rfl
  refine step_dead fun v358 => ?_
  refine step_st hs 9 0 (by decide) (by decide) rfl rfl rfl ?_ rfl
  refine step_dead fun v362 => ?_
  refine step_st hs 10 0 (by decide) (by decide) rfl rfl rfl ?_ rfl
  refine step_dead fun v366 => ?_
  refine step_st hs 11 0 (by decide) (by decide) rfl rfl rfl ?_ rfl
  refine step_dead fun v370 => ?_
  refine step_st hs 12 0 (by decide) (by decide) rfl rfl rfl ?_ rfl
  refine step_dead fun v374 => ?_
  refine step_st hs 13 0 (by decide) (by decide) rfl rfl rfl ?_ rfl
  refine step_dead fun v378 => ?_
  refine step_st hs 14 0 (by decide) (by decide) rfl rfl rfl ?_ rfl
  refine step_dead fun v382 => ?_
  refine step_st hs 15 0 (by decide) (by decide) rfl rfl rfl ?_ rfl
  exact step_ret H

theorem part10 (v72 : BitVec 32) (v96 : BitVec 32) (v387 : BitVec 32) {Q : _ → PP F}
    (H : InvB R c f5 σ skip 16 ⊢ Q ⟨(st f5 σ skip 0 2), (st f5 σ skip 0 3), (st f5 σ skip 1 2), (st f5 σ skip 1 3), (st f5 σ skip 2 2), (st f5 σ skip 2 3), (Scalar.andi (Scalar.addi v96 48#32) 255#32)⟩) :
    InvB R c f5 σ skip 16 ⊢ Wp c (k0_part10 m0 h0 m1 h1 m2 h2 m3 h3 m4 h4 m5 h5 m6 h6 m7 h7 m8 h8 m9 h9 m10 h10 m11 h11 m12 h12 m13 h13 m14 h14 m15 h15 m16 h16 m17 h17 s18 s19 s20 s21 v1_0 k0_t4 v72 v93 k0_hw14 v96 v387) Q := by
  rw [k0_part10_eq_skeleton]; unfold k0_part10_skel
  refine step_ld hlt hs 0 2 (by decide) (by decide) (offEq hσ hsk rfl) ?_
  refine step_ld hlt hs 0 3 (by decide) (by decide) (offEq hσ hsk rfl) ?_
  refine step_ld hlt hs 1 2 (by decide) (by decide) (offEq hσ hsk rfl) ?_
  refine step_ld hlt hs 1 3 (by decide) (by decide) (offEq hσ hsk rfl) ?_
  refine step_ld hlt hs 2 2 (by decide) (by decide) (offEq hσ hsk rfl) ?_
  refine step_ld hlt hs 2 3 (by decide) (by decide) (offEq hσ hsk rfl) ?_
  exact step_ret H

theorem part11 (v72 : BitVec 32) (v96 : BitVec 32) (v429 : BitVec 32) {Q : _ → PP F}
    (H : InvB R c f5 σ skip 16 ⊢ Q ⟨(st f5 σ skip 3 2), (st f5 σ skip 3 3), (st f5 σ skip 4 2), (st f5 σ skip 4 3), (st f5 σ skip 5 2), (st f5 σ skip 5 3), (Scalar.andi (Scalar.addi v96 96#32) 255#32)⟩) :
    InvB R c f5 σ skip 16 ⊢ Wp c (k0_part11 m0 h0 m1 h1 m2 h2 m3 h3 m4 h4 m5 h5 m6 h6 m7 h7 m8 h8 m9 h9 m10 h10 m11 h11 m12 h12 m13 h13 m14 h14 m15 h15 m16 h16 m17 h17 s18 s19 s20 s21 v1_0 k0_t4 v72 v93 k0_hw14 v96 v429) Q := by
  rw [k0_part11_eq_skeleton]; unfold k0_part11_skel
  refine step_ld hlt hs 3 2 (by decide) (by decide) (offEq hσ hsk rfl) ?_
  refine step_ld hlt hs 3 3 (by decide) (by decide) (offEq hσ hsk rfl) ?_
  refine step_ld hlt hs 4 2 (by decide) (by decide) (offEq hσ hsk rfl) ?_
  refine step_ld hlt hs 4 3 (by decide) (by decide) (offEq hσ hsk rfl) ?_
  refine step_ld hlt hs 5 2 (by decide) (by decide) (offEq hσ hsk rfl) ?_
  refine step_ld hlt hs 5 3 (by decide) (by decide) (offEq hσ hsk rfl) ?_
  exact step_ret H

theorem part12 (v72 : BitVec 32) (v96 : BitVec 32) (v471 : BitVec 32) {Q : _ → PP F}
    (H : InvB R c f5 σ skip 16 ⊢ Q ⟨(st f5 σ skip 6 2), (st f5 σ skip 6 3), (st f5 σ skip 7 2), (st f5 σ skip 7 3), (st f5 σ skip 8 2), (st f5 σ skip 8 3), (Scalar.andi (Scalar.addi v96 144#32) 255#32)⟩) :
    InvB R c f5 σ skip 16 ⊢ Wp c (k0_part12 m0 h0 m1 h1 m2 h2 m3 h3 m4 h4 m5 h5 m6 h6 m7 h7 m8 h8 m9 h9 m10 h10 m11 h11 m12 h12 m13 h13 m14 h14 m15 h15 m16 h16 m17 h17 s18 s19 s20 s21 v1_0 k0_t4 v72 v93 k0_hw14 v96 v471) Q := by
  rw [k0_part12_eq_skeleton]; unfold k0_part12_skel
  refine step_ld hlt hs 6 2 (by decide) (by decide) (offEq hσ hsk rfl) ?_
  refine step_ld hlt hs 6 3 (by decide) (by decide) (offEq hσ hsk rfl) ?_
  refine step_ld hlt hs 7 2 (by decide) (by decide) (offEq hσ hsk rfl) ?_
  refine step_ld hlt hs 7 3 (by decide) (by decide) (offEq hσ hsk rfl) ?_
  refine step_ld hlt hs 8 2 (by decide) (by decide) (offEq hσ hsk rfl) ?_
  refine step_ld hlt hs 8 3 (by decide) (by decide) (offEq hσ hsk rfl) ?_
  exact step_ret H

theorem part13 (v72 : BitVec 32) (v96 : BitVec 32) (v513 : BitVec 32) {Q : _ → PP F}
    (H : InvB R c f5 σ skip 16 ⊢ Q ⟨(st f5 σ skip 9 2), (st f5 σ skip 9 3), (st f5 σ skip 10 2), (st f5 σ skip 10 3), (st f5 σ skip 11 2), (st f5 σ skip 11 3), (Scalar.andi (Scalar.addi v96 192#32) 255#32)⟩) :
    InvB R c f5 σ skip 16 ⊢ Wp c (k0_part13 m0 h0 m1 h1 m2 h2 m3 h3 m4 h4 m5 h5 m6 h6 m7 h7 m8 h8 m9 h9 m10 h10 m11 h11 m12 h12 m13 h13 m14 h14 m15 h15 m16 h16 m17 h17 s18 s19 s20 s21 v1_0 k0_t4 v72 v93 k0_hw14 v96 v513) Q := by
  rw [k0_part13_eq_skeleton]; unfold k0_part13_skel
  refine step_ld hlt hs 9 2 (by decide) (by decide) (offEq hσ hsk rfl) ?_
  refine step_ld hlt hs 9 3 (by decide) (by decide) (offEq hσ hsk rfl) ?_
  refine step_ld hlt hs 10 2 (by decide) (by decide) (offEq hσ hsk rfl) ?_
  refine step_ld hlt hs 10 3 (by decide) (by decide) (offEq hσ hsk rfl) ?_
  refine step_ld hlt hs 11 2 (by decide) (by decide) (offEq hσ hsk rfl) ?_
  refine step_ld hlt hs 11 3 (by decide) (by decide) (offEq hσ hsk rfl) ?_
  exact step_ret H

theorem part14 (v72 : BitVec 32) (v96 : BitVec 32) (v555 : BitVec 32) {Q : _ → PP F}
    (H : InvB R c f5 σ skip 16 ⊢ Q ⟨(st f5 σ skip 12 2), (st f5 σ skip 12 3), (st f5 σ skip 13 2), (st f5 σ skip 13 3), (st f5 σ skip 14 2), (st f5 σ skip 14 3), (Scalar.andi (Scalar.addi v96 240#32) 255#32)⟩) :
    InvB R c f5 σ skip 16 ⊢ Wp c (k0_part14 m0 h0 m1 h1 m2 h2 m3 h3 m4 h4 m5 h5 m6 h6 m7 h7 m8 h8 m9 h9 m10 h10 m11 h11 m12 h12 m13 h13 m14 h14 m15 h15 m16 h16 m17 h17 s18 s19 s20 s21 v1_0 k0_t4 v72 v93 k0_hw14 v96 v555) Q := by
  rw [k0_part14_eq_skeleton]; unfold k0_part14_skel
  refine step_ld hlt hs 12 2 (by decide) (by decide) (offEq hσ hsk rfl) ?_
  refine step_ld hlt hs 12 3 (by decide) (by decide) (offEq hσ hsk rfl) ?_
  refine step_ld hlt hs 13 2 (by decide) (by decide) (offEq hσ hsk rfl) ?_
  refine step_ld hlt hs 13 3 (by decide) (by decide) (offEq hσ hsk rfl) ?_
  refine step_ld hlt hs 14 2 (by decide) (by decide) (offEq hσ hsk rfl) ?_
  refine step_ld hlt hs 14 3 (by decide) (by decide) (offEq hσ hsk rfl) ?_
  exact step_ret H

theorem part15 (v72 : BitVec 32) (v96 : BitVec 32) (v597 : BitVec 32) {Q : _ → PP F}
    (H : InvB R c f5 σ skip 22 ⊢ Q ⟨(st f5 σ skip 15 2), (st f5 σ skip 15 3), (cat f5 σ skip 6 1)⟩) :
    InvB R c f5 σ skip 16 ⊢ Wp c (k0_part15 m0 h0 m1 h1 m2 h2 m3 h3 m4 h4 m5 h5 m6 h6 m7 h7 m8 h8 m9 h9 m10 h10 m11 h11 m12 h12 m13 h13 m14 h14 m15 h15 m16 h16 m17 h17 s18 s19 s20 s21 v1_0 k0_t4 v72 v93 k0_hw14 v96 (st f5 σ skip 0 2) (st f5 σ skip 0 3) (st f5 σ skip 1 2) (st f5 σ skip 1 3) (st f5 σ skip 2 2) (st f5 σ skip 2 3) (st f5 σ skip 3 2) (st f5 σ skip 3 3) (st f5 σ skip 4 2) (st f5 σ skip 4 3) (st f5 σ skip 5 2) (st f5 σ skip 5 3) (st f5 σ skip 6 2) (st f5 σ skip 6 3) v597) Q := by
  rw [k0_part15_eq_skeleton]; unfold k0_part15_skel
  refine step_ld hlt hs 15 2 (by decide) (by decide) (offEq hσ hsk rfl) ?_
  refine step_ld hlt hs 15 3 (by decide) (by decide) (offEq hσ hsk rfl) ?_
  refine step_dead fun v610 => ?_
  refine step_st hs 0 1 (by decide) (by decide) rfl rfl rfl ?_ rfl
  refine step_dead fun v614 => ?_
  refine step_st hs 1 1 (by decide) (by decide) rfl rfl rfl ?_ rfl
  refine step_dead fun v618 => ?_
  refine step_st hs 2 1 (by decide) (by decide) rfl rfl rfl ?_ rfl
  refine step_dead fun v622 => ?_
  refine step_st hs 3 1 (by decide) (by decide) rfl rfl rfl ?_ rfl
  refine step_dead fun v626 => ?_
  refine step_st hs 4 1 (by decide) (by decide) rfl rfl rfl ?_ rfl
  refine step_dead fun v630 => ?_
  refine step_st hs 5 1 (by decide) (by decide) rfl rfl rfl ?_ rfl
  exact step_ret H

theorem part16 {Q : _ → PP F}
    (H : InvB R c f5 σ skip 31 ⊢ Q ⟨⟩) :
    InvB R c f5 σ skip 22 ⊢ Wp c (k0_part16 m0 h0 m1 h1 m2 h2 m3 h3 m4 h4 m5 h5 m6 h6 m7 h7 m8 h8 m9 h9 m10 h10 m11 h11 m12 h12 m13 h13 m14 h14 m15 h15 m16 h16 m17 h17 s18 s19 s20 s21 (st f5 σ skip 7 2) (st f5 σ skip 7 3) (st f5 σ skip 8 2) (st f5 σ skip 8 3) (st f5 σ skip 9 2) (st f5 σ skip 9 3) (st f5 σ skip 10 2) (st f5 σ skip 10 3) (st f5 σ skip 11 2) (st f5 σ skip 11 3) (st f5 σ skip 12 2) (st f5 σ skip 12 3) (st f5 σ skip 13 2) (st f5 σ skip 13 3) (st f5 σ skip 14 2) (st f5 σ skip 14 3) (cat f5 σ skip 6 1)) Q := by
  rw [k0_part16_eq_skeleton]; unfold k0_part16_skel
  refine step_dead fun v634 => ?_
  refine step_st hs 6 1 (by decide) (by decide) rfl rfl rfl ?_ rfl
  refine step_dead fun v638 => ?_
  refine step_st hs 7 1 (by decide) (by decide) rfl rfl rfl ?_ rfl
  refine step_dead fun v642 => ?_
  refine step_st hs 8 1 (by decide) (by decide) rfl rfl rfl ?_ rfl
  refine step_dead fun v646 => ?_
  refine step_st hs 9 1 (by decide) (by decide) rfl rfl rfl ?_ rfl
  refine step_dead fun v650 => ?_
  refine step_st hs 10 1 (by decide) (by decide) rfl rfl rfl ?_ rfl
  refine step_dead fun v654 => ?_
  refine step_st hs 11 1 (by decide) (by decide) rfl rfl rfl ?_ rfl
  refine step_dead fun v658 => ?_
  refine step_st hs 12 1 (by decide) (by decide) rfl rfl rfl ?_ rfl
  refine step_dead fun v662 => ?_
  refine step_st hs 13 1 (by decide) (by decide) rfl rfl rfl ?_ rfl
  refine step_dead fun v666 => ?_
  refine step_st hs 14 1 (by decide) (by decide) rfl rfl rfl ?_ rfl
  exact step_ret H

theorem part17 (v72 : BitVec 32) (v96 : BitVec 32) {Q : _ → PP F}
    (H : InvB R c f5 σ skip 32 ⊢ Q ⟨(st f5 σ skip 0 4), (st f5 σ skip 0 5), (st f5 σ skip 1 4), (st f5 σ skip 1 5), (st f5 σ skip 2 4), (Scalar.addi v96 32#32), 255#32⟩) :
    InvB R c f5 σ skip 31 ⊢ Wp c (k0_part17 m0 h0 m1 h1 m2 h2 m3 h3 m4 h4 m5 h5 m6 h6 m7 h7 m8 h8 m9 h9 m10 h10 m11 h11 m12 h12 m13 h13 m14 h14 m15 h15 m16 h16 m17 h17 s18 s19 s20 s21 v1_0 k0_t4 v72 v93 k0_hw14 v96 (st f5 σ skip 15 2) (st f5 σ skip 15 3)) Q := by
  rw [k0_part17_eq_skeleton]; unfold k0_part17_skel
  refine step_dead fun v670 => ?_
  refine step_st hs 15 1 (by decide) (by decide) rfl rfl rfl ?_ rfl
  refine step_ld hlt hs 0 4 (by decide) (by decide) (offEq hσ hsk rfl) ?_
  refine step_ld hlt hs 0 5 (by decide) (by decide) (offEq hσ hsk rfl) ?_
  refine step_ld hlt hs 1 4 (by decide) (by decide) (offEq hσ hsk rfl) ?_
  refine step_ld hlt hs 1 5 (by decide) (by decide) (offEq hσ hsk rfl) ?_
  refine step_ld hlt hs 2 4 (by decide) (by decide) (offEq hσ hsk rfl) ?_
  exact step_ret H

theorem part18 (v72 : BitVec 32) (v96 : BitVec 32) (v708 : BitVec 32) (c255_i32_284 : BitVec 32) {Q : _ → PP F}
    (H : InvB R c f5 σ skip 32 ⊢ Q ⟨(st f5 σ skip 2 5), (st f5 σ skip 3 4), (st f5 σ skip 3 5), (st f5 σ skip 4 4), (st f5 σ skip 4 5), (st f5 σ skip 5 4), (Scalar.addi v96 80#32), 255#32⟩) :
    InvB R c f5 σ skip 32 ⊢ Wp c (k0_part18 m0 h0 m1 h1 m2 h2 m3 h3 m4 h4 m5 h5 m6 h6 m7 h7 m8 h8 m9 h9 m10 h10 m11 h11 m12 h12 m13 h13 m14 h14 m15 h15 m16 h16 m17 h17 s18 s19 s20 s21 v1_0 k0_t4 v72 v93 k0_hw14 v96 v708 c255_i32_284) Q := by
  rw [k0_part18_eq_skeleton]; unfold k0_part18_skel
  refine step_ld hlt hs 2 5 (by decide) (by decide) (offEq hσ hsk rfl) ?_
  refine step_ld hlt hs 3 4 (by decide) (by decide) (offEq hσ hsk rfl) ?_
  refine step_ld hlt hs 3 5 (by decide) (by decide) (offEq hσ hsk rfl) ?_
  refine step_ld hlt hs 4 4 (by decide) (by decide) (offEq hσ hsk rfl) ?_
  refine step_ld hlt hs 4 5 (by decide) (by decide) (offEq hσ hsk rfl) ?_
  refine step_ld hlt hs 5 4 (by decide) (by decide) (offEq hσ hsk rfl) ?_
  exact step_ret H

theorem part19 (v72 : BitVec 32) (v96 : BitVec 32) (v750 : BitVec 32) (c255_i32_302 : BitVec 32) {Q : _ → PP F}
    (H : InvB R c f5 σ skip 32 ⊢ Q ⟨(st f5 σ skip 5 5), (st f5 σ skip 6 4), (st f5 σ skip 6 5), (st f5 σ skip 7 4), (st f5 σ skip 7 5), (st f5 σ skip 8 4), (Scalar.addi v96 128#32), 255#32⟩) :
    InvB R c f5 σ skip 32 ⊢ Wp c (k0_part19 m0 h0 m1 h1 m2 h2 m3 h3 m4 h4 m5 h5 m6 h6 m7 h7 m8 h8 m9 h9 m10 h10 m11 h11 m12 h12 m13 h13 m14 h14 m15 h15 m16 h16 m17 h17 s18 s19 s20 s21 v1_0 k0_t4 v72 v93 k0_hw14 v96 v750 c255_i32_302) Q := by
  rw [k0_part19_eq_skeleton]; unfold k0_part19_skel
  refine step_ld hlt hs 5 5 (by decide) (by decide) (offEq hσ hsk rfl) ?_
  refine step_ld hlt hs 6 4 (by decide) (by decide) (offEq hσ hsk rfl) ?_
  refine step_ld hlt hs 6 5 (by decide) (by decide) (offEq hσ hsk rfl) ?_
  refine step_ld hlt hs 7 4 (by decide) (by decide) (offEq hσ hsk rfl) ?_
  refine step_ld hlt hs 7 5 (by decide) (by decide) (offEq hσ hsk rfl) ?_
  refine step_ld hlt hs 8 4 (by decide) (by decide) (offEq hσ hsk rfl) ?_
  exact step_ret H

theorem part20 (v72 : BitVec 32) (v96 : BitVec 32) (v792 : BitVec 32) (c255_i32_320 : BitVec 32) {Q : _ → PP F}
    (H : InvB R c f5 σ skip 32 ⊢ Q ⟨(st f5 σ skip 8 5), (st f5 σ skip 9 4), (st f5 σ skip 9 5), (st f5 σ skip 10 4), (st f5 σ skip 10 5), (st f5 σ skip 11 4), (Scalar.addi v96 176#32), 255#32⟩) :
    InvB R c f5 σ skip 32 ⊢ Wp c (k0_part20 m0 h0 m1 h1 m2 h2 m3 h3 m4 h4 m5 h5 m6 h6 m7 h7 m8 h8 m9 h9 m10 h10 m11 h11 m12 h12 m13 h13 m14 h14 m15 h15 m16 h16 m17 h17 s18 s19 s20 s21 v1_0 k0_t4 v72 v93 k0_hw14 v96 v792 c255_i32_320) Q := by
  rw [k0_part20_eq_skeleton]; unfold k0_part20_skel
  refine step_ld hlt hs 8 5 (by decide) (by decide) (offEq hσ hsk rfl) ?_
  refine step_ld hlt hs 9 4 (by decide) (by decide) (offEq hσ hsk rfl) ?_
  refine step_ld hlt hs 9 5 (by decide) (by decide) (offEq hσ hsk rfl) ?_
  refine step_ld hlt hs 10 4 (by decide) (by decide) (offEq hσ hsk rfl) ?_
  refine step_ld hlt hs 10 5 (by decide) (by decide) (offEq hσ hsk rfl) ?_
  refine step_ld hlt hs 11 4 (by decide) (by decide) (offEq hσ hsk rfl) ?_
  exact step_ret H

theorem part21 (v72 : BitVec 32) (v96 : BitVec 32) (v834 : BitVec 32) (c255_i32_338 : BitVec 32) {Q : _ → PP F}
    (H : InvB R c f5 σ skip 32 ⊢ Q ⟨(st f5 σ skip 11 5), (st f5 σ skip 12 4), (st f5 σ skip 12 5), (st f5 σ skip 13 4), (st f5 σ skip 13 5), (st f5 σ skip 14 4), (Scalar.addi v96 224#32), 255#32⟩) :
    InvB R c f5 σ skip 32 ⊢ Wp c (k0_part21 m0 h0 m1 h1 m2 h2 m3 h3 m4 h4 m5 h5 m6 h6 m7 h7 m8 h8 m9 h9 m10 h10 m11 h11 m12 h12 m13 h13 m14 h14 m15 h15 m16 h16 m17 h17 s18 s19 s20 s21 v1_0 k0_t4 v72 v93 k0_hw14 v96 v834 c255_i32_338) Q := by
  rw [k0_part21_eq_skeleton]; unfold k0_part21_skel
  refine step_ld hlt hs 11 5 (by decide) (by decide) (offEq hσ hsk rfl) ?_
  refine step_ld hlt hs 12 4 (by decide) (by decide) (offEq hσ hsk rfl) ?_
  refine step_ld hlt hs 12 5 (by decide) (by decide) (offEq hσ hsk rfl) ?_
  refine step_ld hlt hs 13 4 (by decide) (by decide) (offEq hσ hsk rfl) ?_
  refine step_ld hlt hs 13 5 (by decide) (by decide) (offEq hσ hsk rfl) ?_
  refine step_ld hlt hs 14 4 (by decide) (by decide) (offEq hσ hsk rfl) ?_
  exact step_ret H

theorem part22 (v72 : BitVec 32) (v96 : BitVec 32) (v876 : BitVec 32) (c255_i32_356 : BitVec 32) {Q : _ → PP F}
    (H : InvB R c f5 σ skip 36 ⊢ Q ⟨(st f5 σ skip 14 5), (st f5 σ skip 15 4), (st f5 σ skip 15 5), (cat f5 σ skip 4 2)⟩) :
    InvB R c f5 σ skip 32 ⊢ Wp c (k0_part22 m0 h0 m1 h1 m2 h2 m3 h3 m4 h4 m5 h5 m6 h6 m7 h7 m8 h8 m9 h9 m10 h10 m11 h11 m12 h12 m13 h13 m14 h14 m15 h15 m16 h16 m17 h17 s18 s19 s20 s21 v1_0 k0_t4 v72 v93 k0_hw14 v96 (st f5 σ skip 0 4) (st f5 σ skip 0 5) (st f5 σ skip 1 4) (st f5 σ skip 1 5) (st f5 σ skip 2 4) (st f5 σ skip 2 5) (st f5 σ skip 3 4) (st f5 σ skip 3 5) (st f5 σ skip 4 4) (st f5 σ skip 4 5) v876 c255_i32_356) Q := by
  rw [k0_part22_eq_skeleton]; unfold k0_part22_skel
  refine step_ld hlt hs 14 5 (by decide) (by decide) (offEq hσ hsk rfl) ?_
  refine step_ld hlt hs 15 4 (by decide) (by decide) (offEq hσ hsk rfl) ?_
  refine step_ld hlt hs 15 5 (by decide) (by decide) (offEq hσ hsk rfl) ?_
  refine step_dead fun v898 => ?_
  refine step_st hs 0 2 (by decide) (by decide) rfl rfl rfl ?_ rfl
  refine step_dead fun v902 => ?_
  refine step_st hs 1 2 (by decide) (by decide) rfl rfl rfl ?_ rfl
  refine step_dead fun v906 => ?_
  refine step_st hs 2 2 (by decide) (by decide) rfl rfl rfl ?_ rfl
  refine step_dead fun v910 => ?_
  refine step_st hs 3 2 (by decide) (by decide) rfl rfl rfl ?_ rfl
  refine step_dead fun v914 => ?_
  exact step_ret H

theorem part23 {Q : _ → PP F}
    (H : InvB R c f5 σ skip 45 ⊢ Q (cat f5 σ skip 13 2)) :
    InvB R c f5 σ skip 36 ⊢ Wp c (k0_part23 m0 h0 m1 h1 m2 h2 m3 h3 m4 h4 m5 h5 m6 h6 m7 h7 m8 h8 m9 h9 m10 h10 m11 h11 m12 h12 m13 h13 m14 h14 m15 h15 m16 h16 m17 h17 s18 s19 s20 s21 (st f5 σ skip 5 4) (st f5 σ skip 5 5) (st f5 σ skip 6 4) (st f5 σ skip 6 5) (st f5 σ skip 7 4) (st f5 σ skip 7 5) (st f5 σ skip 8 4) (st f5 σ skip 8 5) (st f5 σ skip 9 4) (st f5 σ skip 9 5) (st f5 σ skip 10 4) (st f5 σ skip 10 5) (st f5 σ skip 11 4) (st f5 σ skip 11 5) (st f5 σ skip 12 4) (st f5 σ skip 12 5) (st f5 σ skip 13 4) (st f5 σ skip 13 5) (cat f5 σ skip 4 2)) Q := by
  rw [k0_part23_eq_skeleton]; unfold k0_part23_skel
  refine step_st hs 4 2 (by decide) (by decide) rfl rfl rfl ?_ rfl
  refine step_dead fun v918 => ?_
  refine step_st hs 5 2 (by decide) (by decide) rfl rfl rfl ?_ rfl
  refine step_dead fun v922 => ?_
  refine step_st hs 6 2 (by decide) (by decide) rfl rfl rfl ?_ rfl
  refine step_dead fun v926 => ?_
  refine step_st hs 7 2 (by decide) (by decide) rfl rfl rfl ?_ rfl
  refine step_dead fun v930 => ?_
  refine step_st hs 8 2 (by decide) (by decide) rfl rfl rfl ?_ rfl
  refine step_dead fun v934 => ?_
  refine step_st hs 9 2 (by decide) (by decide) rfl rfl rfl ?_ rfl
  refine step_dead fun v938 => ?_
  refine step_st hs 10 2 (by decide) (by decide) rfl rfl rfl ?_ rfl
  refine step_dead fun v942 => ?_
  refine step_st hs 11 2 (by decide) (by decide) rfl rfl rfl ?_ rfl
  refine step_dead fun v946 => ?_
  refine step_st hs 12 2 (by decide) (by decide) rfl rfl rfl ?_ rfl
  exact step_ret H

theorem part24 (v72 : BitVec 32) (v96 : BitVec 32) {Q : _ → PP F}
    (H : InvB R c f5 σ skip 48 ⊢ Q ⟨(st f5 σ skip 0 6), (st f5 σ skip 0 7), (st f5 σ skip 1 6), (st f5 σ skip 1 7), 32#32⟩) :
    InvB R c f5 σ skip 45 ⊢ Wp c (k0_part24 m0 h0 m1 h1 m2 h2 m3 h3 m4 h4 m5 h5 m6 h6 m7 h7 m8 h8 m9 h9 m10 h10 m11 h11 m12 h12 m13 h13 m14 h14 m15 h15 m16 h16 m17 h17 s18 s19 s20 s21 v1_0 k0_t4 v72 v93 k0_hw14 v96 (st f5 σ skip 14 4) (st f5 σ skip 14 5) (st f5 σ skip 15 4) (st f5 σ skip 15 5) (cat f5 σ skip 13 2)) Q := by
  rw [k0_part24_eq_skeleton]; unfold k0_part24_skel
  refine step_dead fun v950 => ?_
  refine step_st hs 13 2 (by decide) (by decide) rfl rfl rfl ?_ rfl
  refine step_dead fun v954 => ?_
  refine step_st hs 14 2 (by decide) (by decide) rfl rfl rfl ?_ rfl
  refine step_dead fun v958 => ?_
  refine step_st hs 15 2 (by decide) (by decide) rfl rfl rfl ?_ rfl
  refine step_ld hlt hs 0 6 (by decide) (by decide) (offEq hσ hsk rfl) ?_
  refine step_ld hlt hs 0 7 (by decide) (by decide) (offEq hσ hsk rfl) ?_
  refine step_ld hlt hs 1 6 (by decide) (by decide) (offEq hσ hsk rfl) ?_
  refine step_ld hlt hs 1 7 (by decide) (by decide) (offEq hσ hsk rfl) ?_
  exact step_ret H

theorem part25 (v72 : BitVec 32) (v96 : BitVec 32) (c32_i32_406 : BitVec 32) {Q : _ → PP F}
    (H : InvB R c f5 σ skip 48 ⊢ Q ⟨(st f5 σ skip 2 6), (st f5 σ skip 2 7), (st f5 σ skip 3 6), (st f5 σ skip 3 7), (st f5 σ skip 4 6), (st f5 σ skip 4 7), 80#32⟩) :
    InvB R c f5 σ skip 48 ⊢ Wp c (k0_part25 m0 h0 m1 h1 m2 h2 m3 h3 m4 h4 m5 h5 m6 h6 m7 h7 m8 h8 m9 h9 m10 h10 m11 h11 m12 h12 m13 h13 m14 h14 m15 h15 m16 h16 m17 h17 s18 s19 s20 s21 v1_0 k0_t4 v72 v93 k0_hw14 v96 c32_i32_406) Q := by
  rw [k0_part25_eq_skeleton]; unfold k0_part25_skel
  refine step_ld hlt hs 2 6 (by decide) (by decide) (offEq hσ hsk rfl) ?_
  refine step_ld hlt hs 2 7 (by decide) (by decide) (offEq hσ hsk rfl) ?_
  refine step_ld hlt hs 3 6 (by decide) (by decide) (offEq hσ hsk rfl) ?_
  refine step_ld hlt hs 3 7 (by decide) (by decide) (offEq hσ hsk rfl) ?_
  refine step_ld hlt hs 4 6 (by decide) (by decide) (offEq hσ hsk rfl) ?_
  refine step_ld hlt hs 4 7 (by decide) (by decide) (offEq hσ hsk rfl) ?_
  exact step_ret H

theorem part26 (v72 : BitVec 32) (v96 : BitVec 32) (c80_i32_424 : BitVec 32) {Q : _ → PP F}
    (H : InvB R c f5 σ skip 48 ⊢ Q ⟨(st f5 σ skip 5 6), (st f5 σ skip 5 7), (st f5 σ skip 6 6), (st f5 σ skip 6 7), (st f5 σ skip 7 6), (st f5 σ skip 7 7), 128#32⟩) :
    InvB R c f5 σ skip 48 ⊢ Wp c (k0_part26 m0 h0 m1 h1 m2 h2 m3 h3 m4 h4 m5 h5 m6 h6 m7 h7 m8 h8 m9 h9 m10 h10 m11 h11 m12 h12 m13 h13 m14 h14 m15 h15 m16 h16 m17 h17 s18 s19 s20 s21 v1_0 k0_t4 v72 v93 k0_hw14 v96 c80_i32_424) Q := by
  rw [k0_part26_eq_skeleton]; unfold k0_part26_skel
  refine step_ld hlt hs 5 6 (by decide) (by decide) (offEq hσ hsk rfl) ?_
  refine step_ld hlt hs 5 7 (by decide) (by decide) (offEq hσ hsk rfl) ?_
  refine step_ld hlt hs 6 6 (by decide) (by decide) (offEq hσ hsk rfl) ?_
  refine step_ld hlt hs 6 7 (by decide) (by decide) (offEq hσ hsk rfl) ?_
  refine step_ld hlt hs 7 6 (by decide) (by decide) (offEq hσ hsk rfl) ?_
  refine step_ld hlt hs 7 7 (by decide) (by decide) (offEq hσ hsk rfl) ?_
  exact step_ret H

theorem part27 (v72 : BitVec 32) (v96 : BitVec 32) (c128_i32_442 : BitVec 32) {Q : _ → PP F}
    (H : InvB R c f5 σ skip 48 ⊢ Q ⟨(st f5 σ skip 8 6), (st f5 σ skip 8 7), (st f5 σ skip 9 6), (st f5 σ skip 9 7), (st f5 σ skip 10 6), (st f5 σ skip 10 7), 176#32⟩) :
    InvB R c f5 σ skip 48 ⊢ Wp c (k0_part27 m0 h0 m1 h1 m2 h2 m3 h3 m4 h4 m5 h5 m6 h6 m7 h7 m8 h8 m9 h9 m10 h10 m11 h11 m12 h12 m13 h13 m14 h14 m15 h15 m16 h16 m17 h17 s18 s19 s20 s21 v1_0 k0_t4 v72 v93 k0_hw14 v96 c128_i32_442) Q := by
  rw [k0_part27_eq_skeleton]; unfold k0_part27_skel
  refine step_ld hlt hs 8 6 (by decide) (by decide) (offEq hσ hsk rfl) ?_
  refine step_ld hlt hs 8 7 (by decide) (by decide) (offEq hσ hsk rfl) ?_
  refine step_ld hlt hs 9 6 (by decide) (by decide) (offEq hσ hsk rfl) ?_
  refine step_ld hlt hs 9 7 (by decide) (by decide) (offEq hσ hsk rfl) ?_
  refine step_ld hlt hs 10 6 (by decide) (by decide) (offEq hσ hsk rfl) ?_
  refine step_ld hlt hs 10 7 (by decide) (by decide) (offEq hσ hsk rfl) ?_
  exact step_ret H

theorem part28 (v72 : BitVec 32) (v96 : BitVec 32) (c176_i32_460 : BitVec 32) {Q : _ → PP F}
    (H : InvB R c f5 σ skip 48 ⊢ Q ⟨(st f5 σ skip 11 6), (st f5 σ skip 11 7), (st f5 σ skip 12 6), (st f5 σ skip 12 7), (st f5 σ skip 13 6), (st f5 σ skip 13 7), 224#32⟩) :
    InvB R c f5 σ skip 48 ⊢ Wp c (k0_part28 m0 h0 m1 h1 m2 h2 m3 h3 m4 h4 m5 h5 m6 h6 m7 h7 m8 h8 m9 h9 m10 h10 m11 h11 m12 h12 m13 h13 m14 h14 m15 h15 m16 h16 m17 h17 s18 s19 s20 s21 v1_0 k0_t4 v72 v93 k0_hw14 v96 c176_i32_460) Q := by
  rw [k0_part28_eq_skeleton]; unfold k0_part28_skel
  refine step_ld hlt hs 11 6 (by decide) (by decide) (offEq hσ hsk rfl) ?_
  refine step_ld hlt hs 11 7 (by decide) (by decide) (offEq hσ hsk rfl) ?_
  refine step_ld hlt hs 12 6 (by decide) (by decide) (offEq hσ hsk rfl) ?_
  refine step_ld hlt hs 12 7 (by decide) (by decide) (offEq hσ hsk rfl) ?_
  refine step_ld hlt hs 13 6 (by decide) (by decide) (offEq hσ hsk rfl) ?_
  refine step_ld hlt hs 13 7 (by decide) (by decide) (offEq hσ hsk rfl) ?_
  exact step_ret H

theorem part29 (v72 : BitVec 32) (v96 : BitVec 32) (c224_i32_478 : BitVec 32) {Q : _ → PP F}
    (H : InvB R c f5 σ skip 51 ⊢ Q ⟨(st f5 σ skip 14 6), (st f5 σ skip 14 7), (st f5 σ skip 15 6), (st f5 σ skip 15 7)⟩) :
    InvB R c f5 σ skip 48 ⊢ Wp c (k0_part29 m0 h0 m1 h1 m2 h2 m3 h3 m4 h4 m5 h5 m6 h6 m7 h7 m8 h8 m9 h9 m10 h10 m11 h11 m12 h12 m13 h13 m14 h14 m15 h15 m16 h16 m17 h17 s18 s19 s20 s21 v1_0 k0_t4 v72 v93 k0_hw14 v96 (st f5 σ skip 0 6) (st f5 σ skip 0 7) (st f5 σ skip 1 6) (st f5 σ skip 1 7) (st f5 σ skip 2 6) (st f5 σ skip 2 7) c224_i32_478) Q := by
  rw [k0_part29_eq_skeleton]; unfold k0_part29_skel
  refine step_ld hlt hs 14 6 (by decide) (by decide) (offEq hσ hsk rfl) ?_
  refine step_ld hlt hs 14 7 (by decide) (by decide) (offEq hσ hsk rfl) ?_
  refine step_ld hlt hs 15 6 (by decide) (by decide) (offEq hσ hsk rfl) ?_
  refine step_ld hlt hs 15 7 (by decide) (by decide) (offEq hσ hsk rfl) ?_
  refine step_dead fun v1186 => ?_
  refine step_st hs 0 3 (by decide) (by decide) rfl rfl rfl ?_ rfl
  refine step_dead fun v1190 => ?_
  refine step_st hs 1 3 (by decide) (by decide) rfl rfl rfl ?_ rfl
  refine step_dead fun v1194 => ?_
  refine step_st hs 2 3 (by decide) (by decide) rfl rfl rfl ?_ rfl
  exact step_ret H

theorem part30 {Q : _ → PP F}
    (H : ∀ v1230, InvB R c f5 σ skip 59 ⊢ Q ⟨(cat f5 σ skip 11 3), v1230⟩) :
    InvB R c f5 σ skip 51 ⊢ Wp c (k0_part30 m0 h0 m1 h1 m2 h2 m3 h3 m4 h4 m5 h5 m6 h6 m7 h7 m8 h8 m9 h9 m10 h10 m11 h11 m12 h12 m13 h13 m14 h14 m15 h15 m16 h16 m17 h17 s18 s19 s20 s21 (st f5 σ skip 3 6) (st f5 σ skip 3 7) (st f5 σ skip 4 6) (st f5 σ skip 4 7) (st f5 σ skip 5 6) (st f5 σ skip 5 7) (st f5 σ skip 6 6) (st f5 σ skip 6 7) (st f5 σ skip 7 6) (st f5 σ skip 7 7) (st f5 σ skip 8 6) (st f5 σ skip 8 7) (st f5 σ skip 9 6) (st f5 σ skip 9 7) (st f5 σ skip 10 6) (st f5 σ skip 10 7) (st f5 σ skip 11 6) (st f5 σ skip 11 7)) Q := by
  rw [k0_part30_eq_skeleton]; unfold k0_part30_skel
  refine step_dead fun v1198 => ?_
  refine step_st hs 3 3 (by decide) (by decide) rfl rfl rfl ?_ rfl
  refine step_dead fun v1202 => ?_
  refine step_st hs 4 3 (by decide) (by decide) rfl rfl rfl ?_ rfl
  refine step_dead fun v1206 => ?_
  refine step_st hs 5 3 (by decide) (by decide) rfl rfl rfl ?_ rfl
  refine step_dead fun v1210 => ?_
  refine step_st hs 6 3 (by decide) (by decide) rfl rfl rfl ?_ rfl
  refine step_dead fun v1214 => ?_
  refine step_st hs 7 3 (by decide) (by decide) rfl rfl rfl ?_ rfl
  refine step_dead fun v1218 => ?_
  refine step_st hs 8 3 (by decide) (by decide) rfl rfl rfl ?_ rfl
  refine step_dead fun v1222 => ?_
  refine step_st hs 9 3 (by decide) (by decide) rfl rfl rfl ?_ rfl
  refine step_dead fun v1226 => ?_
  refine step_st hs 10 3 (by decide) (by decide) rfl rfl rfl ?_ rfl
  refine step_dead fun v1230 => ?_
  exact step_ret (H v1230)

end Cert.KernelIdeal.Hand
-- ==== Proof.KI.Copy2.lean ====
/-
  The steps of the strip copies, parts 31 to 59 of the printed body.
-/
module

public import proofs.«01_k».proof.Proof.KI.Copy

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

variable {R : PP F} {c : Dev nD} {f5 : S2x256x3072.Idx → Elt F .bf16} {σ skip : ℕ}
variable (hlt : σ < 2) (hs : 16 ∣ skip) {v1_0 : BitVec 32} {k0_t4 : Fin (k0_t4_loop v1_0).trips} {v93 : Elt F .i32}
variable (hσ : (Scalar.andi (Scf.iv 0#32 1#32 k0_t4) 1#32).toNat = σ)
variable (hsk : (Scalar.subi v93 (Scalar.minsi v93 12032#32)).toNat = skip)
variable {k0_hw14 : k0_chk14 v1_0 k0_t4 v93}
include hlt hs hσ hsk

theorem part31 (v72 : BitVec 32) (v96 : BitVec 32) (v1230 : Vec F S16x256 .bf16) {Q : _ → PP F}
    (H : InvB R c f5 σ skip 64 ⊢ Q ⟨(st f5 σ skip 0 8), (st f5 σ skip 0 9), (st3 f5 σ skip 1 8)⟩) :
    InvB R c f5 σ skip 59 ⊢ Wp c (k0_part31 m0 h0 m1 h1 m2 h2 m3 h3 m4 h4 m5 h5 m6 h6 m7 h7 m8 h8 m9 h9 m10 h10 m11 h11 m12 h12 m13 h13 m14 h14 m15 h15 m16 h16 m17 h17 s18 s19 s20 s21 v1_0 k0_t4 v72 v93 k0_hw14 v96 (st f5 σ skip 12 6) (st f5 σ skip 12 7) (st f5 σ skip 13 6) (st f5 σ skip 13 7) (st f5 σ skip 14 6) (st f5 σ skip 14 7) (st f5 σ skip 15 6) (st f5 σ skip 15 7) (cat f5 σ skip 11 3) v1230) Q := by
  rw [k0_part31_eq_skeleton]; unfold k0_part31_skel
  refine step_st hs 11 3 (by decide) (by decide) rfl rfl rfl ?_ rfl
  refine step_dead fun v1234 => ?_
  refine step_st hs 12 3 (by decide) (by decide) rfl rfl rfl ?_ rfl
  refine step_dead fun v1238 => ?_
  refine step_st hs 13 3 (by decide) (by decide) rfl rfl rfl ?_ rfl
  refine step_dead fun v1242 => ?_
  refine step_st hs 14 3 (by decide) (by decide) rfl rfl rfl ?_ rfl
  refine step_dead fun v1246 => ?_
  refine step_st hs 15 3 (by decide) (by decide) rfl rfl rfl ?_ rfl
  refine step_ld hlt hs 0 8 (by decide) (by decide) (offEq hσ hsk rfl) ?_
  refine step_ld hlt hs 0 9 (by decide) (by decide) (offEq hσ hsk rfl) ?_
  refine step_ld hlt hs 1 8 (by decide) (by decide) (offEq hσ hsk rfl) ?_
  exact step_ret H

theorem part32 (v72 : BitVec 32) (v96 : BitVec 32) {Q : _ → PP F}
    (H : InvB R c f5 σ skip 64 ⊢ Q ⟨(st f5 σ skip 1 8), (st f5 σ skip 1 9), (st f5 σ skip 2 8), (st f5 σ skip 2 9), (st f5 σ skip 3 8), (st f5 σ skip 3 9), (st3 f5 σ skip 4 8)⟩) :
    InvB R c f5 σ skip 64 ⊢ Wp c (k0_part32 m0 h0 m1 h1 m2 h2 m3 h3 m4 h4 m5 h5 m6 h6 m7 h7 m8 h8 m9 h9 m10 h10 m11 h11 m12 h12 m13 h13 m14 h14 m15 h15 m16 h16 m17 h17 s18 s19 s20 s21 v1_0 k0_t4 v72 v93 k0_hw14 v96 (st3 f5 σ skip 1 8)) Q := by
  rw [k0_part32_eq_skeleton]; unfold k0_part32_skel
  refine step_ld hlt hs 1 9 (by decide) (by decide) (offEq hσ hsk rfl) ?_
  refine step_ld hlt hs 2 8 (by decide) (by decide) (offEq hσ hsk rfl) ?_
  refine step_ld hlt hs 2 9 (by decide) (by decide) (offEq hσ hsk rfl) ?_
  refine step_ld hlt hs 3 8 (by decide) (by decide) (offEq hσ hsk rfl) ?_
  refine step_ld hlt hs 3 9 (by decide) (by decide) (offEq hσ hsk rfl) ?_
  refine step_ld hlt hs 4 8 (by decide) (by decide) (offEq hσ hsk rfl) ?_
  exact step_ret H

theorem part33 (v72 : BitVec 32) (v96 : BitVec 32) {Q : _ → PP F}
    (H : InvB R c f5 σ skip 64 ⊢ Q ⟨(st f5 σ skip 4 8), (st f5 σ skip 4 9), (st f5 σ skip 5 8), (st f5 σ skip 5 9), (st f5 σ skip 6 8), (st f5 σ skip 6 9), (st3 f5 σ skip 7 8)⟩) :
    InvB R c f5 σ skip 64 ⊢ Wp c (k0_part33 m0 h0 m1 h1 m2 h2 m3 h3 m4 h4 m5 h5 m6 h6 m7 h7 m8 h8 m9 h9 m10 h10 m11 h11 m12 h12 m13 h13 m14 h14 m15 h15 m16 h16 m17 h17 s18 s19 s20 s21 v1_0 k0_t4 v72 v93 k0_hw14 v96 (st3 f5 σ skip 4 8)) Q := by
  rw [k0_part33_eq_skeleton]; unfold k0_part33_skel
  refine step_ld hlt hs 4 9 (by decide) (by decide) (offEq hσ hsk rfl) ?_
  refine step_ld hlt hs 5 8 (by decide) (by decide) (offEq hσ hsk rfl) ?_
  refine step_ld hlt hs 5 9 (by decide) (by decide) (offEq hσ hsk rfl) ?_
  refine step_ld hlt hs 6 8 (by decide) (by decide) (offEq hσ hsk rfl) ?_
  refine step_ld hlt hs 6 9 (by decide) (by decide) (offEq hσ hsk rfl) ?_
  refine step_ld hlt hs 7 8 (by decide) (by decide) (offEq hσ hsk rfl) ?_
  exact step_ret H

theorem part34 (v72 : BitVec 32) (v96 : BitVec 32) {Q : _ → PP F}
    (H : InvB R c f5 σ skip 64 ⊢ Q ⟨(st f5 σ skip 7 8), (st f5 σ skip 7 9), (st f5 σ skip 8 8), (st f5 σ skip 8 9), (st f5 σ skip 9 8), (st f5 σ skip 9 9), (st3 f5 σ skip 10 8)⟩) :
    InvB R c f5 σ skip 64 ⊢ Wp c (k0_part34 m0 h0 m1 h1 m2 h2 m3 h3 m4 h4 m5 h5 m6 h6 m7 h7 m8 h8 m9 h9 m10 h10 m11 h11 m12 h12 m13 h13 m14 h14 m15 h15 m16 h16 m17 h17 s18 s19 s20 s21 v1_0 k0_t4 v72 v93 k0_hw14 v96 (st3 f5 σ skip 7 8)) Q := by
  rw [k0_part34_eq_skeleton]; unfold k0_part34_skel
  refine step_ld hlt hs 7 9 (by decide) (by decide) (offEq hσ hsk rfl) ?_
  refine step_ld hlt hs 8 8 (by decide) (by decide) (offEq hσ hsk rfl) ?_
  refine step_ld hlt hs 8 9 (by decide) (by decide) (offEq hσ hsk rfl) ?_
  refine step_ld hlt hs 9 8 (by decide) (by decide) (offEq hσ hsk rfl) ?_
  refine step_ld hlt hs 9 9 (by decide) (by decide) (offEq hσ hsk rfl) ?_
  refine step_ld hlt hs 10 8 (by decide) (by decide) (offEq hσ hsk rfl) ?_
  exact step_ret H

theorem part35 (v72 : BitVec 32) (v96 : BitVec 32) {Q : _ → PP F}
    (H : InvB R c f5 σ skip 64 ⊢ Q ⟨(st f5 σ skip 10 8), (st f5 σ skip 10 9), (st f5 σ skip 11 8), (st f5 σ skip 11 9), (st f5 σ skip 12 8), (st f5 σ skip 12 9), (st3 f5 σ skip 13 8)⟩) :
    InvB R c f5 σ skip 64 ⊢ Wp c (k0_part35 m0 h0 m1 h1 m2 h2 m3 h3 m4 h4 m5 h5 m6 h6 m7 h7 m8 h8 m9 h9 m10 h10 m11 h11 m12 h12 m13 h13 m14 h14 m15 h15 m16 h16 m17 h17 s18 s19 s20 s21 v1_0 k0_t4 v72 v93 k0_hw14 v96 (st3 f5 σ skip 10 8)) Q := by
  rw [k0_part35_eq_skeleton]; unfold k0_part35_skel
  refine step_ld hlt hs 10 9 (by decide) (by decide) (offEq hσ hsk rfl) ?_
  refine step_ld hlt hs 11 8 (by decide) (by decide) (offEq hσ hsk rfl) ?_
  refine step_ld hlt hs 11 9 (by decide) (by decide) (offEq hσ hsk rfl) ?_
  refine step_ld hlt hs 12 8 (by decide) (by decide) (offEq hσ hsk rfl) ?_
  refine step_ld hlt hs 12 9 (by decide) (by decide) (offEq hσ hsk rfl) ?_
  refine step_ld hlt hs 13 8 (by decide) (by decide) (offEq hσ hsk rfl) ?_
  exact step_ret H

theorem part36 (v72 : BitVec 32) (v96 : BitVec 32) {Q : _ → PP F}
    (H : InvB R c f5 σ skip 65 ⊢ Q ⟨(st f5 σ skip 13 8), (st f5 σ skip 13 9), (st f5 σ skip 14 8), (st f5 σ skip 14 9), (st f5 σ skip 15 8), (st f5 σ skip 15 9), (cat f5 σ skip 1 4)⟩) :
    InvB R c f5 σ skip 64 ⊢ Wp c (k0_part36 m0 h0 m1 h1 m2 h2 m3 h3 m4 h4 m5 h5 m6 h6 m7 h7 m8 h8 m9 h9 m10 h10 m11 h11 m12 h12 m13 h13 m14 h14 m15 h15 m16 h16 m17 h17 s18 s19 s20 s21 v1_0 k0_t4 v72 v93 k0_hw14 v96 (st f5 σ skip 0 8) (st f5 σ skip 0 9) (st f5 σ skip 1 8) (st f5 σ skip 1 9) (st3 f5 σ skip 13 8)) Q := by
  rw [k0_part36_eq_skeleton]; unfold k0_part36_skel
  refine step_ld hlt hs 13 9 (by decide) (by decide) (offEq hσ hsk rfl) ?_
  refine step_ld hlt hs 14 8 (by decide) (by decide) (offEq hσ hsk rfl) ?_
  refine step_ld hlt hs 14 9 (by decide) (by decide) (offEq hσ hsk rfl) ?_
  refine step_ld hlt hs 15 8 (by decide) (by decide) (offEq hσ hsk rfl) ?_
  refine step_ld hlt hs 15 9 (by decide) (by decide) (offEq hσ hsk rfl) ?_
  refine step_dead fun v1474 => ?_
  refine step_st hs 0 4 (by decide) (by decide) rfl rfl rfl ?_ rfl
  exact step_ret H

theorem part37 {Q : _ → PP F}
    (H : InvB R c f5 σ skip 73 ⊢ Q (shapeCast S16x256 (cat f5 σ skip 9 4) shapeCasts_S16x256_S16x256)) :
    InvB R c f5 σ skip 65 ⊢ Wp c (k0_part37 m0 h0 m1 h1 m2 h2 m3 h3 m4 h4 m5 h5 m6 h6 m7 h7 m8 h8 m9 h9 m10 h10 m11 h11 m12 h12 m13 h13 m14 h14 m15 h15 m16 h16 m17 h17 s18 s19 s20 s21 (st f5 σ skip 2 8) (st f5 σ skip 2 9) (st f5 σ skip 3 8) (st f5 σ skip 3 9) (st f5 σ skip 4 8) (st f5 σ skip 4 9) (st f5 σ skip 5 8) (st f5 σ skip 5 9) (st f5 σ skip 6 8) (st f5 σ skip 6 9) (st f5 σ skip 7 8) (st f5 σ skip 7 9) (st f5 σ skip 8 8) (st f5 σ skip 8 9) (st f5 σ skip 9 8) (st f5 σ skip 9 9) (cat f5 σ skip 1 4)) Q := by
  rw [k0_part37_eq_skeleton]; unfold k0_part37_skel
  refine step_dead fun v1478 => ?_
  refine step_st hs 1 4 (by decide) (by decide) rfl rfl rfl ?_ rfl
  refine step_dead fun v1482 => ?_
  refine step_st hs 2 4 (by decide) (by decide) rfl rfl rfl ?_ rfl
  refine step_dead fun v1486 => ?_
  refine step_st hs 3 4 (by decide) (by decide) rfl rfl rfl ?_ rfl
  refine step_dead fun v1490 => ?_
  refine step_st hs 4 4 (by decide) (by decide) rfl rfl rfl ?_ rfl
  refine step_dead fun v1494 => ?_
  refine step_st hs 5 4 (by decide) (by decide) rfl rfl rfl ?_ rfl
  refine step_dead fun v1498 => ?_
  refine step_st hs 6 4 (by decide) (by decide) rfl rfl rfl ?_ rfl
  refine step_dead fun v1502 => ?_
  refine step_st hs 7 4 (by decide) (by decide) rfl rfl rfl ?_ rfl
  refine step_dead fun v1506 => ?_
  refine step_st hs 8 4 (by decide) (by decide) rfl rfl rfl ?_ rfl
  refine step_dead fun v1510 => ?_
  exact step_ret H

theorem part38 (v72 : BitVec 32) (v96 : BitVec 32) {Q : _ → PP F}
    (H : InvB R c f5 σ skip 80 ⊢ Q (st f5 σ skip 0 10)) :
    InvB R c f5 σ skip 73 ⊢ Wp c (k0_part38 m0 h0 m1 h1 m2 h2 m3 h3 m4 h4 m5 h5 m6 h6 m7 h7 m8 h8 m9 h9 m10 h10 m11 h11 m12 h12 m13 h13 m14 h14 m15 h15 m16 h16 m17 h17 s18 s19 s20 s21 v1_0 k0_t4 v72 v93 k0_hw14 v96 (st f5 σ skip 10 8) (st f5 σ skip 10 9) (st f5 σ skip 11 8) (st f5 σ skip 11 9) (st f5 σ skip 12 8) (st f5 σ skip 12 9) (st f5 σ skip 13 8) (st f5 σ skip 13 9) (st f5 σ skip 14 8) (st f5 σ skip 14 9) (st f5 σ skip 15 8) (st f5 σ skip 15 9) (shapeCast S16x256 (cat f5 σ skip 9 4) shapeCasts_S16x256_S16x256)) Q := by
  rw [k0_part38_eq_skeleton]; unfold k0_part38_skel
  refine step_st hs 9 4 (by decide) (by decide) rfl rfl rfl ?_ rfl
  refine step_dead fun v1514 => ?_
  refine step_st hs 10 4 (by decide) (by decide) rfl rfl rfl ?_ rfl
  refine step_dead fun v1518 => ?_
  refine step_st hs 11 4 (by decide) (by decide) rfl rfl rfl ?_ rfl
  refine step_dead fun v1522 => ?_
  refine step_st hs 12 4 (by decide) (by decide) rfl rfl rfl ?_ rfl
  refine step_dead fun v1526 => ?_
  refine step_st hs 13 4 (by decide) (by decide) rfl rfl rfl ?_ rfl
  refine step_dead fun v1530 => ?_
  refine step_st hs 14 4 (by decide) (by decide) rfl rfl rfl ?_ rfl
  refine step_dead fun v1534 => ?_
  refine step_st hs 15 4 (by decide) (by decide) rfl rfl rfl ?_ rfl
  refine step_ld hlt hs 0 10 (by decide) (by decide) (offEq hσ hsk rfl) ?_
  exact step_ret H

theorem part39 (v72 : BitVec 32) (v96 : BitVec 32) {Q : _ → PP F}
    (H : InvB R c f5 σ skip 80 ⊢ Q ⟨(st f5 σ skip 0 11), (st f5 σ skip 1 10), (st f5 σ skip 1 11), (st f5 σ skip 2 10), (st f5 σ skip 2 11), (st f5 σ skip 3 10)⟩) :
    InvB R c f5 σ skip 80 ⊢ Wp c (k0_part39 m0 h0 m1 h1 m2 h2 m3 h3 m4 h4 m5 h5 m6 h6 m7 h7 m8 h8 m9 h9 m10 h10 m11 h11 m12 h12 m13 h13 m14 h14 m15 h15 m16 h16 m17 h17 s18 s19 s20 s21 v1_0 k0_t4 v72 v93 k0_hw14 v96) Q := by
  rw [k0_part39_eq_skeleton]; unfold k0_part39_skel
  refine step_ld hlt hs 0 11 (by decide) (by decide) (offEq hσ hsk rfl) ?_
  refine step_ld hlt hs 1 10 (by decide) (by decide) (offEq hσ hsk rfl) ?_
  refine step_ld hlt hs 1 11 (by decide) (by decide) (offEq hσ hsk rfl) ?_
  refine step_ld hlt hs 2 10 (by decide) (by decide) (offEq hσ hsk rfl) ?_
  refine step_ld hlt hs 2 11 (by decide) (by decide) (offEq hσ hsk rfl) ?_
  refine step_ld hlt hs 3 10 (by decide) (by decide) (offEq hσ hsk rfl) ?_
  exact step_ret H

theorem part40 (v72 : BitVec 32) (v96 : BitVec 32) {Q : _ → PP F}
    (H : InvB R c f5 σ skip 80 ⊢ Q ⟨(st f5 σ skip 3 11), (st f5 σ skip 4 10), (st f5 σ skip 4 11), (st f5 σ skip 5 10), (st f5 σ skip 5 11), (st f5 σ skip 6 10)⟩) :
    InvB R c f5 σ skip 80 ⊢ Wp c (k0_part40 m0 h0 m1 h1 m2 h2 m3 h3 m4 h4 m5 h5 m6 h6 m7 h7 m8 h8 m9 h9 m10 h10 m11 h11 m12 h12 m13 h13 m14 h14 m15 h15 m16 h16 m17 h17 s18 s19 s20 s21 v1_0 k0_t4 v72 v93 k0_hw14 v96) Q := by
  rw [k0_part40_eq_skeleton]; unfold k0_part40_skel
  refine step_ld hlt hs 3 11 (by decide) (by decide) (offEq hσ hsk rfl) ?_
  refine step_ld hlt hs 4 10 (by decide) (by decide) (offEq hσ hsk rfl) ?_
  refine step_ld hlt hs 4 11 (by decide) (by decide) (offEq hσ hsk rfl) ?_
  refine step_ld hlt hs 5 10 (by decide) (by decide) (offEq hσ hsk rfl) ?_
  refine step_ld hlt hs 5 11 (by decide) (by decide) (offEq hσ hsk rfl) ?_
  refine step_ld hlt hs 6 10 (by decide) (by decide) (offEq hσ hsk rfl) ?_
  exact step_ret H

theorem part41 (v72 : BitVec 32) (v96 : BitVec 32) {Q : _ → PP F}
    (H : InvB R c f5 σ skip 80 ⊢ Q ⟨(st f5 σ skip 6 11), (st f5 σ skip 7 10), (st f5 σ skip 7 11), (st f5 σ skip 8 10), (st f5 σ skip 8 11), (st f5 σ skip 9 10)⟩) :
    InvB R c f5 σ skip 80 ⊢ Wp c (k0_part41 m0 h0 m1 h1 m2 h2 m3 h3 m4 h4 m5 h5 m6 h6 m7 h7 m8 h8 m9 h9 m10 h10 m11 h11 m12 h12 m13 h13 m14 h14 m15 h15 m16 h16 m17 h17 s18 s19 s20 s21 v1_0 k0_t4 v72 v93 k0_hw14 v96) Q := by
  rw [k0_part41_eq_skeleton]; unfold k0_part41_skel
  refine step_ld hlt hs 6 11 (by decide) (by decide) (offEq hσ hsk rfl) ?_
  refine step_ld hlt hs 7 10 (by decide) (by decide) (offEq hσ hsk rfl) ?_
  refine step_ld hlt hs 7 11 (by decide) (by decide) (offEq hσ hsk rfl) ?_
  refine step_ld hlt hs 8 10 (by decide) (by decide) (offEq hσ hsk rfl) ?_
  refine step_ld hlt hs 8 11 (by decide) (by decide) (offEq hσ hsk rfl) ?_
  refine step_ld hlt hs 9 10 (by decide) (by decide) (offEq hσ hsk rfl) ?_
  exact step_ret H

theorem part42 (v72 : BitVec 32) (v96 : BitVec 32) {Q : _ → PP F}
    (H : InvB R c f5 σ skip 80 ⊢ Q ⟨(st f5 σ skip 9 11), (st f5 σ skip 10 10), (st f5 σ skip 10 11), (st f5 σ skip 11 10), (st f5 σ skip 11 11), (st f5 σ skip 12 10)⟩) :
    InvB R c f5 σ skip 80 ⊢ Wp c (k0_part42 m0 h0 m1 h1 m2 h2 m3 h3 m4 h4 m5 h5 m6 h6 m7 h7 m8 h8 m9 h9 m10 h10 m11 h11 m12 h12 m13 h13 m14 h14 m15 h15 m16 h16 m17 h17 s18 s19 s20 s21 v1_0 k0_t4 v72 v93 k0_hw14 v96) Q := by
  rw [k0_part42_eq_skeleton]; unfold k0_part42_skel
  refine step_ld hlt hs 9 11 (by decide) (by decide) (offEq hσ hsk rfl) ?_
  refine step_ld hlt hs 10 10 (by decide) (by decide) (offEq hσ hsk rfl) ?_
  refine step_ld hlt hs 10 11 (by decide) (by decide) (offEq hσ hsk rfl) ?_
  refine step_ld hlt hs 11 10 (by decide) (by decide) (offEq hσ hsk rfl) ?_
  refine step_ld hlt hs 11 11 (by decide) (by decide) (offEq hσ hsk rfl) ?_
  refine step_ld hlt hs 12 10 (by decide) (by decide) (offEq hσ hsk rfl) ?_
  exact step_ret H

theorem part43 (v72 : BitVec 32) (v96 : BitVec 32) {Q : _ → PP F}
    (H : InvB R c f5 σ skip 80 ⊢ Q ⟨(st f5 σ skip 12 11), (st f5 σ skip 13 10), (st f5 σ skip 13 11), (st f5 σ skip 14 10), (st f5 σ skip 14 11), (st f5 σ skip 15 10)⟩) :
    InvB R c f5 σ skip 80 ⊢ Wp c (k0_part43 m0 h0 m1 h1 m2 h2 m3 h3 m4 h4 m5 h5 m6 h6 m7 h7 m8 h8 m9 h9 m10 h10 m11 h11 m12 h12 m13 h13 m14 h14 m15 h15 m16 h16 m17 h17 s18 s19 s20 s21 v1_0 k0_t4 v72 v93 k0_hw14 v96) Q := by
  rw [k0_part43_eq_skeleton]; unfold k0_part43_skel
  refine step_ld hlt hs 12 11 (by decide) (by decide) (offEq hσ hsk rfl) ?_
  refine step_ld hlt hs 13 10 (by decide) (by decide) (offEq hσ hsk rfl) ?_
  refine step_ld hlt hs 13 11 (by decide) (by decide) (offEq hσ hsk rfl) ?_
  refine step_ld hlt hs 14 10 (by decide) (by decide) (offEq hσ hsk rfl) ?_
  refine step_ld hlt hs 14 11 (by decide) (by decide) (offEq hσ hsk rfl) ?_
  refine step_ld hlt hs 15 10 (by decide) (by decide) (offEq hσ hsk rfl) ?_
  exact step_ret H

theorem part44 {Q : _ → PP F}
    (H : InvB R c f5 σ skip 88 ⊢ Q ⟨(st f5 σ skip 15 11), (cat f5 σ skip 8 5)⟩) :
    InvB R c f5 σ skip 80 ⊢ Wp c (k0_part44 m0 h0 m1 h1 m2 h2 m3 h3 m4 h4 m5 h5 m6 h6 m7 h7 m8 h8 m9 h9 m10 h10 m11 h11 m12 h12 m13 h13 m14 h14 m15 h15 m16 h16 m17 h17 s18 s19 s20 s21 v1_0 k0_t4 v93 k0_hw14 (st f5 σ skip 0 10) (st f5 σ skip 0 11) (st f5 σ skip 1 10) (st f5 σ skip 1 11) (st f5 σ skip 2 10) (st f5 σ skip 2 11) (st f5 σ skip 3 10) (st f5 σ skip 3 11) (st f5 σ skip 4 10) (st f5 σ skip 4 11) (st f5 σ skip 5 10) (st f5 σ skip 5 11) (st f5 σ skip 6 10) (st f5 σ skip 6 11) (st f5 σ skip 7 10) (st f5 σ skip 7 11) (st f5 σ skip 8 10) (st f5 σ skip 8 11)) Q := by
  rw [k0_part44_eq_skeleton]; unfold k0_part44_skel
  refine step_ld hlt hs 15 11 (by decide) (by decide) (offEq hσ hsk rfl) ?_
  refine step_dead fun v1762 => ?_
  refine step_st hs 0 5 (by decide) (by decide) rfl rfl rfl ?_ rfl
  refine step_dead fun v1766 => ?_
  refine step_st hs 1 5 (by decide) (by decide) rfl rfl rfl ?_ rfl
  refine step_dead fun v1770 => ?_
  refine step_st hs 2 5 (by decide) (by decide) rfl rfl rfl ?_ rfl
  refine step_dead fun v1774 => ?_
  refine step_st hs 3 5 (by decide) (by decide) rfl rfl rfl ?_ rfl
  refine step_dead fun v1778 => ?_
  refine step_st hs 4 5 (by decide) (by decide) rfl rfl rfl ?_ rfl
  refine step_dead fun v1782 => ?_
  refine step_st hs 5 5 (by decide) (by decide) rfl rfl rfl ?_ rfl
  refine step_dead fun v1786 => ?_
  refine step_st hs 6 5 (by decide) (by decide) rfl rfl rfl ?_ rfl
  refine step_dead fun v1790 => ?_
  refine step_st hs 7 5 (by decide) (by decide) rfl rfl rfl ?_ rfl
  exact step_ret H

theorem part45 (v96 : BitVec 32) {Q : _ → PP F}
    (H : InvB R c f5 σ skip 96 ⊢ Q (Scalar.andi (Scalar.addi v96 0#32) 255#32)) :
    InvB R c f5 σ skip 88 ⊢ Wp c (k0_part45 m0 h0 m1 h1 m2 h2 m3 h3 m4 h4 m5 h5 m6 h6 m7 h7 m8 h8 m9 h9 m10 h10 m11 h11 m12 h12 m13 h13 m14 h14 m15 h15 m16 h16 m17 h17 s18 s19 s20 s21 v96 (st f5 σ skip 9 10) (st f5 σ skip 9 11) (st f5 σ skip 10 10) (st f5 σ skip 10 11) (st f5 σ skip 11 10) (st f5 σ skip 11 11) (st f5 σ skip 12 10) (st f5 σ skip 12 11) (st f5 σ skip 13 10) (st f5 σ skip 13 11) (st f5 σ skip 14 10) (st f5 σ skip 14 11) (st f5 σ skip 15 10) (st f5 σ skip 15 11) (cat f5 σ skip 8 5)) Q := by
  rw [k0_part45_eq_skeleton]; unfold k0_part45_skel
  refine step_dead fun v1794 => ?_
  refine step_st hs 8 5 (by decide) (by decide) rfl rfl rfl ?_ rfl
  refine step_dead fun v1798 => ?_
  refine step_st hs 9 5 (by decide) (by decide) rfl rfl rfl ?_ rfl
  refine step_dead fun v1802 => ?_
  refine step_st hs 10 5 (by decide) (by decide) rfl rfl rfl ?_ rfl
  refine step_dead fun v1806 => ?_
  refine step_st hs 11 5 (by decide) (by decide) rfl rfl rfl ?_ rfl
  refine step_dead fun v1810 => ?_
  refine step_st hs 12 5 (by decide) (by decide) rfl rfl rfl ?_ rfl
  refine step_dead fun v1814 => ?_
  refine step_st hs 13 5 (by decide) (by decide) rfl rfl rfl ?_ rfl
  refine step_dead fun v1818 => ?_
  refine step_st hs 14 5 (by decide) (by decide) rfl rfl rfl ?_ rfl
  refine step_dead fun v1822 => ?_
  refine step_st hs 15 5 (by decide) (by decide) rfl rfl rfl ?_ rfl
  exact step_ret H

theorem part46 (v72 : BitVec 32) (v96 : BitVec 32) (v1827 : BitVec 32) {Q : _ → PP F}
    (H : InvB R c f5 σ skip 96 ⊢ Q ⟨(st f5 σ skip 0 12), (st f5 σ skip 0 13), (st f5 σ skip 1 12), (st f5 σ skip 1 13), (st f5 σ skip 2 12), (st f5 σ skip 2 13), (Scalar.andi (Scalar.addi v96 48#32) 255#32)⟩) :
    InvB R c f5 σ skip 96 ⊢ Wp c (k0_part46 m0 h0 m1 h1 m2 h2 m3 h3 m4 h4 m5 h5 m6 h6 m7 h7 m8 h8 m9 h9 m10 h10 m11 h11 m12 h12 m13 h13 m14 h14 m15 h15 m16 h16 m17 h17 s18 s19 s20 s21 v1_0 k0_t4 v72 v93 k0_hw14 v96 v1827) Q := by
  rw [k0_part46_eq_skeleton]; unfold k0_part46_skel
  refine step_ld hlt hs 0 12 (by decide) (by decide) (offEq hσ hsk rfl) ?_
  refine step_ld hlt hs 0 13 (by decide) (by decide) (offEq hσ hsk rfl) ?_
  refine step_ld hlt hs 1 12 (by decide) (by decide) (offEq hσ hsk rfl) ?_
  refine step_ld hlt hs 1 13 (by decide) (by decide) (offEq hσ hsk rfl) ?_
  refine step_ld hlt hs 2 12 (by decide) (by decide) (offEq hσ hsk rfl) ?_
  refine step_ld hlt hs 2 13 (by decide) (by decide) (offEq hσ hsk rfl) ?_
  exact step_ret H

theorem part47 (v72 : BitVec 32) (v96 : BitVec 32) (v1869 : BitVec 32) {Q : _ → PP F}
    (H : InvB R c f5 σ skip 96 ⊢ Q ⟨(st f5 σ skip 3 12), (st f5 σ skip 3 13), (st f5 σ skip 4 12), (st f5 σ skip 4 13), (st f5 σ skip 5 12), (st f5 σ skip 5 13), (Scalar.andi (Scalar.addi v96 96#32) 255#32)⟩) :
    InvB R c f5 σ skip 96 ⊢ Wp c (k0_part47 m0 h0 m1 h1 m2 h2 m3 h3 m4 h4 m5 h5 m6 h6 m7 h7 m8 h8 m9 h9 m10 h10 m11 h11 m12 h12 m13 h13 m14 h14 m15 h15 m16 h16 m17 h17 s18 s19 s20 s21 v1_0 k0_t4 v72 v93 k0_hw14 v96 v1869) Q := by
  rw [k0_part47_eq_skeleton]; unfold k0_part47_skel
  refine step_ld hlt hs 3 12 (by decide) (by decide) (offEq hσ hsk rfl) ?_
  refine step_ld hlt hs 3 13 (by decide) (by decide) (offEq hσ hsk rfl) ?_
  refine step_ld hlt hs 4 12 (by decide) (by decide) (offEq hσ hsk rfl) ?_
  refine step_ld hlt hs 4 13 (by decide) (by decide) (offEq hσ hsk rfl) ?_
  refine step_ld hlt hs 5 12 (by decide) (by decide) (offEq hσ hsk rfl) ?_
  refine step_ld hlt hs 5 13 (by decide) (by decide) (offEq hσ hsk rfl) ?_
  exact step_ret H

theorem part48 (v72 : BitVec 32) (v96 : BitVec 32) (v1911 : BitVec 32) {Q : _ → PP F}
    (H : InvB R c f5 σ skip 96 ⊢ Q ⟨(st f5 σ skip 6 12), (st f5 σ skip 6 13), (st f5 σ skip 7 12), (st f5 σ skip 7 13), (st f5 σ skip 8 12), (st f5 σ skip 8 13), (Scalar.andi (Scalar.addi v96 144#32) 255#32)⟩) :
    InvB R c f5 σ skip 96 ⊢ Wp c (k0_part48 m0 h0 m1 h1 m2 h2 m3 h3 m4 h4 m5 h5 m6 h6 m7 h7 m8 h8 m9 h9 m10 h10 m11 h11 m12 h12 m13 h13 m14 h14 m15 h15 m16 h16 m17 h17 s18 s19 s20 s21 v1_0 k0_t4 v72 v93 k0_hw14 v96 v1911) Q := by
  rw [k0_part48_eq_skeleton]; unfold k0_part48_skel
  refine step_ld hlt hs 6 12 (by decide) (by decide) (offEq hσ hsk rfl) ?_
  refine step_ld hlt hs 6 13 (by decide) (by decide) (offEq hσ hsk rfl) ?_
  refine step_ld hlt hs 7 12 (by decide) (by decide) (offEq hσ hsk rfl) ?_
  refine step_ld hlt hs 7 13 (by decide) (by decide) (offEq hσ hsk rfl) ?_
  refine step_ld hlt hs 8 12 (by decide) (by decide) (offEq hσ hsk rfl) ?_
  refine step_ld hlt hs 8 13 (by decide) (by decide) (offEq hσ hsk rfl) ?_
  exact step_ret H

theorem part49 (v72 : BitVec 32) (v96 : BitVec 32) (v1953 : BitVec 32) {Q : _ → PP F}
    (H : InvB R c f5 σ skip 96 ⊢ Q ⟨(st f5 σ skip 9 12), (st f5 σ skip 9 13), (st f5 σ skip 10 12), (st f5 σ skip 10 13), (st f5 σ skip 11 12), (st f5 σ skip 11 13), (Scalar.andi (Scalar.addi v96 192#32) 255#32)⟩) :
    InvB R c f5 σ skip 96 ⊢ Wp c (k0_part49 m0 h0 m1 h1 m2 h2 m3 h3 m4 h4 m5 h5 m6 h6 m7 h7 m8 h8 m9 h9 m10 h10 m11 h11 m12 h12 m13 h13 m14 h14 m15 h15 m16 h16 m17 h17 s18 s19 s20 s21 v1_0 k0_t4 v72 v93 k0_hw14 v96 v1953) Q := by
  rw [k0_part49_eq_skeleton]; unfold k0_part49_skel
  refine step_ld hlt hs 9 12 (by decide) (by decide) (offEq hσ hsk rfl) ?_
  refine step_ld hlt hs 9 13 (by decide) (by decide) (offEq hσ hsk rfl) ?_
  refine step_ld hlt hs 10 12 (by decide) (by decide) (offEq hσ hsk rfl) ?_
  refine step_ld hlt hs 10 13 (by decide) (by decide) (offEq hσ hsk rfl) ?_
  refine step_ld hlt hs 11 12 (by decide) (by decide) (offEq hσ hsk rfl) ?_
  refine step_ld hlt hs 11 13 (by decide) (by decide) (offEq hσ hsk rfl) ?_
  exact step_ret H

theorem part50 (v72 : BitVec 32) (v96 : BitVec 32) (v1995 : BitVec 32) {Q : _ → PP F}
    (H : InvB R c f5 σ skip 96 ⊢ Q ⟨(st f5 σ skip 12 12), (st f5 σ skip 12 13), (st f5 σ skip 13 12), (st f5 σ skip 13 13), (st f5 σ skip 14 12), (st f5 σ skip 14 13), (Scalar.andi (Scalar.addi v96 240#32) 255#32)⟩) :
    InvB R c f5 σ skip 96 ⊢ Wp c (k0_part50 m0 h0 m1 h1 m2 h2 m3 h3 m4 h4 m5 h5 m6 h6 m7 h7 m8 h8 m9 h9 m10 h10 m11 h11 m12 h12 m13 h13 m14 h14 m15 h15 m16 h16 m17 h17 s18 s19 s20 s21 v1_0 k0_t4 v72 v93 k0_hw14 v96 v1995) Q := by
  rw [k0_part50_eq_skeleton]; unfold k0_part50_skel
  refine step_ld hlt hs 12 12 (by decide) (by decide) (offEq hσ hsk rfl) ?_
  refine step_ld hlt hs 12 13 (by decide) (by decide) (offEq hσ hsk rfl) ?_
  refine step_ld hlt hs 13 12 (by decide) (by decide) (offEq hσ hsk rfl) ?_
  refine step_ld hlt hs 13 13 (by decide) (by decide) (offEq hσ hsk rfl) ?_
  refine step_ld hlt hs 14 12 (by decide) (by decide) (offEq hσ hsk rfl) ?_
  refine step_ld hlt hs 14 13 (by decide) (by decide) (offEq hσ hsk rfl) ?_
  exact step_ret H

theorem part51 (v72 : BitVec 32) (v96 : BitVec 32) (v2037 : BitVec 32) {Q : _ → PP F}
    (H : InvB R c f5 σ skip 102 ⊢ Q ⟨(st f5 σ skip 15 12), (st f5 σ skip 15 13), (cat f5 σ skip 6 6)⟩) :
    InvB R c f5 σ skip 96 ⊢ Wp c (k0_part51 m0 h0 m1 h1 m2 h2 m3 h3 m4 h4 m5 h5 m6 h6 m7 h7 m8 h8 m9 h9 m10 h10 m11 h11 m12 h12 m13 h13 m14 h14 m15 h15 m16 h16 m17 h17 s18 s19 s20 s21 v1_0 k0_t4 v72 v93 k0_hw14 v96 (st f5 σ skip 0 12) (st f5 σ skip 0 13) (st f5 σ skip 1 12) (st f5 σ skip 1 13) (st f5 σ skip 2 12) (st f5 σ skip 2 13) (st f5 σ skip 3 12) (st f5 σ skip 3 13) (st f5 σ skip 4 12) (st f5 σ skip 4 13) (st f5 σ skip 5 12) (st f5 σ skip 5 13) (st f5 σ skip 6 12) (st f5 σ skip 6 13) v2037) Q := by
  rw [k0_part51_eq_skeleton]; unfold k0_part51_skel
  refine step_ld hlt hs 15 12 (by decide) (by decide) (offEq hσ hsk rfl) ?_
  refine step_ld hlt hs 15 13 (by decide) (by decide) (offEq hσ hsk rfl) ?_
  refine step_dead fun v2050 => ?_
  refine step_st hs 0 6 (by decide) (by decide) rfl rfl rfl ?_ rfl
  refine step_dead fun v2054 => ?_
  refine step_st hs 1 6 (by decide) (by decide) rfl rfl rfl ?_ rfl
  refine step_dead fun v2058 => ?_
  refine step_st hs 2 6 (by decide) (by decide) rfl rfl rfl ?_ rfl
  refine step_dead fun v2062 => ?_
  refine step_st hs 3 6 (by decide) (by decide) rfl rfl rfl ?_ rfl
  refine step_dead fun v2066 => ?_
  refine step_st hs 4 6 (by decide) (by decide) rfl rfl rfl ?_ rfl
  refine step_dead fun v2070 => ?_
  refine step_st hs 5 6 (by decide) (by decide) rfl rfl rfl ?_ rfl
  exact step_ret H

theorem part52 {Q : _ → PP F}
    (H : InvB R c f5 σ skip 111 ⊢ Q ⟨⟩) :
    InvB R c f5 σ skip 102 ⊢ Wp c (k0_part52 m0 h0 m1 h1 m2 h2 m3 h3 m4 h4 m5 h5 m6 h6 m7 h7 m8 h8 m9 h9 m10 h10 m11 h11 m12 h12 m13 h13 m14 h14 m15 h15 m16 h16 m17 h17 s18 s19 s20 s21 (st f5 σ skip 7 12) (st f5 σ skip 7 13) (st f5 σ skip 8 12) (st f5 σ skip 8 13) (st f5 σ skip 9 12) (st f5 σ skip 9 13) (st f5 σ skip 10 12) (st f5 σ skip 10 13) (st f5 σ skip 11 12) (st f5 σ skip 11 13) (st f5 σ skip 12 12) (st f5 σ skip 12 13) (st f5 σ skip 13 12) (st f5 σ skip 13 13) (st f5 σ skip 14 12) (st f5 σ skip 14 13) (cat f5 σ skip 6 6)) Q := by
  rw [k0_part52_eq_skeleton]; unfold k0_part52_skel
  refine step_dead fun v2074 => ?_
  refine step_st hs 6 6 (by decide) (by decide) rfl rfl rfl ?_ rfl
  refine step_dead fun v2078 => ?_
  refine step_st hs 7 6 (by decide) (by decide) rfl rfl rfl ?_ rfl
  refine step_dead fun v2082 => ?_
  refine step_st hs 8 6 (by decide) (by decide) rfl rfl rfl ?_ rfl
  refine step_dead fun v2086 => ?_
  refine step_st hs 9 6 (by decide) (by decide) rfl rfl rfl ?_ rfl
  refine step_dead fun v2090 => ?_
  refine step_st hs 10 6 (by decide) (by decide) rfl rfl rfl ?_ rfl
  refine step_dead fun v2094 => ?_
  refine step_st hs 11 6 (by decide) (by decide) rfl rfl rfl ?_ rfl
  refine step_dead fun v2098 => ?_
  refine step_st hs 12 6 (by decide) (by decide) rfl rfl rfl ?_ rfl
  refine step_dead fun v2102 => ?_
  refine step_st hs 13 6 (by decide) (by decide) rfl rfl rfl ?_ rfl
  refine step_dead fun v2106 => ?_
  refine step_st hs 14 6 (by decide) (by decide) rfl rfl rfl ?_ rfl
  exact step_ret H

theorem part53 (v72 : BitVec 32) (v96 : BitVec 32) {Q : _ → PP F}
    (H : InvB R c f5 σ skip 112 ⊢ Q ⟨(st f5 σ skip 0 14), (st f5 σ skip 0 15), (st f5 σ skip 1 14), (st f5 σ skip 1 15), (st f5 σ skip 2 14), (Scalar.addi v96 32#32), 255#32⟩) :
    InvB R c f5 σ skip 111 ⊢ Wp c (k0_part53 m0 h0 m1 h1 m2 h2 m3 h3 m4 h4 m5 h5 m6 h6 m7 h7 m8 h8 m9 h9 m10 h10 m11 h11 m12 h12 m13 h13 m14 h14 m15 h15 m16 h16 m17 h17 s18 s19 s20 s21 v1_0 k0_t4 v72 v93 k0_hw14 v96 (st f5 σ skip 15 12) (st f5 σ skip 15 13)) Q := by
  rw [k0_part53_eq_skeleton]; unfold k0_part53_skel
  refine step_dead fun v2110 => ?_
  refine step_st hs 15 6 (by decide) (by decide) rfl rfl rfl ?_ rfl
  refine step_ld hlt hs 0 14 (by decide) (by decide) (offEq hσ hsk rfl) ?_
  refine step_ld hlt hs 0 15 (by decide) (by decide) (offEq hσ hsk rfl) ?_
  refine step_ld hlt hs 1 14 (by decide) (by decide) (offEq hσ hsk rfl) ?_
  refine step_ld hlt hs 1 15 (by decide) (by decide) (offEq hσ hsk rfl) ?_
  refine step_ld hlt hs 2 14 (by decide) (by decide) (offEq hσ hsk rfl) ?_
  exact step_ret H

theorem part54 (v72 : BitVec 32) (v96 : BitVec 32) (v2148 : BitVec 32) (c255_i32_914 : BitVec 32) {Q : _ → PP F}
    (H : InvB R c f5 σ skip 112 ⊢ Q ⟨(st f5 σ skip 2 15), (st f5 σ skip 3 14), (st f5 σ skip 3 15), (st f5 σ skip 4 14), (st f5 σ skip 4 15), (st f5 σ skip 5 14), (Scalar.addi v96 80#32), 255#32⟩) :
    InvB R c f5 σ skip 112 ⊢ Wp c (k0_part54 m0 h0 m1 h1 m2 h2 m3 h3 m4 h4 m5 h5 m6 h6 m7 h7 m8 h8 m9 h9 m10 h10 m11 h11 m12 h12 m13 h13 m14 h14 m15 h15 m16 h16 m17 h17 s18 s19 s20 s21 v1_0 k0_t4 v72 v93 k0_hw14 v96 v2148 c255_i32_914) Q := by
  rw [k0_part54_eq_skeleton]; unfold k0_part54_skel
  refine step_ld hlt hs 2 15 (by decide) (by decide) (offEq hσ hsk rfl) ?_
  refine step_ld hlt hs 3 14 (by decide) (by decide) (offEq hσ hsk rfl) ?_
  refine step_ld hlt hs 3 15 (by decide) (by decide) (offEq hσ hsk rfl) ?_
  refine step_ld hlt hs 4 14 (by decide) (by decide) (offEq hσ hsk rfl) ?_
  refine step_ld hlt hs 4 15 (by decide) (by decide) (offEq hσ hsk rfl) ?_
  refine step_ld hlt hs 5 14 (by decide) (by decide) (offEq hσ hsk rfl) ?_
  exact step_ret H

theorem part55 (v72 : BitVec 32) (v96 : BitVec 32) (v2190 : BitVec 32) (c255_i32_932 : BitVec 32) {Q : _ → PP F}
    (H : InvB R c f5 σ skip 112 ⊢ Q ⟨(st f5 σ skip 5 15), (st f5 σ skip 6 14), (st f5 σ skip 6 15), (st f5 σ skip 7 14), (st f5 σ skip 7 15), (st f5 σ skip 8 14), (Scalar.addi v96 128#32), 255#32⟩) :
    InvB R c f5 σ skip 112 ⊢ Wp c (k0_part55 m0 h0 m1 h1 m2 h2 m3 h3 m4 h4 m5 h5 m6 h6 m7 h7 m8 h8 m9 h9 m10 h10 m11 h11 m12 h12 m13 h13 m14 h14 m15 h15 m16 h16 m17 h17 s18 s19 s20 s21 v1_0 k0_t4 v72 v93 k0_hw14 v96 v2190 c255_i32_932) Q := by
  rw [k0_part55_eq_skeleton]; unfold k0_part55_skel
  refine step_ld hlt hs 5 15 (by decide) (by decide) (offEq hσ hsk rfl) ?_
  refine step_ld hlt hs 6 14 (by decide) (by decide) (offEq hσ hsk rfl) ?_
  refine step_ld hlt hs 6 15 (by decide) (by decide) (offEq hσ hsk rfl) ?_
  refine step_ld hlt hs 7 14 (by decide) (by decide) (offEq hσ hsk rfl) ?_
  refine step_ld hlt hs 7 15 (by decide) (by decide) (offEq hσ hsk rfl) ?_
  refine step_ld hlt hs 8 14 (by decide) (by decide) (offEq hσ hsk rfl) ?_
  exact step_ret H

theorem part56 (v72 : BitVec 32) (v96 : BitVec 32) (v2232 : BitVec 32) (c255_i32_950 : BitVec 32) {Q : _ → PP F}
    (H : InvB R c f5 σ skip 112 ⊢ Q ⟨(st f5 σ skip 8 15), (st f5 σ skip 9 14), (st f5 σ skip 9 15), (st f5 σ skip 10 14), (st f5 σ skip 10 15), (st f5 σ skip 11 14), (Scalar.addi v96 176#32), 255#32⟩) :
    InvB R c f5 σ skip 112 ⊢ Wp c (k0_part56 m0 h0 m1 h1 m2 h2 m3 h3 m4 h4 m5 h5 m6 h6 m7 h7 m8 h8 m9 h9 m10 h10 m11 h11 m12 h12 m13 h13 m14 h14 m15 h15 m16 h16 m17 h17 s18 s19 s20 s21 v1_0 k0_t4 v72 v93 k0_hw14 v96 v2232 c255_i32_950) Q := by
  rw [k0_part56_eq_skeleton]; unfold k0_part56_skel
  refine step_ld hlt hs 8 15 (by decide) (by decide) (offEq hσ hsk rfl) ?_
  refine step_ld hlt hs 9 14 (by decide) (by decide) (offEq hσ hsk rfl) ?_
  refine step_ld hlt hs 9 15 (by decide) (by decide) (offEq hσ hsk rfl) ?_
  refine step_ld hlt hs 10 14 (by decide) (by decide) (offEq hσ hsk rfl) ?_
  refine step_ld hlt hs 10 15 (by decide) (by decide) (offEq hσ hsk rfl) ?_
  refine step_ld hlt hs 11 14 (by decide) (by decide) (offEq hσ hsk rfl) ?_
  exact step_ret H

theorem part57 (v72 : BitVec 32) (v96 : BitVec 32) (v2274 : BitVec 32) (c255_i32_968 : BitVec 32) {Q : _ → PP F}
    (H : InvB R c f5 σ skip 112 ⊢ Q ⟨(st f5 σ skip 11 15), (st f5 σ skip 12 14), (st f5 σ skip 12 15), (st f5 σ skip 13 14), (st f5 σ skip 13 15), (st f5 σ skip 14 14), (Scalar.addi v96 224#32), 255#32⟩) :
    InvB R c f5 σ skip 112 ⊢ Wp c (k0_part57 m0 h0 m1 h1 m2 h2 m3 h3 m4 h4 m5 h5 m6 h6 m7 h7 m8 h8 m9 h9 m10 h10 m11 h11 m12 h12 m13 h13 m14 h14 m15 h15 m16 h16 m17 h17 s18 s19 s20 s21 v1_0 k0_t4 v72 v93 k0_hw14 v96 v2274 c255_i32_968) Q := by
  rw [k0_part57_eq_skeleton]; unfold k0_part57_skel
  refine step_ld hlt hs 11 15 (by decide) (by decide) (offEq hσ hsk rfl) ?_
  refine step_ld hlt hs 12 14 (by decide) (by decide) (offEq hσ hsk rfl) ?_
  refine step_ld hlt hs 12 15 (by decide) (by decide) (offEq hσ hsk rfl) ?_
  refine step_ld hlt hs 13 14 (by decide) (by decide) (offEq hσ hsk rfl) ?_
  refine step_ld hlt hs 13 15 (by decide) (by decide) (offEq hσ hsk rfl) ?_
  refine step_ld hlt hs 14 14 (by decide) (by decide) (offEq hσ hsk rfl) ?_
  exact step_ret H

theorem part58 (v72 : BitVec 32) (v96 : BitVec 32) (v2316 : BitVec 32) (c255_i32_986 : BitVec 32) {Q : _ → PP F}
    (H : InvB R c f5 σ skip 116 ⊢ Q ⟨(st f5 σ skip 14 15), (st f5 σ skip 15 14), (st f5 σ skip 15 15), (cat f5 σ skip 4 7)⟩) :
    InvB R c f5 σ skip 112 ⊢ Wp c (k0_part58 m0 h0 m1 h1 m2 h2 m3 h3 m4 h4 m5 h5 m6 h6 m7 h7 m8 h8 m9 h9 m10 h10 m11 h11 m12 h12 m13 h13 m14 h14 m15 h15 m16 h16 m17 h17 s18 s19 s20 s21 v1_0 k0_t4 v72 v93 k0_hw14 v96 (st f5 σ skip 0 14) (st f5 σ skip 0 15) (st f5 σ skip 1 14) (st f5 σ skip 1 15) (st f5 σ skip 2 14) (st f5 σ skip 2 15) (st f5 σ skip 3 14) (st f5 σ skip 3 15) (st f5 σ skip 4 14) (st f5 σ skip 4 15) v2316 c255_i32_986) Q := by
  rw [k0_part58_eq_skeleton]; unfold k0_part58_skel
  refine step_ld hlt hs 14 15 (by decide) (by decide) (offEq hσ hsk rfl) ?_
  refine step_ld hlt hs 15 14 (by decide) (by decide) (offEq hσ hsk rfl) ?_
  refine step_ld hlt hs 15 15 (by decide) (by decide) (offEq hσ hsk rfl) ?_
  refine step_dead fun v2338 => ?_
  refine step_st hs 0 7 (by decide) (by decide) rfl rfl rfl ?_ rfl
  refine step_dead fun v2342 => ?_
  refine step_st hs 1 7 (by decide) (by decide) rfl rfl rfl ?_ rfl
  refine step_dead fun v2346 => ?_
  refine step_st hs 2 7 (by decide) (by decide) rfl rfl rfl ?_ rfl
  refine step_dead fun v2350 => ?_
  refine step_st hs 3 7 (by decide) (by decide) rfl rfl rfl ?_ rfl
  refine step_dead fun v2354 => ?_
  exact step_ret H

theorem part59 {Q : _ → PP F}
    (H : InvB R c f5 σ skip 125 ⊢ Q (cat f5 σ skip 13 7)) :
    InvB R c f5 σ skip 116 ⊢ Wp c (k0_part59 m0 h0 m1 h1 m2 h2 m3 h3 m4 h4 m5 h5 m6 h6 m7 h7 m8 h8 m9 h9 m10 h10 m11 h11 m12 h12 m13 h13 m14 h14 m15 h15 m16 h16 m17 h17 s18 s19 s20 s21 (st f5 σ skip 5 14) (st f5 σ skip 5 15) (st f5 σ skip 6 14) (st f5 σ skip 6 15) (st f5 σ skip 7 14) (st f5 σ skip 7 15) (st f5 σ skip 8 14) (st f5 σ skip 8 15) (st f5 σ skip 9 14) (st f5 σ skip 9 15) (st f5 σ skip 10 14) (st f5 σ skip 10 15) (st f5 σ skip 11 14) (st f5 σ skip 11 15) (st f5 σ skip 12 14) (st f5 σ skip 12 15) (st f5 σ skip 13 14) (st f5 σ skip 13 15) (cat f5 σ skip 4 7)) Q := by
  rw [k0_part59_eq_skeleton]; unfold k0_part59_skel
  refine step_st hs 4 7 (by decide) (by decide) rfl rfl rfl ?_ rfl
  refine step_dead fun v2358 => ?_
  refine step_st hs 5 7 (by decide) (by decide) rfl rfl rfl ?_ rfl
  refine step_dead fun v2362 => ?_
  refine step_st hs 6 7 (by decide) (by decide) rfl rfl rfl ?_ rfl
  refine step_dead fun v2366 => ?_
  refine step_st hs 7 7 (by decide) (by decide) rfl rfl rfl ?_ rfl
  refine step_dead fun v2370 => ?_
  refine step_st hs 8 7 (by decide) (by decide) rfl rfl rfl ?_ rfl
  refine step_dead fun v2374 => ?_
  refine step_st hs 9 7 (by decide) (by decide) rfl rfl rfl ?_ rfl
  refine step_dead fun v2378 => ?_
  refine step_st hs 10 7 (by decide) (by decide) rfl rfl rfl ?_ rfl
  refine step_dead fun v2382 => ?_
  refine step_st hs 11 7 (by decide) (by decide) rfl rfl rfl ?_ rfl
  refine step_dead fun v2386 => ?_
  refine step_st hs 12 7 (by decide) (by decide) rfl rfl rfl ?_ rfl
  exact step_ret H

end Cert.KernelIdeal.Hand
-- ==== Proof.KI.Copy3.lean ====
/-
  The steps of the strip copies, parts 60 to 88 of the printed body.
-/
module

public import proofs.«01_k».proof.Proof.KI.Copy

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

variable {R : PP F} {c : Dev nD} {f5 : S2x256x3072.Idx → Elt F .bf16} {σ skip : ℕ}
variable (hlt : σ < 2) (hs : 16 ∣ skip) {v1_0 : BitVec 32} {k0_t4 : Fin (k0_t4_loop v1_0).trips} {v93 : Elt F .i32}
variable (hσ : (Scalar.andi (Scf.iv 0#32 1#32 k0_t4) 1#32).toNat = σ)
variable (hsk : (Scalar.subi v93 (Scalar.minsi v93 12032#32)).toNat = skip)
variable {k0_hw14 : k0_chk14 v1_0 k0_t4 v93}
include hlt hs hσ hsk

theorem part60 (v72 : BitVec 32) (v96 : BitVec 32) {Q : _ → PP F}
    (H : InvB R c f5 σ skip 128 ⊢ Q ⟨(st f5 σ skip 0 16), (st f5 σ skip 0 17), (st f5 σ skip 1 16), (st f5 σ skip 1 17), 32#32⟩) :
    InvB R c f5 σ skip 125 ⊢ Wp c (k0_part60 m0 h0 m1 h1 m2 h2 m3 h3 m4 h4 m5 h5 m6 h6 m7 h7 m8 h8 m9 h9 m10 h10 m11 h11 m12 h12 m13 h13 m14 h14 m15 h15 m16 h16 m17 h17 s18 s19 s20 s21 v1_0 k0_t4 v72 v93 k0_hw14 v96 (st f5 σ skip 14 14) (st f5 σ skip 14 15) (st f5 σ skip 15 14) (st f5 σ skip 15 15) (cat f5 σ skip 13 7)) Q := by
  rw [k0_part60_eq_skeleton]; unfold k0_part60_skel
  refine step_dead fun v2390 => ?_
  refine step_st hs 13 7 (by decide) (by decide) rfl rfl rfl ?_ rfl
  refine step_dead fun v2394 => ?_
  refine step_st hs 14 7 (by decide) (by decide) rfl rfl rfl ?_ rfl
  refine step_dead fun v2398 => ?_
  refine step_st hs 15 7 (by decide) (by decide) rfl rfl rfl ?_ rfl
  refine step_ld hlt hs 0 16 (by decide) (by decide) (offEq hσ hsk rfl) ?_
  refine step_ld hlt hs 0 17 (by decide) (by decide) (offEq hσ hsk rfl) ?_
  refine step_ld hlt hs 1 16 (by decide) (by decide) (offEq hσ hsk rfl) ?_
  refine step_ld hlt hs 1 17 (by decide) (by decide) (offEq hσ hsk rfl) ?_
  exact step_ret H

theorem part61 (v72 : BitVec 32) (v96 : BitVec 32) (c32_i32_1036 : BitVec 32) {Q : _ → PP F}
    (H : InvB R c f5 σ skip 128 ⊢ Q ⟨(st f5 σ skip 2 16), (st f5 σ skip 2 17), (st f5 σ skip 3 16), (st f5 σ skip 3 17), (st f5 σ skip 4 16), (st f5 σ skip 4 17), 80#32⟩) :
    InvB R c f5 σ skip 128 ⊢ Wp c (k0_part61 m0 h0 m1 h1 m2 h2 m3 h3 m4 h4 m5 h5 m6 h6 m7 h7 m8 h8 m9 h9 m10 h10 m11 h11 m12 h12 m13 h13 m14 h14 m15 h15 m16 h16 m17 h17 s18 s19 s20 s21 v1_0 k0_t4 v72 v93 k0_hw14 v96 c32_i32_1036) Q := by
  rw [k0_part61_eq_skeleton]; unfold k0_part61_skel
  refine step_ld hlt hs 2 16 (by decide) (by decide) (offEq hσ hsk rfl) ?_
  refine step_ld hlt hs 2 17 (by decide) (by decide) (offEq hσ hsk rfl) ?_
  refine step_ld hlt hs 3 16 (by decide) (by decide) (offEq hσ hsk rfl) ?_
  refine step_ld hlt hs 3 17 (by decide) (by decide) (offEq hσ hsk rfl) ?_
  refine step_ld hlt hs 4 16 (by decide) (by decide) (offEq hσ hsk rfl) ?_
  refine step_ld hlt hs 4 17 (by decide) (by decide) (offEq hσ hsk rfl) ?_
  exact step_ret H

theorem part62 (v72 : BitVec 32) (v96 : BitVec 32) (c80_i32_1054 : BitVec 32) {Q : _ → PP F}
    (H : InvB R c f5 σ skip 128 ⊢ Q ⟨(st f5 σ skip 5 16), (st f5 σ skip 5 17), (st f5 σ skip 6 16), (st f5 σ skip 6 17), (st f5 σ skip 7 16), (st f5 σ skip 7 17), 128#32⟩) :
    InvB R c f5 σ skip 128 ⊢ Wp c (k0_part62 m0 h0 m1 h1 m2 h2 m3 h3 m4 h4 m5 h5 m6 h6 m7 h7 m8 h8 m9 h9 m10 h10 m11 h11 m12 h12 m13 h13 m14 h14 m15 h15 m16 h16 m17 h17 s18 s19 s20 s21 v1_0 k0_t4 v72 v93 k0_hw14 v96 c80_i32_1054) Q := by
  rw [k0_part62_eq_skeleton]; unfold k0_part62_skel
  refine step_ld hlt hs 5 16 (by decide) (by decide) (offEq hσ hsk rfl) ?_
  refine step_ld hlt hs 5 17 (by decide) (by decide) (offEq hσ hsk rfl) ?_
  refine step_ld hlt hs 6 16 (by decide) (by decide) (offEq hσ hsk rfl) ?_
  refine step_ld hlt hs 6 17 (by decide) (by decide) (offEq hσ hsk rfl) ?_
  refine step_ld hlt hs 7 16 (by decide) (by decide) (offEq hσ hsk rfl) ?_
  refine step_ld hlt hs 7 17 (by decide) (by decide) (offEq hσ hsk rfl) ?_
  exact step_ret H

theorem part63 (v72 : BitVec 32) (v96 : BitVec 32) (c128_i32_1072 : BitVec 32) {Q : _ → PP F}
    (H : InvB R c f5 σ skip 128 ⊢ Q ⟨(st f5 σ skip 8 16), (st f5 σ skip 8 17), (st f5 σ skip 9 16), (st f5 σ skip 9 17), (st f5 σ skip 10 16), (st f5 σ skip 10 17), 176#32⟩) :
    InvB R c f5 σ skip 128 ⊢ Wp c (k0_part63 m0 h0 m1 h1 m2 h2 m3 h3 m4 h4 m5 h5 m6 h6 m7 h7 m8 h8 m9 h9 m10 h10 m11 h11 m12 h12 m13 h13 m14 h14 m15 h15 m16 h16 m17 h17 s18 s19 s20 s21 v1_0 k0_t4 v72 v93 k0_hw14 v96 c128_i32_1072) Q := by
  rw [k0_part63_eq_skeleton]; unfold k0_part63_skel
  refine step_ld hlt hs 8 16 (by decide) (by decide) (offEq hσ hsk rfl) ?_
  refine step_ld hlt hs 8 17 (by decide) (by decide) (offEq hσ hsk rfl) ?_
  refine step_ld hlt hs 9 16 (by decide) (by decide) (offEq hσ hsk rfl) ?_
  refine step_ld hlt hs 9 17 (by decide) (by decide) (offEq hσ hsk rfl) ?_
  refine step_ld hlt hs 10 16 (by decide) (by decide) (offEq hσ hsk rfl) ?_
  refine step_ld hlt hs 10 17 (by decide) (by decide) (offEq hσ hsk rfl) ?_
  exact step_ret H

theorem part64 (v72 : BitVec 32) (v96 : BitVec 32) (c176_i32_1090 : BitVec 32) {Q : _ → PP F}
    (H : InvB R c f5 σ skip 128 ⊢ Q ⟨(st f5 σ skip 11 16), (st f5 σ skip 11 17), (st f5 σ skip 12 16), (st f5 σ skip 12 17), (st f5 σ skip 13 16), (st f5 σ skip 13 17), 224#32⟩) :
    InvB R c f5 σ skip 128 ⊢ Wp c (k0_part64 m0 h0 m1 h1 m2 h2 m3 h3 m4 h4 m5 h5 m6 h6 m7 h7 m8 h8 m9 h9 m10 h10 m11 h11 m12 h12 m13 h13 m14 h14 m15 h15 m16 h16 m17 h17 s18 s19 s20 s21 v1_0 k0_t4 v72 v93 k0_hw14 v96 c176_i32_1090) Q := by
  rw [k0_part64_eq_skeleton]; unfold k0_part64_skel
  refine step_ld hlt hs 11 16 (by decide) (by decide) (offEq hσ hsk rfl) ?_
  refine step_ld hlt hs 11 17 (by decide) (by decide) (offEq hσ hsk rfl) ?_
  refine step_ld hlt hs 12 16 (by decide) (by decide) (offEq hσ hsk rfl) ?_
  refine step_ld hlt hs 12 17 (by decide) (by decide) (offEq hσ hsk rfl) ?_
  refine step_ld hlt hs 13 16 (by decide) (by decide) (offEq hσ hsk rfl) ?_
  refine step_ld hlt hs 13 17 (by decide) (by decide) (offEq hσ hsk rfl) ?_
  exact step_ret H

theorem part65 (v72 : BitVec 32) (v96 : BitVec 32) (c224_i32_1108 : BitVec 32) {Q : _ → PP F}
    (H : InvB R c f5 σ skip 131 ⊢ Q ⟨(st f5 σ skip 14 16), (st f5 σ skip 14 17), (st f5 σ skip 15 16), (st f5 σ skip 15 17)⟩) :
    InvB R c f5 σ skip 128 ⊢ Wp c (k0_part65 m0 h0 m1 h1 m2 h2 m3 h3 m4 h4 m5 h5 m6 h6 m7 h7 m8 h8 m9 h9 m10 h10 m11 h11 m12 h12 m13 h13 m14 h14 m15 h15 m16 h16 m17 h17 s18 s19 s20 s21 v1_0 k0_t4 v72 v93 k0_hw14 v96 (st f5 σ skip 0 16) (st f5 σ skip 0 17) (st f5 σ skip 1 16) (st f5 σ skip 1 17) (st f5 σ skip 2 16) (st f5 σ skip 2 17) c224_i32_1108) Q := by
  rw [k0_part65_eq_skeleton]; unfold k0_part65_skel
  refine step_ld hlt hs 14 16 (by decide) (by decide) (offEq hσ hsk rfl) ?_
  refine step_ld hlt hs 14 17 (by decide) (by decide) (offEq hσ hsk rfl) ?_
  refine step_ld hlt hs 15 16 (by decide) (by decide) (offEq hσ hsk rfl) ?_
  refine step_ld hlt hs 15 17 (by decide) (by decide) (offEq hσ hsk rfl) ?_
  refine step_dead fun v2626 => ?_
  refine step_st hs 0 8 (by decide) (by decide) rfl rfl rfl ?_ rfl
  refine step_dead fun v2630 => ?_
  refine step_st hs 1 8 (by decide) (by decide) rfl rfl rfl ?_ rfl
  refine step_dead fun v2634 => ?_
  refine step_st hs 2 8 (by decide) (by decide) rfl rfl rfl ?_ rfl
  exact step_ret H

theorem part66 {Q : _ → PP F}
    (H : ∀ v2670, InvB R c f5 σ skip 139 ⊢ Q ⟨(cat f5 σ skip 11 8), v2670⟩) :
    InvB R c f5 σ skip 131 ⊢ Wp c (k0_part66 m0 h0 m1 h1 m2 h2 m3 h3 m4 h4 m5 h5 m6 h6 m7 h7 m8 h8 m9 h9 m10 h10 m11 h11 m12 h12 m13 h13 m14 h14 m15 h15 m16 h16 m17 h17 s18 s19 s20 s21 (st f5 σ skip 3 16) (st f5 σ skip 3 17) (st f5 σ skip 4 16) (st f5 σ skip 4 17) (st f5 σ skip 5 16) (st f5 σ skip 5 17) (st f5 σ skip 6 16) (st f5 σ skip 6 17) (st f5 σ skip 7 16) (st f5 σ skip 7 17) (st f5 σ skip 8 16) (st f5 σ skip 8 17) (st f5 σ skip 9 16) (st f5 σ skip 9 17) (st f5 σ skip 10 16) (st f5 σ skip 10 17) (st f5 σ skip 11 16) (st f5 σ skip 11 17)) Q := by
  rw [k0_part66_eq_skeleton]; unfold k0_part66_skel
  refine step_dead fun v2638 => ?_
  refine step_st hs 3 8 (by decide) (by decide) rfl rfl rfl ?_ rfl
  refine step_dead fun v2642 => ?_
  refine step_st hs 4 8 (by decide) (by decide) rfl rfl rfl ?_ rfl
  refine step_dead fun v2646 => ?_
  refine step_st hs 5 8 (by decide) (by decide) rfl rfl rfl ?_ rfl
  refine step_dead fun v2650 => ?_
  refine step_st hs 6 8 (by decide) (by decide) rfl rfl rfl ?_ rfl
  refine step_dead fun v2654 => ?_
  refine step_st hs 7 8 (by decide) (by decide) rfl rfl rfl ?_ rfl
  refine step_dead fun v2658 => ?_
  refine step_st hs 8 8 (by decide) (by decide) rfl rfl rfl ?_ rfl
  refine step_dead fun v2662 => ?_
  refine step_st hs 9 8 (by decide) (by decide) rfl rfl rfl ?_ rfl
  refine step_dead fun v2666 => ?_
  refine step_st hs 10 8 (by decide) (by decide) rfl rfl rfl ?_ rfl
  refine step_dead fun v2670 => ?_
  exact step_ret (H v2670)

theorem part67 (v72 : BitVec 32) (v96 : BitVec 32) (v2670 : Vec F S16x256 .bf16) {Q : _ → PP F}
    (H : InvB R c f5 σ skip 144 ⊢ Q ⟨(st f5 σ skip 0 18), (st f5 σ skip 0 19), (st3 f5 σ skip 1 18)⟩) :
    InvB R c f5 σ skip 139 ⊢ Wp c (k0_part67 m0 h0 m1 h1 m2 h2 m3 h3 m4 h4 m5 h5 m6 h6 m7 h7 m8 h8 m9 h9 m10 h10 m11 h11 m12 h12 m13 h13 m14 h14 m15 h15 m16 h16 m17 h17 s18 s19 s20 s21 v1_0 k0_t4 v72 v93 k0_hw14 v96 (st f5 σ skip 12 16) (st f5 σ skip 12 17) (st f5 σ skip 13 16) (st f5 σ skip 13 17) (st f5 σ skip 14 16) (st f5 σ skip 14 17) (st f5 σ skip 15 16) (st f5 σ skip 15 17) (cat f5 σ skip 11 8) v2670) Q := by
  rw [k0_part67_eq_skeleton]; unfold k0_part67_skel
  refine step_st hs 11 8 (by decide) (by decide) rfl rfl rfl ?_ rfl
  refine step_dead fun v2674 => ?_
  refine step_st hs 12 8 (by decide) (by decide) rfl rfl rfl ?_ rfl
  refine step_dead fun v2678 => ?_
  refine step_st hs 13 8 (by decide) (by decide) rfl rfl rfl ?_ rfl
  refine step_dead fun v2682 => ?_
  refine step_st hs 14 8 (by decide) (by decide) rfl rfl rfl ?_ rfl
  refine step_dead fun v2686 => ?_
  refine step_st hs 15 8 (by decide) (by decide) rfl rfl rfl ?_ rfl
  refine step_ld hlt hs 0 18 (by decide) (by decide) (offEq hσ hsk rfl) ?_
  refine step_ld hlt hs 0 19 (by decide) (by decide) (offEq hσ hsk rfl) ?_
  refine step_ld hlt hs 1 18 (by decide) (by decide) (offEq hσ hsk rfl) ?_
  exact step_ret H

theorem part68 (v72 : BitVec 32) (v96 : BitVec 32) {Q : _ → PP F}
    (H : InvB R c f5 σ skip 144 ⊢ Q ⟨(st f5 σ skip 1 18), (st f5 σ skip 1 19), (st f5 σ skip 2 18), (st f5 σ skip 2 19), (st f5 σ skip 3 18), (st f5 σ skip 3 19), (st3 f5 σ skip 4 18)⟩) :
    InvB R c f5 σ skip 144 ⊢ Wp c (k0_part68 m0 h0 m1 h1 m2 h2 m3 h3 m4 h4 m5 h5 m6 h6 m7 h7 m8 h8 m9 h9 m10 h10 m11 h11 m12 h12 m13 h13 m14 h14 m15 h15 m16 h16 m17 h17 s18 s19 s20 s21 v1_0 k0_t4 v72 v93 k0_hw14 v96 (st3 f5 σ skip 1 18)) Q := by
  rw [k0_part68_eq_skeleton]; unfold k0_part68_skel
  refine step_ld hlt hs 1 19 (by decide) (by decide) (offEq hσ hsk rfl) ?_
  refine step_ld hlt hs 2 18 (by decide) (by decide) (offEq hσ hsk rfl) ?_
  refine step_ld hlt hs 2 19 (by decide) (by decide) (offEq hσ hsk rfl) ?_
  refine step_ld hlt hs 3 18 (by decide) (by decide) (offEq hσ hsk rfl) ?_
  refine step_ld hlt hs 3 19 (by decide) (by decide) (offEq hσ hsk rfl) ?_
  refine step_ld hlt hs 4 18 (by decide) (by decide) (offEq hσ hsk rfl) ?_
  exact step_ret H

theorem part69 (v72 : BitVec 32) (v96 : BitVec 32) {Q : _ → PP F}
    (H : InvB R c f5 σ skip 144 ⊢ Q ⟨(st f5 σ skip 4 18), (st f5 σ skip 4 19), (st f5 σ skip 5 18), (st f5 σ skip 5 19), (st f5 σ skip 6 18), (st f5 σ skip 6 19), (st3 f5 σ skip 7 18)⟩) :
    InvB R c f5 σ skip 144 ⊢ Wp c (k0_part69 m0 h0 m1 h1 m2 h2 m3 h3 m4 h4 m5 h5 m6 h6 m7 h7 m8 h8 m9 h9 m10 h10 m11 h11 m12 h12 m13 h13 m14 h14 m15 h15 m16 h16 m17 h17 s18 s19 s20 s21 v1_0 k0_t4 v72 v93 k0_hw14 v96 (st3 f5 σ skip 4 18)) Q := by
  rw [k0_part69_eq_skeleton]; unfold k0_part69_skel
  refine step_ld hlt hs 4 19 (by decide) (by decide) (offEq hσ hsk rfl) ?_
  refine step_ld hlt hs 5 18 (by decide) (by decide) (offEq hσ hsk rfl) ?_
  refine step_ld hlt hs 5 19 (by decide) (by decide) (offEq hσ hsk rfl) ?_
  refine step_ld hlt hs 6 18 (by decide) (by decide) (offEq hσ hsk rfl) ?_
  refine step_ld hlt hs 6 19 (by decide) (by decide) (offEq hσ hsk rfl) ?_
  refine step_ld hlt hs 7 18 (by decide) (by decide) (offEq hσ hsk rfl) ?_
  exact step_ret H

theorem part70 (v72 : BitVec 32) (v96 : BitVec 32) {Q : _ → PP F}
    (H : InvB R c f5 σ skip 144 ⊢ Q ⟨(st f5 σ skip 7 18), (st f5 σ skip 7 19), (st f5 σ skip 8 18), (st f5 σ skip 8 19), (st f5 σ skip 9 18), (st f5 σ skip 9 19), (st3 f5 σ skip 10 18)⟩) :
    InvB R c f5 σ skip 144 ⊢ Wp c (k0_part70 m0 h0 m1 h1 m2 h2 m3 h3 m4 h4 m5 h5 m6 h6 m7 h7 m8 h8 m9 h9 m10 h10 m11 h11 m12 h12 m13 h13 m14 h14 m15 h15 m16 h16 m17 h17 s18 s19 s20 s21 v1_0 k0_t4 v72 v93 k0_hw14 v96 (st3 f5 σ skip 7 18)) Q := by
  rw [k0_part70_eq_skeleton]; unfold k0_part70_skel
  refine step_ld hlt hs 7 19 (by decide) (by decide) (offEq hσ hsk rfl) ?_
  refine step_ld hlt hs 8 18 (by decide) (by decide) (offEq hσ hsk rfl) ?_
  refine step_ld hlt hs 8 19 (by decide) (by decide) (offEq hσ hsk rfl) ?_
  refine step_ld hlt hs 9 18 (by decide) (by decide) (offEq hσ hsk rfl) ?_
  refine step_ld hlt hs 9 19 (by decide) (by decide) (offEq hσ hsk rfl) ?_
  refine step_ld hlt hs 10 18 (by decide) (by decide) (offEq hσ hsk rfl) ?_
  exact step_ret H

theorem part71 (v72 : BitVec 32) (v96 : BitVec 32) {Q : _ → PP F}
    (H : InvB R c f5 σ skip 144 ⊢ Q ⟨(st f5 σ skip 10 18), (st f5 σ skip 10 19), (st f5 σ skip 11 18), (st f5 σ skip 11 19), (st f5 σ skip 12 18), (st f5 σ skip 12 19), (st3 f5 σ skip 13 18)⟩) :
    InvB R c f5 σ skip 144 ⊢ Wp c (k0_part71 m0 h0 m1 h1 m2 h2 m3 h3 m4 h4 m5 h5 m6 h6 m7 h7 m8 h8 m9 h9 m10 h10 m11 h11 m12 h12 m13 h13 m14 h14 m15 h15 m16 h16 m17 h17 s18 s19 s20 s21 v1_0 k0_t4 v72 v93 k0_hw14 v96 (st3 f5 σ skip 10 18)) Q := by
  rw [k0_part71_eq_skeleton]; unfold k0_part71_skel
  refine step_ld hlt hs 10 19 (by decide) (by decide) (offEq hσ hsk rfl) ?_
  refine step_ld hlt hs 11 18 (by decide) (by decide) (offEq hσ hsk rfl) ?_
  refine step_ld hlt hs 11 19 (by decide) (by decide) (offEq hσ hsk rfl) ?_
  refine step_ld hlt hs 12 18 (by decide) (by decide) (offEq hσ hsk rfl) ?_
  refine step_ld hlt hs 12 19 (by decide) (by decide) (offEq hσ hsk rfl) ?_
  refine step_ld hlt hs 13 18 (by decide) (by decide) (offEq hσ hsk rfl) ?_
  exact step_ret H

theorem part72 (v72 : BitVec 32) (v96 : BitVec 32) {Q : _ → PP F}
    (H : InvB R c f5 σ skip 145 ⊢ Q ⟨(st f5 σ skip 13 18), (st f5 σ skip 13 19), (st f5 σ skip 14 18), (st f5 σ skip 14 19), (st f5 σ skip 15 18), (st f5 σ skip 15 19), (cat f5 σ skip 1 9)⟩) :
    InvB R c f5 σ skip 144 ⊢ Wp c (k0_part72 m0 h0 m1 h1 m2 h2 m3 h3 m4 h4 m5 h5 m6 h6 m7 h7 m8 h8 m9 h9 m10 h10 m11 h11 m12 h12 m13 h13 m14 h14 m15 h15 m16 h16 m17 h17 s18 s19 s20 s21 v1_0 k0_t4 v72 v93 k0_hw14 v96 (st f5 σ skip 0 18) (st f5 σ skip 0 19) (st f5 σ skip 1 18) (st f5 σ skip 1 19) (st3 f5 σ skip 13 18)) Q := by
  rw [k0_part72_eq_skeleton]; unfold k0_part72_skel
  refine step_ld hlt hs 13 19 (by decide) (by decide) (offEq hσ hsk rfl) ?_
  refine step_ld hlt hs 14 18 (by decide) (by decide) (offEq hσ hsk rfl) ?_
  refine step_ld hlt hs 14 19 (by decide) (by decide) (offEq hσ hsk rfl) ?_
  refine step_ld hlt hs 15 18 (by decide) (by decide) (offEq hσ hsk rfl) ?_
  refine step_ld hlt hs 15 19 (by decide) (by decide) (offEq hσ hsk rfl) ?_
  refine step_dead fun v2914 => ?_
  refine step_st hs 0 9 (by decide) (by decide) rfl rfl rfl ?_ rfl
  exact step_ret H

theorem part73 {Q : _ → PP F}
    (H : InvB R c f5 σ skip 153 ⊢ Q (shapeCast S16x256 (cat f5 σ skip 9 9) shapeCasts_S16x256_S16x256)) :
    InvB R c f5 σ skip 145 ⊢ Wp c (k0_part73 m0 h0 m1 h1 m2 h2 m3 h3 m4 h4 m5 h5 m6 h6 m7 h7 m8 h8 m9 h9 m10 h10 m11 h11 m12 h12 m13 h13 m14 h14 m15 h15 m16 h16 m17 h17 s18 s19 s20 s21 (st f5 σ skip 2 18) (st f5 σ skip 2 19) (st f5 σ skip 3 18) (st f5 σ skip 3 19) (st f5 σ skip 4 18) (st f5 σ skip 4 19) (st f5 σ skip 5 18) (st f5 σ skip 5 19) (st f5 σ skip 6 18) (st f5 σ skip 6 19) (st f5 σ skip 7 18) (st f5 σ skip 7 19) (st f5 σ skip 8 18) (st f5 σ skip 8 19) (st f5 σ skip 9 18) (st f5 σ skip 9 19) (cat f5 σ skip 1 9)) Q := by
  rw [k0_part73_eq_skeleton]; unfold k0_part73_skel
  refine step_dead fun v2918 => ?_
  refine step_st hs 1 9 (by decide) (by decide) rfl rfl rfl ?_ rfl
  refine step_dead fun v2922 => ?_
  refine step_st hs 2 9 (by decide) (by decide) rfl rfl rfl ?_ rfl
  refine step_dead fun v2926 => ?_
  refine step_st hs 3 9 (by decide) (by decide) rfl rfl rfl ?_ rfl
  refine step_dead fun v2930 => ?_
  refine step_st hs 4 9 (by decide) (by decide) rfl rfl rfl ?_ rfl
  refine step_dead fun v2934 => ?_
  refine step_st hs 5 9 (by decide) (by decide) rfl rfl rfl ?_ rfl
  refine step_dead fun v2938 => ?_
  refine step_st hs 6 9 (by decide) (by decide) rfl rfl rfl ?_ rfl
  refine step_dead fun v2942 => ?_
  refine step_st hs 7 9 (by decide) (by decide) rfl rfl rfl ?_ rfl
  refine step_dead fun v2946 => ?_
  refine step_st hs 8 9 (by decide) (by decide) rfl rfl rfl ?_ rfl
  refine step_dead fun v2950 => ?_
  exact step_ret H

theorem part74 (v72 : BitVec 32) (v96 : BitVec 32) {Q : _ → PP F}
    (H : InvB R c f5 σ skip 160 ⊢ Q (st f5 σ skip 0 20)) :
    InvB R c f5 σ skip 153 ⊢ Wp c (k0_part74 m0 h0 m1 h1 m2 h2 m3 h3 m4 h4 m5 h5 m6 h6 m7 h7 m8 h8 m9 h9 m10 h10 m11 h11 m12 h12 m13 h13 m14 h14 m15 h15 m16 h16 m17 h17 s18 s19 s20 s21 v1_0 k0_t4 v72 v93 k0_hw14 v96 (st f5 σ skip 10 18) (st f5 σ skip 10 19) (st f5 σ skip 11 18) (st f5 σ skip 11 19) (st f5 σ skip 12 18) (st f5 σ skip 12 19) (st f5 σ skip 13 18) (st f5 σ skip 13 19) (st f5 σ skip 14 18) (st f5 σ skip 14 19) (st f5 σ skip 15 18) (st f5 σ skip 15 19) (shapeCast S16x256 (cat f5 σ skip 9 9) shapeCasts_S16x256_S16x256)) Q := by
  rw [k0_part74_eq_skeleton]; unfold k0_part74_skel
  refine step_st hs 9 9 (by decide) (by decide) rfl rfl rfl ?_ rfl
  refine step_dead fun v2954 => ?_
  refine step_st hs 10 9 (by decide) (by decide) rfl rfl rfl ?_ rfl
  refine step_dead fun v2958 => ?_
  refine step_st hs 11 9 (by decide) (by decide) rfl rfl rfl ?_ rfl
  refine step_dead fun v2962 => ?_
  refine step_st hs 12 9 (by decide) (by decide) rfl rfl rfl ?_ rfl
  refine step_dead fun v2966 => ?_
  refine step_st hs 13 9 (by decide) (by decide) rfl rfl rfl ?_ rfl
  refine step_dead fun v2970 => ?_
  refine step_st hs 14 9 (by decide) (by decide) rfl rfl rfl ?_ rfl
  refine step_dead fun v2974 => ?_
  refine step_st hs 15 9 (by decide) (by decide) rfl rfl rfl ?_ rfl
  refine step_ld hlt hs 0 20 (by decide) (by decide) (offEq hσ hsk rfl) ?_
  exact step_ret H

theorem part75 (v72 : BitVec 32) (v96 : BitVec 32) {Q : _ → PP F}
    (H : InvB R c f5 σ skip 160 ⊢ Q ⟨(st f5 σ skip 0 21), (st f5 σ skip 1 20), (st f5 σ skip 1 21), (st f5 σ skip 2 20), (st f5 σ skip 2 21), (st f5 σ skip 3 20)⟩) :
    InvB R c f5 σ skip 160 ⊢ Wp c (k0_part75 m0 h0 m1 h1 m2 h2 m3 h3 m4 h4 m5 h5 m6 h6 m7 h7 m8 h8 m9 h9 m10 h10 m11 h11 m12 h12 m13 h13 m14 h14 m15 h15 m16 h16 m17 h17 s18 s19 s20 s21 v1_0 k0_t4 v72 v93 k0_hw14 v96) Q := by
  rw [k0_part75_eq_skeleton]; unfold k0_part75_skel
  refine step_ld hlt hs 0 21 (by decide) (by decide) (offEq hσ hsk rfl) ?_
  refine step_ld hlt hs 1 20 (by decide) (by decide) (offEq hσ hsk rfl) ?_
  refine step_ld hlt hs 1 21 (by decide) (by decide) (offEq hσ hsk rfl) ?_
  refine step_ld hlt hs 2 20 (by decide) (by decide) (offEq hσ hsk rfl) ?_
  refine step_ld hlt hs 2 21 (by decide) (by decide) (offEq hσ hsk rfl) ?_
  refine step_ld hlt hs 3 20 (by decide) (by decide) (offEq hσ hsk rfl) ?_
  exact step_ret H

theorem part76 (v72 : BitVec 32) (v96 : BitVec 32) {Q : _ → PP F}
    (H : InvB R c f5 σ skip 160 ⊢ Q ⟨(st f5 σ skip 3 21), (st f5 σ skip 4 20), (st f5 σ skip 4 21), (st f5 σ skip 5 20), (st f5 σ skip 5 21), (st f5 σ skip 6 20)⟩) :
    InvB R c f5 σ skip 160 ⊢ Wp c (k0_part76 m0 h0 m1 h1 m2 h2 m3 h3 m4 h4 m5 h5 m6 h6 m7 h7 m8 h8 m9 h9 m10 h10 m11 h11 m12 h12 m13 h13 m14 h14 m15 h15 m16 h16 m17 h17 s18 s19 s20 s21 v1_0 k0_t4 v72 v93 k0_hw14 v96) Q := by
  rw [k0_part76_eq_skeleton]; unfold k0_part76_skel
  refine step_ld hlt hs 3 21 (by decide) (by decide) (offEq hσ hsk rfl) ?_
  refine step_ld hlt hs 4 20 (by decide) (by decide) (offEq hσ hsk rfl) ?_
  refine step_ld hlt hs 4 21 (by decide) (by decide) (offEq hσ hsk rfl) ?_
  refine step_ld hlt hs 5 20 (by decide) (by decide) (offEq hσ hsk rfl) ?_
  refine step_ld hlt hs 5 21 (by decide) (by decide) (offEq hσ hsk rfl) ?_
  refine step_ld hlt hs 6 20 (by decide) (by decide) (offEq hσ hsk rfl) ?_
  exact step_ret H

theorem part77 (v72 : BitVec 32) (v96 : BitVec 32) {Q : _ → PP F}
    (H : InvB R c f5 σ skip 160 ⊢ Q ⟨(st f5 σ skip 6 21), (st f5 σ skip 7 20), (st f5 σ skip 7 21), (st f5 σ skip 8 20), (st f5 σ skip 8 21), (st f5 σ skip 9 20)⟩) :
    InvB R c f5 σ skip 160 ⊢ Wp c (k0_part77 m0 h0 m1 h1 m2 h2 m3 h3 m4 h4 m5 h5 m6 h6 m7 h7 m8 h8 m9 h9 m10 h10 m11 h11 m12 h12 m13 h13 m14 h14 m15 h15 m16 h16 m17 h17 s18 s19 s20 s21 v1_0 k0_t4 v72 v93 k0_hw14 v96) Q := by
  rw [k0_part77_eq_skeleton]; unfold k0_part77_skel
  refine step_ld hlt hs 6 21 (by decide) (by decide) (offEq hσ hsk rfl) ?_
  refine step_ld hlt hs 7 20 (by decide) (by decide) (offEq hσ hsk rfl) ?_
  refine step_ld hlt hs 7 21 (by decide) (by decide) (offEq hσ hsk rfl) ?_
  refine step_ld hlt hs 8 20 (by decide) (by decide) (offEq hσ hsk rfl) ?_
  refine step_ld hlt hs 8 21 (by decide) (by decide) (offEq hσ hsk rfl) ?_
  refine step_ld hlt hs 9 20 (by decide) (by decide) (offEq hσ hsk rfl) ?_
  exact step_ret H

theorem part78 (v72 : BitVec 32) (v96 : BitVec 32) {Q : _ → PP F}
    (H : InvB R c f5 σ skip 160 ⊢ Q ⟨(st f5 σ skip 9 21), (st f5 σ skip 10 20), (st f5 σ skip 10 21), (st f5 σ skip 11 20), (st f5 σ skip 11 21), (st f5 σ skip 12 20)⟩) :
    InvB R c f5 σ skip 160 ⊢ Wp c (k0_part78 m0 h0 m1 h1 m2 h2 m3 h3 m4 h4 m5 h5 m6 h6 m7 h7 m8 h8 m9 h9 m10 h10 m11 h11 m12 h12 m13 h13 m14 h14 m15 h15 m16 h16 m17 h17 s18 s19 s20 s21 v1_0 k0_t4 v72 v93 k0_hw14 v96) Q := by
  rw [k0_part78_eq_skeleton]; unfold k0_part78_skel
  refine step_ld hlt hs 9 21 (by decide) (by decide) (offEq hσ hsk rfl) ?_
  refine step_ld hlt hs 10 20 (by decide) (by decide) (offEq hσ hsk rfl) ?_
  refine step_ld hlt hs 10 21 (by decide) (by decide) (offEq hσ hsk rfl) ?_
  refine step_ld hlt hs 11 20 (by decide) (by decide) (offEq hσ hsk rfl) ?_
  refine step_ld hlt hs 11 21 (by decide) (by decide) (offEq hσ hsk rfl) ?_
  refine step_ld hlt hs 12 20 (by decide) (by decide) (offEq hσ hsk rfl) ?_
  exact step_ret H

theorem part79 (v72 : BitVec 32) (v96 : BitVec 32) {Q : _ → PP F}
    (H : InvB R c f5 σ skip 160 ⊢ Q ⟨(st f5 σ skip 12 21), (st f5 σ skip 13 20), (st f5 σ skip 13 21), (st f5 σ skip 14 20), (st f5 σ skip 14 21), (st f5 σ skip 15 20)⟩) :
    InvB R c f5 σ skip 160 ⊢ Wp c (k0_part79 m0 h0 m1 h1 m2 h2 m3 h3 m4 h4 m5 h5 m6 h6 m7 h7 m8 h8 m9 h9 m10 h10 m11 h11 m12 h12 m13 h13 m14 h14 m15 h15 m16 h16 m17 h17 s18 s19 s20 s21 v1_0 k0_t4 v72 v93 k0_hw14 v96) Q := by
  rw [k0_part79_eq_skeleton]; unfold k0_part79_skel
  refine step_ld hlt hs 12 21 (by decide) (by decide) (offEq hσ hsk rfl) ?_
  refine step_ld hlt hs 13 20 (by decide) (by decide) (offEq hσ hsk rfl) ?_
  refine step_ld hlt hs 13 21 (by decide) (by decide) (offEq hσ hsk rfl) ?_
  refine step_ld hlt hs 14 20 (by decide) (by decide) (offEq hσ hsk rfl) ?_
  refine step_ld hlt hs 14 21 (by decide) (by decide) (offEq hσ hsk rfl) ?_
  refine step_ld hlt hs 15 20 (by decide) (by decide) (offEq hσ hsk rfl) ?_
  exact step_ret H

theorem part80 {Q : _ → PP F}
    (H : InvB R c f5 σ skip 168 ⊢ Q ⟨(st f5 σ skip 15 21), (cat f5 σ skip 8 10)⟩) :
    InvB R c f5 σ skip 160 ⊢ Wp c (k0_part80 m0 h0 m1 h1 m2 h2 m3 h3 m4 h4 m5 h5 m6 h6 m7 h7 m8 h8 m9 h9 m10 h10 m11 h11 m12 h12 m13 h13 m14 h14 m15 h15 m16 h16 m17 h17 s18 s19 s20 s21 v1_0 k0_t4 v93 k0_hw14 (st f5 σ skip 0 20) (st f5 σ skip 0 21) (st f5 σ skip 1 20) (st f5 σ skip 1 21) (st f5 σ skip 2 20) (st f5 σ skip 2 21) (st f5 σ skip 3 20) (st f5 σ skip 3 21) (st f5 σ skip 4 20) (st f5 σ skip 4 21) (st f5 σ skip 5 20) (st f5 σ skip 5 21) (st f5 σ skip 6 20) (st f5 σ skip 6 21) (st f5 σ skip 7 20) (st f5 σ skip 7 21) (st f5 σ skip 8 20) (st f5 σ skip 8 21)) Q := by
  rw [k0_part80_eq_skeleton]; unfold k0_part80_skel
  refine step_ld hlt hs 15 21 (by decide) (by decide) (offEq hσ hsk rfl) ?_
  refine step_dead fun v3202 => ?_
  refine step_st hs 0 10 (by decide) (by decide) rfl rfl rfl ?_ rfl
  refine step_dead fun v3206 => ?_
  refine step_st hs 1 10 (by decide) (by decide) rfl rfl rfl ?_ rfl
  refine step_dead fun v3210 => ?_
  refine step_st hs 2 10 (by decide) (by decide) rfl rfl rfl ?_ rfl
  refine step_dead fun v3214 => ?_
  refine step_st hs 3 10 (by decide) (by decide) rfl rfl rfl ?_ rfl
  refine step_dead fun v3218 => ?_
  refine step_st hs 4 10 (by decide) (by decide) rfl rfl rfl ?_ rfl
  refine step_dead fun v3222 => ?_
  refine step_st hs 5 10 (by decide) (by decide) rfl rfl rfl ?_ rfl
  refine step_dead fun v3226 => ?_
  refine step_st hs 6 10 (by decide) (by decide) rfl rfl rfl ?_ rfl
  refine step_dead fun v3230 => ?_
  refine step_st hs 7 10 (by decide) (by decide) rfl rfl rfl ?_ rfl
  exact step_ret H

theorem part81 (v96 : BitVec 32) {Q : _ → PP F}
    (H : InvB R c f5 σ skip 176 ⊢ Q (Scalar.andi (Scalar.addi v96 0#32) 255#32)) :
    InvB R c f5 σ skip 168 ⊢ Wp c (k0_part81 m0 h0 m1 h1 m2 h2 m3 h3 m4 h4 m5 h5 m6 h6 m7 h7 m8 h8 m9 h9 m10 h10 m11 h11 m12 h12 m13 h13 m14 h14 m15 h15 m16 h16 m17 h17 s18 s19 s20 s21 v96 (st f5 σ skip 9 20) (st f5 σ skip 9 21) (st f5 σ skip 10 20) (st f5 σ skip 10 21) (st f5 σ skip 11 20) (st f5 σ skip 11 21) (st f5 σ skip 12 20) (st f5 σ skip 12 21) (st f5 σ skip 13 20) (st f5 σ skip 13 21) (st f5 σ skip 14 20) (st f5 σ skip 14 21) (st f5 σ skip 15 20) (st f5 σ skip 15 21) (cat f5 σ skip 8 10)) Q := by
  rw [k0_part81_eq_skeleton]; unfold k0_part81_skel
  refine step_dead fun v3234 => ?_
  refine step_st hs 8 10 (by decide) (by decide) rfl rfl rfl ?_ rfl
  refine step_dead fun v3238 => ?_
  refine step_st hs 9 10 (by decide) (by decide) rfl rfl rfl ?_ rfl
  refine step_dead fun v3242 => ?_
  refine step_st hs 10 10 (by decide) (by decide) rfl rfl rfl ?_ rfl
  refine step_dead fun v3246 => ?_
  refine step_st hs 11 10 (by decide) (by decide) rfl rfl rfl ?_ rfl
  refine step_dead fun v3250 => ?_
  refine step_st hs 12 10 (by decide) (by decide) rfl rfl rfl ?_ rfl
  refine step_dead fun v3254 => ?_
  refine step_st hs 13 10 (by decide) (by decide) rfl rfl rfl ?_ rfl
  refine step_dead fun v3258 => ?_
  refine step_st hs 14 10 (by decide) (by decide) rfl rfl rfl ?_ rfl
  refine step_dead fun v3262 => ?_
  refine step_st hs 15 10 (by decide) (by decide) rfl rfl rfl ?_ rfl
  exact step_ret H

theorem part82 (v72 : BitVec 32) (v96 : BitVec 32) (v3267 : BitVec 32) {Q : _ → PP F}
    (H : InvB R c f5 σ skip 176 ⊢ Q ⟨(st f5 σ skip 0 22), (st f5 σ skip 0 23), (st f5 σ skip 1 22), (st f5 σ skip 1 23), (st f5 σ skip 2 22), (st f5 σ skip 2 23), (Scalar.andi (Scalar.addi v96 48#32) 255#32)⟩) :
    InvB R c f5 σ skip 176 ⊢ Wp c (k0_part82 m0 h0 m1 h1 m2 h2 m3 h3 m4 h4 m5 h5 m6 h6 m7 h7 m8 h8 m9 h9 m10 h10 m11 h11 m12 h12 m13 h13 m14 h14 m15 h15 m16 h16 m17 h17 s18 s19 s20 s21 v1_0 k0_t4 v72 v93 k0_hw14 v96 v3267) Q := by
  rw [k0_part82_eq_skeleton]; unfold k0_part82_skel
  refine step_ld hlt hs 0 22 (by decide) (by decide) (offEq hσ hsk rfl) ?_
  refine step_ld hlt hs 0 23 (by decide) (by decide) (offEq hσ hsk rfl) ?_
  refine step_ld hlt hs 1 22 (by decide) (by decide) (offEq hσ hsk rfl) ?_
  refine step_ld hlt hs 1 23 (by decide) (by decide) (offEq hσ hsk rfl) ?_
  refine step_ld hlt hs 2 22 (by decide) (by decide) (offEq hσ hsk rfl) ?_
  refine step_ld hlt hs 2 23 (by decide) (by decide) (offEq hσ hsk rfl) ?_
  exact step_ret H

theorem part83 (v72 : BitVec 32) (v96 : BitVec 32) (v3309 : BitVec 32) {Q : _ → PP F}
    (H : InvB R c f5 σ skip 176 ⊢ Q ⟨(st f5 σ skip 3 22), (st f5 σ skip 3 23), (st f5 σ skip 4 22), (st f5 σ skip 4 23), (st f5 σ skip 5 22), (st f5 σ skip 5 23), (Scalar.andi (Scalar.addi v96 96#32) 255#32)⟩) :
    InvB R c f5 σ skip 176 ⊢ Wp c (k0_part83 m0 h0 m1 h1 m2 h2 m3 h3 m4 h4 m5 h5 m6 h6 m7 h7 m8 h8 m9 h9 m10 h10 m11 h11 m12 h12 m13 h13 m14 h14 m15 h15 m16 h16 m17 h17 s18 s19 s20 s21 v1_0 k0_t4 v72 v93 k0_hw14 v96 v3309) Q := by
  rw [k0_part83_eq_skeleton]; unfold k0_part83_skel
  refine step_ld hlt hs 3 22 (by decide) (by decide) (offEq hσ hsk rfl) ?_
  refine step_ld hlt hs 3 23 (by decide) (by decide) (offEq hσ hsk rfl) ?_
  refine step_ld hlt hs 4 22 (by decide) (by decide) (offEq hσ hsk rfl) ?_
  refine step_ld hlt hs 4 23 (by decide) (by decide) (offEq hσ hsk rfl) ?_
  refine step_ld hlt hs 5 22 (by decide) (by decide) (offEq hσ hsk rfl) ?_
  refine step_ld hlt hs 5 23 (by decide) (by decide) (offEq hσ hsk rfl) ?_
  exact step_ret H

theorem part84 (v72 : BitVec 32) (v96 : BitVec 32) (v3351 : BitVec 32) {Q : _ → PP F}
    (H : InvB R c f5 σ skip 176 ⊢ Q ⟨(st f5 σ skip 6 22), (st f5 σ skip 6 23), (st f5 σ skip 7 22), (st f5 σ skip 7 23), (st f5 σ skip 8 22), (st f5 σ skip 8 23), (Scalar.andi (Scalar.addi v96 144#32) 255#32)⟩) :
    InvB R c f5 σ skip 176 ⊢ Wp c (k0_part84 m0 h0 m1 h1 m2 h2 m3 h3 m4 h4 m5 h5 m6 h6 m7 h7 m8 h8 m9 h9 m10 h10 m11 h11 m12 h12 m13 h13 m14 h14 m15 h15 m16 h16 m17 h17 s18 s19 s20 s21 v1_0 k0_t4 v72 v93 k0_hw14 v96 v3351) Q := by
  rw [k0_part84_eq_skeleton]; unfold k0_part84_skel
  refine step_ld hlt hs 6 22 (by decide) (by decide) (offEq hσ hsk rfl) ?_
  refine step_ld hlt hs 6 23 (by decide) (by decide) (offEq hσ hsk rfl) ?_
  refine step_ld hlt hs 7 22 (by decide) (by decide) (offEq hσ hsk rfl) ?_
  refine step_ld hlt hs 7 23 (by decide) (by decide) (offEq hσ hsk rfl) ?_
  refine step_ld hlt hs 8 22 (by decide) (by decide) (offEq hσ hsk rfl) ?_
  refine step_ld hlt hs 8 23 (by decide) (by decide) (offEq hσ hsk rfl) ?_
  exact step_ret H

theorem part85 (v72 : BitVec 32) (v96 : BitVec 32) (v3393 : BitVec 32) {Q : _ → PP F}
    (H : InvB R c f5 σ skip 176 ⊢ Q ⟨(st f5 σ skip 9 22), (st f5 σ skip 9 23), (st f5 σ skip 10 22), (st f5 σ skip 10 23), (st f5 σ skip 11 22), (st f5 σ skip 11 23), (Scalar.andi (Scalar.addi v96 192#32) 255#32)⟩) :
    InvB R c f5 σ skip 176 ⊢ Wp c (k0_part85 m0 h0 m1 h1 m2 h2 m3 h3 m4 h4 m5 h5 m6 h6 m7 h7 m8 h8 m9 h9 m10 h10 m11 h11 m12 h12 m13 h13 m14 h14 m15 h15 m16 h16 m17 h17 s18 s19 s20 s21 v1_0 k0_t4 v72 v93 k0_hw14 v96 v3393) Q := by
  rw [k0_part85_eq_skeleton]; unfold k0_part85_skel
  refine step_ld hlt hs 9 22 (by decide) (by decide) (offEq hσ hsk rfl) ?_
  refine step_ld hlt hs 9 23 (by decide) (by decide) (offEq hσ hsk rfl) ?_
  refine step_ld hlt hs 10 22 (by decide) (by decide) (offEq hσ hsk rfl) ?_
  refine step_ld hlt hs 10 23 (by decide) (by decide) (offEq hσ hsk rfl) ?_
  refine step_ld hlt hs 11 22 (by decide) (by decide) (offEq hσ hsk rfl) ?_
  refine step_ld hlt hs 11 23 (by decide) (by decide) (offEq hσ hsk rfl) ?_
  exact step_ret H

theorem part86 (v72 : BitVec 32) (v96 : BitVec 32) (v3435 : BitVec 32) {Q : _ → PP F}
    (H : InvB R c f5 σ skip 176 ⊢ Q ⟨(st f5 σ skip 12 22), (st f5 σ skip 12 23), (st f5 σ skip 13 22), (st f5 σ skip 13 23), (st f5 σ skip 14 22), (st f5 σ skip 14 23), (Scalar.andi (Scalar.addi v96 240#32) 255#32)⟩) :
    InvB R c f5 σ skip 176 ⊢ Wp c (k0_part86 m0 h0 m1 h1 m2 h2 m3 h3 m4 h4 m5 h5 m6 h6 m7 h7 m8 h8 m9 h9 m10 h10 m11 h11 m12 h12 m13 h13 m14 h14 m15 h15 m16 h16 m17 h17 s18 s19 s20 s21 v1_0 k0_t4 v72 v93 k0_hw14 v96 v3435) Q := by
  rw [k0_part86_eq_skeleton]; unfold k0_part86_skel
  refine step_ld hlt hs 12 22 (by decide) (by decide) (offEq hσ hsk rfl) ?_
  refine step_ld hlt hs 12 23 (by decide) (by decide) (offEq hσ hsk rfl) ?_
  refine step_ld hlt hs 13 22 (by decide) (by decide) (offEq hσ hsk rfl) ?_
  refine step_ld hlt hs 13 23 (by decide) (by decide) (offEq hσ hsk rfl) ?_
  refine step_ld hlt hs 14 22 (by decide) (by decide) (offEq hσ hsk rfl) ?_
  refine step_ld hlt hs 14 23 (by decide) (by decide) (offEq hσ hsk rfl) ?_
  exact step_ret H

theorem part87 (v72 : BitVec 32) (v96 : BitVec 32) (v3477 : BitVec 32) {Q : _ → PP F}
    (H : InvB R c f5 σ skip 182 ⊢ Q ⟨(st f5 σ skip 15 22), (st f5 σ skip 15 23), (cat f5 σ skip 6 11)⟩) :
    InvB R c f5 σ skip 176 ⊢ Wp c (k0_part87 m0 h0 m1 h1 m2 h2 m3 h3 m4 h4 m5 h5 m6 h6 m7 h7 m8 h8 m9 h9 m10 h10 m11 h11 m12 h12 m13 h13 m14 h14 m15 h15 m16 h16 m17 h17 s18 s19 s20 s21 v1_0 k0_t4 v72 v93 k0_hw14 v96 (st f5 σ skip 0 22) (st f5 σ skip 0 23) (st f5 σ skip 1 22) (st f5 σ skip 1 23) (st f5 σ skip 2 22) (st f5 σ skip 2 23) (st f5 σ skip 3 22) (st f5 σ skip 3 23) (st f5 σ skip 4 22) (st f5 σ skip 4 23) (st f5 σ skip 5 22) (st f5 σ skip 5 23) (st f5 σ skip 6 22) (st f5 σ skip 6 23) v3477) Q := by
  rw [k0_part87_eq_skeleton]; unfold k0_part87_skel
  refine step_ld hlt hs 15 22 (by decide) (by decide) (offEq hσ hsk rfl) ?_
  refine step_ld hlt hs 15 23 (by decide) (by decide) (offEq hσ hsk rfl) ?_
  refine step_dead fun v3490 => ?_
  refine step_st hs 0 11 (by decide) (by decide) rfl rfl rfl ?_ rfl
  refine step_dead fun v3494 => ?_
  refine step_st hs 1 11 (by decide) (by decide) rfl rfl rfl ?_ rfl
  refine step_dead fun v3498 => ?_
  refine step_st hs 2 11 (by decide) (by decide) rfl rfl rfl ?_ rfl
  refine step_dead fun v3502 => ?_
  refine step_st hs 3 11 (by decide) (by decide) rfl rfl rfl ?_ rfl
  refine step_dead fun v3506 => ?_
  refine step_st hs 4 11 (by decide) (by decide) rfl rfl rfl ?_ rfl
  refine step_dead fun v3510 => ?_
  refine step_st hs 5 11 (by decide) (by decide) rfl rfl rfl ?_ rfl
  exact step_ret H

theorem part88 {Q : _ → PP F}
    (H : InvB R c f5 σ skip 191 ⊢ Q ⟨⟩) :
    InvB R c f5 σ skip 182 ⊢ Wp c (k0_part88 m0 h0 m1 h1 m2 h2 m3 h3 m4 h4 m5 h5 m6 h6 m7 h7 m8 h8 m9 h9 m10 h10 m11 h11 m12 h12 m13 h13 m14 h14 m15 h15 m16 h16 m17 h17 s18 s19 s20 s21 (st f5 σ skip 7 22) (st f5 σ skip 7 23) (st f5 σ skip 8 22) (st f5 σ skip 8 23) (st f5 σ skip 9 22) (st f5 σ skip 9 23) (st f5 σ skip 10 22) (st f5 σ skip 10 23) (st f5 σ skip 11 22) (st f5 σ skip 11 23) (st f5 σ skip 12 22) (st f5 σ skip 12 23) (st f5 σ skip 13 22) (st f5 σ skip 13 23) (st f5 σ skip 14 22) (st f5 σ skip 14 23) (cat f5 σ skip 6 11)) Q := by
  rw [k0_part88_eq_skeleton]; unfold k0_part88_skel
  refine step_dead fun v3514 => ?_
  refine step_st hs 6 11 (by decide) (by decide) rfl rfl rfl ?_ rfl
  refine step_dead fun v3518 => ?_
  refine step_st hs 7 11 (by decide) (by decide) rfl rfl rfl ?_ rfl
  refine step_dead fun v3522 => ?_
  refine step_st hs 8 11 (by decide) (by decide) rfl rfl rfl ?_ rfl
  refine step_dead fun v3526 => ?_
  refine step_st hs 9 11 (by decide) (by decide) rfl rfl rfl ?_ rfl
  refine step_dead fun v3530 => ?_
  refine step_st hs 10 11 (by decide) (by decide) rfl rfl rfl ?_ rfl
  refine step_dead fun v3534 => ?_
  refine step_st hs 11 11 (by decide) (by decide) rfl rfl rfl ?_ rfl
  refine step_dead fun v3538 => ?_
  refine step_st hs 12 11 (by decide) (by decide) rfl rfl rfl ?_ rfl
  refine step_dead fun v3542 => ?_
  refine step_st hs 13 11 (by decide) (by decide) rfl rfl rfl ?_ rfl
  refine step_dead fun v3546 => ?_
  refine step_st hs 14 11 (by decide) (by decide) rfl rfl rfl ?_ rfl
  exact step_ret H

end Cert.KernelIdeal.Hand
-- ==== Proof.KI.Part91.lean ====
/-
  A tile up to the middle of its strips.
-/
module

public import proofs.«01_k».proof.Proof.KI.Part2
public import proofs.«01_k».proof.Proof.KI.Copy1
public import proofs.«01_k».proof.Proof.KI.Copy2
public import proofs.«01_k».proof.Proof.KI.Copy3

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

variable {c : Dev nD} {fx : S12288x3072.Idx → Elt F .bf16} {fw : S8x3072x1536.Idx → Elt F .fp8e4m3} {fs : S8x96x1536.Idx → Elt F .i8} {g : S8.Idx → BitVec 32}
  {f13 f14 f15 f16 f17 : S64.Idx → BitVec 32} {v1_0 : BitVec 32} {nt : ℕ} {t : Fin (k0_t4_loop v1_0).trips}

set_option maxHeartbeats 4000000 in
/-- The fetches of a tile and the first half of its strips. -/
theorem part91 (hv : v1_0.toNat = nt) (hnt : nt ≤ 56) (hp : Plan g f13 f14 f15 f16 f17 nt) (htn : t.val < nt) {Z : PP F}
    {hw6 : k0_chk6 v1_0} {v2 : BitVec 32} {hw4 : k0_chk4 v2} {v10 : BitVec 32} {hw5 : k0_chk5 v10} {Q : _ → PP F}
    (H : ∀ f5 v72 v96 hw14, (∀ r j, r < 256 → j < 3072 → f5 (ix5 (t.val % 2) r j) = fx (gx2 (min (rd f13 t.val).toNat 12032 + r) j)) →
      InvB (Fr2 c fx fw fs f13 f14 f15 f16 f17 nt t.val Z) c f5 (t.val % 2) ((rd f13 t.val).toNat - min (rd f13 t.val).toNat 12032) 128
        ⊢ Q ⟨Scf.iv 0#32 1#32 t.val, v72, rd f13 t.val, hw14, v96, st f5 (t.val % 2) ((rd f13 t.val).toNat - min (rd f13 t.val).toNat 12032) 0 16, st f5 (t.val % 2) ((rd f13 t.val).toNat - min (rd f13 t.val).toNat 12032) 0 17, st f5 (t.val % 2) ((rd f13 t.val).toNat - min (rd f13 t.val).toNat 12032) 1 16, st f5 (t.val % 2) ((rd f13 t.val).toNat - min (rd f13 t.val).toNat 12032) 1 17, st f5 (t.val % 2) ((rd f13 t.val).toNat - min (rd f13 t.val).toNat 12032) 2 16, st f5 (t.val % 2) ((rd f13 t.val).toNat - min (rd f13 t.val).toNat 12032) 2 17, st f5 (t.val % 2) ((rd f13 t.val).toNat - min (rd f13 t.val).toNat 12032) 3 16, st f5 (t.val % 2) ((rd f13 t.val).toNat - min (rd f13 t.val).toNat 12032) 3 17, st f5 (t.val % 2) ((rd f13 t.val).toNat - min (rd f13 t.val).toNat 12032) 4 16, st f5 (t.val % 2) ((rd f13 t.val).toNat - min (rd f13 t.val).toNat 12032) 4 17, 80#32⟩) :
    iprop(TB c f13 f14 f15 f16 f17 ∗ owed c ∗ XA c fx f13 nt t.val ∗ XIdle c fx ((t.val + 1) % 2) ∗ WS c fw fs f16 f17 nt t.val ∗ DS c fw fs f16 t.val ∗ SD c
        ∗ (∃ f : S256x3072.Idx → Elt F .bf16, own (F := F) c cc0_scratch5 f) ∗ Z)
      ⊢ Wp c (k0_part91 (F := F) m0 h0 m1 h1 m2 h2 m3 h3 m4 h4 m5 h5 m6 h6 m7 h7 m8 h8 m9 h9 m10 h10 m11 h11 m12 h12 m13 h13 m14 h14 m15 h15 m16 h16 m17 h17 s18 s19 s20 s21 v1_0 hw6 v2 hw4 v10 hw5 0#32 1#32 t) Q := by
  have hT := hp t.val htn
  have hd := hT.tw.dvd
  have hl1 := hT.tw.lt
  have hl2 := hT.tw.top
  have hs : 16 ∣ ((rd f13 t.val).toNat - min (rd f13 t.val).toNat 12032) := by omega
  have hlt : t.val % 2 < 2 := Nat.mod_lt _ (by decide)
  have hσ := slot_cur (k := t.val) (by omega)
  have hsk := skip_word (r := rd f13 t.val) rfl (by omega) hd
  rw [k0_part91_eq_skeleton]; unfold k0_part91_skel
  refine step_bind (part2 hv hnt hp htn fun f5 v72 v96 hw14 h5 => ?_)
  refine step_bind (part3 (F := F) hlt hs hσ hsk _ _ ?_)
  refine step_bind (part4 (F := F) hlt hs hσ hsk _ _ ?_)
  refine step_bind (part5 (F := F) hlt hs hσ hsk _ _ ?_)
  refine step_bind (part6 (F := F) hlt hs hσ hsk _ _ ?_)
  refine step_bind (part7 (F := F) hlt hs hσ hsk _ _ ?_)
  refine step_bind (part8 (F := F) hlt hs hσ hsk ?_)
  refine step_bind (part9 (F := F) hlt hs hσ hsk _ ?_)
  refine step_bind (part10 (F := F) hlt hs hσ hsk _ _ _ ?_)
  refine step_bind (part11 (F := F) hlt hs hσ hsk _ _ _ ?_)
  refine step_bind (part12 (F := F) hlt hs hσ hsk _ _ _ ?_)
  refine step_bind (part13 (F := F) hlt hs hσ hsk _ _ _ ?_)
  refine step_bind (part14 (F := F) hlt hs hσ hsk _ _ _ ?_)
  refine step_bind (part15 (F := F) hlt hs hσ hsk _ _ _ ?_)
  refine step_bind (part16 (F := F) hlt hs hσ hsk ?_)
  refine step_bind (part17 (F := F) hlt hs hσ hsk _ _ ?_)
  refine step_bind (part18 (F := F) hlt hs hσ hsk _ _ _ _ ?_)
  refine step_bind (part19 (F := F) hlt hs hσ hsk _ _ _ _ ?_)
  refine step_bind (part20 (F := F) hlt hs hσ hsk _ _ _ _ ?_)
  refine step_bind (part21 (F := F) hlt hs hσ hsk _ _ _ _ ?_)
  refine step_bind (part22 (F := F) hlt hs hσ hsk _ _ _ _ ?_)
  refine step_bind (part23 (F := F) hlt hs hσ hsk ?_)
  refine step_bind (part24 (F := F) hlt hs hσ hsk _ _ ?_)
  refine step_bind (part25 (F := F) hlt hs hσ hsk _ _ _ ?_)
  refine step_bind (part26 (F := F) hlt hs hσ hsk _ _ _ ?_)
  refine step_bind (part27 (F := F) hlt hs hσ hsk _ _ _ ?_)
  refine step_bind (part28 (F := F) hlt hs hσ hsk _ _ _ ?_)
  refine step_bind (part29 (F := F) hlt hs hσ hsk _ _ _ ?_)
  refine step_bind (part30 (F := F) hlt hs hσ hsk fun _ => ?_)
  refine step_bind (part31 (F := F) hlt hs hσ hsk _ _ _ ?_)
  refine step_bind (part32 (F := F) hlt hs hσ hsk _ _ ?_)
  refine step_bind (part33 (F := F) hlt hs hσ hsk _ _ ?_)
  refine step_bind (part34 (F := F) hlt hs hσ hsk _ _ ?_)
  refine step_bind (part35 (F := F) hlt hs hσ hsk _ _ ?_)
  refine step_bind (part36 (F := F) hlt hs hσ hsk _ _ ?_)
  refine step_bind (part37 (F := F) hlt hs hσ hsk ?_)
  refine step_bind (part38 (F := F) hlt hs hσ hsk _ _ ?_)
  refine step_bind (part39 (F := F) hlt hs hσ hsk _ _ ?_)
  refine step_bind (part40 (F := F) hlt hs hσ hsk _ _ ?_)
  refine step_bind (part41 (F := F) hlt hs hσ hsk _ _ ?_)
  refine step_bind (part42 (F := F) hlt hs hσ hsk _ _ ?_)
  refine step_bind (part43 (F := F) hlt hs hσ hsk _ _ ?_)
  refine step_bind (part44 (F := F) hlt hs hσ hsk ?_)
  refine step_bind (part45 (F := F) hlt hs hσ hsk _ ?_)
  refine step_bind (part46 (F := F) hlt hs hσ hsk _ _ _ ?_)
  refine step_bind (part47 (F := F) hlt hs hσ hsk _ _ _ ?_)
  refine step_bind (part48 (F := F) hlt hs hσ hsk _ _ _ ?_)
  refine step_bind (part49 (F := F) hlt hs hσ hsk _ _ _ ?_)
  refine step_bind (part50 (F := F) hlt hs hσ hsk _ _ _ ?_)
  refine step_bind (part51 (F := F) hlt hs hσ hsk _ _ _ ?_)
  refine step_bind (part52 (F := F) hlt hs hσ hsk ?_)
  refine step_bind (part53 (F := F) hlt hs hσ hsk _ _ ?_)
  refine step_bind (part54 (F := F) hlt hs hσ hsk _ _ _ _ ?_)
  refine step_bind (part55 (F := F) hlt hs hσ hsk _ _ _ _ ?_)
  refine step_bind (part56 (F := F) hlt hs hσ hsk _ _ _ _ ?_)
  refine step_bind (part57 (F := F) hlt hs hσ hsk _ _ _ _ ?_)
  refine step_bind (part58 (F := F) hlt hs hσ hsk _ _ _ _ ?_)
  refine step_bind (part59 (F := F) hlt hs hσ hsk ?_)
  refine step_bind (part60 (F := F) hlt hs hσ hsk _ _ ?_)
  refine step_bind (part61 (F := F) hlt hs hσ hsk _ _ _ ?_)
  refine step_ret ?_
  exact H f5 v72 v96 hw14 h5

end Cert.KernelIdeal.Hand
-- ==== Proof.KI.Tile.lean ====
/-
  One tile of the product.
-/
module

public import proofs.«01_k».proof.Proof.KI.Part90
public import proofs.«01_k».proof.Proof.KI.Part91

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

variable {c : Dev nD} {fx : S12288x3072.Idx → Elt F .bf16} {fw : S8x3072x1536.Idx → Elt F .fp8e4m3} {fs : S8x96x1536.Idx → Elt F .i8} {g : S8.Idx → BitVec 32}
  {f13 f14 f15 f16 f17 : S64.Idx → BitVec 32} {v1_0 : BitVec 32} {nt : ℕ} {t : Fin (k0_t4_loop v1_0).trips}

set_option maxHeartbeats 4000000 in
/-- A tile from the middle of its strips to the start of its smaller copies. -/
theorem part92 (hv : v1_0.toNat = nt) (hnt : nt ≤ 56) (hp : Plan g f13 f14 f15 f16 f17 nt) (htn : t.val < nt)
    {hw6 : k0_chk6 v1_0} {f5 : S2x256x3072.Idx → Elt F .bf16} {arg22 v72 v96 : BitVec 32} {hw14 : k0_chk14 v1_0 t (rd f13 t.val)}
    (hx5 : ∀ r j, r < 256 → j < 3072 → f5 (ix5 (t.val % 2) r j) = fx (gx2 (min (rd f13 t.val).toNat 12032 + r) j)) {Q : _ → PP F}
    (H : ∀ fo fOld hw, ObufOK fx fw fs g (rd f13 t.val).toNat (rd f14 t.val).toNat (t.val % 2) fo → OutOK fx fw fs g (endAt f14 t.val) fOld →
      IZ c (t.val % 2) (rd f13 t.val).toNat (kk (rd f13 t.val).toNat (rd f14 t.val).toNat) fo fOld (Zt c fx fw fs g f13 f14 f15 f16 f17 nt t.val) 4
        ⊢ Q ⟨rd f13 t.val, rd f14 t.val, hw⟩) :
    InvB (Fr2 c fx fw fs f13 f14 f15 f16 f17 nt t.val iprop(CS c fx fw fs g f14 t.val ∗ OP c fx fw fs g f13 f14 t.val ∗ OX c t.val)) c f5 (t.val % 2) ((rd f13 t.val).toNat - min (rd f13 t.val).toNat 12032) 128
      ⊢ Wp c (k0_part92 (F := F) m0 h0 m1 h1 m2 h2 m3 h3 m4 h4 m5 h5 m6 h6 m7 h7 m8 h8 m9 h9 m10 h10 m11 h11 m12 h12 m13 h13 m14 h14 m15 h15 m16 h16 m17 h17 s18 s19 s20 s21 v1_0 hw6 t arg22 v72 (rd f13 t.val) hw14 v96 (st f5 (t.val % 2) ((rd f13 t.val).toNat - min (rd f13 t.val).toNat 12032) 0 16) (st f5 (t.val % 2) ((rd f13 t.val).toNat - min (rd f13 t.val).toNat 12032) 0 17) (st f5 (t.val % 2) ((rd f13 t.val).toNat - min (rd f13 t.val).toNat 12032) 1 16) (st f5 (t.val % 2) ((rd f13 t.val).toNat - min (rd f13 t.val).toNat 12032) 1 17) (st f5 (t.val % 2) ((rd f13 t.val).toNat - min (rd f13 t.val).toNat 12032) 2 16) (st f5 (t.val % 2) ((rd f13 t.val).toNat - min (rd f13 t.val).toNat 12032) 2 17) (st f5 (t.val % 2) ((rd f13 t.val).toNat - min (rd f13 t.val).toNat 12032) 3 16) (st f5 (t.val % 2) ((rd f13 t.val).toNat - min (rd f13 t.val).toNat 12032) 3 17) (st f5 (t.val % 2) ((rd f13 t.val).toNat - min (rd f13 t.val).toNat 12032) 4 16) (st f5 (t.val % 2) ((rd f13 t.val).toNat - min (rd f13 t.val).toNat 12032) 4 17) 80#32) Q := by
  have ht64 : t.val < 64 := by omega
  have hT := hp t.val htn
  have hd := hT.tw.dvd
  have hl1 := hT.tw.lt
  have hl2 := hT.tw.top
  have hs : 16 ∣ ((rd f13 t.val).toNat - min (rd f13 t.val).toNat 12032) := by omega
  have hlt : t.val % 2 < 2 := Nat.mod_lt _ (by decide)
  have hσ := slot_cur (k := t.val) (by omega)
  have hsk := skip_word (r := rd f13 t.val) rfl (by omega) hd
  rw [k0_part92_eq_skeleton]; unfold k0_part92_skel
  refine step_bind (part62 (F := F) hlt hs hσ hsk _ _ _ ?_)
  refine step_bind (part63 (F := F) hlt hs hσ hsk _ _ _ ?_)
  refine step_bind (part64 (F := F) hlt hs hσ hsk _ _ _ ?_)
  refine step_bind (part65 (F := F) hlt hs hσ hsk _ _ _ ?_)
  refine step_bind (part66 (F := F) hlt hs hσ hsk fun _ => ?_)
  refine step_bind (part67 (F := F) hlt hs hσ hsk _ _ _ ?_)
  refine step_bind (part68 (F := F) hlt hs hσ hsk _ _ ?_)
  refine step_bind (part69 (F := F) hlt hs hσ hsk _ _ ?_)
  refine step_bind (part70 (F := F) hlt hs hσ hsk _ _ ?_)
  refine step_bind (part71 (F := F) hlt hs hσ hsk _ _ ?_)
  refine step_bind (part72 (F := F) hlt hs hσ hsk _ _ ?_)
  refine step_bind (part73 (F := F) hlt hs hσ hsk ?_)
  refine step_bind (part74 (F := F) hlt hs hσ hsk _ _ ?_)
  refine step_bind (part75 (F := F) hlt hs hσ hsk _ _ ?_)
  refine step_bind (part76 (F := F) hlt hs hσ hsk _ _ ?_)
  refine step_bind (part77 (F := F) hlt hs hσ hsk _ _ ?_)
  refine step_bind (part78 (F := F) hlt hs hσ hsk _ _ ?_)
  refine step_bind (part79 (F := F) hlt hs hσ hsk _ _ ?_)
  refine step_bind (part80 (F := F) hlt hs hσ hsk ?_)
  refine step_bind (part81 (F := F) hlt hs hσ hsk _ ?_)
  refine step_bind (part82 (F := F) hlt hs hσ hsk _ _ _ ?_)
  refine step_bind (part83 (F := F) hlt hs hσ hsk _ _ _ ?_)
  refine step_bind (part84 (F := F) hlt hs hσ hsk _ _ _ ?_)
  refine step_bind (part85 (F := F) hlt hs hσ hsk _ _ _ ?_)
  refine step_bind (part86 (F := F) hlt hs hσ hsk _ _ _ ?_)
  refine step_bind (part87 (F := F) hlt hs hσ hsk _ _ _ ?_)
  refine step_bind (part88 (F := F) hlt hs hσ hsk ?_)

  refine step_bind (part89 hnt hp htn hx5 fun v hcv => ?_)
  refine step_bind (part90 hv hnt hp htn hcv fun fo fOld hw a b hfo hOld => ?_)
  refine step_dite (Mid := IZ c (t.val % 2) (rd f13 t.val).toNat (kk (rd f13 t.val).toNat (rd f14 t.val).toNat) fo fOld (Zt c fx fw fs g f13 f14 f15 f16 f17 nt t.val) 3) ?_
    (fun hR h => iz_go hT.tw.kk_lt (by decide) hlt ((cond12_iff hT.tw).mp h) rfl (off70_eq hT.tw) (off71_eq hT.tw ht64) hR)
    (fun h => iz_skip hT.tw.kk_lt (by decide) (fun h' => h ((cond12_iff hT.tw).mpr h')))
  refine step_dite (Mid := IZ c (t.val % 2) (rd f13 t.val).toNat (kk (rd f13 t.val).toNat (rd f14 t.val).toNat) fo fOld (Zt c fx fw fs g f13 f14 f15 f16 f17 nt t.val) 4) ?_
    (fun hR h => iz_go hT.tw.kk_lt (by decide) hlt ((cond13_iff hT.tw).mp h) rfl (off72_eq hT.tw) (off73_eq hT.tw ht64) hR)
    (fun h => iz_skip hT.tw.kk_lt (by decide) (fun h' => h ((cond13_iff hT.tw).mpr h')))
  exact ret_of (H fo fOld hw hfo hOld)

/-- What holds before tile `t`. -/
def Inv (c : Dev nD) (fx : S12288x3072.Idx → Elt F .bf16) (fw : S8x3072x1536.Idx → Elt F .fp8e4m3) (fs : S8x96x1536.Idx → Elt F .i8) (g : S8.Idx → BitVec 32)
    (f13 f14 f15 f16 f17 : S64.Idx → BitVec 32) (nt t : ℕ) : PP F :=
  iprop(TB c f13 f14 f15 f16 f17 ∗ owed c ∗ XA c fx f13 nt t ∗ XIdle c fx ((t + 1) % 2) ∗ WS c fw fs f16 f17 nt t ∗ DS c fw fs f16 t ∗ SD c
    ∗ (∃ f : S256x3072.Idx → Elt F .bf16, own (F := F) c cc0_scratch5 f) ∗ CS c fx fw fs g f14 t ∗ OP c fx fw fs g f13 f14 t ∗ OX c t)

/-- One tile. -/
theorem tile_step (hv : v1_0.toNat = nt) (hnt : nt ≤ 56) (hp : Plan g f13 f14 f15 f16 f17 nt) (htn : t.val < nt)
    {hw6 : k0_chk6 v1_0} {v2 : BitVec 32} {hw4 : k0_chk4 v2} {v10 : BitVec 32} {hw5 : k0_chk5 v10} {a : BitVec 32} :
    Inv c fx fw fs g f13 f14 f15 f16 f17 nt t.val
      ⊢ Wp c (k0_t4_body (F := F) m0 h0 m1 h1 m2 h2 m3 h3 m4 h4 m5 h5 m6 h6 m7 h7 m8 h8 m9 h9 m10 h10 m11 h11 m12 h12 m13 h13 m14 h14 m15 h15 m16 h16 m17 h17 s18 s19 s20 s21 v1_0 hw6 v2 hw4 v10 hw5 t a) (fun _ => Inv c fx fw fs g f13 f14 f15 f16 f17 nt (t.val + 1)) := by
  have ht64 : t.val < 64 := by omega
  have hT := hp t.val htn
  have hlt : t.val % 2 < 2 := Nat.mod_lt _ (by decide)
  unfold k0_t4_body Inv
  refine step_bind (part91 hv hnt hp htn fun f5 v72 v96 hw14 hx5 => ?_)
  refine step_bind (part92 hv hnt hp htn hx5 fun fo fOld hw hfo hOld => ?_)
  refine step_dite (Mid := IZ c (t.val % 2) (rd f13 t.val).toNat (kk (rd f13 t.val).toNat (rd f14 t.val).toNat) fo fOld (Zt c fx fw fs g f13 f14 f15 f16 f17 nt t.val) 5) ?_
    (fun hR h => iz_go hT.tw.kk_lt (by decide) hlt ((cond14_iff hT.tw).mp h) rfl (off74_eq hT.tw) (off75_eq hT.tw ht64) hR)
    (fun h => iz_skip hT.tw.kk_lt (by decide) (fun h' => h ((cond14_iff hT.tw).mpr h')))
  refine ret_of ?_
  have e2 : (t.val + 1 + 1) % 2 = t.val % 2 := by omega
  rw [OP_pos (show 0 < t.val + 1 by omega)]
  unfold IZ Zt Yt OV
  rw [e2, Nat.add_sub_cancel]
  iintro ⟨HI, HT, HO, ⟨HX, HX2, HW, HD, HS, HQ, HC⟩, HX3⟩
  isplitl [HT]; · iexact HT
  isplitl [HO]; · iexact HO
  isplitl [HX2]; · iexact HX2
  isplitl [HX]; · iexact HX
  isplitl [HW]; · iexact HW
  isplitl [HD]; · iexact HD
  isplitl [HS]; · iexact HS
  isplitl [HQ]; · iexact HQ
  isplitl [HC]; · iexact HC
  isplitr [HX3]
  · iexists fo, fOld
    isplitr
    · ipureintro; exact ⟨hfo, hOld⟩
    iapply (ob_issued hT.tw.kk_lt) $$ HI
  iexact HX3

end Cert.KernelIdeal.Hand
-- ==== Proof.KI.Body.lean ====
/-
  The whole kernel.
-/
module

public import proofs.«01_k».proof.Proof.KI.Tile

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

variable {c : Dev nD} {fx : S12288x3072.Idx → Elt F .bf16} {fw : S8x3072x1536.Idx → Elt F .fp8e4m3} {fs : S8x96x1536.Idx → Elt F .i8} {g : S8.Idx → BitVec 32}
  {f13 f14 f15 f16 f17 : S64.Idx → BitVec 32} {v1_0 : BitVec 32} {nt n : ℕ}

theorem r5_compl : (Finset.univ : Finset (Idx ((c : Thread nD τ).loc cc0_scratch0))) \ slot5 c 0 = slot5 c 1 := by
  ext y
  have hy : ((y : S2x256x3072.Idx) 0).val < 2 := ((y : S2x256x3072.Idx) 0).isLt
  unfold slot5
  rw [Finset.mem_sdiff, Finset.mem_filter, Finset.mem_filter]
  constructor
  · intro h
    refine ⟨Finset.mem_univ _, ?_⟩
    have h1 : ¬ ((y : S2x256x3072.Idx) 0).val = 0 := fun h0 => h.2 ⟨Finset.mem_univ _, h0⟩
    show ((y : S2x256x3072.Idx) 0).val = 1
    omega
  · intro h
    refine ⟨Finset.mem_univ _, fun h0 => ?_⟩
    have h1 : ((y : S2x256x3072.Idx) 0).val = 1 := h.2
    have h2 : ((y : S2x256x3072.Idx) 0).val = 0 := h0.2
    omega

theorem r5_split {f : S2x256x3072.Idx → Elt F .bf16} :
    own (F := F) c cc0_scratch0 f ⊢ iprop(part c cc0_scratch0 (slot5 c 0) fullShare f ∗ part c cc0_scratch0 (slot5 c 1) fullShare f) := by
  have h : own (F := F) c cc0_scratch0 f ⊢ iprop(part c cc0_scratch0 (slot5 c 0) fullShare f ∗ part c cc0_scratch0 ((Finset.univ : Finset (Idx ((c : Thread nD τ).loc cc0_scratch0))) \ slot5 c 0) fullShare f) :=
    (pointsTo_split_subset (Finset.subset_univ _)).1
  rw [r5_compl] at h
  exact h

theorem r5_join {f f' : S2x256x3072.Idx → Elt F .bf16} :
    iprop(part c cc0_scratch0 (slot5 c 0) fullShare f ∗ part c cc0_scratch0 (slot5 c 1) fullShare f') ⊢ iprop(∃ f : S2x256x3072.Idx → Elt F .bf16, own (F := F) c cc0_scratch0 f) := by
  have h : iprop(part c cc0_scratch0 (slot5 c 0) fullShare f ∗ part c cc0_scratch0 ((Finset.univ : Finset (Idx ((c : Thread nD τ).loc cc0_scratch0))) \ slot5 c 0) fullShare f')
      ⊢ own (F := F) c cc0_scratch0 ((slot5 c 0).piecewise f f') :=
    pointsTo_join_subset (Finset.subset_univ _)
  rw [r5_compl] at h
  refine h.trans ?_
  iintro H
  iexists _
  iexact H

theorem r6_compl : (Finset.univ : Finset (Idx ((c : Thread nD τ).loc cc0_scratch6))) \ slot6 c 0 = slot6 c 1 := by
  ext y
  have hy : ((y : S2x256x1536.Idx) 0).val < 2 := ((y : S2x256x1536.Idx) 0).isLt
  unfold slot6
  rw [Finset.mem_sdiff, Finset.mem_filter, Finset.mem_filter]
  constructor
  · intro h
    refine ⟨Finset.mem_univ _, ?_⟩
    have h1 : ¬ ((y : S2x256x1536.Idx) 0).val = 0 := fun h0 => h.2 ⟨Finset.mem_univ _, h0⟩
    show ((y : S2x256x1536.Idx) 0).val = 1
    omega
  · intro h
    refine ⟨Finset.mem_univ _, fun h0 => ?_⟩
    have h1 : ((y : S2x256x1536.Idx) 0).val = 1 := h.2
    have h2 : ((y : S2x256x1536.Idx) 0).val = 0 := h0.2
    omega

theorem r6_split {f : S2x256x1536.Idx → Elt F .bf16} :
    own (F := F) c cc0_scratch6 f ⊢ iprop(part c cc0_scratch6 (slot6 c 0) fullShare f ∗ part c cc0_scratch6 (slot6 c 1) fullShare f) := by
  have h : own (F := F) c cc0_scratch6 f ⊢ iprop(part c cc0_scratch6 (slot6 c 0) fullShare f ∗ part c cc0_scratch6 ((Finset.univ : Finset (Idx ((c : Thread nD τ).loc cc0_scratch6))) \ slot6 c 0) fullShare f) :=
    (pointsTo_split_subset (Finset.subset_univ _)).1
  rw [r6_compl] at h
  exact h

theorem r6_join {f f' : S2x256x1536.Idx → Elt F .bf16} :
    iprop(part c cc0_scratch6 (slot6 c 0) fullShare f ∗ part c cc0_scratch6 (slot6 c 1) fullShare f') ⊢ iprop(∃ f : S2x256x1536.Idx → Elt F .bf16, own (F := F) c cc0_scratch6 f) := by
  have h : iprop(part c cc0_scratch6 (slot6 c 0) fullShare f ∗ part c cc0_scratch6 ((Finset.univ : Finset (Idx ((c : Thread nD τ).loc cc0_scratch6))) \ slot6 c 0) fullShare f')
      ⊢ own (F := F) c cc0_scratch6 ((slot6 c 0).piecewise f f') :=
    pointsTo_join_subset (Finset.subset_univ _)
  rw [r6_compl] at h
  refine h.trans ?_
  iintro H
  iexists _
  iexact H

theorem arg0_split : own (F := F) c main_arg0 fx ⊢ iprop(part c main_arg0 Finset.univ (hsh 0) fx ∗ part c main_arg0 Finset.univ (hsh 1) fx) :=
  (pointsTo_share (PosShare.mem_left_op_right fullShare)).1

theorem arg0_join : iprop(part c main_arg0 Finset.univ (hsh 0) fx ∗ part c main_arg0 Finset.univ (hsh 1) fx) ⊢ own (F := F) c main_arg0 fx :=
  (pointsTo_share (PosShare.mem_left_op_right fullShare)).2

theorem xi_both : iprop(XIdle c fx (n % 2) ∗ XIdle c fx ((n + 1) % 2)) ⊢ iprop(XIdle c fx 0 ∗ XIdle c fx 1) := by
  rcases Nat.mod_two_eq_zero_or_one n with h | h
  · have h2 : (n + 1) % 2 = 1 := by omega
    rw [h, h2]
  · have h2 : (n + 1) % 2 = 0 := by omega
    rw [h, h2]
    iintro ⟨H1, H2⟩
    isplitl [H2]; · iexact H2
    iexact H1

theorem ox_both : iprop(OX (F := F) c n ∗ OX (F := F) c (n + 1)) ⊢ iprop(∃ f : S2x256x1536.Idx → Elt F .bf16, own (F := F) c cc0_scratch6 f) := by
  unfold OX
  rcases Nat.mod_two_eq_zero_or_one n with h | h
  · have h2 : (n + 1) % 2 = 1 := by omega
    rw [h, h2]
    iintro ⟨⟨%f1, H1⟩, ⟨%f2, H2⟩⟩
    iapply (r6_join) $$ [H1 H2]
    isplitl [H1]; · iexact H1
    iexact H2
  · have h2 : (n + 1) % 2 = 0 := by omega
    rw [h, h2]
    iintro ⟨⟨%f1, H1⟩, ⟨%f2, H2⟩⟩
    iapply (r6_join) $$ [H1 H2]
    isplitl [H2]; · iexact H2
    iexact H1

theorem ws_end : WS c fw fs f16 f17 nt nt ⊢ WIdle c fw fs := by
  unfold WS
  iintro ⟨%u, %hu, HW⟩
  have e : u = nt := by omega
  subst e
  have e2 : WA c fw fs f16 u u = WIdle c fw fs := if_neg (Nat.lt_irrefl u)
  ihave HW := (Entails.of_eq e2) $$ HW
  iexact HW

/-- What the kernel starts and ends with, `φ` true of its result. -/
def Rst (c : Dev nD) (fx : S12288x3072.Idx → Elt F .bf16) (fw : S8x3072x1536.Idx → Elt F .fp8e4m3) (fs : S8x96x1536.Idx → Elt F .i8) (g : S8.Idx → BitVec 32)
    (φ : (S12288x1536.Idx → Elt F .bf16) → Prop) : PP F :=
  iprop(own (F := F) c cc0_stg0_0 g ∗ Tabs (F := F) c (fun _ _ _ _ _ => True) ∗ owed c ∗ own (F := F) c main_arg0 fx
    ∗ (∃ f : S2x256x3072.Idx → Elt F .bf16, own (F := F) c cc0_scratch0 f) ∗ sval c (.dma (x18 0)) 0 ∗ sval c (.dma (x18 1)) 0 ∗ WIdle c fw fs
    ∗ (∃ f : S3072x1536.Idx → Elt F .bf16, own (F := F) c cc0_scratch3 f) ∗ SD c ∗ (∃ f : S256x3072.Idx → Elt F .bf16, own (F := F) c cc0_scratch5 f)
    ∗ (∃ f : S2x256x1536.Idx → Elt F .bf16, own (F := F) c cc0_scratch6 f) ∗ (∃ f : S16x1536.Idx → Elt F .bf16, own (F := F) c cc0_scratch7 f)
    ∗ (∃ f : S12288x1536.Idx → Elt F .bf16, ⌜φ f⌝ ∗ own (F := F) c main_v0 f) ∗ sval c (.dma s21.sem) 0)

/-- What is held beside the last tile's copies. -/
def Ze (c : Dev nD) (fx : S12288x3072.Idx → Elt F .bf16) (fw : S8x3072x1536.Idx → Elt F .fp8e4m3) (fs : S8x96x1536.Idx → Elt F .i8) (g : S8.Idx → BitVec 32)
    (f13 f14 f15 f16 f17 : S64.Idx → BitVec 32) (n : ℕ) : PP F :=
  iprop(own (F := F) c cc0_stg0_0 g ∗ TB c f13 f14 f15 f16 f17 ∗ XIdle c fx (n % 2) ∗ XIdle c fx ((n + 1) % 2) ∗ WS c fw fs f16 f17 n n ∗ DS c fw fs f16 n ∗ SD c
    ∗ (∃ f : S256x3072.Idx → Elt F .bf16, own (F := F) c cc0_scratch5 f) ∗ CS c fx fw fs g f14 n ∗ OX c n)

set_option maxHeartbeats 4000000 in
theorem part185 (hG : pre g 8 = 12288) {Q : _ → PP F}
    (H : ∀ v1_0 f13 f14 f15 f16 f17 n fo fOld hw, v1_0.toNat = n → Done g n f13 f14 f15 f16 f17 →
      ObufOK fx fw fs g (rd f13 (n - 1)).toNat (rd f14 (n - 1)).toNat ((n - 1) % 2) fo → OutOK fx fw fs g (endAt f14 (n - 1)) fOld →
      WZ c ((n - 1) % 2) (rd f13 (n - 1)).toNat (kk (rd f13 (n - 1)).toNat (rd f14 (n - 1)).toNat) fo fOld (Ze c fx fw fs g f13 f14 f15 f16 f17 n) 0
        ⊢ Q ⟨v1_0, rd f13 (n - 1), rd f14 (n - 1), hw⟩) :
    Rst c fx fw fs g (fun _ => True) ⊢ Wp c (k0_part185 (F := F) m0 h0 m1 h1 m2 h2 m3 h3 m4 h4 m5 h5 m6 h6 m7 h7 m8 h8 m9 h9 m10 h10 m11 h11 m12 h12 m13 h13 m14 h14 m15 h15 m16 h16 m17 h17 s18 s19 s20 s21) Q := by
  rw [k0_part185_eq_skeleton]; unfold k0_part185_skel
  unfold Rst WIdle
  iintro ⟨Hg, HT, HO, Hx, ⟨%f5, H5⟩, Hv0, Hv1, ⟨⟨Hw, ⟨%gw, H6⟩, Hvw⟩, ⟨Hs, ⟨%gs, H7⟩, Hvs⟩⟩, ⟨%f8, H8⟩, HS, HQ, ⟨%f6, Ho6⟩, ⟨%f7, H12⟩, ⟨%fOld, -, Hout⟩, Hvo⟩
  iapply (plan_rule hG) $$ [Hg HT]
  · isplitl [Hg]; · iexact Hg
    iexact HT
  iintro %vv
  obtain ⟨v1_0, v1_1⟩ := vv
  unfold Tabs
  iintro ⟨Hg, %f13, %f14, %f15, %f16, %f17, %hd, H13, H14, H15, H16, H17⟩
  obtain ⟨hp, hend, h0, h56⟩ := hd
  obtain ⟨n, hn⟩ : ∃ n, v1_0.toNat = n := ⟨_, rfl⟩
  have hp : Plan g f13 f14 f15 f16 f17 n := hn ▸ hp
  have hend : endAt f14 n = 12288 := hn ▸ hend
  have h0 : 0 < n := hn ▸ h0
  have h56 : n ≤ 56 := hn ▸ h56
  have hT := hp 0 h0
  have hl1 := hT.tw.lt
  have hl2 := hT.tw.top
  have hR : (rd f13 0).toNat < 12288 := by omega
  have hF : (rd f17 0).toNat = 1 := by
    rcases hT.first with h | h
    · exact h
    · exact absurd h.2.1 (Nat.lt_irrefl 0)
  have hTl := hp (n - 1) (by omega)
  iapply (as_rule (chk6_ok hn (by omega) h0))
  iapply (ld13 0 rfl) $$ H13; iintro H13
  iapply (as_rule (chk4_ok rfl hR hT.tw.dvd))
  ihave Hx2 := (arg0_split) $$ Hx
  icases Hx2 with ⟨Hxa, Hxb⟩
  ihave H52 := (r5_split) $$ H5
  icases H52 with ⟨H5a, H5b⟩
  ihave H62 := (r6_split) $$ Ho6
  icases H62 with ⟨H6a, H6b⟩
  iapply (x_start (σ := 0) (s0 := min (rd f13 0).toNat 12032) (by decide) rfl (x_off rfl hR) rfl) $$ [Hxa H5a Hv0]
  · isplitl [Hxa]; · iexact Hxa
    isplitl [H5a]; · iexact H5a
    iexact Hv0
  iintro HXF
  iapply (ld16 0 rfl) $$ H16; iintro H16
  iapply (as_rule (chk5_ok hT.exp))
  iapply (w_start (e := (rd f16 0).toNat) rfl) $$ [Hw H6 Hvw]
  · isplitl [Hw]; · iexact Hw
    isplitl [H6]; · iexact H6
    iexact Hvw
  iintro HWF
  iapply (s_start (e := (rd f16 0).toNat) rfl) $$ [Hs H7 Hvs]
  · isplitl [Hs]; · iexact Hs
    isplitl [H7]; · iexact H7
    iexact Hvs
  iintro HSF
  iapply (for_rule _ _ 0#32 _ (fun k _ => Inv c fx fw fs g f13 f14 f15 f16 f17 n k)
    (fun k acc => tile_step hn h56 hp (lt_of_lt_of_eq k.isLt (t4_trips hn (by omega))))) $$ [HO H13 H14 H15 H16 H17 HXF Hxb H5b Hv1 HWF HSF H8 HS HQ H6a H6b H12 Hout Hvo]
  · unfold Inv TB CS DS
    rw [XA_pos h0, OP_neg (Nat.lt_irrefl 0)]
    unfold XIdle OC OX
    isplitl [H13 H14 H15 H16 H17]
    · isplitl [H13]; · iexact H13
      isplitl [H14]; · iexact H14
      isplitl [H15]; · iexact H15
      isplitl [H16]; · iexact H16
      iexact H17
    isplitl [HO]; · iexact HO
    isplitl [HXF]; · iexact HXF
    isplitl [Hxb H5b Hv1]
    · isplitl [Hxb]; · iexact Hxb
      isplitl [H5b]
      · iexists _; iexact H5b
      iexact Hv1
    isplitl [HWF HSF]
    · iapply (WS_some h0 ⟨Nat.le_refl 0, fun k _ hk => absurd hk (Nat.not_lt_zero _), hF⟩)
      unfold WFly
      isplitl [HWF]; · iexact HWF
      iexact HSF
    isplitl [H8]
    · iexists f8
      isplitr
      · ipureintro; exact fun h => absurd h (Nat.lt_irrefl 0)
      iexact H8
    isplitl [HS]; · iexact HS
    isplitl [HQ]; · iexact HQ
    isplitl [H12]
    · iexists f7
      isplitr
      · ipureintro; exact fun h => absurd h (Nat.lt_irrefl 0)
      iexact H12
    isplitr [H6a]
    · iexists fOld
      isplitr
      · ipureintro; exact fun row j h => absurd h (Nat.not_lt_zero _)
      isplitl [Hout]; · iexact Hout
      isplitl [H6b]
      · iexists f6; iexact H6b
      iexact Hvo
    iexists f6; iexact H6a
  iintro %acc HI
  have e1 : Inv c fx fw fs g f13 f14 f15 f16 f17 n (k0_t4_loop v1_0).trips = Inv c fx fw fs g f13 f14 f15 f16 f17 n n := by rw [t4_trips hn (by omega)]
  ihave HI := (Entails.of_eq e1) $$ HI
  iapply (for0_rule _ _ _ _ t6_trips)
  have e2 : Inv c fx fw fs g f13 f14 f15 f16 f17 n n ⊢ iprop(TB c f13 f14 f15 f16 f17 ∗ owed c ∗ XIdle c fx (n % 2) ∗ XIdle c fx ((n + 1) % 2) ∗ WS c fw fs f16 f17 n n ∗ DS c fw fs f16 n ∗ SD c
    ∗ (∃ f : S256x3072.Idx → Elt F .bf16, own (F := F) c cc0_scratch5 f) ∗ CS c fx fw fs g f14 n ∗ OV c fx fw fs g f13 f14 n 0 ∗ OX c n) := by
    unfold Inv
    rw [XA_neg (Nat.lt_irrefl n), OP_pos h0]
  ihave HI := e2 $$ HI
  unfold OV TB
  icases HI with ⟨⟨H13, H14, HT⟩, HO, HX, HX2, HW, HD, HS, HQ, HC, ⟨%fo, %fOld, %hfo, HOW⟩, HX3⟩
  iapply (ld13 (n - 1) (off145_eq hn h0)) $$ H13; iintro H13
  iapply (ld14 (n - 1) (off145_eq hn h0)) $$ H14; iintro H14
  iapply (as_rule (chk29_ok hTl.tw hn h0))
  iapply (ret_rule)
  iapply (H v1_0 f13 f14 f15 f16 f17 n fo fOld _ hn ⟨hp, hend, h0, h56⟩ hfo.1 hfo.2)
  unfold WZ Ze TB
  isplitl [HOW]; · iexact HOW
  isplitl [HO]; · iexact HO
  isplitl [Hg]; · iexact Hg
  isplitl [H13 H14 HT]
  · isplitl [H13]; · iexact H13
    isplitl [H14]; · iexact H14
    iexact HT
  isplitl [HX]; · iexact HX
  isplitl [HX2]; · iexact HX2
  isplitl [HW]; · iexact HW
  isplitl [HD]; · iexact HD
  isplitl [HS]; · iexact HS
  isplitl [HQ]; · iexact HQ
  isplitl [HC]; · iexact HC
  iexact HX3

set_option maxHeartbeats 4000000 in
theorem part186 {Z : PP F} {fo : S2x256x1536.Idx → Elt F .bf16} {fOld : S12288x1536.Idx → Elt F .bf16} (hT : Tw (rd f13 (n - 1)) (rd f14 (n - 1)) (rd f13 (n - 1)).toNat (rd f14 (n - 1)).toNat)
    {hw : k0_chk29 v1_0 (rd f13 (n - 1)) (rd f14 (n - 1))} {Q : _ → PP F}
    (H : ∀ a b, WZ c ((n - 1) % 2) (rd f13 (n - 1)).toNat (kk (rd f13 (n - 1)).toNat (rd f14 (n - 1)).toNat) fo fOld Z 4 ⊢ Q ⟨a, b⟩) :
    WZ c ((n - 1) % 2) (rd f13 (n - 1)).toNat (kk (rd f13 (n - 1)).toNat (rd f14 (n - 1)).toNat) fo fOld Z 0
      ⊢ Wp c (k0_part186 (F := F) m0 h0 m1 h1 m2 h2 m3 h3 m4 h4 m5 h5 m6 h6 m7 h7 m8 h8 m9 h9 m10 h10 m11 h11 m12 h12 m13 h13 m14 h14 m15 h15 m16 h16 m17 h17 s18 s19 s20 s21 v1_0 (rd f13 (n - 1)) (rd f14 (n - 1)) hw) Q := by
  rw [k0_part186_eq_skeleton]; unfold k0_part186_skel
  refine step_dite (Mid := WZ c ((n - 1) % 2) (rd f13 (n - 1)).toNat (kk (rd f13 (n - 1)).toNat (rd f14 (n - 1)).toNat) fo fOld Z 1) ?_
    (fun hR h => wz_go hT.kk_lt (by decide) ((cond29_iff hT).mp h) rfl hR) (fun h => wz_skip hT.kk_lt (by decide) (fun h' => h ((cond29_iff hT).mpr h')))
  refine step_dite (Mid := WZ c ((n - 1) % 2) (rd f13 (n - 1)).toNat (kk (rd f13 (n - 1)).toNat (rd f14 (n - 1)).toNat) fo fOld Z 2) ?_
    (fun hR h => wz_go hT.kk_lt (by decide) ((cond30_iff hT).mp h) rfl hR) (fun h => wz_skip hT.kk_lt (by decide) (fun h' => h ((cond30_iff hT).mpr h')))
  refine step_dite (Mid := WZ c ((n - 1) % 2) (rd f13 (n - 1)).toNat (kk (rd f13 (n - 1)).toNat (rd f14 (n - 1)).toNat) fo fOld Z 3) ?_
    (fun hR h => wz_go hT.kk_lt (by decide) ((cond31_iff hT).mp h) rfl hR) (fun h => wz_skip hT.kk_lt (by decide) (fun h' => h ((cond31_iff hT).mpr h')))
  refine step_dite (Mid := WZ c ((n - 1) % 2) (rd f13 (n - 1)).toNat (kk (rd f13 (n - 1)).toNat (rd f14 (n - 1)).toNat) fo fOld Z 4) ?_
    (fun hR h => wz_go hT.kk_lt (by decide) ((cond32_iff hT).mp h) rfl hR) (fun h => wz_skip hT.kk_lt (by decide) (fun h' => h ((cond32_iff hT).mpr h')))
  exact ret_of (H _ _)

set_option maxHeartbeats 4000000 in
/-- The kernel, from its scratch to its result. -/
theorem body_rule (hG : pre g 8 = 12288) :
    Rst c fx fw fs g (fun _ => True) ⊢ Wp c (cc0_mxfp8_grouped_matmul (F := F) m0 h0 m1 h1 m2 h2 m3 h3 m4 h4 m5 h5 m6 h6 m7 h7 m8 h8 m9 h9 m10 h10 m11 h11 m12 h12 m13 h13 m14 h14 m15 h15 m16 h16 m17 h17 s18 s19 s20 s21) (fun _ => Rst c fx fw fs g (OutOK fx fw fs g 12288)) := by
  rw [cc0_mxfp8_grouped_matmul_eq_skeleton]; unfold cc0_mxfp8_grouped_matmul_skel
  refine step_bind (part185 hG fun v1_0 f13 f14 f15 f16 f17 n fo fOld hw hn hd hfo hOld => ?_)
  have hT := hd.1 (n - 1) (by have := hd.2.2.1; omega)
  refine step_bind (part186 hT.tw fun a b => ?_)
  refine step_dite (Mid := WZ c ((n - 1) % 2) (rd f13 (n - 1)).toNat (kk (rd f13 (n - 1)).toNat (rd f14 (n - 1)).toNat) fo fOld (Ze c fx fw fs g f13 f14 f15 f16 f17 n) 5) ?_
    (fun hR h => wz_go hT.tw.kk_lt (by decide) ((cond33_iff hT.tw).mp h) rfl hR) (fun h => wz_skip hT.tw.kk_lt (by decide) (fun h' => h ((cond33_iff hT.tw).mpr h')))
  have hend := out_next (fx := fx) (fw := fw) (fs := fs) (g := g) hT.tw.top (show (rd f13 (n - 1)).toNat ≤ endAt f14 (n - 1) by have := hT.start; omega) hfo hOld
  have he : (rd f14 (n - 1)).toNat = 12288 := by
    have h1 := hd.2.1
    obtain ⟨k, rfl⟩ : ∃ k, n = k + 1 := ⟨n - 1, by have := hd.2.2.1; omega⟩
    exact h1
  have h2 : (n - 1) % 2 = (n + 1) % 2 := by have := hd.2.2.1; omega
  unfold WZ Ze DS CS TB
  iintro ⟨HW, HO, Hg, ⟨H13, H14, H15, H16, H17⟩, HX, HX2, HWS, ⟨%fd, -, HD⟩, HS, HQ, ⟨%fc, -, HC⟩, HX3⟩
  iapply fupdWp
  imod (ob_collect hT.tw.kk_lt) $$ HW with ⟨Ho, Hsl, Hv⟩
  imodintro
  iapply (ret_rule)
  ihave HXX := (xi_both) $$ [HX HX2]
  · isplitl [HX]; · iexact HX
    iexact HX2
  unfold XIdle
  icases HXX with ⟨⟨Hxa, ⟨%fa, H5a⟩, Hva⟩, ⟨Hxb, ⟨%fb, H5b⟩, Hvb⟩⟩
  ihave Hx := (arg0_join) $$ [Hxa Hxb]
  · isplitl [Hxa]; · iexact Hxa
    iexact Hxb
  ihave H5 := (r5_join) $$ [H5a H5b]
  · isplitl [H5a]; · iexact H5a
    iexact H5b
  ihave H6 := (ox_both) $$ [HX3 Hsl]
  · isplitl [HX3]; · iexact HX3
    unfold OX
    iexists fo
    rw [← h2]
    iexact Hsl
  ihave HWI := (ws_end) $$ HWS
  unfold Rst Tabs
  isplitl [Hg]; · iexact Hg
  isplitl [H13 H14 H15 H16 H17]
  · iexists f13; iexists f14; iexists f15; iexists f16; iexists f17
    isplitr
    · ipureintro; exact True.intro
    isplitl [H13]; · iexact H13
    isplitl [H14]; · iexact H14
    isplitl [H15]; · iexact H15
    isplitl [H16]; · iexact H16
    iexact H17
  isplitl [HO]; · iexact HO
  isplitl [Hx]; · iexact Hx
  isplitl [H5]; · iexact H5
  isplitl [Hva]; · iexact Hva
  isplitl [Hvb]; · iexact Hvb
  isplitl [HWI]; · iexact HWI
  isplitl [HD]
  · iexists _; iexact HD
  isplitl [HS]; · iexact HS
  isplitl [HQ]; · iexact HQ
  isplitl [H6]; · iexact H6
  isplitl [HC]
  · iexists _; iexact HC
  isplitr [Hv]
  · iexists _
    isplitr
    rotate_left
    · iexact Ho
    ipureintro; rw [he] at hend; rw [he]; exact hend
  iexact Hv

end Cert.KernelIdeal.Hand
-- ==== Proof.KI.Run.lean ====
/-
  The launch of the kernel: the body's triple turned into the run of the whole program.
-/
module

public import proofs.«01_k».proof.Proof.KI.Body
public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.FrameValue

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

open Idealize.ShloMosaic.Pipeline (Dat Cfg Window BodyObligation)

local notation "𝕄" => MT nD τ sig Unit (Elt F) ℕ (Pipeline.UD sig nD τ) ℕ

variable (m : (ℓ : Loc nD τ sig) → Buf (Elt F) ℓ) (ρ : Dev nD → PrngReg)

/-- The buffer the body writes itself: the result. -/
def R0 : Finset (Ref sig .tc) := {main_v0}

/-- The operands its copies read. -/
def H0 : Finset (Ref sig .tc) := {main_arg0, main_arg2, main_arg3}

/-- The memory at the start. -/
abbrev V0 (c : Dev nD) (b : Ref sig .tc) : Buf (Elt F) ((c : Thread nD τ).loc b) := m ((c : Thread nD τ).loc b)

theorem hmain0 (𝒱₀ : Variants) : Pipeline.HMain (Ix := Unit) (Name := ℕ) (U := Pipeline.UD sig nD τ) (Lvl := ℕ) cfgs 0 defs₀ 𝒱₀ m (main (F := F)) (V0 m) :=
  Pipeline.hmain_region cfgs 0 defs₀ 𝒱₀ m main fun c => (main_chain c).trans rfl

/-- The body's own semaphore cells. -/
abbrev osem0 : Fin 5 → SemLoc sig := fun j => (![SemLoc.dma 1, SemLoc.dma 2, SemLoc.dma 3, SemLoc.dma 4, SemLoc.dma 5] : Fin 5 → SemLoc sig) j

theorem ownSemFacts0 : Pipeline.OwnSemFacts spec0 osem0 := by decide

theorem ownSems00_eq (c : Dev nD) :
    (Pipeline.ownSems0 (Ix := Unit) (Name := ℕ) (U := Pipeline.UD sig nD τ) (Lvl := ℕ) (Val := Elt F) (τ := τ) osem0 c : sProp 𝕄)
      = iprop(semVal ((c : Thread nD τ), SemLoc.dma 1) 0 ∗ semVal ((c : Thread nD τ), SemLoc.dma 2) 0
          ∗ semVal ((c : Thread nD τ), SemLoc.dma 3) 0 ∗ semVal ((c : Thread nD τ), SemLoc.dma 4) 0 ∗ semVal ((c : Thread nD τ), SemLoc.dma 5) 0) := by
  rw [Pipeline.ownSems0_eq_of_list c osem0 [0, 1, 2, 3, 4] (by decide) (by decide)]; rfl

theorem H0_sub : H0 ⊆ Pipeline.restRefs sig spec0 := by decide

theorem R0_sub : R0 ⊆ Pipeline.restRefs sig spec0 \ H0 := by decide

theorem hbmPts0_eq (c : Dev nD) :
    (bigSep H0 (fun b => ((c : Thread nD τ).loc b) ↦{fullShare} V0 m c b) : sProp 𝕄)
      = iprop(own (F := F) c main_arg0 (V0 m c main_arg0) ∗ own (F := F) c main_arg2 (V0 m c main_arg2) ∗ own (F := F) c main_arg3 (V0 m c main_arg3)) := by
  rw [BI.bigSep_eq_bigSepL_of_eq [main_arg0, main_arg2, main_arg3] (by decide) (by decide)]; rfl

theorem ownedPts0_eq (c : Dev nD) :
    (Pipeline.owned R0 c : sProp 𝕄)
      = iprop(∃ f : Buf (Elt F) ((c : Thread nD τ).loc main_v0), own (F := F) c main_v0 f) := by
  unfold Pipeline.owned
  rw [BI.bigSep_eq_bigSepL_of_eq [main_v0] (by decide) (by decide)]; rfl

theorem routed0_eq (c : Dev nD) (G : (b : Ref sig .tc) → Buf (Elt F) ((c : Thread nD τ).loc b)) :
    (Pipeline.routed R0 c G : sProp 𝕄) = own (F := F) c main_v0 (G main_v0) := by
  unfold Pipeline.routed
  rw [BI.bigSep_eq_bigSepL_of_eq [main_v0] (by decide) (by decide)]; rfl

/-- The body's state between its start and its end, with a fact about the result. -/
def Mid (c : Dev nD) (φ : (S12288x1536.Idx → Elt F .bf16) → Prop) : PP F :=
  iprop(Pipeline.scopedRest (Ix := Unit) (Name := ℕ) (U := Pipeline.UD sig nD τ) (Lvl := ℕ) (Val := Elt F) spec0 c ∗ (∃ r, prngReg c r)
    ∗ Pipeline.ownSems0 (Ix := Unit) (Name := ℕ) (U := Pipeline.UD sig nD τ) (Lvl := ℕ) (Val := Elt F) (τ := τ) osem0 c
    ∗ (bigSep H0 fun b => ((c : Thread nD τ).loc b) ↦{fullShare} V0 m c b)
    ∗ (∃ f : S12288x1536.Idx → Elt F .bf16, ⌜φ f⌝ ∗ own (F := F) c main_v0 f))

/-- The fact the body leaves behind. -/
def Fin0 (c : Dev nD) : (S12288x1536.Idx → Elt F .bf16) → Prop :=
  OutOK (V0 m c main_arg0) (V0 m c main_arg2) (V0 m c main_arg3) (V0 m c main_arg1) 12288

def dats (_ : Fin 1) (c : Dev nD) : Dat τ (Elt F) Unit ℕ (Pipeline.UD sig nD τ) ℕ (cfg0 (F := F)) c where
  A w := V0 m c (Pipeline.arrRef spec0 w)
  after w t := match w with
    | ⟨0, _⟩ => V0 m c main_arg1
  Φ t := Mid m c (if t.val = 0 then fun _ => True else Fin0 m c)
  q _ := fullShare
  owed _ := 0

theorem A_eq (c : Dev nD) (w : Fin (cfg0 (F := F)).W) : (dats m 0 c).A w = V0 m c (Pipeline.arrRef spec0 w) := by
  dsimp only [dats]

theorem after0_0 (c : Dev nD) (t : Fin (cfg0 (F := F)).N) : (dats m 0 c).after 0 t = V0 m c main_arg1 := rfl

/-- The one window is the whole array of sizes. -/
theorem before0_0 (c : Dev nD) (t : Fin (cfg0 (F := F)).N) (d) : (dats m 0 c).before 0 t d = V0 m c main_arg1 := by
  rw [Dat.before_fetched _ 0 t (fetch0_0 t)]
  rw [fin_N0 t]
  unfold Dat.fetched Dat.blockOf
  dsimp only [dats]
  funext i
  unfold Window.fill
  rw [dif_pos (((cfg0 (F := F)).win 0).moved_iff _ i |>.mpr fun a => (i a).isLt)]
  show V0 m c main_arg1 _ = V0 m c main_arg1 _
  congr 1
  funext a
  apply Fin.ext
  match a with
  | ⟨0, _⟩ => show 0 + 1 * (i ⟨0, _⟩).val = (i ⟨0, _⟩).val; omega

def bodyPre (c : Dev nD) (t : Fin (cfg0 (F := F)).N) : sProp 𝕄 :=
  iprop((dats m 0 c).Φ t.castSucc ∗ (dats m 0 c).owesAt () t.castSucc
    ∗ (∃ d, owns (c : Thread nD τ) (st0_0 t) fullShare ((dats m 0 c).before 0 t d)))

def bodyPost (c : Dev nD) (t : Fin (cfg0 (F := F)).N) : sProp 𝕄 :=
  iprop((dats m 0 c).Φ t.succ ∗ (dats m 0 c).owesAt () t.succ
    ∗ owns (c : Thread nD τ) (st0_0 t) fullShare ((dats m 0 c).after 0 t))

theorem enter {c : Dev nD} {g : S8.Idx → BitVec 32} :
    iprop(Mid m c (fun _ => True) ∗ owed c ∗ own c cc0_stg0_0 g)
      ⊢ iprop((∃ r, prngReg c r) ∗ Rst c (V0 m c main_arg0) (V0 m c main_arg2) (V0 m c main_arg3) g (fun _ => True)) := by
  unfold Mid Rst Tabs WIdle SD
  rw [scopedRest0_eq, ownSems00_eq, hbmPts0_eq]
  iintro ⟨⟨⟨HS0, HS1, HS2, HS3, HS4, HS5, HS6, HS7, HS8, HS9, HS10, HS11, HS12⟩, Hp, ⟨Hq1, Hq2, Hq3, Hq4, Hq5⟩, ⟨Hx, Hw, Hs⟩, Hv⟩, HO, Hg⟩
  isplitl [Hp]; · iexact Hp
  isplitl [Hg]; · iexact Hg
  isplitl [HS8 HS9 HS10 HS11 HS12]
  · icases HS8 with ⟨%f8, HS8⟩
    icases HS9 with ⟨%f9, HS9⟩
    icases HS10 with ⟨%f10, HS10⟩
    icases HS11 with ⟨%f11, HS11⟩
    icases HS12 with ⟨%f12, HS12⟩
    iexists f8; iexists f9; iexists f10; iexists f11; iexists f12
    isplitr
    · ipureintro; exact True.intro
    isplitl [HS8]; · iexact HS8
    isplitl [HS9]; · iexact HS9
    isplitl [HS10]; · iexact HS10
    isplitl [HS11]; · iexact HS11
    iexact HS12
  isplitl [HO]; · iexact HO
  isplitl [Hx]; · iexact Hx
  isplitl [HS0]; · iexact HS0
  isplitl [Hq1]; · iexact Hq1
  isplitl [Hq2]; · iexact Hq2
  isplitl [Hw Hs HS1 HS2 Hq3 Hq4]
  · isplitl [Hw HS1 Hq3]
    · isplitl [Hw]; · iexact Hw
      isplitl [HS1]; · iexact HS1
      iexact Hq3
    isplitl [Hs]; · iexact Hs
    isplitl [HS2]; · iexact HS2
    iexact Hq4
  isplitl [HS3]; · iexact HS3
  isplitl [HS4]; · iexact HS4
  isplitl [HS5]; · iexact HS5
  isplitl [HS6]; · iexact HS6
  isplitl [HS7]; · iexact HS7
  isplitl [Hv]; · iexact Hv
  iexact Hq5

theorem leave {c : Dev nD} {g : S8.Idx → BitVec 32} {φ : (S12288x1536.Idx → Elt F .bf16) → Prop} :
    iprop((∃ r, prngReg c r) ∗ Rst c (V0 m c main_arg0) (V0 m c main_arg2) (V0 m c main_arg3) g φ)
      ⊢ iprop(Mid m c φ ∗ owed c ∗ own c cc0_stg0_0 g) := by
  unfold Mid Rst Tabs WIdle SD
  rw [scopedRest0_eq, ownSems00_eq, hbmPts0_eq]
  iintro ⟨Hp, Hg, ⟨%f8, %f9, %f10, %f11, %f12, -, HS8, HS9, HS10, HS11, HS12⟩, HO, Hx, HS0, Hq1, Hq2, ⟨⟨Hw, HS1, Hq3⟩, ⟨Hs, HS2, Hq4⟩⟩, HS3, HS4, HS5, HS6, HS7, Hv, Hq5⟩
  isplitr [HO Hg]
  · isplitl [HS0 HS1 HS2 HS3 HS4 HS5 HS6 HS7 HS8 HS9 HS10 HS11 HS12]
    · isplitl [HS0]; · iexact HS0
      isplitl [HS1]; · iexact HS1
      isplitl [HS2]; · iexact HS2
      isplitl [HS3]; · iexact HS3
      isplitl [HS4]; · iexact HS4
      isplitl [HS5]; · iexact HS5
      isplitl [HS6]; · iexact HS6
      isplitl [HS7]; · iexact HS7
      isplitl [HS8]; · iexists _; iexact HS8
      isplitl [HS9]; · iexists _; iexact HS9
      isplitl [HS10]; · iexists _; iexact HS10
      isplitl [HS11]; · iexists _; iexact HS11
      iexists _; iexact HS12
    isplitl [Hp]; · iexact Hp
    isplitl [Hq1 Hq2 Hq3 Hq4 Hq5]
    · isplitl [Hq1]; · iexact Hq1
      isplitl [Hq2]; · iexact Hq2
      isplitl [Hq3]; · iexact Hq3
      isplitl [Hq4]; · iexact Hq4
      iexact Hq5
    isplitl [Hx Hw Hs]
    · isplitl [Hx]; · iexact Hx
      isplitl [Hw]; · iexact Hw
      iexact Hs
    iexact Hv
  isplitl [HO]; · iexact HO
  iexact Hg

theorem mid_rule {c : Dev nD} (hG : pre (V0 m c main_arg1) 8 = 12288) :
    iprop(Mid m c (fun _ => True) ∗ owed c ∗ own c cc0_stg0_0 (V0 m c main_arg1))
      ⊢ Wp c (cc0_mxfp8_grouped_matmul (F := F) m0 h0 m1 h1 m2 h2 m3 h3 m4 h4 m5 h5 m6 h6 m7 h7 m8 h8 m9 h9 m10 h10 m11 h11 m12 h12 m13 h13 m14 h14 m15 h15 m16 h16 m17 h17 s18 s19 s20 s21)
          (fun _ => iprop(Mid m c (Fin0 m c) ∗ owed c ∗ own c cc0_stg0_0 (V0 m c main_arg1))) := by
  refine (enter m).trans ?_
  refine (sep_mono_right (body_rule hG)).trans ?_
  refine (wp_frame_l _ _ _).trans ?_
  exact wp_mono _ _ _ fun _ => leave m

theorem stage_eq (t : Fin (cfg0 (F := F)).N) : st0_0 (F := F) t = Memref.whole cc0_stg0_0 := by
  rw [fin_N0 t]; rfl

theorem pre_conv (c : Dev nD) : bodyPre m c t0_0 ⊢ iprop(Mid m c (fun _ => True) ∗ owed c ∗ own c cc0_stg0_0 (V0 m c main_arg1)) := by
  have e1 : (dats m 0 c).Φ t0_0.castSucc = Mid m c (fun _ => True) := rfl
  have e2 : ∀ d, owns (c : Thread nD τ) (st0_0 (F := F) t0_0) fullShare ((dats m 0 c).before 0 t0_0 d) = own c cc0_stg0_0 (V0 m c main_arg1) := by
    intro d
    rw [before0_0]
    exact owns_whole (c : Thread nD τ) cc0_stg0_0 fullShare (V0 m c main_arg1)
  unfold bodyPre Dat.owesAt Pipeline.owesWithin
  iintro ⟨HM, ⟨%W, -, HW⟩, ⟨%d, H⟩⟩
  ihave HM := (Entails.of_eq e1) $$ HM
  ihave H := (Entails.of_eq (e2 d)) $$ H
  isplitl [HM]; · iexact HM
  isplitl [HW]; · iexists W; iexact HW
  iexact H

theorem post_conv (c : Dev nD) : iprop(Mid m c (Fin0 m c) ∗ owed c ∗ own c cc0_stg0_0 (V0 m c main_arg1)) ⊢ bodyPost m c t0_0 := by
  have e1 : Mid m c (Fin0 m c) = (dats m 0 c).Φ t0_0.succ := rfl
  have e2 : own c cc0_stg0_0 (V0 m c main_arg1) = owns (c : Thread nD τ) (st0_0 (F := F) t0_0) fullShare ((dats m 0 c).after 0 t0_0) :=
    (owns_whole (c : Thread nD τ) cc0_stg0_0 fullShare (V0 m c main_arg1)).symm
  unfold bodyPost Dat.owesAt Pipeline.owesWithin
  iintro ⟨HM, ⟨%W, HW⟩, H⟩
  ihave HM := (Entails.of_eq e1) $$ HM
  ihave H := (Entails.of_eq e2) $$ H
  isplitl [HM]; · iexact HM
  isplitl [HW]
  · iexists W
    isplitr
    · ipureintro; exact fun _ _ => Or.inl trivial
    iexact HW
  iexact H

theorem defs₀_row (t : Fin (cfg0 (F := F)).N) :
    defs₀ (F := F) .tc (cfg0 (F := F)).body ((cfg0 (F := F)).bodyArgs t ((cfg0 (F := F)).slots t)) = bodyAt0 t := by
  unfold defs₀; rw [Defs.onTc_tc]

theorem bodyAt0_eq : bodyAt0 (F := F) t0_0 = cc0_mxfp8_grouped_matmul (F := F) m0 h0 m1 h1 m2 h2 m3 h3 m4 h4 m5 h5 m6 h6 m7 h7 m8 h8 m9 h9 m10 h10 m11 h11 m12 h12 m13 h13 m14 h14 m15 h15 m16 h16 m17 h17 s18 s19 s20 s21 := rfl

theorem sound_body (hG : ∀ c, pre (V0 m c main_arg1) 8 = 12288) (c : Dev nD) (t : Fin (cfg0 (F := F)).N) :
    bodyPre m c t ⊢ Wp c (bodyAt0 t) (fun _ => bodyPost m c t) := by
  rw [fin_N0 t, bodyAt0_eq]
  refine (pre_conv m c).trans ?_
  refine (mid_rule m (hG c)).trans ?_
  exact wp_mono _ _ _ fun _ => post_conv m c

theorem body_obligation (hG : ∀ c, pre (V0 m c main_arg1) 8 = 12288) (c : Dev nD) :
    BodyObligation (dats (F := F) m 0 c) (defs₀ (F := F)) Variants.nat () Set.univ := fun t => by
  rw [bigSep_W0, bigSep_W0, defs₀_row]
  exact triple_restated (sound_body m hG c t) rfl .rfl fun _ => .rfl

theorem hin_R (c : Dev nD) : Pipeline.ΦDR osem0 spec0 H0 R0 (V0 m) c ⊢ Mid m c (fun _ => True) := by
  rw [Pipeline.ΦDR_eq, ownedPts0_eq]
  unfold Mid
  iintro ⟨H1, H2, H3, H4, ⟨%f, H5⟩⟩
  isplitl [H1]; · iexact H1
  isplitl [H2]; · iexact H2
  isplitl [H3]; · iexact H3
  isplitl [H4]; · iexact H4
  iexists f
  isplitr
  · ipureintro; exact True.intro
  iexact H5

theorem hout_R (c : Dev nD) (φ : (S12288x1536.Idx → Elt F .bf16) → Prop) : Mid m c φ ⊢ Pipeline.ΦDR osem0 spec0 H0 R0 (V0 m) c := by
  rw [Pipeline.ΦDR_eq, ownedPts0_eq]
  unfold Mid
  iintro ⟨H1, H2, H3, H4, ⟨%f, -, H5⟩⟩
  isplitl [H1]; · iexact H1
  isplitl [H2]; · iexact H2
  isplitl [H3]; · iexact H3
  isplitl [H4]; · iexact H4
  iexists f
  iexact H5

theorem hin_RG (c : Dev nD) : Pipeline.ΦDRG osem0 spec0 H0 R0 (V0 m) (V0 m) c ⊢ Mid m c (fun _ => True) := by
  rw [Pipeline.ΦDRG_eq, routed0_eq]
  unfold Mid
  iintro ⟨H1, H2, H3, H4, H5⟩
  isplitl [H1]; · iexact H1
  isplitl [H2]; · iexact H2
  isplitl [H3]; · iexact H3
  isplitl [H4]; · iexact H4
  iexists _
  isplitr
  rotate_left
  · iexact H5
  ipureintro; exact True.intro

theorem hout_RG (c : Dev nD) (G : (c : Dev nD) → (b : Ref sig .tc) → Buf (Elt F) ((c : Thread nD τ).loc b))
    (hU : ∀ f : S12288x1536.Idx → Elt F .bf16, Fin0 m c f → f = G c main_v0) :
    Mid m c (Fin0 m c) ⊢ Pipeline.ΦDRG osem0 spec0 H0 R0 (V0 m) G c := by
  rw [Pipeline.ΦDRG_eq, routed0_eq]
  unfold Mid
  iintro ⟨H1, H2, H3, H4, ⟨%f, %hf, H5⟩⟩
  isplitl [H1]; · iexact H1
  isplitl [H2]; · iexact H2
  isplitl [H3]; · iexact H3
  isplitl [H4]; · iexact H4
  rw [← hU f hf]
  iexact H5

theorem memR {b : Ref sig .tc} (h : b ∈ Pipeline.restRefs sig spec0) : b ∈ Pipeline.restRefs sig (cfgs (F := F) 0).spec := h

/-- What the arguments hold at the end. -/
theorem args_end {r : PUnit × MemSt nD τ sig (Elt F)} (h : Pipeline.FramePostR cfgs (dats m) 0 R0 (V0 m) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  ⟨(h c).2 main_arg0 (Finset.mem_sdiff.mpr ⟨memR (by decide), by decide⟩),
    ((h c).1 0).trans (((dats m 0 c).arrAt_in 0 rfl _).trans (A_eq m c 0)),
    (h c).2 main_arg2 (Finset.mem_sdiff.mpr ⟨memR (by decide), by decide⟩),
    (h c).2 main_arg3 (Finset.mem_sdiff.mpr ⟨memR (by decide), by decide⟩)⟩

set_option backward.isDefEq.respectTransparency.types false in
theorem run_main (hG : ∀ c, pre (V0 m c main_arg1) 8 = 12288) :
    θ_run defs (onTc (τ := τ) (main (F := F))) (s₀ m ρ) (fun r => Pipeline.FramePostR cfgs (dats m) 0 R0 (V0 m) r ∧ r.2.sem = fun _ => 0) :=
  Pipeline.θ_run_frame_dmaR (Q' := _) cfgs (dats m) (0 : Fin 1) launch0 osem0 defs₀ Variants.nat ownSemFacts0 H0 R0 H0_sub R0_sub m ρ main
    (hbody := fun c => (body_obligation m hG c).loose) (hshare := fun c => (dats m 0 c).share_full fun _ => rfl)
    (howed := fun _ _ => rfl) (V := V0 m) (hmain := hmain0 m Variants.nat) (hA := A_eq m)
    (hin := fun c => hin_R m c) (hout := fun c => hout_R m c (Fin0 m c))

/-- The frame. -/
theorem frame (hG : ∀ c, pre (V0 m c main_arg1) 8 = 12288) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun _ h => ⟨fun c => args_end m h.1 c, h.2⟩) (run_main m ρ hG)

set_option backward.isDefEq.respectTransparency.types false in
theorem run_val (hG : ∀ c, pre (V0 m c main_arg1) 8 = 12288) (G : (c : Dev nD) → (b : Ref sig .tc) → Buf (Elt F) ((c : Thread nD τ).loc b))
    (hU : ∀ c, ∀ f : S12288x1536.Idx → Elt F .bf16, Fin0 m c f → f = G c main_v0) :
    θ_run defs (onTc (τ := τ) (main (F := F))) (s₀ m ρ) (fun r => Pipeline.FramePostRG cfgs (dats m) 0 R0 (V0 m) G r ∧ r.2.sem = fun _ => 0) :=
  Pipeline.θ_run_frame_dmaRG (Q' := _) cfgs (dats m) (0 : Fin 1) launch0 osem0 defs₀ Variants.nat ownSemFacts0 H0 R0 H0_sub R0_sub m ρ main
    (hbody := fun c => (body_obligation m hG c).loose) (hshare := fun c => (dats m 0 c).share_full fun _ => rfl)
    (howed := fun _ _ => rfl) (V := V0 m) (hmain := hmain0 m Variants.nat) (hA := A_eq m) (G := G)
    (hin := fun c => hin_RG m c) (hout := fun c => hout_RG m c G (hU c))

/-- The value, where the result's facts determine it. -/
theorem value (hG : ∀ c, pre (V0 m c main_arg1) 8 = 12288) (G : (c : Dev nD) → (b : Ref sig .tc) → Buf (Elt F) ((c : Thread nD τ).loc b))
    (hU : ∀ c, ∀ f : S12288x1536.Idx → Elt F .bf16, Fin0 m c f → f = G c main_v0) :
    θ_run defs (onTc (τ := τ) (main (F := F))) ⟨m, fun _ => 0, ρ⟩ (fun r => ∀ c : Dev nD,
      r.2.mem ((c.tc : Thread nD τ).loc main_v0) = G c main_v0
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨h.1.2 c main_v0 (by decide), args_end m h.1.1 c⟩) (run_val m ρ hG G hU)

end Cert.KernelIdeal.Hand
-- ==== Proof.K.Base.lean ====
/-
  The vocabulary of the proof: the program's memrefs under short names, the logic's algebra, and the weakest precondition
  of a piece of the kernel's body.
-/
module

public import proofs.«01_k».proof.Proof.Gen.Kernel.Launch
public import proofs.«01_k».proof.Proof.Gen.Kernel.Skeleton
public import proofs.«01_k».proof.Proof.Gen.Kernel.Points
public import Idealize.ShloMosaic.Lib.Pipeline.FrameBody
public import Idealize.ShloMosaic.Lib.MixedBatch
public import Idealize.ShloMosaic.Lib.Tactic
public import Idealize.ShloMosaic.Lib.WordCmp
public import Idealize.ShloMosaic.Lib.WordArith
public import Idealize.ShloMosaic.Lib.WordArith.Masks
public import Idealize.ShloMosaic.Lib.Pointwise
public import Idealize.ShloMosaic.Lib.ValueLayout

@[expose] public section

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-! ### The kernel's operands -/

abbrev m0 : Memref sig .tc .smem S8 .i32 := Memref.whole cc0_stg0_0
abbrev m1 : Memref sig .tc .hbm S12288x3072 .bf16 := Memref.whole main_arg0
abbrev m2 : Memref sig .tc .hbm S8x3072x1536 .fp8e4m3 := Memref.whole main_arg2
abbrev m3 : Memref sig .tc .hbm S8x96x1536 .i8 := Memref.whole main_arg3
abbrev m4 : Memref sig .tc .hbm S12288x1536 .bf16 := Memref.whole main_v0
abbrev m5 : Memref sig .tc .vmem S2x256x3072 .bf16 := Memref.whole cc0_scratch0
abbrev m6 : Memref sig .tc .vmem S3072x1536 .fp8e4m3 := Memref.whole cc0_scratch1
abbrev m7 : Memref sig .tc .vmem S96x1536 .i8 := Memref.whole cc0_scratch2
abbrev m8 : Memref sig .tc .vmem S3072x1536 .bf16 := Memref.whole cc0_scratch3
abbrev m9 : Memref sig .tc .vmem S96x1536 .i32 := Memref.whole cc0_scratch4
abbrev m10 : Memref sig .tc .vmem S256x3072 .bf16 := Memref.whole cc0_scratch5
abbrev m11 : Memref sig .tc .vmem S2x256x1536 .bf16 := Memref.whole cc0_scratch6
abbrev m12 : Memref sig .tc .vmem S16x1536 .bf16 := Memref.whole cc0_scratch7
abbrev m13 : Memref sig .tc .smem S64 .i32 := Memref.whole cc0_scratch8
abbrev m14 : Memref sig .tc .smem S64 .i32 := Memref.whole cc0_scratch9
abbrev m15 : Memref sig .tc .smem S64 .i32 := Memref.whole cc0_scratch10
abbrev m16 : Memref sig .tc .smem S64 .i32 := Memref.whole cc0_scratch11
abbrev m17 : Memref sig .tc .smem S64 .i32 := Memref.whole cc0_scratch12
theorem h0 : m0.IsWhole := Memref.isWhole_whole _
theorem h1 : m1.IsWhole := Memref.isWhole_whole _
theorem h2 : m2.IsWhole := Memref.isWhole_whole _
theorem h3 : m3.IsWhole := Memref.isWhole_whole _
theorem h4 : m4.IsWhole := Memref.isWhole_whole _
theorem h5 : m5.IsWhole := Memref.isWhole_whole _
theorem h6 : m6.IsWhole := Memref.isWhole_whole _
theorem h7 : m7.IsWhole := Memref.isWhole_whole _
theorem h8 : m8.IsWhole := Memref.isWhole_whole _
theorem h9 : m9.IsWhole := Memref.isWhole_whole _
theorem h10 : m10.IsWhole := Memref.isWhole_whole _
theorem h11 : m11.IsWhole := Memref.isWhole_whole _
theorem h12 : m12.IsWhole := Memref.isWhole_whole _
theorem h13 : m13.IsWhole := Memref.isWhole_whole _
theorem h14 : m14.IsWhole := Memref.isWhole_whole _
theorem h15 : m15.IsWhole := Memref.isWhole_whole _
theorem h16 : m16.IsWhole := Memref.isWhole_whole _
theorem h17 : m17.IsWhole := Memref.isWhole_whole _
abbrev s18 : DmaSems sig S2 := cc0_scratch13
abbrev s19 : DmaSems sig S_ := cc0_scratch14
abbrev s20 : DmaSems sig S_ := cc0_scratch15
abbrev s21 : DmaSems sig S_ := cc0_scratch16

/-! ### The logic -/

/-- The proof's algebra: the pipeline library's beside the transfers' counters. -/
abbrev MM (F : FTy → Type) := MT nD τ sig Unit (Elt F) ℕ (Pipeline.UD sig nD τ) ℕ

/-- Assertions. -/
abbrev PP (F : FTy → Type) := sProp (MM F)

/-- A piece of the TensorCore's program. -/
abbrev PG (F : FTy → Type) (α : Type) := Prog (TpuEff nD τ sig (Elt F) (Λ₀ F) .tc) α

/-- The weakest precondition of a piece of the kernel's body. -/
abbrev Wp {α : Type} (c : Dev nD) (p : PG F α) (Q : α → PP F) : PP F :=
  wp frame (wpE (defs₀ (F := F)) Variants.nat (c : Thread nD τ) none) Set.univ p Q

/-- The whole buffer `b` at contents `f`. -/
abbrev own (c : Dev nD) (b : Ref sig .tc) (f : Buf (Elt F) ((c : Thread nD τ).loc b)) : PP F :=
  ((c : Thread nD τ).loc b) ↦{fullShare} f

/-- The elements `S` of the buffer `b`, at contents `f`, at share `q`. -/
abbrev part (c : Dev nD) (b : Ref sig .tc) (S : Finset (Idx ((c : Thread nD τ).loc b))) (q : PosShare TreeShare)
    (f : Buf (Elt F) ((c : Thread nD τ).loc b)) : PP F :=
  ((c : Thread nD τ).loc b) ↦[S]{q} f

theorem wp_lift {α β : Type} (c : Dev nD) (e : TpuEff nD τ sig (Elt F) (Λ₀ F) .tc β) (k : β → PG F α) (Q : α → PP F) :
    Wp c (Prog.lift e >>= k) Q = Wp c (.op e k) Q := rfl

/-- Through a whole buffer's view an element is itself. -/
theorem whole_setOn (b : Ref sig .tc) (M : Finset b.ty.shape.Idx) : (View.whole b : View sig .tc _ _ _).setOn M = M := by
  unfold View.setOn; rw [View.emb_whole]; exact Finset.map_refl

/-- A store through a whole buffer's view, at an element of the rectangle. -/
theorem write_in (b : Ref sig .tc) (r : Rect b.ty.shape) (f : b.ty.Contents (Elt F)) (w : r.shape.Idx → Elt F b.ty.elt)
    (x : r.shape.Idx) : ((Memref.whole b).access r).write (Elt F) f w Finset.univ (r.emb x) = w x := by
  have h := View.write_emb_of_mem (v := (Memref.whole b).access r) f w (M := Finset.univ) (x := x) (Finset.mem_univ _)
  exact h

/-- And off the rectangle. -/
theorem write_out (b : Ref sig .tc) (r : Rect b.ty.shape) (f : b.ty.Contents (Elt F)) (w : r.shape.Idx → Elt F b.ty.elt)
    (y : b.ty.shape.Idx) (hy : y ∉ r.set) : ((Memref.whole b).access r).write (Elt F) f w Finset.univ y = f y := by
  refine View.write_of_not_mem _ _ _ ?_
  show y ∉ ((View.whole b).slice r).set
  rw [View.set_slice]; exact fun h => hy (by exact (Finset.mem_map' (Function.Embedding.refl _)).mp h)

/-- A store of a unit-stride rectangle of a whole buffer, at any element: the stored value inside, the old one outside. -/
theorem write_cases (b : Ref sig .tc) (off size : Fin b.ty.shape.rank → ℕ) (inb)
    (f : b.ty.Contents (Elt F)) (w : (Rect.unit (s := b.ty.shape) off size inb).shape.Idx → Elt F b.ty.elt)
    (y : b.ty.shape.Idx) (P : Elt F b.ty.elt → Prop)
    (hin : ∀ x : (Rect.unit (s := b.ty.shape) off size inb).shape.Idx, (∀ a, (y a).val = off a + (x a).val) → P (w x))
    (hout : ¬ (∀ a, off a ≤ (y a).val ∧ (y a).val < off a + size a) → P (f y)) :
    P (((Memref.whole b).access (Rect.unit (s := b.ty.shape) off size inb)).write (Elt F) f w Finset.univ y) := by
  by_cases h : y ∈ (Rect.unit (s := b.ty.shape) off size inb).set
  · have h' := Rect.mem_set_unit.mp h
    let x : (Rect.unit (s := b.ty.shape) off size inb).shape.Idx :=
      fun a => ⟨(y a).val - off a, by have := h' a; show _ < size a; omega⟩
    have hx : ∀ a, (y a).val = off a + (x a).val := fun a => by
      have := h' a; show (y a).val = off a + ((y a).val - off a); omega
    have hyx : (Rect.unit (s := b.ty.shape) off size inb).emb x = y := by
      funext a
      exact Fin.ext (by show off a + 1 * (x a).val = (y a).val; rw [hx a, Nat.one_mul])
    have hw := write_in (F := F) b (Rect.unit (s := b.ty.shape) off size inb) f w x
    rw [hyx] at hw
    rw [hw]
    exact hin x hx
  · rw [write_out (F := F) b _ f w y h]
    exact hout fun hh => h (Rect.mem_set_unit.mpr hh)

/-- A `[1, a, b]` array read as an `[a, b]` one. -/
theorem cast_drop {α : Type} {a b : ℕ} (v : (⟨3, ![1, a, b]⟩ : Shape).Idx → α)
    (h : (⟨3, ![1, a, b]⟩ : Shape).ShapeCasts ⟨2, ![a, b]⟩) (x : (⟨2, ![a, b]⟩ : Shape).Idx) :
    shapeCast ⟨2, ![a, b]⟩ v h x = v (ValueIdx.ix3 (0 : Fin 1) (x 0) (x 1)) := by
  have hx : x = ValueIdx.ix2 (x 0) (x 1) := by funext k; fin_cases k <;> rfl
  conv_lhs => rw [hx]
  exact ValueIdx.shapeCast_1ab_ab_apply v h (x 0) (x 1)

/-- An `[a, b]` array read as a `[1, a, b]` one. -/
theorem cast_add {α : Type} {a b : ℕ} (v : (⟨2, ![a, b]⟩ : Shape).Idx → α)
    (h : (⟨2, ![a, b]⟩ : Shape).ShapeCasts ⟨3, ![1, a, b]⟩) (x : (⟨3, ![1, a, b]⟩ : Shape).Idx) :
    shapeCast ⟨3, ![1, a, b]⟩ v h x = v (ValueIdx.ix2 (x 1) (x 2)) := by
  have hx : x = ValueIdx.ix3 (x 0) (x 1) (x 2) := by funext k; fin_cases k <;> rfl
  conv_lhs => rw [hx]
  exact ValueIdx.shapeCast_ab_1ab_apply v h (x 0) (x 1) (x 2)

end Cert.Kernel.Hand
-- ==== Proof.K.Copy.lean ====
/-
  The strip copies of a tile's activations: from one slot of the ring buffer, 16 rows by 128 columns at a time, into the
  matrix unit's left operand, 16 rows by 256 columns at a time. One lemma for each kind of step.
-/
module

public import proofs.«01_k».proof.Proof.K.Base
public import Idealize.ShloMosaic.Lib.Pointwise
public import Idealize.ShloMosaic.Lib.ValueLayout

@[expose] public section

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- An index of the ring buffer of activations. -/
def ix5 (a b c : ℕ) : S2x256x3072.Idx
  | 0 => ⟨a % 2, Nat.mod_lt _ (by decide)⟩
  | 1 => ⟨b % 256, Nat.mod_lt _ (by decide)⟩
  | 2 => ⟨c % 3072, Nat.mod_lt _ (by decide)⟩

theorem ix5_eq (i : S2x256x3072.Idx) (a b c : ℕ) (ha : (i 0).val = a) (hb : (i 1).val = b) (hc : (i 2).val = c) :
    i = ix5 a b c := by
  have h0 : (i 0).val < 2 := (i 0).isLt
  have h1 : (i 1).val < 256 := (i 1).isLt
  have h2 : (i 2).val < 3072 := (i 2).isLt
  funext k
  fin_cases k
  · exact Fin.ext (by subst ha; exact (Nat.mod_eq_of_lt h0).symm)
  · exact Fin.ext (by subst hb; exact (Nat.mod_eq_of_lt h1).symm)
  · exact Fin.ext (by subst hc; exact (Nat.mod_eq_of_lt h2).symm)

/-- The elements of slot `σ` of the ring buffer. -/
def slot5 (c : Dev nD) (σ : ℕ) : Finset (Idx ((c : Thread nD τ).loc cc0_scratch0)) :=
  Finset.univ.filter fun i : S2x256x3072.Idx => (i 0).val = σ

/-- What the copy puts at row `r`, column `j` of the left operand. -/
def rowT (f5 : S2x256x3072.Idx → Elt F .bf16) (σ skip r j : ℕ) : Elt F .bf16 :=
  f5 (ix5 σ ((skip + 16 * (r / 16)) % 256 + r % 16) j)

/-- Strip `(i, k)` as the program loads it. -/
def st3 (f5 : S2x256x3072.Idx → Elt F .bf16) (σ skip i k : ℕ) : Vec F S1x16x128 .bf16 :=
  fun x => rowT f5 σ skip (16 * i + (x 1).val) (128 * k + (x 2).val)

/-- Strip `(i, k)` as a matrix. -/
def st (f5 : S2x256x3072.Idx → Elt F .bf16) (σ skip i k : ℕ) : FVec F S16x128 .bf16 :=
  shapeCast S16x128 (st3 f5 σ skip i k) shapeCasts_S1x16x128_S16x128

/-- Two strips side by side. -/
def cat (f5 : S2x256x3072.Idx → Elt F .bf16) (σ skip i k : ℕ) : FVec F S16x256 .bf16 :=
  concatenate S16x256 1 [⟨S16x128, st f5 σ skip i (2 * k)⟩, ⟨S16x128, st f5 σ skip i (2 * k + 1)⟩]
    concatenates_S16x128_S16x128_S16x256_d1

/-- The left operand holds the copy on the first `n` strips. -/
def Agree (f5 : S2x256x3072.Idx → Elt F .bf16) (σ skip n : ℕ) (fq : S256x3072.Idx → Elt F .bf16) : Prop :=
  ∀ y : S256x3072.Idx, 16 * ((y 1).val / 256) + (y 0).val / 16 < n → fq y = rowT f5 σ skip (y 0).val (y 1).val

/-- What is held while a tile's activations are copied: the ring buffer's slot, and the left operand with the first `n`
    strips done. -/
def InvB (R : PP F) (c : Dev nD) (f5 : S2x256x3072.Idx → Elt F .bf16) (σ skip n : ℕ) : PP F :=
  iprop(part c cc0_scratch0 (slot5 c σ) fullShare f5 ∗
    (∃ fq : S256x3072.Idx → Elt F .bf16, ⌜Agree f5 σ skip n fq⌝ ∗ own c cc0_scratch5 fq) ∗ R)

variable {R : PP F} {c : Dev nD} {f5 : S2x256x3072.Idx → Elt F .bf16} {σ skip n : ℕ} {α : Type} {Q : α → PP F}

/-- A load of a strip. -/
theorem step_ld (hσ : σ < 2) (hs : 16 ∣ skip) (i k : ℕ) (hi : i < 16) (hk : k < 24) {off : Fin 3 → ℕ} {inb}
    {hl : m5.view.LoadsAt (Rect.unit (s := S2x256x3072) off S1x16x128.size inb).toLoadRect}
    {K : Vec F S1x16x128 .bf16 → PG F α}
    (hoff : off = ![σ, (skip + 16 * i) % 256, 128 * k])
    (H : InvB R c f5 σ skip n ⊢ Wp c (K (st3 f5 σ skip i k)) Q) :
    InvB R c f5 σ skip n
      ⊢ Wp c (Prog.lift (.load m5 (Rect.unit (s := S2x256x3072) off S1x16x128.size inb).toLoadRect hl) >>= K) Q := by
  subst hoff
  have hval : m5.view.readAt (Elt F) (Rect.unit (s := S2x256x3072) ![σ, (skip + 16 * i) % 256, 128 * k] S1x16x128.size inb).toLoadRect f5
      = st3 f5 σ skip i k := by
    funext x
    have hx0 : (x 0).val < 1 := (x 0).isLt
    have hx1 : (x 1).val < 16 := (x 1).isLt
    have hx2 : (x 2).val < 128 := (x 2).isLt
    unfold st3 rowT
    refine congrArg f5 (ix5_eq _ _ _ _ ?_ ?_ ?_)
    · show σ + 1 * (x 0).val = σ; omega
    · show (skip + 16 * i) % 256 + 1 * (x 1).val = _
      rw [show (16 * i + (x 1).val) / 16 = i by omega, show (16 * i + (x 1).val) % 16 = (x 1).val by omega]; omega
    · show 128 * k + 1 * (x 2).val = _; omega
  rw [wp_lift]
  unfold InvB at H ⊢
  iintro ⟨H5, Hq, HR⟩
  iapply (wp_load Variants.nat (c : Thread nD τ) none Set.univ (m := m5) (S := slot5 c σ) (f := f5) (by
    intro y hy
    have hy' : (y : S2x256x3072.Idx) ∈ (Rect.unit (s := S2x256x3072) ![σ, (skip + 16 * i) % 256, 128 * k] S1x16x128.size inb).set := by
      rwa [whole_setOn] at hy
    rw [Rect.mem_set_unit] at hy'
    have := hy' 0
    refine Finset.mem_filter.mpr ⟨Finset.mem_univ _, ?_⟩
    have h1 : σ ≤ (y 0).val ∧ (y 0).val < σ + 1 := this
    omega)) $$ H5
  iintro H5
  rw [hval]
  iapply H
  isplitl [H5]; · iexact H5
  isplitl [Hq]; · iexact Hq
  iexact HR

/-- A load of the left operand that nothing reads. -/
theorem step_dead {r : LoadRect S256x3072} {hl : m10.view.LoadsAt r}
    {K : (r.shape.Idx → Elt F .bf16) → PG F α}
    (H : ∀ v, InvB R c f5 σ skip n ⊢ Wp c (K v) Q) :
    InvB R c f5 σ skip n ⊢ Wp c (Prog.lift (.load m10 r hl) >>= K) Q := by
  rw [wp_lift]
  unfold InvB at H ⊢
  iintro ⟨H5, ⟨%fq, %hq, Hq⟩, HR⟩
  iapply (wp_load Variants.nat (c : Thread nD τ) none Set.univ (m := m10) (S := Finset.univ) (f := fq) (Finset.subset_univ _)) $$ Hq
  iintro Hq
  iapply H
  isplitl [H5]; · iexact H5
  isplitl [Hq]
  · iexists fq; isplitr
    · ipureintro; exact hq
    · iexact Hq
  iexact HR

/-- What a store puts on its rectangle. -/
theorem cat_apply (hs : 16 ∣ skip) (i k : ℕ) (x : S16x256.Idx) :
    shapeCast S16x256 (cat f5 σ skip i k) shapeCasts_S16x256_S16x256 x
      = rowT f5 σ skip (16 * i + (x 0).val) (256 * k + (x 1).val) := by
  have hx1 : (x 1).val < 256 := (x 1).isLt
  rw [shapeCast_self]
  unfold cat
  rw [concatenate_pair_apply]
  have hx0 : (x 0).val < 16 := (x 0).isLt
  split
  · rename_i hlt
    have hlt' : (x 1).val < 128 := hlt
    unfold st
    rw [cast_drop]
    show rowT f5 σ skip (16 * i + (x 0).val) (128 * (2 * k) + (x 1).val) = _
    congr 1; omega
  · rename_i hlt
    have hlt' : ¬ (x 1).val < 128 := hlt
    unfold st
    rw [cast_drop]
    show rowT f5 σ skip (16 * i + (x 0).val) (128 * (2 * k + 1) + ((x 1).val - 128)) = _
    congr 1; omega

/-- A store of two strips. -/
theorem step_st (hs : 16 ∣ skip) (i k : ℕ) (hi : i < 16) (hk : k < 12) {off : Fin 2 → ℕ} {inb} {Mk : Finset S16x256.Idx}
    {hx : (m10.access (Rect.unit (s := S256x3072) off S16x256.size inb)).Stores Mk} {hm}
    {pay : Vec F S16x256 .bf16} {K : PUnit → PG F α}
    (hMk : Mk = Finset.univ)
    (hoff : off = ![16 * i, 256 * k])
    (hpay : pay = shapeCast S16x256 (cat f5 σ skip i k) shapeCasts_S16x256_S16x256)
    (H : InvB R c f5 σ skip (n + 1) ⊢ Wp c (K ⟨⟩) Q) (hn : n = 16 * k + i) :
    InvB R c f5 σ skip n
      ⊢ Wp c (Prog.lift (.store m10 (Rect.unit (s := S256x3072) off S16x256.size inb) pay Mk hx hm) >>= K) Q := by
  subst hoff hMk
  rw [wp_lift]
  unfold InvB at H ⊢
  iintro ⟨H5, ⟨%fq, %hq, Hq⟩, HR⟩
  iapply (wp_store Variants.nat (c : Thread nD τ) none Set.univ (m := m10)
    (r := Rect.unit (s := S256x3072) ![16 * i, 256 * k] S16x256.size inb) (S := Finset.univ) (f := fq) (Finset.subset_univ _)) $$ Hq
  iintro Hq
  iapply H
  isplitl [H5]; · iexact H5
  isplitl [Hq]
  · iexists _; isplitr
    rotate_left
    · iexact Hq
    · ipureintro
      intro y hy
      have hy0 : (y 0).val < 256 := (y 0).isLt
      have hy1 : (y 1).val < 3072 := (y 1).isLt
      refine write_cases (F := F) cc0_scratch5 ![16 * i, 256 * k] S16x256.size inb fq pay y
        (fun v => v = rowT f5 σ skip (y 0).val (y 1).val) (fun x hx => ?_) (fun h => ?_)
      · rw [hpay, cat_apply hs]
        have e0 : (y 0).val = 16 * i + (x 0).val := hx 0
        have e1 : (y 1).val = 256 * k + (x 1).val := hx 1
        rw [e0, e1]
      · apply hq
        have h' : ¬ ((16 * i ≤ (y 0).val ∧ (y 0).val < 16 * i + 16) ∧ (256 * k ≤ (y 1).val ∧ (y 1).val < 256 * k + 256)) := by
          intro hh
          apply h
          intro a
          fin_cases a
          · exact hh.1
          · exact hh.2
        omega
  iexact HR

/-- The end of a piece of the program. -/
theorem step_ret {a : α} (H : InvB R c f5 σ skip n ⊢ Q a) : InvB R c f5 σ skip n ⊢ Wp c (pure a) Q :=
  H.trans fupd_intro

/-- A piece of the program ahead of the rest. -/
theorem step_bind {β : Type} {p : PG F β} {k : β → PG F α} {P : PP F} (H : P ⊢ Wp c p (fun a => Wp c (k a) Q)) :
    P ⊢ Wp c (p >>= k) Q := by
  unfold Wp; rw [wp_bind]; exact H

/-- The row a strip starts at, in the words of the program. -/
theorem row_word {x imm : BitVec 32} {i : ℕ} (himm : imm.toNat = 16 * i) :
    (Scalar.andi (Scalar.addi x imm) 255#32).toNat = (x.toNat + 16 * i) % 256 := by
  rw [WordArith.toNat_andi_lowMask _ 255#32 8 (by decide)]
  show (x + imm).toNat % 2 ^ 8 = _
  rw [BitVec.toNat_add, himm]
  omega

/-- The corner of a strip, in the words of the program. -/
theorem offEq {iv v93 imm : BitVec 32} {i K : ℕ} (hσ : (Scalar.andi iv 1#32).toNat = σ)
    (hsk : (Scalar.subi v93 (Scalar.minsi v93 12032#32)).toNat = skip) (himm : imm.toNat = 16 * i) :
    ![(Scalar.andi iv 1#32).toNat, (Scalar.andi (Scalar.addi (Scalar.subi v93 (Scalar.minsi v93 12032#32)) imm) 255#32).toNat, K]
      = ![σ, (skip + 16 * i) % 256, K] := by
  rw [hσ, row_word himm, hsk]

end Cert.Kernel.Hand
-- ==== Proof.K.Rules.lean ====
/-
  The rules for single steps of the program: side conditions, branches, transfers, and the tables of words.
-/
module

public import proofs.«01_k».proof.Proof.K.Base

@[expose] public section

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

variable {α : Type} {c : Dev nD}

/-- The transfers' counters. -/
abbrev EC : UEmb Counters (MM F) := countersEmb (U := Pipeline.UD sig nD τ)

/-- Owning the semaphore `sm` at value `n`. -/
abbrev sval (c : Dev nD) (sm : SemLoc sig) (n : ℕ) : PP F := semVal ((c : Thread nD τ), sm) n

/-- The waits done so far, and nothing owed. -/
abbrev owed (c : Dev nD) : PP F := iprop(∃ W, owes (c : Thread nD τ) 0 W)

/-! ### Side conditions and branches -/

theorem as_rule {P : Prop} {d : Decidable P} {K : PLift P → PG F α} {Q : α → PP F} (h : P) :
    Wp c (K ⟨h⟩) Q ⊢ Wp c (Prog.lift (.assume P d) >>= K) Q := by
  rw [wp_lift]; exact wp_assume _ _ _ _ h

theorem step_dite {A : Prop} {_ : Decidable A} {X : A → PG F α} {R : PG F α} {Q : α → PP F} {P Mid : PP F}
    (hR : Mid ⊢ Wp c R Q) (hA : (Mid ⊢ Wp c R Q) → ∀ h : A, P ⊢ Wp c (X h) Q) (hN : ¬ A → P ⊢ Mid) :
    P ⊢ Wp c (dite A X (fun _ => R)) Q := by
  by_cases h : A
  · rw [dif_pos h]; exact hA hR h
  · rw [dif_neg h]; exact (hN h).trans hR

/-! ### Transfers -/

/-- A transfer under way on `sm` that will deliver `D`; the elements it has no use for are kept beside it. -/
def Fly (c : Dev nD) (sm : SemLoc sig) (N : ℕ) (D : PP F) : PP F :=
  iprop(∃ D0 Rm : PP F, Transfers.Flight EC (c : Thread nD τ) sm () N D0 ∗ Rm ∗ ⌜iprop(D0 ∗ Rm) ⊢ D⌝)

theorem Fly_mono {sm : SemLoc sig} {N : ℕ} {D D' : PP F} (h : D ⊢ D') : Fly c sm N D ⊢ Fly c sm N D' := by
  unfold Fly
  iintro ⟨%D0, %Rm, HF, HR, %hD⟩
  iexists D0; iexists Rm
  isplitl [HF]; · iexact HF
  isplitl [HR]; · iexact HR
  ipureintro; exact hD.trans h

theorem fly_start {Q : α → PP F} {cs cs' : Space} {s : Shape} {e : EltTy}
    {src : Memref sig .tc cs s e} {dst : Memref sig .tc cs' s e} {sm : SemLoc sig}
    {hsrc : src.view.WordExact} {hdst : dst.view.WordExact} {hsem : DmaTarget.Typed (nD := nD) (p := Proc.tc (τ := τ)) cs sm (.here dst)}
    {K : PUnit → PG F α} {q : PosShare TreeShare} {fs : Buf (Elt F) (src.view.loc (c : Thread nD τ))}
    {Sd : Finset (Idx (dst.view.loc (c : Thread nD τ)))} {fd : Buf (Elt F) (dst.view.loc (c : Thread nD τ))}
    (N : ℕ) (hN : dst.view.amount sm = N) (hN0 : 0 < N) (hSd : dst.view.set ⊆ Sd) :
    iprop((src.view.loc (c : Thread nD τ) ↦{q} fs) ∗ (dst.view.loc (c : Thread nD τ) ↦[Sd]{fullShare} fd) ∗ sval c sm 0)
      ⊢ iprop((Fly c sm N iprop((dst.view.loc (c : Thread nD τ) ↦[Sd]{fullShare} (dst.view.write (Elt F) fd (src.view.read (Elt F) fs) Finset.univ))
                 ∗ (src.view.loc (c : Thread nD τ) ↦{q} fs)) -∗ Wp c (K ⟨⟩) Q)
          -∗ Wp c (Prog.lift (.enqueueDma src (.here dst) sm hsrc hdst hsem) >>= K) Q) := by
  rw [wp_lift]
  iintro ⟨Hs, Hd, Hv⟩ HK
  ihave Hs2 := (pointsTo_split_subset (I := src.view.set) (Finset.subset_univ _)).1 $$ Hs
  icases Hs2 with ⟨Hs, Hr⟩
  iapply (Transfers.wp_dmaLocal EC Variants.nat (c : Thread nD τ) none () N hN hN0 hSd) $$ [Hs Hd Hv]
  · isplitl [Hs]; · iexact Hs
    isplitl [Hd]; · iexact Hd
    iexact Hv
  iintro HF
  iapply HK
  unfold Fly
  iexists _; iexists _
  isplitl [HF]; · iexact HF
  isplitl [Hr]; · iexact Hr
  ipureintro
  iintro ⟨⟨Hd, Hs⟩, Hr⟩
  isplitl [Hd]; · iexact Hd
  iapply (pointsTo_split_subset (I := src.view.set) (Finset.subset_univ _)).2
  isplitl [Hs]; · iexact Hs
  iexact Hr

theorem fly_wait {Q : α → PP F} {cs cs' : Space} {s s' : Shape} {e e' : EltTy} {sem : DmaSem sig}
    {srcw : Memref sig .tc cs s' e'} {dstw : Memref sig .tc cs' s e} {hsrc : srcw.view.WordExact} {hdst : dstw.view.WordExact}
    {K : PUnit → PG F α} {N : ℕ} {D : PP F} (hN : dstw.view.dmaCredit = N) :
    iprop(Fly c (.dma sem) N D ∗ owed c)
      ⊢ iprop((iprop(D ∗ sval c (.dma sem) 0 ∗ owed c) -∗ Wp c (K ⟨⟩) Q)
          -∗ Wp c (Prog.lift (.waitDma2 sem srcw dstw hsrc hdst) >>= K) Q) := by
  rw [wp_lift]
  unfold Fly
  iintro ⟨⟨%D0, %Rm, HF, HR, %hD⟩, ⟨%W, HO⟩⟩ HK
  iapply (Transfers.wp_waitLocal EC Variants.nat (c : Thread nD τ) none () hN) $$ [HF HO]
  · isplitl [HF]; · iexact HF
    iexact HO
  iintro ⟨HD, Hv, HO⟩
  iapply HK
  isplitl [HD HR]
  · iapply hD; isplitl [HD]; · iexact HD
    iexact HR
  isplitl [Hv]; · iexact Hv
  iexists _; iexact HO

/-! ### Tables of words -/

/-- The index of entry `n`. -/
def jx64 (n : ℕ) : S64.Idx
  | 0 => ⟨n % 64, Nat.mod_lt n (by decide)⟩

/-- The index of size `n`. -/
def jx8 (n : ℕ) : S8.Idx
  | 0 => ⟨n % 8, Nat.mod_lt n (by decide)⟩

/-- Entry `n` of a table. -/
def rd (f : S64.Idx → BitVec 32) (n : ℕ) : BitVec 32 := f (jx64 n)

/-- A table with one entry replaced. -/
def upd (f : S64.Idx → BitVec 32) (n : ℕ) (v : BitVec 32) : S64.Idx → BitVec 32 := fun y => if (y 0).val = n then v else f y

theorem rd_upd_same (f : S64.Idx → BitVec 32) (n : ℕ) (v : BitVec 32) (h : n < 64) : rd (upd f n v) n = v := by
  unfold rd upd; rw [if_pos]; exact Nat.mod_eq_of_lt h

theorem rd_upd_ne (f : S64.Idx → BitVec 32) (n k : ℕ) (v : BitVec 32) (h : k < 64) (hk : k ≠ n) : rd (upd f n v) k = rd f k := by
  unfold rd upd; rw [if_neg]; intro hh
  exact hk (by rw [← hh]; exact (Nat.mod_eq_of_lt h).symm)

/-- Entry `n` of the row of sizes. -/
def rd8 (f : S8.Idx → BitVec 32) (n : ℕ) : BitVec 32 := f (jx8 n)

theorem ld0 {Q : α → PP F} {off : Fin 1 → ℕ} {inb} {hl hp} {f : S8.Idx → BitVec 32} {K : BitVec 32 → PG F α} (n : ℕ) (hoff : off = ![n]) :
    own (F := F) c cc0_stg0_0 f ⊢ iprop((own (F := F) c cc0_stg0_0 f -∗ Wp c (K (rd8 f n)) Q)
      -∗ Wp c (smemLoad m0 (Rect.unit (s := S8) off S1.size inb) hl hp >>= K) Q) := by
  subst hoff
  have hn : n < 8 := by have := inb 0; exact this
  have hv : ∀ x, (m0.access (Rect.unit (s := S8) ![n] S1.size inb)).read (Elt F) f x = rd8 f n := by
    intro x
    refine congrArg f (funext fun a => ?_)
    fin_cases a
    have hx0 : (x 0).val < 1 := (x 0).isLt
    refine Fin.ext ?_
    show n + 1 * (x 0).val = n % 8
    rw [Nat.mod_eq_of_lt hn]; omega
  have h := wp_smemLoadElt (defs := defs₀ (F := F)) Variants.nat (c : Thread nD τ) none Set.univ (Q := Q) (m := m0) (k := K) (r := Rect.unit (s := S8) ![n] S1.size inb)
    (hw := View.loads_smem_one hp hl) (x := Shape.Idx.first (hl.symm ▸ Nat.one_pos)) (S := Finset.univ) (q := fullShare) (f := f) (Γ := ∅) (Finset.subset_univ _)
  rw [hv] at h
  exact h

theorem ld13 {Q : α → PP F} {off : Fin 1 → ℕ} {inb} {hl hp} {f : S64.Idx → BitVec 32} {K : BitVec 32 → PG F α} (n : ℕ) (hoff : off = ![n]) :
    own (F := F) c cc0_scratch8 f ⊢ iprop((own (F := F) c cc0_scratch8 f -∗ Wp c (K (rd f n)) Q)
      -∗ Wp c (smemLoad m13 (Rect.unit (s := S64) off S1.size inb) hl hp >>= K) Q) := by
  subst hoff
  have hn : n < 64 := by have := inb 0; exact this
  have hv : ∀ x, (m13.access (Rect.unit (s := S64) ![n] S1.size inb)).read (Elt F) f x = rd f n := by
    intro x
    refine congrArg f (funext fun a => ?_)
    fin_cases a
    have hx0 : (x 0).val < 1 := (x 0).isLt
    refine Fin.ext ?_
    show n + 1 * (x 0).val = n % 64
    rw [Nat.mod_eq_of_lt hn]; omega
  have h := wp_smemLoadElt (defs := defs₀ (F := F)) Variants.nat (c : Thread nD τ) none Set.univ (Q := Q) (m := m13) (k := K) (r := Rect.unit (s := S64) ![n] S1.size inb)
    (hw := View.loads_smem_one hp hl) (x := Shape.Idx.first (hl.symm ▸ Nat.one_pos)) (S := Finset.univ) (q := fullShare) (f := f) (Γ := ∅) (Finset.subset_univ _)
  rw [hv] at h
  exact h

theorem st13v (n : ℕ) (inb) (f : S64.Idx → BitVec 32) (v : BitVec 32) :
    (m13.access (Rect.unit (s := S64) ![n] S1.size inb)).write (Elt F) f (fun _ => v) Finset.univ = upd f n v := by
  funext y
  refine write_cases (F := F) cc0_scratch8 ![n] S1.size inb f (fun _ => v) y (fun z => z = upd f n v y) ?_ ?_
  · intro x hx
    have h1 : (y 0).val = n + (x 0).val := hx 0
    have hx0 : (x 0).val < 1 := (x 0).isLt
    have h2 : (y 0).val = n := by omega
    exact (if_pos h2).symm
  · intro h
    have h2 : ¬ (y 0).val = n := by
      intro hh; apply h; intro a
      have ha : a = (0 : Fin 1) := Subsingleton.elim (α := Fin 1) _ _
      rw [ha]
      exact ⟨Nat.le_of_eq hh.symm, Nat.lt_succ_of_le (Nat.le_of_eq hh)⟩
    exact (if_neg h2).symm

theorem st13 {Q : α → PP F} {off : Fin 1 → ℕ} {inb} {f : S64.Idx → BitVec 32} {v : BitVec 32} {Mk : Finset S1.Idx}
    {hx : (m13.access (Rect.unit (s := S64) off S1.size inb)).Stores Mk} {hm}
    {K : PUnit → PG F α} (n : ℕ) (hoff : off = ![n]) (hMk : Mk = Finset.univ) :
    own (F := F) c cc0_scratch8 f ⊢ iprop((own (F := F) c cc0_scratch8 (upd f n v) -∗ Wp c (K ⟨⟩) Q)
      -∗ Wp c (Prog.lift (.store m13 (Rect.unit (s := S64) off S1.size inb) (fun _ => v) Mk hx hm) >>= K) Q) := by
  subst hoff hMk
  have h := wp_store (defs := defs₀ (F := F)) Variants.nat (c : Thread nD τ) none Set.univ (Q := Q) (m := m13) (r := Rect.unit (s := S64) ![n] S1.size inb)
    (w := fun _ => v) (hx := hx) (hm := hm) (k := K) (S := Finset.univ) (f := f) (Γ := ∅) (Finset.subset_univ _)
  rw [st13v] at h
  exact h

theorem ld14 {Q : α → PP F} {off : Fin 1 → ℕ} {inb} {hl hp} {f : S64.Idx → BitVec 32} {K : BitVec 32 → PG F α} (n : ℕ) (hoff : off = ![n]) :
    own (F := F) c cc0_scratch9 f ⊢ iprop((own (F := F) c cc0_scratch9 f -∗ Wp c (K (rd f n)) Q)
      -∗ Wp c (smemLoad m14 (Rect.unit (s := S64) off S1.size inb) hl hp >>= K) Q) := by
  subst hoff
  have hn : n < 64 := by have := inb 0; exact this
  have hv : ∀ x, (m14.access (Rect.unit (s := S64) ![n] S1.size inb)).read (Elt F) f x = rd f n := by
    intro x
    refine congrArg f (funext fun a => ?_)
    fin_cases a
    have hx0 : (x 0).val < 1 := (x 0).isLt
    refine Fin.ext ?_
    show n + 1 * (x 0).val = n % 64
    rw [Nat.mod_eq_of_lt hn]; omega
  have h := wp_smemLoadElt (defs := defs₀ (F := F)) Variants.nat (c : Thread nD τ) none Set.univ (Q := Q) (m := m14) (k := K) (r := Rect.unit (s := S64) ![n] S1.size inb)
    (hw := View.loads_smem_one hp hl) (x := Shape.Idx.first (hl.symm ▸ Nat.one_pos)) (S := Finset.univ) (q := fullShare) (f := f) (Γ := ∅) (Finset.subset_univ _)
  rw [hv] at h
  exact h

theorem st14v (n : ℕ) (inb) (f : S64.Idx → BitVec 32) (v : BitVec 32) :
    (m14.access (Rect.unit (s := S64) ![n] S1.size inb)).write (Elt F) f (fun _ => v) Finset.univ = upd f n v := by
  funext y
  refine write_cases (F := F) cc0_scratch9 ![n] S1.size inb f (fun _ => v) y (fun z => z = upd f n v y) ?_ ?_
  · intro x hx
    have h1 : (y 0).val = n + (x 0).val := hx 0
    have hx0 : (x 0).val < 1 := (x 0).isLt
    have h2 : (y 0).val = n := by omega
    exact (if_pos h2).symm
  · intro h
    have h2 : ¬ (y 0).val = n := by
      intro hh; apply h; intro a
      have ha : a = (0 : Fin 1) := Subsingleton.elim (α := Fin 1) _ _
      rw [ha]
      exact ⟨Nat.le_of_eq hh.symm, Nat.lt_succ_of_le (Nat.le_of_eq hh)⟩
    exact (if_neg h2).symm

theorem st14 {Q : α → PP F} {off : Fin 1 → ℕ} {inb} {f : S64.Idx → BitVec 32} {v : BitVec 32} {Mk : Finset S1.Idx}
    {hx : (m14.access (Rect.unit (s := S64) off S1.size inb)).Stores Mk} {hm}
    {K : PUnit → PG F α} (n : ℕ) (hoff : off = ![n]) (hMk : Mk = Finset.univ) :
    own (F := F) c cc0_scratch9 f ⊢ iprop((own (F := F) c cc0_scratch9 (upd f n v) -∗ Wp c (K ⟨⟩) Q)
      -∗ Wp c (Prog.lift (.store m14 (Rect.unit (s := S64) off S1.size inb) (fun _ => v) Mk hx hm) >>= K) Q) := by
  subst hoff hMk
  have h := wp_store (defs := defs₀ (F := F)) Variants.nat (c : Thread nD τ) none Set.univ (Q := Q) (m := m14) (r := Rect.unit (s := S64) ![n] S1.size inb)
    (w := fun _ => v) (hx := hx) (hm := hm) (k := K) (S := Finset.univ) (f := f) (Γ := ∅) (Finset.subset_univ _)
  rw [st14v] at h
  exact h

theorem ld15 {Q : α → PP F} {off : Fin 1 → ℕ} {inb} {hl hp} {f : S64.Idx → BitVec 32} {K : BitVec 32 → PG F α} (n : ℕ) (hoff : off = ![n]) :
    own (F := F) c cc0_scratch10 f ⊢ iprop((own (F := F) c cc0_scratch10 f -∗ Wp c (K (rd f n)) Q)
      -∗ Wp c (smemLoad m15 (Rect.unit (s := S64) off S1.size inb) hl hp >>= K) Q) := by
  subst hoff
  have hn : n < 64 := by have := inb 0; exact this
  have hv : ∀ x, (m15.access (Rect.unit (s := S64) ![n] S1.size inb)).read (Elt F) f x = rd f n := by
    intro x
    refine congrArg f (funext fun a => ?_)
    fin_cases a
    have hx0 : (x 0).val < 1 := (x 0).isLt
    refine Fin.ext ?_
    show n + 1 * (x 0).val = n % 64
    rw [Nat.mod_eq_of_lt hn]; omega
  have h := wp_smemLoadElt (defs := defs₀ (F := F)) Variants.nat (c : Thread nD τ) none Set.univ (Q := Q) (m := m15) (k := K) (r := Rect.unit (s := S64) ![n] S1.size inb)
    (hw := View.loads_smem_one hp hl) (x := Shape.Idx.first (hl.symm ▸ Nat.one_pos)) (S := Finset.univ) (q := fullShare) (f := f) (Γ := ∅) (Finset.subset_univ _)
  rw [hv] at h
  exact h

theorem st15v (n : ℕ) (inb) (f : S64.Idx → BitVec 32) (v : BitVec 32) :
    (m15.access (Rect.unit (s := S64) ![n] S1.size inb)).write (Elt F) f (fun _ => v) Finset.univ = upd f n v := by
  funext y
  refine write_cases (F := F) cc0_scratch10 ![n] S1.size inb f (fun _ => v) y (fun z => z = upd f n v y) ?_ ?_
  · intro x hx
    have h1 : (y 0).val = n + (x 0).val := hx 0
    have hx0 : (x 0).val < 1 := (x 0).isLt
    have h2 : (y 0).val = n := by omega
    exact (if_pos h2).symm
  · intro h
    have h2 : ¬ (y 0).val = n := by
      intro hh; apply h; intro a
      have ha : a = (0 : Fin 1) := Subsingleton.elim (α := Fin 1) _ _
      rw [ha]
      exact ⟨Nat.le_of_eq hh.symm, Nat.lt_succ_of_le (Nat.le_of_eq hh)⟩
    exact (if_neg h2).symm

theorem st15 {Q : α → PP F} {off : Fin 1 → ℕ} {inb} {f : S64.Idx → BitVec 32} {v : BitVec 32} {Mk : Finset S1.Idx}
    {hx : (m15.access (Rect.unit (s := S64) off S1.size inb)).Stores Mk} {hm}
    {K : PUnit → PG F α} (n : ℕ) (hoff : off = ![n]) (hMk : Mk = Finset.univ) :
    own (F := F) c cc0_scratch10 f ⊢ iprop((own (F := F) c cc0_scratch10 (upd f n v) -∗ Wp c (K ⟨⟩) Q)
      -∗ Wp c (Prog.lift (.store m15 (Rect.unit (s := S64) off S1.size inb) (fun _ => v) Mk hx hm) >>= K) Q) := by
  subst hoff hMk
  have h := wp_store (defs := defs₀ (F := F)) Variants.nat (c : Thread nD τ) none Set.univ (Q := Q) (m := m15) (r := Rect.unit (s := S64) ![n] S1.size inb)
    (w := fun _ => v) (hx := hx) (hm := hm) (k := K) (S := Finset.univ) (f := f) (Γ := ∅) (Finset.subset_univ _)
  rw [st15v] at h
  exact h

theorem ld16 {Q : α → PP F} {off : Fin 1 → ℕ} {inb} {hl hp} {f : S64.Idx → BitVec 32} {K : BitVec 32 → PG F α} (n : ℕ) (hoff : off = ![n]) :
    own (F := F) c cc0_scratch11 f ⊢ iprop((own (F := F) c cc0_scratch11 f -∗ Wp c (K (rd f n)) Q)
      -∗ Wp c (smemLoad m16 (Rect.unit (s := S64) off S1.size inb) hl hp >>= K) Q) := by
  subst hoff
  have hn : n < 64 := by have := inb 0; exact this
  have hv : ∀ x, (m16.access (Rect.unit (s := S64) ![n] S1.size inb)).read (Elt F) f x = rd f n := by
    intro x
    refine congrArg f (funext fun a => ?_)
    fin_cases a
    have hx0 : (x 0).val < 1 := (x 0).isLt
    refine Fin.ext ?_
    show n + 1 * (x 0).val = n % 64
    rw [Nat.mod_eq_of_lt hn]; omega
  have h := wp_smemLoadElt (defs := defs₀ (F := F)) Variants.nat (c : Thread nD τ) none Set.univ (Q := Q) (m := m16) (k := K) (r := Rect.unit (s := S64) ![n] S1.size inb)
    (hw := View.loads_smem_one hp hl) (x := Shape.Idx.first (hl.symm ▸ Nat.one_pos)) (S := Finset.univ) (q := fullShare) (f := f) (Γ := ∅) (Finset.subset_univ _)
  rw [hv] at h
  exact h

theorem st16v (n : ℕ) (inb) (f : S64.Idx → BitVec 32) (v : BitVec 32) :
    (m16.access (Rect.unit (s := S64) ![n] S1.size inb)).write (Elt F) f (fun _ => v) Finset.univ = upd f n v := by
  funext y
  refine write_cases (F := F) cc0_scratch11 ![n] S1.size inb f (fun _ => v) y (fun z => z = upd f n v y) ?_ ?_
  · intro x hx
    have h1 : (y 0).val = n + (x 0).val := hx 0
    have hx0 : (x 0).val < 1 := (x 0).isLt
    have h2 : (y 0).val = n := by omega
    exact (if_pos h2).symm
  · intro h
    have h2 : ¬ (y 0).val = n := by
      intro hh; apply h; intro a
      have ha : a = (0 : Fin 1) := Subsingleton.elim (α := Fin 1) _ _
      rw [ha]
      exact ⟨Nat.le_of_eq hh.symm, Nat.lt_succ_of_le (Nat.le_of_eq hh)⟩
    exact (if_neg h2).symm

theorem st16 {Q : α → PP F} {off : Fin 1 → ℕ} {inb} {f : S64.Idx → BitVec 32} {v : BitVec 32} {Mk : Finset S1.Idx}
    {hx : (m16.access (Rect.unit (s := S64) off S1.size inb)).Stores Mk} {hm}
    {K : PUnit → PG F α} (n : ℕ) (hoff : off = ![n]) (hMk : Mk = Finset.univ) :
    own (F := F) c cc0_scratch11 f ⊢ iprop((own (F := F) c cc0_scratch11 (upd f n v) -∗ Wp c (K ⟨⟩) Q)
      -∗ Wp c (Prog.lift (.store m16 (Rect.unit (s := S64) off S1.size inb) (fun _ => v) Mk hx hm) >>= K) Q) := by
  subst hoff hMk
  have h := wp_store (defs := defs₀ (F := F)) Variants.nat (c : Thread nD τ) none Set.univ (Q := Q) (m := m16) (r := Rect.unit (s := S64) ![n] S1.size inb)
    (w := fun _ => v) (hx := hx) (hm := hm) (k := K) (S := Finset.univ) (f := f) (Γ := ∅) (Finset.subset_univ _)
  rw [st16v] at h
  exact h

theorem ld17 {Q : α → PP F} {off : Fin 1 → ℕ} {inb} {hl hp} {f : S64.Idx → BitVec 32} {K : BitVec 32 → PG F α} (n : ℕ) (hoff : off = ![n]) :
    own (F := F) c cc0_scratch12 f ⊢ iprop((own (F := F) c cc0_scratch12 f -∗ Wp c (K (rd f n)) Q)
      -∗ Wp c (smemLoad m17 (Rect.unit (s := S64) off S1.size inb) hl hp >>= K) Q) := by
  subst hoff
  have hn : n < 64 := by have := inb 0; exact this
  have hv : ∀ x, (m17.access (Rect.unit (s := S64) ![n] S1.size inb)).read (Elt F) f x = rd f n := by
    intro x
    refine congrArg f (funext fun a => ?_)
    fin_cases a
    have hx0 : (x 0).val < 1 := (x 0).isLt
    refine Fin.ext ?_
    show n + 1 * (x 0).val = n % 64
    rw [Nat.mod_eq_of_lt hn]; omega
  have h := wp_smemLoadElt (defs := defs₀ (F := F)) Variants.nat (c : Thread nD τ) none Set.univ (Q := Q) (m := m17) (k := K) (r := Rect.unit (s := S64) ![n] S1.size inb)
    (hw := View.loads_smem_one hp hl) (x := Shape.Idx.first (hl.symm ▸ Nat.one_pos)) (S := Finset.univ) (q := fullShare) (f := f) (Γ := ∅) (Finset.subset_univ _)
  rw [hv] at h
  exact h

theorem st17v (n : ℕ) (inb) (f : S64.Idx → BitVec 32) (v : BitVec 32) :
    (m17.access (Rect.unit (s := S64) ![n] S1.size inb)).write (Elt F) f (fun _ => v) Finset.univ = upd f n v := by
  funext y
  refine write_cases (F := F) cc0_scratch12 ![n] S1.size inb f (fun _ => v) y (fun z => z = upd f n v y) ?_ ?_
  · intro x hx
    have h1 : (y 0).val = n + (x 0).val := hx 0
    have hx0 : (x 0).val < 1 := (x 0).isLt
    have h2 : (y 0).val = n := by omega
    exact (if_pos h2).symm
  · intro h
    have h2 : ¬ (y 0).val = n := by
      intro hh; apply h; intro a
      have ha : a = (0 : Fin 1) := Subsingleton.elim (α := Fin 1) _ _
      rw [ha]
      exact ⟨Nat.le_of_eq hh.symm, Nat.lt_succ_of_le (Nat.le_of_eq hh)⟩
    exact (if_neg h2).symm

theorem st17 {Q : α → PP F} {off : Fin 1 → ℕ} {inb} {f : S64.Idx → BitVec 32} {v : BitVec 32} {Mk : Finset S1.Idx}
    {hx : (m17.access (Rect.unit (s := S64) off S1.size inb)).Stores Mk} {hm}
    {K : PUnit → PG F α} (n : ℕ) (hoff : off = ![n]) (hMk : Mk = Finset.univ) :
    own (F := F) c cc0_scratch12 f ⊢ iprop((own (F := F) c cc0_scratch12 (upd f n v) -∗ Wp c (K ⟨⟩) Q)
      -∗ Wp c (Prog.lift (.store m17 (Rect.unit (s := S64) off S1.size inb) (fun _ => v) Mk hx hm) >>= K) Q) := by
  subst hoff hMk
  have h := wp_store (defs := defs₀ (F := F)) Variants.nat (c : Thread nD τ) none Set.univ (Q := Q) (m := m17) (r := Rect.unit (s := S64) ![n] S1.size inb)
    (w := fun _ => v) (hx := hx) (hm := hm) (k := K) (S := Finset.univ) (f := f) (Γ := ∅) (Finset.subset_univ _)
  rw [st17v] at h
  exact h

end Cert.Kernel.Hand
-- ==== Proof.K.Moves.lean ====
/-
  Loads and stores of rectangles, and the transfers that bring in activations, weights and scales.
-/
module

public import proofs.«01_k».proof.Proof.K.Copy
public import proofs.«01_k».proof.Proof.K.Rules

@[expose] public section

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

variable {α : Type} {c : Dev nD}

/-! ### Indices -/

/-- An index of a matrix, from any two numbers. -/
def gx2 {A B : ℕ} [NeZero A] [NeZero B] (a b : ℕ) : (⟨2, ![A, B]⟩ : Shape).Idx := ValueIdx.ix2 (Fin.ofNat A a) (Fin.ofNat B b)

/-- An index of a stack of matrices, from any three numbers. -/
def gx3 {A B C : ℕ} [NeZero A] [NeZero B] [NeZero C] (a b c : ℕ) : (⟨3, ![A, B, C]⟩ : Shape).Idx :=
  ValueIdx.ix3 (Fin.ofNat A a) (Fin.ofNat B b) (Fin.ofNat C c)

theorem gx2_eq {A B : ℕ} [NeZero A] [NeZero B] (i : (⟨2, ![A, B]⟩ : Shape).Idx) (a b : ℕ) (ha : (i 0).val = a) (hb : (i 1).val = b) :
    i = gx2 a b := by
  subst ha hb
  have h0 : (i 0).val < A := (i 0).isLt
  have h1 : (i 1).val < B := (i 1).isLt
  funext k
  fin_cases k
  · exact Fin.ext (Nat.mod_eq_of_lt h0).symm
  · exact Fin.ext (Nat.mod_eq_of_lt h1).symm

theorem gx3_eq {A B C : ℕ} [NeZero A] [NeZero B] [NeZero C] (i : (⟨3, ![A, B, C]⟩ : Shape).Idx) (a b c : ℕ)
    (ha : (i 0).val = a) (hb : (i 1).val = b) (hc : (i 2).val = c) : i = gx3 a b c := by
  subst ha hb hc
  have h0 : (i 0).val < A := (i 0).isLt
  have h1 : (i 1).val < B := (i 1).isLt
  have h2 : (i 2).val < C := (i 2).isLt
  funext k
  fin_cases k
  · exact Fin.ext (Nat.mod_eq_of_lt h0).symm
  · exact Fin.ext (Nat.mod_eq_of_lt h1).symm
  · exact Fin.ext (Nat.mod_eq_of_lt h2).symm

theorem gx2_0 {A B : ℕ} [NeZero A] [NeZero B] (a b : ℕ) (h : a < A) : ((gx2 a b : (⟨2, ![A, B]⟩ : Shape).Idx) 0).val = a := Nat.mod_eq_of_lt h
theorem gx2_1 {A B : ℕ} [NeZero A] [NeZero B] (a b : ℕ) (h : b < B) : ((gx2 a b : (⟨2, ![A, B]⟩ : Shape).Idx) 1).val = b := Nat.mod_eq_of_lt h
theorem gx3_0 {A B C : ℕ} [NeZero A] [NeZero B] [NeZero C] (a b c : ℕ) (h : a < A) : ((gx3 a b c : (⟨3, ![A, B, C]⟩ : Shape).Idx) 0).val = a := Nat.mod_eq_of_lt h
theorem gx3_1 {A B C : ℕ} [NeZero A] [NeZero B] [NeZero C] (a b c : ℕ) (h : b < B) : ((gx3 a b c : (⟨3, ![A, B, C]⟩ : Shape).Idx) 1).val = b := Nat.mod_eq_of_lt h
theorem gx3_2 {A B C : ℕ} [NeZero A] [NeZero B] [NeZero C] (a b c : ℕ) (h : c < C) : ((gx3 a b c : (⟨3, ![A, B, C]⟩ : Shape).Idx) 2).val = c := Nat.mod_eq_of_lt h

/-! ### Loads and stores of rectangles of a whole buffer -/

theorem read_whole2 {A B : ℕ} {α : Type} (inb) (f : (⟨2, ![A, B]⟩ : Shape).Idx → α) :
    (fun x => f ((Rect.unit (s := ⟨2, ![A, B]⟩) ![0, 0] (⟨2, ![A, B]⟩ : Shape).size inb).emb x)) = f := by
  funext x
  refine congrArg f (funext fun a => Fin.ext ?_)
  fin_cases a
  · show 0 + 1 * (x 0).val = (x 0).val; omega
  · show 0 + 1 * (x 1).val = (x 1).val; omega

theorem ldr7 {off size : Fin 2 → ℕ} {inb} {hl} {S : Finset S96x1536.Idx} {q : PosShare TreeShare} {f : S96x1536.Idx → Elt F (cc0_scratch2 : Ref sig .tc).ty.elt}
    {Q : α → PP F} {K : ((Rect.unit (s := S96x1536) off size inb).toLoadRect.shape.Idx → Elt F (cc0_scratch2 : Ref sig .tc).ty.elt) → PG F α}
    (hS : ∀ y : S96x1536.Idx, (∀ a, off a ≤ (y a).val ∧ (y a).val < off a + size a) → y ∈ S) :
    part (F := F) c cc0_scratch2 S q f ⊢ iprop((part (F := F) c cc0_scratch2 S q f -∗ Wp c (K (fun x => f ((Rect.unit (s := S96x1536) off size inb).emb x))) Q)
      -∗ Wp c (Prog.lift (.load m7 (Rect.unit (s := S96x1536) off size inb).toLoadRect hl) >>= K) Q) := by
  have h := wp_load (defs := defs₀ (F := F)) Variants.nat (c : Thread nD τ) none Set.univ (Q := Q) (m := m7)
    (r := (Rect.unit (s := S96x1536) off size inb).toLoadRect) (hl := hl)
    (k := K) (S := S) (q := q) (f := f) (Γ := ∅) (by
      intro y hy
      have hy' : (y : S96x1536.Idx) ∈ (Rect.unit (s := S96x1536) off size inb).set := by
        rwa [whole_setOn] at hy
      exact hS y (Rect.mem_set_unit.mp hy'))
  exact h

theorem str7 {off size : Fin 2 → ℕ} {inb} {S : Finset S96x1536.Idx} {f : S96x1536.Idx → Elt F (cc0_scratch2 : Ref sig .tc).ty.elt}
    {w : (Rect.unit (s := S96x1536) off size inb).shape.Idx → Elt F (cc0_scratch2 : Ref sig .tc).ty.elt} {Mk : Finset (Rect.unit (s := S96x1536) off size inb).shape.Idx} {hx hm}
    {Q : α → PP F} {K : PUnit → PG F α} (hMk : Mk = Finset.univ)
    (hS : ∀ y : S96x1536.Idx, (∀ a, off a ≤ (y a).val ∧ (y a).val < off a + size a) → y ∈ S) :
    part (F := F) c cc0_scratch2 S fullShare f
      ⊢ iprop((part (F := F) c cc0_scratch2 S fullShare ((m7.access (Rect.unit (s := S96x1536) off size inb)).write (Elt F) f w Finset.univ) -∗ Wp c (K ⟨⟩) Q)
      -∗ Wp c (Prog.lift (.store m7 (Rect.unit (s := S96x1536) off size inb) w Mk hx hm) >>= K) Q) := by
  subst hMk
  have h := wp_store (defs := defs₀ (F := F)) Variants.nat (c : Thread nD τ) none Set.univ (Q := Q) (m := m7)
    (r := Rect.unit (s := S96x1536) off size inb) (hx := hx) (hm := hm) (w := w)
    (k := K) (S := S) (f := f) (Γ := ∅) (by
      intro y hy
      have hy' : (y : S96x1536.Idx) ∈ (Rect.unit (s := S96x1536) off size inb).set := by
        rw [View.setOn_univ, View.set_slice] at hy
        exact (Finset.mem_map' (Function.Embedding.refl _)).mp hy
      exact hS y (Rect.mem_set_unit.mp hy'))
  exact h

/-- A load of the whole of `m7`. -/
theorem ldw7 {Q : α → PP F} {inb} {hl} {f : S96x1536.Idx → Elt F (cc0_scratch2 : Ref sig .tc).ty.elt} {K : (S96x1536.Idx → Elt F (cc0_scratch2 : Ref sig .tc).ty.elt) → PG F α} :
    own (F := F) c cc0_scratch2 f ⊢ iprop((own (F := F) c cc0_scratch2 f -∗ Wp (α := α) c (K f) Q)
      -∗ Wp c (Prog.lift (.load m7 (Rect.unit (s := S96x1536) ![0, 0] S96x1536.size inb).toLoadRect hl) >>= K) Q) := by
  have h := ldr7 (F := F) (c := c) (off := ![0, 0]) (size := S96x1536.size) (inb := inb) (hl := hl) (S := (Finset.univ : Finset (Idx ((c : Thread nD τ).loc cc0_scratch2)))) (q := fullShare) (f := f) (Q := Q) (K := K)
    (fun y _ => Finset.mem_univ (α := Idx ((c : Thread nD τ).loc cc0_scratch2)) y)
  have hr := read_whole2 inb f
  rw [hr] at h
  exact h

theorem stwv7 (inb) (f w : S96x1536.Idx → Elt F (cc0_scratch2 : Ref sig .tc).ty.elt) :
    (m7.access (Rect.unit (s := S96x1536) ![0, 0] S96x1536.size inb)).write (Elt F) f w Finset.univ = w := by
  funext y
  refine write_cases (F := F) cc0_scratch2 ![0, 0] S96x1536.size inb f w y (fun v => v = w y) ?_ ?_
  · intro x hx
    have h0 : (y 0).val = 0 + (x 0).val := hx 0
    have h1 : (y 1).val = 0 + (x 1).val := hx 1
    refine congrArg w (funext fun a => Fin.ext ?_)
    fin_cases a
    · show (x 0).val = (y 0).val; omega
    · show (x 1).val = (y 1).val; omega
  · intro hh; exfalso; apply hh
    intro a
    have hsz : ∀ a : Fin 2, (![0, 0] : Fin 2 → ℕ) a = 0 := by decide
    have ha := (y a).isLt
    have h0 : (![0, 0] : Fin 2 → ℕ) a = 0 := hsz a
    exact ⟨le_of_eq_of_le h0 (Nat.zero_le _), lt_of_lt_of_eq ha (by rw [show (![0, 0] : Fin 2 → ℕ) a = 0 from h0, Nat.zero_add]; rfl)⟩

/-- A store of the whole of `m7`. -/
theorem stw7 {Q : α → PP F} {inb} {f : S96x1536.Idx → Elt F (cc0_scratch2 : Ref sig .tc).ty.elt} {w : S96x1536.Idx → Elt F (cc0_scratch2 : Ref sig .tc).ty.elt} {Mk : Finset S96x1536.Idx} {hx hm}
    {K : PUnit → PG F α} (hMk : Mk = Finset.univ) :
    own (F := F) c cc0_scratch2 f ⊢ iprop((own (F := F) c cc0_scratch2 w -∗ Wp c (K ⟨⟩) Q)
      -∗ Wp c (Prog.lift (.store m7 (Rect.unit (s := S96x1536) ![0, 0] S96x1536.size inb) w Mk hx hm) >>= K) Q) := by
  have h := str7 (F := F) (c := c) (off := ![0, 0]) (size := S96x1536.size) (inb := inb) (S := (Finset.univ : Finset (Idx ((c : Thread nD τ).loc cc0_scratch2)))) (f := f) (w := w) (Mk := Mk) (hx := hx) (hm := hm) (Q := Q) (K := K)
    hMk (fun y _ => Finset.mem_univ (α := Idx ((c : Thread nD τ).loc cc0_scratch2)) y)
  rw [stwv7] at h
  exact h

theorem ldr8 {off size : Fin 2 → ℕ} {inb} {hl} {S : Finset S3072x1536.Idx} {q : PosShare TreeShare} {f : S3072x1536.Idx → Elt F (cc0_scratch3 : Ref sig .tc).ty.elt}
    {Q : α → PP F} {K : ((Rect.unit (s := S3072x1536) off size inb).toLoadRect.shape.Idx → Elt F (cc0_scratch3 : Ref sig .tc).ty.elt) → PG F α}
    (hS : ∀ y : S3072x1536.Idx, (∀ a, off a ≤ (y a).val ∧ (y a).val < off a + size a) → y ∈ S) :
    part (F := F) c cc0_scratch3 S q f ⊢ iprop((part (F := F) c cc0_scratch3 S q f -∗ Wp c (K (fun x => f ((Rect.unit (s := S3072x1536) off size inb).emb x))) Q)
      -∗ Wp c (Prog.lift (.load m8 (Rect.unit (s := S3072x1536) off size inb).toLoadRect hl) >>= K) Q) := by
  have h := wp_load (defs := defs₀ (F := F)) Variants.nat (c : Thread nD τ) none Set.univ (Q := Q) (m := m8)
    (r := (Rect.unit (s := S3072x1536) off size inb).toLoadRect) (hl := hl)
    (k := K) (S := S) (q := q) (f := f) (Γ := ∅) (by
      intro y hy
      have hy' : (y : S3072x1536.Idx) ∈ (Rect.unit (s := S3072x1536) off size inb).set := by
        rwa [whole_setOn] at hy
      exact hS y (Rect.mem_set_unit.mp hy'))
  exact h

theorem str8 {off size : Fin 2 → ℕ} {inb} {S : Finset S3072x1536.Idx} {f : S3072x1536.Idx → Elt F (cc0_scratch3 : Ref sig .tc).ty.elt}
    {w : (Rect.unit (s := S3072x1536) off size inb).shape.Idx → Elt F (cc0_scratch3 : Ref sig .tc).ty.elt} {Mk : Finset (Rect.unit (s := S3072x1536) off size inb).shape.Idx} {hx hm}
    {Q : α → PP F} {K : PUnit → PG F α} (hMk : Mk = Finset.univ)
    (hS : ∀ y : S3072x1536.Idx, (∀ a, off a ≤ (y a).val ∧ (y a).val < off a + size a) → y ∈ S) :
    part (F := F) c cc0_scratch3 S fullShare f
      ⊢ iprop((part (F := F) c cc0_scratch3 S fullShare ((m8.access (Rect.unit (s := S3072x1536) off size inb)).write (Elt F) f w Finset.univ) -∗ Wp c (K ⟨⟩) Q)
      -∗ Wp c (Prog.lift (.store m8 (Rect.unit (s := S3072x1536) off size inb) w Mk hx hm) >>= K) Q) := by
  subst hMk
  have h := wp_store (defs := defs₀ (F := F)) Variants.nat (c : Thread nD τ) none Set.univ (Q := Q) (m := m8)
    (r := Rect.unit (s := S3072x1536) off size inb) (hx := hx) (hm := hm) (w := w)
    (k := K) (S := S) (f := f) (Γ := ∅) (by
      intro y hy
      have hy' : (y : S3072x1536.Idx) ∈ (Rect.unit (s := S3072x1536) off size inb).set := by
        rw [View.setOn_univ, View.set_slice] at hy
        exact (Finset.mem_map' (Function.Embedding.refl _)).mp hy
      exact hS y (Rect.mem_set_unit.mp hy'))
  exact h

/-- A load of the whole of `m8`. -/
theorem ldw8 {Q : α → PP F} {inb} {hl} {f : S3072x1536.Idx → Elt F (cc0_scratch3 : Ref sig .tc).ty.elt} {K : (S3072x1536.Idx → Elt F (cc0_scratch3 : Ref sig .tc).ty.elt) → PG F α} :
    own (F := F) c cc0_scratch3 f ⊢ iprop((own (F := F) c cc0_scratch3 f -∗ Wp (α := α) c (K f) Q)
      -∗ Wp c (Prog.lift (.load m8 (Rect.unit (s := S3072x1536) ![0, 0] S3072x1536.size inb).toLoadRect hl) >>= K) Q) := by
  have h := ldr8 (F := F) (c := c) (off := ![0, 0]) (size := S3072x1536.size) (inb := inb) (hl := hl) (S := (Finset.univ : Finset (Idx ((c : Thread nD τ).loc cc0_scratch3)))) (q := fullShare) (f := f) (Q := Q) (K := K)
    (fun y _ => Finset.mem_univ (α := Idx ((c : Thread nD τ).loc cc0_scratch3)) y)
  have hr := read_whole2 inb f
  rw [hr] at h
  exact h

theorem stwv8 (inb) (f w : S3072x1536.Idx → Elt F (cc0_scratch3 : Ref sig .tc).ty.elt) :
    (m8.access (Rect.unit (s := S3072x1536) ![0, 0] S3072x1536.size inb)).write (Elt F) f w Finset.univ = w := by
  funext y
  refine write_cases (F := F) cc0_scratch3 ![0, 0] S3072x1536.size inb f w y (fun v => v = w y) ?_ ?_
  · intro x hx
    have h0 : (y 0).val = 0 + (x 0).val := hx 0
    have h1 : (y 1).val = 0 + (x 1).val := hx 1
    refine congrArg w (funext fun a => Fin.ext ?_)
    fin_cases a
    · show (x 0).val = (y 0).val; omega
    · show (x 1).val = (y 1).val; omega
  · intro hh; exfalso; apply hh
    intro a
    have hsz : ∀ a : Fin 2, (![0, 0] : Fin 2 → ℕ) a = 0 := by decide
    have ha := (y a).isLt
    have h0 : (![0, 0] : Fin 2 → ℕ) a = 0 := hsz a
    exact ⟨le_of_eq_of_le h0 (Nat.zero_le _), lt_of_lt_of_eq ha (by rw [show (![0, 0] : Fin 2 → ℕ) a = 0 from h0, Nat.zero_add]; rfl)⟩

/-- A store of the whole of `m8`. -/
theorem stw8 {Q : α → PP F} {inb} {f : S3072x1536.Idx → Elt F (cc0_scratch3 : Ref sig .tc).ty.elt} {w : S3072x1536.Idx → Elt F (cc0_scratch3 : Ref sig .tc).ty.elt} {Mk : Finset S3072x1536.Idx} {hx hm}
    {K : PUnit → PG F α} (hMk : Mk = Finset.univ) :
    own (F := F) c cc0_scratch3 f ⊢ iprop((own (F := F) c cc0_scratch3 w -∗ Wp c (K ⟨⟩) Q)
      -∗ Wp c (Prog.lift (.store m8 (Rect.unit (s := S3072x1536) ![0, 0] S3072x1536.size inb) w Mk hx hm) >>= K) Q) := by
  have h := str8 (F := F) (c := c) (off := ![0, 0]) (size := S3072x1536.size) (inb := inb) (S := (Finset.univ : Finset (Idx ((c : Thread nD τ).loc cc0_scratch3)))) (f := f) (w := w) (Mk := Mk) (hx := hx) (hm := hm) (Q := Q) (K := K)
    hMk (fun y _ => Finset.mem_univ (α := Idx ((c : Thread nD τ).loc cc0_scratch3)) y)
  rw [stwv8] at h
  exact h

theorem ldr9 {off size : Fin 2 → ℕ} {inb} {hl} {S : Finset S96x1536.Idx} {q : PosShare TreeShare} {f : S96x1536.Idx → Elt F (cc0_scratch4 : Ref sig .tc).ty.elt}
    {Q : α → PP F} {K : ((Rect.unit (s := S96x1536) off size inb).toLoadRect.shape.Idx → Elt F (cc0_scratch4 : Ref sig .tc).ty.elt) → PG F α}
    (hS : ∀ y : S96x1536.Idx, (∀ a, off a ≤ (y a).val ∧ (y a).val < off a + size a) → y ∈ S) :
    part (F := F) c cc0_scratch4 S q f ⊢ iprop((part (F := F) c cc0_scratch4 S q f -∗ Wp c (K (fun x => f ((Rect.unit (s := S96x1536) off size inb).emb x))) Q)
      -∗ Wp c (Prog.lift (.load m9 (Rect.unit (s := S96x1536) off size inb).toLoadRect hl) >>= K) Q) := by
  have h := wp_load (defs := defs₀ (F := F)) Variants.nat (c : Thread nD τ) none Set.univ (Q := Q) (m := m9)
    (r := (Rect.unit (s := S96x1536) off size inb).toLoadRect) (hl := hl)
    (k := K) (S := S) (q := q) (f := f) (Γ := ∅) (by
      intro y hy
      have hy' : (y : S96x1536.Idx) ∈ (Rect.unit (s := S96x1536) off size inb).set := by
        rwa [whole_setOn] at hy
      exact hS y (Rect.mem_set_unit.mp hy'))
  exact h

theorem str9 {off size : Fin 2 → ℕ} {inb} {S : Finset S96x1536.Idx} {f : S96x1536.Idx → Elt F (cc0_scratch4 : Ref sig .tc).ty.elt}
    {w : (Rect.unit (s := S96x1536) off size inb).shape.Idx → Elt F (cc0_scratch4 : Ref sig .tc).ty.elt} {Mk : Finset (Rect.unit (s := S96x1536) off size inb).shape.Idx} {hx hm}
    {Q : α → PP F} {K : PUnit → PG F α} (hMk : Mk = Finset.univ)
    (hS : ∀ y : S96x1536.Idx, (∀ a, off a ≤ (y a).val ∧ (y a).val < off a + size a) → y ∈ S) :
    part (F := F) c cc0_scratch4 S fullShare f
      ⊢ iprop((part (F := F) c cc0_scratch4 S fullShare ((m9.access (Rect.unit (s := S96x1536) off size inb)).write (Elt F) f w Finset.univ) -∗ Wp c (K ⟨⟩) Q)
      -∗ Wp c (Prog.lift (.store m9 (Rect.unit (s := S96x1536) off size inb) w Mk hx hm) >>= K) Q) := by
  subst hMk
  have h := wp_store (defs := defs₀ (F := F)) Variants.nat (c : Thread nD τ) none Set.univ (Q := Q) (m := m9)
    (r := Rect.unit (s := S96x1536) off size inb) (hx := hx) (hm := hm) (w := w)
    (k := K) (S := S) (f := f) (Γ := ∅) (by
      intro y hy
      have hy' : (y : S96x1536.Idx) ∈ (Rect.unit (s := S96x1536) off size inb).set := by
        rw [View.setOn_univ, View.set_slice] at hy
        exact (Finset.mem_map' (Function.Embedding.refl _)).mp hy
      exact hS y (Rect.mem_set_unit.mp hy'))
  exact h

/-- A load of the whole of `m9`. -/
theorem ldw9 {Q : α → PP F} {inb} {hl} {f : S96x1536.Idx → Elt F (cc0_scratch4 : Ref sig .tc).ty.elt} {K : (S96x1536.Idx → Elt F (cc0_scratch4 : Ref sig .tc).ty.elt) → PG F α} :
    own (F := F) c cc0_scratch4 f ⊢ iprop((own (F := F) c cc0_scratch4 f -∗ Wp (α := α) c (K f) Q)
      -∗ Wp c (Prog.lift (.load m9 (Rect.unit (s := S96x1536) ![0, 0] S96x1536.size inb).toLoadRect hl) >>= K) Q) := by
  have h := ldr9 (F := F) (c := c) (off := ![0, 0]) (size := S96x1536.size) (inb := inb) (hl := hl) (S := (Finset.univ : Finset (Idx ((c : Thread nD τ).loc cc0_scratch4)))) (q := fullShare) (f := f) (Q := Q) (K := K)
    (fun y _ => Finset.mem_univ (α := Idx ((c : Thread nD τ).loc cc0_scratch4)) y)
  have hr := read_whole2 inb f
  rw [hr] at h
  exact h

theorem stwv9 (inb) (f w : S96x1536.Idx → Elt F (cc0_scratch4 : Ref sig .tc).ty.elt) :
    (m9.access (Rect.unit (s := S96x1536) ![0, 0] S96x1536.size inb)).write (Elt F) f w Finset.univ = w := by
  funext y
  refine write_cases (F := F) cc0_scratch4 ![0, 0] S96x1536.size inb f w y (fun v => v = w y) ?_ ?_
  · intro x hx
    have h0 : (y 0).val = 0 + (x 0).val := hx 0
    have h1 : (y 1).val = 0 + (x 1).val := hx 1
    refine congrArg w (funext fun a => Fin.ext ?_)
    fin_cases a
    · show (x 0).val = (y 0).val; omega
    · show (x 1).val = (y 1).val; omega
  · intro hh; exfalso; apply hh
    intro a
    have hsz : ∀ a : Fin 2, (![0, 0] : Fin 2 → ℕ) a = 0 := by decide
    have ha := (y a).isLt
    have h0 : (![0, 0] : Fin 2 → ℕ) a = 0 := hsz a
    exact ⟨le_of_eq_of_le h0 (Nat.zero_le _), lt_of_lt_of_eq ha (by rw [show (![0, 0] : Fin 2 → ℕ) a = 0 from h0, Nat.zero_add]; rfl)⟩

/-- A store of the whole of `m9`. -/
theorem stw9 {Q : α → PP F} {inb} {f : S96x1536.Idx → Elt F (cc0_scratch4 : Ref sig .tc).ty.elt} {w : S96x1536.Idx → Elt F (cc0_scratch4 : Ref sig .tc).ty.elt} {Mk : Finset S96x1536.Idx} {hx hm}
    {K : PUnit → PG F α} (hMk : Mk = Finset.univ) :
    own (F := F) c cc0_scratch4 f ⊢ iprop((own (F := F) c cc0_scratch4 w -∗ Wp c (K ⟨⟩) Q)
      -∗ Wp c (Prog.lift (.store m9 (Rect.unit (s := S96x1536) ![0, 0] S96x1536.size inb) w Mk hx hm) >>= K) Q) := by
  have h := str9 (F := F) (c := c) (off := ![0, 0]) (size := S96x1536.size) (inb := inb) (S := (Finset.univ : Finset (Idx ((c : Thread nD τ).loc cc0_scratch4)))) (f := f) (w := w) (Mk := Mk) (hx := hx) (hm := hm) (Q := Q) (K := K)
    hMk (fun y _ => Finset.mem_univ (α := Idx ((c : Thread nD τ).loc cc0_scratch4)) y)
  rw [stwv9] at h
  exact h

theorem ldr10 {off size : Fin 2 → ℕ} {inb} {hl} {S : Finset S256x3072.Idx} {q : PosShare TreeShare} {f : S256x3072.Idx → Elt F (cc0_scratch5 : Ref sig .tc).ty.elt}
    {Q : α → PP F} {K : ((Rect.unit (s := S256x3072) off size inb).toLoadRect.shape.Idx → Elt F (cc0_scratch5 : Ref sig .tc).ty.elt) → PG F α}
    (hS : ∀ y : S256x3072.Idx, (∀ a, off a ≤ (y a).val ∧ (y a).val < off a + size a) → y ∈ S) :
    part (F := F) c cc0_scratch5 S q f ⊢ iprop((part (F := F) c cc0_scratch5 S q f -∗ Wp c (K (fun x => f ((Rect.unit (s := S256x3072) off size inb).emb x))) Q)
      -∗ Wp c (Prog.lift (.load m10 (Rect.unit (s := S256x3072) off size inb).toLoadRect hl) >>= K) Q) := by
  have h := wp_load (defs := defs₀ (F := F)) Variants.nat (c : Thread nD τ) none Set.univ (Q := Q) (m := m10)
    (r := (Rect.unit (s := S256x3072) off size inb).toLoadRect) (hl := hl)
    (k := K) (S := S) (q := q) (f := f) (Γ := ∅) (by
      intro y hy
      have hy' : (y : S256x3072.Idx) ∈ (Rect.unit (s := S256x3072) off size inb).set := by
        rwa [whole_setOn] at hy
      exact hS y (Rect.mem_set_unit.mp hy'))
  exact h

theorem str10 {off size : Fin 2 → ℕ} {inb} {S : Finset S256x3072.Idx} {f : S256x3072.Idx → Elt F (cc0_scratch5 : Ref sig .tc).ty.elt}
    {w : (Rect.unit (s := S256x3072) off size inb).shape.Idx → Elt F (cc0_scratch5 : Ref sig .tc).ty.elt} {Mk : Finset (Rect.unit (s := S256x3072) off size inb).shape.Idx} {hx hm}
    {Q : α → PP F} {K : PUnit → PG F α} (hMk : Mk = Finset.univ)
    (hS : ∀ y : S256x3072.Idx, (∀ a, off a ≤ (y a).val ∧ (y a).val < off a + size a) → y ∈ S) :
    part (F := F) c cc0_scratch5 S fullShare f
      ⊢ iprop((part (F := F) c cc0_scratch5 S fullShare ((m10.access (Rect.unit (s := S256x3072) off size inb)).write (Elt F) f w Finset.univ) -∗ Wp c (K ⟨⟩) Q)
      -∗ Wp c (Prog.lift (.store m10 (Rect.unit (s := S256x3072) off size inb) w Mk hx hm) >>= K) Q) := by
  subst hMk
  have h := wp_store (defs := defs₀ (F := F)) Variants.nat (c : Thread nD τ) none Set.univ (Q := Q) (m := m10)
    (r := Rect.unit (s := S256x3072) off size inb) (hx := hx) (hm := hm) (w := w)
    (k := K) (S := S) (f := f) (Γ := ∅) (by
      intro y hy
      have hy' : (y : S256x3072.Idx) ∈ (Rect.unit (s := S256x3072) off size inb).set := by
        rw [View.setOn_univ, View.set_slice] at hy
        exact (Finset.mem_map' (Function.Embedding.refl _)).mp hy
      exact hS y (Rect.mem_set_unit.mp hy'))
  exact h

/-- A load of the whole of `m10`. -/
theorem ldw10 {Q : α → PP F} {inb} {hl} {f : S256x3072.Idx → Elt F (cc0_scratch5 : Ref sig .tc).ty.elt} {K : (S256x3072.Idx → Elt F (cc0_scratch5 : Ref sig .tc).ty.elt) → PG F α} :
    own (F := F) c cc0_scratch5 f ⊢ iprop((own (F := F) c cc0_scratch5 f -∗ Wp (α := α) c (K f) Q)
      -∗ Wp c (Prog.lift (.load m10 (Rect.unit (s := S256x3072) ![0, 0] S256x3072.size inb).toLoadRect hl) >>= K) Q) := by
  have h := ldr10 (F := F) (c := c) (off := ![0, 0]) (size := S256x3072.size) (inb := inb) (hl := hl) (S := (Finset.univ : Finset (Idx ((c : Thread nD τ).loc cc0_scratch5)))) (q := fullShare) (f := f) (Q := Q) (K := K)
    (fun y _ => Finset.mem_univ (α := Idx ((c : Thread nD τ).loc cc0_scratch5)) y)
  have hr := read_whole2 inb f
  rw [hr] at h
  exact h

theorem stwv10 (inb) (f w : S256x3072.Idx → Elt F (cc0_scratch5 : Ref sig .tc).ty.elt) :
    (m10.access (Rect.unit (s := S256x3072) ![0, 0] S256x3072.size inb)).write (Elt F) f w Finset.univ = w := by
  funext y
  refine write_cases (F := F) cc0_scratch5 ![0, 0] S256x3072.size inb f w y (fun v => v = w y) ?_ ?_
  · intro x hx
    have h0 : (y 0).val = 0 + (x 0).val := hx 0
    have h1 : (y 1).val = 0 + (x 1).val := hx 1
    refine congrArg w (funext fun a => Fin.ext ?_)
    fin_cases a
    · show (x 0).val = (y 0).val; omega
    · show (x 1).val = (y 1).val; omega
  · intro hh; exfalso; apply hh
    intro a
    have hsz : ∀ a : Fin 2, (![0, 0] : Fin 2 → ℕ) a = 0 := by decide
    have ha := (y a).isLt
    have h0 : (![0, 0] : Fin 2 → ℕ) a = 0 := hsz a
    exact ⟨le_of_eq_of_le h0 (Nat.zero_le _), lt_of_lt_of_eq ha (by rw [show (![0, 0] : Fin 2 → ℕ) a = 0 from h0, Nat.zero_add]; rfl)⟩

/-- A store of the whole of `m10`. -/
theorem stw10 {Q : α → PP F} {inb} {f : S256x3072.Idx → Elt F (cc0_scratch5 : Ref sig .tc).ty.elt} {w : S256x3072.Idx → Elt F (cc0_scratch5 : Ref sig .tc).ty.elt} {Mk : Finset S256x3072.Idx} {hx hm}
    {K : PUnit → PG F α} (hMk : Mk = Finset.univ) :
    own (F := F) c cc0_scratch5 f ⊢ iprop((own (F := F) c cc0_scratch5 w -∗ Wp c (K ⟨⟩) Q)
      -∗ Wp c (Prog.lift (.store m10 (Rect.unit (s := S256x3072) ![0, 0] S256x3072.size inb) w Mk hx hm) >>= K) Q) := by
  have h := str10 (F := F) (c := c) (off := ![0, 0]) (size := S256x3072.size) (inb := inb) (S := (Finset.univ : Finset (Idx ((c : Thread nD τ).loc cc0_scratch5)))) (f := f) (w := w) (Mk := Mk) (hx := hx) (hm := hm) (Q := Q) (K := K)
    hMk (fun y _ => Finset.mem_univ (α := Idx ((c : Thread nD τ).loc cc0_scratch5)) y)
  rw [stwv10] at h
  exact h

theorem ldr12 {off size : Fin 2 → ℕ} {inb} {hl} {S : Finset S16x1536.Idx} {q : PosShare TreeShare} {f : S16x1536.Idx → Elt F (cc0_scratch7 : Ref sig .tc).ty.elt}
    {Q : α → PP F} {K : ((Rect.unit (s := S16x1536) off size inb).toLoadRect.shape.Idx → Elt F (cc0_scratch7 : Ref sig .tc).ty.elt) → PG F α}
    (hS : ∀ y : S16x1536.Idx, (∀ a, off a ≤ (y a).val ∧ (y a).val < off a + size a) → y ∈ S) :
    part (F := F) c cc0_scratch7 S q f ⊢ iprop((part (F := F) c cc0_scratch7 S q f -∗ Wp c (K (fun x => f ((Rect.unit (s := S16x1536) off size inb).emb x))) Q)
      -∗ Wp c (Prog.lift (.load m12 (Rect.unit (s := S16x1536) off size inb).toLoadRect hl) >>= K) Q) := by
  have h := wp_load (defs := defs₀ (F := F)) Variants.nat (c : Thread nD τ) none Set.univ (Q := Q) (m := m12)
    (r := (Rect.unit (s := S16x1536) off size inb).toLoadRect) (hl := hl)
    (k := K) (S := S) (q := q) (f := f) (Γ := ∅) (by
      intro y hy
      have hy' : (y : S16x1536.Idx) ∈ (Rect.unit (s := S16x1536) off size inb).set := by
        rwa [whole_setOn] at hy
      exact hS y (Rect.mem_set_unit.mp hy'))
  exact h

theorem str12 {off size : Fin 2 → ℕ} {inb} {S : Finset S16x1536.Idx} {f : S16x1536.Idx → Elt F (cc0_scratch7 : Ref sig .tc).ty.elt}
    {w : (Rect.unit (s := S16x1536) off size inb).shape.Idx → Elt F (cc0_scratch7 : Ref sig .tc).ty.elt} {Mk : Finset (Rect.unit (s := S16x1536) off size inb).shape.Idx} {hx hm}
    {Q : α → PP F} {K : PUnit → PG F α} (hMk : Mk = Finset.univ)
    (hS : ∀ y : S16x1536.Idx, (∀ a, off a ≤ (y a).val ∧ (y a).val < off a + size a) → y ∈ S) :
    part (F := F) c cc0_scratch7 S fullShare f
      ⊢ iprop((part (F := F) c cc0_scratch7 S fullShare ((m12.access (Rect.unit (s := S16x1536) off size inb)).write (Elt F) f w Finset.univ) -∗ Wp c (K ⟨⟩) Q)
      -∗ Wp c (Prog.lift (.store m12 (Rect.unit (s := S16x1536) off size inb) w Mk hx hm) >>= K) Q) := by
  subst hMk
  have h := wp_store (defs := defs₀ (F := F)) Variants.nat (c : Thread nD τ) none Set.univ (Q := Q) (m := m12)
    (r := Rect.unit (s := S16x1536) off size inb) (hx := hx) (hm := hm) (w := w)
    (k := K) (S := S) (f := f) (Γ := ∅) (by
      intro y hy
      have hy' : (y : S16x1536.Idx) ∈ (Rect.unit (s := S16x1536) off size inb).set := by
        rw [View.setOn_univ, View.set_slice] at hy
        exact (Finset.mem_map' (Function.Embedding.refl _)).mp hy
      exact hS y (Rect.mem_set_unit.mp hy'))
  exact h

/-- A load of the whole of `m12`. -/
theorem ldw12 {Q : α → PP F} {inb} {hl} {f : S16x1536.Idx → Elt F (cc0_scratch7 : Ref sig .tc).ty.elt} {K : (S16x1536.Idx → Elt F (cc0_scratch7 : Ref sig .tc).ty.elt) → PG F α} :
    own (F := F) c cc0_scratch7 f ⊢ iprop((own (F := F) c cc0_scratch7 f -∗ Wp (α := α) c (K f) Q)
      -∗ Wp c (Prog.lift (.load m12 (Rect.unit (s := S16x1536) ![0, 0] S16x1536.size inb).toLoadRect hl) >>= K) Q) := by
  have h := ldr12 (F := F) (c := c) (off := ![0, 0]) (size := S16x1536.size) (inb := inb) (hl := hl) (S := (Finset.univ : Finset (Idx ((c : Thread nD τ).loc cc0_scratch7)))) (q := fullShare) (f := f) (Q := Q) (K := K)
    (fun y _ => Finset.mem_univ (α := Idx ((c : Thread nD τ).loc cc0_scratch7)) y)
  have hr := read_whole2 inb f
  rw [hr] at h
  exact h

theorem stwv12 (inb) (f w : S16x1536.Idx → Elt F (cc0_scratch7 : Ref sig .tc).ty.elt) :
    (m12.access (Rect.unit (s := S16x1536) ![0, 0] S16x1536.size inb)).write (Elt F) f w Finset.univ = w := by
  funext y
  refine write_cases (F := F) cc0_scratch7 ![0, 0] S16x1536.size inb f w y (fun v => v = w y) ?_ ?_
  · intro x hx
    have h0 : (y 0).val = 0 + (x 0).val := hx 0
    have h1 : (y 1).val = 0 + (x 1).val := hx 1
    refine congrArg w (funext fun a => Fin.ext ?_)
    fin_cases a
    · show (x 0).val = (y 0).val; omega
    · show (x 1).val = (y 1).val; omega
  · intro hh; exfalso; apply hh
    intro a
    have hsz : ∀ a : Fin 2, (![0, 0] : Fin 2 → ℕ) a = 0 := by decide
    have ha := (y a).isLt
    have h0 : (![0, 0] : Fin 2 → ℕ) a = 0 := hsz a
    exact ⟨le_of_eq_of_le h0 (Nat.zero_le _), lt_of_lt_of_eq ha (by rw [show (![0, 0] : Fin 2 → ℕ) a = 0 from h0, Nat.zero_add]; rfl)⟩

/-- A store of the whole of `m12`. -/
theorem stw12 {Q : α → PP F} {inb} {f : S16x1536.Idx → Elt F (cc0_scratch7 : Ref sig .tc).ty.elt} {w : S16x1536.Idx → Elt F (cc0_scratch7 : Ref sig .tc).ty.elt} {Mk : Finset S16x1536.Idx} {hx hm}
    {K : PUnit → PG F α} (hMk : Mk = Finset.univ) :
    own (F := F) c cc0_scratch7 f ⊢ iprop((own (F := F) c cc0_scratch7 w -∗ Wp c (K ⟨⟩) Q)
      -∗ Wp c (Prog.lift (.store m12 (Rect.unit (s := S16x1536) ![0, 0] S16x1536.size inb) w Mk hx hm) >>= K) Q) := by
  have h := str12 (F := F) (c := c) (off := ![0, 0]) (size := S16x1536.size) (inb := inb) (S := (Finset.univ : Finset (Idx ((c : Thread nD τ).loc cc0_scratch7)))) (f := f) (w := w) (Mk := Mk) (hx := hx) (hm := hm) (Q := Q) (K := K)
    hMk (fun y _ => Finset.mem_univ (α := Idx ((c : Thread nD τ).loc cc0_scratch7)) y)
  rw [stwv12] at h
  exact h

theorem ldr6 {off size : Fin 2 → ℕ} {inb} {hl} {S : Finset S3072x1536.Idx} {q : PosShare TreeShare} {f : S3072x1536.Idx → Elt F (cc0_scratch1 : Ref sig .tc).ty.elt}
    {Q : α → PP F} {K : ((Rect.unit (s := S3072x1536) off size inb).toLoadRect.shape.Idx → Elt F (cc0_scratch1 : Ref sig .tc).ty.elt) → PG F α}
    (hS : ∀ y : S3072x1536.Idx, (∀ a, off a ≤ (y a).val ∧ (y a).val < off a + size a) → y ∈ S) :
    part (F := F) c cc0_scratch1 S q f ⊢ iprop((part (F := F) c cc0_scratch1 S q f -∗ Wp c (K (fun x => f ((Rect.unit (s := S3072x1536) off size inb).emb x))) Q)
      -∗ Wp c (Prog.lift (.load m6 (Rect.unit (s := S3072x1536) off size inb).toLoadRect hl) >>= K) Q) := by
  have h := wp_load (defs := defs₀ (F := F)) Variants.nat (c : Thread nD τ) none Set.univ (Q := Q) (m := m6)
    (r := (Rect.unit (s := S3072x1536) off size inb).toLoadRect) (hl := hl)
    (k := K) (S := S) (q := q) (f := f) (Γ := ∅) (by
      intro y hy
      have hy' : (y : S3072x1536.Idx) ∈ (Rect.unit (s := S3072x1536) off size inb).set := by
        rwa [whole_setOn] at hy
      exact hS y (Rect.mem_set_unit.mp hy'))
  exact h

theorem str6 {off size : Fin 2 → ℕ} {inb} {S : Finset S3072x1536.Idx} {f : S3072x1536.Idx → Elt F (cc0_scratch1 : Ref sig .tc).ty.elt}
    {w : (Rect.unit (s := S3072x1536) off size inb).shape.Idx → Elt F (cc0_scratch1 : Ref sig .tc).ty.elt} {Mk : Finset (Rect.unit (s := S3072x1536) off size inb).shape.Idx} {hx hm}
    {Q : α → PP F} {K : PUnit → PG F α} (hMk : Mk = Finset.univ)
    (hS : ∀ y : S3072x1536.Idx, (∀ a, off a ≤ (y a).val ∧ (y a).val < off a + size a) → y ∈ S) :
    part (F := F) c cc0_scratch1 S fullShare f
      ⊢ iprop((part (F := F) c cc0_scratch1 S fullShare ((m6.access (Rect.unit (s := S3072x1536) off size inb)).write (Elt F) f w Finset.univ) -∗ Wp c (K ⟨⟩) Q)
      -∗ Wp c (Prog.lift (.store m6 (Rect.unit (s := S3072x1536) off size inb) w Mk hx hm) >>= K) Q) := by
  subst hMk
  have h := wp_store (defs := defs₀ (F := F)) Variants.nat (c : Thread nD τ) none Set.univ (Q := Q) (m := m6)
    (r := Rect.unit (s := S3072x1536) off size inb) (hx := hx) (hm := hm) (w := w)
    (k := K) (S := S) (f := f) (Γ := ∅) (by
      intro y hy
      have hy' : (y : S3072x1536.Idx) ∈ (Rect.unit (s := S3072x1536) off size inb).set := by
        rw [View.setOn_univ, View.set_slice] at hy
        exact (Finset.mem_map' (Function.Embedding.refl _)).mp hy
      exact hS y (Rect.mem_set_unit.mp hy'))
  exact h

theorem ldr11 {off size : Fin 3 → ℕ} {inb} {hl} {S : Finset S2x256x1536.Idx} {q : PosShare TreeShare} {f : S2x256x1536.Idx → Elt F (cc0_scratch6 : Ref sig .tc).ty.elt}
    {Q : α → PP F} {K : ((Rect.unit (s := S2x256x1536) off size inb).toLoadRect.shape.Idx → Elt F (cc0_scratch6 : Ref sig .tc).ty.elt) → PG F α}
    (hS : ∀ y : S2x256x1536.Idx, (∀ a, off a ≤ (y a).val ∧ (y a).val < off a + size a) → y ∈ S) :
    part (F := F) c cc0_scratch6 S q f ⊢ iprop((part (F := F) c cc0_scratch6 S q f -∗ Wp c (K (fun x => f ((Rect.unit (s := S2x256x1536) off size inb).emb x))) Q)
      -∗ Wp c (Prog.lift (.load m11 (Rect.unit (s := S2x256x1536) off size inb).toLoadRect hl) >>= K) Q) := by
  have h := wp_load (defs := defs₀ (F := F)) Variants.nat (c : Thread nD τ) none Set.univ (Q := Q) (m := m11)
    (r := (Rect.unit (s := S2x256x1536) off size inb).toLoadRect) (hl := hl)
    (k := K) (S := S) (q := q) (f := f) (Γ := ∅) (by
      intro y hy
      have hy' : (y : S2x256x1536.Idx) ∈ (Rect.unit (s := S2x256x1536) off size inb).set := by
        rwa [whole_setOn] at hy
      exact hS y (Rect.mem_set_unit.mp hy'))
  exact h

theorem str11 {off size : Fin 3 → ℕ} {inb} {S : Finset S2x256x1536.Idx} {f : S2x256x1536.Idx → Elt F (cc0_scratch6 : Ref sig .tc).ty.elt}
    {w : (Rect.unit (s := S2x256x1536) off size inb).shape.Idx → Elt F (cc0_scratch6 : Ref sig .tc).ty.elt} {Mk : Finset (Rect.unit (s := S2x256x1536) off size inb).shape.Idx} {hx hm}
    {Q : α → PP F} {K : PUnit → PG F α} (hMk : Mk = Finset.univ)
    (hS : ∀ y : S2x256x1536.Idx, (∀ a, off a ≤ (y a).val ∧ (y a).val < off a + size a) → y ∈ S) :
    part (F := F) c cc0_scratch6 S fullShare f
      ⊢ iprop((part (F := F) c cc0_scratch6 S fullShare ((m11.access (Rect.unit (s := S2x256x1536) off size inb)).write (Elt F) f w Finset.univ) -∗ Wp c (K ⟨⟩) Q)
      -∗ Wp c (Prog.lift (.store m11 (Rect.unit (s := S2x256x1536) off size inb) w Mk hx hm) >>= K) Q) := by
  subst hMk
  have h := wp_store (defs := defs₀ (F := F)) Variants.nat (c : Thread nD τ) none Set.univ (Q := Q) (m := m11)
    (r := Rect.unit (s := S2x256x1536) off size inb) (hx := hx) (hm := hm) (w := w)
    (k := K) (S := S) (f := f) (Γ := ∅) (by
      intro y hy
      have hy' : (y : S2x256x1536.Idx) ∈ (Rect.unit (s := S2x256x1536) off size inb).set := by
        rw [View.setOn_univ, View.set_slice] at hy
        exact (Finset.mem_map' (Function.Embedding.refl _)).mp hy
      exact hS y (Rect.mem_set_unit.mp hy'))
  exact h

end Cert.Kernel.Hand
-- ==== Proof.K.Fetch.lean ====
/-
  The transfers that bring in activations, weights and scales.
-/
module

public import proofs.«01_k».proof.Proof.K.Moves

@[expose] public section

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

variable {α : Type} {c : Dev nD}

/-- The semaphore of slot `σ` of the activations' ring buffer. -/
def x18 (σ : ℕ) : DmaSem sig := if σ = 0 then ((s18.slice (Rect.unit (s := S2) ![0] S1.size inb_S2_S1_0)).squeeze S_ squeezes_S1_S_).sem
  else ((s18.slice (Rect.unit (s := S2) ![1] S1.size (by decide))).squeeze S_ squeezes_S1_S_).sem

theorem x18_eq {σ : ℕ} (hσ : σ < 2) {off : Fin 1 → ℕ} {inb} {h} (hoff : off = ![σ]) :
    ((s18.slice (Rect.unit (s := S2) off S1.size inb)).squeeze S_ h).sem = x18 σ := by
  subst hoff
  interval_cases σ
  · rfl
  · rfl

/-- What a fetch of 256 rows of activations from row `s0` leaves. -/
def XGot (c : Dev nD) (σ s0 : ℕ) (q : PosShare TreeShare) (fx : S12288x3072.Idx → Elt F .bf16) : PP F :=
  iprop((∃ g : S2x256x3072.Idx → Elt F .bf16, ⌜∀ r j, r < 256 → j < 3072 → g (ix5 σ r j) = fx (gx2 (s0 + r) j)⌝
      ∗ part c cc0_scratch0 (slot5 c σ) fullShare g) ∗ part c main_arg0 Finset.univ q fx)

/-- The amount such a fetch credits. -/
abbrev NX : ℕ := Ref.dmaCredit (cc0_scratch0 : Ref sig .tc) S256x3072 .bf16
abbrev NW : ℕ := Ref.dmaCredit (cc0_scratch1 : Ref sig .tc) S3072x1536 .fp8e4m3
abbrev NS : ℕ := Ref.dmaCredit (cc0_scratch2 : Ref sig .tc) S96x1536 .i8

/-- A fetch of activations under way. -/
def XFly (c : Dev nD) (σ s0 : ℕ) (q : PosShare TreeShare) (fx : S12288x3072.Idx → Elt F .bf16) : PP F :=
  Fly c (.dma (x18 σ)) NX (XGot c σ s0 q fx)

theorem x_start {Q : α → PP F} {K : PUnit → PG F α} {σ s0 : ℕ} (hσ : σ < 2) {offd : Fin 3 → ℕ} {offs : Fin 2 → ℕ} {inbd inbs hd hs hq sem hsrc hdst hsem}
    (hoffd : offd = ![σ, 0, 0]) (hoffs : offs = ![s0, 0]) (hse : sem = x18 σ) {q : PosShare TreeShare} {g : S2x256x3072.Idx → Elt F .bf16}
    {fx : S12288x3072.Idx → Elt F .bf16} :
    iprop(part c main_arg0 Finset.univ q fx ∗ part c cc0_scratch0 (slot5 c σ) fullShare g ∗ sval c (.dma (x18 σ)) 0)
      ⊢ iprop((XFly c σ s0 q fx -∗ Wp c (K ⟨⟩) Q)
        -∗ Wp c (Prog.lift (.enqueueDma (m1.slice (Rect.unit (s := S12288x3072) offs S256x3072.size inbs) hs)
            (.here ((m5.slice (Rect.unit (s := S2x256x3072) offd S1x256x3072.size inbd) hd).squeeze S256x3072 hq)) (.dma sem) hsrc hdst hsem) >>= K) Q) := by
  subst hoffd hoffs hse
  have h := fly_start (F := F) (c := c) (Q := Q) (K := K) (src := m1.slice (Rect.unit (s := S12288x3072) ![s0, 0] S256x3072.size inbs) hs)
    (dst := (m5.slice (Rect.unit (s := S2x256x3072) ![σ, 0, 0] S1x256x3072.size inbd) hd).squeeze S256x3072 hq) (sm := .dma (x18 σ))
    (hsrc := hsrc) (hdst := hdst) (hsem := hsem) (q := q) (fs := fx) (Sd := slot5 c σ) (fd := g) NX rfl (by decide) (by
      intro y hy
      have hy' : (y : S2x256x3072.Idx) ∈ (Rect.unit (s := S2x256x3072) ![σ, 0, 0] S1x256x3072.size inbd).set := by
        have hy2 : y ∈ ((View.whole cc0_scratch0 : View sig .tc _ _ _).slice (Rect.unit (s := S2x256x3072) ![σ, 0, 0] S1x256x3072.size inbd)).set :=
          (subset_of_eq (View.set_reshape ((View.whole cc0_scratch0 : View sig .tc _ _ _).slice (Rect.unit (s := S2x256x3072) ![σ, 0, 0] S1x256x3072.size inbd)) hq.numel_eq)) hy
        rw [View.set_slice_whole] at hy2; exact hy2
      rw [Rect.mem_set_unit] at hy'
      have h1 : σ ≤ (y 0).val ∧ (y 0).val < σ + 1 := hy' 0
      refine Finset.mem_filter.mpr ⟨Finset.mem_univ _, ?_⟩
      omega)
  refine h.trans (wand_mono_left ?_)
  iintro HX HF
  iapply HX
  unfold XFly
  iapply (Fly_mono (F := F) ?_) $$ HF
  unfold XGot
  iintro ⟨Hd, Hs⟩
  isplitr [Hs]
  · iexists _; isplitr
    rotate_left
    · iexact Hd
    ipureintro
    intro r j hr hj
    let x : S256x3072.Idx := ValueIdx.ix2 (⟨r, hr⟩ : Fin 256) (⟨j, hj⟩ : Fin 3072)
    have hx : ((m5.slice (Rect.unit (s := S2x256x3072) ![σ, 0, 0] S1x256x3072.size inbd) hd).squeeze S256x3072 hq).view.emb x = ix5 σ r j := by
      show (Rect.unit (s := S2x256x3072) ![σ, 0, 0] S1x256x3072.size inbd).emb (Shape.reshapeEquiv _ x) = _
      rw [ValueIdx.reshapeEquiv_ix2_1ab]
      refine ix5_eq _ _ _ _ ?_ ?_ ?_
      · show σ + 1 * 0 = σ; omega
      · show 0 + 1 * r = r; omega
      · show 0 + 1 * j = j; omega
    rw [← hx]
    refine (View.write_emb_of_mem _ _ (Finset.mem_univ _)).trans ?_
    refine congrArg fx (gx2_eq _ _ _ ?_ ?_)
    · show s0 + 1 * r = s0 + r; omega
    · show 0 + 1 * j = j; omega
  · iexact Hs

theorem x_wait {Q : α → PP F} {K : PUnit → PG F α} {σ s0 : ℕ} {cs cs' : Space} {s' : Shape} {e' : EltTy} {srcw : Memref sig .tc cs s' e'}
    {dstw : Memref sig .tc cs' S256x3072 .bf16} {sem hsrc hdst} (hN : dstw.view.dmaCredit = NX) (hse : sem = x18 σ)
    {q : PosShare TreeShare} {fx : S12288x3072.Idx → Elt F .bf16} :
    iprop(XFly c σ s0 q fx ∗ owed c)
      ⊢ iprop((iprop(XGot c σ s0 q fx ∗ sval c (.dma (x18 σ)) 0 ∗ owed c) -∗ Wp c (K ⟨⟩) Q)
        -∗ Wp c (Prog.lift (.waitDma2 sem srcw dstw hsrc hdst) >>= K) Q) := by
  subst hse
  exact fly_wait (F := F) (c := c) hN

/-- What a fetch of expert `e`'s weights leaves. -/
def wGot (c : Dev nD) (e : ℕ) (fw : S8x3072x1536.Idx → Elt F .fp8e4m3) : PP F :=
  iprop((∃ g : S3072x1536.Idx → Elt F .fp8e4m3, ⌜∀ k j, k < 3072 → j < 1536 → g (gx2 k j) = fw (gx3 e k j)⌝ ∗ own (F := F) c cc0_scratch1 g) ∗ own (F := F) c main_arg2 fw)

theorem w_start {Q : α → PP F} {K : PUnit → PG F α} {e : ℕ} {offs : Fin 3 → ℕ} {inbs hs hq sem hsrc hdst hsem}
    (hoffs : offs = ![e, 0, 0]) {g : S3072x1536.Idx → Elt F .fp8e4m3} {fw : S8x3072x1536.Idx → Elt F .fp8e4m3} :
    iprop(own (F := F) c main_arg2 fw ∗ own (F := F) c cc0_scratch1 g ∗ sval c (.dma sem) 0)
      ⊢ iprop((Fly c (.dma sem) NW (wGot c e fw) -∗ Wp c (K ⟨⟩) Q)
        -∗ Wp c (Prog.lift (.enqueueDma (((m2).slice (Rect.unit (s := S8x3072x1536) offs S1x3072x1536.size inbs) hs).squeeze S3072x1536 hq)
            (.here m6) (.dma sem) hsrc hdst hsem) >>= K) Q) := by
  subst hoffs
  have h := fly_start (F := F) (c := c) (Q := Q) (K := K) (src := ((m2).slice (Rect.unit (s := S8x3072x1536) ![e, 0, 0] S1x3072x1536.size inbs) hs).squeeze S3072x1536 hq)
    (dst := m6) (sm := .dma sem)
    (hsrc := hsrc) (hdst := hdst) (hsem := hsem) (q := fullShare) (fs := fw) (Sd := (Finset.univ : Finset (Idx ((c : Thread nD τ).loc cc0_scratch1)))) (fd := g) NW rfl (by decide) (Finset.subset_univ _)
  refine h.trans (wand_mono_left ?_)
  iintro HX HF
  iapply HX
  iapply (Fly_mono (F := F) ?_) $$ HF
  unfold wGot
  iintro ⟨Hd, Hs⟩
  isplitr [Hs]
  · iexists _; isplitr
    rotate_left
    · iexact Hd
    ipureintro
    intro k j hk hj
    let x : S3072x1536.Idx := ValueIdx.ix2 (⟨k, hk⟩ : Fin 3072) (⟨j, hj⟩ : Fin 1536)
    have hx : (m6).view.emb x = gx2 k j := gx2_eq x k j rfl rfl
    rw [← hx]
    refine (View.write_emb_of_mem _ _ (Finset.mem_univ _)).trans ?_
    have hy : (((m2).slice (Rect.unit (s := S8x3072x1536) ![e, 0, 0] S1x3072x1536.size inbs) hs).squeeze S3072x1536 hq).view.emb x = gx3 e k j := by
      show (Rect.unit (s := S8x3072x1536) ![e, 0, 0] S1x3072x1536.size inbs).emb (Shape.reshapeEquiv _ x) = _
      rw [ValueIdx.reshapeEquiv_ix2_1ab]
      refine gx3_eq _ _ _ _ ?_ ?_ ?_
      · show e + 1 * 0 = e; omega
      · show 0 + 1 * k = k; omega
      · show 0 + 1 * j = j; omega
    show fw ((((m2).slice (Rect.unit (s := S8x3072x1536) ![e, 0, 0] S1x3072x1536.size inbs) hs).squeeze S3072x1536 hq).view.emb x) = _
    rw [hy]
  · iexact Hs

/-- What a fetch of expert `e`'s scales leaves. -/
def sGot (c : Dev nD) (e : ℕ) (fw : S8x96x1536.Idx → Elt F .i8) : PP F :=
  iprop((∃ g : S96x1536.Idx → Elt F .i8, ⌜∀ k j, k < 96 → j < 1536 → g (gx2 k j) = fw (gx3 e k j)⌝ ∗ own (F := F) c cc0_scratch2 g) ∗ own (F := F) c main_arg3 fw)

theorem s_start {Q : α → PP F} {K : PUnit → PG F α} {e : ℕ} {offs : Fin 3 → ℕ} {inbs hs hq sem hsrc hdst hsem}
    (hoffs : offs = ![e, 0, 0]) {g : S96x1536.Idx → Elt F .i8} {fw : S8x96x1536.Idx → Elt F .i8} :
    iprop(own (F := F) c main_arg3 fw ∗ own (F := F) c cc0_scratch2 g ∗ sval c (.dma sem) 0)
      ⊢ iprop((Fly c (.dma sem) NS (sGot c e fw) -∗ Wp c (K ⟨⟩) Q)
        -∗ Wp c (Prog.lift (.enqueueDma (((m3).slice (Rect.unit (s := S8x96x1536) offs S1x96x1536.size inbs) hs).squeeze S96x1536 hq)
            (.here m7) (.dma sem) hsrc hdst hsem) >>= K) Q) := by
  subst hoffs
  have h := fly_start (F := F) (c := c) (Q := Q) (K := K) (src := ((m3).slice (Rect.unit (s := S8x96x1536) ![e, 0, 0] S1x96x1536.size inbs) hs).squeeze S96x1536 hq)
    (dst := m7) (sm := .dma sem)
    (hsrc := hsrc) (hdst := hdst) (hsem := hsem) (q := fullShare) (fs := fw) (Sd := (Finset.univ : Finset (Idx ((c : Thread nD τ).loc cc0_scratch2)))) (fd := g) NS rfl (by decide) (Finset.subset_univ _)
  refine h.trans (wand_mono_left ?_)
  iintro HX HF
  iapply HX
  iapply (Fly_mono (F := F) ?_) $$ HF
  unfold sGot
  iintro ⟨Hd, Hs⟩
  isplitr [Hs]
  · iexists _; isplitr
    rotate_left
    · iexact Hd
    ipureintro
    intro k j hk hj
    let x : S96x1536.Idx := ValueIdx.ix2 (⟨k, hk⟩ : Fin 96) (⟨j, hj⟩ : Fin 1536)
    have hx : (m7).view.emb x = gx2 k j := gx2_eq x k j rfl rfl
    rw [← hx]
    refine (View.write_emb_of_mem _ _ (Finset.mem_univ _)).trans ?_
    have hy : (((m3).slice (Rect.unit (s := S8x96x1536) ![e, 0, 0] S1x96x1536.size inbs) hs).squeeze S96x1536 hq).view.emb x = gx3 e k j := by
      show (Rect.unit (s := S8x96x1536) ![e, 0, 0] S1x96x1536.size inbs).emb (Shape.reshapeEquiv _ x) = _
      rw [ValueIdx.reshapeEquiv_ix2_1ab]
      refine gx3_eq _ _ _ _ ?_ ?_ ?_
      · show e + 1 * 0 = e; omega
      · show 0 + 1 * k = k; omega
      · show 0 + 1 * j = j; omega
    show fw ((((m3).slice (Rect.unit (s := S8x96x1536) ![e, 0, 0] S1x96x1536.size inbs) hs).squeeze S96x1536 hq).view.emb x) = _
    rw [hy]
  · iexact Hs

end Cert.Kernel.Hand
-- ==== Proof.K.OutB.lean ====
/-
  The copies of a tile to the output: one for each binary digit of its number of 16-row blocks, all on one semaphore.
-/
module

public import proofs.«01_k».proof.Proof.K.Moves

@[expose] public section

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

variable {α : Type} {c : Dev nD}

/-! ### A number of 16-row blocks, cut by its binary digits -/

/-- The blocks in piece `p`. -/
def bw (p : ℕ) : ℕ := 2 ^ (4 - p)
/-- Whether `k` blocks include piece `p`. -/
abbrev pres (k p : ℕ) : Prop := k / bw p % 2 = 1
/-- Where piece `p` starts. -/
def oo (k p : ℕ) : ℕ := k / 2 ^ (5 - p) * 2 ^ (5 - p)
/-- The pieces before `p`. -/
def cnt (k p : ℕ) : ℕ := ((List.range p).filter fun q => k / bw q % 2 = 1).length
/-- The piece issued as number `t`. -/
def pcN (k t : ℕ) : ℕ := ((List.range 5).find? fun p => decide (k / bw p % 2 = 1) && decide (cnt k p = t)).getD 0

theorem pieces_pres : ∀ k < 17, ∀ p < 5, pres k p → pcN k (cnt k p) = p ∧ cnt k p < cnt k 5 ∧ cnt k (p + 1) = cnt k p + 1 ∧ oo k (p + 1) = oo k p + bw p := by
  decide
theorem pieces_not : ∀ k < 17, ∀ p < 5, ¬ pres k p → cnt k (p + 1) = cnt k p ∧ oo k (p + 1) = oo k p := by decide
theorem pieces_le : ∀ k < 17, ∀ p < 6, oo k p ≤ k := by decide
theorem pieces_end : ∀ k < 17, oo k 5 = k ∧ oo k 0 = 0 ∧ cnt k 0 = 0 := by decide
theorem pieces_cover : ∀ k < 17, ∀ x < k, ∃ t : Fin (cnt k 5), oo k (pcN k t.val) ≤ x ∧ x < oo k (pcN k t.val + 1) := by decide
theorem pieces_mem : ∀ k < 17, ∀ t : Fin (cnt k 5), oo k (pcN k t.val + 1) ≤ k := by decide
theorem pieces_disj : ∀ k < 17, ∀ t t' : Fin (cnt k 5), t ≠ t' →
    oo k (pcN k t.val + 1) ≤ oo k (pcN k t'.val) ∨ oo k (pcN k t'.val + 1) ≤ oo k (pcN k t.val) := by decide

/-! ### The pieces' elements -/

/-- The elements of slot `σ` of the output ring. -/
def slot6 (c : Dev nD) (σ : ℕ) : Finset (Idx ((c : Thread nD τ).loc cc0_scratch6)) :=
  Finset.univ.filter fun i : S2x256x1536.Idx => (i 0).val = σ
/-- Blocks `a` to `b` of the output from row `R`. -/
def rowsOut (c : Dev nD) (R a b : ℕ) : Finset (Idx ((c : Thread nD τ).loc main_v0)) :=
  Finset.univ.filter fun i : S12288x1536.Idx => R + 16 * a ≤ (i 0).val ∧ (i 0).val < R + 16 * b
/-- The rest of the output. -/
def restOut (c : Dev nD) (R b : ℕ) : Finset (Idx ((c : Thread nD τ).loc main_v0)) :=
  Finset.univ.filter fun i : S12288x1536.Idx => ¬ (R ≤ (i 0).val ∧ (i 0).val < R + 16 * b)
/-- Blocks `a` to `b` of slot `σ`. -/
def rowsBuf (c : Dev nD) (σ a b : ℕ) : Finset (Idx ((c : Thread nD τ).loc cc0_scratch6)) :=
  Finset.univ.filter fun i : S2x256x1536.Idx => (i 0).val = σ ∧ 16 * a ≤ (i 1).val ∧ (i 1).val < 16 * b

/-- The output after the copy of `k` blocks of slot `σ` to row `R`. -/
def outNew (R k σ : ℕ) (fo : S2x256x1536.Idx → Elt F .bf16) (fOld : S12288x1536.Idx → Elt F .bf16) : S12288x1536.Idx → Elt F .bf16 :=
  fun i => if R ≤ (i 0).val ∧ (i 0).val < R + 16 * k then fo (gx3 σ ((i 0).val - R) (i 1).val) else fOld i

/-- What piece `p` delivers. -/
def piece (c : Dev nD) (σ R k : ℕ) (fo : S2x256x1536.Idx → Elt F .bf16) (fOld : S12288x1536.Idx → Elt F .bf16) (p : ℕ) : PP F :=
  iprop(part c main_v0 (rowsOut c R (oo k p) (oo k (p + 1))) fullShare (outNew R k σ fo fOld)
    ∗ part c cc0_scratch6 (rowsBuf c σ (oo k p) (oo k (p + 1))) fullShare fo)

/-- What piece `p` credits. -/
def amtP (p : ℕ) : ℕ := Ref.dmaCredit (main_v0 : Ref sig .tc) ⟨2, ![16 * bw p, 1536]⟩ .bf16

/-- The batch of copies, with `j` issued and `u` awaited. -/
abbrev MB (c : Dev nD) (σ R k : ℕ) (fo : S2x256x1536.Idx → Elt F .bf16) (fOld : S12288x1536.Idx → Elt F .bf16) (j u : ℕ) : PP F :=
  Transfers.MixedBatch EC (c : Thread nD τ) (.dma s21.sem) () (n := cnt k 5) (fun t => amtP (pcN k t.val)) (fun t => piece c σ R k fo fOld (pcN k t.val)) j u

/-- The copies under way: pieces before `p` issued. -/
def OI (c : Dev nD) (σ R k : ℕ) (fo : S2x256x1536.Idx → Elt F .bf16) (fOld : S12288x1536.Idx → Elt F .bf16) (p : ℕ) : PP F :=
  iprop(MB c σ R k fo fOld (cnt k p) 0 ∗ part c main_v0 (restOut c R (oo k p)) fullShare fOld
    ∗ part c cc0_scratch6 (rowsBuf c σ (oo k p) 16) fullShare fo)

/-- The copies all issued: pieces before `p` awaited. -/
def OW (c : Dev nD) (σ R k : ℕ) (fo : S2x256x1536.Idx → Elt F .bf16) (fOld : S12288x1536.Idx → Elt F .bf16) (p : ℕ) : PP F :=
  iprop(MB c σ R k fo fOld (cnt k 5) (Transfers.sumTo (n := cnt k 5) (fun t => amtP (pcN k t.val)) (cnt k p))
    ∗ part c main_v0 (restOut c R k) fullShare fOld ∗ part c cc0_scratch6 (rowsBuf c σ k 16) fullShare fo)

variable {σ R k : ℕ} {fo : S2x256x1536.Idx → Elt F .bf16} {fOld : S12288x1536.Idx → Elt F .bf16}

theorem ob_alloc (hk : k < 17) :
    iprop(own c main_v0 fOld ∗ part c cc0_scratch6 (slot6 c σ) fullShare fo ∗ sval c (.dma s21.sem) 0)
      ⊢ iprop(|={Set.univ}=> OI c σ R k fo fOld 0) := by
  have h0 := pieces_end k hk
  have hr : restOut c R (oo k 0) = Finset.univ := by
    ext i; rw [h0.2.1]; unfold restOut
    simp only [Finset.mem_filter, Finset.mem_univ, true_and, iff_true]; omega
  have hb : rowsBuf c σ (oo k 0) 16 = slot6 c σ := by
    ext i; rw [h0.2.1]; unfold rowsBuf slot6
    have : ((i : S2x256x1536.Idx) 1).val < 256 := (i 1).isLt
    simp only [Finset.mem_filter, Finset.mem_univ, true_and]; omega
  unfold OI
  rw [hr, hb, h0.2.2]
  iintro ⟨Ho, Hb, Hv⟩
  haveI : ∀ t : Fin (cnt k 5), Storable (upEmb : UEmb _ (MM F)) (piece c σ R k fo fOld (pcN k t.val)) := fun t => by
    unfold piece part; infer_instance
  imod (Transfers.mixedBatch_alloc' EC (c : Thread nD τ) () (fun t : Fin (cnt k 5) => amtP (pcN k t.val)) (fun t => piece c σ R k fo fOld (pcN k t.val))
    (sm := .dma s21.sem) (E := Set.univ)) $$ Hv with HB
  imodintro
  isplitl [HB]; · iexact HB
  isplitl [Ho]; · iexact Ho
  iexact Hb

theorem ob_skip {p : ℕ} (hk : k < 17) (hp : p < 5) (h : ¬ pres k p) : OI c σ R k fo fOld p ⊢ OI c σ R k fo fOld (p + 1) := by
  have h1 := pieces_not k hk p hp h
  unfold OI; rw [h1.1, h1.2]

theorem ob_wskip {p : ℕ} (hk : k < 17) (hp : p < 5) (h : ¬ pres k p) : OW c σ R k fo fOld p ⊢ OW c σ R k fo fOld (p + 1) := by
  have h1 := pieces_not k hk p hp h
  unfold OW; rw [h1.1]

theorem ob_issued (hk : k < 17) : OI c σ R k fo fOld 5 ⊢ OW c σ R k fo fOld 0 := by
  have h0 := pieces_end k hk
  unfold OI OW; rw [h0.1, h0.2.2]; exact .rfl

theorem ob_issue {p r : ℕ} (hk : k < 17) (hp : p < 5) (hσ : σ < 2) (h : pres k p) (hr : r = 16 * bw p) {Q : α → PP F} {K : PUnit → PG F α}
    {offo : Fin 2 → ℕ} {offb : Fin 3 → ℕ} {inbo inbb hso hsb hq hsrc hdst hsem}
    (hoffo : offo = ![R + 16 * oo k p, 0]) (hoffb : offb = ![σ, 16 * oo k p, 0]) :
    OI c σ R k fo fOld p ⊢ iprop((OI c σ R k fo fOld (p + 1) -∗ Wp c (K ⟨⟩) Q)
      -∗ Wp c (Prog.lift (.enqueueDma ((m11.slice (Rect.unit (s := S2x256x1536) offb (⟨3, ![1, r, 1536]⟩ : Shape).size inbb) hsb).squeeze (⟨2, ![r, 1536]⟩ : Shape) hq)
          (.here (m4.slice (Rect.unit (s := S12288x1536) offo (⟨2, ![r, 1536]⟩ : Shape).size inbo) hso)) (.dma s21.sem) hsrc hdst hsem) >>= K) Q) := by
  obtain ⟨hpc, hlt, hc1, ho1⟩ := pieces_pres k hk p hp h
  have hle := pieces_le k hk (p + 1) (by omega)
  subst hoffo hoffb hr
  have hbb : 16 * oo k p + 16 * bw p ≤ 256 := by have := inbb 1; exact this
  have hoo : R + 16 * oo k p + 16 * bw p ≤ 12288 := by have := inbo 0; exact this
  have hsetO : ∀ i : S12288x1536.Idx, i ∈ (Rect.unit (s := S12288x1536) ![R + 16 * oo k p, 0] (⟨2, ![16 * bw p, 1536]⟩ : Shape).size inbo).set
      ↔ i ∈ rowsOut c R (oo k p) (oo k (p + 1)) := by
    intro i
    have hi1 : (i 1).val < 1536 := (i 1).isLt
    rw [Rect.mem_set_unit]; unfold rowsOut
    simp only [Finset.mem_filter, Finset.mem_univ, true_and]
    rw [ho1]
    constructor
    · intro hh
      have h0 : R + 16 * oo k p ≤ (i 0).val ∧ (i 0).val < R + 16 * oo k p + 16 * bw p := hh 0
      omega
    · intro hh a
      fin_cases a
      · show R + 16 * oo k p ≤ (i 0).val ∧ (i 0).val < R + 16 * oo k p + 16 * bw p; omega
      · show 0 ≤ (i 1).val ∧ (i 1).val < 0 + 1536; omega
  have hsetB : ((m11.slice (Rect.unit (s := S2x256x1536) ![σ, 16 * oo k p, 0] (⟨3, ![1, 16 * bw p, 1536]⟩ : Shape).size inbb) hsb).squeeze (⟨2, ![16 * bw p, 1536]⟩ : Shape) hq).view.set
      = rowsBuf c σ (oo k p) (oo k (p + 1)) := by
    refine (View.set_reshape ((View.whole cc0_scratch6 : View sig .tc _ _ _).slice (Rect.unit (s := S2x256x1536) ![σ, 16 * oo k p, 0] (⟨3, ![1, 16 * bw p, 1536]⟩ : Shape).size inbb)) hq.numel_eq).trans ?_
    rw [View.set_slice_whole]
    ext i
    have hi2 : ((i : S2x256x1536.Idx) 2).val < 1536 := (i 2).isLt
    refine Rect.mem_set_unit.trans ?_
    unfold rowsBuf
    simp only [Finset.mem_filter, Finset.mem_univ, true_and]
    rw [ho1]
    constructor
    · intro hh
      have h0 : σ ≤ ((i : S2x256x1536.Idx) 0).val ∧ ((i : S2x256x1536.Idx) 0).val < σ + 1 := hh 0
      have h1 : 16 * oo k p ≤ ((i : S2x256x1536.Idx) 1).val ∧ ((i : S2x256x1536.Idx) 1).val < 16 * oo k p + 16 * bw p := hh 1
      omega
    · intro hh a
      fin_cases a
      · show σ ≤ ((i : S2x256x1536.Idx) 0).val ∧ ((i : S2x256x1536.Idx) 0).val < σ + 1; omega
      · show 16 * oo k p ≤ ((i : S2x256x1536.Idx) 1).val ∧ ((i : S2x256x1536.Idx) 1).val < 16 * oo k p + 16 * bw p; omega
      · show 0 ≤ ((i : S2x256x1536.Idx) 2).val ∧ ((i : S2x256x1536.Idx) 2).val < 0 + 1536; omega
  have hsubO : rowsOut c R (oo k p) (oo k (p + 1)) ⊆ restOut c R (oo k p) := by
    intro i; unfold rowsOut restOut
    simp only [Finset.mem_filter, Finset.mem_univ, true_and]; omega
  have hdifO : restOut c R (oo k p) \ rowsOut c R (oo k p) (oo k (p + 1)) = restOut c R (oo k (p + 1)) := by
    ext i; unfold rowsOut restOut
    simp only [Finset.mem_sdiff, Finset.mem_filter, Finset.mem_univ, true_and]; omega
  have hsubB : rowsBuf c σ (oo k p) (oo k (p + 1)) ⊆ rowsBuf c σ (oo k p) 16 := by
    intro i; unfold rowsBuf
    simp only [Finset.mem_filter, Finset.mem_univ, true_and]; omega
  have hdifB : rowsBuf c σ (oo k p) 16 \ rowsBuf c σ (oo k p) (oo k (p + 1)) = rowsBuf c σ (oo k (p + 1)) 16 := by
    ext i; unfold rowsBuf
    simp only [Finset.mem_sdiff, Finset.mem_filter, Finset.mem_univ, true_and]; omega
  rw [wp_lift]
  unfold OI
  iintro ⟨HB, Ho, Hb⟩ HK
  ihave Ho2 := (pointsTo_split_subset hsubO).1 $$ Ho
  icases Ho2 with ⟨Ho, Hro⟩
  ihave Hb2 := (pointsTo_split_subset hsubB).1 $$ Hb
  icases Hb2 with ⟨Hb, Hrb⟩
  rw [hdifO, hdifB]
  iapply (Transfers.wp_dmaMixedBatch EC Variants.nat (c : Thread nD τ) none ()
    (src := (m11.slice (Rect.unit (s := S2x256x1536) ![σ, 16 * oo k p, 0] (⟨3, ![1, 16 * bw p, 1536]⟩ : Shape).size inbb) hsb).squeeze (⟨2, ![16 * bw p, 1536]⟩ : Shape) hq)
    (dst := m4.slice (Rect.unit (s := S12288x1536) ![R + 16 * oo k p, 0] (⟨2, ![16 * bw p, 1536]⟩ : Shape).size inbo) hso)
    (q := fullShare) (fs := fo) (fd := fOld) (Sd := rowsOut c R (oo k p) (oo k (p + 1)))
    (D := fun t : Fin (cnt k 5) => piece c σ R k fo fOld (pcN k t.val))
    (fun t : Fin (cnt k 5) => amtP (pcN k t.val)) (by
      intro i hi
      have hi' : (i : S12288x1536.Idx) ∈ (Rect.unit (s := S12288x1536) ![R + 16 * oo k p, 0] (⟨2, ![16 * bw p, 1536]⟩ : Shape).size inbo).set := by
        have hi2 : i ∈ ((View.whole main_v0 : View sig .tc _ _ _).slice (Rect.unit (s := S12288x1536) ![R + 16 * oo k p, 0] (⟨2, ![16 * bw p, 1536]⟩ : Shape).size inbo)).set := hi
        rw [View.set_slice_whole] at hi2; exact hi2
      exact (hsetO i).mp hi') hlt (by show _ = amtP (pcN k (cnt k p)); rw [hpc]; rfl) (Nat.zero_le _) (by
      show _ ⊢ piece c σ R k fo fOld (pcN k (cnt k p))
      rw [hpc, hsetB]
      unfold piece
      refine sep_mono (Entails.of_eq (pointsTo_congr fun i hi => ?_)) .rfl
      have hi2 : R + 16 * oo k p ≤ ((i : S12288x1536.Idx) 0).val ∧ ((i : S12288x1536.Idx) 0).val < R + 16 * oo k (p + 1) := by
        have := hi; unfold rowsOut at this
        simpa only [Finset.mem_filter, Finset.mem_univ, true_and] using this
      rw [ho1] at hi2
      have hi1 : ((i : S12288x1536.Idx) 1).val < 1536 := (i 1).isLt
      let x : (⟨2, ![16 * bw p, 1536]⟩ : Shape).Idx :=
        ValueIdx.ix2 (⟨((i : S12288x1536.Idx) 0).val - (R + 16 * oo k p), by omega⟩ : Fin (16 * bw p)) (⟨((i : S12288x1536.Idx) 1).val, hi1⟩ : Fin 1536)
      have hx : (m4.slice (Rect.unit (s := S12288x1536) ![R + 16 * oo k p, 0] (⟨2, ![16 * bw p, 1536]⟩ : Shape).size inbo) hso).view.emb x = i := by
        funext a; fin_cases a
        · refine Fin.ext ?_
          show R + 16 * oo k p + 1 * (((i : S12288x1536.Idx) 0).val - (R + 16 * oo k p)) = ((i : S12288x1536.Idx) 0).val; omega
        · refine Fin.ext ?_
          show 0 + 1 * ((i : S12288x1536.Idx) 1).val = ((i : S12288x1536.Idx) 1).val; omega
      have hw := View.write_emb_of_mem (v := (m4.slice (Rect.unit (s := S12288x1536) ![R + 16 * oo k p, 0] (⟨2, ![16 * bw p, 1536]⟩ : Shape).size inbo) hso).view)
        (Val := Elt F) fOld (((m11.slice (Rect.unit (s := S2x256x1536) ![σ, 16 * oo k p, 0] (⟨3, ![1, 16 * bw p, 1536]⟩ : Shape).size inbb) hsb).squeeze (⟨2, ![16 * bw p, 1536]⟩ : Shape) hq).view.read (Elt F) fo)
        (M := Finset.univ) (x := x) (Finset.mem_univ _)
      rw [hx] at hw
      refine hw.trans ?_
      unfold outNew
      rw [if_pos (by omega)]
      refine congrArg fo ?_
      show (Rect.unit (s := S2x256x1536) ![σ, 16 * oo k p, 0] (⟨3, ![1, 16 * bw p, 1536]⟩ : Shape).size inbb).emb (Shape.reshapeEquiv _ x) = _
      rw [ValueIdx.reshapeEquiv_ix2_1ab]
      refine gx3_eq _ _ _ _ ?_ ?_ ?_
      · show σ + 1 * 0 = σ; omega
      · show 16 * oo k p + 1 * (((i : S12288x1536.Idx) 0).val - (R + 16 * oo k p)) = ((i : S12288x1536.Idx) 0).val - R; omega
      · show 0 + 1 * ((i : S12288x1536.Idx) 1).val = ((i : S12288x1536.Idx) 1).val; omega)) $$ [Hb Ho HB]
  · isplitl [Hb]
    · rw [hsetB]; iexact Hb
    isplitl [Ho]; · iexact Ho
    iexact HB
  iintro HB
  iapply HK
  rw [hc1]
  isplitl [HB]; · iexact HB
  isplitl [Hro]; · iexact Hro
  iexact Hrb

theorem ob_wait {p r : ℕ} (hk : k < 17) (hp : p < 5) (h : pres k p) (hr : r = 16 * bw p) {Q : α → PP F} {K : PUnit → PG F α}
    {cs : Space} {s' : Shape} {e' : EltTy} {srcw : Memref sig .tc cs s' e'} {offo : Fin 2 → ℕ} {inbo hso hsrc hdst} :
    iprop(OW c σ R k fo fOld p ∗ owed c) ⊢ iprop((iprop(OW c σ R k fo fOld (p + 1) ∗ owed c) -∗ Wp c (K ⟨⟩) Q)
      -∗ Wp c (Prog.lift (.waitDma2 s21.sem srcw (m4.slice (Rect.unit (s := S12288x1536) offo (⟨2, ![r, 1536]⟩ : Shape).size inbo) hso) hsrc hdst) >>= K) Q) := by
  obtain ⟨hpc, hlt, hc1, ho1⟩ := pieces_pres k hk p hp h
  subst hr
  rw [wp_lift]
  unfold OW
  have hs := Transfers.sumTo_succ (n := cnt k 5) (fun t => amtP (pcN k t.val)) hlt
  have hm : ∀ a b : ℕ, a ≤ b → b ≤ cnt k 5 → Transfers.sumTo (n := cnt k 5) (fun t => amtP (pcN k t.val)) a ≤ Transfers.sumTo (n := cnt k 5) (fun t => amtP (pcN k t.val)) b := by
    intro a b hab
    induction b, hab using Nat.le_induction with
    | base => intro _; exact le_rfl
    | succ b hab ih => intro hb; exact (ih (by omega)).trans (by show _ ≤ _ + _; omega)
  have hs' : Transfers.sumTo (n := cnt k 5) (fun t => amtP (pcN k t.val)) (cnt k (p + 1)) = Transfers.sumTo (n := cnt k 5) (fun t => amtP (pcN k t.val)) (cnt k p) + amtP p := by
    rw [hc1, hs]; show _ + amtP (pcN k (cnt k p)) = _; rw [hpc]
  have hu : Transfers.sumTo (n := cnt k 5) (fun t => amtP (pcN k t.val)) (cnt k p) + amtP p ≤ Transfers.sumTo (n := cnt k 5) (fun t => amtP (pcN k t.val)) (cnt k 5) := by
    rw [← hs']; exact hm _ _ (by omega) le_rfl
  iintro ⟨⟨HB, Ho, Hb⟩, ⟨%W, HO⟩⟩ HK
  iapply (Transfers.wp_waitMixedBatch EC Variants.nat (c : Thread nD τ) none () (J := amtP p) (by rfl) hu) $$ [HB HO]
  · isplitl [HB]; · iexact HB
    iexact HO
  iintro ⟨HB, HO⟩
  iapply HK
  rw [hs']
  isplitr [HO]
  · isplitl [HB]; · iexact HB
    isplitl [Ho]; · iexact Ho
    iexact Hb
  · iexists _; iexact HO

theorem ob_collect (hk : k < 17) :
    OW c σ R k fo fOld 5 ⊢ iprop(|={Set.univ}=> iprop(own c main_v0 (outNew R k σ fo fOld) ∗ part c cc0_scratch6 (slot6 c σ) fullShare fo ∗ sval c (.dma s21.sem) 0)) := by
  unfold OW
  have hU : (Finset.univ.biUnion fun t : Fin (cnt k 5) => rowsOut c R (oo k (pcN k t.val)) (oo k (pcN k t.val + 1))) = rowsOut c R 0 k := by
    ext i
    simp only [Finset.mem_biUnion, Finset.mem_univ, true_and, rowsOut, Finset.mem_filter]
    constructor
    · rintro ⟨t, h1, h2⟩
      have := pieces_mem k hk t
      omega
    · rintro ⟨h1, h2⟩
      obtain ⟨t, h3, h4⟩ := pieces_cover k hk ((((i : S12288x1536.Idx) 0).val - R) / 16) (by omega)
      exact ⟨t, by omega, by omega⟩
  have hV : (Finset.univ.biUnion fun t : Fin (cnt k 5) => rowsBuf c σ (oo k (pcN k t.val)) (oo k (pcN k t.val + 1))) = rowsBuf c σ 0 k := by
    ext i
    simp only [Finset.mem_biUnion, Finset.mem_univ, true_and, rowsBuf, Finset.mem_filter]
    constructor
    · rintro ⟨t, h0, h1, h2⟩
      have := pieces_mem k hk t
      omega
    · rintro ⟨h0, h1, h2⟩
      obtain ⟨t, h3, h4⟩ := pieces_cover k hk (((i : S2x256x1536.Idx) 1).val / 16) (by omega)
      exact ⟨t, h0, by omega, by omega⟩
  have hdU : ∀ t ∈ (Finset.univ : Finset (Fin (cnt k 5))), ∀ t' ∈ (Finset.univ : Finset (Fin (cnt k 5))), t ≠ t' →
      Disjoint (rowsOut c R (oo k (pcN k t.val)) (oo k (pcN k t.val + 1))) (rowsOut c R (oo k (pcN k t'.val)) (oo k (pcN k t'.val + 1))) := by
    intro t _ t' _ hne
    rw [Finset.disjoint_left]
    intro i; simp only [rowsOut, Finset.mem_filter, Finset.mem_univ, true_and]
    have := pieces_disj k hk t t' hne
    omega
  have hdV : ∀ t ∈ (Finset.univ : Finset (Fin (cnt k 5))), ∀ t' ∈ (Finset.univ : Finset (Fin (cnt k 5))), t ≠ t' →
      Disjoint (rowsBuf c σ (oo k (pcN k t.val)) (oo k (pcN k t.val + 1))) (rowsBuf c σ (oo k (pcN k t'.val)) (oo k (pcN k t'.val + 1))) := by
    intro t _ t' _ hne
    rw [Finset.disjoint_left]
    intro i; simp only [rowsBuf, Finset.mem_filter, Finset.mem_univ, true_and]
    have := pieces_disj k hk t t' hne
    omega
  have hsO : rowsOut c R 0 k ⊆ Finset.univ := Finset.subset_univ _
  have hdO : Finset.univ \ rowsOut c R 0 k = restOut c R k := by
    ext i; unfold rowsOut restOut
    simp only [Finset.mem_sdiff, Finset.mem_filter, Finset.mem_univ, true_and]; omega
  have hsB : rowsBuf c σ 0 k ⊆ slot6 c σ := by
    intro i; unfold rowsBuf slot6
    simp only [Finset.mem_filter, Finset.mem_univ, true_and]; omega
  have hdB : slot6 c σ \ rowsBuf c σ 0 k = rowsBuf c σ k 16 := by
    ext i
    have : ((i : S2x256x1536.Idx) 1).val < 256 := (i 1).isLt
    unfold rowsBuf slot6
    simp only [Finset.mem_sdiff, Finset.mem_filter, Finset.mem_univ, true_and]; omega
  have hcol : MB c σ R k fo fOld (cnt k 5) (Transfers.sumTo (n := cnt k 5) (fun t => amtP (pcN k t.val)) (cnt k 5))
      ⊢ iprop(|={Set.univ}=> iprop(bigSep Finset.univ (fun t : Fin (cnt k 5) => piece c σ R k fo fOld (pcN k t.val)) ∗ sval c (.dma s21.sem) 0)) :=
    by
    refine Transfers.mixedBatch_collect' EC (c : Thread nD τ) (sm := .dma s21.sem) (ι := ()) (A := fun t : Fin (cnt k 5) => amtP (pcN k t.val)) ?_ (D := fun t : Fin (cnt k 5) => piece c σ R k fo fOld (pcN k t.val))
    exact (fun t => by
      have : ∀ p < 5, 0 < amtP p := by decide
      have h5 : ∀ k < 17, ∀ t : Fin (cnt k 5), pcN k t.val < 5 := by decide
      exact this _ (h5 k hk t))
  iintro ⟨HB, Ho, Hb⟩
  imod hcol $$ HB with ⟨HD, Hv⟩
  imodintro
  have e1 : bigSep Finset.univ (fun t : Fin (cnt k 5) => piece c σ R k fo fOld (pcN k t.val))
      ⊢ iprop(part c main_v0 (rowsOut c R 0 k) fullShare (outNew R k σ fo fOld) ∗ part c cc0_scratch6 (rowsBuf c σ 0 k) fullShare fo) := by
    unfold piece
    rw [← hU, ← hV]
    unfold part
    rw [pointsTo_biUnion _ _ hdU, pointsTo_biUnion _ _ hdV]
    exact Entails.of_eq (bigSep_sep _ _ _)
  ihave HD := e1 $$ HD
  icases HD with ⟨HDo, HDb⟩
  isplitl [HDo Ho]
  · iapply (pointsTo_split_subset hsO).2
    isplitl [HDo]; · iexact HDo
    rw [hdO]
    rw [pointsTo_congr (g := fOld) (fun i hi => ?_)]
    · iexact Ho
    · unfold outNew; rw [if_neg]
      unfold restOut at hi
      simpa only [Finset.mem_filter, Finset.mem_univ, _root_.true_and] using hi
  isplitl [HDb Hb]
  · iapply (pointsTo_split_subset hsB).2
    isplitl [HDb]; · iexact HDb
    rw [hdB]
    iexact Hb
  iexact Hv

end Cert.Kernel.Hand
-- ==== Proof.K.Words.lean ====
/-
  The words the kernel computes with: slots, offsets, block counts and conditions as numbers, and the checks they pass.
-/
module

public import proofs.«01_k».proof.Proof.K.OutB
public import Idealize.ShloMosaic.Lib.PairWhole
public import Idealize.ShloMosaic.Lib.WordCmp

@[expose] public section

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-! ### Small words -/

theorem word_id (x : BitVec 32) : BitVec.ofNat 32 x.toNat = x := by
  apply BitVec.eq_of_toNat_eq; rw [BitVec.toNat_ofNat]; exact Nat.mod_eq_of_lt x.isLt

theorem iv_nat (k : ℕ) (hk : k < 64) : (Scf.iv 0#32 1#32 k).toNat = k := WordArith.toNat_iv_zero_one k (by omega)

theorem and_one (x : BitVec 32) : (Scalar.andi x 1#32).toNat = x.toNat % 2 := WordArith.toNat_andi_lowMask x 1#32 1 (by decide)

theorem sub_one {x : BitVec 32} {n : ℕ} (hx : x.toNat = n) (h0 : 0 < n) : (Scalar.subi x 1#32).toNat = n - 1 := by
  have := x.isLt
  show (x - 1#32).toNat = _
  rw [BitVec.toNat_sub]
  show (2 ^ 32 - 1 + x.toNat) % 2 ^ 32 = _
  omega

theorem add_one {x : BitVec 32} {n : ℕ} (hx : x.toNat = n) (h0 : n < 2 ^ 31) : (Scalar.addi x 1#32).toNat = n + 1 := by
  rw [WordArith.toNat_addi_one, hx]; omega

theorem slot_cur {k : ℕ} (hk : k < 64) : (Scalar.andi (Scf.iv 0#32 1#32 k) 1#32).toNat = k % 2 := by rw [and_one, iv_nat k hk]
theorem slot_next {k : ℕ} (hk : k < 64) : (Scalar.andi (Scalar.addi (Scf.iv 0#32 1#32 k) 1#32) 1#32).toNat = (k + 1) % 2 := by
  rw [and_one, add_one (iv_nat k hk) (by omega)]
theorem slot_prev {k : ℕ} (hk : k < 64) (h0 : 0 < k) : (Scalar.andi (Scalar.subi (Scf.iv 0#32 1#32 k) 1#32) 1#32).toNat = (k - 1) % 2 := by
  rw [and_one, sub_one (iv_nat k hk) h0]
theorem slot_last {x : BitVec 32} {n : ℕ} (hx : x.toNat = n) (h0 : 0 < n) : (Scalar.andi (Scalar.subi x 1#32) 1#32).toNat = (n - 1) % 2 := by
  rw [and_one, sub_one hx h0]

theorem min_nat (x c : BitVec 32) (hx : x.toNat < 2 ^ 31) (hc : c.toNat < 2 ^ 31) : (Scalar.minsi x c).toNat = min x.toNat c.toNat :=
  WordArith.toNat_minsi_of_lt x c hx hc

theorem bit_ne (b : BitVec 1) : Scalar.cmpi .ne (Scalar.extui b : BitVec 32) 0#32 = 1#1 ↔ b = 1#1 := by
  revert b; decide

theorem slt_nat {x y : BitVec 32} (hx : x.toNat < 2 ^ 31) (hy : y.toNat < 2 ^ 31) : Scalar.cmpi .slt x y = 1#1 ↔ x.toNat < y.toNat := by
  have e1 := word_id x
  have e2 := word_id y
  generalize x.toNat = a at *
  generalize y.toNat = b at *
  subst e1 e2
  show IntOp.cmpi .slt (BitVec.ofNat 32 a) (BitVec.ofNat 32 b) = 1#1 ↔ _
  rw [WordCmp.cmpi_slt_ofNat (w := 32) hx hy]
  exact WordCmp.ofBool_decide_eq_one_iff _

/-- The trips of a loop from zero by ones. -/
theorem trips_one {v : BitVec 32} {n : ℕ} (hv : v.toNat = n) (hn : n < 2 ^ 31) : Scf.trips 0#32 v 1#32 = n := by
  have e := BitVec.toInt_eq_toNat_cond v
  have h0 : (0#32 : BitVec 32).toInt = 0 := by decide
  have h1 : (1#32 : BitVec 32).toInt = 1 := by decide
  unfold Scf.trips
  rw [h0, h1, e, if_pos (by omega)]
  omega

/-! ### The rows of a tile, up to whole blocks -/

/-- The blocks of a tile that ends at `E` and starts at `R`. -/
def kk (R E : ℕ) : ℕ := (E - R + 15) / 16

/-- What is known of a tile's row and end words. -/
structure Tw (r e : BitVec 32) (R E : ℕ) : Prop where
  hr : r.toNat = R
  he : e.toNat = E
  lt : R < E
  le : E ≤ R + 256
  top : E ≤ 12288
  dvd : 16 ∣ R

variable {r e : BitVec 32} {R E : ℕ}

theorem Tw.kk_lt (h : Tw r e R E) : kk R E < 17 := by have := h.le; unfold kk; omega
theorem Tw.kk_top (h : Tw r e R E) : R + 16 * kk R E ≤ 12288 := by have := h.top; have := h.dvd; have := h.lt; unfold kk; omega

theorem rw16_eq (h : Tw r e R E) :
    Scalar.andi (Scalar.subi (Scalar.addi (Scalar.subi e r) 16#32) 1#32) 4294967280#32 = BitVec.ofNat 32 (16 * kk R E) := by
  obtain ⟨hr, he, h1, h2, h3, h4⟩ := h
  have d1 : (Scalar.subi e r).toNat = E - R := by
    show (e - r).toNat = _
    rw [BitVec.toNat_sub, hr, he]
    omega
  have d2 : (Scalar.subi (Scalar.addi (Scalar.subi e r) 16#32) 1#32).toNat = E - R + 15 := by
    refine (sub_one (n := E - R + 16) ?_ (by omega)).trans (by omega)
    show (Scalar.subi e r + 16#32).toNat = _
    rw [BitVec.toNat_add, d1]
    show (E - R + 16) % 2 ^ 32 = _
    omega
  apply BitVec.eq_of_toNat_eq
  refine (WordArith.toNat_andi_mask16 _).trans ?_
  rw [d2, BitVec.toNat_ofNat]
  unfold kk
  omega

theorem rows_bound (h : Tw r e R E) {p : ℕ} (hp : p < 5) (hb : pres (kk R E) p) :
    R + 16 * oo (kk R E) p + 16 * bw p ≤ 12288 ∧ 16 * oo (kk R E) p + 16 * bw p ≤ 256 := by
  have h1 := pieces_pres _ h.kk_lt p hp hb
  have h2 := pieces_le _ h.kk_lt (p + 1) (by omega)
  have h3 := h.kk_lt
  have h4 := h.kk_top
  omega

theorem cb0 : ∀ k < 17, (Scalar.cmpi .ne (Scalar.extui (Scalar.cmpi .ne (Scalar.andi (BitVec.ofNat 32 (16 * k)) 256#32) 0#32) : BitVec 32) 0#32 = 1#1 ↔ pres k 0) := by
  decide
theorem mk0 : ∀ k < 17, (Scalar.andi (BitVec.ofNat 32 (16 * k)) 4294966784#32).toNat = 16 * oo k 0 := by
  decide
theorem am0 (h : Tw r e R E) : (Scalar.addi r (Scalar.andi (BitVec.ofNat 32 (16 * kk R E)) 4294966784#32)).toNat = R + 16 * oo (kk R E) 0 := by
  have h1 := mk0 _ h.kk_lt
  have h2 := pieces_le _ h.kk_lt 0 (by omega)
  have h3 := h.kk_lt
  have h4 := h.kk_top
  show (r + _).toNat = _
  rw [BitVec.toNat_add, h1, h.hr]
  omega

theorem cb1 : ∀ k < 17, (Scalar.cmpi .ne (Scalar.extui (Scalar.cmpi .ne (Scalar.andi (BitVec.ofNat 32 (16 * k)) 128#32) 0#32) : BitVec 32) 0#32 = 1#1 ↔ pres k 1) := by
  decide
theorem mk1 : ∀ k < 17, (Scalar.andi (BitVec.ofNat 32 (16 * k)) 4294967040#32).toNat = 16 * oo k 1 := by
  decide
theorem am1 (h : Tw r e R E) : (Scalar.addi r (Scalar.andi (BitVec.ofNat 32 (16 * kk R E)) 4294967040#32)).toNat = R + 16 * oo (kk R E) 1 := by
  have h1 := mk1 _ h.kk_lt
  have h2 := pieces_le _ h.kk_lt 1 (by omega)
  have h3 := h.kk_lt
  have h4 := h.kk_top
  show (r + _).toNat = _
  rw [BitVec.toNat_add, h1, h.hr]
  omega

theorem cb2 : ∀ k < 17, (Scalar.cmpi .ne (Scalar.extui (Scalar.cmpi .ne (Scalar.andi (BitVec.ofNat 32 (16 * k)) 64#32) 0#32) : BitVec 32) 0#32 = 1#1 ↔ pres k 2) := by
  decide
theorem mk2 : ∀ k < 17, (Scalar.andi (BitVec.ofNat 32 (16 * k)) 4294967168#32).toNat = 16 * oo k 2 := by
  decide
theorem am2 (h : Tw r e R E) : (Scalar.addi r (Scalar.andi (BitVec.ofNat 32 (16 * kk R E)) 4294967168#32)).toNat = R + 16 * oo (kk R E) 2 := by
  have h1 := mk2 _ h.kk_lt
  have h2 := pieces_le _ h.kk_lt 2 (by omega)
  have h3 := h.kk_lt
  have h4 := h.kk_top
  show (r + _).toNat = _
  rw [BitVec.toNat_add, h1, h.hr]
  omega

theorem cb3 : ∀ k < 17, (Scalar.cmpi .ne (Scalar.extui (Scalar.cmpi .ne (Scalar.andi (BitVec.ofNat 32 (16 * k)) 32#32) 0#32) : BitVec 32) 0#32 = 1#1 ↔ pres k 3) := by
  decide
theorem mk3 : ∀ k < 17, (Scalar.andi (BitVec.ofNat 32 (16 * k)) 4294967232#32).toNat = 16 * oo k 3 := by
  decide
theorem am3 (h : Tw r e R E) : (Scalar.addi r (Scalar.andi (BitVec.ofNat 32 (16 * kk R E)) 4294967232#32)).toNat = R + 16 * oo (kk R E) 3 := by
  have h1 := mk3 _ h.kk_lt
  have h2 := pieces_le _ h.kk_lt 3 (by omega)
  have h3 := h.kk_lt
  have h4 := h.kk_top
  show (r + _).toNat = _
  rw [BitVec.toNat_add, h1, h.hr]
  omega

theorem cb4 : ∀ k < 17, (Scalar.cmpi .ne (Scalar.extui (Scalar.cmpi .ne (Scalar.andi (BitVec.ofNat 32 (16 * k)) 16#32) 0#32) : BitVec 32) 0#32 = 1#1 ↔ pres k 4) := by
  decide
theorem mk4 : ∀ k < 17, (Scalar.andi (BitVec.ofNat 32 (16 * k)) 4294967264#32).toNat = 16 * oo k 4 := by
  decide
theorem am4 (h : Tw r e R E) : (Scalar.addi r (Scalar.andi (BitVec.ofNat 32 (16 * kk R E)) 4294967264#32)).toNat = R + 16 * oo (kk R E) 4 := by
  have h1 := mk4 _ h.kk_lt
  have h2 := pieces_le _ h.kk_lt 4 (by omega)
  have h3 := h.kk_lt
  have h4 := h.kk_top
  show (r + _).toNat = _
  rw [BitVec.toNat_add, h1, h.hr]
  omega

theorem cond5_iff (h : Tw r e R E) : k0_cond5 r e = 1#1 ↔ pres (kk R E) 0 := by
  unfold k0_cond5; dsimp only; rw [rw16_eq h]; exact cb0 _ h.kk_lt
theorem off55_eq (h : Tw r e R E) : k0_off55 r e = ![R + 16 * oo (kk R E) 0, 0] := by
  unfold k0_off55; dsimp only; rw [rw16_eq h, am0 h]
theorem off56_eq (h : Tw r e R E) {v1_0 : BitVec 32} {t : Fin (k0_t4_loop v1_0).trips} (hk : t.val < 64) (h0 : 0 < t.val) : k0_off56 v1_0 t r e = ![(t.val - 1) % 2, 16 * oo (kk R E) 0, 0] := by
  unfold k0_off56; dsimp only; rw [rw16_eq h, mk0 _ h.kk_lt]; rw [slot_prev hk h0]

theorem cond6_iff (h : Tw r e R E) : k0_cond6 r e = 1#1 ↔ pres (kk R E) 1 := by
  unfold k0_cond6; dsimp only; rw [rw16_eq h]; exact cb1 _ h.kk_lt
theorem off57_eq (h : Tw r e R E) : k0_off57 r e = ![R + 16 * oo (kk R E) 1, 0] := by
  unfold k0_off57; dsimp only; rw [rw16_eq h, am1 h]
theorem off58_eq (h : Tw r e R E) {v1_0 : BitVec 32} {t : Fin (k0_t4_loop v1_0).trips} (hk : t.val < 64) (h0 : 0 < t.val) : k0_off58 v1_0 t r e = ![(t.val - 1) % 2, 16 * oo (kk R E) 1, 0] := by
  unfold k0_off58; dsimp only; rw [rw16_eq h, mk1 _ h.kk_lt]; rw [slot_prev hk h0]

theorem cond7_iff (h : Tw r e R E) : k0_cond7 r e = 1#1 ↔ pres (kk R E) 2 := by
  unfold k0_cond7; dsimp only; rw [rw16_eq h]; exact cb2 _ h.kk_lt
theorem off59_eq (h : Tw r e R E) : k0_off59 r e = ![R + 16 * oo (kk R E) 2, 0] := by
  unfold k0_off59; dsimp only; rw [rw16_eq h, am2 h]
theorem off60_eq (h : Tw r e R E) {v1_0 : BitVec 32} {t : Fin (k0_t4_loop v1_0).trips} (hk : t.val < 64) (h0 : 0 < t.val) : k0_off60 v1_0 t r e = ![(t.val - 1) % 2, 16 * oo (kk R E) 2, 0] := by
  unfold k0_off60; dsimp only; rw [rw16_eq h, mk2 _ h.kk_lt]; rw [slot_prev hk h0]

theorem cond8_iff (h : Tw r e R E) : k0_cond8 r e = 1#1 ↔ pres (kk R E) 3 := by
  unfold k0_cond8; dsimp only; rw [rw16_eq h]; exact cb3 _ h.kk_lt
theorem off61_eq (h : Tw r e R E) : k0_off61 r e = ![R + 16 * oo (kk R E) 3, 0] := by
  unfold k0_off61; dsimp only; rw [rw16_eq h, am3 h]
theorem off62_eq (h : Tw r e R E) {v1_0 : BitVec 32} {t : Fin (k0_t4_loop v1_0).trips} (hk : t.val < 64) (h0 : 0 < t.val) : k0_off62 v1_0 t r e = ![(t.val - 1) % 2, 16 * oo (kk R E) 3, 0] := by
  unfold k0_off62; dsimp only; rw [rw16_eq h, mk3 _ h.kk_lt]; rw [slot_prev hk h0]

theorem cond9_iff (h : Tw r e R E) : k0_cond9 r e = 1#1 ↔ pres (kk R E) 4 := by
  unfold k0_cond9; dsimp only; rw [rw16_eq h]; exact cb4 _ h.kk_lt
theorem off63_eq (h : Tw r e R E) : k0_off63 r e = ![R + 16 * oo (kk R E) 4, 0] := by
  unfold k0_off63; dsimp only; rw [rw16_eq h, am4 h]
theorem off64_eq (h : Tw r e R E) {v1_0 : BitVec 32} {t : Fin (k0_t4_loop v1_0).trips} (hk : t.val < 64) (h0 : 0 < t.val) : k0_off64 v1_0 t r e = ![(t.val - 1) % 2, 16 * oo (kk R E) 4, 0] := by
  unfold k0_off64; dsimp only; rw [rw16_eq h, mk4 _ h.kk_lt]; rw [slot_prev hk h0]

theorem chk16_ok (h : Tw r e R E) {v1_0 : BitVec 32} {t : Fin (k0_t4_loop v1_0).trips} (hk : t.val < 64) (h0 : 0 < t.val) : k0_chk16 v1_0 t r e :=
  ⟨
    fun _ => by unfold k0_mult391; dsimp only; rw [rw16_eq h, mk0 _ h.kk_lt]; exact ⟨_, rfl⟩,
    fun _ => by unfold k0_mult392; dsimp only; rw [rw16_eq h, am0 h]; have := h.dvd; omega,
    fun _ hc a => by
      have := rows_bound h (p := 0) (by omega) ((cond5_iff h).mp hc)
      rw [off55_eq h]; fin_cases a
      · show R + 16 * oo (kk R E) 0 + 256 ≤ 12288; exact this.1
      · show 0 + 1536 ≤ 1536; omega,
    fun _ hc a => by
      have := rows_bound h (p := 0) (by omega) ((cond5_iff h).mp hc)
      rw [off56_eq h hk h0]; fin_cases a
      · show (t.val - 1) % 2 + 1 ≤ 2; omega
      · show 16 * oo (kk R E) 0 + 256 ≤ 256; exact this.2
      · show 0 + 1536 ≤ 1536; omega,
    fun _ hc hinb => (Rect.packedRows_of_rowAxis _ 2 (by decide) (by
      show 2 ∣ k0_off56 v1_0 t r e 1; rw [off56_eq h hk h0]; show 2 ∣ 16 * oo (kk R E) 0; omega) (by show 2 ∣ 256; decide) rfl).wholeWords,
    fun _ hc hinb => (Rect.packedRows_of_rowAxis _ 2 (by decide) (by
      show 2 ∣ k0_off55 r e 0; rw [off55_eq h]; show 2 ∣ R + 16 * oo (kk R E) 0; have := h.dvd; omega) (by show 2 ∣ 256; decide) rfl).wholeWords,
    fun _ => by unfold k0_mult393; dsimp only; rw [rw16_eq h, mk1 _ h.kk_lt]; exact ⟨_, rfl⟩,
    fun _ => by unfold k0_mult394; dsimp only; rw [rw16_eq h, am1 h]; have := h.dvd; omega,
    fun _ hc a => by
      have := rows_bound h (p := 1) (by omega) ((cond6_iff h).mp hc)
      rw [off57_eq h]; fin_cases a
      · show R + 16 * oo (kk R E) 1 + 128 ≤ 12288; exact this.1
      · show 0 + 1536 ≤ 1536; omega,
    fun _ hc a => by
      have := rows_bound h (p := 1) (by omega) ((cond6_iff h).mp hc)
      rw [off58_eq h hk h0]; fin_cases a
      · show (t.val - 1) % 2 + 1 ≤ 2; omega
      · show 16 * oo (kk R E) 1 + 128 ≤ 256; exact this.2
      · show 0 + 1536 ≤ 1536; omega,
    fun _ hc hinb => (Rect.packedRows_of_rowAxis _ 2 (by decide) (by
      show 2 ∣ k0_off58 v1_0 t r e 1; rw [off58_eq h hk h0]; show 2 ∣ 16 * oo (kk R E) 1; omega) (by show 2 ∣ 128; decide) rfl).wholeWords,
    fun _ hc hinb => (Rect.packedRows_of_rowAxis _ 2 (by decide) (by
      show 2 ∣ k0_off57 r e 0; rw [off57_eq h]; show 2 ∣ R + 16 * oo (kk R E) 1; have := h.dvd; omega) (by show 2 ∣ 128; decide) rfl).wholeWords,
    fun _ => by unfold k0_mult395; dsimp only; rw [rw16_eq h, mk2 _ h.kk_lt]; exact ⟨_, rfl⟩,
    fun _ => by unfold k0_mult396; dsimp only; rw [rw16_eq h, am2 h]; have := h.dvd; omega,
    fun _ hc a => by
      have := rows_bound h (p := 2) (by omega) ((cond7_iff h).mp hc)
      rw [off59_eq h]; fin_cases a
      · show R + 16 * oo (kk R E) 2 + 64 ≤ 12288; exact this.1
      · show 0 + 1536 ≤ 1536; omega,
    fun _ hc a => by
      have := rows_bound h (p := 2) (by omega) ((cond7_iff h).mp hc)
      rw [off60_eq h hk h0]; fin_cases a
      · show (t.val - 1) % 2 + 1 ≤ 2; omega
      · show 16 * oo (kk R E) 2 + 64 ≤ 256; exact this.2
      · show 0 + 1536 ≤ 1536; omega,
    fun _ hc hinb => (Rect.packedRows_of_rowAxis _ 2 (by decide) (by
      show 2 ∣ k0_off60 v1_0 t r e 1; rw [off60_eq h hk h0]; show 2 ∣ 16 * oo (kk R E) 2; omega) (by show 2 ∣ 64; decide) rfl).wholeWords,
    fun _ hc hinb => (Rect.packedRows_of_rowAxis _ 2 (by decide) (by
      show 2 ∣ k0_off59 r e 0; rw [off59_eq h]; show 2 ∣ R + 16 * oo (kk R E) 2; have := h.dvd; omega) (by show 2 ∣ 64; decide) rfl).wholeWords,
    fun _ => by unfold k0_mult397; dsimp only; rw [rw16_eq h, mk3 _ h.kk_lt]; exact ⟨_, rfl⟩,
    fun _ => by unfold k0_mult398; dsimp only; rw [rw16_eq h, am3 h]; have := h.dvd; omega,
    fun _ hc a => by
      have := rows_bound h (p := 3) (by omega) ((cond8_iff h).mp hc)
      rw [off61_eq h]; fin_cases a
      · show R + 16 * oo (kk R E) 3 + 32 ≤ 12288; exact this.1
      · show 0 + 1536 ≤ 1536; omega,
    fun _ hc a => by
      have := rows_bound h (p := 3) (by omega) ((cond8_iff h).mp hc)
      rw [off62_eq h hk h0]; fin_cases a
      · show (t.val - 1) % 2 + 1 ≤ 2; omega
      · show 16 * oo (kk R E) 3 + 32 ≤ 256; exact this.2
      · show 0 + 1536 ≤ 1536; omega,
    fun _ hc hinb => (Rect.packedRows_of_rowAxis _ 2 (by decide) (by
      show 2 ∣ k0_off62 v1_0 t r e 1; rw [off62_eq h hk h0]; show 2 ∣ 16 * oo (kk R E) 3; omega) (by show 2 ∣ 32; decide) rfl).wholeWords,
    fun _ hc hinb => (Rect.packedRows_of_rowAxis _ 2 (by decide) (by
      show 2 ∣ k0_off61 r e 0; rw [off61_eq h]; show 2 ∣ R + 16 * oo (kk R E) 3; have := h.dvd; omega) (by show 2 ∣ 32; decide) rfl).wholeWords,
    fun _ => by unfold k0_mult399; dsimp only; rw [rw16_eq h, mk4 _ h.kk_lt]; exact ⟨_, rfl⟩,
    fun _ => by unfold k0_mult400; dsimp only; rw [rw16_eq h, am4 h]; have := h.dvd; omega,
    fun _ hc a => by
      have := rows_bound h (p := 4) (by omega) ((cond9_iff h).mp hc)
      rw [off63_eq h]; fin_cases a
      · show R + 16 * oo (kk R E) 4 + 16 ≤ 12288; exact this.1
      · show 0 + 1536 ≤ 1536; omega,
    fun _ hc a => by
      have := rows_bound h (p := 4) (by omega) ((cond9_iff h).mp hc)
      rw [off64_eq h hk h0]; fin_cases a
      · show (t.val - 1) % 2 + 1 ≤ 2; omega
      · show 16 * oo (kk R E) 4 + 16 ≤ 256; exact this.2
      · show 0 + 1536 ≤ 1536; omega,
    fun _ hc hinb => (Rect.packedRows_of_rowAxis _ 2 (by decide) (by
      show 2 ∣ k0_off64 v1_0 t r e 1; rw [off64_eq h hk h0]; show 2 ∣ 16 * oo (kk R E) 4; omega) (by show 2 ∣ 16; decide) rfl).wholeWords,
    fun _ hc hinb => (Rect.packedRows_of_rowAxis _ 2 (by decide) (by
      show 2 ∣ k0_off63 r e 0; rw [off63_eq h]; show 2 ∣ R + 16 * oo (kk R E) 4; have := h.dvd; omega) (by show 2 ∣ 16; decide) rfl).wholeWords⟩

theorem cond10_iff (h : Tw r e R E) : k0_cond10 r e = 1#1 ↔ pres (kk R E) 0 := by
  unfold k0_cond10; dsimp only; rw [rw16_eq h]; exact cb0 _ h.kk_lt
theorem off66_eq (h : Tw r e R E) : k0_off66 r e = ![R + 16 * oo (kk R E) 0, 0] := by
  unfold k0_off66; dsimp only; rw [rw16_eq h, am0 h]
theorem off67_eq (h : Tw r e R E) {v1_0 : BitVec 32} {t : Fin (k0_t4_loop v1_0).trips} (hk : t.val < 64)  : k0_off67 v1_0 t r e = ![t.val % 2, 16 * oo (kk R E) 0, 0] := by
  unfold k0_off67; dsimp only; rw [rw16_eq h, mk0 _ h.kk_lt]; rw [slot_cur hk]

theorem cond11_iff (h : Tw r e R E) : k0_cond11 r e = 1#1 ↔ pres (kk R E) 1 := by
  unfold k0_cond11; dsimp only; rw [rw16_eq h]; exact cb1 _ h.kk_lt
theorem off68_eq (h : Tw r e R E) : k0_off68 r e = ![R + 16 * oo (kk R E) 1, 0] := by
  unfold k0_off68; dsimp only; rw [rw16_eq h, am1 h]
theorem off69_eq (h : Tw r e R E) {v1_0 : BitVec 32} {t : Fin (k0_t4_loop v1_0).trips} (hk : t.val < 64)  : k0_off69 v1_0 t r e = ![t.val % 2, 16 * oo (kk R E) 1, 0] := by
  unfold k0_off69; dsimp only; rw [rw16_eq h, mk1 _ h.kk_lt]; rw [slot_cur hk]

theorem cond12_iff (h : Tw r e R E) : k0_cond12 r e = 1#1 ↔ pres (kk R E) 2 := by
  unfold k0_cond12; dsimp only; rw [rw16_eq h]; exact cb2 _ h.kk_lt
theorem off70_eq (h : Tw r e R E) : k0_off70 r e = ![R + 16 * oo (kk R E) 2, 0] := by
  unfold k0_off70; dsimp only; rw [rw16_eq h, am2 h]
theorem off71_eq (h : Tw r e R E) {v1_0 : BitVec 32} {t : Fin (k0_t4_loop v1_0).trips} (hk : t.val < 64)  : k0_off71 v1_0 t r e = ![t.val % 2, 16 * oo (kk R E) 2, 0] := by
  unfold k0_off71; dsimp only; rw [rw16_eq h, mk2 _ h.kk_lt]; rw [slot_cur hk]

theorem cond13_iff (h : Tw r e R E) : k0_cond13 r e = 1#1 ↔ pres (kk R E) 3 := by
  unfold k0_cond13; dsimp only; rw [rw16_eq h]; exact cb3 _ h.kk_lt
theorem off72_eq (h : Tw r e R E) : k0_off72 r e = ![R + 16 * oo (kk R E) 3, 0] := by
  unfold k0_off72; dsimp only; rw [rw16_eq h, am3 h]
theorem off73_eq (h : Tw r e R E) {v1_0 : BitVec 32} {t : Fin (k0_t4_loop v1_0).trips} (hk : t.val < 64)  : k0_off73 v1_0 t r e = ![t.val % 2, 16 * oo (kk R E) 3, 0] := by
  unfold k0_off73; dsimp only; rw [rw16_eq h, mk3 _ h.kk_lt]; rw [slot_cur hk]

theorem cond14_iff (h : Tw r e R E) : k0_cond14 r e = 1#1 ↔ pres (kk R E) 4 := by
  unfold k0_cond14; dsimp only; rw [rw16_eq h]; exact cb4 _ h.kk_lt
theorem off74_eq (h : Tw r e R E) : k0_off74 r e = ![R + 16 * oo (kk R E) 4, 0] := by
  unfold k0_off74; dsimp only; rw [rw16_eq h, am4 h]
theorem off75_eq (h : Tw r e R E) {v1_0 : BitVec 32} {t : Fin (k0_t4_loop v1_0).trips} (hk : t.val < 64)  : k0_off75 v1_0 t r e = ![t.val % 2, 16 * oo (kk R E) 4, 0] := by
  unfold k0_off75; dsimp only; rw [rw16_eq h, mk4 _ h.kk_lt]; rw [slot_cur hk]

theorem chk17_ok (h : Tw r e R E) {v1_0 : BitVec 32} {t : Fin (k0_t4_loop v1_0).trips} (hk : t.val < 64)  : k0_chk17 v1_0 t r e :=
  ⟨
    by unfold k0_mult401; dsimp only; rw [rw16_eq h, mk0 _ h.kk_lt]; exact ⟨_, rfl⟩,
    by unfold k0_mult402; dsimp only; rw [rw16_eq h, am0 h]; have := h.dvd; omega,
    fun hc a => by
      have := rows_bound h (p := 0) (by omega) ((cond10_iff h).mp hc)
      rw [off66_eq h]; fin_cases a
      · show R + 16 * oo (kk R E) 0 + 256 ≤ 12288; exact this.1
      · show 0 + 1536 ≤ 1536; omega,
    fun hc a => by
      have := rows_bound h (p := 0) (by omega) ((cond10_iff h).mp hc)
      rw [off67_eq h hk]; fin_cases a
      · show t.val % 2 + 1 ≤ 2; omega
      · show 16 * oo (kk R E) 0 + 256 ≤ 256; exact this.2
      · show 0 + 1536 ≤ 1536; omega,
    fun hc hinb => (Rect.packedRows_of_rowAxis _ 2 (by decide) (by
      show 2 ∣ k0_off67 v1_0 t r e 1; rw [off67_eq h hk]; show 2 ∣ 16 * oo (kk R E) 0; omega) (by show 2 ∣ 256; decide) rfl).wholeWords,
    fun hc hinb => (Rect.packedRows_of_rowAxis _ 2 (by decide) (by
      show 2 ∣ k0_off66 r e 0; rw [off66_eq h]; show 2 ∣ R + 16 * oo (kk R E) 0; have := h.dvd; omega) (by show 2 ∣ 256; decide) rfl).wholeWords,
    by unfold k0_mult403; dsimp only; rw [rw16_eq h, mk1 _ h.kk_lt]; exact ⟨_, rfl⟩,
    by unfold k0_mult404; dsimp only; rw [rw16_eq h, am1 h]; have := h.dvd; omega,
    fun hc a => by
      have := rows_bound h (p := 1) (by omega) ((cond11_iff h).mp hc)
      rw [off68_eq h]; fin_cases a
      · show R + 16 * oo (kk R E) 1 + 128 ≤ 12288; exact this.1
      · show 0 + 1536 ≤ 1536; omega,
    fun hc a => by
      have := rows_bound h (p := 1) (by omega) ((cond11_iff h).mp hc)
      rw [off69_eq h hk]; fin_cases a
      · show t.val % 2 + 1 ≤ 2; omega
      · show 16 * oo (kk R E) 1 + 128 ≤ 256; exact this.2
      · show 0 + 1536 ≤ 1536; omega,
    fun hc hinb => (Rect.packedRows_of_rowAxis _ 2 (by decide) (by
      show 2 ∣ k0_off69 v1_0 t r e 1; rw [off69_eq h hk]; show 2 ∣ 16 * oo (kk R E) 1; omega) (by show 2 ∣ 128; decide) rfl).wholeWords,
    fun hc hinb => (Rect.packedRows_of_rowAxis _ 2 (by decide) (by
      show 2 ∣ k0_off68 r e 0; rw [off68_eq h]; show 2 ∣ R + 16 * oo (kk R E) 1; have := h.dvd; omega) (by show 2 ∣ 128; decide) rfl).wholeWords,
    by unfold k0_mult405; dsimp only; rw [rw16_eq h, mk2 _ h.kk_lt]; exact ⟨_, rfl⟩,
    by unfold k0_mult406; dsimp only; rw [rw16_eq h, am2 h]; have := h.dvd; omega,
    fun hc a => by
      have := rows_bound h (p := 2) (by omega) ((cond12_iff h).mp hc)
      rw [off70_eq h]; fin_cases a
      · show R + 16 * oo (kk R E) 2 + 64 ≤ 12288; exact this.1
      · show 0 + 1536 ≤ 1536; omega,
    fun hc a => by
      have := rows_bound h (p := 2) (by omega) ((cond12_iff h).mp hc)
      rw [off71_eq h hk]; fin_cases a
      · show t.val % 2 + 1 ≤ 2; omega
      · show 16 * oo (kk R E) 2 + 64 ≤ 256; exact this.2
      · show 0 + 1536 ≤ 1536; omega,
    fun hc hinb => (Rect.packedRows_of_rowAxis _ 2 (by decide) (by
      show 2 ∣ k0_off71 v1_0 t r e 1; rw [off71_eq h hk]; show 2 ∣ 16 * oo (kk R E) 2; omega) (by show 2 ∣ 64; decide) rfl).wholeWords,
    fun hc hinb => (Rect.packedRows_of_rowAxis _ 2 (by decide) (by
      show 2 ∣ k0_off70 r e 0; rw [off70_eq h]; show 2 ∣ R + 16 * oo (kk R E) 2; have := h.dvd; omega) (by show 2 ∣ 64; decide) rfl).wholeWords,
    by unfold k0_mult407; dsimp only; rw [rw16_eq h, mk3 _ h.kk_lt]; exact ⟨_, rfl⟩,
    by unfold k0_mult408; dsimp only; rw [rw16_eq h, am3 h]; have := h.dvd; omega,
    fun hc a => by
      have := rows_bound h (p := 3) (by omega) ((cond13_iff h).mp hc)
      rw [off72_eq h]; fin_cases a
      · show R + 16 * oo (kk R E) 3 + 32 ≤ 12288; exact this.1
      · show 0 + 1536 ≤ 1536; omega,
    fun hc a => by
      have := rows_bound h (p := 3) (by omega) ((cond13_iff h).mp hc)
      rw [off73_eq h hk]; fin_cases a
      · show t.val % 2 + 1 ≤ 2; omega
      · show 16 * oo (kk R E) 3 + 32 ≤ 256; exact this.2
      · show 0 + 1536 ≤ 1536; omega,
    fun hc hinb => (Rect.packedRows_of_rowAxis _ 2 (by decide) (by
      show 2 ∣ k0_off73 v1_0 t r e 1; rw [off73_eq h hk]; show 2 ∣ 16 * oo (kk R E) 3; omega) (by show 2 ∣ 32; decide) rfl).wholeWords,
    fun hc hinb => (Rect.packedRows_of_rowAxis _ 2 (by decide) (by
      show 2 ∣ k0_off72 r e 0; rw [off72_eq h]; show 2 ∣ R + 16 * oo (kk R E) 3; have := h.dvd; omega) (by show 2 ∣ 32; decide) rfl).wholeWords,
    by unfold k0_mult409; dsimp only; rw [rw16_eq h, mk4 _ h.kk_lt]; exact ⟨_, rfl⟩,
    by unfold k0_mult410; dsimp only; rw [rw16_eq h, am4 h]; have := h.dvd; omega,
    fun hc a => by
      have := rows_bound h (p := 4) (by omega) ((cond14_iff h).mp hc)
      rw [off74_eq h]; fin_cases a
      · show R + 16 * oo (kk R E) 4 + 16 ≤ 12288; exact this.1
      · show 0 + 1536 ≤ 1536; omega,
    fun hc a => by
      have := rows_bound h (p := 4) (by omega) ((cond14_iff h).mp hc)
      rw [off75_eq h hk]; fin_cases a
      · show t.val % 2 + 1 ≤ 2; omega
      · show 16 * oo (kk R E) 4 + 16 ≤ 256; exact this.2
      · show 0 + 1536 ≤ 1536; omega,
    fun hc hinb => (Rect.packedRows_of_rowAxis _ 2 (by decide) (by
      show 2 ∣ k0_off75 v1_0 t r e 1; rw [off75_eq h hk]; show 2 ∣ 16 * oo (kk R E) 4; omega) (by show 2 ∣ 16; decide) rfl).wholeWords,
    fun hc hinb => (Rect.packedRows_of_rowAxis _ 2 (by decide) (by
      show 2 ∣ k0_off74 r e 0; rw [off74_eq h]; show 2 ∣ R + 16 * oo (kk R E) 4; have := h.dvd; omega) (by show 2 ∣ 16; decide) rfl).wholeWords⟩

theorem cond29_iff (h : Tw r e R E) : k0_cond29 r e = 1#1 ↔ pres (kk R E) 0 := by
  unfold k0_cond29; dsimp only; rw [rw16_eq h]; exact cb0 _ h.kk_lt
theorem off146_eq (h : Tw r e R E) : k0_off146 r e = ![R + 16 * oo (kk R E) 0, 0] := by
  unfold k0_off146; dsimp only; rw [rw16_eq h, am0 h]
theorem off147_eq (h : Tw r e R E) {v1_0 : BitVec 32} {n : ℕ} (hv : v1_0.toNat = n) (h0 : 0 < n) : k0_off147 v1_0 r e = ![(n - 1) % 2, 16 * oo (kk R E) 0, 0] := by
  unfold k0_off147; dsimp only; rw [rw16_eq h, mk0 _ h.kk_lt]; rw [slot_last hv h0]

theorem cond30_iff (h : Tw r e R E) : k0_cond30 r e = 1#1 ↔ pres (kk R E) 1 := by
  unfold k0_cond30; dsimp only; rw [rw16_eq h]; exact cb1 _ h.kk_lt
theorem off148_eq (h : Tw r e R E) : k0_off148 r e = ![R + 16 * oo (kk R E) 1, 0] := by
  unfold k0_off148; dsimp only; rw [rw16_eq h, am1 h]
theorem off149_eq (h : Tw r e R E) {v1_0 : BitVec 32} {n : ℕ} (hv : v1_0.toNat = n) (h0 : 0 < n) : k0_off149 v1_0 r e = ![(n - 1) % 2, 16 * oo (kk R E) 1, 0] := by
  unfold k0_off149; dsimp only; rw [rw16_eq h, mk1 _ h.kk_lt]; rw [slot_last hv h0]

theorem cond31_iff (h : Tw r e R E) : k0_cond31 r e = 1#1 ↔ pres (kk R E) 2 := by
  unfold k0_cond31; dsimp only; rw [rw16_eq h]; exact cb2 _ h.kk_lt
theorem off150_eq (h : Tw r e R E) : k0_off150 r e = ![R + 16 * oo (kk R E) 2, 0] := by
  unfold k0_off150; dsimp only; rw [rw16_eq h, am2 h]
theorem off151_eq (h : Tw r e R E) {v1_0 : BitVec 32} {n : ℕ} (hv : v1_0.toNat = n) (h0 : 0 < n) : k0_off151 v1_0 r e = ![(n - 1) % 2, 16 * oo (kk R E) 2, 0] := by
  unfold k0_off151; dsimp only; rw [rw16_eq h, mk2 _ h.kk_lt]; rw [slot_last hv h0]

theorem cond32_iff (h : Tw r e R E) : k0_cond32 r e = 1#1 ↔ pres (kk R E) 3 := by
  unfold k0_cond32; dsimp only; rw [rw16_eq h]; exact cb3 _ h.kk_lt
theorem off152_eq (h : Tw r e R E) : k0_off152 r e = ![R + 16 * oo (kk R E) 3, 0] := by
  unfold k0_off152; dsimp only; rw [rw16_eq h, am3 h]
theorem off153_eq (h : Tw r e R E) {v1_0 : BitVec 32} {n : ℕ} (hv : v1_0.toNat = n) (h0 : 0 < n) : k0_off153 v1_0 r e = ![(n - 1) % 2, 16 * oo (kk R E) 3, 0] := by
  unfold k0_off153; dsimp only; rw [rw16_eq h, mk3 _ h.kk_lt]; rw [slot_last hv h0]

theorem cond33_iff (h : Tw r e R E) : k0_cond33 r e = 1#1 ↔ pres (kk R E) 4 := by
  unfold k0_cond33; dsimp only; rw [rw16_eq h]; exact cb4 _ h.kk_lt
theorem off154_eq (h : Tw r e R E) : k0_off154 r e = ![R + 16 * oo (kk R E) 4, 0] := by
  unfold k0_off154; dsimp only; rw [rw16_eq h, am4 h]
theorem off155_eq (h : Tw r e R E) {v1_0 : BitVec 32} {n : ℕ} (hv : v1_0.toNat = n) (h0 : 0 < n) : k0_off155 v1_0 r e = ![(n - 1) % 2, 16 * oo (kk R E) 4, 0] := by
  unfold k0_off155; dsimp only; rw [rw16_eq h, mk4 _ h.kk_lt]; rw [slot_last hv h0]

theorem chk29_ok (h : Tw r e R E) {v1_0 : BitVec 32} {n : ℕ} (hv : v1_0.toNat = n) (h0 : 0 < n) : k0_chk29 v1_0 r e :=
  ⟨
    by unfold k0_mult820; dsimp only; rw [rw16_eq h, mk0 _ h.kk_lt]; exact ⟨_, rfl⟩,
    by unfold k0_mult821; dsimp only; rw [rw16_eq h, am0 h]; have := h.dvd; omega,
    fun hc a => by
      have := rows_bound h (p := 0) (by omega) ((cond29_iff h).mp hc)
      rw [off146_eq h]; fin_cases a
      · show R + 16 * oo (kk R E) 0 + 256 ≤ 12288; exact this.1
      · show 0 + 1536 ≤ 1536; omega,
    fun hc a => by
      have := rows_bound h (p := 0) (by omega) ((cond29_iff h).mp hc)
      rw [off147_eq h hv h0]; fin_cases a
      · show (n - 1) % 2 + 1 ≤ 2; omega
      · show 16 * oo (kk R E) 0 + 256 ≤ 256; exact this.2
      · show 0 + 1536 ≤ 1536; omega,
    fun hc hinb => (Rect.packedRows_of_rowAxis _ 2 (by decide) (by
      show 2 ∣ k0_off147 v1_0 r e 1; rw [off147_eq h hv h0]; show 2 ∣ 16 * oo (kk R E) 0; omega) (by show 2 ∣ 256; decide) rfl).wholeWords,
    fun hc hinb => (Rect.packedRows_of_rowAxis _ 2 (by decide) (by
      show 2 ∣ k0_off146 r e 0; rw [off146_eq h]; show 2 ∣ R + 16 * oo (kk R E) 0; have := h.dvd; omega) (by show 2 ∣ 256; decide) rfl).wholeWords,
    by unfold k0_mult822; dsimp only; rw [rw16_eq h, mk1 _ h.kk_lt]; exact ⟨_, rfl⟩,
    by unfold k0_mult823; dsimp only; rw [rw16_eq h, am1 h]; have := h.dvd; omega,
    fun hc a => by
      have := rows_bound h (p := 1) (by omega) ((cond30_iff h).mp hc)
      rw [off148_eq h]; fin_cases a
      · show R + 16 * oo (kk R E) 1 + 128 ≤ 12288; exact this.1
      · show 0 + 1536 ≤ 1536; omega,
    fun hc a => by
      have := rows_bound h (p := 1) (by omega) ((cond30_iff h).mp hc)
      rw [off149_eq h hv h0]; fin_cases a
      · show (n - 1) % 2 + 1 ≤ 2; omega
      · show 16 * oo (kk R E) 1 + 128 ≤ 256; exact this.2
      · show 0 + 1536 ≤ 1536; omega,
    fun hc hinb => (Rect.packedRows_of_rowAxis _ 2 (by decide) (by
      show 2 ∣ k0_off149 v1_0 r e 1; rw [off149_eq h hv h0]; show 2 ∣ 16 * oo (kk R E) 1; omega) (by show 2 ∣ 128; decide) rfl).wholeWords,
    fun hc hinb => (Rect.packedRows_of_rowAxis _ 2 (by decide) (by
      show 2 ∣ k0_off148 r e 0; rw [off148_eq h]; show 2 ∣ R + 16 * oo (kk R E) 1; have := h.dvd; omega) (by show 2 ∣ 128; decide) rfl).wholeWords,
    by unfold k0_mult824; dsimp only; rw [rw16_eq h, mk2 _ h.kk_lt]; exact ⟨_, rfl⟩,
    by unfold k0_mult825; dsimp only; rw [rw16_eq h, am2 h]; have := h.dvd; omega,
    fun hc a => by
      have := rows_bound h (p := 2) (by omega) ((cond31_iff h).mp hc)
      rw [off150_eq h]; fin_cases a
      · show R + 16 * oo (kk R E) 2 + 64 ≤ 12288; exact this.1
      · show 0 + 1536 ≤ 1536; omega,
    fun hc a => by
      have := rows_bound h (p := 2) (by omega) ((cond31_iff h).mp hc)
      rw [off151_eq h hv h0]; fin_cases a
      · show (n - 1) % 2 + 1 ≤ 2; omega
      · show 16 * oo (kk R E) 2 + 64 ≤ 256; exact this.2
      · show 0 + 1536 ≤ 1536; omega,
    fun hc hinb => (Rect.packedRows_of_rowAxis _ 2 (by decide) (by
      show 2 ∣ k0_off151 v1_0 r e 1; rw [off151_eq h hv h0]; show 2 ∣ 16 * oo (kk R E) 2; omega) (by show 2 ∣ 64; decide) rfl).wholeWords,
    fun hc hinb => (Rect.packedRows_of_rowAxis _ 2 (by decide) (by
      show 2 ∣ k0_off150 r e 0; rw [off150_eq h]; show 2 ∣ R + 16 * oo (kk R E) 2; have := h.dvd; omega) (by show 2 ∣ 64; decide) rfl).wholeWords,
    by unfold k0_mult826; dsimp only; rw [rw16_eq h, mk3 _ h.kk_lt]; exact ⟨_, rfl⟩,
    by unfold k0_mult827; dsimp only; rw [rw16_eq h, am3 h]; have := h.dvd; omega,
    fun hc a => by
      have := rows_bound h (p := 3) (by omega) ((cond32_iff h).mp hc)
      rw [off152_eq h]; fin_cases a
      · show R + 16 * oo (kk R E) 3 + 32 ≤ 12288; exact this.1
      · show 0 + 1536 ≤ 1536; omega,
    fun hc a => by
      have := rows_bound h (p := 3) (by omega) ((cond32_iff h).mp hc)
      rw [off153_eq h hv h0]; fin_cases a
      · show (n - 1) % 2 + 1 ≤ 2; omega
      · show 16 * oo (kk R E) 3 + 32 ≤ 256; exact this.2
      · show 0 + 1536 ≤ 1536; omega,
    fun hc hinb => (Rect.packedRows_of_rowAxis _ 2 (by decide) (by
      show 2 ∣ k0_off153 v1_0 r e 1; rw [off153_eq h hv h0]; show 2 ∣ 16 * oo (kk R E) 3; omega) (by show 2 ∣ 32; decide) rfl).wholeWords,
    fun hc hinb => (Rect.packedRows_of_rowAxis _ 2 (by decide) (by
      show 2 ∣ k0_off152 r e 0; rw [off152_eq h]; show 2 ∣ R + 16 * oo (kk R E) 3; have := h.dvd; omega) (by show 2 ∣ 32; decide) rfl).wholeWords,
    by unfold k0_mult828; dsimp only; rw [rw16_eq h, mk4 _ h.kk_lt]; exact ⟨_, rfl⟩,
    by unfold k0_mult829; dsimp only; rw [rw16_eq h, am4 h]; have := h.dvd; omega,
    fun hc a => by
      have := rows_bound h (p := 4) (by omega) ((cond33_iff h).mp hc)
      rw [off154_eq h]; fin_cases a
      · show R + 16 * oo (kk R E) 4 + 16 ≤ 12288; exact this.1
      · show 0 + 1536 ≤ 1536; omega,
    fun hc a => by
      have := rows_bound h (p := 4) (by omega) ((cond33_iff h).mp hc)
      rw [off155_eq h hv h0]; fin_cases a
      · show (n - 1) % 2 + 1 ≤ 2; omega
      · show 16 * oo (kk R E) 4 + 16 ≤ 256; exact this.2
      · show 0 + 1536 ≤ 1536; omega,
    fun hc hinb => (Rect.packedRows_of_rowAxis _ 2 (by decide) (by
      show 2 ∣ k0_off155 v1_0 r e 1; rw [off155_eq h hv h0]; show 2 ∣ 16 * oo (kk R E) 4; omega) (by show 2 ∣ 16; decide) rfl).wholeWords,
    fun hc hinb => (Rect.packedRows_of_rowAxis _ 2 (by decide) (by
      show 2 ∣ k0_off154 r e 0; rw [off154_eq h]; show 2 ∣ R + 16 * oo (kk R E) 4; have := h.dvd; omega) (by show 2 ∣ 16; decide) rfl).wholeWords⟩

/-! ### The strips' corners -/

theorem cor16 {x c : BitVec 32} (hx : 16 ∣ x.toNat) (hc : 16 ∣ c.toNat) : 16 ∣ (Scalar.andi (Scalar.addi x c) 255#32).toNat := by
  obtain ⟨i, hi⟩ := hc
  rw [row_word hi]; omega

theorem skip_word (h : r.toNat = R) (hR : R < 12288) (hd : 16 ∣ R) :
    (Scalar.subi r (Scalar.minsi r 12032#32)).toNat = R - min R 12032 := by
  have hm := min_nat r 12032#32 (by omega) (by decide)
  show (r - Scalar.minsi r 12032#32).toNat = _
  rw [BitVec.toNat_sub, hm, h]
  show (2 ^ 32 - min R 12032 + R) % 2 ^ 32 = _
  omega

theorem b14 {x : BitVec 32} {s : ℕ} (hx : 16 ∣ x.toNat) (hs : s < 2) {C : ℕ} (hC : C + 128 ≤ 3072) (q : Fin 16) (a : Fin 3) :
    (![s, (Scalar.andi (Scalar.addi x (BitVec.ofNat 32 (16 * q.val))) 255#32).toNat, C] : Fin 3 → ℕ) a + S1x16x128.size a ≤ S2x256x3072.size a := by
  have hq := q.isLt
  have hi : (BitVec.ofNat 32 (16 * q.val)).toNat = 16 * q.val := by rw [BitVec.toNat_ofNat]; omega
  fin_cases a
  · show s + 1 ≤ 2; omega
  · show (Scalar.andi (Scalar.addi x (BitVec.ofNat 32 (16 * q.val))) 255#32).toNat + 16 ≤ 256
    rw [row_word hi]; omega
  · show C + 128 ≤ 3072; exact hC

section
variable {v1_0 : BitVec 32} {t : Fin (k0_t4_loop v1_0).trips}

theorem chk14_0_ok (h16 : 16 ∣ (Scalar.subi r (Scalar.minsi r 12032#32)).toNat) (hs : (Scalar.andi (Scf.iv 0#32 1#32 t.val) 1#32).toNat < 2) : k0_chk14_0 v1_0 t r :=
  ⟨h16,
    cor16 h16 (by decide),
    fun q a => b14 h16 hs (C := 0) (by decide) q a,
    cor16 h16 (by decide),
    fun q a => b14 h16 hs (C := 128) (by decide) q a,
    cor16 h16 (by decide),
    cor16 h16 (by decide),
    cor16 h16 (by decide),
    cor16 h16 (by decide),
    cor16 h16 (by decide),
    cor16 h16 (by decide),
    cor16 h16 (by decide),
    cor16 h16 (by decide),
    cor16 h16 (by decide),
    cor16 h16 (by decide),
    cor16 h16 (by decide),
    cor16 h16 (by decide),
    cor16 h16 (by decide),
    cor16 h16 (by decide),
    cor16 h16 (by decide),
    cor16 h16 (by decide),
    cor16 h16 (by decide),
    cor16 h16 (by decide),
    cor16 h16 (by decide),
    cor16 h16 (by decide),
    cor16 h16 (by decide),
    cor16 h16 (by decide),
    cor16 h16 (by decide),
    cor16 h16 (by decide),
    cor16 h16 (by decide),
    cor16 h16 (by decide),
    cor16 h16 (by decide)⟩

theorem chk14_1_ok (h16 : 16 ∣ (Scalar.subi r (Scalar.minsi r 12032#32)).toNat) (hs : (Scalar.andi (Scf.iv 0#32 1#32 t.val) 1#32).toNat < 2) : k0_chk14_1 v1_0 t r :=
  ⟨cor16 h16 (by decide),
    cor16 h16 (by decide),
    cor16 h16 (by decide),
    cor16 h16 (by decide),
    fun q a => b14 h16 hs (C := 256) (by decide) q a,
    cor16 h16 (by decide),
    fun q a => b14 h16 hs (C := 384) (by decide) q a,
    cor16 h16 (by decide),
    cor16 h16 (by decide),
    cor16 h16 (by decide),
    cor16 h16 (by decide),
    cor16 h16 (by decide),
    cor16 h16 (by decide),
    cor16 h16 (by decide),
    cor16 h16 (by decide),
    cor16 h16 (by decide),
    cor16 h16 (by decide),
    cor16 h16 (by decide),
    cor16 h16 (by decide),
    cor16 h16 (by decide),
    cor16 h16 (by decide),
    cor16 h16 (by decide),
    cor16 h16 (by decide),
    cor16 h16 (by decide),
    cor16 h16 (by decide),
    cor16 h16 (by decide),
    cor16 h16 (by decide),
    cor16 h16 (by decide),
    cor16 h16 (by decide),
    cor16 h16 (by decide),
    cor16 h16 (by decide),
    cor16 h16 (by decide)⟩

theorem chk14_2_ok (h16 : 16 ∣ (Scalar.subi r (Scalar.minsi r 12032#32)).toNat) (hs : (Scalar.andi (Scf.iv 0#32 1#32 t.val) 1#32).toNat < 2) : k0_chk14_2 v1_0 t r :=
  ⟨cor16 h16 (by decide),
    cor16 h16 (by decide),
    cor16 h16 (by decide),
    cor16 h16 (by decide),
    cor16 h16 (by decide),
    cor16 h16 (by decide),
    fun q a => b14 h16 hs (C := 512) (by decide) q a,
    cor16 h16 (by decide),
    fun q a => b14 h16 hs (C := 640) (by decide) q a,
    cor16 h16 (by decide),
    cor16 h16 (by decide),
    cor16 h16 (by decide),
    cor16 h16 (by decide),
    cor16 h16 (by decide),
    cor16 h16 (by decide),
    cor16 h16 (by decide),
    cor16 h16 (by decide),
    cor16 h16 (by decide),
    cor16 h16 (by decide),
    cor16 h16 (by decide),
    cor16 h16 (by decide),
    cor16 h16 (by decide),
    cor16 h16 (by decide),
    cor16 h16 (by decide),
    cor16 h16 (by decide),
    cor16 h16 (by decide),
    cor16 h16 (by decide),
    cor16 h16 (by decide),
    cor16 h16 (by decide),
    cor16 h16 (by decide),
    cor16 h16 (by decide),
    cor16 h16 (by decide)⟩

theorem chk14_3_ok (h16 : 16 ∣ (Scalar.subi r (Scalar.minsi r 12032#32)).toNat) (hs : (Scalar.andi (Scf.iv 0#32 1#32 t.val) 1#32).toNat < 2) : k0_chk14_3 v1_0 t r :=
  ⟨cor16 h16 (by decide),
    cor16 h16 (by decide),
    cor16 h16 (by decide),
    cor16 h16 (by decide),
    cor16 h16 (by decide),
    cor16 h16 (by decide),
    cor16 h16 (by decide),
    cor16 h16 (by decide),
    fun q a => b14 h16 hs (C := 768) (by decide) q a,
    cor16 h16 (by decide),
    fun q a => b14 h16 hs (C := 896) (by decide) q a,
    cor16 h16 (by decide),
    cor16 h16 (by decide),
    cor16 h16 (by decide),
    cor16 h16 (by decide),
    cor16 h16 (by decide),
    cor16 h16 (by decide),
    cor16 h16 (by decide),
    cor16 h16 (by decide),
    cor16 h16 (by decide),
    cor16 h16 (by decide),
    cor16 h16 (by decide),
    cor16 h16 (by decide),
    cor16 h16 (by decide),
    cor16 h16 (by decide),
    cor16 h16 (by decide),
    cor16 h16 (by decide),
    cor16 h16 (by decide),
    cor16 h16 (by decide),
    cor16 h16 (by decide),
    cor16 h16 (by decide),
    cor16 h16 (by decide)⟩

theorem chk14_4_ok (h16 : 16 ∣ (Scalar.subi r (Scalar.minsi r 12032#32)).toNat) (hs : (Scalar.andi (Scf.iv 0#32 1#32 t.val) 1#32).toNat < 2) : k0_chk14_4 v1_0 t r :=
  ⟨cor16 h16 (by decide),
    cor16 h16 (by decide),
    cor16 h16 (by decide),
    cor16 h16 (by decide),
    cor16 h16 (by decide),
    cor16 h16 (by decide),
    cor16 h16 (by decide),
    cor16 h16 (by decide),
    cor16 h16 (by decide),
    cor16 h16 (by decide),
    fun q a => b14 h16 hs (C := 1024) (by decide) q a,
    cor16 h16 (by decide),
    fun q a => b14 h16 hs (C := 1152) (by decide) q a,
    cor16 h16 (by decide),
    cor16 h16 (by decide),
    cor16 h16 (by decide),
    cor16 h16 (by decide),
    cor16 h16 (by decide),
    cor16 h16 (by decide),
    cor16 h16 (by decide),
    cor16 h16 (by decide),
    cor16 h16 (by decide),
    cor16 h16 (by decide),
    cor16 h16 (by decide),
    cor16 h16 (by decide),
    cor16 h16 (by decide),
    cor16 h16 (by decide),
    cor16 h16 (by decide),
    cor16 h16 (by decide),
    cor16 h16 (by decide),
    cor16 h16 (by decide),
    cor16 h16 (by decide)⟩

theorem chk14_5_ok (h16 : 16 ∣ (Scalar.subi r (Scalar.minsi r 12032#32)).toNat) (hs : (Scalar.andi (Scf.iv 0#32 1#32 t.val) 1#32).toNat < 2) : k0_chk14_5 v1_0 t r :=
  ⟨cor16 h16 (by decide),
    cor16 h16 (by decide),
    cor16 h16 (by decide),
    cor16 h16 (by decide),
    cor16 h16 (by decide),
    cor16 h16 (by decide),
    cor16 h16 (by decide),
    cor16 h16 (by decide),
    cor16 h16 (by decide),
    cor16 h16 (by decide),
    cor16 h16 (by decide),
    cor16 h16 (by decide),
    fun q a => b14 h16 hs (C := 1280) (by decide) q a,
    cor16 h16 (by decide),
    fun q a => b14 h16 hs (C := 1408) (by decide) q a,
    cor16 h16 (by decide),
    cor16 h16 (by decide),
    cor16 h16 (by decide),
    cor16 h16 (by decide),
    cor16 h16 (by decide),
    cor16 h16 (by decide),
    cor16 h16 (by decide),
    cor16 h16 (by decide),
    cor16 h16 (by decide),
    cor16 h16 (by decide),
    cor16 h16 (by decide),
    cor16 h16 (by decide),
    cor16 h16 (by decide),
    cor16 h16 (by decide),
    cor16 h16 (by decide),
    cor16 h16 (by decide),
    cor16 h16 (by decide)⟩

theorem chk14_6_ok (h16 : 16 ∣ (Scalar.subi r (Scalar.minsi r 12032#32)).toNat) (hs : (Scalar.andi (Scf.iv 0#32 1#32 t.val) 1#32).toNat < 2) : k0_chk14_6 v1_0 t r :=
  ⟨cor16 h16 (by decide),
    cor16 h16 (by decide),
    cor16 h16 (by decide),
    cor16 h16 (by decide),
    cor16 h16 (by decide),
    cor16 h16 (by decide),
    cor16 h16 (by decide),
    cor16 h16 (by decide),
    cor16 h16 (by decide),
    cor16 h16 (by decide),
    cor16 h16 (by decide),
    cor16 h16 (by decide),
    cor16 h16 (by decide),
    cor16 h16 (by decide),
    fun q a => b14 h16 hs (C := 1536) (by decide) q a,
    cor16 h16 (by decide),
    fun q a => b14 h16 hs (C := 1664) (by decide) q a,
    cor16 h16 (by decide),
    cor16 h16 (by decide),
    cor16 h16 (by decide),
    cor16 h16 (by decide),
    cor16 h16 (by decide),
    cor16 h16 (by decide),
    cor16 h16 (by decide),
    cor16 h16 (by decide),
    cor16 h16 (by decide),
    cor16 h16 (by decide),
    cor16 h16 (by decide),
    cor16 h16 (by decide),
    cor16 h16 (by decide),
    cor16 h16 (by decide),
    cor16 h16 (by decide)⟩

theorem chk14_7_ok (h16 : 16 ∣ (Scalar.subi r (Scalar.minsi r 12032#32)).toNat) (hs : (Scalar.andi (Scf.iv 0#32 1#32 t.val) 1#32).toNat < 2) : k0_chk14_7 v1_0 t r :=
  ⟨cor16 h16 (by decide),
    cor16 h16 (by decide),
    cor16 h16 (by decide),
    cor16 h16 (by decide),
    cor16 h16 (by decide),
    cor16 h16 (by decide),
    cor16 h16 (by decide),
    cor16 h16 (by decide),
    cor16 h16 (by decide),
    cor16 h16 (by decide),
    cor16 h16 (by decide),
    cor16 h16 (by decide),
    cor16 h16 (by decide),
    cor16 h16 (by decide),
    cor16 h16 (by decide),
    cor16 h16 (by decide),
    fun q a => b14 h16 hs (C := 1792) (by decide) q a,
    cor16 h16 (by decide),
    fun q a => b14 h16 hs (C := 1920) (by decide) q a,
    cor16 h16 (by decide),
    cor16 h16 (by decide),
    cor16 h16 (by decide),
    cor16 h16 (by decide),
    cor16 h16 (by decide),
    cor16 h16 (by decide),
    cor16 h16 (by decide),
    cor16 h16 (by decide),
    cor16 h16 (by decide),
    cor16 h16 (by decide),
    cor16 h16 (by decide),
    cor16 h16 (by decide),
    cor16 h16 (by decide)⟩

theorem chk14_8_ok (h16 : 16 ∣ (Scalar.subi r (Scalar.minsi r 12032#32)).toNat) (hs : (Scalar.andi (Scf.iv 0#32 1#32 t.val) 1#32).toNat < 2) : k0_chk14_8 v1_0 t r :=
  ⟨cor16 h16 (by decide),
    cor16 h16 (by decide),
    cor16 h16 (by decide),
    cor16 h16 (by decide),
    cor16 h16 (by decide),
    cor16 h16 (by decide),
    cor16 h16 (by decide),
    cor16 h16 (by decide),
    cor16 h16 (by decide),
    cor16 h16 (by decide),
    cor16 h16 (by decide),
    cor16 h16 (by decide),
    cor16 h16 (by decide),
    cor16 h16 (by decide),
    cor16 h16 (by decide),
    cor16 h16 (by decide),
    cor16 h16 (by decide),
    cor16 h16 (by decide),
    fun q a => b14 h16 hs (C := 2048) (by decide) q a,
    cor16 h16 (by decide),
    fun q a => b14 h16 hs (C := 2176) (by decide) q a,
    cor16 h16 (by decide),
    cor16 h16 (by decide),
    cor16 h16 (by decide),
    cor16 h16 (by decide),
    cor16 h16 (by decide),
    cor16 h16 (by decide),
    cor16 h16 (by decide),
    cor16 h16 (by decide),
    cor16 h16 (by decide),
    cor16 h16 (by decide),
    cor16 h16 (by decide)⟩

theorem chk14_9_ok (h16 : 16 ∣ (Scalar.subi r (Scalar.minsi r 12032#32)).toNat) (hs : (Scalar.andi (Scf.iv 0#32 1#32 t.val) 1#32).toNat < 2) : k0_chk14_9 v1_0 t r :=
  ⟨cor16 h16 (by decide),
    cor16 h16 (by decide),
    cor16 h16 (by decide),
    cor16 h16 (by decide),
    cor16 h16 (by decide),
    cor16 h16 (by decide),
    cor16 h16 (by decide),
    cor16 h16 (by decide),
    cor16 h16 (by decide),
    cor16 h16 (by decide),
    cor16 h16 (by decide),
    cor16 h16 (by decide),
    cor16 h16 (by decide),
    cor16 h16 (by decide),
    cor16 h16 (by decide),
    cor16 h16 (by decide),
    cor16 h16 (by decide),
    cor16 h16 (by decide),
    cor16 h16 (by decide),
    cor16 h16 (by decide),
    fun q a => b14 h16 hs (C := 2304) (by decide) q a,
    cor16 h16 (by decide),
    fun q a => b14 h16 hs (C := 2432) (by decide) q a,
    cor16 h16 (by decide),
    cor16 h16 (by decide),
    cor16 h16 (by decide),
    cor16 h16 (by decide),
    cor16 h16 (by decide),
    cor16 h16 (by decide),
    cor16 h16 (by decide),
    cor16 h16 (by decide),
    cor16 h16 (by decide)⟩

theorem chk14_10_ok (h16 : 16 ∣ (Scalar.subi r (Scalar.minsi r 12032#32)).toNat) (hs : (Scalar.andi (Scf.iv 0#32 1#32 t.val) 1#32).toNat < 2) : k0_chk14_10 v1_0 t r :=
  ⟨cor16 h16 (by decide),
    cor16 h16 (by decide),
    cor16 h16 (by decide),
    cor16 h16 (by decide),
    cor16 h16 (by decide),
    cor16 h16 (by decide),
    cor16 h16 (by decide),
    cor16 h16 (by decide),
    cor16 h16 (by decide),
    cor16 h16 (by decide),
    cor16 h16 (by decide),
    cor16 h16 (by decide),
    cor16 h16 (by decide),
    cor16 h16 (by decide),
    cor16 h16 (by decide),
    cor16 h16 (by decide),
    cor16 h16 (by decide),
    cor16 h16 (by decide),
    cor16 h16 (by decide),
    cor16 h16 (by decide),
    cor16 h16 (by decide),
    cor16 h16 (by decide),
    fun q a => b14 h16 hs (C := 2560) (by decide) q a,
    cor16 h16 (by decide),
    fun q a => b14 h16 hs (C := 2688) (by decide) q a,
    cor16 h16 (by decide),
    cor16 h16 (by decide),
    cor16 h16 (by decide),
    cor16 h16 (by decide),
    cor16 h16 (by decide),
    cor16 h16 (by decide),
    cor16 h16 (by decide)⟩

theorem chk14_11_ok (h16 : 16 ∣ (Scalar.subi r (Scalar.minsi r 12032#32)).toNat) (hs : (Scalar.andi (Scf.iv 0#32 1#32 t.val) 1#32).toNat < 2) : k0_chk14_11 v1_0 t r :=
  ⟨cor16 h16 (by decide),
    cor16 h16 (by decide),
    cor16 h16 (by decide),
    cor16 h16 (by decide),
    cor16 h16 (by decide),
    cor16 h16 (by decide),
    cor16 h16 (by decide),
    cor16 h16 (by decide),
    cor16 h16 (by decide),
    cor16 h16 (by decide),
    cor16 h16 (by decide),
    cor16 h16 (by decide),
    cor16 h16 (by decide),
    cor16 h16 (by decide),
    cor16 h16 (by decide),
    cor16 h16 (by decide),
    cor16 h16 (by decide),
    cor16 h16 (by decide),
    cor16 h16 (by decide),
    cor16 h16 (by decide),
    cor16 h16 (by decide),
    cor16 h16 (by decide),
    cor16 h16 (by decide),
    cor16 h16 (by decide),
    fun q a => b14 h16 hs (C := 2816) (by decide) q a,
    cor16 h16 (by decide),
    fun q a => b14 h16 hs (C := 2944) (by decide) q a,
    cor16 h16 (by decide),
    cor16 h16 (by decide),
    cor16 h16 (by decide),
    cor16 h16 (by decide),
    cor16 h16 (by decide)⟩

theorem chk14_12_ok (h16 : 16 ∣ (Scalar.subi r (Scalar.minsi r 12032#32)).toNat) (hs : (Scalar.andi (Scf.iv 0#32 1#32 t.val) 1#32).toNat < 2) : k0_chk14_12 v1_0 t r :=
  ⟨cor16 h16 (by decide),
    cor16 h16 (by decide),
    cor16 h16 (by decide),
    cor16 h16 (by decide),
    cor16 h16 (by decide),
    cor16 h16 (by decide),
    cor16 h16 (by decide),
    cor16 h16 (by decide),
    cor16 h16 (by decide),
    cor16 h16 (by decide),
    cor16 h16 (by decide),
    cor16 h16 (by decide),
    cor16 h16 (by decide),
    cor16 h16 (by decide),
    cor16 h16 (by decide),
    cor16 h16 (by decide),
    cor16 h16 (by decide),
    cor16 h16 (by decide),
    cor16 h16 (by decide),
    cor16 h16 (by decide),
    cor16 h16 (by decide),
    cor16 h16 (by decide),
    cor16 h16 (by decide),
    cor16 h16 (by decide),
    cor16 h16 (by decide)⟩

theorem chk14_ok (h : r.toNat = R) (hR : R < 12288) (hd : 16 ∣ R) (hk : t.val < 64) : k0_chk14 v1_0 t r := by
  have h16 : 16 ∣ (Scalar.subi r (Scalar.minsi r 12032#32)).toNat := by rw [skip_word h hR hd]; omega
  have hs : (Scalar.andi (Scf.iv 0#32 1#32 t.val) 1#32).toNat < 2 := by rw [slot_cur hk]; omega
  exact ⟨chk14_0_ok h16 hs, chk14_1_ok h16 hs, chk14_2_ok h16 hs, chk14_3_ok h16 hs, chk14_4_ok h16 hs, chk14_5_ok h16 hs, chk14_6_ok h16 hs, chk14_7_ok h16 hs, chk14_8_ok h16 hs, chk14_9_ok h16 hs, chk14_10_ok h16 hs, chk14_11_ok h16 hs, chk14_12_ok h16 hs⟩

/-- The first row of the tile's last block, in the tile. -/
theorem last_word (h : Tw r e R E) : (Scalar.andi (Scalar.subi (Scalar.subi e 1#32) r) 4294967280#32).toNat = (E - 1 - R) / 16 * 16 := by
  obtain ⟨hr, he, h1, h2, h3, h4⟩ := h
  refine (WordArith.toNat_andi_mask16 _).trans ?_
  have : (Scalar.subi (Scalar.subi e 1#32) r).toNat = E - 1 - R := by
    show (Scalar.subi e 1#32 - r).toNat = _
    rw [BitVec.toNat_sub, sub_one he (by omega), hr]
    omega
  rw [this]

theorem off53_eq (h : Tw r e R E) (hk : t.val < 64) : k0_off53 v1_0 t r e = ![t.val % 2, (E - 1 - R) / 16 * 16, 0] := by
  unfold k0_off53; dsimp only
  show ![(Scalar.andi (Scf.iv 0#32 1#32 t.val) 1#32).toNat, (Scalar.andi (Scalar.subi (Scalar.subi e 1#32) r) 4294967280#32).toNat, 0] = _
  rw [slot_cur hk, last_word h]

theorem chk15_ok (h : Tw r e R E) (hk : t.val < 64) : k0_chk15 v1_0 t r e := by
  refine ⟨?_, fun a => ?_⟩
  · show 16 ∣ (Scalar.andi (Scalar.subi (Scalar.subi e 1#32) r) 4294967280#32).toNat
    rw [last_word h]; omega
  · have := h.le; have := h.lt
    rw [off53_eq h hk]; fin_cases a
    · show t.val % 2 + 1 ≤ 2; omega
    · show (E - 1 - R) / 16 * 16 + 16 ≤ 256; omega
    · show 0 + 1536 ≤ 1536; omega

/-- Where a tile's fetch starts. -/
theorem start_word (h : r.toNat = R) (hR : R < 12288) : (Scalar.minsi r 12032#32).toNat = min R 12032 := by
  have hm := min_nat r 12032#32 (by omega) (by decide)
  rw [hm, h]; rfl

theorem x_off (h : r.toNat = R) (hR : R < 12288) : (![(Scalar.minsi r 12032#32).toNat, 0] : Fin 2 → ℕ) = ![min R 12032, 0] := by
  rw [start_word h hR]

theorem x_ok (off : Fin 2 → ℕ) (ho : off = ![min R 12032, 0]) (hd : 16 ∣ R) :
    (∀ a, off a + S256x3072.size a ≤ S12288x3072.size a)
    ∧ (∀ (hinb : ∀ a, off a + S256x3072.size a ≤ S12288x3072.size a), (Rect.unit (s := S12288x3072) off S256x3072.size hinb).WholeWords (EltTy.packing .bf16)) := by
  subst ho
  refine ⟨fun a => ?_, fun hinb => (Rect.packedRows_of_rowAxis _ 2 (by decide) ?_ ?_ rfl).wholeWords⟩
  · fin_cases a
    · show min R 12032 + 256 ≤ 12288; omega
    · show 0 + 3072 ≤ 3072; omega
  · show 2 ∣ min R 12032; omega
  · show 2 ∣ 256; decide

theorem chk4_ok (h : r.toNat = R) (hR : R < 12288) (hd : 16 ∣ R) : k0_chk4 r :=
  ⟨by show 16 ∣ (Scalar.minsi r 12032#32).toNat; rw [start_word h hR]; omega, (x_ok _ (x_off h hR) hd).1, (x_ok _ (x_off h hR) hd).2⟩
theorem chk7_ok (h : r.toNat = R) (hR : R < 12288) (hd : 16 ∣ R) : k0_chk7 v1_0 t r :=
  ⟨fun _ => by show 16 ∣ (Scalar.minsi r 12032#32).toNat; rw [start_word h hR]; omega, fun _ => (x_ok _ (x_off h hR) hd).1, fun _ => (x_ok _ (x_off h hR) hd).2⟩
theorem chk13_ok (h : r.toNat = R) (hR : R < 12288) (hd : 16 ∣ R) : k0_chk13 r :=
  ⟨by show 16 ∣ (Scalar.minsi r 12032#32).toNat; rw [start_word h hR]; omega, (x_ok _ (x_off h hR) hd).1, (x_ok _ (x_off h hR) hd).2⟩
end

theorem w_ok {x : BitVec 32} (h : x.toNat < 8) :
    (∀ a, (![x.toNat, 0, 0] : Fin 3 → ℕ) a + S1x3072x1536.size a ≤ S8x3072x1536.size a)
    ∧ (∀ (hinb : ∀ a, (![x.toNat, 0, 0] : Fin 3 → ℕ) a + S1x3072x1536.size a ≤ S8x3072x1536.size a), (Rect.unit (s := S8x3072x1536) ![x.toNat, 0, 0] S1x3072x1536.size hinb).WholeWords (EltTy.packing .fp8e4m3))
    ∧ (∀ a, (![x.toNat, 0, 0] : Fin 3 → ℕ) a + S1x96x1536.size a ≤ S8x96x1536.size a)
    ∧ (∀ (hinb : ∀ a, (![x.toNat, 0, 0] : Fin 3 → ℕ) a + S1x96x1536.size a ≤ S8x96x1536.size a), (Rect.unit (s := S8x96x1536) ![x.toNat, 0, 0] S1x96x1536.size hinb).WholeWords (EltTy.packing .i8)) := by
  refine ⟨fun a => ?_, fun hinb => (Rect.packedRows_of_rowAxis _ 4 (by decide) ?_ ?_ rfl).wholeWords, fun a => ?_,
    fun hinb => (Rect.packedRows_of_rowAxis _ 4 (by decide) ?_ ?_ rfl).wholeWords⟩
  · fin_cases a
    · show x.toNat + 1 ≤ 8; omega
    · show 0 + 3072 ≤ 3072; omega
    · show 0 + 1536 ≤ 1536; omega
  · show 4 ∣ 0; decide
  · show 4 ∣ 3072; decide
  · fin_cases a
    · show x.toNat + 1 ≤ 8; omega
    · show 0 + 96 ≤ 96; omega
    · show 0 + 1536 ≤ 1536; omega
  · show 4 ∣ 0; decide
  · show 4 ∣ 96; decide

theorem chk5_ok {x : BitVec 32} (h : x.toNat < 8) : k0_chk5 x := w_ok h
theorem chk9_ok {v78 x : BitVec 32} (h : x.toNat < 8) : k0_chk9 v78 x :=
  ⟨fun _ => (w_ok h).1, fun _ => (w_ok h).2.1, fun _ => (w_ok h).2.2.1, fun _ => (w_ok h).2.2.2⟩
theorem chk12_ok {v1_0 v78 v3662 x : BitVec 32} (h : x.toNat < 8) : k0_chk12 v1_0 v78 v3662 x :=
  ⟨fun _ _ => (w_ok h).1, fun _ _ => (w_ok h).2.1, fun _ _ => (w_ok h).2.2.1, fun _ _ => (w_ok h).2.2.2⟩

theorem cell_ok {x : ℕ} (h : x < 64) (a : Fin 1) : (![x] : Fin 1 → ℕ) a + S1.size a ≤ S64.size a := by
  fin_cases a; show x + 1 ≤ 64; omega

/-! ### The tile loops' bounds -/

section
variable {v1_0 : BitVec 32} {n : ℕ}

theorem t4_loop_eq (v : BitVec 32) : k0_t4_loop v = ⟨0#32, v, 1#32⟩ := by
  unfold k0_t4_loop; dsimp only
  have h1 : Scalar.subi v 0#32 = v := by show v - 0#32 = v; simp
  have h2 : Scalar.divsi v 1#32 = v := WordArith.divsi_one _ v
  have h3 : Scalar.muli v 1#32 = v := by show v * 1#32 = v; simp
  have h4 : Scalar.addi 0#32 v = v := by show 0#32 + v = v; simp
  rw [h1, h2, h3, h4]

theorem t6_loop_eq (v : BitVec 32) : k0_t6_loop v = ⟨v, v, 1#32⟩ := by
  unfold k0_t6_loop; dsimp only
  have h1 : Scalar.subi v 0#32 = v := by show v - 0#32 = v; simp
  have h2 : Scalar.divsi v 1#32 = v := WordArith.divsi_one _ v
  have h3 : Scalar.muli v 1#32 = v := by show v * 1#32 = v; simp
  have h4 : Scalar.addi 0#32 v = v := by show 0#32 + v = v; simp
  rw [h1, h2, h3, h4]

theorem t4_trips (hv : v1_0.toNat = n) (hn : n < 64) : (k0_t4_loop v1_0).trips = n := by
  rw [t4_loop_eq]; exact trips_one hv (by omega)

theorem t6_trips : (k0_t6_loop v1_0).trips = 0 := by
  rw [t6_loop_eq]; show Scf.trips v1_0 v1_0 1#32 = 0
  unfold Scf.trips; have h1 : (1#32 : BitVec 32).toInt = 1 := by decide
  rw [h1]; omega

theorem cond1_iff (hv : v1_0.toNat = n) (hn : n < 64) (t : Fin (k0_t4_loop v1_0).trips) : k0_cond1 v1_0 t = 1#1 ↔ t.val + 1 < n := by
  have ht : t.val < n := lt_of_lt_of_eq t.isLt (t4_trips hv hn)
  have h1 := add_one (iv_nat t.val (by omega)) (by omega)
  refine (bit_ne _).trans ?_
  refine (slt_nat (by rw [h1]; omega) (by omega)).trans ?_
  rw [h1, hv]

theorem cond3_iff (hv : v1_0.toNat = n) (hn : n < 64) {u : BitVec 32} (hu : u.toNat ≤ 64) : k0_cond3 v1_0 u = 1#1 ↔ u.toNat < n := by
  refine (bit_ne _).trans ?_
  refine (slt_nat (by omega) (by omega)).trans ?_
  rw [hv]

theorem cond2_iff {x : BitVec 32} : k0_cond2 x = 1#1 ↔ x.toNat = 1 := by
  refine (bit_ne _).trans ?_
  show IntOp.cmpi .eq x 1#32 = 1#1 ↔ _
  have e1 := word_id x
  have hx := x.isLt
  generalize x.toNat = a at *
  subst e1
  show IntOp.cmpi .eq (BitVec.ofNat 32 a) (BitVec.ofNat 32 1) = 1#1 ↔ _
  rw [WordCmp.cmpi_eq_ofNat (w := 32) hx (by decide : (1 : ℕ) < 2 ^ 32)]
  exact WordCmp.ofBool_decide_eq_one_iff _

theorem cond4_iff (hv : v1_0.toNat = n) (hn : n < 64) (t : Fin (k0_t4_loop v1_0).trips) : k0_cond4 v1_0 t = 1#1 ↔ 0 < t.val := by
  have ht : t.val < n := lt_of_lt_of_eq t.isLt (t4_trips hv hn)
  have h1 := iv_nat t.val (by omega)
  refine (bit_ne _).trans ?_
  show Scalar.cmpi .slt 0#32 (Scf.iv 0#32 1#32 t.val) = 1#1 ↔ _
  refine (slt_nat (by decide) (by rw [h1]; omega)).trans ?_
  rw [h1]; exact Iff.rfl

theorem off7_eq (t : Fin (k0_t4_loop v1_0).trips) (h : t.val < 63) : k0_off7 v1_0 t = ![t.val + 1] := by
  show ![(Scalar.addi (Scf.iv 0#32 1#32 t.val) 1#32).toNat] = _
  rw [add_one (iv_nat _ (by omega)) (by omega)]
theorem off8_eq (t : Fin (k0_t4_loop v1_0).trips) (h : t.val < 63) : k0_off8 v1_0 t = ![(t.val + 1) % 2] := by
  show ![(Scalar.andi (Scalar.addi (Scf.iv 0#32 1#32 t.val) 1#32) 1#32).toNat] = _
  rw [slot_next (by omega)]
theorem off9_eq (t : Fin (k0_t4_loop v1_0).trips) (h : t.val < 63) : k0_off9 v1_0 t = ![(t.val + 1) % 2, 0, 0] := by
  show ![(Scalar.andi (Scalar.addi (Scf.iv 0#32 1#32 t.val) 1#32) 1#32).toNat, 0, 0] = _
  rw [slot_next (by omega)]
theorem off11_eq (t : Fin (k0_t4_loop v1_0).trips) (h : t.val < 64) : k0_off11 v1_0 t = ![t.val] := by
  show ![(Scf.iv 0#32 1#32 t.val).toNat] = _
  rw [iv_nat _ h]
theorem off12_eq (t : Fin (k0_t4_loop v1_0).trips) (h : t.val < 64) : k0_off12 v1_0 t = ![t.val] := by
  show ![(Scf.iv 0#32 1#32 t.val).toNat] = _
  rw [iv_nat _ h]
theorem off21_eq (t : Fin (k0_t4_loop v1_0).trips) (h : t.val < 64) : k0_off21 v1_0 t = ![t.val] := by
  show ![(Scf.iv 0#32 1#32 t.val).toNat] = _
  rw [iv_nat _ h]
theorem off25_eq (t : Fin (k0_t4_loop v1_0).trips) (h : t.val < 64) : k0_off25 v1_0 t = ![t.val] := by
  show ![(Scf.iv 0#32 1#32 t.val).toNat] = _
  rw [iv_nat _ h]
theorem off51_eq (t : Fin (k0_t4_loop v1_0).trips) (h : t.val < 64) : k0_off51 v1_0 t = ![t.val] := by
  show ![(Scf.iv 0#32 1#32 t.val).toNat] = _
  rw [iv_nat _ h]
theorem off65_eq (t : Fin (k0_t4_loop v1_0).trips) (h : t.val < 64) : k0_off65 v1_0 t = ![t.val] := by
  show ![(Scf.iv 0#32 1#32 t.val).toNat] = _
  rw [iv_nat _ h]
theorem off22_eq (t : Fin (k0_t4_loop v1_0).trips) (h : t.val < 64) : k0_off22 v1_0 t = ![t.val % 2] := by
  show ![(Scalar.andi (Scf.iv 0#32 1#32 t.val) 1#32).toNat] = _
  rw [slot_cur h]
theorem off23_eq (t : Fin (k0_t4_loop v1_0).trips) (h : t.val < 64) : k0_off23 v1_0 t = ![t.val % 2, 0, 0] := by
  show ![(Scalar.andi (Scf.iv 0#32 1#32 t.val) 1#32).toNat, 0, 0] = _
  rw [slot_cur h]
theorem off50_eq (t : Fin (k0_t4_loop v1_0).trips) (h : t.val < 64) : k0_off50 v1_0 t = ![t.val % 2, 0, 0] := by
  show ![(Scalar.andi (Scf.iv 0#32 1#32 t.val) 1#32).toNat, 0, 0] = _
  rw [slot_cur h]
theorem off52_eq (t : Fin (k0_t4_loop v1_0).trips) (h : t.val < 64) : k0_off52 v1_0 t = ![t.val % 2, 0, 0] := by
  show ![(Scalar.andi (Scf.iv 0#32 1#32 t.val) 1#32).toNat, 0, 0] = _
  rw [slot_cur h]
theorem off54_eq (t : Fin (k0_t4_loop v1_0).trips) (h : t.val < 64) (h0 : 0 < t.val) : k0_off54 v1_0 t = ![t.val - 1] := by
  show ![(Scalar.subi (Scf.iv 0#32 1#32 t.val) 1#32).toNat] = _
  rw [sub_one (iv_nat _ h) h0]
theorem off145_eq (hv : v1_0.toNat = n) (h0 : 0 < n) : k0_off145 v1_0 = ![n - 1] := by
  show ![(Scalar.subi v1_0 1#32).toNat] = _
  rw [sub_one hv h0]

theorem slot_ok3072 {x : ℕ} (h : x < 2) (a : Fin 3) : (![x, 0, 0] : Fin 3 → ℕ) a + S1x256x3072.size a ≤ S2x256x3072.size a := by
  fin_cases a
  · show x + 1 ≤ 2; omega
  · show 0 + 256 ≤ 256; omega
  · show 0 + 3072 ≤ 3072; omega
theorem slot_ok1536 {x : ℕ} (h : x < 2) (a : Fin 3) : (![x, 0, 0] : Fin 3 → ℕ) a + S1x256x1536.size a ≤ S2x256x1536.size a := by
  fin_cases a
  · show x + 1 ≤ 2; omega
  · show 0 + 256 ≤ 256; omega
  · show 0 + 1536 ≤ 1536; omega
theorem lead_ok1536 {x : ℕ} (h : x < 2) (a : Fin 3) : (![x, 0, 0] : Fin 3 → ℕ) a + S1x16x1536.size a ≤ S2x256x1536.size a := by
  fin_cases a
  · show x + 1 ≤ 2; omega
  · show 0 + 16 ≤ 256; omega
  · show 0 + 1536 ≤ 1536; omega

theorem two_ok {x : ℕ} (h : x < 2) (a : Fin 1) : (![x] : Fin 1 → ℕ) a + S1.size a ≤ S2.size a := by
  fin_cases a; show x + 1 ≤ 2; omega
theorem t4_ok (hv : v1_0.toNat = n) (hn : n < 64) : (k0_t4_loop v1_0).OK := by
  rw [t4_loop_eq]
  show Scf.OK 0#32 v1_0 1#32
  refine ⟨by decide, ?_⟩
  rw [trips_one hv (by omega)]
  have h0 : (0#32 : BitVec 32).toInt = 0 := by decide
  have h1 : (1#32 : BitVec 32).toInt = 1 := by decide
  rw [h0, h1]; norm_num; omega
theorem t6_ok (hv : v1_0.toNat = n) (hn : n < 64) : (k0_t6_loop v1_0).OK := by
  have ht := t6_trips (v1_0 := v1_0)
  rw [t6_loop_eq] at ht ⊢
  show Scf.OK v1_0 v1_0 1#32
  refine ⟨by decide, ?_⟩
  have ht' : Scf.trips v1_0 v1_0 1#32 = 0 := ht
  rw [ht']
  have h1 : (1#32 : BitVec 32).toInt = 1 := by decide
  have e := BitVec.toInt_eq_toNat_cond v1_0
  rw [if_pos (by omega)] at e
  rw [e, h1]; norm_num; omega

theorem chk6_ok (hv : v1_0.toNat = n) (hn : n < 64) (h0 : 0 < n) : k0_chk6 v1_0 := by
  have hT := t4_trips hv hn
  have tl : ∀ t : Fin (k0_t4_loop v1_0).trips, t.val < n := fun t => lt_of_lt_of_eq t.isLt hT
  have tn : ∀ t : Fin (k0_t4_loop v1_0).trips, k0_cond1 v1_0 t = 1#1 → t.val < 63 := fun t h => by
    have := (cond1_iff hv hn t).mp h; omega
  have no6 : ∀ t : Fin (k0_t6_loop v1_0).trips, False := fun t => Nat.not_lt_zero _ (lt_of_lt_of_eq t.isLt t6_trips)
  exact ⟨⟨t4_ok hv hn,
    fun t hc => by have := tn t hc; rw [off7_eq t this]; exact cell_ok (by omega),
    fun t hc => by have := tn t hc; rw [off8_eq t this]; exact two_ok (by omega),
    fun t hc => by have := tn t hc; rw [off9_eq t this]; exact slot_ok3072 (by omega),
    fun t hc hinb => (Rect.packedRows_of_rowAxis _ 2 (by decide) (by show 2 ∣ k0_off9 v1_0 t 1; rw [off9_eq t (tn t hc)]; exact ⟨0, rfl⟩) (by show 2 ∣ 256; decide) rfl).wholeWords,
    fun t => by have := tl t; rw [off11_eq t (by omega)]; exact cell_ok (by omega),
    fun t => by have := tl t; rw [off21_eq t (by omega)]; exact cell_ok (by omega),
    fun t => by have := tl t; rw [off22_eq t (by omega)]; exact two_ok (by omega),
    fun t => by have := tl t; rw [off23_eq t (by omega)]; exact slot_ok3072 (by omega),
    fun t hinb => (Rect.packedRows_of_rowAxis _ 2 (by decide) (by have := tl t; show 2 ∣ k0_off23 v1_0 t 1; rw [off23_eq t (by omega)]; exact ⟨0, rfl⟩) (by show 2 ∣ 256; decide) rfl).wholeWords,
    fun t => by have := tl t; rw [off25_eq t (by omega)]; exact cell_ok (by omega),
    fun t => by have := tl t; rw [off50_eq t (by omega)]; exact slot_ok1536 (by omega),
    fun t hinb => (Rect.packedRows_of_rowAxis _ 2 (by decide) (by have := tl t; show 2 ∣ k0_off50 v1_0 t 1; rw [off50_eq t (by omega)]; exact ⟨0, rfl⟩) (by show 2 ∣ 256; decide) rfl),
    fun t => by have := tl t; rw [off51_eq t (by omega)]; exact cell_ok (by omega),
    fun t => by have := tl t; rw [off52_eq t (by omega)]; exact lead_ok1536 (by omega),
    fun t hinb => (Rect.packedRows_of_rowAxis _ 2 (by decide) (by have := tl t; show 2 ∣ k0_off52 v1_0 t 1; rw [off52_eq t (by omega)]; exact ⟨0, rfl⟩) (by show 2 ∣ 16; decide) rfl),
    fun t hc => by have := tl t; rw [off54_eq t (by omega) ((cond4_iff hv hn t).mp hc)]; exact cell_ok (by omega),
    fun t => by have := tl t; rw [off65_eq t (by omega)]; exact cell_ok (by omega),
    t6_ok hv hn,
    fun t => (no6 t).elim,
    fun t => (no6 t).elim,
    fun t => (no6 t).elim,
    fun t => (no6 t).elim,
    fun t => (no6 t).elim,
    fun t => (no6 t).elim,
    fun t => (no6 t).elim,
    fun t => (no6 t).elim,
    fun t => (no6 t).elim,
    fun t => (no6 t).elim,
    fun t => (no6 t).elim,
    fun t => (no6 t).elim,
    fun t => (no6 t).elim⟩,
   ⟨fun t => (no6 t).elim,
    fun t => (no6 t).elim,
    fun t => (no6 t).elim,
    fun t => (no6 t).elim,
    by rw [off145_eq hv h0]; exact cell_ok (by omega)⟩⟩
end

end Cert.Kernel.Hand
-- ==== Proof.K.PlanW.lean ====
/-
  The plan of the tiles: what its tables say, and the words they are made of.
-/
module

public import proofs.«01_k».proof.Proof.K.Words

@[expose] public section

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-! ### The planned tiles -/

/-- The rows before expert `e`. -/
def pre (g : S8.Idx → BitVec 32) : ℕ → ℕ
  | 0 => 0
  | e + 1 => pre g e + (rd8 g e).toNat

/-- The rows done once `n` tiles are. -/
def endAt (f14 : S64.Idx → BitVec 32) : ℕ → ℕ
  | 0 => 0
  | n + 1 => (rd f14 n).toNat

/-- What the tables say of tile `t`. -/
structure Tile (g : S8.Idx → BitVec 32) (f13 f14 f15 f16 f17 : S64.Idx → BitVec 32) (t : ℕ) : Prop where
  tw : Tw (rd f13 t) (rd f14 t) (rd f13 t).toNat (rd f14 t).toNat
  lead : (rd f15 t).toNat < 16
  start : (rd f13 t).toNat + (rd f15 t).toNat = endAt f14 t
  after : endAt f14 t < (rd f14 t).toNat
  exp : (rd f16 t).toNat < 8
  own1 : pre g (rd f16 t).toNat ≤ endAt f14 t
  own2 : (rd f14 t).toNat ≤ pre g ((rd f16 t).toNat + 1)
  first : (rd f17 t).toNat = 1 ∨ ((rd f17 t).toNat = 0 ∧ 0 < t ∧ rd f16 t = rd f16 (t - 1))

/-- The first `n` tiles are planned. -/
def Plan (g : S8.Idx → BitVec 32) (f13 f14 f15 f16 f17 : S64.Idx → BitVec 32) (n : ℕ) : Prop :=
  ∀ t < n, Tile g f13 f14 f15 f16 f17 t

variable {g : S8.Idx → BitVec 32} {f13 f14 f15 f16 f17 : S64.Idx → BitVec 32}

theorem endAt_upd {n t : ℕ} (v : BitVec 32) (hn : n < 64) (ht : t ≤ n) : endAt (upd f14 n v) t = endAt f14 t := by
  cases t with
  | zero => rfl
  | succ t => show (rd (upd f14 n v) t).toNat = _; rw [rd_upd_ne _ _ _ _ (by omega) (by omega)]; rfl

theorem Plan_step {n : ℕ} {v13 v14 v15 v16 v17 : BitVec 32} (hn : n < 64) (h : Plan g f13 f14 f15 f16 f17 n)
    (htw : Tw v13 v14 v13.toNat v14.toNat) (hl : v15.toNat < 16) (hs : v13.toNat + v15.toNat = endAt f14 n)
    (ha : endAt f14 n < v14.toNat) (hx : v16.toNat < 8) (ho1 : pre g v16.toNat ≤ endAt f14 n) (ho2 : v14.toNat ≤ pre g (v16.toNat + 1))
    (hf : v17.toNat = 1 ∨ (v17.toNat = 0 ∧ 0 < n ∧ v16 = rd f16 (n - 1))) :
    Plan g (upd f13 n v13) (upd f14 n v14) (upd f15 n v15) (upd f16 n v16) (upd f17 n v17) (n + 1) := by
  intro t ht
  by_cases e : t = n
  · subst e
    refine ⟨?_, ?_, ?_, ?_, ?_, ?_, ?_, ?_⟩ <;> simp only [rd_upd_same _ _ _ hn, endAt_upd _ hn le_rfl]
    · exact htw
    · exact hl
    · exact hs
    · exact ha
    · exact hx
    · exact ho1
    · exact ho2
    · rcases hf with hf | ⟨h1, h2, h3⟩
      · exact .inl hf
      · refine .inr ⟨h1, h2, ?_⟩
        rw [rd_upd_ne _ _ _ _ (by omega) (by omega)]; exact h3
  · have h' := h t (by omega)
    have e1 := endAt_upd (f14 := f14) (n := n) (t := t) v14 hn (by omega)
    refine ⟨?_, ?_, ?_, ?_, ?_, ?_, ?_, ?_⟩ <;> simp only [rd_upd_ne _ _ t _ (by omega : t < 64) e, e1]
    · exact h'.tw
    · exact h'.lead
    · exact h'.start
    · exact h'.after
    · exact h'.exp
    · exact h'.own1
    · exact h'.own2
    · rw [rd_upd_ne _ _ (t - 1) _ (by omega) (by omega)]; exact h'.first

/-! ### The words of the plan -/

theorem div256 {x : BitVec 32} {d : ℕ} (hx : x.toNat = d) (h : d < 2 ^ 31) : (Scalar.divsi x 256#32).toNat = d / 256 := by
  have hm : x.msb = false := by rw [BitVec.msb_eq_false_iff_two_mul_lt]; omega
  have hc : (256#32 : BitVec 32).msb = false := by decide
  unfold Scalar.divsi IntOp.divsi
  rw [if_neg (by simp [IntOp.SDivCorner]), BitVec.sdiv_eq, hm, hc]
  show (x / 256#32).toNat = _
  rw [BitVec.toNat_udiv, hx]; rfl

theorem div1 (x : BitVec 32) : Scalar.divsi x 1#32 = x := WordArith.divsi_one _ x

theorem add_nat {x y : BitVec 32} {a b : ℕ} (hx : x.toNat = a) (hy : y.toNat = b) (h : a + b < 2 ^ 32) : (Scalar.addi x y).toNat = a + b := by
  show (x + y).toNat = _
  rw [BitVec.toNat_add, hx, hy]; exact Nat.mod_eq_of_lt h

theorem sub_nat {x y : BitVec 32} {a b : ℕ} (hx : x.toNat = a) (hy : y.toNat = b) (h : b ≤ a) : (Scalar.subi x y).toNat = a - b := by
  have := x.isLt; have := y.isLt
  show (x - y).toNat = _
  rw [BitVec.toNat_sub, hx, hy]; omega

theorem mul_256 {k : ℕ} (hk : k < 64) : (Scalar.muli (Scf.iv 0#32 1#32 k) 256#32).toNat = 256 * k := by
  show (Scf.iv 0#32 1#32 k * 256#32).toNat = _
  rw [BitVec.toNat_mul, iv_nat k hk]
  show k * 256 % 2 ^ 32 = _
  omega

theorem mask_nat {x : BitVec 32} {a : ℕ} (hx : x.toNat = a) : (Scalar.andi x 4294967280#32).toNat = a / 16 * 16 := by
  rw [← hx]; exact WordArith.toNat_andi_mask16 x

theorem sgt_nat {x y : BitVec 32} (hx : x.toNat < 2 ^ 31) (hy : y.toNat < 2 ^ 31) : Scalar.cmpi .sgt x y = 1#1 ↔ y.toNat < x.toNat := by
  have e1 := word_id x
  have e2 := word_id y
  generalize x.toNat = a at *
  generalize y.toNat = b at *
  subst e1 e2
  show IntOp.cmpi .sgt (BitVec.ofNat 32 a) (BitVec.ofNat 32 b) = 1#1 ↔ _
  rw [WordCmp.cmpi_sgt_ofNat (w := 32) hx hy]
  exact WordCmp.ofBool_decide_eq_one_iff _

theorem eq_zero {k : ℕ} (hk : k < 64) : Scalar.cmpi .eq (Scf.iv 0#32 1#32 k) 0#32 = (if k = 0 then 1#1 else 0#1) := by
  revert hk; revert k; decide

/-- The tiles of an expert whose rows are `A` to `A + B`. -/
def nJ (A B : ℕ) : ℕ := if 0 < B then (A + B - A / 16 * 16 + 255) / 256 else 0

variable {a b : BitVec 32} {A B : ℕ}

theorem word86 (ha : a.toNat = A) (hb : b.toNat = B) (h : A + B ≤ 12288) :
    (Scalar.addi 0#32 (Scalar.muli (Scalar.divsi (Scalar.subi (Scalar.select (Scalar.cmpi .sgt (Scalar.addi a b) a)
      (Scalar.divsi (Scalar.subi (Scalar.addi (Scalar.subi (Scalar.addi a b) (Scalar.andi a 4294967280#32)) 256#32) 1#32) 256#32) 0#32) 0#32) 1#32) 1#32)).toNat
      = nJ A B := by
  have e1 : (Scalar.addi a b).toNat = A + B := add_nat ha hb (by omega)
  have e2 := mask_nat ha
  have e3 := sub_nat e1 e2 (by omega)
  have e4 : (Scalar.addi (Scalar.subi (Scalar.addi a b) (Scalar.andi a 4294967280#32)) 256#32).toNat = A + B - A / 16 * 16 + 256 := add_nat e3 rfl (by omega)
  have e5 := div256 (sub_one e4 (by omega)) (by omega)
  have e6 := sgt_nat (x := Scalar.addi a b) (y := a) (by omega) (by omega)
  rw [e1, ha] at e6
  have e7 : ∀ x : BitVec 32, Scalar.addi 0#32 (Scalar.muli (Scalar.divsi (Scalar.subi x 0#32) 1#32) 1#32) = x := by
    intro x
    rw [div1]
    show 0#32 + (x - 0#32) * 1#32 = x
    simp
  rw [e7]
  unfold nJ
  by_cases hB : 0 < B
  · have : Scalar.cmpi .sgt (Scalar.addi a b) a = 1#1 := e6.2 (by omega)
    rw [this, if_pos hB]
    refine Eq.trans ?_ (e5.trans (by omega))
    rfl
  · have : Scalar.cmpi .sgt (Scalar.addi a b) a ≠ 1#1 := fun hh => by have := e6.1 hh; omega
    rw [if_neg hB]
    have h0 : Scalar.cmpi .sgt (Scalar.addi a b) a = 0#1 := by
      generalize Scalar.cmpi .sgt (Scalar.addi a b) a = z at *
      revert this; clear e6; revert z; decide
    rw [h0]; rfl

theorem nJ_lt (h : A + B ≤ 12288) : nJ A B < 2 ^ 31 := by unfold nJ; split <;> omega

theorem t2_trips (ha : a.toNat = A) (hb : b.toNat = B) (h : A + B ≤ 12288) : (k0_t2_loop a b).trips = nJ A B :=
  trips_one (word86 ha hb h) (nJ_lt h)

theorem t3_trips (a b : BitVec 32) : (k0_t3_loop a b).trips = 0 := by
  have e : ∀ x : BitVec 32, Scf.trips (Scalar.addi 0#32 (Scalar.muli (Scalar.divsi x 1#32) 1#32)) (Scalar.addi 0#32 x) 1#32 = 0 := by
    intro x
    rw [div1]
    have e1 : Scalar.addi 0#32 (Scalar.muli x 1#32) = x := by show 0#32 + x * 1#32 = x; simp
    have e2 : Scalar.addi 0#32 x = x := by show 0#32 + x = x; simp
    rw [e1, e2]
    unfold Scf.trips
    have h1 : (1#32 : BitVec 32).toInt = 1 := by decide
    rw [h1]; omega
  exact e _

theorem t2_ok (ha : a.toNat = A) (hb : b.toNat = B) (h : A + B ≤ 12288) : (k0_t2_loop a b).OK := by
  have e := t2_trips ha hb h
  have e2 := nJ_lt h
  refine ⟨by show 0 < (1#32 : BitVec 32).toInt; decide, ?_⟩
  show (0#32 : BitVec 32).toInt + ((k0_t2_loop a b).trips : ℤ) * (1#32 : BitVec 32).toInt < _
  rw [e]
  have h0 : (0#32 : BitVec 32).toInt = 0 := by decide
  have h1 : (1#32 : BitVec 32).toInt = 1 := by decide
  rw [h0, h1]
  omega

theorem t3_ok (ha : a.toNat = A) (hb : b.toNat = B) (h : A + B ≤ 12288) : (k0_t3_loop a b).OK := by
  have e := t3_trips a b
  have e2 := nJ_lt h
  have e3 := word86 ha hb h
  refine ⟨by show 0 < (1#32 : BitVec 32).toInt; decide, ?_⟩
  show (k0_t3_loop a b).lb.toInt + ((k0_t3_loop a b).trips : ℤ) * (1#32 : BitVec 32).toInt < _
  rw [e]
  have e4 : (k0_t3_loop a b).lb.toNat = nJ A B := e3
  have e5 := BitVec.toInt_eq_toNat_cond (k0_t3_loop a b).lb
  rw [e4, if_pos (by omega)] at e5
  rw [e5]
  omega

theorem chk1_ok (ha : a.toNat = A) (hb : b.toNat = B) (h : A + B ≤ 12288) : k0_chk1 a b := ⟨t2_ok ha hb h, t3_ok ha hb h⟩

theorem off2_eq {x : BitVec 32} {n : ℕ} (hx : x.toNat = n) : k0_off2 x = ![n] := by subst hx; rfl

theorem chk2_ok {x : BitVec 32} (h : x.toNat < 64) : k0_chk2 x := fun k => cell_ok h k

/-! ### One planned tile -/

theorem plan_tile {n j : ℕ} {ew : BitVec 32} (hn : n < 64) (h : Plan g f13 f14 f15 f16 f17 n)
    (ha : a.toNat = A) (hb : b.toNat = B) (htop : A + B ≤ 12288) (hj : j < nJ A B) (hj64 : j < 64)
    (hA : A = pre g ew.toNat) (hB : A + B = pre g (ew.toNat + 1)) (hew : ew.toNat < 8)
    (hend : endAt f14 n = if j = 0 then A else min (A + B) (A / 16 * 16 + 256 * j)) (hprev : 0 < j → 0 < n ∧ rd f16 (n - 1) = ew) :
    Plan g
      (upd f13 n (Scalar.addi (Scalar.andi a 4294967280#32) (Scalar.muli (Scf.iv 0#32 1#32 j) 256#32)))
      (upd f14 n (Scalar.minsi (Scalar.addi a b) (Scalar.addi (Scalar.addi (Scalar.andi a 4294967280#32) (Scalar.muli (Scf.iv 0#32 1#32 j) 256#32)) 256#32)))
      (upd f15 n (Scalar.select (Scalar.cmpi .eq (Scf.iv 0#32 1#32 j) 0#32) (Scalar.subi a (Scalar.andi a 4294967280#32)) 0#32))
      (upd f16 n ew)
      (upd f17 n (Scalar.extui (Scalar.cmpi .eq (Scf.iv 0#32 1#32 j) 0#32))) (n + 1)
    ∧ endAt (upd f14 n (Scalar.minsi (Scalar.addi a b) (Scalar.addi (Scalar.addi (Scalar.andi a 4294967280#32) (Scalar.muli (Scf.iv 0#32 1#32 j) 256#32)) 256#32))) (n + 1)
      = min (A + B) (A / 16 * 16 + 256 * (j + 1)) := by
  have e1 : (Scalar.addi a b).toNat = A + B := add_nat ha hb (by omega)
  have e2 := mask_nat ha
  have hJ : 0 < B ∧ 256 * j < A + B - A / 16 * 16 := by
    unfold nJ at hj
    split at hj
    · refine ⟨by assumption, by omega⟩
    · omega
  obtain ⟨hJ1, hJ2⟩ := hJ
  have em := mul_256 hj64
  have e3 : (Scalar.addi (Scalar.andi a 4294967280#32) (Scalar.muli (Scf.iv 0#32 1#32 j) 256#32)).toNat = A / 16 * 16 + 256 * j := by
    refine add_nat e2 em ?_
    omega
  have e4 : (Scalar.addi (Scalar.addi (Scalar.andi a 4294967280#32) (Scalar.muli (Scf.iv 0#32 1#32 j) 256#32)) 256#32).toNat = A / 16 * 16 + 256 * j + 256 := by
    refine add_nat e3 rfl ?_
    omega
  have e5 := min_nat (Scalar.addi a b) _ (by omega) (by rw [e4]; omega)
  rw [e1, e4] at e5
  have e6 := sub_nat ha e2 (by omega)
  have e7 := eq_zero hj64
  generalize Scalar.addi (Scalar.andi a 4294967280#32) (Scalar.muli (Scf.iv 0#32 1#32 j) 256#32) = r at *
  generalize Scalar.minsi (Scalar.addi a b) (Scalar.addi r 256#32) = e at *
  rw [e7]
  constructor
  · refine Plan_step hn h ⟨rfl, rfl, ?_, ?_, ?_, ?_⟩ ?_ ?_ ?_ hew ?_ ?_ ?_
    · omega
    · omega
    · omega
    · rw [e3]; omega
    · by_cases h0 : j = 0
      · rw [if_pos h0]; show (Scalar.subi a (Scalar.andi a 4294967280#32)).toNat < 16; omega
      · rw [if_neg h0]; show (0#32 : BitVec 32).toNat < 16; decide
    · rw [hend]
      by_cases h0 : j = 0
      · rw [if_pos h0, if_pos h0]; show r.toNat + (Scalar.subi a (Scalar.andi a 4294967280#32)).toNat = A; omega
      · rw [if_neg h0, if_neg h0]; show r.toNat + 0 = _; omega
    · rw [hend]; split <;> omega
    · rw [hend]; split <;> omega
    · omega
    · by_cases h0 : j = 0
      · rw [if_pos h0]; exact .inl rfl
      · rw [if_neg h0]; exact .inr ⟨rfl, (hprev (by omega)).1, ((hprev (by omega)).2).symm⟩
  · show (rd (upd f14 n e) n).toNat = _
    rw [rd_upd_same _ _ _ hn, e5]; omega

end Cert.Kernel.Hand
-- ==== Proof.K.Plan.lean ====
/-
  The planning loops: the tables they fill.
-/
module

public import proofs.«01_k».proof.Proof.K.PlanW

@[expose] public section

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

variable {c : Dev nD}

/-! ### Counted loops -/

theorem ret_rule {α : Type} {a : α} {Q : α → PP F} : Q a ⊢ Wp c (pure a) Q := fupd_intro

theorem for_rule {α σ : Type} {Q : α → PP F} (l : Scf.Loop 32) (hok : l.OK) (init : σ) (body : Fin l.trips → σ → PG F σ)
    (I : ℕ → σ → PP F) (hbody : ∀ (k : Fin l.trips) (acc : σ), I k acc ⊢ Wp c (body k acc) (I (k.val + 1))) {K : σ → PG F α} :
    I 0 init ⊢ iprop((∀ acc, I l.trips acc -∗ Wp c (K acc) Q) -∗ Wp c (Scf.Loop.for l hok init body >>= K) Q) :=
  Scf.wp_for_bind _ _ _ l.lb l.ub l.st hok init body I hbody

theorem for0_rule {α σ : Type} {Q : α → PP F} (l : Scf.Loop 32) (hok : l.OK) (init : σ) (body : Fin l.trips → σ → PG F σ)
    (h0 : l.trips = 0) {K : σ → PG F α} : Wp c (K init) Q ⊢ Wp c (Scf.Loop.for l hok init body >>= K) Q :=
  Scf.wp_for0_bind' _ _ _ l.lb l.ub l.st hok init body h0 K Q _ Entails.rfl

/-! ### The tables -/

/-- The five tables, holding words `φ` is true of. -/
def Tabs (c : Dev nD) (φ : (S64.Idx → BitVec 32) → (S64.Idx → BitVec 32) → (S64.Idx → BitVec 32) → (S64.Idx → BitVec 32) → (S64.Idx → BitVec 32) → Prop) : PP F :=
  iprop(∃ (f13 f14 f15 f16 f17 : S64.Idx → BitVec 32), ⌜φ f13 f14 f15 f16 f17⌝ ∗ own (F := F) c cc0_scratch8 f13 ∗ own (F := F) c cc0_scratch9 f14
    ∗ own (F := F) c cc0_scratch10 f15 ∗ own (F := F) c cc0_scratch11 f16 ∗ own (F := F) c cc0_scratch12 f17)

variable {g : S8.Idx → BitVec 32}

theorem pre_mono {d e : ℕ} (h : d ≤ e) : pre g d ≤ pre g e := monotone_nat_of_le_succ (fun n => Nat.le_add_right _ _) h

/-- What holds within one expert: `n0` tiles before it, `j` tiles of it. -/
def In2 (g : S8.Idx → BitVec 32) (A B n0 : ℕ) (ew : BitVec 32) (j : ℕ) (acc : BitVec 32) (f13 f14 f15 f16 f17 : S64.Idx → BitVec 32) : Prop :=
  acc.toNat = n0 + j ∧ Plan g f13 f14 f15 f16 f17 (n0 + j) ∧ (endAt f14 (n0 + j) = if j = 0 then A else min (A + B) (A / 16 * 16 + 256 * j))
    ∧ (0 < j → 0 < n0 + j ∧ rd f16 (n0 + j - 1) = ew)

set_option maxHeartbeats 4000000 in
theorem t2_step {a b ew : BitVec 32} {A B n0 : ℕ} (hw1 : k0_chk1 a b)
    (ha : a.toNat = A) (hb : b.toNat = B) (htop : A + B ≤ 12288) (hn : n0 + nJ A B ≤ 63)
    (hA : A = pre g ew.toNat) (hB : A + B = pre g (ew.toNat + 1)) (hew : ew.toNat < 8)
    (k : Fin (k0_t2_loop a b).trips) (acc : BitVec 32) :
    (Tabs c (In2 g A B n0 ew k.val acc) : PP F) ⊢ Wp c (k0_t2_body (F := F) m0 h0 m1 h1 m2 h2 m3 h3 m4 h4 m5 h5 m6 h6 m7 h7 m8 h8 m9 h9 m10 h10 m11 h11 m12 h12 m13 h13 m14 h14 m15 h15 m16 h16 m17 h17 s18 s19 s20 s21 a ew b hw1 (Scalar.addi a b) (Scalar.andi a 4294967280#32) k acc)
      (fun acc' => Tabs c (In2 g A B n0 ew (k.val + 1) acc')) := by
  have hk : k.val < nJ A B := Nat.lt_of_lt_of_eq k.isLt (t2_trips ha hb htop)
  unfold Tabs
  iintro ⟨%f13, %f14, %f15, %f16, %f17, %hφ, H13, H14, H15, H16, H17⟩
  obtain ⟨hacc, hpl, hend, hprev⟩ := hφ
  have hn64 : n0 + k.val < 64 := by omega
  have hoff := off2_eq hacc
  have hst := plan_tile hn64 hpl ha hb htop hk (by omega) hA hB hew hend hprev
  unfold k0_t2_body
  iapply (as_rule (chk2_ok (by omega : acc.toNat < 64)))
  iapply (ld13 (n0 + k.val) hoff) $$ H13; iintro H13
  iapply (st13 (n0 + k.val) hoff rfl) $$ H13; iintro H13
  iapply (ld14 (n0 + k.val) hoff) $$ H14; iintro H14
  iapply (st14 (n0 + k.val) hoff rfl) $$ H14; iintro H14
  iapply (ld15 (n0 + k.val) hoff) $$ H15; iintro H15
  iapply (st15 (n0 + k.val) hoff rfl) $$ H15; iintro H15
  iapply (ld16 (n0 + k.val) hoff) $$ H16; iintro H16
  iapply (st16 (n0 + k.val) hoff rfl) $$ H16; iintro H16
  iapply (ld17 (n0 + k.val) hoff) $$ H17; iintro H17
  iapply (st17 (n0 + k.val) hoff rfl) $$ H17; iintro H17
  iapply ret_rule
  iexists _; iexists _; iexists _; iexists _; iexists _
  isplitr
  · ipureintro
    refine ⟨?_, hst.1, ?_, fun _ => ⟨?_, ?_⟩⟩
    · exact add_one (n := n0 + k.val) hacc (show n0 + k.val < 2 ^ 31 by omega)
    · rw [if_neg (by omega)]; exact hst.2
    · omega
    · exact rd_upd_same _ _ _ hn64
  isplitl [H13]; · iexact H13
  isplitl [H14]; · iexact H14
  isplitl [H15]; · iexact H15
  isplitl [H16]; · iexact H16
  iexact H17

/-- What holds after `k` experts. -/
def In1 (g : S8.Idx → BitVec 32) (k : ℕ) (acc : BitVec 32 × BitVec 32) (f13 f14 f15 f16 f17 : S64.Idx → BitVec 32) : Prop :=
  Plan g f13 f14 f15 f16 f17 acc.1.toNat ∧ endAt f14 acc.1.toNat = pre g k ∧ acc.2.toNat = pre g k ∧ 256 * acc.1.toNat ≤ pre g k + 270 * k

set_option maxHeartbeats 4000000 in
theorem t1_step (hG : pre g 8 = 12288) (k : Fin k0_t1_loop.trips) (acc : BitVec 32 × BitVec 32) :
    (iprop(own (F := F) c cc0_stg0_0 g ∗ Tabs c (In1 g k.val acc)) : PP F) ⊢ Wp c (k0_t1_body (F := F) m0 h0 m1 h1 m2 h2 m3 h3 m4 h4 m5 h5 m6 h6 m7 h7 m8 h8 m9 h9 m10 h10 m11 h11 m12 h12 m13 h13 m14 h14 m15 h15 m16 h16 m17 h17 s18 s19 s20 s21 k acc)
      (fun acc' => iprop(own (F := F) c cc0_stg0_0 g ∗ Tabs c (In1 g (k.val + 1) acc'))) := by
  have hk : k.val < 8 := by have := k.isLt; have e : k0_t1_loop.trips = 8 := trips_one rfl (by decide); omega
  have hew : (Scf.iv 0#32 1#32 k.val).toNat = k.val := iv_nat k.val (by omega)
  obtain ⟨n, a⟩ := acc
  unfold Tabs
  iintro ⟨Hg, %f13, %f14, %f15, %f16, %f17, %hφ, H13, H14, H15, H16, H17⟩
  obtain ⟨hpl, hend, ha, hcnt⟩ := hφ
  have h1 : pre g k.val + (rd8 g k.val).toNat ≤ 12288 := by rw [← hG]; exact pre_mono (e := 8) (d := k.val + 1) (by omega)
  have hB : pre g k.val + (rd8 g k.val).toNat = pre g (k.val + 1) := rfl
  have hJ : 256 * nJ (pre g k.val) (rd8 g k.val).toNat ≤ (rd8 g k.val).toNat + 270 := by unfold nJ; split <;> omega
  have hcnt' : 256 * n.toNat ≤ pre g k.val + 270 * k.val := hcnt
  have hn0 : n.toNat + nJ (pre g k.val) (rd8 g k.val).toNat ≤ 63 := by omega
  have ha' : a.toNat = pre g k.val := ha
  have hoff : k0_off1 k = ![k.val] := by
    unfold k0_off1; show ![(Scf.iv 0#32 1#32 k.val).toNat] = _; rw [hew]
  have htr := t2_trips ha' (rfl : (rd8 g k.val).toNat = _) h1
  unfold k0_t1_body
  iapply (ld0 k.val hoff) $$ Hg; iintro Hg
  iapply (as_rule (chk1_ok ha' rfl h1))
  iapply (for_rule _ _ n _ (fun j acc' => Tabs c (In2 g (pre g k.val) (rd8 g k.val).toNat n.toNat (Scf.iv 0#32 1#32 k.val) j acc'))
    (fun j acc' => t2_step (chk1_ok ha' rfl h1) ha' rfl h1 hn0 (by rw [hew]) (by rw [hew]; exact hB) (by omega) j acc')) $$ [H13 H14 H15 H16 H17]
  · unfold Tabs
    iexists _; iexists _; iexists _; iexists _; iexists _
    isplitr
    · ipureintro
      exact ⟨rfl, hpl, hend.trans (if_pos rfl).symm, fun h => absurd h (by omega)⟩
    isplitl [H13]; · iexact H13
    isplitl [H14]; · iexact H14
    isplitl [H15]; · iexact H15
    isplitl [H16]; · iexact H16
    iexact H17
  iintro %acc' HT
  iapply (for0_rule _ _ _ _ (t3_trips _ _))
  iapply ret_rule
  isplitl [Hg]; · iexact Hg
  rw [htr]
  unfold Tabs
  icases HT with ⟨%f13, %f14, %f15, %f16, %f17, %hφ, H13, H14, H15, H16, H17⟩
  obtain ⟨hacc, hpl', hend', -⟩ := hφ
  iexists _; iexists _; iexists _; iexists _; iexists _
  isplitr
  · ipureintro
    refine ⟨?_, ?_, ?_, ?_⟩
    · show Plan g _ _ _ _ _ acc'.toNat; rw [hacc]; exact hpl'
    · show endAt _ acc'.toNat = _
      rw [hacc, hend', ← hB]
      unfold nJ
      split <;> (split <;> omega)
    · exact (add_nat ha' rfl (by omega)).trans hB
    · show 256 * acc'.toNat ≤ _
      rw [hacc, ← hB]; omega
  isplitl [H13]; · iexact H13
  isplitl [H14]; · iexact H14
  isplitl [H15]; · iexact H15
  isplitl [H16]; · iexact H16
  iexact H17

/-- What the finished plan says. -/
def Done (g : S8.Idx → BitVec 32) (n : ℕ) (f13 f14 f15 f16 f17 : S64.Idx → BitVec 32) : Prop :=
  Plan g f13 f14 f15 f16 f17 n ∧ endAt f14 n = 12288 ∧ 0 < n ∧ n ≤ 56

theorem plan_rule {α : Type} {Q : α → PP F} (hG : pre g 8 = 12288) {K : BitVec 32 × BitVec 32 → PG F α} :
    iprop(own (F := F) c cc0_stg0_0 g ∗ Tabs c (fun _ _ _ _ _ => True))
      ⊢ iprop((∀ v1 : BitVec 32 × BitVec 32, iprop(own (F := F) c cc0_stg0_0 g ∗ Tabs c (Done g v1.1.toNat)) -∗ Wp c (K v1) Q)
        -∗ Wp c (Scf.Loop.for k0_t1_loop k0_t1_ok (0#32, 0#32) (k0_t1_body (F := F) m0 h0 m1 h1 m2 h2 m3 h3 m4 h4 m5 h5 m6 h6 m7 h7 m8 h8 m9 h9 m10 h10 m11 h11 m12 h12 m13 h13 m14 h14 m15 h15 m16 h16 m17 h17 s18 s19 s20 s21) >>= K) Q) := by
  unfold Tabs
  iintro ⟨Hg, %f13, %f14, %f15, %f16, %f17, -, H13, H14, H15, H16, H17⟩ HK
  iapply (for_rule _ _ (0#32, 0#32) _ (fun k acc' => iprop(own (F := F) c cc0_stg0_0 g ∗ Tabs c (In1 g k acc'))) (fun k acc => t1_step hG k acc)) $$ [Hg H13 H14 H15 H16 H17]
  · isplitl [Hg]; · iexact Hg
    unfold Tabs
    iexists f13; iexists f14; iexists f15; iexists f16; iexists f17
    isplitr
    · ipureintro
      refine ⟨fun t ht => absurd ht (Nat.not_lt_zero _), rfl, rfl, Nat.le_refl _⟩
    isplitl [H13]; · iexact H13
    isplitl [H14]; · iexact H14
    isplitl [H15]; · iexact H15
    isplitl [H16]; · iexact H16
    iexact H17
  iintro %acc ⟨Hg, HT⟩
  iapply HK
  isplitl [Hg]; · iexact Hg
  have e : k0_t1_loop.trips = 8 := trips_one rfl (by decide)
  rw [e]
  unfold Tabs
  icases HT with ⟨%g13, %g14, %g15, %g16, %g17, %hφ, H13, H14, H15, H16, H17⟩
  obtain ⟨h1, h2, h3, h4⟩ := hφ
  iexists g13; iexists g14; iexists g15; iexists g16; iexists g17
  isplitr
  · ipureintro
    rw [hG] at h2 h4
    refine ⟨h1, h2, ?_, by omega⟩
    rcases Nat.eq_zero_or_pos acc.1.toNat with h0 | h0
    · rw [h0] at h2; exact absurd h2 (show ¬ (0 = 12288) by decide)
    · exact h0
  isplitl [H13]; · iexact H13
  isplitl [H14]; · iexact H14
  isplitl [H15]; · iexact H15
  isplitl [H16]; · iexact H16
  iexact H17

end Cert.Kernel.Hand
-- ==== Proof.K.While.lean ====
/-
  The search for the next expert's first tile.
-/
module

public import proofs.«01_k».proof.Proof.K.PlanW

@[expose] public section

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

variable {c : Dev nD} {α : Type}

theorem as_rule' {bd : Option ℕ} {P : Prop} {d : Decidable P} {K : PLift P → PG F α} {Q : α → PP F} (h : P) :
    wp frame (wpE (defs₀ (F := F)) Variants.nat (c : Thread nD τ) bd) Set.univ (K ⟨h⟩) Q
      ⊢ wp frame (wpE (defs₀ (F := F)) Variants.nat (c : Thread nD τ) bd) Set.univ (Prog.lift (.assume P d) >>= K) Q := by
  show _ ⊢ wp _ _ _ (.op (.assume P d) K) Q
  exact wp_assume _ _ _ _ h

theorem ld17' {bd : Option ℕ} {Q : α → PP F} {off : Fin 1 → ℕ} {inb} {hl hp} {f : S64.Idx → BitVec 32} {K : BitVec 32 → PG F α} (n : ℕ) (hoff : off = ![n]) :
    own (F := F) c cc0_scratch12 f ⊢ iprop((own (F := F) c cc0_scratch12 f -∗ wp frame (wpE (defs₀ (F := F)) Variants.nat (c : Thread nD τ) bd) Set.univ (K (rd f n)) Q)
      -∗ wp frame (wpE (defs₀ (F := F)) Variants.nat (c : Thread nD τ) bd) Set.univ (smemLoad m17 (Rect.unit (s := S64) off S1.size inb) hl hp >>= K) Q) := by
  subst hoff
  have hn : n < 64 := by have := inb 0; exact this
  have hv : ∀ x, (m17.access (Rect.unit (s := S64) ![n] S1.size inb)).read (Elt F) f x = rd f n := by
    intro x
    refine congrArg f (funext fun a => ?_)
    fin_cases a
    have hx0 : (x 0).val < 1 := (x 0).isLt
    refine Fin.ext ?_
    show n + 1 * (x 0).val = n % 64
    rw [Nat.mod_eq_of_lt hn]; omega
  have h := wp_smemLoadElt (defs := defs₀ (F := F)) Variants.nat (c : Thread nD τ) bd Set.univ (Q := Q) (m := m17) (k := K) (r := Rect.unit (s := S64) ![n] S1.size inb)
    (hw := View.loads_smem_one hp hl) (x := Shape.Idx.first (hl.symm ▸ Nat.one_pos)) (S := Finset.univ) (q := fullShare) (f := f) (Γ := ∅) (Finset.subset_univ _)
  rw [hv] at h
  exact h

theorem and_bits (a b : BitVec 1) : Scalar.andi a b = 1#1 ↔ a = 1#1 ∧ b = 1#1 := by revert a b; decide

theorem off17_eq {v u : BitVec 32} {n k : ℕ} (hv : v.toNat = n) (hn : n < 64) (h0 : 0 < n) (hu : u.toNat = k) (hk : k < 65) : k0_off17 v u = ![min k (n - 1)] := by
  unfold k0_off17
  show ![(Scalar.minsi u (Scalar.subi v 1#32)).toNat] = _
  have e := sub_one hv h0
  rw [min_nat _ _ (by omega) (by omega), e, hu]

variable {v1_0 : BitVec 32} {nt : ℕ} {f17 : S64.Idx → BitVec 32}

set_option maxHeartbeats 4000000 in
theorem while_ok (hv : v1_0.toNat = nt) (h0 : 0 < nt) (hn : nt ≤ 56)
    (hw6 : k0_chk6 v1_0) (v2 : BitVec 32) (hw4 : k0_chk4 v2) (v10 : BitVec 32) (hw5 : k0_chk5 v10) (t : Fin (k0_t4_loop v1_0).trips) (v78 : BitVec 32)
    (hw8 : k0_chk8 v1_0 t v78) (v3644 : BitVec 32) (hw9 : k0_chk9 v78 v3644) (hh2 : k0_cond2 v78 = 1#1) :
    ∀ (n : ℕ) (arg : BitVec 32) (u : ℕ), arg.toNat = u → u + n = nt → ∀ K : BitVec 32 → PP F,
      iprop(own (F := F) c cc0_scratch12 f17 ∗ (∀ w : BitVec 32, ⌜u ≤ w.toNat ∧ w.toNat ≤ nt ∧ (∀ s, u ≤ s → s < w.toNat → (rd f17 s).toNat ≠ 1) ∧ (w.toNat < nt → rd f17 w.toNat ≠ 0#32)⌝ -∗ own (F := F) c cc0_scratch12 f17 -∗ K w))
        ⊢ wp frame (wpE (defs₀ (F := F)) Variants.nat (c : Thread nD τ) (some n)) Set.univ
            (cc0_while1 (F := F) v1_0 hw6 v2 hw4 v10 hw5 t v78 hw8 v3644 hw9 hh2 m17 h17 arg) K := by
  intro n
  induction n with
  | zero =>
    intro arg u ha hu K
    simp only [cc0_while1_eq_skeleton]; unfold cc0_while1_skel
    have hoff := off17_eq hv (by omega) h0 ha (by omega)
    have hc : k0_chk10 v1_0 v78 arg := fun _ a => by rw [hoff]; exact cell_ok (by omega) a
    iintro ⟨H, HK⟩
    iapply (as_rule' hc)
    iapply (ld17' _ hoff) $$ H; iintro H
    have hs : ¬ Scalar.andi (Scalar.cmpi .slt arg v1_0) (Scalar.cmpi .eq (rd f17 (min u (nt - 1))) 0#32) = 1#1 := by
      rw [and_bits, slt_nat (by omega) (by omega)]; omega
    rw [if_neg hs, Prog.pure_eq_ret, wp_ret]; imodintro
    iapply HK $$ [] H
    ipureintro
    exact ⟨by omega, by omega, fun s _ _ => by omega, fun _ => by omega⟩
  | succ n ih =>
    intro arg u ha hu K
    simp only [cc0_while1_eq_skeleton]; unfold cc0_while1_skel
    have hoff := off17_eq hv (by omega) h0 ha (by omega)
    have hc : k0_chk10 v1_0 v78 arg := fun _ a => by rw [hoff]; exact cell_ok (by omega) a
    iintro ⟨H, HK⟩
    iapply (as_rule' hc)
    iapply (ld17' _ hoff) $$ H; iintro H
    by_cases hs : Scalar.andi (Scalar.cmpi .slt arg v1_0) (Scalar.cmpi .eq (rd f17 (min u (nt - 1))) 0#32) = 1#1
    · rw [if_pos hs]
      have h1 := (and_bits _ _).1 hs
      have hz : rd f17 (min u (nt - 1)) = 0#32 := by
        have h2 := h1.2
        have e : Scalar.cmpi .eq (rd f17 (min u (nt - 1))) 0#32 = BitVec.ofBool (decide (rd f17 (min u (nt - 1)) = 0#32)) := by
          show IntOp.cmpi .eq _ _ = _
          unfold IntOp.cmpi
          rfl
        rw [e, WordCmp.ofBool_decide_eq_one_iff] at h2
        exact h2
      have hz' : (rd f17 u).toNat = 0 := by rw [show u = min u (nt - 1) by omega, hz]; rfl
      iapply (wp_call Variants.nat (c : Thread nD τ) (some (n + 1)) Set.univ (Γ := ∅) n (fun u hu => by cases hu; exact Nat.lt_succ_self n))
      iapply (ih (Scalar.addi arg 1#32) (u + 1) (add_one ha (by omega)) (by omega) _)
      isplitl [H]; · iexact H
      iintro %w %hw H
      rw [wp_ret]; imodintro
      iapply HK $$ [] H
      ipureintro
      refine ⟨by omega, hw.2.1, fun s h1 h2 => ?_, hw.2.2.2⟩
      rcases Nat.eq_or_lt_of_le h1 with h | h
      · rw [← h, hz']; decide
      · exact hw.2.2.1 s h h2
    · rw [if_neg hs, Prog.pure_eq_ret, wp_ret]; imodintro
      iapply HK $$ [] H
      ipureintro
      refine ⟨by omega, by omega, fun s _ _ => by omega, fun hlt hz => hs ?_⟩
      rw [and_bits, slt_nat (by omega) (by omega)]
      refine ⟨by omega, ?_⟩
      rw [show min u (nt - 1) = arg.toNat by omega, hz]; rfl

/-- Calling the while: the next tile that starts an expert, or the number of tiles. -/
theorem while_rule {Q : α → PP F} (hv : v1_0.toNat = nt) (h0 : 0 < nt) (hn : nt ≤ 56)
    {hw6 : k0_chk6 v1_0} {v2 : BitVec 32} {hw4 : k0_chk4 v2} {v10 : BitVec 32} {hw5 : k0_chk5 v10} {t : Fin (k0_t4_loop v1_0).trips} {v78 : BitVec 32}
    {hw8 : k0_chk8 v1_0 t v78} {v3644 : BitVec 32} {hw9 : k0_chk9 v78 v3644} {hh2 : k0_cond2 v78 = 1#1}
    {arg : BitVec 32} {u : ℕ} (ha : arg.toNat = u) (hu : u ≤ nt) {K : BitVec 32 → PG F α} :
    own (F := F) c cc0_scratch12 f17
      ⊢ iprop((∀ w : BitVec 32, ⌜u ≤ w.toNat ∧ w.toNat ≤ nt ∧ (∀ s, u ≤ s → s < w.toNat → (rd f17 s).toNat ≠ 1) ∧ (w.toNat < nt → rd f17 w.toNat ≠ 0#32)⌝ -∗ own (F := F) c cc0_scratch12 f17 -∗ Wp c (K w) Q)
        -∗ Wp c (Prog.lift (.call (1 : (Λ₀ F).Label) ⟨v1_0, hw6, v2, hw4, v10, hw5, t, v78, hw8, v3644, hw9, hh2, m17, h17, arg⟩) >>= K) Q) := by
  iintro H HK
  rw [wp_lift]
  iapply (wp_call Variants.nat (c : Thread nD τ) none Set.univ (Γ := ∅) (nt - u) (fun u hu => nomatch hu))
  iapply (while_ok hv h0 hn hw6 v2 hw4 v10 hw5 t v78 hw8 v3644 hw9 hh2 (nt - u) arg u ha (by omega) _)
  isplitl [H]; · iexact H
  iexact HK

end Cert.Kernel.Hand
-- ==== Proof.K.Dequant.lean ====
/-
  Scaling an expert's weights.
-/
module

public import proofs.«01_k».proof.Proof.K.Plan
public import proofs.«01_k».proof.Proof.K.While

@[expose] public section

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

variable {c : Dev nD}

/-- The scales of expert `e`, as the words the kernel makes of them. -/
def sdecF (fs : S8x96x1536.Idx → Elt F .i8) (e : ℕ) : S96x1536.Idx → BitVec 32 := k0_pay1 (F := F) (fun x => fs (gx3 e (x 0).val (x 1).val))

/-- The weights of expert `e`, scaled. -/
def dqF (fw : S8x3072x1536.Idx → Elt F .fp8e4m3) (fs : S8x96x1536.Idx → Elt F .i8) (e : ℕ) : S3072x1536.Idx → Elt F .bf16 := fun y =>
  k0_pay2 (F := F) (fun x => sdecF (F := F) fs e (gx2 ((y 0).val / 32) (x 1).val)) (fun x => fw (gx3 e (32 * ((y 0).val / 32) + (x 0).val) (x 1).val))
    (gx2 ((y 0).val % 32) (y 1).val)

theorem t5_trips : k0_t5_loop.trips = 96 := trips_one rfl (by decide)

theorem iv96 {k : ℕ} (hk : k < 96) : (Scf.iv 0#32 1#32 k).toNat = k := WordArith.toNat_iv_zero_one k (by omega)

theorem off15_eq (k : Fin k0_t5_loop.trips) : k0_off15 k = ![k.val, 0] := by
  have hk : k.val < 96 := Nat.lt_of_lt_of_eq k.isLt t5_trips
  unfold k0_off15
  show ![(Scf.iv 0#32 1#32 k.val).toNat, 0] = _
  rw [iv96 hk]

theorem off16_eq (k : Fin k0_t5_loop.trips) : k0_off16 k = ![32 * k.val, 0] := by
  have hk : k.val < 96 := Nat.lt_of_lt_of_eq k.isLt t5_trips
  unfold k0_off16
  show ![(Scf.iv 0#32 1#32 k.val * 32#32).toNat, 0] = _
  rw [BitVec.toNat_mul, iv96 hk]
  have : k.val * (32#32 : BitVec 32).toNat % 2 ^ 32 = 32 * k.val := by
    show k.val * 32 % 2 ^ 32 = _; omega
  rw [this]

variable {fw : S8x3072x1536.Idx → Elt F .fp8e4m3} {fs : S8x96x1536.Idx → Elt F .i8} {e : ℕ}

/-- The first `n` rows are scaled. -/
def DqTo (fw : S8x3072x1536.Idx → Elt F .fp8e4m3) (fs : S8x96x1536.Idx → Elt F .i8) (e n : ℕ) (fd : S3072x1536.Idx → Elt F (cc0_scratch3 : Ref sig .tc).ty.elt) : Prop :=
  ∀ y : S3072x1536.Idx, (y 0).val < n → fd y = dqF fw fs e y

theorem dq_write {k : ℕ} {fd : S3072x1536.Idx → Elt F (cc0_scratch3 : Ref sig .tc).ty.elt} (hd : ∀ y : S3072x1536.Idx, (y 0).val < 32 * k → fd y = dqF fw fs e y)
    (off : Fin 2 → ℕ) (inb) (hoff : off = ![32 * k, 0])
    (w : (Rect.unit (s := S3072x1536) off S32x1536.size inb).shape.Idx → Elt F (cc0_scratch3 : Ref sig .tc).ty.elt)
    (hw : ∀ x : (Rect.unit (s := S3072x1536) off S32x1536.size inb).shape.Idx, ∀ y : S3072x1536.Idx, (y 0).val = 32 * k + (x 0).val → (y 1).val = (x 1).val → w x = dqF fw fs e y)
    (y : S3072x1536.Idx) (hy : (y 0).val < 32 * (k + 1)) :
    (m8.access (Rect.unit (s := S3072x1536) off S32x1536.size inb)).write (Elt F) fd w Finset.univ y = dqF fw fs e y := by
  refine write_cases (F := F) cc0_scratch3 off S32x1536.size inb fd w y (fun z => z = dqF fw fs e y) ?_ ?_
  · intro x hx
    have h1 : (y 0).val = off 0 + (x 0).val := hx 0
    have h2 : (y 1).val = off 1 + (x 1).val := hx 1
    have o0 : off 0 = 32 * k := by rw [hoff]; rfl
    have o1 : off 1 = 0 := by rw [hoff]; rfl
    exact hw x y (h1.trans (congrArg (· + (x 0).val) o0)) (h2.trans ((congrArg (· + (x 1).val) o1).trans (Nat.zero_add _)))
  · intro h
    refine hd y ?_
    by_contra hc
    apply h
    intro a
    rw [hoff]
    fin_cases a
    · show 32 * k ≤ (y 0).val ∧ (y 0).val < 32 * k + 32; omega
    · show 0 ≤ (y 1).val ∧ (y 1).val < 0 + 1536
      have : (y 1).val < 1536 := (y 1).isLt
      omega

theorem dq_val {k : ℕ} (hk : k < 96) {gw : S3072x1536.Idx → Elt F .fp8e4m3} (hgw : ∀ k j, k < 3072 → j < 1536 → gw (gx2 k j) = fw (gx3 e k j))
    (off15 off16 : Fin 2 → ℕ) (i15 : ∀ a, off15 a + S1x1536.size a ≤ S96x1536.size a) (i16 : ∀ a, off16 a + S32x1536.size a ≤ S3072x1536.size a)
    (e15 : off15 = ![k, 0]) (e16 : off16 = ![32 * k, 0]) (x : S32x1536.Idx) (y : S3072x1536.Idx)
    (hy0 : (y 0).val = 32 * k + (x 0).val) (hy1 : (y 1).val = (x 1).val) :
    k0_pay2 (F := F) (fun x => sdecF (F := F) fs e ((Rect.unit (s := S96x1536) off15 S1x1536.size i15).emb x))
          (fun x => gw ((Rect.unit (s := S3072x1536) off16 S32x1536.size i16).emb x)) x = dqF fw fs e y := by
  subst e15 e16
  have hx0 : (x 0).val < 32 := (x 0).isLt
  have hx1 : (x 1).val < 1536 := (x 1).isLt
  unfold dqF
  have d1 : (y 0).val / 32 = k := by omega
  have d2 : (y 0).val % 32 = (x 0).val := by omega
  rw [d1, d2, hy1]
  have ex : x = gx2 (x 0).val (x 1).val := gx2_eq x _ _ rfl rfl
  refine Eq.trans ?_ (congrArg _ ex)
  refine congrFun ?_ x
  refine congrArg₂ (k0_pay2 (F := F)) ?_ ?_
  · funext z
    refine congrArg (sdecF (F := F) fs e) (gx2_eq _ _ _ ?_ ?_)
    · show k + 1 * (z 0).val = _
      have : (z 0).val < 1 := (z 0).isLt
      omega
    · show 0 + 1 * (z 1).val = _; omega
  · funext z
    have hz0 : (z 0).val < 32 := (z 0).isLt
    have hz1 : (z 1).val < 1536 := (z 1).isLt
    have ez : (Rect.unit (s := S3072x1536) ![32 * k, 0] S32x1536.size i16).emb z = gx2 (32 * k + (z 0).val) (z 1).val := by
      refine gx2_eq _ _ _ ?_ ?_
      · show 32 * k + 1 * (z 0).val = _; omega
      · show 0 + 1 * (z 1).val = _; omega
    rw [ez]
    exact hgw _ _ (by omega) hz1

variable {v1_0 : BitVec 32} {t : Fin (k0_t4_loop v1_0).trips} {R : PP F}

/-- The scaling loop's invariant. -/
def Inv5 (c : Dev nD) (fw : S8x3072x1536.Idx → Elt F .fp8e4m3) (fs : S8x96x1536.Idx → Elt F .i8) (e : ℕ) (gw : S3072x1536.Idx → Elt F .fp8e4m3) (k : ℕ) (_ : BitVec 32) : PP F :=
  iprop(own (F := F) c cc0_scratch4 (sdecF (F := F) fs e) ∗ own (F := F) c cc0_scratch1 gw ∗ ∃ fd : S3072x1536.Idx → Elt F (cc0_scratch3 : Ref sig .tc).ty.elt, ⌜DqTo fw fs e (32 * k) fd⌝ ∗ own (F := F) c cc0_scratch3 fd)

set_option maxHeartbeats 600000 in
theorem t5_step {hw6 : k0_chk6 v1_0} {v2 : BitVec 32} {hw4 : k0_chk4 v2} {v10 : BitVec 32} {hw5 : k0_chk5 v10} {a b : BitVec 32}
    {gw : S3072x1536.Idx → Elt F .fp8e4m3} (hgw : ∀ k j, k < 3072 → j < 1536 → gw (gx2 k j) = fw (gx3 e k j))
    (k : Fin k0_t5_loop.trips) (acc : BitVec 32) :
    Inv5 c fw fs e gw k.val acc ⊢ Wp c (k0_t5_body (F := F) m0 h0 m1 h1 m2 h2 m3 h3 m4 h4 m5 h5 m6 h6 m7 h7 m8 h8 m9 h9 m10 h10 m11 h11 m12 h12 m13 h13 m14 h14 m15 h15 m16 h16 m17 h17 s18 s19 s20 s21 v1_0 hw6 v2 hw4 v10 hw5 a b t k acc) (Inv5 c fw fs e gw (k.val + 1)) := by
  have hk : k.val < 96 := Nat.lt_of_lt_of_eq k.isLt t5_trips
  unfold Inv5
  iintro ⟨H9, H6, %fd, %hd, H8⟩
  unfold k0_t5_body
  iapply (ldr9 (fun y _ => Finset.mem_univ (α := Idx ((c : Thread nD τ).loc cc0_scratch4)) y)) $$ H9; iintro H9
  iapply (ldr6 (fun y _ => Finset.mem_univ (α := Idx ((c : Thread nD τ).loc cc0_scratch1)) y)) $$ H6; iintro H6
  iapply (ldr8 (fun y _ => Finset.mem_univ (α := Idx ((c : Thread nD τ).loc cc0_scratch3)) y)) $$ H8; iintro H8
  iapply (str8 rfl (fun y _ => Finset.mem_univ (α := Idx ((c : Thread nD τ).loc cc0_scratch3)) y)) $$ H8; iintro H8
  iapply ret_rule
  isplitl [H9]; · iexact H9
  isplitl [H6]; · iexact H6
  iexists _
  isplitr
  rotate_left
  · iexact H8
  ipureintro
  intro y hy
  exact dq_write hd _ _ (off16_eq k) _ (fun x y h1 h2 => dq_val hk hgw _ _ _ _ (off15_eq k) (off16_eq k) x y h1 h2) y hy

/-- The scaling loop: an expert's weights, scaled. -/
theorem t5_rule {α : Type} {Q : α → PP F} {hw6 : k0_chk6 v1_0} {v2 : BitVec 32} {hw4 : k0_chk4 v2} {v10 : BitVec 32} {hw5 : k0_chk5 v10} {a b : BitVec 32}
    {gw : S3072x1536.Idx → Elt F .fp8e4m3} (hgw : ∀ k j, k < 3072 → j < 1536 → gw (gx2 k j) = fw (gx3 e k j))
    {fd : S3072x1536.Idx → Elt F .bf16} {K : BitVec 32 → PG F α} :
    iprop(own (F := F) c cc0_scratch4 (sdecF (F := F) fs e) ∗ own (F := F) c cc0_scratch1 gw ∗ own (F := F) c cc0_scratch3 fd)
      ⊢ iprop((∀ v, iprop(own (F := F) c cc0_scratch4 (sdecF (F := F) fs e) ∗ own (F := F) c cc0_scratch1 gw ∗ own (F := F) c cc0_scratch3 (dqF fw fs e)) -∗ Wp c (K v) Q)
        -∗ Wp c (Scf.Loop.for k0_t5_loop k0_t5_ok 0#32 (k0_t5_body (F := F) m0 h0 m1 h1 m2 h2 m3 h3 m4 h4 m5 h5 m6 h6 m7 h7 m8 h8 m9 h9 m10 h10 m11 h11 m12 h12 m13 h13 m14 h14 m15 h15 m16 h16 m17 h17 s18 s19 s20 s21 v1_0 hw6 v2 hw4 v10 hw5 a b t) >>= K) Q) := by
  iintro ⟨H9, H6, H8⟩ HK
  iapply (for_rule _ _ 0#32 _ (Inv5 c fw fs e gw) (fun k acc => t5_step hgw k acc)) $$ [H9 H6 H8]
  · unfold Inv5
    isplitl [H9]; · iexact H9
    isplitl [H6]; · iexact H6
    iexists fd
    isplitr
    · ipureintro; intro y hy; omega
    iexact H8
  iintro %v HI
  unfold Inv5
  icases HI with ⟨H9, H6, %fd', %hd, H8⟩
  have hfd : fd' = dqF fw fs e := by
    funext y
    refine hd y ?_
    rw [t5_trips]
    exact (y 0).isLt
  subst hfd
  iapply HK
  isplitl [H9]; · iexact H9
  isplitl [H6]; · iexact H6
  iexact H8

/-- The scales as loaded make the scales' words. -/
theorem sdec_of {gs : S96x1536.Idx → Elt F .i8} (h : ∀ k j, k < 96 → j < 1536 → gs (gx2 k j) = fs (gx3 e k j)) : k0_pay1 (F := F) gs = sdecF (F := F) fs e := by
  unfold sdecF
  refine congrArg (k0_pay1 (F := F)) (funext fun x => ?_)
  have ex : x = gx2 (x 0).val (x 1).val := gx2_eq x _ _ rfl rfl
  rw [ex]
  have h0 : (x 0).val < 96 := (x 0).isLt
  have h1 : (x 1).val < 1536 := (x 1).isLt
  rw [h _ _ h0 h1]
  rw [gx2_0 _ _ h0, gx2_1 _ _ h1]

end Cert.Kernel.Hand
-- ==== Proof.K.State.lean ====
/-
  What is held between tiles, and what the results are.
-/
module

public import proofs.«01_k».proof.Proof.K.Fetch
public import proofs.«01_k».proof.Proof.K.Dequant

@[expose] public section

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

variable {c : Dev nD}

/-- The share of the activations each slot's fetches read with. -/
def hsh (σ : ℕ) : PosShare TreeShare := if σ = 0 then fullShare.left else fullShare.right

/-- Slot `σ` of the ring is free. -/
def XIdle (c : Dev nD) (fx : S12288x3072.Idx → Elt F .bf16) (σ : ℕ) : PP F :=
  iprop(part c main_arg0 Finset.univ (hsh σ) fx ∗ (∃ f : S2x256x3072.Idx → Elt F .bf16, part c cc0_scratch0 (slot5 c σ) fullShare f) ∗ sval c (.dma (x18 σ)) 0)

/-- Tile `t`'s fetch is under way, when there is such a tile. -/
def XA (c : Dev nD) (fx : S12288x3072.Idx → Elt F .bf16) (f13 : S64.Idx → BitVec 32) (nt t : ℕ) : PP F :=
  if t < nt then XFly c (t % 2) (min (rd f13 t).toNat 12032) (hsh (t % 2)) fx else XIdle c fx (t % 2)

/-- No weights are on their way. -/
def WIdle (c : Dev nD) (fw : S8x3072x1536.Idx → Elt F .fp8e4m3) (fs : S8x96x1536.Idx → Elt F .i8) : PP F :=
  iprop((own (F := F) c main_arg2 fw ∗ (∃ f : S3072x1536.Idx → Elt F .fp8e4m3, own (F := F) c cc0_scratch1 f) ∗ sval c (.dma s19.sem) 0)
    ∗ (own (F := F) c main_arg3 fs ∗ (∃ f : S96x1536.Idx → Elt F .i8, own (F := F) c cc0_scratch2 f) ∗ sval c (.dma s20.sem) 0))

/-- Expert `e`'s weights are on their way. -/
def WFly (c : Dev nD) (fw : S8x3072x1536.Idx → Elt F .fp8e4m3) (fs : S8x96x1536.Idx → Elt F .i8) (e : ℕ) : PP F :=
  iprop(Fly c (.dma s19.sem) NW (wGot c e fw) ∗ Fly c (.dma s20.sem) NS (sGot c e fs))

/-- The weights of tile `u`'s expert are on their way, when there is such a tile. -/
def WA (c : Dev nD) (fw : S8x3072x1536.Idx → Elt F .fp8e4m3) (fs : S8x96x1536.Idx → Elt F .i8) (f16 : S64.Idx → BitVec 32) (nt u : ℕ) : PP F :=
  if u < nt then WFly c fw fs (rd f16 u).toNat else WIdle c fw fs

/-- The next weights, before tile `t`. -/
def WS (c : Dev nD) (fw : S8x3072x1536.Idx → Elt F .fp8e4m3) (fs : S8x96x1536.Idx → Elt F .i8) (f16 f17 : S64.Idx → BitVec 32) (nt t : ℕ) : PP F :=
  iprop(∃ u, ⌜t ≤ u ∧ u ≤ nt ∧ (∀ s, t ≤ s → s < u → (rd f17 s).toNat ≠ 1) ∧ (u < nt → (rd f17 u).toNat = 1)⌝ ∗ WA c fw fs f16 nt u)

/-- The tables. -/
def TB (c : Dev nD) (f13 f14 f15 f16 f17 : S64.Idx → BitVec 32) : PP F :=
  iprop(own (F := F) c cc0_scratch8 f13 ∗ own (F := F) c cc0_scratch9 f14 ∗ own (F := F) c cc0_scratch10 f15 ∗ own (F := F) c cc0_scratch11 f16 ∗ own (F := F) c cc0_scratch12 f17)

/-- The words of the scales, whatever they are. -/
def SD (c : Dev nD) : PP F := iprop(∃ f : S96x1536.Idx → BitVec 32, own (F := F) c cc0_scratch4 f)

/-! ### What the results are -/

section
variable (fx : S12288x3072.Idx → Elt F .bf16) (fw : S8x3072x1536.Idx → Elt F .fp8e4m3) (fs : S8x96x1536.Idx → Elt F .i8) (g : S8.Idx → BitVec 32)

/-- `v` is a value of the product of row `row` by column `j` of expert `e`'s weights, perhaps passed through the wide type and back. -/
inductive Val (e row j : ℕ) : Elt F .bf16 → Prop
  | dot (xq : S256x3072.Idx → Elt F .bf16) (r : ℕ) (hr : r < 256) (hj : j < 1536) (h : ∀ k, k < 3072 → xq (gx2 r k) = fx (gx2 row k)) :
      Val e row j (k0_pay593 (F := F) xq (dqF fw fs e) (gx3 0 r j))
  | rt (w : FVec F S16x1536 .bf16) (i : S16x1536.Idx) (h : Val e row j (w i)) :
      Val e row j (truncf (F := F) .bf16 (extf (F := F) .f32 w bitsLt_bf16_f32) bitsLt_bf16_f32 i)

/-- `v` is a value of result `(row, j)`. -/
def Good (row j : ℕ) (v : Elt F .bf16) : Prop := ∃ e < 8, pre g e ≤ row ∧ row < pre g (e + 1) ∧ Val fx fw fs e row j v

/-- The first `n` rows of the output are results. -/
def OutOK (n : ℕ) (f : S12288x1536.Idx → Elt F .bf16) : Prop := ∀ row j, row < n → j < 1536 → Good fx fw fs g row j (f (gx2 row j))

/-- The rows of a tile in its slot are results. -/
def ObufOK (R E σ : ℕ) (f : S2x256x1536.Idx → Elt F .bf16) : Prop :=
  ∀ r j, r < E - R → j < 1536 → Good fx fw fs g (R + r) j (f (gx3 σ r j))

/-- The rows kept for the next tile. -/
def CarryOK (E : ℕ) (f : S16x1536.Idx → Elt F .bf16) : Prop :=
  ∀ i j, i < 16 → j < 1536 → (E - 1) / 16 * 16 + i < E → Good fx fw fs g ((E - 1) / 16 * 16 + i) j (f (gx2 i j))
end

variable {fx : S12288x3072.Idx → Elt F .bf16} {fw : S8x3072x1536.Idx → Elt F .fp8e4m3} {fs : S8x96x1536.Idx → Elt F .i8} {g : S8.Idx → BitVec 32}

theorem out_next {R E S σ : ℕ} {fo : S2x256x1536.Idx → Elt F .bf16} {fOld : S12288x1536.Idx → Elt F .bf16} (hE : E ≤ 12288) (hS : R ≤ S)
    (ho : ObufOK fx fw fs g R E σ fo) (hold : OutOK fx fw fs g S fOld) : OutOK fx fw fs g E (outNew R (kk R E) σ fo fOld) := by
  intro row j hr hj
  unfold outNew
  have e0 : ((gx2 row j : S12288x1536.Idx) 0).val = row := gx2_0 _ _ (by omega)
  have e1 : ((gx2 row j : S12288x1536.Idx) 1).val = j := gx2_1 _ _ hj
  by_cases h : R ≤ row
  · rw [if_pos (by rw [e0]; unfold kk; omega), e0, e1]
    have := ho (row - R) j (by omega) hj
    rwa [show R + (row - R) = row by omega] at this
  · rw [if_neg (by rw [e0]; omega)]
    exact hold row j (by omega) hj

/-- The output with nothing under way, before tile `t`. -/
def OC (c : Dev nD) (fx : S12288x3072.Idx → Elt F .bf16) (fw : S8x3072x1536.Idx → Elt F .fp8e4m3) (fs : S8x96x1536.Idx → Elt F .i8) (g : S8.Idx → BitVec 32)
    (f14 : S64.Idx → BitVec 32) (t : ℕ) : PP F :=
  iprop(∃ (fOld : S12288x1536.Idx → Elt F .bf16), ⌜OutOK fx fw fs g (endAt f14 t) fOld⌝ ∗ own (F := F) c main_v0 fOld
    ∗ (∃ f : S2x256x1536.Idx → Elt F .bf16, part c cc0_scratch6 (slot6 c ((t + 1) % 2)) fullShare f) ∗ sval c (.dma s21.sem) 0)

/-- The copies of the tile before `t` under way, pieces before `p` awaited. -/
def OV (c : Dev nD) (fx : S12288x3072.Idx → Elt F .bf16) (fw : S8x3072x1536.Idx → Elt F .fp8e4m3) (fs : S8x96x1536.Idx → Elt F .i8) (g : S8.Idx → BitVec 32)
    (f13 f14 : S64.Idx → BitVec 32) (t p : ℕ) : PP F :=
  iprop(∃ (fo : S2x256x1536.Idx → Elt F .bf16) (fOld : S12288x1536.Idx → Elt F .bf16),
      ⌜ObufOK fx fw fs g (rd f13 (t - 1)).toNat (rd f14 (t - 1)).toNat ((t - 1) % 2) fo ∧ OutOK fx fw fs g (endAt f14 (t - 1)) fOld⌝
      ∗ OW c ((t - 1) % 2) (rd f13 (t - 1)).toNat (kk (rd f13 (t - 1)).toNat (rd f14 (t - 1)).toNat) fo fOld p)

/-- The output's copies before tile `t`. -/
def OP (c : Dev nD) (fx : S12288x3072.Idx → Elt F .bf16) (fw : S8x3072x1536.Idx → Elt F .fp8e4m3) (fs : S8x96x1536.Idx → Elt F .i8) (g : S8.Idx → BitVec 32)
    (f13 f14 : S64.Idx → BitVec 32) (t : ℕ) : PP F :=
  if 0 < t then OV c fx fw fs g f13 f14 t 0 else OC c fx fw fs g f14 t

/-- The free slot of the output's ring before tile `t`. -/
def OX (c : Dev nD) (t : ℕ) : PP F := iprop(∃ f : S2x256x1536.Idx → Elt F .bf16, part c cc0_scratch6 (slot6 c (t % 2)) fullShare f)

/-- The kept rows before tile `t`. -/
def CS (c : Dev nD) (fx : S12288x3072.Idx → Elt F .bf16) (fw : S8x3072x1536.Idx → Elt F .fp8e4m3) (fs : S8x96x1536.Idx → Elt F .i8) (g : S8.Idx → BitVec 32)
    (f14 : S64.Idx → BitVec 32) (t : ℕ) : PP F :=
  iprop(∃ f : S16x1536.Idx → Elt F .bf16, ⌜0 < t → CarryOK fx fw fs g (endAt f14 t) f⌝ ∗ own (F := F) c cc0_scratch7 f)

/-- The scaled weights before tile `t`. -/
def DS (c : Dev nD) (fw : S8x3072x1536.Idx → Elt F .fp8e4m3) (fs : S8x96x1536.Idx → Elt F .i8) (f16 : S64.Idx → BitVec 32) (t : ℕ) : PP F :=
  iprop(∃ f : S3072x1536.Idx → Elt F .bf16, ⌜0 < t → f = dqF fw fs (rd f16 (t - 1)).toNat⌝ ∗ own (F := F) c cc0_scratch3 f)

end Cert.Kernel.Hand
-- ==== Proof.K.Part2.lean ====
/-
  The first part of a tile: the fetches and the weights.
-/
module

public import proofs.«01_k».proof.Proof.K.State
public import proofs.«01_k».proof.Proof.K.Copy
public import proofs.«01_k».proof.Proof.K.PlanW
public import proofs.«01_k».proof.Proof.K.While
public import proofs.«01_k».proof.Proof.K.Dequant

@[expose] public section

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

variable {c : Dev nD} {fx : S12288x3072.Idx → Elt F .bf16} {fw : S8x3072x1536.Idx → Elt F .fp8e4m3} {fs : S8x96x1536.Idx → Elt F .i8} {g : S8.Idx → BitVec 32}
  {f13 f14 f15 f16 f17 : S64.Idx → BitVec 32} {v1_0 : BitVec 32} {nt : ℕ} {t : Fin (k0_t4_loop v1_0).trips} {Z : PP F}

/-- What is held across the weights' step. -/
def Mid2 (c : Dev nD) (fx : S12288x3072.Idx → Elt F .bf16) (fw : S8x3072x1536.Idx → Elt F .fp8e4m3) (fs : S8x96x1536.Idx → Elt F .i8)
    (f13 f14 f15 f16 f17 : S64.Idx → BitVec 32) (nt t a : ℕ) (Z : PP F) : PP F :=
  iprop(TB c f13 f14 f15 f16 f17 ∗ owed c ∗ XA c fx f13 nt t ∗ XA c fx f13 nt (t + 1) ∗ WS c fw fs f16 f17 nt a ∗ DS c fw fs f16 a ∗ SD c ∗ Z)

/-- What is held beside the operands while the activations are copied. -/
def Fr2 (c : Dev nD) (fx : S12288x3072.Idx → Elt F .bf16) (fw : S8x3072x1536.Idx → Elt F .fp8e4m3) (fs : S8x96x1536.Idx → Elt F .i8)
    (f13 f14 f15 f16 f17 : S64.Idx → BitVec 32) (nt t : ℕ) (Z : PP F) : PP F :=
  iprop(TB c f13 f14 f15 f16 f17 ∗ owed c ∗ (part c main_arg0 Finset.univ (hsh (t % 2)) fx ∗ sval c (.dma (x18 (t % 2))) 0) ∗ XA c fx f13 nt (t + 1)
    ∗ WS c fw fs f16 f17 nt (t + 1) ∗ DS c fw fs f16 (t + 1) ∗ SD c ∗ Z)

theorem one_of_ne {g : S8.Idx → BitVec 32} {s : ℕ} (h : Tile g f13 f14 f15 f16 f17 s) (hz : rd f17 s ≠ 0#32) : (rd f17 s).toNat = 1 := by
  rcases h.first with h | h
  · exact h
  · exact absurd (BitVec.eq_of_toNat_eq (h.1.trans rfl)) hz

/-- A tile whose expert is the one before's needs no weights. -/
theorem mid_skip {n : ℕ} (hp : Plan g f13 f14 f15 f16 f17 nt) (hn : n < nt) (hF : ¬ (rd f17 n).toNat = 1) :
    Mid2 c fx fw fs f13 f14 f15 f16 f17 nt n n Z ⊢ Mid2 c fx fw fs f13 f14 f15 f16 f17 nt n (n + 1) Z := by
  rcases (hp n hn).first with h | ⟨h0, h1, h2⟩
  · exact absurd h hF
  unfold Mid2 WS DS
  iintro ⟨HT, HO, HX, HX2, ⟨%u, %hu, HW⟩, ⟨%fd, %hd, HD⟩, HS, HZ⟩
  isplitl [HT]; · iexact HT
  isplitl [HO]; · iexact HO
  isplitl [HX]; · iexact HX
  isplitl [HX2]; · iexact HX2
  isplitl [HW]
  · iexists u; isplitr
    · ipureintro
      have hne : n ≠ u := fun e => by
        have := hu.2.2.2 (by omega)
        rw [← e] at this; exact hF this
      exact ⟨by omega, hu.2.1, fun s a b => hu.2.2.1 s (by omega) b, hu.2.2.2⟩
    iexact HW
  isplitl [HD]
  · iexists fd; isplitr
    · ipureintro; intro _
      rw [Nat.add_sub_cancel, h2]; exact hd h1
    iexact HD
  isplitl [HS]; · iexact HS
  iexact HZ

theorem XA_pos {fx : S12288x3072.Idx → Elt F .bf16} {s : ℕ} (h : s < nt) : XA c fx f13 nt s = XFly c (s % 2) (min (rd f13 s).toNat 12032) (hsh (s % 2)) fx := if_pos h
theorem XA_neg {fx : S12288x3072.Idx → Elt F .bf16} {s : ℕ} (h : ¬ s < nt) : XA c fx f13 nt s = XIdle c fx (s % 2) := if_neg h

theorem WS_first {s : ℕ} (h : s < nt) (hF : (rd f17 s).toNat = 1) : WS c fw fs f16 f17 nt s ⊢ WFly c fw fs (rd f16 s).toNat := by
  unfold WS
  iintro ⟨%u, %hu, HW⟩
  have e : u = s := by
    by_contra hne
    exact hu.2.2.1 s (Nat.le_refl s) (by omega) hF
  subst e
  have e2 : WA c fw fs f16 nt u = WFly c fw fs (rd f16 u).toNat := if_pos h
  rw [← e2]
  iexact HW

theorem WS_some {s u : ℕ} (h : u < nt) (hu : s ≤ u ∧ (∀ k, s ≤ k → k < u → (rd f17 k).toNat ≠ 1) ∧ (rd f17 u).toNat = 1) :
    WFly c fw fs (rd f16 u).toNat ⊢ WS c fw fs f16 f17 nt s := by
  have e2 : WA c fw fs f16 nt u = WFly c fw fs (rd f16 u).toNat := if_pos h
  unfold WS
  iintro HW
  iexists u
  isplitr
  · ipureintro; exact ⟨hu.1, by omega, hu.2.1, fun _ => hu.2.2⟩
  rw [e2]
  iexact HW

theorem WS_none {s : ℕ} (h : s ≤ nt) (hu : ∀ k, s ≤ k → k < nt → (rd f17 k).toNat ≠ 1) :
    WIdle c fw fs ⊢ WS c fw fs f16 f17 nt s := by
  have e2 : WA c fw fs f16 nt nt = WIdle c fw fs := if_neg (Nat.lt_irrefl nt)
  unfold WS
  iintro HW
  iexists nt
  isplitr
  · ipureintro; exact ⟨h, Nat.le_refl _, hu, fun hh => absurd hh (Nat.lt_irrefl _)⟩
  rw [e2]
  iexact HW

theorem DS_some {s : ℕ} : own (F := F) c cc0_scratch3 (dqF fw fs (rd f16 s).toNat) ⊢ DS c fw fs f16 (s + 1) := by
  unfold DS
  iintro HD
  iexists _
  isplitr
  rotate_left
  · iexact HD
  ipureintro; intro _; rw [Nat.add_sub_cancel]

/-- What is held once an expert's weights are scaled and the next ones are not yet asked for. -/
def Mid3 (c : Dev nD) (fx : S12288x3072.Idx → Elt F .bf16) (fw : S8x3072x1536.Idx → Elt F .fp8e4m3) (fs : S8x96x1536.Idx → Elt F .i8)
    (f13 f14 f15 f16 f17 : S64.Idx → BitVec 32) (nt t : ℕ) (Z : PP F) : PP F :=
  iprop(TB c f13 f14 f15 f16 f17 ∗ owed c ∗ XA c fx f13 nt t ∗ XA c fx f13 nt (t + 1) ∗ WIdle c fw fs ∗ DS c fw fs f16 (t + 1) ∗ SD c ∗ Z)

set_option maxHeartbeats 8000000 in
theorem part2 (hv : v1_0.toNat = nt) (hnt : nt ≤ 56) (hp : Plan g f13 f14 f15 f16 f17 nt) (htn : t.val < nt)
    {hw6 : k0_chk6 v1_0} {v2 : BitVec 32} {hw4 : k0_chk4 v2} {v10 : BitVec 32} {hw5 : k0_chk5 v10}
    {Q : _ → PP F}
    (H : ∀ (f5 : S2x256x3072.Idx → Elt F .bf16) (v72 v96 : BitVec 32) (hw14 : k0_chk14 v1_0 t (rd f13 t.val)),
      (∀ r j, r < 256 → j < 3072 → f5 (ix5 (t.val % 2) r j) = fx (gx2 (min (rd f13 t.val).toNat 12032 + r) j)) →
      InvB (Fr2 c fx fw fs f13 f14 f15 f16 f17 nt t.val Z) c f5 (t.val % 2) ((rd f13 t.val).toNat - min (rd f13 t.val).toNat 12032) 0
        ⊢ Q ⟨Scf.iv 0#32 1#32 t.val, v72, rd f13 t.val, hw14, v96, st f5 (t.val % 2) ((rd f13 t.val).toNat - min (rd f13 t.val).toNat 12032) 0 0⟩) :
    iprop(TB c f13 f14 f15 f16 f17 ∗ owed c ∗ XA c fx f13 nt t.val ∗ XIdle c fx ((t.val + 1) % 2) ∗ WS c fw fs f16 f17 nt t.val ∗ DS c fw fs f16 t.val ∗ SD c
        ∗ (∃ f : S256x3072.Idx → Elt F .bf16, own (F := F) c cc0_scratch5 f) ∗ Z)
      ⊢ Wp c (k0_part2 (F := F) m0 h0 m1 h1 m2 h2 m3 h3 m4 h4 m5 h5 m6 h6 m7 h7 m8 h8 m9 h9 m10 h10 m11 h11 m12 h12 m13 h13 m14 h14 m15 h15 m16 h16 m17 h17 s18 s19 s20 s21 v1_0 hw6 v2 hw4 v10 hw5 0#32 1#32 t) Q := by
  have ht64 : t.val < 64 := by omega
  have hnt0 : 0 < nt := by omega
  have hn64 : nt < 64 := by omega
  have hT := hp t.val htn
  have hR : (rd f13 t.val).toNat < 12288 := by have := hT.tw.lt; have := hT.tw.top; omega
  rw [k0_part2_eq_skeleton]; unfold k0_part2_skel
  refine step_dite (Mid := Mid2 c fx fw fs f13 f14 f15 f16 f17 nt t.val t.val iprop((∃ f : S256x3072.Idx → Elt F .bf16, own (F := F) c cc0_scratch5 f) ∗ Z)) ?_ ?_ ?_
  · -- the weights' step
    unfold Mid2 TB
    iintro ⟨⟨H13, H14, H15, H16, H17⟩, HO, HX, HX2, HW, HD, HS, HQ, HZ⟩
    iapply (ld17 t.val (off11_eq t ht64)) $$ H17; iintro H17
    iapply (as_rule (show k0_chk8 v1_0 t (rd f17 t.val) from fun _ a => by rw [off12_eq t ht64]; exact cell_ok ht64 a))
    iapply (step_dite (P := Mid2 c fx fw fs f13 f14 f15 f16 f17 nt t.val t.val iprop((∃ f : S256x3072.Idx → Elt F .bf16, own (F := F) c cc0_scratch5 f) ∗ Z))
      (Mid := Mid2 c fx fw fs f13 f14 f15 f16 f17 nt t.val (t.val + 1) iprop((∃ f : S256x3072.Idx → Elt F .bf16, own (F := F) c cc0_scratch5 f) ∗ Z)) ?_ ?_ ?_) $$ [H13 H14 H15 H16 H17 HO HX HX2 HW HD HS HQ HZ]
    · -- the wait for the activations
      unfold Mid2 TB
      rw [XA_pos htn]
      iintro ⟨⟨H13, H14, H15, H16, H17⟩, HO, HX, HX2, HW, HD, HS, ⟨%fq, HQ⟩, HZ⟩
      iapply (ld13 t.val (off21_eq t ht64)) $$ H13; iintro H13
      iapply (as_rule (chk13_ok rfl hR hT.tw.dvd))
      unfold XFly
      iapply (x_wait (σ := t.val % 2) rfl (x18_eq (by omega) (off22_eq t ht64))) $$ [HX HO]
      · isplitl [HX]; · unfold XFly; iexact HX
        iexact HO
      unfold XGot
      iintro ⟨⟨⟨%f5, %hf5, H5⟩, Hx⟩, Hv, HO⟩
      iapply (ld13 t.val (off25_eq t ht64)) $$ H13; iintro H13
      iapply (as_rule (chk14_ok rfl hR hT.tw.dvd ht64))
      iapply (step_ld (R := Fr2 c fx fw fs f13 f14 f15 f16 f17 nt t.val Z) (f5 := f5) (σ := t.val % 2) (skip := (rd f13 t.val).toNat - min (rd f13 t.val).toNat 12032) (n := 0)
        (by omega) (by have := hT.tw.dvd; omega) 0 0 (by decide) (by decide) (offEq (slot_cur ht64) (skip_word rfl hR hT.tw.dvd) rfl)
        (step_ret (H f5 _ _ _ hf5))) $$ [H13 H14 H15 H16 H17 HO H5 Hx Hv HX2 HW HD HS HQ HZ]
      unfold InvB Fr2 TB
      isplitl [H5]; · iexact H5
      isplitl [HQ]
      · iexists fq; isplitr
        · ipureintro; intro y hy; exact absurd hy (Nat.not_lt_zero _)
        · iexact HQ
      isplitl [H13 H14 H15 H16 H17]
      · isplitl [H13]; · iexact H13
        isplitl [H14]; · iexact H14
        isplitl [H15]; · iexact H15
        isplitl [H16]; · iexact H16
        iexact H17
      isplitl [HO]; · iexact HO
      isplitl [Hx Hv]
      · isplitl [Hx]; · iexact Hx
        iexact Hv
      isplitl [HX2]; · iexact HX2
      isplitl [HW]; · iexact HW
      isplitl [HD]; · iexact HD
      isplitl [HS]; · iexact HS
      iexact HZ
    · -- new weights
      intro hK hc
      have hF : (rd f17 t.val).toNat = 1 := cond2_iff.mp hc
      unfold Mid2 TB
      iintro ⟨⟨H13, H14, H15, H16, H17⟩, HO, HX, HX2, HW, HD, HS, HZ⟩
      ihave HW := (WS_first htn hF) $$ HW
      unfold WFly DS SD
      icases HW with ⟨HW1, HW2⟩
      icases HD with ⟨%fd, %hfd, HD⟩
      icases HS with ⟨%fsd, HS⟩
      iapply (ld16 t.val (off12_eq t ht64)) $$ H16; iintro H16
      iapply (as_rule (chk9_ok hT.exp))
      iapply (fly_wait (N := NW) rfl) $$ [HW1 HO]
      · isplitl [HW1]; · iexact HW1
        iexact HO
      unfold wGot
      iintro ⟨⟨⟨%gw, %hgw, Hw⟩, Hfw⟩, Hvw, HO⟩
      iapply (fly_wait (N := NS) rfl) $$ [HW2 HO]
      · isplitl [HW2]; · iexact HW2
        iexact HO
      unfold sGot
      iintro ⟨⟨⟨%gs, %hgs, Hs⟩, Hfs⟩, Hvs, HO⟩
      iapply (ldw7) $$ Hs; iintro Hs
      iapply (ldw9) $$ HS; iintro HS
      iapply (stw9 rfl) $$ HS; iintro HS
      rw [sdec_of hgs]
      iapply (t5_rule hgw) $$ [HS Hw HD]
      · isplitl [HS]; · iexact HS
        isplitl [Hw]; · iexact Hw
        iexact HD
      iintro %v5
      iintro ⟨HS, Hw, HD⟩
      iapply (while_rule hv hnt0 hnt (add_one (iv_nat t.val ht64) (by omega)) (by omega)) $$ H17
      iintro %w
      iintro %hw
      iintro H17
      iapply (as_rule (show k0_chk11 v1_0 (rd f17 t.val) w from fun _ h3 a => cell_ok (x := w.toNat) (by have := (cond3_iff hv hn64 (by omega)).mp h3; omega) a))
      iapply (step_dite (P := Mid3 c fx fw fs f13 f14 f15 f16 f17 nt t.val iprop((∃ f : S256x3072.Idx → Elt F .bf16, own (F := F) c cc0_scratch5 f) ∗ Z))
        (Mid := Mid2 c fx fw fs f13 f14 f15 f16 f17 nt t.val (t.val + 1) iprop((∃ f : S256x3072.Idx → Elt F .bf16, own (F := F) c cc0_scratch5 f) ∗ Z)) hK ?_ ?_) $$ [H13 H14 H15 H16 H17 HO HX HX2 HS Hw HD Hs Hfs Hvs Hfw Hvw HZ]
      · intro hK2 hc3
        have hwn : w.toNat < nt := (cond3_iff hv hn64 (by omega)).mp hc3
        have hF2 := one_of_ne (hp _ hwn) (hw.2.2.2 hwn)
        unfold Mid3 WIdle TB
        iintro ⟨⟨H13, H14, H15, H16, H17⟩, HO, HX, HX2, ⟨⟨Hfw, ⟨%gw, Hw⟩, Hvw⟩, Hfs, ⟨%gs, Hs⟩, Hvs⟩, HD, HS, HZ⟩
        iapply (ld16 w.toNat rfl) $$ H16; iintro H16
        iapply (as_rule (chk12_ok (hp _ hwn).exp))
        iapply (w_start (e := (rd f16 w.toNat).toNat) rfl) $$ [Hfw Hw Hvw]
        · isplitl [Hfw]; · iexact Hfw
          isplitl [Hw]; · iexact Hw
          iexact Hvw
        iintro HF1
        iapply (s_start (e := (rd f16 w.toNat).toNat) rfl) $$ [Hfs Hs Hvs]
        · isplitl [Hfs]; · iexact Hfs
          isplitl [Hs]; · iexact Hs
          iexact Hvs
        iintro HF2
        iapply hK2
        unfold Mid2 TB
        isplitl [H13 H14 H15 H16 H17]
        · isplitl [H13]; · iexact H13
          isplitl [H14]; · iexact H14
          isplitl [H15]; · iexact H15
          isplitl [H16]; · iexact H16
          iexact H17
        isplitl [HO]; · iexact HO
        isplitl [HX]; · iexact HX
        isplitl [HX2]; · iexact HX2
        isplitl [HF1 HF2]
        · iapply (WS_some hwn ⟨hw.1, hw.2.2.1, hF2⟩)
          unfold WFly
          isplitl [HF1]; · iexact HF1
          iexact HF2
        isplitl [HD]; · iexact HD
        isplitl [HS]; · iexact HS
        iexact HZ
      · intro hc3
        have hwn : ¬ w.toNat < nt := fun hh => hc3 ((cond3_iff hv hn64 (by omega)).mpr hh)
        have hwe : w.toNat = nt := by omega
        unfold Mid3 Mid2
        iintro ⟨HT, HO, HX, HX2, HW, HD, HS, HZ⟩
        isplitl [HT]; · iexact HT
        isplitl [HO]; · iexact HO
        isplitl [HX]; · iexact HX
        isplitl [HX2]; · iexact HX2
        isplitl [HW]
        · iapply (WS_none (by omega) (by rw [← hwe]; exact hw.2.2.1)) $$ HW
        isplitl [HD]; · iexact HD
        isplitl [HS]; · iexact HS
        iexact HZ
      · unfold Mid3 TB WIdle SD
        isplitl [H13 H14 H15 H16 H17]
        · isplitl [H13]; · iexact H13
          isplitl [H14]; · iexact H14
          isplitl [H15]; · iexact H15
          isplitl [H16]; · iexact H16
          iexact H17
        isplitl [HO]; · iexact HO
        isplitl [HX]; · iexact HX
        isplitl [HX2]; · iexact HX2
        isplitl [Hfw Hw Hvw Hfs Hs Hvs]
        · isplitl [Hfw Hw Hvw]
          · isplitl [Hfw]; · iexact Hfw
            isplitl [Hw]
            · iexists _; iexact Hw
            iexact Hvw
          isplitl [Hfs]; · iexact Hfs
          isplitl [Hs]
          · iexists _; iexact Hs
          iexact Hvs
        isplitl [HD]
        · iapply DS_some $$ HD
        isplitl [HS]
        · iexists _; iexact HS
        iexact HZ
    · intro hc
      exact mid_skip hp htn (fun hF => hc (cond2_iff.mpr hF))
    · unfold Mid2 TB
      isplitl [H13 H14 H15 H16 H17]
      · isplitl [H13]; · iexact H13
        isplitl [H14]; · iexact H14
        isplitl [H15]; · iexact H15
        isplitl [H16]; · iexact H16
        iexact H17
      isplitl [HO]; · iexact HO
      isplitl [HX]; · iexact HX
      isplitl [HX2]; · iexact HX2
      isplitl [HW]; · iexact HW
      isplitl [HD]; · iexact HD
      isplitl [HS]; · iexact HS
      isplitl [HQ]; · iexact HQ
      iexact HZ
  · -- the next fetch
    intro hK hc
    have hn1 : t.val + 1 < nt := (cond1_iff hv hn64 t).mp hc
    have hT1 := hp _ hn1
    have hR1 : (rd f13 (t.val + 1)).toNat < 12288 := by have := hT1.tw.lt; have := hT1.tw.top; omega
    unfold TB XIdle
    iintro ⟨⟨H13, H14, H15, H16, H17⟩, HO, HX, ⟨Hx, ⟨%g5, H5⟩, Hv⟩, HW, HD, HS, HQ, HZ⟩
    iapply (ld13 (t.val + 1) (off7_eq t (by omega))) $$ H13; iintro H13
    iapply (as_rule (chk7_ok rfl hR1 hT1.tw.dvd))
    iapply (x_start (σ := (t.val + 1) % 2) (by omega) (off9_eq t (by omega)) (x_off rfl hR1) (x18_eq (by omega) (off8_eq t (by omega)))) $$ [Hx H5 Hv]
    · isplitl [Hx]; · iexact Hx
      isplitl [H5]; · iexact H5
      iexact Hv
    iintro HF
    iapply hK
    unfold Mid2 TB
    isplitl [H13 H14 H15 H16 H17]
    · isplitl [H13]; · iexact H13
      isplitl [H14]; · iexact H14
      isplitl [H15]; · iexact H15
      isplitl [H16]; · iexact H16
      iexact H17
    isplitl [HO]; · iexact HO
    isplitl [HX]; · iexact HX
    isplitl [HF]
    · rw [XA_pos hn1]; iexact HF
    isplitl [HW]; · iexact HW
    isplitl [HD]; · iexact HD
    isplitl [HS]; · iexact HS
    isplitl [HQ]; · iexact HQ
    iexact HZ
  · intro hc
    have hn1 : ¬ t.val + 1 < nt := fun h => hc ((cond1_iff hv hn64 t).mpr h)
    unfold Mid2
    rw [XA_neg hn1]

end Cert.Kernel.Hand
-- ==== Proof.K.Value.lean ====
/-
  The values a tile computes.
-/
module

public import proofs.«01_k».proof.Proof.K.State
public import proofs.«01_k».proof.Proof.K.Copy
public import proofs.«01_k».proof.Proof.K.Words

@[expose] public section

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

variable {fx : S12288x3072.Idx → Elt F .bf16} {fw : S8x3072x1536.Idx → Elt F .fp8e4m3} {fs : S8x96x1536.Idx → Elt F .i8} {g : S8.Idx → BitVec 32}

/-! ### The last strip and the whole copy -/

theorem agree_all {f5 : S2x256x3072.Idx → Elt F .bf16} {σ skip : ℕ} {fq : S256x3072.Idx → Elt F .bf16} (h : Agree f5 σ skip 192 fq) {r k : ℕ} (hr : r < 256) (hk : k < 3072) :
    fq (gx2 r k) = rowT f5 σ skip r k := by
  have e0 : ((gx2 r k : S256x3072.Idx) 0).val = r := gx2_0 _ _ hr
  have e1 : ((gx2 r k : S256x3072.Idx) 1).val = k := gx2_1 _ _ hk
  have := h (gx2 r k) (by rw [e0, e1]; omega)
  rw [e0, e1] at this; exact this

/-- The rows of a tile in the left operand. -/
theorem xq_row {f5 : S2x256x3072.Idx → Elt F .bf16} {σ R E : ℕ} {fq : S256x3072.Idx → Elt F .bf16} (h : Agree f5 σ (R - min R 12032) 192 fq)
    (h5 : ∀ r j, r < 256 → j < 3072 → f5 (ix5 σ r j) = fx (gx2 (min R 12032 + r) j)) (hE : E ≤ 12288) (hd : 16 ∣ R) (hle : E ≤ R + 256)
    {r k : ℕ} (hr : r < E - R) (hk : k < 3072) : fq (gx2 r k) = fx (gx2 (R + r) k) := by
  rw [agree_all h (by omega) hk]
  unfold rowT
  rw [h5 _ _ (by omega) hk]
  congr 2; omega

/-! ### The rows taken over from the tile before -/

theorem rt_cases (lead : BitVec 32) (cf : S16x1536.Idx → Elt F .bf16) (ob : S1x16x1536.Idx → Elt F .bf16) {i j : ℕ} (hi : i < 16) (hj : j < 1536) (hl : lead.toNat < 16)
    (Pr : Elt F .bf16 → Prop)
    (h1 : i < lead.toNat → Pr (truncf (F := F) .bf16 (extf (F := F) .f32 (cf : FVec F S16x1536 .bf16) bitsLt_bf16_f32) bitsLt_bf16_f32 (gx2 i j)))
    (h2 : ¬ i < lead.toNat → ∀ w : FVec F S16x1536 .bf16, w (gx2 i j) = ob (gx3 0 i j) →
      Pr (truncf (F := F) .bf16 (extf (F := F) .f32 w bitsLt_bf16_f32) bitsLt_bf16_f32 (gx2 i j))) :
    Pr (k0_pay594 (F := F) lead cf ob (gx3 0 i j)) := by
  have e1 : (gx3 0 i j : S1x16x1536.Idx) = ValueIdx.ix3 (0 : Fin 1) (⟨i, hi⟩ : Fin 16) (⟨j, hj⟩ : Fin 1536) :=
    (gx3_eq (ValueIdx.ix3 (0 : Fin 1) (⟨i, hi⟩ : Fin 16) (⟨j, hj⟩ : Fin 1536)) 0 i j rfl rfl rfl).symm
  have e2 : (gx2 i j : S16x1536.Idx) = ValueIdx.ix2 (⟨i, hi⟩ : Fin 16) (⟨j, hj⟩ : Fin 1536) :=
    (gx2_eq (ValueIdx.ix2 (⟨i, hi⟩ : Fin 16) (⟨j, hj⟩ : Fin 1536)) i j rfl rfl).symm
  unfold k0_pay594
  dsimp only
  rw [cast_add, e1]
  have e3 : (ValueIdx.ix2 ((ValueIdx.ix3 (0 : Fin 1) (⟨i, hi⟩ : Fin 16) (⟨j, hj⟩ : Fin 1536) : S1x16x1536.Idx) 1) ((ValueIdx.ix3 (0 : Fin 1) (⟨i, hi⟩ : Fin 16) (⟨j, hj⟩ : Fin 1536) : S1x16x1536.Idx) 2) : S16x1536.Idx) = gx2 i j := by
    rw [e2]
  have hc : cmpi .slt (iota .tc S16x1536 32 [0] iota_S16x1536_d0_w32) (broadcast S16x1536 lead) (gx2 i j) = 1#1 ↔ i < lead.toNat := by
    have hi2 : iota .tc S16x1536 32 [0] iota_S16x1536_d0_w32 (gx2 i j) = BitVec.ofNat 32 i := by
      rw [iota_apply, e2]; exact congrArg (BitVec.ofNat 32) (show 0 * 16 + i = i by omega)
    show IntOp.cmpi .slt (iota .tc S16x1536 32 [0] iota_S16x1536_d0_w32 (gx2 i j)) lead = 1#1 ↔ _
    rw [hi2]
    have hn : (BitVec.ofNat 32 i).toNat = i := by rw [BitVec.toNat_ofNat]; omega
    have := slt_nat (x := BitVec.ofNat 32 i) (y := lead) (by omega) (by omega)
    rw [hn] at this; exact this
  by_cases hlt : i < lead.toNat
  · have := h1 hlt
    have e : truncf (F := F) .bf16 (select (cmpi .slt (iota .tc S16x1536 32 [0] iota_S16x1536_d0_w32) (broadcast S16x1536 lead)) (extf (F := F) .f32 (cf : FVec F S16x1536 .bf16) bitsLt_bf16_f32)
        (extf .f32 (shapeCast S16x1536 ob shapeCasts_S1x16x1536_S16x1536) bitsLt_bf16_f32)) bitsLt_bf16_f32 (gx2 i j)
        = truncf (F := F) .bf16 (extf (F := F) .f32 (cf : FVec F S16x1536 .bf16) bitsLt_bf16_f32) bitsLt_bf16_f32 (gx2 i j) := by
      show FloatOps.truncf _ _ _ = FloatOps.truncf _ _ _
      congr 1
      show Scalar.select _ _ _ = _
      rw [hc.mpr hlt]; rfl
    erw [e3, e]; exact this
  · have := h2 hlt (shapeCast S16x1536 ob shapeCasts_S1x16x1536_S16x1536) (by rw [cast_drop, e1, e2])
    have e : truncf (F := F) .bf16 (select (cmpi .slt (iota .tc S16x1536 32 [0] iota_S16x1536_d0_w32) (broadcast S16x1536 lead)) (extf (F := F) .f32 (cf : FVec F S16x1536 .bf16) bitsLt_bf16_f32)
        (extf .f32 (shapeCast S16x1536 ob shapeCasts_S1x16x1536_S16x1536) bitsLt_bf16_f32)) bitsLt_bf16_f32 (gx2 i j)
        = truncf (F := F) .bf16 (extf (F := F) .f32 (shapeCast S16x1536 ob shapeCasts_S1x16x1536_S16x1536 : FVec F S16x1536 .bf16) bitsLt_bf16_f32) bitsLt_bf16_f32 (gx2 i j) := by
      show FloatOps.truncf _ _ _ = FloatOps.truncf _ _ _
      congr 1
      show Scalar.select _ _ _ = _
      exact if_neg (fun hh => hlt (hc.mp hh))
    erw [e3, e]; exact this

/-! ### A tile's rows -/

/-- The slot after the product is stored. -/
def Dot1 (σ : ℕ) (xq : S256x3072.Idx → Elt F .bf16) (dq : S3072x1536.Idx → Elt F .bf16) (f : S2x256x1536.Idx → Elt F .bf16) : Prop :=
  ∀ r j, r < 256 → j < 1536 → f (gx3 σ r j) = k0_pay593 (F := F) xq dq (gx3 0 r j)

theorem dot_write {σ : ℕ} (hσ : σ < 2) {off : Fin 3 → ℕ} {inb} (hoff : off = ![σ, 0, 0]) (f : S2x256x1536.Idx → Elt F (cc0_scratch6 : Ref sig .tc).ty.elt)
    (xq : S256x3072.Idx → Elt F .bf16) (dq : S3072x1536.Idx → Elt F .bf16) :
    Dot1 (F := F) σ xq dq ((m11.access (Rect.unit (s := S2x256x1536) off S1x256x1536.size inb)).write (Elt F) f (k0_pay593 (F := F) xq dq) Finset.univ) := by
  subst hoff
  intro r j hr hj
  have e0 : ((gx3 σ r j : S2x256x1536.Idx) 0).val = σ := gx3_0 _ _ _ hσ
  have e1 : ((gx3 σ r j : S2x256x1536.Idx) 1).val = r := gx3_1 _ _ _ hr
  have e2 : ((gx3 σ r j : S2x256x1536.Idx) 2).val = j := gx3_2 _ _ _ hj
  refine write_cases (F := F) cc0_scratch6 ![σ, 0, 0] S1x256x1536.size inb f (k0_pay593 (F := F) xq dq) (gx3 σ r j) (fun z => z = k0_pay593 (F := F) xq dq (gx3 0 r j)) ?_ ?_
  · intro x hx
    have h1 : ((gx3 σ r j : S2x256x1536.Idx) 1).val = 0 + (x 1).val := hx 1
    have h2 : ((gx3 σ r j : S2x256x1536.Idx) 2).val = 0 + (x 2).val := hx 2
    have h0 : (x 0).val < 1 := (x 0).isLt
    refine congrArg (k0_pay593 (F := F) xq dq) (gx3_eq _ _ _ _ ?_ ?_ ?_)
    · omega
    · omega
    · omega
  · intro h
    exfalso; apply h; intro a
    fin_cases a
    · exact ⟨Nat.le_of_eq e0.symm, lt_of_eq_of_lt e0 (Nat.lt_succ_self σ)⟩
    · exact ⟨Nat.zero_le _, lt_of_eq_of_lt e1 (by show r < 0 + 256; omega)⟩
    · exact ⟨Nat.zero_le _, lt_of_eq_of_lt e2 (by show j < 0 + 1536; omega)⟩

theorem tile_rows {σ R E L e : ℕ} (hσ : σ < 2) {off : Fin 3 → ℕ} {inb} (hoff : off = ![σ, 0, 0]) {f : S2x256x1536.Idx → Elt F (cc0_scratch6 : Ref sig .tc).ty.elt}
    {xq : S256x3072.Idx → Elt F .bf16} (hd : Dot1 (F := F) σ xq (dqF fw fs e) f) {lead : BitVec 32} (hlead : lead.toNat = L) (hL : L < 16)
    {cf : S16x1536.Idx → Elt F .bf16} (hE : E ≤ R + 256) (he : e < 8) (o1 : pre g e ≤ R + L) (o2 : E ≤ pre g (e + 1))
    (hxq : ∀ r k, r < E - R → k < 3072 → xq (gx2 r k) = fx (gx2 (R + r) k))
    (hc : ∀ i j, i < L → j < 1536 → Good fx fw fs g (R + i) j (cf (gx2 i j)))
    {ob : S1x16x1536.Idx → Elt F (cc0_scratch6 : Ref sig .tc).ty.elt} (hob : ∀ i j, i < 16 → j < 1536 → ob (gx3 0 i j) = f (gx3 σ i j)) :
    ObufOK fx fw fs g R E σ ((m11.access (Rect.unit (s := S2x256x1536) off S1x16x1536.size inb)).write (Elt F) f (k0_pay594 (F := F) lead cf ob) Finset.univ) := by
  subst hoff
  intro r j hr hj
  have e0 : ((gx3 σ r j : S2x256x1536.Idx) 0).val = σ := gx3_0 _ _ _ hσ
  have e1 : ((gx3 σ r j : S2x256x1536.Idx) 1).val = r := gx3_1 _ _ _ (by omega)
  have e2 : ((gx3 σ r j : S2x256x1536.Idx) 2).val = j := gx3_2 _ _ _ hj
  have hdot : ∀ r, r < E - R → Val fx fw fs e (R + r) j (f (gx3 σ r j)) := fun r hr => by
    rw [hd r j (by omega) hj]
    exact Val.dot xq r (by omega) hj (fun k hk => hxq r k hr hk)
  refine write_cases (F := F) cc0_scratch6 ![σ, 0, 0] S1x16x1536.size inb f (k0_pay594 (F := F) lead cf ob) (gx3 σ r j) (fun z => Good fx fw fs g (R + r) j z) ?_ ?_
  · intro x hx
    have h1 : ((gx3 σ r j : S2x256x1536.Idx) 1).val = 0 + (x 1).val := hx 1
    have h2 : ((gx3 σ r j : S2x256x1536.Idx) 2).val = 0 + (x 2).val := hx 2
    have h0 : (x 0).val < 1 := (x 0).isLt
    have h3 : (x 1).val < 16 := (x 1).isLt
    have hx2 : x = gx3 0 r j := gx3_eq (A := 1) (B := 16) (C := 1536) x 0 r j (by omega) (by omega) (by omega)
    rw [hx2]
    refine rt_cases lead cf ob (by omega) hj (by omega) (fun z => Good fx fw fs g (R + r) j z) ?_ ?_
    · intro hl
      obtain ⟨e', a1, a2, a3, a4⟩ := hc r j (by omega) hj
      exact ⟨e', a1, a2, a3, Val.rt _ _ a4⟩
    · intro hl w hw
      refine ⟨e, he, by omega, by omega, Val.rt _ _ ?_⟩
      rw [hw, hob r j (by omega) hj]
      exact hdot r hr
  · intro h
    have h16 : 16 ≤ r := by
      by_contra hlt
      apply h; intro a
      fin_cases a
      · exact ⟨Nat.le_of_eq e0.symm, lt_of_eq_of_lt e0 (Nat.lt_succ_self σ)⟩
      · exact ⟨Nat.zero_le _, lt_of_eq_of_lt e1 (by show r < 0 + 16; omega)⟩
      · exact ⟨Nat.zero_le _, lt_of_eq_of_lt e2 (by show j < 0 + 1536; omega)⟩
    exact ⟨e, he, by omega, by omega, hdot r hr⟩

/-- The rows kept for the next tile. -/
theorem carry_rows {σ R E : ℕ} (hd : 16 ∣ R) (hlt : R < E) {f : S2x256x1536.Idx → Elt F .bf16} (ho : ObufOK fx fw fs g R E σ f)
    {v : S1x16x1536.Idx → Elt F .bf16} (hv : ∀ i j, i < 16 → j < 1536 → v (gx3 0 i j) = f (gx3 σ ((E - 1 - R) / 16 * 16 + i) j)) :
    CarryOK fx fw fs g E (k0_pay595 (F := F) v) := by
  intro i j hi hj hrow
  have e1 : (gx3 0 i j : S1x16x1536.Idx) = ValueIdx.ix3 (0 : Fin 1) (⟨i, hi⟩ : Fin 16) (⟨j, hj⟩ : Fin 1536) :=
    (gx3_eq (ValueIdx.ix3 (0 : Fin 1) (⟨i, hi⟩ : Fin 16) (⟨j, hj⟩ : Fin 1536)) 0 i j rfl rfl rfl).symm
  have e2 : (gx2 i j : S16x1536.Idx) = ValueIdx.ix2 (⟨i, hi⟩ : Fin 16) (⟨j, hj⟩ : Fin 1536) :=
    (gx2_eq (ValueIdx.ix2 (⟨i, hi⟩ : Fin 16) (⟨j, hj⟩ : Fin 1536)) i j rfl rfl).symm
  have e3 : k0_pay595 (F := F) v (gx2 i j) = v (gx3 0 i j) := by
    unfold k0_pay595
    rw [shapeCast_self, cast_drop, e1, e2]
  rw [e3, hv i j hi hj]
  have hm : (E - 1) / 16 * 16 = R + (E - 1 - R) / 16 * 16 := by omega
  have := ho ((E - 1 - R) / 16 * 16 + i) j (by omega) hj
  rw [hm, Nat.add_assoc]; exact this

/-- The rows the tile before kept are the lead rows of this one. -/
theorem carry_lead {R L E0 : ℕ} (hd : 16 ∣ R) (hL : L < 16) (hs : R + L = E0) {cf : S16x1536.Idx → Elt F .bf16} {n : ℕ}
    (hc : 0 < n → CarryOK fx fw fs g E0 cf) (h0 : n = 0 → E0 = 0) : ∀ i j, i < L → j < 1536 → Good fx fw fs g (R + i) j (cf (gx2 i j)) := by
  intro i j hi hj
  have hn : 0 < n := by
    rcases Nat.eq_zero_or_pos n with h | h
    · have := h0 h; omega
    · exact h
  have hm : (E0 - 1) / 16 * 16 = R := by omega
  have := hc hn i j (by omega) hj (by omega)
  rw [hm] at this; exact this

end Cert.Kernel.Hand
-- ==== Proof.K.Part89.lean ====
/-
  The product of a tile and the rows it keeps.
-/
module

public import proofs.«01_k».proof.Proof.K.Part2
public import proofs.«01_k».proof.Proof.K.Value
public import proofs.«01_k».proof.Proof.K.Plan

@[expose] public section

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

variable {c : Dev nD} {fx : S12288x3072.Idx → Elt F .bf16} {fw : S8x3072x1536.Idx → Elt F .fp8e4m3} {fs : S8x96x1536.Idx → Elt F .i8} {g : S8.Idx → BitVec 32}
  {f13 f14 f15 f16 f17 : S64.Idx → BitVec 32} {v1_0 : BitVec 32} {nt : ℕ} {t : Fin (k0_t4_loop v1_0).trips}

theorem in_slot6 {off size : Fin 3 → ℕ} {σ b : ℕ} (hoff : off = ![σ, b, 0]) (hs : size 0 = 1) :
    ∀ y : S2x256x1536.Idx, (∀ a, off a ≤ (y a).val ∧ (y a).val < off a + size a) → y ∈ slot6 c σ := by
  intro y hy
  subst hoff
  have h0 := hy 0
  rw [hs] at h0
  have h1 : σ ≤ (y 0).val ∧ (y 0).val < σ + 1 := h0
  refine Finset.mem_filter.mpr ⟨Finset.mem_univ _, ?_⟩
  show (y 0).val = σ
  omega

/-- A store into a slot, by what holds of it afterwards. -/
theorem str11P {α : Type} {off size : Fin 3 → ℕ} {inb} {S : Finset S2x256x1536.Idx} {f : S2x256x1536.Idx → Elt F (cc0_scratch6 : Ref sig .tc).ty.elt}
    {w : (Rect.unit (s := S2x256x1536) off size inb).shape.Idx → Elt F (cc0_scratch6 : Ref sig .tc).ty.elt} {Mk : Finset (Rect.unit (s := S2x256x1536) off size inb).shape.Idx} {hx hm}
    {Q : α → PP F} {K : PUnit → PG F α} (Pr : (S2x256x1536.Idx → Elt F .bf16) → Prop) (hMk : Mk = Finset.univ)
    (hS : ∀ y : S2x256x1536.Idx, (∀ a, off a ≤ (y a).val ∧ (y a).val < off a + size a) → y ∈ S)
    (hP : Pr ((m11.access (Rect.unit (s := S2x256x1536) off size inb)).write (Elt F) f w Finset.univ)) :
    part (F := F) c cc0_scratch6 S fullShare f
      ⊢ iprop((∀ f' : S2x256x1536.Idx → Elt F .bf16, ⌜Pr f'⌝ -∗ part (F := F) c cc0_scratch6 S fullShare f' -∗ Wp c (K ⟨⟩) Q)
      -∗ Wp c (Prog.lift (.store m11 (Rect.unit (s := S2x256x1536) off size inb) w Mk hx hm) >>= K) Q) := by
  iintro Hp HK
  iapply (str11 hMk hS) $$ Hp
  iintro Hp
  iapply HK $$ [] Hp
  ipureintro; exact hP

/-- A load of 16 rows of a slot. -/
theorem ldr11P {α : Type} {off : Fin 3 → ℕ} {inb} {hl} {σ b : ℕ} (hσ : σ < 2) (hoff : off = ![σ, b, 0]) {f : S2x256x1536.Idx → Elt F (cc0_scratch6 : Ref sig .tc).ty.elt}
    {Q : α → PP F} {K : ((Rect.unit (s := S2x256x1536) off S1x16x1536.size inb).toLoadRect.shape.Idx → Elt F (cc0_scratch6 : Ref sig .tc).ty.elt) → PG F α} :
    part (F := F) c cc0_scratch6 (slot6 c σ) fullShare f
      ⊢ iprop((∀ v : S1x16x1536.Idx → Elt F (cc0_scratch6 : Ref sig .tc).ty.elt, ⌜∀ i j, i < 16 → j < 1536 → v (gx3 0 i j) = f (gx3 σ (b + i) j)⌝ -∗ part (F := F) c cc0_scratch6 (slot6 c σ) fullShare f -∗ Wp c (K v) Q)
      -∗ Wp c (Prog.lift (.load m11 (Rect.unit (s := S2x256x1536) off S1x16x1536.size inb).toLoadRect hl) >>= K) Q) := by
  iintro Hp HK
  iapply (ldr11 (in_slot6 (c := c) hoff rfl)) $$ Hp
  iintro Hp
  iapply HK $$ [] Hp
  ipureintro
  intro i j hi hj
  subst hoff
  have e0 : ((gx3 0 i j : S1x16x1536.Idx) 0).val = 0 := gx3_0 _ _ _ (by decide)
  have e1 : ((gx3 0 i j : S1x16x1536.Idx) 1).val = i := gx3_1 _ _ _ hi
  have e2 : ((gx3 0 i j : S1x16x1536.Idx) 2).val = j := gx3_2 _ _ _ hj
  refine congrArg f (gx3_eq (A := 2) (B := 256) (C := 1536) _ _ _ _ ?_ ?_ ?_)
  · show σ + 1 * ((gx3 0 i j : S1x16x1536.Idx) 0).val = σ; omega
  · show b + 1 * ((gx3 0 i j : S1x16x1536.Idx) 1).val = b + i; omega
  · show 0 + 1 * ((gx3 0 i j : S1x16x1536.Idx) 2).val = j; omega

/-- What is held once a tile's rows are in its slot. -/
def Mid4 (c : Dev nD) (fx : S12288x3072.Idx → Elt F .bf16) (fw : S8x3072x1536.Idx → Elt F .fp8e4m3) (fs : S8x96x1536.Idx → Elt F .i8) (g : S8.Idx → BitVec 32)
    (f13 f14 f15 f16 f17 : S64.Idx → BitVec 32) (nt t : ℕ) : PP F :=
  iprop(TB c f13 f14 f15 f16 f17 ∗ owed c ∗ XIdle c fx (t % 2) ∗ XA c fx f13 nt (t + 1) ∗ WS c fw fs f16 f17 nt (t + 1) ∗ DS c fw fs f16 (t + 1) ∗ SD c
    ∗ (∃ f : S256x3072.Idx → Elt F .bf16, own (F := F) c cc0_scratch5 f) ∗ (∃ f : S16x1536.Idx → Elt F .bf16, own (F := F) c cc0_scratch7 f)
    ∗ OP c fx fw fs g f13 f14 t
    ∗ (∃ fo : S2x256x1536.Idx → Elt F .bf16, ⌜ObufOK fx fw fs g (rd f13 t).toNat (rd f14 t).toNat (t % 2) fo⌝ ∗ part c cc0_scratch6 (slot6 c (t % 2)) fullShare fo))

set_option maxHeartbeats 4000000 in
theorem part89 (hnt : nt ≤ 56) (hp : Plan g f13 f14 f15 f16 f17 nt) (htn : t.val < nt) {hw6 : k0_chk6 v1_0} {f5 : S2x256x3072.Idx → Elt F .bf16}
    (hx5 : ∀ r j, r < 256 → j < 3072 → f5 (ix5 (t.val % 2) r j) = fx (gx2 (min (rd f13 t.val).toNat 12032 + r) j)) {arg22 v72 : BitVec 32} {Q : _ → PP F}
    (H : ∀ v, CarryOK fx fw fs g (rd f14 t.val).toNat (k0_pay595 (F := F) v) → Mid4 c fx fw fs g f13 f14 f15 f16 f17 nt t.val ⊢ Q v) :
    InvB (Fr2 c fx fw fs f13 f14 f15 f16 f17 nt t.val iprop(CS c fx fw fs g f14 t.val ∗ OP c fx fw fs g f13 f14 t.val ∗ OX c t.val)) c f5 (t.val % 2)
        ((rd f13 t.val).toNat - min (rd f13 t.val).toNat 12032) 191
      ⊢ Wp c (k0_part89 (F := F) m0 h0 m1 h1 m2 h2 m3 h3 m4 h4 m5 h5 m6 h6 m7 h7 m8 h8 m9 h9 m10 h10 m11 h11 m12 h12 m13 h13 m14 h14 m15 h15 m16 h16 m17 h17 s18 s19 s20 s21 v1_0 hw6 t arg22 v72 (rd f13 t.val) (st f5 (t.val % 2) ((rd f13 t.val).toNat - min (rd f13 t.val).toNat 12032) 15 22)
          (st f5 (t.val % 2) ((rd f13 t.val).toNat - min (rd f13 t.val).toNat 12032) 15 23)) Q := by
  have ht64 : t.val < 64 := by omega
  have hT := hp t.val htn
  have hlt := hT.tw.lt
  have hle := hT.tw.le
  have htop := hT.tw.top
  have hdv := hT.tw.dvd
  have hσ : t.val % 2 < 2 := Nat.mod_lt _ (by decide)
  rw [k0_part89_eq_skeleton]; unfold k0_part89_skel
  refine step_dead fun v3550 => ?_
  refine step_st (by omega) 15 11 (by decide) (by decide) rfl rfl rfl ?_ rfl
  unfold InvB Fr2 TB CS OX DS
  iintro ⟨H5, ⟨%fq, %hq, Hq⟩, ⟨H13, H14, H15, H16, H17⟩, HO, ⟨Hx, Hv⟩, HX2, HW, ⟨%fd, %hfd, HD⟩, HS, ⟨%cf, %hcf, HC⟩, HP, %fo0, Ho⟩
  have hfd2 : fd = dqF fw fs (rd f16 t.val).toNat := by have := hfd (Nat.succ_pos _); rwa [Nat.add_sub_cancel] at this
  subst hfd2
  iapply (ldw10) $$ Hq; iintro Hq
  iapply (ldw8) $$ HD; iintro HD
  iapply (ldr11 (in_slot6 (c := c) (off50_eq t ht64) rfl)) $$ Ho; iintro Ho
  iapply (str11P (Dot1 (F := F) (t.val % 2) fq (dqF fw fs (rd f16 t.val).toNat)) rfl (in_slot6 (c := c) (off50_eq t ht64) rfl) (dot_write hσ (off50_eq t ht64) fo0 fq _)) $$ Ho
  iintro %fo1 %hfo1 Ho
  iapply (ld15 t.val (off51_eq t ht64)) $$ H15; iintro H15
  iapply (ldw12) $$ HC; iintro HC
  iapply (ldr11P hσ (off52_eq t ht64)) $$ Ho
  iintro %ob %hob Ho
  iapply (ldr11 (in_slot6 (c := c) (off52_eq t ht64) rfl)) $$ Ho; iintro Ho
  iapply (str11P (ObufOK fx fw fs g (rd f13 t.val).toNat (rd f14 t.val).toNat (t.val % 2)) rfl (in_slot6 (c := c) (off52_eq t ht64) rfl)
    (tile_rows hσ (off52_eq t ht64) hfo1 rfl hT.lead hle hT.exp (by rw [hT.start]; exact hT.own1) hT.own2
      (fun r k hr hk => xq_row hq hx5 htop hdv hle hr hk)
      (carry_lead hdv hT.lead hT.start hcf (fun h0 => by rw [h0]; rfl))
      (fun i j hi hj => by rw [hob i j hi hj, Nat.zero_add]))) $$ Ho
  iintro %fo2 %hfo2 Ho
  iapply (ld14 t.val (off51_eq t ht64)) $$ H14; iintro H14
  iapply (as_rule (chk15_ok hT.tw ht64))
  iapply (ldr11P hσ (off53_eq hT.tw ht64)) $$ Ho
  iintro %v %hv Ho
  iapply (ret_rule)
  iapply (H v (carry_rows hdv hlt hfo2 hv))
  unfold Mid4 TB XIdle DS
  isplitl [H13 H14 H15 H16 H17]
  · isplitl [H13]; · iexact H13
    isplitl [H14]; · iexact H14
    isplitl [H15]; · iexact H15
    isplitl [H16]; · iexact H16
    iexact H17
  isplitl [HO]; · iexact HO
  isplitl [Hx Hv H5]
  · isplitl [Hx]; · iexact Hx
    isplitl [H5]
    · iexists _; iexact H5
    iexact Hv
  isplitl [HX2]; · iexact HX2
  isplitl [HW]; · iexact HW
  isplitl [HD]
  · iexists _; isplitr
    rotate_left
    · iexact HD
    ipureintro; intro _; rw [Nat.add_sub_cancel]
  isplitl [HS]; · iexact HS
  isplitl [Hq]
  · iexists _; iexact Hq
  isplitl [HC]
  · iexists _; iexact HC
  isplitl [HP]; · iexact HP
  iexists fo2; isplitr
  · ipureintro; exact hfo2
  iexact Ho

end Cert.Kernel.Hand
-- ==== Proof.K.Part90.lean ====
/-
  The copies of a tile into the result.
-/
module

public import proofs.«01_k».proof.Proof.K.Part89
public import proofs.«01_k».proof.Proof.K.OutB

@[expose] public section

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

variable {c : Dev nD} {fx : S12288x3072.Idx → Elt F .bf16} {fw : S8x3072x1536.Idx → Elt F .fp8e4m3} {fs : S8x96x1536.Idx → Elt F .i8} {g : S8.Idx → BitVec 32}
  {f13 f14 f15 f16 f17 : S64.Idx → BitVec 32} {v1_0 : BitVec 32} {nt : ℕ} {t : Fin (k0_t4_loop v1_0).trips}
  {α : Type} {Q : α → PP F} {σ R k : ℕ} {fo : S2x256x1536.Idx → Elt F .bf16} {fOld : S12288x1536.Idx → Elt F .bf16} {Z : PP F}

theorem fupdWp {p : PG F α} {Q : α → PP F} : iprop(|={Set.univ}=> Wp c p Q) ⊢ Wp c p Q := by
  unfold Wp; exact fupd_wp _ _ _ _ _

theorem ret_of {P : PP F} {a : α} (H : P ⊢ Q a) : P ⊢ Wp c (pure a) Q := H.trans fupd_intro

/-- A tile's copies, the pieces before `p` awaited, with the rest of the state. -/
def WZ (c : Dev nD) (σ R k : ℕ) (fo : S2x256x1536.Idx → Elt F .bf16) (fOld : S12288x1536.Idx → Elt F .bf16) (Z : PP F) (p : ℕ) : PP F :=
  iprop(OW c σ R k fo fOld p ∗ owed c ∗ Z)

/-- A tile's copies, the pieces before `p` started, with the rest of the state. -/
def IZ (c : Dev nD) (σ R k : ℕ) (fo : S2x256x1536.Idx → Elt F .bf16) (fOld : S12288x1536.Idx → Elt F .bf16) (Z : PP F) (p : ℕ) : PP F :=
  iprop(OI c σ R k fo fOld p ∗ Z)

theorem wz_skip {p : ℕ} (hk : k < 17) (hp : p < 5) (h : ¬ pres k p) : WZ c σ R k fo fOld Z p ⊢ WZ c σ R k fo fOld Z (p + 1) := by
  unfold WZ
  iintro ⟨HW, HR⟩
  ihave HW := (ob_wskip hk hp h) $$ HW
  isplitl [HW]; · iexact HW
  iexact HR

theorem iz_skip {p : ℕ} (hk : k < 17) (hp : p < 5) (h : ¬ pres k p) : IZ c σ R k fo fOld Z p ⊢ IZ c σ R k fo fOld Z (p + 1) := by
  unfold IZ
  iintro ⟨HW, HR⟩
  ihave HW := (ob_skip hk hp h) $$ HW
  isplitl [HW]; · iexact HW
  iexact HR

theorem wz_go {p r : ℕ} (hk : k < 17) (hp : p < 5) (h : pres k p) (hr : r = 16 * bw p) {K : PUnit → PG F α}
    {cs : Space} {s' : Shape} {e' : EltTy} {srcw : Memref sig .tc cs s' e'} {offo : Fin 2 → ℕ} {inbo hso hsrc hdst}
    (H : WZ c σ R k fo fOld Z (p + 1) ⊢ Wp c (K ⟨⟩) Q) :
    WZ c σ R k fo fOld Z p
      ⊢ Wp c (Prog.lift (.waitDma2 s21.sem srcw (m4.slice (Rect.unit (s := S12288x1536) offo (⟨2, ![r, 1536]⟩ : Shape).size inbo) hso) hsrc hdst) >>= K) Q := by
  unfold WZ at H ⊢
  iintro ⟨HW, HO, HR⟩
  iapply (ob_wait (r := r) hk hp h hr) $$ [HW HO]
  · isplitl [HW]; · iexact HW
    iexact HO
  iintro ⟨HW, HO⟩
  iapply H
  isplitl [HW]; · iexact HW
  isplitl [HO]; · iexact HO
  iexact HR

theorem iz_go {p r : ℕ} (hk : k < 17) (hp : p < 5) (hσ : σ < 2) (h : pres k p) (hr : r = 16 * bw p) {K : PUnit → PG F α}
    {offo : Fin 2 → ℕ} {offb : Fin 3 → ℕ} {inbo inbb hso hsb hq hsrc hdst hsem}
    (hoffo : offo = ![R + 16 * oo k p, 0]) (hoffb : offb = ![σ, 16 * oo k p, 0]) (H : IZ c σ R k fo fOld Z (p + 1) ⊢ Wp c (K ⟨⟩) Q) :
    IZ c σ R k fo fOld Z p
      ⊢ Wp c (Prog.lift (.enqueueDma ((m11.slice (Rect.unit (s := S2x256x1536) offb (⟨3, ![1, r, 1536]⟩ : Shape).size inbb) hsb).squeeze (⟨2, ![r, 1536]⟩ : Shape) hq)
          (.here (m4.slice (Rect.unit (s := S12288x1536) offo (⟨2, ![r, 1536]⟩ : Shape).size inbo) hso)) (.dma s21.sem) hsrc hdst hsem) >>= K) Q := by
  unfold IZ at H ⊢
  iintro ⟨HW, HR⟩
  iapply (ob_issue (r := r) hk hp hσ h hr hoffo hoffb) $$ HW
  iintro HW
  iapply H
  isplitl [HW]; · iexact HW
  iexact HR

set_option maxHeartbeats 4000000 in
/-- The waits for the first three pieces of the tile before. -/
theorem part1 (ht : t.val < 64) (hpos : 0 < t.val) {E : ℕ} (hT : Tw (rd f13 (t.val - 1)) (rd f14 (t.val - 1)) R E)
    {hw6 : k0_chk6 v1_0} {arg22 : BitVec 32} {hc4 : k0_cond4 v1_0 t = 1#1} {Q : _ → PP F}
    (H : ∀ hw v, WZ c σ R (kk R E) fo fOld iprop(TB c f13 f14 f15 f16 f17 ∗ Z) 3 ⊢ Q ⟨rd f13 (t.val - 1), rd f14 (t.val - 1), hw, v⟩) :
    WZ c σ R (kk R E) fo fOld iprop(TB c f13 f14 f15 f16 f17 ∗ Z) 0
      ⊢ Wp c (k0_part1 (F := F) m0 h0 m1 h1 m2 h2 m3 h3 m4 h4 m5 h5 m6 h6 m7 h7 m8 h8 m9 h9 m10 h10 m11 h11 m12 h12 m13 h13 m14 h14 m15 h15 m16 h16 m17 h17 s18 s19 s20 s21 v1_0 hw6 t arg22 hc4) Q := by
  rw [k0_part1_eq_skeleton]; unfold k0_part1_skel
  unfold WZ TB
  iintro ⟨HW, HO, ⟨H13, H14, HT⟩, HZ⟩
  iapply (ld13 (t.val - 1) (off54_eq t ht hpos)) $$ H13; iintro H13
  iapply (ld14 (t.val - 1) (off54_eq t ht hpos)) $$ H14; iintro H14
  iapply (as_rule (chk16_ok hT ht hpos))
  iapply (step_dite (P := WZ c σ R (kk R E) fo fOld iprop(TB c f13 f14 f15 f16 f17 ∗ Z) 0) (Mid := WZ c σ R (kk R E) fo fOld iprop(TB c f13 f14 f15 f16 f17 ∗ Z) 1) ?_
    (fun hR h => wz_go hT.kk_lt (by decide) ((cond5_iff hT).mp h) rfl hR) (fun h => wz_skip hT.kk_lt (by decide) (fun h' => h ((cond5_iff hT).mpr h')))) $$ [HW HO H13 H14 HT HZ]
  · refine step_dite (Mid := WZ c σ R (kk R E) fo fOld iprop(TB c f13 f14 f15 f16 f17 ∗ Z) 2) ?_
      (fun hR h => wz_go hT.kk_lt (by decide) ((cond6_iff hT).mp h) rfl hR) (fun h => wz_skip hT.kk_lt (by decide) (fun h' => h ((cond6_iff hT).mpr h')))
    refine step_dite (Mid := WZ c σ R (kk R E) fo fOld iprop(TB c f13 f14 f15 f16 f17 ∗ Z) 3) ?_
      (fun hR h => wz_go hT.kk_lt (by decide) ((cond7_iff hT).mp h) rfl hR) (fun h => wz_skip hT.kk_lt (by decide) (fun h' => h ((cond7_iff hT).mpr h')))
    exact ret_of (H _ _)
  · unfold WZ TB
    isplitl [HW]; · iexact HW
    isplitl [HO]; · iexact HO
    isplitr [HZ]
    · isplitl [H13]; · iexact H13
      isplitl [H14]; · iexact H14
      iexact HT
    iexact HZ

/-- What is held beside the output while its copies start. -/
def Yt (c : Dev nD) (fx : S12288x3072.Idx → Elt F .bf16) (fw : S8x3072x1536.Idx → Elt F .fp8e4m3) (fs : S8x96x1536.Idx → Elt F .i8) (g : S8.Idx → BitVec 32)
    (f13 f14 f16 f17 : S64.Idx → BitVec 32) (nt t : ℕ) : PP F :=
  iprop(XIdle c fx (t % 2) ∗ XA c fx f13 nt (t + 1) ∗ WS c fw fs f16 f17 nt (t + 1) ∗ DS c fw fs f16 (t + 1) ∗ SD c
    ∗ (∃ f : S256x3072.Idx → Elt F .bf16, own (F := F) c cc0_scratch5 f) ∗ CS c fx fw fs g f14 (t + 1))

/-- The slot of the tile, filled. -/
def Sl (c : Dev nD) (fx : S12288x3072.Idx → Elt F .bf16) (fw : S8x3072x1536.Idx → Elt F .fp8e4m3) (fs : S8x96x1536.Idx → Elt F .i8) (g : S8.Idx → BitVec 32)
    (f13 f14 : S64.Idx → BitVec 32) (t : ℕ) : PP F :=
  iprop(∃ fo : S2x256x1536.Idx → Elt F .bf16, ⌜ObufOK fx fw fs g (rd f13 t).toNat (rd f14 t).toNat (t % 2) fo⌝ ∗ part c cc0_scratch6 (slot6 c (t % 2)) fullShare fo)

/-- The same with the free slot, the frame of the copies of tile `t`. -/
def Zt (c : Dev nD) (fx : S12288x3072.Idx → Elt F .bf16) (fw : S8x3072x1536.Idx → Elt F .fp8e4m3) (fs : S8x96x1536.Idx → Elt F .i8) (g : S8.Idx → BitVec 32)
    (f13 f14 f15 f16 f17 : S64.Idx → BitVec 32) (nt t : ℕ) : PP F :=
  iprop(TB c f13 f14 f15 f16 f17 ∗ owed c ∗ Yt c fx fw fs g f13 f14 f16 f17 nt t ∗ OX c (t + 1))

theorem OP_pos {t : ℕ} (h : 0 < t) : OP c fx fw fs g f13 f14 t = OV c fx fw fs g f13 f14 t 0 := if_pos h
theorem OP_neg {t : ℕ} (h : ¬ 0 < t) : OP c fx fw fs g f13 f14 t = OC c fx fw fs g f14 t := if_neg h

set_option maxHeartbeats 4000000 in
/-- The end of the copies of the tile before. -/
theorem end_prev (hp : Plan g f13 f14 f15 f16 f17 nt) {t : ℕ} (htn : t < nt) (h0 : 0 < t) (hfo : ObufOK fx fw fs g (rd f13 (t - 1)).toNat (rd f14 (t - 1)).toNat ((t - 1) % 2) fo)
    (hOld : OutOK fx fw fs g (endAt f14 (t - 1)) fOld) :
    OW c ((t - 1) % 2) (rd f13 (t - 1)).toNat (kk (rd f13 (t - 1)).toNat (rd f14 (t - 1)).toNat) fo fOld 5
      ⊢ iprop(|={Set.univ}=> OC c fx fw fs g f14 t) := by
  have hT := hp (t - 1) (by omega)
  have hs := hT.start
  have hn := out_next (fx := fx) (fw := fw) (fs := fs) (g := g) hT.tw.top (show (rd f13 (t - 1)).toNat ≤ endAt f14 (t - 1) by omega) hfo hOld
  have he : (rd f14 (t - 1)).toNat = endAt f14 t := by
    obtain ⟨n, rfl⟩ : ∃ n, t = n + 1 := ⟨t - 1, by omega⟩
    rfl
  have h2 : (t - 1) % 2 = (t + 1) % 2 := by omega
  iintro HW
  imod (ob_collect hT.tw.kk_lt) $$ HW with ⟨Ho, Hs, Hv⟩
  imodintro
  unfold OC
  iexists _
  isplitr
  rotate_left
  · isplitl [Ho]; · iexact Ho
    isplitl [Hs]
    · iexists fo; rw [← h2]; iexact Hs
    iexact Hv
  ipureintro; rw [← he]; exact hn

set_option maxHeartbeats 4000000 in
/-- The kept rows, the wait for the tile before, and the start of the tile's copies. -/
theorem part90 (hv : v1_0.toNat = nt) (hnt : nt ≤ 56) (hp : Plan g f13 f14 f15 f16 f17 nt) (htn : t.val < nt) {hw6 : k0_chk6 v1_0} {arg22 : BitVec 32} {v : S1x16x1536.Idx → Elt F .bf16}
    (hcv : CarryOK fx fw fs g (rd f14 t.val).toNat (k0_pay595 (F := F) v)) {Q : _ → PP F}
    (H : ∀ fo fOld hw a b, ObufOK fx fw fs g (rd f13 t.val).toNat (rd f14 t.val).toNat (t.val % 2) fo → OutOK fx fw fs g (endAt f14 t.val) fOld →
      IZ c (t.val % 2) (rd f13 t.val).toNat (kk (rd f13 t.val).toNat (rd f14 t.val).toNat) fo fOld (Zt c fx fw fs g f13 f14 f15 f16 f17 nt t.val) 2
        ⊢ Q ⟨rd f13 t.val, rd f14 t.val, hw, a, b⟩) :
    Mid4 c fx fw fs g f13 f14 f15 f16 f17 nt t.val ⊢ Wp c (k0_part90 (F := F) m0 h0 m1 h1 m2 h2 m3 h3 m4 h4 m5 h5 m6 h6 m7 h7 m8 h8 m9 h9 m10 h10 m11 h11 m12 h12 m13 h13 m14 h14 m15 h15 m16 h16 m17 h17 s18 s19 s20 s21 v1_0 hw6 t arg22 v) Q := by
  have ht64 : t.val < 64 := by omega
  have hT := hp t.val htn
  have hσ : t.val % 2 < 2 := Nat.mod_lt _ (by decide)
  rw [k0_part90_eq_skeleton]; unfold k0_part90_skel
  unfold Mid4
  iintro ⟨HT, HO, HX, HX2, HW, HD, HS, HQ, ⟨%fc, HC⟩, HP, HL⟩
  iapply (ldw12) $$ HC; iintro HC
  iapply (stw12 rfl) $$ HC; iintro HC
  iapply (step_dite (P := iprop(TB c f13 f14 f15 f16 f17 ∗ owed c ∗ Yt c fx fw fs g f13 f14 f16 f17 nt t.val ∗ OP c fx fw fs g f13 f14 t.val ∗ Sl c fx fw fs g f13 f14 t.val))
    (Mid := iprop(TB c f13 f14 f15 f16 f17 ∗ owed c ∗ Yt c fx fw fs g f13 f14 f16 f17 nt t.val ∗ OC c fx fw fs g f14 t.val ∗ Sl c fx fw fs g f13 f14 t.val)) ?_ ?_ ?_)
    $$ [HT HO HX HX2 HW HD HS HQ HC HP HL]
  · -- the copies
    unfold OC Sl TB
    iintro ⟨⟨H13, H14, HT⟩, HO, HY, ⟨%fOld, %hOld, Ho, Hs2, Hv⟩, ⟨%fo, %hfo, Hs⟩⟩
    iapply (ld13 t.val (off65_eq t ht64)) $$ H13; iintro H13
    iapply (ld14 t.val (off65_eq t ht64)) $$ H14; iintro H14
    iapply (as_rule (chk17_ok hT.tw ht64))
    iapply fupdWp
    imod (ob_alloc (σ := t.val % 2) (R := (rd f13 t.val).toNat) hT.tw.kk_lt) $$ [Ho Hs Hv] with HI
    · isplitl [Ho]; · iexact Ho
      isplitl [Hs]; · iexact Hs
      iexact Hv
    imodintro
    iapply (step_dite (P := IZ c (t.val % 2) (rd f13 t.val).toNat (kk (rd f13 t.val).toNat (rd f14 t.val).toNat) fo fOld (Zt c fx fw fs g f13 f14 f15 f16 f17 nt t.val) 0)
      (Mid := IZ c (t.val % 2) (rd f13 t.val).toNat (kk (rd f13 t.val).toNat (rd f14 t.val).toNat) fo fOld (Zt c fx fw fs g f13 f14 f15 f16 f17 nt t.val) 1) ?_
      (fun hR h => iz_go hT.tw.kk_lt (by decide) hσ ((cond10_iff hT.tw).mp h) rfl (off66_eq hT.tw) (off67_eq hT.tw ht64) hR)
      (fun h => iz_skip hT.tw.kk_lt (by decide) (fun h' => h ((cond10_iff hT.tw).mpr h')))) $$ [HI H13 H14 HT HO HY Hs2]
    · refine step_dite (Mid := IZ c (t.val % 2) (rd f13 t.val).toNat (kk (rd f13 t.val).toNat (rd f14 t.val).toNat) fo fOld (Zt c fx fw fs g f13 f14 f15 f16 f17 nt t.val) 2) ?_
        (fun hR h => iz_go hT.tw.kk_lt (by decide) hσ ((cond11_iff hT.tw).mp h) rfl (off68_eq hT.tw) (off69_eq hT.tw ht64) hR)
        (fun h => iz_skip hT.tw.kk_lt (by decide) (fun h' => h ((cond11_iff hT.tw).mpr h')))
      exact ret_of (H fo fOld _ _ _ hfo hOld)
    · unfold IZ Zt TB OX
      isplitl [HI]; · iexact HI
      isplitl [H13 H14 HT]
      · isplitl [H13]; · iexact H13
        isplitl [H14]; · iexact H14
        iexact HT
      isplitl [HO]; · iexact HO
      isplitl [HY]; · iexact HY
      iexact Hs2
  · -- the waits
    intro hR hc4
    have h0 : 0 < t.val := (cond4_iff hv (by omega) t).mp hc4
    have hT1 := hp (t.val - 1) (by omega)
    rw [OP_pos h0]
    unfold OV
    iintro ⟨HT, HO, HY, ⟨%fo, %fOld, %hpo, HW⟩, HL⟩
    iapply (step_bind (part1 (Z := iprop(Yt c fx fw fs g f13 f14 f16 f17 nt t.val ∗ Sl c fx fw fs g f13 f14 t.val)) ht64 h0 hT1.tw (fun hw v => ?_))) $$ [HT HO HY HW HL]
    · refine step_dite (Mid := WZ c ((t.val - 1) % 2) (rd f13 (t.val - 1)).toNat (kk (rd f13 (t.val - 1)).toNat (rd f14 (t.val - 1)).toNat) fo fOld iprop(TB c f13 f14 f15 f16 f17 ∗ Yt c fx fw fs g f13 f14 f16 f17 nt t.val ∗ Sl c fx fw fs g f13 f14 t.val) 4) ?_
        (fun hR h => wz_go hT1.tw.kk_lt (by decide) ((cond8_iff hT1.tw).mp h) rfl hR) (fun h => wz_skip hT1.tw.kk_lt (by decide) (fun h' => h ((cond8_iff hT1.tw).mpr h')))
      refine step_dite (Mid := WZ c ((t.val - 1) % 2) (rd f13 (t.val - 1)).toNat (kk (rd f13 (t.val - 1)).toNat (rd f14 (t.val - 1)).toNat) fo fOld iprop(TB c f13 f14 f15 f16 f17 ∗ Yt c fx fw fs g f13 f14 f16 f17 nt t.val ∗ Sl c fx fw fs g f13 f14 t.val) 5) ?_
        (fun hR h => wz_go hT1.tw.kk_lt (by decide) ((cond9_iff hT1.tw).mp h) rfl hR) (fun h => wz_skip hT1.tw.kk_lt (by decide) (fun h' => h ((cond9_iff hT1.tw).mpr h')))
      unfold WZ
      iintro ⟨HW, HO, HT, HY, HL⟩
      iapply fupdWp
      imod (end_prev hp htn h0 hpo.1 hpo.2) $$ HW with HC
      imodintro
      iapply hR
      isplitl [HT]; · iexact HT
      isplitl [HO]; · iexact HO
      isplitl [HY]; · iexact HY
      isplitl [HC]; · iexact HC
      iexact HL
    · unfold WZ
      isplitl [HW]; · iexact HW
      isplitl [HO]; · iexact HO
      isplitl [HT]; · iexact HT
      isplitl [HY]; · iexact HY
      iexact HL
  · intro hc4
    rw [OP_neg (fun h0 => hc4 ((cond4_iff hv (by omega) t).mpr h0))]
  · unfold Yt Sl CS
    isplitl [HT]; · iexact HT
    isplitl [HO]; · iexact HO
    isplitl [HX HX2 HW HD HS HQ HC]
    · isplitl [HX]; · iexact HX
      isplitl [HX2]; · iexact HX2
      isplitl [HW]; · iexact HW
      isplitl [HD]; · iexact HD
      isplitl [HS]; · iexact HS
      isplitl [HQ]; · iexact HQ
      iexists _
      isplitr
      rotate_left
      · iexact HC
      ipureintro; intro _; exact hcv
    isplitl [HP]; · iexact HP
    iexact HL

end Cert.Kernel.Hand
-- ==== Proof.K.Copy1.lean ====
/-
  The steps of the strip copies, parts 3 to 30 of the printed body.
-/
module

public import proofs.«01_k».proof.Proof.K.Copy

@[expose] public section

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

variable {R : PP F} {c : Dev nD} {f5 : S2x256x3072.Idx → Elt F .bf16} {σ skip : ℕ}
variable (hlt : σ < 2) (hs : 16 ∣ skip) {v1_0 : BitVec 32} {k0_t4 : Fin (k0_t4_loop v1_0).trips} {v93 : Elt F .i32}
variable (hσ : (Scalar.andi (Scf.iv 0#32 1#32 k0_t4) 1#32).toNat = σ)
variable (hsk : (Scalar.subi v93 (Scalar.minsi v93 12032#32)).toNat = skip)
variable {k0_hw14 : k0_chk14 v1_0 k0_t4 v93}
include hlt hs hσ hsk

theorem part3 (v72 : BitVec 32) (v96 : BitVec 32) {Q : _ → PP F}
    (H : InvB R c f5 σ skip 0 ⊢ Q ⟨(st f5 σ skip 0 1), (st f5 σ skip 1 0), (st f5 σ skip 1 1), (st f5 σ skip 2 0), (st f5 σ skip 2 1), (st f5 σ skip 3 0)⟩) :
    InvB R c f5 σ skip 0 ⊢ Wp c (k0_part3 m0 h0 m1 h1 m2 h2 m3 h3 m4 h4 m5 h5 m6 h6 m7 h7 m8 h8 m9 h9 m10 h10 m11 h11 m12 h12 m13 h13 m14 h14 m15 h15 m16 h16 m17 h17 s18 s19 s20 s21 v1_0 k0_t4 v72 v93 k0_hw14 v96) Q := by
  rw [k0_part3_eq_skeleton]; unfold k0_part3_skel
  refine step_ld hlt hs 0 1 (by decide) (by decide) (offEq hσ hsk rfl) ?_
  refine step_ld hlt hs 1 0 (by decide) (by decide) (offEq hσ hsk rfl) ?_
  refine step_ld hlt hs 1 1 (by decide) (by decide) (offEq hσ hsk rfl) ?_
  refine step_ld hlt hs 2 0 (by decide) (by decide) (offEq hσ hsk rfl) ?_
  refine step_ld hlt hs 2 1 (by decide) (by decide) (offEq hσ hsk rfl) ?_
  refine step_ld hlt hs 3 0 (by decide) (by decide) (offEq hσ hsk rfl) ?_
  exact step_ret H

theorem part4 (v72 : BitVec 32) (v96 : BitVec 32) {Q : _ → PP F}
    (H : InvB R c f5 σ skip 0 ⊢ Q ⟨(st f5 σ skip 3 1), (st f5 σ skip 4 0), (st f5 σ skip 4 1), (st f5 σ skip 5 0), (st f5 σ skip 5 1), (st f5 σ skip 6 0)⟩) :
    InvB R c f5 σ skip 0 ⊢ Wp c (k0_part4 m0 h0 m1 h1 m2 h2 m3 h3 m4 h4 m5 h5 m6 h6 m7 h7 m8 h8 m9 h9 m10 h10 m11 h11 m12 h12 m13 h13 m14 h14 m15 h15 m16 h16 m17 h17 s18 s19 s20 s21 v1_0 k0_t4 v72 v93 k0_hw14 v96) Q := by
  rw [k0_part4_eq_skeleton]; unfold k0_part4_skel
  refine step_ld hlt hs 3 1 (by decide) (by decide) (offEq hσ hsk rfl) ?_
  refine step_ld hlt hs 4 0 (by decide) (by decide) (offEq hσ hsk rfl) ?_
  refine step_ld hlt hs 4 1 (by decide) (by decide) (offEq hσ hsk rfl) ?_
  refine step_ld hlt hs 5 0 (by decide) (by decide) (offEq hσ hsk rfl) ?_
  refine step_ld hlt hs 5 1 (by decide) (by decide) (offEq hσ hsk rfl) ?_
  refine step_ld hlt hs 6 0 (by decide) (by decide) (offEq hσ hsk rfl) ?_
  exact step_ret H

theorem part5 (v72 : BitVec 32) (v96 : BitVec 32) {Q : _ → PP F}
    (H : InvB R c f5 σ skip 0 ⊢ Q ⟨(st f5 σ skip 6 1), (st f5 σ skip 7 0), (st f5 σ skip 7 1), (st f5 σ skip 8 0), (st f5 σ skip 8 1), (st f5 σ skip 9 0)⟩) :
    InvB R c f5 σ skip 0 ⊢ Wp c (k0_part5 m0 h0 m1 h1 m2 h2 m3 h3 m4 h4 m5 h5 m6 h6 m7 h7 m8 h8 m9 h9 m10 h10 m11 h11 m12 h12 m13 h13 m14 h14 m15 h15 m16 h16 m17 h17 s18 s19 s20 s21 v1_0 k0_t4 v72 v93 k0_hw14 v96) Q := by
  rw [k0_part5_eq_skeleton]; unfold k0_part5_skel
  refine step_ld hlt hs 6 1 (by decide) (by decide) (offEq hσ hsk rfl) ?_
  refine step_ld hlt hs 7 0 (by decide) (by decide) (offEq hσ hsk rfl) ?_
  refine step_ld hlt hs 7 1 (by decide) (by decide) (offEq hσ hsk rfl) ?_
  refine step_ld hlt hs 8 0 (by decide) (by decide) (offEq hσ hsk rfl) ?_
  refine step_ld hlt hs 8 1 (by decide) (by decide) (offEq hσ hsk rfl) ?_
  refine step_ld hlt hs 9 0 (by decide) (by decide) (offEq hσ hsk rfl) ?_
  exact step_ret H

theorem part6 (v72 : BitVec 32) (v96 : BitVec 32) {Q : _ → PP F}
    (H : InvB R c f5 σ skip 0 ⊢ Q ⟨(st f5 σ skip 9 1), (st f5 σ skip 10 0), (st f5 σ skip 10 1), (st f5 σ skip 11 0), (st f5 σ skip 11 1), (st f5 σ skip 12 0)⟩) :
    InvB R c f5 σ skip 0 ⊢ Wp c (k0_part6 m0 h0 m1 h1 m2 h2 m3 h3 m4 h4 m5 h5 m6 h6 m7 h7 m8 h8 m9 h9 m10 h10 m11 h11 m12 h12 m13 h13 m14 h14 m15 h15 m16 h16 m17 h17 s18 s19 s20 s21 v1_0 k0_t4 v72 v93 k0_hw14 v96) Q := by
  rw [k0_part6_eq_skeleton]; unfold k0_part6_skel
  refine step_ld hlt hs 9 1 (by decide) (by decide) (offEq hσ hsk rfl) ?_
  refine step_ld hlt hs 10 0 (by decide) (by decide) (offEq hσ hsk rfl) ?_
  refine step_ld hlt hs 10 1 (by decide) (by decide) (offEq hσ hsk rfl) ?_
  refine step_ld hlt hs 11 0 (by decide) (by decide) (offEq hσ hsk rfl) ?_
  refine step_ld hlt hs 11 1 (by decide) (by decide) (offEq hσ hsk rfl) ?_
  refine step_ld hlt hs 12 0 (by decide) (by decide) (offEq hσ hsk rfl) ?_
  exact step_ret H

theorem part7 (v72 : BitVec 32) (v96 : BitVec 32) {Q : _ → PP F}
    (H : InvB R c f5 σ skip 0 ⊢ Q ⟨(st f5 σ skip 12 1), (st f5 σ skip 13 0), (st f5 σ skip 13 1), (st f5 σ skip 14 0), (st f5 σ skip 14 1), (st f5 σ skip 15 0)⟩) :
    InvB R c f5 σ skip 0 ⊢ Wp c (k0_part7 m0 h0 m1 h1 m2 h2 m3 h3 m4 h4 m5 h5 m6 h6 m7 h7 m8 h8 m9 h9 m10 h10 m11 h11 m12 h12 m13 h13 m14 h14 m15 h15 m16 h16 m17 h17 s18 s19 s20 s21 v1_0 k0_t4 v72 v93 k0_hw14 v96) Q := by
  rw [k0_part7_eq_skeleton]; unfold k0_part7_skel
  refine step_ld hlt hs 12 1 (by decide) (by decide) (offEq hσ hsk rfl) ?_
  refine step_ld hlt hs 13 0 (by decide) (by decide) (offEq hσ hsk rfl) ?_
  refine step_ld hlt hs 13 1 (by decide) (by decide) (offEq hσ hsk rfl) ?_
  refine step_ld hlt hs 14 0 (by decide) (by decide) (offEq hσ hsk rfl) ?_
  refine step_ld hlt hs 14 1 (by decide) (by decide) (offEq hσ hsk rfl) ?_
  refine step_ld hlt hs 15 0 (by decide) (by decide) (offEq hσ hsk rfl) ?_
  exact step_ret H

theorem part8 {Q : _ → PP F}
    (H : InvB R c f5 σ skip 8 ⊢ Q ⟨(st f5 σ skip 15 1), (cat f5 σ skip 8 0)⟩) :
    InvB R c f5 σ skip 0 ⊢ Wp c (k0_part8 m0 h0 m1 h1 m2 h2 m3 h3 m4 h4 m5 h5 m6 h6 m7 h7 m8 h8 m9 h9 m10 h10 m11 h11 m12 h12 m13 h13 m14 h14 m15 h15 m16 h16 m17 h17 s18 s19 s20 s21 v1_0 k0_t4 v93 k0_hw14 (st f5 σ skip 0 0) (st f5 σ skip 0 1) (st f5 σ skip 1 0) (st f5 σ skip 1 1) (st f5 σ skip 2 0) (st f5 σ skip 2 1) (st f5 σ skip 3 0) (st f5 σ skip 3 1) (st f5 σ skip 4 0) (st f5 σ skip 4 1) (st f5 σ skip 5 0) (st f5 σ skip 5 1) (st f5 σ skip 6 0) (st f5 σ skip 6 1) (st f5 σ skip 7 0) (st f5 σ skip 7 1) (st f5 σ skip 8 0) (st f5 σ skip 8 1)) Q := by
  rw [k0_part8_eq_skeleton]; unfold k0_part8_skel
  refine step_ld hlt hs 15 1 (by decide) (by decide) (offEq hσ hsk rfl) ?_
  refine step_dead fun v322 => ?_
  refine step_st hs 0 0 (by decide) (by decide) rfl rfl rfl ?_ rfl
  refine step_dead fun v326 => ?_
  refine step_st hs 1 0 (by decide) (by decide) rfl rfl rfl ?_ rfl
  refine step_dead fun v330 => ?_
  refine step_st hs 2 0 (by decide) (by decide) rfl rfl rfl ?_ rfl
  refine step_dead fun v334 => ?_
  refine step_st hs 3 0 (by decide) (by decide) rfl rfl rfl ?_ rfl
  refine step_dead fun v338 => ?_
  refine step_st hs 4 0 (by decide) (by decide) rfl rfl rfl ?_ rfl
  refine step_dead fun v342 => ?_
  refine step_st hs 5 0 (by decide) (by decide) rfl rfl rfl ?_ rfl
  refine step_dead fun v346 => ?_
  refine step_st hs 6 0 (by decide) (by decide) rfl rfl rfl ?_ rfl
  refine step_dead fun v350 => ?_
  refine step_st hs 7 0 (by decide) (by decide) rfl rfl rfl ?_ rfl
  exact step_ret H

theorem part9 (v96 : BitVec 32) {Q : _ → PP F}
    (H : InvB R c f5 σ skip 16 ⊢ Q (Scalar.andi (Scalar.addi v96 0#32) 255#32)) :
    InvB R c f5 σ skip 8 ⊢ Wp c (k0_part9 m0 h0 m1 h1 m2 h2 m3 h3 m4 h4 m5 h5 m6 h6 m7 h7 m8 h8 m9 h9 m10 h10 m11 h11 m12 h12 m13 h13 m14 h14 m15 h15 m16 h16 m17 h17 s18 s19 s20 s21 v96 (st f5 σ skip 9 0) (st f5 σ skip 9 1) (st f5 σ skip 10 0) (st f5 σ skip 10 1) (st f5 σ skip 11 0) (st f5 σ skip 11 1) (st f5 σ skip 12 0) (st f5 σ skip 12 1) (st f5 σ skip 13 0) (st f5 σ skip 13 1) (st f5 σ skip 14 0) (st f5 σ skip 14 1) (st f5 σ skip 15 0) (st f5 σ skip 15 1) (cat f5 σ skip 8 0)) Q := by
  rw [k0_part9_eq_skeleton]; unfold k0_part9_skel
  refine step_dead fun v354 => ?_
  refine step_st hs 8 0 (by decide) (by decide) rfl rfl rfl ?_ rfl
  refine step_dead fun v358 => ?_
  refine step_st hs 9 0 (by decide) (by decide) rfl rfl rfl ?_ rfl
  refine step_dead fun v362 => ?_
  refine step_st hs 10 0 (by decide) (by decide) rfl rfl rfl ?_ rfl
  refine step_dead fun v366 => ?_
  refine step_st hs 11 0 (by decide) (by decide) rfl rfl rfl ?_ rfl
  refine step_dead fun v370 => ?_
  refine step_st hs 12 0 (by decide) (by decide) rfl rfl rfl ?_ rfl
  refine step_dead fun v374 => ?_
  refine step_st hs 13 0 (by decide) (by decide) rfl rfl rfl ?_ rfl
  refine step_dead fun v378 => ?_
  refine step_st hs 14 0 (by decide) (by decide) rfl rfl rfl ?_ rfl
  refine step_dead fun v382 => ?_
  refine step_st hs 15 0 (by decide) (by decide) rfl rfl rfl ?_ rfl
  exact step_ret H

theorem part10 (v72 : BitVec 32) (v96 : BitVec 32) (v387 : BitVec 32) {Q : _ → PP F}
    (H : InvB R c f5 σ skip 16 ⊢ Q ⟨(st f5 σ skip 0 2), (st f5 σ skip 0 3), (st f5 σ skip 1 2), (st f5 σ skip 1 3), (st f5 σ skip 2 2), (st f5 σ skip 2 3), (Scalar.andi (Scalar.addi v96 48#32) 255#32)⟩) :
    InvB R c f5 σ skip 16 ⊢ Wp c (k0_part10 m0 h0 m1 h1 m2 h2 m3 h3 m4 h4 m5 h5 m6 h6 m7 h7 m8 h8 m9 h9 m10 h10 m11 h11 m12 h12 m13 h13 m14 h14 m15 h15 m16 h16 m17 h17 s18 s19 s20 s21 v1_0 k0_t4 v72 v93 k0_hw14 v96 v387) Q := by
  rw [k0_part10_eq_skeleton]; unfold k0_part10_skel
  refine step_ld hlt hs 0 2 (by decide) (by decide) (offEq hσ hsk rfl) ?_
  refine step_ld hlt hs 0 3 (by decide) (by decide) (offEq hσ hsk rfl) ?_
  refine step_ld hlt hs 1 2 (by decide) (by decide) (offEq hσ hsk rfl) ?_
  refine step_ld hlt hs 1 3 (by decide) (by decide) (offEq hσ hsk rfl) ?_
  refine step_ld hlt hs 2 2 (by decide) (by decide) (offEq hσ hsk rfl) ?_
  refine step_ld hlt hs 2 3 (by decide) (by decide) (offEq hσ hsk rfl) ?_
  exact step_ret H

theorem part11 (v72 : BitVec 32) (v96 : BitVec 32) (v429 : BitVec 32) {Q : _ → PP F}
    (H : InvB R c f5 σ skip 16 ⊢ Q ⟨(st f5 σ skip 3 2), (st f5 σ skip 3 3), (st f5 σ skip 4 2), (st f5 σ skip 4 3), (st f5 σ skip 5 2), (st f5 σ skip 5 3), (Scalar.andi (Scalar.addi v96 96#32) 255#32)⟩) :
    InvB R c f5 σ skip 16 ⊢ Wp c (k0_part11 m0 h0 m1 h1 m2 h2 m3 h3 m4 h4 m5 h5 m6 h6 m7 h7 m8 h8 m9 h9 m10 h10 m11 h11 m12 h12 m13 h13 m14 h14 m15 h15 m16 h16 m17 h17 s18 s19 s20 s21 v1_0 k0_t4 v72 v93 k0_hw14 v96 v429) Q := by
  rw [k0_part11_eq_skeleton]; unfold k0_part11_skel
  refine step_ld hlt hs 3 2 (by decide) (by decide) (offEq hσ hsk rfl) ?_
  refine step_ld hlt hs 3 3 (by decide) (by decide) (offEq hσ hsk rfl) ?_
  refine step_ld hlt hs 4 2 (by decide) (by decide) (offEq hσ hsk rfl) ?_
  refine step_ld hlt hs 4 3 (by decide) (by decide) (offEq hσ hsk rfl) ?_
  refine step_ld hlt hs 5 2 (by decide) (by decide) (offEq hσ hsk rfl) ?_
  refine step_ld hlt hs 5 3 (by decide) (by decide) (offEq hσ hsk rfl) ?_
  exact step_ret H

theorem part12 (v72 : BitVec 32) (v96 : BitVec 32) (v471 : BitVec 32) {Q : _ → PP F}
    (H : InvB R c f5 σ skip 16 ⊢ Q ⟨(st f5 σ skip 6 2), (st f5 σ skip 6 3), (st f5 σ skip 7 2), (st f5 σ skip 7 3), (st f5 σ skip 8 2), (st f5 σ skip 8 3), (Scalar.andi (Scalar.addi v96 144#32) 255#32)⟩) :
    InvB R c f5 σ skip 16 ⊢ Wp c (k0_part12 m0 h0 m1 h1 m2 h2 m3 h3 m4 h4 m5 h5 m6 h6 m7 h7 m8 h8 m9 h9 m10 h10 m11 h11 m12 h12 m13 h13 m14 h14 m15 h15 m16 h16 m17 h17 s18 s19 s20 s21 v1_0 k0_t4 v72 v93 k0_hw14 v96 v471) Q := by
  rw [k0_part12_eq_skeleton]; unfold k0_part12_skel
  refine step_ld hlt hs 6 2 (by decide) (by decide) (offEq hσ hsk rfl) ?_
  refine step_ld hlt hs 6 3 (by decide) (by decide) (offEq hσ hsk rfl) ?_
  refine step_ld hlt hs 7 2 (by decide) (by decide) (offEq hσ hsk rfl) ?_
  refine step_ld hlt hs 7 3 (by decide) (by decide) (offEq hσ hsk rfl) ?_
  refine step_ld hlt hs 8 2 (by decide) (by decide) (offEq hσ hsk rfl) ?_
  refine step_ld hlt hs 8 3 (by decide) (by decide) (offEq hσ hsk rfl) ?_
  exact step_ret H

theorem part13 (v72 : BitVec 32) (v96 : BitVec 32) (v513 : BitVec 32) {Q : _ → PP F}
    (H : InvB R c f5 σ skip 16 ⊢ Q ⟨(st f5 σ skip 9 2), (st f5 σ skip 9 3), (st f5 σ skip 10 2), (st f5 σ skip 10 3), (st f5 σ skip 11 2), (st f5 σ skip 11 3), (Scalar.andi (Scalar.addi v96 192#32) 255#32)⟩) :
    InvB R c f5 σ skip 16 ⊢ Wp c (k0_part13 m0 h0 m1 h1 m2 h2 m3 h3 m4 h4 m5 h5 m6 h6 m7 h7 m8 h8 m9 h9 m10 h10 m11 h11 m12 h12 m13 h13 m14 h14 m15 h15 m16 h16 m17 h17 s18 s19 s20 s21 v1_0 k0_t4 v72 v93 k0_hw14 v96 v513) Q := by
  rw [k0_part13_eq_skeleton]; unfold k0_part13_skel
  refine step_ld hlt hs 9 2 (by decide) (by decide) (offEq hσ hsk rfl) ?_
  refine step_ld hlt hs 9 3 (by decide) (by decide) (offEq hσ hsk rfl) ?_
  refine step_ld hlt hs 10 2 (by decide) (by decide) (offEq hσ hsk rfl) ?_
  refine step_ld hlt hs 10 3 (by decide) (by decide) (offEq hσ hsk rfl) ?_
  refine step_ld hlt hs 11 2 (by decide) (by decide) (offEq hσ hsk rfl) ?_
  refine step_ld hlt hs 11 3 (by decide) (by decide) (offEq hσ hsk rfl) ?_
  exact step_ret H

theorem part14 (v72 : BitVec 32) (v96 : BitVec 32) (v555 : BitVec 32) {Q : _ → PP F}
    (H : InvB R c f5 σ skip 16 ⊢ Q ⟨(st f5 σ skip 12 2), (st f5 σ skip 12 3), (st f5 σ skip 13 2), (st f5 σ skip 13 3), (st f5 σ skip 14 2), (st f5 σ skip 14 3), (Scalar.andi (Scalar.addi v96 240#32) 255#32)⟩) :
    InvB R c f5 σ skip 16 ⊢ Wp c (k0_part14 m0 h0 m1 h1 m2 h2 m3 h3 m4 h4 m5 h5 m6 h6 m7 h7 m8 h8 m9 h9 m10 h10 m11 h11 m12 h12 m13 h13 m14 h14 m15 h15 m16 h16 m17 h17 s18 s19 s20 s21 v1_0 k0_t4 v72 v93 k0_hw14 v96 v555) Q := by
  rw [k0_part14_eq_skeleton]; unfold k0_part14_skel
  refine step_ld hlt hs 12 2 (by decide) (by decide) (offEq hσ hsk rfl) ?_
  refine step_ld hlt hs 12 3 (by decide) (by decide) (offEq hσ hsk rfl) ?_
  refine step_ld hlt hs 13 2 (by decide) (by decide) (offEq hσ hsk rfl) ?_
  refine step_ld hlt hs 13 3 (by decide) (by decide) (offEq hσ hsk rfl) ?_
  refine step_ld hlt hs 14 2 (by decide) (by decide) (offEq hσ hsk rfl) ?_
  refine step_ld hlt hs 14 3 (by decide) (by decide) (offEq hσ hsk rfl) ?_
  exact step_ret H

theorem part15 (v72 : BitVec 32) (v96 : BitVec 32) (v597 : BitVec 32) {Q : _ → PP F}
    (H : InvB R c f5 σ skip 22 ⊢ Q ⟨(st f5 σ skip 15 2), (st f5 σ skip 15 3), (cat f5 σ skip 6 1)⟩) :
    InvB R c f5 σ skip 16 ⊢ Wp c (k0_part15 m0 h0 m1 h1 m2 h2 m3 h3 m4 h4 m5 h5 m6 h6 m7 h7 m8 h8 m9 h9 m10 h10 m11 h11 m12 h12 m13 h13 m14 h14 m15 h15 m16 h16 m17 h17 s18 s19 s20 s21 v1_0 k0_t4 v72 v93 k0_hw14 v96 (st f5 σ skip 0 2) (st f5 σ skip 0 3) (st f5 σ skip 1 2) (st f5 σ skip 1 3) (st f5 σ skip 2 2) (st f5 σ skip 2 3) (st f5 σ skip 3 2) (st f5 σ skip 3 3) (st f5 σ skip 4 2) (st f5 σ skip 4 3) (st f5 σ skip 5 2) (st f5 σ skip 5 3) (st f5 σ skip 6 2) (st f5 σ skip 6 3) v597) Q := by
  rw [k0_part15_eq_skeleton]; unfold k0_part15_skel
  refine step_ld hlt hs 15 2 (by decide) (by decide) (offEq hσ hsk rfl) ?_
  refine step_ld hlt hs 15 3 (by decide) (by decide) (offEq hσ hsk rfl) ?_
  refine step_dead fun v610 => ?_
  refine step_st hs 0 1 (by decide) (by decide) rfl rfl rfl ?_ rfl
  refine step_dead fun v614 => ?_
  refine step_st hs 1 1 (by decide) (by decide) rfl rfl rfl ?_ rfl
  refine step_dead fun v618 => ?_
  refine step_st hs 2 1 (by decide) (by decide) rfl rfl rfl ?_ rfl
  refine step_dead fun v622 => ?_
  refine step_st hs 3 1 (by decide) (by decide) rfl rfl rfl ?_ rfl
  refine step_dead fun v626 => ?_
  refine step_st hs 4 1 (by decide) (by decide) rfl rfl rfl ?_ rfl
  refine step_dead fun v630 => ?_
  refine step_st hs 5 1 (by decide) (by decide) rfl rfl rfl ?_ rfl
  exact step_ret H

theorem part16 {Q : _ → PP F}
    (H : InvB R c f5 σ skip 31 ⊢ Q ⟨⟩) :
    InvB R c f5 σ skip 22 ⊢ Wp c (k0_part16 m0 h0 m1 h1 m2 h2 m3 h3 m4 h4 m5 h5 m6 h6 m7 h7 m8 h8 m9 h9 m10 h10 m11 h11 m12 h12 m13 h13 m14 h14 m15 h15 m16 h16 m17 h17 s18 s19 s20 s21 (st f5 σ skip 7 2) (st f5 σ skip 7 3) (st f5 σ skip 8 2) (st f5 σ skip 8 3) (st f5 σ skip 9 2) (st f5 σ skip 9 3) (st f5 σ skip 10 2) (st f5 σ skip 10 3) (st f5 σ skip 11 2) (st f5 σ skip 11 3) (st f5 σ skip 12 2) (st f5 σ skip 12 3) (st f5 σ skip 13 2) (st f5 σ skip 13 3) (st f5 σ skip 14 2) (st f5 σ skip 14 3) (cat f5 σ skip 6 1)) Q := by
  rw [k0_part16_eq_skeleton]; unfold k0_part16_skel
  refine step_dead fun v634 => ?_
  refine step_st hs 6 1 (by decide) (by decide) rfl rfl rfl ?_ rfl
  refine step_dead fun v638 => ?_
  refine step_st hs 7 1 (by decide) (by decide) rfl rfl rfl ?_ rfl
  refine step_dead fun v642 => ?_
  refine step_st hs 8 1 (by decide) (by decide) rfl rfl rfl ?_ rfl
  refine step_dead fun v646 => ?_
  refine step_st hs 9 1 (by decide) (by decide) rfl rfl rfl ?_ rfl
  refine step_dead fun v650 => ?_
  refine step_st hs 10 1 (by decide) (by decide) rfl rfl rfl ?_ rfl
  refine step_dead fun v654 => ?_
  refine step_st hs 11 1 (by decide) (by decide) rfl rfl rfl ?_ rfl
  refine step_dead fun v658 => ?_
  refine step_st hs 12 1 (by decide) (by decide) rfl rfl rfl ?_ rfl
  refine step_dead fun v662 => ?_
  refine step_st hs 13 1 (by decide) (by decide) rfl rfl rfl ?_ rfl
  refine step_dead fun v666 => ?_
  refine step_st hs 14 1 (by decide) (by decide) rfl rfl rfl ?_ rfl
  exact step_ret H

theorem part17 (v72 : BitVec 32) (v96 : BitVec 32) {Q : _ → PP F}
    (H : InvB R c f5 σ skip 32 ⊢ Q ⟨(st f5 σ skip 0 4), (st f5 σ skip 0 5), (st f5 σ skip 1 4), (st f5 σ skip 1 5), (st f5 σ skip 2 4), (Scalar.addi v96 32#32), 255#32⟩) :
    InvB R c f5 σ skip 31 ⊢ Wp c (k0_part17 m0 h0 m1 h1 m2 h2 m3 h3 m4 h4 m5 h5 m6 h6 m7 h7 m8 h8 m9 h9 m10 h10 m11 h11 m12 h12 m13 h13 m14 h14 m15 h15 m16 h16 m17 h17 s18 s19 s20 s21 v1_0 k0_t4 v72 v93 k0_hw14 v96 (st f5 σ skip 15 2) (st f5 σ skip 15 3)) Q := by
  rw [k0_part17_eq_skeleton]; unfold k0_part17_skel
  refine step_dead fun v670 => ?_
  refine step_st hs 15 1 (by decide) (by decide) rfl rfl rfl ?_ rfl
  refine step_ld hlt hs 0 4 (by decide) (by decide) (offEq hσ hsk rfl) ?_
  refine step_ld hlt hs 0 5 (by decide) (by decide) (offEq hσ hsk rfl) ?_
  refine step_ld hlt hs 1 4 (by decide) (by decide) (offEq hσ hsk rfl) ?_
  refine step_ld hlt hs 1 5 (by decide) (by decide) (offEq hσ hsk rfl) ?_
  refine step_ld hlt hs 2 4 (by decide) (by decide) (offEq hσ hsk rfl) ?_
  exact step_ret H

theorem part18 (v72 : BitVec 32) (v96 : BitVec 32) (v708 : BitVec 32) (c255_i32_284 : BitVec 32) {Q : _ → PP F}
    (H : InvB R c f5 σ skip 32 ⊢ Q ⟨(st f5 σ skip 2 5), (st f5 σ skip 3 4), (st f5 σ skip 3 5), (st f5 σ skip 4 4), (st f5 σ skip 4 5), (st f5 σ skip 5 4), (Scalar.addi v96 80#32), 255#32⟩) :
    InvB R c f5 σ skip 32 ⊢ Wp c (k0_part18 m0 h0 m1 h1 m2 h2 m3 h3 m4 h4 m5 h5 m6 h6 m7 h7 m8 h8 m9 h9 m10 h10 m11 h11 m12 h12 m13 h13 m14 h14 m15 h15 m16 h16 m17 h17 s18 s19 s20 s21 v1_0 k0_t4 v72 v93 k0_hw14 v96 v708 c255_i32_284) Q := by
  rw [k0_part18_eq_skeleton]; unfold k0_part18_skel
  refine step_ld hlt hs 2 5 (by decide) (by decide) (offEq hσ hsk rfl) ?_
  refine step_ld hlt hs 3 4 (by decide) (by decide) (offEq hσ hsk rfl) ?_
  refine step_ld hlt hs 3 5 (by decide) (by decide) (offEq hσ hsk rfl) ?_
  refine step_ld hlt hs 4 4 (by decide) (by decide) (offEq hσ hsk rfl) ?_
  refine step_ld hlt hs 4 5 (by decide) (by decide) (offEq hσ hsk rfl) ?_
  refine step_ld hlt hs 5 4 (by decide) (by decide) (offEq hσ hsk rfl) ?_
  exact step_ret H

theorem part19 (v72 : BitVec 32) (v96 : BitVec 32) (v750 : BitVec 32) (c255_i32_302 : BitVec 32) {Q : _ → PP F}
    (H : InvB R c f5 σ skip 32 ⊢ Q ⟨(st f5 σ skip 5 5), (st f5 σ skip 6 4), (st f5 σ skip 6 5), (st f5 σ skip 7 4), (st f5 σ skip 7 5), (st f5 σ skip 8 4), (Scalar.addi v96 128#32), 255#32⟩) :
    InvB R c f5 σ skip 32 ⊢ Wp c (k0_part19 m0 h0 m1 h1 m2 h2 m3 h3 m4 h4 m5 h5 m6 h6 m7 h7 m8 h8 m9 h9 m10 h10 m11 h11 m12 h12 m13 h13 m14 h14 m15 h15 m16 h16 m17 h17 s18 s19 s20 s21 v1_0 k0_t4 v72 v93 k0_hw14 v96 v750 c255_i32_302) Q := by
  rw [k0_part19_eq_skeleton]; unfold k0_part19_skel
  refine step_ld hlt hs 5 5 (by decide) (by decide) (offEq hσ hsk rfl) ?_
  refine step_ld hlt hs 6 4 (by decide) (by decide) (offEq hσ hsk rfl) ?_
  refine step_ld hlt hs 6 5 (by decide) (by decide) (offEq hσ hsk rfl) ?_
  refine step_ld hlt hs 7 4 (by decide) (by decide) (offEq hσ hsk rfl) ?_
  refine step_ld hlt hs 7 5 (by decide) (by decide) (offEq hσ hsk rfl) ?_
  refine step_ld hlt hs 8 4 (by decide) (by decide) (offEq hσ hsk rfl) ?_
  exact step_ret H

theorem part20 (v72 : BitVec 32) (v96 : BitVec 32) (v792 : BitVec 32) (c255_i32_320 : BitVec 32) {Q : _ → PP F}
    (H : InvB R c f5 σ skip 32 ⊢ Q ⟨(st f5 σ skip 8 5), (st f5 σ skip 9 4), (st f5 σ skip 9 5), (st f5 σ skip 10 4), (st f5 σ skip 10 5), (st f5 σ skip 11 4), (Scalar.addi v96 176#32), 255#32⟩) :
    InvB R c f5 σ skip 32 ⊢ Wp c (k0_part20 m0 h0 m1 h1 m2 h2 m3 h3 m4 h4 m5 h5 m6 h6 m7 h7 m8 h8 m9 h9 m10 h10 m11 h11 m12 h12 m13 h13 m14 h14 m15 h15 m16 h16 m17 h17 s18 s19 s20 s21 v1_0 k0_t4 v72 v93 k0_hw14 v96 v792 c255_i32_320) Q := by
  rw [k0_part20_eq_skeleton]; unfold k0_part20_skel
  refine step_ld hlt hs 8 5 (by decide) (by decide) (offEq hσ hsk rfl) ?_
  refine step_ld hlt hs 9 4 (by decide) (by decide) (offEq hσ hsk rfl) ?_
  refine step_ld hlt hs 9 5 (by decide) (by decide) (offEq hσ hsk rfl) ?_
  refine step_ld hlt hs 10 4 (by decide) (by decide) (offEq hσ hsk rfl) ?_
  refine step_ld hlt hs 10 5 (by decide) (by decide) (offEq hσ hsk rfl) ?_
  refine step_ld hlt hs 11 4 (by decide) (by decide) (offEq hσ hsk rfl) ?_
  exact step_ret H

theorem part21 (v72 : BitVec 32) (v96 : BitVec 32) (v834 : BitVec 32) (c255_i32_338 : BitVec 32) {Q : _ → PP F}
    (H : InvB R c f5 σ skip 32 ⊢ Q ⟨(st f5 σ skip 11 5), (st f5 σ skip 12 4), (st f5 σ skip 12 5), (st f5 σ skip 13 4), (st f5 σ skip 13 5), (st f5 σ skip 14 4), (Scalar.addi v96 224#32), 255#32⟩) :
    InvB R c f5 σ skip 32 ⊢ Wp c (k0_part21 m0 h0 m1 h1 m2 h2 m3 h3 m4 h4 m5 h5 m6 h6 m7 h7 m8 h8 m9 h9 m10 h10 m11 h11 m12 h12 m13 h13 m14 h14 m15 h15 m16 h16 m17 h17 s18 s19 s20 s21 v1_0 k0_t4 v72 v93 k0_hw14 v96 v834 c255_i32_338) Q := by
  rw [k0_part21_eq_skeleton]; unfold k0_part21_skel
  refine step_ld hlt hs 11 5 (by decide) (by decide) (offEq hσ hsk rfl) ?_
  refine step_ld hlt hs 12 4 (by decide) (by decide) (offEq hσ hsk rfl) ?_
  refine step_ld hlt hs 12 5 (by decide) (by decide) (offEq hσ hsk rfl) ?_
  refine step_ld hlt hs 13 4 (by decide) (by decide) (offEq hσ hsk rfl) ?_
  refine step_ld hlt hs 13 5 (by decide) (by decide) (offEq hσ hsk rfl) ?_
  refine step_ld hlt hs 14 4 (by decide) (by decide) (offEq hσ hsk rfl) ?_
  exact step_ret H

theorem part22 (v72 : BitVec 32) (v96 : BitVec 32) (v876 : BitVec 32) (c255_i32_356 : BitVec 32) {Q : _ → PP F}
    (H : InvB R c f5 σ skip 36 ⊢ Q ⟨(st f5 σ skip 14 5), (st f5 σ skip 15 4), (st f5 σ skip 15 5), (cat f5 σ skip 4 2)⟩) :
    InvB R c f5 σ skip 32 ⊢ Wp c (k0_part22 m0 h0 m1 h1 m2 h2 m3 h3 m4 h4 m5 h5 m6 h6 m7 h7 m8 h8 m9 h9 m10 h10 m11 h11 m12 h12 m13 h13 m14 h14 m15 h15 m16 h16 m17 h17 s18 s19 s20 s21 v1_0 k0_t4 v72 v93 k0_hw14 v96 (st f5 σ skip 0 4) (st f5 σ skip 0 5) (st f5 σ skip 1 4) (st f5 σ skip 1 5) (st f5 σ skip 2 4) (st f5 σ skip 2 5) (st f5 σ skip 3 4) (st f5 σ skip 3 5) (st f5 σ skip 4 4) (st f5 σ skip 4 5) v876 c255_i32_356) Q := by
  rw [k0_part22_eq_skeleton]; unfold k0_part22_skel
  refine step_ld hlt hs 14 5 (by decide) (by decide) (offEq hσ hsk rfl) ?_
  refine step_ld hlt hs 15 4 (by decide) (by decide) (offEq hσ hsk rfl) ?_
  refine step_ld hlt hs 15 5 (by decide) (by decide) (offEq hσ hsk rfl) ?_
  refine step_dead fun v898 => ?_
  refine step_st hs 0 2 (by decide) (by decide) rfl rfl rfl ?_ rfl
  refine step_dead fun v902 => ?_
  refine step_st hs 1 2 (by decide) (by decide) rfl rfl rfl ?_ rfl
  refine step_dead fun v906 => ?_
  refine step_st hs 2 2 (by decide) (by decide) rfl rfl rfl ?_ rfl
  refine step_dead fun v910 => ?_
  refine step_st hs 3 2 (by decide) (by decide) rfl rfl rfl ?_ rfl
  refine step_dead fun v914 => ?_
  exact step_ret H

theorem part23 {Q : _ → PP F}
    (H : InvB R c f5 σ skip 45 ⊢ Q (cat f5 σ skip 13 2)) :
    InvB R c f5 σ skip 36 ⊢ Wp c (k0_part23 m0 h0 m1 h1 m2 h2 m3 h3 m4 h4 m5 h5 m6 h6 m7 h7 m8 h8 m9 h9 m10 h10 m11 h11 m12 h12 m13 h13 m14 h14 m15 h15 m16 h16 m17 h17 s18 s19 s20 s21 (st f5 σ skip 5 4) (st f5 σ skip 5 5) (st f5 σ skip 6 4) (st f5 σ skip 6 5) (st f5 σ skip 7 4) (st f5 σ skip 7 5) (st f5 σ skip 8 4) (st f5 σ skip 8 5) (st f5 σ skip 9 4) (st f5 σ skip 9 5) (st f5 σ skip 10 4) (st f5 σ skip 10 5) (st f5 σ skip 11 4) (st f5 σ skip 11 5) (st f5 σ skip 12 4) (st f5 σ skip 12 5) (st f5 σ skip 13 4) (st f5 σ skip 13 5) (cat f5 σ skip 4 2)) Q := by
  rw [k0_part23_eq_skeleton]; unfold k0_part23_skel
  refine step_st hs 4 2 (by decide) (by decide) rfl rfl rfl ?_ rfl
  refine step_dead fun v918 => ?_
  refine step_st hs 5 2 (by decide) (by decide) rfl rfl rfl ?_ rfl
  refine step_dead fun v922 => ?_
  refine step_st hs 6 2 (by decide) (by decide) rfl rfl rfl ?_ rfl
  refine step_dead fun v926 => ?_
  refine step_st hs 7 2 (by decide) (by decide) rfl rfl rfl ?_ rfl
  refine step_dead fun v930 => ?_
  refine step_st hs 8 2 (by decide) (by decide) rfl rfl rfl ?_ rfl
  refine step_dead fun v934 => ?_
  refine step_st hs 9 2 (by decide) (by decide) rfl rfl rfl ?_ rfl
  refine step_dead fun v938 => ?_
  refine step_st hs 10 2 (by decide) (by decide) rfl rfl rfl ?_ rfl
  refine step_dead fun v942 => ?_
  refine step_st hs 11 2 (by decide) (by decide) rfl rfl rfl ?_ rfl
  refine step_dead fun v946 => ?_
  refine step_st hs 12 2 (by decide) (by decide) rfl rfl rfl ?_ rfl
  exact step_ret H

theorem part24 (v72 : BitVec 32) (v96 : BitVec 32) {Q : _ → PP F}
    (H : InvB R c f5 σ skip 48 ⊢ Q ⟨(st f5 σ skip 0 6), (st f5 σ skip 0 7), (st f5 σ skip 1 6), (st f5 σ skip 1 7), 32#32⟩) :
    InvB R c f5 σ skip 45 ⊢ Wp c (k0_part24 m0 h0 m1 h1 m2 h2 m3 h3 m4 h4 m5 h5 m6 h6 m7 h7 m8 h8 m9 h9 m10 h10 m11 h11 m12 h12 m13 h13 m14 h14 m15 h15 m16 h16 m17 h17 s18 s19 s20 s21 v1_0 k0_t4 v72 v93 k0_hw14 v96 (st f5 σ skip 14 4) (st f5 σ skip 14 5) (st f5 σ skip 15 4) (st f5 σ skip 15 5) (cat f5 σ skip 13 2)) Q := by
  rw [k0_part24_eq_skeleton]; unfold k0_part24_skel
  refine step_dead fun v950 => ?_
  refine step_st hs 13 2 (by decide) (by decide) rfl rfl rfl ?_ rfl
  refine step_dead fun v954 => ?_
  refine step_st hs 14 2 (by decide) (by decide) rfl rfl rfl ?_ rfl
  refine step_dead fun v958 => ?_
  refine step_st hs 15 2 (by decide) (by decide) rfl rfl rfl ?_ rfl
  refine step_ld hlt hs 0 6 (by decide) (by decide) (offEq hσ hsk rfl) ?_
  refine step_ld hlt hs 0 7 (by decide) (by decide) (offEq hσ hsk rfl) ?_
  refine step_ld hlt hs 1 6 (by decide) (by decide) (offEq hσ hsk rfl) ?_
  refine step_ld hlt hs 1 7 (by decide) (by decide) (offEq hσ hsk rfl) ?_
  exact step_ret H

theorem part25 (v72 : BitVec 32) (v96 : BitVec 32) (c32_i32_406 : BitVec 32) {Q : _ → PP F}
    (H : InvB R c f5 σ skip 48 ⊢ Q ⟨(st f5 σ skip 2 6), (st f5 σ skip 2 7), (st f5 σ skip 3 6), (st f5 σ skip 3 7), (st f5 σ skip 4 6), (st f5 σ skip 4 7), 80#32⟩) :
    InvB R c f5 σ skip 48 ⊢ Wp c (k0_part25 m0 h0 m1 h1 m2 h2 m3 h3 m4 h4 m5 h5 m6 h6 m7 h7 m8 h8 m9 h9 m10 h10 m11 h11 m12 h12 m13 h13 m14 h14 m15 h15 m16 h16 m17 h17 s18 s19 s20 s21 v1_0 k0_t4 v72 v93 k0_hw14 v96 c32_i32_406) Q := by
  rw [k0_part25_eq_skeleton]; unfold k0_part25_skel
  refine step_ld hlt hs 2 6 (by decide) (by decide) (offEq hσ hsk rfl) ?_
  refine step_ld hlt hs 2 7 (by decide) (by decide) (offEq hσ hsk rfl) ?_
  refine step_ld hlt hs 3 6 (by decide) (by decide) (offEq hσ hsk rfl) ?_
  refine step_ld hlt hs 3 7 (by decide) (by decide) (offEq hσ hsk rfl) ?_
  refine step_ld hlt hs 4 6 (by decide) (by decide) (offEq hσ hsk rfl) ?_
  refine step_ld hlt hs 4 7 (by decide) (by decide) (offEq hσ hsk rfl) ?_
  exact step_ret H

theorem part26 (v72 : BitVec 32) (v96 : BitVec 32) (c80_i32_424 : BitVec 32) {Q : _ → PP F}
    (H : InvB R c f5 σ skip 48 ⊢ Q ⟨(st f5 σ skip 5 6), (st f5 σ skip 5 7), (st f5 σ skip 6 6), (st f5 σ skip 6 7), (st f5 σ skip 7 6), (st f5 σ skip 7 7), 128#32⟩) :
    InvB R c f5 σ skip 48 ⊢ Wp c (k0_part26 m0 h0 m1 h1 m2 h2 m3 h3 m4 h4 m5 h5 m6 h6 m7 h7 m8 h8 m9 h9 m10 h10 m11 h11 m12 h12 m13 h13 m14 h14 m15 h15 m16 h16 m17 h17 s18 s19 s20 s21 v1_0 k0_t4 v72 v93 k0_hw14 v96 c80_i32_424) Q := by
  rw [k0_part26_eq_skeleton]; unfold k0_part26_skel
  refine step_ld hlt hs 5 6 (by decide) (by decide) (offEq hσ hsk rfl) ?_
  refine step_ld hlt hs 5 7 (by decide) (by decide) (offEq hσ hsk rfl) ?_
  refine step_ld hlt hs 6 6 (by decide) (by decide) (offEq hσ hsk rfl) ?_
  refine step_ld hlt hs 6 7 (by decide) (by decide) (offEq hσ hsk rfl) ?_
  refine step_ld hlt hs 7 6 (by decide) (by decide) (offEq hσ hsk rfl) ?_
  refine step_ld hlt hs 7 7 (by decide) (by decide) (offEq hσ hsk rfl) ?_
  exact step_ret H

theorem part27 (v72 : BitVec 32) (v96 : BitVec 32) (c128_i32_442 : BitVec 32) {Q : _ → PP F}
    (H : InvB R c f5 σ skip 48 ⊢ Q ⟨(st f5 σ skip 8 6), (st f5 σ skip 8 7), (st f5 σ skip 9 6), (st f5 σ skip 9 7), (st f5 σ skip 10 6), (st f5 σ skip 10 7), 176#32⟩) :
    InvB R c f5 σ skip 48 ⊢ Wp c (k0_part27 m0 h0 m1 h1 m2 h2 m3 h3 m4 h4 m5 h5 m6 h6 m7 h7 m8 h8 m9 h9 m10 h10 m11 h11 m12 h12 m13 h13 m14 h14 m15 h15 m16 h16 m17 h17 s18 s19 s20 s21 v1_0 k0_t4 v72 v93 k0_hw14 v96 c128_i32_442) Q := by
  rw [k0_part27_eq_skeleton]; unfold k0_part27_skel
  refine step_ld hlt hs 8 6 (by decide) (by decide) (offEq hσ hsk rfl) ?_
  refine step_ld hlt hs 8 7 (by decide) (by decide) (offEq hσ hsk rfl) ?_
  refine step_ld hlt hs 9 6 (by decide) (by decide) (offEq hσ hsk rfl) ?_
  refine step_ld hlt hs 9 7 (by decide) (by decide) (offEq hσ hsk rfl) ?_
  refine step_ld hlt hs 10 6 (by decide) (by decide) (offEq hσ hsk rfl) ?_
  refine step_ld hlt hs 10 7 (by decide) (by decide) (offEq hσ hsk rfl) ?_
  exact step_ret H

theorem part28 (v72 : BitVec 32) (v96 : BitVec 32) (c176_i32_460 : BitVec 32) {Q : _ → PP F}
    (H : InvB R c f5 σ skip 48 ⊢ Q ⟨(st f5 σ skip 11 6), (st f5 σ skip 11 7), (st f5 σ skip 12 6), (st f5 σ skip 12 7), (st f5 σ skip 13 6), (st f5 σ skip 13 7), 224#32⟩) :
    InvB R c f5 σ skip 48 ⊢ Wp c (k0_part28 m0 h0 m1 h1 m2 h2 m3 h3 m4 h4 m5 h5 m6 h6 m7 h7 m8 h8 m9 h9 m10 h10 m11 h11 m12 h12 m13 h13 m14 h14 m15 h15 m16 h16 m17 h17 s18 s19 s20 s21 v1_0 k0_t4 v72 v93 k0_hw14 v96 c176_i32_460) Q := by
  rw [k0_part28_eq_skeleton]; unfold k0_part28_skel
  refine step_ld hlt hs 11 6 (by decide) (by decide) (offEq hσ hsk rfl) ?_
  refine step_ld hlt hs 11 7 (by decide) (by decide) (offEq hσ hsk rfl) ?_
  refine step_ld hlt hs 12 6 (by decide) (by decide) (offEq hσ hsk rfl) ?_
  refine step_ld hlt hs 12 7 (by decide) (by decide) (offEq hσ hsk rfl) ?_
  refine step_ld hlt hs 13 6 (by decide) (by decide) (offEq hσ hsk rfl) ?_
  refine step_ld hlt hs 13 7 (by decide) (by decide) (offEq hσ hsk rfl) ?_
  exact step_ret H

theorem part29 (v72 : BitVec 32) (v96 : BitVec 32) (c224_i32_478 : BitVec 32) {Q : _ → PP F}
    (H : InvB R c f5 σ skip 51 ⊢ Q ⟨(st f5 σ skip 14 6), (st f5 σ skip 14 7), (st f5 σ skip 15 6), (st f5 σ skip 15 7)⟩) :
    InvB R c f5 σ skip 48 ⊢ Wp c (k0_part29 m0 h0 m1 h1 m2 h2 m3 h3 m4 h4 m5 h5 m6 h6 m7 h7 m8 h8 m9 h9 m10 h10 m11 h11 m12 h12 m13 h13 m14 h14 m15 h15 m16 h16 m17 h17 s18 s19 s20 s21 v1_0 k0_t4 v72 v93 k0_hw14 v96 (st f5 σ skip 0 6) (st f5 σ skip 0 7) (st f5 σ skip 1 6) (st f5 σ skip 1 7) (st f5 σ skip 2 6) (st f5 σ skip 2 7) c224_i32_478) Q := by
  rw [k0_part29_eq_skeleton]; unfold k0_part29_skel
  refine step_ld hlt hs 14 6 (by decide) (by decide) (offEq hσ hsk rfl) ?_
  refine step_ld hlt hs 14 7 (by decide) (by decide) (offEq hσ hsk rfl) ?_
  refine step_ld hlt hs 15 6 (by decide) (by decide) (offEq hσ hsk rfl) ?_
  refine step_ld hlt hs 15 7 (by decide) (by decide) (offEq hσ hsk rfl) ?_
  refine step_dead fun v1186 => ?_
  refine step_st hs 0 3 (by decide) (by decide) rfl rfl rfl ?_ rfl
  refine step_dead fun v1190 => ?_
  refine step_st hs 1 3 (by decide) (by decide) rfl rfl rfl ?_ rfl
  refine step_dead fun v1194 => ?_
  refine step_st hs 2 3 (by decide) (by decide) rfl rfl rfl ?_ rfl
  exact step_ret H

theorem part30 {Q : _ → PP F}
    (H : ∀ v1230, InvB R c f5 σ skip 59 ⊢ Q ⟨(cat f5 σ skip 11 3), v1230⟩) :
    InvB R c f5 σ skip 51 ⊢ Wp c (k0_part30 m0 h0 m1 h1 m2 h2 m3 h3 m4 h4 m5 h5 m6 h6 m7 h7 m8 h8 m9 h9 m10 h10 m11 h11 m12 h12 m13 h13 m14 h14 m15 h15 m16 h16 m17 h17 s18 s19 s20 s21 (st f5 σ skip 3 6) (st f5 σ skip 3 7) (st f5 σ skip 4 6) (st f5 σ skip 4 7) (st f5 σ skip 5 6) (st f5 σ skip 5 7) (st f5 σ skip 6 6) (st f5 σ skip 6 7) (st f5 σ skip 7 6) (st f5 σ skip 7 7) (st f5 σ skip 8 6) (st f5 σ skip 8 7) (st f5 σ skip 9 6) (st f5 σ skip 9 7) (st f5 σ skip 10 6) (st f5 σ skip 10 7) (st f5 σ skip 11 6) (st f5 σ skip 11 7)) Q := by
  rw [k0_part30_eq_skeleton]; unfold k0_part30_skel
  refine step_dead fun v1198 => ?_
  refine step_st hs 3 3 (by decide) (by decide) rfl rfl rfl ?_ rfl
  refine step_dead fun v1202 => ?_
  refine step_st hs 4 3 (by decide) (by decide) rfl rfl rfl ?_ rfl
  refine step_dead fun v1206 => ?_
  refine step_st hs 5 3 (by decide) (by decide) rfl rfl rfl ?_ rfl
  refine step_dead fun v1210 => ?_
  refine step_st hs 6 3 (by decide) (by decide) rfl rfl rfl ?_ rfl
  refine step_dead fun v1214 => ?_
  refine step_st hs 7 3 (by decide) (by decide) rfl rfl rfl ?_ rfl
  refine step_dead fun v1218 => ?_
  refine step_st hs 8 3 (by decide) (by decide) rfl rfl rfl ?_ rfl
  refine step_dead fun v1222 => ?_
  refine step_st hs 9 3 (by decide) (by decide) rfl rfl rfl ?_ rfl
  refine step_dead fun v1226 => ?_
  refine step_st hs 10 3 (by decide) (by decide) rfl rfl rfl ?_ rfl
  refine step_dead fun v1230 => ?_
  exact step_ret (H v1230)

end Cert.Kernel.Hand
-- ==== Proof.K.Copy2.lean ====
/-
  The steps of the strip copies, parts 31 to 59 of the printed body.
-/
module

public import proofs.«01_k».proof.Proof.K.Copy

@[expose] public section

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

variable {R : PP F} {c : Dev nD} {f5 : S2x256x3072.Idx → Elt F .bf16} {σ skip : ℕ}
variable (hlt : σ < 2) (hs : 16 ∣ skip) {v1_0 : BitVec 32} {k0_t4 : Fin (k0_t4_loop v1_0).trips} {v93 : Elt F .i32}
variable (hσ : (Scalar.andi (Scf.iv 0#32 1#32 k0_t4) 1#32).toNat = σ)
variable (hsk : (Scalar.subi v93 (Scalar.minsi v93 12032#32)).toNat = skip)
variable {k0_hw14 : k0_chk14 v1_0 k0_t4 v93}
include hlt hs hσ hsk

theorem part31 (v72 : BitVec 32) (v96 : BitVec 32) (v1230 : Vec F S16x256 .bf16) {Q : _ → PP F}
    (H : InvB R c f5 σ skip 64 ⊢ Q ⟨(st f5 σ skip 0 8), (st f5 σ skip 0 9), (st3 f5 σ skip 1 8)⟩) :
    InvB R c f5 σ skip 59 ⊢ Wp c (k0_part31 m0 h0 m1 h1 m2 h2 m3 h3 m4 h4 m5 h5 m6 h6 m7 h7 m8 h8 m9 h9 m10 h10 m11 h11 m12 h12 m13 h13 m14 h14 m15 h15 m16 h16 m17 h17 s18 s19 s20 s21 v1_0 k0_t4 v72 v93 k0_hw14 v96 (st f5 σ skip 12 6) (st f5 σ skip 12 7) (st f5 σ skip 13 6) (st f5 σ skip 13 7) (st f5 σ skip 14 6) (st f5 σ skip 14 7) (st f5 σ skip 15 6) (st f5 σ skip 15 7) (cat f5 σ skip 11 3) v1230) Q := by
  rw [k0_part31_eq_skeleton]; unfold k0_part31_skel
  refine step_st hs 11 3 (by decide) (by decide) rfl rfl rfl ?_ rfl
  refine step_dead fun v1234 => ?_
  refine step_st hs 12 3 (by decide) (by decide) rfl rfl rfl ?_ rfl
  refine step_dead fun v1238 => ?_
  refine step_st hs 13 3 (by decide) (by decide) rfl rfl rfl ?_ rfl
  refine step_dead fun v1242 => ?_
  refine step_st hs 14 3 (by decide) (by decide) rfl rfl rfl ?_ rfl
  refine step_dead fun v1246 => ?_
  refine step_st hs 15 3 (by decide) (by decide) rfl rfl rfl ?_ rfl
  refine step_ld hlt hs 0 8 (by decide) (by decide) (offEq hσ hsk rfl) ?_
  refine step_ld hlt hs 0 9 (by decide) (by decide) (offEq hσ hsk rfl) ?_
  refine step_ld hlt hs 1 8 (by decide) (by decide) (offEq hσ hsk rfl) ?_
  exact step_ret H

theorem part32 (v72 : BitVec 32) (v96 : BitVec 32) {Q : _ → PP F}
    (H : InvB R c f5 σ skip 64 ⊢ Q ⟨(st f5 σ skip 1 8), (st f5 σ skip 1 9), (st f5 σ skip 2 8), (st f5 σ skip 2 9), (st f5 σ skip 3 8), (st f5 σ skip 3 9), (st3 f5 σ skip 4 8)⟩) :
    InvB R c f5 σ skip 64 ⊢ Wp c (k0_part32 m0 h0 m1 h1 m2 h2 m3 h3 m4 h4 m5 h5 m6 h6 m7 h7 m8 h8 m9 h9 m10 h10 m11 h11 m12 h12 m13 h13 m14 h14 m15 h15 m16 h16 m17 h17 s18 s19 s20 s21 v1_0 k0_t4 v72 v93 k0_hw14 v96 (st3 f5 σ skip 1 8)) Q := by
  rw [k0_part32_eq_skeleton]; unfold k0_part32_skel
  refine step_ld hlt hs 1 9 (by decide) (by decide) (offEq hσ hsk rfl) ?_
  refine step_ld hlt hs 2 8 (by decide) (by decide) (offEq hσ hsk rfl) ?_
  refine step_ld hlt hs 2 9 (by decide) (by decide) (offEq hσ hsk rfl) ?_
  refine step_ld hlt hs 3 8 (by decide) (by decide) (offEq hσ hsk rfl) ?_
  refine step_ld hlt hs 3 9 (by decide) (by decide) (offEq hσ hsk rfl) ?_
  refine step_ld hlt hs 4 8 (by decide) (by decide) (offEq hσ hsk rfl) ?_
  exact step_ret H

theorem part33 (v72 : BitVec 32) (v96 : BitVec 32) {Q : _ → PP F}
    (H : InvB R c f5 σ skip 64 ⊢ Q ⟨(st f5 σ skip 4 8), (st f5 σ skip 4 9), (st f5 σ skip 5 8), (st f5 σ skip 5 9), (st f5 σ skip 6 8), (st f5 σ skip 6 9), (st3 f5 σ skip 7 8)⟩) :
    InvB R c f5 σ skip 64 ⊢ Wp c (k0_part33 m0 h0 m1 h1 m2 h2 m3 h3 m4 h4 m5 h5 m6 h6 m7 h7 m8 h8 m9 h9 m10 h10 m11 h11 m12 h12 m13 h13 m14 h14 m15 h15 m16 h16 m17 h17 s18 s19 s20 s21 v1_0 k0_t4 v72 v93 k0_hw14 v96 (st3 f5 σ skip 4 8)) Q := by
  rw [k0_part33_eq_skeleton]; unfold k0_part33_skel
  refine step_ld hlt hs 4 9 (by decide) (by decide) (offEq hσ hsk rfl) ?_
  refine step_ld hlt hs 5 8 (by decide) (by decide) (offEq hσ hsk rfl) ?_
  refine step_ld hlt hs 5 9 (by decide) (by decide) (offEq hσ hsk rfl) ?_
  refine step_ld hlt hs 6 8 (by decide) (by decide) (offEq hσ hsk rfl) ?_
  refine step_ld hlt hs 6 9 (by decide) (by decide) (offEq hσ hsk rfl) ?_
  refine step_ld hlt hs 7 8 (by decide) (by decide) (offEq hσ hsk rfl) ?_
  exact step_ret H

theorem part34 (v72 : BitVec 32) (v96 : BitVec 32) {Q : _ → PP F}
    (H : InvB R c f5 σ skip 64 ⊢ Q ⟨(st f5 σ skip 7 8), (st f5 σ skip 7 9), (st f5 σ skip 8 8), (st f5 σ skip 8 9), (st f5 σ skip 9 8), (st f5 σ skip 9 9), (st3 f5 σ skip 10 8)⟩) :
    InvB R c f5 σ skip 64 ⊢ Wp c (k0_part34 m0 h0 m1 h1 m2 h2 m3 h3 m4 h4 m5 h5 m6 h6 m7 h7 m8 h8 m9 h9 m10 h10 m11 h11 m12 h12 m13 h13 m14 h14 m15 h15 m16 h16 m17 h17 s18 s19 s20 s21 v1_0 k0_t4 v72 v93 k0_hw14 v96 (st3 f5 σ skip 7 8)) Q := by
  rw [k0_part34_eq_skeleton]; unfold k0_part34_skel
  refine step_ld hlt hs 7 9 (by decide) (by decide) (offEq hσ hsk rfl) ?_
  refine step_ld hlt hs 8 8 (by decide) (by decide) (offEq hσ hsk rfl) ?_
  refine step_ld hlt hs 8 9 (by decide) (by decide) (offEq hσ hsk rfl) ?_
  refine step_ld hlt hs 9 8 (by decide) (by decide) (offEq hσ hsk rfl) ?_
  refine step_ld hlt hs 9 9 (by decide) (by decide) (offEq hσ hsk rfl) ?_
  refine step_ld hlt hs 10 8 (by decide) (by decide) (offEq hσ hsk rfl) ?_
  exact step_ret H

theorem part35 (v72 : BitVec 32) (v96 : BitVec 32) {Q : _ → PP F}
    (H : InvB R c f5 σ skip 64 ⊢ Q ⟨(st f5 σ skip 10 8), (st f5 σ skip 10 9), (st f5 σ skip 11 8), (st f5 σ skip 11 9), (st f5 σ skip 12 8), (st f5 σ skip 12 9), (st3 f5 σ skip 13 8)⟩) :
    InvB R c f5 σ skip 64 ⊢ Wp c (k0_part35 m0 h0 m1 h1 m2 h2 m3 h3 m4 h4 m5 h5 m6 h6 m7 h7 m8 h8 m9 h9 m10 h10 m11 h11 m12 h12 m13 h13 m14 h14 m15 h15 m16 h16 m17 h17 s18 s19 s20 s21 v1_0 k0_t4 v72 v93 k0_hw14 v96 (st3 f5 σ skip 10 8)) Q := by
  rw [k0_part35_eq_skeleton]; unfold k0_part35_skel
  refine step_ld hlt hs 10 9 (by decide) (by decide) (offEq hσ hsk rfl) ?_
  refine step_ld hlt hs 11 8 (by decide) (by decide) (offEq hσ hsk rfl) ?_
  refine step_ld hlt hs 11 9 (by decide) (by decide) (offEq hσ hsk rfl) ?_
  refine step_ld hlt hs 12 8 (by decide) (by decide) (offEq hσ hsk rfl) ?_
  refine step_ld hlt hs 12 9 (by decide) (by decide) (offEq hσ hsk rfl) ?_
  refine step_ld hlt hs 13 8 (by decide) (by decide) (offEq hσ hsk rfl) ?_
  exact step_ret H

theorem part36 (v72 : BitVec 32) (v96 : BitVec 32) {Q : _ → PP F}
    (H : InvB R c f5 σ skip 65 ⊢ Q ⟨(st f5 σ skip 13 8), (st f5 σ skip 13 9), (st f5 σ skip 14 8), (st f5 σ skip 14 9), (st f5 σ skip 15 8), (st f5 σ skip 15 9), (cat f5 σ skip 1 4)⟩) :
    InvB R c f5 σ skip 64 ⊢ Wp c (k0_part36 m0 h0 m1 h1 m2 h2 m3 h3 m4 h4 m5 h5 m6 h6 m7 h7 m8 h8 m9 h9 m10 h10 m11 h11 m12 h12 m13 h13 m14 h14 m15 h15 m16 h16 m17 h17 s18 s19 s20 s21 v1_0 k0_t4 v72 v93 k0_hw14 v96 (st f5 σ skip 0 8) (st f5 σ skip 0 9) (st f5 σ skip 1 8) (st f5 σ skip 1 9) (st3 f5 σ skip 13 8)) Q := by
  rw [k0_part36_eq_skeleton]; unfold k0_part36_skel
  refine step_ld hlt hs 13 9 (by decide) (by decide) (offEq hσ hsk rfl) ?_
  refine step_ld hlt hs 14 8 (by decide) (by decide) (offEq hσ hsk rfl) ?_
  refine step_ld hlt hs 14 9 (by decide) (by decide) (offEq hσ hsk rfl) ?_
  refine step_ld hlt hs 15 8 (by decide) (by decide) (offEq hσ hsk rfl) ?_
  refine step_ld hlt hs 15 9 (by decide) (by decide) (offEq hσ hsk rfl) ?_
  refine step_dead fun v1474 => ?_
  refine step_st hs 0 4 (by decide) (by decide) rfl rfl rfl ?_ rfl
  exact step_ret H

theorem part37 {Q : _ → PP F}
    (H : InvB R c f5 σ skip 73 ⊢ Q (shapeCast S16x256 (cat f5 σ skip 9 4) shapeCasts_S16x256_S16x256)) :
    InvB R c f5 σ skip 65 ⊢ Wp c (k0_part37 m0 h0 m1 h1 m2 h2 m3 h3 m4 h4 m5 h5 m6 h6 m7 h7 m8 h8 m9 h9 m10 h10 m11 h11 m12 h12 m13 h13 m14 h14 m15 h15 m16 h16 m17 h17 s18 s19 s20 s21 (st f5 σ skip 2 8) (st f5 σ skip 2 9) (st f5 σ skip 3 8) (st f5 σ skip 3 9) (st f5 σ skip 4 8) (st f5 σ skip 4 9) (st f5 σ skip 5 8) (st f5 σ skip 5 9) (st f5 σ skip 6 8) (st f5 σ skip 6 9) (st f5 σ skip 7 8) (st f5 σ skip 7 9) (st f5 σ skip 8 8) (st f5 σ skip 8 9) (st f5 σ skip 9 8) (st f5 σ skip 9 9) (cat f5 σ skip 1 4)) Q := by
  rw [k0_part37_eq_skeleton]; unfold k0_part37_skel
  refine step_dead fun v1478 => ?_
  refine step_st hs 1 4 (by decide) (by decide) rfl rfl rfl ?_ rfl
  refine step_dead fun v1482 => ?_
  refine step_st hs 2 4 (by decide) (by decide) rfl rfl rfl ?_ rfl
  refine step_dead fun v1486 => ?_
  refine step_st hs 3 4 (by decide) (by decide) rfl rfl rfl ?_ rfl
  refine step_dead fun v1490 => ?_
  refine step_st hs 4 4 (by decide) (by decide) rfl rfl rfl ?_ rfl
  refine step_dead fun v1494 => ?_
  refine step_st hs 5 4 (by decide) (by decide) rfl rfl rfl ?_ rfl
  refine step_dead fun v1498 => ?_
  refine step_st hs 6 4 (by decide) (by decide) rfl rfl rfl ?_ rfl
  refine step_dead fun v1502 => ?_
  refine step_st hs 7 4 (by decide) (by decide) rfl rfl rfl ?_ rfl
  refine step_dead fun v1506 => ?_
  refine step_st hs 8 4 (by decide) (by decide) rfl rfl rfl ?_ rfl
  refine step_dead fun v1510 => ?_
  exact step_ret H

theorem part38 (v72 : BitVec 32) (v96 : BitVec 32) {Q : _ → PP F}
    (H : InvB R c f5 σ skip 80 ⊢ Q (st f5 σ skip 0 10)) :
    InvB R c f5 σ skip 73 ⊢ Wp c (k0_part38 m0 h0 m1 h1 m2 h2 m3 h3 m4 h4 m5 h5 m6 h6 m7 h7 m8 h8 m9 h9 m10 h10 m11 h11 m12 h12 m13 h13 m14 h14 m15 h15 m16 h16 m17 h17 s18 s19 s20 s21 v1_0 k0_t4 v72 v93 k0_hw14 v96 (st f5 σ skip 10 8) (st f5 σ skip 10 9) (st f5 σ skip 11 8) (st f5 σ skip 11 9) (st f5 σ skip 12 8) (st f5 σ skip 12 9) (st f5 σ skip 13 8) (st f5 σ skip 13 9) (st f5 σ skip 14 8) (st f5 σ skip 14 9) (st f5 σ skip 15 8) (st f5 σ skip 15 9) (shapeCast S16x256 (cat f5 σ skip 9 4) shapeCasts_S16x256_S16x256)) Q := by
  rw [k0_part38_eq_skeleton]; unfold k0_part38_skel
  refine step_st hs 9 4 (by decide) (by decide) rfl rfl rfl ?_ rfl
  refine step_dead fun v1514 => ?_
  refine step_st hs 10 4 (by decide) (by decide) rfl rfl rfl ?_ rfl
  refine step_dead fun v1518 => ?_
  refine step_st hs 11 4 (by decide) (by decide) rfl rfl rfl ?_ rfl
  refine step_dead fun v1522 => ?_
  refine step_st hs 12 4 (by decide) (by decide) rfl rfl rfl ?_ rfl
  refine step_dead fun v1526 => ?_
  refine step_st hs 13 4 (by decide) (by decide) rfl rfl rfl ?_ rfl
  refine step_dead fun v1530 => ?_
  refine step_st hs 14 4 (by decide) (by decide) rfl rfl rfl ?_ rfl
  refine step_dead fun v1534 => ?_
  refine step_st hs 15 4 (by decide) (by decide) rfl rfl rfl ?_ rfl
  refine step_ld hlt hs 0 10 (by decide) (by decide) (offEq hσ hsk rfl) ?_
  exact step_ret H

theorem part39 (v72 : BitVec 32) (v96 : BitVec 32) {Q : _ → PP F}
    (H : InvB R c f5 σ skip 80 ⊢ Q ⟨(st f5 σ skip 0 11), (st f5 σ skip 1 10), (st f5 σ skip 1 11), (st f5 σ skip 2 10), (st f5 σ skip 2 11), (st f5 σ skip 3 10)⟩) :
    InvB R c f5 σ skip 80 ⊢ Wp c (k0_part39 m0 h0 m1 h1 m2 h2 m3 h3 m4 h4 m5 h5 m6 h6 m7 h7 m8 h8 m9 h9 m10 h10 m11 h11 m12 h12 m13 h13 m14 h14 m15 h15 m16 h16 m17 h17 s18 s19 s20 s21 v1_0 k0_t4 v72 v93 k0_hw14 v96) Q := by
  rw [k0_part39_eq_skeleton]; unfold k0_part39_skel
  refine step_ld hlt hs 0 11 (by decide) (by decide) (offEq hσ hsk rfl) ?_
  refine step_ld hlt hs 1 10 (by decide) (by decide) (offEq hσ hsk rfl) ?_
  refine step_ld hlt hs 1 11 (by decide) (by decide) (offEq hσ hsk rfl) ?_
  refine step_ld hlt hs 2 10 (by decide) (by decide) (offEq hσ hsk rfl) ?_
  refine step_ld hlt hs 2 11 (by decide) (by decide) (offEq hσ hsk rfl) ?_
  refine step_ld hlt hs 3 10 (by decide) (by decide) (offEq hσ hsk rfl) ?_
  exact step_ret H

theorem part40 (v72 : BitVec 32) (v96 : BitVec 32) {Q : _ → PP F}
    (H : InvB R c f5 σ skip 80 ⊢ Q ⟨(st f5 σ skip 3 11), (st f5 σ skip 4 10), (st f5 σ skip 4 11), (st f5 σ skip 5 10), (st f5 σ skip 5 11), (st f5 σ skip 6 10)⟩) :
    InvB R c f5 σ skip 80 ⊢ Wp c (k0_part40 m0 h0 m1 h1 m2 h2 m3 h3 m4 h4 m5 h5 m6 h6 m7 h7 m8 h8 m9 h9 m10 h10 m11 h11 m12 h12 m13 h13 m14 h14 m15 h15 m16 h16 m17 h17 s18 s19 s20 s21 v1_0 k0_t4 v72 v93 k0_hw14 v96) Q := by
  rw [k0_part40_eq_skeleton]; unfold k0_part40_skel
  refine step_ld hlt hs 3 11 (by decide) (by decide) (offEq hσ hsk rfl) ?_
  refine step_ld hlt hs 4 10 (by decide) (by decide) (offEq hσ hsk rfl) ?_
  refine step_ld hlt hs 4 11 (by decide) (by decide) (offEq hσ hsk rfl) ?_
  refine step_ld hlt hs 5 10 (by decide) (by decide) (offEq hσ hsk rfl) ?_
  refine step_ld hlt hs 5 11 (by decide) (by decide) (offEq hσ hsk rfl) ?_
  refine step_ld hlt hs 6 10 (by decide) (by decide) (offEq hσ hsk rfl) ?_
  exact step_ret H

theorem part41 (v72 : BitVec 32) (v96 : BitVec 32) {Q : _ → PP F}
    (H : InvB R c f5 σ skip 80 ⊢ Q ⟨(st f5 σ skip 6 11), (st f5 σ skip 7 10), (st f5 σ skip 7 11), (st f5 σ skip 8 10), (st f5 σ skip 8 11), (st f5 σ skip 9 10)⟩) :
    InvB R c f5 σ skip 80 ⊢ Wp c (k0_part41 m0 h0 m1 h1 m2 h2 m3 h3 m4 h4 m5 h5 m6 h6 m7 h7 m8 h8 m9 h9 m10 h10 m11 h11 m12 h12 m13 h13 m14 h14 m15 h15 m16 h16 m17 h17 s18 s19 s20 s21 v1_0 k0_t4 v72 v93 k0_hw14 v96) Q := by
  rw [k0_part41_eq_skeleton]; unfold k0_part41_skel
  refine step_ld hlt hs 6 11 (by decide) (by decide) (offEq hσ hsk rfl) ?_
  refine step_ld hlt hs 7 10 (by decide) (by decide) (offEq hσ hsk rfl) ?_
  refine step_ld hlt hs 7 11 (by decide) (by decide) (offEq hσ hsk rfl) ?_
  refine step_ld hlt hs 8 10 (by decide) (by decide) (offEq hσ hsk rfl) ?_
  refine step_ld hlt hs 8 11 (by decide) (by decide) (offEq hσ hsk rfl) ?_
  refine step_ld hlt hs 9 10 (by decide) (by decide) (offEq hσ hsk rfl) ?_
  exact step_ret H

theorem part42 (v72 : BitVec 32) (v96 : BitVec 32) {Q : _ → PP F}
    (H : InvB R c f5 σ skip 80 ⊢ Q ⟨(st f5 σ skip 9 11), (st f5 σ skip 10 10), (st f5 σ skip 10 11), (st f5 σ skip 11 10), (st f5 σ skip 11 11), (st f5 σ skip 12 10)⟩) :
    InvB R c f5 σ skip 80 ⊢ Wp c (k0_part42 m0 h0 m1 h1 m2 h2 m3 h3 m4 h4 m5 h5 m6 h6 m7 h7 m8 h8 m9 h9 m10 h10 m11 h11 m12 h12 m13 h13 m14 h14 m15 h15 m16 h16 m17 h17 s18 s19 s20 s21 v1_0 k0_t4 v72 v93 k0_hw14 v96) Q := by
  rw [k0_part42_eq_skeleton]; unfold k0_part42_skel
  refine step_ld hlt hs 9 11 (by decide) (by decide) (offEq hσ hsk rfl) ?_
  refine step_ld hlt hs 10 10 (by decide) (by decide) (offEq hσ hsk rfl) ?_
  refine step_ld hlt hs 10 11 (by decide) (by decide) (offEq hσ hsk rfl) ?_
  refine step_ld hlt hs 11 10 (by decide) (by decide) (offEq hσ hsk rfl) ?_
  refine step_ld hlt hs 11 11 (by decide) (by decide) (offEq hσ hsk rfl) ?_
  refine step_ld hlt hs 12 10 (by decide) (by decide) (offEq hσ hsk rfl) ?_
  exact step_ret H

theorem part43 (v72 : BitVec 32) (v96 : BitVec 32) {Q : _ → PP F}
    (H : InvB R c f5 σ skip 80 ⊢ Q ⟨(st f5 σ skip 12 11), (st f5 σ skip 13 10), (st f5 σ skip 13 11), (st f5 σ skip 14 10), (st f5 σ skip 14 11), (st f5 σ skip 15 10)⟩) :
    InvB R c f5 σ skip 80 ⊢ Wp c (k0_part43 m0 h0 m1 h1 m2 h2 m3 h3 m4 h4 m5 h5 m6 h6 m7 h7 m8 h8 m9 h9 m10 h10 m11 h11 m12 h12 m13 h13 m14 h14 m15 h15 m16 h16 m17 h17 s18 s19 s20 s21 v1_0 k0_t4 v72 v93 k0_hw14 v96) Q := by
  rw [k0_part43_eq_skeleton]; unfold k0_part43_skel
  refine step_ld hlt hs 12 11 (by decide) (by decide) (offEq hσ hsk rfl) ?_
  refine step_ld hlt hs 13 10 (by decide) (by decide) (offEq hσ hsk rfl) ?_
  refine step_ld hlt hs 13 11 (by decide) (by decide) (offEq hσ hsk rfl) ?_
  refine step_ld hlt hs 14 10 (by decide) (by decide) (offEq hσ hsk rfl) ?_
  refine step_ld hlt hs 14 11 (by decide) (by decide) (offEq hσ hsk rfl) ?_
  refine step_ld hlt hs 15 10 (by decide) (by decide) (offEq hσ hsk rfl) ?_
  exact step_ret H

theorem part44 {Q : _ → PP F}
    (H : InvB R c f5 σ skip 88 ⊢ Q ⟨(st f5 σ skip 15 11), (cat f5 σ skip 8 5)⟩) :
    InvB R c f5 σ skip 80 ⊢ Wp c (k0_part44 m0 h0 m1 h1 m2 h2 m3 h3 m4 h4 m5 h5 m6 h6 m7 h7 m8 h8 m9 h9 m10 h10 m11 h11 m12 h12 m13 h13 m14 h14 m15 h15 m16 h16 m17 h17 s18 s19 s20 s21 v1_0 k0_t4 v93 k0_hw14 (st f5 σ skip 0 10) (st f5 σ skip 0 11) (st f5 σ skip 1 10) (st f5 σ skip 1 11) (st f5 σ skip 2 10) (st f5 σ skip 2 11) (st f5 σ skip 3 10) (st f5 σ skip 3 11) (st f5 σ skip 4 10) (st f5 σ skip 4 11) (st f5 σ skip 5 10) (st f5 σ skip 5 11) (st f5 σ skip 6 10) (st f5 σ skip 6 11) (st f5 σ skip 7 10) (st f5 σ skip 7 11) (st f5 σ skip 8 10) (st f5 σ skip 8 11)) Q := by
  rw [k0_part44_eq_skeleton]; unfold k0_part44_skel
  refine step_ld hlt hs 15 11 (by decide) (by decide) (offEq hσ hsk rfl) ?_
  refine step_dead fun v1762 => ?_
  refine step_st hs 0 5 (by decide) (by decide) rfl rfl rfl ?_ rfl
  refine step_dead fun v1766 => ?_
  refine step_st hs 1 5 (by decide) (by decide) rfl rfl rfl ?_ rfl
  refine step_dead fun v1770 => ?_
  refine step_st hs 2 5 (by decide) (by decide) rfl rfl rfl ?_ rfl
  refine step_dead fun v1774 => ?_
  refine step_st hs 3 5 (by decide) (by decide) rfl rfl rfl ?_ rfl
  refine step_dead fun v1778 => ?_
  refine step_st hs 4 5 (by decide) (by decide) rfl rfl rfl ?_ rfl
  refine step_dead fun v1782 => ?_
  refine step_st hs 5 5 (by decide) (by decide) rfl rfl rfl ?_ rfl
  refine step_dead fun v1786 => ?_
  refine step_st hs 6 5 (by decide) (by decide) rfl rfl rfl ?_ rfl
  refine step_dead fun v1790 => ?_
  refine step_st hs 7 5 (by decide) (by decide) rfl rfl rfl ?_ rfl
  exact step_ret H

theorem part45 (v96 : BitVec 32) {Q : _ → PP F}
    (H : InvB R c f5 σ skip 96 ⊢ Q (Scalar.andi (Scalar.addi v96 0#32) 255#32)) :
    InvB R c f5 σ skip 88 ⊢ Wp c (k0_part45 m0 h0 m1 h1 m2 h2 m3 h3 m4 h4 m5 h5 m6 h6 m7 h7 m8 h8 m9 h9 m10 h10 m11 h11 m12 h12 m13 h13 m14 h14 m15 h15 m16 h16 m17 h17 s18 s19 s20 s21 v96 (st f5 σ skip 9 10) (st f5 σ skip 9 11) (st f5 σ skip 10 10) (st f5 σ skip 10 11) (st f5 σ skip 11 10) (st f5 σ skip 11 11) (st f5 σ skip 12 10) (st f5 σ skip 12 11) (st f5 σ skip 13 10) (st f5 σ skip 13 11) (st f5 σ skip 14 10) (st f5 σ skip 14 11) (st f5 σ skip 15 10) (st f5 σ skip 15 11) (cat f5 σ skip 8 5)) Q := by
  rw [k0_part45_eq_skeleton]; unfold k0_part45_skel
  refine step_dead fun v1794 => ?_
  refine step_st hs 8 5 (by decide) (by decide) rfl rfl rfl ?_ rfl
  refine step_dead fun v1798 => ?_
  refine step_st hs 9 5 (by decide) (by decide) rfl rfl rfl ?_ rfl
  refine step_dead fun v1802 => ?_
  refine step_st hs 10 5 (by decide) (by decide) rfl rfl rfl ?_ rfl
  refine step_dead fun v1806 => ?_
  refine step_st hs 11 5 (by decide) (by decide) rfl rfl rfl ?_ rfl
  refine step_dead fun v1810 => ?_
  refine step_st hs 12 5 (by decide) (by decide) rfl rfl rfl ?_ rfl
  refine step_dead fun v1814 => ?_
  refine step_st hs 13 5 (by decide) (by decide) rfl rfl rfl ?_ rfl
  refine step_dead fun v1818 => ?_
  refine step_st hs 14 5 (by decide) (by decide) rfl rfl rfl ?_ rfl
  refine step_dead fun v1822 => ?_
  refine step_st hs 15 5 (by decide) (by decide) rfl rfl rfl ?_ rfl
  exact step_ret H

theorem part46 (v72 : BitVec 32) (v96 : BitVec 32) (v1827 : BitVec 32) {Q : _ → PP F}
    (H : InvB R c f5 σ skip 96 ⊢ Q ⟨(st f5 σ skip 0 12), (st f5 σ skip 0 13), (st f5 σ skip 1 12), (st f5 σ skip 1 13), (st f5 σ skip 2 12), (st f5 σ skip 2 13), (Scalar.andi (Scalar.addi v96 48#32) 255#32)⟩) :
    InvB R c f5 σ skip 96 ⊢ Wp c (k0_part46 m0 h0 m1 h1 m2 h2 m3 h3 m4 h4 m5 h5 m6 h6 m7 h7 m8 h8 m9 h9 m10 h10 m11 h11 m12 h12 m13 h13 m14 h14 m15 h15 m16 h16 m17 h17 s18 s19 s20 s21 v1_0 k0_t4 v72 v93 k0_hw14 v96 v1827) Q := by
  rw [k0_part46_eq_skeleton]; unfold k0_part46_skel
  refine step_ld hlt hs 0 12 (by decide) (by decide) (offEq hσ hsk rfl) ?_
  refine step_ld hlt hs 0 13 (by decide) (by decide) (offEq hσ hsk rfl) ?_
  refine step_ld hlt hs 1 12 (by decide) (by decide) (offEq hσ hsk rfl) ?_
  refine step_ld hlt hs 1 13 (by decide) (by decide) (offEq hσ hsk rfl) ?_
  refine step_ld hlt hs 2 12 (by decide) (by decide) (offEq hσ hsk rfl) ?_
  refine step_ld hlt hs 2 13 (by decide) (by decide) (offEq hσ hsk rfl) ?_
  exact step_ret H

theorem part47 (v72 : BitVec 32) (v96 : BitVec 32) (v1869 : BitVec 32) {Q : _ → PP F}
    (H : InvB R c f5 σ skip 96 ⊢ Q ⟨(st f5 σ skip 3 12), (st f5 σ skip 3 13), (st f5 σ skip 4 12), (st f5 σ skip 4 13), (st f5 σ skip 5 12), (st f5 σ skip 5 13), (Scalar.andi (Scalar.addi v96 96#32) 255#32)⟩) :
    InvB R c f5 σ skip 96 ⊢ Wp c (k0_part47 m0 h0 m1 h1 m2 h2 m3 h3 m4 h4 m5 h5 m6 h6 m7 h7 m8 h8 m9 h9 m10 h10 m11 h11 m12 h12 m13 h13 m14 h14 m15 h15 m16 h16 m17 h17 s18 s19 s20 s21 v1_0 k0_t4 v72 v93 k0_hw14 v96 v1869) Q := by
  rw [k0_part47_eq_skeleton]; unfold k0_part47_skel
  refine step_ld hlt hs 3 12 (by decide) (by decide) (offEq hσ hsk rfl) ?_
  refine step_ld hlt hs 3 13 (by decide) (by decide) (offEq hσ hsk rfl) ?_
  refine step_ld hlt hs 4 12 (by decide) (by decide) (offEq hσ hsk rfl) ?_
  refine step_ld hlt hs 4 13 (by decide) (by decide) (offEq hσ hsk rfl) ?_
  refine step_ld hlt hs 5 12 (by decide) (by decide) (offEq hσ hsk rfl) ?_
  refine step_ld hlt hs 5 13 (by decide) (by decide) (offEq hσ hsk rfl) ?_
  exact step_ret H

theorem part48 (v72 : BitVec 32) (v96 : BitVec 32) (v1911 : BitVec 32) {Q : _ → PP F}
    (H : InvB R c f5 σ skip 96 ⊢ Q ⟨(st f5 σ skip 6 12), (st f5 σ skip 6 13), (st f5 σ skip 7 12), (st f5 σ skip 7 13), (st f5 σ skip 8 12), (st f5 σ skip 8 13), (Scalar.andi (Scalar.addi v96 144#32) 255#32)⟩) :
    InvB R c f5 σ skip 96 ⊢ Wp c (k0_part48 m0 h0 m1 h1 m2 h2 m3 h3 m4 h4 m5 h5 m6 h6 m7 h7 m8 h8 m9 h9 m10 h10 m11 h11 m12 h12 m13 h13 m14 h14 m15 h15 m16 h16 m17 h17 s18 s19 s20 s21 v1_0 k0_t4 v72 v93 k0_hw14 v96 v1911) Q := by
  rw [k0_part48_eq_skeleton]; unfold k0_part48_skel
  refine step_ld hlt hs 6 12 (by decide) (by decide) (offEq hσ hsk rfl) ?_
  refine step_ld hlt hs 6 13 (by decide) (by decide) (offEq hσ hsk rfl) ?_
  refine step_ld hlt hs 7 12 (by decide) (by decide) (offEq hσ hsk rfl) ?_
  refine step_ld hlt hs 7 13 (by decide) (by decide) (offEq hσ hsk rfl) ?_
  refine step_ld hlt hs 8 12 (by decide) (by decide) (offEq hσ hsk rfl) ?_
  refine step_ld hlt hs 8 13 (by decide) (by decide) (offEq hσ hsk rfl) ?_
  exact step_ret H

theorem part49 (v72 : BitVec 32) (v96 : BitVec 32) (v1953 : BitVec 32) {Q : _ → PP F}
    (H : InvB R c f5 σ skip 96 ⊢ Q ⟨(st f5 σ skip 9 12), (st f5 σ skip 9 13), (st f5 σ skip 10 12), (st f5 σ skip 10 13), (st f5 σ skip 11 12), (st f5 σ skip 11 13), (Scalar.andi (Scalar.addi v96 192#32) 255#32)⟩) :
    InvB R c f5 σ skip 96 ⊢ Wp c (k0_part49 m0 h0 m1 h1 m2 h2 m3 h3 m4 h4 m5 h5 m6 h6 m7 h7 m8 h8 m9 h9 m10 h10 m11 h11 m12 h12 m13 h13 m14 h14 m15 h15 m16 h16 m17 h17 s18 s19 s20 s21 v1_0 k0_t4 v72 v93 k0_hw14 v96 v1953) Q := by
  rw [k0_part49_eq_skeleton]; unfold k0_part49_skel
  refine step_ld hlt hs 9 12 (by decide) (by decide) (offEq hσ hsk rfl) ?_
  refine step_ld hlt hs 9 13 (by decide) (by decide) (offEq hσ hsk rfl) ?_
  refine step_ld hlt hs 10 12 (by decide) (by decide) (offEq hσ hsk rfl) ?_
  refine step_ld hlt hs 10 13 (by decide) (by decide) (offEq hσ hsk rfl) ?_
  refine step_ld hlt hs 11 12 (by decide) (by decide) (offEq hσ hsk rfl) ?_
  refine step_ld hlt hs 11 13 (by decide) (by decide) (offEq hσ hsk rfl) ?_
  exact step_ret H

theorem part50 (v72 : BitVec 32) (v96 : BitVec 32) (v1995 : BitVec 32) {Q : _ → PP F}
    (H : InvB R c f5 σ skip 96 ⊢ Q ⟨(st f5 σ skip 12 12), (st f5 σ skip 12 13), (st f5 σ skip 13 12), (st f5 σ skip 13 13), (st f5 σ skip 14 12), (st f5 σ skip 14 13), (Scalar.andi (Scalar.addi v96 240#32) 255#32)⟩) :
    InvB R c f5 σ skip 96 ⊢ Wp c (k0_part50 m0 h0 m1 h1 m2 h2 m3 h3 m4 h4 m5 h5 m6 h6 m7 h7 m8 h8 m9 h9 m10 h10 m11 h11 m12 h12 m13 h13 m14 h14 m15 h15 m16 h16 m17 h17 s18 s19 s20 s21 v1_0 k0_t4 v72 v93 k0_hw14 v96 v1995) Q := by
  rw [k0_part50_eq_skeleton]; unfold k0_part50_skel
  refine step_ld hlt hs 12 12 (by decide) (by decide) (offEq hσ hsk rfl) ?_
  refine step_ld hlt hs 12 13 (by decide) (by decide) (offEq hσ hsk rfl) ?_
  refine step_ld hlt hs 13 12 (by decide) (by decide) (offEq hσ hsk rfl) ?_
  refine step_ld hlt hs 13 13 (by decide) (by decide) (offEq hσ hsk rfl) ?_
  refine step_ld hlt hs 14 12 (by decide) (by decide) (offEq hσ hsk rfl) ?_
  refine step_ld hlt hs 14 13 (by decide) (by decide) (offEq hσ hsk rfl) ?_
  exact step_ret H

theorem part51 (v72 : BitVec 32) (v96 : BitVec 32) (v2037 : BitVec 32) {Q : _ → PP F}
    (H : InvB R c f5 σ skip 102 ⊢ Q ⟨(st f5 σ skip 15 12), (st f5 σ skip 15 13), (cat f5 σ skip 6 6)⟩) :
    InvB R c f5 σ skip 96 ⊢ Wp c (k0_part51 m0 h0 m1 h1 m2 h2 m3 h3 m4 h4 m5 h5 m6 h6 m7 h7 m8 h8 m9 h9 m10 h10 m11 h11 m12 h12 m13 h13 m14 h14 m15 h15 m16 h16 m17 h17 s18 s19 s20 s21 v1_0 k0_t4 v72 v93 k0_hw14 v96 (st f5 σ skip 0 12) (st f5 σ skip 0 13) (st f5 σ skip 1 12) (st f5 σ skip 1 13) (st f5 σ skip 2 12) (st f5 σ skip 2 13) (st f5 σ skip 3 12) (st f5 σ skip 3 13) (st f5 σ skip 4 12) (st f5 σ skip 4 13) (st f5 σ skip 5 12) (st f5 σ skip 5 13) (st f5 σ skip 6 12) (st f5 σ skip 6 13) v2037) Q := by
  rw [k0_part51_eq_skeleton]; unfold k0_part51_skel
  refine step_ld hlt hs 15 12 (by decide) (by decide) (offEq hσ hsk rfl) ?_
  refine step_ld hlt hs 15 13 (by decide) (by decide) (offEq hσ hsk rfl) ?_
  refine step_dead fun v2050 => ?_
  refine step_st hs 0 6 (by decide) (by decide) rfl rfl rfl ?_ rfl
  refine step_dead fun v2054 => ?_
  refine step_st hs 1 6 (by decide) (by decide) rfl rfl rfl ?_ rfl
  refine step_dead fun v2058 => ?_
  refine step_st hs 2 6 (by decide) (by decide) rfl rfl rfl ?_ rfl
  refine step_dead fun v2062 => ?_
  refine step_st hs 3 6 (by decide) (by decide) rfl rfl rfl ?_ rfl
  refine step_dead fun v2066 => ?_
  refine step_st hs 4 6 (by decide) (by decide) rfl rfl rfl ?_ rfl
  refine step_dead fun v2070 => ?_
  refine step_st hs 5 6 (by decide) (by decide) rfl rfl rfl ?_ rfl
  exact step_ret H

theorem part52 {Q : _ → PP F}
    (H : InvB R c f5 σ skip 111 ⊢ Q ⟨⟩) :
    InvB R c f5 σ skip 102 ⊢ Wp c (k0_part52 m0 h0 m1 h1 m2 h2 m3 h3 m4 h4 m5 h5 m6 h6 m7 h7 m8 h8 m9 h9 m10 h10 m11 h11 m12 h12 m13 h13 m14 h14 m15 h15 m16 h16 m17 h17 s18 s19 s20 s21 (st f5 σ skip 7 12) (st f5 σ skip 7 13) (st f5 σ skip 8 12) (st f5 σ skip 8 13) (st f5 σ skip 9 12) (st f5 σ skip 9 13) (st f5 σ skip 10 12) (st f5 σ skip 10 13) (st f5 σ skip 11 12) (st f5 σ skip 11 13) (st f5 σ skip 12 12) (st f5 σ skip 12 13) (st f5 σ skip 13 12) (st f5 σ skip 13 13) (st f5 σ skip 14 12) (st f5 σ skip 14 13) (cat f5 σ skip 6 6)) Q := by
  rw [k0_part52_eq_skeleton]; unfold k0_part52_skel
  refine step_dead fun v2074 => ?_
  refine step_st hs 6 6 (by decide) (by decide) rfl rfl rfl ?_ rfl
  refine step_dead fun v2078 => ?_
  refine step_st hs 7 6 (by decide) (by decide) rfl rfl rfl ?_ rfl
  refine step_dead fun v2082 => ?_
  refine step_st hs 8 6 (by decide) (by decide) rfl rfl rfl ?_ rfl
  refine step_dead fun v2086 => ?_
  refine step_st hs 9 6 (by decide) (by decide) rfl rfl rfl ?_ rfl
  refine step_dead fun v2090 => ?_
  refine step_st hs 10 6 (by decide) (by decide) rfl rfl rfl ?_ rfl
  refine step_dead fun v2094 => ?_
  refine step_st hs 11 6 (by decide) (by decide) rfl rfl rfl ?_ rfl
  refine step_dead fun v2098 => ?_
  refine step_st hs 12 6 (by decide) (by decide) rfl rfl rfl ?_ rfl
  refine step_dead fun v2102 => ?_
  refine step_st hs 13 6 (by decide) (by decide) rfl rfl rfl ?_ rfl
  refine step_dead fun v2106 => ?_
  refine step_st hs 14 6 (by decide) (by decide) rfl rfl rfl ?_ rfl
  exact step_ret H

theorem part53 (v72 : BitVec 32) (v96 : BitVec 32) {Q : _ → PP F}
    (H : InvB R c f5 σ skip 112 ⊢ Q ⟨(st f5 σ skip 0 14), (st f5 σ skip 0 15), (st f5 σ skip 1 14), (st f5 σ skip 1 15), (st f5 σ skip 2 14), (Scalar.addi v96 32#32), 255#32⟩) :
    InvB R c f5 σ skip 111 ⊢ Wp c (k0_part53 m0 h0 m1 h1 m2 h2 m3 h3 m4 h4 m5 h5 m6 h6 m7 h7 m8 h8 m9 h9 m10 h10 m11 h11 m12 h12 m13 h13 m14 h14 m15 h15 m16 h16 m17 h17 s18 s19 s20 s21 v1_0 k0_t4 v72 v93 k0_hw14 v96 (st f5 σ skip 15 12) (st f5 σ skip 15 13)) Q := by
  rw [k0_part53_eq_skeleton]; unfold k0_part53_skel
  refine step_dead fun v2110 => ?_
  refine step_st hs 15 6 (by decide) (by decide) rfl rfl rfl ?_ rfl
  refine step_ld hlt hs 0 14 (by decide) (by decide) (offEq hσ hsk rfl) ?_
  refine step_ld hlt hs 0 15 (by decide) (by decide) (offEq hσ hsk rfl) ?_
  refine step_ld hlt hs 1 14 (by decide) (by decide) (offEq hσ hsk rfl) ?_
  refine step_ld hlt hs 1 15 (by decide) (by decide) (offEq hσ hsk rfl) ?_
  refine step_ld hlt hs 2 14 (by decide) (by decide) (offEq hσ hsk rfl) ?_
  exact step_ret H

theorem part54 (v72 : BitVec 32) (v96 : BitVec 32) (v2148 : BitVec 32) (c255_i32_914 : BitVec 32) {Q : _ → PP F}
    (H : InvB R c f5 σ skip 112 ⊢ Q ⟨(st f5 σ skip 2 15), (st f5 σ skip 3 14), (st f5 σ skip 3 15), (st f5 σ skip 4 14), (st f5 σ skip 4 15), (st f5 σ skip 5 14), (Scalar.addi v96 80#32), 255#32⟩) :
    InvB R c f5 σ skip 112 ⊢ Wp c (k0_part54 m0 h0 m1 h1 m2 h2 m3 h3 m4 h4 m5 h5 m6 h6 m7 h7 m8 h8 m9 h9 m10 h10 m11 h11 m12 h12 m13 h13 m14 h14 m15 h15 m16 h16 m17 h17 s18 s19 s20 s21 v1_0 k0_t4 v72 v93 k0_hw14 v96 v2148 c255_i32_914) Q := by
  rw [k0_part54_eq_skeleton]; unfold k0_part54_skel
  refine step_ld hlt hs 2 15 (by decide) (by decide) (offEq hσ hsk rfl) ?_
  refine step_ld hlt hs 3 14 (by decide) (by decide) (offEq hσ hsk rfl) ?_
  refine step_ld hlt hs 3 15 (by decide) (by decide) (offEq hσ hsk rfl) ?_
  refine step_ld hlt hs 4 14 (by decide) (by decide) (offEq hσ hsk rfl) ?_
  refine step_ld hlt hs 4 15 (by decide) (by decide) (offEq hσ hsk rfl) ?_
  refine step_ld hlt hs 5 14 (by decide) (by decide) (offEq hσ hsk rfl) ?_
  exact step_ret H

theorem part55 (v72 : BitVec 32) (v96 : BitVec 32) (v2190 : BitVec 32) (c255_i32_932 : BitVec 32) {Q : _ → PP F}
    (H : InvB R c f5 σ skip 112 ⊢ Q ⟨(st f5 σ skip 5 15), (st f5 σ skip 6 14), (st f5 σ skip 6 15), (st f5 σ skip 7 14), (st f5 σ skip 7 15), (st f5 σ skip 8 14), (Scalar.addi v96 128#32), 255#32⟩) :
    InvB R c f5 σ skip 112 ⊢ Wp c (k0_part55 m0 h0 m1 h1 m2 h2 m3 h3 m4 h4 m5 h5 m6 h6 m7 h7 m8 h8 m9 h9 m10 h10 m11 h11 m12 h12 m13 h13 m14 h14 m15 h15 m16 h16 m17 h17 s18 s19 s20 s21 v1_0 k0_t4 v72 v93 k0_hw14 v96 v2190 c255_i32_932) Q := by
  rw [k0_part55_eq_skeleton]; unfold k0_part55_skel
  refine step_ld hlt hs 5 15 (by decide) (by decide) (offEq hσ hsk rfl) ?_
  refine step_ld hlt hs 6 14 (by decide) (by decide) (offEq hσ hsk rfl) ?_
  refine step_ld hlt hs 6 15 (by decide) (by decide) (offEq hσ hsk rfl) ?_
  refine step_ld hlt hs 7 14 (by decide) (by decide) (offEq hσ hsk rfl) ?_
  refine step_ld hlt hs 7 15 (by decide) (by decide) (offEq hσ hsk rfl) ?_
  refine step_ld hlt hs 8 14 (by decide) (by decide) (offEq hσ hsk rfl) ?_
  exact step_ret H

theorem part56 (v72 : BitVec 32) (v96 : BitVec 32) (v2232 : BitVec 32) (c255_i32_950 : BitVec 32) {Q : _ → PP F}
    (H : InvB R c f5 σ skip 112 ⊢ Q ⟨(st f5 σ skip 8 15), (st f5 σ skip 9 14), (st f5 σ skip 9 15), (st f5 σ skip 10 14), (st f5 σ skip 10 15), (st f5 σ skip 11 14), (Scalar.addi v96 176#32), 255#32⟩) :
    InvB R c f5 σ skip 112 ⊢ Wp c (k0_part56 m0 h0 m1 h1 m2 h2 m3 h3 m4 h4 m5 h5 m6 h6 m7 h7 m8 h8 m9 h9 m10 h10 m11 h11 m12 h12 m13 h13 m14 h14 m15 h15 m16 h16 m17 h17 s18 s19 s20 s21 v1_0 k0_t4 v72 v93 k0_hw14 v96 v2232 c255_i32_950) Q := by
  rw [k0_part56_eq_skeleton]; unfold k0_part56_skel
  refine step_ld hlt hs 8 15 (by decide) (by decide) (offEq hσ hsk rfl) ?_
  refine step_ld hlt hs 9 14 (by decide) (by decide) (offEq hσ hsk rfl) ?_
  refine step_ld hlt hs 9 15 (by decide) (by decide) (offEq hσ hsk rfl) ?_
  refine step_ld hlt hs 10 14 (by decide) (by decide) (offEq hσ hsk rfl) ?_
  refine step_ld hlt hs 10 15 (by decide) (by decide) (offEq hσ hsk rfl) ?_
  refine step_ld hlt hs 11 14 (by decide) (by decide) (offEq hσ hsk rfl) ?_
  exact step_ret H

theorem part57 (v72 : BitVec 32) (v96 : BitVec 32) (v2274 : BitVec 32) (c255_i32_968 : BitVec 32) {Q : _ → PP F}
    (H : InvB R c f5 σ skip 112 ⊢ Q ⟨(st f5 σ skip 11 15), (st f5 σ skip 12 14), (st f5 σ skip 12 15), (st f5 σ skip 13 14), (st f5 σ skip 13 15), (st f5 σ skip 14 14), (Scalar.addi v96 224#32), 255#32⟩) :
    InvB R c f5 σ skip 112 ⊢ Wp c (k0_part57 m0 h0 m1 h1 m2 h2 m3 h3 m4 h4 m5 h5 m6 h6 m7 h7 m8 h8 m9 h9 m10 h10 m11 h11 m12 h12 m13 h13 m14 h14 m15 h15 m16 h16 m17 h17 s18 s19 s20 s21 v1_0 k0_t4 v72 v93 k0_hw14 v96 v2274 c255_i32_968) Q := by
  rw [k0_part57_eq_skeleton]; unfold k0_part57_skel
  refine step_ld hlt hs 11 15 (by decide) (by decide) (offEq hσ hsk rfl) ?_
  refine step_ld hlt hs 12 14 (by decide) (by decide) (offEq hσ hsk rfl) ?_
  refine step_ld hlt hs 12 15 (by decide) (by decide) (offEq hσ hsk rfl) ?_
  refine step_ld hlt hs 13 14 (by decide) (by decide) (offEq hσ hsk rfl) ?_
  refine step_ld hlt hs 13 15 (by decide) (by decide) (offEq hσ hsk rfl) ?_
  refine step_ld hlt hs 14 14 (by decide) (by decide) (offEq hσ hsk rfl) ?_
  exact step_ret H

theorem part58 (v72 : BitVec 32) (v96 : BitVec 32) (v2316 : BitVec 32) (c255_i32_986 : BitVec 32) {Q : _ → PP F}
    (H : InvB R c f5 σ skip 116 ⊢ Q ⟨(st f5 σ skip 14 15), (st f5 σ skip 15 14), (st f5 σ skip 15 15), (cat f5 σ skip 4 7)⟩) :
    InvB R c f5 σ skip 112 ⊢ Wp c (k0_part58 m0 h0 m1 h1 m2 h2 m3 h3 m4 h4 m5 h5 m6 h6 m7 h7 m8 h8 m9 h9 m10 h10 m11 h11 m12 h12 m13 h13 m14 h14 m15 h15 m16 h16 m17 h17 s18 s19 s20 s21 v1_0 k0_t4 v72 v93 k0_hw14 v96 (st f5 σ skip 0 14) (st f5 σ skip 0 15) (st f5 σ skip 1 14) (st f5 σ skip 1 15) (st f5 σ skip 2 14) (st f5 σ skip 2 15) (st f5 σ skip 3 14) (st f5 σ skip 3 15) (st f5 σ skip 4 14) (st f5 σ skip 4 15) v2316 c255_i32_986) Q := by
  rw [k0_part58_eq_skeleton]; unfold k0_part58_skel
  refine step_ld hlt hs 14 15 (by decide) (by decide) (offEq hσ hsk rfl) ?_
  refine step_ld hlt hs 15 14 (by decide) (by decide) (offEq hσ hsk rfl) ?_
  refine step_ld hlt hs 15 15 (by decide) (by decide) (offEq hσ hsk rfl) ?_
  refine step_dead fun v2338 => ?_
  refine step_st hs 0 7 (by decide) (by decide) rfl rfl rfl ?_ rfl
  refine step_dead fun v2342 => ?_
  refine step_st hs 1 7 (by decide) (by decide) rfl rfl rfl ?_ rfl
  refine step_dead fun v2346 => ?_
  refine step_st hs 2 7 (by decide) (by decide) rfl rfl rfl ?_ rfl
  refine step_dead fun v2350 => ?_
  refine step_st hs 3 7 (by decide) (by decide) rfl rfl rfl ?_ rfl
  refine step_dead fun v2354 => ?_
  exact step_ret H

theorem part59 {Q : _ → PP F}
    (H : InvB R c f5 σ skip 125 ⊢ Q (cat f5 σ skip 13 7)) :
    InvB R c f5 σ skip 116 ⊢ Wp c (k0_part59 m0 h0 m1 h1 m2 h2 m3 h3 m4 h4 m5 h5 m6 h6 m7 h7 m8 h8 m9 h9 m10 h10 m11 h11 m12 h12 m13 h13 m14 h14 m15 h15 m16 h16 m17 h17 s18 s19 s20 s21 (st f5 σ skip 5 14) (st f5 σ skip 5 15) (st f5 σ skip 6 14) (st f5 σ skip 6 15) (st f5 σ skip 7 14) (st f5 σ skip 7 15) (st f5 σ skip 8 14) (st f5 σ skip 8 15) (st f5 σ skip 9 14) (st f5 σ skip 9 15) (st f5 σ skip 10 14) (st f5 σ skip 10 15) (st f5 σ skip 11 14) (st f5 σ skip 11 15) (st f5 σ skip 12 14) (st f5 σ skip 12 15) (st f5 σ skip 13 14) (st f5 σ skip 13 15) (cat f5 σ skip 4 7)) Q := by
  rw [k0_part59_eq_skeleton]; unfold k0_part59_skel
  refine step_st hs 4 7 (by decide) (by decide) rfl rfl rfl ?_ rfl
  refine step_dead fun v2358 => ?_
  refine step_st hs 5 7 (by decide) (by decide) rfl rfl rfl ?_ rfl
  refine step_dead fun v2362 => ?_
  refine step_st hs 6 7 (by decide) (by decide) rfl rfl rfl ?_ rfl
  refine step_dead fun v2366 => ?_
  refine step_st hs 7 7 (by decide) (by decide) rfl rfl rfl ?_ rfl
  refine step_dead fun v2370 => ?_
  refine step_st hs 8 7 (by decide) (by decide) rfl rfl rfl ?_ rfl
  refine step_dead fun v2374 => ?_
  refine step_st hs 9 7 (by decide) (by decide) rfl rfl rfl ?_ rfl
  refine step_dead fun v2378 => ?_
  refine step_st hs 10 7 (by decide) (by decide) rfl rfl rfl ?_ rfl
  refine step_dead fun v2382 => ?_
  refine step_st hs 11 7 (by decide) (by decide) rfl rfl rfl ?_ rfl
  refine step_dead fun v2386 => ?_
  refine step_st hs 12 7 (by decide) (by decide) rfl rfl rfl ?_ rfl
  exact step_ret H

end Cert.Kernel.Hand
-- ==== Proof.K.Copy3.lean ====
/-
  The steps of the strip copies, parts 60 to 88 of the printed body.
-/
module

public import proofs.«01_k».proof.Proof.K.Copy

@[expose] public section

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

variable {R : PP F} {c : Dev nD} {f5 : S2x256x3072.Idx → Elt F .bf16} {σ skip : ℕ}
variable (hlt : σ < 2) (hs : 16 ∣ skip) {v1_0 : BitVec 32} {k0_t4 : Fin (k0_t4_loop v1_0).trips} {v93 : Elt F .i32}
variable (hσ : (Scalar.andi (Scf.iv 0#32 1#32 k0_t4) 1#32).toNat = σ)
variable (hsk : (Scalar.subi v93 (Scalar.minsi v93 12032#32)).toNat = skip)
variable {k0_hw14 : k0_chk14 v1_0 k0_t4 v93}
include hlt hs hσ hsk

theorem part60 (v72 : BitVec 32) (v96 : BitVec 32) {Q : _ → PP F}
    (H : InvB R c f5 σ skip 128 ⊢ Q ⟨(st f5 σ skip 0 16), (st f5 σ skip 0 17), (st f5 σ skip 1 16), (st f5 σ skip 1 17), 32#32⟩) :
    InvB R c f5 σ skip 125 ⊢ Wp c (k0_part60 m0 h0 m1 h1 m2 h2 m3 h3 m4 h4 m5 h5 m6 h6 m7 h7 m8 h8 m9 h9 m10 h10 m11 h11 m12 h12 m13 h13 m14 h14 m15 h15 m16 h16 m17 h17 s18 s19 s20 s21 v1_0 k0_t4 v72 v93 k0_hw14 v96 (st f5 σ skip 14 14) (st f5 σ skip 14 15) (st f5 σ skip 15 14) (st f5 σ skip 15 15) (cat f5 σ skip 13 7)) Q := by
  rw [k0_part60_eq_skeleton]; unfold k0_part60_skel
  refine step_dead fun v2390 => ?_
  refine step_st hs 13 7 (by decide) (by decide) rfl rfl rfl ?_ rfl
  refine step_dead fun v2394 => ?_
  refine step_st hs 14 7 (by decide) (by decide) rfl rfl rfl ?_ rfl
  refine step_dead fun v2398 => ?_
  refine step_st hs 15 7 (by decide) (by decide) rfl rfl rfl ?_ rfl
  refine step_ld hlt hs 0 16 (by decide) (by decide) (offEq hσ hsk rfl) ?_
  refine step_ld hlt hs 0 17 (by decide) (by decide) (offEq hσ hsk rfl) ?_
  refine step_ld hlt hs 1 16 (by decide) (by decide) (offEq hσ hsk rfl) ?_
  refine step_ld hlt hs 1 17 (by decide) (by decide) (offEq hσ hsk rfl) ?_
  exact step_ret H

theorem part61 (v72 : BitVec 32) (v96 : BitVec 32) (c32_i32_1036 : BitVec 32) {Q : _ → PP F}
    (H : InvB R c f5 σ skip 128 ⊢ Q ⟨(st f5 σ skip 2 16), (st f5 σ skip 2 17), (st f5 σ skip 3 16), (st f5 σ skip 3 17), (st f5 σ skip 4 16), (st f5 σ skip 4 17), 80#32⟩) :
    InvB R c f5 σ skip 128 ⊢ Wp c (k0_part61 m0 h0 m1 h1 m2 h2 m3 h3 m4 h4 m5 h5 m6 h6 m7 h7 m8 h8 m9 h9 m10 h10 m11 h11 m12 h12 m13 h13 m14 h14 m15 h15 m16 h16 m17 h17 s18 s19 s20 s21 v1_0 k0_t4 v72 v93 k0_hw14 v96 c32_i32_1036) Q := by
  rw [k0_part61_eq_skeleton]; unfold k0_part61_skel
  refine step_ld hlt hs 2 16 (by decide) (by decide) (offEq hσ hsk rfl) ?_
  refine step_ld hlt hs 2 17 (by decide) (by decide) (offEq hσ hsk rfl) ?_
  refine step_ld hlt hs 3 16 (by decide) (by decide) (offEq hσ hsk rfl) ?_
  refine step_ld hlt hs 3 17 (by decide) (by decide) (offEq hσ hsk rfl) ?_
  refine step_ld hlt hs 4 16 (by decide) (by decide) (offEq hσ hsk rfl) ?_
  refine step_ld hlt hs 4 17 (by decide) (by decide) (offEq hσ hsk rfl) ?_
  exact step_ret H

theorem part62 (v72 : BitVec 32) (v96 : BitVec 32) (c80_i32_1054 : BitVec 32) {Q : _ → PP F}
    (H : InvB R c f5 σ skip 128 ⊢ Q ⟨(st f5 σ skip 5 16), (st f5 σ skip 5 17), (st f5 σ skip 6 16), (st f5 σ skip 6 17), (st f5 σ skip 7 16), (st f5 σ skip 7 17), 128#32⟩) :
    InvB R c f5 σ skip 128 ⊢ Wp c (k0_part62 m0 h0 m1 h1 m2 h2 m3 h3 m4 h4 m5 h5 m6 h6 m7 h7 m8 h8 m9 h9 m10 h10 m11 h11 m12 h12 m13 h13 m14 h14 m15 h15 m16 h16 m17 h17 s18 s19 s20 s21 v1_0 k0_t4 v72 v93 k0_hw14 v96 c80_i32_1054) Q := by
  rw [k0_part62_eq_skeleton]; unfold k0_part62_skel
  refine step_ld hlt hs 5 16 (by decide) (by decide) (offEq hσ hsk rfl) ?_
  refine step_ld hlt hs 5 17 (by decide) (by decide) (offEq hσ hsk rfl) ?_
  refine step_ld hlt hs 6 16 (by decide) (by decide) (offEq hσ hsk rfl) ?_
  refine step_ld hlt hs 6 17 (by decide) (by decide) (offEq hσ hsk rfl) ?_
  refine step_ld hlt hs 7 16 (by decide) (by decide) (offEq hσ hsk rfl) ?_
  refine step_ld hlt hs 7 17 (by decide) (by decide) (offEq hσ hsk rfl) ?_
  exact step_ret H

theorem part63 (v72 : BitVec 32) (v96 : BitVec 32) (c128_i32_1072 : BitVec 32) {Q : _ → PP F}
    (H : InvB R c f5 σ skip 128 ⊢ Q ⟨(st f5 σ skip 8 16), (st f5 σ skip 8 17), (st f5 σ skip 9 16), (st f5 σ skip 9 17), (st f5 σ skip 10 16), (st f5 σ skip 10 17), 176#32⟩) :
    InvB R c f5 σ skip 128 ⊢ Wp c (k0_part63 m0 h0 m1 h1 m2 h2 m3 h3 m4 h4 m5 h5 m6 h6 m7 h7 m8 h8 m9 h9 m10 h10 m11 h11 m12 h12 m13 h13 m14 h14 m15 h15 m16 h16 m17 h17 s18 s19 s20 s21 v1_0 k0_t4 v72 v93 k0_hw14 v96 c128_i32_1072) Q := by
  rw [k0_part63_eq_skeleton]; unfold k0_part63_skel
  refine step_ld hlt hs 8 16 (by decide) (by decide) (offEq hσ hsk rfl) ?_
  refine step_ld hlt hs 8 17 (by decide) (by decide) (offEq hσ hsk rfl) ?_
  refine step_ld hlt hs 9 16 (by decide) (by decide) (offEq hσ hsk rfl) ?_
  refine step_ld hlt hs 9 17 (by decide) (by decide) (offEq hσ hsk rfl) ?_
  refine step_ld hlt hs 10 16 (by decide) (by decide) (offEq hσ hsk rfl) ?_
  refine step_ld hlt hs 10 17 (by decide) (by decide) (offEq hσ hsk rfl) ?_
  exact step_ret H

theorem part64 (v72 : BitVec 32) (v96 : BitVec 32) (c176_i32_1090 : BitVec 32) {Q : _ → PP F}
    (H : InvB R c f5 σ skip 128 ⊢ Q ⟨(st f5 σ skip 11 16), (st f5 σ skip 11 17), (st f5 σ skip 12 16), (st f5 σ skip 12 17), (st f5 σ skip 13 16), (st f5 σ skip 13 17), 224#32⟩) :
    InvB R c f5 σ skip 128 ⊢ Wp c (k0_part64 m0 h0 m1 h1 m2 h2 m3 h3 m4 h4 m5 h5 m6 h6 m7 h7 m8 h8 m9 h9 m10 h10 m11 h11 m12 h12 m13 h13 m14 h14 m15 h15 m16 h16 m17 h17 s18 s19 s20 s21 v1_0 k0_t4 v72 v93 k0_hw14 v96 c176_i32_1090) Q := by
  rw [k0_part64_eq_skeleton]; unfold k0_part64_skel
  refine step_ld hlt hs 11 16 (by decide) (by decide) (offEq hσ hsk rfl) ?_
  refine step_ld hlt hs 11 17 (by decide) (by decide) (offEq hσ hsk rfl) ?_
  refine step_ld hlt hs 12 16 (by decide) (by decide) (offEq hσ hsk rfl) ?_
  refine step_ld hlt hs 12 17 (by decide) (by decide) (offEq hσ hsk rfl) ?_
  refine step_ld hlt hs 13 16 (by decide) (by decide) (offEq hσ hsk rfl) ?_
  refine step_ld hlt hs 13 17 (by decide) (by decide) (offEq hσ hsk rfl) ?_
  exact step_ret H

theorem part65 (v72 : BitVec 32) (v96 : BitVec 32) (c224_i32_1108 : BitVec 32) {Q : _ → PP F}
    (H : InvB R c f5 σ skip 131 ⊢ Q ⟨(st f5 σ skip 14 16), (st f5 σ skip 14 17), (st f5 σ skip 15 16), (st f5 σ skip 15 17)⟩) :
    InvB R c f5 σ skip 128 ⊢ Wp c (k0_part65 m0 h0 m1 h1 m2 h2 m3 h3 m4 h4 m5 h5 m6 h6 m7 h7 m8 h8 m9 h9 m10 h10 m11 h11 m12 h12 m13 h13 m14 h14 m15 h15 m16 h16 m17 h17 s18 s19 s20 s21 v1_0 k0_t4 v72 v93 k0_hw14 v96 (st f5 σ skip 0 16) (st f5 σ skip 0 17) (st f5 σ skip 1 16) (st f5 σ skip 1 17) (st f5 σ skip 2 16) (st f5 σ skip 2 17) c224_i32_1108) Q := by
  rw [k0_part65_eq_skeleton]; unfold k0_part65_skel
  refine step_ld hlt hs 14 16 (by decide) (by decide) (offEq hσ hsk rfl) ?_
  refine step_ld hlt hs 14 17 (by decide) (by decide) (offEq hσ hsk rfl) ?_
  refine step_ld hlt hs 15 16 (by decide) (by decide) (offEq hσ hsk rfl) ?_
  refine step_ld hlt hs 15 17 (by decide) (by decide) (offEq hσ hsk rfl) ?_
  refine step_dead fun v2626 => ?_
  refine step_st hs 0 8 (by decide) (by decide) rfl rfl rfl ?_ rfl
  refine step_dead fun v2630 => ?_
  refine step_st hs 1 8 (by decide) (by decide) rfl rfl rfl ?_ rfl
  refine step_dead fun v2634 => ?_
  refine step_st hs 2 8 (by decide) (by decide) rfl rfl rfl ?_ rfl
  exact step_ret H

theorem part66 {Q : _ → PP F}
    (H : ∀ v2670, InvB R c f5 σ skip 139 ⊢ Q ⟨(cat f5 σ skip 11 8), v2670⟩) :
    InvB R c f5 σ skip 131 ⊢ Wp c (k0_part66 m0 h0 m1 h1 m2 h2 m3 h3 m4 h4 m5 h5 m6 h6 m7 h7 m8 h8 m9 h9 m10 h10 m11 h11 m12 h12 m13 h13 m14 h14 m15 h15 m16 h16 m17 h17 s18 s19 s20 s21 (st f5 σ skip 3 16) (st f5 σ skip 3 17) (st f5 σ skip 4 16) (st f5 σ skip 4 17) (st f5 σ skip 5 16) (st f5 σ skip 5 17) (st f5 σ skip 6 16) (st f5 σ skip 6 17) (st f5 σ skip 7 16) (st f5 σ skip 7 17) (st f5 σ skip 8 16) (st f5 σ skip 8 17) (st f5 σ skip 9 16) (st f5 σ skip 9 17) (st f5 σ skip 10 16) (st f5 σ skip 10 17) (st f5 σ skip 11 16) (st f5 σ skip 11 17)) Q := by
  rw [k0_part66_eq_skeleton]; unfold k0_part66_skel
  refine step_dead fun v2638 => ?_
  refine step_st hs 3 8 (by decide) (by decide) rfl rfl rfl ?_ rfl
  refine step_dead fun v2642 => ?_
  refine step_st hs 4 8 (by decide) (by decide) rfl rfl rfl ?_ rfl
  refine step_dead fun v2646 => ?_
  refine step_st hs 5 8 (by decide) (by decide) rfl rfl rfl ?_ rfl
  refine step_dead fun v2650 => ?_
  refine step_st hs 6 8 (by decide) (by decide) rfl rfl rfl ?_ rfl
  refine step_dead fun v2654 => ?_
  refine step_st hs 7 8 (by decide) (by decide) rfl rfl rfl ?_ rfl
  refine step_dead fun v2658 => ?_
  refine step_st hs 8 8 (by decide) (by decide) rfl rfl rfl ?_ rfl
  refine step_dead fun v2662 => ?_
  refine step_st hs 9 8 (by decide) (by decide) rfl rfl rfl ?_ rfl
  refine step_dead fun v2666 => ?_
  refine step_st hs 10 8 (by decide) (by decide) rfl rfl rfl ?_ rfl
  refine step_dead fun v2670 => ?_
  exact step_ret (H v2670)

theorem part67 (v72 : BitVec 32) (v96 : BitVec 32) (v2670 : Vec F S16x256 .bf16) {Q : _ → PP F}
    (H : InvB R c f5 σ skip 144 ⊢ Q ⟨(st f5 σ skip 0 18), (st f5 σ skip 0 19), (st3 f5 σ skip 1 18)⟩) :
    InvB R c f5 σ skip 139 ⊢ Wp c (k0_part67 m0 h0 m1 h1 m2 h2 m3 h3 m4 h4 m5 h5 m6 h6 m7 h7 m8 h8 m9 h9 m10 h10 m11 h11 m12 h12 m13 h13 m14 h14 m15 h15 m16 h16 m17 h17 s18 s19 s20 s21 v1_0 k0_t4 v72 v93 k0_hw14 v96 (st f5 σ skip 12 16) (st f5 σ skip 12 17) (st f5 σ skip 13 16) (st f5 σ skip 13 17) (st f5 σ skip 14 16) (st f5 σ skip 14 17) (st f5 σ skip 15 16) (st f5 σ skip 15 17) (cat f5 σ skip 11 8) v2670) Q := by
  rw [k0_part67_eq_skeleton]; unfold k0_part67_skel
  refine step_st hs 11 8 (by decide) (by decide) rfl rfl rfl ?_ rfl
  refine step_dead fun v2674 => ?_
  refine step_st hs 12 8 (by decide) (by decide) rfl rfl rfl ?_ rfl
  refine step_dead fun v2678 => ?_
  refine step_st hs 13 8 (by decide) (by decide) rfl rfl rfl ?_ rfl
  refine step_dead fun v2682 => ?_
  refine step_st hs 14 8 (by decide) (by decide) rfl rfl rfl ?_ rfl
  refine step_dead fun v2686 => ?_
  refine step_st hs 15 8 (by decide) (by decide) rfl rfl rfl ?_ rfl
  refine step_ld hlt hs 0 18 (by decide) (by decide) (offEq hσ hsk rfl) ?_
  refine step_ld hlt hs 0 19 (by decide) (by decide) (offEq hσ hsk rfl) ?_
  refine step_ld hlt hs 1 18 (by decide) (by decide) (offEq hσ hsk rfl) ?_
  exact step_ret H

theorem part68 (v72 : BitVec 32) (v96 : BitVec 32) {Q : _ → PP F}
    (H : InvB R c f5 σ skip 144 ⊢ Q ⟨(st f5 σ skip 1 18), (st f5 σ skip 1 19), (st f5 σ skip 2 18), (st f5 σ skip 2 19), (st f5 σ skip 3 18), (st f5 σ skip 3 19), (st3 f5 σ skip 4 18)⟩) :
    InvB R c f5 σ skip 144 ⊢ Wp c (k0_part68 m0 h0 m1 h1 m2 h2 m3 h3 m4 h4 m5 h5 m6 h6 m7 h7 m8 h8 m9 h9 m10 h10 m11 h11 m12 h12 m13 h13 m14 h14 m15 h15 m16 h16 m17 h17 s18 s19 s20 s21 v1_0 k0_t4 v72 v93 k0_hw14 v96 (st3 f5 σ skip 1 18)) Q := by
  rw [k0_part68_eq_skeleton]; unfold k0_part68_skel
  refine step_ld hlt hs 1 19 (by decide) (by decide) (offEq hσ hsk rfl) ?_
  refine step_ld hlt hs 2 18 (by decide) (by decide) (offEq hσ hsk rfl) ?_
  refine step_ld hlt hs 2 19 (by decide) (by decide) (offEq hσ hsk rfl) ?_
  refine step_ld hlt hs 3 18 (by decide) (by decide) (offEq hσ hsk rfl) ?_
  refine step_ld hlt hs 3 19 (by decide) (by decide) (offEq hσ hsk rfl) ?_
  refine step_ld hlt hs 4 18 (by decide) (by decide) (offEq hσ hsk rfl) ?_
  exact step_ret H

theorem part69 (v72 : BitVec 32) (v96 : BitVec 32) {Q : _ → PP F}
    (H : InvB R c f5 σ skip 144 ⊢ Q ⟨(st f5 σ skip 4 18), (st f5 σ skip 4 19), (st f5 σ skip 5 18), (st f5 σ skip 5 19), (st f5 σ skip 6 18), (st f5 σ skip 6 19), (st3 f5 σ skip 7 18)⟩) :
    InvB R c f5 σ skip 144 ⊢ Wp c (k0_part69 m0 h0 m1 h1 m2 h2 m3 h3 m4 h4 m5 h5 m6 h6 m7 h7 m8 h8 m9 h9 m10 h10 m11 h11 m12 h12 m13 h13 m14 h14 m15 h15 m16 h16 m17 h17 s18 s19 s20 s21 v1_0 k0_t4 v72 v93 k0_hw14 v96 (st3 f5 σ skip 4 18)) Q := by
  rw [k0_part69_eq_skeleton]; unfold k0_part69_skel
  refine step_ld hlt hs 4 19 (by decide) (by decide) (offEq hσ hsk rfl) ?_
  refine step_ld hlt hs 5 18 (by decide) (by decide) (offEq hσ hsk rfl) ?_
  refine step_ld hlt hs 5 19 (by decide) (by decide) (offEq hσ hsk rfl) ?_
  refine step_ld hlt hs 6 18 (by decide) (by decide) (offEq hσ hsk rfl) ?_
  refine step_ld hlt hs 6 19 (by decide) (by decide) (offEq hσ hsk rfl) ?_
  refine step_ld hlt hs 7 18 (by decide) (by decide) (offEq hσ hsk rfl) ?_
  exact step_ret H

theorem part70 (v72 : BitVec 32) (v96 : BitVec 32) {Q : _ → PP F}
    (H : InvB R c f5 σ skip 144 ⊢ Q ⟨(st f5 σ skip 7 18), (st f5 σ skip 7 19), (st f5 σ skip 8 18), (st f5 σ skip 8 19), (st f5 σ skip 9 18), (st f5 σ skip 9 19), (st3 f5 σ skip 10 18)⟩) :
    InvB R c f5 σ skip 144 ⊢ Wp c (k0_part70 m0 h0 m1 h1 m2 h2 m3 h3 m4 h4 m5 h5 m6 h6 m7 h7 m8 h8 m9 h9 m10 h10 m11 h11 m12 h12 m13 h13 m14 h14 m15 h15 m16 h16 m17 h17 s18 s19 s20 s21 v1_0 k0_t4 v72 v93 k0_hw14 v96 (st3 f5 σ skip 7 18)) Q := by
  rw [k0_part70_eq_skeleton]; unfold k0_part70_skel
  refine step_ld hlt hs 7 19 (by decide) (by decide) (offEq hσ hsk rfl) ?_
  refine step_ld hlt hs 8 18 (by decide) (by decide) (offEq hσ hsk rfl) ?_
  refine step_ld hlt hs 8 19 (by decide) (by decide) (offEq hσ hsk rfl) ?_
  refine step_ld hlt hs 9 18 (by decide) (by decide) (offEq hσ hsk rfl) ?_
  refine step_ld hlt hs 9 19 (by decide) (by decide) (offEq hσ hsk rfl) ?_
  refine step_ld hlt hs 10 18 (by decide) (by decide) (offEq hσ hsk rfl) ?_
  exact step_ret H

theorem part71 (v72 : BitVec 32) (v96 : BitVec 32) {Q : _ → PP F}
    (H : InvB R c f5 σ skip 144 ⊢ Q ⟨(st f5 σ skip 10 18), (st f5 σ skip 10 19), (st f5 σ skip 11 18), (st f5 σ skip 11 19), (st f5 σ skip 12 18), (st f5 σ skip 12 19), (st3 f5 σ skip 13 18)⟩) :
    InvB R c f5 σ skip 144 ⊢ Wp c (k0_part71 m0 h0 m1 h1 m2 h2 m3 h3 m4 h4 m5 h5 m6 h6 m7 h7 m8 h8 m9 h9 m10 h10 m11 h11 m12 h12 m13 h13 m14 h14 m15 h15 m16 h16 m17 h17 s18 s19 s20 s21 v1_0 k0_t4 v72 v93 k0_hw14 v96 (st3 f5 σ skip 10 18)) Q := by
  rw [k0_part71_eq_skeleton]; unfold k0_part71_skel
  refine step_ld hlt hs 10 19 (by decide) (by decide) (offEq hσ hsk rfl) ?_
  refine step_ld hlt hs 11 18 (by decide) (by decide) (offEq hσ hsk rfl) ?_
  refine step_ld hlt hs 11 19 (by decide) (by decide) (offEq hσ hsk rfl) ?_
  refine step_ld hlt hs 12 18 (by decide) (by decide) (offEq hσ hsk rfl) ?_
  refine step_ld hlt hs 12 19 (by decide) (by decide) (offEq hσ hsk rfl) ?_
  refine step_ld hlt hs 13 18 (by decide) (by decide) (offEq hσ hsk rfl) ?_
  exact step_ret H

theorem part72 (v72 : BitVec 32) (v96 : BitVec 32) {Q : _ → PP F}
    (H : InvB R c f5 σ skip 145 ⊢ Q ⟨(st f5 σ skip 13 18), (st f5 σ skip 13 19), (st f5 σ skip 14 18), (st f5 σ skip 14 19), (st f5 σ skip 15 18), (st f5 σ skip 15 19), (cat f5 σ skip 1 9)⟩) :
    InvB R c f5 σ skip 144 ⊢ Wp c (k0_part72 m0 h0 m1 h1 m2 h2 m3 h3 m4 h4 m5 h5 m6 h6 m7 h7 m8 h8 m9 h9 m10 h10 m11 h11 m12 h12 m13 h13 m14 h14 m15 h15 m16 h16 m17 h17 s18 s19 s20 s21 v1_0 k0_t4 v72 v93 k0_hw14 v96 (st f5 σ skip 0 18) (st f5 σ skip 0 19) (st f5 σ skip 1 18) (st f5 σ skip 1 19) (st3 f5 σ skip 13 18)) Q := by
  rw [k0_part72_eq_skeleton]; unfold k0_part72_skel
  refine step_ld hlt hs 13 19 (by decide) (by decide) (offEq hσ hsk rfl) ?_
  refine step_ld hlt hs 14 18 (by decide) (by decide) (offEq hσ hsk rfl) ?_
  refine step_ld hlt hs 14 19 (by decide) (by decide) (offEq hσ hsk rfl) ?_
  refine step_ld hlt hs 15 18 (by decide) (by decide) (offEq hσ hsk rfl) ?_
  refine step_ld hlt hs 15 19 (by decide) (by decide) (offEq hσ hsk rfl) ?_
  refine step_dead fun v2914 => ?_
  refine step_st hs 0 9 (by decide) (by decide) rfl rfl rfl ?_ rfl
  exact step_ret H

theorem part73 {Q : _ → PP F}
    (H : InvB R c f5 σ skip 153 ⊢ Q (shapeCast S16x256 (cat f5 σ skip 9 9) shapeCasts_S16x256_S16x256)) :
    InvB R c f5 σ skip 145 ⊢ Wp c (k0_part73 m0 h0 m1 h1 m2 h2 m3 h3 m4 h4 m5 h5 m6 h6 m7 h7 m8 h8 m9 h9 m10 h10 m11 h11 m12 h12 m13 h13 m14 h14 m15 h15 m16 h16 m17 h17 s18 s19 s20 s21 (st f5 σ skip 2 18) (st f5 σ skip 2 19) (st f5 σ skip 3 18) (st f5 σ skip 3 19) (st f5 σ skip 4 18) (st f5 σ skip 4 19) (st f5 σ skip 5 18) (st f5 σ skip 5 19) (st f5 σ skip 6 18) (st f5 σ skip 6 19) (st f5 σ skip 7 18) (st f5 σ skip 7 19) (st f5 σ skip 8 18) (st f5 σ skip 8 19) (st f5 σ skip 9 18) (st f5 σ skip 9 19) (cat f5 σ skip 1 9)) Q := by
  rw [k0_part73_eq_skeleton]; unfold k0_part73_skel
  refine step_dead fun v2918 => ?_
  refine step_st hs 1 9 (by decide) (by decide) rfl rfl rfl ?_ rfl
  refine step_dead fun v2922 => ?_
  refine step_st hs 2 9 (by decide) (by decide) rfl rfl rfl ?_ rfl
  refine step_dead fun v2926 => ?_
  refine step_st hs 3 9 (by decide) (by decide) rfl rfl rfl ?_ rfl
  refine step_dead fun v2930 => ?_
  refine step_st hs 4 9 (by decide) (by decide) rfl rfl rfl ?_ rfl
  refine step_dead fun v2934 => ?_
  refine step_st hs 5 9 (by decide) (by decide) rfl rfl rfl ?_ rfl
  refine step_dead fun v2938 => ?_
  refine step_st hs 6 9 (by decide) (by decide) rfl rfl rfl ?_ rfl
  refine step_dead fun v2942 => ?_
  refine step_st hs 7 9 (by decide) (by decide) rfl rfl rfl ?_ rfl
  refine step_dead fun v2946 => ?_
  refine step_st hs 8 9 (by decide) (by decide) rfl rfl rfl ?_ rfl
  refine step_dead fun v2950 => ?_
  exact step_ret H

theorem part74 (v72 : BitVec 32) (v96 : BitVec 32) {Q : _ → PP F}
    (H : InvB R c f5 σ skip 160 ⊢ Q (st f5 σ skip 0 20)) :
    InvB R c f5 σ skip 153 ⊢ Wp c (k0_part74 m0 h0 m1 h1 m2 h2 m3 h3 m4 h4 m5 h5 m6 h6 m7 h7 m8 h8 m9 h9 m10 h10 m11 h11 m12 h12 m13 h13 m14 h14 m15 h15 m16 h16 m17 h17 s18 s19 s20 s21 v1_0 k0_t4 v72 v93 k0_hw14 v96 (st f5 σ skip 10 18) (st f5 σ skip 10 19) (st f5 σ skip 11 18) (st f5 σ skip 11 19) (st f5 σ skip 12 18) (st f5 σ skip 12 19) (st f5 σ skip 13 18) (st f5 σ skip 13 19) (st f5 σ skip 14 18) (st f5 σ skip 14 19) (st f5 σ skip 15 18) (st f5 σ skip 15 19) (shapeCast S16x256 (cat f5 σ skip 9 9) shapeCasts_S16x256_S16x256)) Q := by
  rw [k0_part74_eq_skeleton]; unfold k0_part74_skel
  refine step_st hs 9 9 (by decide) (by decide) rfl rfl rfl ?_ rfl
  refine step_dead fun v2954 => ?_
  refine step_st hs 10 9 (by decide) (by decide) rfl rfl rfl ?_ rfl
  refine step_dead fun v2958 => ?_
  refine step_st hs 11 9 (by decide) (by decide) rfl rfl rfl ?_ rfl
  refine step_dead fun v2962 => ?_
  refine step_st hs 12 9 (by decide) (by decide) rfl rfl rfl ?_ rfl
  refine step_dead fun v2966 => ?_
  refine step_st hs 13 9 (by decide) (by decide) rfl rfl rfl ?_ rfl
  refine step_dead fun v2970 => ?_
  refine step_st hs 14 9 (by decide) (by decide) rfl rfl rfl ?_ rfl
  refine step_dead fun v2974 => ?_
  refine step_st hs 15 9 (by decide) (by decide) rfl rfl rfl ?_ rfl
  refine step_ld hlt hs 0 20 (by decide) (by decide) (offEq hσ hsk rfl) ?_
  exact step_ret H

theorem part75 (v72 : BitVec 32) (v96 : BitVec 32) {Q : _ → PP F}
    (H : InvB R c f5 σ skip 160 ⊢ Q ⟨(st f5 σ skip 0 21), (st f5 σ skip 1 20), (st f5 σ skip 1 21), (st f5 σ skip 2 20), (st f5 σ skip 2 21), (st f5 σ skip 3 20)⟩) :
    InvB R c f5 σ skip 160 ⊢ Wp c (k0_part75 m0 h0 m1 h1 m2 h2 m3 h3 m4 h4 m5 h5 m6 h6 m7 h7 m8 h8 m9 h9 m10 h10 m11 h11 m12 h12 m13 h13 m14 h14 m15 h15 m16 h16 m17 h17 s18 s19 s20 s21 v1_0 k0_t4 v72 v93 k0_hw14 v96) Q := by
  rw [k0_part75_eq_skeleton]; unfold k0_part75_skel
  refine step_ld hlt hs 0 21 (by decide) (by decide) (offEq hσ hsk rfl) ?_
  refine step_ld hlt hs 1 20 (by decide) (by decide) (offEq hσ hsk rfl) ?_
  refine step_ld hlt hs 1 21 (by decide) (by decide) (offEq hσ hsk rfl) ?_
  refine step_ld hlt hs 2 20 (by decide) (by decide) (offEq hσ hsk rfl) ?_
  refine step_ld hlt hs 2 21 (by decide) (by decide) (offEq hσ hsk rfl) ?_
  refine step_ld hlt hs 3 20 (by decide) (by decide) (offEq hσ hsk rfl) ?_
  exact step_ret H

theorem part76 (v72 : BitVec 32) (v96 : BitVec 32) {Q : _ → PP F}
    (H : InvB R c f5 σ skip 160 ⊢ Q ⟨(st f5 σ skip 3 21), (st f5 σ skip 4 20), (st f5 σ skip 4 21), (st f5 σ skip 5 20), (st f5 σ skip 5 21), (st f5 σ skip 6 20)⟩) :
    InvB R c f5 σ skip 160 ⊢ Wp c (k0_part76 m0 h0 m1 h1 m2 h2 m3 h3 m4 h4 m5 h5 m6 h6 m7 h7 m8 h8 m9 h9 m10 h10 m11 h11 m12 h12 m13 h13 m14 h14 m15 h15 m16 h16 m17 h17 s18 s19 s20 s21 v1_0 k0_t4 v72 v93 k0_hw14 v96) Q := by
  rw [k0_part76_eq_skeleton]; unfold k0_part76_skel
  refine step_ld hlt hs 3 21 (by decide) (by decide) (offEq hσ hsk rfl) ?_
  refine step_ld hlt hs 4 20 (by decide) (by decide) (offEq hσ hsk rfl) ?_
  refine step_ld hlt hs 4 21 (by decide) (by decide) (offEq hσ hsk rfl) ?_
  refine step_ld hlt hs 5 20 (by decide) (by decide) (offEq hσ hsk rfl) ?_
  refine step_ld hlt hs 5 21 (by decide) (by decide) (offEq hσ hsk rfl) ?_
  refine step_ld hlt hs 6 20 (by decide) (by decide) (offEq hσ hsk rfl) ?_
  exact step_ret H

theorem part77 (v72 : BitVec 32) (v96 : BitVec 32) {Q : _ → PP F}
    (H : InvB R c f5 σ skip 160 ⊢ Q ⟨(st f5 σ skip 6 21), (st f5 σ skip 7 20), (st f5 σ skip 7 21), (st f5 σ skip 8 20), (st f5 σ skip 8 21), (st f5 σ skip 9 20)⟩) :
    InvB R c f5 σ skip 160 ⊢ Wp c (k0_part77 m0 h0 m1 h1 m2 h2 m3 h3 m4 h4 m5 h5 m6 h6 m7 h7 m8 h8 m9 h9 m10 h10 m11 h11 m12 h12 m13 h13 m14 h14 m15 h15 m16 h16 m17 h17 s18 s19 s20 s21 v1_0 k0_t4 v72 v93 k0_hw14 v96) Q := by
  rw [k0_part77_eq_skeleton]; unfold k0_part77_skel
  refine step_ld hlt hs 6 21 (by decide) (by decide) (offEq hσ hsk rfl) ?_
  refine step_ld hlt hs 7 20 (by decide) (by decide) (offEq hσ hsk rfl) ?_
  refine step_ld hlt hs 7 21 (by decide) (by decide) (offEq hσ hsk rfl) ?_
  refine step_ld hlt hs 8 20 (by decide) (by decide) (offEq hσ hsk rfl) ?_
  refine step_ld hlt hs 8 21 (by decide) (by decide) (offEq hσ hsk rfl) ?_
  refine step_ld hlt hs 9 20 (by decide) (by decide) (offEq hσ hsk rfl) ?_
  exact step_ret H

theorem part78 (v72 : BitVec 32) (v96 : BitVec 32) {Q : _ → PP F}
    (H : InvB R c f5 σ skip 160 ⊢ Q ⟨(st f5 σ skip 9 21), (st f5 σ skip 10 20), (st f5 σ skip 10 21), (st f5 σ skip 11 20), (st f5 σ skip 11 21), (st f5 σ skip 12 20)⟩) :
    InvB R c f5 σ skip 160 ⊢ Wp c (k0_part78 m0 h0 m1 h1 m2 h2 m3 h3 m4 h4 m5 h5 m6 h6 m7 h7 m8 h8 m9 h9 m10 h10 m11 h11 m12 h12 m13 h13 m14 h14 m15 h15 m16 h16 m17 h17 s18 s19 s20 s21 v1_0 k0_t4 v72 v93 k0_hw14 v96) Q := by
  rw [k0_part78_eq_skeleton]; unfold k0_part78_skel
  refine step_ld hlt hs 9 21 (by decide) (by decide) (offEq hσ hsk rfl) ?_
  refine step_ld hlt hs 10 20 (by decide) (by decide) (offEq hσ hsk rfl) ?_
  refine step_ld hlt hs 10 21 (by decide) (by decide) (offEq hσ hsk rfl) ?_
  refine step_ld hlt hs 11 20 (by decide) (by decide) (offEq hσ hsk rfl) ?_
  refine step_ld hlt hs 11 21 (by decide) (by decide) (offEq hσ hsk rfl) ?_
  refine step_ld hlt hs 12 20 (by decide) (by decide) (offEq hσ hsk rfl) ?_
  exact step_ret H

theorem part79 (v72 : BitVec 32) (v96 : BitVec 32) {Q : _ → PP F}
    (H : InvB R c f5 σ skip 160 ⊢ Q ⟨(st f5 σ skip 12 21), (st f5 σ skip 13 20), (st f5 σ skip 13 21), (st f5 σ skip 14 20), (st f5 σ skip 14 21), (st f5 σ skip 15 20)⟩) :
    InvB R c f5 σ skip 160 ⊢ Wp c (k0_part79 m0 h0 m1 h1 m2 h2 m3 h3 m4 h4 m5 h5 m6 h6 m7 h7 m8 h8 m9 h9 m10 h10 m11 h11 m12 h12 m13 h13 m14 h14 m15 h15 m16 h16 m17 h17 s18 s19 s20 s21 v1_0 k0_t4 v72 v93 k0_hw14 v96) Q := by
  rw [k0_part79_eq_skeleton]; unfold k0_part79_skel
  refine step_ld hlt hs 12 21 (by decide) (by decide) (offEq hσ hsk rfl) ?_
  refine step_ld hlt hs 13 20 (by decide) (by decide) (offEq hσ hsk rfl) ?_
  refine step_ld hlt hs 13 21 (by decide) (by decide) (offEq hσ hsk rfl) ?_
  refine step_ld hlt hs 14 20 (by decide) (by decide) (offEq hσ hsk rfl) ?_
  refine step_ld hlt hs 14 21 (by decide) (by decide) (offEq hσ hsk rfl) ?_
  refine step_ld hlt hs 15 20 (by decide) (by decide) (offEq hσ hsk rfl) ?_
  exact step_ret H

theorem part80 {Q : _ → PP F}
    (H : InvB R c f5 σ skip 168 ⊢ Q ⟨(st f5 σ skip 15 21), (cat f5 σ skip 8 10)⟩) :
    InvB R c f5 σ skip 160 ⊢ Wp c (k0_part80 m0 h0 m1 h1 m2 h2 m3 h3 m4 h4 m5 h5 m6 h6 m7 h7 m8 h8 m9 h9 m10 h10 m11 h11 m12 h12 m13 h13 m14 h14 m15 h15 m16 h16 m17 h17 s18 s19 s20 s21 v1_0 k0_t4 v93 k0_hw14 (st f5 σ skip 0 20) (st f5 σ skip 0 21) (st f5 σ skip 1 20) (st f5 σ skip 1 21) (st f5 σ skip 2 20) (st f5 σ skip 2 21) (st f5 σ skip 3 20) (st f5 σ skip 3 21) (st f5 σ skip 4 20) (st f5 σ skip 4 21) (st f5 σ skip 5 20) (st f5 σ skip 5 21) (st f5 σ skip 6 20) (st f5 σ skip 6 21) (st f5 σ skip 7 20) (st f5 σ skip 7 21) (st f5 σ skip 8 20) (st f5 σ skip 8 21)) Q := by
  rw [k0_part80_eq_skeleton]; unfold k0_part80_skel
  refine step_ld hlt hs 15 21 (by decide) (by decide) (offEq hσ hsk rfl) ?_
  refine step_dead fun v3202 => ?_
  refine step_st hs 0 10 (by decide) (by decide) rfl rfl rfl ?_ rfl
  refine step_dead fun v3206 => ?_
  refine step_st hs 1 10 (by decide) (by decide) rfl rfl rfl ?_ rfl
  refine step_dead fun v3210 => ?_
  refine step_st hs 2 10 (by decide) (by decide) rfl rfl rfl ?_ rfl
  refine step_dead fun v3214 => ?_
  refine step_st hs 3 10 (by decide) (by decide) rfl rfl rfl ?_ rfl
  refine step_dead fun v3218 => ?_
  refine step_st hs 4 10 (by decide) (by decide) rfl rfl rfl ?_ rfl
  refine step_dead fun v3222 => ?_
  refine step_st hs 5 10 (by decide) (by decide) rfl rfl rfl ?_ rfl
  refine step_dead fun v3226 => ?_
  refine step_st hs 6 10 (by decide) (by decide) rfl rfl rfl ?_ rfl
  refine step_dead fun v3230 => ?_
  refine step_st hs 7 10 (by decide) (by decide) rfl rfl rfl ?_ rfl
  exact step_ret H

theorem part81 (v96 : BitVec 32) {Q : _ → PP F}
    (H : InvB R c f5 σ skip 176 ⊢ Q (Scalar.andi (Scalar.addi v96 0#32) 255#32)) :
    InvB R c f5 σ skip 168 ⊢ Wp c (k0_part81 m0 h0 m1 h1 m2 h2 m3 h3 m4 h4 m5 h5 m6 h6 m7 h7 m8 h8 m9 h9 m10 h10 m11 h11 m12 h12 m13 h13 m14 h14 m15 h15 m16 h16 m17 h17 s18 s19 s20 s21 v96 (st f5 σ skip 9 20) (st f5 σ skip 9 21) (st f5 σ skip 10 20) (st f5 σ skip 10 21) (st f5 σ skip 11 20) (st f5 σ skip 11 21) (st f5 σ skip 12 20) (st f5 σ skip 12 21) (st f5 σ skip 13 20) (st f5 σ skip 13 21) (st f5 σ skip 14 20) (st f5 σ skip 14 21) (st f5 σ skip 15 20) (st f5 σ skip 15 21) (cat f5 σ skip 8 10)) Q := by
  rw [k0_part81_eq_skeleton]; unfold k0_part81_skel
  refine step_dead fun v3234 => ?_
  refine step_st hs 8 10 (by decide) (by decide) rfl rfl rfl ?_ rfl
  refine step_dead fun v3238 => ?_
  refine step_st hs 9 10 (by decide) (by decide) rfl rfl rfl ?_ rfl
  refine step_dead fun v3242 => ?_
  refine step_st hs 10 10 (by decide) (by decide) rfl rfl rfl ?_ rfl
  refine step_dead fun v3246 => ?_
  refine step_st hs 11 10 (by decide) (by decide) rfl rfl rfl ?_ rfl
  refine step_dead fun v3250 => ?_
  refine step_st hs 12 10 (by decide) (by decide) rfl rfl rfl ?_ rfl
  refine step_dead fun v3254 => ?_
  refine step_st hs 13 10 (by decide) (by decide) rfl rfl rfl ?_ rfl
  refine step_dead fun v3258 => ?_
  refine step_st hs 14 10 (by decide) (by decide) rfl rfl rfl ?_ rfl
  refine step_dead fun v3262 => ?_
  refine step_st hs 15 10 (by decide) (by decide) rfl rfl rfl ?_ rfl
  exact step_ret H

theorem part82 (v72 : BitVec 32) (v96 : BitVec 32) (v3267 : BitVec 32) {Q : _ → PP F}
    (H : InvB R c f5 σ skip 176 ⊢ Q ⟨(st f5 σ skip 0 22), (st f5 σ skip 0 23), (st f5 σ skip 1 22), (st f5 σ skip 1 23), (st f5 σ skip 2 22), (st f5 σ skip 2 23), (Scalar.andi (Scalar.addi v96 48#32) 255#32)⟩) :
    InvB R c f5 σ skip 176 ⊢ Wp c (k0_part82 m0 h0 m1 h1 m2 h2 m3 h3 m4 h4 m5 h5 m6 h6 m7 h7 m8 h8 m9 h9 m10 h10 m11 h11 m12 h12 m13 h13 m14 h14 m15 h15 m16 h16 m17 h17 s18 s19 s20 s21 v1_0 k0_t4 v72 v93 k0_hw14 v96 v3267) Q := by
  rw [k0_part82_eq_skeleton]; unfold k0_part82_skel
  refine step_ld hlt hs 0 22 (by decide) (by decide) (offEq hσ hsk rfl) ?_
  refine step_ld hlt hs 0 23 (by decide) (by decide) (offEq hσ hsk rfl) ?_
  refine step_ld hlt hs 1 22 (by decide) (by decide) (offEq hσ hsk rfl) ?_
  refine step_ld hlt hs 1 23 (by decide) (by decide) (offEq hσ hsk rfl) ?_
  refine step_ld hlt hs 2 22 (by decide) (by decide) (offEq hσ hsk rfl) ?_
  refine step_ld hlt hs 2 23 (by decide) (by decide) (offEq hσ hsk rfl) ?_
  exact step_ret H

theorem part83 (v72 : BitVec 32) (v96 : BitVec 32) (v3309 : BitVec 32) {Q : _ → PP F}
    (H : InvB R c f5 σ skip 176 ⊢ Q ⟨(st f5 σ skip 3 22), (st f5 σ skip 3 23), (st f5 σ skip 4 22), (st f5 σ skip 4 23), (st f5 σ skip 5 22), (st f5 σ skip 5 23), (Scalar.andi (Scalar.addi v96 96#32) 255#32)⟩) :
    InvB R c f5 σ skip 176 ⊢ Wp c (k0_part83 m0 h0 m1 h1 m2 h2 m3 h3 m4 h4 m5 h5 m6 h6 m7 h7 m8 h8 m9 h9 m10 h10 m11 h11 m12 h12 m13 h13 m14 h14 m15 h15 m16 h16 m17 h17 s18 s19 s20 s21 v1_0 k0_t4 v72 v93 k0_hw14 v96 v3309) Q := by
  rw [k0_part83_eq_skeleton]; unfold k0_part83_skel
  refine step_ld hlt hs 3 22 (by decide) (by decide) (offEq hσ hsk rfl) ?_
  refine step_ld hlt hs 3 23 (by decide) (by decide) (offEq hσ hsk rfl) ?_
  refine step_ld hlt hs 4 22 (by decide) (by decide) (offEq hσ hsk rfl) ?_
  refine step_ld hlt hs 4 23 (by decide) (by decide) (offEq hσ hsk rfl) ?_
  refine step_ld hlt hs 5 22 (by decide) (by decide) (offEq hσ hsk rfl) ?_
  refine step_ld hlt hs 5 23 (by decide) (by decide) (offEq hσ hsk rfl) ?_
  exact step_ret H

theorem part84 (v72 : BitVec 32) (v96 : BitVec 32) (v3351 : BitVec 32) {Q : _ → PP F}
    (H : InvB R c f5 σ skip 176 ⊢ Q ⟨(st f5 σ skip 6 22), (st f5 σ skip 6 23), (st f5 σ skip 7 22), (st f5 σ skip 7 23), (st f5 σ skip 8 22), (st f5 σ skip 8 23), (Scalar.andi (Scalar.addi v96 144#32) 255#32)⟩) :
    InvB R c f5 σ skip 176 ⊢ Wp c (k0_part84 m0 h0 m1 h1 m2 h2 m3 h3 m4 h4 m5 h5 m6 h6 m7 h7 m8 h8 m9 h9 m10 h10 m11 h11 m12 h12 m13 h13 m14 h14 m15 h15 m16 h16 m17 h17 s18 s19 s20 s21 v1_0 k0_t4 v72 v93 k0_hw14 v96 v3351) Q := by
  rw [k0_part84_eq_skeleton]; unfold k0_part84_skel
  refine step_ld hlt hs 6 22 (by decide) (by decide) (offEq hσ hsk rfl) ?_
  refine step_ld hlt hs 6 23 (by decide) (by decide) (offEq hσ hsk rfl) ?_
  refine step_ld hlt hs 7 22 (by decide) (by decide) (offEq hσ hsk rfl) ?_
  refine step_ld hlt hs 7 23 (by decide) (by decide) (offEq hσ hsk rfl) ?_
  refine step_ld hlt hs 8 22 (by decide) (by decide) (offEq hσ hsk rfl) ?_
  refine step_ld hlt hs 8 23 (by decide) (by decide) (offEq hσ hsk rfl) ?_
  exact step_ret H

theorem part85 (v72 : BitVec 32) (v96 : BitVec 32) (v3393 : BitVec 32) {Q : _ → PP F}
    (H : InvB R c f5 σ skip 176 ⊢ Q ⟨(st f5 σ skip 9 22), (st f5 σ skip 9 23), (st f5 σ skip 10 22), (st f5 σ skip 10 23), (st f5 σ skip 11 22), (st f5 σ skip 11 23), (Scalar.andi (Scalar.addi v96 192#32) 255#32)⟩) :
    InvB R c f5 σ skip 176 ⊢ Wp c (k0_part85 m0 h0 m1 h1 m2 h2 m3 h3 m4 h4 m5 h5 m6 h6 m7 h7 m8 h8 m9 h9 m10 h10 m11 h11 m12 h12 m13 h13 m14 h14 m15 h15 m16 h16 m17 h17 s18 s19 s20 s21 v1_0 k0_t4 v72 v93 k0_hw14 v96 v3393) Q := by
  rw [k0_part85_eq_skeleton]; unfold k0_part85_skel
  refine step_ld hlt hs 9 22 (by decide) (by decide) (offEq hσ hsk rfl) ?_
  refine step_ld hlt hs 9 23 (by decide) (by decide) (offEq hσ hsk rfl) ?_
  refine step_ld hlt hs 10 22 (by decide) (by decide) (offEq hσ hsk rfl) ?_
  refine step_ld hlt hs 10 23 (by decide) (by decide) (offEq hσ hsk rfl) ?_
  refine step_ld hlt hs 11 22 (by decide) (by decide) (offEq hσ hsk rfl) ?_
  refine step_ld hlt hs 11 23 (by decide) (by decide) (offEq hσ hsk rfl) ?_
  exact step_ret H

theorem part86 (v72 : BitVec 32) (v96 : BitVec 32) (v3435 : BitVec 32) {Q : _ → PP F}
    (H : InvB R c f5 σ skip 176 ⊢ Q ⟨(st f5 σ skip 12 22), (st f5 σ skip 12 23), (st f5 σ skip 13 22), (st f5 σ skip 13 23), (st f5 σ skip 14 22), (st f5 σ skip 14 23), (Scalar.andi (Scalar.addi v96 240#32) 255#32)⟩) :
    InvB R c f5 σ skip 176 ⊢ Wp c (k0_part86 m0 h0 m1 h1 m2 h2 m3 h3 m4 h4 m5 h5 m6 h6 m7 h7 m8 h8 m9 h9 m10 h10 m11 h11 m12 h12 m13 h13 m14 h14 m15 h15 m16 h16 m17 h17 s18 s19 s20 s21 v1_0 k0_t4 v72 v93 k0_hw14 v96 v3435) Q := by
  rw [k0_part86_eq_skeleton]; unfold k0_part86_skel
  refine step_ld hlt hs 12 22 (by decide) (by decide) (offEq hσ hsk rfl) ?_
  refine step_ld hlt hs 12 23 (by decide) (by decide) (offEq hσ hsk rfl) ?_
  refine step_ld hlt hs 13 22 (by decide) (by decide) (offEq hσ hsk rfl) ?_
  refine step_ld hlt hs 13 23 (by decide) (by decide) (offEq hσ hsk rfl) ?_
  refine step_ld hlt hs 14 22 (by decide) (by decide) (offEq hσ hsk rfl) ?_
  refine step_ld hlt hs 14 23 (by decide) (by decide) (offEq hσ hsk rfl) ?_
  exact step_ret H

theorem part87 (v72 : BitVec 32) (v96 : BitVec 32) (v3477 : BitVec 32) {Q : _ → PP F}
    (H : InvB R c f5 σ skip 182 ⊢ Q ⟨(st f5 σ skip 15 22), (st f5 σ skip 15 23), (cat f5 σ skip 6 11)⟩) :
    InvB R c f5 σ skip 176 ⊢ Wp c (k0_part87 m0 h0 m1 h1 m2 h2 m3 h3 m4 h4 m5 h5 m6 h6 m7 h7 m8 h8 m9 h9 m10 h10 m11 h11 m12 h12 m13 h13 m14 h14 m15 h15 m16 h16 m17 h17 s18 s19 s20 s21 v1_0 k0_t4 v72 v93 k0_hw14 v96 (st f5 σ skip 0 22) (st f5 σ skip 0 23) (st f5 σ skip 1 22) (st f5 σ skip 1 23) (st f5 σ skip 2 22) (st f5 σ skip 2 23) (st f5 σ skip 3 22) (st f5 σ skip 3 23) (st f5 σ skip 4 22) (st f5 σ skip 4 23) (st f5 σ skip 5 22) (st f5 σ skip 5 23) (st f5 σ skip 6 22) (st f5 σ skip 6 23) v3477) Q := by
  rw [k0_part87_eq_skeleton]; unfold k0_part87_skel
  refine step_ld hlt hs 15 22 (by decide) (by decide) (offEq hσ hsk rfl) ?_
  refine step_ld hlt hs 15 23 (by decide) (by decide) (offEq hσ hsk rfl) ?_
  refine step_dead fun v3490 => ?_
  refine step_st hs 0 11 (by decide) (by decide) rfl rfl rfl ?_ rfl
  refine step_dead fun v3494 => ?_
  refine step_st hs 1 11 (by decide) (by decide) rfl rfl rfl ?_ rfl
  refine step_dead fun v3498 => ?_
  refine step_st hs 2 11 (by decide) (by decide) rfl rfl rfl ?_ rfl
  refine step_dead fun v3502 => ?_
  refine step_st hs 3 11 (by decide) (by decide) rfl rfl rfl ?_ rfl
  refine step_dead fun v3506 => ?_
  refine step_st hs 4 11 (by decide) (by decide) rfl rfl rfl ?_ rfl
  refine step_dead fun v3510 => ?_
  refine step_st hs 5 11 (by decide) (by decide) rfl rfl rfl ?_ rfl
  exact step_ret H

theorem part88 {Q : _ → PP F}
    (H : InvB R c f5 σ skip 191 ⊢ Q ⟨⟩) :
    InvB R c f5 σ skip 182 ⊢ Wp c (k0_part88 m0 h0 m1 h1 m2 h2 m3 h3 m4 h4 m5 h5 m6 h6 m7 h7 m8 h8 m9 h9 m10 h10 m11 h11 m12 h12 m13 h13 m14 h14 m15 h15 m16 h16 m17 h17 s18 s19 s20 s21 (st f5 σ skip 7 22) (st f5 σ skip 7 23) (st f5 σ skip 8 22) (st f5 σ skip 8 23) (st f5 σ skip 9 22) (st f5 σ skip 9 23) (st f5 σ skip 10 22) (st f5 σ skip 10 23) (st f5 σ skip 11 22) (st f5 σ skip 11 23) (st f5 σ skip 12 22) (st f5 σ skip 12 23) (st f5 σ skip 13 22) (st f5 σ skip 13 23) (st f5 σ skip 14 22) (st f5 σ skip 14 23) (cat f5 σ skip 6 11)) Q := by
  rw [k0_part88_eq_skeleton]; unfold k0_part88_skel
  refine step_dead fun v3514 => ?_
  refine step_st hs 6 11 (by decide) (by decide) rfl rfl rfl ?_ rfl
  refine step_dead fun v3518 => ?_
  refine step_st hs 7 11 (by decide) (by decide) rfl rfl rfl ?_ rfl
  refine step_dead fun v3522 => ?_
  refine step_st hs 8 11 (by decide) (by decide) rfl rfl rfl ?_ rfl
  refine step_dead fun v3526 => ?_
  refine step_st hs 9 11 (by decide) (by decide) rfl rfl rfl ?_ rfl
  refine step_dead fun v3530 => ?_
  refine step_st hs 10 11 (by decide) (by decide) rfl rfl rfl ?_ rfl
  refine step_dead fun v3534 => ?_
  refine step_st hs 11 11 (by decide) (by decide) rfl rfl rfl ?_ rfl
  refine step_dead fun v3538 => ?_
  refine step_st hs 12 11 (by decide) (by decide) rfl rfl rfl ?_ rfl
  refine step_dead fun v3542 => ?_
  refine step_st hs 13 11 (by decide) (by decide) rfl rfl rfl ?_ rfl
  refine step_dead fun v3546 => ?_
  refine step_st hs 14 11 (by decide) (by decide) rfl rfl rfl ?_ rfl
  exact step_ret H

end Cert.Kernel.Hand
-- ==== Proof.K.Part91.lean ====
/-
  A tile up to the middle of its strips.
-/
module

public import proofs.«01_k».proof.Proof.K.Part2
public import proofs.«01_k».proof.Proof.K.Copy1
public import proofs.«01_k».proof.Proof.K.Copy2
public import proofs.«01_k».proof.Proof.K.Copy3

@[expose] public section

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

variable {c : Dev nD} {fx : S12288x3072.Idx → Elt F .bf16} {fw : S8x3072x1536.Idx → Elt F .fp8e4m3} {fs : S8x96x1536.Idx → Elt F .i8} {g : S8.Idx → BitVec 32}
  {f13 f14 f15 f16 f17 : S64.Idx → BitVec 32} {v1_0 : BitVec 32} {nt : ℕ} {t : Fin (k0_t4_loop v1_0).trips}

set_option maxHeartbeats 4000000 in
/-- The fetches of a tile and the first half of its strips. -/
theorem part91 (hv : v1_0.toNat = nt) (hnt : nt ≤ 56) (hp : Plan g f13 f14 f15 f16 f17 nt) (htn : t.val < nt) {Z : PP F}
    {hw6 : k0_chk6 v1_0} {v2 : BitVec 32} {hw4 : k0_chk4 v2} {v10 : BitVec 32} {hw5 : k0_chk5 v10} {Q : _ → PP F}
    (H : ∀ f5 v72 v96 hw14, (∀ r j, r < 256 → j < 3072 → f5 (ix5 (t.val % 2) r j) = fx (gx2 (min (rd f13 t.val).toNat 12032 + r) j)) →
      InvB (Fr2 c fx fw fs f13 f14 f15 f16 f17 nt t.val Z) c f5 (t.val % 2) ((rd f13 t.val).toNat - min (rd f13 t.val).toNat 12032) 128
        ⊢ Q ⟨Scf.iv 0#32 1#32 t.val, v72, rd f13 t.val, hw14, v96, st f5 (t.val % 2) ((rd f13 t.val).toNat - min (rd f13 t.val).toNat 12032) 0 16, st f5 (t.val % 2) ((rd f13 t.val).toNat - min (rd f13 t.val).toNat 12032) 0 17, st f5 (t.val % 2) ((rd f13 t.val).toNat - min (rd f13 t.val).toNat 12032) 1 16, st f5 (t.val % 2) ((rd f13 t.val).toNat - min (rd f13 t.val).toNat 12032) 1 17, st f5 (t.val % 2) ((rd f13 t.val).toNat - min (rd f13 t.val).toNat 12032) 2 16, st f5 (t.val % 2) ((rd f13 t.val).toNat - min (rd f13 t.val).toNat 12032) 2 17, st f5 (t.val % 2) ((rd f13 t.val).toNat - min (rd f13 t.val).toNat 12032) 3 16, st f5 (t.val % 2) ((rd f13 t.val).toNat - min (rd f13 t.val).toNat 12032) 3 17, st f5 (t.val % 2) ((rd f13 t.val).toNat - min (rd f13 t.val).toNat 12032) 4 16, st f5 (t.val % 2) ((rd f13 t.val).toNat - min (rd f13 t.val).toNat 12032) 4 17, 80#32⟩) :
    iprop(TB c f13 f14 f15 f16 f17 ∗ owed c ∗ XA c fx f13 nt t.val ∗ XIdle c fx ((t.val + 1) % 2) ∗ WS c fw fs f16 f17 nt t.val ∗ DS c fw fs f16 t.val ∗ SD c
        ∗ (∃ f : S256x3072.Idx → Elt F .bf16, own (F := F) c cc0_scratch5 f) ∗ Z)
      ⊢ Wp c (k0_part91 (F := F) m0 h0 m1 h1 m2 h2 m3 h3 m4 h4 m5 h5 m6 h6 m7 h7 m8 h8 m9 h9 m10 h10 m11 h11 m12 h12 m13 h13 m14 h14 m15 h15 m16 h16 m17 h17 s18 s19 s20 s21 v1_0 hw6 v2 hw4 v10 hw5 0#32 1#32 t) Q := by
  have hT := hp t.val htn
  have hd := hT.tw.dvd
  have hl1 := hT.tw.lt
  have hl2 := hT.tw.top
  have hs : 16 ∣ ((rd f13 t.val).toNat - min (rd f13 t.val).toNat 12032) := by omega
  have hlt : t.val % 2 < 2 := Nat.mod_lt _ (by decide)
  have hσ := slot_cur (k := t.val) (by omega)
  have hsk := skip_word (r := rd f13 t.val) rfl (by omega) hd
  rw [k0_part91_eq_skeleton]; unfold k0_part91_skel
  refine step_bind (part2 hv hnt hp htn fun f5 v72 v96 hw14 h5 => ?_)
  refine step_bind (part3 (F := F) hlt hs hσ hsk _ _ ?_)
  refine step_bind (part4 (F := F) hlt hs hσ hsk _ _ ?_)
  refine step_bind (part5 (F := F) hlt hs hσ hsk _ _ ?_)
  refine step_bind (part6 (F := F) hlt hs hσ hsk _ _ ?_)
  refine step_bind (part7 (F := F) hlt hs hσ hsk _ _ ?_)
  refine step_bind (part8 (F := F) hlt hs hσ hsk ?_)
  refine step_bind (part9 (F := F) hlt hs hσ hsk _ ?_)
  refine step_bind (part10 (F := F) hlt hs hσ hsk _ _ _ ?_)
  refine step_bind (part11 (F := F) hlt hs hσ hsk _ _ _ ?_)
  refine step_bind (part12 (F := F) hlt hs hσ hsk _ _ _ ?_)
  refine step_bind (part13 (F := F) hlt hs hσ hsk _ _ _ ?_)
  refine step_bind (part14 (F := F) hlt hs hσ hsk _ _ _ ?_)
  refine step_bind (part15 (F := F) hlt hs hσ hsk _ _ _ ?_)
  refine step_bind (part16 (F := F) hlt hs hσ hsk ?_)
  refine step_bind (part17 (F := F) hlt hs hσ hsk _ _ ?_)
  refine step_bind (part18 (F := F) hlt hs hσ hsk _ _ _ _ ?_)
  refine step_bind (part19 (F := F) hlt hs hσ hsk _ _ _ _ ?_)
  refine step_bind (part20 (F := F) hlt hs hσ hsk _ _ _ _ ?_)
  refine step_bind (part21 (F := F) hlt hs hσ hsk _ _ _ _ ?_)
  refine step_bind (part22 (F := F) hlt hs hσ hsk _ _ _ _ ?_)
  refine step_bind (part23 (F := F) hlt hs hσ hsk ?_)
  refine step_bind (part24 (F := F) hlt hs hσ hsk _ _ ?_)
  refine step_bind (part25 (F := F) hlt hs hσ hsk _ _ _ ?_)
  refine step_bind (part26 (F := F) hlt hs hσ hsk _ _ _ ?_)
  refine step_bind (part27 (F := F) hlt hs hσ hsk _ _ _ ?_)
  refine step_bind (part28 (F := F) hlt hs hσ hsk _ _ _ ?_)
  refine step_bind (part29 (F := F) hlt hs hσ hsk _ _ _ ?_)
  refine step_bind (part30 (F := F) hlt hs hσ hsk fun _ => ?_)
  refine step_bind (part31 (F := F) hlt hs hσ hsk _ _ _ ?_)
  refine step_bind (part32 (F := F) hlt hs hσ hsk _ _ ?_)
  refine step_bind (part33 (F := F) hlt hs hσ hsk _ _ ?_)
  refine step_bind (part34 (F := F) hlt hs hσ hsk _ _ ?_)
  refine step_bind (part35 (F := F) hlt hs hσ hsk _ _ ?_)
  refine step_bind (part36 (F := F) hlt hs hσ hsk _ _ ?_)
  refine step_bind (part37 (F := F) hlt hs hσ hsk ?_)
  refine step_bind (part38 (F := F) hlt hs hσ hsk _ _ ?_)
  refine step_bind (part39 (F := F) hlt hs hσ hsk _ _ ?_)
  refine step_bind (part40 (F := F) hlt hs hσ hsk _ _ ?_)
  refine step_bind (part41 (F := F) hlt hs hσ hsk _ _ ?_)
  refine step_bind (part42 (F := F) hlt hs hσ hsk _ _ ?_)
  refine step_bind (part43 (F := F) hlt hs hσ hsk _ _ ?_)
  refine step_bind (part44 (F := F) hlt hs hσ hsk ?_)
  refine step_bind (part45 (F := F) hlt hs hσ hsk _ ?_)
  refine step_bind (part46 (F := F) hlt hs hσ hsk _ _ _ ?_)
  refine step_bind (part47 (F := F) hlt hs hσ hsk _ _ _ ?_)
  refine step_bind (part48 (F := F) hlt hs hσ hsk _ _ _ ?_)
  refine step_bind (part49 (F := F) hlt hs hσ hsk _ _ _ ?_)
  refine step_bind (part50 (F := F) hlt hs hσ hsk _ _ _ ?_)
  refine step_bind (part51 (F := F) hlt hs hσ hsk _ _ _ ?_)
  refine step_bind (part52 (F := F) hlt hs hσ hsk ?_)
  refine step_bind (part53 (F := F) hlt hs hσ hsk _ _ ?_)
  refine step_bind (part54 (F := F) hlt hs hσ hsk _ _ _ _ ?_)
  refine step_bind (part55 (F := F) hlt hs hσ hsk _ _ _ _ ?_)
  refine step_bind (part56 (F := F) hlt hs hσ hsk _ _ _ _ ?_)
  refine step_bind (part57 (F := F) hlt hs hσ hsk _ _ _ _ ?_)
  refine step_bind (part58 (F := F) hlt hs hσ hsk _ _ _ _ ?_)
  refine step_bind (part59 (F := F) hlt hs hσ hsk ?_)
  refine step_bind (part60 (F := F) hlt hs hσ hsk _ _ ?_)
  refine step_bind (part61 (F := F) hlt hs hσ hsk _ _ _ ?_)
  refine step_ret ?_
  exact H f5 v72 v96 hw14 h5

end Cert.Kernel.Hand
-- ==== Proof.K.Tile.lean ====
/-
  One tile of the product.
-/
module

public import proofs.«01_k».proof.Proof.K.Part90
public import proofs.«01_k».proof.Proof.K.Part91

@[expose] public section

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

variable {c : Dev nD} {fx : S12288x3072.Idx → Elt F .bf16} {fw : S8x3072x1536.Idx → Elt F .fp8e4m3} {fs : S8x96x1536.Idx → Elt F .i8} {g : S8.Idx → BitVec 32}
  {f13 f14 f15 f16 f17 : S64.Idx → BitVec 32} {v1_0 : BitVec 32} {nt : ℕ} {t : Fin (k0_t4_loop v1_0).trips}

set_option maxHeartbeats 4000000 in
/-- A tile from the middle of its strips to the start of its smaller copies. -/
theorem part92 (hv : v1_0.toNat = nt) (hnt : nt ≤ 56) (hp : Plan g f13 f14 f15 f16 f17 nt) (htn : t.val < nt)
    {hw6 : k0_chk6 v1_0} {f5 : S2x256x3072.Idx → Elt F .bf16} {arg22 v72 v96 : BitVec 32} {hw14 : k0_chk14 v1_0 t (rd f13 t.val)}
    (hx5 : ∀ r j, r < 256 → j < 3072 → f5 (ix5 (t.val % 2) r j) = fx (gx2 (min (rd f13 t.val).toNat 12032 + r) j)) {Q : _ → PP F}
    (H : ∀ fo fOld hw, ObufOK fx fw fs g (rd f13 t.val).toNat (rd f14 t.val).toNat (t.val % 2) fo → OutOK fx fw fs g (endAt f14 t.val) fOld →
      IZ c (t.val % 2) (rd f13 t.val).toNat (kk (rd f13 t.val).toNat (rd f14 t.val).toNat) fo fOld (Zt c fx fw fs g f13 f14 f15 f16 f17 nt t.val) 4
        ⊢ Q ⟨rd f13 t.val, rd f14 t.val, hw⟩) :
    InvB (Fr2 c fx fw fs f13 f14 f15 f16 f17 nt t.val iprop(CS c fx fw fs g f14 t.val ∗ OP c fx fw fs g f13 f14 t.val ∗ OX c t.val)) c f5 (t.val % 2) ((rd f13 t.val).toNat - min (rd f13 t.val).toNat 12032) 128
      ⊢ Wp c (k0_part92 (F := F) m0 h0 m1 h1 m2 h2 m3 h3 m4 h4 m5 h5 m6 h6 m7 h7 m8 h8 m9 h9 m10 h10 m11 h11 m12 h12 m13 h13 m14 h14 m15 h15 m16 h16 m17 h17 s18 s19 s20 s21 v1_0 hw6 t arg22 v72 (rd f13 t.val) hw14 v96 (st f5 (t.val % 2) ((rd f13 t.val).toNat - min (rd f13 t.val).toNat 12032) 0 16) (st f5 (t.val % 2) ((rd f13 t.val).toNat - min (rd f13 t.val).toNat 12032) 0 17) (st f5 (t.val % 2) ((rd f13 t.val).toNat - min (rd f13 t.val).toNat 12032) 1 16) (st f5 (t.val % 2) ((rd f13 t.val).toNat - min (rd f13 t.val).toNat 12032) 1 17) (st f5 (t.val % 2) ((rd f13 t.val).toNat - min (rd f13 t.val).toNat 12032) 2 16) (st f5 (t.val % 2) ((rd f13 t.val).toNat - min (rd f13 t.val).toNat 12032) 2 17) (st f5 (t.val % 2) ((rd f13 t.val).toNat - min (rd f13 t.val).toNat 12032) 3 16) (st f5 (t.val % 2) ((rd f13 t.val).toNat - min (rd f13 t.val).toNat 12032) 3 17) (st f5 (t.val % 2) ((rd f13 t.val).toNat - min (rd f13 t.val).toNat 12032) 4 16) (st f5 (t.val % 2) ((rd f13 t.val).toNat - min (rd f13 t.val).toNat 12032) 4 17) 80#32) Q := by
  have ht64 : t.val < 64 := by omega
  have hT := hp t.val htn
  have hd := hT.tw.dvd
  have hl1 := hT.tw.lt
  have hl2 := hT.tw.top
  have hs : 16 ∣ ((rd f13 t.val).toNat - min (rd f13 t.val).toNat 12032) := by omega
  have hlt : t.val % 2 < 2 := Nat.mod_lt _ (by decide)
  have hσ := slot_cur (k := t.val) (by omega)
  have hsk := skip_word (r := rd f13 t.val) rfl (by omega) hd
  rw [k0_part92_eq_skeleton]; unfold k0_part92_skel
  refine step_bind (part62 (F := F) hlt hs hσ hsk _ _ _ ?_)
  refine step_bind (part63 (F := F) hlt hs hσ hsk _ _ _ ?_)
  refine step_bind (part64 (F := F) hlt hs hσ hsk _ _ _ ?_)
  refine step_bind (part65 (F := F) hlt hs hσ hsk _ _ _ ?_)
  refine step_bind (part66 (F := F) hlt hs hσ hsk fun _ => ?_)
  refine step_bind (part67 (F := F) hlt hs hσ hsk _ _ _ ?_)
  refine step_bind (part68 (F := F) hlt hs hσ hsk _ _ ?_)
  refine step_bind (part69 (F := F) hlt hs hσ hsk _ _ ?_)
  refine step_bind (part70 (F := F) hlt hs hσ hsk _ _ ?_)
  refine step_bind (part71 (F := F) hlt hs hσ hsk _ _ ?_)
  refine step_bind (part72 (F := F) hlt hs hσ hsk _ _ ?_)
  refine step_bind (part73 (F := F) hlt hs hσ hsk ?_)
  refine step_bind (part74 (F := F) hlt hs hσ hsk _ _ ?_)
  refine step_bind (part75 (F := F) hlt hs hσ hsk _ _ ?_)
  refine step_bind (part76 (F := F) hlt hs hσ hsk _ _ ?_)
  refine step_bind (part77 (F := F) hlt hs hσ hsk _ _ ?_)
  refine step_bind (part78 (F := F) hlt hs hσ hsk _ _ ?_)
  refine step_bind (part79 (F := F) hlt hs hσ hsk _ _ ?_)
  refine step_bind (part80 (F := F) hlt hs hσ hsk ?_)
  refine step_bind (part81 (F := F) hlt hs hσ hsk _ ?_)
  refine step_bind (part82 (F := F) hlt hs hσ hsk _ _ _ ?_)
  refine step_bind (part83 (F := F) hlt hs hσ hsk _ _ _ ?_)
  refine step_bind (part84 (F := F) hlt hs hσ hsk _ _ _ ?_)
  refine step_bind (part85 (F := F) hlt hs hσ hsk _ _ _ ?_)
  refine step_bind (part86 (F := F) hlt hs hσ hsk _ _ _ ?_)
  refine step_bind (part87 (F := F) hlt hs hσ hsk _ _ _ ?_)
  refine step_bind (part88 (F := F) hlt hs hσ hsk ?_)

  refine step_bind (part89 hnt hp htn hx5 fun v hcv => ?_)
  refine step_bind (part90 hv hnt hp htn hcv fun fo fOld hw a b hfo hOld => ?_)
  refine step_dite (Mid := IZ c (t.val % 2) (rd f13 t.val).toNat (kk (rd f13 t.val).toNat (rd f14 t.val).toNat) fo fOld (Zt c fx fw fs g f13 f14 f15 f16 f17 nt t.val) 3) ?_
    (fun hR h => iz_go hT.tw.kk_lt (by decide) hlt ((cond12_iff hT.tw).mp h) rfl (off70_eq hT.tw) (off71_eq hT.tw ht64) hR)
    (fun h => iz_skip hT.tw.kk_lt (by decide) (fun h' => h ((cond12_iff hT.tw).mpr h')))
  refine step_dite (Mid := IZ c (t.val % 2) (rd f13 t.val).toNat (kk (rd f13 t.val).toNat (rd f14 t.val).toNat) fo fOld (Zt c fx fw fs g f13 f14 f15 f16 f17 nt t.val) 4) ?_
    (fun hR h => iz_go hT.tw.kk_lt (by decide) hlt ((cond13_iff hT.tw).mp h) rfl (off72_eq hT.tw) (off73_eq hT.tw ht64) hR)
    (fun h => iz_skip hT.tw.kk_lt (by decide) (fun h' => h ((cond13_iff hT.tw).mpr h')))
  exact ret_of (H fo fOld hw hfo hOld)

/-- What holds before tile `t`. -/
def Inv (c : Dev nD) (fx : S12288x3072.Idx → Elt F .bf16) (fw : S8x3072x1536.Idx → Elt F .fp8e4m3) (fs : S8x96x1536.Idx → Elt F .i8) (g : S8.Idx → BitVec 32)
    (f13 f14 f15 f16 f17 : S64.Idx → BitVec 32) (nt t : ℕ) : PP F :=
  iprop(TB c f13 f14 f15 f16 f17 ∗ owed c ∗ XA c fx f13 nt t ∗ XIdle c fx ((t + 1) % 2) ∗ WS c fw fs f16 f17 nt t ∗ DS c fw fs f16 t ∗ SD c
    ∗ (∃ f : S256x3072.Idx → Elt F .bf16, own (F := F) c cc0_scratch5 f) ∗ CS c fx fw fs g f14 t ∗ OP c fx fw fs g f13 f14 t ∗ OX c t)

/-- One tile. -/
theorem tile_step (hv : v1_0.toNat = nt) (hnt : nt ≤ 56) (hp : Plan g f13 f14 f15 f16 f17 nt) (htn : t.val < nt)
    {hw6 : k0_chk6 v1_0} {v2 : BitVec 32} {hw4 : k0_chk4 v2} {v10 : BitVec 32} {hw5 : k0_chk5 v10} {a : BitVec 32} :
    Inv c fx fw fs g f13 f14 f15 f16 f17 nt t.val
      ⊢ Wp c (k0_t4_body (F := F) m0 h0 m1 h1 m2 h2 m3 h3 m4 h4 m5 h5 m6 h6 m7 h7 m8 h8 m9 h9 m10 h10 m11 h11 m12 h12 m13 h13 m14 h14 m15 h15 m16 h16 m17 h17 s18 s19 s20 s21 v1_0 hw6 v2 hw4 v10 hw5 t a) (fun _ => Inv c fx fw fs g f13 f14 f15 f16 f17 nt (t.val + 1)) := by
  have ht64 : t.val < 64 := by omega
  have hT := hp t.val htn
  have hlt : t.val % 2 < 2 := Nat.mod_lt _ (by decide)
  unfold k0_t4_body Inv
  refine step_bind (part91 hv hnt hp htn fun f5 v72 v96 hw14 hx5 => ?_)
  refine step_bind (part92 hv hnt hp htn hx5 fun fo fOld hw hfo hOld => ?_)
  refine step_dite (Mid := IZ c (t.val % 2) (rd f13 t.val).toNat (kk (rd f13 t.val).toNat (rd f14 t.val).toNat) fo fOld (Zt c fx fw fs g f13 f14 f15 f16 f17 nt t.val) 5) ?_
    (fun hR h => iz_go hT.tw.kk_lt (by decide) hlt ((cond14_iff hT.tw).mp h) rfl (off74_eq hT.tw) (off75_eq hT.tw ht64) hR)
    (fun h => iz_skip hT.tw.kk_lt (by decide) (fun h' => h ((cond14_iff hT.tw).mpr h')))
  refine ret_of ?_
  have e2 : (t.val + 1 + 1) % 2 = t.val % 2 := by omega
  rw [OP_pos (show 0 < t.val + 1 by omega)]
  unfold IZ Zt Yt OV
  rw [e2, Nat.add_sub_cancel]
  iintro ⟨HI, HT, HO, ⟨HX, HX2, HW, HD, HS, HQ, HC⟩, HX3⟩
  isplitl [HT]; · iexact HT
  isplitl [HO]; · iexact HO
  isplitl [HX2]; · iexact HX2
  isplitl [HX]; · iexact HX
  isplitl [HW]; · iexact HW
  isplitl [HD]; · iexact HD
  isplitl [HS]; · iexact HS
  isplitl [HQ]; · iexact HQ
  isplitl [HC]; · iexact HC
  isplitr [HX3]
  · iexists fo, fOld
    isplitr
    · ipureintro; exact ⟨hfo, hOld⟩
    iapply (ob_issued hT.tw.kk_lt) $$ HI
  iexact HX3

end Cert.Kernel.Hand
-- ==== Proof.K.Body.lean ====
/-
  The whole kernel.
-/
module

public import proofs.«01_k».proof.Proof.K.Tile

@[expose] public section

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

variable {c : Dev nD} {fx : S12288x3072.Idx → Elt F .bf16} {fw : S8x3072x1536.Idx → Elt F .fp8e4m3} {fs : S8x96x1536.Idx → Elt F .i8} {g : S8.Idx → BitVec 32}
  {f13 f14 f15 f16 f17 : S64.Idx → BitVec 32} {v1_0 : BitVec 32} {nt n : ℕ}

theorem r5_compl : (Finset.univ : Finset (Idx ((c : Thread nD τ).loc cc0_scratch0))) \ slot5 c 0 = slot5 c 1 := by
  ext y
  have hy : ((y : S2x256x3072.Idx) 0).val < 2 := ((y : S2x256x3072.Idx) 0).isLt
  unfold slot5
  rw [Finset.mem_sdiff, Finset.mem_filter, Finset.mem_filter]
  constructor
  · intro h
    refine ⟨Finset.mem_univ _, ?_⟩
    have h1 : ¬ ((y : S2x256x3072.Idx) 0).val = 0 := fun h0 => h.2 ⟨Finset.mem_univ _, h0⟩
    show ((y : S2x256x3072.Idx) 0).val = 1
    omega
  · intro h
    refine ⟨Finset.mem_univ _, fun h0 => ?_⟩
    have h1 : ((y : S2x256x3072.Idx) 0).val = 1 := h.2
    have h2 : ((y : S2x256x3072.Idx) 0).val = 0 := h0.2
    omega

theorem r5_split {f : S2x256x3072.Idx → Elt F .bf16} :
    own (F := F) c cc0_scratch0 f ⊢ iprop(part c cc0_scratch0 (slot5 c 0) fullShare f ∗ part c cc0_scratch0 (slot5 c 1) fullShare f) := by
  have h : own (F := F) c cc0_scratch0 f ⊢ iprop(part c cc0_scratch0 (slot5 c 0) fullShare f ∗ part c cc0_scratch0 ((Finset.univ : Finset (Idx ((c : Thread nD τ).loc cc0_scratch0))) \ slot5 c 0) fullShare f) :=
    (pointsTo_split_subset (Finset.subset_univ _)).1
  rw [r5_compl] at h
  exact h

theorem r5_join {f f' : S2x256x3072.Idx → Elt F .bf16} :
    iprop(part c cc0_scratch0 (slot5 c 0) fullShare f ∗ part c cc0_scratch0 (slot5 c 1) fullShare f') ⊢ iprop(∃ f : S2x256x3072.Idx → Elt F .bf16, own (F := F) c cc0_scratch0 f) := by
  have h : iprop(part c cc0_scratch0 (slot5 c 0) fullShare f ∗ part c cc0_scratch0 ((Finset.univ : Finset (Idx ((c : Thread nD τ).loc cc0_scratch0))) \ slot5 c 0) fullShare f')
      ⊢ own (F := F) c cc0_scratch0 ((slot5 c 0).piecewise f f') :=
    pointsTo_join_subset (Finset.subset_univ _)
  rw [r5_compl] at h
  refine h.trans ?_
  iintro H
  iexists _
  iexact H

theorem r6_compl : (Finset.univ : Finset (Idx ((c : Thread nD τ).loc cc0_scratch6))) \ slot6 c 0 = slot6 c 1 := by
  ext y
  have hy : ((y : S2x256x1536.Idx) 0).val < 2 := ((y : S2x256x1536.Idx) 0).isLt
  unfold slot6
  rw [Finset.mem_sdiff, Finset.mem_filter, Finset.mem_filter]
  constructor
  · intro h
    refine ⟨Finset.mem_univ _, ?_⟩
    have h1 : ¬ ((y : S2x256x1536.Idx) 0).val = 0 := fun h0 => h.2 ⟨Finset.mem_univ _, h0⟩
    show ((y : S2x256x1536.Idx) 0).val = 1
    omega
  · intro h
    refine ⟨Finset.mem_univ _, fun h0 => ?_⟩
    have h1 : ((y : S2x256x1536.Idx) 0).val = 1 := h.2
    have h2 : ((y : S2x256x1536.Idx) 0).val = 0 := h0.2
    omega

theorem r6_split {f : S2x256x1536.Idx → Elt F .bf16} :
    own (F := F) c cc0_scratch6 f ⊢ iprop(part c cc0_scratch6 (slot6 c 0) fullShare f ∗ part c cc0_scratch6 (slot6 c 1) fullShare f) := by
  have h : own (F := F) c cc0_scratch6 f ⊢ iprop(part c cc0_scratch6 (slot6 c 0) fullShare f ∗ part c cc0_scratch6 ((Finset.univ : Finset (Idx ((c : Thread nD τ).loc cc0_scratch6))) \ slot6 c 0) fullShare f) :=
    (pointsTo_split_subset (Finset.subset_univ _)).1
  rw [r6_compl] at h
  exact h

theorem r6_join {f f' : S2x256x1536.Idx → Elt F .bf16} :
    iprop(part c cc0_scratch6 (slot6 c 0) fullShare f ∗ part c cc0_scratch6 (slot6 c 1) fullShare f') ⊢ iprop(∃ f : S2x256x1536.Idx → Elt F .bf16, own (F := F) c cc0_scratch6 f) := by
  have h : iprop(part c cc0_scratch6 (slot6 c 0) fullShare f ∗ part c cc0_scratch6 ((Finset.univ : Finset (Idx ((c : Thread nD τ).loc cc0_scratch6))) \ slot6 c 0) fullShare f')
      ⊢ own (F := F) c cc0_scratch6 ((slot6 c 0).piecewise f f') :=
    pointsTo_join_subset (Finset.subset_univ _)
  rw [r6_compl] at h
  refine h.trans ?_
  iintro H
  iexists _
  iexact H

theorem arg0_split : own (F := F) c main_arg0 fx ⊢ iprop(part c main_arg0 Finset.univ (hsh 0) fx ∗ part c main_arg0 Finset.univ (hsh 1) fx) :=
  (pointsTo_share (PosShare.mem_left_op_right fullShare)).1

theorem arg0_join : iprop(part c main_arg0 Finset.univ (hsh 0) fx ∗ part c main_arg0 Finset.univ (hsh 1) fx) ⊢ own (F := F) c main_arg0 fx :=
  (pointsTo_share (PosShare.mem_left_op_right fullShare)).2

theorem xi_both : iprop(XIdle c fx (n % 2) ∗ XIdle c fx ((n + 1) % 2)) ⊢ iprop(XIdle c fx 0 ∗ XIdle c fx 1) := by
  rcases Nat.mod_two_eq_zero_or_one n with h | h
  · have h2 : (n + 1) % 2 = 1 := by omega
    rw [h, h2]
  · have h2 : (n + 1) % 2 = 0 := by omega
    rw [h, h2]
    iintro ⟨H1, H2⟩
    isplitl [H2]; · iexact H2
    iexact H1

theorem ox_both : iprop(OX (F := F) c n ∗ OX (F := F) c (n + 1)) ⊢ iprop(∃ f : S2x256x1536.Idx → Elt F .bf16, own (F := F) c cc0_scratch6 f) := by
  unfold OX
  rcases Nat.mod_two_eq_zero_or_one n with h | h
  · have h2 : (n + 1) % 2 = 1 := by omega
    rw [h, h2]
    iintro ⟨⟨%f1, H1⟩, ⟨%f2, H2⟩⟩
    iapply (r6_join) $$ [H1 H2]
    isplitl [H1]; · iexact H1
    iexact H2
  · have h2 : (n + 1) % 2 = 0 := by omega
    rw [h, h2]
    iintro ⟨⟨%f1, H1⟩, ⟨%f2, H2⟩⟩
    iapply (r6_join) $$ [H1 H2]
    isplitl [H2]; · iexact H2
    iexact H1

theorem ws_end : WS c fw fs f16 f17 nt nt ⊢ WIdle c fw fs := by
  unfold WS
  iintro ⟨%u, %hu, HW⟩
  have e : u = nt := by omega
  subst e
  have e2 : WA c fw fs f16 u u = WIdle c fw fs := if_neg (Nat.lt_irrefl u)
  ihave HW := (Entails.of_eq e2) $$ HW
  iexact HW

/-- What the kernel starts and ends with, `φ` true of its result. -/
def Rst (c : Dev nD) (fx : S12288x3072.Idx → Elt F .bf16) (fw : S8x3072x1536.Idx → Elt F .fp8e4m3) (fs : S8x96x1536.Idx → Elt F .i8) (g : S8.Idx → BitVec 32)
    (φ : (S12288x1536.Idx → Elt F .bf16) → Prop) : PP F :=
  iprop(own (F := F) c cc0_stg0_0 g ∗ Tabs (F := F) c (fun _ _ _ _ _ => True) ∗ owed c ∗ own (F := F) c main_arg0 fx
    ∗ (∃ f : S2x256x3072.Idx → Elt F .bf16, own (F := F) c cc0_scratch0 f) ∗ sval c (.dma (x18 0)) 0 ∗ sval c (.dma (x18 1)) 0 ∗ WIdle c fw fs
    ∗ (∃ f : S3072x1536.Idx → Elt F .bf16, own (F := F) c cc0_scratch3 f) ∗ SD c ∗ (∃ f : S256x3072.Idx → Elt F .bf16, own (F := F) c cc0_scratch5 f)
    ∗ (∃ f : S2x256x1536.Idx → Elt F .bf16, own (F := F) c cc0_scratch6 f) ∗ (∃ f : S16x1536.Idx → Elt F .bf16, own (F := F) c cc0_scratch7 f)
    ∗ (∃ f : S12288x1536.Idx → Elt F .bf16, ⌜φ f⌝ ∗ own (F := F) c main_v0 f) ∗ sval c (.dma s21.sem) 0)

/-- What is held beside the last tile's copies. -/
def Ze (c : Dev nD) (fx : S12288x3072.Idx → Elt F .bf16) (fw : S8x3072x1536.Idx → Elt F .fp8e4m3) (fs : S8x96x1536.Idx → Elt F .i8) (g : S8.Idx → BitVec 32)
    (f13 f14 f15 f16 f17 : S64.Idx → BitVec 32) (n : ℕ) : PP F :=
  iprop(own (F := F) c cc0_stg0_0 g ∗ TB c f13 f14 f15 f16 f17 ∗ XIdle c fx (n % 2) ∗ XIdle c fx ((n + 1) % 2) ∗ WS c fw fs f16 f17 n n ∗ DS c fw fs f16 n ∗ SD c
    ∗ (∃ f : S256x3072.Idx → Elt F .bf16, own (F := F) c cc0_scratch5 f) ∗ CS c fx fw fs g f14 n ∗ OX c n)

set_option maxHeartbeats 4000000 in
theorem part185 (hG : pre g 8 = 12288) {Q : _ → PP F}
    (H : ∀ v1_0 f13 f14 f15 f16 f17 n fo fOld hw, v1_0.toNat = n → Done g n f13 f14 f15 f16 f17 →
      ObufOK fx fw fs g (rd f13 (n - 1)).toNat (rd f14 (n - 1)).toNat ((n - 1) % 2) fo → OutOK fx fw fs g (endAt f14 (n - 1)) fOld →
      WZ c ((n - 1) % 2) (rd f13 (n - 1)).toNat (kk (rd f13 (n - 1)).toNat (rd f14 (n - 1)).toNat) fo fOld (Ze c fx fw fs g f13 f14 f15 f16 f17 n) 0
        ⊢ Q ⟨v1_0, rd f13 (n - 1), rd f14 (n - 1), hw⟩) :
    Rst c fx fw fs g (fun _ => True) ⊢ Wp c (k0_part185 (F := F) m0 h0 m1 h1 m2 h2 m3 h3 m4 h4 m5 h5 m6 h6 m7 h7 m8 h8 m9 h9 m10 h10 m11 h11 m12 h12 m13 h13 m14 h14 m15 h15 m16 h16 m17 h17 s18 s19 s20 s21) Q := by
  rw [k0_part185_eq_skeleton]; unfold k0_part185_skel
  unfold Rst WIdle
  iintro ⟨Hg, HT, HO, Hx, ⟨%f5, H5⟩, Hv0, Hv1, ⟨⟨Hw, ⟨%gw, H6⟩, Hvw⟩, ⟨Hs, ⟨%gs, H7⟩, Hvs⟩⟩, ⟨%f8, H8⟩, HS, HQ, ⟨%f6, Ho6⟩, ⟨%f7, H12⟩, ⟨%fOld, -, Hout⟩, Hvo⟩
  iapply (plan_rule hG) $$ [Hg HT]
  · isplitl [Hg]; · iexact Hg
    iexact HT
  iintro %vv
  obtain ⟨v1_0, v1_1⟩ := vv
  unfold Tabs
  iintro ⟨Hg, %f13, %f14, %f15, %f16, %f17, %hd, H13, H14, H15, H16, H17⟩
  obtain ⟨hp, hend, h0, h56⟩ := hd
  obtain ⟨n, hn⟩ : ∃ n, v1_0.toNat = n := ⟨_, rfl⟩
  have hp : Plan g f13 f14 f15 f16 f17 n := hn ▸ hp
  have hend : endAt f14 n = 12288 := hn ▸ hend
  have h0 : 0 < n := hn ▸ h0
  have h56 : n ≤ 56 := hn ▸ h56
  have hT := hp 0 h0
  have hl1 := hT.tw.lt
  have hl2 := hT.tw.top
  have hR : (rd f13 0).toNat < 12288 := by omega
  have hF : (rd f17 0).toNat = 1 := by
    rcases hT.first with h | h
    · exact h
    · exact absurd h.2.1 (Nat.lt_irrefl 0)
  have hTl := hp (n - 1) (by omega)
  iapply (as_rule (chk6_ok hn (by omega) h0))
  iapply (ld13 0 rfl) $$ H13; iintro H13
  iapply (as_rule (chk4_ok rfl hR hT.tw.dvd))
  ihave Hx2 := (arg0_split) $$ Hx
  icases Hx2 with ⟨Hxa, Hxb⟩
  ihave H52 := (r5_split) $$ H5
  icases H52 with ⟨H5a, H5b⟩
  ihave H62 := (r6_split) $$ Ho6
  icases H62 with ⟨H6a, H6b⟩
  iapply (x_start (σ := 0) (s0 := min (rd f13 0).toNat 12032) (by decide) rfl (x_off rfl hR) rfl) $$ [Hxa H5a Hv0]
  · isplitl [Hxa]; · iexact Hxa
    isplitl [H5a]; · iexact H5a
    iexact Hv0
  iintro HXF
  iapply (ld16 0 rfl) $$ H16; iintro H16
  iapply (as_rule (chk5_ok hT.exp))
  iapply (w_start (e := (rd f16 0).toNat) rfl) $$ [Hw H6 Hvw]
  · isplitl [Hw]; · iexact Hw
    isplitl [H6]; · iexact H6
    iexact Hvw
  iintro HWF
  iapply (s_start (e := (rd f16 0).toNat) rfl) $$ [Hs H7 Hvs]
  · isplitl [Hs]; · iexact Hs
    isplitl [H7]; · iexact H7
    iexact Hvs
  iintro HSF
  iapply (for_rule _ _ 0#32 _ (fun k _ => Inv c fx fw fs g f13 f14 f15 f16 f17 n k)
    (fun k acc => tile_step hn h56 hp (lt_of_lt_of_eq k.isLt (t4_trips hn (by omega))))) $$ [HO H13 H14 H15 H16 H17 HXF Hxb H5b Hv1 HWF HSF H8 HS HQ H6a H6b H12 Hout Hvo]
  · unfold Inv TB CS DS
    rw [XA_pos h0, OP_neg (Nat.lt_irrefl 0)]
    unfold XIdle OC OX
    isplitl [H13 H14 H15 H16 H17]
    · isplitl [H13]; · iexact H13
      isplitl [H14]; · iexact H14
      isplitl [H15]; · iexact H15
      isplitl [H16]; · iexact H16
      iexact H17
    isplitl [HO]; · iexact HO
    isplitl [HXF]; · iexact HXF
    isplitl [Hxb H5b Hv1]
    · isplitl [Hxb]; · iexact Hxb
      isplitl [H5b]
      · iexists _; iexact H5b
      iexact Hv1
    isplitl [HWF HSF]
    · iapply (WS_some h0 ⟨Nat.le_refl 0, fun k _ hk => absurd hk (Nat.not_lt_zero _), hF⟩)
      unfold WFly
      isplitl [HWF]; · iexact HWF
      iexact HSF
    isplitl [H8]
    · iexists f8
      isplitr
      · ipureintro; exact fun h => absurd h (Nat.lt_irrefl 0)
      iexact H8
    isplitl [HS]; · iexact HS
    isplitl [HQ]; · iexact HQ
    isplitl [H12]
    · iexists f7
      isplitr
      · ipureintro; exact fun h => absurd h (Nat.lt_irrefl 0)
      iexact H12
    isplitr [H6a]
    · iexists fOld
      isplitr
      · ipureintro; exact fun row j h => absurd h (Nat.not_lt_zero _)
      isplitl [Hout]; · iexact Hout
      isplitl [H6b]
      · iexists f6; iexact H6b
      iexact Hvo
    iexists f6; iexact H6a
  iintro %acc HI
  have e1 : Inv c fx fw fs g f13 f14 f15 f16 f17 n (k0_t4_loop v1_0).trips = Inv c fx fw fs g f13 f14 f15 f16 f17 n n := by rw [t4_trips hn (by omega)]
  ihave HI := (Entails.of_eq e1) $$ HI
  iapply (for0_rule _ _ _ _ t6_trips)
  have e2 : Inv c fx fw fs g f13 f14 f15 f16 f17 n n ⊢ iprop(TB c f13 f14 f15 f16 f17 ∗ owed c ∗ XIdle c fx (n % 2) ∗ XIdle c fx ((n + 1) % 2) ∗ WS c fw fs f16 f17 n n ∗ DS c fw fs f16 n ∗ SD c
    ∗ (∃ f : S256x3072.Idx → Elt F .bf16, own (F := F) c cc0_scratch5 f) ∗ CS c fx fw fs g f14 n ∗ OV c fx fw fs g f13 f14 n 0 ∗ OX c n) := by
    unfold Inv
    rw [XA_neg (Nat.lt_irrefl n), OP_pos h0]
  ihave HI := e2 $$ HI
  unfold OV TB
  icases HI with ⟨⟨H13, H14, HT⟩, HO, HX, HX2, HW, HD, HS, HQ, HC, ⟨%fo, %fOld, %hfo, HOW⟩, HX3⟩
  iapply (ld13 (n - 1) (off145_eq hn h0)) $$ H13; iintro H13
  iapply (ld14 (n - 1) (off145_eq hn h0)) $$ H14; iintro H14
  iapply (as_rule (chk29_ok hTl.tw hn h0))
  iapply (ret_rule)
  iapply (H v1_0 f13 f14 f15 f16 f17 n fo fOld _ hn ⟨hp, hend, h0, h56⟩ hfo.1 hfo.2)
  unfold WZ Ze TB
  isplitl [HOW]; · iexact HOW
  isplitl [HO]; · iexact HO
  isplitl [Hg]; · iexact Hg
  isplitl [H13 H14 HT]
  · isplitl [H13]; · iexact H13
    isplitl [H14]; · iexact H14
    iexact HT
  isplitl [HX]; · iexact HX
  isplitl [HX2]; · iexact HX2
  isplitl [HW]; · iexact HW
  isplitl [HD]; · iexact HD
  isplitl [HS]; · iexact HS
  isplitl [HQ]; · iexact HQ
  isplitl [HC]; · iexact HC
  iexact HX3

set_option maxHeartbeats 4000000 in
theorem part186 {Z : PP F} {fo : S2x256x1536.Idx → Elt F .bf16} {fOld : S12288x1536.Idx → Elt F .bf16} (hT : Tw (rd f13 (n - 1)) (rd f14 (n - 1)) (rd f13 (n - 1)).toNat (rd f14 (n - 1)).toNat)
    {hw : k0_chk29 v1_0 (rd f13 (n - 1)) (rd f14 (n - 1))} {Q : _ → PP F}
    (H : ∀ a b, WZ c ((n - 1) % 2) (rd f13 (n - 1)).toNat (kk (rd f13 (n - 1)).toNat (rd f14 (n - 1)).toNat) fo fOld Z 4 ⊢ Q ⟨a, b⟩) :
    WZ c ((n - 1) % 2) (rd f13 (n - 1)).toNat (kk (rd f13 (n - 1)).toNat (rd f14 (n - 1)).toNat) fo fOld Z 0
      ⊢ Wp c (k0_part186 (F := F) m0 h0 m1 h1 m2 h2 m3 h3 m4 h4 m5 h5 m6 h6 m7 h7 m8 h8 m9 h9 m10 h10 m11 h11 m12 h12 m13 h13 m14 h14 m15 h15 m16 h16 m17 h17 s18 s19 s20 s21 v1_0 (rd f13 (n - 1)) (rd f14 (n - 1)) hw) Q := by
  rw [k0_part186_eq_skeleton]; unfold k0_part186_skel
  refine step_dite (Mid := WZ c ((n - 1) % 2) (rd f13 (n - 1)).toNat (kk (rd f13 (n - 1)).toNat (rd f14 (n - 1)).toNat) fo fOld Z 1) ?_
    (fun hR h => wz_go hT.kk_lt (by decide) ((cond29_iff hT).mp h) rfl hR) (fun h => wz_skip hT.kk_lt (by decide) (fun h' => h ((cond29_iff hT).mpr h')))
  refine step_dite (Mid := WZ c ((n - 1) % 2) (rd f13 (n - 1)).toNat (kk (rd f13 (n - 1)).toNat (rd f14 (n - 1)).toNat) fo fOld Z 2) ?_
    (fun hR h => wz_go hT.kk_lt (by decide) ((cond30_iff hT).mp h) rfl hR) (fun h => wz_skip hT.kk_lt (by decide) (fun h' => h ((cond30_iff hT).mpr h')))
  refine step_dite (Mid := WZ c ((n - 1) % 2) (rd f13 (n - 1)).toNat (kk (rd f13 (n - 1)).toNat (rd f14 (n - 1)).toNat) fo fOld Z 3) ?_
    (fun hR h => wz_go hT.kk_lt (by decide) ((cond31_iff hT).mp h) rfl hR) (fun h => wz_skip hT.kk_lt (by decide) (fun h' => h ((cond31_iff hT).mpr h')))
  refine step_dite (Mid := WZ c ((n - 1) % 2) (rd f13 (n - 1)).toNat (kk (rd f13 (n - 1)).toNat (rd f14 (n - 1)).toNat) fo fOld Z 4) ?_
    (fun hR h => wz_go hT.kk_lt (by decide) ((cond32_iff hT).mp h) rfl hR) (fun h => wz_skip hT.kk_lt (by decide) (fun h' => h ((cond32_iff hT).mpr h')))
  exact ret_of (H _ _)

set_option maxHeartbeats 4000000 in
/-- The kernel, from its scratch to its result. -/
theorem body_rule (hG : pre g 8 = 12288) :
    Rst c fx fw fs g (fun _ => True) ⊢ Wp c (cc0_mxfp8_grouped_matmul (F := F) m0 h0 m1 h1 m2 h2 m3 h3 m4 h4 m5 h5 m6 h6 m7 h7 m8 h8 m9 h9 m10 h10 m11 h11 m12 h12 m13 h13 m14 h14 m15 h15 m16 h16 m17 h17 s18 s19 s20 s21) (fun _ => Rst c fx fw fs g (OutOK fx fw fs g 12288)) := by
  rw [cc0_mxfp8_grouped_matmul_eq_skeleton]; unfold cc0_mxfp8_grouped_matmul_skel
  refine step_bind (part185 hG fun v1_0 f13 f14 f15 f16 f17 n fo fOld hw hn hd hfo hOld => ?_)
  have hT := hd.1 (n - 1) (by have := hd.2.2.1; omega)
  refine step_bind (part186 hT.tw fun a b => ?_)
  refine step_dite (Mid := WZ c ((n - 1) % 2) (rd f13 (n - 1)).toNat (kk (rd f13 (n - 1)).toNat (rd f14 (n - 1)).toNat) fo fOld (Ze c fx fw fs g f13 f14 f15 f16 f17 n) 5) ?_
    (fun hR h => wz_go hT.tw.kk_lt (by decide) ((cond33_iff hT.tw).mp h) rfl hR) (fun h => wz_skip hT.tw.kk_lt (by decide) (fun h' => h ((cond33_iff hT.tw).mpr h')))
  have hend := out_next (fx := fx) (fw := fw) (fs := fs) (g := g) hT.tw.top (show (rd f13 (n - 1)).toNat ≤ endAt f14 (n - 1) by have := hT.start; omega) hfo hOld
  have he : (rd f14 (n - 1)).toNat = 12288 := by
    have h1 := hd.2.1
    obtain ⟨k, rfl⟩ : ∃ k, n = k + 1 := ⟨n - 1, by have := hd.2.2.1; omega⟩
    exact h1
  have h2 : (n - 1) % 2 = (n + 1) % 2 := by have := hd.2.2.1; omega
  unfold WZ Ze DS CS TB
  iintro ⟨HW, HO, Hg, ⟨H13, H14, H15, H16, H17⟩, HX, HX2, HWS, ⟨%fd, -, HD⟩, HS, HQ, ⟨%fc, -, HC⟩, HX3⟩
  iapply fupdWp
  imod (ob_collect hT.tw.kk_lt) $$ HW with ⟨Ho, Hsl, Hv⟩
  imodintro
  iapply (ret_rule)
  ihave HXX := (xi_both) $$ [HX HX2]
  · isplitl [HX]; · iexact HX
    iexact HX2
  unfold XIdle
  icases HXX with ⟨⟨Hxa, ⟨%fa, H5a⟩, Hva⟩, ⟨Hxb, ⟨%fb, H5b⟩, Hvb⟩⟩
  ihave Hx := (arg0_join) $$ [Hxa Hxb]
  · isplitl [Hxa]; · iexact Hxa
    iexact Hxb
  ihave H5 := (r5_join) $$ [H5a H5b]
  · isplitl [H5a]; · iexact H5a
    iexact H5b
  ihave H6 := (ox_both) $$ [HX3 Hsl]
  · isplitl [HX3]; · iexact HX3
    unfold OX
    iexists fo
    rw [← h2]
    iexact Hsl
  ihave HWI := (ws_end) $$ HWS
  unfold Rst Tabs
  isplitl [Hg]; · iexact Hg
  isplitl [H13 H14 H15 H16 H17]
  · iexists f13; iexists f14; iexists f15; iexists f16; iexists f17
    isplitr
    · ipureintro; exact True.intro
    isplitl [H13]; · iexact H13
    isplitl [H14]; · iexact H14
    isplitl [H15]; · iexact H15
    isplitl [H16]; · iexact H16
    iexact H17
  isplitl [HO]; · iexact HO
  isplitl [Hx]; · iexact Hx
  isplitl [H5]; · iexact H5
  isplitl [Hva]; · iexact Hva
  isplitl [Hvb]; · iexact Hvb
  isplitl [HWI]; · iexact HWI
  isplitl [HD]
  · iexists _; iexact HD
  isplitl [HS]; · iexact HS
  isplitl [HQ]; · iexact HQ
  isplitl [H6]; · iexact H6
  isplitl [HC]
  · iexists _; iexact HC
  isplitr [Hv]
  · iexists _
    isplitr
    rotate_left
    · iexact Ho
    ipureintro; rw [he] at hend; rw [he]; exact hend
  iexact Hv

end Cert.Kernel.Hand
-- ==== Proof.K.Run.lean ====
/-
  The launch of the kernel: the body's triple turned into the run of the whole program.
-/
module

public import proofs.«01_k».proof.Proof.K.Body
public import proofs.«01_k».proof.Proof.Gen.Kernel.Launch
public import proofs.«01_k».proof.Proof.Gen.Kernel.Skeleton
public import proofs.«01_k».proof.Proof.Gen.Kernel.Points
public import Idealize.ShloMosaic.Lib.Pipeline.FrameBody
public import Idealize.ShloMosaic.Lib.Pipeline.FrameValue

@[expose] public section

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

open Idealize.ShloMosaic.Pipeline (Dat Cfg Window BodyObligation)

local notation "𝕄" => MT nD τ sig Unit (Elt F) ℕ (Pipeline.UD sig nD τ) ℕ

variable (m : (ℓ : Loc nD τ sig) → Buf (Elt F) ℓ) (ρ : Dev nD → PrngReg)

/-- The buffer the body writes itself: the result. -/
def R0 : Finset (Ref sig .tc) := {main_v0}

/-- The operands its copies read. -/
def H0 : Finset (Ref sig .tc) := {main_arg0, main_arg2, main_arg3}

/-- The memory at the start. -/
abbrev V0 (c : Dev nD) (b : Ref sig .tc) : Buf (Elt F) ((c : Thread nD τ).loc b) := m ((c : Thread nD τ).loc b)

theorem hmain0 (𝒱₀ : Variants) : Pipeline.HMain (Ix := Unit) (Name := ℕ) (U := Pipeline.UD sig nD τ) (Lvl := ℕ) cfgs 0 defs₀ 𝒱₀ m (main (F := F)) (V0 m) :=
  Pipeline.hmain_region cfgs 0 defs₀ 𝒱₀ m main fun c => (main_chain c).trans rfl

/-- The body's own semaphore cells. -/
abbrev osem0 : Fin 5 → SemLoc sig := fun j => (![SemLoc.dma 1, SemLoc.dma 2, SemLoc.dma 3, SemLoc.dma 4, SemLoc.dma 5] : Fin 5 → SemLoc sig) j

theorem ownSemFacts0 : Pipeline.OwnSemFacts spec0 osem0 := by decide

theorem ownSems00_eq (c : Dev nD) :
    (Pipeline.ownSems0 (Ix := Unit) (Name := ℕ) (U := Pipeline.UD sig nD τ) (Lvl := ℕ) (Val := Elt F) (τ := τ) osem0 c : sProp 𝕄)
      = iprop(semVal ((c : Thread nD τ), SemLoc.dma 1) 0 ∗ semVal ((c : Thread nD τ), SemLoc.dma 2) 0
          ∗ semVal ((c : Thread nD τ), SemLoc.dma 3) 0 ∗ semVal ((c : Thread nD τ), SemLoc.dma 4) 0 ∗ semVal ((c : Thread nD τ), SemLoc.dma 5) 0) := by
  rw [Pipeline.ownSems0_eq_of_list c osem0 [0, 1, 2, 3, 4] (by decide) (by decide)]; rfl

theorem H0_sub : H0 ⊆ Pipeline.restRefs sig spec0 := by decide

theorem R0_sub : R0 ⊆ Pipeline.restRefs sig spec0 \ H0 := by decide

theorem hbmPts0_eq (c : Dev nD) :
    (bigSep H0 (fun b => ((c : Thread nD τ).loc b) ↦{fullShare} V0 m c b) : sProp 𝕄)
      = iprop(own (F := F) c main_arg0 (V0 m c main_arg0) ∗ own (F := F) c main_arg2 (V0 m c main_arg2) ∗ own (F := F) c main_arg3 (V0 m c main_arg3)) := by
  rw [BI.bigSep_eq_bigSepL_of_eq [main_arg0, main_arg2, main_arg3] (by decide) (by decide)]; rfl

theorem ownedPts0_eq (c : Dev nD) :
    (Pipeline.owned R0 c : sProp 𝕄)
      = iprop(∃ f : Buf (Elt F) ((c : Thread nD τ).loc main_v0), own (F := F) c main_v0 f) := by
  unfold Pipeline.owned
  rw [BI.bigSep_eq_bigSepL_of_eq [main_v0] (by decide) (by decide)]; rfl

theorem routed0_eq (c : Dev nD) (G : (b : Ref sig .tc) → Buf (Elt F) ((c : Thread nD τ).loc b)) :
    (Pipeline.routed R0 c G : sProp 𝕄) = own (F := F) c main_v0 (G main_v0) := by
  unfold Pipeline.routed
  rw [BI.bigSep_eq_bigSepL_of_eq [main_v0] (by decide) (by decide)]; rfl

/-- The body's state between its start and its end, with a fact about the result. -/
def Mid (c : Dev nD) (φ : (S12288x1536.Idx → Elt F .bf16) → Prop) : PP F :=
  iprop(Pipeline.scopedRest (Ix := Unit) (Name := ℕ) (U := Pipeline.UD sig nD τ) (Lvl := ℕ) (Val := Elt F) spec0 c ∗ (∃ r, prngReg c r)
    ∗ Pipeline.ownSems0 (Ix := Unit) (Name := ℕ) (U := Pipeline.UD sig nD τ) (Lvl := ℕ) (Val := Elt F) (τ := τ) osem0 c
    ∗ (bigSep H0 fun b => ((c : Thread nD τ).loc b) ↦{fullShare} V0 m c b)
    ∗ (∃ f : S12288x1536.Idx → Elt F .bf16, ⌜φ f⌝ ∗ own (F := F) c main_v0 f))

/-- The fact the body leaves behind. -/
def Fin0 (c : Dev nD) : (S12288x1536.Idx → Elt F .bf16) → Prop :=
  OutOK (V0 m c main_arg0) (V0 m c main_arg2) (V0 m c main_arg3) (V0 m c main_arg1) 12288

def dats (_ : Fin 1) (c : Dev nD) : Dat τ (Elt F) Unit ℕ (Pipeline.UD sig nD τ) ℕ (cfg0 (F := F)) c where
  A w := V0 m c (Pipeline.arrRef spec0 w)
  after w t := match w with
    | ⟨0, _⟩ => V0 m c main_arg1
  Φ t := Mid m c (if t.val = 0 then fun _ => True else Fin0 m c)
  q _ := fullShare
  owed _ := 0

theorem A_eq (c : Dev nD) (w : Fin (cfg0 (F := F)).W) : (dats m 0 c).A w = V0 m c (Pipeline.arrRef spec0 w) := by
  dsimp only [dats]

theorem after0_0 (c : Dev nD) (t : Fin (cfg0 (F := F)).N) : (dats m 0 c).after 0 t = V0 m c main_arg1 := rfl

/-- The one window is the whole array of sizes. -/
theorem before0_0 (c : Dev nD) (t : Fin (cfg0 (F := F)).N) (d) : (dats m 0 c).before 0 t d = V0 m c main_arg1 := by
  rw [Dat.before_fetched _ 0 t (fetch0_0 t)]
  rw [fin_N0 t]
  unfold Dat.fetched Dat.blockOf
  dsimp only [dats]
  funext i
  unfold Window.fill
  rw [dif_pos (((cfg0 (F := F)).win 0).moved_iff _ i |>.mpr fun a => (i a).isLt)]
  show V0 m c main_arg1 _ = V0 m c main_arg1 _
  congr 1
  funext a
  apply Fin.ext
  match a with
  | ⟨0, _⟩ => show 0 + 1 * (i ⟨0, _⟩).val = (i ⟨0, _⟩).val; omega

def bodyPre (c : Dev nD) (t : Fin (cfg0 (F := F)).N) : sProp 𝕄 :=
  iprop((dats m 0 c).Φ t.castSucc ∗ (dats m 0 c).owesAt () t.castSucc
    ∗ (∃ d, owns (c : Thread nD τ) (st0_0 t) fullShare ((dats m 0 c).before 0 t d)))

def bodyPost (c : Dev nD) (t : Fin (cfg0 (F := F)).N) : sProp 𝕄 :=
  iprop((dats m 0 c).Φ t.succ ∗ (dats m 0 c).owesAt () t.succ
    ∗ owns (c : Thread nD τ) (st0_0 t) fullShare ((dats m 0 c).after 0 t))

theorem enter {c : Dev nD} {g : S8.Idx → BitVec 32} :
    iprop(Mid m c (fun _ => True) ∗ owed c ∗ own c cc0_stg0_0 g)
      ⊢ iprop((∃ r, prngReg c r) ∗ Rst c (V0 m c main_arg0) (V0 m c main_arg2) (V0 m c main_arg3) g (fun _ => True)) := by
  unfold Mid Rst Tabs WIdle SD
  rw [scopedRest0_eq, ownSems00_eq, hbmPts0_eq]
  iintro ⟨⟨⟨HS0, HS1, HS2, HS3, HS4, HS5, HS6, HS7, HS8, HS9, HS10, HS11, HS12⟩, Hp, ⟨Hq1, Hq2, Hq3, Hq4, Hq5⟩, ⟨Hx, Hw, Hs⟩, Hv⟩, HO, Hg⟩
  isplitl [Hp]; · iexact Hp
  isplitl [Hg]; · iexact Hg
  isplitl [HS8 HS9 HS10 HS11 HS12]
  · icases HS8 with ⟨%f8, HS8⟩
    icases HS9 with ⟨%f9, HS9⟩
    icases HS10 with ⟨%f10, HS10⟩
    icases HS11 with ⟨%f11, HS11⟩
    icases HS12 with ⟨%f12, HS12⟩
    iexists f8; iexists f9; iexists f10; iexists f11; iexists f12
    isplitr
    · ipureintro; exact True.intro
    isplitl [HS8]; · iexact HS8
    isplitl [HS9]; · iexact HS9
    isplitl [HS10]; · iexact HS10
    isplitl [HS11]; · iexact HS11
    iexact HS12
  isplitl [HO]; · iexact HO
  isplitl [Hx]; · iexact Hx
  isplitl [HS0]; · iexact HS0
  isplitl [Hq1]; · iexact Hq1
  isplitl [Hq2]; · iexact Hq2
  isplitl [Hw Hs HS1 HS2 Hq3 Hq4]
  · isplitl [Hw HS1 Hq3]
    · isplitl [Hw]; · iexact Hw
      isplitl [HS1]; · iexact HS1
      iexact Hq3
    isplitl [Hs]; · iexact Hs
    isplitl [HS2]; · iexact HS2
    iexact Hq4
  isplitl [HS3]; · iexact HS3
  isplitl [HS4]; · iexact HS4
  isplitl [HS5]; · iexact HS5
  isplitl [HS6]; · iexact HS6
  isplitl [HS7]; · iexact HS7
  isplitl [Hv]; · iexact Hv
  iexact Hq5

theorem leave {c : Dev nD} {g : S8.Idx → BitVec 32} {φ : (S12288x1536.Idx → Elt F .bf16) → Prop} :
    iprop((∃ r, prngReg c r) ∗ Rst c (V0 m c main_arg0) (V0 m c main_arg2) (V0 m c main_arg3) g φ)
      ⊢ iprop(Mid m c φ ∗ owed c ∗ own c cc0_stg0_0 g) := by
  unfold Mid Rst Tabs WIdle SD
  rw [scopedRest0_eq, ownSems00_eq, hbmPts0_eq]
  iintro ⟨Hp, Hg, ⟨%f8, %f9, %f10, %f11, %f12, -, HS8, HS9, HS10, HS11, HS12⟩, HO, Hx, HS0, Hq1, Hq2, ⟨⟨Hw, HS1, Hq3⟩, ⟨Hs, HS2, Hq4⟩⟩, HS3, HS4, HS5, HS6, HS7, Hv, Hq5⟩
  isplitr [HO Hg]
  · isplitl [HS0 HS1 HS2 HS3 HS4 HS5 HS6 HS7 HS8 HS9 HS10 HS11 HS12]
    · isplitl [HS0]; · iexact HS0
      isplitl [HS1]; · iexact HS1
      isplitl [HS2]; · iexact HS2
      isplitl [HS3]; · iexact HS3
      isplitl [HS4]; · iexact HS4
      isplitl [HS5]; · iexact HS5
      isplitl [HS6]; · iexact HS6
      isplitl [HS7]; · iexact HS7
      isplitl [HS8]; · iexists _; iexact HS8
      isplitl [HS9]; · iexists _; iexact HS9
      isplitl [HS10]; · iexists _; iexact HS10
      isplitl [HS11]; · iexists _; iexact HS11
      iexists _; iexact HS12
    isplitl [Hp]; · iexact Hp
    isplitl [Hq1 Hq2 Hq3 Hq4 Hq5]
    · isplitl [Hq1]; · iexact Hq1
      isplitl [Hq2]; · iexact Hq2
      isplitl [Hq3]; · iexact Hq3
      isplitl [Hq4]; · iexact Hq4
      iexact Hq5
    isplitl [Hx Hw Hs]
    · isplitl [Hx]; · iexact Hx
      isplitl [Hw]; · iexact Hw
      iexact Hs
    iexact Hv
  isplitl [HO]; · iexact HO
  iexact Hg

theorem mid_rule {c : Dev nD} (hG : pre (V0 m c main_arg1) 8 = 12288) :
    iprop(Mid m c (fun _ => True) ∗ owed c ∗ own c cc0_stg0_0 (V0 m c main_arg1))
      ⊢ Wp c (cc0_mxfp8_grouped_matmul (F := F) m0 h0 m1 h1 m2 h2 m3 h3 m4 h4 m5 h5 m6 h6 m7 h7 m8 h8 m9 h9 m10 h10 m11 h11 m12 h12 m13 h13 m14 h14 m15 h15 m16 h16 m17 h17 s18 s19 s20 s21)
          (fun _ => iprop(Mid m c (Fin0 m c) ∗ owed c ∗ own c cc0_stg0_0 (V0 m c main_arg1))) := by
  refine (enter m).trans ?_
  refine (sep_mono_right (body_rule hG)).trans ?_
  refine (wp_frame_l _ _ _).trans ?_
  exact wp_mono _ _ _ fun _ => leave m

theorem stage_eq (t : Fin (cfg0 (F := F)).N) : st0_0 (F := F) t = Memref.whole cc0_stg0_0 := by
  rw [fin_N0 t]; rfl

theorem pre_conv (c : Dev nD) : bodyPre m c t0_0 ⊢ iprop(Mid m c (fun _ => True) ∗ owed c ∗ own c cc0_stg0_0 (V0 m c main_arg1)) := by
  have e1 : (dats m 0 c).Φ t0_0.castSucc = Mid m c (fun _ => True) := rfl
  have e2 : ∀ d, owns (c : Thread nD τ) (st0_0 (F := F) t0_0) fullShare ((dats m 0 c).before 0 t0_0 d) = own c cc0_stg0_0 (V0 m c main_arg1) := by
    intro d
    rw [before0_0]
    exact owns_whole (c : Thread nD τ) cc0_stg0_0 fullShare (V0 m c main_arg1)
  unfold bodyPre Dat.owesAt Pipeline.owesWithin
  iintro ⟨HM, ⟨%W, -, HW⟩, ⟨%d, H⟩⟩
  ihave HM := (Entails.of_eq e1) $$ HM
  ihave H := (Entails.of_eq (e2 d)) $$ H
  isplitl [HM]; · iexact HM
  isplitl [HW]; · iexists W; iexact HW
  iexact H

theorem post_conv (c : Dev nD) : iprop(Mid m c (Fin0 m c) ∗ owed c ∗ own c cc0_stg0_0 (V0 m c main_arg1)) ⊢ bodyPost m c t0_0 := by
  have e1 : Mid m c (Fin0 m c) = (dats m 0 c).Φ t0_0.succ := rfl
  have e2 : own c cc0_stg0_0 (V0 m c main_arg1) = owns (c : Thread nD τ) (st0_0 (F := F) t0_0) fullShare ((dats m 0 c).after 0 t0_0) :=
    (owns_whole (c : Thread nD τ) cc0_stg0_0 fullShare (V0 m c main_arg1)).symm
  unfold bodyPost Dat.owesAt Pipeline.owesWithin
  iintro ⟨HM, ⟨%W, HW⟩, H⟩
  ihave HM := (Entails.of_eq e1) $$ HM
  ihave H := (Entails.of_eq e2) $$ H
  isplitl [HM]; · iexact HM
  isplitl [HW]
  · iexists W
    isplitr
    · ipureintro; exact fun _ _ => Or.inl trivial
    iexact HW
  iexact H

theorem defs₀_row (t : Fin (cfg0 (F := F)).N) :
    defs₀ (F := F) .tc (cfg0 (F := F)).body ((cfg0 (F := F)).bodyArgs t ((cfg0 (F := F)).slots t)) = bodyAt0 t := by
  unfold defs₀; rw [Defs.onTc_tc]

theorem bodyAt0_eq : bodyAt0 (F := F) t0_0 = cc0_mxfp8_grouped_matmul (F := F) m0 h0 m1 h1 m2 h2 m3 h3 m4 h4 m5 h5 m6 h6 m7 h7 m8 h8 m9 h9 m10 h10 m11 h11 m12 h12 m13 h13 m14 h14 m15 h15 m16 h16 m17 h17 s18 s19 s20 s21 := rfl

theorem sound_body (hG : ∀ c, pre (V0 m c main_arg1) 8 = 12288) (c : Dev nD) (t : Fin (cfg0 (F := F)).N) :
    bodyPre m c t ⊢ Wp c (bodyAt0 t) (fun _ => bodyPost m c t) := by
  rw [fin_N0 t, bodyAt0_eq]
  refine (pre_conv m c).trans ?_
  refine (mid_rule m (hG c)).trans ?_
  exact wp_mono _ _ _ fun _ => post_conv m c

theorem body_obligation (hG : ∀ c, pre (V0 m c main_arg1) 8 = 12288) (c : Dev nD) :
    BodyObligation (dats (F := F) m 0 c) (defs₀ (F := F)) Variants.nat () Set.univ := fun t => by
  rw [bigSep_W0, bigSep_W0, defs₀_row]
  exact triple_restated (sound_body m hG c t) rfl .rfl fun _ => .rfl

theorem hin_R (c : Dev nD) : Pipeline.ΦDR osem0 spec0 H0 R0 (V0 m) c ⊢ Mid m c (fun _ => True) := by
  rw [Pipeline.ΦDR_eq, ownedPts0_eq]
  unfold Mid
  iintro ⟨H1, H2, H3, H4, ⟨%f, H5⟩⟩
  isplitl [H1]; · iexact H1
  isplitl [H2]; · iexact H2
  isplitl [H3]; · iexact H3
  isplitl [H4]; · iexact H4
  iexists f
  isplitr
  · ipureintro; exact True.intro
  iexact H5

theorem hout_R (c : Dev nD) (φ : (S12288x1536.Idx → Elt F .bf16) → Prop) : Mid m c φ ⊢ Pipeline.ΦDR osem0 spec0 H0 R0 (V0 m) c := by
  rw [Pipeline.ΦDR_eq, ownedPts0_eq]
  unfold Mid
  iintro ⟨H1, H2, H3, H4, ⟨%f, -, H5⟩⟩
  isplitl [H1]; · iexact H1
  isplitl [H2]; · iexact H2
  isplitl [H3]; · iexact H3
  isplitl [H4]; · iexact H4
  iexists f
  iexact H5

theorem hin_RG (c : Dev nD) : Pipeline.ΦDRG osem0 spec0 H0 R0 (V0 m) (V0 m) c ⊢ Mid m c (fun _ => True) := by
  rw [Pipeline.ΦDRG_eq, routed0_eq]
  unfold Mid
  iintro ⟨H1, H2, H3, H4, H5⟩
  isplitl [H1]; · iexact H1
  isplitl [H2]; · iexact H2
  isplitl [H3]; · iexact H3
  isplitl [H4]; · iexact H4
  iexists _
  isplitr
  rotate_left
  · iexact H5
  ipureintro; exact True.intro

theorem hout_RG (c : Dev nD) (G : (c : Dev nD) → (b : Ref sig .tc) → Buf (Elt F) ((c : Thread nD τ).loc b))
    (hU : ∀ f : S12288x1536.Idx → Elt F .bf16, Fin0 m c f → f = G c main_v0) :
    Mid m c (Fin0 m c) ⊢ Pipeline.ΦDRG osem0 spec0 H0 R0 (V0 m) G c := by
  rw [Pipeline.ΦDRG_eq, routed0_eq]
  unfold Mid
  iintro ⟨H1, H2, H3, H4, ⟨%f, %hf, H5⟩⟩
  isplitl [H1]; · iexact H1
  isplitl [H2]; · iexact H2
  isplitl [H3]; · iexact H3
  isplitl [H4]; · iexact H4
  rw [← hU f hf]
  iexact H5

theorem memR {b : Ref sig .tc} (h : b ∈ Pipeline.restRefs sig spec0) : b ∈ Pipeline.restRefs sig (cfgs (F := F) 0).spec := h

/-- What the arguments hold at the end. -/
theorem args_end {r : PUnit × MemSt nD τ sig (Elt F)} (h : Pipeline.FramePostR cfgs (dats m) 0 R0 (V0 m) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  ⟨(h c).2 main_arg0 (Finset.mem_sdiff.mpr ⟨memR (by decide), by decide⟩),
    ((h c).1 0).trans (((dats m 0 c).arrAt_in 0 rfl _).trans (A_eq m c 0)),
    (h c).2 main_arg2 (Finset.mem_sdiff.mpr ⟨memR (by decide), by decide⟩),
    (h c).2 main_arg3 (Finset.mem_sdiff.mpr ⟨memR (by decide), by decide⟩)⟩

set_option backward.isDefEq.respectTransparency.types false in
theorem run_main (hG : ∀ c, pre (V0 m c main_arg1) 8 = 12288) :
    θ_run defs (onTc (τ := τ) (main (F := F))) (s₀ m ρ) (fun r => Pipeline.FramePostR cfgs (dats m) 0 R0 (V0 m) r ∧ r.2.sem = fun _ => 0) :=
  Pipeline.θ_run_frame_dmaR (Q' := _) cfgs (dats m) (0 : Fin 1) launch0 osem0 defs₀ Variants.nat ownSemFacts0 H0 R0 H0_sub R0_sub m ρ main
    (hbody := fun c => (body_obligation m hG c).loose) (hshare := fun c => (dats m 0 c).share_full fun _ => rfl)
    (howed := fun _ _ => rfl) (V := V0 m) (hmain := hmain0 m Variants.nat) (hA := A_eq m)
    (hin := fun c => hin_R m c) (hout := fun c => hout_R m c (Fin0 m c))

/-- The frame. -/
theorem frame (hG : ∀ c, pre (V0 m c main_arg1) 8 = 12288) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun _ h => ⟨fun c => args_end m h.1 c, h.2⟩) (run_main m ρ hG)

set_option backward.isDefEq.respectTransparency.types false in
theorem run_val (hG : ∀ c, pre (V0 m c main_arg1) 8 = 12288) (G : (c : Dev nD) → (b : Ref sig .tc) → Buf (Elt F) ((c : Thread nD τ).loc b))
    (hU : ∀ c, ∀ f : S12288x1536.Idx → Elt F .bf16, Fin0 m c f → f = G c main_v0) :
    θ_run defs (onTc (τ := τ) (main (F := F))) (s₀ m ρ) (fun r => Pipeline.FramePostRG cfgs (dats m) 0 R0 (V0 m) G r ∧ r.2.sem = fun _ => 0) :=
  Pipeline.θ_run_frame_dmaRG (Q' := _) cfgs (dats m) (0 : Fin 1) launch0 osem0 defs₀ Variants.nat ownSemFacts0 H0 R0 H0_sub R0_sub m ρ main
    (hbody := fun c => (body_obligation m hG c).loose) (hshare := fun c => (dats m 0 c).share_full fun _ => rfl)
    (howed := fun _ _ => rfl) (V := V0 m) (hmain := hmain0 m Variants.nat) (hA := A_eq m) (G := G)
    (hin := fun c => hin_RG m c) (hout := fun c => hout_RG m c G (hU c))

/-- The value, where the result's facts determine it. -/
theorem value (hG : ∀ c, pre (V0 m c main_arg1) 8 = 12288) (G : (c : Dev nD) → (b : Ref sig .tc) → Buf (Elt F) ((c : Thread nD τ).loc b))
    (hU : ∀ c, ∀ f : S12288x1536.Idx → Elt F .bf16, Fin0 m c f → f = G c main_v0) :
    θ_run defs (onTc (τ := τ) (main (F := F))) ⟨m, fun _ => 0, ρ⟩ (fun r => ∀ c : Dev nD,
      r.2.mem ((c.tc : Thread nD τ).loc main_v0) = G c main_v0
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨h.1.2 c main_v0 (by decide), args_end m h.1.1 c⟩) (run_val m ρ hG G hU)

end Cert.Kernel.Hand
-- ==== Proof.lean ====
/-
  The certificate: every claim about the kernel, assembled from the modules beside it.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.ReferenceIdeal
public import proofs.«01_k».proof.Proof.Gen.ReferenceIdeal.Value
public import proofs.«01_k».proof.Proof.Gen.Pre_valid
public import proofs.«01_k».proof.Proof.RI.Pre
public import proofs.«01_k».proof.Proof.RI.RefIdeal
public import proofs.«01_k».proof.Proof.KI.Run
public import proofs.«01_k».proof.Proof.K.Run
public import Idealize.ShloMosaic.Adequacy
public import Idealize.ShloMosaic.Init

@[expose] public section

noncomputable section

namespace Cert.Proof

open Idealize.ShloMosaic Idealize.ShloMosaic.TcCoe Idealize.SL.Sem
open Cert.Pre_valid.Hand (Valid valid_of at8)

/-- The prefix sums end at the rows. -/
theorem pre_ki {g : Cert.KernelIdeal.S8.Idx → BitVec 32} {s : Cert.KernelIdeal.S8x96x1536.Idx → BitVec 8} (h : Valid g s) : Cert.KernelIdeal.Hand.pre g 8 = 12288 := by
  have e : ∀ n : Fin 8, Cert.KernelIdeal.Hand.rd8 g n.val = g (at8 n) := fun n =>
    congrArg g (funext fun a => by match a with | ⟨0, _⟩ => exact Fin.ext (Nat.mod_eq_of_lt n.isLt))
  refine Eq.trans ?_ h.sum8
  rw [← e 0, ← e 1, ← e 2, ← e 3, ← e 4, ← e 5, ← e 6, ← e 7]
  simp only [Cert.KernelIdeal.Hand.pre]
  exact congrArg (· + _ + _ + _ + _ + _ + _ + _) (Nat.zero_add _)

theorem pre_k {g : Cert.Kernel.S8.Idx → BitVec 32} {s : Cert.Kernel.S8x96x1536.Idx → BitVec 8} (h : Valid g s) : Cert.Kernel.Hand.pre g 8 = 12288 := by
  have e : ∀ n : Fin 8, Cert.Kernel.Hand.rd8 g n.val = g (at8 n) := fun n =>
    congrArg g (funext fun a => by match a with | ⟨0, _⟩ => exact Fin.ext (Nat.mod_eq_of_lt n.isLt))
  refine Eq.trans ?_ h.sum8
  rw [← e 0, ← e 1, ← e 2, ← e 3, ← e 4, ← e 5, ← e 6, ← e 7]
  simp only [Cert.Kernel.Hand.pre]
  exact congrArg (· + _ + _ + _ + _ + _ + _ + _) (Nat.zero_add _)

/-- An array whose every entry is a product of the kernel's is the reference's. -/
theorem tie {fx : Cert.KernelIdeal.S12288x3072.Idx → EReal} {fw : Cert.KernelIdeal.S8x3072x1536.Idx → EReal} {fs : Cert.KernelIdeal.S8x96x1536.Idx → BitVec 8}
    {g : Cert.KernelIdeal.S8.Idx → BitVec 32} (hv : Valid g fs) (f : Cert.KernelIdeal.S12288x1536.Idx → EReal)
    (hf : Cert.KernelIdeal.Hand.OutOK (F := Ideal) fx fw fs g 12288 f) : f = Cert.ReferenceIdeal.Hand.refArr (F := Ideal) g fx fw fs := by
  funext i
  have h0 : (i 0).val < 12288 := (i 0).isLt
  have h1 : (i 1).val < 1536 := (i 1).isLt
  have hi : i = Cert.KernelIdeal.Hand.gx2 (i 0).val (i 1).val := Cert.KernelIdeal.Hand.gx2_eq i _ _ rfl rfl
  obtain ⟨e, he, p1, p2, v⟩ := hf (i 0).val (i 1).val h0 h1
  rw [← hi] at v
  refine (Cert.KernelIdeal.Hand.val_ideal hv.pos hv.lt v).trans ?_
  have ha := Cert.ReferenceIdeal.Hand.acc_ideal (fx := fx) (fw := fw) (fs := fs) hv.le e (i 0).val (i 1).val h0 h1 p1 p2 8 (le_refl 8) he
  rw [← hi] at ha
  exact ha.symm

theorem quiescent_k : Cert.quiescent_Kernel (hKernel := Cert.Kernel.Gen.facts) (hPre_valid := Cert.Pre_valid.Gen.facts) := fun m g h =>
  Cert.Kernel.Hand.frame m g fun c => pre_k (valid_of (h c))

theorem quiescent_ki : Cert.quiescent_KernelIdeal (hKernelIdeal := Cert.KernelIdeal.Gen.facts) (hPre_valid := Cert.Pre_valid.Gen.facts) := fun m g h =>
  Cert.KernelIdeal.Hand.frame m g fun c => pre_ki (valid_of (h c))

theorem quiescent_ri : Cert.quiescent_ReferenceIdeal (hReferenceIdeal := Cert.ReferenceIdeal.Gen.facts) (hPre_valid := Cert.Pre_valid.Gen.facts) := fun m g _ =>
  Cert.ReferenceIdeal.Gen.frame m g

/-- The reference's array, at the kernel's result; anything elsewhere. -/
def G0 (m : (ℓ : Loc Cert.KernelIdeal.nD Cert.KernelIdeal.τ Cert.KernelIdeal.sig) → Buf (Elt Ideal) ℓ) (c : Dev Cert.KernelIdeal.nD) :
    Buf (Elt Ideal) ((c.tc : Thread Cert.KernelIdeal.nD Cert.KernelIdeal.τ).loc Cert.KernelIdeal.main_v0) :=
  Cert.ReferenceIdeal.Hand.refArr (F := Ideal) (Cert.KernelIdeal.Hand.V0 m c Cert.KernelIdeal.main_arg1) (Cert.KernelIdeal.Hand.V0 m c Cert.KernelIdeal.main_arg0)
    (Cert.KernelIdeal.Hand.V0 m c Cert.KernelIdeal.main_arg2) (Cert.KernelIdeal.Hand.V0 m c Cert.KernelIdeal.main_arg3)

open Classical in
def G1 (m : (ℓ : Loc Cert.KernelIdeal.nD Cert.KernelIdeal.τ Cert.KernelIdeal.sig) → Buf (Elt Ideal) ℓ) (c : Dev Cert.KernelIdeal.nD) (b : Ref Cert.KernelIdeal.sig .tc) :
    Buf (Elt Ideal) ((c.tc : Thread Cert.KernelIdeal.nD Cert.KernelIdeal.τ).loc b) :=
  if h : b = Cert.KernelIdeal.main_v0 then h ▸ G0 m c else m _

theorem G1_v0 (m : (ℓ : Loc Cert.KernelIdeal.nD Cert.KernelIdeal.τ Cert.KernelIdeal.sig) → Buf (Elt Ideal) ℓ) (c : Dev Cert.KernelIdeal.nD) :
    G1 m c Cert.KernelIdeal.main_v0 = G0 m c := by
  unfold G1
  rw [dif_pos rfl]

theorem algebraic : Cert.algebraic_KernelIdeal_ReferenceIdeal (hKernelIdeal := Cert.KernelIdeal.Gen.facts) (hReferenceIdeal := Cert.ReferenceIdeal.Gen.facts) (hPre_valid := Cert.Pre_valid.Gen.facts) := by
  intro m g m' g' hp hagree
  refine ⟨G0 m, ?_, ?_⟩
  · refine (θ_run _ _ _).mono (fun r h c => ⟨(h c).1.trans (G1_v0 m c), (h c).2⟩)
      (Cert.KernelIdeal.Hand.value m g (fun c => pre_ki (valid_of (hp c))) (G1 m) fun c f hf => (tie (valid_of (hp c)) f hf).trans (G1_v0 m c).symm)
  · refine (θ_run _ _ _).mono (fun r h c => ⟨(h c).1.trans ((Cert.ReferenceIdeal.Hand.arr_eq m' c).trans ?_), (h c).2⟩) (Cert.ReferenceIdeal.Value.run_blocks m' g')
    obtain ⟨a0, a1, a2, a3⟩ := hagree c
    exact congr (congr (congrArg₂ (Cert.ReferenceIdeal.Hand.refArr (F := Ideal)) a1 a0) a2) a3

theorem claim : Cert.Claim := ⟨Cert.Kernel.Gen.facts, Cert.KernelIdeal.Gen.facts, Cert.ReferenceIdeal.Gen.facts, Cert.Pre_valid.Gen.facts,
  quiescent_k, quiescent_ki, quiescent_ri, trivial, algebraic⟩

end Cert.Proof

end
